-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_ranges2 : Cert.Pre_ranges2.Facts] (m : (ℓ : Loc Cert.Kernel2.nD Cert.Kernel2.τ Cert.Kernel2.sig) → Buf (Elt Bits) ℓ) : Prop :=
  ∀ c : Dev Cert.Kernel2.nD,
    (Cert.Pre_ranges2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_ranges2 : Cert.Pre_ranges2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ranges2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_ranges2 : Cert.Pre_ranges2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ranges2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_ranges2 : Cert.Pre_ranges2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_ranges2 : Cert.Pre_ranges2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_ranges2 : Cert.Pre_ranges2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.bf16_pair.PackStatement Cert.KernelIdeal.S512x1024
  ∧ IdealRules.bf16_pair.Statement Cert.KernelIdeal.S1024x1024 Cert.KernelIdeal.S512x1024

def algebraic_KernelIdeal_ReferenceIdeal [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_ranges2 : Cert.Pre_ranges2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_ranges : Cert.Pre_ranges.Facts) (hPre_ranges2 : Cert.Pre_ranges2.Facts),
    quiescent_Kernel (hKernel := hKernel) (hPre_ranges := hPre_ranges)
    ∧ quiescent_KernelIdeal (hKernelIdeal := hKernelIdeal) (hPre_ranges := hPre_ranges)
    ∧ quiescent_ReferenceIdeal (hReferenceIdeal := hReferenceIdeal) (hPre_ranges := hPre_ranges)
    ∧ quiescent_Kernel2 (hKernel2 := hKernel2) (hPre_ranges2 := hPre_ranges2)
    ∧ quiescent_Kernel2Ideal (hKernel2Ideal := hKernel2Ideal) (hPre_ranges2 := hPre_ranges2)
    ∧ quiescent_Reference2Ideal (hReference2Ideal := hReference2Ideal) (hPre_ranges2 := hPre_ranges2)
    ∧ preserves_Kernel_KernelIdeal
    ∧ algebraic_KernelIdeal_ReferenceIdeal (hKernelIdeal := hKernelIdeal) (hReferenceIdeal := hReferenceIdeal) (hPre_ranges := hPre_ranges)
    ∧ preserves_Kernel2_Kernel2Ideal
    ∧ algebraic_Kernel2Ideal_Reference2Ideal (hKernel2Ideal := hKernel2Ideal) (hReference2Ideal := hReference2Ideal) (hPre_ranges2 := hPre_ranges2)
-- ==== Pre_ranges.lean ====
abbrev S80 : Shape := ⟨1, ![80]⟩
abbrev S1 : Shape := ⟨1, ![1]⟩
abbrev S80x1x512 : Shape := ⟨3, ![80, 1, 512]⟩
abbrev S16384x1024 : Shape := ⟨2, ![16384, 1024]⟩
abbrev S16x2048x1024 : Shape := ⟨3, ![16, 2048, 1024]⟩
abbrev S16x1024x2048 : Shape := ⟨3, ![16, 1024, 2048]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_
  bcast_S_S80x1x512 : S_.BroadcastsInDim S80x1x512 (![] : Fin 0 → Fin S80x1x512.rank)
  reducesTo_S80x1x512_S_d0_1_2 : S80x1x512.ReducesTo [0, 1, 2] S_

variable [Facts]

def fn_part1 {F : FTy → Type} [FloatOps F] (main_arg2 : IVec S80x1x512 32) (main_v12 : IVec S_ 1) (main_v14 : IVec S80x1x512 1) (main_v15 : IVec S80x1x512 32) : IVec S_ 1 :=
  let main_v16 : IVec S80x1x512 1 := cmpi .slt main_arg2 main_v15
  let main_v17 : IVec S80x1x512 1 := andi main_v14 main_v16
  let main_c_7 : IVec S_ 1 := constantI S_ 1 1#1
  let main_v18 : IVec S_ 1 := (fun x v => Host.reduce IntOp.andi x v reducesTo_S80x1x512_S_d0_1_2 h_S_) main_v17 main_c_7
  let main_v19 : IVec S_ 1 := andi main_v12 main_v18
  main_v19

def fn {F : FTy → Type} [FloatOps F] (main_arg0 : IVec S80 32) (main_arg1 : IVec S1 32) (main_arg2 : IVec S80x1x512 32) (main_arg3 : IVec S16384x1024 32) (main_arg4 : FVec F S16x2048x1024 .f32) (main_arg5 : FVec F S16x2048x1024 .f32) (main_arg6 : FVec F S16x1024x2048 .f32) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 16#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  let main_c_2 : IVec S_ 32 := constantI S_ 32 0#32
  let main_v6 : IVec S1 32 := broadcastInDim S1 ![] bcast_S_S1 main_c_2
  let main_v7 : IVec S1 1 := cmpi .sge main_arg1 main_v6
  let main_c_3 : IVec S_ 32 := constantI S_ 32 80#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  let main_c_5 : IVec S_ 32 := constantI S_ 32 0#32
  let main_v13 : IVec S80x1x512 32 := broadcastInDim S80x1x512 ![] bcast_S_S80x1x512 main_c_5
  let main_v14 : IVec S80x1x512 1 := cmpi .sge main_arg2 main_v13
  let main_c_6 : IVec S_ 32 := constantI S_ 32 16384#32
  let main_v15 : IVec S80x1x512 32 := broadcastInDim S80x1x512 ![] bcast_S_S80x1x512 main_c_6
  fn_part1 (F := F) main_arg2 main_v12 main_v14 main_v15
-- ==== Pre_ranges2.lean ====
abbrev S32x1x1024 : Shape := ⟨3, ![32, 1, 1024]⟩
abbrev S16384x128 : Shape := ⟨2, ![16384, 128]⟩
abbrev S16384x2048 : Shape := ⟨2, ![16384, 2048]⟩
abbrev S1x2048 : Shape := ⟨2, ![1, 2048]⟩
abbrev S40960x1024 : Shape := ⟨2, ![40960, 1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel

variable [Facts]

def fn {F : FTy → Type} [FloatOps F] (main_arg0 : IVec S32x1x1024 32) (main_arg1 : FVec F S16384x128 .f32) (main_arg2 : FVec F S16384x2048 .f32) (main_arg3 : FVec F S1x2048 .f32) (main_arg4 : FVec F S1x2048 .f32) (main_arg5 : IVec S40960x1024 32) : IVec S_ 1 :=
  let main_c : IVec S_ 32 := constantI S_ 32 0#32
  let main_v0 : IVec S32x1x1024 32 := broadcastInDim S32x1x1024 ![] bcast_S_S32x1x1024 main_c
  let main_v1 : IVec S32x1x1024 1 := cmpi .sge main_arg0 main_v0
  let main_c_0 : IVec S_ 32 := constantI S_ 32 40960#32
  let main_v2 : IVec S32x1x1024 32 := broadcastInDim S32x1x1024 ![] bcast_S_S32x1x1024 main_c_0
  let main_v3 : IVec S32x1x1024 1 := cmpi .slt main_arg0 main_v2
  let main_v4 : IVec S32x1x1024 1 := andi main_v1 main_v3
  let main_c_1 : IVec S_ 1 := constantI S_ 1 1#1
  let main_v5 : IVec S_ 1 := (fun x v => Host.reduce IntOp.andi x v reducesTo_S32x1x1024_S_d0_1_2 h_S_) main_v4 main_c_1
  main_v5
-- ==== Kernel.lean ====
abbrev S80 : Shape := ⟨1, ![80]⟩
abbrev S1 : Shape := ⟨1, ![1]⟩
abbrev S80x1x512 : Shape := ⟨3, ![80, 1, 512]⟩
abbrev S16384x1024 : Shape := ⟨2, ![16384, 1024]⟩
abbrev S16x2048x1024 : Shape := ⟨3, ![16, 2048, 1024]⟩
abbrev S16x1024x2048 : Shape := ⟨3, ![16, 1024, 2048]⟩
abbrev S16x2048x2048 : Shape := ⟨3, ![16, 2048, 2048]⟩
abbrev S81920x1024 : Shape := ⟨2, ![81920, 1024]⟩
abbrev S1x1x512 : Shape := ⟨3, ![1, 1, 512]⟩
abbrev S1x2048x2048 : Shape := ⟨3, ![1, 2048, 2048]⟩
abbrev S1x1024x2048 : Shape := ⟨3, ![1, 1024, 2048]⟩
abbrev S1024x1024 : Shape := ⟨2, ![1024, 1024]⟩
abbrev S2x520x1024 : Shape := ⟨3, ![2, 520, 1024]⟩
abbrev S2 : Shape := ⟨1, ![2]⟩
abbrev S2x8x1024 : Shape := ⟨3, ![2, 8, 1024]⟩
abbrev S1x1x1 : Shape := ⟨3, ![1, 1, 1]⟩
abbrev S_ : Shape := ⟨0, ![]⟩
abbrev S1x520x1024 : Shape := ⟨3, ![1, 520, 1024]⟩
abbrev S520x1024 : Shape := ⟨2, ![520, 1024]⟩
abbrev S1x1024 : Shape := ⟨2, ![1, 1024]⟩
abbrev S1x512x1024 : Shape := ⟨3, ![1, 512, 1024]⟩
abbrev S512x1024 : Shape := ⟨2, ![512, 1024]⟩
abbrev S512x2048 : Shape := ⟨2, ![512, 2048]⟩
abbrev S2048x2048 : Shape := ⟨2, ![2048, 2048]⟩
abbrev S1x8x128 : Shape := ⟨3, ![1, 8, 128]⟩
abbrev S8x128 : Shape := ⟨2, ![8, 128]⟩
abbrev S512x128 : Shape := ⟨2, ![512, 128]⟩
abbrev S1024x2048 : Shape := ⟨2, ![1024, 2048]⟩

abbrev nBuf : Space → Nat
  | .hbm => 9
  | .vmem => 7
  | .smem => 6
  | _ => 0

abbrev bufTy : (tb : Table) → Fin (tcTables nBuf tb) → BufTy
  | .hbm, ⟨0, _⟩ => ⟨S80x1x512, .i32⟩
  | .hbm, ⟨1, _⟩ => ⟨S16384x1024, .i32⟩
  | .hbm, ⟨2, _⟩ => ⟨S16x2048x1024, .f32⟩
  | .hbm, ⟨3, _⟩ => ⟨S16x2048x1024, .f32⟩
  | .hbm, ⟨4, _⟩ => ⟨S16x1024x2048, .f32⟩
  | .hbm, ⟨5, _⟩ => ⟨S16x2048x2048, .f32⟩
  | .hbm, ⟨6, _⟩ => ⟨S16x2048x2048, .bf16⟩
  | .hbm, ⟨7, _⟩ => ⟨S16x1024x2048, .bf16⟩
  | .hbm, ⟨8, _⟩ => ⟨S81920x1024, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2x520x1024, .i32⟩
  | .local _ .smem, ⟨0, _⟩ => ⟨S80, .i32⟩
  | .local _ .smem, ⟨1, _⟩ => ⟨S1, .i32⟩
  | .local _ .smem, ⟨2, _⟩ => ⟨S1x1x512, .i32⟩
  | .local _ .smem, ⟨3, _⟩ => ⟨S1x1x512, .i32⟩
  | .local _ .smem, ⟨4, _⟩ => ⟨S1x1x512, .i32⟩
  | .local _ .smem, ⟨5, _⟩ => ⟨S1x1x512, .i32⟩
  | _, _ => ⟨S80x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![80], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v12 : BitVec 1 := Scalar.cmpi .eq arg0 c0_i32_3
  let v13 : BitVec 32 := Scalar.extui v12
  let c0_i32_4 : BitVec 32 := 0#32
  let v14 : BitVec 1 := Scalar.cmpi .ne v13 c0_i32_4
  v14

@[reducible] def k0_t1_loop : Scf.Loop 32 :=
  let c0_i32_10 : BitVec 32 := 0#32
  let c512_i32 : BitVec 32 := 512#32
  let v24 : BitVec 32 := Scalar.addi c0_i32_10 c512_i32
  let c1_i32_11 : BitVec 32 := 1#32
  ⟨c0_i32_10, v24, c1_i32_11⟩
def k0_off2 (k0_t1 : Fin k0_t1_loop.trips) : Fin 3 → Nat :=
  let c0_13 : Index := 0#32
  let c0_14 : Index := 0#32
  let c0_i32_10 : BitVec 32 := 0#32
  let c1_i32_11 : BitVec 32 := 1#32
  let arg11 : BitVec 32 := Scf.iv c0_i32_10 c1_i32_11 k0_t1
  let v25 : Index := Scalar.indexCast arg11
  ![0, 0, v25.toNat]
def k0_off3 (k0_t1 : Fin k0_t1_loop.trips) : Fin 2 → Nat :=
  let c0_i32_10 : BitVec 32 := 0#32
  let c1_i32_11 : BitVec 32 := 1#32
  let arg11 : BitVec 32 := Scf.iv c0_i32_10 c1_i32_11 k0_t1
  let c0_i32_19 : BitVec 32 := 0#32
  ![arg11.toNat, 0]
def k0_off4 (v26 : BitVec 32) : Fin 2 → Nat :=
  let c0_i32_20 : BitVec 32 := 0#32
  ![v26.toNat, 0]

def k0_chk1 (i : grid0.Coords) (v26 : BitVec 32) : Prop :=
  (∀ (k0_h1 : k0_cond1 i = 1#1), ∀ a, (k0_off4 v26) a + S1x1024.size a ≤ S16384x1024.size a)
theorem k0_off4_inb : ∀ (i : grid0.Coords) (v26 : BitVec 32) (k0_hw1 : k0_chk1 i v26), ∀ (k0_h1 : k0_cond1 i = 1#1), ∀ a, (k0_off4 v26) a + S1x1024.size a ≤ S16384x1024.size a := fun i v26 k0_hw1 k0_h1 => k0_hw1 k0_h1

@[reducible] def k0_t2_loop : Scf.Loop 32 :=
  let c0_i32_7 : BitVec 32 := 0#32
  let c512_i32 : BitVec 32 := 512#32
  let v20 : BitVec 32 := Scalar.addi c0_i32_7 c512_i32
  let c1_i32_8 : BitVec 32 := 1#32
  ⟨c0_i32_7, v20, c1_i32_8⟩
def k0_off5 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_38 : BitVec 32 := 0#32
  let c0_i32_39 : BitVec 32 := 0#32
  ![v9.toNat, 0, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v21 : Index := Scalar.indexCast v9
  let c0_9 : Index := 0#32
  let c0_10 : Index := 0#32
  ![v21.toNat, 0, 0]
@[reducible] def k0_t3_loop : Scf.Loop 32 :=
  let c0_i32_14 : BitVec 32 := 0#32
  let c256_i32 : BitVec 32 := 256#32
  let v32 : BitVec 32 := Scalar.addi c0_i32_14 c256_i32
  let c1_i32_15 : BitVec 32 := 1#32
  ⟨c0_i32_14, v32, c1_i32_15⟩
def k0_off8 (k0_t3 : Fin k0_t3_loop.trips) : Fin 3 → Nat :=
  let c0_38 : Index := 0#32
  let c0_39 : Index := 0#32
  let c0_i32_14 : BitVec 32 := 0#32
  let c1_i32_15 : BitVec 32 := 1#32
  let arg11 : BitVec 32 := Scf.iv c0_i32_14 c1_i32_15 k0_t3
  let v81 : Index := Scalar.indexCast arg11
  ![0, 0, v81.toNat]
def k0_off9 (i : grid0.Coords) : Fin 1 → Nat :=
  let c1_i32_41 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v84 : BitVec 32 := Scalar.subi c1_i32_41 v9
  ![v84.toNat]
def k0_off10 (i : grid0.Coords) : Fin 3 → Nat :=
  let c1_i32_40 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v83 : BitVec 32 := Scalar.subi c1_i32_40 v9
  let c0_i32_42 : BitVec 32 := 0#32
  let c0_i32_43 : BitVec 32 := 0#32
  ![v83.toNat, 0, 0]
def k0_off11 (k0_t3 : Fin k0_t3_loop.trips) : Fin 2 → Nat :=
  let c0_i32_14 : BitVec 32 := 0#32
  let c1_i32_15 : BitVec 32 := 1#32
  let arg11 : BitVec 32 := Scf.iv c0_i32_14 c1_i32_15 k0_t3
  let c0_i32_44 : BitVec 32 := 0#32
  ![arg11.toNat, 0]
def k0_off12 (v82 : BitVec 32) : Fin 2 → Nat :=
  let c0_i32_45 : BitVec 32 := 0#32
  ![v82.toNat, 0]
def k0_cond2 (i : grid0.Coords) (v10 : BitVec 32) : BitVec 1 :=
  let arg0 : BitVec 32 := BitVec.ofNat 32 (i 0).val
  let v11 : BitVec 1 := Scalar.cmpi .slt arg0 v10
  let v15 : BitVec 32 := Scalar.extui v11
  let c0_i32_5 : BitVec 32 := 0#32
  let v16 : BitVec 1 := Scalar.cmpi .ne v15 c0_i32_5
  v16

def k0_chk2 (i : grid0.Coords) (v10 : BitVec 32) (v82 : BitVec 32) : Prop :=
  (∀ (k0_h2 : k0_cond2 i v10 = 1#1), ∀ a, (k0_off12 v82) a + S1x1024.size a ≤ S16384x1024.size a)
theorem k0_off12_inb : ∀ (i : grid0.Coords) (v10 : BitVec 32) (v82 : BitVec 32) (k0_hw2 : k0_chk2 i v10 v82), ∀ (k0_h2 : k0_cond2 i v10 = 1#1), ∀ a, (k0_off12 v82) a + S1x1024.size a ≤ S16384x1024.size a := fun i v10 v82 k0_hw2 k0_h2 => k0_hw2 k0_h2

def k0_off13 (i : grid0.Coords) : Fin 3 → Nat :=
  let c1_i32_17 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : BitVec 32 := Scalar.subi c1_i32_17 v9
  let v34 : Index := Scalar.indexCast v33
  let c512 : Index := 512#32
  let c0_18 : Index := 0#32
  ![v34.toNat, 512, 0]
@[reducible] def k0_t4_loop : Scf.Loop 32 :=
  let c256_i32_27 : BitVec 32 := 256#32
  let c256_i32_28 : BitVec 32 := 256#32
  let v60 : BitVec 32 := Scalar.addi c256_i32_27 c256_i32_28
  let c1_i32_29 : BitVec 32 := 1#32
  ⟨c256_i32_27, v60, c1_i32_29⟩
def k0_off14 (k0_t4 : Fin k0_t4_loop.trips) : Fin 3 → Nat :=
  let c0_38 : Index := 0#32
  let c0_39 : Index := 0#32
  let c256_i32_27 : BitVec 32 := 256#32
  let c1_i32_29 : BitVec 32 := 1#32
  let arg11 : BitVec 32 := Scf.iv c256_i32_27 c1_i32_29 k0_t4
  let v81 : Index := Scalar.indexCast arg11
  ![0, 0, v81.toNat]
def k0_off15 (i : grid0.Coords) : Fin 1 → Nat :=
  let c1_i32_41 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v84 : BitVec 32 := Scalar.subi c1_i32_41 v9
  ![v84.toNat]
def k0_off16 (i : grid0.Coords) : Fin 3 → Nat :=
  let c1_i32_40 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v83 : BitVec 32 := Scalar.subi c1_i32_40 v9
  let c0_i32_42 : BitVec 32 := 0#32
  let c0_i32_43 : BitVec 32 := 0#32
  ![v83.toNat, 0, 0]
def k0_off17 (k0_t4 : Fin k0_t4_loop.trips) : Fin 2 → Nat :=
  let c256_i32_27 : BitVec 32 := 256#32
  let c1_i32_29 : BitVec 32 := 1#32
  let arg11 : BitVec 32 := Scf.iv c256_i32_27 c1_i32_29 k0_t4
  let c0_i32_44 : BitVec 32 := 0#32
  ![arg11.toNat, 0]
def k0_off18 (v82 : BitVec 32) : Fin 2 → Nat :=
  let c0_i32_45 : BitVec 32 := 0#32
  ![v82.toNat, 0]

def k0_chk3 (i : grid0.Coords) (v10 : BitVec 32) (v82 : BitVec 32) : Prop :=
  (∀ (k0_h2 : k0_cond2 i v10 = 1#1), ∀ a, (k0_off18 v82) a + S1x1024.size a ≤ S16384x1024.size a)
theorem k0_off18_inb : ∀ (i : grid0.Coords) (v10 : BitVec 32) (v82 : BitVec 32) (k0_hw3 : k0_chk3 i v10 v82), ∀ (k0_h2 : k0_cond2 i v10 = 1#1), ∀ a, (k0_off18 v82) a + S1x1024.size a ≤ S16384x1024.size a := fun i v10 v82 k0_hw3 k0_h2 => k0_hw3 k0_h2

def k0_off19 (i : grid0.Coords) : Fin 3 → Nat :=
  let c1_i32_31 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v61 : BitVec 32 := Scalar.subi c1_i32_31 v9
  let v62 : Index := Scalar.indexCast v61
  let c512_32 : Index := 512#32
  let c128 : Index := 128#32
  ![v62.toNat, 512, 128]
def k0_cond3 (i : grid0.Coords) : BitVec 1 :=
  let arg0 : BitVec 32 := BitVec.ofNat 32 (i 0).val
  let c79_i32 : BitVec 32 := 79#32
  let v78 : BitVec 1 := Scalar.cmpi .eq arg0 c79_i32
  let v79 : BitVec 32 := Scalar.extui v78
  let c0_i32_37 : BitVec 32 := 0#32
  let v80 : BitVec 1 := Scalar.cmpi .ne v79 c0_i32_37
  v80

@[reducible] def k0_t5_loop : Scf.Loop 32 :=
  let c0_i32_39 : BitVec 32 := 0#32
  let c512_i32_40 : BitVec 32 := 512#32
  let v82 : BitVec 32 := Scalar.addi c0_i32_39 c512_i32_40
  let c1_i32_41 : BitVec 32 := 1#32
  ⟨c0_i32_39, v82, c1_i32_41⟩
def k0_off20 (i : grid0.Coords) : Fin 1 → Nat :=
  let c1_i32_38 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : BitVec 32 := Scalar.subi c1_i32_38 v9
  ![v81.toNat]
def k0_off21 (i : grid0.Coords) : Fin 3 → Nat :=
  let c1_i32_38 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : BitVec 32 := Scalar.subi c1_i32_38 v9
  let c0_i32_42 : BitVec 32 := 0#32
  let c0_i32_43 : BitVec 32 := 0#32
  ![v81.toNat, 0, 0]
@[reducible] def k0_t6_loop : Scf.Loop 32 :=
  let c0_i32_11 : BitVec 32 := 0#32
  let c512_i32 : BitVec 32 := 512#32
  let v26 : BitVec 32 := Scalar.addi c0_i32_11 c512_i32
  let c1_i32_12 : BitVec 32 := 1#32
  ⟨c0_i32_11, v26, c1_i32_12⟩
def k0_off22 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_13 : BitVec 32 := 0#32
  let c0_i32_14 : BitVec 32 := 0#32
  ![v9.toNat, 0, 0]
def k0_cond4 (i : grid0.Coords) (v10 : BitVec 32) : BitVec 1 :=
  let arg0 : BitVec 32 := BitVec.ofNat 32 (i 0).val
  let v11 : BitVec 1 := Scalar.cmpi .slt arg0 v10
  let v_true : BitVec 1 := 1#1
  let v17 : BitVec 1 := Scalar.xori v11 v_true
  let v18 : BitVec 32 := Scalar.extui v17
  let c0_i32_6 : BitVec 32 := 0#32
  let v19 : BitVec 1 := Scalar.cmpi .ne v18 c0_i32_6
  v19

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c79_i32 : BitVec 32 := 79#32
  let v1 : BitVec 32 := Scalar.minsi v0 c79_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S80 : Shape := ⟨1, ![80]⟩
abbrev S1 : Shape := ⟨1, ![1]⟩
abbrev S80x1x512 : Shape := ⟨3, ![80, 1, 512]⟩
abbrev S16384x1024 : Shape := ⟨2, ![16384, 1024]⟩
abbrev S16x2048x1024 : Shape := ⟨3, ![16, 2048, 1024]⟩
abbrev S16x1024x2048 : Shape := ⟨3, ![16, 1024, 2048]⟩
abbrev S_ : Shape := ⟨0, ![]⟩
abbrev S16384x2048 : Shape := ⟨2, ![16384, 2048]⟩
abbrev S80x512 : Shape := ⟨2, ![80, 512]⟩
abbrev S80x512x1 : Shape := ⟨3, ![80, 512, 1]⟩
abbrev S80x512x2048 : Shape := ⟨3, ![80, 512, 2048]⟩
abbrev S80x1 : Shape := ⟨2, ![80, 1]⟩
abbrev S80x2048x1024 : Shape := ⟨3, ![80, 2048, 1024]⟩
abbrev S80x1024x2048 : Shape := ⟨3, ![80, 1024, 2048]⟩
abbrev S80x512x1024 : Shape := ⟨3, ![80, 512, 1024]⟩
abbrev S80x1x1 : Shape := ⟨3, ![80, 1, 1]⟩
abbrev S81920x1024 : Shape := ⟨2, ![81920, 1024]⟩

abbrev nBuf : Space → Nat
  | .hbm => 77
  | .vmem => 0
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S80x1x512, .i32⟩
  | .hbm, ⟨3, _⟩ => ⟨S16384x1024, .i32⟩
  | .hbm, ⟨4, _⟩ => ⟨S16x2048x1024, .f32⟩
  | .hbm, ⟨5, _⟩ => ⟨S16x2048x1024, .f32⟩
  | .hbm, ⟨6, _⟩ => ⟨S16x1024x2048, .f32⟩
  | .hbm, ⟨7, _⟩ => ⟨S_, .i32⟩
  | .hbm, ⟨8, _⟩ => ⟨S16384x1024, .i32⟩
  | .hbm, ⟨9, _⟩ => ⟨S16384x1024, .i32⟩
  | .hbm, ⟨10, _⟩ => ⟨S16384x1024, .f32⟩
  | .hbm, ⟨11, _⟩ => ⟨S_, .i32⟩
  | .hbm, ⟨12, _⟩ => ⟨S16384x1024, .i32⟩
  | .hbm, ⟨13, _⟩ => ⟨S16384x1024, .i32⟩
  | .hbm, ⟨14, _⟩ => ⟨S16384x1024, .f32⟩
  | .hbm, ⟨15, _⟩ => ⟨S16384x2048, .f32⟩
  | .hbm, ⟨16, _⟩ => ⟨S80x512, .i32⟩
  | .hbm, ⟨17, _⟩ => ⟨S_, .i32⟩
  | .hbm, ⟨18, _⟩ => ⟨S80x512, .i32⟩
  | .hbm, ⟨19, _⟩ => ⟨S80x512, .i1⟩
  | .hbm, ⟨20, _⟩ => ⟨S_, .i32⟩
  | .hbm, ⟨21, _⟩ => ⟨S80x512, .i32⟩
  | .hbm, ⟨22, _⟩ => ⟨S80x512, .i32⟩
  | .hbm, ⟨23, _⟩ => ⟨S80x512, .i32⟩
  | .hbm, ⟨24, _⟩ => ⟨S80x512x1, .i32⟩
  | .hbm, ⟨25, _⟩ => ⟨S80x512x2048, .f32⟩
  | .hbm, ⟨26, _⟩ => ⟨S_, .i32⟩
  | .hbm, ⟨27, _⟩ => ⟨S80, .i32⟩
  | .hbm, ⟨28, _⟩ => ⟨S80, .i1⟩
  | .hbm, ⟨29, _⟩ => ⟨S_, .i32⟩
  | .hbm, ⟨30, _⟩ => ⟨S80, .i32⟩
  | .hbm, ⟨31, _⟩ => ⟨S80, .i32⟩
  | .hbm, ⟨32, _⟩ => ⟨S80, .i32⟩
  | .hbm, ⟨33, _⟩ => ⟨S80x1, .i32⟩
  | .hbm, ⟨34, _⟩ => ⟨S80x2048x1024, .f32⟩
  | .hbm, ⟨35, _⟩ => ⟨S_, .i32⟩
  | .hbm, ⟨36, _⟩ => ⟨S80, .i32⟩
  | .hbm, ⟨37, _⟩ => ⟨S80, .i1⟩
  | .hbm, ⟨38, _⟩ => ⟨S_, .i32⟩
  | .hbm, ⟨39, _⟩ => ⟨S80, .i32⟩
  | .hbm, ⟨40, _⟩ => ⟨S80, .i32⟩
  | .hbm, ⟨41, _⟩ => ⟨S80, .i32⟩
  | .hbm, ⟨42, _⟩ => ⟨S80x1, .i32⟩
  | .hbm, ⟨43, _⟩ => ⟨S80x2048x1024, .f32⟩
  | .hbm, ⟨44, _⟩ => ⟨S_, .i32⟩
  | .hbm, ⟨45, _⟩ => ⟨S80, .i32⟩
  | .hbm, ⟨46, _⟩ => ⟨S80, .i1⟩
  | .hbm, ⟨47, _⟩ => ⟨S_, .i32⟩
  | .hbm, ⟨48, _⟩ => ⟨S80, .i32⟩
  | .hbm, ⟨49, _⟩ => ⟨S80, .i32⟩
  | .hbm, ⟨50, _⟩ => ⟨S80, .i32⟩
  | .hbm, ⟨51, _⟩ => ⟨S80x1, .i32⟩
  | .hbm, ⟨52, _⟩ => ⟨S80x1024x2048, .f32⟩
  | .hbm, ⟨53, _⟩ => ⟨S80x512x1024, .f32⟩
  | .hbm, ⟨54, _⟩ => ⟨S80x512x1024, .f32⟩
  | .hbm, ⟨55, _⟩ => ⟨S80x512x1024, .f32⟩
  | .hbm, ⟨56, _⟩ => ⟨S_, .f32⟩
  | .hbm, ⟨57, _⟩ => ⟨S80x512x1024, .f32⟩
  | .hbm, ⟨58, _⟩ => ⟨S80x512x1024, .f32⟩
  | .hbm, ⟨59, _⟩ => ⟨S_, .f32⟩
  | .hbm, ⟨60, _⟩ => ⟨S80x512x1024, .f32⟩
  | .hbm, ⟨61, _⟩ => ⟨S80x512x1024, .f32⟩
  | .hbm, ⟨62, _⟩ => ⟨S80x512x1024, .f32⟩
  | .hbm, ⟨63, _⟩ => ⟨S80x512x1024, .f32⟩
  | .hbm, ⟨64, _⟩ => ⟨S80x512x1024, .f32⟩
  | .hbm, ⟨65, _⟩ => ⟨S80x512x2048, .f32⟩
  | .hbm, ⟨66, _⟩ => ⟨S80, .i32⟩
  | .hbm, ⟨67, _⟩ => ⟨S80x1x1, .i32⟩
  | .hbm, ⟨68, _⟩ => ⟨S_, .i32⟩
  | .hbm, ⟨69, _⟩ => ⟨S80x1x1, .i32⟩
  | .hbm, ⟨70, _⟩ => ⟨S80x1x1, .i1⟩
  | .hbm, ⟨71, _⟩ => ⟨S80x512x2048, .i1⟩
  | .hbm, ⟨72, _⟩ => ⟨S_, .f32⟩
  | .hbm, ⟨73, _⟩ => ⟨S80x512x2048, .f32⟩
  | .hbm, ⟨74, _⟩ => ⟨S80x512x2048, .f32⟩
  | .hbm, ⟨75, _⟩ => ⟨S80x512x2048, .bf16⟩
  | .hbm, ⟨76, _⟩ => ⟨S81920x1024, .bf16⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel2.lean ====
abbrev S32x1x1024 : Shape := ⟨3, ![32, 1, 1024]⟩
abbrev S16384x128 : Shape := ⟨2, ![16384, 128]⟩
abbrev S16384x2048 : Shape := ⟨2, ![16384, 2048]⟩
abbrev S1x2048 : Shape := ⟨2, ![1, 2048]⟩
abbrev S40960x1024 : Shape := ⟨2, ![40960, 1024]⟩
abbrev S1x1x1024 : Shape := ⟨3, ![1, 1, 1024]⟩
abbrev S512x128 : Shape := ⟨2, ![512, 128]⟩
abbrev S512x2048 : Shape := ⟨2, ![512, 2048]⟩
abbrev S512x1024 : Shape := ⟨2, ![512, 1024]⟩
abbrev S4 : Shape := ⟨1, ![4]⟩
abbrev S1x1x1 : Shape := ⟨3, ![1, 1, 1]⟩
abbrev S1 : Shape := ⟨1, ![1]⟩
abbrev S_ : Shape := ⟨0, ![]⟩
abbrev S1x1024 : Shape := ⟨2, ![1, 1024]⟩
abbrev S256x128 : Shape := ⟨2, ![256, 128]⟩
abbrev S256x1 : Shape := ⟨2, ![256, 1]⟩
abbrev S256x1024 : Shape := ⟨2, ![256, 1024]⟩
abbrev S256x2048 : Shape := ⟨2, ![256, 2048]⟩
abbrev S256 : Shape := ⟨1, ![256]⟩

abbrev nBuf : Space → Nat
  | .hbm => 7
  | .vmem => 12
  | .smem => 4
  | _ => 0

abbrev bufTy : (tb : Table) → Fin (tcTables nBuf tb) → BufTy
  | .hbm, ⟨0, _⟩ => ⟨S32x1x1024, .i32⟩
  | .hbm, ⟨1, _⟩ => ⟨S16384x128, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S40960x1024, .i32⟩
  | .hbm, ⟨6, _⟩ => ⟨S16384x2048, .f32⟩
  | .local _ .vmem, ⟨0, _⟩ => ⟨S512x128, .f32⟩
  | .local _ .vmem, ⟨1, _⟩ => ⟨S512x128, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x1024, .i32⟩
  | .local _ .vmem, ⟨9, _⟩ => ⟨S512x1024, .i32⟩
  | .local _ .vmem, ⟨10, _⟩ => ⟨S512x1024, .i32⟩
  | .local _ .vmem, ⟨11, _⟩ => ⟨S512x1024, .i32⟩
  | .local _ .smem, ⟨0, _⟩ => ⟨S1x1x1024, .i32⟩
  | .local _ .smem, ⟨1, _⟩ => ⟨S1x1x1024, .i32⟩
  | .local _ .smem, ⟨2, _⟩ => ⟨S1x1x1024, .i32⟩
  | .local _ .smem, ⟨3, _⟩ => ⟨S1x1x1024, .i32⟩
  | _, _ => ⟨S32x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c256_i32 : BitVec 32 := 256#32
  let v29 : BitVec 32 := Scalar.addi c0_i32_15 c256_i32
  let c1_i32_16 : BitVec 32 := 1#32
  ⟨c0_i32_15, v29, c1_i32_16⟩
def k0_off1 (k0_t1 : Fin k0_t1_loop.trips) : Fin 3 → Nat :=
  let c0 : Index := 0#32
  let c0_23 : Index := 0#32
  let c0_i32_22 : BitVec 32 := 0#32
  let c0_i32_15 : BitVec 32 := 0#32
  let c1_i32_16 : BitVec 32 := 1#32
  let arg14 : BitVec 32 := Scf.iv c0_i32_15 c1_i32_16 k0_t1
  let v31 : BitVec 32 := Scalar.addi c0_i32_22 arg14
  let v32 : Index := Scalar.indexCast v31
  ![0, 0, v32.toNat]
def k0_off2 (k0_t1 : Fin k0_t1_loop.trips) : Fin 2 → Nat :=
  let c0_i32_15 : BitVec 32 := 0#32
  let c1_i32_16 : BitVec 32 := 1#32
  let arg14 : BitVec 32 := Scf.iv c0_i32_15 c1_i32_16 k0_t1
  let c0_i32_25 : BitVec 32 := 0#32
  ![arg14.toNat, 0]
def k0_off3 (v33 : BitVec 32) : Fin 2 → Nat :=
  let c0_i32_26 : BitVec 32 := 0#32
  ![v33.toNat, 0]

def k0_chk1 (i : grid0.Coords) (v33 : BitVec 32) : Prop :=
  (∀ (k0_h1 : k0_cond1 i = 1#1), ∀ a, (k0_off3 v33) a + S1x1024.size a ≤ S40960x1024.size a)
theorem k0_off3_inb : ∀ (i : grid0.Coords) (v33 : BitVec 32) (k0_hw1 : k0_chk1 i v33), ∀ (k0_h1 : k0_cond1 i = 1#1), ∀ a, (k0_off3 v33) a + S1x1024.size a ≤ S40960x1024.size a := fun i v33 k0_hw1 k0_h1 => k0_hw1 k0_h1

def k0_off4 (k0_t1 : Fin k0_t1_loop.trips) : Fin 3 → Nat :=
  let c0_27 : Index := 0#32
  let c0_28 : Index := 0#32
  let c512_i32 : BitVec 32 := 512#32
  let c0_i32_15 : BitVec 32 := 0#32
  let c1_i32_16 : BitVec 32 := 1#32
  let arg14 : BitVec 32 := Scf.iv c0_i32_15 c1_i32_16 k0_t1
  let v38 : BitVec 32 := Scalar.addi c512_i32 arg14
  let v39 : Index := Scalar.indexCast v38
  ![0, 0, v39.toNat]
def k0_off5 (k0_t1 : Fin k0_t1_loop.trips) : Fin 2 → Nat :=
  let c0_i32_15 : BitVec 32 := 0#32
  let c1_i32_16 : BitVec 32 := 1#32
  let arg14 : BitVec 32 := Scf.iv c0_i32_15 c1_i32_16 k0_t1
  let c0_i32_30 : BitVec 32 := 0#32
  ![arg14.toNat, 0]
def k0_off6 (v40 : BitVec 32) : Fin 2 → Nat :=
  let c0_i32_31 : BitVec 32 := 0#32
  ![v40.toNat, 0]

def k0_chk2 (i : grid0.Coords) (v40 : BitVec 32) : Prop :=
  (∀ (k0_h1 : k0_cond1 i = 1#1), ∀ a, (k0_off6 v40) a + S1x1024.size a ≤ S40960x1024.size a)
theorem k0_off6_inb : ∀ (i : grid0.Coords) (v40 : BitVec 32) (k0_hw2 : k0_chk2 i v40), ∀ (k0_h1 : k0_cond1 i = 1#1), ∀ a, (k0_off6 v40) a + S1x1024.size a ≤ S40960x1024.size a := fun i v40 k0_hw2 k0_h1 => k0_hw2 k0_h1

@[reducible] def k0_t2_loop : Scf.Loop 32 :=
  let c256_i32_18 : BitVec 32 := 256#32
  let c256_i32_19 : BitVec 32 := 256#32
  let v30 : BitVec 32 := Scalar.addi c256_i32_18 c256_i32_19
  let c1_i32_20 : BitVec 32 := 1#32
  ⟨c256_i32_18, v30, c1_i32_20⟩
def k0_off7 (k0_t2 : Fin k0_t2_loop.trips) : Fin 3 → Nat :=
  let c0 : Index := 0#32
  let c0_23 : Index := 0#32
  let c0_i32_22 : BitVec 32 := 0#32
  let c256_i32_18 : BitVec 32 := 256#32
  let c1_i32_20 : BitVec 32 := 1#32
  let arg14 : BitVec 32 := Scf.iv c256_i32_18 c1_i32_20 k0_t2
  let v31 : BitVec 32 := Scalar.addi c0_i32_22 arg14
  let v32 : Index := Scalar.indexCast v31
  ![0, 0, v32.toNat]
def k0_off8 (k0_t2 : Fin k0_t2_loop.trips) : Fin 2 → Nat :=
  let c256_i32_18 : BitVec 32 := 256#32
  let c1_i32_20 : BitVec 32 := 1#32
  let arg14 : BitVec 32 := Scf.iv c256_i32_18 c1_i32_20 k0_t2
  let c0_i32_25 : BitVec 32 := 0#32
  ![arg14.toNat, 0]
def k0_off9 (v33 : BitVec 32) : Fin 2 → Nat :=
  let c0_i32_26 : BitVec 32 := 0#32
  ![v33.toNat, 0]

def k0_chk3 (i : grid0.Coords) (v33 : BitVec 32) : Prop :=
  (∀ (k0_h1 : k0_cond1 i = 1#1), ∀ a, (k0_off9 v33) a + S1x1024.size a ≤ S40960x1024.size a)
theorem k0_off9_inb : ∀ (i : grid0.Coords) (v33 : BitVec 32) (k0_hw3 : k0_chk3 i v33), ∀ (k0_h1 : k0_cond1 i = 1#1), ∀ a, (k0_off9 v33) a + S1x1024.size a ≤ S40960x1024.size a := fun i v33 k0_hw3 k0_h1 => k0_hw3 k0_h1

def k0_off10 (k0_t2 : Fin k0_t2_loop.trips) : Fin 3 → Nat :=
  let c0_27 : Index := 0#32
  let c0_28 : Index := 0#32
  let c512_i32 : BitVec 32 := 512#32
  let c256_i32_18 : BitVec 32 := 256#32
  let c1_i32_20 : BitVec 32 := 1#32
  let arg14 : BitVec 32 := Scf.iv c256_i32_18 c1_i32_20 k0_t2
  let v38 : BitVec 32 := Scalar.addi c512_i32 arg14
  let v39 : Index := Scalar.indexCast v38
  ![0, 0, v39.toNat]
def k0_off11 (k0_t2 : Fin k0_t2_loop.trips) : Fin 2 → Nat :=
  let c256_i32_18 : BitVec 32 := 256#32
  let c1_i32_20 : BitVec 32 := 1#32
  let arg14 : BitVec 32 := Scf.iv c256_i32_18 c1_i32_20 k0_t2
  let c0_i32_30 : BitVec 32 := 0#32
  ![arg14.toNat, 0]
def k0_off12 (v40 : BitVec 32) : Fin 2 → Nat :=
  let c0_i32_31 : BitVec 32 := 0#32
  ![v40.toNat, 0]

def k0_chk4 (i : grid0.Coords) (v40 : BitVec 32) : Prop :=
  (∀ (k0_h1 : k0_cond1 i = 1#1), ∀ a, (k0_off12 v40) a + S1x1024.size a ≤ S40960x1024.size a)
theorem k0_off12_inb : ∀ (i : grid0.Coords) (v40 : BitVec 32) (k0_hw4 : k0_chk4 i v40), ∀ (k0_h1 : k0_cond1 i = 1#1), ∀ a, (k0_off12 v40) a + S1x1024.size a ≤ S40960x1024.size a := fun i v40 k0_hw4 k0_h1 => k0_hw4 k0_h1

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

@[reducible] def k0_t3_loop : Scf.Loop 32 :=
  let c0_i32_15 : BitVec 32 := 0#32
  let c256_i32 : BitVec 32 := 256#32
  let v29 : BitVec 32 := Scalar.addi c0_i32_15 c256_i32
  let c1_i32_16 : BitVec 32 := 1#32
  ⟨c0_i32_15, v29, c1_i32_16⟩
@[reducible] def k0_t4_loop : Scf.Loop 32 :=
  let c0_i32_17 : BitVec 32 := 0#32
  let c256_i32_18 : BitVec 32 := 256#32
  let v30 : BitVec 32 := Scalar.addi c0_i32_17 c256_i32_18
  let c1_i32_19 : BitVec 32 := 1#32
  ⟨c0_i32_17, v30, c1_i32_19⟩
def k0_off13 (v31 : BitVec 32) : Fin 2 → Nat :=
  let c0_i32_25 : BitVec 32 := 0#32
  ![v31.toNat, 0]

def k0_chk5 (i : grid0.Coords) (v31 : BitVec 32) : Prop :=
  (∀ (k0_h2 : k0_cond2 i = 1#1), ∀ a, (k0_off13 v31) a + S1x1024.size a ≤ S40960x1024.size a)
theorem k0_off13_inb : ∀ (i : grid0.Coords) (v31 : BitVec 32) (k0_hw5 : k0_chk5 i v31), ∀ (k0_h2 : k0_cond2 i = 1#1), ∀ a, (k0_off13 v31) a + S1x1024.size a ≤ S40960x1024.size a := fun i v31 k0_hw5 k0_h2 => k0_hw5 k0_h2

def k0_off14 (v36 : BitVec 32) : Fin 2 → Nat :=
  let c0_i32_31 : BitVec 32 := 0#32
  ![v36.toNat, 0]

def k0_chk6 (i : grid0.Coords) (v36 : BitVec 32) : Prop :=
  (∀ (k0_h2 : k0_cond2 i = 1#1), ∀ a, (k0_off14 v36) a + S1x1024.size a ≤ S40960x1024.size a)
theorem k0_off14_inb : ∀ (i : grid0.Coords) (v36 : BitVec 32) (k0_hw6 : k0_chk6 i v36), ∀ (k0_h2 : k0_cond2 i = 1#1), ∀ a, (k0_off14 v36) a + S1x1024.size a ≤ S40960x1024.size a := fun i v36 k0_hw6 k0_h2 => k0_hw6 k0_h2

def k0_off15 (v41 : BitVec 32) : Fin 2 → Nat :=
  let c0_i32_37 : BitVec 32 := 0#32
  ![v41.toNat, 0]

def k0_chk7 (i : grid0.Coords) (v41 : BitVec 32) : Prop :=
  (∀ (k0_h2 : k0_cond2 i = 1#1), ∀ a, (k0_off15 v41) a + S1x1024.size a ≤ S40960x1024.size a)
theorem k0_off15_inb : ∀ (i : grid0.Coords) (v41 : BitVec 32) (k0_hw7 : k0_chk7 i v41), ∀ (k0_h2 : k0_cond2 i = 1#1), ∀ a, (k0_off15 v41) a + S1x1024.size a ≤ S40960x1024.size a := fun i v41 k0_hw7 k0_h2 => k0_hw7 k0_h2

def k0_off16 (v46 : BitVec 32) : Fin 2 → Nat :=
  let c0_i32_43 : BitVec 32 := 0#32
  ![v46.toNat, 0]

def k0_chk8 (i : grid0.Coords) (v46 : BitVec 32) : Prop :=
  (∀ (k0_h2 : k0_cond2 i = 1#1), ∀ a, (k0_off16 v46) a + S1x1024.size a ≤ S40960x1024.size a)
theorem k0_off16_inb : ∀ (i : grid0.Coords) (v46 : BitVec 32) (k0_hw8 : k0_chk8 i v46), ∀ (k0_h2 : k0_cond2 i = 1#1), ∀ a, (k0_off16 v46) a + S1x1024.size a ≤ S40960x1024.size a := fun i v46 k0_hw8 k0_h2 => k0_hw8 k0_h2

def k0_off17 (v51 : BitVec 32) : Fin 2 → Nat :=
  let c0_i32_49 : BitVec 32 := 0#32
  ![v51.toNat, 0]

def k0_chk9 (i : grid0.Coords) (v51 : BitVec 32) : Prop :=
  (∀ (k0_h2 : k0_cond2 i = 1#1), ∀ a, (k0_off17 v51) a + S1x1024.size a ≤ S40960x1024.size a)
theorem k0_off17_inb : ∀ (i : grid0.Coords) (v51 : BitVec 32) (k0_hw9 : k0_chk9 i v51), ∀ (k0_h2 : k0_cond2 i = 1#1), ∀ a, (k0_off17 v51) a + S1x1024.size a ≤ S40960x1024.size a := fun i v51 k0_hw9 k0_h2 => k0_hw9 k0_h2

def k0_off18 (v56 : BitVec 32) : Fin 2 → Nat :=
  let c0_i32_55 : BitVec 32 := 0#32
  ![v56.toNat, 0]

def k0_chk10 (i : grid0.Coords) (v56 : BitVec 32) : Prop :=
  (∀ (k0_h2 : k0_cond2 i = 1#1), ∀ a, (k0_off18 v56) a + S1x1024.size a ≤ S40960x1024.size a)
theorem k0_off18_inb : ∀ (i : grid0.Coords) (v56 : BitVec 32) (k0_hw10 : k0_chk10 i v56), ∀ (k0_h2 : k0_cond2 i = 1#1), ∀ a, (k0_off18 v56) a + S1x1024.size a ≤ S40960x1024.size a := fun i v56 k0_hw10 k0_h2 => k0_hw10 k0_h2

def k0_off19 (v61 : BitVec 32) : Fin 2 → Nat :=
  let c0_i32_60 : BitVec 32 := 0#32
  ![v61.toNat, 0]

def k0_chk11 (i : grid0.Coords) (v61 : BitVec 32) : Prop :=
  (∀ (k0_h2 : k0_cond2 i = 1#1), ∀ a, (k0_off19 v61) a + S1x1024.size a ≤ S40960x1024.size a)
theorem k0_off19_inb : ∀ (i : grid0.Coords) (v61 : BitVec 32) (k0_hw11 : k0_chk11 i v61), ∀ (k0_h2 : k0_cond2 i = 1#1), ∀ a, (k0_off19 v61) a + S1x1024.size a ≤ S40960x1024.size a := fun i v61 k0_hw11 k0_h2 => k0_hw11 k0_h2

def k0_off20 (v66 : BitVec 32) : Fin 2 → Nat :=
  let c0_i32_66 : BitVec 32 := 0#32
  ![v66.toNat, 0]

def k0_chk12 (i : grid0.Coords) (v66 : BitVec 32) : Prop :=
  (∀ (k0_h2 : k0_cond2 i = 1#1), ∀ a, (k0_off20 v66) a + S1x1024.size a ≤ S40960x1024.size a)
theorem k0_off20_inb : ∀ (i : grid0.Coords) (v66 : BitVec 32) (k0_hw12 : k0_chk12 i v66), ∀ (k0_h2 : k0_cond2 i = 1#1), ∀ a, (k0_off20 v66) a + S1x1024.size a ≤ S40960x1024.size a := fun i v66 k0_hw12 k0_h2 => k0_hw12 k0_h2

def k0_off21 (v71 : BitVec 32) : Fin 2 → Nat :=
  let c0_i32_71 : BitVec 32 := 0#32
  ![v71.toNat, 0]

def k0_chk13 (i : grid0.Coords) (v71 : BitVec 32) : Prop :=
  (∀ (k0_h2 : k0_cond2 i = 1#1), ∀ a, (k0_off21 v71) a + S1x1024.size a ≤ S40960x1024.size a)
theorem k0_off21_inb : ∀ (i : grid0.Coords) (v71 : BitVec 32) (k0_hw13 : k0_chk13 i v71), ∀ (k0_h2 : k0_cond2 i = 1#1), ∀ a, (k0_off21 v71) a + S1x1024.size a ≤ S40960x1024.size a := fun i v71 k0_hw13 k0_h2 => k0_hw13 k0_h2

def k0_off22 (v76 : BitVec 32) : Fin 2 → Nat :=
  let c0_i32_77 : BitVec 32 := 0#32
  ![v76.toNat, 0]

def k0_chk14 (i : grid0.Coords) (v76 : BitVec 32) : Prop :=
  (∀ (k0_h2 : k0_cond2 i = 1#1), ∀ a, (k0_off22 v76) a + S1x1024.size a ≤ S40960x1024.size a)
theorem k0_off22_inb : ∀ (i : grid0.Coords) (v76 : BitVec 32) (k0_hw14 : k0_chk14 i v76), ∀ (k0_h2 : k0_cond2 i = 1#1), ∀ a, (k0_off22 v76) a + S1x1024.size a ≤ S40960x1024.size a := fun i v76 k0_hw14 k0_h2 => k0_hw14 k0_h2

def k0_off23 (v81 : BitVec 32) : Fin 2 → Nat :=
  let c0_i32_82 : BitVec 32 := 0#32
  ![v81.toNat, 0]

def k0_chk15 (i : grid0.Coords) (v81 : BitVec 32) : Prop :=
  (∀ (k0_h2 : k0_cond2 i = 1#1), ∀ a, (k0_off23 v81) a + S1x1024.size a ≤ S40960x1024.size a)
theorem k0_off23_inb : ∀ (i : grid0.Coords) (v81 : BitVec 32) (k0_hw15 : k0_chk15 i v81), ∀ (k0_h2 : k0_cond2 i = 1#1), ∀ a, (k0_off23 v81) a + S1x1024.size a ≤ S40960x1024.size a := fun i v81 k0_hw15 k0_h2 => k0_hw15 k0_h2

def k0_off24 (v86 : BitVec 32) : Fin 2 → Nat :=
  let c0_i32_88 : BitVec 32 := 0#32
  ![v86.toNat, 0]

def k0_chk16 (i : grid0.Coords) (v86 : BitVec 32) : Prop :=
  (∀ (k0_h2 : k0_cond2 i = 1#1), ∀ a, (k0_off24 v86) a + S1x1024.size a ≤ S40960x1024.size a)
theorem k0_off24_inb : ∀ (i : grid0.Coords) (v86 : BitVec 32) (k0_hw16 : k0_chk16 i v86), ∀ (k0_h2 : k0_cond2 i = 1#1), ∀ a, (k0_off24 v86) a + S1x1024.size a ≤ S40960x1024.size a := fun i v86 k0_hw16 k0_h2 => k0_hw16 k0_h2

def k0_off25 (v91 : BitVec 32) : Fin 2 → Nat :=
  let c0_i32_93 : BitVec 32 := 0#32
  ![v91.toNat, 0]

def k0_chk17 (i : grid0.Coords) (v91 : BitVec 32) : Prop :=
  (∀ (k0_h2 : k0_cond2 i = 1#1), ∀ a, (k0_off25 v91) a + S1x1024.size a ≤ S40960x1024.size a)
theorem k0_off25_inb : ∀ (i : grid0.Coords) (v91 : BitVec 32) (k0_hw17 : k0_chk17 i v91), ∀ (k0_h2 : k0_cond2 i = 1#1), ∀ a, (k0_off25 v91) a + S1x1024.size a ≤ S40960x1024.size a := fun i v91 k0_hw17 k0_h2 => k0_hw17 k0_h2

def k0_off26 (v96 : BitVec 32) : Fin 2 → Nat :=
  let c0_i32_99 : BitVec 32 := 0#32
  ![v96.toNat, 0]

def k0_chk18 (i : grid0.Coords) (v96 : BitVec 32) : Prop :=
  (∀ (k0_h2 : k0_cond2 i = 1#1), ∀ a, (k0_off26 v96) a + S1x1024.size a ≤ S40960x1024.size a)
theorem k0_off26_inb : ∀ (i : grid0.Coords) (v96 : BitVec 32) (k0_hw18 : k0_chk18 i v96), ∀ (k0_h2 : k0_cond2 i = 1#1), ∀ a, (k0_off26 v96) a + S1x1024.size a ≤ S40960x1024.size a := fun i v96 k0_hw18 k0_h2 => k0_hw18 k0_h2

def k0_off27 (v101 : BitVec 32) : Fin 2 → Nat :=
  let c0_i32_104 : BitVec 32 := 0#32
  ![v101.toNat, 0]

def k0_chk19 (i : grid0.Coords) (v101 : BitVec 32) : Prop :=
  (∀ (k0_h2 : k0_cond2 i = 1#1), ∀ a, (k0_off27 v101) a + S1x1024.size a ≤ S40960x1024.size a)
theorem k0_off27_inb : ∀ (i : grid0.Coords) (v101 : BitVec 32) (k0_hw19 : k0_chk19 i v101), ∀ (k0_h2 : k0_cond2 i = 1#1), ∀ a, (k0_off27 v101) a + S1x1024.size a ≤ S40960x1024.size a := fun i v101 k0_hw19 k0_h2 => k0_hw19 k0_h2

def k0_off28 (v106 : BitVec 32) : Fin 2 → Nat :=
  let c0_i32_110 : BitVec 32 := 0#32
  ![v106.toNat, 0]

def k0_chk20 (i : grid0.Coords) (v106 : BitVec 32) : Prop :=
  (∀ (k0_h2 : k0_cond2 i = 1#1), ∀ a, (k0_off28 v106) a + S1x1024.size a ≤ S40960x1024.size a)
theorem k0_off28_inb : ∀ (i : grid0.Coords) (v106 : BitVec 32) (k0_hw20 : k0_chk20 i v106), ∀ (k0_h2 : k0_cond2 i = 1#1), ∀ a, (k0_off28 v106) a + S1x1024.size a ≤ S40960x1024.size a := fun i v106 k0_hw20 k0_h2 => k0_hw20 k0_h2

def k0_off29 (v111 : BitVec 32) : Fin 2 → Nat :=
  let c0_i32_115 : BitVec 32 := 0#32
  ![v111.toNat, 0]

def k0_chk21 (i : grid0.Coords) (v111 : BitVec 32) : Prop :=
  (∀ (k0_h2 : k0_cond2 i = 1#1), ∀ a, (k0_off29 v111) a + S1x1024.size a ≤ S40960x1024.size a)
theorem k0_off29_inb : ∀ (i : grid0.Coords) (v111 : BitVec 32) (k0_hw21 : k0_chk21 i v111), ∀ (k0_h2 : k0_cond2 i = 1#1), ∀ a, (k0_off29 v111) a + S1x1024.size a ≤ S40960x1024.size a := fun i v111 k0_hw21 k0_h2 => k0_hw21 k0_h2

def k0_off30 (v116 : BitVec 32) : Fin 2 → Nat :=
  let c0_i32_121 : BitVec 32 := 0#32
  ![v116.toNat, 0]

def k0_chk22 (i : grid0.Coords) (v116 : BitVec 32) : Prop :=
  (∀ (k0_h2 : k0_cond2 i = 1#1), ∀ a, (k0_off30 v116) a + S1x1024.size a ≤ S40960x1024.size a)
theorem k0_off30_inb : ∀ (i : grid0.Coords) (v116 : BitVec 32) (k0_hw22 : k0_chk22 i v116), ∀ (k0_h2 : k0_cond2 i = 1#1), ∀ a, (k0_off30 v116) a + S1x1024.size a ≤ S40960x1024.size a := fun i v116 k0_hw22 k0_h2 => k0_hw22 k0_h2

def k0_off31 (v121 : BitVec 32) : Fin 2 → Nat :=
  let c0_i32_126 : BitVec 32 := 0#32
  ![v121.toNat, 0]

def k0_chk23 (i : grid0.Coords) (v121 : BitVec 32) : Prop :=
  (∀ (k0_h2 : k0_cond2 i = 1#1), ∀ a, (k0_off31 v121) a + S1x1024.size a ≤ S40960x1024.size a)
theorem k0_off31_inb : ∀ (i : grid0.Coords) (v121 : BitVec 32) (k0_hw23 : k0_chk23 i v121), ∀ (k0_h2 : k0_cond2 i = 1#1), ∀ a, (k0_off31 v121) a + S1x1024.size a ≤ S40960x1024.size a := fun i v121 k0_hw23 k0_h2 => k0_hw23 k0_h2

def k0_off32 (v126 : BitVec 32) : Fin 2 → Nat :=
  let c0_i32_132 : BitVec 32 := 0#32
  ![v126.toNat, 0]

def k0_chk24 (i : grid0.Coords) (v126 : BitVec 32) : Prop :=
  (∀ (k0_h2 : k0_cond2 i = 1#1), ∀ a, (k0_off32 v126) a + S1x1024.size a ≤ S40960x1024.size a)
theorem k0_off32_inb : ∀ (i : grid0.Coords) (v126 : BitVec 32) (k0_hw24 : k0_chk24 i v126), ∀ (k0_h2 : k0_cond2 i = 1#1), ∀ a, (k0_off32 v126) a + S1x1024.size a ≤ S40960x1024.size a := fun i v126 k0_hw24 k0_h2 => k0_hw24 k0_h2

def k0_off33 (v131 : BitVec 32) : Fin 2 → Nat :=
  let c0_i32_137 : BitVec 32 := 0#32
  ![v131.toNat, 0]

def k0_chk25 (i : grid0.Coords) (v131 : BitVec 32) : Prop :=
  (∀ (k0_h2 : k0_cond2 i = 1#1), ∀ a, (k0_off33 v131) a + S1x1024.size a ≤ S40960x1024.size a)
theorem k0_off33_inb : ∀ (i : grid0.Coords) (v131 : BitVec 32) (k0_hw25 : k0_chk25 i v131), ∀ (k0_h2 : k0_cond2 i = 1#1), ∀ a, (k0_off33 v131) a + S1x1024.size a ≤ S40960x1024.size a := fun i v131 k0_hw25 k0_h2 => k0_hw25 k0_h2

def k0_off34 (v136 : BitVec 32) : Fin 2 → Nat :=
  let c0_i32_143 : BitVec 32 := 0#32
  ![v136.toNat, 0]

def k0_chk26 (i : grid0.Coords) (v136 : BitVec 32) : Prop :=
  (∀ (k0_h2 : k0_cond2 i = 1#1), ∀ a, (k0_off34 v136) a + S1x1024.size a ≤ S40960x1024.size a)
theorem k0_off34_inb : ∀ (i : grid0.Coords) (v136 : BitVec 32) (k0_hw26 : k0_chk26 i v136), ∀ (k0_h2 : k0_cond2 i = 1#1), ∀ a, (k0_off34 v136) a + S1x1024.size a ≤ S40960x1024.size a := fun i v136 k0_hw26 k0_h2 => k0_hw26 k0_h2

def k0_off35 (v141 : BitVec 32) : Fin 2 → Nat :=
  let c0_i32_148 : BitVec 32 := 0#32
  ![v141.toNat, 0]

def k0_chk27 (i : grid0.Coords) (v141 : BitVec 32) : Prop :=
  (∀ (k0_h2 : k0_cond2 i = 1#1), ∀ a, (k0_off35 v141) a + S1x1024.size a ≤ S40960x1024.size a)
theorem k0_off35_inb : ∀ (i : grid0.Coords) (v141 : BitVec 32) (k0_hw27 : k0_chk27 i v141), ∀ (k0_h2 : k0_cond2 i = 1#1), ∀ a, (k0_off35 v141) a + S1x1024.size a ≤ S40960x1024.size a := fun i v141 k0_hw27 k0_h2 => k0_hw27 k0_h2

def k0_off36 (v146 : BitVec 32) : Fin 2 → Nat :=
  let c0_i32_154 : BitVec 32 := 0#32
  ![v146.toNat, 0]

def k0_chk28 (i : grid0.Coords) (v146 : BitVec 32) : Prop :=
  (∀ (k0_h2 : k0_cond2 i = 1#1), ∀ a, (k0_off36 v146) a + S1x1024.size a ≤ S40960x1024.size a)
theorem k0_off36_inb : ∀ (i : grid0.Coords) (v146 : BitVec 32) (k0_hw28 : k0_chk28 i v146), ∀ (k0_h2 : k0_cond2 i = 1#1), ∀ a, (k0_off36 v146) a + S1x1024.size a ≤ S40960x1024.size a := fun i v146 k0_hw28 k0_h2 => k0_hw28 k0_h2

def k0_off37 (v151 : BitVec 32) : Fin 2 → Nat :=
  let c0_i32_159 : BitVec 32 := 0#32
  ![v151.toNat, 0]

def k0_chk29 (i : grid0.Coords) (v151 : BitVec 32) : Prop :=
  (∀ (k0_h2 : k0_cond2 i = 1#1), ∀ a, (k0_off37 v151) a + S1x1024.size a ≤ S40960x1024.size a)
theorem k0_off37_inb : ∀ (i : grid0.Coords) (v151 : BitVec 32) (k0_hw29 : k0_chk29 i v151), ∀ (k0_h2 : k0_cond2 i = 1#1), ∀ a, (k0_off37 v151) a + S1x1024.size a ≤ S40960x1024.size a := fun i v151 k0_hw29 k0_h2 => k0_hw29 k0_h2

def k0_off38 (v156 : BitVec 32) : Fin 2 → Nat :=
  let c0_i32_165 : BitVec 32 := 0#32
  ![v156.toNat, 0]

def k0_chk30 (i : grid0.Coords) (v156 : BitVec 32) : Prop :=
  (∀ (k0_h2 : k0_cond2 i = 1#1), ∀ a, (k0_off38 v156) a + S1x1024.size a ≤ S40960x1024.size a)
theorem k0_off38_inb : ∀ (i : grid0.Coords) (v156 : BitVec 32) (k0_hw30 : k0_chk30 i v156), ∀ (k0_h2 : k0_cond2 i = 1#1), ∀ a, (k0_off38 v156) a + S1x1024.size a ≤ S40960x1024.size a := fun i v156 k0_hw30 k0_h2 => k0_hw30 k0_h2

def k0_off39 (v161 : BitVec 32) : Fin 2 → Nat :=
  let c0_i32_170 : BitVec 32 := 0#32
  ![v161.toNat, 0]

def k0_chk31 (i : grid0.Coords) (v161 : BitVec 32) : Prop :=
  (∀ (k0_h2 : k0_cond2 i = 1#1), ∀ a, (k0_off39 v161) a + S1x1024.size a ≤ S40960x1024.size a)
theorem k0_off39_inb : ∀ (i : grid0.Coords) (v161 : BitVec 32) (k0_hw31 : k0_chk31 i v161), ∀ (k0_h2 : k0_cond2 i = 1#1), ∀ a, (k0_off39 v161) a + S1x1024.size a ≤ S40960x1024.size a := fun i v161 k0_hw31 k0_h2 => k0_hw31 k0_h2

def k0_off40 (v166 : BitVec 32) : Fin 2 → Nat :=
  let c0_i32_176 : BitVec 32 := 0#32
  ![v166.toNat, 0]

def k0_chk32 (i : grid0.Coords) (v166 : BitVec 32) : Prop :=
  (∀ (k0_h2 : k0_cond2 i = 1#1), ∀ a, (k0_off40 v166) a + S1x1024.size a ≤ S40960x1024.size a)
theorem k0_off40_inb : ∀ (i : grid0.Coords) (v166 : BitVec 32) (k0_hw32 : k0_chk32 i v166), ∀ (k0_h2 : k0_cond2 i = 1#1), ∀ a, (k0_off40 v166) a + S1x1024.size a ≤ S40960x1024.size a := fun i v166 k0_hw32 k0_h2 => k0_hw32 k0_h2

def k0_off41 (v171 : BitVec 32) : Fin 2 → Nat :=
  let c0_i32_181 : BitVec 32 := 0#32
  ![v171.toNat, 0]

def k0_chk33 (i : grid0.Coords) (v171 : BitVec 32) : Prop :=
  (∀ (k0_h2 : k0_cond2 i = 1#1), ∀ a, (k0_off41 v171) a + S1x1024.size a ≤ S40960x1024.size a)
theorem k0_off41_inb : ∀ (i : grid0.Coords) (v171 : BitVec 32) (k0_hw33 : k0_chk33 i v171), ∀ (k0_h2 : k0_cond2 i = 1#1), ∀ a, (k0_off41 v171) a + S1x1024.size a ≤ S40960x1024.size a := fun i v171 k0_hw33 k0_h2 => k0_hw33 k0_h2

def k0_off42 (v176 : BitVec 32) : Fin 2 → Nat :=
  let c0_i32_187 : BitVec 32 := 0#32
  ![v176.toNat, 0]

def k0_chk34 (i : grid0.Coords) (v176 : BitVec 32) : Prop :=
  (∀ (k0_h2 : k0_cond2 i = 1#1), ∀ a, (k0_off42 v176) a + S1x1024.size a ≤ S40960x1024.size a)
theorem k0_off42_inb : ∀ (i : grid0.Coords) (v176 : BitVec 32) (k0_hw34 : k0_chk34 i v176), ∀ (k0_h2 : k0_cond2 i = 1#1), ∀ a, (k0_off42 v176) a + S1x1024.size a ≤ S40960x1024.size a := fun i v176 k0_hw34 k0_h2 => k0_hw34 k0_h2

def k0_off43 (v181 : BitVec 32) : Fin 2 → Nat :=
  let c0_i32_192 : BitVec 32 := 0#32
  ![v181.toNat, 0]

def k0_chk35 (i : grid0.Coords) (v181 : BitVec 32) : Prop :=
  (∀ (k0_h2 : k0_cond2 i = 1#1), ∀ a, (k0_off43 v181) a + S1x1024.size a ≤ S40960x1024.size a)
theorem k0_off43_inb : ∀ (i : grid0.Coords) (v181 : BitVec 32) (k0_hw35 : k0_chk35 i v181), ∀ (k0_h2 : k0_cond2 i = 1#1), ∀ a, (k0_off43 v181) a + S1x1024.size a ≤ S40960x1024.size a := fun i v181 k0_hw35 k0_h2 => k0_hw35 k0_h2

def k0_off44 (v186 : BitVec 32) : Fin 2 → Nat :=
  let c0_i32_198 : BitVec 32 := 0#32
  ![v186.toNat, 0]

def k0_chk36 (i : grid0.Coords) (v186 : BitVec 32) : Prop :=
  (∀ (k0_h2 : k0_cond2 i = 1#1), ∀ a, (k0_off44 v186) a + S1x1024.size a ≤ S40960x1024.size a)
theorem k0_off44_inb : ∀ (i : grid0.Coords) (v186 : BitVec 32) (k0_hw36 : k0_chk36 i v186), ∀ (k0_h2 : k0_cond2 i = 1#1), ∀ a, (k0_off44 v186) a + S1x1024.size a ≤ S40960x1024.size a := fun i v186 k0_hw36 k0_h2 => k0_hw36 k0_h2

def k0_off45 (v191 : BitVec 32) : Fin 2 → Nat :=
  let c0_i32_203 : BitVec 32 := 0#32
  ![v191.toNat, 0]

def k0_chk37 (i : grid0.Coords) (v191 : BitVec 32) : Prop :=
  (∀ (k0_h2 : k0_cond2 i = 1#1), ∀ a, (k0_off45 v191) a + S1x1024.size a ≤ S40960x1024.size a)
theorem k0_off45_inb : ∀ (i : grid0.Coords) (v191 : BitVec 32) (k0_hw37 : k0_chk37 i v191), ∀ (k0_h2 : k0_cond2 i = 1#1), ∀ a, (k0_off45 v191) a + S1x1024.size a ≤ S40960x1024.size a := fun i v191 k0_hw37 k0_h2 => k0_hw37 k0_h2

def k0_off46 (v196 : BitVec 32) : Fin 2 → Nat :=
  let c0_i32_209 : BitVec 32 := 0#32
  ![v196.toNat, 0]

def k0_chk38 (i : grid0.Coords) (v196 : BitVec 32) : Prop :=
  (∀ (k0_h2 : k0_cond2 i = 1#1), ∀ a, (k0_off46 v196) a + S1x1024.size a ≤ S40960x1024.size a)
theorem k0_off46_inb : ∀ (i : grid0.Coords) (v196 : BitVec 32) (k0_hw38 : k0_chk38 i v196), ∀ (k0_h2 : k0_cond2 i = 1#1), ∀ a, (k0_off46 v196) a + S1x1024.size a ≤ S40960x1024.size a := fun i v196 k0_hw38 k0_h2 => k0_hw38 k0_h2

def k0_off47 (v201 : BitVec 32) : Fin 2 → Nat :=
  let c0_i32_214 : BitVec 32 := 0#32
  ![v201.toNat, 0]

def k0_chk39 (i : grid0.Coords) (v201 : BitVec 32) : Prop :=
  (∀ (k0_h2 : k0_cond2 i = 1#1), ∀ a, (k0_off47 v201) a + S1x1024.size a ≤ S40960x1024.size a)
theorem k0_off47_inb : ∀ (i : grid0.Coords) (v201 : BitVec 32) (k0_hw39 : k0_chk39 i v201), ∀ (k0_h2 : k0_cond2 i = 1#1), ∀ a, (k0_off47 v201) a + S1x1024.size a ≤ S40960x1024.size a := fun i v201 k0_hw39 k0_h2 => k0_hw39 k0_h2

def k0_off48 (v206 : BitVec 32) : Fin 2 → Nat :=
  let c0_i32_220 : BitVec 32 := 0#32
  ![v206.toNat, 0]

def k0_chk40 (i : grid0.Coords) (v206 : BitVec 32) : Prop :=
  (∀ (k0_h2 : k0_cond2 i = 1#1), ∀ a, (k0_off48 v206) a + S1x1024.size a ≤ S40960x1024.size a)
theorem k0_off48_inb : ∀ (i : grid0.Coords) (v206 : BitVec 32) (k0_hw40 : k0_chk40 i v206), ∀ (k0_h2 : k0_cond2 i = 1#1), ∀ a, (k0_off48 v206) a + S1x1024.size a ≤ S40960x1024.size a := fun i v206 k0_hw40 k0_h2 => k0_hw40 k0_h2

def k0_off49 (v211 : BitVec 32) : Fin 2 → Nat :=
  let c0_i32_225 : BitVec 32 := 0#32
  ![v211.toNat, 0]

def k0_chk41 (i : grid0.Coords) (v211 : BitVec 32) : Prop :=
  (∀ (k0_h2 : k0_cond2 i = 1#1), ∀ a, (k0_off49 v211) a + S1x1024.size a ≤ S40960x1024.size a)
theorem k0_off49_inb : ∀ (i : grid0.Coords) (v211 : BitVec 32) (k0_hw41 : k0_chk41 i v211), ∀ (k0_h2 : k0_cond2 i = 1#1), ∀ a, (k0_off49 v211) a + S1x1024.size a ≤ S40960x1024.size a := fun i v211 k0_hw41 k0_h2 => k0_hw41 k0_h2

def k0_off50 (v216 : BitVec 32) : Fin 2 → Nat :=
  let c0_i32_231 : BitVec 32 := 0#32
  ![v216.toNat, 0]

def k0_chk42 (i : grid0.Coords) (v216 : BitVec 32) : Prop :=
  (∀ (k0_h2 : k0_cond2 i = 1#1), ∀ a, (k0_off50 v216) a + S1x1024.size a ≤ S40960x1024.size a)
theorem k0_off50_inb : ∀ (i : grid0.Coords) (v216 : BitVec 32) (k0_hw42 : k0_chk42 i v216), ∀ (k0_h2 : k0_cond2 i = 1#1), ∀ a, (k0_off50 v216) a + S1x1024.size a ≤ S40960x1024.size a := fun i v216 k0_hw42 k0_h2 => k0_hw42 k0_h2

def k0_off51 (v221 : BitVec 32) : Fin 2 → Nat :=
  let c0_i32_236 : BitVec 32 := 0#32
  ![v221.toNat, 0]

def k0_chk43 (i : grid0.Coords) (v221 : BitVec 32) : Prop :=
  (∀ (k0_h2 : k0_cond2 i = 1#1), ∀ a, (k0_off51 v221) a + S1x1024.size a ≤ S40960x1024.size a)
theorem k0_off51_inb : ∀ (i : grid0.Coords) (v221 : BitVec 32) (k0_hw43 : k0_chk43 i v221), ∀ (k0_h2 : k0_cond2 i = 1#1), ∀ a, (k0_off51 v221) a + S1x1024.size a ≤ S40960x1024.size a := fun i v221 k0_hw43 k0_h2 => k0_hw43 k0_h2

def k0_off52 (v226 : BitVec 32) : Fin 2 → Nat :=
  let c0_i32_242 : BitVec 32 := 0#32
  ![v226.toNat, 0]

def k0_chk44 (i : grid0.Coords) (v226 : BitVec 32) : Prop :=
  (∀ (k0_h2 : k0_cond2 i = 1#1), ∀ a, (k0_off52 v226) a + S1x1024.size a ≤ S40960x1024.size a)
theorem k0_off52_inb : ∀ (i : grid0.Coords) (v226 : BitVec 32) (k0_hw44 : k0_chk44 i v226), ∀ (k0_h2 : k0_cond2 i = 1#1), ∀ a, (k0_off52 v226) a + S1x1024.size a ≤ S40960x1024.size a := fun i v226 k0_hw44 k0_h2 => k0_hw44 k0_h2

def k0_off53 (v231 : BitVec 32) : Fin 2 → Nat :=
  let c0_i32_247 : BitVec 32 := 0#32
  ![v231.toNat, 0]

def k0_chk45 (i : grid0.Coords) (v231 : BitVec 32) : Prop :=
  (∀ (k0_h2 : k0_cond2 i = 1#1), ∀ a, (k0_off53 v231) a + S1x1024.size a ≤ S40960x1024.size a)
theorem k0_off53_inb : ∀ (i : grid0.Coords) (v231 : BitVec 32) (k0_hw45 : k0_chk45 i v231), ∀ (k0_h2 : k0_cond2 i = 1#1), ∀ a, (k0_off53 v231) a + S1x1024.size a ≤ S40960x1024.size a := fun i v231 k0_hw45 k0_h2 => k0_hw45 k0_h2

def k0_off54 (v236 : BitVec 32) : Fin 2 → Nat :=
  let c0_i32_253 : BitVec 32 := 0#32
  ![v236.toNat, 0]

def k0_chk46 (i : grid0.Coords) (v236 : BitVec 32) : Prop :=
  (∀ (k0_h2 : k0_cond2 i = 1#1), ∀ a, (k0_off54 v236) a + S1x1024.size a ≤ S40960x1024.size a)
theorem k0_off54_inb : ∀ (i : grid0.Coords) (v236 : BitVec 32) (k0_hw46 : k0_chk46 i v236), ∀ (k0_h2 : k0_cond2 i = 1#1), ∀ a, (k0_off54 v236) a + S1x1024.size a ≤ S40960x1024.size a := fun i v236 k0_hw46 k0_h2 => k0_hw46 k0_h2

def k0_off55 (v241 : BitVec 32) : Fin 2 → Nat :=
  let c0_i32_258 : BitVec 32 := 0#32
  ![v241.toNat, 0]

def k0_chk47 (i : grid0.Coords) (v241 : BitVec 32) : Prop :=
  (∀ (k0_h2 : k0_cond2 i = 1#1), ∀ a, (k0_off55 v241) a + S1x1024.size a ≤ S40960x1024.size a)
theorem k0_off55_inb : ∀ (i : grid0.Coords) (v241 : BitVec 32) (k0_hw47 : k0_chk47 i v241), ∀ (k0_h2 : k0_cond2 i = 1#1), ∀ a, (k0_off55 v241) a + S1x1024.size a ≤ S40960x1024.size a := fun i v241 k0_hw47 k0_h2 => k0_hw47 k0_h2

def k0_off56 (v246 : BitVec 32) : Fin 2 → Nat :=
  let c0_i32_264 : BitVec 32 := 0#32
  ![v246.toNat, 0]

def k0_chk48 (i : grid0.Coords) (v246 : BitVec 32) : Prop :=
  (∀ (k0_h2 : k0_cond2 i = 1#1), ∀ a, (k0_off56 v246) a + S1x1024.size a ≤ S40960x1024.size a)
theorem k0_off56_inb : ∀ (i : grid0.Coords) (v246 : BitVec 32) (k0_hw48 : k0_chk48 i v246), ∀ (k0_h2 : k0_cond2 i = 1#1), ∀ a, (k0_off56 v246) a + S1x1024.size a ≤ S40960x1024.size a := fun i v246 k0_hw48 k0_h2 => k0_hw48 k0_h2

def k0_off57 (v251 : BitVec 32) : Fin 2 → Nat :=
  let c0_i32_269 : BitVec 32 := 0#32
  ![v251.toNat, 0]

def k0_chk49 (i : grid0.Coords) (v251 : BitVec 32) : Prop :=
  (∀ (k0_h2 : k0_cond2 i = 1#1), ∀ a, (k0_off57 v251) a + S1x1024.size a ≤ S40960x1024.size a)
theorem k0_off57_inb : ∀ (i : grid0.Coords) (v251 : BitVec 32) (k0_hw49 : k0_chk49 i v251), ∀ (k0_h2 : k0_cond2 i = 1#1), ∀ a, (k0_off57 v251) a + S1x1024.size a ≤ S40960x1024.size a := fun i v251 k0_hw49 k0_h2 => k0_hw49 k0_h2

def k0_off58 (v256 : BitVec 32) : Fin 2 → Nat :=
  let c0_i32_275 : BitVec 32 := 0#32
  ![v256.toNat, 0]

def k0_chk50 (i : grid0.Coords) (v256 : BitVec 32) : Prop :=
  (∀ (k0_h2 : k0_cond2 i = 1#1), ∀ a, (k0_off58 v256) a + S1x1024.size a ≤ S40960x1024.size a)
theorem k0_off58_inb : ∀ (i : grid0.Coords) (v256 : BitVec 32) (k0_hw50 : k0_chk50 i v256), ∀ (k0_h2 : k0_cond2 i = 1#1), ∀ a, (k0_off58 v256) a + S1x1024.size a ≤ S40960x1024.size a := fun i v256 k0_hw50 k0_h2 => k0_hw50 k0_h2

def k0_off59 (v261 : BitVec 32) : Fin 2 → Nat :=
  let c0_i32_280 : BitVec 32 := 0#32
  ![v261.toNat, 0]

def k0_chk51 (i : grid0.Coords) (v261 : BitVec 32) : Prop :=
  (∀ (k0_h2 : k0_cond2 i = 1#1), ∀ a, (k0_off59 v261) a + S1x1024.size a ≤ S40960x1024.size a)
theorem k0_off59_inb : ∀ (i : grid0.Coords) (v261 : BitVec 32) (k0_hw51 : k0_chk51 i v261), ∀ (k0_h2 : k0_cond2 i = 1#1), ∀ a, (k0_off59 v261) a + S1x1024.size a ≤ S40960x1024.size a := fun i v261 k0_hw51 k0_h2 => k0_hw51 k0_h2

def k0_off60 (v266 : BitVec 32) : Fin 2 → Nat :=
  let c0_i32_286 : BitVec 32 := 0#32
  ![v266.toNat, 0]

def k0_chk52 (i : grid0.Coords) (v266 : BitVec 32) : Prop :=
  (∀ (k0_h2 : k0_cond2 i = 1#1), ∀ a, (k0_off60 v266) a + S1x1024.size a ≤ S40960x1024.size a)
theorem k0_off60_inb : ∀ (i : grid0.Coords) (v266 : BitVec 32) (k0_hw52 : k0_chk52 i v266), ∀ (k0_h2 : k0_cond2 i = 1#1), ∀ a, (k0_off60 v266) a + S1x1024.size a ≤ S40960x1024.size a := fun i v266 k0_hw52 k0_h2 => k0_hw52 k0_h2

def k0_off61 (v271 : BitVec 32) : Fin 2 → Nat :=
  let c0_i32_291 : BitVec 32 := 0#32
  ![v271.toNat, 0]

def k0_chk53 (i : grid0.Coords) (v271 : BitVec 32) : Prop :=
  (∀ (k0_h2 : k0_cond2 i = 1#1), ∀ a, (k0_off61 v271) a + S1x1024.size a ≤ S40960x1024.size a)
theorem k0_off61_inb : ∀ (i : grid0.Coords) (v271 : BitVec 32) (k0_hw53 : k0_chk53 i v271), ∀ (k0_h2 : k0_cond2 i = 1#1), ∀ a, (k0_off61 v271) a + S1x1024.size a ≤ S40960x1024.size a := fun i v271 k0_hw53 k0_h2 => k0_hw53 k0_h2

def k0_off62 (v276 : BitVec 32) : Fin 2 → Nat :=
  let c0_i32_297 : BitVec 32 := 0#32
  ![v276.toNat, 0]

def k0_chk54 (i : grid0.Coords) (v276 : BitVec 32) : Prop :=
  (∀ (k0_h2 : k0_cond2 i = 1#1), ∀ a, (k0_off62 v276) a + S1x1024.size a ≤ S40960x1024.size a)
theorem k0_off62_inb : ∀ (i : grid0.Coords) (v276 : BitVec 32) (k0_hw54 : k0_chk54 i v276), ∀ (k0_h2 : k0_cond2 i = 1#1), ∀ a, (k0_off62 v276) a + S1x1024.size a ≤ S40960x1024.size a := fun i v276 k0_hw54 k0_h2 => k0_hw54 k0_h2

def k0_off63 (v281 : BitVec 32) : Fin 2 → Nat :=
  let c0_i32_302 : BitVec 32 := 0#32
  ![v281.toNat, 0]

def k0_chk55 (i : grid0.Coords) (v281 : BitVec 32) : Prop :=
  (∀ (k0_h2 : k0_cond2 i = 1#1), ∀ a, (k0_off63 v281) a + S1x1024.size a ≤ S40960x1024.size a)
theorem k0_off63_inb : ∀ (i : grid0.Coords) (v281 : BitVec 32) (k0_hw55 : k0_chk55 i v281), ∀ (k0_h2 : k0_cond2 i = 1#1), ∀ a, (k0_off63 v281) a + S1x1024.size a ≤ S40960x1024.size a := fun i v281 k0_hw55 k0_h2 => k0_hw55 k0_h2

def k0_off64 (v286 : BitVec 32) : Fin 2 → Nat :=
  let c0_i32_308 : BitVec 32 := 0#32
  ![v286.toNat, 0]

def k0_chk56 (i : grid0.Coords) (v286 : BitVec 32) : Prop :=
  (∀ (k0_h2 : k0_cond2 i = 1#1), ∀ a, (k0_off64 v286) a + S1x1024.size a ≤ S40960x1024.size a)
theorem k0_off64_inb : ∀ (i : grid0.Coords) (v286 : BitVec 32) (k0_hw56 : k0_chk56 i v286), ∀ (k0_h2 : k0_cond2 i = 1#1), ∀ a, (k0_off64 v286) a + S1x1024.size a ≤ S40960x1024.size a := fun i v286 k0_hw56 k0_h2 => k0_hw56 k0_h2

def k0_off65 (v291 : BitVec 32) : Fin 2 → Nat :=
  let c0_i32_313 : BitVec 32 := 0#32
  ![v291.toNat, 0]

def k0_chk57 (i : grid0.Coords) (v291 : BitVec 32) : Prop :=
  (∀ (k0_h2 : k0_cond2 i = 1#1), ∀ a, (k0_off65 v291) a + S1x1024.size a ≤ S40960x1024.size a)
theorem k0_off65_inb : ∀ (i : grid0.Coords) (v291 : BitVec 32) (k0_hw57 : k0_chk57 i v291), ∀ (k0_h2 : k0_cond2 i = 1#1), ∀ a, (k0_off65 v291) a + S1x1024.size a ≤ S40960x1024.size a := fun i v291 k0_hw57 k0_h2 => k0_hw57 k0_h2

def k0_off66 (v296 : BitVec 32) : Fin 2 → Nat :=
  let c0_i32_319 : BitVec 32 := 0#32
  ![v296.toNat, 0]

def k0_chk58 (i : grid0.Coords) (v296 : BitVec 32) : Prop :=
  (∀ (k0_h2 : k0_cond2 i = 1#1), ∀ a, (k0_off66 v296) a + S1x1024.size a ≤ S40960x1024.size a)
theorem k0_off66_inb : ∀ (i : grid0.Coords) (v296 : BitVec 32) (k0_hw58 : k0_chk58 i v296), ∀ (k0_h2 : k0_cond2 i = 1#1), ∀ a, (k0_off66 v296) a + S1x1024.size a ≤ S40960x1024.size a := fun i v296 k0_hw58 k0_h2 => k0_hw58 k0_h2

def k0_off67 (v301 : BitVec 32) : Fin 2 → Nat :=
  let c0_i32_324 : BitVec 32 := 0#32
  ![v301.toNat, 0]

def k0_chk59 (i : grid0.Coords) (v301 : BitVec 32) : Prop :=
  (∀ (k0_h2 : k0_cond2 i = 1#1), ∀ a, (k0_off67 v301) a + S1x1024.size a ≤ S40960x1024.size a)
theorem k0_off67_inb : ∀ (i : grid0.Coords) (v301 : BitVec 32) (k0_hw59 : k0_chk59 i v301), ∀ (k0_h2 : k0_cond2 i = 1#1), ∀ a, (k0_off67 v301) a + S1x1024.size a ≤ S40960x1024.size a := fun i v301 k0_hw59 k0_h2 => k0_hw59 k0_h2

def k0_off68 (v306 : BitVec 32) : Fin 2 → Nat :=
  let c0_i32_330 : BitVec 32 := 0#32
  ![v306.toNat, 0]

def k0_chk60 (i : grid0.Coords) (v306 : BitVec 32) : Prop :=
  (∀ (k0_h2 : k0_cond2 i = 1#1), ∀ a, (k0_off68 v306) a + S1x1024.size a ≤ S40960x1024.size a)
theorem k0_off68_inb : ∀ (i : grid0.Coords) (v306 : BitVec 32) (k0_hw60 : k0_chk60 i v306), ∀ (k0_h2 : k0_cond2 i = 1#1), ∀ a, (k0_off68 v306) a + S1x1024.size a ≤ S40960x1024.size a := fun i v306 k0_hw60 k0_h2 => k0_hw60 k0_h2

def k0_off69 (v311 : BitVec 32) : Fin 2 → Nat :=
  let c0_i32_335 : BitVec 32 := 0#32
  ![v311.toNat, 0]

def k0_chk61 (i : grid0.Coords) (v311 : BitVec 32) : Prop :=
  (∀ (k0_h2 : k0_cond2 i = 1#1), ∀ a, (k0_off69 v311) a + S1x1024.size a ≤ S40960x1024.size a)
theorem k0_off69_inb : ∀ (i : grid0.Coords) (v311 : BitVec 32) (k0_hw61 : k0_chk61 i v311), ∀ (k0_h2 : k0_cond2 i = 1#1), ∀ a, (k0_off69 v311) a + S1x1024.size a ≤ S40960x1024.size a := fun i v311 k0_hw61 k0_h2 => k0_hw61 k0_h2

def k0_off70 (v316 : BitVec 32) : Fin 2 → Nat :=
  let c0_i32_341 : BitVec 32 := 0#32
  ![v316.toNat, 0]

def k0_chk62 (i : grid0.Coords) (v316 : BitVec 32) : Prop :=
  (∀ (k0_h2 : k0_cond2 i = 1#1), ∀ a, (k0_off70 v316) a + S1x1024.size a ≤ S40960x1024.size a)
theorem k0_off70_inb : ∀ (i : grid0.Coords) (v316 : BitVec 32) (k0_hw62 : k0_chk62 i v316), ∀ (k0_h2 : k0_cond2 i = 1#1), ∀ a, (k0_off70 v316) a + S1x1024.size a ≤ S40960x1024.size a := fun i v316 k0_hw62 k0_h2 => k0_hw62 k0_h2

def k0_off71 (v321 : BitVec 32) : Fin 2 → Nat :=
  let c0_i32_346 : BitVec 32 := 0#32
  ![v321.toNat, 0]

def k0_chk63 (i : grid0.Coords) (v321 : BitVec 32) : Prop :=
  (∀ (k0_h2 : k0_cond2 i = 1#1), ∀ a, (k0_off71 v321) a + S1x1024.size a ≤ S40960x1024.size a)
theorem k0_off71_inb : ∀ (i : grid0.Coords) (v321 : BitVec 32) (k0_hw63 : k0_chk63 i v321), ∀ (k0_h2 : k0_cond2 i = 1#1), ∀ a, (k0_off71 v321) a + S1x1024.size a ≤ S40960x1024.size a := fun i v321 k0_hw63 k0_h2 => k0_hw63 k0_h2

def k0_off72 (v326 : BitVec 32) : Fin 2 → Nat :=
  let c0_i32_352 : BitVec 32 := 0#32
  ![v326.toNat, 0]

def k0_chk64 (i : grid0.Coords) (v326 : BitVec 32) : Prop :=
  (∀ (k0_h2 : k0_cond2 i = 1#1), ∀ a, (k0_off72 v326) a + S1x1024.size a ≤ S40960x1024.size a)
theorem k0_off72_inb : ∀ (i : grid0.Coords) (v326 : BitVec 32) (k0_hw64 : k0_chk64 i v326), ∀ (k0_h2 : k0_cond2 i = 1#1), ∀ a, (k0_off72 v326) a + S1x1024.size a ≤ S40960x1024.size a := fun i v326 k0_hw64 k0_h2 => k0_hw64 k0_h2

def k0_off73 (v331 : BitVec 32) : Fin 2 → Nat :=
  let c0_i32_357 : BitVec 32 := 0#32
  ![v331.toNat, 0]

def k0_chk65 (i : grid0.Coords) (v331 : BitVec 32) : Prop :=
  (∀ (k0_h2 : k0_cond2 i = 1#1), ∀ a, (k0_off73 v331) a + S1x1024.size a ≤ S40960x1024.size a)
theorem k0_off73_inb : ∀ (i : grid0.Coords) (v331 : BitVec 32) (k0_hw65 : k0_chk65 i v331), ∀ (k0_h2 : k0_cond2 i = 1#1), ∀ a, (k0_off73 v331) a + S1x1024.size a ≤ S40960x1024.size a := fun i v331 k0_hw65 k0_h2 => k0_hw65 k0_h2

def k0_off74 (v336 : BitVec 32) : Fin 2 → Nat :=
  let c0_i32_363 : BitVec 32 := 0#32
  ![v336.toNat, 0]

def k0_chk66 (i : grid0.Coords) (v336 : BitVec 32) : Prop :=
  (∀ (k0_h2 : k0_cond2 i = 1#1), ∀ a, (k0_off74 v336) a + S1x1024.size a ≤ S40960x1024.size a)
theorem k0_off74_inb : ∀ (i : grid0.Coords) (v336 : BitVec 32) (k0_hw66 : k0_chk66 i v336), ∀ (k0_h2 : k0_cond2 i = 1#1), ∀ a, (k0_off74 v336) a + S1x1024.size a ≤ S40960x1024.size a := fun i v336 k0_hw66 k0_h2 => k0_hw66 k0_h2

def k0_off75 (v341 : BitVec 32) : Fin 2 → Nat :=
  let c0_i32_368 : BitVec 32 := 0#32
  ![v341.toNat, 0]

def k0_chk67 (i : grid0.Coords) (v341 : BitVec 32) : Prop :=
  (∀ (k0_h2 : k0_cond2 i = 1#1), ∀ a, (k0_off75 v341) a + S1x1024.size a ≤ S40960x1024.size a)
theorem k0_off75_inb : ∀ (i : grid0.Coords) (v341 : BitVec 32) (k0_hw67 : k0_chk67 i v341), ∀ (k0_h2 : k0_cond2 i = 1#1), ∀ a, (k0_off75 v341) a + S1x1024.size a ≤ S40960x1024.size a := fun i v341 k0_hw67 k0_h2 => k0_hw67 k0_h2

def k0_off76 (v346 : BitVec 32) : Fin 2 → Nat :=
  let c0_i32_374 : BitVec 32 := 0#32
  ![v346.toNat, 0]

def k0_chk68 (i : grid0.Coords) (v346 : BitVec 32) : Prop :=
  (∀ (k0_h2 : k0_cond2 i = 1#1), ∀ a, (k0_off76 v346) a + S1x1024.size a ≤ S40960x1024.size a)
theorem k0_off76_inb : ∀ (i : grid0.Coords) (v346 : BitVec 32) (k0_hw68 : k0_chk68 i v346), ∀ (k0_h2 : k0_cond2 i = 1#1), ∀ a, (k0_off76 v346) a + S1x1024.size a ≤ S40960x1024.size a := fun i v346 k0_hw68 k0_h2 => k0_hw68 k0_h2

def k0_off77 (v351 : BitVec 32) : Fin 2 → Nat :=
  let c0_i32_379 : BitVec 32 := 0#32
  ![v351.toNat, 0]

def k0_chk69 (i : grid0.Coords) (v351 : BitVec 32) : Prop :=
  (∀ (k0_h2 : k0_cond2 i = 1#1), ∀ a, (k0_off77 v351) a + S1x1024.size a ≤ S40960x1024.size a)
theorem k0_off77_inb : ∀ (i : grid0.Coords) (v351 : BitVec 32) (k0_hw69 : k0_chk69 i v351), ∀ (k0_h2 : k0_cond2 i = 1#1), ∀ a, (k0_off77 v351) a + S1x1024.size a ≤ S40960x1024.size a := fun i v351 k0_hw69 k0_h2 => k0_hw69 k0_h2

def k0_off78 (v356 : BitVec 32) : Fin 2 → Nat :=
  let c0_i32_385 : BitVec 32 := 0#32
  ![v356.toNat, 0]

def k0_chk70 (i : grid0.Coords) (v356 : BitVec 32) : Prop :=
  (∀ (k0_h2 : k0_cond2 i = 1#1), ∀ a, (k0_off78 v356) a + S1x1024.size a ≤ S40960x1024.size a)
theorem k0_off78_inb : ∀ (i : grid0.Coords) (v356 : BitVec 32) (k0_hw70 : k0_chk70 i v356), ∀ (k0_h2 : k0_cond2 i = 1#1), ∀ a, (k0_off78 v356) a + S1x1024.size a ≤ S40960x1024.size a := fun i v356 k0_hw70 k0_h2 => k0_hw70 k0_h2

def k0_off79 (v361 : BitVec 32) : Fin 2 → Nat :=
  let c0_i32_390 : BitVec 32 := 0#32
  ![v361.toNat, 0]

def k0_chk71 (i : grid0.Coords) (v361 : BitVec 32) : Prop :=
  (∀ (k0_h2 : k0_cond2 i = 1#1), ∀ a, (k0_off79 v361) a + S1x1024.size a ≤ S40960x1024.size a)
theorem k0_off79_inb : ∀ (i : grid0.Coords) (v361 : BitVec 32) (k0_hw71 : k0_chk71 i v361), ∀ (k0_h2 : k0_cond2 i = 1#1), ∀ a, (k0_off79 v361) a + S1x1024.size a ≤ S40960x1024.size a := fun i v361 k0_hw71 k0_h2 => k0_hw71 k0_h2

def k0_off80 (v366 : BitVec 32) : Fin 2 → Nat :=
  let c0_i32_396 : BitVec 32 := 0#32
  ![v366.toNat, 0]

def k0_chk72 (i : grid0.Coords) (v366 : BitVec 32) : Prop :=
  (∀ (k0_h2 : k0_cond2 i = 1#1), ∀ a, (k0_off80 v366) a + S1x1024.size a ≤ S40960x1024.size a)
theorem k0_off80_inb : ∀ (i : grid0.Coords) (v366 : BitVec 32) (k0_hw72 : k0_chk72 i v366), ∀ (k0_h2 : k0_cond2 i = 1#1), ∀ a, (k0_off80 v366) a + S1x1024.size a ≤ S40960x1024.size a := fun i v366 k0_hw72 k0_h2 => k0_hw72 k0_h2

def k0_off81 (v371 : BitVec 32) : Fin 2 → Nat :=
  let c0_i32_401 : BitVec 32 := 0#32
  ![v371.toNat, 0]

def k0_chk73 (i : grid0.Coords) (v371 : BitVec 32) : Prop :=
  (∀ (k0_h2 : k0_cond2 i = 1#1), ∀ a, (k0_off81 v371) a + S1x1024.size a ≤ S40960x1024.size a)
theorem k0_off81_inb : ∀ (i : grid0.Coords) (v371 : BitVec 32) (k0_hw73 : k0_chk73 i v371), ∀ (k0_h2 : k0_cond2 i = 1#1), ∀ a, (k0_off81 v371) a + S1x1024.size a ≤ S40960x1024.size a := fun i v371 k0_hw73 k0_h2 => k0_hw73 k0_h2

def k0_off82 (v376 : BitVec 32) : Fin 2 → Nat :=
  let c0_i32_407 : BitVec 32 := 0#32
  ![v376.toNat, 0]

def k0_chk74 (i : grid0.Coords) (v376 : BitVec 32) : Prop :=
  (∀ (k0_h2 : k0_cond2 i = 1#1), ∀ a, (k0_off82 v376) a + S1x1024.size a ≤ S40960x1024.size a)
theorem k0_off82_inb : ∀ (i : grid0.Coords) (v376 : BitVec 32) (k0_hw74 : k0_chk74 i v376), ∀ (k0_h2 : k0_cond2 i = 1#1), ∀ a, (k0_off82 v376) a + S1x1024.size a ≤ S40960x1024.size a := fun i v376 k0_hw74 k0_h2 => k0_hw74 k0_h2

def k0_off83 (v381 : BitVec 32) : Fin 2 → Nat :=
  let c0_i32_412 : BitVec 32 := 0#32
  ![v381.toNat, 0]

def k0_chk75 (i : grid0.Coords) (v381 : BitVec 32) : Prop :=
  (∀ (k0_h2 : k0_cond2 i = 1#1), ∀ a, (k0_off83 v381) a + S1x1024.size a ≤ S40960x1024.size a)
theorem k0_off83_inb : ∀ (i : grid0.Coords) (v381 : BitVec 32) (k0_hw75 : k0_chk75 i v381), ∀ (k0_h2 : k0_cond2 i = 1#1), ∀ a, (k0_off83 v381) a + S1x1024.size a ≤ S40960x1024.size a := fun i v381 k0_hw75 k0_h2 => k0_hw75 k0_h2

def k0_off84 (v386 : BitVec 32) : Fin 2 → Nat :=
  let c0_i32_418 : BitVec 32 := 0#32
  ![v386.toNat, 0]

def k0_chk76 (i : grid0.Coords) (v386 : BitVec 32) : Prop :=
  (∀ (k0_h2 : k0_cond2 i = 1#1), ∀ a, (k0_off84 v386) a + S1x1024.size a ≤ S40960x1024.size a)
theorem k0_off84_inb : ∀ (i : grid0.Coords) (v386 : BitVec 32) (k0_hw76 : k0_chk76 i v386), ∀ (k0_h2 : k0_cond2 i = 1#1), ∀ a, (k0_off84 v386) a + S1x1024.size a ≤ S40960x1024.size a := fun i v386 k0_hw76 k0_h2 => k0_hw76 k0_h2

def k0_off85 (v391 : BitVec 32) : Fin 2 → Nat :=
  let c0_i32_423 : BitVec 32 := 0#32
  ![v391.toNat, 0]

def k0_chk77 (i : grid0.Coords) (v391 : BitVec 32) : Prop :=
  (∀ (k0_h2 : k0_cond2 i = 1#1), ∀ a, (k0_off85 v391) a + S1x1024.size a ≤ S40960x1024.size a)
theorem k0_off85_inb : ∀ (i : grid0.Coords) (v391 : BitVec 32) (k0_hw77 : k0_chk77 i v391), ∀ (k0_h2 : k0_cond2 i = 1#1), ∀ a, (k0_off85 v391) a + S1x1024.size a ≤ S40960x1024.size a := fun i v391 k0_hw77 k0_h2 => k0_hw77 k0_h2

def k0_off86 (v396 : BitVec 32) : Fin 2 → Nat :=
  let c0_i32_429 : BitVec 32 := 0#32
  ![v396.toNat, 0]

def k0_chk78 (i : grid0.Coords) (v396 : BitVec 32) : Prop :=
  (∀ (k0_h2 : k0_cond2 i = 1#1), ∀ a, (k0_off86 v396) a + S1x1024.size a ≤ S40960x1024.size a)
theorem k0_off86_inb : ∀ (i : grid0.Coords) (v396 : BitVec 32) (k0_hw78 : k0_chk78 i v396), ∀ (k0_h2 : k0_cond2 i = 1#1), ∀ a, (k0_off86 v396) a + S1x1024.size a ≤ S40960x1024.size a := fun i v396 k0_hw78 k0_h2 => k0_hw78 k0_h2

def k0_off87 (v401 : BitVec 32) : Fin 2 → Nat :=
  let c0_i32_434 : BitVec 32 := 0#32
  ![v401.toNat, 0]

def k0_chk79 (i : grid0.Coords) (v401 : BitVec 32) : Prop :=
  (∀ (k0_h2 : k0_cond2 i = 1#1), ∀ a, (k0_off87 v401) a + S1x1024.size a ≤ S40960x1024.size a)
theorem k0_off87_inb : ∀ (i : grid0.Coords) (v401 : BitVec 32) (k0_hw79 : k0_chk79 i v401), ∀ (k0_h2 : k0_cond2 i = 1#1), ∀ a, (k0_off87 v401) a + S1x1024.size a ≤ S40960x1024.size a := fun i v401 k0_hw79 k0_h2 => k0_hw79 k0_h2

def k0_off88 (v406 : BitVec 32) : Fin 2 → Nat :=
  let c0_i32_440 : BitVec 32 := 0#32
  ![v406.toNat, 0]

def k0_chk80 (i : grid0.Coords) (v406 : BitVec 32) : Prop :=
  (∀ (k0_h2 : k0_cond2 i = 1#1), ∀ a, (k0_off88 v406) a + S1x1024.size a ≤ S40960x1024.size a)
theorem k0_off88_inb : ∀ (i : grid0.Coords) (v406 : BitVec 32) (k0_hw80 : k0_chk80 i v406), ∀ (k0_h2 : k0_cond2 i = 1#1), ∀ a, (k0_off88 v406) a + S1x1024.size a ≤ S40960x1024.size a := fun i v406 k0_hw80 k0_h2 => k0_hw80 k0_h2

def k0_off89 (v411 : BitVec 32) : Fin 2 → Nat :=
  let c0_i32_445 : BitVec 32 := 0#32
  ![v411.toNat, 0]

def k0_chk81 (i : grid0.Coords) (v411 : BitVec 32) : Prop :=
  (∀ (k0_h2 : k0_cond2 i = 1#1), ∀ a, (k0_off89 v411) a + S1x1024.size a ≤ S40960x1024.size a)
theorem k0_off89_inb : ∀ (i : grid0.Coords) (v411 : BitVec 32) (k0_hw81 : k0_chk81 i v411), ∀ (k0_h2 : k0_cond2 i = 1#1), ∀ a, (k0_off89 v411) a + S1x1024.size a ≤ S40960x1024.size a := fun i v411 k0_hw81 k0_h2 => k0_hw81 k0_h2

def k0_off90 (v416 : BitVec 32) : Fin 2 → Nat :=
  let c0_i32_451 : BitVec 32 := 0#32
  ![v416.toNat, 0]

def k0_chk82 (i : grid0.Coords) (v416 : BitVec 32) : Prop :=
  (∀ (k0_h2 : k0_cond2 i = 1#1), ∀ a, (k0_off90 v416) a + S1x1024.size a ≤ S40960x1024.size a)
theorem k0_off90_inb : ∀ (i : grid0.Coords) (v416 : BitVec 32) (k0_hw82 : k0_chk82 i v416), ∀ (k0_h2 : k0_cond2 i = 1#1), ∀ a, (k0_off90 v416) a + S1x1024.size a ≤ S40960x1024.size a := fun i v416 k0_hw82 k0_h2 => k0_hw82 k0_h2

def k0_off91 (v421 : BitVec 32) : Fin 2 → Nat :=
  let c0_i32_456 : BitVec 32 := 0#32
  ![v421.toNat, 0]

def k0_chk83 (i : grid0.Coords) (v421 : BitVec 32) : Prop :=
  (∀ (k0_h2 : k0_cond2 i = 1#1), ∀ a, (k0_off91 v421) a + S1x1024.size a ≤ S40960x1024.size a)
theorem k0_off91_inb : ∀ (i : grid0.Coords) (v421 : BitVec 32) (k0_hw83 : k0_chk83 i v421), ∀ (k0_h2 : k0_cond2 i = 1#1), ∀ a, (k0_off91 v421) a + S1x1024.size a ≤ S40960x1024.size a := fun i v421 k0_hw83 k0_h2 => k0_hw83 k0_h2

def k0_off92 (v426 : BitVec 32) : Fin 2 → Nat :=
  let c0_i32_462 : BitVec 32 := 0#32
  ![v426.toNat, 0]

def k0_chk84 (i : grid0.Coords) (v426 : BitVec 32) : Prop :=
  (∀ (k0_h2 : k0_cond2 i = 1#1), ∀ a, (k0_off92 v426) a + S1x1024.size a ≤ S40960x1024.size a)
theorem k0_off92_inb : ∀ (i : grid0.Coords) (v426 : BitVec 32) (k0_hw84 : k0_chk84 i v426), ∀ (k0_h2 : k0_cond2 i = 1#1), ∀ a, (k0_off92 v426) a + S1x1024.size a ≤ S40960x1024.size a := fun i v426 k0_hw84 k0_h2 => k0_hw84 k0_h2

def k0_off93 (v431 : BitVec 32) : Fin 2 → Nat :=
  let c0_i32_467 : BitVec 32 := 0#32
  ![v431.toNat, 0]

def k0_chk85 (i : grid0.Coords) (v431 : BitVec 32) : Prop :=
  (∀ (k0_h2 : k0_cond2 i = 1#1), ∀ a, (k0_off93 v431) a + S1x1024.size a ≤ S40960x1024.size a)
theorem k0_off93_inb : ∀ (i : grid0.Coords) (v431 : BitVec 32) (k0_hw85 : k0_chk85 i v431), ∀ (k0_h2 : k0_cond2 i = 1#1), ∀ a, (k0_off93 v431) a + S1x1024.size a ≤ S40960x1024.size a := fun i v431 k0_hw85 k0_h2 => k0_hw85 k0_h2

def k0_off94 (v436 : BitVec 32) : Fin 2 → Nat :=
  let c0_i32_473 : BitVec 32 := 0#32
  ![v436.toNat, 0]

def k0_chk86 (i : grid0.Coords) (v436 : BitVec 32) : Prop :=
  (∀ (k0_h2 : k0_cond2 i = 1#1), ∀ a, (k0_off94 v436) a + S1x1024.size a ≤ S40960x1024.size a)
theorem k0_off94_inb : ∀ (i : grid0.Coords) (v436 : BitVec 32) (k0_hw86 : k0_chk86 i v436), ∀ (k0_h2 : k0_cond2 i = 1#1), ∀ a, (k0_off94 v436) a + S1x1024.size a ≤ S40960x1024.size a := fun i v436 k0_hw86 k0_h2 => k0_hw86 k0_h2

def k0_off95 (v441 : BitVec 32) : Fin 2 → Nat :=
  let c0_i32_478 : BitVec 32 := 0#32
  ![v441.toNat, 0]

def k0_chk87 (i : grid0.Coords) (v441 : BitVec 32) : Prop :=
  (∀ (k0_h2 : k0_cond2 i = 1#1), ∀ a, (k0_off95 v441) a + S1x1024.size a ≤ S40960x1024.size a)
theorem k0_off95_inb : ∀ (i : grid0.Coords) (v441 : BitVec 32) (k0_hw87 : k0_chk87 i v441), ∀ (k0_h2 : k0_cond2 i = 1#1), ∀ a, (k0_off95 v441) a + S1x1024.size a ≤ S40960x1024.size a := fun i v441 k0_hw87 k0_h2 => k0_hw87 k0_h2

def k0_off96 (v446 : BitVec 32) : Fin 2 → Nat :=
  let c0_i32_484 : BitVec 32 := 0#32
  ![v446.toNat, 0]

def k0_chk88 (i : grid0.Coords) (v446 : BitVec 32) : Prop :=
  (∀ (k0_h2 : k0_cond2 i = 1#1), ∀ a, (k0_off96 v446) a + S1x1024.size a ≤ S40960x1024.size a)
theorem k0_off96_inb : ∀ (i : grid0.Coords) (v446 : BitVec 32) (k0_hw88 : k0_chk88 i v446), ∀ (k0_h2 : k0_cond2 i = 1#1), ∀ a, (k0_off96 v446) a + S1x1024.size a ≤ S40960x1024.size a := fun i v446 k0_hw88 k0_h2 => k0_hw88 k0_h2

def k0_off97 (v451 : BitVec 32) : Fin 2 → Nat :=
  let c0_i32_489 : BitVec 32 := 0#32
  ![v451.toNat, 0]

def k0_chk89 (i : grid0.Coords) (v451 : BitVec 32) : Prop :=
  (∀ (k0_h2 : k0_cond2 i = 1#1), ∀ a, (k0_off97 v451) a + S1x1024.size a ≤ S40960x1024.size a)
theorem k0_off97_inb : ∀ (i : grid0.Coords) (v451 : BitVec 32) (k0_hw89 : k0_chk89 i v451), ∀ (k0_h2 : k0_cond2 i = 1#1), ∀ a, (k0_off97 v451) a + S1x1024.size a ≤ S40960x1024.size a := fun i v451 k0_hw89 k0_h2 => k0_hw89 k0_h2

def k0_off98 (v456 : BitVec 32) : Fin 2 → Nat :=
  let c0_i32_495 : BitVec 32 := 0#32
  ![v456.toNat, 0]

def k0_chk90 (i : grid0.Coords) (v456 : BitVec 32) : Prop :=
  (∀ (k0_h2 : k0_cond2 i = 1#1), ∀ a, (k0_off98 v456) a + S1x1024.size a ≤ S40960x1024.size a)
theorem k0_off98_inb : ∀ (i : grid0.Coords) (v456 : BitVec 32) (k0_hw90 : k0_chk90 i v456), ∀ (k0_h2 : k0_cond2 i = 1#1), ∀ a, (k0_off98 v456) a + S1x1024.size a ≤ S40960x1024.size a := fun i v456 k0_hw90 k0_h2 => k0_hw90 k0_h2

def k0_off99 (v461 : BitVec 32) : Fin 2 → Nat :=
  let c0_i32_500 : BitVec 32 := 0#32
  ![v461.toNat, 0]

def k0_chk91 (i : grid0.Coords) (v461 : BitVec 32) : Prop :=
  (∀ (k0_h2 : k0_cond2 i = 1#1), ∀ a, (k0_off99 v461) a + S1x1024.size a ≤ S40960x1024.size a)
theorem k0_off99_inb : ∀ (i : grid0.Coords) (v461 : BitVec 32) (k0_hw91 : k0_chk91 i v461), ∀ (k0_h2 : k0_cond2 i = 1#1), ∀ a, (k0_off99 v461) a + S1x1024.size a ≤ S40960x1024.size a := fun i v461 k0_hw91 k0_h2 => k0_hw91 k0_h2

def k0_off100 (v466 : BitVec 32) : Fin 2 → Nat :=
  let c0_i32_506 : BitVec 32 := 0#32
  ![v466.toNat, 0]

def k0_chk92 (i : grid0.Coords) (v466 : BitVec 32) : Prop :=
  (∀ (k0_h2 : k0_cond2 i = 1#1), ∀ a, (k0_off100 v466) a + S1x1024.size a ≤ S40960x1024.size a)
theorem k0_off100_inb : ∀ (i : grid0.Coords) (v466 : BitVec 32) (k0_hw92 : k0_chk92 i v466), ∀ (k0_h2 : k0_cond2 i = 1#1), ∀ a, (k0_off100 v466) a + S1x1024.size a ≤ S40960x1024.size a := fun i v466 k0_hw92 k0_h2 => k0_hw92 k0_h2

def k0_off101 (v471 : BitVec 32) : Fin 2 → Nat :=
  let c0_i32_511 : BitVec 32 := 0#32
  ![v471.toNat, 0]

def k0_chk93 (i : grid0.Coords) (v471 : BitVec 32) : Prop :=
  (∀ (k0_h2 : k0_cond2 i = 1#1), ∀ a, (k0_off101 v471) a + S1x1024.size a ≤ S40960x1024.size a)
theorem k0_off101_inb : ∀ (i : grid0.Coords) (v471 : BitVec 32) (k0_hw93 : k0_chk93 i v471), ∀ (k0_h2 : k0_cond2 i = 1#1), ∀ a, (k0_off101 v471) a + S1x1024.size a ≤ S40960x1024.size a := fun i v471 k0_hw93 k0_h2 => k0_hw93 k0_h2

def k0_off102 (v476 : BitVec 32) : Fin 2 → Nat :=
  let c0_i32_517 : BitVec 32 := 0#32
  ![v476.toNat, 0]

def k0_chk94 (i : grid0.Coords) (v476 : BitVec 32) : Prop :=
  (∀ (k0_h2 : k0_cond2 i = 1#1), ∀ a, (k0_off102 v476) a + S1x1024.size a ≤ S40960x1024.size a)
theorem k0_off102_inb : ∀ (i : grid0.Coords) (v476 : BitVec 32) (k0_hw94 : k0_chk94 i v476), ∀ (k0_h2 : k0_cond2 i = 1#1), ∀ a, (k0_off102 v476) a + S1x1024.size a ≤ S40960x1024.size a := fun i v476 k0_hw94 k0_h2 => k0_hw94 k0_h2

def k0_off103 (v481 : BitVec 32) : Fin 2 → Nat :=
  let c0_i32_522 : BitVec 32 := 0#32
  ![v481.toNat, 0]

def k0_chk95 (i : grid0.Coords) (v481 : BitVec 32) : Prop :=
  (∀ (k0_h2 : k0_cond2 i = 1#1), ∀ a, (k0_off103 v481) a + S1x1024.size a ≤ S40960x1024.size a)
theorem k0_off103_inb : ∀ (i : grid0.Coords) (v481 : BitVec 32) (k0_hw95 : k0_chk95 i v481), ∀ (k0_h2 : k0_cond2 i = 1#1), ∀ a, (k0_off103 v481) a + S1x1024.size a ≤ S40960x1024.size a := fun i v481 k0_hw95 k0_h2 => k0_hw95 k0_h2

def k0_off104 (v486 : BitVec 32) : Fin 2 → Nat :=
  let c0_i32_528 : BitVec 32 := 0#32
  ![v486.toNat, 0]

def k0_chk96 (i : grid0.Coords) (v486 : BitVec 32) : Prop :=
  (∀ (k0_h2 : k0_cond2 i = 1#1), ∀ a, (k0_off104 v486) a + S1x1024.size a ≤ S40960x1024.size a)
theorem k0_off104_inb : ∀ (i : grid0.Coords) (v486 : BitVec 32) (k0_hw96 : k0_chk96 i v486), ∀ (k0_h2 : k0_cond2 i = 1#1), ∀ a, (k0_off104 v486) a + S1x1024.size a ≤ S40960x1024.size a := fun i v486 k0_hw96 k0_h2 => k0_hw96 k0_h2

def k0_off105 (v491 : BitVec 32) : Fin 2 → Nat :=
  let c0_i32_533 : BitVec 32 := 0#32
  ![v491.toNat, 0]

def k0_chk97 (i : grid0.Coords) (v491 : BitVec 32) : Prop :=
  (∀ (k0_h2 : k0_cond2 i = 1#1), ∀ a, (k0_off105 v491) a + S1x1024.size a ≤ S40960x1024.size a)
theorem k0_off105_inb : ∀ (i : grid0.Coords) (v491 : BitVec 32) (k0_hw97 : k0_chk97 i v491), ∀ (k0_h2 : k0_cond2 i = 1#1), ∀ a, (k0_off105 v491) a + S1x1024.size a ≤ S40960x1024.size a := fun i v491 k0_hw97 k0_h2 => k0_hw97 k0_h2

def k0_off106 (v496 : BitVec 32) : Fin 2 → Nat :=
  let c0_i32_539 : BitVec 32 := 0#32
  ![v496.toNat, 0]

def k0_chk98 (i : grid0.Coords) (v496 : BitVec 32) : Prop :=
  (∀ (k0_h2 : k0_cond2 i = 1#1), ∀ a, (k0_off106 v496) a + S1x1024.size a ≤ S40960x1024.size a)
theorem k0_off106_inb : ∀ (i : grid0.Coords) (v496 : BitVec 32) (k0_hw98 : k0_chk98 i v496), ∀ (k0_h2 : k0_cond2 i = 1#1), ∀ a, (k0_off106 v496) a + S1x1024.size a ≤ S40960x1024.size a := fun i v496 k0_hw98 k0_h2 => k0_hw98 k0_h2

def k0_off107 (v501 : BitVec 32) : Fin 2 → Nat :=
  let c0_i32_544 : BitVec 32 := 0#32
  ![v501.toNat, 0]

def k0_chk99 (i : grid0.Coords) (v501 : BitVec 32) : Prop :=
  (∀ (k0_h2 : k0_cond2 i = 1#1), ∀ a, (k0_off107 v501) a + S1x1024.size a ≤ S40960x1024.size a)
theorem k0_off107_inb : ∀ (i : grid0.Coords) (v501 : BitVec 32) (k0_hw99 : k0_chk99 i v501), ∀ (k0_h2 : k0_cond2 i = 1#1), ∀ a, (k0_off107 v501) a + S1x1024.size a ≤ S40960x1024.size a := fun i v501 k0_hw99 k0_h2 => k0_hw99 k0_h2

def k0_off108 (v506 : BitVec 32) : Fin 2 → Nat :=
  let c0_i32_550 : BitVec 32 := 0#32
  ![v506.toNat, 0]

def k0_chk100 (i : grid0.Coords) (v506 : BitVec 32) : Prop :=
  (∀ (k0_h2 : k0_cond2 i = 1#1), ∀ a, (k0_off108 v506) a + S1x1024.size a ≤ S40960x1024.size a)
theorem k0_off108_inb : ∀ (i : grid0.Coords) (v506 : BitVec 32) (k0_hw100 : k0_chk100 i v506), ∀ (k0_h2 : k0_cond2 i = 1#1), ∀ a, (k0_off108 v506) a + S1x1024.size a ≤ S40960x1024.size a := fun i v506 k0_hw100 k0_h2 => k0_hw100 k0_h2

def k0_off109 (v511 : BitVec 32) : Fin 2 → Nat :=
  let c0_i32_555 : BitVec 32 := 0#32
  ![v511.toNat, 0]

def k0_chk101 (i : grid0.Coords) (v511 : BitVec 32) : Prop :=
  (∀ (k0_h2 : k0_cond2 i = 1#1), ∀ a, (k0_off109 v511) a + S1x1024.size a ≤ S40960x1024.size a)
theorem k0_off109_inb : ∀ (i : grid0.Coords) (v511 : BitVec 32) (k0_hw101 : k0_chk101 i v511), ∀ (k0_h2 : k0_cond2 i = 1#1), ∀ a, (k0_off109 v511) a + S1x1024.size a ≤ S40960x1024.size a := fun i v511 k0_hw101 k0_h2 => k0_hw101 k0_h2

def k0_off110 (v516 : BitVec 32) : Fin 2 → Nat :=
  let c0_i32_561 : BitVec 32 := 0#32
  ![v516.toNat, 0]

def k0_chk102 (i : grid0.Coords) (v516 : BitVec 32) : Prop :=
  (∀ (k0_h2 : k0_cond2 i = 1#1), ∀ a, (k0_off110 v516) a + S1x1024.size a ≤ S40960x1024.size a)
theorem k0_off110_inb : ∀ (i : grid0.Coords) (v516 : BitVec 32) (k0_hw102 : k0_chk102 i v516), ∀ (k0_h2 : k0_cond2 i = 1#1), ∀ a, (k0_off110 v516) a + S1x1024.size a ≤ S40960x1024.size a := fun i v516 k0_hw102 k0_h2 => k0_hw102 k0_h2

def k0_off111 (v521 : BitVec 32) : Fin 2 → Nat :=
  let c0_i32_566 : BitVec 32 := 0#32
  ![v521.toNat, 0]

def k0_chk103 (i : grid0.Coords) (v521 : BitVec 32) : Prop :=
  (∀ (k0_h2 : k0_cond2 i = 1#1), ∀ a, (k0_off111 v521) a + S1x1024.size a ≤ S40960x1024.size a)
theorem k0_off111_inb : ∀ (i : grid0.Coords) (v521 : BitVec 32) (k0_hw103 : k0_chk103 i v521), ∀ (k0_h2 : k0_cond2 i = 1#1), ∀ a, (k0_off111 v521) a + S1x1024.size a ≤ S40960x1024.size a := fun i v521 k0_hw103 k0_h2 => k0_hw103 k0_h2

def k0_off112 (v526 : BitVec 32) : Fin 2 → Nat :=
  let c0_i32_572 : BitVec 32 := 0#32
  ![v526.toNat, 0]

def k0_chk104 (i : grid0.Coords) (v526 : BitVec 32) : Prop :=
  (∀ (k0_h2 : k0_cond2 i = 1#1), ∀ a, (k0_off112 v526) a + S1x1024.size a ≤ S40960x1024.size a)
theorem k0_off112_inb : ∀ (i : grid0.Coords) (v526 : BitVec 32) (k0_hw104 : k0_chk104 i v526), ∀ (k0_h2 : k0_cond2 i = 1#1), ∀ a, (k0_off112 v526) a + S1x1024.size a ≤ S40960x1024.size a := fun i v526 k0_hw104 k0_h2 => k0_hw104 k0_h2

def k0_off113 (v531 : BitVec 32) : Fin 2 → Nat :=
  let c0_i32_577 : BitVec 32 := 0#32
  ![v531.toNat, 0]

def k0_chk105 (i : grid0.Coords) (v531 : BitVec 32) : Prop :=
  (∀ (k0_h2 : k0_cond2 i = 1#1), ∀ a, (k0_off113 v531) a + S1x1024.size a ≤ S40960x1024.size a)
theorem k0_off113_inb : ∀ (i : grid0.Coords) (v531 : BitVec 32) (k0_hw105 : k0_chk105 i v531), ∀ (k0_h2 : k0_cond2 i = 1#1), ∀ a, (k0_off113 v531) a + S1x1024.size a ≤ S40960x1024.size a := fun i v531 k0_hw105 k0_h2 => k0_hw105 k0_h2

def k0_off114 (v536 : BitVec 32) : Fin 2 → Nat :=
  let c0_i32_583 : BitVec 32 := 0#32
  ![v536.toNat, 0]

def k0_chk106 (i : grid0.Coords) (v536 : BitVec 32) : Prop :=
  (∀ (k0_h2 : k0_cond2 i = 1#1), ∀ a, (k0_off114 v536) a + S1x1024.size a ≤ S40960x1024.size a)
theorem k0_off114_inb : ∀ (i : grid0.Coords) (v536 : BitVec 32) (k0_hw106 : k0_chk106 i v536), ∀ (k0_h2 : k0_cond2 i = 1#1), ∀ a, (k0_off114 v536) a + S1x1024.size a ≤ S40960x1024.size a := fun i v536 k0_hw106 k0_h2 => k0_hw106 k0_h2

def k0_off115 (v541 : BitVec 32) : Fin 2 → Nat :=
  let c0_i32_588 : BitVec 32 := 0#32
  ![v541.toNat, 0]

def k0_chk107 (i : grid0.Coords) (v541 : BitVec 32) : Prop :=
  (∀ (k0_h2 : k0_cond2 i = 1#1), ∀ a, (k0_off115 v541) a + S1x1024.size a ≤ S40960x1024.size a)
theorem k0_off115_inb : ∀ (i : grid0.Coords) (v541 : BitVec 32) (k0_hw107 : k0_chk107 i v541), ∀ (k0_h2 : k0_cond2 i = 1#1), ∀ a, (k0_off115 v541) a + S1x1024.size a ≤ S40960x1024.size a := fun i v541 k0_hw107 k0_h2 => k0_hw107 k0_h2

def k0_off116 (v546 : BitVec 32) : Fin 2 → Nat :=
  let c0_i32_594 : BitVec 32 := 0#32
  ![v546.toNat, 0]

def k0_chk108 (i : grid0.Coords) (v546 : BitVec 32) : Prop :=
  (∀ (k0_h2 : k0_cond2 i = 1#1), ∀ a, (k0_off116 v546) a + S1x1024.size a ≤ S40960x1024.size a)
theorem k0_off116_inb : ∀ (i : grid0.Coords) (v546 : BitVec 32) (k0_hw108 : k0_chk108 i v546), ∀ (k0_h2 : k0_cond2 i = 1#1), ∀ a, (k0_off116 v546) a + S1x1024.size a ≤ S40960x1024.size a := fun i v546 k0_hw108 k0_h2 => k0_hw108 k0_h2

def k0_off117 (v551 : BitVec 32) : Fin 2 → Nat :=
  let c0_i32_599 : BitVec 32 := 0#32
  ![v551.toNat, 0]

def k0_chk109 (i : grid0.Coords) (v551 : BitVec 32) : Prop :=
  (∀ (k0_h2 : k0_cond2 i = 1#1), ∀ a, (k0_off117 v551) a + S1x1024.size a ≤ S40960x1024.size a)
theorem k0_off117_inb : ∀ (i : grid0.Coords) (v551 : BitVec 32) (k0_hw109 : k0_chk109 i v551), ∀ (k0_h2 : k0_cond2 i = 1#1), ∀ a, (k0_off117 v551) a + S1x1024.size a ≤ S40960x1024.size a := fun i v551 k0_hw109 k0_h2 => k0_hw109 k0_h2

def k0_off118 (v556 : BitVec 32) : Fin 2 → Nat :=
  let c0_i32_605 : BitVec 32 := 0#32
  ![v556.toNat, 0]

def k0_chk110 (i : grid0.Coords) (v556 : BitVec 32) : Prop :=
  (∀ (k0_h2 : k0_cond2 i = 1#1), ∀ a, (k0_off118 v556) a + S1x1024.size a ≤ S40960x1024.size a)
theorem k0_off118_inb : ∀ (i : grid0.Coords) (v556 : BitVec 32) (k0_hw110 : k0_chk110 i v556), ∀ (k0_h2 : k0_cond2 i = 1#1), ∀ a, (k0_off118 v556) a + S1x1024.size a ≤ S40960x1024.size a := fun i v556 k0_hw110 k0_h2 => k0_hw110 k0_h2

def k0_off119 (v561 : BitVec 32) : Fin 2 → Nat :=
  let c0_i32_610 : BitVec 32 := 0#32
  ![v561.toNat, 0]

def k0_chk111 (i : grid0.Coords) (v561 : BitVec 32) : Prop :=
  (∀ (k0_h2 : k0_cond2 i = 1#1), ∀ a, (k0_off119 v561) a + S1x1024.size a ≤ S40960x1024.size a)
theorem k0_off119_inb : ∀ (i : grid0.Coords) (v561 : BitVec 32) (k0_hw111 : k0_chk111 i v561), ∀ (k0_h2 : k0_cond2 i = 1#1), ∀ a, (k0_off119 v561) a + S1x1024.size a ≤ S40960x1024.size a := fun i v561 k0_hw111 k0_h2 => k0_hw111 k0_h2

def k0_off120 (v566 : BitVec 32) : Fin 2 → Nat :=
  let c0_i32_616 : BitVec 32 := 0#32
  ![v566.toNat, 0]

def k0_chk112 (i : grid0.Coords) (v566 : BitVec 32) : Prop :=
  (∀ (k0_h2 : k0_cond2 i = 1#1), ∀ a, (k0_off120 v566) a + S1x1024.size a ≤ S40960x1024.size a)
theorem k0_off120_inb : ∀ (i : grid0.Coords) (v566 : BitVec 32) (k0_hw112 : k0_chk112 i v566), ∀ (k0_h2 : k0_cond2 i = 1#1), ∀ a, (k0_off120 v566) a + S1x1024.size a ≤ S40960x1024.size a := fun i v566 k0_hw112 k0_h2 => k0_hw112 k0_h2

def k0_off121 (v571 : BitVec 32) : Fin 2 → Nat :=
  let c0_i32_621 : BitVec 32 := 0#32
  ![v571.toNat, 0]

def k0_chk113 (i : grid0.Coords) (v571 : BitVec 32) : Prop :=
  (∀ (k0_h2 : k0_cond2 i = 1#1), ∀ a, (k0_off121 v571) a + S1x1024.size a ≤ S40960x1024.size a)
theorem k0_off121_inb : ∀ (i : grid0.Coords) (v571 : BitVec 32) (k0_hw113 : k0_chk113 i v571), ∀ (k0_h2 : k0_cond2 i = 1#1), ∀ a, (k0_off121 v571) a + S1x1024.size a ≤ S40960x1024.size a := fun i v571 k0_hw113 k0_h2 => k0_hw113 k0_h2

def k0_off122 (v576 : BitVec 32) : Fin 2 → Nat :=
  let c0_i32_627 : BitVec 32 := 0#32
  ![v576.toNat, 0]

def k0_chk114 (i : grid0.Coords) (v576 : BitVec 32) : Prop :=
  (∀ (k0_h2 : k0_cond2 i = 1#1), ∀ a, (k0_off122 v576) a + S1x1024.size a ≤ S40960x1024.size a)
theorem k0_off122_inb : ∀ (i : grid0.Coords) (v576 : BitVec 32) (k0_hw114 : k0_chk114 i v576), ∀ (k0_h2 : k0_cond2 i = 1#1), ∀ a, (k0_off122 v576) a + S1x1024.size a ≤ S40960x1024.size a := fun i v576 k0_hw114 k0_h2 => k0_hw114 k0_h2

def k0_off123 (v581 : BitVec 32) : Fin 2 → Nat :=
  let c0_i32_632 : BitVec 32 := 0#32
  ![v581.toNat, 0]

def k0_chk115 (i : grid0.Coords) (v581 : BitVec 32) : Prop :=
  (∀ (k0_h2 : k0_cond2 i = 1#1), ∀ a, (k0_off123 v581) a + S1x1024.size a ≤ S40960x1024.size a)
theorem k0_off123_inb : ∀ (i : grid0.Coords) (v581 : BitVec 32) (k0_hw115 : k0_chk115 i v581), ∀ (k0_h2 : k0_cond2 i = 1#1), ∀ a, (k0_off123 v581) a + S1x1024.size a ≤ S40960x1024.size a := fun i v581 k0_hw115 k0_h2 => k0_hw115 k0_h2

def k0_off124 (v586 : BitVec 32) : Fin 2 → Nat :=
  let c0_i32_638 : BitVec 32 := 0#32
  ![v586.toNat, 0]

def k0_chk116 (i : grid0.Coords) (v586 : BitVec 32) : Prop :=
  (∀ (k0_h2 : k0_cond2 i = 1#1), ∀ a, (k0_off124 v586) a + S1x1024.size a ≤ S40960x1024.size a)
theorem k0_off124_inb : ∀ (i : grid0.Coords) (v586 : BitVec 32) (k0_hw116 : k0_chk116 i v586), ∀ (k0_h2 : k0_cond2 i = 1#1), ∀ a, (k0_off124 v586) a + S1x1024.size a ≤ S40960x1024.size a := fun i v586 k0_hw116 k0_h2 => k0_hw116 k0_h2

def k0_off125 (v591 : BitVec 32) : Fin 2 → Nat :=
  let c0_i32_643 : BitVec 32 := 0#32
  ![v591.toNat, 0]

def k0_chk117 (i : grid0.Coords) (v591 : BitVec 32) : Prop :=
  (∀ (k0_h2 : k0_cond2 i = 1#1), ∀ a, (k0_off125 v591) a + S1x1024.size a ≤ S40960x1024.size a)
theorem k0_off125_inb : ∀ (i : grid0.Coords) (v591 : BitVec 32) (k0_hw117 : k0_chk117 i v591), ∀ (k0_h2 : k0_cond2 i = 1#1), ∀ a, (k0_off125 v591) a + S1x1024.size a ≤ S40960x1024.size a := fun i v591 k0_hw117 k0_h2 => k0_hw117 k0_h2

def k0_off126 (v596 : BitVec 32) : Fin 2 → Nat :=
  let c0_i32_649 : BitVec 32 := 0#32
  ![v596.toNat, 0]

def k0_chk118 (i : grid0.Coords) (v596 : BitVec 32) : Prop :=
  (∀ (k0_h2 : k0_cond2 i = 1#1), ∀ a, (k0_off126 v596) a + S1x1024.size a ≤ S40960x1024.size a)
theorem k0_off126_inb : ∀ (i : grid0.Coords) (v596 : BitVec 32) (k0_hw118 : k0_chk118 i v596), ∀ (k0_h2 : k0_cond2 i = 1#1), ∀ a, (k0_off126 v596) a + S1x1024.size a ≤ S40960x1024.size a := fun i v596 k0_hw118 k0_h2 => k0_hw118 k0_h2

def k0_off127 (v601 : BitVec 32) : Fin 2 → Nat :=
  let c0_i32_654 : BitVec 32 := 0#32
  ![v601.toNat, 0]

def k0_chk119 (i : grid0.Coords) (v601 : BitVec 32) : Prop :=
  (∀ (k0_h2 : k0_cond2 i = 1#1), ∀ a, (k0_off127 v601) a + S1x1024.size a ≤ S40960x1024.size a)
theorem k0_off127_inb : ∀ (i : grid0.Coords) (v601 : BitVec 32) (k0_hw119 : k0_chk119 i v601), ∀ (k0_h2 : k0_cond2 i = 1#1), ∀ a, (k0_off127 v601) a + S1x1024.size a ≤ S40960x1024.size a := fun i v601 k0_hw119 k0_h2 => k0_hw119 k0_h2

def k0_off128 (v606 : BitVec 32) : Fin 2 → Nat :=
  let c0_i32_660 : BitVec 32 := 0#32
  ![v606.toNat, 0]

def k0_chk120 (i : grid0.Coords) (v606 : BitVec 32) : Prop :=
  (∀ (k0_h2 : k0_cond2 i = 1#1), ∀ a, (k0_off128 v606) a + S1x1024.size a ≤ S40960x1024.size a)
theorem k0_off128_inb : ∀ (i : grid0.Coords) (v606 : BitVec 32) (k0_hw120 : k0_chk120 i v606), ∀ (k0_h2 : k0_cond2 i = 1#1), ∀ a, (k0_off128 v606) a + S1x1024.size a ≤ S40960x1024.size a := fun i v606 k0_hw120 k0_h2 => k0_hw120 k0_h2

def k0_off129 (v611 : BitVec 32) : Fin 2 → Nat :=
  let c0_i32_665 : BitVec 32 := 0#32
  ![v611.toNat, 0]

def k0_chk121 (i : grid0.Coords) (v611 : BitVec 32) : Prop :=
  (∀ (k0_h2 : k0_cond2 i = 1#1), ∀ a, (k0_off129 v611) a + S1x1024.size a ≤ S40960x1024.size a)
theorem k0_off129_inb : ∀ (i : grid0.Coords) (v611 : BitVec 32) (k0_hw121 : k0_chk121 i v611), ∀ (k0_h2 : k0_cond2 i = 1#1), ∀ a, (k0_off129 v611) a + S1x1024.size a ≤ S40960x1024.size a := fun i v611 k0_hw121 k0_h2 => k0_hw121 k0_h2

def k0_off130 (v616 : BitVec 32) : Fin 2 → Nat :=
  let c0_i32_671 : BitVec 32 := 0#32
  ![v616.toNat, 0]

def k0_chk122 (i : grid0.Coords) (v616 : BitVec 32) : Prop :=
  (∀ (k0_h2 : k0_cond2 i = 1#1), ∀ a, (k0_off130 v616) a + S1x1024.size a ≤ S40960x1024.size a)
theorem k0_off130_inb : ∀ (i : grid0.Coords) (v616 : BitVec 32) (k0_hw122 : k0_chk122 i v616), ∀ (k0_h2 : k0_cond2 i = 1#1), ∀ a, (k0_off130 v616) a + S1x1024.size a ≤ S40960x1024.size a := fun i v616 k0_hw122 k0_h2 => k0_hw122 k0_h2

def k0_off131 (v621 : BitVec 32) : Fin 2 → Nat :=
  let c0_i32_676 : BitVec 32 := 0#32
  ![v621.toNat, 0]

def k0_chk123 (i : grid0.Coords) (v621 : BitVec 32) : Prop :=
  (∀ (k0_h2 : k0_cond2 i = 1#1), ∀ a, (k0_off131 v621) a + S1x1024.size a ≤ S40960x1024.size a)
theorem k0_off131_inb : ∀ (i : grid0.Coords) (v621 : BitVec 32) (k0_hw123 : k0_chk123 i v621), ∀ (k0_h2 : k0_cond2 i = 1#1), ∀ a, (k0_off131 v621) a + S1x1024.size a ≤ S40960x1024.size a := fun i v621 k0_hw123 k0_h2 => k0_hw123 k0_h2

def k0_off132 (v626 : BitVec 32) : Fin 2 → Nat :=
  let c0_i32_682 : BitVec 32 := 0#32
  ![v626.toNat, 0]

def k0_chk124 (i : grid0.Coords) (v626 : BitVec 32) : Prop :=
  (∀ (k0_h2 : k0_cond2 i = 1#1), ∀ a, (k0_off132 v626) a + S1x1024.size a ≤ S40960x1024.size a)
theorem k0_off132_inb : ∀ (i : grid0.Coords) (v626 : BitVec 32) (k0_hw124 : k0_chk124 i v626), ∀ (k0_h2 : k0_cond2 i = 1#1), ∀ a, (k0_off132 v626) a + S1x1024.size a ≤ S40960x1024.size a := fun i v626 k0_hw124 k0_h2 => k0_hw124 k0_h2

def k0_off133 (v631 : BitVec 32) : Fin 2 → Nat :=
  let c0_i32_687 : BitVec 32 := 0#32
  ![v631.toNat, 0]

def k0_chk125 (i : grid0.Coords) (v631 : BitVec 32) : Prop :=
  (∀ (k0_h2 : k0_cond2 i = 1#1), ∀ a, (k0_off133 v631) a + S1x1024.size a ≤ S40960x1024.size a)
theorem k0_off133_inb : ∀ (i : grid0.Coords) (v631 : BitVec 32) (k0_hw125 : k0_chk125 i v631), ∀ (k0_h2 : k0_cond2 i = 1#1), ∀ a, (k0_off133 v631) a + S1x1024.size a ≤ S40960x1024.size a := fun i v631 k0_hw125 k0_h2 => k0_hw125 k0_h2

def k0_off134 (v636 : BitVec 32) : Fin 2 → Nat :=
  let c0_i32_693 : BitVec 32 := 0#32
  ![v636.toNat, 0]

def k0_chk126 (i : grid0.Coords) (v636 : BitVec 32) : Prop :=
  (∀ (k0_h2 : k0_cond2 i = 1#1), ∀ a, (k0_off134 v636) a + S1x1024.size a ≤ S40960x1024.size a)
theorem k0_off134_inb : ∀ (i : grid0.Coords) (v636 : BitVec 32) (k0_hw126 : k0_chk126 i v636), ∀ (k0_h2 : k0_cond2 i = 1#1), ∀ a, (k0_off134 v636) a + S1x1024.size a ≤ S40960x1024.size a := fun i v636 k0_hw126 k0_h2 => k0_hw126 k0_h2

def k0_off135 (v641 : BitVec 32) : Fin 2 → Nat :=
  let c0_i32_698 : BitVec 32 := 0#32
  ![v641.toNat, 0]

def k0_chk127 (i : grid0.Coords) (v641 : BitVec 32) : Prop :=
  (∀ (k0_h2 : k0_cond2 i = 1#1), ∀ a, (k0_off135 v641) a + S1x1024.size a ≤ S40960x1024.size a)
theorem k0_off135_inb : ∀ (i : grid0.Coords) (v641 : BitVec 32) (k0_hw127 : k0_chk127 i v641), ∀ (k0_h2 : k0_cond2 i = 1#1), ∀ a, (k0_off135 v641) a + S1x1024.size a ≤ S40960x1024.size a := fun i v641 k0_hw127 k0_h2 => k0_hw127 k0_h2

def k0_off136 (v646 : BitVec 32) : Fin 2 → Nat :=
  let c0_i32_704 : BitVec 32 := 0#32
  ![v646.toNat, 0]

def k0_chk128 (i : grid0.Coords) (v646 : BitVec 32) : Prop :=
  (∀ (k0_h2 : k0_cond2 i = 1#1), ∀ a, (k0_off136 v646) a + S1x1024.size a ≤ S40960x1024.size a)
theorem k0_off136_inb : ∀ (i : grid0.Coords) (v646 : BitVec 32) (k0_hw128 : k0_chk128 i v646), ∀ (k0_h2 : k0_cond2 i = 1#1), ∀ a, (k0_off136 v646) a + S1x1024.size a ≤ S40960x1024.size a := fun i v646 k0_hw128 k0_h2 => k0_hw128 k0_h2

def k0_off137 (v651 : BitVec 32) : Fin 2 → Nat :=
  let c0_i32_709 : BitVec 32 := 0#32
  ![v651.toNat, 0]

def k0_chk129 (i : grid0.Coords) (v651 : BitVec 32) : Prop :=
  (∀ (k0_h2 : k0_cond2 i = 1#1), ∀ a, (k0_off137 v651) a + S1x1024.size a ≤ S40960x1024.size a)
theorem k0_off137_inb : ∀ (i : grid0.Coords) (v651 : BitVec 32) (k0_hw129 : k0_chk129 i v651), ∀ (k0_h2 : k0_cond2 i = 1#1), ∀ a, (k0_off137 v651) a + S1x1024.size a ≤ S40960x1024.size a := fun i v651 k0_hw129 k0_h2 => k0_hw129 k0_h2

def k0_off138 (v656 : BitVec 32) : Fin 2 → Nat :=
  let c0_i32_715 : BitVec 32 := 0#32
  ![v656.toNat, 0]

def k0_chk130 (i : grid0.Coords) (v656 : BitVec 32) : Prop :=
  (∀ (k0_h2 : k0_cond2 i = 1#1), ∀ a, (k0_off138 v656) a + S1x1024.size a ≤ S40960x1024.size a)
theorem k0_off138_inb : ∀ (i : grid0.Coords) (v656 : BitVec 32) (k0_hw130 : k0_chk130 i v656), ∀ (k0_h2 : k0_cond2 i = 1#1), ∀ a, (k0_off138 v656) a + S1x1024.size a ≤ S40960x1024.size a := fun i v656 k0_hw130 k0_h2 => k0_hw130 k0_h2

def k0_off139 (v661 : BitVec 32) : Fin 2 → Nat :=
  let c0_i32_720 : BitVec 32 := 0#32
  ![v661.toNat, 0]

def k0_chk131 (i : grid0.Coords) (v661 : BitVec 32) : Prop :=
  (∀ (k0_h2 : k0_cond2 i = 1#1), ∀ a, (k0_off139 v661) a + S1x1024.size a ≤ S40960x1024.size a)
theorem k0_off139_inb : ∀ (i : grid0.Coords) (v661 : BitVec 32) (k0_hw131 : k0_chk131 i v661), ∀ (k0_h2 : k0_cond2 i = 1#1), ∀ a, (k0_off139 v661) a + S1x1024.size a ≤ S40960x1024.size a := fun i v661 k0_hw131 k0_h2 => k0_hw131 k0_h2

def k0_off140 (v666 : BitVec 32) : Fin 2 → Nat :=
  let c0_i32_726 : BitVec 32 := 0#32
  ![v666.toNat, 0]

def k0_chk132 (i : grid0.Coords) (v666 : BitVec 32) : Prop :=
  (∀ (k0_h2 : k0_cond2 i = 1#1), ∀ a, (k0_off140 v666) a + S1x1024.size a ≤ S40960x1024.size a)
theorem k0_off140_inb : ∀ (i : grid0.Coords) (v666 : BitVec 32) (k0_hw132 : k0_chk132 i v666), ∀ (k0_h2 : k0_cond2 i = 1#1), ∀ a, (k0_off140 v666) a + S1x1024.size a ≤ S40960x1024.size a := fun i v666 k0_hw132 k0_h2 => k0_hw132 k0_h2

def k0_off141 (v671 : BitVec 32) : Fin 2 → Nat :=
  let c0_i32_731 : BitVec 32 := 0#32
  ![v671.toNat, 0]

def k0_chk133 (i : grid0.Coords) (v671 : BitVec 32) : Prop :=
  (∀ (k0_h2 : k0_cond2 i = 1#1), ∀ a, (k0_off141 v671) a + S1x1024.size a ≤ S40960x1024.size a)
theorem k0_off141_inb : ∀ (i : grid0.Coords) (v671 : BitVec 32) (k0_hw133 : k0_chk133 i v671), ∀ (k0_h2 : k0_cond2 i = 1#1), ∀ a, (k0_off141 v671) a + S1x1024.size a ≤ S40960x1024.size a := fun i v671 k0_hw133 k0_h2 => k0_hw133 k0_h2

def k0_off142 (v676 : BitVec 32) : Fin 2 → Nat :=
  let c0_i32_737 : BitVec 32 := 0#32
  ![v676.toNat, 0]

def k0_chk134 (i : grid0.Coords) (v676 : BitVec 32) : Prop :=
  (∀ (k0_h2 : k0_cond2 i = 1#1), ∀ a, (k0_off142 v676) a + S1x1024.size a ≤ S40960x1024.size a)
theorem k0_off142_inb : ∀ (i : grid0.Coords) (v676 : BitVec 32) (k0_hw134 : k0_chk134 i v676), ∀ (k0_h2 : k0_cond2 i = 1#1), ∀ a, (k0_off142 v676) a + S1x1024.size a ≤ S40960x1024.size a := fun i v676 k0_hw134 k0_h2 => k0_hw134 k0_h2

def k0_off143 (v681 : BitVec 32) : Fin 2 → Nat :=
  let c0_i32_742 : BitVec 32 := 0#32
  ![v681.toNat, 0]

def k0_chk135 (i : grid0.Coords) (v681 : BitVec 32) : Prop :=
  (∀ (k0_h2 : k0_cond2 i = 1#1), ∀ a, (k0_off143 v681) a + S1x1024.size a ≤ S40960x1024.size a)
theorem k0_off143_inb : ∀ (i : grid0.Coords) (v681 : BitVec 32) (k0_hw135 : k0_chk135 i v681), ∀ (k0_h2 : k0_cond2 i = 1#1), ∀ a, (k0_off143 v681) a + S1x1024.size a ≤ S40960x1024.size a := fun i v681 k0_hw135 k0_h2 => k0_hw135 k0_h2

def k0_off144 (v686 : BitVec 32) : Fin 2 → Nat :=
  let c0_i32_748 : BitVec 32 := 0#32
  ![v686.toNat, 0]

def k0_chk136 (i : grid0.Coords) (v686 : BitVec 32) : Prop :=
  (∀ (k0_h2 : k0_cond2 i = 1#1), ∀ a, (k0_off144 v686) a + S1x1024.size a ≤ S40960x1024.size a)
theorem k0_off144_inb : ∀ (i : grid0.Coords) (v686 : BitVec 32) (k0_hw136 : k0_chk136 i v686), ∀ (k0_h2 : k0_cond2 i = 1#1), ∀ a, (k0_off144 v686) a + S1x1024.size a ≤ S40960x1024.size a := fun i v686 k0_hw136 k0_h2 => k0_hw136 k0_h2

def k0_off145 (v691 : BitVec 32) : Fin 2 → Nat :=
  let c0_i32_753 : BitVec 32 := 0#32
  ![v691.toNat, 0]

def k0_chk137 (i : grid0.Coords) (v691 : BitVec 32) : Prop :=
  (∀ (k0_h2 : k0_cond2 i = 1#1), ∀ a, (k0_off145 v691) a + S1x1024.size a ≤ S40960x1024.size a)
theorem k0_off145_inb : ∀ (i : grid0.Coords) (v691 : BitVec 32) (k0_hw137 : k0_chk137 i v691), ∀ (k0_h2 : k0_cond2 i = 1#1), ∀ a, (k0_off145 v691) a + S1x1024.size a ≤ S40960x1024.size a := fun i v691 k0_hw137 k0_h2 => k0_hw137 k0_h2

def k0_off146 (v696 : BitVec 32) : Fin 2 → Nat :=
  let c0_i32_759 : BitVec 32 := 0#32
  ![v696.toNat, 0]

def k0_chk138 (i : grid0.Coords) (v696 : BitVec 32) : Prop :=
  (∀ (k0_h2 : k0_cond2 i = 1#1), ∀ a, (k0_off146 v696) a + S1x1024.size a ≤ S40960x1024.size a)
theorem k0_off146_inb : ∀ (i : grid0.Coords) (v696 : BitVec 32) (k0_hw138 : k0_chk138 i v696), ∀ (k0_h2 : k0_cond2 i = 1#1), ∀ a, (k0_off146 v696) a + S1x1024.size a ≤ S40960x1024.size a := fun i v696 k0_hw138 k0_h2 => k0_hw138 k0_h2

def k0_off147 (v701 : BitVec 32) : Fin 2 → Nat :=
  let c0_i32_764 : BitVec 32 := 0#32
  ![v701.toNat, 0]

def k0_chk139 (i : grid0.Coords) (v701 : BitVec 32) : Prop :=
  (∀ (k0_h2 : k0_cond2 i = 1#1), ∀ a, (k0_off147 v701) a + S1x1024.size a ≤ S40960x1024.size a)
theorem k0_off147_inb : ∀ (i : grid0.Coords) (v701 : BitVec 32) (k0_hw139 : k0_chk139 i v701), ∀ (k0_h2 : k0_cond2 i = 1#1), ∀ a, (k0_off147 v701) a + S1x1024.size a ≤ S40960x1024.size a := fun i v701 k0_hw139 k0_h2 => k0_hw139 k0_h2

def k0_off148 (v706 : BitVec 32) : Fin 2 → Nat :=
  let c0_i32_770 : BitVec 32 := 0#32
  ![v706.toNat, 0]

def k0_chk140 (i : grid0.Coords) (v706 : BitVec 32) : Prop :=
  (∀ (k0_h2 : k0_cond2 i = 1#1), ∀ a, (k0_off148 v706) a + S1x1024.size a ≤ S40960x1024.size a)
theorem k0_off148_inb : ∀ (i : grid0.Coords) (v706 : BitVec 32) (k0_hw140 : k0_chk140 i v706), ∀ (k0_h2 : k0_cond2 i = 1#1), ∀ a, (k0_off148 v706) a + S1x1024.size a ≤ S40960x1024.size a := fun i v706 k0_hw140 k0_h2 => k0_hw140 k0_h2

def k0_off149 (v711 : BitVec 32) : Fin 2 → Nat :=
  let c0_i32_775 : BitVec 32 := 0#32
  ![v711.toNat, 0]

def k0_chk141 (i : grid0.Coords) (v711 : BitVec 32) : Prop :=
  (∀ (k0_h2 : k0_cond2 i = 1#1), ∀ a, (k0_off149 v711) a + S1x1024.size a ≤ S40960x1024.size a)
theorem k0_off149_inb : ∀ (i : grid0.Coords) (v711 : BitVec 32) (k0_hw141 : k0_chk141 i v711), ∀ (k0_h2 : k0_cond2 i = 1#1), ∀ a, (k0_off149 v711) a + S1x1024.size a ≤ S40960x1024.size a := fun i v711 k0_hw141 k0_h2 => k0_hw141 k0_h2

def k0_off150 (v716 : BitVec 32) : Fin 2 → Nat :=
  let c0_i32_781 : BitVec 32 := 0#32
  ![v716.toNat, 0]

def k0_chk142 (i : grid0.Coords) (v716 : BitVec 32) : Prop :=
  (∀ (k0_h2 : k0_cond2 i = 1#1), ∀ a, (k0_off150 v716) a + S1x1024.size a ≤ S40960x1024.size a)
theorem k0_off150_inb : ∀ (i : grid0.Coords) (v716 : BitVec 32) (k0_hw142 : k0_chk142 i v716), ∀ (k0_h2 : k0_cond2 i = 1#1), ∀ a, (k0_off150 v716) a + S1x1024.size a ≤ S40960x1024.size a := fun i v716 k0_hw142 k0_h2 => k0_hw142 k0_h2

def k0_off151 (v721 : BitVec 32) : Fin 2 → Nat :=
  let c0_i32_786 : BitVec 32 := 0#32
  ![v721.toNat, 0]

def k0_chk143 (i : grid0.Coords) (v721 : BitVec 32) : Prop :=
  (∀ (k0_h2 : k0_cond2 i = 1#1), ∀ a, (k0_off151 v721) a + S1x1024.size a ≤ S40960x1024.size a)
theorem k0_off151_inb : ∀ (i : grid0.Coords) (v721 : BitVec 32) (k0_hw143 : k0_chk143 i v721), ∀ (k0_h2 : k0_cond2 i = 1#1), ∀ a, (k0_off151 v721) a + S1x1024.size a ≤ S40960x1024.size a := fun i v721 k0_hw143 k0_h2 => k0_hw143 k0_h2

def k0_off152 (v726 : BitVec 32) : Fin 2 → Nat :=
  let c0_i32_792 : BitVec 32 := 0#32
  ![v726.toNat, 0]

def k0_chk144 (i : grid0.Coords) (v726 : BitVec 32) : Prop :=
  (∀ (k0_h2 : k0_cond2 i = 1#1), ∀ a, (k0_off152 v726) a + S1x1024.size a ≤ S40960x1024.size a)
theorem k0_off152_inb : ∀ (i : grid0.Coords) (v726 : BitVec 32) (k0_hw144 : k0_chk144 i v726), ∀ (k0_h2 : k0_cond2 i = 1#1), ∀ a, (k0_off152 v726) a + S1x1024.size a ≤ S40960x1024.size a := fun i v726 k0_hw144 k0_h2 => k0_hw144 k0_h2

def k0_off153 (v731 : BitVec 32) : Fin 2 → Nat :=
  let c0_i32_797 : BitVec 32 := 0#32
  ![v731.toNat, 0]

def k0_chk145 (i : grid0.Coords) (v731 : BitVec 32) : Prop :=
  (∀ (k0_h2 : k0_cond2 i = 1#1), ∀ a, (k0_off153 v731) a + S1x1024.size a ≤ S40960x1024.size a)
theorem k0_off153_inb : ∀ (i : grid0.Coords) (v731 : BitVec 32) (k0_hw145 : k0_chk145 i v731), ∀ (k0_h2 : k0_cond2 i = 1#1), ∀ a, (k0_off153 v731) a + S1x1024.size a ≤ S40960x1024.size a := fun i v731 k0_hw145 k0_h2 => k0_hw145 k0_h2

def k0_off154 (v736 : BitVec 32) : Fin 2 → Nat :=
  let c0_i32_803 : BitVec 32 := 0#32
  ![v736.toNat, 0]

def k0_chk146 (i : grid0.Coords) (v736 : BitVec 32) : Prop :=
  (∀ (k0_h2 : k0_cond2 i = 1#1), ∀ a, (k0_off154 v736) a + S1x1024.size a ≤ S40960x1024.size a)
theorem k0_off154_inb : ∀ (i : grid0.Coords) (v736 : BitVec 32) (k0_hw146 : k0_chk146 i v736), ∀ (k0_h2 : k0_cond2 i = 1#1), ∀ a, (k0_off154 v736) a + S1x1024.size a ≤ S40960x1024.size a := fun i v736 k0_hw146 k0_h2 => k0_hw146 k0_h2

def k0_off155 (v741 : BitVec 32) : Fin 2 → Nat :=
  let c0_i32_808 : BitVec 32 := 0#32
  ![v741.toNat, 0]

def k0_chk147 (i : grid0.Coords) (v741 : BitVec 32) : Prop :=
  (∀ (k0_h2 : k0_cond2 i = 1#1), ∀ a, (k0_off155 v741) a + S1x1024.size a ≤ S40960x1024.size a)
theorem k0_off155_inb : ∀ (i : grid0.Coords) (v741 : BitVec 32) (k0_hw147 : k0_chk147 i v741), ∀ (k0_h2 : k0_cond2 i = 1#1), ∀ a, (k0_off155 v741) a + S1x1024.size a ≤ S40960x1024.size a := fun i v741 k0_hw147 k0_h2 => k0_hw147 k0_h2

def k0_off156 (v746 : BitVec 32) : Fin 2 → Nat :=
  let c0_i32_814 : BitVec 32 := 0#32
  ![v746.toNat, 0]

def k0_chk148 (i : grid0.Coords) (v746 : BitVec 32) : Prop :=
  (∀ (k0_h2 : k0_cond2 i = 1#1), ∀ a, (k0_off156 v746) a + S1x1024.size a ≤ S40960x1024.size a)
theorem k0_off156_inb : ∀ (i : grid0.Coords) (v746 : BitVec 32) (k0_hw148 : k0_chk148 i v746), ∀ (k0_h2 : k0_cond2 i = 1#1), ∀ a, (k0_off156 v746) a + S1x1024.size a ≤ S40960x1024.size a := fun i v746 k0_hw148 k0_h2 => k0_hw148 k0_h2

def k0_off157 (v751 : BitVec 32) : Fin 2 → Nat :=
  let c0_i32_819 : BitVec 32 := 0#32
  ![v751.toNat, 0]

def k0_chk149 (i : grid0.Coords) (v751 : BitVec 32) : Prop :=
  (∀ (k0_h2 : k0_cond2 i = 1#1), ∀ a, (k0_off157 v751) a + S1x1024.size a ≤ S40960x1024.size a)
theorem k0_off157_inb : ∀ (i : grid0.Coords) (v751 : BitVec 32) (k0_hw149 : k0_chk149 i v751), ∀ (k0_h2 : k0_cond2 i = 1#1), ∀ a, (k0_off157 v751) a + S1x1024.size a ≤ S40960x1024.size a := fun i v751 k0_hw149 k0_h2 => k0_hw149 k0_h2

def k0_off158 (v756 : BitVec 32) : Fin 2 → Nat :=
  let c0_i32_825 : BitVec 32 := 0#32
  ![v756.toNat, 0]

def k0_chk150 (i : grid0.Coords) (v756 : BitVec 32) : Prop :=
  (∀ (k0_h2 : k0_cond2 i = 1#1), ∀ a, (k0_off158 v756) a + S1x1024.size a ≤ S40960x1024.size a)
theorem k0_off158_inb : ∀ (i : grid0.Coords) (v756 : BitVec 32) (k0_hw150 : k0_chk150 i v756), ∀ (k0_h2 : k0_cond2 i = 1#1), ∀ a, (k0_off158 v756) a + S1x1024.size a ≤ S40960x1024.size a := fun i v756 k0_hw150 k0_h2 => k0_hw150 k0_h2

def k0_off159 (v761 : BitVec 32) : Fin 2 → Nat :=
  let c0_i32_830 : BitVec 32 := 0#32
  ![v761.toNat, 0]

def k0_chk151 (i : grid0.Coords) (v761 : BitVec 32) : Prop :=
  (∀ (k0_h2 : k0_cond2 i = 1#1), ∀ a, (k0_off159 v761) a + S1x1024.size a ≤ S40960x1024.size a)
theorem k0_off159_inb : ∀ (i : grid0.Coords) (v761 : BitVec 32) (k0_hw151 : k0_chk151 i v761), ∀ (k0_h2 : k0_cond2 i = 1#1), ∀ a, (k0_off159 v761) a + S1x1024.size a ≤ S40960x1024.size a := fun i v761 k0_hw151 k0_h2 => k0_hw151 k0_h2

def k0_off160 (v766 : BitVec 32) : Fin 2 → Nat :=
  let c0_i32_836 : BitVec 32 := 0#32
  ![v766.toNat, 0]

def k0_chk152 (i : grid0.Coords) (v766 : BitVec 32) : Prop :=
  (∀ (k0_h2 : k0_cond2 i = 1#1), ∀ a, (k0_off160 v766) a + S1x1024.size a ≤ S40960x1024.size a)
theorem k0_off160_inb : ∀ (i : grid0.Coords) (v766 : BitVec 32) (k0_hw152 : k0_chk152 i v766), ∀ (k0_h2 : k0_cond2 i = 1#1), ∀ a, (k0_off160 v766) a + S1x1024.size a ≤ S40960x1024.size a := fun i v766 k0_hw152 k0_h2 => k0_hw152 k0_h2

def k0_off161 (v771 : BitVec 32) : Fin 2 → Nat :=
  let c0_i32_841 : BitVec 32 := 0#32
  ![v771.toNat, 0]

def k0_chk153 (i : grid0.Coords) (v771 : BitVec 32) : Prop :=
  (∀ (k0_h2 : k0_cond2 i = 1#1), ∀ a, (k0_off161 v771) a + S1x1024.size a ≤ S40960x1024.size a)
theorem k0_off161_inb : ∀ (i : grid0.Coords) (v771 : BitVec 32) (k0_hw153 : k0_chk153 i v771), ∀ (k0_h2 : k0_cond2 i = 1#1), ∀ a, (k0_off161 v771) a + S1x1024.size a ≤ S40960x1024.size a := fun i v771 k0_hw153 k0_h2 => k0_hw153 k0_h2

def k0_off162 (v776 : BitVec 32) : Fin 2 → Nat :=
  let c0_i32_847 : BitVec 32 := 0#32
  ![v776.toNat, 0]

def k0_chk154 (i : grid0.Coords) (v776 : BitVec 32) : Prop :=
  (∀ (k0_h2 : k0_cond2 i = 1#1), ∀ a, (k0_off162 v776) a + S1x1024.size a ≤ S40960x1024.size a)
theorem k0_off162_inb : ∀ (i : grid0.Coords) (v776 : BitVec 32) (k0_hw154 : k0_chk154 i v776), ∀ (k0_h2 : k0_cond2 i = 1#1), ∀ a, (k0_off162 v776) a + S1x1024.size a ≤ S40960x1024.size a := fun i v776 k0_hw154 k0_h2 => k0_hw154 k0_h2

def k0_off163 (v781 : BitVec 32) : Fin 2 → Nat :=
  let c0_i32_852 : BitVec 32 := 0#32
  ![v781.toNat, 0]

def k0_chk155 (i : grid0.Coords) (v781 : BitVec 32) : Prop :=
  (∀ (k0_h2 : k0_cond2 i = 1#1), ∀ a, (k0_off163 v781) a + S1x1024.size a ≤ S40960x1024.size a)
theorem k0_off163_inb : ∀ (i : grid0.Coords) (v781 : BitVec 32) (k0_hw155 : k0_chk155 i v781), ∀ (k0_h2 : k0_cond2 i = 1#1), ∀ a, (k0_off163 v781) a + S1x1024.size a ≤ S40960x1024.size a := fun i v781 k0_hw155 k0_h2 => k0_hw155 k0_h2

def k0_off164 (v786 : BitVec 32) : Fin 2 → Nat :=
  let c0_i32_858 : BitVec 32 := 0#32
  ![v786.toNat, 0]

def k0_chk156 (i : grid0.Coords) (v786 : BitVec 32) : Prop :=
  (∀ (k0_h2 : k0_cond2 i = 1#1), ∀ a, (k0_off164 v786) a + S1x1024.size a ≤ S40960x1024.size a)
theorem k0_off164_inb : ∀ (i : grid0.Coords) (v786 : BitVec 32) (k0_hw156 : k0_chk156 i v786), ∀ (k0_h2 : k0_cond2 i = 1#1), ∀ a, (k0_off164 v786) a + S1x1024.size a ≤ S40960x1024.size a := fun i v786 k0_hw156 k0_h2 => k0_hw156 k0_h2

def k0_off165 (v791 : BitVec 32) : Fin 2 → Nat :=
  let c0_i32_863 : BitVec 32 := 0#32
  ![v791.toNat, 0]

def k0_chk157 (i : grid0.Coords) (v791 : BitVec 32) : Prop :=
  (∀ (k0_h2 : k0_cond2 i = 1#1), ∀ a, (k0_off165 v791) a + S1x1024.size a ≤ S40960x1024.size a)
theorem k0_off165_inb : ∀ (i : grid0.Coords) (v791 : BitVec 32) (k0_hw157 : k0_chk157 i v791), ∀ (k0_h2 : k0_cond2 i = 1#1), ∀ a, (k0_off165 v791) a + S1x1024.size a ≤ S40960x1024.size a := fun i v791 k0_hw157 k0_h2 => k0_hw157 k0_h2

def k0_off166 (v796 : BitVec 32) : Fin 2 → Nat :=
  let c0_i32_869 : BitVec 32 := 0#32
  ![v796.toNat, 0]

def k0_chk158 (i : grid0.Coords) (v796 : BitVec 32) : Prop :=
  (∀ (k0_h2 : k0_cond2 i = 1#1), ∀ a, (k0_off166 v796) a + S1x1024.size a ≤ S40960x1024.size a)
theorem k0_off166_inb : ∀ (i : grid0.Coords) (v796 : BitVec 32) (k0_hw158 : k0_chk158 i v796), ∀ (k0_h2 : k0_cond2 i = 1#1), ∀ a, (k0_off166 v796) a + S1x1024.size a ≤ S40960x1024.size a := fun i v796 k0_hw158 k0_h2 => k0_hw158 k0_h2

def k0_off167 (v801 : BitVec 32) : Fin 2 → Nat :=
  let c0_i32_874 : BitVec 32 := 0#32
  ![v801.toNat, 0]

def k0_chk159 (i : grid0.Coords) (v801 : BitVec 32) : Prop :=
  (∀ (k0_h2 : k0_cond2 i = 1#1), ∀ a, (k0_off167 v801) a + S1x1024.size a ≤ S40960x1024.size a)
theorem k0_off167_inb : ∀ (i : grid0.Coords) (v801 : BitVec 32) (k0_hw159 : k0_chk159 i v801), ∀ (k0_h2 : k0_cond2 i = 1#1), ∀ a, (k0_off167 v801) a + S1x1024.size a ≤ S40960x1024.size a := fun i v801 k0_hw159 k0_h2 => k0_hw159 k0_h2

def k0_off168 (v806 : BitVec 32) : Fin 2 → Nat :=
  let c0_i32_880 : BitVec 32 := 0#32
  ![v806.toNat, 0]

def k0_chk160 (i : grid0.Coords) (v806 : BitVec 32) : Prop :=
  (∀ (k0_h2 : k0_cond2 i = 1#1), ∀ a, (k0_off168 v806) a + S1x1024.size a ≤ S40960x1024.size a)
theorem k0_off168_inb : ∀ (i : grid0.Coords) (v806 : BitVec 32) (k0_hw160 : k0_chk160 i v806), ∀ (k0_h2 : k0_cond2 i = 1#1), ∀ a, (k0_off168 v806) a + S1x1024.size a ≤ S40960x1024.size a := fun i v806 k0_hw160 k0_h2 => k0_hw160 k0_h2

def k0_off169 (v811 : BitVec 32) : Fin 2 → Nat :=
  let c0_i32_885 : BitVec 32 := 0#32
  ![v811.toNat, 0]

def k0_chk161 (i : grid0.Coords) (v811 : BitVec 32) : Prop :=
  (∀ (k0_h2 : k0_cond2 i = 1#1), ∀ a, (k0_off169 v811) a + S1x1024.size a ≤ S40960x1024.size a)
theorem k0_off169_inb : ∀ (i : grid0.Coords) (v811 : BitVec 32) (k0_hw161 : k0_chk161 i v811), ∀ (k0_h2 : k0_cond2 i = 1#1), ∀ a, (k0_off169 v811) a + S1x1024.size a ≤ S40960x1024.size a := fun i v811 k0_hw161 k0_h2 => k0_hw161 k0_h2

def k0_off170 (v816 : BitVec 32) : Fin 2 → Nat :=
  let c0_i32_891 : BitVec 32 := 0#32
  ![v816.toNat, 0]

def k0_chk162 (i : grid0.Coords) (v816 : BitVec 32) : Prop :=
  (∀ (k0_h2 : k0_cond2 i = 1#1), ∀ a, (k0_off170 v816) a + S1x1024.size a ≤ S40960x1024.size a)
theorem k0_off170_inb : ∀ (i : grid0.Coords) (v816 : BitVec 32) (k0_hw162 : k0_chk162 i v816), ∀ (k0_h2 : k0_cond2 i = 1#1), ∀ a, (k0_off170 v816) a + S1x1024.size a ≤ S40960x1024.size a := fun i v816 k0_hw162 k0_h2 => k0_hw162 k0_h2

def k0_off171 (v821 : BitVec 32) : Fin 2 → Nat :=
  let c0_i32_896 : BitVec 32 := 0#32
  ![v821.toNat, 0]

def k0_chk163 (i : grid0.Coords) (v821 : BitVec 32) : Prop :=
  (∀ (k0_h2 : k0_cond2 i = 1#1), ∀ a, (k0_off171 v821) a + S1x1024.size a ≤ S40960x1024.size a)
theorem k0_off171_inb : ∀ (i : grid0.Coords) (v821 : BitVec 32) (k0_hw163 : k0_chk163 i v821), ∀ (k0_h2 : k0_cond2 i = 1#1), ∀ a, (k0_off171 v821) a + S1x1024.size a ≤ S40960x1024.size a := fun i v821 k0_hw163 k0_h2 => k0_hw163 k0_h2

def k0_off172 (v826 : BitVec 32) : Fin 2 → Nat :=
  let c0_i32_902 : BitVec 32 := 0#32
  ![v826.toNat, 0]

def k0_chk164 (i : grid0.Coords) (v826 : BitVec 32) : Prop :=
  (∀ (k0_h2 : k0_cond2 i = 1#1), ∀ a, (k0_off172 v826) a + S1x1024.size a ≤ S40960x1024.size a)
theorem k0_off172_inb : ∀ (i : grid0.Coords) (v826 : BitVec 32) (k0_hw164 : k0_chk164 i v826), ∀ (k0_h2 : k0_cond2 i = 1#1), ∀ a, (k0_off172 v826) a + S1x1024.size a ≤ S40960x1024.size a := fun i v826 k0_hw164 k0_h2 => k0_hw164 k0_h2

def k0_off173 (v831 : BitVec 32) : Fin 2 → Nat :=
  let c0_i32_907 : BitVec 32 := 0#32
  ![v831.toNat, 0]

def k0_chk165 (i : grid0.Coords) (v831 : BitVec 32) : Prop :=
  (∀ (k0_h2 : k0_cond2 i = 1#1), ∀ a, (k0_off173 v831) a + S1x1024.size a ≤ S40960x1024.size a)
theorem k0_off173_inb : ∀ (i : grid0.Coords) (v831 : BitVec 32) (k0_hw165 : k0_chk165 i v831), ∀ (k0_h2 : k0_cond2 i = 1#1), ∀ a, (k0_off173 v831) a + S1x1024.size a ≤ S40960x1024.size a := fun i v831 k0_hw165 k0_h2 => k0_hw165 k0_h2

def k0_off174 (v836 : BitVec 32) : Fin 2 → Nat :=
  let c0_i32_913 : BitVec 32 := 0#32
  ![v836.toNat, 0]

def k0_chk166 (i : grid0.Coords) (v836 : BitVec 32) : Prop :=
  (∀ (k0_h2 : k0_cond2 i = 1#1), ∀ a, (k0_off174 v836) a + S1x1024.size a ≤ S40960x1024.size a)
theorem k0_off174_inb : ∀ (i : grid0.Coords) (v836 : BitVec 32) (k0_hw166 : k0_chk166 i v836), ∀ (k0_h2 : k0_cond2 i = 1#1), ∀ a, (k0_off174 v836) a + S1x1024.size a ≤ S40960x1024.size a := fun i v836 k0_hw166 k0_h2 => k0_hw166 k0_h2

def k0_off175 (v841 : BitVec 32) : Fin 2 → Nat :=
  let c0_i32_918 : BitVec 32 := 0#32
  ![v841.toNat, 0]

def k0_chk167 (i : grid0.Coords) (v841 : BitVec 32) : Prop :=
  (∀ (k0_h2 : k0_cond2 i = 1#1), ∀ a, (k0_off175 v841) a + S1x1024.size a ≤ S40960x1024.size a)
theorem k0_off175_inb : ∀ (i : grid0.Coords) (v841 : BitVec 32) (k0_hw167 : k0_chk167 i v841), ∀ (k0_h2 : k0_cond2 i = 1#1), ∀ a, (k0_off175 v841) a + S1x1024.size a ≤ S40960x1024.size a := fun i v841 k0_hw167 k0_h2 => k0_hw167 k0_h2

def k0_off176 (v846 : BitVec 32) : Fin 2 → Nat :=
  let c0_i32_924 : BitVec 32 := 0#32
  ![v846.toNat, 0]

def k0_chk168 (i : grid0.Coords) (v846 : BitVec 32) : Prop :=
  (∀ (k0_h2 : k0_cond2 i = 1#1), ∀ a, (k0_off176 v846) a + S1x1024.size a ≤ S40960x1024.size a)
theorem k0_off176_inb : ∀ (i : grid0.Coords) (v846 : BitVec 32) (k0_hw168 : k0_chk168 i v846), ∀ (k0_h2 : k0_cond2 i = 1#1), ∀ a, (k0_off176 v846) a + S1x1024.size a ≤ S40960x1024.size a := fun i v846 k0_hw168 k0_h2 => k0_hw168 k0_h2

def k0_off177 (v851 : BitVec 32) : Fin 2 → Nat :=
  let c0_i32_929 : BitVec 32 := 0#32
  ![v851.toNat, 0]

def k0_chk169 (i : grid0.Coords) (v851 : BitVec 32) : Prop :=
  (∀ (k0_h2 : k0_cond2 i = 1#1), ∀ a, (k0_off177 v851) a + S1x1024.size a ≤ S40960x1024.size a)
theorem k0_off177_inb : ∀ (i : grid0.Coords) (v851 : BitVec 32) (k0_hw169 : k0_chk169 i v851), ∀ (k0_h2 : k0_cond2 i = 1#1), ∀ a, (k0_off177 v851) a + S1x1024.size a ≤ S40960x1024.size a := fun i v851 k0_hw169 k0_h2 => k0_hw169 k0_h2

def k0_off178 (v856 : BitVec 32) : Fin 2 → Nat :=
  let c0_i32_935 : BitVec 32 := 0#32
  ![v856.toNat, 0]

def k0_chk170 (i : grid0.Coords) (v856 : BitVec 32) : Prop :=
  (∀ (k0_h2 : k0_cond2 i = 1#1), ∀ a, (k0_off178 v856) a + S1x1024.size a ≤ S40960x1024.size a)
theorem k0_off178_inb : ∀ (i : grid0.Coords) (v856 : BitVec 32) (k0_hw170 : k0_chk170 i v856), ∀ (k0_h2 : k0_cond2 i = 1#1), ∀ a, (k0_off178 v856) a + S1x1024.size a ≤ S40960x1024.size a := fun i v856 k0_hw170 k0_h2 => k0_hw170 k0_h2

def k0_off179 (v861 : BitVec 32) : Fin 2 → Nat :=
  let c0_i32_940 : BitVec 32 := 0#32
  ![v861.toNat, 0]

def k0_chk171 (i : grid0.Coords) (v861 : BitVec 32) : Prop :=
  (∀ (k0_h2 : k0_cond2 i = 1#1), ∀ a, (k0_off179 v861) a + S1x1024.size a ≤ S40960x1024.size a)
theorem k0_off179_inb : ∀ (i : grid0.Coords) (v861 : BitVec 32) (k0_hw171 : k0_chk171 i v861), ∀ (k0_h2 : k0_cond2 i = 1#1), ∀ a, (k0_off179 v861) a + S1x1024.size a ≤ S40960x1024.size a := fun i v861 k0_hw171 k0_h2 => k0_hw171 k0_h2

def k0_off180 (v866 : BitVec 32) : Fin 2 → Nat :=
  let c0_i32_946 : BitVec 32 := 0#32
  ![v866.toNat, 0]

def k0_chk172 (i : grid0.Coords) (v866 : BitVec 32) : Prop :=
  (∀ (k0_h2 : k0_cond2 i = 1#1), ∀ a, (k0_off180 v866) a + S1x1024.size a ≤ S40960x1024.size a)
theorem k0_off180_inb : ∀ (i : grid0.Coords) (v866 : BitVec 32) (k0_hw172 : k0_chk172 i v866), ∀ (k0_h2 : k0_cond2 i = 1#1), ∀ a, (k0_off180 v866) a + S1x1024.size a ≤ S40960x1024.size a := fun i v866 k0_hw172 k0_h2 => k0_hw172 k0_h2

def k0_off181 (v871 : BitVec 32) : Fin 2 → Nat :=
  let c0_i32_951 : BitVec 32 := 0#32
  ![v871.toNat, 0]

def k0_chk173 (i : grid0.Coords) (v871 : BitVec 32) : Prop :=
  (∀ (k0_h2 : k0_cond2 i = 1#1), ∀ a, (k0_off181 v871) a + S1x1024.size a ≤ S40960x1024.size a)
theorem k0_off181_inb : ∀ (i : grid0.Coords) (v871 : BitVec 32) (k0_hw173 : k0_chk173 i v871), ∀ (k0_h2 : k0_cond2 i = 1#1), ∀ a, (k0_off181 v871) a + S1x1024.size a ≤ S40960x1024.size a := fun i v871 k0_hw173 k0_h2 => k0_hw173 k0_h2

def k0_off182 (v876 : BitVec 32) : Fin 2 → Nat :=
  let c0_i32_957 : BitVec 32 := 0#32
  ![v876.toNat, 0]

def k0_chk174 (i : grid0.Coords) (v876 : BitVec 32) : Prop :=
  (∀ (k0_h2 : k0_cond2 i = 1#1), ∀ a, (k0_off182 v876) a + S1x1024.size a ≤ S40960x1024.size a)
theorem k0_off182_inb : ∀ (i : grid0.Coords) (v876 : BitVec 32) (k0_hw174 : k0_chk174 i v876), ∀ (k0_h2 : k0_cond2 i = 1#1), ∀ a, (k0_off182 v876) a + S1x1024.size a ≤ S40960x1024.size a := fun i v876 k0_hw174 k0_h2 => k0_hw174 k0_h2

def k0_off183 (v881 : BitVec 32) : Fin 2 → Nat :=
  let c0_i32_962 : BitVec 32 := 0#32
  ![v881.toNat, 0]

def k0_chk175 (i : grid0.Coords) (v881 : BitVec 32) : Prop :=
  (∀ (k0_h2 : k0_cond2 i = 1#1), ∀ a, (k0_off183 v881) a + S1x1024.size a ≤ S40960x1024.size a)
theorem k0_off183_inb : ∀ (i : grid0.Coords) (v881 : BitVec 32) (k0_hw175 : k0_chk175 i v881), ∀ (k0_h2 : k0_cond2 i = 1#1), ∀ a, (k0_off183 v881) a + S1x1024.size a ≤ S40960x1024.size a := fun i v881 k0_hw175 k0_h2 => k0_hw175 k0_h2

def k0_off184 (v886 : BitVec 32) : Fin 2 → Nat :=
  let c0_i32_968 : BitVec 32 := 0#32
  ![v886.toNat, 0]

def k0_chk176 (i : grid0.Coords) (v886 : BitVec 32) : Prop :=
  (∀ (k0_h2 : k0_cond2 i = 1#1), ∀ a, (k0_off184 v886) a + S1x1024.size a ≤ S40960x1024.size a)
theorem k0_off184_inb : ∀ (i : grid0.Coords) (v886 : BitVec 32) (k0_hw176 : k0_chk176 i v886), ∀ (k0_h2 : k0_cond2 i = 1#1), ∀ a, (k0_off184 v886) a + S1x1024.size a ≤ S40960x1024.size a := fun i v886 k0_hw176 k0_h2 => k0_hw176 k0_h2

def k0_off185 (v891 : BitVec 32) : Fin 2 → Nat :=
  let c0_i32_973 : BitVec 32 := 0#32
  ![v891.toNat, 0]

def k0_chk177 (i : grid0.Coords) (v891 : BitVec 32) : Prop :=
  (∀ (k0_h2 : k0_cond2 i = 1#1), ∀ a, (k0_off185 v891) a + S1x1024.size a ≤ S40960x1024.size a)
theorem k0_off185_inb : ∀ (i : grid0.Coords) (v891 : BitVec 32) (k0_hw177 : k0_chk177 i v891), ∀ (k0_h2 : k0_cond2 i = 1#1), ∀ a, (k0_off185 v891) a + S1x1024.size a ≤ S40960x1024.size a := fun i v891 k0_hw177 k0_h2 => k0_hw177 k0_h2

def k0_off186 (v896 : BitVec 32) : Fin 2 → Nat :=
  let c0_i32_979 : BitVec 32 := 0#32
  ![v896.toNat, 0]

def k0_chk178 (i : grid0.Coords) (v896 : BitVec 32) : Prop :=
  (∀ (k0_h2 : k0_cond2 i = 1#1), ∀ a, (k0_off186 v896) a + S1x1024.size a ≤ S40960x1024.size a)
theorem k0_off186_inb : ∀ (i : grid0.Coords) (v896 : BitVec 32) (k0_hw178 : k0_chk178 i v896), ∀ (k0_h2 : k0_cond2 i = 1#1), ∀ a, (k0_off186 v896) a + S1x1024.size a ≤ S40960x1024.size a := fun i v896 k0_hw178 k0_h2 => k0_hw178 k0_h2

def k0_off187 (v901 : BitVec 32) : Fin 2 → Nat :=
  let c0_i32_984 : BitVec 32 := 0#32
  ![v901.toNat, 0]

def k0_chk179 (i : grid0.Coords) (v901 : BitVec 32) : Prop :=
  (∀ (k0_h2 : k0_cond2 i = 1#1), ∀ a, (k0_off187 v901) a + S1x1024.size a ≤ S40960x1024.size a)
theorem k0_off187_inb : ∀ (i : grid0.Coords) (v901 : BitVec 32) (k0_hw179 : k0_chk179 i v901), ∀ (k0_h2 : k0_cond2 i = 1#1), ∀ a, (k0_off187 v901) a + S1x1024.size a ≤ S40960x1024.size a := fun i v901 k0_hw179 k0_h2 => k0_hw179 k0_h2

def k0_off188 (v906 : BitVec 32) : Fin 2 → Nat :=
  let c0_i32_990 : BitVec 32 := 0#32
  ![v906.toNat, 0]

def k0_chk180 (i : grid0.Coords) (v906 : BitVec 32) : Prop :=
  (∀ (k0_h2 : k0_cond2 i = 1#1), ∀ a, (k0_off188 v906) a + S1x1024.size a ≤ S40960x1024.size a)
theorem k0_off188_inb : ∀ (i : grid0.Coords) (v906 : BitVec 32) (k0_hw180 : k0_chk180 i v906), ∀ (k0_h2 : k0_cond2 i = 1#1), ∀ a, (k0_off188 v906) a + S1x1024.size a ≤ S40960x1024.size a := fun i v906 k0_hw180 k0_h2 => k0_hw180 k0_h2

def k0_off189 (v911 : BitVec 32) : Fin 2 → Nat :=
  let c0_i32_995 : BitVec 32 := 0#32
  ![v911.toNat, 0]

def k0_chk181 (i : grid0.Coords) (v911 : BitVec 32) : Prop :=
  (∀ (k0_h2 : k0_cond2 i = 1#1), ∀ a, (k0_off189 v911) a + S1x1024.size a ≤ S40960x1024.size a)
theorem k0_off189_inb : ∀ (i : grid0.Coords) (v911 : BitVec 32) (k0_hw181 : k0_chk181 i v911), ∀ (k0_h2 : k0_cond2 i = 1#1), ∀ a, (k0_off189 v911) a + S1x1024.size a ≤ S40960x1024.size a := fun i v911 k0_hw181 k0_h2 => k0_hw181 k0_h2

def k0_off190 (v916 : BitVec 32) : Fin 2 → Nat :=
  let c0_i32_1001 : BitVec 32 := 0#32
  ![v916.toNat, 0]

def k0_chk182 (i : grid0.Coords) (v916 : BitVec 32) : Prop :=
  (∀ (k0_h2 : k0_cond2 i = 1#1), ∀ a, (k0_off190 v916) a + S1x1024.size a ≤ S40960x1024.size a)
theorem k0_off190_inb : ∀ (i : grid0.Coords) (v916 : BitVec 32) (k0_hw182 : k0_chk182 i v916), ∀ (k0_h2 : k0_cond2 i = 1#1), ∀ a, (k0_off190 v916) a + S1x1024.size a ≤ S40960x1024.size a := fun i v916 k0_hw182 k0_h2 => k0_hw182 k0_h2

def k0_off191 (v921 : BitVec 32) : Fin 2 → Nat :=
  let c0_i32_1006 : BitVec 32 := 0#32
  ![v921.toNat, 0]

def k0_chk183 (i : grid0.Coords) (v921 : BitVec 32) : Prop :=
  (∀ (k0_h2 : k0_cond2 i = 1#1), ∀ a, (k0_off191 v921) a + S1x1024.size a ≤ S40960x1024.size a)
theorem k0_off191_inb : ∀ (i : grid0.Coords) (v921 : BitVec 32) (k0_hw183 : k0_chk183 i v921), ∀ (k0_h2 : k0_cond2 i = 1#1), ∀ a, (k0_off191 v921) a + S1x1024.size a ≤ S40960x1024.size a := fun i v921 k0_hw183 k0_h2 => k0_hw183 k0_h2

def k0_off192 (v926 : BitVec 32) : Fin 2 → Nat :=
  let c0_i32_1012 : BitVec 32 := 0#32
  ![v926.toNat, 0]

def k0_chk184 (i : grid0.Coords) (v926 : BitVec 32) : Prop :=
  (∀ (k0_h2 : k0_cond2 i = 1#1), ∀ a, (k0_off192 v926) a + S1x1024.size a ≤ S40960x1024.size a)
theorem k0_off192_inb : ∀ (i : grid0.Coords) (v926 : BitVec 32) (k0_hw184 : k0_chk184 i v926), ∀ (k0_h2 : k0_cond2 i = 1#1), ∀ a, (k0_off192 v926) a + S1x1024.size a ≤ S40960x1024.size a := fun i v926 k0_hw184 k0_h2 => k0_hw184 k0_h2

def k0_off193 (v931 : BitVec 32) : Fin 2 → Nat :=
  let c0_i32_1017 : BitVec 32 := 0#32
  ![v931.toNat, 0]

def k0_chk185 (i : grid0.Coords) (v931 : BitVec 32) : Prop :=
  (∀ (k0_h2 : k0_cond2 i = 1#1), ∀ a, (k0_off193 v931) a + S1x1024.size a ≤ S40960x1024.size a)
theorem k0_off193_inb : ∀ (i : grid0.Coords) (v931 : BitVec 32) (k0_hw185 : k0_chk185 i v931), ∀ (k0_h2 : k0_cond2 i = 1#1), ∀ a, (k0_off193 v931) a + S1x1024.size a ≤ S40960x1024.size a := fun i v931 k0_hw185 k0_h2 => k0_hw185 k0_h2

def k0_off194 (v936 : BitVec 32) : Fin 2 → Nat :=
  let c0_i32_1023 : BitVec 32 := 0#32
  ![v936.toNat, 0]

def k0_chk186 (i : grid0.Coords) (v936 : BitVec 32) : Prop :=
  (∀ (k0_h2 : k0_cond2 i = 1#1), ∀ a, (k0_off194 v936) a + S1x1024.size a ≤ S40960x1024.size a)
theorem k0_off194_inb : ∀ (i : grid0.Coords) (v936 : BitVec 32) (k0_hw186 : k0_chk186 i v936), ∀ (k0_h2 : k0_cond2 i = 1#1), ∀ a, (k0_off194 v936) a + S1x1024.size a ≤ S40960x1024.size a := fun i v936 k0_hw186 k0_h2 => k0_hw186 k0_h2

def k0_off195 (v941 : BitVec 32) : Fin 2 → Nat :=
  let c0_i32_1028 : BitVec 32 := 0#32
  ![v941.toNat, 0]

def k0_chk187 (i : grid0.Coords) (v941 : BitVec 32) : Prop :=
  (∀ (k0_h2 : k0_cond2 i = 1#1), ∀ a, (k0_off195 v941) a + S1x1024.size a ≤ S40960x1024.size a)
theorem k0_off195_inb : ∀ (i : grid0.Coords) (v941 : BitVec 32) (k0_hw187 : k0_chk187 i v941), ∀ (k0_h2 : k0_cond2 i = 1#1), ∀ a, (k0_off195 v941) a + S1x1024.size a ≤ S40960x1024.size a := fun i v941 k0_hw187 k0_h2 => k0_hw187 k0_h2

def k0_off196 (v946 : BitVec 32) : Fin 2 → Nat :=
  let c0_i32_1034 : BitVec 32 := 0#32
  ![v946.toNat, 0]

def k0_chk188 (i : grid0.Coords) (v946 : BitVec 32) : Prop :=
  (∀ (k0_h2 : k0_cond2 i = 1#1), ∀ a, (k0_off196 v946) a + S1x1024.size a ≤ S40960x1024.size a)
theorem k0_off196_inb : ∀ (i : grid0.Coords) (v946 : BitVec 32) (k0_hw188 : k0_chk188 i v946), ∀ (k0_h2 : k0_cond2 i = 1#1), ∀ a, (k0_off196 v946) a + S1x1024.size a ≤ S40960x1024.size a := fun i v946 k0_hw188 k0_h2 => k0_hw188 k0_h2

def k0_off197 (v951 : BitVec 32) : Fin 2 → Nat :=
  let c0_i32_1039 : BitVec 32 := 0#32
  ![v951.toNat, 0]

def k0_chk189 (i : grid0.Coords) (v951 : BitVec 32) : Prop :=
  (∀ (k0_h2 : k0_cond2 i = 1#1), ∀ a, (k0_off197 v951) a + S1x1024.size a ≤ S40960x1024.size a)
theorem k0_off197_inb : ∀ (i : grid0.Coords) (v951 : BitVec 32) (k0_hw189 : k0_chk189 i v951), ∀ (k0_h2 : k0_cond2 i = 1#1), ∀ a, (k0_off197 v951) a + S1x1024.size a ≤ S40960x1024.size a := fun i v951 k0_hw189 k0_h2 => k0_hw189 k0_h2

def k0_off198 (v956 : BitVec 32) : Fin 2 → Nat :=
  let c0_i32_1045 : BitVec 32 := 0#32
  ![v956.toNat, 0]

def k0_chk190 (i : grid0.Coords) (v956 : BitVec 32) : Prop :=
  (∀ (k0_h2 : k0_cond2 i = 1#1), ∀ a, (k0_off198 v956) a + S1x1024.size a ≤ S40960x1024.size a)
theorem k0_off198_inb : ∀ (i : grid0.Coords) (v956 : BitVec 32) (k0_hw190 : k0_chk190 i v956), ∀ (k0_h2 : k0_cond2 i = 1#1), ∀ a, (k0_off198 v956) a + S1x1024.size a ≤ S40960x1024.size a := fun i v956 k0_hw190 k0_h2 => k0_hw190 k0_h2

def k0_off199 (v961 : BitVec 32) : Fin 2 → Nat :=
  let c0_i32_1050 : BitVec 32 := 0#32
  ![v961.toNat, 0]

def k0_chk191 (i : grid0.Coords) (v961 : BitVec 32) : Prop :=
  (∀ (k0_h2 : k0_cond2 i = 1#1), ∀ a, (k0_off199 v961) a + S1x1024.size a ≤ S40960x1024.size a)
theorem k0_off199_inb : ∀ (i : grid0.Coords) (v961 : BitVec 32) (k0_hw191 : k0_chk191 i v961), ∀ (k0_h2 : k0_cond2 i = 1#1), ∀ a, (k0_off199 v961) a + S1x1024.size a ≤ S40960x1024.size a := fun i v961 k0_hw191 k0_h2 => k0_hw191 k0_h2

def k0_off200 (v966 : BitVec 32) : Fin 2 → Nat :=
  let c0_i32_1056 : BitVec 32 := 0#32
  ![v966.toNat, 0]

def k0_chk192 (i : grid0.Coords) (v966 : BitVec 32) : Prop :=
  (∀ (k0_h2 : k0_cond2 i = 1#1), ∀ a, (k0_off200 v966) a + S1x1024.size a ≤ S40960x1024.size a)
theorem k0_off200_inb : ∀ (i : grid0.Coords) (v966 : BitVec 32) (k0_hw192 : k0_chk192 i v966), ∀ (k0_h2 : k0_cond2 i = 1#1), ∀ a, (k0_off200 v966) a + S1x1024.size a ≤ S40960x1024.size a := fun i v966 k0_hw192 k0_h2 => k0_hw192 k0_h2

def k0_off201 (v971 : BitVec 32) : Fin 2 → Nat :=
  let c0_i32_1061 : BitVec 32 := 0#32
  ![v971.toNat, 0]

def k0_chk193 (i : grid0.Coords) (v971 : BitVec 32) : Prop :=
  (∀ (k0_h2 : k0_cond2 i = 1#1), ∀ a, (k0_off201 v971) a + S1x1024.size a ≤ S40960x1024.size a)
theorem k0_off201_inb : ∀ (i : grid0.Coords) (v971 : BitVec 32) (k0_hw193 : k0_chk193 i v971), ∀ (k0_h2 : k0_cond2 i = 1#1), ∀ a, (k0_off201 v971) a + S1x1024.size a ≤ S40960x1024.size a := fun i v971 k0_hw193 k0_h2 => k0_hw193 k0_h2

def k0_off202 (v976 : BitVec 32) : Fin 2 → Nat :=
  let c0_i32_1067 : BitVec 32 := 0#32
  ![v976.toNat, 0]

def k0_chk194 (i : grid0.Coords) (v976 : BitVec 32) : Prop :=
  (∀ (k0_h2 : k0_cond2 i = 1#1), ∀ a, (k0_off202 v976) a + S1x1024.size a ≤ S40960x1024.size a)
theorem k0_off202_inb : ∀ (i : grid0.Coords) (v976 : BitVec 32) (k0_hw194 : k0_chk194 i v976), ∀ (k0_h2 : k0_cond2 i = 1#1), ∀ a, (k0_off202 v976) a + S1x1024.size a ≤ S40960x1024.size a := fun i v976 k0_hw194 k0_h2 => k0_hw194 k0_h2

def k0_off203 (v981 : BitVec 32) : Fin 2 → Nat :=
  let c0_i32_1072 : BitVec 32 := 0#32
  ![v981.toNat, 0]

def k0_chk195 (i : grid0.Coords) (v981 : BitVec 32) : Prop :=
  (∀ (k0_h2 : k0_cond2 i = 1#1), ∀ a, (k0_off203 v981) a + S1x1024.size a ≤ S40960x1024.size a)
theorem k0_off203_inb : ∀ (i : grid0.Coords) (v981 : BitVec 32) (k0_hw195 : k0_chk195 i v981), ∀ (k0_h2 : k0_cond2 i = 1#1), ∀ a, (k0_off203 v981) a + S1x1024.size a ≤ S40960x1024.size a := fun i v981 k0_hw195 k0_h2 => k0_hw195 k0_h2

def k0_off204 (v986 : BitVec 32) : Fin 2 → Nat :=
  let c0_i32_1078 : BitVec 32 := 0#32
  ![v986.toNat, 0]

def k0_chk196 (i : grid0.Coords) (v986 : BitVec 32) : Prop :=
  (∀ (k0_h2 : k0_cond2 i = 1#1), ∀ a, (k0_off204 v986) a + S1x1024.size a ≤ S40960x1024.size a)
theorem k0_off204_inb : ∀ (i : grid0.Coords) (v986 : BitVec 32) (k0_hw196 : k0_chk196 i v986), ∀ (k0_h2 : k0_cond2 i = 1#1), ∀ a, (k0_off204 v986) a + S1x1024.size a ≤ S40960x1024.size a := fun i v986 k0_hw196 k0_h2 => k0_hw196 k0_h2

def k0_off205 (v991 : BitVec 32) : Fin 2 → Nat :=
  let c0_i32_1083 : BitVec 32 := 0#32
  ![v991.toNat, 0]

def k0_chk197 (i : grid0.Coords) (v991 : BitVec 32) : Prop :=
  (∀ (k0_h2 : k0_cond2 i = 1#1), ∀ a, (k0_off205 v991) a + S1x1024.size a ≤ S40960x1024.size a)
theorem k0_off205_inb : ∀ (i : grid0.Coords) (v991 : BitVec 32) (k0_hw197 : k0_chk197 i v991), ∀ (k0_h2 : k0_cond2 i = 1#1), ∀ a, (k0_off205 v991) a + S1x1024.size a ≤ S40960x1024.size a := fun i v991 k0_hw197 k0_h2 => k0_hw197 k0_h2

def k0_off206 (v996 : BitVec 32) : Fin 2 → Nat :=
  let c0_i32_1089 : BitVec 32 := 0#32
  ![v996.toNat, 0]

def k0_chk198 (i : grid0.Coords) (v996 : BitVec 32) : Prop :=
  (∀ (k0_h2 : k0_cond2 i = 1#1), ∀ a, (k0_off206 v996) a + S1x1024.size a ≤ S40960x1024.size a)
theorem k0_off206_inb : ∀ (i : grid0.Coords) (v996 : BitVec 32) (k0_hw198 : k0_chk198 i v996), ∀ (k0_h2 : k0_cond2 i = 1#1), ∀ a, (k0_off206 v996) a + S1x1024.size a ≤ S40960x1024.size a := fun i v996 k0_hw198 k0_h2 => k0_hw198 k0_h2

def k0_off207 (v1001 : BitVec 32) : Fin 2 → Nat :=
  let c0_i32_1094 : BitVec 32 := 0#32
  ![v1001.toNat, 0]

def k0_chk199 (i : grid0.Coords) (v1001 : BitVec 32) : Prop :=
  (∀ (k0_h2 : k0_cond2 i = 1#1), ∀ a, (k0_off207 v1001) a + S1x1024.size a ≤ S40960x1024.size a)
theorem k0_off207_inb : ∀ (i : grid0.Coords) (v1001 : BitVec 32) (k0_hw199 : k0_chk199 i v1001), ∀ (k0_h2 : k0_cond2 i = 1#1), ∀ a, (k0_off207 v1001) a + S1x1024.size a ≤ S40960x1024.size a := fun i v1001 k0_hw199 k0_h2 => k0_hw199 k0_h2

def k0_off208 (v1006 : BitVec 32) : Fin 2 → Nat :=
  let c0_i32_1100 : BitVec 32 := 0#32
  ![v1006.toNat, 0]

def k0_chk200 (i : grid0.Coords) (v1006 : BitVec 32) : Prop :=
  (∀ (k0_h2 : k0_cond2 i = 1#1), ∀ a, (k0_off208 v1006) a + S1x1024.size a ≤ S40960x1024.size a)
theorem k0_off208_inb : ∀ (i : grid0.Coords) (v1006 : BitVec 32) (k0_hw200 : k0_chk200 i v1006), ∀ (k0_h2 : k0_cond2 i = 1#1), ∀ a, (k0_off208 v1006) a + S1x1024.size a ≤ S40960x1024.size a := fun i v1006 k0_hw200 k0_h2 => k0_hw200 k0_h2

def k0_off209 (v1011 : BitVec 32) : Fin 2 → Nat :=
  let c0_i32_1105 : BitVec 32 := 0#32
  ![v1011.toNat, 0]

def k0_chk201 (i : grid0.Coords) (v1011 : BitVec 32) : Prop :=
  (∀ (k0_h2 : k0_cond2 i = 1#1), ∀ a, (k0_off209 v1011) a + S1x1024.size a ≤ S40960x1024.size a)
theorem k0_off209_inb : ∀ (i : grid0.Coords) (v1011 : BitVec 32) (k0_hw201 : k0_chk201 i v1011), ∀ (k0_h2 : k0_cond2 i = 1#1), ∀ a, (k0_off209 v1011) a + S1x1024.size a ≤ S40960x1024.size a := fun i v1011 k0_hw201 k0_h2 => k0_hw201 k0_h2

def k0_off210 (v1016 : BitVec 32) : Fin 2 → Nat :=
  let c0_i32_1111 : BitVec 32 := 0#32
  ![v1016.toNat, 0]

def k0_chk202 (i : grid0.Coords) (v1016 : BitVec 32) : Prop :=
  (∀ (k0_h2 : k0_cond2 i = 1#1), ∀ a, (k0_off210 v1016) a + S1x1024.size a ≤ S40960x1024.size a)
theorem k0_off210_inb : ∀ (i : grid0.Coords) (v1016 : BitVec 32) (k0_hw202 : k0_chk202 i v1016), ∀ (k0_h2 : k0_cond2 i = 1#1), ∀ a, (k0_off210 v1016) a + S1x1024.size a ≤ S40960x1024.size a := fun i v1016 k0_hw202 k0_h2 => k0_hw202 k0_h2

def k0_off211 (v1021 : BitVec 32) : Fin 2 → Nat :=
  let c0_i32_1116 : BitVec 32 := 0#32
  ![v1021.toNat, 0]

def k0_chk203 (i : grid0.Coords) (v1021 : BitVec 32) : Prop :=
  (∀ (k0_h2 : k0_cond2 i = 1#1), ∀ a, (k0_off211 v1021) a + S1x1024.size a ≤ S40960x1024.size a)
theorem k0_off211_inb : ∀ (i : grid0.Coords) (v1021 : BitVec 32) (k0_hw203 : k0_chk203 i v1021), ∀ (k0_h2 : k0_cond2 i = 1#1), ∀ a, (k0_off211 v1021) a + S1x1024.size a ≤ S40960x1024.size a := fun i v1021 k0_hw203 k0_h2 => k0_hw203 k0_h2

def k0_off212 (v1026 : BitVec 32) : Fin 2 → Nat :=
  let c0_i32_1122 : BitVec 32 := 0#32
  ![v1026.toNat, 0]

def k0_chk204 (i : grid0.Coords) (v1026 : BitVec 32) : Prop :=
  (∀ (k0_h2 : k0_cond2 i = 1#1), ∀ a, (k0_off212 v1026) a + S1x1024.size a ≤ S40960x1024.size a)
theorem k0_off212_inb : ∀ (i : grid0.Coords) (v1026 : BitVec 32) (k0_hw204 : k0_chk204 i v1026), ∀ (k0_h2 : k0_cond2 i = 1#1), ∀ a, (k0_off212 v1026) a + S1x1024.size a ≤ S40960x1024.size a := fun i v1026 k0_hw204 k0_h2 => k0_hw204 k0_h2

def k0_off213 (v1031 : BitVec 32) : Fin 2 → Nat :=
  let c0_i32_1127 : BitVec 32 := 0#32
  ![v1031.toNat, 0]

def k0_chk205 (i : grid0.Coords) (v1031 : BitVec 32) : Prop :=
  (∀ (k0_h2 : k0_cond2 i = 1#1), ∀ a, (k0_off213 v1031) a + S1x1024.size a ≤ S40960x1024.size a)
theorem k0_off213_inb : ∀ (i : grid0.Coords) (v1031 : BitVec 32) (k0_hw205 : k0_chk205 i v1031), ∀ (k0_h2 : k0_cond2 i = 1#1), ∀ a, (k0_off213 v1031) a + S1x1024.size a ≤ S40960x1024.size a := fun i v1031 k0_hw205 k0_h2 => k0_hw205 k0_h2

def k0_off214 (v1036 : BitVec 32) : Fin 2 → Nat :=
  let c0_i32_1133 : BitVec 32 := 0#32
  ![v1036.toNat, 0]

def k0_chk206 (i : grid0.Coords) (v1036 : BitVec 32) : Prop :=
  (∀ (k0_h2 : k0_cond2 i = 1#1), ∀ a, (k0_off214 v1036) a + S1x1024.size a ≤ S40960x1024.size a)
theorem k0_off214_inb : ∀ (i : grid0.Coords) (v1036 : BitVec 32) (k0_hw206 : k0_chk206 i v1036), ∀ (k0_h2 : k0_cond2 i = 1#1), ∀ a, (k0_off214 v1036) a + S1x1024.size a ≤ S40960x1024.size a := fun i v1036 k0_hw206 k0_h2 => k0_hw206 k0_h2

def k0_off215 (v1041 : BitVec 32) : Fin 2 → Nat :=
  let c0_i32_1138 : BitVec 32 := 0#32
  ![v1041.toNat, 0]

def k0_chk207 (i : grid0.Coords) (v1041 : BitVec 32) : Prop :=
  (∀ (k0_h2 : k0_cond2 i = 1#1), ∀ a, (k0_off215 v1041) a + S1x1024.size a ≤ S40960x1024.size a)
theorem k0_off215_inb : ∀ (i : grid0.Coords) (v1041 : BitVec 32) (k0_hw207 : k0_chk207 i v1041), ∀ (k0_h2 : k0_cond2 i = 1#1), ∀ a, (k0_off215 v1041) a + S1x1024.size a ≤ S40960x1024.size a := fun i v1041 k0_hw207 k0_h2 => k0_hw207 k0_h2

def k0_off216 (v1046 : BitVec 32) : Fin 2 → Nat :=
  let c0_i32_1144 : BitVec 32 := 0#32
  ![v1046.toNat, 0]

def k0_chk208 (i : grid0.Coords) (v1046 : BitVec 32) : Prop :=
  (∀ (k0_h2 : k0_cond2 i = 1#1), ∀ a, (k0_off216 v1046) a + S1x1024.size a ≤ S40960x1024.size a)
theorem k0_off216_inb : ∀ (i : grid0.Coords) (v1046 : BitVec 32) (k0_hw208 : k0_chk208 i v1046), ∀ (k0_h2 : k0_cond2 i = 1#1), ∀ a, (k0_off216 v1046) a + S1x1024.size a ≤ S40960x1024.size a := fun i v1046 k0_hw208 k0_h2 => k0_hw208 k0_h2

def k0_off217 (v1051 : BitVec 32) : Fin 2 → Nat :=
  let c0_i32_1149 : BitVec 32 := 0#32
  ![v1051.toNat, 0]

def k0_chk209 (i : grid0.Coords) (v1051 : BitVec 32) : Prop :=
  (∀ (k0_h2 : k0_cond2 i = 1#1), ∀ a, (k0_off217 v1051) a + S1x1024.size a ≤ S40960x1024.size a)
theorem k0_off217_inb : ∀ (i : grid0.Coords) (v1051 : BitVec 32) (k0_hw209 : k0_chk209 i v1051), ∀ (k0_h2 : k0_cond2 i = 1#1), ∀ a, (k0_off217 v1051) a + S1x1024.size a ≤ S40960x1024.size a := fun i v1051 k0_hw209 k0_h2 => k0_hw209 k0_h2

def k0_off218 (v1056 : BitVec 32) : Fin 2 → Nat :=
  let c0_i32_1155 : BitVec 32 := 0#32
  ![v1056.toNat, 0]

def k0_chk210 (i : grid0.Coords) (v1056 : BitVec 32) : Prop :=
  (∀ (k0_h2 : k0_cond2 i = 1#1), ∀ a, (k0_off218 v1056) a + S1x1024.size a ≤ S40960x1024.size a)
theorem k0_off218_inb : ∀ (i : grid0.Coords) (v1056 : BitVec 32) (k0_hw210 : k0_chk210 i v1056), ∀ (k0_h2 : k0_cond2 i = 1#1), ∀ a, (k0_off218 v1056) a + S1x1024.size a ≤ S40960x1024.size a := fun i v1056 k0_hw210 k0_h2 => k0_hw210 k0_h2

def k0_off219 (v1061 : BitVec 32) : Fin 2 → Nat :=
  let c0_i32_1160 : BitVec 32 := 0#32
  ![v1061.toNat, 0]

def k0_chk211 (i : grid0.Coords) (v1061 : BitVec 32) : Prop :=
  (∀ (k0_h2 : k0_cond2 i = 1#1), ∀ a, (k0_off219 v1061) a + S1x1024.size a ≤ S40960x1024.size a)
theorem k0_off219_inb : ∀ (i : grid0.Coords) (v1061 : BitVec 32) (k0_hw211 : k0_chk211 i v1061), ∀ (k0_h2 : k0_cond2 i = 1#1), ∀ a, (k0_off219 v1061) a + S1x1024.size a ≤ S40960x1024.size a := fun i v1061 k0_hw211 k0_h2 => k0_hw211 k0_h2

def k0_off220 (v1066 : BitVec 32) : Fin 2 → Nat :=
  let c0_i32_1166 : BitVec 32 := 0#32
  ![v1066.toNat, 0]

def k0_chk212 (i : grid0.Coords) (v1066 : BitVec 32) : Prop :=
  (∀ (k0_h2 : k0_cond2 i = 1#1), ∀ a, (k0_off220 v1066) a + S1x1024.size a ≤ S40960x1024.size a)
theorem k0_off220_inb : ∀ (i : grid0.Coords) (v1066 : BitVec 32) (k0_hw212 : k0_chk212 i v1066), ∀ (k0_h2 : k0_cond2 i = 1#1), ∀ a, (k0_off220 v1066) a + S1x1024.size a ≤ S40960x1024.size a := fun i v1066 k0_hw212 k0_h2 => k0_hw212 k0_h2

def k0_off221 (v1071 : BitVec 32) : Fin 2 → Nat :=
  let c0_i32_1171 : BitVec 32 := 0#32
  ![v1071.toNat, 0]

def k0_chk213 (i : grid0.Coords) (v1071 : BitVec 32) : Prop :=
  (∀ (k0_h2 : k0_cond2 i = 1#1), ∀ a, (k0_off221 v1071) a + S1x1024.size a ≤ S40960x1024.size a)
theorem k0_off221_inb : ∀ (i : grid0.Coords) (v1071 : BitVec 32) (k0_hw213 : k0_chk213 i v1071), ∀ (k0_h2 : k0_cond2 i = 1#1), ∀ a, (k0_off221 v1071) a + S1x1024.size a ≤ S40960x1024.size a := fun i v1071 k0_hw213 k0_h2 => k0_hw213 k0_h2

def k0_off222 (v1076 : BitVec 32) : Fin 2 → Nat :=
  let c0_i32_1177 : BitVec 32 := 0#32
  ![v1076.toNat, 0]

def k0_chk214 (i : grid0.Coords) (v1076 : BitVec 32) : Prop :=
  (∀ (k0_h2 : k0_cond2 i = 1#1), ∀ a, (k0_off222 v1076) a + S1x1024.size a ≤ S40960x1024.size a)
theorem k0_off222_inb : ∀ (i : grid0.Coords) (v1076 : BitVec 32) (k0_hw214 : k0_chk214 i v1076), ∀ (k0_h2 : k0_cond2 i = 1#1), ∀ a, (k0_off222 v1076) a + S1x1024.size a ≤ S40960x1024.size a := fun i v1076 k0_hw214 k0_h2 => k0_hw214 k0_h2

def k0_off223 (v1081 : BitVec 32) : Fin 2 → Nat :=
  let c0_i32_1182 : BitVec 32 := 0#32
  ![v1081.toNat, 0]

def k0_chk215 (i : grid0.Coords) (v1081 : BitVec 32) : Prop :=
  (∀ (k0_h2 : k0_cond2 i = 1#1), ∀ a, (k0_off223 v1081) a + S1x1024.size a ≤ S40960x1024.size a)
theorem k0_off223_inb : ∀ (i : grid0.Coords) (v1081 : BitVec 32) (k0_hw215 : k0_chk215 i v1081), ∀ (k0_h2 : k0_cond2 i = 1#1), ∀ a, (k0_off223 v1081) a + S1x1024.size a ≤ S40960x1024.size a := fun i v1081 k0_hw215 k0_h2 => k0_hw215 k0_h2

def k0_off224 (v1086 : BitVec 32) : Fin 2 → Nat :=
  let c0_i32_1188 : BitVec 32 := 0#32
  ![v1086.toNat, 0]

def k0_chk216 (i : grid0.Coords) (v1086 : BitVec 32) : Prop :=
  (∀ (k0_h2 : k0_cond2 i = 1#1), ∀ a, (k0_off224 v1086) a + S1x1024.size a ≤ S40960x1024.size a)
theorem k0_off224_inb : ∀ (i : grid0.Coords) (v1086 : BitVec 32) (k0_hw216 : k0_chk216 i v1086), ∀ (k0_h2 : k0_cond2 i = 1#1), ∀ a, (k0_off224 v1086) a + S1x1024.size a ≤ S40960x1024.size a := fun i v1086 k0_hw216 k0_h2 => k0_hw216 k0_h2

def k0_off225 (v1091 : BitVec 32) : Fin 2 → Nat :=
  let c0_i32_1193 : BitVec 32 := 0#32
  ![v1091.toNat, 0]

def k0_chk217 (i : grid0.Coords) (v1091 : BitVec 32) : Prop :=
  (∀ (k0_h2 : k0_cond2 i = 1#1), ∀ a, (k0_off225 v1091) a + S1x1024.size a ≤ S40960x1024.size a)
theorem k0_off225_inb : ∀ (i : grid0.Coords) (v1091 : BitVec 32) (k0_hw217 : k0_chk217 i v1091), ∀ (k0_h2 : k0_cond2 i = 1#1), ∀ a, (k0_off225 v1091) a + S1x1024.size a ≤ S40960x1024.size a := fun i v1091 k0_hw217 k0_h2 => k0_hw217 k0_h2

def k0_off226 (v1096 : BitVec 32) : Fin 2 → Nat :=
  let c0_i32_1199 : BitVec 32 := 0#32
  ![v1096.toNat, 0]

def k0_chk218 (i : grid0.Coords) (v1096 : BitVec 32) : Prop :=
  (∀ (k0_h2 : k0_cond2 i = 1#1), ∀ a, (k0_off226 v1096) a + S1x1024.size a ≤ S40960x1024.size a)
theorem k0_off226_inb : ∀ (i : grid0.Coords) (v1096 : BitVec 32) (k0_hw218 : k0_chk218 i v1096), ∀ (k0_h2 : k0_cond2 i = 1#1), ∀ a, (k0_off226 v1096) a + S1x1024.size a ≤ S40960x1024.size a := fun i v1096 k0_hw218 k0_h2 => k0_hw218 k0_h2

def k0_off227 (v1101 : BitVec 32) : Fin 2 → Nat :=
  let c0_i32_1204 : BitVec 32 := 0#32
  ![v1101.toNat, 0]

def k0_chk219 (i : grid0.Coords) (v1101 : BitVec 32) : Prop :=
  (∀ (k0_h2 : k0_cond2 i = 1#1), ∀ a, (k0_off227 v1101) a + S1x1024.size a ≤ S40960x1024.size a)
theorem k0_off227_inb : ∀ (i : grid0.Coords) (v1101 : BitVec 32) (k0_hw219 : k0_chk219 i v1101), ∀ (k0_h2 : k0_cond2 i = 1#1), ∀ a, (k0_off227 v1101) a + S1x1024.size a ≤ S40960x1024.size a := fun i v1101 k0_hw219 k0_h2 => k0_hw219 k0_h2

def k0_off228 (v1106 : BitVec 32) : Fin 2 → Nat :=
  let c0_i32_1210 : BitVec 32 := 0#32
  ![v1106.toNat, 0]

def k0_chk220 (i : grid0.Coords) (v1106 : BitVec 32) : Prop :=
  (∀ (k0_h2 : k0_cond2 i = 1#1), ∀ a, (k0_off228 v1106) a + S1x1024.size a ≤ S40960x1024.size a)
theorem k0_off228_inb : ∀ (i : grid0.Coords) (v1106 : BitVec 32) (k0_hw220 : k0_chk220 i v1106), ∀ (k0_h2 : k0_cond2 i = 1#1), ∀ a, (k0_off228 v1106) a + S1x1024.size a ≤ S40960x1024.size a := fun i v1106 k0_hw220 k0_h2 => k0_hw220 k0_h2

def k0_off229 (v1111 : BitVec 32) : Fin 2 → Nat :=
  let c0_i32_1215 : BitVec 32 := 0#32
  ![v1111.toNat, 0]

def k0_chk221 (i : grid0.Coords) (v1111 : BitVec 32) : Prop :=
  (∀ (k0_h2 : k0_cond2 i = 1#1), ∀ a, (k0_off229 v1111) a + S1x1024.size a ≤ S40960x1024.size a)
theorem k0_off229_inb : ∀ (i : grid0.Coords) (v1111 : BitVec 32) (k0_hw221 : k0_chk221 i v1111), ∀ (k0_h2 : k0_cond2 i = 1#1), ∀ a, (k0_off229 v1111) a + S1x1024.size a ≤ S40960x1024.size a := fun i v1111 k0_hw221 k0_h2 => k0_hw221 k0_h2

def k0_off230 (v1116 : BitVec 32) : Fin 2 → Nat :=
  let c0_i32_1221 : BitVec 32 := 0#32
  ![v1116.toNat, 0]

def k0_chk222 (i : grid0.Coords) (v1116 : BitVec 32) : Prop :=
  (∀ (k0_h2 : k0_cond2 i = 1#1), ∀ a, (k0_off230 v1116) a + S1x1024.size a ≤ S40960x1024.size a)
theorem k0_off230_inb : ∀ (i : grid0.Coords) (v1116 : BitVec 32) (k0_hw222 : k0_chk222 i v1116), ∀ (k0_h2 : k0_cond2 i = 1#1), ∀ a, (k0_off230 v1116) a + S1x1024.size a ≤ S40960x1024.size a := fun i v1116 k0_hw222 k0_h2 => k0_hw222 k0_h2

def k0_off231 (v1121 : BitVec 32) : Fin 2 → Nat :=
  let c0_i32_1226 : BitVec 32 := 0#32
  ![v1121.toNat, 0]

def k0_chk223 (i : grid0.Coords) (v1121 : BitVec 32) : Prop :=
  (∀ (k0_h2 : k0_cond2 i = 1#1), ∀ a, (k0_off231 v1121) a + S1x1024.size a ≤ S40960x1024.size a)
theorem k0_off231_inb : ∀ (i : grid0.Coords) (v1121 : BitVec 32) (k0_hw223 : k0_chk223 i v1121), ∀ (k0_h2 : k0_cond2 i = 1#1), ∀ a, (k0_off231 v1121) a + S1x1024.size a ≤ S40960x1024.size a := fun i v1121 k0_hw223 k0_h2 => k0_hw223 k0_h2

def k0_off232 (v1126 : BitVec 32) : Fin 2 → Nat :=
  let c0_i32_1232 : BitVec 32 := 0#32
  ![v1126.toNat, 0]

def k0_chk224 (i : grid0.Coords) (v1126 : BitVec 32) : Prop :=
  (∀ (k0_h2 : k0_cond2 i = 1#1), ∀ a, (k0_off232 v1126) a + S1x1024.size a ≤ S40960x1024.size a)
theorem k0_off232_inb : ∀ (i : grid0.Coords) (v1126 : BitVec 32) (k0_hw224 : k0_chk224 i v1126), ∀ (k0_h2 : k0_cond2 i = 1#1), ∀ a, (k0_off232 v1126) a + S1x1024.size a ≤ S40960x1024.size a := fun i v1126 k0_hw224 k0_h2 => k0_hw224 k0_h2

def k0_off233 (v1131 : BitVec 32) : Fin 2 → Nat :=
  let c0_i32_1237 : BitVec 32 := 0#32
  ![v1131.toNat, 0]

def k0_chk225 (i : grid0.Coords) (v1131 : BitVec 32) : Prop :=
  (∀ (k0_h2 : k0_cond2 i = 1#1), ∀ a, (k0_off233 v1131) a + S1x1024.size a ≤ S40960x1024.size a)
theorem k0_off233_inb : ∀ (i : grid0.Coords) (v1131 : BitVec 32) (k0_hw225 : k0_chk225 i v1131), ∀ (k0_h2 : k0_cond2 i = 1#1), ∀ a, (k0_off233 v1131) a + S1x1024.size a ≤ S40960x1024.size a := fun i v1131 k0_hw225 k0_h2 => k0_hw225 k0_h2

def k0_off234 (v1136 : BitVec 32) : Fin 2 → Nat :=
  let c0_i32_1243 : BitVec 32 := 0#32
  ![v1136.toNat, 0]

def k0_chk226 (i : grid0.Coords) (v1136 : BitVec 32) : Prop :=
  (∀ (k0_h2 : k0_cond2 i = 1#1), ∀ a, (k0_off234 v1136) a + S1x1024.size a ≤ S40960x1024.size a)
theorem k0_off234_inb : ∀ (i : grid0.Coords) (v1136 : BitVec 32) (k0_hw226 : k0_chk226 i v1136), ∀ (k0_h2 : k0_cond2 i = 1#1), ∀ a, (k0_off234 v1136) a + S1x1024.size a ≤ S40960x1024.size a := fun i v1136 k0_hw226 k0_h2 => k0_hw226 k0_h2

def k0_off235 (v1141 : BitVec 32) : Fin 2 → Nat :=
  let c0_i32_1248 : BitVec 32 := 0#32
  ![v1141.toNat, 0]

def k0_chk227 (i : grid0.Coords) (v1141 : BitVec 32) : Prop :=
  (∀ (k0_h2 : k0_cond2 i = 1#1), ∀ a, (k0_off235 v1141) a + S1x1024.size a ≤ S40960x1024.size a)
theorem k0_off235_inb : ∀ (i : grid0.Coords) (v1141 : BitVec 32) (k0_hw227 : k0_chk227 i v1141), ∀ (k0_h2 : k0_cond2 i = 1#1), ∀ a, (k0_off235 v1141) a + S1x1024.size a ≤ S40960x1024.size a := fun i v1141 k0_hw227 k0_h2 => k0_hw227 k0_h2

def k0_off236 (v1146 : BitVec 32) : Fin 2 → Nat :=
  let c0_i32_1254 : BitVec 32 := 0#32
  ![v1146.toNat, 0]

def k0_chk228 (i : grid0.Coords) (v1146 : BitVec 32) : Prop :=
  (∀ (k0_h2 : k0_cond2 i = 1#1), ∀ a, (k0_off236 v1146) a + S1x1024.size a ≤ S40960x1024.size a)
theorem k0_off236_inb : ∀ (i : grid0.Coords) (v1146 : BitVec 32) (k0_hw228 : k0_chk228 i v1146), ∀ (k0_h2 : k0_cond2 i = 1#1), ∀ a, (k0_off236 v1146) a + S1x1024.size a ≤ S40960x1024.size a := fun i v1146 k0_hw228 k0_h2 => k0_hw228 k0_h2

def k0_off237 (v1151 : BitVec 32) : Fin 2 → Nat :=
  let c0_i32_1259 : BitVec 32 := 0#32
  ![v1151.toNat, 0]

def k0_chk229 (i : grid0.Coords) (v1151 : BitVec 32) : Prop :=
  (∀ (k0_h2 : k0_cond2 i = 1#1), ∀ a, (k0_off237 v1151) a + S1x1024.size a ≤ S40960x1024.size a)
theorem k0_off237_inb : ∀ (i : grid0.Coords) (v1151 : BitVec 32) (k0_hw229 : k0_chk229 i v1151), ∀ (k0_h2 : k0_cond2 i = 1#1), ∀ a, (k0_off237 v1151) a + S1x1024.size a ≤ S40960x1024.size a := fun i v1151 k0_hw229 k0_h2 => k0_hw229 k0_h2

def k0_off238 (v1156 : BitVec 32) : Fin 2 → Nat :=
  let c0_i32_1265 : BitVec 32 := 0#32
  ![v1156.toNat, 0]

def k0_chk230 (i : grid0.Coords) (v1156 : BitVec 32) : Prop :=
  (∀ (k0_h2 : k0_cond2 i = 1#1), ∀ a, (k0_off238 v1156) a + S1x1024.size a ≤ S40960x1024.size a)
theorem k0_off238_inb : ∀ (i : grid0.Coords) (v1156 : BitVec 32) (k0_hw230 : k0_chk230 i v1156), ∀ (k0_h2 : k0_cond2 i = 1#1), ∀ a, (k0_off238 v1156) a + S1x1024.size a ≤ S40960x1024.size a := fun i v1156 k0_hw230 k0_h2 => k0_hw230 k0_h2

def k0_off239 (v1161 : BitVec 32) : Fin 2 → Nat :=
  let c0_i32_1270 : BitVec 32 := 0#32
  ![v1161.toNat, 0]

def k0_chk231 (i : grid0.Coords) (v1161 : BitVec 32) : Prop :=
  (∀ (k0_h2 : k0_cond2 i = 1#1), ∀ a, (k0_off239 v1161) a + S1x1024.size a ≤ S40960x1024.size a)
theorem k0_off239_inb : ∀ (i : grid0.Coords) (v1161 : BitVec 32) (k0_hw231 : k0_chk231 i v1161), ∀ (k0_h2 : k0_cond2 i = 1#1), ∀ a, (k0_off239 v1161) a + S1x1024.size a ≤ S40960x1024.size a := fun i v1161 k0_hw231 k0_h2 => k0_hw231 k0_h2

def k0_off240 (v1166 : BitVec 32) : Fin 2 → Nat :=
  let c0_i32_1276 : BitVec 32 := 0#32
  ![v1166.toNat, 0]

def k0_chk232 (i : grid0.Coords) (v1166 : BitVec 32) : Prop :=
  (∀ (k0_h2 : k0_cond2 i = 1#1), ∀ a, (k0_off240 v1166) a + S1x1024.size a ≤ S40960x1024.size a)
theorem k0_off240_inb : ∀ (i : grid0.Coords) (v1166 : BitVec 32) (k0_hw232 : k0_chk232 i v1166), ∀ (k0_h2 : k0_cond2 i = 1#1), ∀ a, (k0_off240 v1166) a + S1x1024.size a ≤ S40960x1024.size a := fun i v1166 k0_hw232 k0_h2 => k0_hw232 k0_h2

def k0_off241 (v1171 : BitVec 32) : Fin 2 → Nat :=
  let c0_i32_1281 : BitVec 32 := 0#32
  ![v1171.toNat, 0]

def k0_chk233 (i : grid0.Coords) (v1171 : BitVec 32) : Prop :=
  (∀ (k0_h2 : k0_cond2 i = 1#1), ∀ a, (k0_off241 v1171) a + S1x1024.size a ≤ S40960x1024.size a)
theorem k0_off241_inb : ∀ (i : grid0.Coords) (v1171 : BitVec 32) (k0_hw233 : k0_chk233 i v1171), ∀ (k0_h2 : k0_cond2 i = 1#1), ∀ a, (k0_off241 v1171) a + S1x1024.size a ≤ S40960x1024.size a := fun i v1171 k0_hw233 k0_h2 => k0_hw233 k0_h2

def k0_off242 (v1176 : BitVec 32) : Fin 2 → Nat :=
  let c0_i32_1287 : BitVec 32 := 0#32
  ![v1176.toNat, 0]

def k0_chk234 (i : grid0.Coords) (v1176 : BitVec 32) : Prop :=
  (∀ (k0_h2 : k0_cond2 i = 1#1), ∀ a, (k0_off242 v1176) a + S1x1024.size a ≤ S40960x1024.size a)
theorem k0_off242_inb : ∀ (i : grid0.Coords) (v1176 : BitVec 32) (k0_hw234 : k0_chk234 i v1176), ∀ (k0_h2 : k0_cond2 i = 1#1), ∀ a, (k0_off242 v1176) a + S1x1024.size a ≤ S40960x1024.size a := fun i v1176 k0_hw234 k0_h2 => k0_hw234 k0_h2

def k0_off243 (v1181 : BitVec 32) : Fin 2 → Nat :=
  let c0_i32_1292 : BitVec 32 := 0#32
  ![v1181.toNat, 0]

def k0_chk235 (i : grid0.Coords) (v1181 : BitVec 32) : Prop :=
  (∀ (k0_h2 : k0_cond2 i = 1#1), ∀ a, (k0_off243 v1181) a + S1x1024.size a ≤ S40960x1024.size a)
theorem k0_off243_inb : ∀ (i : grid0.Coords) (v1181 : BitVec 32) (k0_hw235 : k0_chk235 i v1181), ∀ (k0_h2 : k0_cond2 i = 1#1), ∀ a, (k0_off243 v1181) a + S1x1024.size a ≤ S40960x1024.size a := fun i v1181 k0_hw235 k0_h2 => k0_hw235 k0_h2

def k0_off244 (v1186 : BitVec 32) : Fin 2 → Nat :=
  let c0_i32_1298 : BitVec 32 := 0#32
  ![v1186.toNat, 0]

def k0_chk236 (i : grid0.Coords) (v1186 : BitVec 32) : Prop :=
  (∀ (k0_h2 : k0_cond2 i = 1#1), ∀ a, (k0_off244 v1186) a + S1x1024.size a ≤ S40960x1024.size a)
theorem k0_off244_inb : ∀ (i : grid0.Coords) (v1186 : BitVec 32) (k0_hw236 : k0_chk236 i v1186), ∀ (k0_h2 : k0_cond2 i = 1#1), ∀ a, (k0_off244 v1186) a + S1x1024.size a ≤ S40960x1024.size a := fun i v1186 k0_hw236 k0_h2 => k0_hw236 k0_h2

def k0_off245 (v1191 : BitVec 32) : Fin 2 → Nat :=
  let c0_i32_1303 : BitVec 32 := 0#32
  ![v1191.toNat, 0]

def k0_chk237 (i : grid0.Coords) (v1191 : BitVec 32) : Prop :=
  (∀ (k0_h2 : k0_cond2 i = 1#1), ∀ a, (k0_off245 v1191) a + S1x1024.size a ≤ S40960x1024.size a)
theorem k0_off245_inb : ∀ (i : grid0.Coords) (v1191 : BitVec 32) (k0_hw237 : k0_chk237 i v1191), ∀ (k0_h2 : k0_cond2 i = 1#1), ∀ a, (k0_off245 v1191) a + S1x1024.size a ≤ S40960x1024.size a := fun i v1191 k0_hw237 k0_h2 => k0_hw237 k0_h2

def k0_off246 (v1196 : BitVec 32) : Fin 2 → Nat :=
  let c0_i32_1309 : BitVec 32 := 0#32
  ![v1196.toNat, 0]

def k0_chk238 (i : grid0.Coords) (v1196 : BitVec 32) : Prop :=
  (∀ (k0_h2 : k0_cond2 i = 1#1), ∀ a, (k0_off246 v1196) a + S1x1024.size a ≤ S40960x1024.size a)
theorem k0_off246_inb : ∀ (i : grid0.Coords) (v1196 : BitVec 32) (k0_hw238 : k0_chk238 i v1196), ∀ (k0_h2 : k0_cond2 i = 1#1), ∀ a, (k0_off246 v1196) a + S1x1024.size a ≤ S40960x1024.size a := fun i v1196 k0_hw238 k0_h2 => k0_hw238 k0_h2

def k0_off247 (v1201 : BitVec 32) : Fin 2 → Nat :=
  let c0_i32_1314 : BitVec 32 := 0#32
  ![v1201.toNat, 0]

def k0_chk239 (i : grid0.Coords) (v1201 : BitVec 32) : Prop :=
  (∀ (k0_h2 : k0_cond2 i = 1#1), ∀ a, (k0_off247 v1201) a + S1x1024.size a ≤ S40960x1024.size a)
theorem k0_off247_inb : ∀ (i : grid0.Coords) (v1201 : BitVec 32) (k0_hw239 : k0_chk239 i v1201), ∀ (k0_h2 : k0_cond2 i = 1#1), ∀ a, (k0_off247 v1201) a + S1x1024.size a ≤ S40960x1024.size a := fun i v1201 k0_hw239 k0_h2 => k0_hw239 k0_h2

def k0_off248 (v1206 : BitVec 32) : Fin 2 → Nat :=
  let c0_i32_1320 : BitVec 32 := 0#32
  ![v1206.toNat, 0]

def k0_chk240 (i : grid0.Coords) (v1206 : BitVec 32) : Prop :=
  (∀ (k0_h2 : k0_cond2 i = 1#1), ∀ a, (k0_off248 v1206) a + S1x1024.size a ≤ S40960x1024.size a)
theorem k0_off248_inb : ∀ (i : grid0.Coords) (v1206 : BitVec 32) (k0_hw240 : k0_chk240 i v1206), ∀ (k0_h2 : k0_cond2 i = 1#1), ∀ a, (k0_off248 v1206) a + S1x1024.size a ≤ S40960x1024.size a := fun i v1206 k0_hw240 k0_h2 => k0_hw240 k0_h2

def k0_off249 (v1211 : BitVec 32) : Fin 2 → Nat :=
  let c0_i32_1325 : BitVec 32 := 0#32
  ![v1211.toNat, 0]

def k0_chk241 (i : grid0.Coords) (v1211 : BitVec 32) : Prop :=
  (∀ (k0_h2 : k0_cond2 i = 1#1), ∀ a, (k0_off249 v1211) a + S1x1024.size a ≤ S40960x1024.size a)
theorem k0_off249_inb : ∀ (i : grid0.Coords) (v1211 : BitVec 32) (k0_hw241 : k0_chk241 i v1211), ∀ (k0_h2 : k0_cond2 i = 1#1), ∀ a, (k0_off249 v1211) a + S1x1024.size a ≤ S40960x1024.size a := fun i v1211 k0_hw241 k0_h2 => k0_hw241 k0_h2

def k0_off250 (v1216 : BitVec 32) : Fin 2 → Nat :=
  let c0_i32_1331 : BitVec 32 := 0#32
  ![v1216.toNat, 0]

def k0_chk242 (i : grid0.Coords) (v1216 : BitVec 32) : Prop :=
  (∀ (k0_h2 : k0_cond2 i = 1#1), ∀ a, (k0_off250 v1216) a + S1x1024.size a ≤ S40960x1024.size a)
theorem k0_off250_inb : ∀ (i : grid0.Coords) (v1216 : BitVec 32) (k0_hw242 : k0_chk242 i v1216), ∀ (k0_h2 : k0_cond2 i = 1#1), ∀ a, (k0_off250 v1216) a + S1x1024.size a ≤ S40960x1024.size a := fun i v1216 k0_hw242 k0_h2 => k0_hw242 k0_h2

def k0_off251 (v1221 : BitVec 32) : Fin 2 → Nat :=
  let c0_i32_1336 : BitVec 32 := 0#32
  ![v1221.toNat, 0]

def k0_chk243 (i : grid0.Coords) (v1221 : BitVec 32) : Prop :=
  (∀ (k0_h2 : k0_cond2 i = 1#1), ∀ a, (k0_off251 v1221) a + S1x1024.size a ≤ S40960x1024.size a)
theorem k0_off251_inb : ∀ (i : grid0.Coords) (v1221 : BitVec 32) (k0_hw243 : k0_chk243 i v1221), ∀ (k0_h2 : k0_cond2 i = 1#1), ∀ a, (k0_off251 v1221) a + S1x1024.size a ≤ S40960x1024.size a := fun i v1221 k0_hw243 k0_h2 => k0_hw243 k0_h2

def k0_off252 (v1226 : BitVec 32) : Fin 2 → Nat :=
  let c0_i32_1342 : BitVec 32 := 0#32
  ![v1226.toNat, 0]

def k0_chk244 (i : grid0.Coords) (v1226 : BitVec 32) : Prop :=
  (∀ (k0_h2 : k0_cond2 i = 1#1), ∀ a, (k0_off252 v1226) a + S1x1024.size a ≤ S40960x1024.size a)
theorem k0_off252_inb : ∀ (i : grid0.Coords) (v1226 : BitVec 32) (k0_hw244 : k0_chk244 i v1226), ∀ (k0_h2 : k0_cond2 i = 1#1), ∀ a, (k0_off252 v1226) a + S1x1024.size a ≤ S40960x1024.size a := fun i v1226 k0_hw244 k0_h2 => k0_hw244 k0_h2

def k0_off253 (v1231 : BitVec 32) : Fin 2 → Nat :=
  let c0_i32_1347 : BitVec 32 := 0#32
  ![v1231.toNat, 0]

def k0_chk245 (i : grid0.Coords) (v1231 : BitVec 32) : Prop :=
  (∀ (k0_h2 : k0_cond2 i = 1#1), ∀ a, (k0_off253 v1231) a + S1x1024.size a ≤ S40960x1024.size a)
theorem k0_off253_inb : ∀ (i : grid0.Coords) (v1231 : BitVec 32) (k0_hw245 : k0_chk245 i v1231), ∀ (k0_h2 : k0_cond2 i = 1#1), ∀ a, (k0_off253 v1231) a + S1x1024.size a ≤ S40960x1024.size a := fun i v1231 k0_hw245 k0_h2 => k0_hw245 k0_h2

def k0_off254 (v1236 : BitVec 32) : Fin 2 → Nat :=
  let c0_i32_1353 : BitVec 32 := 0#32
  ![v1236.toNat, 0]

def k0_chk246 (i : grid0.Coords) (v1236 : BitVec 32) : Prop :=
  (∀ (k0_h2 : k0_cond2 i = 1#1), ∀ a, (k0_off254 v1236) a + S1x1024.size a ≤ S40960x1024.size a)
theorem k0_off254_inb : ∀ (i : grid0.Coords) (v1236 : BitVec 32) (k0_hw246 : k0_chk246 i v1236), ∀ (k0_h2 : k0_cond2 i = 1#1), ∀ a, (k0_off254 v1236) a + S1x1024.size a ≤ S40960x1024.size a := fun i v1236 k0_hw246 k0_h2 => k0_hw246 k0_h2

def k0_off255 (v1241 : BitVec 32) : Fin 2 → Nat :=
  let c0_i32_1358 : BitVec 32 := 0#32
  ![v1241.toNat, 0]

def k0_chk247 (i : grid0.Coords) (v1241 : BitVec 32) : Prop :=
  (∀ (k0_h2 : k0_cond2 i = 1#1), ∀ a, (k0_off255 v1241) a + S1x1024.size a ≤ S40960x1024.size a)
theorem k0_off255_inb : ∀ (i : grid0.Coords) (v1241 : BitVec 32) (k0_hw247 : k0_chk247 i v1241), ∀ (k0_h2 : k0_cond2 i = 1#1), ∀ a, (k0_off255 v1241) a + S1x1024.size a ≤ S40960x1024.size a := fun i v1241 k0_hw247 k0_h2 => k0_hw247 k0_h2

def k0_off256 (v1246 : BitVec 32) : Fin 2 → Nat :=
  let c0_i32_1364 : BitVec 32 := 0#32
  ![v1246.toNat, 0]

def k0_chk248 (i : grid0.Coords) (v1246 : BitVec 32) : Prop :=
  (∀ (k0_h2 : k0_cond2 i = 1#1), ∀ a, (k0_off256 v1246) a + S1x1024.size a ≤ S40960x1024.size a)
theorem k0_off256_inb : ∀ (i : grid0.Coords) (v1246 : BitVec 32) (k0_hw248 : k0_chk248 i v1246), ∀ (k0_h2 : k0_cond2 i = 1#1), ∀ a, (k0_off256 v1246) a + S1x1024.size a ≤ S40960x1024.size a := fun i v1246 k0_hw248 k0_h2 => k0_hw248 k0_h2

def k0_off257 (v1251 : BitVec 32) : Fin 2 → Nat :=
  let c0_i32_1369 : BitVec 32 := 0#32
  ![v1251.toNat, 0]

def k0_chk249 (i : grid0.Coords) (v1251 : BitVec 32) : Prop :=
  (∀ (k0_h2 : k0_cond2 i = 1#1), ∀ a, (k0_off257 v1251) a + S1x1024.size a ≤ S40960x1024.size a)
theorem k0_off257_inb : ∀ (i : grid0.Coords) (v1251 : BitVec 32) (k0_hw249 : k0_chk249 i v1251), ∀ (k0_h2 : k0_cond2 i = 1#1), ∀ a, (k0_off257 v1251) a + S1x1024.size a ≤ S40960x1024.size a := fun i v1251 k0_hw249 k0_h2 => k0_hw249 k0_h2

def k0_off258 (v1256 : BitVec 32) : Fin 2 → Nat :=
  let c0_i32_1375 : BitVec 32 := 0#32
  ![v1256.toNat, 0]

def k0_chk250 (i : grid0.Coords) (v1256 : BitVec 32) : Prop :=
  (∀ (k0_h2 : k0_cond2 i = 1#1), ∀ a, (k0_off258 v1256) a + S1x1024.size a ≤ S40960x1024.size a)
theorem k0_off258_inb : ∀ (i : grid0.Coords) (v1256 : BitVec 32) (k0_hw250 : k0_chk250 i v1256), ∀ (k0_h2 : k0_cond2 i = 1#1), ∀ a, (k0_off258 v1256) a + S1x1024.size a ≤ S40960x1024.size a := fun i v1256 k0_hw250 k0_h2 => k0_hw250 k0_h2

def k0_off259 (v1261 : BitVec 32) : Fin 2 → Nat :=
  let c0_i32_1380 : BitVec 32 := 0#32
  ![v1261.toNat, 0]

def k0_chk251 (i : grid0.Coords) (v1261 : BitVec 32) : Prop :=
  (∀ (k0_h2 : k0_cond2 i = 1#1), ∀ a, (k0_off259 v1261) a + S1x1024.size a ≤ S40960x1024.size a)
theorem k0_off259_inb : ∀ (i : grid0.Coords) (v1261 : BitVec 32) (k0_hw251 : k0_chk251 i v1261), ∀ (k0_h2 : k0_cond2 i = 1#1), ∀ a, (k0_off259 v1261) a + S1x1024.size a ≤ S40960x1024.size a := fun i v1261 k0_hw251 k0_h2 => k0_hw251 k0_h2

def k0_off260 (v1266 : BitVec 32) : Fin 2 → Nat :=
  let c0_i32_1386 : BitVec 32 := 0#32
  ![v1266.toNat, 0]

def k0_chk252 (i : grid0.Coords) (v1266 : BitVec 32) : Prop :=
  (∀ (k0_h2 : k0_cond2 i = 1#1), ∀ a, (k0_off260 v1266) a + S1x1024.size a ≤ S40960x1024.size a)
theorem k0_off260_inb : ∀ (i : grid0.Coords) (v1266 : BitVec 32) (k0_hw252 : k0_chk252 i v1266), ∀ (k0_h2 : k0_cond2 i = 1#1), ∀ a, (k0_off260 v1266) a + S1x1024.size a ≤ S40960x1024.size a := fun i v1266 k0_hw252 k0_h2 => k0_hw252 k0_h2

def k0_off261 (v1271 : BitVec 32) : Fin 2 → Nat :=
  let c0_i32_1391 : BitVec 32 := 0#32
  ![v1271.toNat, 0]

def k0_chk253 (i : grid0.Coords) (v1271 : BitVec 32) : Prop :=
  (∀ (k0_h2 : k0_cond2 i = 1#1), ∀ a, (k0_off261 v1271) a + S1x1024.size a ≤ S40960x1024.size a)
theorem k0_off261_inb : ∀ (i : grid0.Coords) (v1271 : BitVec 32) (k0_hw253 : k0_chk253 i v1271), ∀ (k0_h2 : k0_cond2 i = 1#1), ∀ a, (k0_off261 v1271) a + S1x1024.size a ≤ S40960x1024.size a := fun i v1271 k0_hw253 k0_h2 => k0_hw253 k0_h2

def k0_off262 (v1276 : BitVec 32) : Fin 2 → Nat :=
  let c0_i32_1397 : BitVec 32 := 0#32
  ![v1276.toNat, 0]

def k0_chk254 (i : grid0.Coords) (v1276 : BitVec 32) : Prop :=
  (∀ (k0_h2 : k0_cond2 i = 1#1), ∀ a, (k0_off262 v1276) a + S1x1024.size a ≤ S40960x1024.size a)
theorem k0_off262_inb : ∀ (i : grid0.Coords) (v1276 : BitVec 32) (k0_hw254 : k0_chk254 i v1276), ∀ (k0_h2 : k0_cond2 i = 1#1), ∀ a, (k0_off262 v1276) a + S1x1024.size a ≤ S40960x1024.size a := fun i v1276 k0_hw254 k0_h2 => k0_hw254 k0_h2

def k0_off263 (v1281 : BitVec 32) : Fin 2 → Nat :=
  let c0_i32_1402 : BitVec 32 := 0#32
  ![v1281.toNat, 0]

def k0_chk255 (i : grid0.Coords) (v1281 : BitVec 32) : Prop :=
  (∀ (k0_h2 : k0_cond2 i = 1#1), ∀ a, (k0_off263 v1281) a + S1x1024.size a ≤ S40960x1024.size a)
theorem k0_off263_inb : ∀ (i : grid0.Coords) (v1281 : BitVec 32) (k0_hw255 : k0_chk255 i v1281), ∀ (k0_h2 : k0_cond2 i = 1#1), ∀ a, (k0_off263 v1281) a + S1x1024.size a ≤ S40960x1024.size a := fun i v1281 k0_hw255 k0_h2 => k0_hw255 k0_h2

def k0_off264 (v1286 : BitVec 32) : Fin 2 → Nat :=
  let c0_i32_1408 : BitVec 32 := 0#32
  ![v1286.toNat, 0]

def k0_chk256 (i : grid0.Coords) (v1286 : BitVec 32) : Prop :=
  (∀ (k0_h2 : k0_cond2 i = 1#1), ∀ a, (k0_off264 v1286) a + S1x1024.size a ≤ S40960x1024.size a)
theorem k0_off264_inb : ∀ (i : grid0.Coords) (v1286 : BitVec 32) (k0_hw256 : k0_chk256 i v1286), ∀ (k0_h2 : k0_cond2 i = 1#1), ∀ a, (k0_off264 v1286) a + S1x1024.size a ≤ S40960x1024.size a := fun i v1286 k0_hw256 k0_h2 => k0_hw256 k0_h2

def k0_off265 (v1291 : BitVec 32) : Fin 2 → Nat :=
  let c0_i32_1413 : BitVec 32 := 0#32
  ![v1291.toNat, 0]

def k0_chk257 (i : grid0.Coords) (v1291 : BitVec 32) : Prop :=
  (∀ (k0_h2 : k0_cond2 i = 1#1), ∀ a, (k0_off265 v1291) a + S1x1024.size a ≤ S40960x1024.size a)
theorem k0_off265_inb : ∀ (i : grid0.Coords) (v1291 : BitVec 32) (k0_hw257 : k0_chk257 i v1291), ∀ (k0_h2 : k0_cond2 i = 1#1), ∀ a, (k0_off265 v1291) a + S1x1024.size a ≤ S40960x1024.size a := fun i v1291 k0_hw257 k0_h2 => k0_hw257 k0_h2

def k0_off266 (v1296 : BitVec 32) : Fin 2 → Nat :=
  let c0_i32_1419 : BitVec 32 := 0#32
  ![v1296.toNat, 0]

def k0_chk258 (i : grid0.Coords) (v1296 : BitVec 32) : Prop :=
  (∀ (k0_h2 : k0_cond2 i = 1#1), ∀ a, (k0_off266 v1296) a + S1x1024.size a ≤ S40960x1024.size a)
theorem k0_off266_inb : ∀ (i : grid0.Coords) (v1296 : BitVec 32) (k0_hw258 : k0_chk258 i v1296), ∀ (k0_h2 : k0_cond2 i = 1#1), ∀ a, (k0_off266 v1296) a + S1x1024.size a ≤ S40960x1024.size a := fun i v1296 k0_hw258 k0_h2 => k0_hw258 k0_h2

def k0_off267 (v1301 : BitVec 32) : Fin 2 → Nat :=
  let c0_i32_1424 : BitVec 32 := 0#32
  ![v1301.toNat, 0]

def k0_chk259 (i : grid0.Coords) (v1301 : BitVec 32) : Prop :=
  (∀ (k0_h2 : k0_cond2 i = 1#1), ∀ a, (k0_off267 v1301) a + S1x1024.size a ≤ S40960x1024.size a)
theorem k0_off267_inb : ∀ (i : grid0.Coords) (v1301 : BitVec 32) (k0_hw259 : k0_chk259 i v1301), ∀ (k0_h2 : k0_cond2 i = 1#1), ∀ a, (k0_off267 v1301) a + S1x1024.size a ≤ S40960x1024.size a := fun i v1301 k0_hw259 k0_h2 => k0_hw259 k0_h2

def k0_off268 (v1306 : BitVec 32) : Fin 2 → Nat :=
  let c0_i32_1430 : BitVec 32 := 0#32
  ![v1306.toNat, 0]

def k0_chk260 (i : grid0.Coords) (v1306 : BitVec 32) : Prop :=
  (∀ (k0_h2 : k0_cond2 i = 1#1), ∀ a, (k0_off268 v1306) a + S1x1024.size a ≤ S40960x1024.size a)
theorem k0_off268_inb : ∀ (i : grid0.Coords) (v1306 : BitVec 32) (k0_hw260 : k0_chk260 i v1306), ∀ (k0_h2 : k0_cond2 i = 1#1), ∀ a, (k0_off268 v1306) a + S1x1024.size a ≤ S40960x1024.size a := fun i v1306 k0_hw260 k0_h2 => k0_hw260 k0_h2

def k0_off269 (v1311 : BitVec 32) : Fin 2 → Nat :=
  let c0_i32_1435 : BitVec 32 := 0#32
  ![v1311.toNat, 0]

def k0_chk261 (i : grid0.Coords) (v1311 : BitVec 32) : Prop :=
  (∀ (k0_h2 : k0_cond2 i = 1#1), ∀ a, (k0_off269 v1311) a + S1x1024.size a ≤ S40960x1024.size a)
theorem k0_off269_inb : ∀ (i : grid0.Coords) (v1311 : BitVec 32) (k0_hw261 : k0_chk261 i v1311), ∀ (k0_h2 : k0_cond2 i = 1#1), ∀ a, (k0_off269 v1311) a + S1x1024.size a ≤ S40960x1024.size a := fun i v1311 k0_hw261 k0_h2 => k0_hw261 k0_h2

def k0_off270 (v1316 : BitVec 32) : Fin 2 → Nat :=
  let c0_i32_1441 : BitVec 32 := 0#32
  ![v1316.toNat, 0]

def k0_chk262 (i : grid0.Coords) (v1316 : BitVec 32) : Prop :=
  (∀ (k0_h2 : k0_cond2 i = 1#1), ∀ a, (k0_off270 v1316) a + S1x1024.size a ≤ S40960x1024.size a)
theorem k0_off270_inb : ∀ (i : grid0.Coords) (v1316 : BitVec 32) (k0_hw262 : k0_chk262 i v1316), ∀ (k0_h2 : k0_cond2 i = 1#1), ∀ a, (k0_off270 v1316) a + S1x1024.size a ≤ S40960x1024.size a := fun i v1316 k0_hw262 k0_h2 => k0_hw262 k0_h2

def k0_off271 (v1321 : BitVec 32) : Fin 2 → Nat :=
  let c0_i32_1446 : BitVec 32 := 0#32
  ![v1321.toNat, 0]

def k0_chk263 (i : grid0.Coords) (v1321 : BitVec 32) : Prop :=
  (∀ (k0_h2 : k0_cond2 i = 1#1), ∀ a, (k0_off271 v1321) a + S1x1024.size a ≤ S40960x1024.size a)
theorem k0_off271_inb : ∀ (i : grid0.Coords) (v1321 : BitVec 32) (k0_hw263 : k0_chk263 i v1321), ∀ (k0_h2 : k0_cond2 i = 1#1), ∀ a, (k0_off271 v1321) a + S1x1024.size a ≤ S40960x1024.size a := fun i v1321 k0_hw263 k0_h2 => k0_hw263 k0_h2

def k0_off272 (v1326 : BitVec 32) : Fin 2 → Nat :=
  let c0_i32_1452 : BitVec 32 := 0#32
  ![v1326.toNat, 0]

def k0_chk264 (i : grid0.Coords) (v1326 : BitVec 32) : Prop :=
  (∀ (k0_h2 : k0_cond2 i = 1#1), ∀ a, (k0_off272 v1326) a + S1x1024.size a ≤ S40960x1024.size a)
theorem k0_off272_inb : ∀ (i : grid0.Coords) (v1326 : BitVec 32) (k0_hw264 : k0_chk264 i v1326), ∀ (k0_h2 : k0_cond2 i = 1#1), ∀ a, (k0_off272 v1326) a + S1x1024.size a ≤ S40960x1024.size a := fun i v1326 k0_hw264 k0_h2 => k0_hw264 k0_h2

def k0_off273 (v1331 : BitVec 32) : Fin 2 → Nat :=
  let c0_i32_1457 : BitVec 32 := 0#32
  ![v1331.toNat, 0]

def k0_chk265 (i : grid0.Coords) (v1331 : BitVec 32) : Prop :=
  (∀ (k0_h2 : k0_cond2 i = 1#1), ∀ a, (k0_off273 v1331) a + S1x1024.size a ≤ S40960x1024.size a)
theorem k0_off273_inb : ∀ (i : grid0.Coords) (v1331 : BitVec 32) (k0_hw265 : k0_chk265 i v1331), ∀ (k0_h2 : k0_cond2 i = 1#1), ∀ a, (k0_off273 v1331) a + S1x1024.size a ≤ S40960x1024.size a := fun i v1331 k0_hw265 k0_h2 => k0_hw265 k0_h2

def k0_off274 (v1336 : BitVec 32) : Fin 2 → Nat :=
  let c0_i32_1463 : BitVec 32 := 0#32
  ![v1336.toNat, 0]

def k0_chk266 (i : grid0.Coords) (v1336 : BitVec 32) : Prop :=
  (∀ (k0_h2 : k0_cond2 i = 1#1), ∀ a, (k0_off274 v1336) a + S1x1024.size a ≤ S40960x1024.size a)
theorem k0_off274_inb : ∀ (i : grid0.Coords) (v1336 : BitVec 32) (k0_hw266 : k0_chk266 i v1336), ∀ (k0_h2 : k0_cond2 i = 1#1), ∀ a, (k0_off274 v1336) a + S1x1024.size a ≤ S40960x1024.size a := fun i v1336 k0_hw266 k0_h2 => k0_hw266 k0_h2

def k0_off275 (v1341 : BitVec 32) : Fin 2 → Nat :=
  let c0_i32_1468 : BitVec 32 := 0#32
  ![v1341.toNat, 0]

def k0_chk267 (i : grid0.Coords) (v1341 : BitVec 32) : Prop :=
  (∀ (k0_h2 : k0_cond2 i = 1#1), ∀ a, (k0_off275 v1341) a + S1x1024.size a ≤ S40960x1024.size a)
theorem k0_off275_inb : ∀ (i : grid0.Coords) (v1341 : BitVec 32) (k0_hw267 : k0_chk267 i v1341), ∀ (k0_h2 : k0_cond2 i = 1#1), ∀ a, (k0_off275 v1341) a + S1x1024.size a ≤ S40960x1024.size a := fun i v1341 k0_hw267 k0_h2 => k0_hw267 k0_h2

def k0_off276 (v1346 : BitVec 32) : Fin 2 → Nat :=
  let c0_i32_1474 : BitVec 32 := 0#32
  ![v1346.toNat, 0]

def k0_chk268 (i : grid0.Coords) (v1346 : BitVec 32) : Prop :=
  (∀ (k0_h2 : k0_cond2 i = 1#1), ∀ a, (k0_off276 v1346) a + S1x1024.size a ≤ S40960x1024.size a)
theorem k0_off276_inb : ∀ (i : grid0.Coords) (v1346 : BitVec 32) (k0_hw268 : k0_chk268 i v1346), ∀ (k0_h2 : k0_cond2 i = 1#1), ∀ a, (k0_off276 v1346) a + S1x1024.size a ≤ S40960x1024.size a := fun i v1346 k0_hw268 k0_h2 => k0_hw268 k0_h2

def k0_off277 (v1351 : BitVec 32) : Fin 2 → Nat :=
  let c0_i32_1479 : BitVec 32 := 0#32
  ![v1351.toNat, 0]

def k0_chk269 (i : grid0.Coords) (v1351 : BitVec 32) : Prop :=
  (∀ (k0_h2 : k0_cond2 i = 1#1), ∀ a, (k0_off277 v1351) a + S1x1024.size a ≤ S40960x1024.size a)
theorem k0_off277_inb : ∀ (i : grid0.Coords) (v1351 : BitVec 32) (k0_hw269 : k0_chk269 i v1351), ∀ (k0_h2 : k0_cond2 i = 1#1), ∀ a, (k0_off277 v1351) a + S1x1024.size a ≤ S40960x1024.size a := fun i v1351 k0_hw269 k0_h2 => k0_hw269 k0_h2

def k0_off278 (v1356 : BitVec 32) : Fin 2 → Nat :=
  let c0_i32_1485 : BitVec 32 := 0#32
  ![v1356.toNat, 0]

def k0_chk270 (i : grid0.Coords) (v1356 : BitVec 32) : Prop :=
  (∀ (k0_h2 : k0_cond2 i = 1#1), ∀ a, (k0_off278 v1356) a + S1x1024.size a ≤ S40960x1024.size a)
theorem k0_off278_inb : ∀ (i : grid0.Coords) (v1356 : BitVec 32) (k0_hw270 : k0_chk270 i v1356), ∀ (k0_h2 : k0_cond2 i = 1#1), ∀ a, (k0_off278 v1356) a + S1x1024.size a ≤ S40960x1024.size a := fun i v1356 k0_hw270 k0_h2 => k0_hw270 k0_h2

def k0_off279 (v1361 : BitVec 32) : Fin 2 → Nat :=
  let c0_i32_1490 : BitVec 32 := 0#32
  ![v1361.toNat, 0]

def k0_chk271 (i : grid0.Coords) (v1361 : BitVec 32) : Prop :=
  (∀ (k0_h2 : k0_cond2 i = 1#1), ∀ a, (k0_off279 v1361) a + S1x1024.size a ≤ S40960x1024.size a)
theorem k0_off279_inb : ∀ (i : grid0.Coords) (v1361 : BitVec 32) (k0_hw271 : k0_chk271 i v1361), ∀ (k0_h2 : k0_cond2 i = 1#1), ∀ a, (k0_off279 v1361) a + S1x1024.size a ≤ S40960x1024.size a := fun i v1361 k0_hw271 k0_h2 => k0_hw271 k0_h2

def k0_off280 (v1366 : BitVec 32) : Fin 2 → Nat :=
  let c0_i32_1496 : BitVec 32 := 0#32
  ![v1366.toNat, 0]

def k0_chk272 (i : grid0.Coords) (v1366 : BitVec 32) : Prop :=
  (∀ (k0_h2 : k0_cond2 i = 1#1), ∀ a, (k0_off280 v1366) a + S1x1024.size a ≤ S40960x1024.size a)
theorem k0_off280_inb : ∀ (i : grid0.Coords) (v1366 : BitVec 32) (k0_hw272 : k0_chk272 i v1366), ∀ (k0_h2 : k0_cond2 i = 1#1), ∀ a, (k0_off280 v1366) a + S1x1024.size a ≤ S40960x1024.size a := fun i v1366 k0_hw272 k0_h2 => k0_hw272 k0_h2

def k0_off281 (v1371 : BitVec 32) : Fin 2 → Nat :=
  let c0_i32_1501 : BitVec 32 := 0#32
  ![v1371.toNat, 0]

def k0_chk273 (i : grid0.Coords) (v1371 : BitVec 32) : Prop :=
  (∀ (k0_h2 : k0_cond2 i = 1#1), ∀ a, (k0_off281 v1371) a + S1x1024.size a ≤ S40960x1024.size a)
theorem k0_off281_inb : ∀ (i : grid0.Coords) (v1371 : BitVec 32) (k0_hw273 : k0_chk273 i v1371), ∀ (k0_h2 : k0_cond2 i = 1#1), ∀ a, (k0_off281 v1371) a + S1x1024.size a ≤ S40960x1024.size a := fun i v1371 k0_hw273 k0_h2 => k0_hw273 k0_h2

def k0_off282 (v1376 : BitVec 32) : Fin 2 → Nat :=
  let c0_i32_1507 : BitVec 32 := 0#32
  ![v1376.toNat, 0]

def k0_chk274 (i : grid0.Coords) (v1376 : BitVec 32) : Prop :=
  (∀ (k0_h2 : k0_cond2 i = 1#1), ∀ a, (k0_off282 v1376) a + S1x1024.size a ≤ S40960x1024.size a)
theorem k0_off282_inb : ∀ (i : grid0.Coords) (v1376 : BitVec 32) (k0_hw274 : k0_chk274 i v1376), ∀ (k0_h2 : k0_cond2 i = 1#1), ∀ a, (k0_off282 v1376) a + S1x1024.size a ≤ S40960x1024.size a := fun i v1376 k0_hw274 k0_h2 => k0_hw274 k0_h2

def k0_off283 (v1381 : BitVec 32) : Fin 2 → Nat :=
  let c0_i32_1512 : BitVec 32 := 0#32
  ![v1381.toNat, 0]

def k0_chk275 (i : grid0.Coords) (v1381 : BitVec 32) : Prop :=
  (∀ (k0_h2 : k0_cond2 i = 1#1), ∀ a, (k0_off283 v1381) a + S1x1024.size a ≤ S40960x1024.size a)
theorem k0_off283_inb : ∀ (i : grid0.Coords) (v1381 : BitVec 32) (k0_hw275 : k0_chk275 i v1381), ∀ (k0_h2 : k0_cond2 i = 1#1), ∀ a, (k0_off283 v1381) a + S1x1024.size a ≤ S40960x1024.size a := fun i v1381 k0_hw275 k0_h2 => k0_hw275 k0_h2

def k0_off284 (v1386 : BitVec 32) : Fin 2 → Nat :=
  let c0_i32_1518 : BitVec 32 := 0#32
  ![v1386.toNat, 0]

def k0_chk276 (i : grid0.Coords) (v1386 : BitVec 32) : Prop :=
  (∀ (k0_h2 : k0_cond2 i = 1#1), ∀ a, (k0_off284 v1386) a + S1x1024.size a ≤ S40960x1024.size a)
theorem k0_off284_inb : ∀ (i : grid0.Coords) (v1386 : BitVec 32) (k0_hw276 : k0_chk276 i v1386), ∀ (k0_h2 : k0_cond2 i = 1#1), ∀ a, (k0_off284 v1386) a + S1x1024.size a ≤ S40960x1024.size a := fun i v1386 k0_hw276 k0_h2 => k0_hw276 k0_h2

def k0_off285 (v1391 : BitVec 32) : Fin 2 → Nat :=
  let c0_i32_1523 : BitVec 32 := 0#32
  ![v1391.toNat, 0]

def k0_chk277 (i : grid0.Coords) (v1391 : BitVec 32) : Prop :=
  (∀ (k0_h2 : k0_cond2 i = 1#1), ∀ a, (k0_off285 v1391) a + S1x1024.size a ≤ S40960x1024.size a)
theorem k0_off285_inb : ∀ (i : grid0.Coords) (v1391 : BitVec 32) (k0_hw277 : k0_chk277 i v1391), ∀ (k0_h2 : k0_cond2 i = 1#1), ∀ a, (k0_off285 v1391) a + S1x1024.size a ≤ S40960x1024.size a := fun i v1391 k0_hw277 k0_h2 => k0_hw277 k0_h2

def k0_off286 (v1396 : BitVec 32) : Fin 2 → Nat :=
  let c0_i32_1529 : BitVec 32 := 0#32
  ![v1396.toNat, 0]

def k0_chk278 (i : grid0.Coords) (v1396 : BitVec 32) : Prop :=
  (∀ (k0_h2 : k0_cond2 i = 1#1), ∀ a, (k0_off286 v1396) a + S1x1024.size a ≤ S40960x1024.size a)
theorem k0_off286_inb : ∀ (i : grid0.Coords) (v1396 : BitVec 32) (k0_hw278 : k0_chk278 i v1396), ∀ (k0_h2 : k0_cond2 i = 1#1), ∀ a, (k0_off286 v1396) a + S1x1024.size a ≤ S40960x1024.size a := fun i v1396 k0_hw278 k0_h2 => k0_hw278 k0_h2

def k0_off287 (v1401 : BitVec 32) : Fin 2 → Nat :=
  let c0_i32_1534 : BitVec 32 := 0#32
  ![v1401.toNat, 0]

def k0_chk279 (i : grid0.Coords) (v1401 : BitVec 32) : Prop :=
  (∀ (k0_h2 : k0_cond2 i = 1#1), ∀ a, (k0_off287 v1401) a + S1x1024.size a ≤ S40960x1024.size a)
theorem k0_off287_inb : ∀ (i : grid0.Coords) (v1401 : BitVec 32) (k0_hw279 : k0_chk279 i v1401), ∀ (k0_h2 : k0_cond2 i = 1#1), ∀ a, (k0_off287 v1401) a + S1x1024.size a ≤ S40960x1024.size a := fun i v1401 k0_hw279 k0_h2 => k0_hw279 k0_h2

def k0_off288 (v1406 : BitVec 32) : Fin 2 → Nat :=
  let c0_i32_1540 : BitVec 32 := 0#32
  ![v1406.toNat, 0]

def k0_chk280 (i : grid0.Coords) (v1406 : BitVec 32) : Prop :=
  (∀ (k0_h2 : k0_cond2 i = 1#1), ∀ a, (k0_off288 v1406) a + S1x1024.size a ≤ S40960x1024.size a)
theorem k0_off288_inb : ∀ (i : grid0.Coords) (v1406 : BitVec 32) (k0_hw280 : k0_chk280 i v1406), ∀ (k0_h2 : k0_cond2 i = 1#1), ∀ a, (k0_off288 v1406) a + S1x1024.size a ≤ S40960x1024.size a := fun i v1406 k0_hw280 k0_h2 => k0_hw280 k0_h2

def k0_off289 (v1411 : BitVec 32) : Fin 2 → Nat :=
  let c0_i32_1545 : BitVec 32 := 0#32
  ![v1411.toNat, 0]

def k0_chk281 (i : grid0.Coords) (v1411 : BitVec 32) : Prop :=
  (∀ (k0_h2 : k0_cond2 i = 1#1), ∀ a, (k0_off289 v1411) a + S1x1024.size a ≤ S40960x1024.size a)
theorem k0_off289_inb : ∀ (i : grid0.Coords) (v1411 : BitVec 32) (k0_hw281 : k0_chk281 i v1411), ∀ (k0_h2 : k0_cond2 i = 1#1), ∀ a, (k0_off289 v1411) a + S1x1024.size a ≤ S40960x1024.size a := fun i v1411 k0_hw281 k0_h2 => k0_hw281 k0_h2

def k0_off290 (v1416 : BitVec 32) : Fin 2 → Nat :=
  let c0_i32_1551 : BitVec 32 := 0#32
  ![v1416.toNat, 0]

def k0_chk282 (i : grid0.Coords) (v1416 : BitVec 32) : Prop :=
  (∀ (k0_h2 : k0_cond2 i = 1#1), ∀ a, (k0_off290 v1416) a + S1x1024.size a ≤ S40960x1024.size a)
theorem k0_off290_inb : ∀ (i : grid0.Coords) (v1416 : BitVec 32) (k0_hw282 : k0_chk282 i v1416), ∀ (k0_h2 : k0_cond2 i = 1#1), ∀ a, (k0_off290 v1416) a + S1x1024.size a ≤ S40960x1024.size a := fun i v1416 k0_hw282 k0_h2 => k0_hw282 k0_h2

def k0_off291 (v1421 : BitVec 32) : Fin 2 → Nat :=
  let c0_i32_1556 : BitVec 32 := 0#32
  ![v1421.toNat, 0]

def k0_chk283 (i : grid0.Coords) (v1421 : BitVec 32) : Prop :=
  (∀ (k0_h2 : k0_cond2 i = 1#1), ∀ a, (k0_off291 v1421) a + S1x1024.size a ≤ S40960x1024.size a)
theorem k0_off291_inb : ∀ (i : grid0.Coords) (v1421 : BitVec 32) (k0_hw283 : k0_chk283 i v1421), ∀ (k0_h2 : k0_cond2 i = 1#1), ∀ a, (k0_off291 v1421) a + S1x1024.size a ≤ S40960x1024.size a := fun i v1421 k0_hw283 k0_h2 => k0_hw283 k0_h2

def k0_off292 (v1426 : BitVec 32) : Fin 2 → Nat :=
  let c0_i32_1562 : BitVec 32 := 0#32
  ![v1426.toNat, 0]

def k0_chk284 (i : grid0.Coords) (v1426 : BitVec 32) : Prop :=
  (∀ (k0_h2 : k0_cond2 i = 1#1), ∀ a, (k0_off292 v1426) a + S1x1024.size a ≤ S40960x1024.size a)
theorem k0_off292_inb : ∀ (i : grid0.Coords) (v1426 : BitVec 32) (k0_hw284 : k0_chk284 i v1426), ∀ (k0_h2 : k0_cond2 i = 1#1), ∀ a, (k0_off292 v1426) a + S1x1024.size a ≤ S40960x1024.size a := fun i v1426 k0_hw284 k0_h2 => k0_hw284 k0_h2

def k0_off293 (v1431 : BitVec 32) : Fin 2 → Nat :=
  let c0_i32_1567 : BitVec 32 := 0#32
  ![v1431.toNat, 0]

def k0_chk285 (i : grid0.Coords) (v1431 : BitVec 32) : Prop :=
  (∀ (k0_h2 : k0_cond2 i = 1#1), ∀ a, (k0_off293 v1431) a + S1x1024.size a ≤ S40960x1024.size a)
theorem k0_off293_inb : ∀ (i : grid0.Coords) (v1431 : BitVec 32) (k0_hw285 : k0_chk285 i v1431), ∀ (k0_h2 : k0_cond2 i = 1#1), ∀ a, (k0_off293 v1431) a + S1x1024.size a ≤ S40960x1024.size a := fun i v1431 k0_hw285 k0_h2 => k0_hw285 k0_h2

def k0_off294 (v1436 : BitVec 32) : Fin 2 → Nat :=
  let c0_i32_1573 : BitVec 32 := 0#32
  ![v1436.toNat, 0]

def k0_chk286 (i : grid0.Coords) (v1436 : BitVec 32) : Prop :=
  (∀ (k0_h2 : k0_cond2 i = 1#1), ∀ a, (k0_off294 v1436) a + S1x1024.size a ≤ S40960x1024.size a)
theorem k0_off294_inb : ∀ (i : grid0.Coords) (v1436 : BitVec 32) (k0_hw286 : k0_chk286 i v1436), ∀ (k0_h2 : k0_cond2 i = 1#1), ∀ a, (k0_off294 v1436) a + S1x1024.size a ≤ S40960x1024.size a := fun i v1436 k0_hw286 k0_h2 => k0_hw286 k0_h2

def k0_off295 (v1441 : BitVec 32) : Fin 2 → Nat :=
  let c0_i32_1578 : BitVec 32 := 0#32
  ![v1441.toNat, 0]

def k0_chk287 (i : grid0.Coords) (v1441 : BitVec 32) : Prop :=
  (∀ (k0_h2 : k0_cond2 i = 1#1), ∀ a, (k0_off295 v1441) a + S1x1024.size a ≤ S40960x1024.size a)
theorem k0_off295_inb : ∀ (i : grid0.Coords) (v1441 : BitVec 32) (k0_hw287 : k0_chk287 i v1441), ∀ (k0_h2 : k0_cond2 i = 1#1), ∀ a, (k0_off295 v1441) a + S1x1024.size a ≤ S40960x1024.size a := fun i v1441 k0_hw287 k0_h2 => k0_hw287 k0_h2

def k0_off296 (v1446 : BitVec 32) : Fin 2 → Nat :=
  let c0_i32_1584 : BitVec 32 := 0#32
  ![v1446.toNat, 0]

def k0_chk288 (i : grid0.Coords) (v1446 : BitVec 32) : Prop :=
  (∀ (k0_h2 : k0_cond2 i = 1#1), ∀ a, (k0_off296 v1446) a + S1x1024.size a ≤ S40960x1024.size a)
theorem k0_off296_inb : ∀ (i : grid0.Coords) (v1446 : BitVec 32) (k0_hw288 : k0_chk288 i v1446), ∀ (k0_h2 : k0_cond2 i = 1#1), ∀ a, (k0_off296 v1446) a + S1x1024.size a ≤ S40960x1024.size a := fun i v1446 k0_hw288 k0_h2 => k0_hw288 k0_h2

def k0_off297 (v1451 : BitVec 32) : Fin 2 → Nat :=
  let c0_i32_1589 : BitVec 32 := 0#32
  ![v1451.toNat, 0]

def k0_chk289 (i : grid0.Coords) (v1451 : BitVec 32) : Prop :=
  (∀ (k0_h2 : k0_cond2 i = 1#1), ∀ a, (k0_off297 v1451) a + S1x1024.size a ≤ S40960x1024.size a)
theorem k0_off297_inb : ∀ (i : grid0.Coords) (v1451 : BitVec 32) (k0_hw289 : k0_chk289 i v1451), ∀ (k0_h2 : k0_cond2 i = 1#1), ∀ a, (k0_off297 v1451) a + S1x1024.size a ≤ S40960x1024.size a := fun i v1451 k0_hw289 k0_h2 => k0_hw289 k0_h2

def k0_off298 (v1456 : BitVec 32) : Fin 2 → Nat :=
  let c0_i32_1595 : BitVec 32 := 0#32
  ![v1456.toNat, 0]

def k0_chk290 (i : grid0.Coords) (v1456 : BitVec 32) : Prop :=
  (∀ (k0_h2 : k0_cond2 i = 1#1), ∀ a, (k0_off298 v1456) a + S1x1024.size a ≤ S40960x1024.size a)
theorem k0_off298_inb : ∀ (i : grid0.Coords) (v1456 : BitVec 32) (k0_hw290 : k0_chk290 i v1456), ∀ (k0_h2 : k0_cond2 i = 1#1), ∀ a, (k0_off298 v1456) a + S1x1024.size a ≤ S40960x1024.size a := fun i v1456 k0_hw290 k0_h2 => k0_hw290 k0_h2

def k0_off299 (v1461 : BitVec 32) : Fin 2 → Nat :=
  let c0_i32_1600 : BitVec 32 := 0#32
  ![v1461.toNat, 0]

def k0_chk291 (i : grid0.Coords) (v1461 : BitVec 32) : Prop :=
  (∀ (k0_h2 : k0_cond2 i = 1#1), ∀ a, (k0_off299 v1461) a + S1x1024.size a ≤ S40960x1024.size a)
theorem k0_off299_inb : ∀ (i : grid0.Coords) (v1461 : BitVec 32) (k0_hw291 : k0_chk291 i v1461), ∀ (k0_h2 : k0_cond2 i = 1#1), ∀ a, (k0_off299 v1461) a + S1x1024.size a ≤ S40960x1024.size a := fun i v1461 k0_hw291 k0_h2 => k0_hw291 k0_h2

def k0_off300 (v1466 : BitVec 32) : Fin 2 → Nat :=
  let c0_i32_1606 : BitVec 32 := 0#32
  ![v1466.toNat, 0]

def k0_chk292 (i : grid0.Coords) (v1466 : BitVec 32) : Prop :=
  (∀ (k0_h2 : k0_cond2 i = 1#1), ∀ a, (k0_off300 v1466) a + S1x1024.size a ≤ S40960x1024.size a)
theorem k0_off300_inb : ∀ (i : grid0.Coords) (v1466 : BitVec 32) (k0_hw292 : k0_chk292 i v1466), ∀ (k0_h2 : k0_cond2 i = 1#1), ∀ a, (k0_off300 v1466) a + S1x1024.size a ≤ S40960x1024.size a := fun i v1466 k0_hw292 k0_h2 => k0_hw292 k0_h2

def k0_off301 (v1471 : BitVec 32) : Fin 2 → Nat :=
  let c0_i32_1611 : BitVec 32 := 0#32
  ![v1471.toNat, 0]

def k0_chk293 (i : grid0.Coords) (v1471 : BitVec 32) : Prop :=
  (∀ (k0_h2 : k0_cond2 i = 1#1), ∀ a, (k0_off301 v1471) a + S1x1024.size a ≤ S40960x1024.size a)
theorem k0_off301_inb : ∀ (i : grid0.Coords) (v1471 : BitVec 32) (k0_hw293 : k0_chk293 i v1471), ∀ (k0_h2 : k0_cond2 i = 1#1), ∀ a, (k0_off301 v1471) a + S1x1024.size a ≤ S40960x1024.size a := fun i v1471 k0_hw293 k0_h2 => k0_hw293 k0_h2

def k0_off302 (v1476 : BitVec 32) : Fin 2 → Nat :=
  let c0_i32_1617 : BitVec 32 := 0#32
  ![v1476.toNat, 0]

def k0_chk294 (i : grid0.Coords) (v1476 : BitVec 32) : Prop :=
  (∀ (k0_h2 : k0_cond2 i = 1#1), ∀ a, (k0_off302 v1476) a + S1x1024.size a ≤ S40960x1024.size a)
theorem k0_off302_inb : ∀ (i : grid0.Coords) (v1476 : BitVec 32) (k0_hw294 : k0_chk294 i v1476), ∀ (k0_h2 : k0_cond2 i = 1#1), ∀ a, (k0_off302 v1476) a + S1x1024.size a ≤ S40960x1024.size a := fun i v1476 k0_hw294 k0_h2 => k0_hw294 k0_h2

def k0_off303 (v1481 : BitVec 32) : Fin 2 → Nat :=
  let c0_i32_1622 : BitVec 32 := 0#32
  ![v1481.toNat, 0]

def k0_chk295 (i : grid0.Coords) (v1481 : BitVec 32) : Prop :=
  (∀ (k0_h2 : k0_cond2 i = 1#1), ∀ a, (k0_off303 v1481) a + S1x1024.size a ≤ S40960x1024.size a)
theorem k0_off303_inb : ∀ (i : grid0.Coords) (v1481 : BitVec 32) (k0_hw295 : k0_chk295 i v1481), ∀ (k0_h2 : k0_cond2 i = 1#1), ∀ a, (k0_off303 v1481) a + S1x1024.size a ≤ S40960x1024.size a := fun i v1481 k0_hw295 k0_h2 => k0_hw295 k0_h2

def k0_off304 (v1486 : BitVec 32) : Fin 2 → Nat :=
  let c0_i32_1628 : BitVec 32 := 0#32
  ![v1486.toNat, 0]

def k0_chk296 (i : grid0.Coords) (v1486 : BitVec 32) : Prop :=
  (∀ (k0_h2 : k0_cond2 i = 1#1), ∀ a, (k0_off304 v1486) a + S1x1024.size a ≤ S40960x1024.size a)
theorem k0_off304_inb : ∀ (i : grid0.Coords) (v1486 : BitVec 32) (k0_hw296 : k0_chk296 i v1486), ∀ (k0_h2 : k0_cond2 i = 1#1), ∀ a, (k0_off304 v1486) a + S1x1024.size a ≤ S40960x1024.size a := fun i v1486 k0_hw296 k0_h2 => k0_hw296 k0_h2

def k0_off305 (v1491 : BitVec 32) : Fin 2 → Nat :=
  let c0_i32_1633 : BitVec 32 := 0#32
  ![v1491.toNat, 0]

def k0_chk297 (i : grid0.Coords) (v1491 : BitVec 32) : Prop :=
  (∀ (k0_h2 : k0_cond2 i = 1#1), ∀ a, (k0_off305 v1491) a + S1x1024.size a ≤ S40960x1024.size a)
theorem k0_off305_inb : ∀ (i : grid0.Coords) (v1491 : BitVec 32) (k0_hw297 : k0_chk297 i v1491), ∀ (k0_h2 : k0_cond2 i = 1#1), ∀ a, (k0_off305 v1491) a + S1x1024.size a ≤ S40960x1024.size a := fun i v1491 k0_hw297 k0_h2 => k0_hw297 k0_h2

def k0_off306 (v1496 : BitVec 32) : Fin 2 → Nat :=
  let c0_i32_1639 : BitVec 32 := 0#32
  ![v1496.toNat, 0]

def k0_chk298 (i : grid0.Coords) (v1496 : BitVec 32) : Prop :=
  (∀ (k0_h2 : k0_cond2 i = 1#1), ∀ a, (k0_off306 v1496) a + S1x1024.size a ≤ S40960x1024.size a)
theorem k0_off306_inb : ∀ (i : grid0.Coords) (v1496 : BitVec 32) (k0_hw298 : k0_chk298 i v1496), ∀ (k0_h2 : k0_cond2 i = 1#1), ∀ a, (k0_off306 v1496) a + S1x1024.size a ≤ S40960x1024.size a := fun i v1496 k0_hw298 k0_h2 => k0_hw298 k0_h2

def k0_off307 (v1501 : BitVec 32) : Fin 2 → Nat :=
  let c0_i32_1644 : BitVec 32 := 0#32
  ![v1501.toNat, 0]

def k0_chk299 (i : grid0.Coords) (v1501 : BitVec 32) : Prop :=
  (∀ (k0_h2 : k0_cond2 i = 1#1), ∀ a, (k0_off307 v1501) a + S1x1024.size a ≤ S40960x1024.size a)
theorem k0_off307_inb : ∀ (i : grid0.Coords) (v1501 : BitVec 32) (k0_hw299 : k0_chk299 i v1501), ∀ (k0_h2 : k0_cond2 i = 1#1), ∀ a, (k0_off307 v1501) a + S1x1024.size a ≤ S40960x1024.size a := fun i v1501 k0_hw299 k0_h2 => k0_hw299 k0_h2

def k0_off308 (v1506 : BitVec 32) : Fin 2 → Nat :=
  let c0_i32_1650 : BitVec 32 := 0#32
  ![v1506.toNat, 0]

def k0_chk300 (i : grid0.Coords) (v1506 : BitVec 32) : Prop :=
  (∀ (k0_h2 : k0_cond2 i = 1#1), ∀ a, (k0_off308 v1506) a + S1x1024.size a ≤ S40960x1024.size a)
theorem k0_off308_inb : ∀ (i : grid0.Coords) (v1506 : BitVec 32) (k0_hw300 : k0_chk300 i v1506), ∀ (k0_h2 : k0_cond2 i = 1#1), ∀ a, (k0_off308 v1506) a + S1x1024.size a ≤ S40960x1024.size a := fun i v1506 k0_hw300 k0_h2 => k0_hw300 k0_h2

def k0_off309 (v1511 : BitVec 32) : Fin 2 → Nat :=
  let c0_i32_1655 : BitVec 32 := 0#32
  ![v1511.toNat, 0]

def k0_chk301 (i : grid0.Coords) (v1511 : BitVec 32) : Prop :=
  (∀ (k0_h2 : k0_cond2 i = 1#1), ∀ a, (k0_off309 v1511) a + S1x1024.size a ≤ S40960x1024.size a)
theorem k0_off309_inb : ∀ (i : grid0.Coords) (v1511 : BitVec 32) (k0_hw301 : k0_chk301 i v1511), ∀ (k0_h2 : k0_cond2 i = 1#1), ∀ a, (k0_off309 v1511) a + S1x1024.size a ≤ S40960x1024.size a := fun i v1511 k0_hw301 k0_h2 => k0_hw301 k0_h2

def k0_off310 (v1516 : BitVec 32) : Fin 2 → Nat :=
  let c0_i32_1661 : BitVec 32 := 0#32
  ![v1516.toNat, 0]

def k0_chk302 (i : grid0.Coords) (v1516 : BitVec 32) : Prop :=
  (∀ (k0_h2 : k0_cond2 i = 1#1), ∀ a, (k0_off310 v1516) a + S1x1024.size a ≤ S40960x1024.size a)
theorem k0_off310_inb : ∀ (i : grid0.Coords) (v1516 : BitVec 32) (k0_hw302 : k0_chk302 i v1516), ∀ (k0_h2 : k0_cond2 i = 1#1), ∀ a, (k0_off310 v1516) a + S1x1024.size a ≤ S40960x1024.size a := fun i v1516 k0_hw302 k0_h2 => k0_hw302 k0_h2

def k0_off311 (v1521 : BitVec 32) : Fin 2 → Nat :=
  let c0_i32_1666 : BitVec 32 := 0#32
  ![v1521.toNat, 0]

def k0_chk303 (i : grid0.Coords) (v1521 : BitVec 32) : Prop :=
  (∀ (k0_h2 : k0_cond2 i = 1#1), ∀ a, (k0_off311 v1521) a + S1x1024.size a ≤ S40960x1024.size a)
theorem k0_off311_inb : ∀ (i : grid0.Coords) (v1521 : BitVec 32) (k0_hw303 : k0_chk303 i v1521), ∀ (k0_h2 : k0_cond2 i = 1#1), ∀ a, (k0_off311 v1521) a + S1x1024.size a ≤ S40960x1024.size a := fun i v1521 k0_hw303 k0_h2 => k0_hw303 k0_h2

def k0_off312 (v1526 : BitVec 32) : Fin 2 → Nat :=
  let c0_i32_1672 : BitVec 32 := 0#32
  ![v1526.toNat, 0]

def k0_chk304 (i : grid0.Coords) (v1526 : BitVec 32) : Prop :=
  (∀ (k0_h2 : k0_cond2 i = 1#1), ∀ a, (k0_off312 v1526) a + S1x1024.size a ≤ S40960x1024.size a)
theorem k0_off312_inb : ∀ (i : grid0.Coords) (v1526 : BitVec 32) (k0_hw304 : k0_chk304 i v1526), ∀ (k0_h2 : k0_cond2 i = 1#1), ∀ a, (k0_off312 v1526) a + S1x1024.size a ≤ S40960x1024.size a := fun i v1526 k0_hw304 k0_h2 => k0_hw304 k0_h2

def k0_off313 (v1531 : BitVec 32) : Fin 2 → Nat :=
  let c0_i32_1677 : BitVec 32 := 0#32
  ![v1531.toNat, 0]

def k0_chk305 (i : grid0.Coords) (v1531 : BitVec 32) : Prop :=
  (∀ (k0_h2 : k0_cond2 i = 1#1), ∀ a, (k0_off313 v1531) a + S1x1024.size a ≤ S40960x1024.size a)
theorem k0_off313_inb : ∀ (i : grid0.Coords) (v1531 : BitVec 32) (k0_hw305 : k0_chk305 i v1531), ∀ (k0_h2 : k0_cond2 i = 1#1), ∀ a, (k0_off313 v1531) a + S1x1024.size a ≤ S40960x1024.size a := fun i v1531 k0_hw305 k0_h2 => k0_hw305 k0_h2

def k0_off314 (v1536 : BitVec 32) : Fin 2 → Nat :=
  let c0_i32_1683 : BitVec 32 := 0#32
  ![v1536.toNat, 0]

def k0_chk306 (i : grid0.Coords) (v1536 : BitVec 32) : Prop :=
  (∀ (k0_h2 : k0_cond2 i = 1#1), ∀ a, (k0_off314 v1536) a + S1x1024.size a ≤ S40960x1024.size a)
theorem k0_off314_inb : ∀ (i : grid0.Coords) (v1536 : BitVec 32) (k0_hw306 : k0_chk306 i v1536), ∀ (k0_h2 : k0_cond2 i = 1#1), ∀ a, (k0_off314 v1536) a + S1x1024.size a ≤ S40960x1024.size a := fun i v1536 k0_hw306 k0_h2 => k0_hw306 k0_h2

def k0_off315 (v1541 : BitVec 32) : Fin 2 → Nat :=
  let c0_i32_1688 : BitVec 32 := 0#32
  ![v1541.toNat, 0]

def k0_chk307 (i : grid0.Coords) (v1541 : BitVec 32) : Prop :=
  (∀ (k0_h2 : k0_cond2 i = 1#1), ∀ a, (k0_off315 v1541) a + S1x1024.size a ≤ S40960x1024.size a)
theorem k0_off315_inb : ∀ (i : grid0.Coords) (v1541 : BitVec 32) (k0_hw307 : k0_chk307 i v1541), ∀ (k0_h2 : k0_cond2 i = 1#1), ∀ a, (k0_off315 v1541) a + S1x1024.size a ≤ S40960x1024.size a := fun i v1541 k0_hw307 k0_h2 => k0_hw307 k0_h2

def k0_off316 (v1546 : BitVec 32) : Fin 2 → Nat :=
  let c0_i32_1694 : BitVec 32 := 0#32
  ![v1546.toNat, 0]

def k0_chk308 (i : grid0.Coords) (v1546 : BitVec 32) : Prop :=
  (∀ (k0_h2 : k0_cond2 i = 1#1), ∀ a, (k0_off316 v1546) a + S1x1024.size a ≤ S40960x1024.size a)
theorem k0_off316_inb : ∀ (i : grid0.Coords) (v1546 : BitVec 32) (k0_hw308 : k0_chk308 i v1546), ∀ (k0_h2 : k0_cond2 i = 1#1), ∀ a, (k0_off316 v1546) a + S1x1024.size a ≤ S40960x1024.size a := fun i v1546 k0_hw308 k0_h2 => k0_hw308 k0_h2

def k0_off317 (v1551 : BitVec 32) : Fin 2 → Nat :=
  let c0_i32_1699 : BitVec 32 := 0#32
  ![v1551.toNat, 0]

def k0_chk309 (i : grid0.Coords) (v1551 : BitVec 32) : Prop :=
  (∀ (k0_h2 : k0_cond2 i = 1#1), ∀ a, (k0_off317 v1551) a + S1x1024.size a ≤ S40960x1024.size a)
theorem k0_off317_inb : ∀ (i : grid0.Coords) (v1551 : BitVec 32) (k0_hw309 : k0_chk309 i v1551), ∀ (k0_h2 : k0_cond2 i = 1#1), ∀ a, (k0_off317 v1551) a + S1x1024.size a ≤ S40960x1024.size a := fun i v1551 k0_hw309 k0_h2 => k0_hw309 k0_h2

def k0_off318 (v1556 : BitVec 32) : Fin 2 → Nat :=
  let c0_i32_1705 : BitVec 32 := 0#32
  ![v1556.toNat, 0]

def k0_chk310 (i : grid0.Coords) (v1556 : BitVec 32) : Prop :=
  (∀ (k0_h2 : k0_cond2 i = 1#1), ∀ a, (k0_off318 v1556) a + S1x1024.size a ≤ S40960x1024.size a)
theorem k0_off318_inb : ∀ (i : grid0.Coords) (v1556 : BitVec 32) (k0_hw310 : k0_chk310 i v1556), ∀ (k0_h2 : k0_cond2 i = 1#1), ∀ a, (k0_off318 v1556) a + S1x1024.size a ≤ S40960x1024.size a := fun i v1556 k0_hw310 k0_h2 => k0_hw310 k0_h2

def k0_off319 (v1561 : BitVec 32) : Fin 2 → Nat :=
  let c0_i32_1710 : BitVec 32 := 0#32
  ![v1561.toNat, 0]

def k0_chk311 (i : grid0.Coords) (v1561 : BitVec 32) : Prop :=
  (∀ (k0_h2 : k0_cond2 i = 1#1), ∀ a, (k0_off319 v1561) a + S1x1024.size a ≤ S40960x1024.size a)
theorem k0_off319_inb : ∀ (i : grid0.Coords) (v1561 : BitVec 32) (k0_hw311 : k0_chk311 i v1561), ∀ (k0_h2 : k0_cond2 i = 1#1), ∀ a, (k0_off319 v1561) a + S1x1024.size a ≤ S40960x1024.size a := fun i v1561 k0_hw311 k0_h2 => k0_hw311 k0_h2

def k0_off320 (v1566 : BitVec 32) : Fin 2 → Nat :=
  let c0_i32_1716 : BitVec 32 := 0#32
  ![v1566.toNat, 0]

def k0_chk312 (i : grid0.Coords) (v1566 : BitVec 32) : Prop :=
  (∀ (k0_h2 : k0_cond2 i = 1#1), ∀ a, (k0_off320 v1566) a + S1x1024.size a ≤ S40960x1024.size a)
theorem k0_off320_inb : ∀ (i : grid0.Coords) (v1566 : BitVec 32) (k0_hw312 : k0_chk312 i v1566), ∀ (k0_h2 : k0_cond2 i = 1#1), ∀ a, (k0_off320 v1566) a + S1x1024.size a ≤ S40960x1024.size a := fun i v1566 k0_hw312 k0_h2 => k0_hw312 k0_h2

def k0_off321 (v1571 : BitVec 32) : Fin 2 → Nat :=
  let c0_i32_1721 : BitVec 32 := 0#32
  ![v1571.toNat, 0]

def k0_chk313 (i : grid0.Coords) (v1571 : BitVec 32) : Prop :=
  (∀ (k0_h2 : k0_cond2 i = 1#1), ∀ a, (k0_off321 v1571) a + S1x1024.size a ≤ S40960x1024.size a)
theorem k0_off321_inb : ∀ (i : grid0.Coords) (v1571 : BitVec 32) (k0_hw313 : k0_chk313 i v1571), ∀ (k0_h2 : k0_cond2 i = 1#1), ∀ a, (k0_off321 v1571) a + S1x1024.size a ≤ S40960x1024.size a := fun i v1571 k0_hw313 k0_h2 => k0_hw313 k0_h2

def k0_off322 (v1576 : BitVec 32) : Fin 2 → Nat :=
  let c0_i32_1727 : BitVec 32 := 0#32
  ![v1576.toNat, 0]

def k0_chk314 (i : grid0.Coords) (v1576 : BitVec 32) : Prop :=
  (∀ (k0_h2 : k0_cond2 i = 1#1), ∀ a, (k0_off322 v1576) a + S1x1024.size a ≤ S40960x1024.size a)
theorem k0_off322_inb : ∀ (i : grid0.Coords) (v1576 : BitVec 32) (k0_hw314 : k0_chk314 i v1576), ∀ (k0_h2 : k0_cond2 i = 1#1), ∀ a, (k0_off322 v1576) a + S1x1024.size a ≤ S40960x1024.size a := fun i v1576 k0_hw314 k0_h2 => k0_hw314 k0_h2

def k0_off323 (v1581 : BitVec 32) : Fin 2 → Nat :=
  let c0_i32_1732 : BitVec 32 := 0#32
  ![v1581.toNat, 0]

def k0_chk315 (i : grid0.Coords) (v1581 : BitVec 32) : Prop :=
  (∀ (k0_h2 : k0_cond2 i = 1#1), ∀ a, (k0_off323 v1581) a + S1x1024.size a ≤ S40960x1024.size a)
theorem k0_off323_inb : ∀ (i : grid0.Coords) (v1581 : BitVec 32) (k0_hw315 : k0_chk315 i v1581), ∀ (k0_h2 : k0_cond2 i = 1#1), ∀ a, (k0_off323 v1581) a + S1x1024.size a ≤ S40960x1024.size a := fun i v1581 k0_hw315 k0_h2 => k0_hw315 k0_h2

def k0_off324 (v1586 : BitVec 32) : Fin 2 → Nat :=
  let c0_i32_1738 : BitVec 32 := 0#32
  ![v1586.toNat, 0]

def k0_chk316 (i : grid0.Coords) (v1586 : BitVec 32) : Prop :=
  (∀ (k0_h2 : k0_cond2 i = 1#1), ∀ a, (k0_off324 v1586) a + S1x1024.size a ≤ S40960x1024.size a)
theorem k0_off324_inb : ∀ (i : grid0.Coords) (v1586 : BitVec 32) (k0_hw316 : k0_chk316 i v1586), ∀ (k0_h2 : k0_cond2 i = 1#1), ∀ a, (k0_off324 v1586) a + S1x1024.size a ≤ S40960x1024.size a := fun i v1586 k0_hw316 k0_h2 => k0_hw316 k0_h2

def k0_off325 (v1591 : BitVec 32) : Fin 2 → Nat :=
  let c0_i32_1743 : BitVec 32 := 0#32
  ![v1591.toNat, 0]

def k0_chk317 (i : grid0.Coords) (v1591 : BitVec 32) : Prop :=
  (∀ (k0_h2 : k0_cond2 i = 1#1), ∀ a, (k0_off325 v1591) a + S1x1024.size a ≤ S40960x1024.size a)
theorem k0_off325_inb : ∀ (i : grid0.Coords) (v1591 : BitVec 32) (k0_hw317 : k0_chk317 i v1591), ∀ (k0_h2 : k0_cond2 i = 1#1), ∀ a, (k0_off325 v1591) a + S1x1024.size a ≤ S40960x1024.size a := fun i v1591 k0_hw317 k0_h2 => k0_hw317 k0_h2

def k0_off326 (v1596 : BitVec 32) : Fin 2 → Nat :=
  let c0_i32_1749 : BitVec 32 := 0#32
  ![v1596.toNat, 0]

def k0_chk318 (i : grid0.Coords) (v1596 : BitVec 32) : Prop :=
  (∀ (k0_h2 : k0_cond2 i = 1#1), ∀ a, (k0_off326 v1596) a + S1x1024.size a ≤ S40960x1024.size a)
theorem k0_off326_inb : ∀ (i : grid0.Coords) (v1596 : BitVec 32) (k0_hw318 : k0_chk318 i v1596), ∀ (k0_h2 : k0_cond2 i = 1#1), ∀ a, (k0_off326 v1596) a + S1x1024.size a ≤ S40960x1024.size a := fun i v1596 k0_hw318 k0_h2 => k0_hw318 k0_h2

def k0_off327 (v1601 : BitVec 32) : Fin 2 → Nat :=
  let c0_i32_1754 : BitVec 32 := 0#32
  ![v1601.toNat, 0]

def k0_chk319 (i : grid0.Coords) (v1601 : BitVec 32) : Prop :=
  (∀ (k0_h2 : k0_cond2 i = 1#1), ∀ a, (k0_off327 v1601) a + S1x1024.size a ≤ S40960x1024.size a)
theorem k0_off327_inb : ∀ (i : grid0.Coords) (v1601 : BitVec 32) (k0_hw319 : k0_chk319 i v1601), ∀ (k0_h2 : k0_cond2 i = 1#1), ∀ a, (k0_off327 v1601) a + S1x1024.size a ≤ S40960x1024.size a := fun i v1601 k0_hw319 k0_h2 => k0_hw319 k0_h2

def k0_off328 (v1606 : BitVec 32) : Fin 2 → Nat :=
  let c0_i32_1760 : BitVec 32 := 0#32
  ![v1606.toNat, 0]

def k0_chk320 (i : grid0.Coords) (v1606 : BitVec 32) : Prop :=
  (∀ (k0_h2 : k0_cond2 i = 1#1), ∀ a, (k0_off328 v1606) a + S1x1024.size a ≤ S40960x1024.size a)
theorem k0_off328_inb : ∀ (i : grid0.Coords) (v1606 : BitVec 32) (k0_hw320 : k0_chk320 i v1606), ∀ (k0_h2 : k0_cond2 i = 1#1), ∀ a, (k0_off328 v1606) a + S1x1024.size a ≤ S40960x1024.size a := fun i v1606 k0_hw320 k0_h2 => k0_hw320 k0_h2

def k0_off329 (v1611 : BitVec 32) : Fin 2 → Nat :=
  let c0_i32_1765 : BitVec 32 := 0#32
  ![v1611.toNat, 0]

def k0_chk321 (i : grid0.Coords) (v1611 : BitVec 32) : Prop :=
  (∀ (k0_h2 : k0_cond2 i = 1#1), ∀ a, (k0_off329 v1611) a + S1x1024.size a ≤ S40960x1024.size a)
theorem k0_off329_inb : ∀ (i : grid0.Coords) (v1611 : BitVec 32) (k0_hw321 : k0_chk321 i v1611), ∀ (k0_h2 : k0_cond2 i = 1#1), ∀ a, (k0_off329 v1611) a + S1x1024.size a ≤ S40960x1024.size a := fun i v1611 k0_hw321 k0_h2 => k0_hw321 k0_h2

def k0_off330 (v1616 : BitVec 32) : Fin 2 → Nat :=
  let c0_i32_1771 : BitVec 32 := 0#32
  ![v1616.toNat, 0]

def k0_chk322 (i : grid0.Coords) (v1616 : BitVec 32) : Prop :=
  (∀ (k0_h2 : k0_cond2 i = 1#1), ∀ a, (k0_off330 v1616) a + S1x1024.size a ≤ S40960x1024.size a)
theorem k0_off330_inb : ∀ (i : grid0.Coords) (v1616 : BitVec 32) (k0_hw322 : k0_chk322 i v1616), ∀ (k0_h2 : k0_cond2 i = 1#1), ∀ a, (k0_off330 v1616) a + S1x1024.size a ≤ S40960x1024.size a := fun i v1616 k0_hw322 k0_h2 => k0_hw322 k0_h2

def k0_off331 (v1621 : BitVec 32) : Fin 2 → Nat :=
  let c0_i32_1776 : BitVec 32 := 0#32
  ![v1621.toNat, 0]

def k0_chk323 (i : grid0.Coords) (v1621 : BitVec 32) : Prop :=
  (∀ (k0_h2 : k0_cond2 i = 1#1), ∀ a, (k0_off331 v1621) a + S1x1024.size a ≤ S40960x1024.size a)
theorem k0_off331_inb : ∀ (i : grid0.Coords) (v1621 : BitVec 32) (k0_hw323 : k0_chk323 i v1621), ∀ (k0_h2 : k0_cond2 i = 1#1), ∀ a, (k0_off331 v1621) a + S1x1024.size a ≤ S40960x1024.size a := fun i v1621 k0_hw323 k0_h2 => k0_hw323 k0_h2

def k0_off332 (v1626 : BitVec 32) : Fin 2 → Nat :=
  let c0_i32_1782 : BitVec 32 := 0#32
  ![v1626.toNat, 0]

def k0_chk324 (i : grid0.Coords) (v1626 : BitVec 32) : Prop :=
  (∀ (k0_h2 : k0_cond2 i = 1#1), ∀ a, (k0_off332 v1626) a + S1x1024.size a ≤ S40960x1024.size a)
theorem k0_off332_inb : ∀ (i : grid0.Coords) (v1626 : BitVec 32) (k0_hw324 : k0_chk324 i v1626), ∀ (k0_h2 : k0_cond2 i = 1#1), ∀ a, (k0_off332 v1626) a + S1x1024.size a ≤ S40960x1024.size a := fun i v1626 k0_hw324 k0_h2 => k0_hw324 k0_h2

def k0_off333 (v1631 : BitVec 32) : Fin 2 → Nat :=
  let c0_i32_1787 : BitVec 32 := 0#32
  ![v1631.toNat, 0]

def k0_chk325 (i : grid0.Coords) (v1631 : BitVec 32) : Prop :=
  (∀ (k0_h2 : k0_cond2 i = 1#1), ∀ a, (k0_off333 v1631) a + S1x1024.size a ≤ S40960x1024.size a)
theorem k0_off333_inb : ∀ (i : grid0.Coords) (v1631 : BitVec 32) (k0_hw325 : k0_chk325 i v1631), ∀ (k0_h2 : k0_cond2 i = 1#1), ∀ a, (k0_off333 v1631) a + S1x1024.size a ≤ S40960x1024.size a := fun i v1631 k0_hw325 k0_h2 => k0_hw325 k0_h2

def k0_off334 (v1636 : BitVec 32) : Fin 2 → Nat :=
  let c0_i32_1793 : BitVec 32 := 0#32
  ![v1636.toNat, 0]

def k0_chk326 (i : grid0.Coords) (v1636 : BitVec 32) : Prop :=
  (∀ (k0_h2 : k0_cond2 i = 1#1), ∀ a, (k0_off334 v1636) a + S1x1024.size a ≤ S40960x1024.size a)
theorem k0_off334_inb : ∀ (i : grid0.Coords) (v1636 : BitVec 32) (k0_hw326 : k0_chk326 i v1636), ∀ (k0_h2 : k0_cond2 i = 1#1), ∀ a, (k0_off334 v1636) a + S1x1024.size a ≤ S40960x1024.size a := fun i v1636 k0_hw326 k0_h2 => k0_hw326 k0_h2

def k0_off335 (v1641 : BitVec 32) : Fin 2 → Nat :=
  let c0_i32_1798 : BitVec 32 := 0#32
  ![v1641.toNat, 0]

def k0_chk327 (i : grid0.Coords) (v1641 : BitVec 32) : Prop :=
  (∀ (k0_h2 : k0_cond2 i = 1#1), ∀ a, (k0_off335 v1641) a + S1x1024.size a ≤ S40960x1024.size a)
theorem k0_off335_inb : ∀ (i : grid0.Coords) (v1641 : BitVec 32) (k0_hw327 : k0_chk327 i v1641), ∀ (k0_h2 : k0_cond2 i = 1#1), ∀ a, (k0_off335 v1641) a + S1x1024.size a ≤ S40960x1024.size a := fun i v1641 k0_hw327 k0_h2 => k0_hw327 k0_h2

def k0_off336 (v1646 : BitVec 32) : Fin 2 → Nat :=
  let c0_i32_1804 : BitVec 32 := 0#32
  ![v1646.toNat, 0]

def k0_chk328 (i : grid0.Coords) (v1646 : BitVec 32) : Prop :=
  (∀ (k0_h2 : k0_cond2 i = 1#1), ∀ a, (k0_off336 v1646) a + S1x1024.size a ≤ S40960x1024.size a)
theorem k0_off336_inb : ∀ (i : grid0.Coords) (v1646 : BitVec 32) (k0_hw328 : k0_chk328 i v1646), ∀ (k0_h2 : k0_cond2 i = 1#1), ∀ a, (k0_off336 v1646) a + S1x1024.size a ≤ S40960x1024.size a := fun i v1646 k0_hw328 k0_h2 => k0_hw328 k0_h2

def k0_off337 (v1651 : BitVec 32) : Fin 2 → Nat :=
  let c0_i32_1809 : BitVec 32 := 0#32
  ![v1651.toNat, 0]

def k0_chk329 (i : grid0.Coords) (v1651 : BitVec 32) : Prop :=
  (∀ (k0_h2 : k0_cond2 i = 1#1), ∀ a, (k0_off337 v1651) a + S1x1024.size a ≤ S40960x1024.size a)
theorem k0_off337_inb : ∀ (i : grid0.Coords) (v1651 : BitVec 32) (k0_hw329 : k0_chk329 i v1651), ∀ (k0_h2 : k0_cond2 i = 1#1), ∀ a, (k0_off337 v1651) a + S1x1024.size a ≤ S40960x1024.size a := fun i v1651 k0_hw329 k0_h2 => k0_hw329 k0_h2

def k0_off338 (v1656 : BitVec 32) : Fin 2 → Nat :=
  let c0_i32_1815 : BitVec 32 := 0#32
  ![v1656.toNat, 0]

def k0_chk330 (i : grid0.Coords) (v1656 : BitVec 32) : Prop :=
  (∀ (k0_h2 : k0_cond2 i = 1#1), ∀ a, (k0_off338 v1656) a + S1x1024.size a ≤ S40960x1024.size a)
theorem k0_off338_inb : ∀ (i : grid0.Coords) (v1656 : BitVec 32) (k0_hw330 : k0_chk330 i v1656), ∀ (k0_h2 : k0_cond2 i = 1#1), ∀ a, (k0_off338 v1656) a + S1x1024.size a ≤ S40960x1024.size a := fun i v1656 k0_hw330 k0_h2 => k0_hw330 k0_h2

def k0_off339 (v1661 : BitVec 32) : Fin 2 → Nat :=
  let c0_i32_1820 : BitVec 32 := 0#32
  ![v1661.toNat, 0]

def k0_chk331 (i : grid0.Coords) (v1661 : BitVec 32) : Prop :=
  (∀ (k0_h2 : k0_cond2 i = 1#1), ∀ a, (k0_off339 v1661) a + S1x1024.size a ≤ S40960x1024.size a)
theorem k0_off339_inb : ∀ (i : grid0.Coords) (v1661 : BitVec 32) (k0_hw331 : k0_chk331 i v1661), ∀ (k0_h2 : k0_cond2 i = 1#1), ∀ a, (k0_off339 v1661) a + S1x1024.size a ≤ S40960x1024.size a := fun i v1661 k0_hw331 k0_h2 => k0_hw331 k0_h2

def k0_off340 (v1666 : BitVec 32) : Fin 2 → Nat :=
  let c0_i32_1826 : BitVec 32 := 0#32
  ![v1666.toNat, 0]

def k0_chk332 (i : grid0.Coords) (v1666 : BitVec 32) : Prop :=
  (∀ (k0_h2 : k0_cond2 i = 1#1), ∀ a, (k0_off340 v1666) a + S1x1024.size a ≤ S40960x1024.size a)
theorem k0_off340_inb : ∀ (i : grid0.Coords) (v1666 : BitVec 32) (k0_hw332 : k0_chk332 i v1666), ∀ (k0_h2 : k0_cond2 i = 1#1), ∀ a, (k0_off340 v1666) a + S1x1024.size a ≤ S40960x1024.size a := fun i v1666 k0_hw332 k0_h2 => k0_hw332 k0_h2

def k0_off341 (v1671 : BitVec 32) : Fin 2 → Nat :=
  let c0_i32_1831 : BitVec 32 := 0#32
  ![v1671.toNat, 0]

def k0_chk333 (i : grid0.Coords) (v1671 : BitVec 32) : Prop :=
  (∀ (k0_h2 : k0_cond2 i = 1#1), ∀ a, (k0_off341 v1671) a + S1x1024.size a ≤ S40960x1024.size a)
theorem k0_off341_inb : ∀ (i : grid0.Coords) (v1671 : BitVec 32) (k0_hw333 : k0_chk333 i v1671), ∀ (k0_h2 : k0_cond2 i = 1#1), ∀ a, (k0_off341 v1671) a + S1x1024.size a ≤ S40960x1024.size a := fun i v1671 k0_hw333 k0_h2 => k0_hw333 k0_h2

def k0_off342 (v1676 : BitVec 32) : Fin 2 → Nat :=
  let c0_i32_1837 : BitVec 32 := 0#32
  ![v1676.toNat, 0]

def k0_chk334 (i : grid0.Coords) (v1676 : BitVec 32) : Prop :=
  (∀ (k0_h2 : k0_cond2 i = 1#1), ∀ a, (k0_off342 v1676) a + S1x1024.size a ≤ S40960x1024.size a)
theorem k0_off342_inb : ∀ (i : grid0.Coords) (v1676 : BitVec 32) (k0_hw334 : k0_chk334 i v1676), ∀ (k0_h2 : k0_cond2 i = 1#1), ∀ a, (k0_off342 v1676) a + S1x1024.size a ≤ S40960x1024.size a := fun i v1676 k0_hw334 k0_h2 => k0_hw334 k0_h2

def k0_off343 (v1681 : BitVec 32) : Fin 2 → Nat :=
  let c0_i32_1842 : BitVec 32 := 0#32
  ![v1681.toNat, 0]

def k0_chk335 (i : grid0.Coords) (v1681 : BitVec 32) : Prop :=
  (∀ (k0_h2 : k0_cond2 i = 1#1), ∀ a, (k0_off343 v1681) a + S1x1024.size a ≤ S40960x1024.size a)
theorem k0_off343_inb : ∀ (i : grid0.Coords) (v1681 : BitVec 32) (k0_hw335 : k0_chk335 i v1681), ∀ (k0_h2 : k0_cond2 i = 1#1), ∀ a, (k0_off343 v1681) a + S1x1024.size a ≤ S40960x1024.size a := fun i v1681 k0_hw335 k0_h2 => k0_hw335 k0_h2

def k0_off344 (v1686 : BitVec 32) : Fin 2 → Nat :=
  let c0_i32_1848 : BitVec 32 := 0#32
  ![v1686.toNat, 0]

def k0_chk336 (i : grid0.Coords) (v1686 : BitVec 32) : Prop :=
  (∀ (k0_h2 : k0_cond2 i = 1#1), ∀ a, (k0_off344 v1686) a + S1x1024.size a ≤ S40960x1024.size a)
theorem k0_off344_inb : ∀ (i : grid0.Coords) (v1686 : BitVec 32) (k0_hw336 : k0_chk336 i v1686), ∀ (k0_h2 : k0_cond2 i = 1#1), ∀ a, (k0_off344 v1686) a + S1x1024.size a ≤ S40960x1024.size a := fun i v1686 k0_hw336 k0_h2 => k0_hw336 k0_h2

def k0_off345 (v1691 : BitVec 32) : Fin 2 → Nat :=
  let c0_i32_1853 : BitVec 32 := 0#32
  ![v1691.toNat, 0]

def k0_chk337 (i : grid0.Coords) (v1691 : BitVec 32) : Prop :=
  (∀ (k0_h2 : k0_cond2 i = 1#1), ∀ a, (k0_off345 v1691) a + S1x1024.size a ≤ S40960x1024.size a)
theorem k0_off345_inb : ∀ (i : grid0.Coords) (v1691 : BitVec 32) (k0_hw337 : k0_chk337 i v1691), ∀ (k0_h2 : k0_cond2 i = 1#1), ∀ a, (k0_off345 v1691) a + S1x1024.size a ≤ S40960x1024.size a := fun i v1691 k0_hw337 k0_h2 => k0_hw337 k0_h2

def k0_off346 (v1696 : BitVec 32) : Fin 2 → Nat :=
  let c0_i32_1859 : BitVec 32 := 0#32
  ![v1696.toNat, 0]

def k0_chk338 (i : grid0.Coords) (v1696 : BitVec 32) : Prop :=
  (∀ (k0_h2 : k0_cond2 i = 1#1), ∀ a, (k0_off346 v1696) a + S1x1024.size a ≤ S40960x1024.size a)
theorem k0_off346_inb : ∀ (i : grid0.Coords) (v1696 : BitVec 32) (k0_hw338 : k0_chk338 i v1696), ∀ (k0_h2 : k0_cond2 i = 1#1), ∀ a, (k0_off346 v1696) a + S1x1024.size a ≤ S40960x1024.size a := fun i v1696 k0_hw338 k0_h2 => k0_hw338 k0_h2

def k0_off347 (v1701 : BitVec 32) : Fin 2 → Nat :=
  let c0_i32_1864 : BitVec 32 := 0#32
  ![v1701.toNat, 0]

def k0_chk339 (i : grid0.Coords) (v1701 : BitVec 32) : Prop :=
  (∀ (k0_h2 : k0_cond2 i = 1#1), ∀ a, (k0_off347 v1701) a + S1x1024.size a ≤ S40960x1024.size a)
theorem k0_off347_inb : ∀ (i : grid0.Coords) (v1701 : BitVec 32) (k0_hw339 : k0_chk339 i v1701), ∀ (k0_h2 : k0_cond2 i = 1#1), ∀ a, (k0_off347 v1701) a + S1x1024.size a ≤ S40960x1024.size a := fun i v1701 k0_hw339 k0_h2 => k0_hw339 k0_h2

def k0_off348 (v1706 : BitVec 32) : Fin 2 → Nat :=
  let c0_i32_1870 : BitVec 32 := 0#32
  ![v1706.toNat, 0]

def k0_chk340 (i : grid0.Coords) (v1706 : BitVec 32) : Prop :=
  (∀ (k0_h2 : k0_cond2 i = 1#1), ∀ a, (k0_off348 v1706) a + S1x1024.size a ≤ S40960x1024.size a)
theorem k0_off348_inb : ∀ (i : grid0.Coords) (v1706 : BitVec 32) (k0_hw340 : k0_chk340 i v1706), ∀ (k0_h2 : k0_cond2 i = 1#1), ∀ a, (k0_off348 v1706) a + S1x1024.size a ≤ S40960x1024.size a := fun i v1706 k0_hw340 k0_h2 => k0_hw340 k0_h2

def k0_off349 (v1711 : BitVec 32) : Fin 2 → Nat :=
  let c0_i32_1875 : BitVec 32 := 0#32
  ![v1711.toNat, 0]

def k0_chk341 (i : grid0.Coords) (v1711 : BitVec 32) : Prop :=
  (∀ (k0_h2 : k0_cond2 i = 1#1), ∀ a, (k0_off349 v1711) a + S1x1024.size a ≤ S40960x1024.size a)
theorem k0_off349_inb : ∀ (i : grid0.Coords) (v1711 : BitVec 32) (k0_hw341 : k0_chk341 i v1711), ∀ (k0_h2 : k0_cond2 i = 1#1), ∀ a, (k0_off349 v1711) a + S1x1024.size a ≤ S40960x1024.size a := fun i v1711 k0_hw341 k0_h2 => k0_hw341 k0_h2

def k0_off350 (v1716 : BitVec 32) : Fin 2 → Nat :=
  let c0_i32_1881 : BitVec 32 := 0#32
  ![v1716.toNat, 0]

def k0_chk342 (i : grid0.Coords) (v1716 : BitVec 32) : Prop :=
  (∀ (k0_h2 : k0_cond2 i = 1#1), ∀ a, (k0_off350 v1716) a + S1x1024.size a ≤ S40960x1024.size a)
theorem k0_off350_inb : ∀ (i : grid0.Coords) (v1716 : BitVec 32) (k0_hw342 : k0_chk342 i v1716), ∀ (k0_h2 : k0_cond2 i = 1#1), ∀ a, (k0_off350 v1716) a + S1x1024.size a ≤ S40960x1024.size a := fun i v1716 k0_hw342 k0_h2 => k0_hw342 k0_h2

def k0_off351 (v1721 : BitVec 32) : Fin 2 → Nat :=
  let c0_i32_1886 : BitVec 32 := 0#32
  ![v1721.toNat, 0]

def k0_chk343 (i : grid0.Coords) (v1721 : BitVec 32) : Prop :=
  (∀ (k0_h2 : k0_cond2 i = 1#1), ∀ a, (k0_off351 v1721) a + S1x1024.size a ≤ S40960x1024.size a)
theorem k0_off351_inb : ∀ (i : grid0.Coords) (v1721 : BitVec 32) (k0_hw343 : k0_chk343 i v1721), ∀ (k0_h2 : k0_cond2 i = 1#1), ∀ a, (k0_off351 v1721) a + S1x1024.size a ≤ S40960x1024.size a := fun i v1721 k0_hw343 k0_h2 => k0_hw343 k0_h2

def k0_off352 (v1726 : BitVec 32) : Fin 2 → Nat :=
  let c0_i32_1892 : BitVec 32 := 0#32
  ![v1726.toNat, 0]

def k0_chk344 (i : grid0.Coords) (v1726 : BitVec 32) : Prop :=
  (∀ (k0_h2 : k0_cond2 i = 1#1), ∀ a, (k0_off352 v1726) a + S1x1024.size a ≤ S40960x1024.size a)
theorem k0_off352_inb : ∀ (i : grid0.Coords) (v1726 : BitVec 32) (k0_hw344 : k0_chk344 i v1726), ∀ (k0_h2 : k0_cond2 i = 1#1), ∀ a, (k0_off352 v1726) a + S1x1024.size a ≤ S40960x1024.size a := fun i v1726 k0_hw344 k0_h2 => k0_hw344 k0_h2

def k0_off353 (v1731 : BitVec 32) : Fin 2 → Nat :=
  let c0_i32_1897 : BitVec 32 := 0#32
  ![v1731.toNat, 0]

def k0_chk345 (i : grid0.Coords) (v1731 : BitVec 32) : Prop :=
  (∀ (k0_h2 : k0_cond2 i = 1#1), ∀ a, (k0_off353 v1731) a + S1x1024.size a ≤ S40960x1024.size a)
theorem k0_off353_inb : ∀ (i : grid0.Coords) (v1731 : BitVec 32) (k0_hw345 : k0_chk345 i v1731), ∀ (k0_h2 : k0_cond2 i = 1#1), ∀ a, (k0_off353 v1731) a + S1x1024.size a ≤ S40960x1024.size a := fun i v1731 k0_hw345 k0_h2 => k0_hw345 k0_h2

def k0_off354 (v1736 : BitVec 32) : Fin 2 → Nat :=
  let c0_i32_1903 : BitVec 32 := 0#32
  ![v1736.toNat, 0]

def k0_chk346 (i : grid0.Coords) (v1736 : BitVec 32) : Prop :=
  (∀ (k0_h2 : k0_cond2 i = 1#1), ∀ a, (k0_off354 v1736) a + S1x1024.size a ≤ S40960x1024.size a)
theorem k0_off354_inb : ∀ (i : grid0.Coords) (v1736 : BitVec 32) (k0_hw346 : k0_chk346 i v1736), ∀ (k0_h2 : k0_cond2 i = 1#1), ∀ a, (k0_off354 v1736) a + S1x1024.size a ≤ S40960x1024.size a := fun i v1736 k0_hw346 k0_h2 => k0_hw346 k0_h2

def k0_off355 (v1741 : BitVec 32) : Fin 2 → Nat :=
  let c0_i32_1908 : BitVec 32 := 0#32
  ![v1741.toNat, 0]

def k0_chk347 (i : grid0.Coords) (v1741 : BitVec 32) : Prop :=
  (∀ (k0_h2 : k0_cond2 i = 1#1), ∀ a, (k0_off355 v1741) a + S1x1024.size a ≤ S40960x1024.size a)
theorem k0_off355_inb : ∀ (i : grid0.Coords) (v1741 : BitVec 32) (k0_hw347 : k0_chk347 i v1741), ∀ (k0_h2 : k0_cond2 i = 1#1), ∀ a, (k0_off355 v1741) a + S1x1024.size a ≤ S40960x1024.size a := fun i v1741 k0_hw347 k0_h2 => k0_hw347 k0_h2

def k0_off356 (v1746 : BitVec 32) : Fin 2 → Nat :=
  let c0_i32_1914 : BitVec 32 := 0#32
  ![v1746.toNat, 0]

def k0_chk348 (i : grid0.Coords) (v1746 : BitVec 32) : Prop :=
  (∀ (k0_h2 : k0_cond2 i = 1#1), ∀ a, (k0_off356 v1746) a + S1x1024.size a ≤ S40960x1024.size a)
theorem k0_off356_inb : ∀ (i : grid0.Coords) (v1746 : BitVec 32) (k0_hw348 : k0_chk348 i v1746), ∀ (k0_h2 : k0_cond2 i = 1#1), ∀ a, (k0_off356 v1746) a + S1x1024.size a ≤ S40960x1024.size a := fun i v1746 k0_hw348 k0_h2 => k0_hw348 k0_h2

def k0_off357 (v1751 : BitVec 32) : Fin 2 → Nat :=
  let c0_i32_1919 : BitVec 32 := 0#32
  ![v1751.toNat, 0]

def k0_chk349 (i : grid0.Coords) (v1751 : BitVec 32) : Prop :=
  (∀ (k0_h2 : k0_cond2 i = 1#1), ∀ a, (k0_off357 v1751) a + S1x1024.size a ≤ S40960x1024.size a)
theorem k0_off357_inb : ∀ (i : grid0.Coords) (v1751 : BitVec 32) (k0_hw349 : k0_chk349 i v1751), ∀ (k0_h2 : k0_cond2 i = 1#1), ∀ a, (k0_off357 v1751) a + S1x1024.size a ≤ S40960x1024.size a := fun i v1751 k0_hw349 k0_h2 => k0_hw349 k0_h2

def k0_off358 (v1756 : BitVec 32) : Fin 2 → Nat :=
  let c0_i32_1925 : BitVec 32 := 0#32
  ![v1756.toNat, 0]

def k0_chk350 (i : grid0.Coords) (v1756 : BitVec 32) : Prop :=
  (∀ (k0_h2 : k0_cond2 i = 1#1), ∀ a, (k0_off358 v1756) a + S1x1024.size a ≤ S40960x1024.size a)
theorem k0_off358_inb : ∀ (i : grid0.Coords) (v1756 : BitVec 32) (k0_hw350 : k0_chk350 i v1756), ∀ (k0_h2 : k0_cond2 i = 1#1), ∀ a, (k0_off358 v1756) a + S1x1024.size a ≤ S40960x1024.size a := fun i v1756 k0_hw350 k0_h2 => k0_hw350 k0_h2

def k0_off359 (v1761 : BitVec 32) : Fin 2 → Nat :=
  let c0_i32_1930 : BitVec 32 := 0#32
  ![v1761.toNat, 0]

def k0_chk351 (i : grid0.Coords) (v1761 : BitVec 32) : Prop :=
  (∀ (k0_h2 : k0_cond2 i = 1#1), ∀ a, (k0_off359 v1761) a + S1x1024.size a ≤ S40960x1024.size a)
theorem k0_off359_inb : ∀ (i : grid0.Coords) (v1761 : BitVec 32) (k0_hw351 : k0_chk351 i v1761), ∀ (k0_h2 : k0_cond2 i = 1#1), ∀ a, (k0_off359 v1761) a + S1x1024.size a ≤ S40960x1024.size a := fun i v1761 k0_hw351 k0_h2 => k0_hw351 k0_h2

def k0_off360 (v1766 : BitVec 32) : Fin 2 → Nat :=
  let c0_i32_1936 : BitVec 32 := 0#32
  ![v1766.toNat, 0]

def k0_chk352 (i : grid0.Coords) (v1766 : BitVec 32) : Prop :=
  (∀ (k0_h2 : k0_cond2 i = 1#1), ∀ a, (k0_off360 v1766) a + S1x1024.size a ≤ S40960x1024.size a)
theorem k0_off360_inb : ∀ (i : grid0.Coords) (v1766 : BitVec 32) (k0_hw352 : k0_chk352 i v1766), ∀ (k0_h2 : k0_cond2 i = 1#1), ∀ a, (k0_off360 v1766) a + S1x1024.size a ≤ S40960x1024.size a := fun i v1766 k0_hw352 k0_h2 => k0_hw352 k0_h2

def k0_off361 (v1771 : BitVec 32) : Fin 2 → Nat :=
  let c0_i32_1941 : BitVec 32 := 0#32
  ![v1771.toNat, 0]

def k0_chk353 (i : grid0.Coords) (v1771 : BitVec 32) : Prop :=
  (∀ (k0_h2 : k0_cond2 i = 1#1), ∀ a, (k0_off361 v1771) a + S1x1024.size a ≤ S40960x1024.size a)
theorem k0_off361_inb : ∀ (i : grid0.Coords) (v1771 : BitVec 32) (k0_hw353 : k0_chk353 i v1771), ∀ (k0_h2 : k0_cond2 i = 1#1), ∀ a, (k0_off361 v1771) a + S1x1024.size a ≤ S40960x1024.size a := fun i v1771 k0_hw353 k0_h2 => k0_hw353 k0_h2

def k0_off362 (v1776 : BitVec 32) : Fin 2 → Nat :=
  let c0_i32_1947 : BitVec 32 := 0#32
  ![v1776.toNat, 0]

def k0_chk354 (i : grid0.Coords) (v1776 : BitVec 32) : Prop :=
  (∀ (k0_h2 : k0_cond2 i = 1#1), ∀ a, (k0_off362 v1776) a + S1x1024.size a ≤ S40960x1024.size a)
theorem k0_off362_inb : ∀ (i : grid0.Coords) (v1776 : BitVec 32) (k0_hw354 : k0_chk354 i v1776), ∀ (k0_h2 : k0_cond2 i = 1#1), ∀ a, (k0_off362 v1776) a + S1x1024.size a ≤ S40960x1024.size a := fun i v1776 k0_hw354 k0_h2 => k0_hw354 k0_h2

def k0_off363 (v1781 : BitVec 32) : Fin 2 → Nat :=
  let c0_i32_1952 : BitVec 32 := 0#32
  ![v1781.toNat, 0]

def k0_chk355 (i : grid0.Coords) (v1781 : BitVec 32) : Prop :=
  (∀ (k0_h2 : k0_cond2 i = 1#1), ∀ a, (k0_off363 v1781) a + S1x1024.size a ≤ S40960x1024.size a)
theorem k0_off363_inb : ∀ (i : grid0.Coords) (v1781 : BitVec 32) (k0_hw355 : k0_chk355 i v1781), ∀ (k0_h2 : k0_cond2 i = 1#1), ∀ a, (k0_off363 v1781) a + S1x1024.size a ≤ S40960x1024.size a := fun i v1781 k0_hw355 k0_h2 => k0_hw355 k0_h2

def k0_off364 (v1786 : BitVec 32) : Fin 2 → Nat :=
  let c0_i32_1958 : BitVec 32 := 0#32
  ![v1786.toNat, 0]

def k0_chk356 (i : grid0.Coords) (v1786 : BitVec 32) : Prop :=
  (∀ (k0_h2 : k0_cond2 i = 1#1), ∀ a, (k0_off364 v1786) a + S1x1024.size a ≤ S40960x1024.size a)
theorem k0_off364_inb : ∀ (i : grid0.Coords) (v1786 : BitVec 32) (k0_hw356 : k0_chk356 i v1786), ∀ (k0_h2 : k0_cond2 i = 1#1), ∀ a, (k0_off364 v1786) a + S1x1024.size a ≤ S40960x1024.size a := fun i v1786 k0_hw356 k0_h2 => k0_hw356 k0_h2

def k0_off365 (v1791 : BitVec 32) : Fin 2 → Nat :=
  let c0_i32_1963 : BitVec 32 := 0#32
  ![v1791.toNat, 0]

def k0_chk357 (i : grid0.Coords) (v1791 : BitVec 32) : Prop :=
  (∀ (k0_h2 : k0_cond2 i = 1#1), ∀ a, (k0_off365 v1791) a + S1x1024.size a ≤ S40960x1024.size a)
theorem k0_off365_inb : ∀ (i : grid0.Coords) (v1791 : BitVec 32) (k0_hw357 : k0_chk357 i v1791), ∀ (k0_h2 : k0_cond2 i = 1#1), ∀ a, (k0_off365 v1791) a + S1x1024.size a ≤ S40960x1024.size a := fun i v1791 k0_hw357 k0_h2 => k0_hw357 k0_h2

def k0_off366 (v1796 : BitVec 32) : Fin 2 → Nat :=
  let c0_i32_1969 : BitVec 32 := 0#32
  ![v1796.toNat, 0]

def k0_chk358 (i : grid0.Coords) (v1796 : BitVec 32) : Prop :=
  (∀ (k0_h2 : k0_cond2 i = 1#1), ∀ a, (k0_off366 v1796) a + S1x1024.size a ≤ S40960x1024.size a)
theorem k0_off366_inb : ∀ (i : grid0.Coords) (v1796 : BitVec 32) (k0_hw358 : k0_chk358 i v1796), ∀ (k0_h2 : k0_cond2 i = 1#1), ∀ a, (k0_off366 v1796) a + S1x1024.size a ≤ S40960x1024.size a := fun i v1796 k0_hw358 k0_h2 => k0_hw358 k0_h2

def k0_off367 (v1801 : BitVec 32) : Fin 2 → Nat :=
  let c0_i32_1974 : BitVec 32 := 0#32
  ![v1801.toNat, 0]

def k0_chk359 (i : grid0.Coords) (v1801 : BitVec 32) : Prop :=
  (∀ (k0_h2 : k0_cond2 i = 1#1), ∀ a, (k0_off367 v1801) a + S1x1024.size a ≤ S40960x1024.size a)
theorem k0_off367_inb : ∀ (i : grid0.Coords) (v1801 : BitVec 32) (k0_hw359 : k0_chk359 i v1801), ∀ (k0_h2 : k0_cond2 i = 1#1), ∀ a, (k0_off367 v1801) a + S1x1024.size a ≤ S40960x1024.size a := fun i v1801 k0_hw359 k0_h2 => k0_hw359 k0_h2

def k0_off368 (v1806 : BitVec 32) : Fin 2 → Nat :=
  let c0_i32_1980 : BitVec 32 := 0#32
  ![v1806.toNat, 0]

def k0_chk360 (i : grid0.Coords) (v1806 : BitVec 32) : Prop :=
  (∀ (k0_h2 : k0_cond2 i = 1#1), ∀ a, (k0_off368 v1806) a + S1x1024.size a ≤ S40960x1024.size a)
theorem k0_off368_inb : ∀ (i : grid0.Coords) (v1806 : BitVec 32) (k0_hw360 : k0_chk360 i v1806), ∀ (k0_h2 : k0_cond2 i = 1#1), ∀ a, (k0_off368 v1806) a + S1x1024.size a ≤ S40960x1024.size a := fun i v1806 k0_hw360 k0_h2 => k0_hw360 k0_h2

def k0_off369 (v1811 : BitVec 32) : Fin 2 → Nat :=
  let c0_i32_1985 : BitVec 32 := 0#32
  ![v1811.toNat, 0]

def k0_chk361 (i : grid0.Coords) (v1811 : BitVec 32) : Prop :=
  (∀ (k0_h2 : k0_cond2 i = 1#1), ∀ a, (k0_off369 v1811) a + S1x1024.size a ≤ S40960x1024.size a)
theorem k0_off369_inb : ∀ (i : grid0.Coords) (v1811 : BitVec 32) (k0_hw361 : k0_chk361 i v1811), ∀ (k0_h2 : k0_cond2 i = 1#1), ∀ a, (k0_off369 v1811) a + S1x1024.size a ≤ S40960x1024.size a := fun i v1811 k0_hw361 k0_h2 => k0_hw361 k0_h2

def k0_off370 (v1816 : BitVec 32) : Fin 2 → Nat :=
  let c0_i32_1991 : BitVec 32 := 0#32
  ![v1816.toNat, 0]

def k0_chk362 (i : grid0.Coords) (v1816 : BitVec 32) : Prop :=
  (∀ (k0_h2 : k0_cond2 i = 1#1), ∀ a, (k0_off370 v1816) a + S1x1024.size a ≤ S40960x1024.size a)
theorem k0_off370_inb : ∀ (i : grid0.Coords) (v1816 : BitVec 32) (k0_hw362 : k0_chk362 i v1816), ∀ (k0_h2 : k0_cond2 i = 1#1), ∀ a, (k0_off370 v1816) a + S1x1024.size a ≤ S40960x1024.size a := fun i v1816 k0_hw362 k0_h2 => k0_hw362 k0_h2

def k0_off371 (v1821 : BitVec 32) : Fin 2 → Nat :=
  let c0_i32_1996 : BitVec 32 := 0#32
  ![v1821.toNat, 0]

def k0_chk363 (i : grid0.Coords) (v1821 : BitVec 32) : Prop :=
  (∀ (k0_h2 : k0_cond2 i = 1#1), ∀ a, (k0_off371 v1821) a + S1x1024.size a ≤ S40960x1024.size a)
theorem k0_off371_inb : ∀ (i : grid0.Coords) (v1821 : BitVec 32) (k0_hw363 : k0_chk363 i v1821), ∀ (k0_h2 : k0_cond2 i = 1#1), ∀ a, (k0_off371 v1821) a + S1x1024.size a ≤ S40960x1024.size a := fun i v1821 k0_hw363 k0_h2 => k0_hw363 k0_h2

def k0_off372 (v1826 : BitVec 32) : Fin 2 → Nat :=
  let c0_i32_2002 : BitVec 32 := 0#32
  ![v1826.toNat, 0]

def k0_chk364 (i : grid0.Coords) (v1826 : BitVec 32) : Prop :=
  (∀ (k0_h2 : k0_cond2 i = 1#1), ∀ a, (k0_off372 v1826) a + S1x1024.size a ≤ S40960x1024.size a)
theorem k0_off372_inb : ∀ (i : grid0.Coords) (v1826 : BitVec 32) (k0_hw364 : k0_chk364 i v1826), ∀ (k0_h2 : k0_cond2 i = 1#1), ∀ a, (k0_off372 v1826) a + S1x1024.size a ≤ S40960x1024.size a := fun i v1826 k0_hw364 k0_h2 => k0_hw364 k0_h2

def k0_off373 (v1831 : BitVec 32) : Fin 2 → Nat :=
  let c0_i32_2007 : BitVec 32 := 0#32
  ![v1831.toNat, 0]

def k0_chk365 (i : grid0.Coords) (v1831 : BitVec 32) : Prop :=
  (∀ (k0_h2 : k0_cond2 i = 1#1), ∀ a, (k0_off373 v1831) a + S1x1024.size a ≤ S40960x1024.size a)
theorem k0_off373_inb : ∀ (i : grid0.Coords) (v1831 : BitVec 32) (k0_hw365 : k0_chk365 i v1831), ∀ (k0_h2 : k0_cond2 i = 1#1), ∀ a, (k0_off373 v1831) a + S1x1024.size a ≤ S40960x1024.size a := fun i v1831 k0_hw365 k0_h2 => k0_hw365 k0_h2

def k0_off374 (v1836 : BitVec 32) : Fin 2 → Nat :=
  let c0_i32_2013 : BitVec 32 := 0#32
  ![v1836.toNat, 0]

def k0_chk366 (i : grid0.Coords) (v1836 : BitVec 32) : Prop :=
  (∀ (k0_h2 : k0_cond2 i = 1#1), ∀ a, (k0_off374 v1836) a + S1x1024.size a ≤ S40960x1024.size a)
theorem k0_off374_inb : ∀ (i : grid0.Coords) (v1836 : BitVec 32) (k0_hw366 : k0_chk366 i v1836), ∀ (k0_h2 : k0_cond2 i = 1#1), ∀ a, (k0_off374 v1836) a + S1x1024.size a ≤ S40960x1024.size a := fun i v1836 k0_hw366 k0_h2 => k0_hw366 k0_h2

def k0_off375 (v1841 : BitVec 32) : Fin 2 → Nat :=
  let c0_i32_2018 : BitVec 32 := 0#32
  ![v1841.toNat, 0]

def k0_chk367 (i : grid0.Coords) (v1841 : BitVec 32) : Prop :=
  (∀ (k0_h2 : k0_cond2 i = 1#1), ∀ a, (k0_off375 v1841) a + S1x1024.size a ≤ S40960x1024.size a)
theorem k0_off375_inb : ∀ (i : grid0.Coords) (v1841 : BitVec 32) (k0_hw367 : k0_chk367 i v1841), ∀ (k0_h2 : k0_cond2 i = 1#1), ∀ a, (k0_off375 v1841) a + S1x1024.size a ≤ S40960x1024.size a := fun i v1841 k0_hw367 k0_h2 => k0_hw367 k0_h2

def k0_off376 (v1846 : BitVec 32) : Fin 2 → Nat :=
  let c0_i32_2024 : BitVec 32 := 0#32
  ![v1846.toNat, 0]

def k0_chk368 (i : grid0.Coords) (v1846 : BitVec 32) : Prop :=
  (∀ (k0_h2 : k0_cond2 i = 1#1), ∀ a, (k0_off376 v1846) a + S1x1024.size a ≤ S40960x1024.size a)
theorem k0_off376_inb : ∀ (i : grid0.Coords) (v1846 : BitVec 32) (k0_hw368 : k0_chk368 i v1846), ∀ (k0_h2 : k0_cond2 i = 1#1), ∀ a, (k0_off376 v1846) a + S1x1024.size a ≤ S40960x1024.size a := fun i v1846 k0_hw368 k0_h2 => k0_hw368 k0_h2

def k0_off377 (v1851 : BitVec 32) : Fin 2 → Nat :=
  let c0_i32_2029 : BitVec 32 := 0#32
  ![v1851.toNat, 0]

def k0_chk369 (i : grid0.Coords) (v1851 : BitVec 32) : Prop :=
  (∀ (k0_h2 : k0_cond2 i = 1#1), ∀ a, (k0_off377 v1851) a + S1x1024.size a ≤ S40960x1024.size a)
theorem k0_off377_inb : ∀ (i : grid0.Coords) (v1851 : BitVec 32) (k0_hw369 : k0_chk369 i v1851), ∀ (k0_h2 : k0_cond2 i = 1#1), ∀ a, (k0_off377 v1851) a + S1x1024.size a ≤ S40960x1024.size a := fun i v1851 k0_hw369 k0_h2 => k0_hw369 k0_h2

def k0_off378 (v1856 : BitVec 32) : Fin 2 → Nat :=
  let c0_i32_2035 : BitVec 32 := 0#32
  ![v1856.toNat, 0]

def k0_chk370 (i : grid0.Coords) (v1856 : BitVec 32) : Prop :=
  (∀ (k0_h2 : k0_cond2 i = 1#1), ∀ a, (k0_off378 v1856) a + S1x1024.size a ≤ S40960x1024.size a)
theorem k0_off378_inb : ∀ (i : grid0.Coords) (v1856 : BitVec 32) (k0_hw370 : k0_chk370 i v1856), ∀ (k0_h2 : k0_cond2 i = 1#1), ∀ a, (k0_off378 v1856) a + S1x1024.size a ≤ S40960x1024.size a := fun i v1856 k0_hw370 k0_h2 => k0_hw370 k0_h2

def k0_off379 (v1861 : BitVec 32) : Fin 2 → Nat :=
  let c0_i32_2040 : BitVec 32 := 0#32
  ![v1861.toNat, 0]

def k0_chk371 (i : grid0.Coords) (v1861 : BitVec 32) : Prop :=
  (∀ (k0_h2 : k0_cond2 i = 1#1), ∀ a, (k0_off379 v1861) a + S1x1024.size a ≤ S40960x1024.size a)
theorem k0_off379_inb : ∀ (i : grid0.Coords) (v1861 : BitVec 32) (k0_hw371 : k0_chk371 i v1861), ∀ (k0_h2 : k0_cond2 i = 1#1), ∀ a, (k0_off379 v1861) a + S1x1024.size a ≤ S40960x1024.size a := fun i v1861 k0_hw371 k0_h2 => k0_hw371 k0_h2

def k0_off380 (v1866 : BitVec 32) : Fin 2 → Nat :=
  let c0_i32_2046 : BitVec 32 := 0#32
  ![v1866.toNat, 0]

def k0_chk372 (i : grid0.Coords) (v1866 : BitVec 32) : Prop :=
  (∀ (k0_h2 : k0_cond2 i = 1#1), ∀ a, (k0_off380 v1866) a + S1x1024.size a ≤ S40960x1024.size a)
theorem k0_off380_inb : ∀ (i : grid0.Coords) (v1866 : BitVec 32) (k0_hw372 : k0_chk372 i v1866), ∀ (k0_h2 : k0_cond2 i = 1#1), ∀ a, (k0_off380 v1866) a + S1x1024.size a ≤ S40960x1024.size a := fun i v1866 k0_hw372 k0_h2 => k0_hw372 k0_h2

def k0_off381 (v1871 : BitVec 32) : Fin 2 → Nat :=
  let c0_i32_2051 : BitVec 32 := 0#32
  ![v1871.toNat, 0]

def k0_chk373 (i : grid0.Coords) (v1871 : BitVec 32) : Prop :=
  (∀ (k0_h2 : k0_cond2 i = 1#1), ∀ a, (k0_off381 v1871) a + S1x1024.size a ≤ S40960x1024.size a)
theorem k0_off381_inb : ∀ (i : grid0.Coords) (v1871 : BitVec 32) (k0_hw373 : k0_chk373 i v1871), ∀ (k0_h2 : k0_cond2 i = 1#1), ∀ a, (k0_off381 v1871) a + S1x1024.size a ≤ S40960x1024.size a := fun i v1871 k0_hw373 k0_h2 => k0_hw373 k0_h2

def k0_off382 (v1876 : BitVec 32) : Fin 2 → Nat :=
  let c0_i32_2057 : BitVec 32 := 0#32
  ![v1876.toNat, 0]

def k0_chk374 (i : grid0.Coords) (v1876 : BitVec 32) : Prop :=
  (∀ (k0_h2 : k0_cond2 i = 1#1), ∀ a, (k0_off382 v1876) a + S1x1024.size a ≤ S40960x1024.size a)
theorem k0_off382_inb : ∀ (i : grid0.Coords) (v1876 : BitVec 32) (k0_hw374 : k0_chk374 i v1876), ∀ (k0_h2 : k0_cond2 i = 1#1), ∀ a, (k0_off382 v1876) a + S1x1024.size a ≤ S40960x1024.size a := fun i v1876 k0_hw374 k0_h2 => k0_hw374 k0_h2

def k0_off383 (v1881 : BitVec 32) : Fin 2 → Nat :=
  let c0_i32_2062 : BitVec 32 := 0#32
  ![v1881.toNat, 0]

def k0_chk375 (i : grid0.Coords) (v1881 : BitVec 32) : Prop :=
  (∀ (k0_h2 : k0_cond2 i = 1#1), ∀ a, (k0_off383 v1881) a + S1x1024.size a ≤ S40960x1024.size a)
theorem k0_off383_inb : ∀ (i : grid0.Coords) (v1881 : BitVec 32) (k0_hw375 : k0_chk375 i v1881), ∀ (k0_h2 : k0_cond2 i = 1#1), ∀ a, (k0_off383 v1881) a + S1x1024.size a ≤ S40960x1024.size a := fun i v1881 k0_hw375 k0_h2 => k0_hw375 k0_h2

def k0_off384 (v1886 : BitVec 32) : Fin 2 → Nat :=
  let c0_i32_2068 : BitVec 32 := 0#32
  ![v1886.toNat, 0]

def k0_chk376 (i : grid0.Coords) (v1886 : BitVec 32) : Prop :=
  (∀ (k0_h2 : k0_cond2 i = 1#1), ∀ a, (k0_off384 v1886) a + S1x1024.size a ≤ S40960x1024.size a)
theorem k0_off384_inb : ∀ (i : grid0.Coords) (v1886 : BitVec 32) (k0_hw376 : k0_chk376 i v1886), ∀ (k0_h2 : k0_cond2 i = 1#1), ∀ a, (k0_off384 v1886) a + S1x1024.size a ≤ S40960x1024.size a := fun i v1886 k0_hw376 k0_h2 => k0_hw376 k0_h2

def k0_off385 (v1891 : BitVec 32) : Fin 2 → Nat :=
  let c0_i32_2073 : BitVec 32 := 0#32
  ![v1891.toNat, 0]

def k0_chk377 (i : grid0.Coords) (v1891 : BitVec 32) : Prop :=
  (∀ (k0_h2 : k0_cond2 i = 1#1), ∀ a, (k0_off385 v1891) a + S1x1024.size a ≤ S40960x1024.size a)
theorem k0_off385_inb : ∀ (i : grid0.Coords) (v1891 : BitVec 32) (k0_hw377 : k0_chk377 i v1891), ∀ (k0_h2 : k0_cond2 i = 1#1), ∀ a, (k0_off385 v1891) a + S1x1024.size a ≤ S40960x1024.size a := fun i v1891 k0_hw377 k0_h2 => k0_hw377 k0_h2

def k0_off386 (v1896 : BitVec 32) : Fin 2 → Nat :=
  let c0_i32_2079 : BitVec 32 := 0#32
  ![v1896.toNat, 0]

def k0_chk378 (i : grid0.Coords) (v1896 : BitVec 32) : Prop :=
  (∀ (k0_h2 : k0_cond2 i = 1#1), ∀ a, (k0_off386 v1896) a + S1x1024.size a ≤ S40960x1024.size a)
theorem k0_off386_inb : ∀ (i : grid0.Coords) (v1896 : BitVec 32) (k0_hw378 : k0_chk378 i v1896), ∀ (k0_h2 : k0_cond2 i = 1#1), ∀ a, (k0_off386 v1896) a + S1x1024.size a ≤ S40960x1024.size a := fun i v1896 k0_hw378 k0_h2 => k0_hw378 k0_h2

def k0_off387 (v1901 : BitVec 32) : Fin 2 → Nat :=
  let c0_i32_2084 : BitVec 32 := 0#32
  ![v1901.toNat, 0]

def k0_chk379 (i : grid0.Coords) (v1901 : BitVec 32) : Prop :=
  (∀ (k0_h2 : k0_cond2 i = 1#1), ∀ a, (k0_off387 v1901) a + S1x1024.size a ≤ S40960x1024.size a)
theorem k0_off387_inb : ∀ (i : grid0.Coords) (v1901 : BitVec 32) (k0_hw379 : k0_chk379 i v1901), ∀ (k0_h2 : k0_cond2 i = 1#1), ∀ a, (k0_off387 v1901) a + S1x1024.size a ≤ S40960x1024.size a := fun i v1901 k0_hw379 k0_h2 => k0_hw379 k0_h2

def k0_off388 (v1906 : BitVec 32) : Fin 2 → Nat :=
  let c0_i32_2090 : BitVec 32 := 0#32
  ![v1906.toNat, 0]

def k0_chk380 (i : grid0.Coords) (v1906 : BitVec 32) : Prop :=
  (∀ (k0_h2 : k0_cond2 i = 1#1), ∀ a, (k0_off388 v1906) a + S1x1024.size a ≤ S40960x1024.size a)
theorem k0_off388_inb : ∀ (i : grid0.Coords) (v1906 : BitVec 32) (k0_hw380 : k0_chk380 i v1906), ∀ (k0_h2 : k0_cond2 i = 1#1), ∀ a, (k0_off388 v1906) a + S1x1024.size a ≤ S40960x1024.size a := fun i v1906 k0_hw380 k0_h2 => k0_hw380 k0_h2

def k0_off389 (v1911 : BitVec 32) : Fin 2 → Nat :=
  let c0_i32_2095 : BitVec 32 := 0#32
  ![v1911.toNat, 0]

def k0_chk381 (i : grid0.Coords) (v1911 : BitVec 32) : Prop :=
  (∀ (k0_h2 : k0_cond2 i = 1#1), ∀ a, (k0_off389 v1911) a + S1x1024.size a ≤ S40960x1024.size a)
theorem k0_off389_inb : ∀ (i : grid0.Coords) (v1911 : BitVec 32) (k0_hw381 : k0_chk381 i v1911), ∀ (k0_h2 : k0_cond2 i = 1#1), ∀ a, (k0_off389 v1911) a + S1x1024.size a ≤ S40960x1024.size a := fun i v1911 k0_hw381 k0_h2 => k0_hw381 k0_h2

def k0_off390 (v1916 : BitVec 32) : Fin 2 → Nat :=
  let c0_i32_2101 : BitVec 32 := 0#32
  ![v1916.toNat, 0]

def k0_chk382 (i : grid0.Coords) (v1916 : BitVec 32) : Prop :=
  (∀ (k0_h2 : k0_cond2 i = 1#1), ∀ a, (k0_off390 v1916) a + S1x1024.size a ≤ S40960x1024.size a)
theorem k0_off390_inb : ∀ (i : grid0.Coords) (v1916 : BitVec 32) (k0_hw382 : k0_chk382 i v1916), ∀ (k0_h2 : k0_cond2 i = 1#1), ∀ a, (k0_off390 v1916) a + S1x1024.size a ≤ S40960x1024.size a := fun i v1916 k0_hw382 k0_h2 => k0_hw382 k0_h2

def k0_off391 (v1921 : BitVec 32) : Fin 2 → Nat :=
  let c0_i32_2106 : BitVec 32 := 0#32
  ![v1921.toNat, 0]

def k0_chk383 (i : grid0.Coords) (v1921 : BitVec 32) : Prop :=
  (∀ (k0_h2 : k0_cond2 i = 1#1), ∀ a, (k0_off391 v1921) a + S1x1024.size a ≤ S40960x1024.size a)
theorem k0_off391_inb : ∀ (i : grid0.Coords) (v1921 : BitVec 32) (k0_hw383 : k0_chk383 i v1921), ∀ (k0_h2 : k0_cond2 i = 1#1), ∀ a, (k0_off391 v1921) a + S1x1024.size a ≤ S40960x1024.size a := fun i v1921 k0_hw383 k0_h2 => k0_hw383 k0_h2

def k0_off392 (v1926 : BitVec 32) : Fin 2 → Nat :=
  let c0_i32_2112 : BitVec 32 := 0#32
  ![v1926.toNat, 0]

def k0_chk384 (i : grid0.Coords) (v1926 : BitVec 32) : Prop :=
  (∀ (k0_h2 : k0_cond2 i = 1#1), ∀ a, (k0_off392 v1926) a + S1x1024.size a ≤ S40960x1024.size a)
theorem k0_off392_inb : ∀ (i : grid0.Coords) (v1926 : BitVec 32) (k0_hw384 : k0_chk384 i v1926), ∀ (k0_h2 : k0_cond2 i = 1#1), ∀ a, (k0_off392 v1926) a + S1x1024.size a ≤ S40960x1024.size a := fun i v1926 k0_hw384 k0_h2 => k0_hw384 k0_h2

def k0_off393 (v1931 : BitVec 32) : Fin 2 → Nat :=
  let c0_i32_2117 : BitVec 32 := 0#32
  ![v1931.toNat, 0]

def k0_chk385 (i : grid0.Coords) (v1931 : BitVec 32) : Prop :=
  (∀ (k0_h2 : k0_cond2 i = 1#1), ∀ a, (k0_off393 v1931) a + S1x1024.size a ≤ S40960x1024.size a)
theorem k0_off393_inb : ∀ (i : grid0.Coords) (v1931 : BitVec 32) (k0_hw385 : k0_chk385 i v1931), ∀ (k0_h2 : k0_cond2 i = 1#1), ∀ a, (k0_off393 v1931) a + S1x1024.size a ≤ S40960x1024.size a := fun i v1931 k0_hw385 k0_h2 => k0_hw385 k0_h2

def k0_off394 (v1936 : BitVec 32) : Fin 2 → Nat :=
  let c0_i32_2123 : BitVec 32 := 0#32
  ![v1936.toNat, 0]

def k0_chk386 (i : grid0.Coords) (v1936 : BitVec 32) : Prop :=
  (∀ (k0_h2 : k0_cond2 i = 1#1), ∀ a, (k0_off394 v1936) a + S1x1024.size a ≤ S40960x1024.size a)
theorem k0_off394_inb : ∀ (i : grid0.Coords) (v1936 : BitVec 32) (k0_hw386 : k0_chk386 i v1936), ∀ (k0_h2 : k0_cond2 i = 1#1), ∀ a, (k0_off394 v1936) a + S1x1024.size a ≤ S40960x1024.size a := fun i v1936 k0_hw386 k0_h2 => k0_hw386 k0_h2

def k0_off395 (v1941 : BitVec 32) : Fin 2 → Nat :=
  let c0_i32_2128 : BitVec 32 := 0#32
  ![v1941.toNat, 0]

def k0_chk387 (i : grid0.Coords) (v1941 : BitVec 32) : Prop :=
  (∀ (k0_h2 : k0_cond2 i = 1#1), ∀ a, (k0_off395 v1941) a + S1x1024.size a ≤ S40960x1024.size a)
theorem k0_off395_inb : ∀ (i : grid0.Coords) (v1941 : BitVec 32) (k0_hw387 : k0_chk387 i v1941), ∀ (k0_h2 : k0_cond2 i = 1#1), ∀ a, (k0_off395 v1941) a + S1x1024.size a ≤ S40960x1024.size a := fun i v1941 k0_hw387 k0_h2 => k0_hw387 k0_h2

def k0_off396 (v1946 : BitVec 32) : Fin 2 → Nat :=
  let c0_i32_2134 : BitVec 32 := 0#32
  ![v1946.toNat, 0]

def k0_chk388 (i : grid0.Coords) (v1946 : BitVec 32) : Prop :=
  (∀ (k0_h2 : k0_cond2 i = 1#1), ∀ a, (k0_off396 v1946) a + S1x1024.size a ≤ S40960x1024.size a)
theorem k0_off396_inb : ∀ (i : grid0.Coords) (v1946 : BitVec 32) (k0_hw388 : k0_chk388 i v1946), ∀ (k0_h2 : k0_cond2 i = 1#1), ∀ a, (k0_off396 v1946) a + S1x1024.size a ≤ S40960x1024.size a := fun i v1946 k0_hw388 k0_h2 => k0_hw388 k0_h2

def k0_off397 (v1951 : BitVec 32) : Fin 2 → Nat :=
  let c0_i32_2139 : BitVec 32 := 0#32
  ![v1951.toNat, 0]

def k0_chk389 (i : grid0.Coords) (v1951 : BitVec 32) : Prop :=
  (∀ (k0_h2 : k0_cond2 i = 1#1), ∀ a, (k0_off397 v1951) a + S1x1024.size a ≤ S40960x1024.size a)
theorem k0_off397_inb : ∀ (i : grid0.Coords) (v1951 : BitVec 32) (k0_hw389 : k0_chk389 i v1951), ∀ (k0_h2 : k0_cond2 i = 1#1), ∀ a, (k0_off397 v1951) a + S1x1024.size a ≤ S40960x1024.size a := fun i v1951 k0_hw389 k0_h2 => k0_hw389 k0_h2

def k0_off398 (v1956 : BitVec 32) : Fin 2 → Nat :=
  let c0_i32_2145 : BitVec 32 := 0#32
  ![v1956.toNat, 0]

def k0_chk390 (i : grid0.Coords) (v1956 : BitVec 32) : Prop :=
  (∀ (k0_h2 : k0_cond2 i = 1#1), ∀ a, (k0_off398 v1956) a + S1x1024.size a ≤ S40960x1024.size a)
theorem k0_off398_inb : ∀ (i : grid0.Coords) (v1956 : BitVec 32) (k0_hw390 : k0_chk390 i v1956), ∀ (k0_h2 : k0_cond2 i = 1#1), ∀ a, (k0_off398 v1956) a + S1x1024.size a ≤ S40960x1024.size a := fun i v1956 k0_hw390 k0_h2 => k0_hw390 k0_h2

def k0_off399 (v1961 : BitVec 32) : Fin 2 → Nat :=
  let c0_i32_2150 : BitVec 32 := 0#32
  ![v1961.toNat, 0]

def k0_chk391 (i : grid0.Coords) (v1961 : BitVec 32) : Prop :=
  (∀ (k0_h2 : k0_cond2 i = 1#1), ∀ a, (k0_off399 v1961) a + S1x1024.size a ≤ S40960x1024.size a)
theorem k0_off399_inb : ∀ (i : grid0.Coords) (v1961 : BitVec 32) (k0_hw391 : k0_chk391 i v1961), ∀ (k0_h2 : k0_cond2 i = 1#1), ∀ a, (k0_off399 v1961) a + S1x1024.size a ≤ S40960x1024.size a := fun i v1961 k0_hw391 k0_h2 => k0_hw391 k0_h2

def k0_off400 (v1966 : BitVec 32) : Fin 2 → Nat :=
  let c0_i32_2156 : BitVec 32 := 0#32
  ![v1966.toNat, 0]

def k0_chk392 (i : grid0.Coords) (v1966 : BitVec 32) : Prop :=
  (∀ (k0_h2 : k0_cond2 i = 1#1), ∀ a, (k0_off400 v1966) a + S1x1024.size a ≤ S40960x1024.size a)
theorem k0_off400_inb : ∀ (i : grid0.Coords) (v1966 : BitVec 32) (k0_hw392 : k0_chk392 i v1966), ∀ (k0_h2 : k0_cond2 i = 1#1), ∀ a, (k0_off400 v1966) a + S1x1024.size a ≤ S40960x1024.size a := fun i v1966 k0_hw392 k0_h2 => k0_hw392 k0_h2

def k0_off401 (v1971 : BitVec 32) : Fin 2 → Nat :=
  let c0_i32_2161 : BitVec 32 := 0#32
  ![v1971.toNat, 0]

def k0_chk393 (i : grid0.Coords) (v1971 : BitVec 32) : Prop :=
  (∀ (k0_h2 : k0_cond2 i = 1#1), ∀ a, (k0_off401 v1971) a + S1x1024.size a ≤ S40960x1024.size a)
theorem k0_off401_inb : ∀ (i : grid0.Coords) (v1971 : BitVec 32) (k0_hw393 : k0_chk393 i v1971), ∀ (k0_h2 : k0_cond2 i = 1#1), ∀ a, (k0_off401 v1971) a + S1x1024.size a ≤ S40960x1024.size a := fun i v1971 k0_hw393 k0_h2 => k0_hw393 k0_h2

def k0_off402 (v1976 : BitVec 32) : Fin 2 → Nat :=
  let c0_i32_2167 : BitVec 32 := 0#32
  ![v1976.toNat, 0]

def k0_chk394 (i : grid0.Coords) (v1976 : BitVec 32) : Prop :=
  (∀ (k0_h2 : k0_cond2 i = 1#1), ∀ a, (k0_off402 v1976) a + S1x1024.size a ≤ S40960x1024.size a)
theorem k0_off402_inb : ∀ (i : grid0.Coords) (v1976 : BitVec 32) (k0_hw394 : k0_chk394 i v1976), ∀ (k0_h2 : k0_cond2 i = 1#1), ∀ a, (k0_off402 v1976) a + S1x1024.size a ≤ S40960x1024.size a := fun i v1976 k0_hw394 k0_h2 => k0_hw394 k0_h2

def k0_off403 (v1981 : BitVec 32) : Fin 2 → Nat :=
  let c0_i32_2172 : BitVec 32 := 0#32
  ![v1981.toNat, 0]

def k0_chk395 (i : grid0.Coords) (v1981 : BitVec 32) : Prop :=
  (∀ (k0_h2 : k0_cond2 i = 1#1), ∀ a, (k0_off403 v1981) a + S1x1024.size a ≤ S40960x1024.size a)
theorem k0_off403_inb : ∀ (i : grid0.Coords) (v1981 : BitVec 32) (k0_hw395 : k0_chk395 i v1981), ∀ (k0_h2 : k0_cond2 i = 1#1), ∀ a, (k0_off403 v1981) a + S1x1024.size a ≤ S40960x1024.size a := fun i v1981 k0_hw395 k0_h2 => k0_hw395 k0_h2

def k0_off404 (v1986 : BitVec 32) : Fin 2 → Nat :=
  let c0_i32_2178 : BitVec 32 := 0#32
  ![v1986.toNat, 0]

def k0_chk396 (i : grid0.Coords) (v1986 : BitVec 32) : Prop :=
  (∀ (k0_h2 : k0_cond2 i = 1#1), ∀ a, (k0_off404 v1986) a + S1x1024.size a ≤ S40960x1024.size a)
theorem k0_off404_inb : ∀ (i : grid0.Coords) (v1986 : BitVec 32) (k0_hw396 : k0_chk396 i v1986), ∀ (k0_h2 : k0_cond2 i = 1#1), ∀ a, (k0_off404 v1986) a + S1x1024.size a ≤ S40960x1024.size a := fun i v1986 k0_hw396 k0_h2 => k0_hw396 k0_h2

def k0_off405 (v1991 : BitVec 32) : Fin 2 → Nat :=
  let c0_i32_2183 : BitVec 32 := 0#32
  ![v1991.toNat, 0]

def k0_chk397 (i : grid0.Coords) (v1991 : BitVec 32) : Prop :=
  (∀ (k0_h2 : k0_cond2 i = 1#1), ∀ a, (k0_off405 v1991) a + S1x1024.size a ≤ S40960x1024.size a)
theorem k0_off405_inb : ∀ (i : grid0.Coords) (v1991 : BitVec 32) (k0_hw397 : k0_chk397 i v1991), ∀ (k0_h2 : k0_cond2 i = 1#1), ∀ a, (k0_off405 v1991) a + S1x1024.size a ≤ S40960x1024.size a := fun i v1991 k0_hw397 k0_h2 => k0_hw397 k0_h2

def k0_off406 (v1996 : BitVec 32) : Fin 2 → Nat :=
  let c0_i32_2189 : BitVec 32 := 0#32
  ![v1996.toNat, 0]

def k0_chk398 (i : grid0.Coords) (v1996 : BitVec 32) : Prop :=
  (∀ (k0_h2 : k0_cond2 i = 1#1), ∀ a, (k0_off406 v1996) a + S1x1024.size a ≤ S40960x1024.size a)
theorem k0_off406_inb : ∀ (i : grid0.Coords) (v1996 : BitVec 32) (k0_hw398 : k0_chk398 i v1996), ∀ (k0_h2 : k0_cond2 i = 1#1), ∀ a, (k0_off406 v1996) a + S1x1024.size a ≤ S40960x1024.size a := fun i v1996 k0_hw398 k0_h2 => k0_hw398 k0_h2

def k0_off407 (v2001 : BitVec 32) : Fin 2 → Nat :=
  let c0_i32_2194 : BitVec 32 := 0#32
  ![v2001.toNat, 0]

def k0_chk399 (i : grid0.Coords) (v2001 : BitVec 32) : Prop :=
  (∀ (k0_h2 : k0_cond2 i = 1#1), ∀ a, (k0_off407 v2001) a + S1x1024.size a ≤ S40960x1024.size a)
theorem k0_off407_inb : ∀ (i : grid0.Coords) (v2001 : BitVec 32) (k0_hw399 : k0_chk399 i v2001), ∀ (k0_h2 : k0_cond2 i = 1#1), ∀ a, (k0_off407 v2001) a + S1x1024.size a ≤ S40960x1024.size a := fun i v2001 k0_hw399 k0_h2 => k0_hw399 k0_h2

def k0_off408 (v2006 : BitVec 32) : Fin 2 → Nat :=
  let c0_i32_2200 : BitVec 32 := 0#32
  ![v2006.toNat, 0]

def k0_chk400 (i : grid0.Coords) (v2006 : BitVec 32) : Prop :=
  (∀ (k0_h2 : k0_cond2 i = 1#1), ∀ a, (k0_off408 v2006) a + S1x1024.size a ≤ S40960x1024.size a)
theorem k0_off408_inb : ∀ (i : grid0.Coords) (v2006 : BitVec 32) (k0_hw400 : k0_chk400 i v2006), ∀ (k0_h2 : k0_cond2 i = 1#1), ∀ a, (k0_off408 v2006) a + S1x1024.size a ≤ S40960x1024.size a := fun i v2006 k0_hw400 k0_h2 => k0_hw400 k0_h2

def k0_off409 (v2011 : BitVec 32) : Fin 2 → Nat :=
  let c0_i32_2205 : BitVec 32 := 0#32
  ![v2011.toNat, 0]

def k0_chk401 (i : grid0.Coords) (v2011 : BitVec 32) : Prop :=
  (∀ (k0_h2 : k0_cond2 i = 1#1), ∀ a, (k0_off409 v2011) a + S1x1024.size a ≤ S40960x1024.size a)
theorem k0_off409_inb : ∀ (i : grid0.Coords) (v2011 : BitVec 32) (k0_hw401 : k0_chk401 i v2011), ∀ (k0_h2 : k0_cond2 i = 1#1), ∀ a, (k0_off409 v2011) a + S1x1024.size a ≤ S40960x1024.size a := fun i v2011 k0_hw401 k0_h2 => k0_hw401 k0_h2

def k0_off410 (v2016 : BitVec 32) : Fin 2 → Nat :=
  let c0_i32_2211 : BitVec 32 := 0#32
  ![v2016.toNat, 0]

def k0_chk402 (i : grid0.Coords) (v2016 : BitVec 32) : Prop :=
  (∀ (k0_h2 : k0_cond2 i = 1#1), ∀ a, (k0_off410 v2016) a + S1x1024.size a ≤ S40960x1024.size a)
theorem k0_off410_inb : ∀ (i : grid0.Coords) (v2016 : BitVec 32) (k0_hw402 : k0_chk402 i v2016), ∀ (k0_h2 : k0_cond2 i = 1#1), ∀ a, (k0_off410 v2016) a + S1x1024.size a ≤ S40960x1024.size a := fun i v2016 k0_hw402 k0_h2 => k0_hw402 k0_h2

def k0_off411 (v2021 : BitVec 32) : Fin 2 → Nat :=
  let c0_i32_2216 : BitVec 32 := 0#32
  ![v2021.toNat, 0]

def k0_chk403 (i : grid0.Coords) (v2021 : BitVec 32) : Prop :=
  (∀ (k0_h2 : k0_cond2 i = 1#1), ∀ a, (k0_off411 v2021) a + S1x1024.size a ≤ S40960x1024.size a)
theorem k0_off411_inb : ∀ (i : grid0.Coords) (v2021 : BitVec 32) (k0_hw403 : k0_chk403 i v2021), ∀ (k0_h2 : k0_cond2 i = 1#1), ∀ a, (k0_off411 v2021) a + S1x1024.size a ≤ S40960x1024.size a := fun i v2021 k0_hw403 k0_h2 => k0_hw403 k0_h2

def k0_off412 (v2026 : BitVec 32) : Fin 2 → Nat :=
  let c0_i32_2222 : BitVec 32 := 0#32
  ![v2026.toNat, 0]

def k0_chk404 (i : grid0.Coords) (v2026 : BitVec 32) : Prop :=
  (∀ (k0_h2 : k0_cond2 i = 1#1), ∀ a, (k0_off412 v2026) a + S1x1024.size a ≤ S40960x1024.size a)
theorem k0_off412_inb : ∀ (i : grid0.Coords) (v2026 : BitVec 32) (k0_hw404 : k0_chk404 i v2026), ∀ (k0_h2 : k0_cond2 i = 1#1), ∀ a, (k0_off412 v2026) a + S1x1024.size a ≤ S40960x1024.size a := fun i v2026 k0_hw404 k0_h2 => k0_hw404 k0_h2

def k0_off413 (v2031 : BitVec 32) : Fin 2 → Nat :=
  let c0_i32_2227 : BitVec 32 := 0#32
  ![v2031.toNat, 0]

def k0_chk405 (i : grid0.Coords) (v2031 : BitVec 32) : Prop :=
  (∀ (k0_h2 : k0_cond2 i = 1#1), ∀ a, (k0_off413 v2031) a + S1x1024.size a ≤ S40960x1024.size a)
theorem k0_off413_inb : ∀ (i : grid0.Coords) (v2031 : BitVec 32) (k0_hw405 : k0_chk405 i v2031), ∀ (k0_h2 : k0_cond2 i = 1#1), ∀ a, (k0_off413 v2031) a + S1x1024.size a ≤ S40960x1024.size a := fun i v2031 k0_hw405 k0_h2 => k0_hw405 k0_h2

def k0_off414 (v2036 : BitVec 32) : Fin 2 → Nat :=
  let c0_i32_2233 : BitVec 32 := 0#32
  ![v2036.toNat, 0]

def k0_chk406 (i : grid0.Coords) (v2036 : BitVec 32) : Prop :=
  (∀ (k0_h2 : k0_cond2 i = 1#1), ∀ a, (k0_off414 v2036) a + S1x1024.size a ≤ S40960x1024.size a)
theorem k0_off414_inb : ∀ (i : grid0.Coords) (v2036 : BitVec 32) (k0_hw406 : k0_chk406 i v2036), ∀ (k0_h2 : k0_cond2 i = 1#1), ∀ a, (k0_off414 v2036) a + S1x1024.size a ≤ S40960x1024.size a := fun i v2036 k0_hw406 k0_h2 => k0_hw406 k0_h2

def k0_off415 (v2041 : BitVec 32) : Fin 2 → Nat :=
  let c0_i32_2238 : BitVec 32 := 0#32
  ![v2041.toNat, 0]

def k0_chk407 (i : grid0.Coords) (v2041 : BitVec 32) : Prop :=
  (∀ (k0_h2 : k0_cond2 i = 1#1), ∀ a, (k0_off415 v2041) a + S1x1024.size a ≤ S40960x1024.size a)
theorem k0_off415_inb : ∀ (i : grid0.Coords) (v2041 : BitVec 32) (k0_hw407 : k0_chk407 i v2041), ∀ (k0_h2 : k0_cond2 i = 1#1), ∀ a, (k0_off415 v2041) a + S1x1024.size a ≤ S40960x1024.size a := fun i v2041 k0_hw407 k0_h2 => k0_hw407 k0_h2

def k0_off416 (v2046 : BitVec 32) : Fin 2 → Nat :=
  let c0_i32_2244 : BitVec 32 := 0#32
  ![v2046.toNat, 0]

def k0_chk408 (i : grid0.Coords) (v2046 : BitVec 32) : Prop :=
  (∀ (k0_h2 : k0_cond2 i = 1#1), ∀ a, (k0_off416 v2046) a + S1x1024.size a ≤ S40960x1024.size a)
theorem k0_off416_inb : ∀ (i : grid0.Coords) (v2046 : BitVec 32) (k0_hw408 : k0_chk408 i v2046), ∀ (k0_h2 : k0_cond2 i = 1#1), ∀ a, (k0_off416 v2046) a + S1x1024.size a ≤ S40960x1024.size a := fun i v2046 k0_hw408 k0_h2 => k0_hw408 k0_h2

def k0_off417 (v2051 : BitVec 32) : Fin 2 → Nat :=
  let c0_i32_2249 : BitVec 32 := 0#32
  ![v2051.toNat, 0]

def k0_chk409 (i : grid0.Coords) (v2051 : BitVec 32) : Prop :=
  (∀ (k0_h2 : k0_cond2 i = 1#1), ∀ a, (k0_off417 v2051) a + S1x1024.size a ≤ S40960x1024.size a)
theorem k0_off417_inb : ∀ (i : grid0.Coords) (v2051 : BitVec 32) (k0_hw409 : k0_chk409 i v2051), ∀ (k0_h2 : k0_cond2 i = 1#1), ∀ a, (k0_off417 v2051) a + S1x1024.size a ≤ S40960x1024.size a := fun i v2051 k0_hw409 k0_h2 => k0_hw409 k0_h2

def k0_off418 (v2056 : BitVec 32) : Fin 2 → Nat :=
  let c0_i32_2255 : BitVec 32 := 0#32
  ![v2056.toNat, 0]

def k0_chk410 (i : grid0.Coords) (v2056 : BitVec 32) : Prop :=
  (∀ (k0_h2 : k0_cond2 i = 1#1), ∀ a, (k0_off418 v2056) a + S1x1024.size a ≤ S40960x1024.size a)
theorem k0_off418_inb : ∀ (i : grid0.Coords) (v2056 : BitVec 32) (k0_hw410 : k0_chk410 i v2056), ∀ (k0_h2 : k0_cond2 i = 1#1), ∀ a, (k0_off418 v2056) a + S1x1024.size a ≤ S40960x1024.size a := fun i v2056 k0_hw410 k0_h2 => k0_hw410 k0_h2

def k0_off419 (v2061 : BitVec 32) : Fin 2 → Nat :=
  let c0_i32_2260 : BitVec 32 := 0#32
  ![v2061.toNat, 0]

def k0_chk411 (i : grid0.Coords) (v2061 : BitVec 32) : Prop :=
  (∀ (k0_h2 : k0_cond2 i = 1#1), ∀ a, (k0_off419 v2061) a + S1x1024.size a ≤ S40960x1024.size a)
theorem k0_off419_inb : ∀ (i : grid0.Coords) (v2061 : BitVec 32) (k0_hw411 : k0_chk411 i v2061), ∀ (k0_h2 : k0_cond2 i = 1#1), ∀ a, (k0_off419 v2061) a + S1x1024.size a ≤ S40960x1024.size a := fun i v2061 k0_hw411 k0_h2 => k0_hw411 k0_h2

def k0_off420 (v2066 : BitVec 32) : Fin 2 → Nat :=
  let c0_i32_2266 : BitVec 32 := 0#32
  ![v2066.toNat, 0]

def k0_chk412 (i : grid0.Coords) (v2066 : BitVec 32) : Prop :=
  (∀ (k0_h2 : k0_cond2 i = 1#1), ∀ a, (k0_off420 v2066) a + S1x1024.size a ≤ S40960x1024.size a)
theorem k0_off420_inb : ∀ (i : grid0.Coords) (v2066 : BitVec 32) (k0_hw412 : k0_chk412 i v2066), ∀ (k0_h2 : k0_cond2 i = 1#1), ∀ a, (k0_off420 v2066) a + S1x1024.size a ≤ S40960x1024.size a := fun i v2066 k0_hw412 k0_h2 => k0_hw412 k0_h2

def k0_off421 (v2071 : BitVec 32) : Fin 2 → Nat :=
  let c0_i32_2271 : BitVec 32 := 0#32
  ![v2071.toNat, 0]

def k0_chk413 (i : grid0.Coords) (v2071 : BitVec 32) : Prop :=
  (∀ (k0_h2 : k0_cond2 i = 1#1), ∀ a, (k0_off421 v2071) a + S1x1024.size a ≤ S40960x1024.size a)
theorem k0_off421_inb : ∀ (i : grid0.Coords) (v2071 : BitVec 32) (k0_hw413 : k0_chk413 i v2071), ∀ (k0_h2 : k0_cond2 i = 1#1), ∀ a, (k0_off421 v2071) a + S1x1024.size a ≤ S40960x1024.size a := fun i v2071 k0_hw413 k0_h2 => k0_hw413 k0_h2

def k0_off422 (v2076 : BitVec 32) : Fin 2 → Nat :=
  let c0_i32_2277 : BitVec 32 := 0#32
  ![v2076.toNat, 0]

def k0_chk414 (i : grid0.Coords) (v2076 : BitVec 32) : Prop :=
  (∀ (k0_h2 : k0_cond2 i = 1#1), ∀ a, (k0_off422 v2076) a + S1x1024.size a ≤ S40960x1024.size a)
theorem k0_off422_inb : ∀ (i : grid0.Coords) (v2076 : BitVec 32) (k0_hw414 : k0_chk414 i v2076), ∀ (k0_h2 : k0_cond2 i = 1#1), ∀ a, (k0_off422 v2076) a + S1x1024.size a ≤ S40960x1024.size a := fun i v2076 k0_hw414 k0_h2 => k0_hw414 k0_h2

def k0_off423 (v2081 : BitVec 32) : Fin 2 → Nat :=
  let c0_i32_2282 : BitVec 32 := 0#32
  ![v2081.toNat, 0]

def k0_chk415 (i : grid0.Coords) (v2081 : BitVec 32) : Prop :=
  (∀ (k0_h2 : k0_cond2 i = 1#1), ∀ a, (k0_off423 v2081) a + S1x1024.size a ≤ S40960x1024.size a)
theorem k0_off423_inb : ∀ (i : grid0.Coords) (v2081 : BitVec 32) (k0_hw415 : k0_chk415 i v2081), ∀ (k0_h2 : k0_cond2 i = 1#1), ∀ a, (k0_off423 v2081) a + S1x1024.size a ≤ S40960x1024.size a := fun i v2081 k0_hw415 k0_h2 => k0_hw415 k0_h2

def k0_off424 (v2086 : BitVec 32) : Fin 2 → Nat :=
  let c0_i32_2288 : BitVec 32 := 0#32
  ![v2086.toNat, 0]

def k0_chk416 (i : grid0.Coords) (v2086 : BitVec 32) : Prop :=
  (∀ (k0_h2 : k0_cond2 i = 1#1), ∀ a, (k0_off424 v2086) a + S1x1024.size a ≤ S40960x1024.size a)
theorem k0_off424_inb : ∀ (i : grid0.Coords) (v2086 : BitVec 32) (k0_hw416 : k0_chk416 i v2086), ∀ (k0_h2 : k0_cond2 i = 1#1), ∀ a, (k0_off424 v2086) a + S1x1024.size a ≤ S40960x1024.size a := fun i v2086 k0_hw416 k0_h2 => k0_hw416 k0_h2

def k0_off425 (v2091 : BitVec 32) : Fin 2 → Nat :=
  let c0_i32_2293 : BitVec 32 := 0#32
  ![v2091.toNat, 0]

def k0_chk417 (i : grid0.Coords) (v2091 : BitVec 32) : Prop :=
  (∀ (k0_h2 : k0_cond2 i = 1#1), ∀ a, (k0_off425 v2091) a + S1x1024.size a ≤ S40960x1024.size a)
theorem k0_off425_inb : ∀ (i : grid0.Coords) (v2091 : BitVec 32) (k0_hw417 : k0_chk417 i v2091), ∀ (k0_h2 : k0_cond2 i = 1#1), ∀ a, (k0_off425 v2091) a + S1x1024.size a ≤ S40960x1024.size a := fun i v2091 k0_hw417 k0_h2 => k0_hw417 k0_h2

def k0_off426 (v2096 : BitVec 32) : Fin 2 → Nat :=
  let c0_i32_2299 : BitVec 32 := 0#32
  ![v2096.toNat, 0]

def k0_chk418 (i : grid0.Coords) (v2096 : BitVec 32) : Prop :=
  (∀ (k0_h2 : k0_cond2 i = 1#1), ∀ a, (k0_off426 v2096) a + S1x1024.size a ≤ S40960x1024.size a)
theorem k0_off426_inb : ∀ (i : grid0.Coords) (v2096 : BitVec 32) (k0_hw418 : k0_chk418 i v2096), ∀ (k0_h2 : k0_cond2 i = 1#1), ∀ a, (k0_off426 v2096) a + S1x1024.size a ≤ S40960x1024.size a := fun i v2096 k0_hw418 k0_h2 => k0_hw418 k0_h2

def k0_off427 (v2101 : BitVec 32) : Fin 2 → Nat :=
  let c0_i32_2304 : BitVec 32 := 0#32
  ![v2101.toNat, 0]

def k0_chk419 (i : grid0.Coords) (v2101 : BitVec 32) : Prop :=
  (∀ (k0_h2 : k0_cond2 i = 1#1), ∀ a, (k0_off427 v2101) a + S1x1024.size a ≤ S40960x1024.size a)
theorem k0_off427_inb : ∀ (i : grid0.Coords) (v2101 : BitVec 32) (k0_hw419 : k0_chk419 i v2101), ∀ (k0_h2 : k0_cond2 i = 1#1), ∀ a, (k0_off427 v2101) a + S1x1024.size a ≤ S40960x1024.size a := fun i v2101 k0_hw419 k0_h2 => k0_hw419 k0_h2

def k0_off428 (v2106 : BitVec 32) : Fin 2 → Nat :=
  let c0_i32_2310 : BitVec 32 := 0#32
  ![v2106.toNat, 0]

def k0_chk420 (i : grid0.Coords) (v2106 : BitVec 32) : Prop :=
  (∀ (k0_h2 : k0_cond2 i = 1#1), ∀ a, (k0_off428 v2106) a + S1x1024.size a ≤ S40960x1024.size a)
theorem k0_off428_inb : ∀ (i : grid0.Coords) (v2106 : BitVec 32) (k0_hw420 : k0_chk420 i v2106), ∀ (k0_h2 : k0_cond2 i = 1#1), ∀ a, (k0_off428 v2106) a + S1x1024.size a ≤ S40960x1024.size a := fun i v2106 k0_hw420 k0_h2 => k0_hw420 k0_h2

def k0_off429 (v2111 : BitVec 32) : Fin 2 → Nat :=
  let c0_i32_2315 : BitVec 32 := 0#32
  ![v2111.toNat, 0]

def k0_chk421 (i : grid0.Coords) (v2111 : BitVec 32) : Prop :=
  (∀ (k0_h2 : k0_cond2 i = 1#1), ∀ a, (k0_off429 v2111) a + S1x1024.size a ≤ S40960x1024.size a)
theorem k0_off429_inb : ∀ (i : grid0.Coords) (v2111 : BitVec 32) (k0_hw421 : k0_chk421 i v2111), ∀ (k0_h2 : k0_cond2 i = 1#1), ∀ a, (k0_off429 v2111) a + S1x1024.size a ≤ S40960x1024.size a := fun i v2111 k0_hw421 k0_h2 => k0_hw421 k0_h2

def k0_off430 (v2116 : BitVec 32) : Fin 2 → Nat :=
  let c0_i32_2321 : BitVec 32 := 0#32
  ![v2116.toNat, 0]

def k0_chk422 (i : grid0.Coords) (v2116 : BitVec 32) : Prop :=
  (∀ (k0_h2 : k0_cond2 i = 1#1), ∀ a, (k0_off430 v2116) a + S1x1024.size a ≤ S40960x1024.size a)
theorem k0_off430_inb : ∀ (i : grid0.Coords) (v2116 : BitVec 32) (k0_hw422 : k0_chk422 i v2116), ∀ (k0_h2 : k0_cond2 i = 1#1), ∀ a, (k0_off430 v2116) a + S1x1024.size a ≤ S40960x1024.size a := fun i v2116 k0_hw422 k0_h2 => k0_hw422 k0_h2

def k0_off431 (v2121 : BitVec 32) : Fin 2 → Nat :=
  let c0_i32_2326 : BitVec 32 := 0#32
  ![v2121.toNat, 0]

def k0_chk423 (i : grid0.Coords) (v2121 : BitVec 32) : Prop :=
  (∀ (k0_h2 : k0_cond2 i = 1#1), ∀ a, (k0_off431 v2121) a + S1x1024.size a ≤ S40960x1024.size a)
theorem k0_off431_inb : ∀ (i : grid0.Coords) (v2121 : BitVec 32) (k0_hw423 : k0_chk423 i v2121), ∀ (k0_h2 : k0_cond2 i = 1#1), ∀ a, (k0_off431 v2121) a + S1x1024.size a ≤ S40960x1024.size a := fun i v2121 k0_hw423 k0_h2 => k0_hw423 k0_h2

def k0_off432 (v2126 : BitVec 32) : Fin 2 → Nat :=
  let c0_i32_2332 : BitVec 32 := 0#32
  ![v2126.toNat, 0]

def k0_chk424 (i : grid0.Coords) (v2126 : BitVec 32) : Prop :=
  (∀ (k0_h2 : k0_cond2 i = 1#1), ∀ a, (k0_off432 v2126) a + S1x1024.size a ≤ S40960x1024.size a)
theorem k0_off432_inb : ∀ (i : grid0.Coords) (v2126 : BitVec 32) (k0_hw424 : k0_chk424 i v2126), ∀ (k0_h2 : k0_cond2 i = 1#1), ∀ a, (k0_off432 v2126) a + S1x1024.size a ≤ S40960x1024.size a := fun i v2126 k0_hw424 k0_h2 => k0_hw424 k0_h2

def k0_off433 (v2131 : BitVec 32) : Fin 2 → Nat :=
  let c0_i32_2337 : BitVec 32 := 0#32
  ![v2131.toNat, 0]

def k0_chk425 (i : grid0.Coords) (v2131 : BitVec 32) : Prop :=
  (∀ (k0_h2 : k0_cond2 i = 1#1), ∀ a, (k0_off433 v2131) a + S1x1024.size a ≤ S40960x1024.size a)
theorem k0_off433_inb : ∀ (i : grid0.Coords) (v2131 : BitVec 32) (k0_hw425 : k0_chk425 i v2131), ∀ (k0_h2 : k0_cond2 i = 1#1), ∀ a, (k0_off433 v2131) a + S1x1024.size a ≤ S40960x1024.size a := fun i v2131 k0_hw425 k0_h2 => k0_hw425 k0_h2

def k0_off434 (v2136 : BitVec 32) : Fin 2 → Nat :=
  let c0_i32_2343 : BitVec 32 := 0#32
  ![v2136.toNat, 0]

def k0_chk426 (i : grid0.Coords) (v2136 : BitVec 32) : Prop :=
  (∀ (k0_h2 : k0_cond2 i = 1#1), ∀ a, (k0_off434 v2136) a + S1x1024.size a ≤ S40960x1024.size a)
theorem k0_off434_inb : ∀ (i : grid0.Coords) (v2136 : BitVec 32) (k0_hw426 : k0_chk426 i v2136), ∀ (k0_h2 : k0_cond2 i = 1#1), ∀ a, (k0_off434 v2136) a + S1x1024.size a ≤ S40960x1024.size a := fun i v2136 k0_hw426 k0_h2 => k0_hw426 k0_h2

def k0_off435 (v2141 : BitVec 32) : Fin 2 → Nat :=
  let c0_i32_2348 : BitVec 32 := 0#32
  ![v2141.toNat, 0]

def k0_chk427 (i : grid0.Coords) (v2141 : BitVec 32) : Prop :=
  (∀ (k0_h2 : k0_cond2 i = 1#1), ∀ a, (k0_off435 v2141) a + S1x1024.size a ≤ S40960x1024.size a)
theorem k0_off435_inb : ∀ (i : grid0.Coords) (v2141 : BitVec 32) (k0_hw427 : k0_chk427 i v2141), ∀ (k0_h2 : k0_cond2 i = 1#1), ∀ a, (k0_off435 v2141) a + S1x1024.size a ≤ S40960x1024.size a := fun i v2141 k0_hw427 k0_h2 => k0_hw427 k0_h2

def k0_off436 (v2146 : BitVec 32) : Fin 2 → Nat :=
  let c0_i32_2354 : BitVec 32 := 0#32
  ![v2146.toNat, 0]

def k0_chk428 (i : grid0.Coords) (v2146 : BitVec 32) : Prop :=
  (∀ (k0_h2 : k0_cond2 i = 1#1), ∀ a, (k0_off436 v2146) a + S1x1024.size a ≤ S40960x1024.size a)
theorem k0_off436_inb : ∀ (i : grid0.Coords) (v2146 : BitVec 32) (k0_hw428 : k0_chk428 i v2146), ∀ (k0_h2 : k0_cond2 i = 1#1), ∀ a, (k0_off436 v2146) a + S1x1024.size a ≤ S40960x1024.size a := fun i v2146 k0_hw428 k0_h2 => k0_hw428 k0_h2

def k0_off437 (v2151 : BitVec 32) : Fin 2 → Nat :=
  let c0_i32_2359 : BitVec 32 := 0#32
  ![v2151.toNat, 0]

def k0_chk429 (i : grid0.Coords) (v2151 : BitVec 32) : Prop :=
  (∀ (k0_h2 : k0_cond2 i = 1#1), ∀ a, (k0_off437 v2151) a + S1x1024.size a ≤ S40960x1024.size a)
theorem k0_off437_inb : ∀ (i : grid0.Coords) (v2151 : BitVec 32) (k0_hw429 : k0_chk429 i v2151), ∀ (k0_h2 : k0_cond2 i = 1#1), ∀ a, (k0_off437 v2151) a + S1x1024.size a ≤ S40960x1024.size a := fun i v2151 k0_hw429 k0_h2 => k0_hw429 k0_h2

def k0_off438 (v2156 : BitVec 32) : Fin 2 → Nat :=
  let c0_i32_2365 : BitVec 32 := 0#32
  ![v2156.toNat, 0]

def k0_chk430 (i : grid0.Coords) (v2156 : BitVec 32) : Prop :=
  (∀ (k0_h2 : k0_cond2 i = 1#1), ∀ a, (k0_off438 v2156) a + S1x1024.size a ≤ S40960x1024.size a)
theorem k0_off438_inb : ∀ (i : grid0.Coords) (v2156 : BitVec 32) (k0_hw430 : k0_chk430 i v2156), ∀ (k0_h2 : k0_cond2 i = 1#1), ∀ a, (k0_off438 v2156) a + S1x1024.size a ≤ S40960x1024.size a := fun i v2156 k0_hw430 k0_h2 => k0_hw430 k0_h2

def k0_off439 (v2161 : BitVec 32) : Fin 2 → Nat :=
  let c0_i32_2370 : BitVec 32 := 0#32
  ![v2161.toNat, 0]

def k0_chk431 (i : grid0.Coords) (v2161 : BitVec 32) : Prop :=
  (∀ (k0_h2 : k0_cond2 i = 1#1), ∀ a, (k0_off439 v2161) a + S1x1024.size a ≤ S40960x1024.size a)
theorem k0_off439_inb : ∀ (i : grid0.Coords) (v2161 : BitVec 32) (k0_hw431 : k0_chk431 i v2161), ∀ (k0_h2 : k0_cond2 i = 1#1), ∀ a, (k0_off439 v2161) a + S1x1024.size a ≤ S40960x1024.size a := fun i v2161 k0_hw431 k0_h2 => k0_hw431 k0_h2

def k0_off440 (v2166 : BitVec 32) : Fin 2 → Nat :=
  let c0_i32_2376 : BitVec 32 := 0#32
  ![v2166.toNat, 0]

def k0_chk432 (i : grid0.Coords) (v2166 : BitVec 32) : Prop :=
  (∀ (k0_h2 : k0_cond2 i = 1#1), ∀ a, (k0_off440 v2166) a + S1x1024.size a ≤ S40960x1024.size a)
theorem k0_off440_inb : ∀ (i : grid0.Coords) (v2166 : BitVec 32) (k0_hw432 : k0_chk432 i v2166), ∀ (k0_h2 : k0_cond2 i = 1#1), ∀ a, (k0_off440 v2166) a + S1x1024.size a ≤ S40960x1024.size a := fun i v2166 k0_hw432 k0_h2 => k0_hw432 k0_h2

def k0_off441 (v2171 : BitVec 32) : Fin 2 → Nat :=
  let c0_i32_2381 : BitVec 32 := 0#32
  ![v2171.toNat, 0]

def k0_chk433 (i : grid0.Coords) (v2171 : BitVec 32) : Prop :=
  (∀ (k0_h2 : k0_cond2 i = 1#1), ∀ a, (k0_off441 v2171) a + S1x1024.size a ≤ S40960x1024.size a)
theorem k0_off441_inb : ∀ (i : grid0.Coords) (v2171 : BitVec 32) (k0_hw433 : k0_chk433 i v2171), ∀ (k0_h2 : k0_cond2 i = 1#1), ∀ a, (k0_off441 v2171) a + S1x1024.size a ≤ S40960x1024.size a := fun i v2171 k0_hw433 k0_h2 => k0_hw433 k0_h2

def k0_off442 (v2176 : BitVec 32) : Fin 2 → Nat :=
  let c0_i32_2387 : BitVec 32 := 0#32
  ![v2176.toNat, 0]

def k0_chk434 (i : grid0.Coords) (v2176 : BitVec 32) : Prop :=
  (∀ (k0_h2 : k0_cond2 i = 1#1), ∀ a, (k0_off442 v2176) a + S1x1024.size a ≤ S40960x1024.size a)
theorem k0_off442_inb : ∀ (i : grid0.Coords) (v2176 : BitVec 32) (k0_hw434 : k0_chk434 i v2176), ∀ (k0_h2 : k0_cond2 i = 1#1), ∀ a, (k0_off442 v2176) a + S1x1024.size a ≤ S40960x1024.size a := fun i v2176 k0_hw434 k0_h2 => k0_hw434 k0_h2

def k0_off443 (v2181 : BitVec 32) : Fin 2 → Nat :=
  let c0_i32_2392 : BitVec 32 := 0#32
  ![v2181.toNat, 0]

def k0_chk435 (i : grid0.Coords) (v2181 : BitVec 32) : Prop :=
  (∀ (k0_h2 : k0_cond2 i = 1#1), ∀ a, (k0_off443 v2181) a + S1x1024.size a ≤ S40960x1024.size a)
theorem k0_off443_inb : ∀ (i : grid0.Coords) (v2181 : BitVec 32) (k0_hw435 : k0_chk435 i v2181), ∀ (k0_h2 : k0_cond2 i = 1#1), ∀ a, (k0_off443 v2181) a + S1x1024.size a ≤ S40960x1024.size a := fun i v2181 k0_hw435 k0_h2 => k0_hw435 k0_h2

def k0_off444 (v2186 : BitVec 32) : Fin 2 → Nat :=
  let c0_i32_2398 : BitVec 32 := 0#32
  ![v2186.toNat, 0]

def k0_chk436 (i : grid0.Coords) (v2186 : BitVec 32) : Prop :=
  (∀ (k0_h2 : k0_cond2 i = 1#1), ∀ a, (k0_off444 v2186) a + S1x1024.size a ≤ S40960x1024.size a)
theorem k0_off444_inb : ∀ (i : grid0.Coords) (v2186 : BitVec 32) (k0_hw436 : k0_chk436 i v2186), ∀ (k0_h2 : k0_cond2 i = 1#1), ∀ a, (k0_off444 v2186) a + S1x1024.size a ≤ S40960x1024.size a := fun i v2186 k0_hw436 k0_h2 => k0_hw436 k0_h2

def k0_off445 (v2191 : BitVec 32) : Fin 2 → Nat :=
  let c0_i32_2403 : BitVec 32 := 0#32
  ![v2191.toNat, 0]

def k0_chk437 (i : grid0.Coords) (v2191 : BitVec 32) : Prop :=
  (∀ (k0_h2 : k0_cond2 i = 1#1), ∀ a, (k0_off445 v2191) a + S1x1024.size a ≤ S40960x1024.size a)
theorem k0_off445_inb : ∀ (i : grid0.Coords) (v2191 : BitVec 32) (k0_hw437 : k0_chk437 i v2191), ∀ (k0_h2 : k0_cond2 i = 1#1), ∀ a, (k0_off445 v2191) a + S1x1024.size a ≤ S40960x1024.size a := fun i v2191 k0_hw437 k0_h2 => k0_hw437 k0_h2

def k0_off446 (v2196 : BitVec 32) : Fin 2 → Nat :=
  let c0_i32_2409 : BitVec 32 := 0#32
  ![v2196.toNat, 0]

def k0_chk438 (i : grid0.Coords) (v2196 : BitVec 32) : Prop :=
  (∀ (k0_h2 : k0_cond2 i = 1#1), ∀ a, (k0_off446 v2196) a + S1x1024.size a ≤ S40960x1024.size a)
theorem k0_off446_inb : ∀ (i : grid0.Coords) (v2196 : BitVec 32) (k0_hw438 : k0_chk438 i v2196), ∀ (k0_h2 : k0_cond2 i = 1#1), ∀ a, (k0_off446 v2196) a + S1x1024.size a ≤ S40960x1024.size a := fun i v2196 k0_hw438 k0_h2 => k0_hw438 k0_h2

def k0_off447 (v2201 : BitVec 32) : Fin 2 → Nat :=
  let c0_i32_2414 : BitVec 32 := 0#32
  ![v2201.toNat, 0]

def k0_chk439 (i : grid0.Coords) (v2201 : BitVec 32) : Prop :=
  (∀ (k0_h2 : k0_cond2 i = 1#1), ∀ a, (k0_off447 v2201) a + S1x1024.size a ≤ S40960x1024.size a)
theorem k0_off447_inb : ∀ (i : grid0.Coords) (v2201 : BitVec 32) (k0_hw439 : k0_chk439 i v2201), ∀ (k0_h2 : k0_cond2 i = 1#1), ∀ a, (k0_off447 v2201) a + S1x1024.size a ≤ S40960x1024.size a := fun i v2201 k0_hw439 k0_h2 => k0_hw439 k0_h2

def k0_off448 (v2206 : BitVec 32) : Fin 2 → Nat :=
  let c0_i32_2420 : BitVec 32 := 0#32
  ![v2206.toNat, 0]

def k0_chk440 (i : grid0.Coords) (v2206 : BitVec 32) : Prop :=
  (∀ (k0_h2 : k0_cond2 i = 1#1), ∀ a, (k0_off448 v2206) a + S1x1024.size a ≤ S40960x1024.size a)
theorem k0_off448_inb : ∀ (i : grid0.Coords) (v2206 : BitVec 32) (k0_hw440 : k0_chk440 i v2206), ∀ (k0_h2 : k0_cond2 i = 1#1), ∀ a, (k0_off448 v2206) a + S1x1024.size a ≤ S40960x1024.size a := fun i v2206 k0_hw440 k0_h2 => k0_hw440 k0_h2

def k0_off449 (v2211 : BitVec 32) : Fin 2 → Nat :=
  let c0_i32_2425 : BitVec 32 := 0#32
  ![v2211.toNat, 0]

def k0_chk441 (i : grid0.Coords) (v2211 : BitVec 32) : Prop :=
  (∀ (k0_h2 : k0_cond2 i = 1#1), ∀ a, (k0_off449 v2211) a + S1x1024.size a ≤ S40960x1024.size a)
theorem k0_off449_inb : ∀ (i : grid0.Coords) (v2211 : BitVec 32) (k0_hw441 : k0_chk441 i v2211), ∀ (k0_h2 : k0_cond2 i = 1#1), ∀ a, (k0_off449 v2211) a + S1x1024.size a ≤ S40960x1024.size a := fun i v2211 k0_hw441 k0_h2 => k0_hw441 k0_h2

def k0_off450 (v2216 : BitVec 32) : Fin 2 → Nat :=
  let c0_i32_2431 : BitVec 32 := 0#32
  ![v2216.toNat, 0]

def k0_chk442 (i : grid0.Coords) (v2216 : BitVec 32) : Prop :=
  (∀ (k0_h2 : k0_cond2 i = 1#1), ∀ a, (k0_off450 v2216) a + S1x1024.size a ≤ S40960x1024.size a)
theorem k0_off450_inb : ∀ (i : grid0.Coords) (v2216 : BitVec 32) (k0_hw442 : k0_chk442 i v2216), ∀ (k0_h2 : k0_cond2 i = 1#1), ∀ a, (k0_off450 v2216) a + S1x1024.size a ≤ S40960x1024.size a := fun i v2216 k0_hw442 k0_h2 => k0_hw442 k0_h2

def k0_off451 (v2221 : BitVec 32) : Fin 2 → Nat :=
  let c0_i32_2436 : BitVec 32 := 0#32
  ![v2221.toNat, 0]

def k0_chk443 (i : grid0.Coords) (v2221 : BitVec 32) : Prop :=
  (∀ (k0_h2 : k0_cond2 i = 1#1), ∀ a, (k0_off451 v2221) a + S1x1024.size a ≤ S40960x1024.size a)
theorem k0_off451_inb : ∀ (i : grid0.Coords) (v2221 : BitVec 32) (k0_hw443 : k0_chk443 i v2221), ∀ (k0_h2 : k0_cond2 i = 1#1), ∀ a, (k0_off451 v2221) a + S1x1024.size a ≤ S40960x1024.size a := fun i v2221 k0_hw443 k0_h2 => k0_hw443 k0_h2

def k0_off452 (v2226 : BitVec 32) : Fin 2 → Nat :=
  let c0_i32_2442 : BitVec 32 := 0#32
  ![v2226.toNat, 0]

def k0_chk444 (i : grid0.Coords) (v2226 : BitVec 32) : Prop :=
  (∀ (k0_h2 : k0_cond2 i = 1#1), ∀ a, (k0_off452 v2226) a + S1x1024.size a ≤ S40960x1024.size a)
theorem k0_off452_inb : ∀ (i : grid0.Coords) (v2226 : BitVec 32) (k0_hw444 : k0_chk444 i v2226), ∀ (k0_h2 : k0_cond2 i = 1#1), ∀ a, (k0_off452 v2226) a + S1x1024.size a ≤ S40960x1024.size a := fun i v2226 k0_hw444 k0_h2 => k0_hw444 k0_h2

def k0_off453 (v2231 : BitVec 32) : Fin 2 → Nat :=
  let c0_i32_2447 : BitVec 32 := 0#32
  ![v2231.toNat, 0]

def k0_chk445 (i : grid0.Coords) (v2231 : BitVec 32) : Prop :=
  (∀ (k0_h2 : k0_cond2 i = 1#1), ∀ a, (k0_off453 v2231) a + S1x1024.size a ≤ S40960x1024.size a)
theorem k0_off453_inb : ∀ (i : grid0.Coords) (v2231 : BitVec 32) (k0_hw445 : k0_chk445 i v2231), ∀ (k0_h2 : k0_cond2 i = 1#1), ∀ a, (k0_off453 v2231) a + S1x1024.size a ≤ S40960x1024.size a := fun i v2231 k0_hw445 k0_h2 => k0_hw445 k0_h2

def k0_off454 (v2236 : BitVec 32) : Fin 2 → Nat :=
  let c0_i32_2453 : BitVec 32 := 0#32
  ![v2236.toNat, 0]

def k0_chk446 (i : grid0.Coords) (v2236 : BitVec 32) : Prop :=
  (∀ (k0_h2 : k0_cond2 i = 1#1), ∀ a, (k0_off454 v2236) a + S1x1024.size a ≤ S40960x1024.size a)
theorem k0_off454_inb : ∀ (i : grid0.Coords) (v2236 : BitVec 32) (k0_hw446 : k0_chk446 i v2236), ∀ (k0_h2 : k0_cond2 i = 1#1), ∀ a, (k0_off454 v2236) a + S1x1024.size a ≤ S40960x1024.size a := fun i v2236 k0_hw446 k0_h2 => k0_hw446 k0_h2

def k0_off455 (v2241 : BitVec 32) : Fin 2 → Nat :=
  let c0_i32_2458 : BitVec 32 := 0#32
  ![v2241.toNat, 0]

def k0_chk447 (i : grid0.Coords) (v2241 : BitVec 32) : Prop :=
  (∀ (k0_h2 : k0_cond2 i = 1#1), ∀ a, (k0_off455 v2241) a + S1x1024.size a ≤ S40960x1024.size a)
theorem k0_off455_inb : ∀ (i : grid0.Coords) (v2241 : BitVec 32) (k0_hw447 : k0_chk447 i v2241), ∀ (k0_h2 : k0_cond2 i = 1#1), ∀ a, (k0_off455 v2241) a + S1x1024.size a ≤ S40960x1024.size a := fun i v2241 k0_hw447 k0_h2 => k0_hw447 k0_h2

def k0_off456 (v2246 : BitVec 32) : Fin 2 → Nat :=
  let c0_i32_2464 : BitVec 32 := 0#32
  ![v2246.toNat, 0]

def k0_chk448 (i : grid0.Coords) (v2246 : BitVec 32) : Prop :=
  (∀ (k0_h2 : k0_cond2 i = 1#1), ∀ a, (k0_off456 v2246) a + S1x1024.size a ≤ S40960x1024.size a)
theorem k0_off456_inb : ∀ (i : grid0.Coords) (v2246 : BitVec 32) (k0_hw448 : k0_chk448 i v2246), ∀ (k0_h2 : k0_cond2 i = 1#1), ∀ a, (k0_off456 v2246) a + S1x1024.size a ≤ S40960x1024.size a := fun i v2246 k0_hw448 k0_h2 => k0_hw448 k0_h2

def k0_off457 (v2251 : BitVec 32) : Fin 2 → Nat :=
  let c0_i32_2469 : BitVec 32 := 0#32
  ![v2251.toNat, 0]

def k0_chk449 (i : grid0.Coords) (v2251 : BitVec 32) : Prop :=
  (∀ (k0_h2 : k0_cond2 i = 1#1), ∀ a, (k0_off457 v2251) a + S1x1024.size a ≤ S40960x1024.size a)
theorem k0_off457_inb : ∀ (i : grid0.Coords) (v2251 : BitVec 32) (k0_hw449 : k0_chk449 i v2251), ∀ (k0_h2 : k0_cond2 i = 1#1), ∀ a, (k0_off457 v2251) a + S1x1024.size a ≤ S40960x1024.size a := fun i v2251 k0_hw449 k0_h2 => k0_hw449 k0_h2

def k0_off458 (v2256 : BitVec 32) : Fin 2 → Nat :=
  let c0_i32_2475 : BitVec 32 := 0#32
  ![v2256.toNat, 0]

def k0_chk450 (i : grid0.Coords) (v2256 : BitVec 32) : Prop :=
  (∀ (k0_h2 : k0_cond2 i = 1#1), ∀ a, (k0_off458 v2256) a + S1x1024.size a ≤ S40960x1024.size a)
theorem k0_off458_inb : ∀ (i : grid0.Coords) (v2256 : BitVec 32) (k0_hw450 : k0_chk450 i v2256), ∀ (k0_h2 : k0_cond2 i = 1#1), ∀ a, (k0_off458 v2256) a + S1x1024.size a ≤ S40960x1024.size a := fun i v2256 k0_hw450 k0_h2 => k0_hw450 k0_h2

def k0_off459 (v2261 : BitVec 32) : Fin 2 → Nat :=
  let c0_i32_2480 : BitVec 32 := 0#32
  ![v2261.toNat, 0]

def k0_chk451 (i : grid0.Coords) (v2261 : BitVec 32) : Prop :=
  (∀ (k0_h2 : k0_cond2 i = 1#1), ∀ a, (k0_off459 v2261) a + S1x1024.size a ≤ S40960x1024.size a)
theorem k0_off459_inb : ∀ (i : grid0.Coords) (v2261 : BitVec 32) (k0_hw451 : k0_chk451 i v2261), ∀ (k0_h2 : k0_cond2 i = 1#1), ∀ a, (k0_off459 v2261) a + S1x1024.size a ≤ S40960x1024.size a := fun i v2261 k0_hw451 k0_h2 => k0_hw451 k0_h2

def k0_off460 (v2266 : BitVec 32) : Fin 2 → Nat :=
  let c0_i32_2486 : BitVec 32 := 0#32
  ![v2266.toNat, 0]

def k0_chk452 (i : grid0.Coords) (v2266 : BitVec 32) : Prop :=
  (∀ (k0_h2 : k0_cond2 i = 1#1), ∀ a, (k0_off460 v2266) a + S1x1024.size a ≤ S40960x1024.size a)
theorem k0_off460_inb : ∀ (i : grid0.Coords) (v2266 : BitVec 32) (k0_hw452 : k0_chk452 i v2266), ∀ (k0_h2 : k0_cond2 i = 1#1), ∀ a, (k0_off460 v2266) a + S1x1024.size a ≤ S40960x1024.size a := fun i v2266 k0_hw452 k0_h2 => k0_hw452 k0_h2

def k0_off461 (v2271 : BitVec 32) : Fin 2 → Nat :=
  let c0_i32_2491 : BitVec 32 := 0#32
  ![v2271.toNat, 0]

def k0_chk453 (i : grid0.Coords) (v2271 : BitVec 32) : Prop :=
  (∀ (k0_h2 : k0_cond2 i = 1#1), ∀ a, (k0_off461 v2271) a + S1x1024.size a ≤ S40960x1024.size a)
theorem k0_off461_inb : ∀ (i : grid0.Coords) (v2271 : BitVec 32) (k0_hw453 : k0_chk453 i v2271), ∀ (k0_h2 : k0_cond2 i = 1#1), ∀ a, (k0_off461 v2271) a + S1x1024.size a ≤ S40960x1024.size a := fun i v2271 k0_hw453 k0_h2 => k0_hw453 k0_h2

def k0_off462 (v2276 : BitVec 32) : Fin 2 → Nat :=
  let c0_i32_2497 : BitVec 32 := 0#32
  ![v2276.toNat, 0]

def k0_chk454 (i : grid0.Coords) (v2276 : BitVec 32) : Prop :=
  (∀ (k0_h2 : k0_cond2 i = 1#1), ∀ a, (k0_off462 v2276) a + S1x1024.size a ≤ S40960x1024.size a)
theorem k0_off462_inb : ∀ (i : grid0.Coords) (v2276 : BitVec 32) (k0_hw454 : k0_chk454 i v2276), ∀ (k0_h2 : k0_cond2 i = 1#1), ∀ a, (k0_off462 v2276) a + S1x1024.size a ≤ S40960x1024.size a := fun i v2276 k0_hw454 k0_h2 => k0_hw454 k0_h2

def k0_off463 (v2281 : BitVec 32) : Fin 2 → Nat :=
  let c0_i32_2502 : BitVec 32 := 0#32
  ![v2281.toNat, 0]

def k0_chk455 (i : grid0.Coords) (v2281 : BitVec 32) : Prop :=
  (∀ (k0_h2 : k0_cond2 i = 1#1), ∀ a, (k0_off463 v2281) a + S1x1024.size a ≤ S40960x1024.size a)
theorem k0_off463_inb : ∀ (i : grid0.Coords) (v2281 : BitVec 32) (k0_hw455 : k0_chk455 i v2281), ∀ (k0_h2 : k0_cond2 i = 1#1), ∀ a, (k0_off463 v2281) a + S1x1024.size a ≤ S40960x1024.size a := fun i v2281 k0_hw455 k0_h2 => k0_hw455 k0_h2

def k0_off464 (v2286 : BitVec 32) : Fin 2 → Nat :=
  let c0_i32_2508 : BitVec 32 := 0#32
  ![v2286.toNat, 0]

def k0_chk456 (i : grid0.Coords) (v2286 : BitVec 32) : Prop :=
  (∀ (k0_h2 : k0_cond2 i = 1#1), ∀ a, (k0_off464 v2286) a + S1x1024.size a ≤ S40960x1024.size a)
theorem k0_off464_inb : ∀ (i : grid0.Coords) (v2286 : BitVec 32) (k0_hw456 : k0_chk456 i v2286), ∀ (k0_h2 : k0_cond2 i = 1#1), ∀ a, (k0_off464 v2286) a + S1x1024.size a ≤ S40960x1024.size a := fun i v2286 k0_hw456 k0_h2 => k0_hw456 k0_h2

def k0_off465 (v2291 : BitVec 32) : Fin 2 → Nat :=
  let c0_i32_2513 : BitVec 32 := 0#32
  ![v2291.toNat, 0]

def k0_chk457 (i : grid0.Coords) (v2291 : BitVec 32) : Prop :=
  (∀ (k0_h2 : k0_cond2 i = 1#1), ∀ a, (k0_off465 v2291) a + S1x1024.size a ≤ S40960x1024.size a)
theorem k0_off465_inb : ∀ (i : grid0.Coords) (v2291 : BitVec 32) (k0_hw457 : k0_chk457 i v2291), ∀ (k0_h2 : k0_cond2 i = 1#1), ∀ a, (k0_off465 v2291) a + S1x1024.size a ≤ S40960x1024.size a := fun i v2291 k0_hw457 k0_h2 => k0_hw457 k0_h2

def k0_off466 (v2296 : BitVec 32) : Fin 2 → Nat :=
  let c0_i32_2519 : BitVec 32 := 0#32
  ![v2296.toNat, 0]

def k0_chk458 (i : grid0.Coords) (v2296 : BitVec 32) : Prop :=
  (∀ (k0_h2 : k0_cond2 i = 1#1), ∀ a, (k0_off466 v2296) a + S1x1024.size a ≤ S40960x1024.size a)
theorem k0_off466_inb : ∀ (i : grid0.Coords) (v2296 : BitVec 32) (k0_hw458 : k0_chk458 i v2296), ∀ (k0_h2 : k0_cond2 i = 1#1), ∀ a, (k0_off466 v2296) a + S1x1024.size a ≤ S40960x1024.size a := fun i v2296 k0_hw458 k0_h2 => k0_hw458 k0_h2

def k0_off467 (v2301 : BitVec 32) : Fin 2 → Nat :=
  let c0_i32_2524 : BitVec 32 := 0#32
  ![v2301.toNat, 0]

def k0_chk459 (i : grid0.Coords) (v2301 : BitVec 32) : Prop :=
  (∀ (k0_h2 : k0_cond2 i = 1#1), ∀ a, (k0_off467 v2301) a + S1x1024.size a ≤ S40960x1024.size a)
theorem k0_off467_inb : ∀ (i : grid0.Coords) (v2301 : BitVec 32) (k0_hw459 : k0_chk459 i v2301), ∀ (k0_h2 : k0_cond2 i = 1#1), ∀ a, (k0_off467 v2301) a + S1x1024.size a ≤ S40960x1024.size a := fun i v2301 k0_hw459 k0_h2 => k0_hw459 k0_h2

def k0_off468 (v2306 : BitVec 32) : Fin 2 → Nat :=
  let c0_i32_2530 : BitVec 32 := 0#32
  ![v2306.toNat, 0]

def k0_chk460 (i : grid0.Coords) (v2306 : BitVec 32) : Prop :=
  (∀ (k0_h2 : k0_cond2 i = 1#1), ∀ a, (k0_off468 v2306) a + S1x1024.size a ≤ S40960x1024.size a)
theorem k0_off468_inb : ∀ (i : grid0.Coords) (v2306 : BitVec 32) (k0_hw460 : k0_chk460 i v2306), ∀ (k0_h2 : k0_cond2 i = 1#1), ∀ a, (k0_off468 v2306) a + S1x1024.size a ≤ S40960x1024.size a := fun i v2306 k0_hw460 k0_h2 => k0_hw460 k0_h2

def k0_off469 (v2311 : BitVec 32) : Fin 2 → Nat :=
  let c0_i32_2535 : BitVec 32 := 0#32
  ![v2311.toNat, 0]

def k0_chk461 (i : grid0.Coords) (v2311 : BitVec 32) : Prop :=
  (∀ (k0_h2 : k0_cond2 i = 1#1), ∀ a, (k0_off469 v2311) a + S1x1024.size a ≤ S40960x1024.size a)
theorem k0_off469_inb : ∀ (i : grid0.Coords) (v2311 : BitVec 32) (k0_hw461 : k0_chk461 i v2311), ∀ (k0_h2 : k0_cond2 i = 1#1), ∀ a, (k0_off469 v2311) a + S1x1024.size a ≤ S40960x1024.size a := fun i v2311 k0_hw461 k0_h2 => k0_hw461 k0_h2

def k0_off470 (v2316 : BitVec 32) : Fin 2 → Nat :=
  let c0_i32_2541 : BitVec 32 := 0#32
  ![v2316.toNat, 0]

def k0_chk462 (i : grid0.Coords) (v2316 : BitVec 32) : Prop :=
  (∀ (k0_h2 : k0_cond2 i = 1#1), ∀ a, (k0_off470 v2316) a + S1x1024.size a ≤ S40960x1024.size a)
theorem k0_off470_inb : ∀ (i : grid0.Coords) (v2316 : BitVec 32) (k0_hw462 : k0_chk462 i v2316), ∀ (k0_h2 : k0_cond2 i = 1#1), ∀ a, (k0_off470 v2316) a + S1x1024.size a ≤ S40960x1024.size a := fun i v2316 k0_hw462 k0_h2 => k0_hw462 k0_h2

def k0_off471 (v2321 : BitVec 32) : Fin 2 → Nat :=
  let c0_i32_2546 : BitVec 32 := 0#32
  ![v2321.toNat, 0]

def k0_chk463 (i : grid0.Coords) (v2321 : BitVec 32) : Prop :=
  (∀ (k0_h2 : k0_cond2 i = 1#1), ∀ a, (k0_off471 v2321) a + S1x1024.size a ≤ S40960x1024.size a)
theorem k0_off471_inb : ∀ (i : grid0.Coords) (v2321 : BitVec 32) (k0_hw463 : k0_chk463 i v2321), ∀ (k0_h2 : k0_cond2 i = 1#1), ∀ a, (k0_off471 v2321) a + S1x1024.size a ≤ S40960x1024.size a := fun i v2321 k0_hw463 k0_h2 => k0_hw463 k0_h2

def k0_off472 (v2326 : BitVec 32) : Fin 2 → Nat :=
  let c0_i32_2552 : BitVec 32 := 0#32
  ![v2326.toNat, 0]

def k0_chk464 (i : grid0.Coords) (v2326 : BitVec 32) : Prop :=
  (∀ (k0_h2 : k0_cond2 i = 1#1), ∀ a, (k0_off472 v2326) a + S1x1024.size a ≤ S40960x1024.size a)
theorem k0_off472_inb : ∀ (i : grid0.Coords) (v2326 : BitVec 32) (k0_hw464 : k0_chk464 i v2326), ∀ (k0_h2 : k0_cond2 i = 1#1), ∀ a, (k0_off472 v2326) a + S1x1024.size a ≤ S40960x1024.size a := fun i v2326 k0_hw464 k0_h2 => k0_hw464 k0_h2

def k0_off473 (v2331 : BitVec 32) : Fin 2 → Nat :=
  let c0_i32_2557 : BitVec 32 := 0#32
  ![v2331.toNat, 0]

def k0_chk465 (i : grid0.Coords) (v2331 : BitVec 32) : Prop :=
  (∀ (k0_h2 : k0_cond2 i = 1#1), ∀ a, (k0_off473 v2331) a + S1x1024.size a ≤ S40960x1024.size a)
theorem k0_off473_inb : ∀ (i : grid0.Coords) (v2331 : BitVec 32) (k0_hw465 : k0_chk465 i v2331), ∀ (k0_h2 : k0_cond2 i = 1#1), ∀ a, (k0_off473 v2331) a + S1x1024.size a ≤ S40960x1024.size a := fun i v2331 k0_hw465 k0_h2 => k0_hw465 k0_h2

def k0_off474 (v2336 : BitVec 32) : Fin 2 → Nat :=
  let c0_i32_2563 : BitVec 32 := 0#32
  ![v2336.toNat, 0]

def k0_chk466 (i : grid0.Coords) (v2336 : BitVec 32) : Prop :=
  (∀ (k0_h2 : k0_cond2 i = 1#1), ∀ a, (k0_off474 v2336) a + S1x1024.size a ≤ S40960x1024.size a)
theorem k0_off474_inb : ∀ (i : grid0.Coords) (v2336 : BitVec 32) (k0_hw466 : k0_chk466 i v2336), ∀ (k0_h2 : k0_cond2 i = 1#1), ∀ a, (k0_off474 v2336) a + S1x1024.size a ≤ S40960x1024.size a := fun i v2336 k0_hw466 k0_h2 => k0_hw466 k0_h2

def k0_off475 (v2341 : BitVec 32) : Fin 2 → Nat :=
  let c0_i32_2568 : BitVec 32 := 0#32
  ![v2341.toNat, 0]

def k0_chk467 (i : grid0.Coords) (v2341 : BitVec 32) : Prop :=
  (∀ (k0_h2 : k0_cond2 i = 1#1), ∀ a, (k0_off475 v2341) a + S1x1024.size a ≤ S40960x1024.size a)
theorem k0_off475_inb : ∀ (i : grid0.Coords) (v2341 : BitVec 32) (k0_hw467 : k0_chk467 i v2341), ∀ (k0_h2 : k0_cond2 i = 1#1), ∀ a, (k0_off475 v2341) a + S1x1024.size a ≤ S40960x1024.size a := fun i v2341 k0_hw467 k0_h2 => k0_hw467 k0_h2

def k0_off476 (v2346 : BitVec 32) : Fin 2 → Nat :=
  let c0_i32_2574 : BitVec 32 := 0#32
  ![v2346.toNat, 0]

def k0_chk468 (i : grid0.Coords) (v2346 : BitVec 32) : Prop :=
  (∀ (k0_h2 : k0_cond2 i = 1#1), ∀ a, (k0_off476 v2346) a + S1x1024.size a ≤ S40960x1024.size a)
theorem k0_off476_inb : ∀ (i : grid0.Coords) (v2346 : BitVec 32) (k0_hw468 : k0_chk468 i v2346), ∀ (k0_h2 : k0_cond2 i = 1#1), ∀ a, (k0_off476 v2346) a + S1x1024.size a ≤ S40960x1024.size a := fun i v2346 k0_hw468 k0_h2 => k0_hw468 k0_h2

def k0_off477 (v2351 : BitVec 32) : Fin 2 → Nat :=
  let c0_i32_2579 : BitVec 32 := 0#32
  ![v2351.toNat, 0]

def k0_chk469 (i : grid0.Coords) (v2351 : BitVec 32) : Prop :=
  (∀ (k0_h2 : k0_cond2 i = 1#1), ∀ a, (k0_off477 v2351) a + S1x1024.size a ≤ S40960x1024.size a)
theorem k0_off477_inb : ∀ (i : grid0.Coords) (v2351 : BitVec 32) (k0_hw469 : k0_chk469 i v2351), ∀ (k0_h2 : k0_cond2 i = 1#1), ∀ a, (k0_off477 v2351) a + S1x1024.size a ≤ S40960x1024.size a := fun i v2351 k0_hw469 k0_h2 => k0_hw469 k0_h2

def k0_off478 (v2356 : BitVec 32) : Fin 2 → Nat :=
  let c0_i32_2585 : BitVec 32 := 0#32
  ![v2356.toNat, 0]

def k0_chk470 (i : grid0.Coords) (v2356 : BitVec 32) : Prop :=
  (∀ (k0_h2 : k0_cond2 i = 1#1), ∀ a, (k0_off478 v2356) a + S1x1024.size a ≤ S40960x1024.size a)
theorem k0_off478_inb : ∀ (i : grid0.Coords) (v2356 : BitVec 32) (k0_hw470 : k0_chk470 i v2356), ∀ (k0_h2 : k0_cond2 i = 1#1), ∀ a, (k0_off478 v2356) a + S1x1024.size a ≤ S40960x1024.size a := fun i v2356 k0_hw470 k0_h2 => k0_hw470 k0_h2

def k0_off479 (v2361 : BitVec 32) : Fin 2 → Nat :=
  let c0_i32_2590 : BitVec 32 := 0#32
  ![v2361.toNat, 0]

def k0_chk471 (i : grid0.Coords) (v2361 : BitVec 32) : Prop :=
  (∀ (k0_h2 : k0_cond2 i = 1#1), ∀ a, (k0_off479 v2361) a + S1x1024.size a ≤ S40960x1024.size a)
theorem k0_off479_inb : ∀ (i : grid0.Coords) (v2361 : BitVec 32) (k0_hw471 : k0_chk471 i v2361), ∀ (k0_h2 : k0_cond2 i = 1#1), ∀ a, (k0_off479 v2361) a + S1x1024.size a ≤ S40960x1024.size a := fun i v2361 k0_hw471 k0_h2 => k0_hw471 k0_h2

def k0_off480 (v2366 : BitVec 32) : Fin 2 → Nat :=
  let c0_i32_2596 : BitVec 32 := 0#32
  ![v2366.toNat, 0]

def k0_chk472 (i : grid0.Coords) (v2366 : BitVec 32) : Prop :=
  (∀ (k0_h2 : k0_cond2 i = 1#1), ∀ a, (k0_off480 v2366) a + S1x1024.size a ≤ S40960x1024.size a)
theorem k0_off480_inb : ∀ (i : grid0.Coords) (v2366 : BitVec 32) (k0_hw472 : k0_chk472 i v2366), ∀ (k0_h2 : k0_cond2 i = 1#1), ∀ a, (k0_off480 v2366) a + S1x1024.size a ≤ S40960x1024.size a := fun i v2366 k0_hw472 k0_h2 => k0_hw472 k0_h2

def k0_off481 (v2371 : BitVec 32) : Fin 2 → Nat :=
  let c0_i32_2601 : BitVec 32 := 0#32
  ![v2371.toNat, 0]

def k0_chk473 (i : grid0.Coords) (v2371 : BitVec 32) : Prop :=
  (∀ (k0_h2 : k0_cond2 i = 1#1), ∀ a, (k0_off481 v2371) a + S1x1024.size a ≤ S40960x1024.size a)
theorem k0_off481_inb : ∀ (i : grid0.Coords) (v2371 : BitVec 32) (k0_hw473 : k0_chk473 i v2371), ∀ (k0_h2 : k0_cond2 i = 1#1), ∀ a, (k0_off481 v2371) a + S1x1024.size a ≤ S40960x1024.size a := fun i v2371 k0_hw473 k0_h2 => k0_hw473 k0_h2

def k0_off482 (v2376 : BitVec 32) : Fin 2 → Nat :=
  let c0_i32_2607 : BitVec 32 := 0#32
  ![v2376.toNat, 0]

def k0_chk474 (i : grid0.Coords) (v2376 : BitVec 32) : Prop :=
  (∀ (k0_h2 : k0_cond2 i = 1#1), ∀ a, (k0_off482 v2376) a + S1x1024.size a ≤ S40960x1024.size a)
theorem k0_off482_inb : ∀ (i : grid0.Coords) (v2376 : BitVec 32) (k0_hw474 : k0_chk474 i v2376), ∀ (k0_h2 : k0_cond2 i = 1#1), ∀ a, (k0_off482 v2376) a + S1x1024.size a ≤ S40960x1024.size a := fun i v2376 k0_hw474 k0_h2 => k0_hw474 k0_h2

def k0_off483 (v2381 : BitVec 32) : Fin 2 → Nat :=
  let c0_i32_2612 : BitVec 32 := 0#32
  ![v2381.toNat, 0]

def k0_chk475 (i : grid0.Coords) (v2381 : BitVec 32) : Prop :=
  (∀ (k0_h2 : k0_cond2 i = 1#1), ∀ a, (k0_off483 v2381) a + S1x1024.size a ≤ S40960x1024.size a)
theorem k0_off483_inb : ∀ (i : grid0.Coords) (v2381 : BitVec 32) (k0_hw475 : k0_chk475 i v2381), ∀ (k0_h2 : k0_cond2 i = 1#1), ∀ a, (k0_off483 v2381) a + S1x1024.size a ≤ S40960x1024.size a := fun i v2381 k0_hw475 k0_h2 => k0_hw475 k0_h2

def k0_off484 (v2386 : BitVec 32) : Fin 2 → Nat :=
  let c0_i32_2618 : BitVec 32 := 0#32
  ![v2386.toNat, 0]

def k0_chk476 (i : grid0.Coords) (v2386 : BitVec 32) : Prop :=
  (∀ (k0_h2 : k0_cond2 i = 1#1), ∀ a, (k0_off484 v2386) a + S1x1024.size a ≤ S40960x1024.size a)
theorem k0_off484_inb : ∀ (i : grid0.Coords) (v2386 : BitVec 32) (k0_hw476 : k0_chk476 i v2386), ∀ (k0_h2 : k0_cond2 i = 1#1), ∀ a, (k0_off484 v2386) a + S1x1024.size a ≤ S40960x1024.size a := fun i v2386 k0_hw476 k0_h2 => k0_hw476 k0_h2

def k0_off485 (v2391 : BitVec 32) : Fin 2 → Nat :=
  let c0_i32_2623 : BitVec 32 := 0#32
  ![v2391.toNat, 0]

def k0_chk477 (i : grid0.Coords) (v2391 : BitVec 32) : Prop :=
  (∀ (k0_h2 : k0_cond2 i = 1#1), ∀ a, (k0_off485 v2391) a + S1x1024.size a ≤ S40960x1024.size a)
theorem k0_off485_inb : ∀ (i : grid0.Coords) (v2391 : BitVec 32) (k0_hw477 : k0_chk477 i v2391), ∀ (k0_h2 : k0_cond2 i = 1#1), ∀ a, (k0_off485 v2391) a + S1x1024.size a ≤ S40960x1024.size a := fun i v2391 k0_hw477 k0_h2 => k0_hw477 k0_h2

def k0_off486 (v2396 : BitVec 32) : Fin 2 → Nat :=
  let c0_i32_2629 : BitVec 32 := 0#32
  ![v2396.toNat, 0]

def k0_chk478 (i : grid0.Coords) (v2396 : BitVec 32) : Prop :=
  (∀ (k0_h2 : k0_cond2 i = 1#1), ∀ a, (k0_off486 v2396) a + S1x1024.size a ≤ S40960x1024.size a)
theorem k0_off486_inb : ∀ (i : grid0.Coords) (v2396 : BitVec 32) (k0_hw478 : k0_chk478 i v2396), ∀ (k0_h2 : k0_cond2 i = 1#1), ∀ a, (k0_off486 v2396) a + S1x1024.size a ≤ S40960x1024.size a := fun i v2396 k0_hw478 k0_h2 => k0_hw478 k0_h2

def k0_off487 (v2401 : BitVec 32) : Fin 2 → Nat :=
  let c0_i32_2634 : BitVec 32 := 0#32
  ![v2401.toNat, 0]

def k0_chk479 (i : grid0.Coords) (v2401 : BitVec 32) : Prop :=
  (∀ (k0_h2 : k0_cond2 i = 1#1), ∀ a, (k0_off487 v2401) a + S1x1024.size a ≤ S40960x1024.size a)
theorem k0_off487_inb : ∀ (i : grid0.Coords) (v2401 : BitVec 32) (k0_hw479 : k0_chk479 i v2401), ∀ (k0_h2 : k0_cond2 i = 1#1), ∀ a, (k0_off487 v2401) a + S1x1024.size a ≤ S40960x1024.size a := fun i v2401 k0_hw479 k0_h2 => k0_hw479 k0_h2

def k0_off488 (v2406 : BitVec 32) : Fin 2 → Nat :=
  let c0_i32_2640 : BitVec 32 := 0#32
  ![v2406.toNat, 0]

def k0_chk480 (i : grid0.Coords) (v2406 : BitVec 32) : Prop :=
  (∀ (k0_h2 : k0_cond2 i = 1#1), ∀ a, (k0_off488 v2406) a + S1x1024.size a ≤ S40960x1024.size a)
theorem k0_off488_inb : ∀ (i : grid0.Coords) (v2406 : BitVec 32) (k0_hw480 : k0_chk480 i v2406), ∀ (k0_h2 : k0_cond2 i = 1#1), ∀ a, (k0_off488 v2406) a + S1x1024.size a ≤ S40960x1024.size a := fun i v2406 k0_hw480 k0_h2 => k0_hw480 k0_h2

def k0_off489 (v2411 : BitVec 32) : Fin 2 → Nat :=
  let c0_i32_2645 : BitVec 32 := 0#32
  ![v2411.toNat, 0]

def k0_chk481 (i : grid0.Coords) (v2411 : BitVec 32) : Prop :=
  (∀ (k0_h2 : k0_cond2 i = 1#1), ∀ a, (k0_off489 v2411) a + S1x1024.size a ≤ S40960x1024.size a)
theorem k0_off489_inb : ∀ (i : grid0.Coords) (v2411 : BitVec 32) (k0_hw481 : k0_chk481 i v2411), ∀ (k0_h2 : k0_cond2 i = 1#1), ∀ a, (k0_off489 v2411) a + S1x1024.size a ≤ S40960x1024.size a := fun i v2411 k0_hw481 k0_h2 => k0_hw481 k0_h2

def k0_off490 (v2416 : BitVec 32) : Fin 2 → Nat :=
  let c0_i32_2651 : BitVec 32 := 0#32
  ![v2416.toNat, 0]

def k0_chk482 (i : grid0.Coords) (v2416 : BitVec 32) : Prop :=
  (∀ (k0_h2 : k0_cond2 i = 1#1), ∀ a, (k0_off490 v2416) a + S1x1024.size a ≤ S40960x1024.size a)
theorem k0_off490_inb : ∀ (i : grid0.Coords) (v2416 : BitVec 32) (k0_hw482 : k0_chk482 i v2416), ∀ (k0_h2 : k0_cond2 i = 1#1), ∀ a, (k0_off490 v2416) a + S1x1024.size a ≤ S40960x1024.size a := fun i v2416 k0_hw482 k0_h2 => k0_hw482 k0_h2

def k0_off491 (v2421 : BitVec 32) : Fin 2 → Nat :=
  let c0_i32_2656 : BitVec 32 := 0#32
  ![v2421.toNat, 0]

def k0_chk483 (i : grid0.Coords) (v2421 : BitVec 32) : Prop :=
  (∀ (k0_h2 : k0_cond2 i = 1#1), ∀ a, (k0_off491 v2421) a + S1x1024.size a ≤ S40960x1024.size a)
theorem k0_off491_inb : ∀ (i : grid0.Coords) (v2421 : BitVec 32) (k0_hw483 : k0_chk483 i v2421), ∀ (k0_h2 : k0_cond2 i = 1#1), ∀ a, (k0_off491 v2421) a + S1x1024.size a ≤ S40960x1024.size a := fun i v2421 k0_hw483 k0_h2 => k0_hw483 k0_h2

def k0_off492 (v2426 : BitVec 32) : Fin 2 → Nat :=
  let c0_i32_2662 : BitVec 32 := 0#32
  ![v2426.toNat, 0]

def k0_chk484 (i : grid0.Coords) (v2426 : BitVec 32) : Prop :=
  (∀ (k0_h2 : k0_cond2 i = 1#1), ∀ a, (k0_off492 v2426) a + S1x1024.size a ≤ S40960x1024.size a)
theorem k0_off492_inb : ∀ (i : grid0.Coords) (v2426 : BitVec 32) (k0_hw484 : k0_chk484 i v2426), ∀ (k0_h2 : k0_cond2 i = 1#1), ∀ a, (k0_off492 v2426) a + S1x1024.size a ≤ S40960x1024.size a := fun i v2426 k0_hw484 k0_h2 => k0_hw484 k0_h2

def k0_off493 (v2431 : BitVec 32) : Fin 2 → Nat :=
  let c0_i32_2667 : BitVec 32 := 0#32
  ![v2431.toNat, 0]

def k0_chk485 (i : grid0.Coords) (v2431 : BitVec 32) : Prop :=
  (∀ (k0_h2 : k0_cond2 i = 1#1), ∀ a, (k0_off493 v2431) a + S1x1024.size a ≤ S40960x1024.size a)
theorem k0_off493_inb : ∀ (i : grid0.Coords) (v2431 : BitVec 32) (k0_hw485 : k0_chk485 i v2431), ∀ (k0_h2 : k0_cond2 i = 1#1), ∀ a, (k0_off493 v2431) a + S1x1024.size a ≤ S40960x1024.size a := fun i v2431 k0_hw485 k0_h2 => k0_hw485 k0_h2

def k0_off494 (v2436 : BitVec 32) : Fin 2 → Nat :=
  let c0_i32_2673 : BitVec 32 := 0#32
  ![v2436.toNat, 0]

def k0_chk486 (i : grid0.Coords) (v2436 : BitVec 32) : Prop :=
  (∀ (k0_h2 : k0_cond2 i = 1#1), ∀ a, (k0_off494 v2436) a + S1x1024.size a ≤ S40960x1024.size a)
theorem k0_off494_inb : ∀ (i : grid0.Coords) (v2436 : BitVec 32) (k0_hw486 : k0_chk486 i v2436), ∀ (k0_h2 : k0_cond2 i = 1#1), ∀ a, (k0_off494 v2436) a + S1x1024.size a ≤ S40960x1024.size a := fun i v2436 k0_hw486 k0_h2 => k0_hw486 k0_h2

def k0_off495 (v2441 : BitVec 32) : Fin 2 → Nat :=
  let c0_i32_2678 : BitVec 32 := 0#32
  ![v2441.toNat, 0]

def k0_chk487 (i : grid0.Coords) (v2441 : BitVec 32) : Prop :=
  (∀ (k0_h2 : k0_cond2 i = 1#1), ∀ a, (k0_off495 v2441) a + S1x1024.size a ≤ S40960x1024.size a)
theorem k0_off495_inb : ∀ (i : grid0.Coords) (v2441 : BitVec 32) (k0_hw487 : k0_chk487 i v2441), ∀ (k0_h2 : k0_cond2 i = 1#1), ∀ a, (k0_off495 v2441) a + S1x1024.size a ≤ S40960x1024.size a := fun i v2441 k0_hw487 k0_h2 => k0_hw487 k0_h2

def k0_off496 (v2446 : BitVec 32) : Fin 2 → Nat :=
  let c0_i32_2684 : BitVec 32 := 0#32
  ![v2446.toNat, 0]

def k0_chk488 (i : grid0.Coords) (v2446 : BitVec 32) : Prop :=
  (∀ (k0_h2 : k0_cond2 i = 1#1), ∀ a, (k0_off496 v2446) a + S1x1024.size a ≤ S40960x1024.size a)
theorem k0_off496_inb : ∀ (i : grid0.Coords) (v2446 : BitVec 32) (k0_hw488 : k0_chk488 i v2446), ∀ (k0_h2 : k0_cond2 i = 1#1), ∀ a, (k0_off496 v2446) a + S1x1024.size a ≤ S40960x1024.size a := fun i v2446 k0_hw488 k0_h2 => k0_hw488 k0_h2

def k0_off497 (v2451 : BitVec 32) : Fin 2 → Nat :=
  let c0_i32_2689 : BitVec 32 := 0#32
  ![v2451.toNat, 0]

def k0_chk489 (i : grid0.Coords) (v2451 : BitVec 32) : Prop :=
  (∀ (k0_h2 : k0_cond2 i = 1#1), ∀ a, (k0_off497 v2451) a + S1x1024.size a ≤ S40960x1024.size a)
theorem k0_off497_inb : ∀ (i : grid0.Coords) (v2451 : BitVec 32) (k0_hw489 : k0_chk489 i v2451), ∀ (k0_h2 : k0_cond2 i = 1#1), ∀ a, (k0_off497 v2451) a + S1x1024.size a ≤ S40960x1024.size a := fun i v2451 k0_hw489 k0_h2 => k0_hw489 k0_h2

def k0_off498 (v2456 : BitVec 32) : Fin 2 → Nat :=
  let c0_i32_2695 : BitVec 32 := 0#32
  ![v2456.toNat, 0]

def k0_chk490 (i : grid0.Coords) (v2456 : BitVec 32) : Prop :=
  (∀ (k0_h2 : k0_cond2 i = 1#1), ∀ a, (k0_off498 v2456) a + S1x1024.size a ≤ S40960x1024.size a)
theorem k0_off498_inb : ∀ (i : grid0.Coords) (v2456 : BitVec 32) (k0_hw490 : k0_chk490 i v2456), ∀ (k0_h2 : k0_cond2 i = 1#1), ∀ a, (k0_off498 v2456) a + S1x1024.size a ≤ S40960x1024.size a := fun i v2456 k0_hw490 k0_h2 => k0_hw490 k0_h2

def k0_off499 (v2461 : BitVec 32) : Fin 2 → Nat :=
  let c0_i32_2700 : BitVec 32 := 0#32
  ![v2461.toNat, 0]

def k0_chk491 (i : grid0.Coords) (v2461 : BitVec 32) : Prop :=
  (∀ (k0_h2 : k0_cond2 i = 1#1), ∀ a, (k0_off499 v2461) a + S1x1024.size a ≤ S40960x1024.size a)
theorem k0_off499_inb : ∀ (i : grid0.Coords) (v2461 : BitVec 32) (k0_hw491 : k0_chk491 i v2461), ∀ (k0_h2 : k0_cond2 i = 1#1), ∀ a, (k0_off499 v2461) a + S1x1024.size a ≤ S40960x1024.size a := fun i v2461 k0_hw491 k0_h2 => k0_hw491 k0_h2

def k0_off500 (v2466 : BitVec 32) : Fin 2 → Nat :=
  let c0_i32_2706 : BitVec 32 := 0#32
  ![v2466.toNat, 0]

def k0_chk492 (i : grid0.Coords) (v2466 : BitVec 32) : Prop :=
  (∀ (k0_h2 : k0_cond2 i = 1#1), ∀ a, (k0_off500 v2466) a + S1x1024.size a ≤ S40960x1024.size a)
theorem k0_off500_inb : ∀ (i : grid0.Coords) (v2466 : BitVec 32) (k0_hw492 : k0_chk492 i v2466), ∀ (k0_h2 : k0_cond2 i = 1#1), ∀ a, (k0_off500 v2466) a + S1x1024.size a ≤ S40960x1024.size a := fun i v2466 k0_hw492 k0_h2 => k0_hw492 k0_h2

def k0_off501 (v2471 : BitVec 32) : Fin 2 → Nat :=
  let c0_i32_2711 : BitVec 32 := 0#32
  ![v2471.toNat, 0]

def k0_chk493 (i : grid0.Coords) (v2471 : BitVec 32) : Prop :=
  (∀ (k0_h2 : k0_cond2 i = 1#1), ∀ a, (k0_off501 v2471) a + S1x1024.size a ≤ S40960x1024.size a)
theorem k0_off501_inb : ∀ (i : grid0.Coords) (v2471 : BitVec 32) (k0_hw493 : k0_chk493 i v2471), ∀ (k0_h2 : k0_cond2 i = 1#1), ∀ a, (k0_off501 v2471) a + S1x1024.size a ≤ S40960x1024.size a := fun i v2471 k0_hw493 k0_h2 => k0_hw493 k0_h2

def k0_off502 (v2476 : BitVec 32) : Fin 2 → Nat :=
  let c0_i32_2717 : BitVec 32 := 0#32
  ![v2476.toNat, 0]

def k0_chk494 (i : grid0.Coords) (v2476 : BitVec 32) : Prop :=
  (∀ (k0_h2 : k0_cond2 i = 1#1), ∀ a, (k0_off502 v2476) a + S1x1024.size a ≤ S40960x1024.size a)
theorem k0_off502_inb : ∀ (i : grid0.Coords) (v2476 : BitVec 32) (k0_hw494 : k0_chk494 i v2476), ∀ (k0_h2 : k0_cond2 i = 1#1), ∀ a, (k0_off502 v2476) a + S1x1024.size a ≤ S40960x1024.size a := fun i v2476 k0_hw494 k0_h2 => k0_hw494 k0_h2

def k0_off503 (v2481 : BitVec 32) : Fin 2 → Nat :=
  let c0_i32_2722 : BitVec 32 := 0#32
  ![v2481.toNat, 0]

def k0_chk495 (i : grid0.Coords) (v2481 : BitVec 32) : Prop :=
  (∀ (k0_h2 : k0_cond2 i = 1#1), ∀ a, (k0_off503 v2481) a + S1x1024.size a ≤ S40960x1024.size a)
theorem k0_off503_inb : ∀ (i : grid0.Coords) (v2481 : BitVec 32) (k0_hw495 : k0_chk495 i v2481), ∀ (k0_h2 : k0_cond2 i = 1#1), ∀ a, (k0_off503 v2481) a + S1x1024.size a ≤ S40960x1024.size a := fun i v2481 k0_hw495 k0_h2 => k0_hw495 k0_h2

def k0_off504 (v2486 : BitVec 32) : Fin 2 → Nat :=
  let c0_i32_2728 : BitVec 32 := 0#32
  ![v2486.toNat, 0]

def k0_chk496 (i : grid0.Coords) (v2486 : BitVec 32) : Prop :=
  (∀ (k0_h2 : k0_cond2 i = 1#1), ∀ a, (k0_off504 v2486) a + S1x1024.size a ≤ S40960x1024.size a)
theorem k0_off504_inb : ∀ (i : grid0.Coords) (v2486 : BitVec 32) (k0_hw496 : k0_chk496 i v2486), ∀ (k0_h2 : k0_cond2 i = 1#1), ∀ a, (k0_off504 v2486) a + S1x1024.size a ≤ S40960x1024.size a := fun i v2486 k0_hw496 k0_h2 => k0_hw496 k0_h2

def k0_off505 (v2491 : BitVec 32) : Fin 2 → Nat :=
  let c0_i32_2733 : BitVec 32 := 0#32
  ![v2491.toNat, 0]

def k0_chk497 (i : grid0.Coords) (v2491 : BitVec 32) : Prop :=
  (∀ (k0_h2 : k0_cond2 i = 1#1), ∀ a, (k0_off505 v2491) a + S1x1024.size a ≤ S40960x1024.size a)
theorem k0_off505_inb : ∀ (i : grid0.Coords) (v2491 : BitVec 32) (k0_hw497 : k0_chk497 i v2491), ∀ (k0_h2 : k0_cond2 i = 1#1), ∀ a, (k0_off505 v2491) a + S1x1024.size a ≤ S40960x1024.size a := fun i v2491 k0_hw497 k0_h2 => k0_hw497 k0_h2

def k0_off506 (v2496 : BitVec 32) : Fin 2 → Nat :=
  let c0_i32_2739 : BitVec 32 := 0#32
  ![v2496.toNat, 0]

def k0_chk498 (i : grid0.Coords) (v2496 : BitVec 32) : Prop :=
  (∀ (k0_h2 : k0_cond2 i = 1#1), ∀ a, (k0_off506 v2496) a + S1x1024.size a ≤ S40960x1024.size a)
theorem k0_off506_inb : ∀ (i : grid0.Coords) (v2496 : BitVec 32) (k0_hw498 : k0_chk498 i v2496), ∀ (k0_h2 : k0_cond2 i = 1#1), ∀ a, (k0_off506 v2496) a + S1x1024.size a ≤ S40960x1024.size a := fun i v2496 k0_hw498 k0_h2 => k0_hw498 k0_h2

def k0_off507 (v2501 : BitVec 32) : Fin 2 → Nat :=
  let c0_i32_2744 : BitVec 32 := 0#32
  ![v2501.toNat, 0]

def k0_chk499 (i : grid0.Coords) (v2501 : BitVec 32) : Prop :=
  (∀ (k0_h2 : k0_cond2 i = 1#1), ∀ a, (k0_off507 v2501) a + S1x1024.size a ≤ S40960x1024.size a)
theorem k0_off507_inb : ∀ (i : grid0.Coords) (v2501 : BitVec 32) (k0_hw499 : k0_chk499 i v2501), ∀ (k0_h2 : k0_cond2 i = 1#1), ∀ a, (k0_off507 v2501) a + S1x1024.size a ≤ S40960x1024.size a := fun i v2501 k0_hw499 k0_h2 => k0_hw499 k0_h2

def k0_off508 (v2506 : BitVec 32) : Fin 2 → Nat :=
  let c0_i32_2750 : BitVec 32 := 0#32
  ![v2506.toNat, 0]

def k0_chk500 (i : grid0.Coords) (v2506 : BitVec 32) : Prop :=
  (∀ (k0_h2 : k0_cond2 i = 1#1), ∀ a, (k0_off508 v2506) a + S1x1024.size a ≤ S40960x1024.size a)
theorem k0_off508_inb : ∀ (i : grid0.Coords) (v2506 : BitVec 32) (k0_hw500 : k0_chk500 i v2506), ∀ (k0_h2 : k0_cond2 i = 1#1), ∀ a, (k0_off508 v2506) a + S1x1024.size a ≤ S40960x1024.size a := fun i v2506 k0_hw500 k0_h2 => k0_hw500 k0_h2

def k0_off509 (v2511 : BitVec 32) : Fin 2 → Nat :=
  let c0_i32_2755 : BitVec 32 := 0#32
  ![v2511.toNat, 0]

def k0_chk501 (i : grid0.Coords) (v2511 : BitVec 32) : Prop :=
  (∀ (k0_h2 : k0_cond2 i = 1#1), ∀ a, (k0_off509 v2511) a + S1x1024.size a ≤ S40960x1024.size a)
theorem k0_off509_inb : ∀ (i : grid0.Coords) (v2511 : BitVec 32) (k0_hw501 : k0_chk501 i v2511), ∀ (k0_h2 : k0_cond2 i = 1#1), ∀ a, (k0_off509 v2511) a + S1x1024.size a ≤ S40960x1024.size a := fun i v2511 k0_hw501 k0_h2 => k0_hw501 k0_h2

def k0_off510 (v2516 : BitVec 32) : Fin 2 → Nat :=
  let c0_i32_2761 : BitVec 32 := 0#32
  ![v2516.toNat, 0]

def k0_chk502 (i : grid0.Coords) (v2516 : BitVec 32) : Prop :=
  (∀ (k0_h2 : k0_cond2 i = 1#1), ∀ a, (k0_off510 v2516) a + S1x1024.size a ≤ S40960x1024.size a)
theorem k0_off510_inb : ∀ (i : grid0.Coords) (v2516 : BitVec 32) (k0_hw502 : k0_chk502 i v2516), ∀ (k0_h2 : k0_cond2 i = 1#1), ∀ a, (k0_off510 v2516) a + S1x1024.size a ≤ S40960x1024.size a := fun i v2516 k0_hw502 k0_h2 => k0_hw502 k0_h2

def k0_off511 (v2521 : BitVec 32) : Fin 2 → Nat :=
  let c0_i32_2766 : BitVec 32 := 0#32
  ![v2521.toNat, 0]

def k0_chk503 (i : grid0.Coords) (v2521 : BitVec 32) : Prop :=
  (∀ (k0_h2 : k0_cond2 i = 1#1), ∀ a, (k0_off511 v2521) a + S1x1024.size a ≤ S40960x1024.size a)
theorem k0_off511_inb : ∀ (i : grid0.Coords) (v2521 : BitVec 32) (k0_hw503 : k0_chk503 i v2521), ∀ (k0_h2 : k0_cond2 i = 1#1), ∀ a, (k0_off511 v2521) a + S1x1024.size a ≤ S40960x1024.size a := fun i v2521 k0_hw503 k0_h2 => k0_hw503 k0_h2

def k0_off512 (v2526 : BitVec 32) : Fin 2 → Nat :=
  let c0_i32_2772 : BitVec 32 := 0#32
  ![v2526.toNat, 0]

def k0_chk504 (i : grid0.Coords) (v2526 : BitVec 32) : Prop :=
  (∀ (k0_h2 : k0_cond2 i = 1#1), ∀ a, (k0_off512 v2526) a + S1x1024.size a ≤ S40960x1024.size a)
theorem k0_off512_inb : ∀ (i : grid0.Coords) (v2526 : BitVec 32) (k0_hw504 : k0_chk504 i v2526), ∀ (k0_h2 : k0_cond2 i = 1#1), ∀ a, (k0_off512 v2526) a + S1x1024.size a ≤ S40960x1024.size a := fun i v2526 k0_hw504 k0_h2 => k0_hw504 k0_h2

def k0_off513 (v2531 : BitVec 32) : Fin 2 → Nat :=
  let c0_i32_2777 : BitVec 32 := 0#32
  ![v2531.toNat, 0]

def k0_chk505 (i : grid0.Coords) (v2531 : BitVec 32) : Prop :=
  (∀ (k0_h2 : k0_cond2 i = 1#1), ∀ a, (k0_off513 v2531) a + S1x1024.size a ≤ S40960x1024.size a)
theorem k0_off513_inb : ∀ (i : grid0.Coords) (v2531 : BitVec 32) (k0_hw505 : k0_chk505 i v2531), ∀ (k0_h2 : k0_cond2 i = 1#1), ∀ a, (k0_off513 v2531) a + S1x1024.size a ≤ S40960x1024.size a := fun i v2531 k0_hw505 k0_h2 => k0_hw505 k0_h2

def k0_off514 (v2536 : BitVec 32) : Fin 2 → Nat :=
  let c0_i32_2783 : BitVec 32 := 0#32
  ![v2536.toNat, 0]

def k0_chk506 (i : grid0.Coords) (v2536 : BitVec 32) : Prop :=
  (∀ (k0_h2 : k0_cond2 i = 1#1), ∀ a, (k0_off514 v2536) a + S1x1024.size a ≤ S40960x1024.size a)
theorem k0_off514_inb : ∀ (i : grid0.Coords) (v2536 : BitVec 32) (k0_hw506 : k0_chk506 i v2536), ∀ (k0_h2 : k0_cond2 i = 1#1), ∀ a, (k0_off514 v2536) a + S1x1024.size a ≤ S40960x1024.size a := fun i v2536 k0_hw506 k0_h2 => k0_hw506 k0_h2

def k0_off515 (v2541 : BitVec 32) : Fin 2 → Nat :=
  let c0_i32_2788 : BitVec 32 := 0#32
  ![v2541.toNat, 0]

def k0_chk507 (i : grid0.Coords) (v2541 : BitVec 32) : Prop :=
  (∀ (k0_h2 : k0_cond2 i = 1#1), ∀ a, (k0_off515 v2541) a + S1x1024.size a ≤ S40960x1024.size a)
theorem k0_off515_inb : ∀ (i : grid0.Coords) (v2541 : BitVec 32) (k0_hw507 : k0_chk507 i v2541), ∀ (k0_h2 : k0_cond2 i = 1#1), ∀ a, (k0_off515 v2541) a + S1x1024.size a ≤ S40960x1024.size a := fun i v2541 k0_hw507 k0_h2 => k0_hw507 k0_h2

def k0_off516 (v2546 : BitVec 32) : Fin 2 → Nat :=
  let c0_i32_2794 : BitVec 32 := 0#32
  ![v2546.toNat, 0]

def k0_chk508 (i : grid0.Coords) (v2546 : BitVec 32) : Prop :=
  (∀ (k0_h2 : k0_cond2 i = 1#1), ∀ a, (k0_off516 v2546) a + S1x1024.size a ≤ S40960x1024.size a)
theorem k0_off516_inb : ∀ (i : grid0.Coords) (v2546 : BitVec 32) (k0_hw508 : k0_chk508 i v2546), ∀ (k0_h2 : k0_cond2 i = 1#1), ∀ a, (k0_off516 v2546) a + S1x1024.size a ≤ S40960x1024.size a := fun i v2546 k0_hw508 k0_h2 => k0_hw508 k0_h2

def k0_off517 (v2551 : BitVec 32) : Fin 2 → Nat :=
  let c0_i32_2799 : BitVec 32 := 0#32
  ![v2551.toNat, 0]

def k0_chk509 (i : grid0.Coords) (v2551 : BitVec 32) : Prop :=
  (∀ (k0_h2 : k0_cond2 i = 1#1), ∀ a, (k0_off517 v2551) a + S1x1024.size a ≤ S40960x1024.size a)
theorem k0_off517_inb : ∀ (i : grid0.Coords) (v2551 : BitVec 32) (k0_hw509 : k0_chk509 i v2551), ∀ (k0_h2 : k0_cond2 i = 1#1), ∀ a, (k0_off517 v2551) a + S1x1024.size a ≤ S40960x1024.size a := fun i v2551 k0_hw509 k0_h2 => k0_hw509 k0_h2

def k0_off518 (v2556 : BitVec 32) : Fin 2 → Nat :=
  let c0_i32_2805 : BitVec 32 := 0#32
  ![v2556.toNat, 0]

def k0_chk510 (i : grid0.Coords) (v2556 : BitVec 32) : Prop :=
  (∀ (k0_h2 : k0_cond2 i = 1#1), ∀ a, (k0_off518 v2556) a + S1x1024.size a ≤ S40960x1024.size a)
theorem k0_off518_inb : ∀ (i : grid0.Coords) (v2556 : BitVec 32) (k0_hw510 : k0_chk510 i v2556), ∀ (k0_h2 : k0_cond2 i = 1#1), ∀ a, (k0_off518 v2556) a + S1x1024.size a ≤ S40960x1024.size a := fun i v2556 k0_hw510 k0_h2 => k0_hw510 k0_h2

def k0_off519 (v2561 : BitVec 32) : Fin 2 → Nat :=
  let c0_i32_2810 : BitVec 32 := 0#32
  ![v2561.toNat, 0]

def k0_chk511 (i : grid0.Coords) (v2561 : BitVec 32) : Prop :=
  (∀ (k0_h2 : k0_cond2 i = 1#1), ∀ a, (k0_off519 v2561) a + S1x1024.size a ≤ S40960x1024.size a)
theorem k0_off519_inb : ∀ (i : grid0.Coords) (v2561 : BitVec 32) (k0_hw511 : k0_chk511 i v2561), ∀ (k0_h2 : k0_cond2 i = 1#1), ∀ a, (k0_off519 v2561) a + S1x1024.size a ≤ S40960x1024.size a := fun i v2561 k0_hw511 k0_h2 => k0_hw511 k0_h2

def k0_off520 (v2566 : BitVec 32) : Fin 2 → Nat :=
  let c0_i32_2816 : BitVec 32 := 0#32
  ![v2566.toNat, 0]

def k0_chk512 (i : grid0.Coords) (v2566 : BitVec 32) : Prop :=
  (∀ (k0_h2 : k0_cond2 i = 1#1), ∀ a, (k0_off520 v2566) a + S1x1024.size a ≤ S40960x1024.size a)
theorem k0_off520_inb : ∀ (i : grid0.Coords) (v2566 : BitVec 32) (k0_hw512 : k0_chk512 i v2566), ∀ (k0_h2 : k0_cond2 i = 1#1), ∀ a, (k0_off520 v2566) a + S1x1024.size a ≤ S40960x1024.size a := fun i v2566 k0_hw512 k0_h2 => k0_hw512 k0_h2

def k0_off521 (v2571 : BitVec 32) : Fin 2 → Nat :=
  let c0_i32_2821 : BitVec 32 := 0#32
  ![v2571.toNat, 0]

def k0_chk513 (i : grid0.Coords) (v2571 : BitVec 32) : Prop :=
  (∀ (k0_h2 : k0_cond2 i = 1#1), ∀ a, (k0_off521 v2571) a + S1x1024.size a ≤ S40960x1024.size a)
theorem k0_off521_inb : ∀ (i : grid0.Coords) (v2571 : BitVec 32) (k0_hw513 : k0_chk513 i v2571), ∀ (k0_h2 : k0_cond2 i = 1#1), ∀ a, (k0_off521 v2571) a + S1x1024.size a ≤ S40960x1024.size a := fun i v2571 k0_hw513 k0_h2 => k0_hw513 k0_h2

def k0_off522 (v2576 : BitVec 32) : Fin 2 → Nat :=
  let c0_i32_2827 : BitVec 32 := 0#32
  ![v2576.toNat, 0]

def k0_chk514 (i : grid0.Coords) (v2576 : BitVec 32) : Prop :=
  (∀ (k0_h2 : k0_cond2 i = 1#1), ∀ a, (k0_off522 v2576) a + S1x1024.size a ≤ S40960x1024.size a)
theorem k0_off522_inb : ∀ (i : grid0.Coords) (v2576 : BitVec 32) (k0_hw514 : k0_chk514 i v2576), ∀ (k0_h2 : k0_cond2 i = 1#1), ∀ a, (k0_off522 v2576) a + S1x1024.size a ≤ S40960x1024.size a := fun i v2576 k0_hw514 k0_h2 => k0_hw514 k0_h2

def k0_off523 (v2581 : BitVec 32) : Fin 2 → Nat :=
  let c0_i32_2832 : BitVec 32 := 0#32
  ![v2581.toNat, 0]

def k0_chk515 (i : grid0.Coords) (v2581 : BitVec 32) : Prop :=
  (∀ (k0_h2 : k0_cond2 i = 1#1), ∀ a, (k0_off523 v2581) a + S1x1024.size a ≤ S40960x1024.size a)
theorem k0_off523_inb : ∀ (i : grid0.Coords) (v2581 : BitVec 32) (k0_hw515 : k0_chk515 i v2581), ∀ (k0_h2 : k0_cond2 i = 1#1), ∀ a, (k0_off523 v2581) a + S1x1024.size a ≤ S40960x1024.size a := fun i v2581 k0_hw515 k0_h2 => k0_hw515 k0_h2

def k0_off524 (v2586 : BitVec 32) : Fin 2 → Nat :=
  let c0_i32_2838 : BitVec 32 := 0#32
  ![v2586.toNat, 0]

def k0_chk516 (i : grid0.Coords) (v2586 : BitVec 32) : Prop :=
  (∀ (k0_h2 : k0_cond2 i = 1#1), ∀ a, (k0_off524 v2586) a + S1x1024.size a ≤ S40960x1024.size a)
theorem k0_off524_inb : ∀ (i : grid0.Coords) (v2586 : BitVec 32) (k0_hw516 : k0_chk516 i v2586), ∀ (k0_h2 : k0_cond2 i = 1#1), ∀ a, (k0_off524 v2586) a + S1x1024.size a ≤ S40960x1024.size a := fun i v2586 k0_hw516 k0_h2 => k0_hw516 k0_h2

@[reducible] def k0_t5_loop : Scf.Loop 32 :=
  let c0_i32_2858 : BitVec 32 := 0#32
  let c256_i32_2859 : BitVec 32 := 256#32
  let v2634 : BitVec 32 := Scalar.addi c0_i32_2858 c256_i32_2859
  let c1_i32_2860 : BitVec 32 := 1#32
  ⟨c0_i32_2858, v2634, c1_i32_2860⟩
@[reducible] def k0_t6_loop : Scf.Loop 32 :=
  let c0_i32_2861 : BitVec 32 := 0#32
  let c256_i32_2862 : BitVec 32 := 256#32
  let v2635 : BitVec 32 := Scalar.addi c0_i32_2861 c256_i32_2862
  let c1_i32_2863 : BitVec 32 := 1#32
  ⟨c0_i32_2861, v2635, c1_i32_2863⟩
def k0_off525 (v2636 : BitVec 32) : Fin 2 → Nat :=
  let c0_i32_2869 : BitVec 32 := 0#32
  ![v2636.toNat, 0]

def k0_chk517 (i : grid0.Coords) (v2636 : BitVec 32) : Prop :=
  (∀ (k0_h2 : k0_cond2 i = 1#1), ∀ a, (k0_off525 v2636) a + S1x1024.size a ≤ S40960x1024.size a)
theorem k0_off525_inb : ∀ (i : grid0.Coords) (v2636 : BitVec 32) (k0_hw517 : k0_chk517 i v2636), ∀ (k0_h2 : k0_cond2 i = 1#1), ∀ a, (k0_off525 v2636) a + S1x1024.size a ≤ S40960x1024.size a := fun i v2636 k0_hw517 k0_h2 => k0_hw517 k0_h2

def k0_off526 (v2641 : BitVec 32) : Fin 2 → Nat :=
  let c0_i32_2875 : BitVec 32 := 0#32
  ![v2641.toNat, 0]

def k0_chk518 (i : grid0.Coords) (v2641 : BitVec 32) : Prop :=
  (∀ (k0_h2 : k0_cond2 i = 1#1), ∀ a, (k0_off526 v2641) a + S1x1024.size a ≤ S40960x1024.size a)
theorem k0_off526_inb : ∀ (i : grid0.Coords) (v2641 : BitVec 32) (k0_hw518 : k0_chk518 i v2641), ∀ (k0_h2 : k0_cond2 i = 1#1), ∀ a, (k0_off526 v2641) a + S1x1024.size a ≤ S40960x1024.size a := fun i v2641 k0_hw518 k0_h2 => k0_hw518 k0_h2

def k0_off527 (v2646 : BitVec 32) : Fin 2 → Nat :=
  let c0_i32_2880 : BitVec 32 := 0#32
  ![v2646.toNat, 0]

def k0_chk519 (i : grid0.Coords) (v2646 : BitVec 32) : Prop :=
  (∀ (k0_h2 : k0_cond2 i = 1#1), ∀ a, (k0_off527 v2646) a + S1x1024.size a ≤ S40960x1024.size a)
theorem k0_off527_inb : ∀ (i : grid0.Coords) (v2646 : BitVec 32) (k0_hw519 : k0_chk519 i v2646), ∀ (k0_h2 : k0_cond2 i = 1#1), ∀ a, (k0_off527 v2646) a + S1x1024.size a ≤ S40960x1024.size a := fun i v2646 k0_hw519 k0_h2 => k0_hw519 k0_h2

def k0_off528 (v2651 : BitVec 32) : Fin 2 → Nat :=
  let c0_i32_2886 : BitVec 32 := 0#32
  ![v2651.toNat, 0]

def k0_chk520 (i : grid0.Coords) (v2651 : BitVec 32) : Prop :=
  (∀ (k0_h2 : k0_cond2 i = 1#1), ∀ a, (k0_off528 v2651) a + S1x1024.size a ≤ S40960x1024.size a)
theorem k0_off528_inb : ∀ (i : grid0.Coords) (v2651 : BitVec 32) (k0_hw520 : k0_chk520 i v2651), ∀ (k0_h2 : k0_cond2 i = 1#1), ∀ a, (k0_off528 v2651) a + S1x1024.size a ≤ S40960x1024.size a := fun i v2651 k0_hw520 k0_h2 => k0_hw520 k0_h2

def k0_off529 (v2656 : BitVec 32) : Fin 2 → Nat :=
  let c0_i32_2891 : BitVec 32 := 0#32
  ![v2656.toNat, 0]

def k0_chk521 (i : grid0.Coords) (v2656 : BitVec 32) : Prop :=
  (∀ (k0_h2 : k0_cond2 i = 1#1), ∀ a, (k0_off529 v2656) a + S1x1024.size a ≤ S40960x1024.size a)
theorem k0_off529_inb : ∀ (i : grid0.Coords) (v2656 : BitVec 32) (k0_hw521 : k0_chk521 i v2656), ∀ (k0_h2 : k0_cond2 i = 1#1), ∀ a, (k0_off529 v2656) a + S1x1024.size a ≤ S40960x1024.size a := fun i v2656 k0_hw521 k0_h2 => k0_hw521 k0_h2

def k0_off530 (v2661 : BitVec 32) : Fin 2 → Nat :=
  let c0_i32_2897 : BitVec 32 := 0#32
  ![v2661.toNat, 0]

def k0_chk522 (i : grid0.Coords) (v2661 : BitVec 32) : Prop :=
  (∀ (k0_h2 : k0_cond2 i = 1#1), ∀ a, (k0_off530 v2661) a + S1x1024.size a ≤ S40960x1024.size a)
theorem k0_off530_inb : ∀ (i : grid0.Coords) (v2661 : BitVec 32) (k0_hw522 : k0_chk522 i v2661), ∀ (k0_h2 : k0_cond2 i = 1#1), ∀ a, (k0_off530 v2661) a + S1x1024.size a ≤ S40960x1024.size a := fun i v2661 k0_hw522 k0_h2 => k0_hw522 k0_h2

def k0_off531 (v2666 : BitVec 32) : Fin 2 → Nat :=
  let c0_i32_2902 : BitVec 32 := 0#32
  ![v2666.toNat, 0]

def k0_chk523 (i : grid0.Coords) (v2666 : BitVec 32) : Prop :=
  (∀ (k0_h2 : k0_cond2 i = 1#1), ∀ a, (k0_off531 v2666) a + S1x1024.size a ≤ S40960x1024.size a)
theorem k0_off531_inb : ∀ (i : grid0.Coords) (v2666 : BitVec 32) (k0_hw523 : k0_chk523 i v2666), ∀ (k0_h2 : k0_cond2 i = 1#1), ∀ a, (k0_off531 v2666) a + S1x1024.size a ≤ S40960x1024.size a := fun i v2666 k0_hw523 k0_h2 => k0_hw523 k0_h2

def k0_off532 (v2671 : BitVec 32) : Fin 2 → Nat :=
  let c0_i32_2908 : BitVec 32 := 0#32
  ![v2671.toNat, 0]

def k0_chk524 (i : grid0.Coords) (v2671 : BitVec 32) : Prop :=
  (∀ (k0_h2 : k0_cond2 i = 1#1), ∀ a, (k0_off532 v2671) a + S1x1024.size a ≤ S40960x1024.size a)
theorem k0_off532_inb : ∀ (i : grid0.Coords) (v2671 : BitVec 32) (k0_hw524 : k0_chk524 i v2671), ∀ (k0_h2 : k0_cond2 i = 1#1), ∀ a, (k0_off532 v2671) a + S1x1024.size a ≤ S40960x1024.size a := fun i v2671 k0_hw524 k0_h2 => k0_hw524 k0_h2

def k0_off533 (v2676 : BitVec 32) : Fin 2 → Nat :=
  let c0_i32_2913 : BitVec 32 := 0#32
  ![v2676.toNat, 0]

def k0_chk525 (i : grid0.Coords) (v2676 : BitVec 32) : Prop :=
  (∀ (k0_h2 : k0_cond2 i = 1#1), ∀ a, (k0_off533 v2676) a + S1x1024.size a ≤ S40960x1024.size a)
theorem k0_off533_inb : ∀ (i : grid0.Coords) (v2676 : BitVec 32) (k0_hw525 : k0_chk525 i v2676), ∀ (k0_h2 : k0_cond2 i = 1#1), ∀ a, (k0_off533 v2676) a + S1x1024.size a ≤ S40960x1024.size a := fun i v2676 k0_hw525 k0_h2 => k0_hw525 k0_h2

def k0_off534 (v2681 : BitVec 32) : Fin 2 → Nat :=
  let c0_i32_2919 : BitVec 32 := 0#32
  ![v2681.toNat, 0]

def k0_chk526 (i : grid0.Coords) (v2681 : BitVec 32) : Prop :=
  (∀ (k0_h2 : k0_cond2 i = 1#1), ∀ a, (k0_off534 v2681) a + S1x1024.size a ≤ S40960x1024.size a)
theorem k0_off534_inb : ∀ (i : grid0.Coords) (v2681 : BitVec 32) (k0_hw526 : k0_chk526 i v2681), ∀ (k0_h2 : k0_cond2 i = 1#1), ∀ a, (k0_off534 v2681) a + S1x1024.size a ≤ S40960x1024.size a := fun i v2681 k0_hw526 k0_h2 => k0_hw526 k0_h2

def k0_off535 (v2686 : BitVec 32) : Fin 2 → Nat :=
  let c0_i32_2924 : BitVec 32 := 0#32
  ![v2686.toNat, 0]

def k0_chk527 (i : grid0.Coords) (v2686 : BitVec 32) : Prop :=
  (∀ (k0_h2 : k0_cond2 i = 1#1), ∀ a, (k0_off535 v2686) a + S1x1024.size a ≤ S40960x1024.size a)
theorem k0_off535_inb : ∀ (i : grid0.Coords) (v2686 : BitVec 32) (k0_hw527 : k0_chk527 i v2686), ∀ (k0_h2 : k0_cond2 i = 1#1), ∀ a, (k0_off535 v2686) a + S1x1024.size a ≤ S40960x1024.size a := fun i v2686 k0_hw527 k0_h2 => k0_hw527 k0_h2

def k0_off536 (v2691 : BitVec 32) : Fin 2 → Nat :=
  let c0_i32_2930 : BitVec 32 := 0#32
  ![v2691.toNat, 0]

def k0_chk528 (i : grid0.Coords) (v2691 : BitVec 32) : Prop :=
  (∀ (k0_h2 : k0_cond2 i = 1#1), ∀ a, (k0_off536 v2691) a + S1x1024.size a ≤ S40960x1024.size a)
theorem k0_off536_inb : ∀ (i : grid0.Coords) (v2691 : BitVec 32) (k0_hw528 : k0_chk528 i v2691), ∀ (k0_h2 : k0_cond2 i = 1#1), ∀ a, (k0_off536 v2691) a + S1x1024.size a ≤ S40960x1024.size a := fun i v2691 k0_hw528 k0_h2 => k0_hw528 k0_h2

def k0_off537 (v2696 : BitVec 32) : Fin 2 → Nat :=
  let c0_i32_2935 : BitVec 32 := 0#32
  ![v2696.toNat, 0]

def k0_chk529 (i : grid0.Coords) (v2696 : BitVec 32) : Prop :=
  (∀ (k0_h2 : k0_cond2 i = 1#1), ∀ a, (k0_off537 v2696) a + S1x1024.size a ≤ S40960x1024.size a)
theorem k0_off537_inb : ∀ (i : grid0.Coords) (v2696 : BitVec 32) (k0_hw529 : k0_chk529 i v2696), ∀ (k0_h2 : k0_cond2 i = 1#1), ∀ a, (k0_off537 v2696) a + S1x1024.size a ≤ S40960x1024.size a := fun i v2696 k0_hw529 k0_h2 => k0_hw529 k0_h2

def k0_off538 (v2701 : BitVec 32) : Fin 2 → Nat :=
  let c0_i32_2941 : BitVec 32 := 0#32
  ![v2701.toNat, 0]

def k0_chk530 (i : grid0.Coords) (v2701 : BitVec 32) : Prop :=
  (∀ (k0_h2 : k0_cond2 i = 1#1), ∀ a, (k0_off538 v2701) a + S1x1024.size a ≤ S40960x1024.size a)
theorem k0_off538_inb : ∀ (i : grid0.Coords) (v2701 : BitVec 32) (k0_hw530 : k0_chk530 i v2701), ∀ (k0_h2 : k0_cond2 i = 1#1), ∀ a, (k0_off538 v2701) a + S1x1024.size a ≤ S40960x1024.size a := fun i v2701 k0_hw530 k0_h2 => k0_hw530 k0_h2

def k0_off539 (v2706 : BitVec 32) : Fin 2 → Nat :=
  let c0_i32_2946 : BitVec 32 := 0#32
  ![v2706.toNat, 0]

def k0_chk531 (i : grid0.Coords) (v2706 : BitVec 32) : Prop :=
  (∀ (k0_h2 : k0_cond2 i = 1#1), ∀ a, (k0_off539 v2706) a + S1x1024.size a ≤ S40960x1024.size a)
theorem k0_off539_inb : ∀ (i : grid0.Coords) (v2706 : BitVec 32) (k0_hw531 : k0_chk531 i v2706), ∀ (k0_h2 : k0_cond2 i = 1#1), ∀ a, (k0_off539 v2706) a + S1x1024.size a ≤ S40960x1024.size a := fun i v2706 k0_hw531 k0_h2 => k0_hw531 k0_h2

def k0_off540 (v2711 : BitVec 32) : Fin 2 → Nat :=
  let c0_i32_2952 : BitVec 32 := 0#32
  ![v2711.toNat, 0]

def k0_chk532 (i : grid0.Coords) (v2711 : BitVec 32) : Prop :=
  (∀ (k0_h2 : k0_cond2 i = 1#1), ∀ a, (k0_off540 v2711) a + S1x1024.size a ≤ S40960x1024.size a)
theorem k0_off540_inb : ∀ (i : grid0.Coords) (v2711 : BitVec 32) (k0_hw532 : k0_chk532 i v2711), ∀ (k0_h2 : k0_cond2 i = 1#1), ∀ a, (k0_off540 v2711) a + S1x1024.size a ≤ S40960x1024.size a := fun i v2711 k0_hw532 k0_h2 => k0_hw532 k0_h2

def k0_off541 (v2716 : BitVec 32) : Fin 2 → Nat :=
  let c0_i32_2957 : BitVec 32 := 0#32
  ![v2716.toNat, 0]

def k0_chk533 (i : grid0.Coords) (v2716 : BitVec 32) : Prop :=
  (∀ (k0_h2 : k0_cond2 i = 1#1), ∀ a, (k0_off541 v2716) a + S1x1024.size a ≤ S40960x1024.size a)
theorem k0_off541_inb : ∀ (i : grid0.Coords) (v2716 : BitVec 32) (k0_hw533 : k0_chk533 i v2716), ∀ (k0_h2 : k0_cond2 i = 1#1), ∀ a, (k0_off541 v2716) a + S1x1024.size a ≤ S40960x1024.size a := fun i v2716 k0_hw533 k0_h2 => k0_hw533 k0_h2

def k0_off542 (v2721 : BitVec 32) : Fin 2 → Nat :=
  let c0_i32_2963 : BitVec 32 := 0#32
  ![v2721.toNat, 0]

def k0_chk534 (i : grid0.Coords) (v2721 : BitVec 32) : Prop :=
  (∀ (k0_h2 : k0_cond2 i = 1#1), ∀ a, (k0_off542 v2721) a + S1x1024.size a ≤ S40960x1024.size a)
theorem k0_off542_inb : ∀ (i : grid0.Coords) (v2721 : BitVec 32) (k0_hw534 : k0_chk534 i v2721), ∀ (k0_h2 : k0_cond2 i = 1#1), ∀ a, (k0_off542 v2721) a + S1x1024.size a ≤ S40960x1024.size a := fun i v2721 k0_hw534 k0_h2 => k0_hw534 k0_h2

def k0_off543 (v2726 : BitVec 32) : Fin 2 → Nat :=
  let c0_i32_2968 : BitVec 32 := 0#32
  ![v2726.toNat, 0]

def k0_chk535 (i : grid0.Coords) (v2726 : BitVec 32) : Prop :=
  (∀ (k0_h2 : k0_cond2 i = 1#1), ∀ a, (k0_off543 v2726) a + S1x1024.size a ≤ S40960x1024.size a)
theorem k0_off543_inb : ∀ (i : grid0.Coords) (v2726 : BitVec 32) (k0_hw535 : k0_chk535 i v2726), ∀ (k0_h2 : k0_cond2 i = 1#1), ∀ a, (k0_off543 v2726) a + S1x1024.size a ≤ S40960x1024.size a := fun i v2726 k0_hw535 k0_h2 => k0_hw535 k0_h2

def k0_off544 (v2731 : BitVec 32) : Fin 2 → Nat :=
  let c0_i32_2974 : BitVec 32 := 0#32
  ![v2731.toNat, 0]

def k0_chk536 (i : grid0.Coords) (v2731 : BitVec 32) : Prop :=
  (∀ (k0_h2 : k0_cond2 i = 1#1), ∀ a, (k0_off544 v2731) a + S1x1024.size a ≤ S40960x1024.size a)
theorem k0_off544_inb : ∀ (i : grid0.Coords) (v2731 : BitVec 32) (k0_hw536 : k0_chk536 i v2731), ∀ (k0_h2 : k0_cond2 i = 1#1), ∀ a, (k0_off544 v2731) a + S1x1024.size a ≤ S40960x1024.size a := fun i v2731 k0_hw536 k0_h2 => k0_hw536 k0_h2

def k0_off545 (v2736 : BitVec 32) : Fin 2 → Nat :=
  let c0_i32_2979 : BitVec 32 := 0#32
  ![v2736.toNat, 0]

def k0_chk537 (i : grid0.Coords) (v2736 : BitVec 32) : Prop :=
  (∀ (k0_h2 : k0_cond2 i = 1#1), ∀ a, (k0_off545 v2736) a + S1x1024.size a ≤ S40960x1024.size a)
theorem k0_off545_inb : ∀ (i : grid0.Coords) (v2736 : BitVec 32) (k0_hw537 : k0_chk537 i v2736), ∀ (k0_h2 : k0_cond2 i = 1#1), ∀ a, (k0_off545 v2736) a + S1x1024.size a ≤ S40960x1024.size a := fun i v2736 k0_hw537 k0_h2 => k0_hw537 k0_h2

def k0_off546 (v2741 : BitVec 32) : Fin 2 → Nat :=
  let c0_i32_2985 : BitVec 32 := 0#32
  ![v2741.toNat, 0]

def k0_chk538 (i : grid0.Coords) (v2741 : BitVec 32) : Prop :=
  (∀ (k0_h2 : k0_cond2 i = 1#1), ∀ a, (k0_off546 v2741) a + S1x1024.size a ≤ S40960x1024.size a)
theorem k0_off546_inb : ∀ (i : grid0.Coords) (v2741 : BitVec 32) (k0_hw538 : k0_chk538 i v2741), ∀ (k0_h2 : k0_cond2 i = 1#1), ∀ a, (k0_off546 v2741) a + S1x1024.size a ≤ S40960x1024.size a := fun i v2741 k0_hw538 k0_h2 => k0_hw538 k0_h2

def k0_off547 (v2746 : BitVec 32) : Fin 2 → Nat :=
  let c0_i32_2990 : BitVec 32 := 0#32
  ![v2746.toNat, 0]

def k0_chk539 (i : grid0.Coords) (v2746 : BitVec 32) : Prop :=
  (∀ (k0_h2 : k0_cond2 i = 1#1), ∀ a, (k0_off547 v2746) a + S1x1024.size a ≤ S40960x1024.size a)
theorem k0_off547_inb : ∀ (i : grid0.Coords) (v2746 : BitVec 32) (k0_hw539 : k0_chk539 i v2746), ∀ (k0_h2 : k0_cond2 i = 1#1), ∀ a, (k0_off547 v2746) a + S1x1024.size a ≤ S40960x1024.size a := fun i v2746 k0_hw539 k0_h2 => k0_hw539 k0_h2

def k0_off548 (v2751 : BitVec 32) : Fin 2 → Nat :=
  let c0_i32_2996 : BitVec 32 := 0#32
  ![v2751.toNat, 0]

def k0_chk540 (i : grid0.Coords) (v2751 : BitVec 32) : Prop :=
  (∀ (k0_h2 : k0_cond2 i = 1#1), ∀ a, (k0_off548 v2751) a + S1x1024.size a ≤ S40960x1024.size a)
theorem k0_off548_inb : ∀ (i : grid0.Coords) (v2751 : BitVec 32) (k0_hw540 : k0_chk540 i v2751), ∀ (k0_h2 : k0_cond2 i = 1#1), ∀ a, (k0_off548 v2751) a + S1x1024.size a ≤ S40960x1024.size a := fun i v2751 k0_hw540 k0_h2 => k0_hw540 k0_h2

def k0_off549 (v2756 : BitVec 32) : Fin 2 → Nat :=
  let c0_i32_3001 : BitVec 32 := 0#32
  ![v2756.toNat, 0]

def k0_chk541 (i : grid0.Coords) (v2756 : BitVec 32) : Prop :=
  (∀ (k0_h2 : k0_cond2 i = 1#1), ∀ a, (k0_off549 v2756) a + S1x1024.size a ≤ S40960x1024.size a)
theorem k0_off549_inb : ∀ (i : grid0.Coords) (v2756 : BitVec 32) (k0_hw541 : k0_chk541 i v2756), ∀ (k0_h2 : k0_cond2 i = 1#1), ∀ a, (k0_off549 v2756) a + S1x1024.size a ≤ S40960x1024.size a := fun i v2756 k0_hw541 k0_h2 => k0_hw541 k0_h2

def k0_off550 (v2761 : BitVec 32) : Fin 2 → Nat :=
  let c0_i32_3007 : BitVec 32 := 0#32
  ![v2761.toNat, 0]

def k0_chk542 (i : grid0.Coords) (v2761 : BitVec 32) : Prop :=
  (∀ (k0_h2 : k0_cond2 i = 1#1), ∀ a, (k0_off550 v2761) a + S1x1024.size a ≤ S40960x1024.size a)
theorem k0_off550_inb : ∀ (i : grid0.Coords) (v2761 : BitVec 32) (k0_hw542 : k0_chk542 i v2761), ∀ (k0_h2 : k0_cond2 i = 1#1), ∀ a, (k0_off550 v2761) a + S1x1024.size a ≤ S40960x1024.size a := fun i v2761 k0_hw542 k0_h2 => k0_hw542 k0_h2

def k0_off551 (v2766 : BitVec 32) : Fin 2 → Nat :=
  let c0_i32_3012 : BitVec 32 := 0#32
  ![v2766.toNat, 0]

def k0_chk543 (i : grid0.Coords) (v2766 : BitVec 32) : Prop :=
  (∀ (k0_h2 : k0_cond2 i = 1#1), ∀ a, (k0_off551 v2766) a + S1x1024.size a ≤ S40960x1024.size a)
theorem k0_off551_inb : ∀ (i : grid0.Coords) (v2766 : BitVec 32) (k0_hw543 : k0_chk543 i v2766), ∀ (k0_h2 : k0_cond2 i = 1#1), ∀ a, (k0_off551 v2766) a + S1x1024.size a ≤ S40960x1024.size a := fun i v2766 k0_hw543 k0_h2 => k0_hw543 k0_h2

def k0_off552 (v2771 : BitVec 32) : Fin 2 → Nat :=
  let c0_i32_3018 : BitVec 32 := 0#32
  ![v2771.toNat, 0]

def k0_chk544 (i : grid0.Coords) (v2771 : BitVec 32) : Prop :=
  (∀ (k0_h2 : k0_cond2 i = 1#1), ∀ a, (k0_off552 v2771) a + S1x1024.size a ≤ S40960x1024.size a)
theorem k0_off552_inb : ∀ (i : grid0.Coords) (v2771 : BitVec 32) (k0_hw544 : k0_chk544 i v2771), ∀ (k0_h2 : k0_cond2 i = 1#1), ∀ a, (k0_off552 v2771) a + S1x1024.size a ≤ S40960x1024.size a := fun i v2771 k0_hw544 k0_h2 => k0_hw544 k0_h2

def k0_off553 (v2776 : BitVec 32) : Fin 2 → Nat :=
  let c0_i32_3023 : BitVec 32 := 0#32
  ![v2776.toNat, 0]

def k0_chk545 (i : grid0.Coords) (v2776 : BitVec 32) : Prop :=
  (∀ (k0_h2 : k0_cond2 i = 1#1), ∀ a, (k0_off553 v2776) a + S1x1024.size a ≤ S40960x1024.size a)
theorem k0_off553_inb : ∀ (i : grid0.Coords) (v2776 : BitVec 32) (k0_hw545 : k0_chk545 i v2776), ∀ (k0_h2 : k0_cond2 i = 1#1), ∀ a, (k0_off553 v2776) a + S1x1024.size a ≤ S40960x1024.size a := fun i v2776 k0_hw545 k0_h2 => k0_hw545 k0_h2

def k0_off554 (v2781 : BitVec 32) : Fin 2 → Nat :=
  let c0_i32_3029 : BitVec 32 := 0#32
  ![v2781.toNat, 0]

def k0_chk546 (i : grid0.Coords) (v2781 : BitVec 32) : Prop :=
  (∀ (k0_h2 : k0_cond2 i = 1#1), ∀ a, (k0_off554 v2781) a + S1x1024.size a ≤ S40960x1024.size a)
theorem k0_off554_inb : ∀ (i : grid0.Coords) (v2781 : BitVec 32) (k0_hw546 : k0_chk546 i v2781), ∀ (k0_h2 : k0_cond2 i = 1#1), ∀ a, (k0_off554 v2781) a + S1x1024.size a ≤ S40960x1024.size a := fun i v2781 k0_hw546 k0_h2 => k0_hw546 k0_h2

def k0_off555 (v2786 : BitVec 32) : Fin 2 → Nat :=
  let c0_i32_3034 : BitVec 32 := 0#32
  ![v2786.toNat, 0]

def k0_chk547 (i : grid0.Coords) (v2786 : BitVec 32) : Prop :=
  (∀ (k0_h2 : k0_cond2 i = 1#1), ∀ a, (k0_off555 v2786) a + S1x1024.size a ≤ S40960x1024.size a)
theorem k0_off555_inb : ∀ (i : grid0.Coords) (v2786 : BitVec 32) (k0_hw547 : k0_chk547 i v2786), ∀ (k0_h2 : k0_cond2 i = 1#1), ∀ a, (k0_off555 v2786) a + S1x1024.size a ≤ S40960x1024.size a := fun i v2786 k0_hw547 k0_h2 => k0_hw547 k0_h2

def k0_off556 (v2791 : BitVec 32) : Fin 2 → Nat :=
  let c0_i32_3040 : BitVec 32 := 0#32
  ![v2791.toNat, 0]

def k0_chk548 (i : grid0.Coords) (v2791 : BitVec 32) : Prop :=
  (∀ (k0_h2 : k0_cond2 i = 1#1), ∀ a, (k0_off556 v2791) a + S1x1024.size a ≤ S40960x1024.size a)
theorem k0_off556_inb : ∀ (i : grid0.Coords) (v2791 : BitVec 32) (k0_hw548 : k0_chk548 i v2791), ∀ (k0_h2 : k0_cond2 i = 1#1), ∀ a, (k0_off556 v2791) a + S1x1024.size a ≤ S40960x1024.size a := fun i v2791 k0_hw548 k0_h2 => k0_hw548 k0_h2

def k0_off557 (v2796 : BitVec 32) : Fin 2 → Nat :=
  let c0_i32_3045 : BitVec 32 := 0#32
  ![v2796.toNat, 0]

def k0_chk549 (i : grid0.Coords) (v2796 : BitVec 32) : Prop :=
  (∀ (k0_h2 : k0_cond2 i = 1#1), ∀ a, (k0_off557 v2796) a + S1x1024.size a ≤ S40960x1024.size a)
theorem k0_off557_inb : ∀ (i : grid0.Coords) (v2796 : BitVec 32) (k0_hw549 : k0_chk549 i v2796), ∀ (k0_h2 : k0_cond2 i = 1#1), ∀ a, (k0_off557 v2796) a + S1x1024.size a ≤ S40960x1024.size a := fun i v2796 k0_hw549 k0_h2 => k0_hw549 k0_h2

def k0_off558 (v2801 : BitVec 32) : Fin 2 → Nat :=
  let c0_i32_3051 : BitVec 32 := 0#32
  ![v2801.toNat, 0]

def k0_chk550 (i : grid0.Coords) (v2801 : BitVec 32) : Prop :=
  (∀ (k0_h2 : k0_cond2 i = 1#1), ∀ a, (k0_off558 v2801) a + S1x1024.size a ≤ S40960x1024.size a)
theorem k0_off558_inb : ∀ (i : grid0.Coords) (v2801 : BitVec 32) (k0_hw550 : k0_chk550 i v2801), ∀ (k0_h2 : k0_cond2 i = 1#1), ∀ a, (k0_off558 v2801) a + S1x1024.size a ≤ S40960x1024.size a := fun i v2801 k0_hw550 k0_h2 => k0_hw550 k0_h2

def k0_off559 (v2806 : BitVec 32) : Fin 2 → Nat :=
  let c0_i32_3056 : BitVec 32 := 0#32
  ![v2806.toNat, 0]

def k0_chk551 (i : grid0.Coords) (v2806 : BitVec 32) : Prop :=
  (∀ (k0_h2 : k0_cond2 i = 1#1), ∀ a, (k0_off559 v2806) a + S1x1024.size a ≤ S40960x1024.size a)
theorem k0_off559_inb : ∀ (i : grid0.Coords) (v2806 : BitVec 32) (k0_hw551 : k0_chk551 i v2806), ∀ (k0_h2 : k0_cond2 i = 1#1), ∀ a, (k0_off559 v2806) a + S1x1024.size a ≤ S40960x1024.size a := fun i v2806 k0_hw551 k0_h2 => k0_hw551 k0_h2

def k0_off560 (v2811 : BitVec 32) : Fin 2 → Nat :=
  let c0_i32_3062 : BitVec 32 := 0#32
  ![v2811.toNat, 0]

def k0_chk552 (i : grid0.Coords) (v2811 : BitVec 32) : Prop :=
  (∀ (k0_h2 : k0_cond2 i = 1#1), ∀ a, (k0_off560 v2811) a + S1x1024.size a ≤ S40960x1024.size a)
theorem k0_off560_inb : ∀ (i : grid0.Coords) (v2811 : BitVec 32) (k0_hw552 : k0_chk552 i v2811), ∀ (k0_h2 : k0_cond2 i = 1#1), ∀ a, (k0_off560 v2811) a + S1x1024.size a ≤ S40960x1024.size a := fun i v2811 k0_hw552 k0_h2 => k0_hw552 k0_h2

def k0_off561 (v2816 : BitVec 32) : Fin 2 → Nat :=
  let c0_i32_3067 : BitVec 32 := 0#32
  ![v2816.toNat, 0]

def k0_chk553 (i : grid0.Coords) (v2816 : BitVec 32) : Prop :=
  (∀ (k0_h2 : k0_cond2 i = 1#1), ∀ a, (k0_off561 v2816) a + S1x1024.size a ≤ S40960x1024.size a)
theorem k0_off561_inb : ∀ (i : grid0.Coords) (v2816 : BitVec 32) (k0_hw553 : k0_chk553 i v2816), ∀ (k0_h2 : k0_cond2 i = 1#1), ∀ a, (k0_off561 v2816) a + S1x1024.size a ≤ S40960x1024.size a := fun i v2816 k0_hw553 k0_h2 => k0_hw553 k0_h2

def k0_off562 (v2821 : BitVec 32) : Fin 2 → Nat :=
  let c0_i32_3073 : BitVec 32 := 0#32
  ![v2821.toNat, 0]

def k0_chk554 (i : grid0.Coords) (v2821 : BitVec 32) : Prop :=
  (∀ (k0_h2 : k0_cond2 i = 1#1), ∀ a, (k0_off562 v2821) a + S1x1024.size a ≤ S40960x1024.size a)
theorem k0_off562_inb : ∀ (i : grid0.Coords) (v2821 : BitVec 32) (k0_hw554 : k0_chk554 i v2821), ∀ (k0_h2 : k0_cond2 i = 1#1), ∀ a, (k0_off562 v2821) a + S1x1024.size a ≤ S40960x1024.size a := fun i v2821 k0_hw554 k0_h2 => k0_hw554 k0_h2

def k0_off563 (v2826 : BitVec 32) : Fin 2 → Nat :=
  let c0_i32_3078 : BitVec 32 := 0#32
  ![v2826.toNat, 0]

def k0_chk555 (i : grid0.Coords) (v2826 : BitVec 32) : Prop :=
  (∀ (k0_h2 : k0_cond2 i = 1#1), ∀ a, (k0_off563 v2826) a + S1x1024.size a ≤ S40960x1024.size a)
theorem k0_off563_inb : ∀ (i : grid0.Coords) (v2826 : BitVec 32) (k0_hw555 : k0_chk555 i v2826), ∀ (k0_h2 : k0_cond2 i = 1#1), ∀ a, (k0_off563 v2826) a + S1x1024.size a ≤ S40960x1024.size a := fun i v2826 k0_hw555 k0_h2 => k0_hw555 k0_h2

def k0_off564 (v2831 : BitVec 32) : Fin 2 → Nat :=
  let c0_i32_3084 : BitVec 32 := 0#32
  ![v2831.toNat, 0]

def k0_chk556 (i : grid0.Coords) (v2831 : BitVec 32) : Prop :=
  (∀ (k0_h2 : k0_cond2 i = 1#1), ∀ a, (k0_off564 v2831) a + S1x1024.size a ≤ S40960x1024.size a)
theorem k0_off564_inb : ∀ (i : grid0.Coords) (v2831 : BitVec 32) (k0_hw556 : k0_chk556 i v2831), ∀ (k0_h2 : k0_cond2 i = 1#1), ∀ a, (k0_off564 v2831) a + S1x1024.size a ≤ S40960x1024.size a := fun i v2831 k0_hw556 k0_h2 => k0_hw556 k0_h2

def k0_off565 (v2836 : BitVec 32) : Fin 2 → Nat :=
  let c0_i32_3089 : BitVec 32 := 0#32
  ![v2836.toNat, 0]

def k0_chk557 (i : grid0.Coords) (v2836 : BitVec 32) : Prop :=
  (∀ (k0_h2 : k0_cond2 i = 1#1), ∀ a, (k0_off565 v2836) a + S1x1024.size a ≤ S40960x1024.size a)
theorem k0_off565_inb : ∀ (i : grid0.Coords) (v2836 : BitVec 32) (k0_hw557 : k0_chk557 i v2836), ∀ (k0_h2 : k0_cond2 i = 1#1), ∀ a, (k0_off565 v2836) a + S1x1024.size a ≤ S40960x1024.size a := fun i v2836 k0_hw557 k0_h2 => k0_hw557 k0_h2

def k0_off566 (v2841 : BitVec 32) : Fin 2 → Nat :=
  let c0_i32_3095 : BitVec 32 := 0#32
  ![v2841.toNat, 0]

def k0_chk558 (i : grid0.Coords) (v2841 : BitVec 32) : Prop :=
  (∀ (k0_h2 : k0_cond2 i = 1#1), ∀ a, (k0_off566 v2841) a + S1x1024.size a ≤ S40960x1024.size a)
theorem k0_off566_inb : ∀ (i : grid0.Coords) (v2841 : BitVec 32) (k0_hw558 : k0_chk558 i v2841), ∀ (k0_h2 : k0_cond2 i = 1#1), ∀ a, (k0_off566 v2841) a + S1x1024.size a ≤ S40960x1024.size a := fun i v2841 k0_hw558 k0_h2 => k0_hw558 k0_h2

def k0_off567 (v2846 : BitVec 32) : Fin 2 → Nat :=
  let c0_i32_3100 : BitVec 32 := 0#32
  ![v2846.toNat, 0]

def k0_chk559 (i : grid0.Coords) (v2846 : BitVec 32) : Prop :=
  (∀ (k0_h2 : k0_cond2 i = 1#1), ∀ a, (k0_off567 v2846) a + S1x1024.size a ≤ S40960x1024.size a)
theorem k0_off567_inb : ∀ (i : grid0.Coords) (v2846 : BitVec 32) (k0_hw559 : k0_chk559 i v2846), ∀ (k0_h2 : k0_cond2 i = 1#1), ∀ a, (k0_off567 v2846) a + S1x1024.size a ≤ S40960x1024.size a := fun i v2846 k0_hw559 k0_h2 => k0_hw559 k0_h2

def k0_off568 (v2851 : BitVec 32) : Fin 2 → Nat :=
  let c0_i32_3106 : BitVec 32 := 0#32
  ![v2851.toNat, 0]

def k0_chk560 (i : grid0.Coords) (v2851 : BitVec 32) : Prop :=
  (∀ (k0_h2 : k0_cond2 i = 1#1), ∀ a, (k0_off568 v2851) a + S1x1024.size a ≤ S40960x1024.size a)
theorem k0_off568_inb : ∀ (i : grid0.Coords) (v2851 : BitVec 32) (k0_hw560 : k0_chk560 i v2851), ∀ (k0_h2 : k0_cond2 i = 1#1), ∀ a, (k0_off568 v2851) a + S1x1024.size a ≤ S40960x1024.size a := fun i v2851 k0_hw560 k0_h2 => k0_hw560 k0_h2

def k0_off569 (v2856 : BitVec 32) : Fin 2 → Nat :=
  let c0_i32_3111 : BitVec 32 := 0#32
  ![v2856.toNat, 0]

def k0_chk561 (i : grid0.Coords) (v2856 : BitVec 32) : Prop :=
  (∀ (k0_h2 : k0_cond2 i = 1#1), ∀ a, (k0_off569 v2856) a + S1x1024.size a ≤ S40960x1024.size a)
theorem k0_off569_inb : ∀ (i : grid0.Coords) (v2856 : BitVec 32) (k0_hw561 : k0_chk561 i v2856), ∀ (k0_h2 : k0_cond2 i = 1#1), ∀ a, (k0_off569 v2856) a + S1x1024.size a ≤ S40960x1024.size a := fun i v2856 k0_hw561 k0_h2 => k0_hw561 k0_h2

def k0_off570 (v2861 : BitVec 32) : Fin 2 → Nat :=
  let c0_i32_3117 : BitVec 32 := 0#32
  ![v2861.toNat, 0]

def k0_chk562 (i : grid0.Coords) (v2861 : BitVec 32) : Prop :=
  (∀ (k0_h2 : k0_cond2 i = 1#1), ∀ a, (k0_off570 v2861) a + S1x1024.size a ≤ S40960x1024.size a)
theorem k0_off570_inb : ∀ (i : grid0.Coords) (v2861 : BitVec 32) (k0_hw562 : k0_chk562 i v2861), ∀ (k0_h2 : k0_cond2 i = 1#1), ∀ a, (k0_off570 v2861) a + S1x1024.size a ≤ S40960x1024.size a := fun i v2861 k0_hw562 k0_h2 => k0_hw562 k0_h2

def k0_off571 (v2866 : BitVec 32) : Fin 2 → Nat :=
  let c0_i32_3122 : BitVec 32 := 0#32
  ![v2866.toNat, 0]

def k0_chk563 (i : grid0.Coords) (v2866 : BitVec 32) : Prop :=
  (∀ (k0_h2 : k0_cond2 i = 1#1), ∀ a, (k0_off571 v2866) a + S1x1024.size a ≤ S40960x1024.size a)
theorem k0_off571_inb : ∀ (i : grid0.Coords) (v2866 : BitVec 32) (k0_hw563 : k0_chk563 i v2866), ∀ (k0_h2 : k0_cond2 i = 1#1), ∀ a, (k0_off571 v2866) a + S1x1024.size a ≤ S40960x1024.size a := fun i v2866 k0_hw563 k0_h2 => k0_hw563 k0_h2

def k0_off572 (v2871 : BitVec 32) : Fin 2 → Nat :=
  let c0_i32_3128 : BitVec 32 := 0#32
  ![v2871.toNat, 0]

def k0_chk564 (i : grid0.Coords) (v2871 : BitVec 32) : Prop :=
  (∀ (k0_h2 : k0_cond2 i = 1#1), ∀ a, (k0_off572 v2871) a + S1x1024.size a ≤ S40960x1024.size a)
theorem k0_off572_inb : ∀ (i : grid0.Coords) (v2871 : BitVec 32) (k0_hw564 : k0_chk564 i v2871), ∀ (k0_h2 : k0_cond2 i = 1#1), ∀ a, (k0_off572 v2871) a + S1x1024.size a ≤ S40960x1024.size a := fun i v2871 k0_hw564 k0_h2 => k0_hw564 k0_h2

def k0_off573 (v2876 : BitVec 32) : Fin 2 → Nat :=
  let c0_i32_3133 : BitVec 32 := 0#32
  ![v2876.toNat, 0]

def k0_chk565 (i : grid0.Coords) (v2876 : BitVec 32) : Prop :=
  (∀ (k0_h2 : k0_cond2 i = 1#1), ∀ a, (k0_off573 v2876) a + S1x1024.size a ≤ S40960x1024.size a)
theorem k0_off573_inb : ∀ (i : grid0.Coords) (v2876 : BitVec 32) (k0_hw565 : k0_chk565 i v2876), ∀ (k0_h2 : k0_cond2 i = 1#1), ∀ a, (k0_off573 v2876) a + S1x1024.size a ≤ S40960x1024.size a := fun i v2876 k0_hw565 k0_h2 => k0_hw565 k0_h2

def k0_off574 (v2881 : BitVec 32) : Fin 2 → Nat :=
  let c0_i32_3139 : BitVec 32 := 0#32
  ![v2881.toNat, 0]

def k0_chk566 (i : grid0.Coords) (v2881 : BitVec 32) : Prop :=
  (∀ (k0_h2 : k0_cond2 i = 1#1), ∀ a, (k0_off574 v2881) a + S1x1024.size a ≤ S40960x1024.size a)
theorem k0_off574_inb : ∀ (i : grid0.Coords) (v2881 : BitVec 32) (k0_hw566 : k0_chk566 i v2881), ∀ (k0_h2 : k0_cond2 i = 1#1), ∀ a, (k0_off574 v2881) a + S1x1024.size a ≤ S40960x1024.size a := fun i v2881 k0_hw566 k0_h2 => k0_hw566 k0_h2

def k0_off575 (v2886 : BitVec 32) : Fin 2 → Nat :=
  let c0_i32_3144 : BitVec 32 := 0#32
  ![v2886.toNat, 0]

def k0_chk567 (i : grid0.Coords) (v2886 : BitVec 32) : Prop :=
  (∀ (k0_h2 : k0_cond2 i = 1#1), ∀ a, (k0_off575 v2886) a + S1x1024.size a ≤ S40960x1024.size a)
theorem k0_off575_inb : ∀ (i : grid0.Coords) (v2886 : BitVec 32) (k0_hw567 : k0_chk567 i v2886), ∀ (k0_h2 : k0_cond2 i = 1#1), ∀ a, (k0_off575 v2886) a + S1x1024.size a ≤ S40960x1024.size a := fun i v2886 k0_hw567 k0_h2 => k0_hw567 k0_h2

def k0_off576 (v2891 : BitVec 32) : Fin 2 → Nat :=
  let c0_i32_3150 : BitVec 32 := 0#32
  ![v2891.toNat, 0]

def k0_chk568 (i : grid0.Coords) (v2891 : BitVec 32) : Prop :=
  (∀ (k0_h2 : k0_cond2 i = 1#1), ∀ a, (k0_off576 v2891) a + S1x1024.size a ≤ S40960x1024.size a)
theorem k0_off576_inb : ∀ (i : grid0.Coords) (v2891 : BitVec 32) (k0_hw568 : k0_chk568 i v2891), ∀ (k0_h2 : k0_cond2 i = 1#1), ∀ a, (k0_off576 v2891) a + S1x1024.size a ≤ S40960x1024.size a := fun i v2891 k0_hw568 k0_h2 => k0_hw568 k0_h2

def k0_off577 (v2896 : BitVec 32) : Fin 2 → Nat :=
  let c0_i32_3155 : BitVec 32 := 0#32
  ![v2896.toNat, 0]

def k0_chk569 (i : grid0.Coords) (v2896 : BitVec 32) : Prop :=
  (∀ (k0_h2 : k0_cond2 i = 1#1), ∀ a, (k0_off577 v2896) a + S1x1024.size a ≤ S40960x1024.size a)
theorem k0_off577_inb : ∀ (i : grid0.Coords) (v2896 : BitVec 32) (k0_hw569 : k0_chk569 i v2896), ∀ (k0_h2 : k0_cond2 i = 1#1), ∀ a, (k0_off577 v2896) a + S1x1024.size a ≤ S40960x1024.size a := fun i v2896 k0_hw569 k0_h2 => k0_hw569 k0_h2

def k0_off578 (v2901 : BitVec 32) : Fin 2 → Nat :=
  let c0_i32_3161 : BitVec 32 := 0#32
  ![v2901.toNat, 0]

def k0_chk570 (i : grid0.Coords) (v2901 : BitVec 32) : Prop :=
  (∀ (k0_h2 : k0_cond2 i = 1#1), ∀ a, (k0_off578 v2901) a + S1x1024.size a ≤ S40960x1024.size a)
theorem k0_off578_inb : ∀ (i : grid0.Coords) (v2901 : BitVec 32) (k0_hw570 : k0_chk570 i v2901), ∀ (k0_h2 : k0_cond2 i = 1#1), ∀ a, (k0_off578 v2901) a + S1x1024.size a ≤ S40960x1024.size a := fun i v2901 k0_hw570 k0_h2 => k0_hw570 k0_h2

def k0_off579 (v2906 : BitVec 32) : Fin 2 → Nat :=
  let c0_i32_3166 : BitVec 32 := 0#32
  ![v2906.toNat, 0]

def k0_chk571 (i : grid0.Coords) (v2906 : BitVec 32) : Prop :=
  (∀ (k0_h2 : k0_cond2 i = 1#1), ∀ a, (k0_off579 v2906) a + S1x1024.size a ≤ S40960x1024.size a)
theorem k0_off579_inb : ∀ (i : grid0.Coords) (v2906 : BitVec 32) (k0_hw571 : k0_chk571 i v2906), ∀ (k0_h2 : k0_cond2 i = 1#1), ∀ a, (k0_off579 v2906) a + S1x1024.size a ≤ S40960x1024.size a := fun i v2906 k0_hw571 k0_h2 => k0_hw571 k0_h2

def k0_off580 (v2911 : BitVec 32) : Fin 2 → Nat :=
  let c0_i32_3172 : BitVec 32 := 0#32
  ![v2911.toNat, 0]

def k0_chk572 (i : grid0.Coords) (v2911 : BitVec 32) : Prop :=
  (∀ (k0_h2 : k0_cond2 i = 1#1), ∀ a, (k0_off580 v2911) a + S1x1024.size a ≤ S40960x1024.size a)
theorem k0_off580_inb : ∀ (i : grid0.Coords) (v2911 : BitVec 32) (k0_hw572 : k0_chk572 i v2911), ∀ (k0_h2 : k0_cond2 i = 1#1), ∀ a, (k0_off580 v2911) a + S1x1024.size a ≤ S40960x1024.size a := fun i v2911 k0_hw572 k0_h2 => k0_hw572 k0_h2

def k0_off581 (v2916 : BitVec 32) : Fin 2 → Nat :=
  let c0_i32_3177 : BitVec 32 := 0#32
  ![v2916.toNat, 0]

def k0_chk573 (i : grid0.Coords) (v2916 : BitVec 32) : Prop :=
  (∀ (k0_h2 : k0_cond2 i = 1#1), ∀ a, (k0_off581 v2916) a + S1x1024.size a ≤ S40960x1024.size a)
theorem k0_off581_inb : ∀ (i : grid0.Coords) (v2916 : BitVec 32) (k0_hw573 : k0_chk573 i v2916), ∀ (k0_h2 : k0_cond2 i = 1#1), ∀ a, (k0_off581 v2916) a + S1x1024.size a ≤ S40960x1024.size a := fun i v2916 k0_hw573 k0_h2 => k0_hw573 k0_h2

def k0_off582 (v2921 : BitVec 32) : Fin 2 → Nat :=
  let c0_i32_3183 : BitVec 32 := 0#32
  ![v2921.toNat, 0]

def k0_chk574 (i : grid0.Coords) (v2921 : BitVec 32) : Prop :=
  (∀ (k0_h2 : k0_cond2 i = 1#1), ∀ a, (k0_off582 v2921) a + S1x1024.size a ≤ S40960x1024.size a)
theorem k0_off582_inb : ∀ (i : grid0.Coords) (v2921 : BitVec 32) (k0_hw574 : k0_chk574 i v2921), ∀ (k0_h2 : k0_cond2 i = 1#1), ∀ a, (k0_off582 v2921) a + S1x1024.size a ≤ S40960x1024.size a := fun i v2921 k0_hw574 k0_h2 => k0_hw574 k0_h2

def k0_off583 (v2926 : BitVec 32) : Fin 2 → Nat :=
  let c0_i32_3188 : BitVec 32 := 0#32
  ![v2926.toNat, 0]

def k0_chk575 (i : grid0.Coords) (v2926 : BitVec 32) : Prop :=
  (∀ (k0_h2 : k0_cond2 i = 1#1), ∀ a, (k0_off583 v2926) a + S1x1024.size a ≤ S40960x1024.size a)
theorem k0_off583_inb : ∀ (i : grid0.Coords) (v2926 : BitVec 32) (k0_hw575 : k0_chk575 i v2926), ∀ (k0_h2 : k0_cond2 i = 1#1), ∀ a, (k0_off583 v2926) a + S1x1024.size a ≤ S40960x1024.size a := fun i v2926 k0_hw575 k0_h2 => k0_hw575 k0_h2

def k0_off584 (v2931 : BitVec 32) : Fin 2 → Nat :=
  let c0_i32_3194 : BitVec 32 := 0#32
  ![v2931.toNat, 0]

def k0_chk576 (i : grid0.Coords) (v2931 : BitVec 32) : Prop :=
  (∀ (k0_h2 : k0_cond2 i = 1#1), ∀ a, (k0_off584 v2931) a + S1x1024.size a ≤ S40960x1024.size a)
theorem k0_off584_inb : ∀ (i : grid0.Coords) (v2931 : BitVec 32) (k0_hw576 : k0_chk576 i v2931), ∀ (k0_h2 : k0_cond2 i = 1#1), ∀ a, (k0_off584 v2931) a + S1x1024.size a ≤ S40960x1024.size a := fun i v2931 k0_hw576 k0_h2 => k0_hw576 k0_h2

def k0_off585 (v2936 : BitVec 32) : Fin 2 → Nat :=
  let c0_i32_3199 : BitVec 32 := 0#32
  ![v2936.toNat, 0]

def k0_chk577 (i : grid0.Coords) (v2936 : BitVec 32) : Prop :=
  (∀ (k0_h2 : k0_cond2 i = 1#1), ∀ a, (k0_off585 v2936) a + S1x1024.size a ≤ S40960x1024.size a)
theorem k0_off585_inb : ∀ (i : grid0.Coords) (v2936 : BitVec 32) (k0_hw577 : k0_chk577 i v2936), ∀ (k0_h2 : k0_cond2 i = 1#1), ∀ a, (k0_off585 v2936) a + S1x1024.size a ≤ S40960x1024.size a := fun i v2936 k0_hw577 k0_h2 => k0_hw577 k0_h2

def k0_off586 (v2941 : BitVec 32) : Fin 2 → Nat :=
  let c0_i32_3205 : BitVec 32 := 0#32
  ![v2941.toNat, 0]

def k0_chk578 (i : grid0.Coords) (v2941 : BitVec 32) : Prop :=
  (∀ (k0_h2 : k0_cond2 i = 1#1), ∀ a, (k0_off586 v2941) a + S1x1024.size a ≤ S40960x1024.size a)
theorem k0_off586_inb : ∀ (i : grid0.Coords) (v2941 : BitVec 32) (k0_hw578 : k0_chk578 i v2941), ∀ (k0_h2 : k0_cond2 i = 1#1), ∀ a, (k0_off586 v2941) a + S1x1024.size a ≤ S40960x1024.size a := fun i v2941 k0_hw578 k0_h2 => k0_hw578 k0_h2

def k0_off587 (v2946 : BitVec 32) : Fin 2 → Nat :=
  let c0_i32_3210 : BitVec 32 := 0#32
  ![v2946.toNat, 0]

def k0_chk579 (i : grid0.Coords) (v2946 : BitVec 32) : Prop :=
  (∀ (k0_h2 : k0_cond2 i = 1#1), ∀ a, (k0_off587 v2946) a + S1x1024.size a ≤ S40960x1024.size a)
theorem k0_off587_inb : ∀ (i : grid0.Coords) (v2946 : BitVec 32) (k0_hw579 : k0_chk579 i v2946), ∀ (k0_h2 : k0_cond2 i = 1#1), ∀ a, (k0_off587 v2946) a + S1x1024.size a ≤ S40960x1024.size a := fun i v2946 k0_hw579 k0_h2 => k0_hw579 k0_h2

def k0_off588 (v2951 : BitVec 32) : Fin 2 → Nat :=
  let c0_i32_3216 : BitVec 32 := 0#32
  ![v2951.toNat, 0]

def k0_chk580 (i : grid0.Coords) (v2951 : BitVec 32) : Prop :=
  (∀ (k0_h2 : k0_cond2 i = 1#1), ∀ a, (k0_off588 v2951) a + S1x1024.size a ≤ S40960x1024.size a)
theorem k0_off588_inb : ∀ (i : grid0.Coords) (v2951 : BitVec 32) (k0_hw580 : k0_chk580 i v2951), ∀ (k0_h2 : k0_cond2 i = 1#1), ∀ a, (k0_off588 v2951) a + S1x1024.size a ≤ S40960x1024.size a := fun i v2951 k0_hw580 k0_h2 => k0_hw580 k0_h2

def k0_off589 (v2956 : BitVec 32) : Fin 2 → Nat :=
  let c0_i32_3221 : BitVec 32 := 0#32
  ![v2956.toNat, 0]

def k0_chk581 (i : grid0.Coords) (v2956 : BitVec 32) : Prop :=
  (∀ (k0_h2 : k0_cond2 i = 1#1), ∀ a, (k0_off589 v2956) a + S1x1024.size a ≤ S40960x1024.size a)
theorem k0_off589_inb : ∀ (i : grid0.Coords) (v2956 : BitVec 32) (k0_hw581 : k0_chk581 i v2956), ∀ (k0_h2 : k0_cond2 i = 1#1), ∀ a, (k0_off589 v2956) a + S1x1024.size a ≤ S40960x1024.size a := fun i v2956 k0_hw581 k0_h2 => k0_hw581 k0_h2

def k0_off590 (v2961 : BitVec 32) : Fin 2 → Nat :=
  let c0_i32_3227 : BitVec 32 := 0#32
  ![v2961.toNat, 0]

def k0_chk582 (i : grid0.Coords) (v2961 : BitVec 32) : Prop :=
  (∀ (k0_h2 : k0_cond2 i = 1#1), ∀ a, (k0_off590 v2961) a + S1x1024.size a ≤ S40960x1024.size a)
theorem k0_off590_inb : ∀ (i : grid0.Coords) (v2961 : BitVec 32) (k0_hw582 : k0_chk582 i v2961), ∀ (k0_h2 : k0_cond2 i = 1#1), ∀ a, (k0_off590 v2961) a + S1x1024.size a ≤ S40960x1024.size a := fun i v2961 k0_hw582 k0_h2 => k0_hw582 k0_h2

def k0_off591 (v2966 : BitVec 32) : Fin 2 → Nat :=
  let c0_i32_3232 : BitVec 32 := 0#32
  ![v2966.toNat, 0]

def k0_chk583 (i : grid0.Coords) (v2966 : BitVec 32) : Prop :=
  (∀ (k0_h2 : k0_cond2 i = 1#1), ∀ a, (k0_off591 v2966) a + S1x1024.size a ≤ S40960x1024.size a)
theorem k0_off591_inb : ∀ (i : grid0.Coords) (v2966 : BitVec 32) (k0_hw583 : k0_chk583 i v2966), ∀ (k0_h2 : k0_cond2 i = 1#1), ∀ a, (k0_off591 v2966) a + S1x1024.size a ≤ S40960x1024.size a := fun i v2966 k0_hw583 k0_h2 => k0_hw583 k0_h2

def k0_off592 (v2971 : BitVec 32) : Fin 2 → Nat :=
  let c0_i32_3238 : BitVec 32 := 0#32
  ![v2971.toNat, 0]

def k0_chk584 (i : grid0.Coords) (v2971 : BitVec 32) : Prop :=
  (∀ (k0_h2 : k0_cond2 i = 1#1), ∀ a, (k0_off592 v2971) a + S1x1024.size a ≤ S40960x1024.size a)
theorem k0_off592_inb : ∀ (i : grid0.Coords) (v2971 : BitVec 32) (k0_hw584 : k0_chk584 i v2971), ∀ (k0_h2 : k0_cond2 i = 1#1), ∀ a, (k0_off592 v2971) a + S1x1024.size a ≤ S40960x1024.size a := fun i v2971 k0_hw584 k0_h2 => k0_hw584 k0_h2

def k0_off593 (v2976 : BitVec 32) : Fin 2 → Nat :=
  let c0_i32_3243 : BitVec 32 := 0#32
  ![v2976.toNat, 0]

def k0_chk585 (i : grid0.Coords) (v2976 : BitVec 32) : Prop :=
  (∀ (k0_h2 : k0_cond2 i = 1#1), ∀ a, (k0_off593 v2976) a + S1x1024.size a ≤ S40960x1024.size a)
theorem k0_off593_inb : ∀ (i : grid0.Coords) (v2976 : BitVec 32) (k0_hw585 : k0_chk585 i v2976), ∀ (k0_h2 : k0_cond2 i = 1#1), ∀ a, (k0_off593 v2976) a + S1x1024.size a ≤ S40960x1024.size a := fun i v2976 k0_hw585 k0_h2 => k0_hw585 k0_h2

def k0_off594 (v2981 : BitVec 32) : Fin 2 → Nat :=
  let c0_i32_3249 : BitVec 32 := 0#32
  ![v2981.toNat, 0]

def k0_chk586 (i : grid0.Coords) (v2981 : BitVec 32) : Prop :=
  (∀ (k0_h2 : k0_cond2 i = 1#1), ∀ a, (k0_off594 v2981) a + S1x1024.size a ≤ S40960x1024.size a)
theorem k0_off594_inb : ∀ (i : grid0.Coords) (v2981 : BitVec 32) (k0_hw586 : k0_chk586 i v2981), ∀ (k0_h2 : k0_cond2 i = 1#1), ∀ a, (k0_off594 v2981) a + S1x1024.size a ≤ S40960x1024.size a := fun i v2981 k0_hw586 k0_h2 => k0_hw586 k0_h2

def k0_off595 (v2986 : BitVec 32) : Fin 2 → Nat :=
  let c0_i32_3254 : BitVec 32 := 0#32
  ![v2986.toNat, 0]

def k0_chk587 (i : grid0.Coords) (v2986 : BitVec 32) : Prop :=
  (∀ (k0_h2 : k0_cond2 i = 1#1), ∀ a, (k0_off595 v2986) a + S1x1024.size a ≤ S40960x1024.size a)
theorem k0_off595_inb : ∀ (i : grid0.Coords) (v2986 : BitVec 32) (k0_hw587 : k0_chk587 i v2986), ∀ (k0_h2 : k0_cond2 i = 1#1), ∀ a, (k0_off595 v2986) a + S1x1024.size a ≤ S40960x1024.size a := fun i v2986 k0_hw587 k0_h2 => k0_hw587 k0_h2

def k0_off596 (v2991 : BitVec 32) : Fin 2 → Nat :=
  let c0_i32_3260 : BitVec 32 := 0#32
  ![v2991.toNat, 0]

def k0_chk588 (i : grid0.Coords) (v2991 : BitVec 32) : Prop :=
  (∀ (k0_h2 : k0_cond2 i = 1#1), ∀ a, (k0_off596 v2991) a + S1x1024.size a ≤ S40960x1024.size a)
theorem k0_off596_inb : ∀ (i : grid0.Coords) (v2991 : BitVec 32) (k0_hw588 : k0_chk588 i v2991), ∀ (k0_h2 : k0_cond2 i = 1#1), ∀ a, (k0_off596 v2991) a + S1x1024.size a ≤ S40960x1024.size a := fun i v2991 k0_hw588 k0_h2 => k0_hw588 k0_h2

def k0_off597 (v2996 : BitVec 32) : Fin 2 → Nat :=
  let c0_i32_3265 : BitVec 32 := 0#32
  ![v2996.toNat, 0]

def k0_chk589 (i : grid0.Coords) (v2996 : BitVec 32) : Prop :=
  (∀ (k0_h2 : k0_cond2 i = 1#1), ∀ a, (k0_off597 v2996) a + S1x1024.size a ≤ S40960x1024.size a)
theorem k0_off597_inb : ∀ (i : grid0.Coords) (v2996 : BitVec 32) (k0_hw589 : k0_chk589 i v2996), ∀ (k0_h2 : k0_cond2 i = 1#1), ∀ a, (k0_off597 v2996) a + S1x1024.size a ≤ S40960x1024.size a := fun i v2996 k0_hw589 k0_h2 => k0_hw589 k0_h2

def k0_off598 (v3001 : BitVec 32) : Fin 2 → Nat :=
  let c0_i32_3271 : BitVec 32 := 0#32
  ![v3001.toNat, 0]

def k0_chk590 (i : grid0.Coords) (v3001 : BitVec 32) : Prop :=
  (∀ (k0_h2 : k0_cond2 i = 1#1), ∀ a, (k0_off598 v3001) a + S1x1024.size a ≤ S40960x1024.size a)
theorem k0_off598_inb : ∀ (i : grid0.Coords) (v3001 : BitVec 32) (k0_hw590 : k0_chk590 i v3001), ∀ (k0_h2 : k0_cond2 i = 1#1), ∀ a, (k0_off598 v3001) a + S1x1024.size a ≤ S40960x1024.size a := fun i v3001 k0_hw590 k0_h2 => k0_hw590 k0_h2

def k0_off599 (v3006 : BitVec 32) : Fin 2 → Nat :=
  let c0_i32_3276 : BitVec 32 := 0#32
  ![v3006.toNat, 0]

def k0_chk591 (i : grid0.Coords) (v3006 : BitVec 32) : Prop :=
  (∀ (k0_h2 : k0_cond2 i = 1#1), ∀ a, (k0_off599 v3006) a + S1x1024.size a ≤ S40960x1024.size a)
theorem k0_off599_inb : ∀ (i : grid0.Coords) (v3006 : BitVec 32) (k0_hw591 : k0_chk591 i v3006), ∀ (k0_h2 : k0_cond2 i = 1#1), ∀ a, (k0_off599 v3006) a + S1x1024.size a ≤ S40960x1024.size a := fun i v3006 k0_hw591 k0_h2 => k0_hw591 k0_h2

def k0_off600 (v3011 : BitVec 32) : Fin 2 → Nat :=
  let c0_i32_3282 : BitVec 32 := 0#32
  ![v3011.toNat, 0]

def k0_chk592 (i : grid0.Coords) (v3011 : BitVec 32) : Prop :=
  (∀ (k0_h2 : k0_cond2 i = 1#1), ∀ a, (k0_off600 v3011) a + S1x1024.size a ≤ S40960x1024.size a)
theorem k0_off600_inb : ∀ (i : grid0.Coords) (v3011 : BitVec 32) (k0_hw592 : k0_chk592 i v3011), ∀ (k0_h2 : k0_cond2 i = 1#1), ∀ a, (k0_off600 v3011) a + S1x1024.size a ≤ S40960x1024.size a := fun i v3011 k0_hw592 k0_h2 => k0_hw592 k0_h2

def k0_off601 (v3016 : BitVec 32) : Fin 2 → Nat :=
  let c0_i32_3287 : BitVec 32 := 0#32
  ![v3016.toNat, 0]

def k0_chk593 (i : grid0.Coords) (v3016 : BitVec 32) : Prop :=
  (∀ (k0_h2 : k0_cond2 i = 1#1), ∀ a, (k0_off601 v3016) a + S1x1024.size a ≤ S40960x1024.size a)
theorem k0_off601_inb : ∀ (i : grid0.Coords) (v3016 : BitVec 32) (k0_hw593 : k0_chk593 i v3016), ∀ (k0_h2 : k0_cond2 i = 1#1), ∀ a, (k0_off601 v3016) a + S1x1024.size a ≤ S40960x1024.size a := fun i v3016 k0_hw593 k0_h2 => k0_hw593 k0_h2

def k0_off602 (v3021 : BitVec 32) : Fin 2 → Nat :=
  let c0_i32_3293 : BitVec 32 := 0#32
  ![v3021.toNat, 0]

def k0_chk594 (i : grid0.Coords) (v3021 : BitVec 32) : Prop :=
  (∀ (k0_h2 : k0_cond2 i = 1#1), ∀ a, (k0_off602 v3021) a + S1x1024.size a ≤ S40960x1024.size a)
theorem k0_off602_inb : ∀ (i : grid0.Coords) (v3021 : BitVec 32) (k0_hw594 : k0_chk594 i v3021), ∀ (k0_h2 : k0_cond2 i = 1#1), ∀ a, (k0_off602 v3021) a + S1x1024.size a ≤ S40960x1024.size a := fun i v3021 k0_hw594 k0_h2 => k0_hw594 k0_h2

def k0_off603 (v3026 : BitVec 32) : Fin 2 → Nat :=
  let c0_i32_3298 : BitVec 32 := 0#32
  ![v3026.toNat, 0]

def k0_chk595 (i : grid0.Coords) (v3026 : BitVec 32) : Prop :=
  (∀ (k0_h2 : k0_cond2 i = 1#1), ∀ a, (k0_off603 v3026) a + S1x1024.size a ≤ S40960x1024.size a)
theorem k0_off603_inb : ∀ (i : grid0.Coords) (v3026 : BitVec 32) (k0_hw595 : k0_chk595 i v3026), ∀ (k0_h2 : k0_cond2 i = 1#1), ∀ a, (k0_off603 v3026) a + S1x1024.size a ≤ S40960x1024.size a := fun i v3026 k0_hw595 k0_h2 => k0_hw595 k0_h2

def k0_off604 (v3031 : BitVec 32) : Fin 2 → Nat :=
  let c0_i32_3304 : BitVec 32 := 0#32
  ![v3031.toNat, 0]

def k0_chk596 (i : grid0.Coords) (v3031 : BitVec 32) : Prop :=
  (∀ (k0_h2 : k0_cond2 i = 1#1), ∀ a, (k0_off604 v3031) a + S1x1024.size a ≤ S40960x1024.size a)
theorem k0_off604_inb : ∀ (i : grid0.Coords) (v3031 : BitVec 32) (k0_hw596 : k0_chk596 i v3031), ∀ (k0_h2 : k0_cond2 i = 1#1), ∀ a, (k0_off604 v3031) a + S1x1024.size a ≤ S40960x1024.size a := fun i v3031 k0_hw596 k0_h2 => k0_hw596 k0_h2

def k0_off605 (v3036 : BitVec 32) : Fin 2 → Nat :=
  let c0_i32_3309 : BitVec 32 := 0#32
  ![v3036.toNat, 0]

def k0_chk597 (i : grid0.Coords) (v3036 : BitVec 32) : Prop :=
  (∀ (k0_h2 : k0_cond2 i = 1#1), ∀ a, (k0_off605 v3036) a + S1x1024.size a ≤ S40960x1024.size a)
theorem k0_off605_inb : ∀ (i : grid0.Coords) (v3036 : BitVec 32) (k0_hw597 : k0_chk597 i v3036), ∀ (k0_h2 : k0_cond2 i = 1#1), ∀ a, (k0_off605 v3036) a + S1x1024.size a ≤ S40960x1024.size a := fun i v3036 k0_hw597 k0_h2 => k0_hw597 k0_h2

def k0_off606 (v3041 : BitVec 32) : Fin 2 → Nat :=
  let c0_i32_3315 : BitVec 32 := 0#32
  ![v3041.toNat, 0]

def k0_chk598 (i : grid0.Coords) (v3041 : BitVec 32) : Prop :=
  (∀ (k0_h2 : k0_cond2 i = 1#1), ∀ a, (k0_off606 v3041) a + S1x1024.size a ≤ S40960x1024.size a)
theorem k0_off606_inb : ∀ (i : grid0.Coords) (v3041 : BitVec 32) (k0_hw598 : k0_chk598 i v3041), ∀ (k0_h2 : k0_cond2 i = 1#1), ∀ a, (k0_off606 v3041) a + S1x1024.size a ≤ S40960x1024.size a := fun i v3041 k0_hw598 k0_h2 => k0_hw598 k0_h2

def k0_off607 (v3046 : BitVec 32) : Fin 2 → Nat :=
  let c0_i32_3320 : BitVec 32 := 0#32
  ![v3046.toNat, 0]

def k0_chk599 (i : grid0.Coords) (v3046 : BitVec 32) : Prop :=
  (∀ (k0_h2 : k0_cond2 i = 1#1), ∀ a, (k0_off607 v3046) a + S1x1024.size a ≤ S40960x1024.size a)
theorem k0_off607_inb : ∀ (i : grid0.Coords) (v3046 : BitVec 32) (k0_hw599 : k0_chk599 i v3046), ∀ (k0_h2 : k0_cond2 i = 1#1), ∀ a, (k0_off607 v3046) a + S1x1024.size a ≤ S40960x1024.size a := fun i v3046 k0_hw599 k0_h2 => k0_hw599 k0_h2

def k0_off608 (v3051 : BitVec 32) : Fin 2 → Nat :=
  let c0_i32_3326 : BitVec 32 := 0#32
  ![v3051.toNat, 0]

def k0_chk600 (i : grid0.Coords) (v3051 : BitVec 32) : Prop :=
  (∀ (k0_h2 : k0_cond2 i = 1#1), ∀ a, (k0_off608 v3051) a + S1x1024.size a ≤ S40960x1024.size a)
theorem k0_off608_inb : ∀ (i : grid0.Coords) (v3051 : BitVec 32) (k0_hw600 : k0_chk600 i v3051), ∀ (k0_h2 : k0_cond2 i = 1#1), ∀ a, (k0_off608 v3051) a + S1x1024.size a ≤ S40960x1024.size a := fun i v3051 k0_hw600 k0_h2 => k0_hw600 k0_h2

def k0_off609 (v3056 : BitVec 32) : Fin 2 → Nat :=
  let c0_i32_3331 : BitVec 32 := 0#32
  ![v3056.toNat, 0]

def k0_chk601 (i : grid0.Coords) (v3056 : BitVec 32) : Prop :=
  (∀ (k0_h2 : k0_cond2 i = 1#1), ∀ a, (k0_off609 v3056) a + S1x1024.size a ≤ S40960x1024.size a)
theorem k0_off609_inb : ∀ (i : grid0.Coords) (v3056 : BitVec 32) (k0_hw601 : k0_chk601 i v3056), ∀ (k0_h2 : k0_cond2 i = 1#1), ∀ a, (k0_off609 v3056) a + S1x1024.size a ≤ S40960x1024.size a := fun i v3056 k0_hw601 k0_h2 => k0_hw601 k0_h2

def k0_off610 (v3061 : BitVec 32) : Fin 2 → Nat :=
  let c0_i32_3337 : BitVec 32 := 0#32
  ![v3061.toNat, 0]

def k0_chk602 (i : grid0.Coords) (v3061 : BitVec 32) : Prop :=
  (∀ (k0_h2 : k0_cond2 i = 1#1), ∀ a, (k0_off610 v3061) a + S1x1024.size a ≤ S40960x1024.size a)
theorem k0_off610_inb : ∀ (i : grid0.Coords) (v3061 : BitVec 32) (k0_hw602 : k0_chk602 i v3061), ∀ (k0_h2 : k0_cond2 i = 1#1), ∀ a, (k0_off610 v3061) a + S1x1024.size a ≤ S40960x1024.size a := fun i v3061 k0_hw602 k0_h2 => k0_hw602 k0_h2

def k0_off611 (v3066 : BitVec 32) : Fin 2 → Nat :=
  let c0_i32_3342 : BitVec 32 := 0#32
  ![v3066.toNat, 0]

def k0_chk603 (i : grid0.Coords) (v3066 : BitVec 32) : Prop :=
  (∀ (k0_h2 : k0_cond2 i = 1#1), ∀ a, (k0_off611 v3066) a + S1x1024.size a ≤ S40960x1024.size a)
theorem k0_off611_inb : ∀ (i : grid0.Coords) (v3066 : BitVec 32) (k0_hw603 : k0_chk603 i v3066), ∀ (k0_h2 : k0_cond2 i = 1#1), ∀ a, (k0_off611 v3066) a + S1x1024.size a ≤ S40960x1024.size a := fun i v3066 k0_hw603 k0_h2 => k0_hw603 k0_h2

def k0_off612 (v3071 : BitVec 32) : Fin 2 → Nat :=
  let c0_i32_3348 : BitVec 32 := 0#32
  ![v3071.toNat, 0]

def k0_chk604 (i : grid0.Coords) (v3071 : BitVec 32) : Prop :=
  (∀ (k0_h2 : k0_cond2 i = 1#1), ∀ a, (k0_off612 v3071) a + S1x1024.size a ≤ S40960x1024.size a)
theorem k0_off612_inb : ∀ (i : grid0.Coords) (v3071 : BitVec 32) (k0_hw604 : k0_chk604 i v3071), ∀ (k0_h2 : k0_cond2 i = 1#1), ∀ a, (k0_off612 v3071) a + S1x1024.size a ≤ S40960x1024.size a := fun i v3071 k0_hw604 k0_h2 => k0_hw604 k0_h2

def k0_off613 (v3076 : BitVec 32) : Fin 2 → Nat :=
  let c0_i32_3353 : BitVec 32 := 0#32
  ![v3076.toNat, 0]

def k0_chk605 (i : grid0.Coords) (v3076 : BitVec 32) : Prop :=
  (∀ (k0_h2 : k0_cond2 i = 1#1), ∀ a, (k0_off613 v3076) a + S1x1024.size a ≤ S40960x1024.size a)
theorem k0_off613_inb : ∀ (i : grid0.Coords) (v3076 : BitVec 32) (k0_hw605 : k0_chk605 i v3076), ∀ (k0_h2 : k0_cond2 i = 1#1), ∀ a, (k0_off613 v3076) a + S1x1024.size a ≤ S40960x1024.size a := fun i v3076 k0_hw605 k0_h2 => k0_hw605 k0_h2

def k0_off614 (v3081 : BitVec 32) : Fin 2 → Nat :=
  let c0_i32_3359 : BitVec 32 := 0#32
  ![v3081.toNat, 0]

def k0_chk606 (i : grid0.Coords) (v3081 : BitVec 32) : Prop :=
  (∀ (k0_h2 : k0_cond2 i = 1#1), ∀ a, (k0_off614 v3081) a + S1x1024.size a ≤ S40960x1024.size a)
theorem k0_off614_inb : ∀ (i : grid0.Coords) (v3081 : BitVec 32) (k0_hw606 : k0_chk606 i v3081), ∀ (k0_h2 : k0_cond2 i = 1#1), ∀ a, (k0_off614 v3081) a + S1x1024.size a ≤ S40960x1024.size a := fun i v3081 k0_hw606 k0_h2 => k0_hw606 k0_h2

def k0_off615 (v3086 : BitVec 32) : Fin 2 → Nat :=
  let c0_i32_3364 : BitVec 32 := 0#32
  ![v3086.toNat, 0]

def k0_chk607 (i : grid0.Coords) (v3086 : BitVec 32) : Prop :=
  (∀ (k0_h2 : k0_cond2 i = 1#1), ∀ a, (k0_off615 v3086) a + S1x1024.size a ≤ S40960x1024.size a)
theorem k0_off615_inb : ∀ (i : grid0.Coords) (v3086 : BitVec 32) (k0_hw607 : k0_chk607 i v3086), ∀ (k0_h2 : k0_cond2 i = 1#1), ∀ a, (k0_off615 v3086) a + S1x1024.size a ≤ S40960x1024.size a := fun i v3086 k0_hw607 k0_h2 => k0_hw607 k0_h2

def k0_off616 (v3091 : BitVec 32) : Fin 2 → Nat :=
  let c0_i32_3370 : BitVec 32 := 0#32
  ![v3091.toNat, 0]

def k0_chk608 (i : grid0.Coords) (v3091 : BitVec 32) : Prop :=
  (∀ (k0_h2 : k0_cond2 i = 1#1), ∀ a, (k0_off616 v3091) a + S1x1024.size a ≤ S40960x1024.size a)
theorem k0_off616_inb : ∀ (i : grid0.Coords) (v3091 : BitVec 32) (k0_hw608 : k0_chk608 i v3091), ∀ (k0_h2 : k0_cond2 i = 1#1), ∀ a, (k0_off616 v3091) a + S1x1024.size a ≤ S40960x1024.size a := fun i v3091 k0_hw608 k0_h2 => k0_hw608 k0_h2

def k0_off617 (v3096 : BitVec 32) : Fin 2 → Nat :=
  let c0_i32_3375 : BitVec 32 := 0#32
  ![v3096.toNat, 0]

def k0_chk609 (i : grid0.Coords) (v3096 : BitVec 32) : Prop :=
  (∀ (k0_h2 : k0_cond2 i = 1#1), ∀ a, (k0_off617 v3096) a + S1x1024.size a ≤ S40960x1024.size a)
theorem k0_off617_inb : ∀ (i : grid0.Coords) (v3096 : BitVec 32) (k0_hw609 : k0_chk609 i v3096), ∀ (k0_h2 : k0_cond2 i = 1#1), ∀ a, (k0_off617 v3096) a + S1x1024.size a ≤ S40960x1024.size a := fun i v3096 k0_hw609 k0_h2 => k0_hw609 k0_h2

def k0_off618 (v3101 : BitVec 32) : Fin 2 → Nat :=
  let c0_i32_3381 : BitVec 32 := 0#32
  ![v3101.toNat, 0]

def k0_chk610 (i : grid0.Coords) (v3101 : BitVec 32) : Prop :=
  (∀ (k0_h2 : k0_cond2 i = 1#1), ∀ a, (k0_off618 v3101) a + S1x1024.size a ≤ S40960x1024.size a)
theorem k0_off618_inb : ∀ (i : grid0.Coords) (v3101 : BitVec 32) (k0_hw610 : k0_chk610 i v3101), ∀ (k0_h2 : k0_cond2 i = 1#1), ∀ a, (k0_off618 v3101) a + S1x1024.size a ≤ S40960x1024.size a := fun i v3101 k0_hw610 k0_h2 => k0_hw610 k0_h2

def k0_off619 (v3106 : BitVec 32) : Fin 2 → Nat :=
  let c0_i32_3386 : BitVec 32 := 0#32
  ![v3106.toNat, 0]

def k0_chk611 (i : grid0.Coords) (v3106 : BitVec 32) : Prop :=
  (∀ (k0_h2 : k0_cond2 i = 1#1), ∀ a, (k0_off619 v3106) a + S1x1024.size a ≤ S40960x1024.size a)
theorem k0_off619_inb : ∀ (i : grid0.Coords) (v3106 : BitVec 32) (k0_hw611 : k0_chk611 i v3106), ∀ (k0_h2 : k0_cond2 i = 1#1), ∀ a, (k0_off619 v3106) a + S1x1024.size a ≤ S40960x1024.size a := fun i v3106 k0_hw611 k0_h2 => k0_hw611 k0_h2

def k0_off620 (v3111 : BitVec 32) : Fin 2 → Nat :=
  let c0_i32_3392 : BitVec 32 := 0#32
  ![v3111.toNat, 0]

def k0_chk612 (i : grid0.Coords) (v3111 : BitVec 32) : Prop :=
  (∀ (k0_h2 : k0_cond2 i = 1#1), ∀ a, (k0_off620 v3111) a + S1x1024.size a ≤ S40960x1024.size a)
theorem k0_off620_inb : ∀ (i : grid0.Coords) (v3111 : BitVec 32) (k0_hw612 : k0_chk612 i v3111), ∀ (k0_h2 : k0_cond2 i = 1#1), ∀ a, (k0_off620 v3111) a + S1x1024.size a ≤ S40960x1024.size a := fun i v3111 k0_hw612 k0_h2 => k0_hw612 k0_h2

def k0_off621 (v3116 : BitVec 32) : Fin 2 → Nat :=
  let c0_i32_3397 : BitVec 32 := 0#32
  ![v3116.toNat, 0]

def k0_chk613 (i : grid0.Coords) (v3116 : BitVec 32) : Prop :=
  (∀ (k0_h2 : k0_cond2 i = 1#1), ∀ a, (k0_off621 v3116) a + S1x1024.size a ≤ S40960x1024.size a)
theorem k0_off621_inb : ∀ (i : grid0.Coords) (v3116 : BitVec 32) (k0_hw613 : k0_chk613 i v3116), ∀ (k0_h2 : k0_cond2 i = 1#1), ∀ a, (k0_off621 v3116) a + S1x1024.size a ≤ S40960x1024.size a := fun i v3116 k0_hw613 k0_h2 => k0_hw613 k0_h2

def k0_off622 (v3121 : BitVec 32) : Fin 2 → Nat :=
  let c0_i32_3403 : BitVec 32 := 0#32
  ![v3121.toNat, 0]

def k0_chk614 (i : grid0.Coords) (v3121 : BitVec 32) : Prop :=
  (∀ (k0_h2 : k0_cond2 i = 1#1), ∀ a, (k0_off622 v3121) a + S1x1024.size a ≤ S40960x1024.size a)
theorem k0_off622_inb : ∀ (i : grid0.Coords) (v3121 : BitVec 32) (k0_hw614 : k0_chk614 i v3121), ∀ (k0_h2 : k0_cond2 i = 1#1), ∀ a, (k0_off622 v3121) a + S1x1024.size a ≤ S40960x1024.size a := fun i v3121 k0_hw614 k0_h2 => k0_hw614 k0_h2

def k0_off623 (v3126 : BitVec 32) : Fin 2 → Nat :=
  let c0_i32_3408 : BitVec 32 := 0#32
  ![v3126.toNat, 0]

def k0_chk615 (i : grid0.Coords) (v3126 : BitVec 32) : Prop :=
  (∀ (k0_h2 : k0_cond2 i = 1#1), ∀ a, (k0_off623 v3126) a + S1x1024.size a ≤ S40960x1024.size a)
theorem k0_off623_inb : ∀ (i : grid0.Coords) (v3126 : BitVec 32) (k0_hw615 : k0_chk615 i v3126), ∀ (k0_h2 : k0_cond2 i = 1#1), ∀ a, (k0_off623 v3126) a + S1x1024.size a ≤ S40960x1024.size a := fun i v3126 k0_hw615 k0_h2 => k0_hw615 k0_h2

def k0_off624 (v3131 : BitVec 32) : Fin 2 → Nat :=
  let c0_i32_3414 : BitVec 32 := 0#32
  ![v3131.toNat, 0]

def k0_chk616 (i : grid0.Coords) (v3131 : BitVec 32) : Prop :=
  (∀ (k0_h2 : k0_cond2 i = 1#1), ∀ a, (k0_off624 v3131) a + S1x1024.size a ≤ S40960x1024.size a)
theorem k0_off624_inb : ∀ (i : grid0.Coords) (v3131 : BitVec 32) (k0_hw616 : k0_chk616 i v3131), ∀ (k0_h2 : k0_cond2 i = 1#1), ∀ a, (k0_off624 v3131) a + S1x1024.size a ≤ S40960x1024.size a := fun i v3131 k0_hw616 k0_h2 => k0_hw616 k0_h2

def k0_off625 (v3136 : BitVec 32) : Fin 2 → Nat :=
  let c0_i32_3419 : BitVec 32 := 0#32
  ![v3136.toNat, 0]

def k0_chk617 (i : grid0.Coords) (v3136 : BitVec 32) : Prop :=
  (∀ (k0_h2 : k0_cond2 i = 1#1), ∀ a, (k0_off625 v3136) a + S1x1024.size a ≤ S40960x1024.size a)
theorem k0_off625_inb : ∀ (i : grid0.Coords) (v3136 : BitVec 32) (k0_hw617 : k0_chk617 i v3136), ∀ (k0_h2 : k0_cond2 i = 1#1), ∀ a, (k0_off625 v3136) a + S1x1024.size a ≤ S40960x1024.size a := fun i v3136 k0_hw617 k0_h2 => k0_hw617 k0_h2

def k0_off626 (v3141 : BitVec 32) : Fin 2 → Nat :=
  let c0_i32_3425 : BitVec 32 := 0#32
  ![v3141.toNat, 0]

def k0_chk618 (i : grid0.Coords) (v3141 : BitVec 32) : Prop :=
  (∀ (k0_h2 : k0_cond2 i = 1#1), ∀ a, (k0_off626 v3141) a + S1x1024.size a ≤ S40960x1024.size a)
theorem k0_off626_inb : ∀ (i : grid0.Coords) (v3141 : BitVec 32) (k0_hw618 : k0_chk618 i v3141), ∀ (k0_h2 : k0_cond2 i = 1#1), ∀ a, (k0_off626 v3141) a + S1x1024.size a ≤ S40960x1024.size a := fun i v3141 k0_hw618 k0_h2 => k0_hw618 k0_h2

def k0_off627 (v3146 : BitVec 32) : Fin 2 → Nat :=
  let c0_i32_3430 : BitVec 32 := 0#32
  ![v3146.toNat, 0]

def k0_chk619 (i : grid0.Coords) (v3146 : BitVec 32) : Prop :=
  (∀ (k0_h2 : k0_cond2 i = 1#1), ∀ a, (k0_off627 v3146) a + S1x1024.size a ≤ S40960x1024.size a)
theorem k0_off627_inb : ∀ (i : grid0.Coords) (v3146 : BitVec 32) (k0_hw619 : k0_chk619 i v3146), ∀ (k0_h2 : k0_cond2 i = 1#1), ∀ a, (k0_off627 v3146) a + S1x1024.size a ≤ S40960x1024.size a := fun i v3146 k0_hw619 k0_h2 => k0_hw619 k0_h2

def k0_off628 (v3151 : BitVec 32) : Fin 2 → Nat :=
  let c0_i32_3436 : BitVec 32 := 0#32
  ![v3151.toNat, 0]

def k0_chk620 (i : grid0.Coords) (v3151 : BitVec 32) : Prop :=
  (∀ (k0_h2 : k0_cond2 i = 1#1), ∀ a, (k0_off628 v3151) a + S1x1024.size a ≤ S40960x1024.size a)
theorem k0_off628_inb : ∀ (i : grid0.Coords) (v3151 : BitVec 32) (k0_hw620 : k0_chk620 i v3151), ∀ (k0_h2 : k0_cond2 i = 1#1), ∀ a, (k0_off628 v3151) a + S1x1024.size a ≤ S40960x1024.size a := fun i v3151 k0_hw620 k0_h2 => k0_hw620 k0_h2

def k0_off629 (v3156 : BitVec 32) : Fin 2 → Nat :=
  let c0_i32_3441 : BitVec 32 := 0#32
  ![v3156.toNat, 0]

def k0_chk621 (i : grid0.Coords) (v3156 : BitVec 32) : Prop :=
  (∀ (k0_h2 : k0_cond2 i = 1#1), ∀ a, (k0_off629 v3156) a + S1x1024.size a ≤ S40960x1024.size a)
theorem k0_off629_inb : ∀ (i : grid0.Coords) (v3156 : BitVec 32) (k0_hw621 : k0_chk621 i v3156), ∀ (k0_h2 : k0_cond2 i = 1#1), ∀ a, (k0_off629 v3156) a + S1x1024.size a ≤ S40960x1024.size a := fun i v3156 k0_hw621 k0_h2 => k0_hw621 k0_h2

def k0_off630 (v3161 : BitVec 32) : Fin 2 → Nat :=
  let c0_i32_3447 : BitVec 32 := 0#32
  ![v3161.toNat, 0]

def k0_chk622 (i : grid0.Coords) (v3161 : BitVec 32) : Prop :=
  (∀ (k0_h2 : k0_cond2 i = 1#1), ∀ a, (k0_off630 v3161) a + S1x1024.size a ≤ S40960x1024.size a)
theorem k0_off630_inb : ∀ (i : grid0.Coords) (v3161 : BitVec 32) (k0_hw622 : k0_chk622 i v3161), ∀ (k0_h2 : k0_cond2 i = 1#1), ∀ a, (k0_off630 v3161) a + S1x1024.size a ≤ S40960x1024.size a := fun i v3161 k0_hw622 k0_h2 => k0_hw622 k0_h2

def k0_off631 (v3166 : BitVec 32) : Fin 2 → Nat :=
  let c0_i32_3452 : BitVec 32 := 0#32
  ![v3166.toNat, 0]

def k0_chk623 (i : grid0.Coords) (v3166 : BitVec 32) : Prop :=
  (∀ (k0_h2 : k0_cond2 i = 1#1), ∀ a, (k0_off631 v3166) a + S1x1024.size a ≤ S40960x1024.size a)
theorem k0_off631_inb : ∀ (i : grid0.Coords) (v3166 : BitVec 32) (k0_hw623 : k0_chk623 i v3166), ∀ (k0_h2 : k0_cond2 i = 1#1), ∀ a, (k0_off631 v3166) a + S1x1024.size a ≤ S40960x1024.size a := fun i v3166 k0_hw623 k0_h2 => k0_hw623 k0_h2

def k0_off632 (v3171 : BitVec 32) : Fin 2 → Nat :=
  let c0_i32_3458 : BitVec 32 := 0#32
  ![v3171.toNat, 0]

def k0_chk624 (i : grid0.Coords) (v3171 : BitVec 32) : Prop :=
  (∀ (k0_h2 : k0_cond2 i = 1#1), ∀ a, (k0_off632 v3171) a + S1x1024.size a ≤ S40960x1024.size a)
theorem k0_off632_inb : ∀ (i : grid0.Coords) (v3171 : BitVec 32) (k0_hw624 : k0_chk624 i v3171), ∀ (k0_h2 : k0_cond2 i = 1#1), ∀ a, (k0_off632 v3171) a + S1x1024.size a ≤ S40960x1024.size a := fun i v3171 k0_hw624 k0_h2 => k0_hw624 k0_h2

def k0_off633 (v3176 : BitVec 32) : Fin 2 → Nat :=
  let c0_i32_3463 : BitVec 32 := 0#32
  ![v3176.toNat, 0]

def k0_chk625 (i : grid0.Coords) (v3176 : BitVec 32) : Prop :=
  (∀ (k0_h2 : k0_cond2 i = 1#1), ∀ a, (k0_off633 v3176) a + S1x1024.size a ≤ S40960x1024.size a)
theorem k0_off633_inb : ∀ (i : grid0.Coords) (v3176 : BitVec 32) (k0_hw625 : k0_chk625 i v3176), ∀ (k0_h2 : k0_cond2 i = 1#1), ∀ a, (k0_off633 v3176) a + S1x1024.size a ≤ S40960x1024.size a := fun i v3176 k0_hw625 k0_h2 => k0_hw625 k0_h2

def k0_off634 (v3181 : BitVec 32) : Fin 2 → Nat :=
  let c0_i32_3469 : BitVec 32 := 0#32
  ![v3181.toNat, 0]

def k0_chk626 (i : grid0.Coords) (v3181 : BitVec 32) : Prop :=
  (∀ (k0_h2 : k0_cond2 i = 1#1), ∀ a, (k0_off634 v3181) a + S1x1024.size a ≤ S40960x1024.size a)
theorem k0_off634_inb : ∀ (i : grid0.Coords) (v3181 : BitVec 32) (k0_hw626 : k0_chk626 i v3181), ∀ (k0_h2 : k0_cond2 i = 1#1), ∀ a, (k0_off634 v3181) a + S1x1024.size a ≤ S40960x1024.size a := fun i v3181 k0_hw626 k0_h2 => k0_hw626 k0_h2

def k0_off635 (v3186 : BitVec 32) : Fin 2 → Nat :=
  let c0_i32_3474 : BitVec 32 := 0#32
  ![v3186.toNat, 0]

def k0_chk627 (i : grid0.Coords) (v3186 : BitVec 32) : Prop :=
  (∀ (k0_h2 : k0_cond2 i = 1#1), ∀ a, (k0_off635 v3186) a + S1x1024.size a ≤ S40960x1024.size a)
theorem k0_off635_inb : ∀ (i : grid0.Coords) (v3186 : BitVec 32) (k0_hw627 : k0_chk627 i v3186), ∀ (k0_h2 : k0_cond2 i = 1#1), ∀ a, (k0_off635 v3186) a + S1x1024.size a ≤ S40960x1024.size a := fun i v3186 k0_hw627 k0_h2 => k0_hw627 k0_h2

def k0_off636 (v3191 : BitVec 32) : Fin 2 → Nat :=
  let c0_i32_3480 : BitVec 32 := 0#32
  ![v3191.toNat, 0]

def k0_chk628 (i : grid0.Coords) (v3191 : BitVec 32) : Prop :=
  (∀ (k0_h2 : k0_cond2 i = 1#1), ∀ a, (k0_off636 v3191) a + S1x1024.size a ≤ S40960x1024.size a)
theorem k0_off636_inb : ∀ (i : grid0.Coords) (v3191 : BitVec 32) (k0_hw628 : k0_chk628 i v3191), ∀ (k0_h2 : k0_cond2 i = 1#1), ∀ a, (k0_off636 v3191) a + S1x1024.size a ≤ S40960x1024.size a := fun i v3191 k0_hw628 k0_h2 => k0_hw628 k0_h2

def k0_off637 (v3196 : BitVec 32) : Fin 2 → Nat :=
  let c0_i32_3485 : BitVec 32 := 0#32
  ![v3196.toNat, 0]

def k0_chk629 (i : grid0.Coords) (v3196 : BitVec 32) : Prop :=
  (∀ (k0_h2 : k0_cond2 i = 1#1), ∀ a, (k0_off637 v3196) a + S1x1024.size a ≤ S40960x1024.size a)
theorem k0_off637_inb : ∀ (i : grid0.Coords) (v3196 : BitVec 32) (k0_hw629 : k0_chk629 i v3196), ∀ (k0_h2 : k0_cond2 i = 1#1), ∀ a, (k0_off637 v3196) a + S1x1024.size a ≤ S40960x1024.size a := fun i v3196 k0_hw629 k0_h2 => k0_hw629 k0_h2

def k0_off638 (v3201 : BitVec 32) : Fin 2 → Nat :=
  let c0_i32_3491 : BitVec 32 := 0#32
  ![v3201.toNat, 0]

def k0_chk630 (i : grid0.Coords) (v3201 : BitVec 32) : Prop :=
  (∀ (k0_h2 : k0_cond2 i = 1#1), ∀ a, (k0_off638 v3201) a + S1x1024.size a ≤ S40960x1024.size a)
theorem k0_off638_inb : ∀ (i : grid0.Coords) (v3201 : BitVec 32) (k0_hw630 : k0_chk630 i v3201), ∀ (k0_h2 : k0_cond2 i = 1#1), ∀ a, (k0_off638 v3201) a + S1x1024.size a ≤ S40960x1024.size a := fun i v3201 k0_hw630 k0_h2 => k0_hw630 k0_h2

def k0_off639 (v3206 : BitVec 32) : Fin 2 → Nat :=
  let c0_i32_3496 : BitVec 32 := 0#32
  ![v3206.toNat, 0]

def k0_chk631 (i : grid0.Coords) (v3206 : BitVec 32) : Prop :=
  (∀ (k0_h2 : k0_cond2 i = 1#1), ∀ a, (k0_off639 v3206) a + S1x1024.size a ≤ S40960x1024.size a)
theorem k0_off639_inb : ∀ (i : grid0.Coords) (v3206 : BitVec 32) (k0_hw631 : k0_chk631 i v3206), ∀ (k0_h2 : k0_cond2 i = 1#1), ∀ a, (k0_off639 v3206) a + S1x1024.size a ≤ S40960x1024.size a := fun i v3206 k0_hw631 k0_h2 => k0_hw631 k0_h2

def k0_off640 (v3211 : BitVec 32) : Fin 2 → Nat :=
  let c0_i32_3502 : BitVec 32 := 0#32
  ![v3211.toNat, 0]

def k0_chk632 (i : grid0.Coords) (v3211 : BitVec 32) : Prop :=
  (∀ (k0_h2 : k0_cond2 i = 1#1), ∀ a, (k0_off640 v3211) a + S1x1024.size a ≤ S40960x1024.size a)
theorem k0_off640_inb : ∀ (i : grid0.Coords) (v3211 : BitVec 32) (k0_hw632 : k0_chk632 i v3211), ∀ (k0_h2 : k0_cond2 i = 1#1), ∀ a, (k0_off640 v3211) a + S1x1024.size a ≤ S40960x1024.size a := fun i v3211 k0_hw632 k0_h2 => k0_hw632 k0_h2

def k0_off641 (v3216 : BitVec 32) : Fin 2 → Nat :=
  let c0_i32_3507 : BitVec 32 := 0#32
  ![v3216.toNat, 0]

def k0_chk633 (i : grid0.Coords) (v3216 : BitVec 32) : Prop :=
  (∀ (k0_h2 : k0_cond2 i = 1#1), ∀ a, (k0_off641 v3216) a + S1x1024.size a ≤ S40960x1024.size a)
theorem k0_off641_inb : ∀ (i : grid0.Coords) (v3216 : BitVec 32) (k0_hw633 : k0_chk633 i v3216), ∀ (k0_h2 : k0_cond2 i = 1#1), ∀ a, (k0_off641 v3216) a + S1x1024.size a ≤ S40960x1024.size a := fun i v3216 k0_hw633 k0_h2 => k0_hw633 k0_h2

def k0_off642 (v3221 : BitVec 32) : Fin 2 → Nat :=
  let c0_i32_3513 : BitVec 32 := 0#32
  ![v3221.toNat, 0]

def k0_chk634 (i : grid0.Coords) (v3221 : BitVec 32) : Prop :=
  (∀ (k0_h2 : k0_cond2 i = 1#1), ∀ a, (k0_off642 v3221) a + S1x1024.size a ≤ S40960x1024.size a)
theorem k0_off642_inb : ∀ (i : grid0.Coords) (v3221 : BitVec 32) (k0_hw634 : k0_chk634 i v3221), ∀ (k0_h2 : k0_cond2 i = 1#1), ∀ a, (k0_off642 v3221) a + S1x1024.size a ≤ S40960x1024.size a := fun i v3221 k0_hw634 k0_h2 => k0_hw634 k0_h2

def k0_off643 (v3226 : BitVec 32) : Fin 2 → Nat :=
  let c0_i32_3518 : BitVec 32 := 0#32
  ![v3226.toNat, 0]

def k0_chk635 (i : grid0.Coords) (v3226 : BitVec 32) : Prop :=
  (∀ (k0_h2 : k0_cond2 i = 1#1), ∀ a, (k0_off643 v3226) a + S1x1024.size a ≤ S40960x1024.size a)
theorem k0_off643_inb : ∀ (i : grid0.Coords) (v3226 : BitVec 32) (k0_hw635 : k0_chk635 i v3226), ∀ (k0_h2 : k0_cond2 i = 1#1), ∀ a, (k0_off643 v3226) a + S1x1024.size a ≤ S40960x1024.size a := fun i v3226 k0_hw635 k0_h2 => k0_hw635 k0_h2

def k0_off644 (v3231 : BitVec 32) : Fin 2 → Nat :=
  let c0_i32_3524 : BitVec 32 := 0#32
  ![v3231.toNat, 0]

def k0_chk636 (i : grid0.Coords) (v3231 : BitVec 32) : Prop :=
  (∀ (k0_h2 : k0_cond2 i = 1#1), ∀ a, (k0_off644 v3231) a + S1x1024.size a ≤ S40960x1024.size a)
theorem k0_off644_inb : ∀ (i : grid0.Coords) (v3231 : BitVec 32) (k0_hw636 : k0_chk636 i v3231), ∀ (k0_h2 : k0_cond2 i = 1#1), ∀ a, (k0_off644 v3231) a + S1x1024.size a ≤ S40960x1024.size a := fun i v3231 k0_hw636 k0_h2 => k0_hw636 k0_h2

def k0_off645 (v3236 : BitVec 32) : Fin 2 → Nat :=
  let c0_i32_3529 : BitVec 32 := 0#32
  ![v3236.toNat, 0]

def k0_chk637 (i : grid0.Coords) (v3236 : BitVec 32) : Prop :=
  (∀ (k0_h2 : k0_cond2 i = 1#1), ∀ a, (k0_off645 v3236) a + S1x1024.size a ≤ S40960x1024.size a)
theorem k0_off645_inb : ∀ (i : grid0.Coords) (v3236 : BitVec 32) (k0_hw637 : k0_chk637 i v3236), ∀ (k0_h2 : k0_cond2 i = 1#1), ∀ a, (k0_off645 v3236) a + S1x1024.size a ≤ S40960x1024.size a := fun i v3236 k0_hw637 k0_h2 => k0_hw637 k0_h2

def k0_off646 (v3241 : BitVec 32) : Fin 2 → Nat :=
  let c0_i32_3535 : BitVec 32 := 0#32
  ![v3241.toNat, 0]

def k0_chk638 (i : grid0.Coords) (v3241 : BitVec 32) : Prop :=
  (∀ (k0_h2 : k0_cond2 i = 1#1), ∀ a, (k0_off646 v3241) a + S1x1024.size a ≤ S40960x1024.size a)
theorem k0_off646_inb : ∀ (i : grid0.Coords) (v3241 : BitVec 32) (k0_hw638 : k0_chk638 i v3241), ∀ (k0_h2 : k0_cond2 i = 1#1), ∀ a, (k0_off646 v3241) a + S1x1024.size a ≤ S40960x1024.size a := fun i v3241 k0_hw638 k0_h2 => k0_hw638 k0_h2

def k0_off647 (v3246 : BitVec 32) : Fin 2 → Nat :=
  let c0_i32_3540 : BitVec 32 := 0#32
  ![v3246.toNat, 0]

def k0_chk639 (i : grid0.Coords) (v3246 : BitVec 32) : Prop :=
  (∀ (k0_h2 : k0_cond2 i = 1#1), ∀ a, (k0_off647 v3246) a + S1x1024.size a ≤ S40960x1024.size a)
theorem k0_off647_inb : ∀ (i : grid0.Coords) (v3246 : BitVec 32) (k0_hw639 : k0_chk639 i v3246), ∀ (k0_h2 : k0_cond2 i = 1#1), ∀ a, (k0_off647 v3246) a + S1x1024.size a ≤ S40960x1024.size a := fun i v3246 k0_hw639 k0_h2 => k0_hw639 k0_h2

def k0_off648 (v3251 : BitVec 32) : Fin 2 → Nat :=
  let c0_i32_3546 : BitVec 32 := 0#32
  ![v3251.toNat, 0]

def k0_chk640 (i : grid0.Coords) (v3251 : BitVec 32) : Prop :=
  (∀ (k0_h2 : k0_cond2 i = 1#1), ∀ a, (k0_off648 v3251) a + S1x1024.size a ≤ S40960x1024.size a)
theorem k0_off648_inb : ∀ (i : grid0.Coords) (v3251 : BitVec 32) (k0_hw640 : k0_chk640 i v3251), ∀ (k0_h2 : k0_cond2 i = 1#1), ∀ a, (k0_off648 v3251) a + S1x1024.size a ≤ S40960x1024.size a := fun i v3251 k0_hw640 k0_h2 => k0_hw640 k0_h2

def k0_off649 (v3256 : BitVec 32) : Fin 2 → Nat :=
  let c0_i32_3551 : BitVec 32 := 0#32
  ![v3256.toNat, 0]

def k0_chk641 (i : grid0.Coords) (v3256 : BitVec 32) : Prop :=
  (∀ (k0_h2 : k0_cond2 i = 1#1), ∀ a, (k0_off649 v3256) a + S1x1024.size a ≤ S40960x1024.size a)
theorem k0_off649_inb : ∀ (i : grid0.Coords) (v3256 : BitVec 32) (k0_hw641 : k0_chk641 i v3256), ∀ (k0_h2 : k0_cond2 i = 1#1), ∀ a, (k0_off649 v3256) a + S1x1024.size a ≤ S40960x1024.size a := fun i v3256 k0_hw641 k0_h2 => k0_hw641 k0_h2

def k0_off650 (v3261 : BitVec 32) : Fin 2 → Nat :=
  let c0_i32_3557 : BitVec 32 := 0#32
  ![v3261.toNat, 0]

def k0_chk642 (i : grid0.Coords) (v3261 : BitVec 32) : Prop :=
  (∀ (k0_h2 : k0_cond2 i = 1#1), ∀ a, (k0_off650 v3261) a + S1x1024.size a ≤ S40960x1024.size a)
theorem k0_off650_inb : ∀ (i : grid0.Coords) (v3261 : BitVec 32) (k0_hw642 : k0_chk642 i v3261), ∀ (k0_h2 : k0_cond2 i = 1#1), ∀ a, (k0_off650 v3261) a + S1x1024.size a ≤ S40960x1024.size a := fun i v3261 k0_hw642 k0_h2 => k0_hw642 k0_h2

def k0_off651 (v3266 : BitVec 32) : Fin 2 → Nat :=
  let c0_i32_3562 : BitVec 32 := 0#32
  ![v3266.toNat, 0]

def k0_chk643 (i : grid0.Coords) (v3266 : BitVec 32) : Prop :=
  (∀ (k0_h2 : k0_cond2 i = 1#1), ∀ a, (k0_off651 v3266) a + S1x1024.size a ≤ S40960x1024.size a)
theorem k0_off651_inb : ∀ (i : grid0.Coords) (v3266 : BitVec 32) (k0_hw643 : k0_chk643 i v3266), ∀ (k0_h2 : k0_cond2 i = 1#1), ∀ a, (k0_off651 v3266) a + S1x1024.size a ≤ S40960x1024.size a := fun i v3266 k0_hw643 k0_h2 => k0_hw643 k0_h2

def k0_off652 (v3271 : BitVec 32) : Fin 2 → Nat :=
  let c0_i32_3568 : BitVec 32 := 0#32
  ![v3271.toNat, 0]

def k0_chk644 (i : grid0.Coords) (v3271 : BitVec 32) : Prop :=
  (∀ (k0_h2 : k0_cond2 i = 1#1), ∀ a, (k0_off652 v3271) a + S1x1024.size a ≤ S40960x1024.size a)
theorem k0_off652_inb : ∀ (i : grid0.Coords) (v3271 : BitVec 32) (k0_hw644 : k0_chk644 i v3271), ∀ (k0_h2 : k0_cond2 i = 1#1), ∀ a, (k0_off652 v3271) a + S1x1024.size a ≤ S40960x1024.size a := fun i v3271 k0_hw644 k0_h2 => k0_hw644 k0_h2

def k0_off653 (v3276 : BitVec 32) : Fin 2 → Nat :=
  let c0_i32_3573 : BitVec 32 := 0#32
  ![v3276.toNat, 0]

def k0_chk645 (i : grid0.Coords) (v3276 : BitVec 32) : Prop :=
  (∀ (k0_h2 : k0_cond2 i = 1#1), ∀ a, (k0_off653 v3276) a + S1x1024.size a ≤ S40960x1024.size a)
theorem k0_off653_inb : ∀ (i : grid0.Coords) (v3276 : BitVec 32) (k0_hw645 : k0_chk645 i v3276), ∀ (k0_h2 : k0_cond2 i = 1#1), ∀ a, (k0_off653 v3276) a + S1x1024.size a ≤ S40960x1024.size a := fun i v3276 k0_hw645 k0_h2 => k0_hw645 k0_h2

def k0_off654 (v3281 : BitVec 32) : Fin 2 → Nat :=
  let c0_i32_3579 : BitVec 32 := 0#32
  ![v3281.toNat, 0]

def k0_chk646 (i : grid0.Coords) (v3281 : BitVec 32) : Prop :=
  (∀ (k0_h2 : k0_cond2 i = 1#1), ∀ a, (k0_off654 v3281) a + S1x1024.size a ≤ S40960x1024.size a)
theorem k0_off654_inb : ∀ (i : grid0.Coords) (v3281 : BitVec 32) (k0_hw646 : k0_chk646 i v3281), ∀ (k0_h2 : k0_cond2 i = 1#1), ∀ a, (k0_off654 v3281) a + S1x1024.size a ≤ S40960x1024.size a := fun i v3281 k0_hw646 k0_h2 => k0_hw646 k0_h2

def k0_off655 (v3286 : BitVec 32) : Fin 2 → Nat :=
  let c0_i32_3584 : BitVec 32 := 0#32
  ![v3286.toNat, 0]

def k0_chk647 (i : grid0.Coords) (v3286 : BitVec 32) : Prop :=
  (∀ (k0_h2 : k0_cond2 i = 1#1), ∀ a, (k0_off655 v3286) a + S1x1024.size a ≤ S40960x1024.size a)
theorem k0_off655_inb : ∀ (i : grid0.Coords) (v3286 : BitVec 32) (k0_hw647 : k0_chk647 i v3286), ∀ (k0_h2 : k0_cond2 i = 1#1), ∀ a, (k0_off655 v3286) a + S1x1024.size a ≤ S40960x1024.size a := fun i v3286 k0_hw647 k0_h2 => k0_hw647 k0_h2

def k0_off656 (v3291 : BitVec 32) : Fin 2 → Nat :=
  let c0_i32_3590 : BitVec 32 := 0#32
  ![v3291.toNat, 0]

def k0_chk648 (i : grid0.Coords) (v3291 : BitVec 32) : Prop :=
  (∀ (k0_h2 : k0_cond2 i = 1#1), ∀ a, (k0_off656 v3291) a + S1x1024.size a ≤ S40960x1024.size a)
theorem k0_off656_inb : ∀ (i : grid0.Coords) (v3291 : BitVec 32) (k0_hw648 : k0_chk648 i v3291), ∀ (k0_h2 : k0_cond2 i = 1#1), ∀ a, (k0_off656 v3291) a + S1x1024.size a ≤ S40960x1024.size a := fun i v3291 k0_hw648 k0_h2 => k0_hw648 k0_h2

def k0_off657 (v3296 : BitVec 32) : Fin 2 → Nat :=
  let c0_i32_3595 : BitVec 32 := 0#32
  ![v3296.toNat, 0]

def k0_chk649 (i : grid0.Coords) (v3296 : BitVec 32) : Prop :=
  (∀ (k0_h2 : k0_cond2 i = 1#1), ∀ a, (k0_off657 v3296) a + S1x1024.size a ≤ S40960x1024.size a)
theorem k0_off657_inb : ∀ (i : grid0.Coords) (v3296 : BitVec 32) (k0_hw649 : k0_chk649 i v3296), ∀ (k0_h2 : k0_cond2 i = 1#1), ∀ a, (k0_off657 v3296) a + S1x1024.size a ≤ S40960x1024.size a := fun i v3296 k0_hw649 k0_h2 => k0_hw649 k0_h2

def k0_off658 (v3301 : BitVec 32) : Fin 2 → Nat :=
  let c0_i32_3601 : BitVec 32 := 0#32
  ![v3301.toNat, 0]

def k0_chk650 (i : grid0.Coords) (v3301 : BitVec 32) : Prop :=
  (∀ (k0_h2 : k0_cond2 i = 1#1), ∀ a, (k0_off658 v3301) a + S1x1024.size a ≤ S40960x1024.size a)
theorem k0_off658_inb : ∀ (i : grid0.Coords) (v3301 : BitVec 32) (k0_hw650 : k0_chk650 i v3301), ∀ (k0_h2 : k0_cond2 i = 1#1), ∀ a, (k0_off658 v3301) a + S1x1024.size a ≤ S40960x1024.size a := fun i v3301 k0_hw650 k0_h2 => k0_hw650 k0_h2

def k0_off659 (v3306 : BitVec 32) : Fin 2 → Nat :=
  let c0_i32_3606 : BitVec 32 := 0#32
  ![v3306.toNat, 0]

def k0_chk651 (i : grid0.Coords) (v3306 : BitVec 32) : Prop :=
  (∀ (k0_h2 : k0_cond2 i = 1#1), ∀ a, (k0_off659 v3306) a + S1x1024.size a ≤ S40960x1024.size a)
theorem k0_off659_inb : ∀ (i : grid0.Coords) (v3306 : BitVec 32) (k0_hw651 : k0_chk651 i v3306), ∀ (k0_h2 : k0_cond2 i = 1#1), ∀ a, (k0_off659 v3306) a + S1x1024.size a ≤ S40960x1024.size a := fun i v3306 k0_hw651 k0_h2 => k0_hw651 k0_h2

def k0_off660 (v3311 : BitVec 32) : Fin 2 → Nat :=
  let c0_i32_3612 : BitVec 32 := 0#32
  ![v3311.toNat, 0]

def k0_chk652 (i : grid0.Coords) (v3311 : BitVec 32) : Prop :=
  (∀ (k0_h2 : k0_cond2 i = 1#1), ∀ a, (k0_off660 v3311) a + S1x1024.size a ≤ S40960x1024.size a)
theorem k0_off660_inb : ∀ (i : grid0.Coords) (v3311 : BitVec 32) (k0_hw652 : k0_chk652 i v3311), ∀ (k0_h2 : k0_cond2 i = 1#1), ∀ a, (k0_off660 v3311) a + S1x1024.size a ≤ S40960x1024.size a := fun i v3311 k0_hw652 k0_h2 => k0_hw652 k0_h2

def k0_off661 (v3316 : BitVec 32) : Fin 2 → Nat :=
  let c0_i32_3617 : BitVec 32 := 0#32
  ![v3316.toNat, 0]

def k0_chk653 (i : grid0.Coords) (v3316 : BitVec 32) : Prop :=
  (∀ (k0_h2 : k0_cond2 i = 1#1), ∀ a, (k0_off661 v3316) a + S1x1024.size a ≤ S40960x1024.size a)
theorem k0_off661_inb : ∀ (i : grid0.Coords) (v3316 : BitVec 32) (k0_hw653 : k0_chk653 i v3316), ∀ (k0_h2 : k0_cond2 i = 1#1), ∀ a, (k0_off661 v3316) a + S1x1024.size a ≤ S40960x1024.size a := fun i v3316 k0_hw653 k0_h2 => k0_hw653 k0_h2

def k0_off662 (v3321 : BitVec 32) : Fin 2 → Nat :=
  let c0_i32_3623 : BitVec 32 := 0#32
  ![v3321.toNat, 0]

def k0_chk654 (i : grid0.Coords) (v3321 : BitVec 32) : Prop :=
  (∀ (k0_h2 : k0_cond2 i = 1#1), ∀ a, (k0_off662 v3321) a + S1x1024.size a ≤ S40960x1024.size a)
theorem k0_off662_inb : ∀ (i : grid0.Coords) (v3321 : BitVec 32) (k0_hw654 : k0_chk654 i v3321), ∀ (k0_h2 : k0_cond2 i = 1#1), ∀ a, (k0_off662 v3321) a + S1x1024.size a ≤ S40960x1024.size a := fun i v3321 k0_hw654 k0_h2 => k0_hw654 k0_h2

def k0_off663 (v3326 : BitVec 32) : Fin 2 → Nat :=
  let c0_i32_3628 : BitVec 32 := 0#32
  ![v3326.toNat, 0]

def k0_chk655 (i : grid0.Coords) (v3326 : BitVec 32) : Prop :=
  (∀ (k0_h2 : k0_cond2 i = 1#1), ∀ a, (k0_off663 v3326) a + S1x1024.size a ≤ S40960x1024.size a)
theorem k0_off663_inb : ∀ (i : grid0.Coords) (v3326 : BitVec 32) (k0_hw655 : k0_chk655 i v3326), ∀ (k0_h2 : k0_cond2 i = 1#1), ∀ a, (k0_off663 v3326) a + S1x1024.size a ≤ S40960x1024.size a := fun i v3326 k0_hw655 k0_h2 => k0_hw655 k0_h2

def k0_off664 (v3331 : BitVec 32) : Fin 2 → Nat :=
  let c0_i32_3634 : BitVec 32 := 0#32
  ![v3331.toNat, 0]

def k0_chk656 (i : grid0.Coords) (v3331 : BitVec 32) : Prop :=
  (∀ (k0_h2 : k0_cond2 i = 1#1), ∀ a, (k0_off664 v3331) a + S1x1024.size a ≤ S40960x1024.size a)
theorem k0_off664_inb : ∀ (i : grid0.Coords) (v3331 : BitVec 32) (k0_hw656 : k0_chk656 i v3331), ∀ (k0_h2 : k0_cond2 i = 1#1), ∀ a, (k0_off664 v3331) a + S1x1024.size a ≤ S40960x1024.size a := fun i v3331 k0_hw656 k0_h2 => k0_hw656 k0_h2

def k0_off665 (v3336 : BitVec 32) : Fin 2 → Nat :=
  let c0_i32_3639 : BitVec 32 := 0#32
  ![v3336.toNat, 0]

def k0_chk657 (i : grid0.Coords) (v3336 : BitVec 32) : Prop :=
  (∀ (k0_h2 : k0_cond2 i = 1#1), ∀ a, (k0_off665 v3336) a + S1x1024.size a ≤ S40960x1024.size a)
theorem k0_off665_inb : ∀ (i : grid0.Coords) (v3336 : BitVec 32) (k0_hw657 : k0_chk657 i v3336), ∀ (k0_h2 : k0_cond2 i = 1#1), ∀ a, (k0_off665 v3336) a + S1x1024.size a ≤ S40960x1024.size a := fun i v3336 k0_hw657 k0_h2 => k0_hw657 k0_h2

def k0_off666 (v3341 : BitVec 32) : Fin 2 → Nat :=
  let c0_i32_3645 : BitVec 32 := 0#32
  ![v3341.toNat, 0]

def k0_chk658 (i : grid0.Coords) (v3341 : BitVec 32) : Prop :=
  (∀ (k0_h2 : k0_cond2 i = 1#1), ∀ a, (k0_off666 v3341) a + S1x1024.size a ≤ S40960x1024.size a)
theorem k0_off666_inb : ∀ (i : grid0.Coords) (v3341 : BitVec 32) (k0_hw658 : k0_chk658 i v3341), ∀ (k0_h2 : k0_cond2 i = 1#1), ∀ a, (k0_off666 v3341) a + S1x1024.size a ≤ S40960x1024.size a := fun i v3341 k0_hw658 k0_h2 => k0_hw658 k0_h2

def k0_off667 (v3346 : BitVec 32) : Fin 2 → Nat :=
  let c0_i32_3650 : BitVec 32 := 0#32
  ![v3346.toNat, 0]

def k0_chk659 (i : grid0.Coords) (v3346 : BitVec 32) : Prop :=
  (∀ (k0_h2 : k0_cond2 i = 1#1), ∀ a, (k0_off667 v3346) a + S1x1024.size a ≤ S40960x1024.size a)
theorem k0_off667_inb : ∀ (i : grid0.Coords) (v3346 : BitVec 32) (k0_hw659 : k0_chk659 i v3346), ∀ (k0_h2 : k0_cond2 i = 1#1), ∀ a, (k0_off667 v3346) a + S1x1024.size a ≤ S40960x1024.size a := fun i v3346 k0_hw659 k0_h2 => k0_hw659 k0_h2

def k0_off668 (v3351 : BitVec 32) : Fin 2 → Nat :=
  let c0_i32_3656 : BitVec 32 := 0#32
  ![v3351.toNat, 0]

def k0_chk660 (i : grid0.Coords) (v3351 : BitVec 32) : Prop :=
  (∀ (k0_h2 : k0_cond2 i = 1#1), ∀ a, (k0_off668 v3351) a + S1x1024.size a ≤ S40960x1024.size a)
theorem k0_off668_inb : ∀ (i : grid0.Coords) (v3351 : BitVec 32) (k0_hw660 : k0_chk660 i v3351), ∀ (k0_h2 : k0_cond2 i = 1#1), ∀ a, (k0_off668 v3351) a + S1x1024.size a ≤ S40960x1024.size a := fun i v3351 k0_hw660 k0_h2 => k0_hw660 k0_h2

def k0_off669 (v3356 : BitVec 32) : Fin 2 → Nat :=
  let c0_i32_3661 : BitVec 32 := 0#32
  ![v3356.toNat, 0]

def k0_chk661 (i : grid0.Coords) (v3356 : BitVec 32) : Prop :=
  (∀ (k0_h2 : k0_cond2 i = 1#1), ∀ a, (k0_off669 v3356) a + S1x1024.size a ≤ S40960x1024.size a)
theorem k0_off669_inb : ∀ (i : grid0.Coords) (v3356 : BitVec 32) (k0_hw661 : k0_chk661 i v3356), ∀ (k0_h2 : k0_cond2 i = 1#1), ∀ a, (k0_off669 v3356) a + S1x1024.size a ≤ S40960x1024.size a := fun i v3356 k0_hw661 k0_h2 => k0_hw661 k0_h2

def k0_off670 (v3361 : BitVec 32) : Fin 2 → Nat :=
  let c0_i32_3667 : BitVec 32 := 0#32
  ![v3361.toNat, 0]

def k0_chk662 (i : grid0.Coords) (v3361 : BitVec 32) : Prop :=
  (∀ (k0_h2 : k0_cond2 i = 1#1), ∀ a, (k0_off670 v3361) a + S1x1024.size a ≤ S40960x1024.size a)
theorem k0_off670_inb : ∀ (i : grid0.Coords) (v3361 : BitVec 32) (k0_hw662 : k0_chk662 i v3361), ∀ (k0_h2 : k0_cond2 i = 1#1), ∀ a, (k0_off670 v3361) a + S1x1024.size a ≤ S40960x1024.size a := fun i v3361 k0_hw662 k0_h2 => k0_hw662 k0_h2

def k0_off671 (v3366 : BitVec 32) : Fin 2 → Nat :=
  let c0_i32_3672 : BitVec 32 := 0#32
  ![v3366.toNat, 0]

def k0_chk663 (i : grid0.Coords) (v3366 : BitVec 32) : Prop :=
  (∀ (k0_h2 : k0_cond2 i = 1#1), ∀ a, (k0_off671 v3366) a + S1x1024.size a ≤ S40960x1024.size a)
theorem k0_off671_inb : ∀ (i : grid0.Coords) (v3366 : BitVec 32) (k0_hw663 : k0_chk663 i v3366), ∀ (k0_h2 : k0_cond2 i = 1#1), ∀ a, (k0_off671 v3366) a + S1x1024.size a ≤ S40960x1024.size a := fun i v3366 k0_hw663 k0_h2 => k0_hw663 k0_h2

def k0_off672 (v3371 : BitVec 32) : Fin 2 → Nat :=
  let c0_i32_3678 : BitVec 32 := 0#32
  ![v3371.toNat, 0]

def k0_chk664 (i : grid0.Coords) (v3371 : BitVec 32) : Prop :=
  (∀ (k0_h2 : k0_cond2 i = 1#1), ∀ a, (k0_off672 v3371) a + S1x1024.size a ≤ S40960x1024.size a)
theorem k0_off672_inb : ∀ (i : grid0.Coords) (v3371 : BitVec 32) (k0_hw664 : k0_chk664 i v3371), ∀ (k0_h2 : k0_cond2 i = 1#1), ∀ a, (k0_off672 v3371) a + S1x1024.size a ≤ S40960x1024.size a := fun i v3371 k0_hw664 k0_h2 => k0_hw664 k0_h2

def k0_off673 (v3376 : BitVec 32) : Fin 2 → Nat :=
  let c0_i32_3683 : BitVec 32 := 0#32
  ![v3376.toNat, 0]

def k0_chk665 (i : grid0.Coords) (v3376 : BitVec 32) : Prop :=
  (∀ (k0_h2 : k0_cond2 i = 1#1), ∀ a, (k0_off673 v3376) a + S1x1024.size a ≤ S40960x1024.size a)
theorem k0_off673_inb : ∀ (i : grid0.Coords) (v3376 : BitVec 32) (k0_hw665 : k0_chk665 i v3376), ∀ (k0_h2 : k0_cond2 i = 1#1), ∀ a, (k0_off673 v3376) a + S1x1024.size a ≤ S40960x1024.size a := fun i v3376 k0_hw665 k0_h2 => k0_hw665 k0_h2

def k0_off674 (v3381 : BitVec 32) : Fin 2 → Nat :=
  let c0_i32_3689 : BitVec 32 := 0#32
  ![v3381.toNat, 0]

def k0_chk666 (i : grid0.Coords) (v3381 : BitVec 32) : Prop :=
  (∀ (k0_h2 : k0_cond2 i = 1#1), ∀ a, (k0_off674 v3381) a + S1x1024.size a ≤ S40960x1024.size a)
theorem k0_off674_inb : ∀ (i : grid0.Coords) (v3381 : BitVec 32) (k0_hw666 : k0_chk666 i v3381), ∀ (k0_h2 : k0_cond2 i = 1#1), ∀ a, (k0_off674 v3381) a + S1x1024.size a ≤ S40960x1024.size a := fun i v3381 k0_hw666 k0_h2 => k0_hw666 k0_h2

def k0_off675 (v3386 : BitVec 32) : Fin 2 → Nat :=
  let c0_i32_3694 : BitVec 32 := 0#32
  ![v3386.toNat, 0]

def k0_chk667 (i : grid0.Coords) (v3386 : BitVec 32) : Prop :=
  (∀ (k0_h2 : k0_cond2 i = 1#1), ∀ a, (k0_off675 v3386) a + S1x1024.size a ≤ S40960x1024.size a)
theorem k0_off675_inb : ∀ (i : grid0.Coords) (v3386 : BitVec 32) (k0_hw667 : k0_chk667 i v3386), ∀ (k0_h2 : k0_cond2 i = 1#1), ∀ a, (k0_off675 v3386) a + S1x1024.size a ≤ S40960x1024.size a := fun i v3386 k0_hw667 k0_h2 => k0_hw667 k0_h2

def k0_off676 (v3391 : BitVec 32) : Fin 2 → Nat :=
  let c0_i32_3700 : BitVec 32 := 0#32
  ![v3391.toNat, 0]

def k0_chk668 (i : grid0.Coords) (v3391 : BitVec 32) : Prop :=
  (∀ (k0_h2 : k0_cond2 i = 1#1), ∀ a, (k0_off676 v3391) a + S1x1024.size a ≤ S40960x1024.size a)
theorem k0_off676_inb : ∀ (i : grid0.Coords) (v3391 : BitVec 32) (k0_hw668 : k0_chk668 i v3391), ∀ (k0_h2 : k0_cond2 i = 1#1), ∀ a, (k0_off676 v3391) a + S1x1024.size a ≤ S40960x1024.size a := fun i v3391 k0_hw668 k0_h2 => k0_hw668 k0_h2

def k0_off677 (v3396 : BitVec 32) : Fin 2 → Nat :=
  let c0_i32_3705 : BitVec 32 := 0#32
  ![v3396.toNat, 0]

def k0_chk669 (i : grid0.Coords) (v3396 : BitVec 32) : Prop :=
  (∀ (k0_h2 : k0_cond2 i = 1#1), ∀ a, (k0_off677 v3396) a + S1x1024.size a ≤ S40960x1024.size a)
theorem k0_off677_inb : ∀ (i : grid0.Coords) (v3396 : BitVec 32) (k0_hw669 : k0_chk669 i v3396), ∀ (k0_h2 : k0_cond2 i = 1#1), ∀ a, (k0_off677 v3396) a + S1x1024.size a ≤ S40960x1024.size a := fun i v3396 k0_hw669 k0_h2 => k0_hw669 k0_h2

def k0_off678 (v3401 : BitVec 32) : Fin 2 → Nat :=
  let c0_i32_3711 : BitVec 32 := 0#32
  ![v3401.toNat, 0]

def k0_chk670 (i : grid0.Coords) (v3401 : BitVec 32) : Prop :=
  (∀ (k0_h2 : k0_cond2 i = 1#1), ∀ a, (k0_off678 v3401) a + S1x1024.size a ≤ S40960x1024.size a)
theorem k0_off678_inb : ∀ (i : grid0.Coords) (v3401 : BitVec 32) (k0_hw670 : k0_chk670 i v3401), ∀ (k0_h2 : k0_cond2 i = 1#1), ∀ a, (k0_off678 v3401) a + S1x1024.size a ≤ S40960x1024.size a := fun i v3401 k0_hw670 k0_h2 => k0_hw670 k0_h2

def k0_off679 (v3406 : BitVec 32) : Fin 2 → Nat :=
  let c0_i32_3716 : BitVec 32 := 0#32
  ![v3406.toNat, 0]

def k0_chk671 (i : grid0.Coords) (v3406 : BitVec 32) : Prop :=
  (∀ (k0_h2 : k0_cond2 i = 1#1), ∀ a, (k0_off679 v3406) a + S1x1024.size a ≤ S40960x1024.size a)
theorem k0_off679_inb : ∀ (i : grid0.Coords) (v3406 : BitVec 32) (k0_hw671 : k0_chk671 i v3406), ∀ (k0_h2 : k0_cond2 i = 1#1), ∀ a, (k0_off679 v3406) a + S1x1024.size a ≤ S40960x1024.size a := fun i v3406 k0_hw671 k0_h2 => k0_hw671 k0_h2

def k0_off680 (v3411 : BitVec 32) : Fin 2 → Nat :=
  let c0_i32_3722 : BitVec 32 := 0#32
  ![v3411.toNat, 0]

def k0_chk672 (i : grid0.Coords) (v3411 : BitVec 32) : Prop :=
  (∀ (k0_h2 : k0_cond2 i = 1#1), ∀ a, (k0_off680 v3411) a + S1x1024.size a ≤ S40960x1024.size a)
theorem k0_off680_inb : ∀ (i : grid0.Coords) (v3411 : BitVec 32) (k0_hw672 : k0_chk672 i v3411), ∀ (k0_h2 : k0_cond2 i = 1#1), ∀ a, (k0_off680 v3411) a + S1x1024.size a ≤ S40960x1024.size a := fun i v3411 k0_hw672 k0_h2 => k0_hw672 k0_h2

def k0_off681 (v3416 : BitVec 32) : Fin 2 → Nat :=
  let c0_i32_3727 : BitVec 32 := 0#32
  ![v3416.toNat, 0]

def k0_chk673 (i : grid0.Coords) (v3416 : BitVec 32) : Prop :=
  (∀ (k0_h2 : k0_cond2 i = 1#1), ∀ a, (k0_off681 v3416) a + S1x1024.size a ≤ S40960x1024.size a)
theorem k0_off681_inb : ∀ (i : grid0.Coords) (v3416 : BitVec 32) (k0_hw673 : k0_chk673 i v3416), ∀ (k0_h2 : k0_cond2 i = 1#1), ∀ a, (k0_off681 v3416) a + S1x1024.size a ≤ S40960x1024.size a := fun i v3416 k0_hw673 k0_h2 => k0_hw673 k0_h2

def k0_off682 (v3421 : BitVec 32) : Fin 2 → Nat :=
  let c0_i32_3733 : BitVec 32 := 0#32
  ![v3421.toNat, 0]

def k0_chk674 (i : grid0.Coords) (v3421 : BitVec 32) : Prop :=
  (∀ (k0_h2 : k0_cond2 i = 1#1), ∀ a, (k0_off682 v3421) a + S1x1024.size a ≤ S40960x1024.size a)
theorem k0_off682_inb : ∀ (i : grid0.Coords) (v3421 : BitVec 32) (k0_hw674 : k0_chk674 i v3421), ∀ (k0_h2 : k0_cond2 i = 1#1), ∀ a, (k0_off682 v3421) a + S1x1024.size a ≤ S40960x1024.size a := fun i v3421 k0_hw674 k0_h2 => k0_hw674 k0_h2

def k0_off683 (v3426 : BitVec 32) : Fin 2 → Nat :=
  let c0_i32_3738 : BitVec 32 := 0#32
  ![v3426.toNat, 0]

def k0_chk675 (i : grid0.Coords) (v3426 : BitVec 32) : Prop :=
  (∀ (k0_h2 : k0_cond2 i = 1#1), ∀ a, (k0_off683 v3426) a + S1x1024.size a ≤ S40960x1024.size a)
theorem k0_off683_inb : ∀ (i : grid0.Coords) (v3426 : BitVec 32) (k0_hw675 : k0_chk675 i v3426), ∀ (k0_h2 : k0_cond2 i = 1#1), ∀ a, (k0_off683 v3426) a + S1x1024.size a ≤ S40960x1024.size a := fun i v3426 k0_hw675 k0_h2 => k0_hw675 k0_h2

def k0_off684 (v3431 : BitVec 32) : Fin 2 → Nat :=
  let c0_i32_3744 : BitVec 32 := 0#32
  ![v3431.toNat, 0]

def k0_chk676 (i : grid0.Coords) (v3431 : BitVec 32) : Prop :=
  (∀ (k0_h2 : k0_cond2 i = 1#1), ∀ a, (k0_off684 v3431) a + S1x1024.size a ≤ S40960x1024.size a)
theorem k0_off684_inb : ∀ (i : grid0.Coords) (v3431 : BitVec 32) (k0_hw676 : k0_chk676 i v3431), ∀ (k0_h2 : k0_cond2 i = 1#1), ∀ a, (k0_off684 v3431) a + S1x1024.size a ≤ S40960x1024.size a := fun i v3431 k0_hw676 k0_h2 => k0_hw676 k0_h2

def k0_off685 (v3436 : BitVec 32) : Fin 2 → Nat :=
  let c0_i32_3749 : BitVec 32 := 0#32
  ![v3436.toNat, 0]

def k0_chk677 (i : grid0.Coords) (v3436 : BitVec 32) : Prop :=
  (∀ (k0_h2 : k0_cond2 i = 1#1), ∀ a, (k0_off685 v3436) a + S1x1024.size a ≤ S40960x1024.size a)
theorem k0_off685_inb : ∀ (i : grid0.Coords) (v3436 : BitVec 32) (k0_hw677 : k0_chk677 i v3436), ∀ (k0_h2 : k0_cond2 i = 1#1), ∀ a, (k0_off685 v3436) a + S1x1024.size a ≤ S40960x1024.size a := fun i v3436 k0_hw677 k0_h2 => k0_hw677 k0_h2

def k0_off686 (v3441 : BitVec 32) : Fin 2 → Nat :=
  let c0_i32_3755 : BitVec 32 := 0#32
  ![v3441.toNat, 0]

def k0_chk678 (i : grid0.Coords) (v3441 : BitVec 32) : Prop :=
  (∀ (k0_h2 : k0_cond2 i = 1#1), ∀ a, (k0_off686 v3441) a + S1x1024.size a ≤ S40960x1024.size a)
theorem k0_off686_inb : ∀ (i : grid0.Coords) (v3441 : BitVec 32) (k0_hw678 : k0_chk678 i v3441), ∀ (k0_h2 : k0_cond2 i = 1#1), ∀ a, (k0_off686 v3441) a + S1x1024.size a ≤ S40960x1024.size a := fun i v3441 k0_hw678 k0_h2 => k0_hw678 k0_h2

def k0_off687 (v3446 : BitVec 32) : Fin 2 → Nat :=
  let c0_i32_3760 : BitVec 32 := 0#32
  ![v3446.toNat, 0]

def k0_chk679 (i : grid0.Coords) (v3446 : BitVec 32) : Prop :=
  (∀ (k0_h2 : k0_cond2 i = 1#1), ∀ a, (k0_off687 v3446) a + S1x1024.size a ≤ S40960x1024.size a)
theorem k0_off687_inb : ∀ (i : grid0.Coords) (v3446 : BitVec 32) (k0_hw679 : k0_chk679 i v3446), ∀ (k0_h2 : k0_cond2 i = 1#1), ∀ a, (k0_off687 v3446) a + S1x1024.size a ≤ S40960x1024.size a := fun i v3446 k0_hw679 k0_h2 => k0_hw679 k0_h2

def k0_off688 (v3451 : BitVec 32) : Fin 2 → Nat :=
  let c0_i32_3766 : BitVec 32 := 0#32
  ![v3451.toNat, 0]

def k0_chk680 (i : grid0.Coords) (v3451 : BitVec 32) : Prop :=
  (∀ (k0_h2 : k0_cond2 i = 1#1), ∀ a, (k0_off688 v3451) a + S1x1024.size a ≤ S40960x1024.size a)
theorem k0_off688_inb : ∀ (i : grid0.Coords) (v3451 : BitVec 32) (k0_hw680 : k0_chk680 i v3451), ∀ (k0_h2 : k0_cond2 i = 1#1), ∀ a, (k0_off688 v3451) a + S1x1024.size a ≤ S40960x1024.size a := fun i v3451 k0_hw680 k0_h2 => k0_hw680 k0_h2

def k0_off689 (v3456 : BitVec 32) : Fin 2 → Nat :=
  let c0_i32_3771 : BitVec 32 := 0#32
  ![v3456.toNat, 0]

def k0_chk681 (i : grid0.Coords) (v3456 : BitVec 32) : Prop :=
  (∀ (k0_h2 : k0_cond2 i = 1#1), ∀ a, (k0_off689 v3456) a + S1x1024.size a ≤ S40960x1024.size a)
theorem k0_off689_inb : ∀ (i : grid0.Coords) (v3456 : BitVec 32) (k0_hw681 : k0_chk681 i v3456), ∀ (k0_h2 : k0_cond2 i = 1#1), ∀ a, (k0_off689 v3456) a + S1x1024.size a ≤ S40960x1024.size a := fun i v3456 k0_hw681 k0_h2 => k0_hw681 k0_h2

def k0_off690 (v3461 : BitVec 32) : Fin 2 → Nat :=
  let c0_i32_3777 : BitVec 32 := 0#32
  ![v3461.toNat, 0]

def k0_chk682 (i : grid0.Coords) (v3461 : BitVec 32) : Prop :=
  (∀ (k0_h2 : k0_cond2 i = 1#1), ∀ a, (k0_off690 v3461) a + S1x1024.size a ≤ S40960x1024.size a)
theorem k0_off690_inb : ∀ (i : grid0.Coords) (v3461 : BitVec 32) (k0_hw682 : k0_chk682 i v3461), ∀ (k0_h2 : k0_cond2 i = 1#1), ∀ a, (k0_off690 v3461) a + S1x1024.size a ≤ S40960x1024.size a := fun i v3461 k0_hw682 k0_h2 => k0_hw682 k0_h2

def k0_off691 (v3466 : BitVec 32) : Fin 2 → Nat :=
  let c0_i32_3782 : BitVec 32 := 0#32
  ![v3466.toNat, 0]

def k0_chk683 (i : grid0.Coords) (v3466 : BitVec 32) : Prop :=
  (∀ (k0_h2 : k0_cond2 i = 1#1), ∀ a, (k0_off691 v3466) a + S1x1024.size a ≤ S40960x1024.size a)
theorem k0_off691_inb : ∀ (i : grid0.Coords) (v3466 : BitVec 32) (k0_hw683 : k0_chk683 i v3466), ∀ (k0_h2 : k0_cond2 i = 1#1), ∀ a, (k0_off691 v3466) a + S1x1024.size a ≤ S40960x1024.size a := fun i v3466 k0_hw683 k0_h2 => k0_hw683 k0_h2

def k0_off692 (v3471 : BitVec 32) : Fin 2 → Nat :=
  let c0_i32_3788 : BitVec 32 := 0#32
  ![v3471.toNat, 0]

def k0_chk684 (i : grid0.Coords) (v3471 : BitVec 32) : Prop :=
  (∀ (k0_h2 : k0_cond2 i = 1#1), ∀ a, (k0_off692 v3471) a + S1x1024.size a ≤ S40960x1024.size a)
theorem k0_off692_inb : ∀ (i : grid0.Coords) (v3471 : BitVec 32) (k0_hw684 : k0_chk684 i v3471), ∀ (k0_h2 : k0_cond2 i = 1#1), ∀ a, (k0_off692 v3471) a + S1x1024.size a ≤ S40960x1024.size a := fun i v3471 k0_hw684 k0_h2 => k0_hw684 k0_h2

def k0_off693 (v3476 : BitVec 32) : Fin 2 → Nat :=
  let c0_i32_3793 : BitVec 32 := 0#32
  ![v3476.toNat, 0]

def k0_chk685 (i : grid0.Coords) (v3476 : BitVec 32) : Prop :=
  (∀ (k0_h2 : k0_cond2 i = 1#1), ∀ a, (k0_off693 v3476) a + S1x1024.size a ≤ S40960x1024.size a)
theorem k0_off693_inb : ∀ (i : grid0.Coords) (v3476 : BitVec 32) (k0_hw685 : k0_chk685 i v3476), ∀ (k0_h2 : k0_cond2 i = 1#1), ∀ a, (k0_off693 v3476) a + S1x1024.size a ≤ S40960x1024.size a := fun i v3476 k0_hw685 k0_h2 => k0_hw685 k0_h2

def k0_off694 (v3481 : BitVec 32) : Fin 2 → Nat :=
  let c0_i32_3799 : BitVec 32 := 0#32
  ![v3481.toNat, 0]

def k0_chk686 (i : grid0.Coords) (v3481 : BitVec 32) : Prop :=
  (∀ (k0_h2 : k0_cond2 i = 1#1), ∀ a, (k0_off694 v3481) a + S1x1024.size a ≤ S40960x1024.size a)
theorem k0_off694_inb : ∀ (i : grid0.Coords) (v3481 : BitVec 32) (k0_hw686 : k0_chk686 i v3481), ∀ (k0_h2 : k0_cond2 i = 1#1), ∀ a, (k0_off694 v3481) a + S1x1024.size a ≤ S40960x1024.size a := fun i v3481 k0_hw686 k0_h2 => k0_hw686 k0_h2

def k0_off695 (v3486 : BitVec 32) : Fin 2 → Nat :=
  let c0_i32_3804 : BitVec 32 := 0#32
  ![v3486.toNat, 0]

def k0_chk687 (i : grid0.Coords) (v3486 : BitVec 32) : Prop :=
  (∀ (k0_h2 : k0_cond2 i = 1#1), ∀ a, (k0_off695 v3486) a + S1x1024.size a ≤ S40960x1024.size a)
theorem k0_off695_inb : ∀ (i : grid0.Coords) (v3486 : BitVec 32) (k0_hw687 : k0_chk687 i v3486), ∀ (k0_h2 : k0_cond2 i = 1#1), ∀ a, (k0_off695 v3486) a + S1x1024.size a ≤ S40960x1024.size a := fun i v3486 k0_hw687 k0_h2 => k0_hw687 k0_h2

def k0_off696 (v3491 : BitVec 32) : Fin 2 → Nat :=
  let c0_i32_3810 : BitVec 32 := 0#32
  ![v3491.toNat, 0]

def k0_chk688 (i : grid0.Coords) (v3491 : BitVec 32) : Prop :=
  (∀ (k0_h2 : k0_cond2 i = 1#1), ∀ a, (k0_off696 v3491) a + S1x1024.size a ≤ S40960x1024.size a)
theorem k0_off696_inb : ∀ (i : grid0.Coords) (v3491 : BitVec 32) (k0_hw688 : k0_chk688 i v3491), ∀ (k0_h2 : k0_cond2 i = 1#1), ∀ a, (k0_off696 v3491) a + S1x1024.size a ≤ S40960x1024.size a := fun i v3491 k0_hw688 k0_h2 => k0_hw688 k0_h2

def k0_off697 (v3496 : BitVec 32) : Fin 2 → Nat :=
  let c0_i32_3815 : BitVec 32 := 0#32
  ![v3496.toNat, 0]

def k0_chk689 (i : grid0.Coords) (v3496 : BitVec 32) : Prop :=
  (∀ (k0_h2 : k0_cond2 i = 1#1), ∀ a, (k0_off697 v3496) a + S1x1024.size a ≤ S40960x1024.size a)
theorem k0_off697_inb : ∀ (i : grid0.Coords) (v3496 : BitVec 32) (k0_hw689 : k0_chk689 i v3496), ∀ (k0_h2 : k0_cond2 i = 1#1), ∀ a, (k0_off697 v3496) a + S1x1024.size a ≤ S40960x1024.size a := fun i v3496 k0_hw689 k0_h2 => k0_hw689 k0_h2

def k0_off698 (v3501 : BitVec 32) : Fin 2 → Nat :=
  let c0_i32_3821 : BitVec 32 := 0#32
  ![v3501.toNat, 0]

def k0_chk690 (i : grid0.Coords) (v3501 : BitVec 32) : Prop :=
  (∀ (k0_h2 : k0_cond2 i = 1#1), ∀ a, (k0_off698 v3501) a + S1x1024.size a ≤ S40960x1024.size a)
theorem k0_off698_inb : ∀ (i : grid0.Coords) (v3501 : BitVec 32) (k0_hw690 : k0_chk690 i v3501), ∀ (k0_h2 : k0_cond2 i = 1#1), ∀ a, (k0_off698 v3501) a + S1x1024.size a ≤ S40960x1024.size a := fun i v3501 k0_hw690 k0_h2 => k0_hw690 k0_h2

def k0_off699 (v3506 : BitVec 32) : Fin 2 → Nat :=
  let c0_i32_3826 : BitVec 32 := 0#32
  ![v3506.toNat, 0]

def k0_chk691 (i : grid0.Coords) (v3506 : BitVec 32) : Prop :=
  (∀ (k0_h2 : k0_cond2 i = 1#1), ∀ a, (k0_off699 v3506) a + S1x1024.size a ≤ S40960x1024.size a)
theorem k0_off699_inb : ∀ (i : grid0.Coords) (v3506 : BitVec 32) (k0_hw691 : k0_chk691 i v3506), ∀ (k0_h2 : k0_cond2 i = 1#1), ∀ a, (k0_off699 v3506) a + S1x1024.size a ≤ S40960x1024.size a := fun i v3506 k0_hw691 k0_h2 => k0_hw691 k0_h2

def k0_off700 (v3511 : BitVec 32) : Fin 2 → Nat :=
  let c0_i32_3832 : BitVec 32 := 0#32
  ![v3511.toNat, 0]

def k0_chk692 (i : grid0.Coords) (v3511 : BitVec 32) : Prop :=
  (∀ (k0_h2 : k0_cond2 i = 1#1), ∀ a, (k0_off700 v3511) a + S1x1024.size a ≤ S40960x1024.size a)
theorem k0_off700_inb : ∀ (i : grid0.Coords) (v3511 : BitVec 32) (k0_hw692 : k0_chk692 i v3511), ∀ (k0_h2 : k0_cond2 i = 1#1), ∀ a, (k0_off700 v3511) a + S1x1024.size a ≤ S40960x1024.size a := fun i v3511 k0_hw692 k0_h2 => k0_hw692 k0_h2

def k0_off701 (v3516 : BitVec 32) : Fin 2 → Nat :=
  let c0_i32_3837 : BitVec 32 := 0#32
  ![v3516.toNat, 0]

def k0_chk693 (i : grid0.Coords) (v3516 : BitVec 32) : Prop :=
  (∀ (k0_h2 : k0_cond2 i = 1#1), ∀ a, (k0_off701 v3516) a + S1x1024.size a ≤ S40960x1024.size a)
theorem k0_off701_inb : ∀ (i : grid0.Coords) (v3516 : BitVec 32) (k0_hw693 : k0_chk693 i v3516), ∀ (k0_h2 : k0_cond2 i = 1#1), ∀ a, (k0_off701 v3516) a + S1x1024.size a ≤ S40960x1024.size a := fun i v3516 k0_hw693 k0_h2 => k0_hw693 k0_h2

def k0_off702 (v3521 : BitVec 32) : Fin 2 → Nat :=
  let c0_i32_3843 : BitVec 32 := 0#32
  ![v3521.toNat, 0]

def k0_chk694 (i : grid0.Coords) (v3521 : BitVec 32) : Prop :=
  (∀ (k0_h2 : k0_cond2 i = 1#1), ∀ a, (k0_off702 v3521) a + S1x1024.size a ≤ S40960x1024.size a)
theorem k0_off702_inb : ∀ (i : grid0.Coords) (v3521 : BitVec 32) (k0_hw694 : k0_chk694 i v3521), ∀ (k0_h2 : k0_cond2 i = 1#1), ∀ a, (k0_off702 v3521) a + S1x1024.size a ≤ S40960x1024.size a := fun i v3521 k0_hw694 k0_h2 => k0_hw694 k0_h2

def k0_off703 (v3526 : BitVec 32) : Fin 2 → Nat :=
  let c0_i32_3848 : BitVec 32 := 0#32
  ![v3526.toNat, 0]

def k0_chk695 (i : grid0.Coords) (v3526 : BitVec 32) : Prop :=
  (∀ (k0_h2 : k0_cond2 i = 1#1), ∀ a, (k0_off703 v3526) a + S1x1024.size a ≤ S40960x1024.size a)
theorem k0_off703_inb : ∀ (i : grid0.Coords) (v3526 : BitVec 32) (k0_hw695 : k0_chk695 i v3526), ∀ (k0_h2 : k0_cond2 i = 1#1), ∀ a, (k0_off703 v3526) a + S1x1024.size a ≤ S40960x1024.size a := fun i v3526 k0_hw695 k0_h2 => k0_hw695 k0_h2

def k0_off704 (v3531 : BitVec 32) : Fin 2 → Nat :=
  let c0_i32_3854 : BitVec 32 := 0#32
  ![v3531.toNat, 0]

def k0_chk696 (i : grid0.Coords) (v3531 : BitVec 32) : Prop :=
  (∀ (k0_h2 : k0_cond2 i = 1#1), ∀ a, (k0_off704 v3531) a + S1x1024.size a ≤ S40960x1024.size a)
theorem k0_off704_inb : ∀ (i : grid0.Coords) (v3531 : BitVec 32) (k0_hw696 : k0_chk696 i v3531), ∀ (k0_h2 : k0_cond2 i = 1#1), ∀ a, (k0_off704 v3531) a + S1x1024.size a ≤ S40960x1024.size a := fun i v3531 k0_hw696 k0_h2 => k0_hw696 k0_h2

def k0_off705 (v3536 : BitVec 32) : Fin 2 → Nat :=
  let c0_i32_3859 : BitVec 32 := 0#32
  ![v3536.toNat, 0]

def k0_chk697 (i : grid0.Coords) (v3536 : BitVec 32) : Prop :=
  (∀ (k0_h2 : k0_cond2 i = 1#1), ∀ a, (k0_off705 v3536) a + S1x1024.size a ≤ S40960x1024.size a)
theorem k0_off705_inb : ∀ (i : grid0.Coords) (v3536 : BitVec 32) (k0_hw697 : k0_chk697 i v3536), ∀ (k0_h2 : k0_cond2 i = 1#1), ∀ a, (k0_off705 v3536) a + S1x1024.size a ≤ S40960x1024.size a := fun i v3536 k0_hw697 k0_h2 => k0_hw697 k0_h2

def k0_off706 (v3541 : BitVec 32) : Fin 2 → Nat :=
  let c0_i32_3865 : BitVec 32 := 0#32
  ![v3541.toNat, 0]

def k0_chk698 (i : grid0.Coords) (v3541 : BitVec 32) : Prop :=
  (∀ (k0_h2 : k0_cond2 i = 1#1), ∀ a, (k0_off706 v3541) a + S1x1024.size a ≤ S40960x1024.size a)
theorem k0_off706_inb : ∀ (i : grid0.Coords) (v3541 : BitVec 32) (k0_hw698 : k0_chk698 i v3541), ∀ (k0_h2 : k0_cond2 i = 1#1), ∀ a, (k0_off706 v3541) a + S1x1024.size a ≤ S40960x1024.size a := fun i v3541 k0_hw698 k0_h2 => k0_hw698 k0_h2

def k0_off707 (v3546 : BitVec 32) : Fin 2 → Nat :=
  let c0_i32_3870 : BitVec 32 := 0#32
  ![v3546.toNat, 0]

def k0_chk699 (i : grid0.Coords) (v3546 : BitVec 32) : Prop :=
  (∀ (k0_h2 : k0_cond2 i = 1#1), ∀ a, (k0_off707 v3546) a + S1x1024.size a ≤ S40960x1024.size a)
theorem k0_off707_inb : ∀ (i : grid0.Coords) (v3546 : BitVec 32) (k0_hw699 : k0_chk699 i v3546), ∀ (k0_h2 : k0_cond2 i = 1#1), ∀ a, (k0_off707 v3546) a + S1x1024.size a ≤ S40960x1024.size a := fun i v3546 k0_hw699 k0_h2 => k0_hw699 k0_h2

def k0_off708 (v3551 : BitVec 32) : Fin 2 → Nat :=
  let c0_i32_3876 : BitVec 32 := 0#32
  ![v3551.toNat, 0]

def k0_chk700 (i : grid0.Coords) (v3551 : BitVec 32) : Prop :=
  (∀ (k0_h2 : k0_cond2 i = 1#1), ∀ a, (k0_off708 v3551) a + S1x1024.size a ≤ S40960x1024.size a)
theorem k0_off708_inb : ∀ (i : grid0.Coords) (v3551 : BitVec 32) (k0_hw700 : k0_chk700 i v3551), ∀ (k0_h2 : k0_cond2 i = 1#1), ∀ a, (k0_off708 v3551) a + S1x1024.size a ≤ S40960x1024.size a := fun i v3551 k0_hw700 k0_h2 => k0_hw700 k0_h2

def k0_off709 (v3556 : BitVec 32) : Fin 2 → Nat :=
  let c0_i32_3881 : BitVec 32 := 0#32
  ![v3556.toNat, 0]

def k0_chk701 (i : grid0.Coords) (v3556 : BitVec 32) : Prop :=
  (∀ (k0_h2 : k0_cond2 i = 1#1), ∀ a, (k0_off709 v3556) a + S1x1024.size a ≤ S40960x1024.size a)
theorem k0_off709_inb : ∀ (i : grid0.Coords) (v3556 : BitVec 32) (k0_hw701 : k0_chk701 i v3556), ∀ (k0_h2 : k0_cond2 i = 1#1), ∀ a, (k0_off709 v3556) a + S1x1024.size a ≤ S40960x1024.size a := fun i v3556 k0_hw701 k0_h2 => k0_hw701 k0_h2

def k0_off710 (v3561 : BitVec 32) : Fin 2 → Nat :=
  let c0_i32_3887 : BitVec 32 := 0#32
  ![v3561.toNat, 0]

def k0_chk702 (i : grid0.Coords) (v3561 : BitVec 32) : Prop :=
  (∀ (k0_h2 : k0_cond2 i = 1#1), ∀ a, (k0_off710 v3561) a + S1x1024.size a ≤ S40960x1024.size a)
theorem k0_off710_inb : ∀ (i : grid0.Coords) (v3561 : BitVec 32) (k0_hw702 : k0_chk702 i v3561), ∀ (k0_h2 : k0_cond2 i = 1#1), ∀ a, (k0_off710 v3561) a + S1x1024.size a ≤ S40960x1024.size a := fun i v3561 k0_hw702 k0_h2 => k0_hw702 k0_h2

def k0_off711 (v3566 : BitVec 32) : Fin 2 → Nat :=
  let c0_i32_3892 : BitVec 32 := 0#32
  ![v3566.toNat, 0]

def k0_chk703 (i : grid0.Coords) (v3566 : BitVec 32) : Prop :=
  (∀ (k0_h2 : k0_cond2 i = 1#1), ∀ a, (k0_off711 v3566) a + S1x1024.size a ≤ S40960x1024.size a)
theorem k0_off711_inb : ∀ (i : grid0.Coords) (v3566 : BitVec 32) (k0_hw703 : k0_chk703 i v3566), ∀ (k0_h2 : k0_cond2 i = 1#1), ∀ a, (k0_off711 v3566) a + S1x1024.size a ≤ S40960x1024.size a := fun i v3566 k0_hw703 k0_h2 => k0_hw703 k0_h2

def k0_off712 (v3571 : BitVec 32) : Fin 2 → Nat :=
  let c0_i32_3898 : BitVec 32 := 0#32
  ![v3571.toNat, 0]

def k0_chk704 (i : grid0.Coords) (v3571 : BitVec 32) : Prop :=
  (∀ (k0_h2 : k0_cond2 i = 1#1), ∀ a, (k0_off712 v3571) a + S1x1024.size a ≤ S40960x1024.size a)
theorem k0_off712_inb : ∀ (i : grid0.Coords) (v3571 : BitVec 32) (k0_hw704 : k0_chk704 i v3571), ∀ (k0_h2 : k0_cond2 i = 1#1), ∀ a, (k0_off712 v3571) a + S1x1024.size a ≤ S40960x1024.size a := fun i v3571 k0_hw704 k0_h2 => k0_hw704 k0_h2

def k0_off713 (v3576 : BitVec 32) : Fin 2 → Nat :=
  let c0_i32_3903 : BitVec 32 := 0#32
  ![v3576.toNat, 0]

def k0_chk705 (i : grid0.Coords) (v3576 : BitVec 32) : Prop :=
  (∀ (k0_h2 : k0_cond2 i = 1#1), ∀ a, (k0_off713 v3576) a + S1x1024.size a ≤ S40960x1024.size a)
theorem k0_off713_inb : ∀ (i : grid0.Coords) (v3576 : BitVec 32) (k0_hw705 : k0_chk705 i v3576), ∀ (k0_h2 : k0_cond2 i = 1#1), ∀ a, (k0_off713 v3576) a + S1x1024.size a ≤ S40960x1024.size a := fun i v3576 k0_hw705 k0_h2 => k0_hw705 k0_h2

def k0_off714 (v3581 : BitVec 32) : Fin 2 → Nat :=
  let c0_i32_3909 : BitVec 32 := 0#32
  ![v3581.toNat, 0]

def k0_chk706 (i : grid0.Coords) (v3581 : BitVec 32) : Prop :=
  (∀ (k0_h2 : k0_cond2 i = 1#1), ∀ a, (k0_off714 v3581) a + S1x1024.size a ≤ S40960x1024.size a)
theorem k0_off714_inb : ∀ (i : grid0.Coords) (v3581 : BitVec 32) (k0_hw706 : k0_chk706 i v3581), ∀ (k0_h2 : k0_cond2 i = 1#1), ∀ a, (k0_off714 v3581) a + S1x1024.size a ≤ S40960x1024.size a := fun i v3581 k0_hw706 k0_h2 => k0_hw706 k0_h2

def k0_off715 (v3586 : BitVec 32) : Fin 2 → Nat :=
  let c0_i32_3914 : BitVec 32 := 0#32
  ![v3586.toNat, 0]

def k0_chk707 (i : grid0.Coords) (v3586 : BitVec 32) : Prop :=
  (∀ (k0_h2 : k0_cond2 i = 1#1), ∀ a, (k0_off715 v3586) a + S1x1024.size a ≤ S40960x1024.size a)
theorem k0_off715_inb : ∀ (i : grid0.Coords) (v3586 : BitVec 32) (k0_hw707 : k0_chk707 i v3586), ∀ (k0_h2 : k0_cond2 i = 1#1), ∀ a, (k0_off715 v3586) a + S1x1024.size a ≤ S40960x1024.size a := fun i v3586 k0_hw707 k0_h2 => k0_hw707 k0_h2

def k0_off716 (v3591 : BitVec 32) : Fin 2 → Nat :=
  let c0_i32_3920 : BitVec 32 := 0#32
  ![v3591.toNat, 0]

def k0_chk708 (i : grid0.Coords) (v3591 : BitVec 32) : Prop :=
  (∀ (k0_h2 : k0_cond2 i = 1#1), ∀ a, (k0_off716 v3591) a + S1x1024.size a ≤ S40960x1024.size a)
theorem k0_off716_inb : ∀ (i : grid0.Coords) (v3591 : BitVec 32) (k0_hw708 : k0_chk708 i v3591), ∀ (k0_h2 : k0_cond2 i = 1#1), ∀ a, (k0_off716 v3591) a + S1x1024.size a ≤ S40960x1024.size a := fun i v3591 k0_hw708 k0_h2 => k0_hw708 k0_h2

def k0_off717 (v3596 : BitVec 32) : Fin 2 → Nat :=
  let c0_i32_3925 : BitVec 32 := 0#32
  ![v3596.toNat, 0]

def k0_chk709 (i : grid0.Coords) (v3596 : BitVec 32) : Prop :=
  (∀ (k0_h2 : k0_cond2 i = 1#1), ∀ a, (k0_off717 v3596) a + S1x1024.size a ≤ S40960x1024.size a)
theorem k0_off717_inb : ∀ (i : grid0.Coords) (v3596 : BitVec 32) (k0_hw709 : k0_chk709 i v3596), ∀ (k0_h2 : k0_cond2 i = 1#1), ∀ a, (k0_off717 v3596) a + S1x1024.size a ≤ S40960x1024.size a := fun i v3596 k0_hw709 k0_h2 => k0_hw709 k0_h2

def k0_off718 (v3601 : BitVec 32) : Fin 2 → Nat :=
  let c0_i32_3931 : BitVec 32 := 0#32
  ![v3601.toNat, 0]

def k0_chk710 (i : grid0.Coords) (v3601 : BitVec 32) : Prop :=
  (∀ (k0_h2 : k0_cond2 i = 1#1), ∀ a, (k0_off718 v3601) a + S1x1024.size a ≤ S40960x1024.size a)
theorem k0_off718_inb : ∀ (i : grid0.Coords) (v3601 : BitVec 32) (k0_hw710 : k0_chk710 i v3601), ∀ (k0_h2 : k0_cond2 i = 1#1), ∀ a, (k0_off718 v3601) a + S1x1024.size a ≤ S40960x1024.size a := fun i v3601 k0_hw710 k0_h2 => k0_hw710 k0_h2

def k0_off719 (v3606 : BitVec 32) : Fin 2 → Nat :=
  let c0_i32_3936 : BitVec 32 := 0#32
  ![v3606.toNat, 0]

def k0_chk711 (i : grid0.Coords) (v3606 : BitVec 32) : Prop :=
  (∀ (k0_h2 : k0_cond2 i = 1#1), ∀ a, (k0_off719 v3606) a + S1x1024.size a ≤ S40960x1024.size a)
theorem k0_off719_inb : ∀ (i : grid0.Coords) (v3606 : BitVec 32) (k0_hw711 : k0_chk711 i v3606), ∀ (k0_h2 : k0_cond2 i = 1#1), ∀ a, (k0_off719 v3606) a + S1x1024.size a ≤ S40960x1024.size a := fun i v3606 k0_hw711 k0_h2 => k0_hw711 k0_h2

def k0_off720 (v3611 : BitVec 32) : Fin 2 → Nat :=
  let c0_i32_3942 : BitVec 32 := 0#32
  ![v3611.toNat, 0]

def k0_chk712 (i : grid0.Coords) (v3611 : BitVec 32) : Prop :=
  (∀ (k0_h2 : k0_cond2 i = 1#1), ∀ a, (k0_off720 v3611) a + S1x1024.size a ≤ S40960x1024.size a)
theorem k0_off720_inb : ∀ (i : grid0.Coords) (v3611 : BitVec 32) (k0_hw712 : k0_chk712 i v3611), ∀ (k0_h2 : k0_cond2 i = 1#1), ∀ a, (k0_off720 v3611) a + S1x1024.size a ≤ S40960x1024.size a := fun i v3611 k0_hw712 k0_h2 => k0_hw712 k0_h2

def k0_off721 (v3616 : BitVec 32) : Fin 2 → Nat :=
  let c0_i32_3947 : BitVec 32 := 0#32
  ![v3616.toNat, 0]

def k0_chk713 (i : grid0.Coords) (v3616 : BitVec 32) : Prop :=
  (∀ (k0_h2 : k0_cond2 i = 1#1), ∀ a, (k0_off721 v3616) a + S1x1024.size a ≤ S40960x1024.size a)
theorem k0_off721_inb : ∀ (i : grid0.Coords) (v3616 : BitVec 32) (k0_hw713 : k0_chk713 i v3616), ∀ (k0_h2 : k0_cond2 i = 1#1), ∀ a, (k0_off721 v3616) a + S1x1024.size a ≤ S40960x1024.size a := fun i v3616 k0_hw713 k0_h2 => k0_hw713 k0_h2

def k0_off722 (v3621 : BitVec 32) : Fin 2 → Nat :=
  let c0_i32_3953 : BitVec 32 := 0#32
  ![v3621.toNat, 0]

def k0_chk714 (i : grid0.Coords) (v3621 : BitVec 32) : Prop :=
  (∀ (k0_h2 : k0_cond2 i = 1#1), ∀ a, (k0_off722 v3621) a + S1x1024.size a ≤ S40960x1024.size a)
theorem k0_off722_inb : ∀ (i : grid0.Coords) (v3621 : BitVec 32) (k0_hw714 : k0_chk714 i v3621), ∀ (k0_h2 : k0_cond2 i = 1#1), ∀ a, (k0_off722 v3621) a + S1x1024.size a ≤ S40960x1024.size a := fun i v3621 k0_hw714 k0_h2 => k0_hw714 k0_h2

def k0_off723 (v3626 : BitVec 32) : Fin 2 → Nat :=
  let c0_i32_3958 : BitVec 32 := 0#32
  ![v3626.toNat, 0]

def k0_chk715 (i : grid0.Coords) (v3626 : BitVec 32) : Prop :=
  (∀ (k0_h2 : k0_cond2 i = 1#1), ∀ a, (k0_off723 v3626) a + S1x1024.size a ≤ S40960x1024.size a)
theorem k0_off723_inb : ∀ (i : grid0.Coords) (v3626 : BitVec 32) (k0_hw715 : k0_chk715 i v3626), ∀ (k0_h2 : k0_cond2 i = 1#1), ∀ a, (k0_off723 v3626) a + S1x1024.size a ≤ S40960x1024.size a := fun i v3626 k0_hw715 k0_h2 => k0_hw715 k0_h2

def k0_off724 (v3631 : BitVec 32) : Fin 2 → Nat :=
  let c0_i32_3964 : BitVec 32 := 0#32
  ![v3631.toNat, 0]

def k0_chk716 (i : grid0.Coords) (v3631 : BitVec 32) : Prop :=
  (∀ (k0_h2 : k0_cond2 i = 1#1), ∀ a, (k0_off724 v3631) a + S1x1024.size a ≤ S40960x1024.size a)
theorem k0_off724_inb : ∀ (i : grid0.Coords) (v3631 : BitVec 32) (k0_hw716 : k0_chk716 i v3631), ∀ (k0_h2 : k0_cond2 i = 1#1), ∀ a, (k0_off724 v3631) a + S1x1024.size a ≤ S40960x1024.size a := fun i v3631 k0_hw716 k0_h2 => k0_hw716 k0_h2

def k0_off725 (v3636 : BitVec 32) : Fin 2 → Nat :=
  let c0_i32_3969 : BitVec 32 := 0#32
  ![v3636.toNat, 0]

def k0_chk717 (i : grid0.Coords) (v3636 : BitVec 32) : Prop :=
  (∀ (k0_h2 : k0_cond2 i = 1#1), ∀ a, (k0_off725 v3636) a + S1x1024.size a ≤ S40960x1024.size a)
theorem k0_off725_inb : ∀ (i : grid0.Coords) (v3636 : BitVec 32) (k0_hw717 : k0_chk717 i v3636), ∀ (k0_h2 : k0_cond2 i = 1#1), ∀ a, (k0_off725 v3636) a + S1x1024.size a ≤ S40960x1024.size a := fun i v3636 k0_hw717 k0_h2 => k0_hw717 k0_h2

def k0_off726 (v3641 : BitVec 32) : Fin 2 → Nat :=
  let c0_i32_3975 : BitVec 32 := 0#32
  ![v3641.toNat, 0]

def k0_chk718 (i : grid0.Coords) (v3641 : BitVec 32) : Prop :=
  (∀ (k0_h2 : k0_cond2 i = 1#1), ∀ a, (k0_off726 v3641) a + S1x1024.size a ≤ S40960x1024.size a)
theorem k0_off726_inb : ∀ (i : grid0.Coords) (v3641 : BitVec 32) (k0_hw718 : k0_chk718 i v3641), ∀ (k0_h2 : k0_cond2 i = 1#1), ∀ a, (k0_off726 v3641) a + S1x1024.size a ≤ S40960x1024.size a := fun i v3641 k0_hw718 k0_h2 => k0_hw718 k0_h2

def k0_off727 (v3646 : BitVec 32) : Fin 2 → Nat :=
  let c0_i32_3980 : BitVec 32 := 0#32
  ![v3646.toNat, 0]

def k0_chk719 (i : grid0.Coords) (v3646 : BitVec 32) : Prop :=
  (∀ (k0_h2 : k0_cond2 i = 1#1), ∀ a, (k0_off727 v3646) a + S1x1024.size a ≤ S40960x1024.size a)
theorem k0_off727_inb : ∀ (i : grid0.Coords) (v3646 : BitVec 32) (k0_hw719 : k0_chk719 i v3646), ∀ (k0_h2 : k0_cond2 i = 1#1), ∀ a, (k0_off727 v3646) a + S1x1024.size a ≤ S40960x1024.size a := fun i v3646 k0_hw719 k0_h2 => k0_hw719 k0_h2

def k0_off728 (v3651 : BitVec 32) : Fin 2 → Nat :=
  let c0_i32_3986 : BitVec 32 := 0#32
  ![v3651.toNat, 0]

def k0_chk720 (i : grid0.Coords) (v3651 : BitVec 32) : Prop :=
  (∀ (k0_h2 : k0_cond2 i = 1#1), ∀ a, (k0_off728 v3651) a + S1x1024.size a ≤ S40960x1024.size a)
theorem k0_off728_inb : ∀ (i : grid0.Coords) (v3651 : BitVec 32) (k0_hw720 : k0_chk720 i v3651), ∀ (k0_h2 : k0_cond2 i = 1#1), ∀ a, (k0_off728 v3651) a + S1x1024.size a ≤ S40960x1024.size a := fun i v3651 k0_hw720 k0_h2 => k0_hw720 k0_h2

def k0_off729 (v3656 : BitVec 32) : Fin 2 → Nat :=
  let c0_i32_3991 : BitVec 32 := 0#32
  ![v3656.toNat, 0]

def k0_chk721 (i : grid0.Coords) (v3656 : BitVec 32) : Prop :=
  (∀ (k0_h2 : k0_cond2 i = 1#1), ∀ a, (k0_off729 v3656) a + S1x1024.size a ≤ S40960x1024.size a)
theorem k0_off729_inb : ∀ (i : grid0.Coords) (v3656 : BitVec 32) (k0_hw721 : k0_chk721 i v3656), ∀ (k0_h2 : k0_cond2 i = 1#1), ∀ a, (k0_off729 v3656) a + S1x1024.size a ≤ S40960x1024.size a := fun i v3656 k0_hw721 k0_h2 => k0_hw721 k0_h2

def k0_off730 (v3661 : BitVec 32) : Fin 2 → Nat :=
  let c0_i32_3997 : BitVec 32 := 0#32
  ![v3661.toNat, 0]

def k0_chk722 (i : grid0.Coords) (v3661 : BitVec 32) : Prop :=
  (∀ (k0_h2 : k0_cond2 i = 1#1), ∀ a, (k0_off730 v3661) a + S1x1024.size a ≤ S40960x1024.size a)
theorem k0_off730_inb : ∀ (i : grid0.Coords) (v3661 : BitVec 32) (k0_hw722 : k0_chk722 i v3661), ∀ (k0_h2 : k0_cond2 i = 1#1), ∀ a, (k0_off730 v3661) a + S1x1024.size a ≤ S40960x1024.size a := fun i v3661 k0_hw722 k0_h2 => k0_hw722 k0_h2

def k0_off731 (v3666 : BitVec 32) : Fin 2 → Nat :=
  let c0_i32_4002 : BitVec 32 := 0#32
  ![v3666.toNat, 0]

def k0_chk723 (i : grid0.Coords) (v3666 : BitVec 32) : Prop :=
  (∀ (k0_h2 : k0_cond2 i = 1#1), ∀ a, (k0_off731 v3666) a + S1x1024.size a ≤ S40960x1024.size a)
theorem k0_off731_inb : ∀ (i : grid0.Coords) (v3666 : BitVec 32) (k0_hw723 : k0_chk723 i v3666), ∀ (k0_h2 : k0_cond2 i = 1#1), ∀ a, (k0_off731 v3666) a + S1x1024.size a ≤ S40960x1024.size a := fun i v3666 k0_hw723 k0_h2 => k0_hw723 k0_h2

def k0_off732 (v3671 : BitVec 32) : Fin 2 → Nat :=
  let c0_i32_4008 : BitVec 32 := 0#32
  ![v3671.toNat, 0]

def k0_chk724 (i : grid0.Coords) (v3671 : BitVec 32) : Prop :=
  (∀ (k0_h2 : k0_cond2 i = 1#1), ∀ a, (k0_off732 v3671) a + S1x1024.size a ≤ S40960x1024.size a)
theorem k0_off732_inb : ∀ (i : grid0.Coords) (v3671 : BitVec 32) (k0_hw724 : k0_chk724 i v3671), ∀ (k0_h2 : k0_cond2 i = 1#1), ∀ a, (k0_off732 v3671) a + S1x1024.size a ≤ S40960x1024.size a := fun i v3671 k0_hw724 k0_h2 => k0_hw724 k0_h2

def k0_off733 (v3676 : BitVec 32) : Fin 2 → Nat :=
  let c0_i32_4013 : BitVec 32 := 0#32
  ![v3676.toNat, 0]

def k0_chk725 (i : grid0.Coords) (v3676 : BitVec 32) : Prop :=
  (∀ (k0_h2 : k0_cond2 i = 1#1), ∀ a, (k0_off733 v3676) a + S1x1024.size a ≤ S40960x1024.size a)
theorem k0_off733_inb : ∀ (i : grid0.Coords) (v3676 : BitVec 32) (k0_hw725 : k0_chk725 i v3676), ∀ (k0_h2 : k0_cond2 i = 1#1), ∀ a, (k0_off733 v3676) a + S1x1024.size a ≤ S40960x1024.size a := fun i v3676 k0_hw725 k0_h2 => k0_hw725 k0_h2

def k0_off734 (v3681 : BitVec 32) : Fin 2 → Nat :=
  let c0_i32_4019 : BitVec 32 := 0#32
  ![v3681.toNat, 0]

def k0_chk726 (i : grid0.Coords) (v3681 : BitVec 32) : Prop :=
  (∀ (k0_h2 : k0_cond2 i = 1#1), ∀ a, (k0_off734 v3681) a + S1x1024.size a ≤ S40960x1024.size a)
theorem k0_off734_inb : ∀ (i : grid0.Coords) (v3681 : BitVec 32) (k0_hw726 : k0_chk726 i v3681), ∀ (k0_h2 : k0_cond2 i = 1#1), ∀ a, (k0_off734 v3681) a + S1x1024.size a ≤ S40960x1024.size a := fun i v3681 k0_hw726 k0_h2 => k0_hw726 k0_h2

def k0_off735 (v3686 : BitVec 32) : Fin 2 → Nat :=
  let c0_i32_4024 : BitVec 32 := 0#32
  ![v3686.toNat, 0]

def k0_chk727 (i : grid0.Coords) (v3686 : BitVec 32) : Prop :=
  (∀ (k0_h2 : k0_cond2 i = 1#1), ∀ a, (k0_off735 v3686) a + S1x1024.size a ≤ S40960x1024.size a)
theorem k0_off735_inb : ∀ (i : grid0.Coords) (v3686 : BitVec 32) (k0_hw727 : k0_chk727 i v3686), ∀ (k0_h2 : k0_cond2 i = 1#1), ∀ a, (k0_off735 v3686) a + S1x1024.size a ≤ S40960x1024.size a := fun i v3686 k0_hw727 k0_h2 => k0_hw727 k0_h2

def k0_off736 (v3691 : BitVec 32) : Fin 2 → Nat :=
  let c0_i32_4030 : BitVec 32 := 0#32
  ![v3691.toNat, 0]

def k0_chk728 (i : grid0.Coords) (v3691 : BitVec 32) : Prop :=
  (∀ (k0_h2 : k0_cond2 i = 1#1), ∀ a, (k0_off736 v3691) a + S1x1024.size a ≤ S40960x1024.size a)
theorem k0_off736_inb : ∀ (i : grid0.Coords) (v3691 : BitVec 32) (k0_hw728 : k0_chk728 i v3691), ∀ (k0_h2 : k0_cond2 i = 1#1), ∀ a, (k0_off736 v3691) a + S1x1024.size a ≤ S40960x1024.size a := fun i v3691 k0_hw728 k0_h2 => k0_hw728 k0_h2

def k0_off737 (v3696 : BitVec 32) : Fin 2 → Nat :=
  let c0_i32_4035 : BitVec 32 := 0#32
  ![v3696.toNat, 0]

def k0_chk729 (i : grid0.Coords) (v3696 : BitVec 32) : Prop :=
  (∀ (k0_h2 : k0_cond2 i = 1#1), ∀ a, (k0_off737 v3696) a + S1x1024.size a ≤ S40960x1024.size a)
theorem k0_off737_inb : ∀ (i : grid0.Coords) (v3696 : BitVec 32) (k0_hw729 : k0_chk729 i v3696), ∀ (k0_h2 : k0_cond2 i = 1#1), ∀ a, (k0_off737 v3696) a + S1x1024.size a ≤ S40960x1024.size a := fun i v3696 k0_hw729 k0_h2 => k0_hw729 k0_h2

def k0_off738 (v3701 : BitVec 32) : Fin 2 → Nat :=
  let c0_i32_4041 : BitVec 32 := 0#32
  ![v3701.toNat, 0]

def k0_chk730 (i : grid0.Coords) (v3701 : BitVec 32) : Prop :=
  (∀ (k0_h2 : k0_cond2 i = 1#1), ∀ a, (k0_off738 v3701) a + S1x1024.size a ≤ S40960x1024.size a)
theorem k0_off738_inb : ∀ (i : grid0.Coords) (v3701 : BitVec 32) (k0_hw730 : k0_chk730 i v3701), ∀ (k0_h2 : k0_cond2 i = 1#1), ∀ a, (k0_off738 v3701) a + S1x1024.size a ≤ S40960x1024.size a := fun i v3701 k0_hw730 k0_h2 => k0_hw730 k0_h2

def k0_off739 (v3706 : BitVec 32) : Fin 2 → Nat :=
  let c0_i32_4046 : BitVec 32 := 0#32
  ![v3706.toNat, 0]

def k0_chk731 (i : grid0.Coords) (v3706 : BitVec 32) : Prop :=
  (∀ (k0_h2 : k0_cond2 i = 1#1), ∀ a, (k0_off739 v3706) a + S1x1024.size a ≤ S40960x1024.size a)
theorem k0_off739_inb : ∀ (i : grid0.Coords) (v3706 : BitVec 32) (k0_hw731 : k0_chk731 i v3706), ∀ (k0_h2 : k0_cond2 i = 1#1), ∀ a, (k0_off739 v3706) a + S1x1024.size a ≤ S40960x1024.size a := fun i v3706 k0_hw731 k0_h2 => k0_hw731 k0_h2

def k0_off740 (v3711 : BitVec 32) : Fin 2 → Nat :=
  let c0_i32_4052 : BitVec 32 := 0#32
  ![v3711.toNat, 0]

def k0_chk732 (i : grid0.Coords) (v3711 : BitVec 32) : Prop :=
  (∀ (k0_h2 : k0_cond2 i = 1#1), ∀ a, (k0_off740 v3711) a + S1x1024.size a ≤ S40960x1024.size a)
theorem k0_off740_inb : ∀ (i : grid0.Coords) (v3711 : BitVec 32) (k0_hw732 : k0_chk732 i v3711), ∀ (k0_h2 : k0_cond2 i = 1#1), ∀ a, (k0_off740 v3711) a + S1x1024.size a ≤ S40960x1024.size a := fun i v3711 k0_hw732 k0_h2 => k0_hw732 k0_h2

def k0_off741 (v3716 : BitVec 32) : Fin 2 → Nat :=
  let c0_i32_4057 : BitVec 32 := 0#32
  ![v3716.toNat, 0]

def k0_chk733 (i : grid0.Coords) (v3716 : BitVec 32) : Prop :=
  (∀ (k0_h2 : k0_cond2 i = 1#1), ∀ a, (k0_off741 v3716) a + S1x1024.size a ≤ S40960x1024.size a)
theorem k0_off741_inb : ∀ (i : grid0.Coords) (v3716 : BitVec 32) (k0_hw733 : k0_chk733 i v3716), ∀ (k0_h2 : k0_cond2 i = 1#1), ∀ a, (k0_off741 v3716) a + S1x1024.size a ≤ S40960x1024.size a := fun i v3716 k0_hw733 k0_h2 => k0_hw733 k0_h2

def k0_off742 (v3721 : BitVec 32) : Fin 2 → Nat :=
  let c0_i32_4063 : BitVec 32 := 0#32
  ![v3721.toNat, 0]

def k0_chk734 (i : grid0.Coords) (v3721 : BitVec 32) : Prop :=
  (∀ (k0_h2 : k0_cond2 i = 1#1), ∀ a, (k0_off742 v3721) a + S1x1024.size a ≤ S40960x1024.size a)
theorem k0_off742_inb : ∀ (i : grid0.Coords) (v3721 : BitVec 32) (k0_hw734 : k0_chk734 i v3721), ∀ (k0_h2 : k0_cond2 i = 1#1), ∀ a, (k0_off742 v3721) a + S1x1024.size a ≤ S40960x1024.size a := fun i v3721 k0_hw734 k0_h2 => k0_hw734 k0_h2

def k0_off743 (v3726 : BitVec 32) : Fin 2 → Nat :=
  let c0_i32_4068 : BitVec 32 := 0#32
  ![v3726.toNat, 0]

def k0_chk735 (i : grid0.Coords) (v3726 : BitVec 32) : Prop :=
  (∀ (k0_h2 : k0_cond2 i = 1#1), ∀ a, (k0_off743 v3726) a + S1x1024.size a ≤ S40960x1024.size a)
theorem k0_off743_inb : ∀ (i : grid0.Coords) (v3726 : BitVec 32) (k0_hw735 : k0_chk735 i v3726), ∀ (k0_h2 : k0_cond2 i = 1#1), ∀ a, (k0_off743 v3726) a + S1x1024.size a ≤ S40960x1024.size a := fun i v3726 k0_hw735 k0_h2 => k0_hw735 k0_h2

def k0_off744 (v3731 : BitVec 32) : Fin 2 → Nat :=
  let c0_i32_4074 : BitVec 32 := 0#32
  ![v3731.toNat, 0]

def k0_chk736 (i : grid0.Coords) (v3731 : BitVec 32) : Prop :=
  (∀ (k0_h2 : k0_cond2 i = 1#1), ∀ a, (k0_off744 v3731) a + S1x1024.size a ≤ S40960x1024.size a)
theorem k0_off744_inb : ∀ (i : grid0.Coords) (v3731 : BitVec 32) (k0_hw736 : k0_chk736 i v3731), ∀ (k0_h2 : k0_cond2 i = 1#1), ∀ a, (k0_off744 v3731) a + S1x1024.size a ≤ S40960x1024.size a := fun i v3731 k0_hw736 k0_h2 => k0_hw736 k0_h2

def k0_off745 (v3736 : BitVec 32) : Fin 2 → Nat :=
  let c0_i32_4079 : BitVec 32 := 0#32
  ![v3736.toNat, 0]

def k0_chk737 (i : grid0.Coords) (v3736 : BitVec 32) : Prop :=
  (∀ (k0_h2 : k0_cond2 i = 1#1), ∀ a, (k0_off745 v3736) a + S1x1024.size a ≤ S40960x1024.size a)
theorem k0_off745_inb : ∀ (i : grid0.Coords) (v3736 : BitVec 32) (k0_hw737 : k0_chk737 i v3736), ∀ (k0_h2 : k0_cond2 i = 1#1), ∀ a, (k0_off745 v3736) a + S1x1024.size a ≤ S40960x1024.size a := fun i v3736 k0_hw737 k0_h2 => k0_hw737 k0_h2

def k0_off746 (v3741 : BitVec 32) : Fin 2 → Nat :=
  let c0_i32_4085 : BitVec 32 := 0#32
  ![v3741.toNat, 0]

def k0_chk738 (i : grid0.Coords) (v3741 : BitVec 32) : Prop :=
  (∀ (k0_h2 : k0_cond2 i = 1#1), ∀ a, (k0_off746 v3741) a + S1x1024.size a ≤ S40960x1024.size a)
theorem k0_off746_inb : ∀ (i : grid0.Coords) (v3741 : BitVec 32) (k0_hw738 : k0_chk738 i v3741), ∀ (k0_h2 : k0_cond2 i = 1#1), ∀ a, (k0_off746 v3741) a + S1x1024.size a ≤ S40960x1024.size a := fun i v3741 k0_hw738 k0_h2 => k0_hw738 k0_h2

def k0_off747 (v3746 : BitVec 32) : Fin 2 → Nat :=
  let c0_i32_4090 : BitVec 32 := 0#32
  ![v3746.toNat, 0]

def k0_chk739 (i : grid0.Coords) (v3746 : BitVec 32) : Prop :=
  (∀ (k0_h2 : k0_cond2 i = 1#1), ∀ a, (k0_off747 v3746) a + S1x1024.size a ≤ S40960x1024.size a)
theorem k0_off747_inb : ∀ (i : grid0.Coords) (v3746 : BitVec 32) (k0_hw739 : k0_chk739 i v3746), ∀ (k0_h2 : k0_cond2 i = 1#1), ∀ a, (k0_off747 v3746) a + S1x1024.size a ≤ S40960x1024.size a := fun i v3746 k0_hw739 k0_h2 => k0_hw739 k0_h2

def k0_off748 (v3751 : BitVec 32) : Fin 2 → Nat :=
  let c0_i32_4096 : BitVec 32 := 0#32
  ![v3751.toNat, 0]

def k0_chk740 (i : grid0.Coords) (v3751 : BitVec 32) : Prop :=
  (∀ (k0_h2 : k0_cond2 i = 1#1), ∀ a, (k0_off748 v3751) a + S1x1024.size a ≤ S40960x1024.size a)
theorem k0_off748_inb : ∀ (i : grid0.Coords) (v3751 : BitVec 32) (k0_hw740 : k0_chk740 i v3751), ∀ (k0_h2 : k0_cond2 i = 1#1), ∀ a, (k0_off748 v3751) a + S1x1024.size a ≤ S40960x1024.size a := fun i v3751 k0_hw740 k0_h2 => k0_hw740 k0_h2

def k0_off749 (v3756 : BitVec 32) : Fin 2 → Nat :=
  let c0_i32_4101 : BitVec 32 := 0#32
  ![v3756.toNat, 0]

def k0_chk741 (i : grid0.Coords) (v3756 : BitVec 32) : Prop :=
  (∀ (k0_h2 : k0_cond2 i = 1#1), ∀ a, (k0_off749 v3756) a + S1x1024.size a ≤ S40960x1024.size a)
theorem k0_off749_inb : ∀ (i : grid0.Coords) (v3756 : BitVec 32) (k0_hw741 : k0_chk741 i v3756), ∀ (k0_h2 : k0_cond2 i = 1#1), ∀ a, (k0_off749 v3756) a + S1x1024.size a ≤ S40960x1024.size a := fun i v3756 k0_hw741 k0_h2 => k0_hw741 k0_h2

def k0_off750 (v3761 : BitVec 32) : Fin 2 → Nat :=
  let c0_i32_4107 : BitVec 32 := 0#32
  ![v3761.toNat, 0]

def k0_chk742 (i : grid0.Coords) (v3761 : BitVec 32) : Prop :=
  (∀ (k0_h2 : k0_cond2 i = 1#1), ∀ a, (k0_off750 v3761) a + S1x1024.size a ≤ S40960x1024.size a)
theorem k0_off750_inb : ∀ (i : grid0.Coords) (v3761 : BitVec 32) (k0_hw742 : k0_chk742 i v3761), ∀ (k0_h2 : k0_cond2 i = 1#1), ∀ a, (k0_off750 v3761) a + S1x1024.size a ≤ S40960x1024.size a := fun i v3761 k0_hw742 k0_h2 => k0_hw742 k0_h2

def k0_off751 (v3766 : BitVec 32) : Fin 2 → Nat :=
  let c0_i32_4112 : BitVec 32 := 0#32
  ![v3766.toNat, 0]

def k0_chk743 (i : grid0.Coords) (v3766 : BitVec 32) : Prop :=
  (∀ (k0_h2 : k0_cond2 i = 1#1), ∀ a, (k0_off751 v3766) a + S1x1024.size a ≤ S40960x1024.size a)
theorem k0_off751_inb : ∀ (i : grid0.Coords) (v3766 : BitVec 32) (k0_hw743 : k0_chk743 i v3766), ∀ (k0_h2 : k0_cond2 i = 1#1), ∀ a, (k0_off751 v3766) a + S1x1024.size a ≤ S40960x1024.size a := fun i v3766 k0_hw743 k0_h2 => k0_hw743 k0_h2

def k0_off752 (v3771 : BitVec 32) : Fin 2 → Nat :=
  let c0_i32_4118 : BitVec 32 := 0#32
  ![v3771.toNat, 0]

def k0_chk744 (i : grid0.Coords) (v3771 : BitVec 32) : Prop :=
  (∀ (k0_h2 : k0_cond2 i = 1#1), ∀ a, (k0_off752 v3771) a + S1x1024.size a ≤ S40960x1024.size a)
theorem k0_off752_inb : ∀ (i : grid0.Coords) (v3771 : BitVec 32) (k0_hw744 : k0_chk744 i v3771), ∀ (k0_h2 : k0_cond2 i = 1#1), ∀ a, (k0_off752 v3771) a + S1x1024.size a ≤ S40960x1024.size a := fun i v3771 k0_hw744 k0_h2 => k0_hw744 k0_h2

def k0_off753 (v3776 : BitVec 32) : Fin 2 → Nat :=
  let c0_i32_4123 : BitVec 32 := 0#32
  ![v3776.toNat, 0]

def k0_chk745 (i : grid0.Coords) (v3776 : BitVec 32) : Prop :=
  (∀ (k0_h2 : k0_cond2 i = 1#1), ∀ a, (k0_off753 v3776) a + S1x1024.size a ≤ S40960x1024.size a)
theorem k0_off753_inb : ∀ (i : grid0.Coords) (v3776 : BitVec 32) (k0_hw745 : k0_chk745 i v3776), ∀ (k0_h2 : k0_cond2 i = 1#1), ∀ a, (k0_off753 v3776) a + S1x1024.size a ≤ S40960x1024.size a := fun i v3776 k0_hw745 k0_h2 => k0_hw745 k0_h2

def k0_off754 (v3781 : BitVec 32) : Fin 2 → Nat :=
  let c0_i32_4129 : BitVec 32 := 0#32
  ![v3781.toNat, 0]

def k0_chk746 (i : grid0.Coords) (v3781 : BitVec 32) : Prop :=
  (∀ (k0_h2 : k0_cond2 i = 1#1), ∀ a, (k0_off754 v3781) a + S1x1024.size a ≤ S40960x1024.size a)
theorem k0_off754_inb : ∀ (i : grid0.Coords) (v3781 : BitVec 32) (k0_hw746 : k0_chk746 i v3781), ∀ (k0_h2 : k0_cond2 i = 1#1), ∀ a, (k0_off754 v3781) a + S1x1024.size a ≤ S40960x1024.size a := fun i v3781 k0_hw746 k0_h2 => k0_hw746 k0_h2

def k0_off755 (v3786 : BitVec 32) : Fin 2 → Nat :=
  let c0_i32_4134 : BitVec 32 := 0#32
  ![v3786.toNat, 0]

def k0_chk747 (i : grid0.Coords) (v3786 : BitVec 32) : Prop :=
  (∀ (k0_h2 : k0_cond2 i = 1#1), ∀ a, (k0_off755 v3786) a + S1x1024.size a ≤ S40960x1024.size a)
theorem k0_off755_inb : ∀ (i : grid0.Coords) (v3786 : BitVec 32) (k0_hw747 : k0_chk747 i v3786), ∀ (k0_h2 : k0_cond2 i = 1#1), ∀ a, (k0_off755 v3786) a + S1x1024.size a ≤ S40960x1024.size a := fun i v3786 k0_hw747 k0_h2 => k0_hw747 k0_h2

def k0_off756 (v3791 : BitVec 32) : Fin 2 → Nat :=
  let c0_i32_4140 : BitVec 32 := 0#32
  ![v3791.toNat, 0]

def k0_chk748 (i : grid0.Coords) (v3791 : BitVec 32) : Prop :=
  (∀ (k0_h2 : k0_cond2 i = 1#1), ∀ a, (k0_off756 v3791) a + S1x1024.size a ≤ S40960x1024.size a)
theorem k0_off756_inb : ∀ (i : grid0.Coords) (v3791 : BitVec 32) (k0_hw748 : k0_chk748 i v3791), ∀ (k0_h2 : k0_cond2 i = 1#1), ∀ a, (k0_off756 v3791) a + S1x1024.size a ≤ S40960x1024.size a := fun i v3791 k0_hw748 k0_h2 => k0_hw748 k0_h2

def k0_off757 (v3796 : BitVec 32) : Fin 2 → Nat :=
  let c0_i32_4145 : BitVec 32 := 0#32
  ![v3796.toNat, 0]

def k0_chk749 (i : grid0.Coords) (v3796 : BitVec 32) : Prop :=
  (∀ (k0_h2 : k0_cond2 i = 1#1), ∀ a, (k0_off757 v3796) a + S1x1024.size a ≤ S40960x1024.size a)
theorem k0_off757_inb : ∀ (i : grid0.Coords) (v3796 : BitVec 32) (k0_hw749 : k0_chk749 i v3796), ∀ (k0_h2 : k0_cond2 i = 1#1), ∀ a, (k0_off757 v3796) a + S1x1024.size a ≤ S40960x1024.size a := fun i v3796 k0_hw749 k0_h2 => k0_hw749 k0_h2

def k0_off758 (v3801 : BitVec 32) : Fin 2 → Nat :=
  let c0_i32_4151 : BitVec 32 := 0#32
  ![v3801.toNat, 0]

def k0_chk750 (i : grid0.Coords) (v3801 : BitVec 32) : Prop :=
  (∀ (k0_h2 : k0_cond2 i = 1#1), ∀ a, (k0_off758 v3801) a + S1x1024.size a ≤ S40960x1024.size a)
theorem k0_off758_inb : ∀ (i : grid0.Coords) (v3801 : BitVec 32) (k0_hw750 : k0_chk750 i v3801), ∀ (k0_h2 : k0_cond2 i = 1#1), ∀ a, (k0_off758 v3801) a + S1x1024.size a ≤ S40960x1024.size a := fun i v3801 k0_hw750 k0_h2 => k0_hw750 k0_h2

def k0_off759 (v3806 : BitVec 32) : Fin 2 → Nat :=
  let c0_i32_4156 : BitVec 32 := 0#32
  ![v3806.toNat, 0]

def k0_chk751 (i : grid0.Coords) (v3806 : BitVec 32) : Prop :=
  (∀ (k0_h2 : k0_cond2 i = 1#1), ∀ a, (k0_off759 v3806) a + S1x1024.size a ≤ S40960x1024.size a)
theorem k0_off759_inb : ∀ (i : grid0.Coords) (v3806 : BitVec 32) (k0_hw751 : k0_chk751 i v3806), ∀ (k0_h2 : k0_cond2 i = 1#1), ∀ a, (k0_off759 v3806) a + S1x1024.size a ≤ S40960x1024.size a := fun i v3806 k0_hw751 k0_h2 => k0_hw751 k0_h2

def k0_off760 (v3811 : BitVec 32) : Fin 2 → Nat :=
  let c0_i32_4162 : BitVec 32 := 0#32
  ![v3811.toNat, 0]

def k0_chk752 (i : grid0.Coords) (v3811 : BitVec 32) : Prop :=
  (∀ (k0_h2 : k0_cond2 i = 1#1), ∀ a, (k0_off760 v3811) a + S1x1024.size a ≤ S40960x1024.size a)
theorem k0_off760_inb : ∀ (i : grid0.Coords) (v3811 : BitVec 32) (k0_hw752 : k0_chk752 i v3811), ∀ (k0_h2 : k0_cond2 i = 1#1), ∀ a, (k0_off760 v3811) a + S1x1024.size a ≤ S40960x1024.size a := fun i v3811 k0_hw752 k0_h2 => k0_hw752 k0_h2

def k0_off761 (v3816 : BitVec 32) : Fin 2 → Nat :=
  let c0_i32_4167 : BitVec 32 := 0#32
  ![v3816.toNat, 0]

def k0_chk753 (i : grid0.Coords) (v3816 : BitVec 32) : Prop :=
  (∀ (k0_h2 : k0_cond2 i = 1#1), ∀ a, (k0_off761 v3816) a + S1x1024.size a ≤ S40960x1024.size a)
theorem k0_off761_inb : ∀ (i : grid0.Coords) (v3816 : BitVec 32) (k0_hw753 : k0_chk753 i v3816), ∀ (k0_h2 : k0_cond2 i = 1#1), ∀ a, (k0_off761 v3816) a + S1x1024.size a ≤ S40960x1024.size a := fun i v3816 k0_hw753 k0_h2 => k0_hw753 k0_h2

def k0_off762 (v3821 : BitVec 32) : Fin 2 → Nat :=
  let c0_i32_4173 : BitVec 32 := 0#32
  ![v3821.toNat, 0]

def k0_chk754 (i : grid0.Coords) (v3821 : BitVec 32) : Prop :=
  (∀ (k0_h2 : k0_cond2 i = 1#1), ∀ a, (k0_off762 v3821) a + S1x1024.size a ≤ S40960x1024.size a)
theorem k0_off762_inb : ∀ (i : grid0.Coords) (v3821 : BitVec 32) (k0_hw754 : k0_chk754 i v3821), ∀ (k0_h2 : k0_cond2 i = 1#1), ∀ a, (k0_off762 v3821) a + S1x1024.size a ≤ S40960x1024.size a := fun i v3821 k0_hw754 k0_h2 => k0_hw754 k0_h2

def k0_off763 (v3826 : BitVec 32) : Fin 2 → Nat :=
  let c0_i32_4178 : BitVec 32 := 0#32
  ![v3826.toNat, 0]

def k0_chk755 (i : grid0.Coords) (v3826 : BitVec 32) : Prop :=
  (∀ (k0_h2 : k0_cond2 i = 1#1), ∀ a, (k0_off763 v3826) a + S1x1024.size a ≤ S40960x1024.size a)
theorem k0_off763_inb : ∀ (i : grid0.Coords) (v3826 : BitVec 32) (k0_hw755 : k0_chk755 i v3826), ∀ (k0_h2 : k0_cond2 i = 1#1), ∀ a, (k0_off763 v3826) a + S1x1024.size a ≤ S40960x1024.size a := fun i v3826 k0_hw755 k0_h2 => k0_hw755 k0_h2

def k0_off764 (v3831 : BitVec 32) : Fin 2 → Nat :=
  let c0_i32_4184 : BitVec 32 := 0#32
  ![v3831.toNat, 0]

def k0_chk756 (i : grid0.Coords) (v3831 : BitVec 32) : Prop :=
  (∀ (k0_h2 : k0_cond2 i = 1#1), ∀ a, (k0_off764 v3831) a + S1x1024.size a ≤ S40960x1024.size a)
theorem k0_off764_inb : ∀ (i : grid0.Coords) (v3831 : BitVec 32) (k0_hw756 : k0_chk756 i v3831), ∀ (k0_h2 : k0_cond2 i = 1#1), ∀ a, (k0_off764 v3831) a + S1x1024.size a ≤ S40960x1024.size a := fun i v3831 k0_hw756 k0_h2 => k0_hw756 k0_h2

def k0_off765 (v3836 : BitVec 32) : Fin 2 → Nat :=
  let c0_i32_4189 : BitVec 32 := 0#32
  ![v3836.toNat, 0]

def k0_chk757 (i : grid0.Coords) (v3836 : BitVec 32) : Prop :=
  (∀ (k0_h2 : k0_cond2 i = 1#1), ∀ a, (k0_off765 v3836) a + S1x1024.size a ≤ S40960x1024.size a)
theorem k0_off765_inb : ∀ (i : grid0.Coords) (v3836 : BitVec 32) (k0_hw757 : k0_chk757 i v3836), ∀ (k0_h2 : k0_cond2 i = 1#1), ∀ a, (k0_off765 v3836) a + S1x1024.size a ≤ S40960x1024.size a := fun i v3836 k0_hw757 k0_h2 => k0_hw757 k0_h2

def k0_off766 (v3841 : BitVec 32) : Fin 2 → Nat :=
  let c0_i32_4195 : BitVec 32 := 0#32
  ![v3841.toNat, 0]

def k0_chk758 (i : grid0.Coords) (v3841 : BitVec 32) : Prop :=
  (∀ (k0_h2 : k0_cond2 i = 1#1), ∀ a, (k0_off766 v3841) a + S1x1024.size a ≤ S40960x1024.size a)
theorem k0_off766_inb : ∀ (i : grid0.Coords) (v3841 : BitVec 32) (k0_hw758 : k0_chk758 i v3841), ∀ (k0_h2 : k0_cond2 i = 1#1), ∀ a, (k0_off766 v3841) a + S1x1024.size a ≤ S40960x1024.size a := fun i v3841 k0_hw758 k0_h2 => k0_hw758 k0_h2

def k0_off767 (v3846 : BitVec 32) : Fin 2 → Nat :=
  let c0_i32_4200 : BitVec 32 := 0#32
  ![v3846.toNat, 0]

def k0_chk759 (i : grid0.Coords) (v3846 : BitVec 32) : Prop :=
  (∀ (k0_h2 : k0_cond2 i = 1#1), ∀ a, (k0_off767 v3846) a + S1x1024.size a ≤ S40960x1024.size a)
theorem k0_off767_inb : ∀ (i : grid0.Coords) (v3846 : BitVec 32) (k0_hw759 : k0_chk759 i v3846), ∀ (k0_h2 : k0_cond2 i = 1#1), ∀ a, (k0_off767 v3846) a + S1x1024.size a ≤ S40960x1024.size a := fun i v3846 k0_hw759 k0_h2 => k0_hw759 k0_h2

def k0_off768 (v3851 : BitVec 32) : Fin 2 → Nat :=
  let c0_i32_4206 : BitVec 32 := 0#32
  ![v3851.toNat, 0]

def k0_chk760 (i : grid0.Coords) (v3851 : BitVec 32) : Prop :=
  (∀ (k0_h2 : k0_cond2 i = 1#1), ∀ a, (k0_off768 v3851) a + S1x1024.size a ≤ S40960x1024.size a)
theorem k0_off768_inb : ∀ (i : grid0.Coords) (v3851 : BitVec 32) (k0_hw760 : k0_chk760 i v3851), ∀ (k0_h2 : k0_cond2 i = 1#1), ∀ a, (k0_off768 v3851) a + S1x1024.size a ≤ S40960x1024.size a := fun i v3851 k0_hw760 k0_h2 => k0_hw760 k0_h2

def k0_off769 (v3856 : BitVec 32) : Fin 2 → Nat :=
  let c0_i32_4211 : BitVec 32 := 0#32
  ![v3856.toNat, 0]

def k0_chk761 (i : grid0.Coords) (v3856 : BitVec 32) : Prop :=
  (∀ (k0_h2 : k0_cond2 i = 1#1), ∀ a, (k0_off769 v3856) a + S1x1024.size a ≤ S40960x1024.size a)
theorem k0_off769_inb : ∀ (i : grid0.Coords) (v3856 : BitVec 32) (k0_hw761 : k0_chk761 i v3856), ∀ (k0_h2 : k0_cond2 i = 1#1), ∀ a, (k0_off769 v3856) a + S1x1024.size a ≤ S40960x1024.size a := fun i v3856 k0_hw761 k0_h2 => k0_hw761 k0_h2

def k0_off770 (v3861 : BitVec 32) : Fin 2 → Nat :=
  let c0_i32_4217 : BitVec 32 := 0#32
  ![v3861.toNat, 0]

def k0_chk762 (i : grid0.Coords) (v3861 : BitVec 32) : Prop :=
  (∀ (k0_h2 : k0_cond2 i = 1#1), ∀ a, (k0_off770 v3861) a + S1x1024.size a ≤ S40960x1024.size a)
theorem k0_off770_inb : ∀ (i : grid0.Coords) (v3861 : BitVec 32) (k0_hw762 : k0_chk762 i v3861), ∀ (k0_h2 : k0_cond2 i = 1#1), ∀ a, (k0_off770 v3861) a + S1x1024.size a ≤ S40960x1024.size a := fun i v3861 k0_hw762 k0_h2 => k0_hw762 k0_h2

def k0_off771 (v3866 : BitVec 32) : Fin 2 → Nat :=
  let c0_i32_4222 : BitVec 32 := 0#32
  ![v3866.toNat, 0]

def k0_chk763 (i : grid0.Coords) (v3866 : BitVec 32) : Prop :=
  (∀ (k0_h2 : k0_cond2 i = 1#1), ∀ a, (k0_off771 v3866) a + S1x1024.size a ≤ S40960x1024.size a)
theorem k0_off771_inb : ∀ (i : grid0.Coords) (v3866 : BitVec 32) (k0_hw763 : k0_chk763 i v3866), ∀ (k0_h2 : k0_cond2 i = 1#1), ∀ a, (k0_off771 v3866) a + S1x1024.size a ≤ S40960x1024.size a := fun i v3866 k0_hw763 k0_h2 => k0_hw763 k0_h2

def k0_off772 (v3871 : BitVec 32) : Fin 2 → Nat :=
  let c0_i32_4228 : BitVec 32 := 0#32
  ![v3871.toNat, 0]

def k0_chk764 (i : grid0.Coords) (v3871 : BitVec 32) : Prop :=
  (∀ (k0_h2 : k0_cond2 i = 1#1), ∀ a, (k0_off772 v3871) a + S1x1024.size a ≤ S40960x1024.size a)
theorem k0_off772_inb : ∀ (i : grid0.Coords) (v3871 : BitVec 32) (k0_hw764 : k0_chk764 i v3871), ∀ (k0_h2 : k0_cond2 i = 1#1), ∀ a, (k0_off772 v3871) a + S1x1024.size a ≤ S40960x1024.size a := fun i v3871 k0_hw764 k0_h2 => k0_hw764 k0_h2

def k0_off773 (v3876 : BitVec 32) : Fin 2 → Nat :=
  let c0_i32_4233 : BitVec 32 := 0#32
  ![v3876.toNat, 0]

def k0_chk765 (i : grid0.Coords) (v3876 : BitVec 32) : Prop :=
  (∀ (k0_h2 : k0_cond2 i = 1#1), ∀ a, (k0_off773 v3876) a + S1x1024.size a ≤ S40960x1024.size a)
theorem k0_off773_inb : ∀ (i : grid0.Coords) (v3876 : BitVec 32) (k0_hw765 : k0_chk765 i v3876), ∀ (k0_h2 : k0_cond2 i = 1#1), ∀ a, (k0_off773 v3876) a + S1x1024.size a ≤ S40960x1024.size a := fun i v3876 k0_hw765 k0_h2 => k0_hw765 k0_h2

def k0_off774 (v3881 : BitVec 32) : Fin 2 → Nat :=
  let c0_i32_4239 : BitVec 32 := 0#32
  ![v3881.toNat, 0]

def k0_chk766 (i : grid0.Coords) (v3881 : BitVec 32) : Prop :=
  (∀ (k0_h2 : k0_cond2 i = 1#1), ∀ a, (k0_off774 v3881) a + S1x1024.size a ≤ S40960x1024.size a)
theorem k0_off774_inb : ∀ (i : grid0.Coords) (v3881 : BitVec 32) (k0_hw766 : k0_chk766 i v3881), ∀ (k0_h2 : k0_cond2 i = 1#1), ∀ a, (k0_off774 v3881) a + S1x1024.size a ≤ S40960x1024.size a := fun i v3881 k0_hw766 k0_h2 => k0_hw766 k0_h2

def k0_off775 (v3886 : BitVec 32) : Fin 2 → Nat :=
  let c0_i32_4244 : BitVec 32 := 0#32
  ![v3886.toNat, 0]

def k0_chk767 (i : grid0.Coords) (v3886 : BitVec 32) : Prop :=
  (∀ (k0_h2 : k0_cond2 i = 1#1), ∀ a, (k0_off775 v3886) a + S1x1024.size a ≤ S40960x1024.size a)
theorem k0_off775_inb : ∀ (i : grid0.Coords) (v3886 : BitVec 32) (k0_hw767 : k0_chk767 i v3886), ∀ (k0_h2 : k0_cond2 i = 1#1), ∀ a, (k0_off775 v3886) a + S1x1024.size a ≤ S40960x1024.size a := fun i v3886 k0_hw767 k0_h2 => k0_hw767 k0_h2

def k0_off776 (v3891 : BitVec 32) : Fin 2 → Nat :=
  let c0_i32_4250 : BitVec 32 := 0#32
  ![v3891.toNat, 0]

def k0_chk768 (i : grid0.Coords) (v3891 : BitVec 32) : Prop :=
  (∀ (k0_h2 : k0_cond2 i = 1#1), ∀ a, (k0_off776 v3891) a + S1x1024.size a ≤ S40960x1024.size a)
theorem k0_off776_inb : ∀ (i : grid0.Coords) (v3891 : BitVec 32) (k0_hw768 : k0_chk768 i v3891), ∀ (k0_h2 : k0_cond2 i = 1#1), ∀ a, (k0_off776 v3891) a + S1x1024.size a ≤ S40960x1024.size a := fun i v3891 k0_hw768 k0_h2 => k0_hw768 k0_h2

def k0_off777 (v3896 : BitVec 32) : Fin 2 → Nat :=
  let c0_i32_4255 : BitVec 32 := 0#32
  ![v3896.toNat, 0]

def k0_chk769 (i : grid0.Coords) (v3896 : BitVec 32) : Prop :=
  (∀ (k0_h2 : k0_cond2 i = 1#1), ∀ a, (k0_off777 v3896) a + S1x1024.size a ≤ S40960x1024.size a)
theorem k0_off777_inb : ∀ (i : grid0.Coords) (v3896 : BitVec 32) (k0_hw769 : k0_chk769 i v3896), ∀ (k0_h2 : k0_cond2 i = 1#1), ∀ a, (k0_off777 v3896) a + S1x1024.size a ≤ S40960x1024.size a := fun i v3896 k0_hw769 k0_h2 => k0_hw769 k0_h2

def k0_off778 (v3901 : BitVec 32) : Fin 2 → Nat :=
  let c0_i32_4261 : BitVec 32 := 0#32
  ![v3901.toNat, 0]

def k0_chk770 (i : grid0.Coords) (v3901 : BitVec 32) : Prop :=
  (∀ (k0_h2 : k0_cond2 i = 1#1), ∀ a, (k0_off778 v3901) a + S1x1024.size a ≤ S40960x1024.size a)
theorem k0_off778_inb : ∀ (i : grid0.Coords) (v3901 : BitVec 32) (k0_hw770 : k0_chk770 i v3901), ∀ (k0_h2 : k0_cond2 i = 1#1), ∀ a, (k0_off778 v3901) a + S1x1024.size a ≤ S40960x1024.size a := fun i v3901 k0_hw770 k0_h2 => k0_hw770 k0_h2

def k0_off779 (v3906 : BitVec 32) : Fin 2 → Nat :=
  let c0_i32_4266 : BitVec 32 := 0#32
  ![v3906.toNat, 0]

def k0_chk771 (i : grid0.Coords) (v3906 : BitVec 32) : Prop :=
  (∀ (k0_h2 : k0_cond2 i = 1#1), ∀ a, (k0_off779 v3906) a + S1x1024.size a ≤ S40960x1024.size a)
theorem k0_off779_inb : ∀ (i : grid0.Coords) (v3906 : BitVec 32) (k0_hw771 : k0_chk771 i v3906), ∀ (k0_h2 : k0_cond2 i = 1#1), ∀ a, (k0_off779 v3906) a + S1x1024.size a ≤ S40960x1024.size a := fun i v3906 k0_hw771 k0_h2 => k0_hw771 k0_h2

def k0_off780 (v3911 : BitVec 32) : Fin 2 → Nat :=
  let c0_i32_4272 : BitVec 32 := 0#32
  ![v3911.toNat, 0]

def k0_chk772 (i : grid0.Coords) (v3911 : BitVec 32) : Prop :=
  (∀ (k0_h2 : k0_cond2 i = 1#1), ∀ a, (k0_off780 v3911) a + S1x1024.size a ≤ S40960x1024.size a)
theorem k0_off780_inb : ∀ (i : grid0.Coords) (v3911 : BitVec 32) (k0_hw772 : k0_chk772 i v3911), ∀ (k0_h2 : k0_cond2 i = 1#1), ∀ a, (k0_off780 v3911) a + S1x1024.size a ≤ S40960x1024.size a := fun i v3911 k0_hw772 k0_h2 => k0_hw772 k0_h2

def k0_off781 (v3916 : BitVec 32) : Fin 2 → Nat :=
  let c0_i32_4277 : BitVec 32 := 0#32
  ![v3916.toNat, 0]

def k0_chk773 (i : grid0.Coords) (v3916 : BitVec 32) : Prop :=
  (∀ (k0_h2 : k0_cond2 i = 1#1), ∀ a, (k0_off781 v3916) a + S1x1024.size a ≤ S40960x1024.size a)
theorem k0_off781_inb : ∀ (i : grid0.Coords) (v3916 : BitVec 32) (k0_hw773 : k0_chk773 i v3916), ∀ (k0_h2 : k0_cond2 i = 1#1), ∀ a, (k0_off781 v3916) a + S1x1024.size a ≤ S40960x1024.size a := fun i v3916 k0_hw773 k0_h2 => k0_hw773 k0_h2

def k0_off782 (v3921 : BitVec 32) : Fin 2 → Nat :=
  let c0_i32_4283 : BitVec 32 := 0#32
  ![v3921.toNat, 0]

def k0_chk774 (i : grid0.Coords) (v3921 : BitVec 32) : Prop :=
  (∀ (k0_h2 : k0_cond2 i = 1#1), ∀ a, (k0_off782 v3921) a + S1x1024.size a ≤ S40960x1024.size a)
theorem k0_off782_inb : ∀ (i : grid0.Coords) (v3921 : BitVec 32) (k0_hw774 : k0_chk774 i v3921), ∀ (k0_h2 : k0_cond2 i = 1#1), ∀ a, (k0_off782 v3921) a + S1x1024.size a ≤ S40960x1024.size a := fun i v3921 k0_hw774 k0_h2 => k0_hw774 k0_h2

def k0_off783 (v3926 : BitVec 32) : Fin 2 → Nat :=
  let c0_i32_4288 : BitVec 32 := 0#32
  ![v3926.toNat, 0]

def k0_chk775 (i : grid0.Coords) (v3926 : BitVec 32) : Prop :=
  (∀ (k0_h2 : k0_cond2 i = 1#1), ∀ a, (k0_off783 v3926) a + S1x1024.size a ≤ S40960x1024.size a)
theorem k0_off783_inb : ∀ (i : grid0.Coords) (v3926 : BitVec 32) (k0_hw775 : k0_chk775 i v3926), ∀ (k0_h2 : k0_cond2 i = 1#1), ∀ a, (k0_off783 v3926) a + S1x1024.size a ≤ S40960x1024.size a := fun i v3926 k0_hw775 k0_h2 => k0_hw775 k0_h2

def k0_off784 (v3931 : BitVec 32) : Fin 2 → Nat :=
  let c0_i32_4294 : BitVec 32 := 0#32
  ![v3931.toNat, 0]

def k0_chk776 (i : grid0.Coords) (v3931 : BitVec 32) : Prop :=
  (∀ (k0_h2 : k0_cond2 i = 1#1), ∀ a, (k0_off784 v3931) a + S1x1024.size a ≤ S40960x1024.size a)
theorem k0_off784_inb : ∀ (i : grid0.Coords) (v3931 : BitVec 32) (k0_hw776 : k0_chk776 i v3931), ∀ (k0_h2 : k0_cond2 i = 1#1), ∀ a, (k0_off784 v3931) a + S1x1024.size a ≤ S40960x1024.size a := fun i v3931 k0_hw776 k0_h2 => k0_hw776 k0_h2

def k0_off785 (v3936 : BitVec 32) : Fin 2 → Nat :=
  let c0_i32_4299 : BitVec 32 := 0#32
  ![v3936.toNat, 0]

def k0_chk777 (i : grid0.Coords) (v3936 : BitVec 32) : Prop :=
  (∀ (k0_h2 : k0_cond2 i = 1#1), ∀ a, (k0_off785 v3936) a + S1x1024.size a ≤ S40960x1024.size a)
theorem k0_off785_inb : ∀ (i : grid0.Coords) (v3936 : BitVec 32) (k0_hw777 : k0_chk777 i v3936), ∀ (k0_h2 : k0_cond2 i = 1#1), ∀ a, (k0_off785 v3936) a + S1x1024.size a ≤ S40960x1024.size a := fun i v3936 k0_hw777 k0_h2 => k0_hw777 k0_h2

def k0_off786 (v3941 : BitVec 32) : Fin 2 → Nat :=
  let c0_i32_4305 : BitVec 32 := 0#32
  ![v3941.toNat, 0]

def k0_chk778 (i : grid0.Coords) (v3941 : BitVec 32) : Prop :=
  (∀ (k0_h2 : k0_cond2 i = 1#1), ∀ a, (k0_off786 v3941) a + S1x1024.size a ≤ S40960x1024.size a)
theorem k0_off786_inb : ∀ (i : grid0.Coords) (v3941 : BitVec 32) (k0_hw778 : k0_chk778 i v3941), ∀ (k0_h2 : k0_cond2 i = 1#1), ∀ a, (k0_off786 v3941) a + S1x1024.size a ≤ S40960x1024.size a := fun i v3941 k0_hw778 k0_h2 => k0_hw778 k0_h2

def k0_off787 (v3946 : BitVec 32) : Fin 2 → Nat :=
  let c0_i32_4310 : BitVec 32 := 0#32
  ![v3946.toNat, 0]

def k0_chk779 (i : grid0.Coords) (v3946 : BitVec 32) : Prop :=
  (∀ (k0_h2 : k0_cond2 i = 1#1), ∀ a, (k0_off787 v3946) a + S1x1024.size a ≤ S40960x1024.size a)
theorem k0_off787_inb : ∀ (i : grid0.Coords) (v3946 : BitVec 32) (k0_hw779 : k0_chk779 i v3946), ∀ (k0_h2 : k0_cond2 i = 1#1), ∀ a, (k0_off787 v3946) a + S1x1024.size a ≤ S40960x1024.size a := fun i v3946 k0_hw779 k0_h2 => k0_hw779 k0_h2

def k0_off788 (v3951 : BitVec 32) : Fin 2 → Nat :=
  let c0_i32_4316 : BitVec 32 := 0#32
  ![v3951.toNat, 0]

def k0_chk780 (i : grid0.Coords) (v3951 : BitVec 32) : Prop :=
  (∀ (k0_h2 : k0_cond2 i = 1#1), ∀ a, (k0_off788 v3951) a + S1x1024.size a ≤ S40960x1024.size a)
theorem k0_off788_inb : ∀ (i : grid0.Coords) (v3951 : BitVec 32) (k0_hw780 : k0_chk780 i v3951), ∀ (k0_h2 : k0_cond2 i = 1#1), ∀ a, (k0_off788 v3951) a + S1x1024.size a ≤ S40960x1024.size a := fun i v3951 k0_hw780 k0_h2 => k0_hw780 k0_h2

def k0_off789 (v3956 : BitVec 32) : Fin 2 → Nat :=
  let c0_i32_4321 : BitVec 32 := 0#32
  ![v3956.toNat, 0]

def k0_chk781 (i : grid0.Coords) (v3956 : BitVec 32) : Prop :=
  (∀ (k0_h2 : k0_cond2 i = 1#1), ∀ a, (k0_off789 v3956) a + S1x1024.size a ≤ S40960x1024.size a)
theorem k0_off789_inb : ∀ (i : grid0.Coords) (v3956 : BitVec 32) (k0_hw781 : k0_chk781 i v3956), ∀ (k0_h2 : k0_cond2 i = 1#1), ∀ a, (k0_off789 v3956) a + S1x1024.size a ≤ S40960x1024.size a := fun i v3956 k0_hw781 k0_h2 => k0_hw781 k0_h2

def k0_off790 (v3961 : BitVec 32) : Fin 2 → Nat :=
  let c0_i32_4327 : BitVec 32 := 0#32
  ![v3961.toNat, 0]

def k0_chk782 (i : grid0.Coords) (v3961 : BitVec 32) : Prop :=
  (∀ (k0_h2 : k0_cond2 i = 1#1), ∀ a, (k0_off790 v3961) a + S1x1024.size a ≤ S40960x1024.size a)
theorem k0_off790_inb : ∀ (i : grid0.Coords) (v3961 : BitVec 32) (k0_hw782 : k0_chk782 i v3961), ∀ (k0_h2 : k0_cond2 i = 1#1), ∀ a, (k0_off790 v3961) a + S1x1024.size a ≤ S40960x1024.size a := fun i v3961 k0_hw782 k0_h2 => k0_hw782 k0_h2

def k0_off791 (v3966 : BitVec 32) : Fin 2 → Nat :=
  let c0_i32_4332 : BitVec 32 := 0#32
  ![v3966.toNat, 0]

def k0_chk783 (i : grid0.Coords) (v3966 : BitVec 32) : Prop :=
  (∀ (k0_h2 : k0_cond2 i = 1#1), ∀ a, (k0_off791 v3966) a + S1x1024.size a ≤ S40960x1024.size a)
theorem k0_off791_inb : ∀ (i : grid0.Coords) (v3966 : BitVec 32) (k0_hw783 : k0_chk783 i v3966), ∀ (k0_h2 : k0_cond2 i = 1#1), ∀ a, (k0_off791 v3966) a + S1x1024.size a ≤ S40960x1024.size a := fun i v3966 k0_hw783 k0_h2 => k0_hw783 k0_h2

def k0_off792 (v3971 : BitVec 32) : Fin 2 → Nat :=
  let c0_i32_4338 : BitVec 32 := 0#32
  ![v3971.toNat, 0]

def k0_chk784 (i : grid0.Coords) (v3971 : BitVec 32) : Prop :=
  (∀ (k0_h2 : k0_cond2 i = 1#1), ∀ a, (k0_off792 v3971) a + S1x1024.size a ≤ S40960x1024.size a)
theorem k0_off792_inb : ∀ (i : grid0.Coords) (v3971 : BitVec 32) (k0_hw784 : k0_chk784 i v3971), ∀ (k0_h2 : k0_cond2 i = 1#1), ∀ a, (k0_off792 v3971) a + S1x1024.size a ≤ S40960x1024.size a := fun i v3971 k0_hw784 k0_h2 => k0_hw784 k0_h2

def k0_off793 (v3976 : BitVec 32) : Fin 2 → Nat :=
  let c0_i32_4343 : BitVec 32 := 0#32
  ![v3976.toNat, 0]

def k0_chk785 (i : grid0.Coords) (v3976 : BitVec 32) : Prop :=
  (∀ (k0_h2 : k0_cond2 i = 1#1), ∀ a, (k0_off793 v3976) a + S1x1024.size a ≤ S40960x1024.size a)
theorem k0_off793_inb : ∀ (i : grid0.Coords) (v3976 : BitVec 32) (k0_hw785 : k0_chk785 i v3976), ∀ (k0_h2 : k0_cond2 i = 1#1), ∀ a, (k0_off793 v3976) a + S1x1024.size a ≤ S40960x1024.size a := fun i v3976 k0_hw785 k0_h2 => k0_hw785 k0_h2

def k0_off794 (v3981 : BitVec 32) : Fin 2 → Nat :=
  let c0_i32_4349 : BitVec 32 := 0#32
  ![v3981.toNat, 0]

def k0_chk786 (i : grid0.Coords) (v3981 : BitVec 32) : Prop :=
  (∀ (k0_h2 : k0_cond2 i = 1#1), ∀ a, (k0_off794 v3981) a + S1x1024.size a ≤ S40960x1024.size a)
theorem k0_off794_inb : ∀ (i : grid0.Coords) (v3981 : BitVec 32) (k0_hw786 : k0_chk786 i v3981), ∀ (k0_h2 : k0_cond2 i = 1#1), ∀ a, (k0_off794 v3981) a + S1x1024.size a ≤ S40960x1024.size a := fun i v3981 k0_hw786 k0_h2 => k0_hw786 k0_h2

def k0_off795 (v3986 : BitVec 32) : Fin 2 → Nat :=
  let c0_i32_4354 : BitVec 32 := 0#32
  ![v3986.toNat, 0]

def k0_chk787 (i : grid0.Coords) (v3986 : BitVec 32) : Prop :=
  (∀ (k0_h2 : k0_cond2 i = 1#1), ∀ a, (k0_off795 v3986) a + S1x1024.size a ≤ S40960x1024.size a)
theorem k0_off795_inb : ∀ (i : grid0.Coords) (v3986 : BitVec 32) (k0_hw787 : k0_chk787 i v3986), ∀ (k0_h2 : k0_cond2 i = 1#1), ∀ a, (k0_off795 v3986) a + S1x1024.size a ≤ S40960x1024.size a := fun i v3986 k0_hw787 k0_h2 => k0_hw787 k0_h2

def k0_off796 (v3991 : BitVec 32) : Fin 2 → Nat :=
  let c0_i32_4360 : BitVec 32 := 0#32
  ![v3991.toNat, 0]

def k0_chk788 (i : grid0.Coords) (v3991 : BitVec 32) : Prop :=
  (∀ (k0_h2 : k0_cond2 i = 1#1), ∀ a, (k0_off796 v3991) a + S1x1024.size a ≤ S40960x1024.size a)
theorem k0_off796_inb : ∀ (i : grid0.Coords) (v3991 : BitVec 32) (k0_hw788 : k0_chk788 i v3991), ∀ (k0_h2 : k0_cond2 i = 1#1), ∀ a, (k0_off796 v3991) a + S1x1024.size a ≤ S40960x1024.size a := fun i v3991 k0_hw788 k0_h2 => k0_hw788 k0_h2

def k0_off797 (v3996 : BitVec 32) : Fin 2 → Nat :=
  let c0_i32_4365 : BitVec 32 := 0#32
  ![v3996.toNat, 0]

def k0_chk789 (i : grid0.Coords) (v3996 : BitVec 32) : Prop :=
  (∀ (k0_h2 : k0_cond2 i = 1#1), ∀ a, (k0_off797 v3996) a + S1x1024.size a ≤ S40960x1024.size a)
theorem k0_off797_inb : ∀ (i : grid0.Coords) (v3996 : BitVec 32) (k0_hw789 : k0_chk789 i v3996), ∀ (k0_h2 : k0_cond2 i = 1#1), ∀ a, (k0_off797 v3996) a + S1x1024.size a ≤ S40960x1024.size a := fun i v3996 k0_hw789 k0_h2 => k0_hw789 k0_h2

def k0_off798 (v4001 : BitVec 32) : Fin 2 → Nat :=
  let c0_i32_4371 : BitVec 32 := 0#32
  ![v4001.toNat, 0]

def k0_chk790 (i : grid0.Coords) (v4001 : BitVec 32) : Prop :=
  (∀ (k0_h2 : k0_cond2 i = 1#1), ∀ a, (k0_off798 v4001) a + S1x1024.size a ≤ S40960x1024.size a)
theorem k0_off798_inb : ∀ (i : grid0.Coords) (v4001 : BitVec 32) (k0_hw790 : k0_chk790 i v4001), ∀ (k0_h2 : k0_cond2 i = 1#1), ∀ a, (k0_off798 v4001) a + S1x1024.size a ≤ S40960x1024.size a := fun i v4001 k0_hw790 k0_h2 => k0_hw790 k0_h2

def k0_off799 (v4006 : BitVec 32) : Fin 2 → Nat :=
  let c0_i32_4376 : BitVec 32 := 0#32
  ![v4006.toNat, 0]

def k0_chk791 (i : grid0.Coords) (v4006 : BitVec 32) : Prop :=
  (∀ (k0_h2 : k0_cond2 i = 1#1), ∀ a, (k0_off799 v4006) a + S1x1024.size a ≤ S40960x1024.size a)
theorem k0_off799_inb : ∀ (i : grid0.Coords) (v4006 : BitVec 32) (k0_hw791 : k0_chk791 i v4006), ∀ (k0_h2 : k0_cond2 i = 1#1), ∀ a, (k0_off799 v4006) a + S1x1024.size a ≤ S40960x1024.size a := fun i v4006 k0_hw791 k0_h2 => k0_hw791 k0_h2

def k0_off800 (v4011 : BitVec 32) : Fin 2 → Nat :=
  let c0_i32_4382 : BitVec 32 := 0#32
  ![v4011.toNat, 0]

def k0_chk792 (i : grid0.Coords) (v4011 : BitVec 32) : Prop :=
  (∀ (k0_h2 : k0_cond2 i = 1#1), ∀ a, (k0_off800 v4011) a + S1x1024.size a ≤ S40960x1024.size a)
theorem k0_off800_inb : ∀ (i : grid0.Coords) (v4011 : BitVec 32) (k0_hw792 : k0_chk792 i v4011), ∀ (k0_h2 : k0_cond2 i = 1#1), ∀ a, (k0_off800 v4011) a + S1x1024.size a ≤ S40960x1024.size a := fun i v4011 k0_hw792 k0_h2 => k0_hw792 k0_h2

def k0_off801 (v4016 : BitVec 32) : Fin 2 → Nat :=
  let c0_i32_4387 : BitVec 32 := 0#32
  ![v4016.toNat, 0]

def k0_chk793 (i : grid0.Coords) (v4016 : BitVec 32) : Prop :=
  (∀ (k0_h2 : k0_cond2 i = 1#1), ∀ a, (k0_off801 v4016) a + S1x1024.size a ≤ S40960x1024.size a)
theorem k0_off801_inb : ∀ (i : grid0.Coords) (v4016 : BitVec 32) (k0_hw793 : k0_chk793 i v4016), ∀ (k0_h2 : k0_cond2 i = 1#1), ∀ a, (k0_off801 v4016) a + S1x1024.size a ≤ S40960x1024.size a := fun i v4016 k0_hw793 k0_h2 => k0_hw793 k0_h2

def k0_off802 (v4021 : BitVec 32) : Fin 2 → Nat :=
  let c0_i32_4393 : BitVec 32 := 0#32
  ![v4021.toNat, 0]

def k0_chk794 (i : grid0.Coords) (v4021 : BitVec 32) : Prop :=
  (∀ (k0_h2 : k0_cond2 i = 1#1), ∀ a, (k0_off802 v4021) a + S1x1024.size a ≤ S40960x1024.size a)
theorem k0_off802_inb : ∀ (i : grid0.Coords) (v4021 : BitVec 32) (k0_hw794 : k0_chk794 i v4021), ∀ (k0_h2 : k0_cond2 i = 1#1), ∀ a, (k0_off802 v4021) a + S1x1024.size a ≤ S40960x1024.size a := fun i v4021 k0_hw794 k0_h2 => k0_hw794 k0_h2

def k0_off803 (v4026 : BitVec 32) : Fin 2 → Nat :=
  let c0_i32_4398 : BitVec 32 := 0#32
  ![v4026.toNat, 0]

def k0_chk795 (i : grid0.Coords) (v4026 : BitVec 32) : Prop :=
  (∀ (k0_h2 : k0_cond2 i = 1#1), ∀ a, (k0_off803 v4026) a + S1x1024.size a ≤ S40960x1024.size a)
theorem k0_off803_inb : ∀ (i : grid0.Coords) (v4026 : BitVec 32) (k0_hw795 : k0_chk795 i v4026), ∀ (k0_h2 : k0_cond2 i = 1#1), ∀ a, (k0_off803 v4026) a + S1x1024.size a ≤ S40960x1024.size a := fun i v4026 k0_hw795 k0_h2 => k0_hw795 k0_h2

def k0_off804 (v4031 : BitVec 32) : Fin 2 → Nat :=
  let c0_i32_4404 : BitVec 32 := 0#32
  ![v4031.toNat, 0]

def k0_chk796 (i : grid0.Coords) (v4031 : BitVec 32) : Prop :=
  (∀ (k0_h2 : k0_cond2 i = 1#1), ∀ a, (k0_off804 v4031) a + S1x1024.size a ≤ S40960x1024.size a)
theorem k0_off804_inb : ∀ (i : grid0.Coords) (v4031 : BitVec 32) (k0_hw796 : k0_chk796 i v4031), ∀ (k0_h2 : k0_cond2 i = 1#1), ∀ a, (k0_off804 v4031) a + S1x1024.size a ≤ S40960x1024.size a := fun i v4031 k0_hw796 k0_h2 => k0_hw796 k0_h2

def k0_off805 (v4036 : BitVec 32) : Fin 2 → Nat :=
  let c0_i32_4409 : BitVec 32 := 0#32
  ![v4036.toNat, 0]

def k0_chk797 (i : grid0.Coords) (v4036 : BitVec 32) : Prop :=
  (∀ (k0_h2 : k0_cond2 i = 1#1), ∀ a, (k0_off805 v4036) a + S1x1024.size a ≤ S40960x1024.size a)
theorem k0_off805_inb : ∀ (i : grid0.Coords) (v4036 : BitVec 32) (k0_hw797 : k0_chk797 i v4036), ∀ (k0_h2 : k0_cond2 i = 1#1), ∀ a, (k0_off805 v4036) a + S1x1024.size a ≤ S40960x1024.size a := fun i v4036 k0_hw797 k0_h2 => k0_hw797 k0_h2

def k0_off806 (v4041 : BitVec 32) : Fin 2 → Nat :=
  let c0_i32_4415 : BitVec 32 := 0#32
  ![v4041.toNat, 0]

def k0_chk798 (i : grid0.Coords) (v4041 : BitVec 32) : Prop :=
  (∀ (k0_h2 : k0_cond2 i = 1#1), ∀ a, (k0_off806 v4041) a + S1x1024.size a ≤ S40960x1024.size a)
theorem k0_off806_inb : ∀ (i : grid0.Coords) (v4041 : BitVec 32) (k0_hw798 : k0_chk798 i v4041), ∀ (k0_h2 : k0_cond2 i = 1#1), ∀ a, (k0_off806 v4041) a + S1x1024.size a ≤ S40960x1024.size a := fun i v4041 k0_hw798 k0_h2 => k0_hw798 k0_h2

def k0_off807 (v4046 : BitVec 32) : Fin 2 → Nat :=
  let c0_i32_4420 : BitVec 32 := 0#32
  ![v4046.toNat, 0]

def k0_chk799 (i : grid0.Coords) (v4046 : BitVec 32) : Prop :=
  (∀ (k0_h2 : k0_cond2 i = 1#1), ∀ a, (k0_off807 v4046) a + S1x1024.size a ≤ S40960x1024.size a)
theorem k0_off807_inb : ∀ (i : grid0.Coords) (v4046 : BitVec 32) (k0_hw799 : k0_chk799 i v4046), ∀ (k0_h2 : k0_cond2 i = 1#1), ∀ a, (k0_off807 v4046) a + S1x1024.size a ≤ S40960x1024.size a := fun i v4046 k0_hw799 k0_h2 => k0_hw799 k0_h2

def k0_off808 (v4051 : BitVec 32) : Fin 2 → Nat :=
  let c0_i32_4426 : BitVec 32 := 0#32
  ![v4051.toNat, 0]

def k0_chk800 (i : grid0.Coords) (v4051 : BitVec 32) : Prop :=
  (∀ (k0_h2 : k0_cond2 i = 1#1), ∀ a, (k0_off808 v4051) a + S1x1024.size a ≤ S40960x1024.size a)
theorem k0_off808_inb : ∀ (i : grid0.Coords) (v4051 : BitVec 32) (k0_hw800 : k0_chk800 i v4051), ∀ (k0_h2 : k0_cond2 i = 1#1), ∀ a, (k0_off808 v4051) a + S1x1024.size a ≤ S40960x1024.size a := fun i v4051 k0_hw800 k0_h2 => k0_hw800 k0_h2

def k0_off809 (v4056 : BitVec 32) : Fin 2 → Nat :=
  let c0_i32_4431 : BitVec 32 := 0#32
  ![v4056.toNat, 0]

def k0_chk801 (i : grid0.Coords) (v4056 : BitVec 32) : Prop :=
  (∀ (k0_h2 : k0_cond2 i = 1#1), ∀ a, (k0_off809 v4056) a + S1x1024.size a ≤ S40960x1024.size a)
theorem k0_off809_inb : ∀ (i : grid0.Coords) (v4056 : BitVec 32) (k0_hw801 : k0_chk801 i v4056), ∀ (k0_h2 : k0_cond2 i = 1#1), ∀ a, (k0_off809 v4056) a + S1x1024.size a ≤ S40960x1024.size a := fun i v4056 k0_hw801 k0_h2 => k0_hw801 k0_h2

def k0_off810 (v4061 : BitVec 32) : Fin 2 → Nat :=
  let c0_i32_4437 : BitVec 32 := 0#32
  ![v4061.toNat, 0]

def k0_chk802 (i : grid0.Coords) (v4061 : BitVec 32) : Prop :=
  (∀ (k0_h2 : k0_cond2 i = 1#1), ∀ a, (k0_off810 v4061) a + S1x1024.size a ≤ S40960x1024.size a)
theorem k0_off810_inb : ∀ (i : grid0.Coords) (v4061 : BitVec 32) (k0_hw802 : k0_chk802 i v4061), ∀ (k0_h2 : k0_cond2 i = 1#1), ∀ a, (k0_off810 v4061) a + S1x1024.size a ≤ S40960x1024.size a := fun i v4061 k0_hw802 k0_h2 => k0_hw802 k0_h2

def k0_off811 (v4066 : BitVec 32) : Fin 2 → Nat :=
  let c0_i32_4442 : BitVec 32 := 0#32
  ![v4066.toNat, 0]

def k0_chk803 (i : grid0.Coords) (v4066 : BitVec 32) : Prop :=
  (∀ (k0_h2 : k0_cond2 i = 1#1), ∀ a, (k0_off811 v4066) a + S1x1024.size a ≤ S40960x1024.size a)
theorem k0_off811_inb : ∀ (i : grid0.Coords) (v4066 : BitVec 32) (k0_hw803 : k0_chk803 i v4066), ∀ (k0_h2 : k0_cond2 i = 1#1), ∀ a, (k0_off811 v4066) a + S1x1024.size a ≤ S40960x1024.size a := fun i v4066 k0_hw803 k0_h2 => k0_hw803 k0_h2

def k0_off812 (v4071 : BitVec 32) : Fin 2 → Nat :=
  let c0_i32_4448 : BitVec 32 := 0#32
  ![v4071.toNat, 0]

def k0_chk804 (i : grid0.Coords) (v4071 : BitVec 32) : Prop :=
  (∀ (k0_h2 : k0_cond2 i = 1#1), ∀ a, (k0_off812 v4071) a + S1x1024.size a ≤ S40960x1024.size a)
theorem k0_off812_inb : ∀ (i : grid0.Coords) (v4071 : BitVec 32) (k0_hw804 : k0_chk804 i v4071), ∀ (k0_h2 : k0_cond2 i = 1#1), ∀ a, (k0_off812 v4071) a + S1x1024.size a ≤ S40960x1024.size a := fun i v4071 k0_hw804 k0_h2 => k0_hw804 k0_h2

def k0_off813 (v4076 : BitVec 32) : Fin 2 → Nat :=
  let c0_i32_4453 : BitVec 32 := 0#32
  ![v4076.toNat, 0]

def k0_chk805 (i : grid0.Coords) (v4076 : BitVec 32) : Prop :=
  (∀ (k0_h2 : k0_cond2 i = 1#1), ∀ a, (k0_off813 v4076) a + S1x1024.size a ≤ S40960x1024.size a)
theorem k0_off813_inb : ∀ (i : grid0.Coords) (v4076 : BitVec 32) (k0_hw805 : k0_chk805 i v4076), ∀ (k0_h2 : k0_cond2 i = 1#1), ∀ a, (k0_off813 v4076) a + S1x1024.size a ≤ S40960x1024.size a := fun i v4076 k0_hw805 k0_h2 => k0_hw805 k0_h2

def k0_off814 (v4081 : BitVec 32) : Fin 2 → Nat :=
  let c0_i32_4459 : BitVec 32 := 0#32
  ![v4081.toNat, 0]

def k0_chk806 (i : grid0.Coords) (v4081 : BitVec 32) : Prop :=
  (∀ (k0_h2 : k0_cond2 i = 1#1), ∀ a, (k0_off814 v4081) a + S1x1024.size a ≤ S40960x1024.size a)
theorem k0_off814_inb : ∀ (i : grid0.Coords) (v4081 : BitVec 32) (k0_hw806 : k0_chk806 i v4081), ∀ (k0_h2 : k0_cond2 i = 1#1), ∀ a, (k0_off814 v4081) a + S1x1024.size a ≤ S40960x1024.size a := fun i v4081 k0_hw806 k0_h2 => k0_hw806 k0_h2

def k0_off815 (v4086 : BitVec 32) : Fin 2 → Nat :=
  let c0_i32_4464 : BitVec 32 := 0#32
  ![v4086.toNat, 0]

def k0_chk807 (i : grid0.Coords) (v4086 : BitVec 32) : Prop :=
  (∀ (k0_h2 : k0_cond2 i = 1#1), ∀ a, (k0_off815 v4086) a + S1x1024.size a ≤ S40960x1024.size a)
theorem k0_off815_inb : ∀ (i : grid0.Coords) (v4086 : BitVec 32) (k0_hw807 : k0_chk807 i v4086), ∀ (k0_h2 : k0_cond2 i = 1#1), ∀ a, (k0_off815 v4086) a + S1x1024.size a ≤ S40960x1024.size a := fun i v4086 k0_hw807 k0_h2 => k0_hw807 k0_h2

def k0_off816 (v4091 : BitVec 32) : Fin 2 → Nat :=
  let c0_i32_4470 : BitVec 32 := 0#32
  ![v4091.toNat, 0]

def k0_chk808 (i : grid0.Coords) (v4091 : BitVec 32) : Prop :=
  (∀ (k0_h2 : k0_cond2 i = 1#1), ∀ a, (k0_off816 v4091) a + S1x1024.size a ≤ S40960x1024.size a)
theorem k0_off816_inb : ∀ (i : grid0.Coords) (v4091 : BitVec 32) (k0_hw808 : k0_chk808 i v4091), ∀ (k0_h2 : k0_cond2 i = 1#1), ∀ a, (k0_off816 v4091) a + S1x1024.size a ≤ S40960x1024.size a := fun i v4091 k0_hw808 k0_h2 => k0_hw808 k0_h2

def k0_off817 (v4096 : BitVec 32) : Fin 2 → Nat :=
  let c0_i32_4475 : BitVec 32 := 0#32
  ![v4096.toNat, 0]

def k0_chk809 (i : grid0.Coords) (v4096 : BitVec 32) : Prop :=
  (∀ (k0_h2 : k0_cond2 i = 1#1), ∀ a, (k0_off817 v4096) a + S1x1024.size a ≤ S40960x1024.size a)
theorem k0_off817_inb : ∀ (i : grid0.Coords) (v4096 : BitVec 32) (k0_hw809 : k0_chk809 i v4096), ∀ (k0_h2 : k0_cond2 i = 1#1), ∀ a, (k0_off817 v4096) a + S1x1024.size a ≤ S40960x1024.size a := fun i v4096 k0_hw809 k0_h2 => k0_hw809 k0_h2

def k0_off818 (v4101 : BitVec 32) : Fin 2 → Nat :=
  let c0_i32_4481 : BitVec 32 := 0#32
  ![v4101.toNat, 0]

def k0_chk810 (i : grid0.Coords) (v4101 : BitVec 32) : Prop :=
  (∀ (k0_h2 : k0_cond2 i = 1#1), ∀ a, (k0_off818 v4101) a + S1x1024.size a ≤ S40960x1024.size a)
theorem k0_off818_inb : ∀ (i : grid0.Coords) (v4101 : BitVec 32) (k0_hw810 : k0_chk810 i v4101), ∀ (k0_h2 : k0_cond2 i = 1#1), ∀ a, (k0_off818 v4101) a + S1x1024.size a ≤ S40960x1024.size a := fun i v4101 k0_hw810 k0_h2 => k0_hw810 k0_h2

def k0_off819 (v4106 : BitVec 32) : Fin 2 → Nat :=
  let c0_i32_4486 : BitVec 32 := 0#32
  ![v4106.toNat, 0]

def k0_chk811 (i : grid0.Coords) (v4106 : BitVec 32) : Prop :=
  (∀ (k0_h2 : k0_cond2 i = 1#1), ∀ a, (k0_off819 v4106) a + S1x1024.size a ≤ S40960x1024.size a)
theorem k0_off819_inb : ∀ (i : grid0.Coords) (v4106 : BitVec 32) (k0_hw811 : k0_chk811 i v4106), ∀ (k0_h2 : k0_cond2 i = 1#1), ∀ a, (k0_off819 v4106) a + S1x1024.size a ≤ S40960x1024.size a := fun i v4106 k0_hw811 k0_h2 => k0_hw811 k0_h2

def k0_off820 (v4111 : BitVec 32) : Fin 2 → Nat :=
  let c0_i32_4492 : BitVec 32 := 0#32
  ![v4111.toNat, 0]

def k0_chk812 (i : grid0.Coords) (v4111 : BitVec 32) : Prop :=
  (∀ (k0_h2 : k0_cond2 i = 1#1), ∀ a, (k0_off820 v4111) a + S1x1024.size a ≤ S40960x1024.size a)
theorem k0_off820_inb : ∀ (i : grid0.Coords) (v4111 : BitVec 32) (k0_hw812 : k0_chk812 i v4111), ∀ (k0_h2 : k0_cond2 i = 1#1), ∀ a, (k0_off820 v4111) a + S1x1024.size a ≤ S40960x1024.size a := fun i v4111 k0_hw812 k0_h2 => k0_hw812 k0_h2

def k0_off821 (v4116 : BitVec 32) : Fin 2 → Nat :=
  let c0_i32_4497 : BitVec 32 := 0#32
  ![v4116.toNat, 0]

def k0_chk813 (i : grid0.Coords) (v4116 : BitVec 32) : Prop :=
  (∀ (k0_h2 : k0_cond2 i = 1#1), ∀ a, (k0_off821 v4116) a + S1x1024.size a ≤ S40960x1024.size a)
theorem k0_off821_inb : ∀ (i : grid0.Coords) (v4116 : BitVec 32) (k0_hw813 : k0_chk813 i v4116), ∀ (k0_h2 : k0_cond2 i = 1#1), ∀ a, (k0_off821 v4116) a + S1x1024.size a ≤ S40960x1024.size a := fun i v4116 k0_hw813 k0_h2 => k0_hw813 k0_h2

def k0_off822 (v4121 : BitVec 32) : Fin 2 → Nat :=
  let c0_i32_4503 : BitVec 32 := 0#32
  ![v4121.toNat, 0]

def k0_chk814 (i : grid0.Coords) (v4121 : BitVec 32) : Prop :=
  (∀ (k0_h2 : k0_cond2 i = 1#1), ∀ a, (k0_off822 v4121) a + S1x1024.size a ≤ S40960x1024.size a)
theorem k0_off822_inb : ∀ (i : grid0.Coords) (v4121 : BitVec 32) (k0_hw814 : k0_chk814 i v4121), ∀ (k0_h2 : k0_cond2 i = 1#1), ∀ a, (k0_off822 v4121) a + S1x1024.size a ≤ S40960x1024.size a := fun i v4121 k0_hw814 k0_h2 => k0_hw814 k0_h2

def k0_off823 (v4126 : BitVec 32) : Fin 2 → Nat :=
  let c0_i32_4508 : BitVec 32 := 0#32
  ![v4126.toNat, 0]

def k0_chk815 (i : grid0.Coords) (v4126 : BitVec 32) : Prop :=
  (∀ (k0_h2 : k0_cond2 i = 1#1), ∀ a, (k0_off823 v4126) a + S1x1024.size a ≤ S40960x1024.size a)
theorem k0_off823_inb : ∀ (i : grid0.Coords) (v4126 : BitVec 32) (k0_hw815 : k0_chk815 i v4126), ∀ (k0_h2 : k0_cond2 i = 1#1), ∀ a, (k0_off823 v4126) a + S1x1024.size a ≤ S40960x1024.size a := fun i v4126 k0_hw815 k0_h2 => k0_hw815 k0_h2

def k0_off824 (v4131 : BitVec 32) : Fin 2 → Nat :=
  let c0_i32_4514 : BitVec 32 := 0#32
  ![v4131.toNat, 0]

def k0_chk816 (i : grid0.Coords) (v4131 : BitVec 32) : Prop :=
  (∀ (k0_h2 : k0_cond2 i = 1#1), ∀ a, (k0_off824 v4131) a + S1x1024.size a ≤ S40960x1024.size a)
theorem k0_off824_inb : ∀ (i : grid0.Coords) (v4131 : BitVec 32) (k0_hw816 : k0_chk816 i v4131), ∀ (k0_h2 : k0_cond2 i = 1#1), ∀ a, (k0_off824 v4131) a + S1x1024.size a ≤ S40960x1024.size a := fun i v4131 k0_hw816 k0_h2 => k0_hw816 k0_h2

def k0_off825 (v4136 : BitVec 32) : Fin 2 → Nat :=
  let c0_i32_4519 : BitVec 32 := 0#32
  ![v4136.toNat, 0]

def k0_chk817 (i : grid0.Coords) (v4136 : BitVec 32) : Prop :=
  (∀ (k0_h2 : k0_cond2 i = 1#1), ∀ a, (k0_off825 v4136) a + S1x1024.size a ≤ S40960x1024.size a)
theorem k0_off825_inb : ∀ (i : grid0.Coords) (v4136 : BitVec 32) (k0_hw817 : k0_chk817 i v4136), ∀ (k0_h2 : k0_cond2 i = 1#1), ∀ a, (k0_off825 v4136) a + S1x1024.size a ≤ S40960x1024.size a := fun i v4136 k0_hw817 k0_h2 => k0_hw817 k0_h2

def k0_off826 (v4141 : BitVec 32) : Fin 2 → Nat :=
  let c0_i32_4525 : BitVec 32 := 0#32
  ![v4141.toNat, 0]

def k0_chk818 (i : grid0.Coords) (v4141 : BitVec 32) : Prop :=
  (∀ (k0_h2 : k0_cond2 i = 1#1), ∀ a, (k0_off826 v4141) a + S1x1024.size a ≤ S40960x1024.size a)
theorem k0_off826_inb : ∀ (i : grid0.Coords) (v4141 : BitVec 32) (k0_hw818 : k0_chk818 i v4141), ∀ (k0_h2 : k0_cond2 i = 1#1), ∀ a, (k0_off826 v4141) a + S1x1024.size a ≤ S40960x1024.size a := fun i v4141 k0_hw818 k0_h2 => k0_hw818 k0_h2

def k0_off827 (v4146 : BitVec 32) : Fin 2 → Nat :=
  let c0_i32_4530 : BitVec 32 := 0#32
  ![v4146.toNat, 0]

def k0_chk819 (i : grid0.Coords) (v4146 : BitVec 32) : Prop :=
  (∀ (k0_h2 : k0_cond2 i = 1#1), ∀ a, (k0_off827 v4146) a + S1x1024.size a ≤ S40960x1024.size a)
theorem k0_off827_inb : ∀ (i : grid0.Coords) (v4146 : BitVec 32) (k0_hw819 : k0_chk819 i v4146), ∀ (k0_h2 : k0_cond2 i = 1#1), ∀ a, (k0_off827 v4146) a + S1x1024.size a ≤ S40960x1024.size a := fun i v4146 k0_hw819 k0_h2 => k0_hw819 k0_h2

def k0_off828 (v4151 : BitVec 32) : Fin 2 → Nat :=
  let c0_i32_4536 : BitVec 32 := 0#32
  ![v4151.toNat, 0]

def k0_chk820 (i : grid0.Coords) (v4151 : BitVec 32) : Prop :=
  (∀ (k0_h2 : k0_cond2 i = 1#1), ∀ a, (k0_off828 v4151) a + S1x1024.size a ≤ S40960x1024.size a)
theorem k0_off828_inb : ∀ (i : grid0.Coords) (v4151 : BitVec 32) (k0_hw820 : k0_chk820 i v4151), ∀ (k0_h2 : k0_cond2 i = 1#1), ∀ a, (k0_off828 v4151) a + S1x1024.size a ≤ S40960x1024.size a := fun i v4151 k0_hw820 k0_h2 => k0_hw820 k0_h2

def k0_off829 (v4156 : BitVec 32) : Fin 2 → Nat :=
  let c0_i32_4541 : BitVec 32 := 0#32
  ![v4156.toNat, 0]

def k0_chk821 (i : grid0.Coords) (v4156 : BitVec 32) : Prop :=
  (∀ (k0_h2 : k0_cond2 i = 1#1), ∀ a, (k0_off829 v4156) a + S1x1024.size a ≤ S40960x1024.size a)
theorem k0_off829_inb : ∀ (i : grid0.Coords) (v4156 : BitVec 32) (k0_hw821 : k0_chk821 i v4156), ∀ (k0_h2 : k0_cond2 i = 1#1), ∀ a, (k0_off829 v4156) a + S1x1024.size a ≤ S40960x1024.size a := fun i v4156 k0_hw821 k0_h2 => k0_hw821 k0_h2

def k0_off830 (v4161 : BitVec 32) : Fin 2 → Nat :=
  let c0_i32_4547 : BitVec 32 := 0#32
  ![v4161.toNat, 0]

def k0_chk822 (i : grid0.Coords) (v4161 : BitVec 32) : Prop :=
  (∀ (k0_h2 : k0_cond2 i = 1#1), ∀ a, (k0_off830 v4161) a + S1x1024.size a ≤ S40960x1024.size a)
theorem k0_off830_inb : ∀ (i : grid0.Coords) (v4161 : BitVec 32) (k0_hw822 : k0_chk822 i v4161), ∀ (k0_h2 : k0_cond2 i = 1#1), ∀ a, (k0_off830 v4161) a + S1x1024.size a ≤ S40960x1024.size a := fun i v4161 k0_hw822 k0_h2 => k0_hw822 k0_h2

def k0_off831 (v4166 : BitVec 32) : Fin 2 → Nat :=
  let c0_i32_4552 : BitVec 32 := 0#32
  ![v4166.toNat, 0]

def k0_chk823 (i : grid0.Coords) (v4166 : BitVec 32) : Prop :=
  (∀ (k0_h2 : k0_cond2 i = 1#1), ∀ a, (k0_off831 v4166) a + S1x1024.size a ≤ S40960x1024.size a)
theorem k0_off831_inb : ∀ (i : grid0.Coords) (v4166 : BitVec 32) (k0_hw823 : k0_chk823 i v4166), ∀ (k0_h2 : k0_cond2 i = 1#1), ∀ a, (k0_off831 v4166) a + S1x1024.size a ≤ S40960x1024.size a := fun i v4166 k0_hw823 k0_h2 => k0_hw823 k0_h2

def k0_off832 (v4171 : BitVec 32) : Fin 2 → Nat :=
  let c0_i32_4558 : BitVec 32 := 0#32
  ![v4171.toNat, 0]

def k0_chk824 (i : grid0.Coords) (v4171 : BitVec 32) : Prop :=
  (∀ (k0_h2 : k0_cond2 i = 1#1), ∀ a, (k0_off832 v4171) a + S1x1024.size a ≤ S40960x1024.size a)
theorem k0_off832_inb : ∀ (i : grid0.Coords) (v4171 : BitVec 32) (k0_hw824 : k0_chk824 i v4171), ∀ (k0_h2 : k0_cond2 i = 1#1), ∀ a, (k0_off832 v4171) a + S1x1024.size a ≤ S40960x1024.size a := fun i v4171 k0_hw824 k0_h2 => k0_hw824 k0_h2

def k0_off833 (v4176 : BitVec 32) : Fin 2 → Nat :=
  let c0_i32_4563 : BitVec 32 := 0#32
  ![v4176.toNat, 0]

def k0_chk825 (i : grid0.Coords) (v4176 : BitVec 32) : Prop :=
  (∀ (k0_h2 : k0_cond2 i = 1#1), ∀ a, (k0_off833 v4176) a + S1x1024.size a ≤ S40960x1024.size a)
theorem k0_off833_inb : ∀ (i : grid0.Coords) (v4176 : BitVec 32) (k0_hw825 : k0_chk825 i v4176), ∀ (k0_h2 : k0_cond2 i = 1#1), ∀ a, (k0_off833 v4176) a + S1x1024.size a ≤ S40960x1024.size a := fun i v4176 k0_hw825 k0_h2 => k0_hw825 k0_h2

def k0_off834 (v4181 : BitVec 32) : Fin 2 → Nat :=
  let c0_i32_4569 : BitVec 32 := 0#32
  ![v4181.toNat, 0]

def k0_chk826 (i : grid0.Coords) (v4181 : BitVec 32) : Prop :=
  (∀ (k0_h2 : k0_cond2 i = 1#1), ∀ a, (k0_off834 v4181) a + S1x1024.size a ≤ S40960x1024.size a)
theorem k0_off834_inb : ∀ (i : grid0.Coords) (v4181 : BitVec 32) (k0_hw826 : k0_chk826 i v4181), ∀ (k0_h2 : k0_cond2 i = 1#1), ∀ a, (k0_off834 v4181) a + S1x1024.size a ≤ S40960x1024.size a := fun i v4181 k0_hw826 k0_h2 => k0_hw826 k0_h2

def k0_off835 (v4186 : BitVec 32) : Fin 2 → Nat :=
  let c0_i32_4574 : BitVec 32 := 0#32
  ![v4186.toNat, 0]

def k0_chk827 (i : grid0.Coords) (v4186 : BitVec 32) : Prop :=
  (∀ (k0_h2 : k0_cond2 i = 1#1), ∀ a, (k0_off835 v4186) a + S1x1024.size a ≤ S40960x1024.size a)
theorem k0_off835_inb : ∀ (i : grid0.Coords) (v4186 : BitVec 32) (k0_hw827 : k0_chk827 i v4186), ∀ (k0_h2 : k0_cond2 i = 1#1), ∀ a, (k0_off835 v4186) a + S1x1024.size a ≤ S40960x1024.size a := fun i v4186 k0_hw827 k0_h2 => k0_hw827 k0_h2

def k0_off836 (v4191 : BitVec 32) : Fin 2 → Nat :=
  let c0_i32_4580 : BitVec 32 := 0#32
  ![v4191.toNat, 0]

def k0_chk828 (i : grid0.Coords) (v4191 : BitVec 32) : Prop :=
  (∀ (k0_h2 : k0_cond2 i = 1#1), ∀ a, (k0_off836 v4191) a + S1x1024.size a ≤ S40960x1024.size a)
theorem k0_off836_inb : ∀ (i : grid0.Coords) (v4191 : BitVec 32) (k0_hw828 : k0_chk828 i v4191), ∀ (k0_h2 : k0_cond2 i = 1#1), ∀ a, (k0_off836 v4191) a + S1x1024.size a ≤ S40960x1024.size a := fun i v4191 k0_hw828 k0_h2 => k0_hw828 k0_h2

def k0_off837 (v4196 : BitVec 32) : Fin 2 → Nat :=
  let c0_i32_4585 : BitVec 32 := 0#32
  ![v4196.toNat, 0]

def k0_chk829 (i : grid0.Coords) (v4196 : BitVec 32) : Prop :=
  (∀ (k0_h2 : k0_cond2 i = 1#1), ∀ a, (k0_off837 v4196) a + S1x1024.size a ≤ S40960x1024.size a)
theorem k0_off837_inb : ∀ (i : grid0.Coords) (v4196 : BitVec 32) (k0_hw829 : k0_chk829 i v4196), ∀ (k0_h2 : k0_cond2 i = 1#1), ∀ a, (k0_off837 v4196) a + S1x1024.size a ≤ S40960x1024.size a := fun i v4196 k0_hw829 k0_h2 => k0_hw829 k0_h2

def k0_off838 (v4201 : BitVec 32) : Fin 2 → Nat :=
  let c0_i32_4591 : BitVec 32 := 0#32
  ![v4201.toNat, 0]

def k0_chk830 (i : grid0.Coords) (v4201 : BitVec 32) : Prop :=
  (∀ (k0_h2 : k0_cond2 i = 1#1), ∀ a, (k0_off838 v4201) a + S1x1024.size a ≤ S40960x1024.size a)
theorem k0_off838_inb : ∀ (i : grid0.Coords) (v4201 : BitVec 32) (k0_hw830 : k0_chk830 i v4201), ∀ (k0_h2 : k0_cond2 i = 1#1), ∀ a, (k0_off838 v4201) a + S1x1024.size a ≤ S40960x1024.size a := fun i v4201 k0_hw830 k0_h2 => k0_hw830 k0_h2

def k0_off839 (v4206 : BitVec 32) : Fin 2 → Nat :=
  let c0_i32_4596 : BitVec 32 := 0#32
  ![v4206.toNat, 0]

def k0_chk831 (i : grid0.Coords) (v4206 : BitVec 32) : Prop :=
  (∀ (k0_h2 : k0_cond2 i = 1#1), ∀ a, (k0_off839 v4206) a + S1x1024.size a ≤ S40960x1024.size a)
theorem k0_off839_inb : ∀ (i : grid0.Coords) (v4206 : BitVec 32) (k0_hw831 : k0_chk831 i v4206), ∀ (k0_h2 : k0_cond2 i = 1#1), ∀ a, (k0_off839 v4206) a + S1x1024.size a ≤ S40960x1024.size a := fun i v4206 k0_hw831 k0_h2 => k0_hw831 k0_h2

def k0_off840 (v4211 : BitVec 32) : Fin 2 → Nat :=
  let c0_i32_4602 : BitVec 32 := 0#32
  ![v4211.toNat, 0]

def k0_chk832 (i : grid0.Coords) (v4211 : BitVec 32) : Prop :=
  (∀ (k0_h2 : k0_cond2 i = 1#1), ∀ a, (k0_off840 v4211) a + S1x1024.size a ≤ S40960x1024.size a)
theorem k0_off840_inb : ∀ (i : grid0.Coords) (v4211 : BitVec 32) (k0_hw832 : k0_chk832 i v4211), ∀ (k0_h2 : k0_cond2 i = 1#1), ∀ a, (k0_off840 v4211) a + S1x1024.size a ≤ S40960x1024.size a := fun i v4211 k0_hw832 k0_h2 => k0_hw832 k0_h2

def k0_off841 (v4216 : BitVec 32) : Fin 2 → Nat :=
  let c0_i32_4607 : BitVec 32 := 0#32
  ![v4216.toNat, 0]

def k0_chk833 (i : grid0.Coords) (v4216 : BitVec 32) : Prop :=
  (∀ (k0_h2 : k0_cond2 i = 1#1), ∀ a, (k0_off841 v4216) a + S1x1024.size a ≤ S40960x1024.size a)
theorem k0_off841_inb : ∀ (i : grid0.Coords) (v4216 : BitVec 32) (k0_hw833 : k0_chk833 i v4216), ∀ (k0_h2 : k0_cond2 i = 1#1), ∀ a, (k0_off841 v4216) a + S1x1024.size a ≤ S40960x1024.size a := fun i v4216 k0_hw833 k0_h2 => k0_hw833 k0_h2

def k0_off842 (v4221 : BitVec 32) : Fin 2 → Nat :=
  let c0_i32_4613 : BitVec 32 := 0#32
  ![v4221.toNat, 0]

def k0_chk834 (i : grid0.Coords) (v4221 : BitVec 32) : Prop :=
  (∀ (k0_h2 : k0_cond2 i = 1#1), ∀ a, (k0_off842 v4221) a + S1x1024.size a ≤ S40960x1024.size a)
theorem k0_off842_inb : ∀ (i : grid0.Coords) (v4221 : BitVec 32) (k0_hw834 : k0_chk834 i v4221), ∀ (k0_h2 : k0_cond2 i = 1#1), ∀ a, (k0_off842 v4221) a + S1x1024.size a ≤ S40960x1024.size a := fun i v4221 k0_hw834 k0_h2 => k0_hw834 k0_h2

def k0_off843 (v4226 : BitVec 32) : Fin 2 → Nat :=
  let c0_i32_4618 : BitVec 32 := 0#32
  ![v4226.toNat, 0]

def k0_chk835 (i : grid0.Coords) (v4226 : BitVec 32) : Prop :=
  (∀ (k0_h2 : k0_cond2 i = 1#1), ∀ a, (k0_off843 v4226) a + S1x1024.size a ≤ S40960x1024.size a)
theorem k0_off843_inb : ∀ (i : grid0.Coords) (v4226 : BitVec 32) (k0_hw835 : k0_chk835 i v4226), ∀ (k0_h2 : k0_cond2 i = 1#1), ∀ a, (k0_off843 v4226) a + S1x1024.size a ≤ S40960x1024.size a := fun i v4226 k0_hw835 k0_h2 => k0_hw835 k0_h2

def k0_off844 (v4231 : BitVec 32) : Fin 2 → Nat :=
  let c0_i32_4624 : BitVec 32 := 0#32
  ![v4231.toNat, 0]

def k0_chk836 (i : grid0.Coords) (v4231 : BitVec 32) : Prop :=
  (∀ (k0_h2 : k0_cond2 i = 1#1), ∀ a, (k0_off844 v4231) a + S1x1024.size a ≤ S40960x1024.size a)
theorem k0_off844_inb : ∀ (i : grid0.Coords) (v4231 : BitVec 32) (k0_hw836 : k0_chk836 i v4231), ∀ (k0_h2 : k0_cond2 i = 1#1), ∀ a, (k0_off844 v4231) a + S1x1024.size a ≤ S40960x1024.size a := fun i v4231 k0_hw836 k0_h2 => k0_hw836 k0_h2

def k0_off845 (v4236 : BitVec 32) : Fin 2 → Nat :=
  let c0_i32_4629 : BitVec 32 := 0#32
  ![v4236.toNat, 0]

def k0_chk837 (i : grid0.Coords) (v4236 : BitVec 32) : Prop :=
  (∀ (k0_h2 : k0_cond2 i = 1#1), ∀ a, (k0_off845 v4236) a + S1x1024.size a ≤ S40960x1024.size a)
theorem k0_off845_inb : ∀ (i : grid0.Coords) (v4236 : BitVec 32) (k0_hw837 : k0_chk837 i v4236), ∀ (k0_h2 : k0_cond2 i = 1#1), ∀ a, (k0_off845 v4236) a + S1x1024.size a ≤ S40960x1024.size a := fun i v4236 k0_hw837 k0_h2 => k0_hw837 k0_h2

def k0_off846 (v4241 : BitVec 32) : Fin 2 → Nat :=
  let c0_i32_4635 : BitVec 32 := 0#32
  ![v4241.toNat, 0]

def k0_chk838 (i : grid0.Coords) (v4241 : BitVec 32) : Prop :=
  (∀ (k0_h2 : k0_cond2 i = 1#1), ∀ a, (k0_off846 v4241) a + S1x1024.size a ≤ S40960x1024.size a)
theorem k0_off846_inb : ∀ (i : grid0.Coords) (v4241 : BitVec 32) (k0_hw838 : k0_chk838 i v4241), ∀ (k0_h2 : k0_cond2 i = 1#1), ∀ a, (k0_off846 v4241) a + S1x1024.size a ≤ S40960x1024.size a := fun i v4241 k0_hw838 k0_h2 => k0_hw838 k0_h2

def k0_off847 (v4246 : BitVec 32) : Fin 2 → Nat :=
  let c0_i32_4640 : BitVec 32 := 0#32
  ![v4246.toNat, 0]

def k0_chk839 (i : grid0.Coords) (v4246 : BitVec 32) : Prop :=
  (∀ (k0_h2 : k0_cond2 i = 1#1), ∀ a, (k0_off847 v4246) a + S1x1024.size a ≤ S40960x1024.size a)
theorem k0_off847_inb : ∀ (i : grid0.Coords) (v4246 : BitVec 32) (k0_hw839 : k0_chk839 i v4246), ∀ (k0_h2 : k0_cond2 i = 1#1), ∀ a, (k0_off847 v4246) a + S1x1024.size a ≤ S40960x1024.size a := fun i v4246 k0_hw839 k0_h2 => k0_hw839 k0_h2

def k0_off848 (v4251 : BitVec 32) : Fin 2 → Nat :=
  let c0_i32_4646 : BitVec 32 := 0#32
  ![v4251.toNat, 0]

def k0_chk840 (i : grid0.Coords) (v4251 : BitVec 32) : Prop :=
  (∀ (k0_h2 : k0_cond2 i = 1#1), ∀ a, (k0_off848 v4251) a + S1x1024.size a ≤ S40960x1024.size a)
theorem k0_off848_inb : ∀ (i : grid0.Coords) (v4251 : BitVec 32) (k0_hw840 : k0_chk840 i v4251), ∀ (k0_h2 : k0_cond2 i = 1#1), ∀ a, (k0_off848 v4251) a + S1x1024.size a ≤ S40960x1024.size a := fun i v4251 k0_hw840 k0_h2 => k0_hw840 k0_h2

def k0_off849 (v4256 : BitVec 32) : Fin 2 → Nat :=
  let c0_i32_4651 : BitVec 32 := 0#32
  ![v4256.toNat, 0]

def k0_chk841 (i : grid0.Coords) (v4256 : BitVec 32) : Prop :=
  (∀ (k0_h2 : k0_cond2 i = 1#1), ∀ a, (k0_off849 v4256) a + S1x1024.size a ≤ S40960x1024.size a)
theorem k0_off849_inb : ∀ (i : grid0.Coords) (v4256 : BitVec 32) (k0_hw841 : k0_chk841 i v4256), ∀ (k0_h2 : k0_cond2 i = 1#1), ∀ a, (k0_off849 v4256) a + S1x1024.size a ≤ S40960x1024.size a := fun i v4256 k0_hw841 k0_h2 => k0_hw841 k0_h2

def k0_off850 (v4261 : BitVec 32) : Fin 2 → Nat :=
  let c0_i32_4657 : BitVec 32 := 0#32
  ![v4261.toNat, 0]

def k0_chk842 (i : grid0.Coords) (v4261 : BitVec 32) : Prop :=
  (∀ (k0_h2 : k0_cond2 i = 1#1), ∀ a, (k0_off850 v4261) a + S1x1024.size a ≤ S40960x1024.size a)
theorem k0_off850_inb : ∀ (i : grid0.Coords) (v4261 : BitVec 32) (k0_hw842 : k0_chk842 i v4261), ∀ (k0_h2 : k0_cond2 i = 1#1), ∀ a, (k0_off850 v4261) a + S1x1024.size a ≤ S40960x1024.size a := fun i v4261 k0_hw842 k0_h2 => k0_hw842 k0_h2

def k0_off851 (v4266 : BitVec 32) : Fin 2 → Nat :=
  let c0_i32_4662 : BitVec 32 := 0#32
  ![v4266.toNat, 0]

def k0_chk843 (i : grid0.Coords) (v4266 : BitVec 32) : Prop :=
  (∀ (k0_h2 : k0_cond2 i = 1#1), ∀ a, (k0_off851 v4266) a + S1x1024.size a ≤ S40960x1024.size a)
theorem k0_off851_inb : ∀ (i : grid0.Coords) (v4266 : BitVec 32) (k0_hw843 : k0_chk843 i v4266), ∀ (k0_h2 : k0_cond2 i = 1#1), ∀ a, (k0_off851 v4266) a + S1x1024.size a ≤ S40960x1024.size a := fun i v4266 k0_hw843 k0_h2 => k0_hw843 k0_h2

def k0_off852 (v4271 : BitVec 32) : Fin 2 → Nat :=
  let c0_i32_4668 : BitVec 32 := 0#32
  ![v4271.toNat, 0]

def k0_chk844 (i : grid0.Coords) (v4271 : BitVec 32) : Prop :=
  (∀ (k0_h2 : k0_cond2 i = 1#1), ∀ a, (k0_off852 v4271) a + S1x1024.size a ≤ S40960x1024.size a)
theorem k0_off852_inb : ∀ (i : grid0.Coords) (v4271 : BitVec 32) (k0_hw844 : k0_chk844 i v4271), ∀ (k0_h2 : k0_cond2 i = 1#1), ∀ a, (k0_off852 v4271) a + S1x1024.size a ≤ S40960x1024.size a := fun i v4271 k0_hw844 k0_h2 => k0_hw844 k0_h2

def k0_off853 (v4276 : BitVec 32) : Fin 2 → Nat :=
  let c0_i32_4673 : BitVec 32 := 0#32
  ![v4276.toNat, 0]

def k0_chk845 (i : grid0.Coords) (v4276 : BitVec 32) : Prop :=
  (∀ (k0_h2 : k0_cond2 i = 1#1), ∀ a, (k0_off853 v4276) a + S1x1024.size a ≤ S40960x1024.size a)
theorem k0_off853_inb : ∀ (i : grid0.Coords) (v4276 : BitVec 32) (k0_hw845 : k0_chk845 i v4276), ∀ (k0_h2 : k0_cond2 i = 1#1), ∀ a, (k0_off853 v4276) a + S1x1024.size a ≤ S40960x1024.size a := fun i v4276 k0_hw845 k0_h2 => k0_hw845 k0_h2

def k0_off854 (v4281 : BitVec 32) : Fin 2 → Nat :=
  let c0_i32_4679 : BitVec 32 := 0#32
  ![v4281.toNat, 0]

def k0_chk846 (i : grid0.Coords) (v4281 : BitVec 32) : Prop :=
  (∀ (k0_h2 : k0_cond2 i = 1#1), ∀ a, (k0_off854 v4281) a + S1x1024.size a ≤ S40960x1024.size a)
theorem k0_off854_inb : ∀ (i : grid0.Coords) (v4281 : BitVec 32) (k0_hw846 : k0_chk846 i v4281), ∀ (k0_h2 : k0_cond2 i = 1#1), ∀ a, (k0_off854 v4281) a + S1x1024.size a ≤ S40960x1024.size a := fun i v4281 k0_hw846 k0_h2 => k0_hw846 k0_h2

def k0_off855 (v4286 : BitVec 32) : Fin 2 → Nat :=
  let c0_i32_4684 : BitVec 32 := 0#32
  ![v4286.toNat, 0]

def k0_chk847 (i : grid0.Coords) (v4286 : BitVec 32) : Prop :=
  (∀ (k0_h2 : k0_cond2 i = 1#1), ∀ a, (k0_off855 v4286) a + S1x1024.size a ≤ S40960x1024.size a)
theorem k0_off855_inb : ∀ (i : grid0.Coords) (v4286 : BitVec 32) (k0_hw847 : k0_chk847 i v4286), ∀ (k0_h2 : k0_cond2 i = 1#1), ∀ a, (k0_off855 v4286) a + S1x1024.size a ≤ S40960x1024.size a := fun i v4286 k0_hw847 k0_h2 => k0_hw847 k0_h2

def k0_off856 (v4291 : BitVec 32) : Fin 2 → Nat :=
  let c0_i32_4690 : BitVec 32 := 0#32
  ![v4291.toNat, 0]

def k0_chk848 (i : grid0.Coords) (v4291 : BitVec 32) : Prop :=
  (∀ (k0_h2 : k0_cond2 i = 1#1), ∀ a, (k0_off856 v4291) a + S1x1024.size a ≤ S40960x1024.size a)
theorem k0_off856_inb : ∀ (i : grid0.Coords) (v4291 : BitVec 32) (k0_hw848 : k0_chk848 i v4291), ∀ (k0_h2 : k0_cond2 i = 1#1), ∀ a, (k0_off856 v4291) a + S1x1024.size a ≤ S40960x1024.size a := fun i v4291 k0_hw848 k0_h2 => k0_hw848 k0_h2

def k0_off857 (v4296 : BitVec 32) : Fin 2 → Nat :=
  let c0_i32_4695 : BitVec 32 := 0#32
  ![v4296.toNat, 0]

def k0_chk849 (i : grid0.Coords) (v4296 : BitVec 32) : Prop :=
  (∀ (k0_h2 : k0_cond2 i = 1#1), ∀ a, (k0_off857 v4296) a + S1x1024.size a ≤ S40960x1024.size a)
theorem k0_off857_inb : ∀ (i : grid0.Coords) (v4296 : BitVec 32) (k0_hw849 : k0_chk849 i v4296), ∀ (k0_h2 : k0_cond2 i = 1#1), ∀ a, (k0_off857 v4296) a + S1x1024.size a ≤ S40960x1024.size a := fun i v4296 k0_hw849 k0_h2 => k0_hw849 k0_h2

def k0_off858 (v4301 : BitVec 32) : Fin 2 → Nat :=
  let c0_i32_4701 : BitVec 32 := 0#32
  ![v4301.toNat, 0]

def k0_chk850 (i : grid0.Coords) (v4301 : BitVec 32) : Prop :=
  (∀ (k0_h2 : k0_cond2 i = 1#1), ∀ a, (k0_off858 v4301) a + S1x1024.size a ≤ S40960x1024.size a)
theorem k0_off858_inb : ∀ (i : grid0.Coords) (v4301 : BitVec 32) (k0_hw850 : k0_chk850 i v4301), ∀ (k0_h2 : k0_cond2 i = 1#1), ∀ a, (k0_off858 v4301) a + S1x1024.size a ≤ S40960x1024.size a := fun i v4301 k0_hw850 k0_h2 => k0_hw850 k0_h2

def k0_off859 (v4306 : BitVec 32) : Fin 2 → Nat :=
  let c0_i32_4706 : BitVec 32 := 0#32
  ![v4306.toNat, 0]

def k0_chk851 (i : grid0.Coords) (v4306 : BitVec 32) : Prop :=
  (∀ (k0_h2 : k0_cond2 i = 1#1), ∀ a, (k0_off859 v4306) a + S1x1024.size a ≤ S40960x1024.size a)
theorem k0_off859_inb : ∀ (i : grid0.Coords) (v4306 : BitVec 32) (k0_hw851 : k0_chk851 i v4306), ∀ (k0_h2 : k0_cond2 i = 1#1), ∀ a, (k0_off859 v4306) a + S1x1024.size a ≤ S40960x1024.size a := fun i v4306 k0_hw851 k0_h2 => k0_hw851 k0_h2

def k0_off860 (v4311 : BitVec 32) : Fin 2 → Nat :=
  let c0_i32_4712 : BitVec 32 := 0#32
  ![v4311.toNat, 0]

def k0_chk852 (i : grid0.Coords) (v4311 : BitVec 32) : Prop :=
  (∀ (k0_h2 : k0_cond2 i = 1#1), ∀ a, (k0_off860 v4311) a + S1x1024.size a ≤ S40960x1024.size a)
theorem k0_off860_inb : ∀ (i : grid0.Coords) (v4311 : BitVec 32) (k0_hw852 : k0_chk852 i v4311), ∀ (k0_h2 : k0_cond2 i = 1#1), ∀ a, (k0_off860 v4311) a + S1x1024.size a ≤ S40960x1024.size a := fun i v4311 k0_hw852 k0_h2 => k0_hw852 k0_h2

def k0_off861 (v4316 : BitVec 32) : Fin 2 → Nat :=
  let c0_i32_4717 : BitVec 32 := 0#32
  ![v4316.toNat, 0]

def k0_chk853 (i : grid0.Coords) (v4316 : BitVec 32) : Prop :=
  (∀ (k0_h2 : k0_cond2 i = 1#1), ∀ a, (k0_off861 v4316) a + S1x1024.size a ≤ S40960x1024.size a)
theorem k0_off861_inb : ∀ (i : grid0.Coords) (v4316 : BitVec 32) (k0_hw853 : k0_chk853 i v4316), ∀ (k0_h2 : k0_cond2 i = 1#1), ∀ a, (k0_off861 v4316) a + S1x1024.size a ≤ S40960x1024.size a := fun i v4316 k0_hw853 k0_h2 => k0_hw853 k0_h2

def k0_off862 (v4321 : BitVec 32) : Fin 2 → Nat :=
  let c0_i32_4723 : BitVec 32 := 0#32
  ![v4321.toNat, 0]

def k0_chk854 (i : grid0.Coords) (v4321 : BitVec 32) : Prop :=
  (∀ (k0_h2 : k0_cond2 i = 1#1), ∀ a, (k0_off862 v4321) a + S1x1024.size a ≤ S40960x1024.size a)
theorem k0_off862_inb : ∀ (i : grid0.Coords) (v4321 : BitVec 32) (k0_hw854 : k0_chk854 i v4321), ∀ (k0_h2 : k0_cond2 i = 1#1), ∀ a, (k0_off862 v4321) a + S1x1024.size a ≤ S40960x1024.size a := fun i v4321 k0_hw854 k0_h2 => k0_hw854 k0_h2

def k0_off863 (v4326 : BitVec 32) : Fin 2 → Nat :=
  let c0_i32_4728 : BitVec 32 := 0#32
  ![v4326.toNat, 0]

def k0_chk855 (i : grid0.Coords) (v4326 : BitVec 32) : Prop :=
  (∀ (k0_h2 : k0_cond2 i = 1#1), ∀ a, (k0_off863 v4326) a + S1x1024.size a ≤ S40960x1024.size a)
theorem k0_off863_inb : ∀ (i : grid0.Coords) (v4326 : BitVec 32) (k0_hw855 : k0_chk855 i v4326), ∀ (k0_h2 : k0_cond2 i = 1#1), ∀ a, (k0_off863 v4326) a + S1x1024.size a ≤ S40960x1024.size a := fun i v4326 k0_hw855 k0_h2 => k0_hw855 k0_h2

def k0_off864 (v4331 : BitVec 32) : Fin 2 → Nat :=
  let c0_i32_4734 : BitVec 32 := 0#32
  ![v4331.toNat, 0]

def k0_chk856 (i : grid0.Coords) (v4331 : BitVec 32) : Prop :=
  (∀ (k0_h2 : k0_cond2 i = 1#1), ∀ a, (k0_off864 v4331) a + S1x1024.size a ≤ S40960x1024.size a)
theorem k0_off864_inb : ∀ (i : grid0.Coords) (v4331 : BitVec 32) (k0_hw856 : k0_chk856 i v4331), ∀ (k0_h2 : k0_cond2 i = 1#1), ∀ a, (k0_off864 v4331) a + S1x1024.size a ≤ S40960x1024.size a := fun i v4331 k0_hw856 k0_h2 => k0_hw856 k0_h2

def k0_off865 (v4336 : BitVec 32) : Fin 2 → Nat :=
  let c0_i32_4739 : BitVec 32 := 0#32
  ![v4336.toNat, 0]

def k0_chk857 (i : grid0.Coords) (v4336 : BitVec 32) : Prop :=
  (∀ (k0_h2 : k0_cond2 i = 1#1), ∀ a, (k0_off865 v4336) a + S1x1024.size a ≤ S40960x1024.size a)
theorem k0_off865_inb : ∀ (i : grid0.Coords) (v4336 : BitVec 32) (k0_hw857 : k0_chk857 i v4336), ∀ (k0_h2 : k0_cond2 i = 1#1), ∀ a, (k0_off865 v4336) a + S1x1024.size a ≤ S40960x1024.size a := fun i v4336 k0_hw857 k0_h2 => k0_hw857 k0_h2

def k0_off866 (v4341 : BitVec 32) : Fin 2 → Nat :=
  let c0_i32_4745 : BitVec 32 := 0#32
  ![v4341.toNat, 0]

def k0_chk858 (i : grid0.Coords) (v4341 : BitVec 32) : Prop :=
  (∀ (k0_h2 : k0_cond2 i = 1#1), ∀ a, (k0_off866 v4341) a + S1x1024.size a ≤ S40960x1024.size a)
theorem k0_off866_inb : ∀ (i : grid0.Coords) (v4341 : BitVec 32) (k0_hw858 : k0_chk858 i v4341), ∀ (k0_h2 : k0_cond2 i = 1#1), ∀ a, (k0_off866 v4341) a + S1x1024.size a ≤ S40960x1024.size a := fun i v4341 k0_hw858 k0_h2 => k0_hw858 k0_h2

def k0_off867 (v4346 : BitVec 32) : Fin 2 → Nat :=
  let c0_i32_4750 : BitVec 32 := 0#32
  ![v4346.toNat, 0]

def k0_chk859 (i : grid0.Coords) (v4346 : BitVec 32) : Prop :=
  (∀ (k0_h2 : k0_cond2 i = 1#1), ∀ a, (k0_off867 v4346) a + S1x1024.size a ≤ S40960x1024.size a)
theorem k0_off867_inb : ∀ (i : grid0.Coords) (v4346 : BitVec 32) (k0_hw859 : k0_chk859 i v4346), ∀ (k0_h2 : k0_cond2 i = 1#1), ∀ a, (k0_off867 v4346) a + S1x1024.size a ≤ S40960x1024.size a := fun i v4346 k0_hw859 k0_h2 => k0_hw859 k0_h2

def k0_off868 (v4351 : BitVec 32) : Fin 2 → Nat :=
  let c0_i32_4756 : BitVec 32 := 0#32
  ![v4351.toNat, 0]

def k0_chk860 (i : grid0.Coords) (v4351 : BitVec 32) : Prop :=
  (∀ (k0_h2 : k0_cond2 i = 1#1), ∀ a, (k0_off868 v4351) a + S1x1024.size a ≤ S40960x1024.size a)
theorem k0_off868_inb : ∀ (i : grid0.Coords) (v4351 : BitVec 32) (k0_hw860 : k0_chk860 i v4351), ∀ (k0_h2 : k0_cond2 i = 1#1), ∀ a, (k0_off868 v4351) a + S1x1024.size a ≤ S40960x1024.size a := fun i v4351 k0_hw860 k0_h2 => k0_hw860 k0_h2

def k0_off869 (v4356 : BitVec 32) : Fin 2 → Nat :=
  let c0_i32_4761 : BitVec 32 := 0#32
  ![v4356.toNat, 0]

def k0_chk861 (i : grid0.Coords) (v4356 : BitVec 32) : Prop :=
  (∀ (k0_h2 : k0_cond2 i = 1#1), ∀ a, (k0_off869 v4356) a + S1x1024.size a ≤ S40960x1024.size a)
theorem k0_off869_inb : ∀ (i : grid0.Coords) (v4356 : BitVec 32) (k0_hw861 : k0_chk861 i v4356), ∀ (k0_h2 : k0_cond2 i = 1#1), ∀ a, (k0_off869 v4356) a + S1x1024.size a ≤ S40960x1024.size a := fun i v4356 k0_hw861 k0_h2 => k0_hw861 k0_h2

def k0_off870 (v4361 : BitVec 32) : Fin 2 → Nat :=
  let c0_i32_4767 : BitVec 32 := 0#32
  ![v4361.toNat, 0]

def k0_chk862 (i : grid0.Coords) (v4361 : BitVec 32) : Prop :=
  (∀ (k0_h2 : k0_cond2 i = 1#1), ∀ a, (k0_off870 v4361) a + S1x1024.size a ≤ S40960x1024.size a)
theorem k0_off870_inb : ∀ (i : grid0.Coords) (v4361 : BitVec 32) (k0_hw862 : k0_chk862 i v4361), ∀ (k0_h2 : k0_cond2 i = 1#1), ∀ a, (k0_off870 v4361) a + S1x1024.size a ≤ S40960x1024.size a := fun i v4361 k0_hw862 k0_h2 => k0_hw862 k0_h2

def k0_off871 (v4366 : BitVec 32) : Fin 2 → Nat :=
  let c0_i32_4772 : BitVec 32 := 0#32
  ![v4366.toNat, 0]

def k0_chk863 (i : grid0.Coords) (v4366 : BitVec 32) : Prop :=
  (∀ (k0_h2 : k0_cond2 i = 1#1), ∀ a, (k0_off871 v4366) a + S1x1024.size a ≤ S40960x1024.size a)
theorem k0_off871_inb : ∀ (i : grid0.Coords) (v4366 : BitVec 32) (k0_hw863 : k0_chk863 i v4366), ∀ (k0_h2 : k0_cond2 i = 1#1), ∀ a, (k0_off871 v4366) a + S1x1024.size a ≤ S40960x1024.size a := fun i v4366 k0_hw863 k0_h2 => k0_hw863 k0_h2

def k0_off872 (v4371 : BitVec 32) : Fin 2 → Nat :=
  let c0_i32_4778 : BitVec 32 := 0#32
  ![v4371.toNat, 0]

def k0_chk864 (i : grid0.Coords) (v4371 : BitVec 32) : Prop :=
  (∀ (k0_h2 : k0_cond2 i = 1#1), ∀ a, (k0_off872 v4371) a + S1x1024.size a ≤ S40960x1024.size a)
theorem k0_off872_inb : ∀ (i : grid0.Coords) (v4371 : BitVec 32) (k0_hw864 : k0_chk864 i v4371), ∀ (k0_h2 : k0_cond2 i = 1#1), ∀ a, (k0_off872 v4371) a + S1x1024.size a ≤ S40960x1024.size a := fun i v4371 k0_hw864 k0_h2 => k0_hw864 k0_h2

def k0_off873 (v4376 : BitVec 32) : Fin 2 → Nat :=
  let c0_i32_4783 : BitVec 32 := 0#32
  ![v4376.toNat, 0]

def k0_chk865 (i : grid0.Coords) (v4376 : BitVec 32) : Prop :=
  (∀ (k0_h2 : k0_cond2 i = 1#1), ∀ a, (k0_off873 v4376) a + S1x1024.size a ≤ S40960x1024.size a)
theorem k0_off873_inb : ∀ (i : grid0.Coords) (v4376 : BitVec 32) (k0_hw865 : k0_chk865 i v4376), ∀ (k0_h2 : k0_cond2 i = 1#1), ∀ a, (k0_off873 v4376) a + S1x1024.size a ≤ S40960x1024.size a := fun i v4376 k0_hw865 k0_h2 => k0_hw865 k0_h2

def k0_off874 (v4381 : BitVec 32) : Fin 2 → Nat :=
  let c0_i32_4789 : BitVec 32 := 0#32
  ![v4381.toNat, 0]

def k0_chk866 (i : grid0.Coords) (v4381 : BitVec 32) : Prop :=
  (∀ (k0_h2 : k0_cond2 i = 1#1), ∀ a, (k0_off874 v4381) a + S1x1024.size a ≤ S40960x1024.size a)
theorem k0_off874_inb : ∀ (i : grid0.Coords) (v4381 : BitVec 32) (k0_hw866 : k0_chk866 i v4381), ∀ (k0_h2 : k0_cond2 i = 1#1), ∀ a, (k0_off874 v4381) a + S1x1024.size a ≤ S40960x1024.size a := fun i v4381 k0_hw866 k0_h2 => k0_hw866 k0_h2

def k0_off875 (v4386 : BitVec 32) : Fin 2 → Nat :=
  let c0_i32_4794 : BitVec 32 := 0#32
  ![v4386.toNat, 0]

def k0_chk867 (i : grid0.Coords) (v4386 : BitVec 32) : Prop :=
  (∀ (k0_h2 : k0_cond2 i = 1#1), ∀ a, (k0_off875 v4386) a + S1x1024.size a ≤ S40960x1024.size a)
theorem k0_off875_inb : ∀ (i : grid0.Coords) (v4386 : BitVec 32) (k0_hw867 : k0_chk867 i v4386), ∀ (k0_h2 : k0_cond2 i = 1#1), ∀ a, (k0_off875 v4386) a + S1x1024.size a ≤ S40960x1024.size a := fun i v4386 k0_hw867 k0_h2 => k0_hw867 k0_h2

def k0_off876 (v4391 : BitVec 32) : Fin 2 → Nat :=
  let c0_i32_4800 : BitVec 32 := 0#32
  ![v4391.toNat, 0]

def k0_chk868 (i : grid0.Coords) (v4391 : BitVec 32) : Prop :=
  (∀ (k0_h2 : k0_cond2 i = 1#1), ∀ a, (k0_off876 v4391) a + S1x1024.size a ≤ S40960x1024.size a)
theorem k0_off876_inb : ∀ (i : grid0.Coords) (v4391 : BitVec 32) (k0_hw868 : k0_chk868 i v4391), ∀ (k0_h2 : k0_cond2 i = 1#1), ∀ a, (k0_off876 v4391) a + S1x1024.size a ≤ S40960x1024.size a := fun i v4391 k0_hw868 k0_h2 => k0_hw868 k0_h2

def k0_off877 (v4396 : BitVec 32) : Fin 2 → Nat :=
  let c0_i32_4805 : BitVec 32 := 0#32
  ![v4396.toNat, 0]

def k0_chk869 (i : grid0.Coords) (v4396 : BitVec 32) : Prop :=
  (∀ (k0_h2 : k0_cond2 i = 1#1), ∀ a, (k0_off877 v4396) a + S1x1024.size a ≤ S40960x1024.size a)
theorem k0_off877_inb : ∀ (i : grid0.Coords) (v4396 : BitVec 32) (k0_hw869 : k0_chk869 i v4396), ∀ (k0_h2 : k0_cond2 i = 1#1), ∀ a, (k0_off877 v4396) a + S1x1024.size a ≤ S40960x1024.size a := fun i v4396 k0_hw869 k0_h2 => k0_hw869 k0_h2

def k0_off878 (v4401 : BitVec 32) : Fin 2 → Nat :=
  let c0_i32_4811 : BitVec 32 := 0#32
  ![v4401.toNat, 0]

def k0_chk870 (i : grid0.Coords) (v4401 : BitVec 32) : Prop :=
  (∀ (k0_h2 : k0_cond2 i = 1#1), ∀ a, (k0_off878 v4401) a + S1x1024.size a ≤ S40960x1024.size a)
theorem k0_off878_inb : ∀ (i : grid0.Coords) (v4401 : BitVec 32) (k0_hw870 : k0_chk870 i v4401), ∀ (k0_h2 : k0_cond2 i = 1#1), ∀ a, (k0_off878 v4401) a + S1x1024.size a ≤ S40960x1024.size a := fun i v4401 k0_hw870 k0_h2 => k0_hw870 k0_h2

def k0_off879 (v4406 : BitVec 32) : Fin 2 → Nat :=
  let c0_i32_4816 : BitVec 32 := 0#32
  ![v4406.toNat, 0]

def k0_chk871 (i : grid0.Coords) (v4406 : BitVec 32) : Prop :=
  (∀ (k0_h2 : k0_cond2 i = 1#1), ∀ a, (k0_off879 v4406) a + S1x1024.size a ≤ S40960x1024.size a)
theorem k0_off879_inb : ∀ (i : grid0.Coords) (v4406 : BitVec 32) (k0_hw871 : k0_chk871 i v4406), ∀ (k0_h2 : k0_cond2 i = 1#1), ∀ a, (k0_off879 v4406) a + S1x1024.size a ≤ S40960x1024.size a := fun i v4406 k0_hw871 k0_h2 => k0_hw871 k0_h2

def k0_off880 (v4411 : BitVec 32) : Fin 2 → Nat :=
  let c0_i32_4822 : BitVec 32 := 0#32
  ![v4411.toNat, 0]

def k0_chk872 (i : grid0.Coords) (v4411 : BitVec 32) : Prop :=
  (∀ (k0_h2 : k0_cond2 i = 1#1), ∀ a, (k0_off880 v4411) a + S1x1024.size a ≤ S40960x1024.size a)
theorem k0_off880_inb : ∀ (i : grid0.Coords) (v4411 : BitVec 32) (k0_hw872 : k0_chk872 i v4411), ∀ (k0_h2 : k0_cond2 i = 1#1), ∀ a, (k0_off880 v4411) a + S1x1024.size a ≤ S40960x1024.size a := fun i v4411 k0_hw872 k0_h2 => k0_hw872 k0_h2

def k0_off881 (v4416 : BitVec 32) : Fin 2 → Nat :=
  let c0_i32_4827 : BitVec 32 := 0#32
  ![v4416.toNat, 0]

def k0_chk873 (i : grid0.Coords) (v4416 : BitVec 32) : Prop :=
  (∀ (k0_h2 : k0_cond2 i = 1#1), ∀ a, (k0_off881 v4416) a + S1x1024.size a ≤ S40960x1024.size a)
theorem k0_off881_inb : ∀ (i : grid0.Coords) (v4416 : BitVec 32) (k0_hw873 : k0_chk873 i v4416), ∀ (k0_h2 : k0_cond2 i = 1#1), ∀ a, (k0_off881 v4416) a + S1x1024.size a ≤ S40960x1024.size a := fun i v4416 k0_hw873 k0_h2 => k0_hw873 k0_h2

def k0_off882 (v4421 : BitVec 32) : Fin 2 → Nat :=
  let c0_i32_4833 : BitVec 32 := 0#32
  ![v4421.toNat, 0]

def k0_chk874 (i : grid0.Coords) (v4421 : BitVec 32) : Prop :=
  (∀ (k0_h2 : k0_cond2 i = 1#1), ∀ a, (k0_off882 v4421) a + S1x1024.size a ≤ S40960x1024.size a)
theorem k0_off882_inb : ∀ (i : grid0.Coords) (v4421 : BitVec 32) (k0_hw874 : k0_chk874 i v4421), ∀ (k0_h2 : k0_cond2 i = 1#1), ∀ a, (k0_off882 v4421) a + S1x1024.size a ≤ S40960x1024.size a := fun i v4421 k0_hw874 k0_h2 => k0_hw874 k0_h2

def k0_off883 (v4426 : BitVec 32) : Fin 2 → Nat :=
  let c0_i32_4838 : BitVec 32 := 0#32
  ![v4426.toNat, 0]

def k0_chk875 (i : grid0.Coords) (v4426 : BitVec 32) : Prop :=
  (∀ (k0_h2 : k0_cond2 i = 1#1), ∀ a, (k0_off883 v4426) a + S1x1024.size a ≤ S40960x1024.size a)
theorem k0_off883_inb : ∀ (i : grid0.Coords) (v4426 : BitVec 32) (k0_hw875 : k0_chk875 i v4426), ∀ (k0_h2 : k0_cond2 i = 1#1), ∀ a, (k0_off883 v4426) a + S1x1024.size a ≤ S40960x1024.size a := fun i v4426 k0_hw875 k0_h2 => k0_hw875 k0_h2

def k0_off884 (v4431 : BitVec 32) : Fin 2 → Nat :=
  let c0_i32_4844 : BitVec 32 := 0#32
  ![v4431.toNat, 0]

def k0_chk876 (i : grid0.Coords) (v4431 : BitVec 32) : Prop :=
  (∀ (k0_h2 : k0_cond2 i = 1#1), ∀ a, (k0_off884 v4431) a + S1x1024.size a ≤ S40960x1024.size a)
theorem k0_off884_inb : ∀ (i : grid0.Coords) (v4431 : BitVec 32) (k0_hw876 : k0_chk876 i v4431), ∀ (k0_h2 : k0_cond2 i = 1#1), ∀ a, (k0_off884 v4431) a + S1x1024.size a ≤ S40960x1024.size a := fun i v4431 k0_hw876 k0_h2 => k0_hw876 k0_h2

def k0_off885 (v4436 : BitVec 32) : Fin 2 → Nat :=
  let c0_i32_4849 : BitVec 32 := 0#32
  ![v4436.toNat, 0]

def k0_chk877 (i : grid0.Coords) (v4436 : BitVec 32) : Prop :=
  (∀ (k0_h2 : k0_cond2 i = 1#1), ∀ a, (k0_off885 v4436) a + S1x1024.size a ≤ S40960x1024.size a)
theorem k0_off885_inb : ∀ (i : grid0.Coords) (v4436 : BitVec 32) (k0_hw877 : k0_chk877 i v4436), ∀ (k0_h2 : k0_cond2 i = 1#1), ∀ a, (k0_off885 v4436) a + S1x1024.size a ≤ S40960x1024.size a := fun i v4436 k0_hw877 k0_h2 => k0_hw877 k0_h2

def k0_off886 (v4441 : BitVec 32) : Fin 2 → Nat :=
  let c0_i32_4855 : BitVec 32 := 0#32
  ![v4441.toNat, 0]

def k0_chk878 (i : grid0.Coords) (v4441 : BitVec 32) : Prop :=
  (∀ (k0_h2 : k0_cond2 i = 1#1), ∀ a, (k0_off886 v4441) a + S1x1024.size a ≤ S40960x1024.size a)
theorem k0_off886_inb : ∀ (i : grid0.Coords) (v4441 : BitVec 32) (k0_hw878 : k0_chk878 i v4441), ∀ (k0_h2 : k0_cond2 i = 1#1), ∀ a, (k0_off886 v4441) a + S1x1024.size a ≤ S40960x1024.size a := fun i v4441 k0_hw878 k0_h2 => k0_hw878 k0_h2

def k0_off887 (v4446 : BitVec 32) : Fin 2 → Nat :=
  let c0_i32_4860 : BitVec 32 := 0#32
  ![v4446.toNat, 0]

def k0_chk879 (i : grid0.Coords) (v4446 : BitVec 32) : Prop :=
  (∀ (k0_h2 : k0_cond2 i = 1#1), ∀ a, (k0_off887 v4446) a + S1x1024.size a ≤ S40960x1024.size a)
theorem k0_off887_inb : ∀ (i : grid0.Coords) (v4446 : BitVec 32) (k0_hw879 : k0_chk879 i v4446), ∀ (k0_h2 : k0_cond2 i = 1#1), ∀ a, (k0_off887 v4446) a + S1x1024.size a ≤ S40960x1024.size a := fun i v4446 k0_hw879 k0_h2 => k0_hw879 k0_h2

def k0_off888 (v4451 : BitVec 32) : Fin 2 → Nat :=
  let c0_i32_4866 : BitVec 32 := 0#32
  ![v4451.toNat, 0]

def k0_chk880 (i : grid0.Coords) (v4451 : BitVec 32) : Prop :=
  (∀ (k0_h2 : k0_cond2 i = 1#1), ∀ a, (k0_off888 v4451) a + S1x1024.size a ≤ S40960x1024.size a)
theorem k0_off888_inb : ∀ (i : grid0.Coords) (v4451 : BitVec 32) (k0_hw880 : k0_chk880 i v4451), ∀ (k0_h2 : k0_cond2 i = 1#1), ∀ a, (k0_off888 v4451) a + S1x1024.size a ≤ S40960x1024.size a := fun i v4451 k0_hw880 k0_h2 => k0_hw880 k0_h2

def k0_off889 (v4456 : BitVec 32) : Fin 2 → Nat :=
  let c0_i32_4871 : BitVec 32 := 0#32
  ![v4456.toNat, 0]

def k0_chk881 (i : grid0.Coords) (v4456 : BitVec 32) : Prop :=
  (∀ (k0_h2 : k0_cond2 i = 1#1), ∀ a, (k0_off889 v4456) a + S1x1024.size a ≤ S40960x1024.size a)
theorem k0_off889_inb : ∀ (i : grid0.Coords) (v4456 : BitVec 32) (k0_hw881 : k0_chk881 i v4456), ∀ (k0_h2 : k0_cond2 i = 1#1), ∀ a, (k0_off889 v4456) a + S1x1024.size a ≤ S40960x1024.size a := fun i v4456 k0_hw881 k0_h2 => k0_hw881 k0_h2

def k0_off890 (v4461 : BitVec 32) : Fin 2 → Nat :=
  let c0_i32_4877 : BitVec 32 := 0#32
  ![v4461.toNat, 0]

def k0_chk882 (i : grid0.Coords) (v4461 : BitVec 32) : Prop :=
  (∀ (k0_h2 : k0_cond2 i = 1#1), ∀ a, (k0_off890 v4461) a + S1x1024.size a ≤ S40960x1024.size a)
theorem k0_off890_inb : ∀ (i : grid0.Coords) (v4461 : BitVec 32) (k0_hw882 : k0_chk882 i v4461), ∀ (k0_h2 : k0_cond2 i = 1#1), ∀ a, (k0_off890 v4461) a + S1x1024.size a ≤ S40960x1024.size a := fun i v4461 k0_hw882 k0_h2 => k0_hw882 k0_h2

def k0_off891 (v4466 : BitVec 32) : Fin 2 → Nat :=
  let c0_i32_4882 : BitVec 32 := 0#32
  ![v4466.toNat, 0]

def k0_chk883 (i : grid0.Coords) (v4466 : BitVec 32) : Prop :=
  (∀ (k0_h2 : k0_cond2 i = 1#1), ∀ a, (k0_off891 v4466) a + S1x1024.size a ≤ S40960x1024.size a)
theorem k0_off891_inb : ∀ (i : grid0.Coords) (v4466 : BitVec 32) (k0_hw883 : k0_chk883 i v4466), ∀ (k0_h2 : k0_cond2 i = 1#1), ∀ a, (k0_off891 v4466) a + S1x1024.size a ≤ S40960x1024.size a := fun i v4466 k0_hw883 k0_h2 => k0_hw883 k0_h2

def k0_off892 (v4471 : BitVec 32) : Fin 2 → Nat :=
  let c0_i32_4888 : BitVec 32 := 0#32
  ![v4471.toNat, 0]

def k0_chk884 (i : grid0.Coords) (v4471 : BitVec 32) : Prop :=
  (∀ (k0_h2 : k0_cond2 i = 1#1), ∀ a, (k0_off892 v4471) a + S1x1024.size a ≤ S40960x1024.size a)
theorem k0_off892_inb : ∀ (i : grid0.Coords) (v4471 : BitVec 32) (k0_hw884 : k0_chk884 i v4471), ∀ (k0_h2 : k0_cond2 i = 1#1), ∀ a, (k0_off892 v4471) a + S1x1024.size a ≤ S40960x1024.size a := fun i v4471 k0_hw884 k0_h2 => k0_hw884 k0_h2

def k0_off893 (v4476 : BitVec 32) : Fin 2 → Nat :=
  let c0_i32_4893 : BitVec 32 := 0#32
  ![v4476.toNat, 0]

def k0_chk885 (i : grid0.Coords) (v4476 : BitVec 32) : Prop :=
  (∀ (k0_h2 : k0_cond2 i = 1#1), ∀ a, (k0_off893 v4476) a + S1x1024.size a ≤ S40960x1024.size a)
theorem k0_off893_inb : ∀ (i : grid0.Coords) (v4476 : BitVec 32) (k0_hw885 : k0_chk885 i v4476), ∀ (k0_h2 : k0_cond2 i = 1#1), ∀ a, (k0_off893 v4476) a + S1x1024.size a ≤ S40960x1024.size a := fun i v4476 k0_hw885 k0_h2 => k0_hw885 k0_h2

def k0_off894 (v4481 : BitVec 32) : Fin 2 → Nat :=
  let c0_i32_4899 : BitVec 32 := 0#32
  ![v4481.toNat, 0]

def k0_chk886 (i : grid0.Coords) (v4481 : BitVec 32) : Prop :=
  (∀ (k0_h2 : k0_cond2 i = 1#1), ∀ a, (k0_off894 v4481) a + S1x1024.size a ≤ S40960x1024.size a)
theorem k0_off894_inb : ∀ (i : grid0.Coords) (v4481 : BitVec 32) (k0_hw886 : k0_chk886 i v4481), ∀ (k0_h2 : k0_cond2 i = 1#1), ∀ a, (k0_off894 v4481) a + S1x1024.size a ≤ S40960x1024.size a := fun i v4481 k0_hw886 k0_h2 => k0_hw886 k0_h2

def k0_off895 (v4486 : BitVec 32) : Fin 2 → Nat :=
  let c0_i32_4904 : BitVec 32 := 0#32
  ![v4486.toNat, 0]

def k0_chk887 (i : grid0.Coords) (v4486 : BitVec 32) : Prop :=
  (∀ (k0_h2 : k0_cond2 i = 1#1), ∀ a, (k0_off895 v4486) a + S1x1024.size a ≤ S40960x1024.size a)
theorem k0_off895_inb : ∀ (i : grid0.Coords) (v4486 : BitVec 32) (k0_hw887 : k0_chk887 i v4486), ∀ (k0_h2 : k0_cond2 i = 1#1), ∀ a, (k0_off895 v4486) a + S1x1024.size a ≤ S40960x1024.size a := fun i v4486 k0_hw887 k0_h2 => k0_hw887 k0_h2

def k0_off896 (v4491 : BitVec 32) : Fin 2 → Nat :=
  let c0_i32_4910 : BitVec 32 := 0#32
  ![v4491.toNat, 0]

def k0_chk888 (i : grid0.Coords) (v4491 : BitVec 32) : Prop :=
  (∀ (k0_h2 : k0_cond2 i = 1#1), ∀ a, (k0_off896 v4491) a + S1x1024.size a ≤ S40960x1024.size a)
theorem k0_off896_inb : ∀ (i : grid0.Coords) (v4491 : BitVec 32) (k0_hw888 : k0_chk888 i v4491), ∀ (k0_h2 : k0_cond2 i = 1#1), ∀ a, (k0_off896 v4491) a + S1x1024.size a ≤ S40960x1024.size a := fun i v4491 k0_hw888 k0_h2 => k0_hw888 k0_h2

def k0_off897 (v4496 : BitVec 32) : Fin 2 → Nat :=
  let c0_i32_4915 : BitVec 32 := 0#32
  ![v4496.toNat, 0]

def k0_chk889 (i : grid0.Coords) (v4496 : BitVec 32) : Prop :=
  (∀ (k0_h2 : k0_cond2 i = 1#1), ∀ a, (k0_off897 v4496) a + S1x1024.size a ≤ S40960x1024.size a)
theorem k0_off897_inb : ∀ (i : grid0.Coords) (v4496 : BitVec 32) (k0_hw889 : k0_chk889 i v4496), ∀ (k0_h2 : k0_cond2 i = 1#1), ∀ a, (k0_off897 v4496) a + S1x1024.size a ≤ S40960x1024.size a := fun i v4496 k0_hw889 k0_h2 => k0_hw889 k0_h2

def k0_off898 (v4501 : BitVec 32) : Fin 2 → Nat :=
  let c0_i32_4921 : BitVec 32 := 0#32
  ![v4501.toNat, 0]

def k0_chk890 (i : grid0.Coords) (v4501 : BitVec 32) : Prop :=
  (∀ (k0_h2 : k0_cond2 i = 1#1), ∀ a, (k0_off898 v4501) a + S1x1024.size a ≤ S40960x1024.size a)
theorem k0_off898_inb : ∀ (i : grid0.Coords) (v4501 : BitVec 32) (k0_hw890 : k0_chk890 i v4501), ∀ (k0_h2 : k0_cond2 i = 1#1), ∀ a, (k0_off898 v4501) a + S1x1024.size a ≤ S40960x1024.size a := fun i v4501 k0_hw890 k0_h2 => k0_hw890 k0_h2

def k0_off899 (v4506 : BitVec 32) : Fin 2 → Nat :=
  let c0_i32_4926 : BitVec 32 := 0#32
  ![v4506.toNat, 0]

def k0_chk891 (i : grid0.Coords) (v4506 : BitVec 32) : Prop :=
  (∀ (k0_h2 : k0_cond2 i = 1#1), ∀ a, (k0_off899 v4506) a + S1x1024.size a ≤ S40960x1024.size a)
theorem k0_off899_inb : ∀ (i : grid0.Coords) (v4506 : BitVec 32) (k0_hw891 : k0_chk891 i v4506), ∀ (k0_h2 : k0_cond2 i = 1#1), ∀ a, (k0_off899 v4506) a + S1x1024.size a ≤ S40960x1024.size a := fun i v4506 k0_hw891 k0_h2 => k0_hw891 k0_h2

def k0_off900 (v4511 : BitVec 32) : Fin 2 → Nat :=
  let c0_i32_4932 : BitVec 32 := 0#32
  ![v4511.toNat, 0]

def k0_chk892 (i : grid0.Coords) (v4511 : BitVec 32) : Prop :=
  (∀ (k0_h2 : k0_cond2 i = 1#1), ∀ a, (k0_off900 v4511) a + S1x1024.size a ≤ S40960x1024.size a)
theorem k0_off900_inb : ∀ (i : grid0.Coords) (v4511 : BitVec 32) (k0_hw892 : k0_chk892 i v4511), ∀ (k0_h2 : k0_cond2 i = 1#1), ∀ a, (k0_off900 v4511) a + S1x1024.size a ≤ S40960x1024.size a := fun i v4511 k0_hw892 k0_h2 => k0_hw892 k0_h2

def k0_off901 (v4516 : BitVec 32) : Fin 2 → Nat :=
  let c0_i32_4937 : BitVec 32 := 0#32
  ![v4516.toNat, 0]

def k0_chk893 (i : grid0.Coords) (v4516 : BitVec 32) : Prop :=
  (∀ (k0_h2 : k0_cond2 i = 1#1), ∀ a, (k0_off901 v4516) a + S1x1024.size a ≤ S40960x1024.size a)
theorem k0_off901_inb : ∀ (i : grid0.Coords) (v4516 : BitVec 32) (k0_hw893 : k0_chk893 i v4516), ∀ (k0_h2 : k0_cond2 i = 1#1), ∀ a, (k0_off901 v4516) a + S1x1024.size a ≤ S40960x1024.size a := fun i v4516 k0_hw893 k0_h2 => k0_hw893 k0_h2

def k0_off902 (v4521 : BitVec 32) : Fin 2 → Nat :=
  let c0_i32_4943 : BitVec 32 := 0#32
  ![v4521.toNat, 0]

def k0_chk894 (i : grid0.Coords) (v4521 : BitVec 32) : Prop :=
  (∀ (k0_h2 : k0_cond2 i = 1#1), ∀ a, (k0_off902 v4521) a + S1x1024.size a ≤ S40960x1024.size a)
theorem k0_off902_inb : ∀ (i : grid0.Coords) (v4521 : BitVec 32) (k0_hw894 : k0_chk894 i v4521), ∀ (k0_h2 : k0_cond2 i = 1#1), ∀ a, (k0_off902 v4521) a + S1x1024.size a ≤ S40960x1024.size a := fun i v4521 k0_hw894 k0_h2 => k0_hw894 k0_h2

def k0_off903 (v4526 : BitVec 32) : Fin 2 → Nat :=
  let c0_i32_4948 : BitVec 32 := 0#32
  ![v4526.toNat, 0]

def k0_chk895 (i : grid0.Coords) (v4526 : BitVec 32) : Prop :=
  (∀ (k0_h2 : k0_cond2 i = 1#1), ∀ a, (k0_off903 v4526) a + S1x1024.size a ≤ S40960x1024.size a)
theorem k0_off903_inb : ∀ (i : grid0.Coords) (v4526 : BitVec 32) (k0_hw895 : k0_chk895 i v4526), ∀ (k0_h2 : k0_cond2 i = 1#1), ∀ a, (k0_off903 v4526) a + S1x1024.size a ≤ S40960x1024.size a := fun i v4526 k0_hw895 k0_h2 => k0_hw895 k0_h2

def k0_off904 (v4531 : BitVec 32) : Fin 2 → Nat :=
  let c0_i32_4954 : BitVec 32 := 0#32
  ![v4531.toNat, 0]

def k0_chk896 (i : grid0.Coords) (v4531 : BitVec 32) : Prop :=
  (∀ (k0_h2 : k0_cond2 i = 1#1), ∀ a, (k0_off904 v4531) a + S1x1024.size a ≤ S40960x1024.size a)
theorem k0_off904_inb : ∀ (i : grid0.Coords) (v4531 : BitVec 32) (k0_hw896 : k0_chk896 i v4531), ∀ (k0_h2 : k0_cond2 i = 1#1), ∀ a, (k0_off904 v4531) a + S1x1024.size a ≤ S40960x1024.size a := fun i v4531 k0_hw896 k0_h2 => k0_hw896 k0_h2

def k0_off905 (v4536 : BitVec 32) : Fin 2 → Nat :=
  let c0_i32_4959 : BitVec 32 := 0#32
  ![v4536.toNat, 0]

def k0_chk897 (i : grid0.Coords) (v4536 : BitVec 32) : Prop :=
  (∀ (k0_h2 : k0_cond2 i = 1#1), ∀ a, (k0_off905 v4536) a + S1x1024.size a ≤ S40960x1024.size a)
theorem k0_off905_inb : ∀ (i : grid0.Coords) (v4536 : BitVec 32) (k0_hw897 : k0_chk897 i v4536), ∀ (k0_h2 : k0_cond2 i = 1#1), ∀ a, (k0_off905 v4536) a + S1x1024.size a ≤ S40960x1024.size a := fun i v4536 k0_hw897 k0_h2 => k0_hw897 k0_h2

def k0_off906 (v4541 : BitVec 32) : Fin 2 → Nat :=
  let c0_i32_4965 : BitVec 32 := 0#32
  ![v4541.toNat, 0]

def k0_chk898 (i : grid0.Coords) (v4541 : BitVec 32) : Prop :=
  (∀ (k0_h2 : k0_cond2 i = 1#1), ∀ a, (k0_off906 v4541) a + S1x1024.size a ≤ S40960x1024.size a)
theorem k0_off906_inb : ∀ (i : grid0.Coords) (v4541 : BitVec 32) (k0_hw898 : k0_chk898 i v4541), ∀ (k0_h2 : k0_cond2 i = 1#1), ∀ a, (k0_off906 v4541) a + S1x1024.size a ≤ S40960x1024.size a := fun i v4541 k0_hw898 k0_h2 => k0_hw898 k0_h2

def k0_off907 (v4546 : BitVec 32) : Fin 2 → Nat :=
  let c0_i32_4970 : BitVec 32 := 0#32
  ![v4546.toNat, 0]

def k0_chk899 (i : grid0.Coords) (v4546 : BitVec 32) : Prop :=
  (∀ (k0_h2 : k0_cond2 i = 1#1), ∀ a, (k0_off907 v4546) a + S1x1024.size a ≤ S40960x1024.size a)
theorem k0_off907_inb : ∀ (i : grid0.Coords) (v4546 : BitVec 32) (k0_hw899 : k0_chk899 i v4546), ∀ (k0_h2 : k0_cond2 i = 1#1), ∀ a, (k0_off907 v4546) a + S1x1024.size a ≤ S40960x1024.size a := fun i v4546 k0_hw899 k0_h2 => k0_hw899 k0_h2

def k0_off908 (v4551 : BitVec 32) : Fin 2 → Nat :=
  let c0_i32_4976 : BitVec 32 := 0#32
  ![v4551.toNat, 0]

def k0_chk900 (i : grid0.Coords) (v4551 : BitVec 32) : Prop :=
  (∀ (k0_h2 : k0_cond2 i = 1#1), ∀ a, (k0_off908 v4551) a + S1x1024.size a ≤ S40960x1024.size a)
theorem k0_off908_inb : ∀ (i : grid0.Coords) (v4551 : BitVec 32) (k0_hw900 : k0_chk900 i v4551), ∀ (k0_h2 : k0_cond2 i = 1#1), ∀ a, (k0_off908 v4551) a + S1x1024.size a ≤ S40960x1024.size a := fun i v4551 k0_hw900 k0_h2 => k0_hw900 k0_h2

def k0_off909 (v4556 : BitVec 32) : Fin 2 → Nat :=
  let c0_i32_4981 : BitVec 32 := 0#32
  ![v4556.toNat, 0]

def k0_chk901 (i : grid0.Coords) (v4556 : BitVec 32) : Prop :=
  (∀ (k0_h2 : k0_cond2 i = 1#1), ∀ a, (k0_off909 v4556) a + S1x1024.size a ≤ S40960x1024.size a)
theorem k0_off909_inb : ∀ (i : grid0.Coords) (v4556 : BitVec 32) (k0_hw901 : k0_chk901 i v4556), ∀ (k0_h2 : k0_cond2 i = 1#1), ∀ a, (k0_off909 v4556) a + S1x1024.size a ≤ S40960x1024.size a := fun i v4556 k0_hw901 k0_h2 => k0_hw901 k0_h2

def k0_off910 (v4561 : BitVec 32) : Fin 2 → Nat :=
  let c0_i32_4987 : BitVec 32 := 0#32
  ![v4561.toNat, 0]

def k0_chk902 (i : grid0.Coords) (v4561 : BitVec 32) : Prop :=
  (∀ (k0_h2 : k0_cond2 i = 1#1), ∀ a, (k0_off910 v4561) a + S1x1024.size a ≤ S40960x1024.size a)
theorem k0_off910_inb : ∀ (i : grid0.Coords) (v4561 : BitVec 32) (k0_hw902 : k0_chk902 i v4561), ∀ (k0_h2 : k0_cond2 i = 1#1), ∀ a, (k0_off910 v4561) a + S1x1024.size a ≤ S40960x1024.size a := fun i v4561 k0_hw902 k0_h2 => k0_hw902 k0_h2

def k0_off911 (v4566 : BitVec 32) : Fin 2 → Nat :=
  let c0_i32_4992 : BitVec 32 := 0#32
  ![v4566.toNat, 0]

def k0_chk903 (i : grid0.Coords) (v4566 : BitVec 32) : Prop :=
  (∀ (k0_h2 : k0_cond2 i = 1#1), ∀ a, (k0_off911 v4566) a + S1x1024.size a ≤ S40960x1024.size a)
theorem k0_off911_inb : ∀ (i : grid0.Coords) (v4566 : BitVec 32) (k0_hw903 : k0_chk903 i v4566), ∀ (k0_h2 : k0_cond2 i = 1#1), ∀ a, (k0_off911 v4566) a + S1x1024.size a ≤ S40960x1024.size a := fun i v4566 k0_hw903 k0_h2 => k0_hw903 k0_h2

def k0_off912 (v4571 : BitVec 32) : Fin 2 → Nat :=
  let c0_i32_4998 : BitVec 32 := 0#32
  ![v4571.toNat, 0]

def k0_chk904 (i : grid0.Coords) (v4571 : BitVec 32) : Prop :=
  (∀ (k0_h2 : k0_cond2 i = 1#1), ∀ a, (k0_off912 v4571) a + S1x1024.size a ≤ S40960x1024.size a)
theorem k0_off912_inb : ∀ (i : grid0.Coords) (v4571 : BitVec 32) (k0_hw904 : k0_chk904 i v4571), ∀ (k0_h2 : k0_cond2 i = 1#1), ∀ a, (k0_off912 v4571) a + S1x1024.size a ≤ S40960x1024.size a := fun i v4571 k0_hw904 k0_h2 => k0_hw904 k0_h2

def k0_off913 (v4576 : BitVec 32) : Fin 2 → Nat :=
  let c0_i32_5003 : BitVec 32 := 0#32
  ![v4576.toNat, 0]

def k0_chk905 (i : grid0.Coords) (v4576 : BitVec 32) : Prop :=
  (∀ (k0_h2 : k0_cond2 i = 1#1), ∀ a, (k0_off913 v4576) a + S1x1024.size a ≤ S40960x1024.size a)
theorem k0_off913_inb : ∀ (i : grid0.Coords) (v4576 : BitVec 32) (k0_hw905 : k0_chk905 i v4576), ∀ (k0_h2 : k0_cond2 i = 1#1), ∀ a, (k0_off913 v4576) a + S1x1024.size a ≤ S40960x1024.size a := fun i v4576 k0_hw905 k0_h2 => k0_hw905 k0_h2

def k0_off914 (v4581 : BitVec 32) : Fin 2 → Nat :=
  let c0_i32_5009 : BitVec 32 := 0#32
  ![v4581.toNat, 0]

def k0_chk906 (i : grid0.Coords) (v4581 : BitVec 32) : Prop :=
  (∀ (k0_h2 : k0_cond2 i = 1#1), ∀ a, (k0_off914 v4581) a + S1x1024.size a ≤ S40960x1024.size a)
theorem k0_off914_inb : ∀ (i : grid0.Coords) (v4581 : BitVec 32) (k0_hw906 : k0_chk906 i v4581), ∀ (k0_h2 : k0_cond2 i = 1#1), ∀ a, (k0_off914 v4581) a + S1x1024.size a ≤ S40960x1024.size a := fun i v4581 k0_hw906 k0_h2 => k0_hw906 k0_h2

def k0_off915 (v4586 : BitVec 32) : Fin 2 → Nat :=
  let c0_i32_5014 : BitVec 32 := 0#32
  ![v4586.toNat, 0]

def k0_chk907 (i : grid0.Coords) (v4586 : BitVec 32) : Prop :=
  (∀ (k0_h2 : k0_cond2 i = 1#1), ∀ a, (k0_off915 v4586) a + S1x1024.size a ≤ S40960x1024.size a)
theorem k0_off915_inb : ∀ (i : grid0.Coords) (v4586 : BitVec 32) (k0_hw907 : k0_chk907 i v4586), ∀ (k0_h2 : k0_cond2 i = 1#1), ∀ a, (k0_off915 v4586) a + S1x1024.size a ≤ S40960x1024.size a := fun i v4586 k0_hw907 k0_h2 => k0_hw907 k0_h2

def k0_off916 (v4591 : BitVec 32) : Fin 2 → Nat :=
  let c0_i32_5020 : BitVec 32 := 0#32
  ![v4591.toNat, 0]

def k0_chk908 (i : grid0.Coords) (v4591 : BitVec 32) : Prop :=
  (∀ (k0_h2 : k0_cond2 i = 1#1), ∀ a, (k0_off916 v4591) a + S1x1024.size a ≤ S40960x1024.size a)
theorem k0_off916_inb : ∀ (i : grid0.Coords) (v4591 : BitVec 32) (k0_hw908 : k0_chk908 i v4591), ∀ (k0_h2 : k0_cond2 i = 1#1), ∀ a, (k0_off916 v4591) a + S1x1024.size a ≤ S40960x1024.size a := fun i v4591 k0_hw908 k0_h2 => k0_hw908 k0_h2

def k0_off917 (v4596 : BitVec 32) : Fin 2 → Nat :=
  let c0_i32_5025 : BitVec 32 := 0#32
  ![v4596.toNat, 0]

def k0_chk909 (i : grid0.Coords) (v4596 : BitVec 32) : Prop :=
  (∀ (k0_h2 : k0_cond2 i = 1#1), ∀ a, (k0_off917 v4596) a + S1x1024.size a ≤ S40960x1024.size a)
theorem k0_off917_inb : ∀ (i : grid0.Coords) (v4596 : BitVec 32) (k0_hw909 : k0_chk909 i v4596), ∀ (k0_h2 : k0_cond2 i = 1#1), ∀ a, (k0_off917 v4596) a + S1x1024.size a ≤ S40960x1024.size a := fun i v4596 k0_hw909 k0_h2 => k0_hw909 k0_h2

def k0_off918 (v4601 : BitVec 32) : Fin 2 → Nat :=
  let c0_i32_5031 : BitVec 32 := 0#32
  ![v4601.toNat, 0]

def k0_chk910 (i : grid0.Coords) (v4601 : BitVec 32) : Prop :=
  (∀ (k0_h2 : k0_cond2 i = 1#1), ∀ a, (k0_off918 v4601) a + S1x1024.size a ≤ S40960x1024.size a)
theorem k0_off918_inb : ∀ (i : grid0.Coords) (v4601 : BitVec 32) (k0_hw910 : k0_chk910 i v4601), ∀ (k0_h2 : k0_cond2 i = 1#1), ∀ a, (k0_off918 v4601) a + S1x1024.size a ≤ S40960x1024.size a := fun i v4601 k0_hw910 k0_h2 => k0_hw910 k0_h2

def k0_off919 (v4606 : BitVec 32) : Fin 2 → Nat :=
  let c0_i32_5036 : BitVec 32 := 0#32
  ![v4606.toNat, 0]

def k0_chk911 (i : grid0.Coords) (v4606 : BitVec 32) : Prop :=
  (∀ (k0_h2 : k0_cond2 i = 1#1), ∀ a, (k0_off919 v4606) a + S1x1024.size a ≤ S40960x1024.size a)
theorem k0_off919_inb : ∀ (i : grid0.Coords) (v4606 : BitVec 32) (k0_hw911 : k0_chk911 i v4606), ∀ (k0_h2 : k0_cond2 i = 1#1), ∀ a, (k0_off919 v4606) a + S1x1024.size a ≤ S40960x1024.size a := fun i v4606 k0_hw911 k0_h2 => k0_hw911 k0_h2

def k0_off920 (v4611 : BitVec 32) : Fin 2 → Nat :=
  let c0_i32_5042 : BitVec 32 := 0#32
  ![v4611.toNat, 0]

def k0_chk912 (i : grid0.Coords) (v4611 : BitVec 32) : Prop :=
  (∀ (k0_h2 : k0_cond2 i = 1#1), ∀ a, (k0_off920 v4611) a + S1x1024.size a ≤ S40960x1024.size a)
theorem k0_off920_inb : ∀ (i : grid0.Coords) (v4611 : BitVec 32) (k0_hw912 : k0_chk912 i v4611), ∀ (k0_h2 : k0_cond2 i = 1#1), ∀ a, (k0_off920 v4611) a + S1x1024.size a ≤ S40960x1024.size a := fun i v4611 k0_hw912 k0_h2 => k0_hw912 k0_h2

def k0_off921 (v4616 : BitVec 32) : Fin 2 → Nat :=
  let c0_i32_5047 : BitVec 32 := 0#32
  ![v4616.toNat, 0]

def k0_chk913 (i : grid0.Coords) (v4616 : BitVec 32) : Prop :=
  (∀ (k0_h2 : k0_cond2 i = 1#1), ∀ a, (k0_off921 v4616) a + S1x1024.size a ≤ S40960x1024.size a)
theorem k0_off921_inb : ∀ (i : grid0.Coords) (v4616 : BitVec 32) (k0_hw913 : k0_chk913 i v4616), ∀ (k0_h2 : k0_cond2 i = 1#1), ∀ a, (k0_off921 v4616) a + S1x1024.size a ≤ S40960x1024.size a := fun i v4616 k0_hw913 k0_h2 => k0_hw913 k0_h2

def k0_off922 (v4621 : BitVec 32) : Fin 2 → Nat :=
  let c0_i32_5053 : BitVec 32 := 0#32
  ![v4621.toNat, 0]

def k0_chk914 (i : grid0.Coords) (v4621 : BitVec 32) : Prop :=
  (∀ (k0_h2 : k0_cond2 i = 1#1), ∀ a, (k0_off922 v4621) a + S1x1024.size a ≤ S40960x1024.size a)
theorem k0_off922_inb : ∀ (i : grid0.Coords) (v4621 : BitVec 32) (k0_hw914 : k0_chk914 i v4621), ∀ (k0_h2 : k0_cond2 i = 1#1), ∀ a, (k0_off922 v4621) a + S1x1024.size a ≤ S40960x1024.size a := fun i v4621 k0_hw914 k0_h2 => k0_hw914 k0_h2

def k0_off923 (v4626 : BitVec 32) : Fin 2 → Nat :=
  let c0_i32_5058 : BitVec 32 := 0#32
  ![v4626.toNat, 0]

def k0_chk915 (i : grid0.Coords) (v4626 : BitVec 32) : Prop :=
  (∀ (k0_h2 : k0_cond2 i = 1#1), ∀ a, (k0_off923 v4626) a + S1x1024.size a ≤ S40960x1024.size a)
theorem k0_off923_inb : ∀ (i : grid0.Coords) (v4626 : BitVec 32) (k0_hw915 : k0_chk915 i v4626), ∀ (k0_h2 : k0_cond2 i = 1#1), ∀ a, (k0_off923 v4626) a + S1x1024.size a ≤ S40960x1024.size a := fun i v4626 k0_hw915 k0_h2 => k0_hw915 k0_h2

def k0_off924 (v4631 : BitVec 32) : Fin 2 → Nat :=
  let c0_i32_5064 : BitVec 32 := 0#32
  ![v4631.toNat, 0]

def k0_chk916 (i : grid0.Coords) (v4631 : BitVec 32) : Prop :=
  (∀ (k0_h2 : k0_cond2 i = 1#1), ∀ a, (k0_off924 v4631) a + S1x1024.size a ≤ S40960x1024.size a)
theorem k0_off924_inb : ∀ (i : grid0.Coords) (v4631 : BitVec 32) (k0_hw916 : k0_chk916 i v4631), ∀ (k0_h2 : k0_cond2 i = 1#1), ∀ a, (k0_off924 v4631) a + S1x1024.size a ≤ S40960x1024.size a := fun i v4631 k0_hw916 k0_h2 => k0_hw916 k0_h2

def k0_off925 (v4636 : BitVec 32) : Fin 2 → Nat :=
  let c0_i32_5069 : BitVec 32 := 0#32
  ![v4636.toNat, 0]

def k0_chk917 (i : grid0.Coords) (v4636 : BitVec 32) : Prop :=
  (∀ (k0_h2 : k0_cond2 i = 1#1), ∀ a, (k0_off925 v4636) a + S1x1024.size a ≤ S40960x1024.size a)
theorem k0_off925_inb : ∀ (i : grid0.Coords) (v4636 : BitVec 32) (k0_hw917 : k0_chk917 i v4636), ∀ (k0_h2 : k0_cond2 i = 1#1), ∀ a, (k0_off925 v4636) a + S1x1024.size a ≤ S40960x1024.size a := fun i v4636 k0_hw917 k0_h2 => k0_hw917 k0_h2

def k0_off926 (v4641 : BitVec 32) : Fin 2 → Nat :=
  let c0_i32_5075 : BitVec 32 := 0#32
  ![v4641.toNat, 0]

def k0_chk918 (i : grid0.Coords) (v4641 : BitVec 32) : Prop :=
  (∀ (k0_h2 : k0_cond2 i = 1#1), ∀ a, (k0_off926 v4641) a + S1x1024.size a ≤ S40960x1024.size a)
theorem k0_off926_inb : ∀ (i : grid0.Coords) (v4641 : BitVec 32) (k0_hw918 : k0_chk918 i v4641), ∀ (k0_h2 : k0_cond2 i = 1#1), ∀ a, (k0_off926 v4641) a + S1x1024.size a ≤ S40960x1024.size a := fun i v4641 k0_hw918 k0_h2 => k0_hw918 k0_h2

def k0_off927 (v4646 : BitVec 32) : Fin 2 → Nat :=
  let c0_i32_5080 : BitVec 32 := 0#32
  ![v4646.toNat, 0]

def k0_chk919 (i : grid0.Coords) (v4646 : BitVec 32) : Prop :=
  (∀ (k0_h2 : k0_cond2 i = 1#1), ∀ a, (k0_off927 v4646) a + S1x1024.size a ≤ S40960x1024.size a)
theorem k0_off927_inb : ∀ (i : grid0.Coords) (v4646 : BitVec 32) (k0_hw919 : k0_chk919 i v4646), ∀ (k0_h2 : k0_cond2 i = 1#1), ∀ a, (k0_off927 v4646) a + S1x1024.size a ≤ S40960x1024.size a := fun i v4646 k0_hw919 k0_h2 => k0_hw919 k0_h2

def k0_off928 (v4651 : BitVec 32) : Fin 2 → Nat :=
  let c0_i32_5086 : BitVec 32 := 0#32
  ![v4651.toNat, 0]

def k0_chk920 (i : grid0.Coords) (v4651 : BitVec 32) : Prop :=
  (∀ (k0_h2 : k0_cond2 i = 1#1), ∀ a, (k0_off928 v4651) a + S1x1024.size a ≤ S40960x1024.size a)
theorem k0_off928_inb : ∀ (i : grid0.Coords) (v4651 : BitVec 32) (k0_hw920 : k0_chk920 i v4651), ∀ (k0_h2 : k0_cond2 i = 1#1), ∀ a, (k0_off928 v4651) a + S1x1024.size a ≤ S40960x1024.size a := fun i v4651 k0_hw920 k0_h2 => k0_hw920 k0_h2

def k0_off929 (v4656 : BitVec 32) : Fin 2 → Nat :=
  let c0_i32_5091 : BitVec 32 := 0#32
  ![v4656.toNat, 0]

def k0_chk921 (i : grid0.Coords) (v4656 : BitVec 32) : Prop :=
  (∀ (k0_h2 : k0_cond2 i = 1#1), ∀ a, (k0_off929 v4656) a + S1x1024.size a ≤ S40960x1024.size a)
theorem k0_off929_inb : ∀ (i : grid0.Coords) (v4656 : BitVec 32) (k0_hw921 : k0_chk921 i v4656), ∀ (k0_h2 : k0_cond2 i = 1#1), ∀ a, (k0_off929 v4656) a + S1x1024.size a ≤ S40960x1024.size a := fun i v4656 k0_hw921 k0_h2 => k0_hw921 k0_h2

def k0_off930 (v4661 : BitVec 32) : Fin 2 → Nat :=
  let c0_i32_5097 : BitVec 32 := 0#32
  ![v4661.toNat, 0]

def k0_chk922 (i : grid0.Coords) (v4661 : BitVec 32) : Prop :=
  (∀ (k0_h2 : k0_cond2 i = 1#1), ∀ a, (k0_off930 v4661) a + S1x1024.size a ≤ S40960x1024.size a)
theorem k0_off930_inb : ∀ (i : grid0.Coords) (v4661 : BitVec 32) (k0_hw922 : k0_chk922 i v4661), ∀ (k0_h2 : k0_cond2 i = 1#1), ∀ a, (k0_off930 v4661) a + S1x1024.size a ≤ S40960x1024.size a := fun i v4661 k0_hw922 k0_h2 => k0_hw922 k0_h2

def k0_off931 (v4666 : BitVec 32) : Fin 2 → Nat :=
  let c0_i32_5102 : BitVec 32 := 0#32
  ![v4666.toNat, 0]

def k0_chk923 (i : grid0.Coords) (v4666 : BitVec 32) : Prop :=
  (∀ (k0_h2 : k0_cond2 i = 1#1), ∀ a, (k0_off931 v4666) a + S1x1024.size a ≤ S40960x1024.size a)
theorem k0_off931_inb : ∀ (i : grid0.Coords) (v4666 : BitVec 32) (k0_hw923 : k0_chk923 i v4666), ∀ (k0_h2 : k0_cond2 i = 1#1), ∀ a, (k0_off931 v4666) a + S1x1024.size a ≤ S40960x1024.size a := fun i v4666 k0_hw923 k0_h2 => k0_hw923 k0_h2

def k0_off932 (v4671 : BitVec 32) : Fin 2 → Nat :=
  let c0_i32_5108 : BitVec 32 := 0#32
  ![v4671.toNat, 0]

def k0_chk924 (i : grid0.Coords) (v4671 : BitVec 32) : Prop :=
  (∀ (k0_h2 : k0_cond2 i = 1#1), ∀ a, (k0_off932 v4671) a + S1x1024.size a ≤ S40960x1024.size a)
theorem k0_off932_inb : ∀ (i : grid0.Coords) (v4671 : BitVec 32) (k0_hw924 : k0_chk924 i v4671), ∀ (k0_h2 : k0_cond2 i = 1#1), ∀ a, (k0_off932 v4671) a + S1x1024.size a ≤ S40960x1024.size a := fun i v4671 k0_hw924 k0_h2 => k0_hw924 k0_h2

def k0_off933 (v4676 : BitVec 32) : Fin 2 → Nat :=
  let c0_i32_5113 : BitVec 32 := 0#32
  ![v4676.toNat, 0]

def k0_chk925 (i : grid0.Coords) (v4676 : BitVec 32) : Prop :=
  (∀ (k0_h2 : k0_cond2 i = 1#1), ∀ a, (k0_off933 v4676) a + S1x1024.size a ≤ S40960x1024.size a)
theorem k0_off933_inb : ∀ (i : grid0.Coords) (v4676 : BitVec 32) (k0_hw925 : k0_chk925 i v4676), ∀ (k0_h2 : k0_cond2 i = 1#1), ∀ a, (k0_off933 v4676) a + S1x1024.size a ≤ S40960x1024.size a := fun i v4676 k0_hw925 k0_h2 => k0_hw925 k0_h2

def k0_off934 (v4681 : BitVec 32) : Fin 2 → Nat :=
  let c0_i32_5119 : BitVec 32 := 0#32
  ![v4681.toNat, 0]

def k0_chk926 (i : grid0.Coords) (v4681 : BitVec 32) : Prop :=
  (∀ (k0_h2 : k0_cond2 i = 1#1), ∀ a, (k0_off934 v4681) a + S1x1024.size a ≤ S40960x1024.size a)
theorem k0_off934_inb : ∀ (i : grid0.Coords) (v4681 : BitVec 32) (k0_hw926 : k0_chk926 i v4681), ∀ (k0_h2 : k0_cond2 i = 1#1), ∀ a, (k0_off934 v4681) a + S1x1024.size a ≤ S40960x1024.size a := fun i v4681 k0_hw926 k0_h2 => k0_hw926 k0_h2

def k0_off935 (v4686 : BitVec 32) : Fin 2 → Nat :=
  let c0_i32_5124 : BitVec 32 := 0#32
  ![v4686.toNat, 0]

def k0_chk927 (i : grid0.Coords) (v4686 : BitVec 32) : Prop :=
  (∀ (k0_h2 : k0_cond2 i = 1#1), ∀ a, (k0_off935 v4686) a + S1x1024.size a ≤ S40960x1024.size a)
theorem k0_off935_inb : ∀ (i : grid0.Coords) (v4686 : BitVec 32) (k0_hw927 : k0_chk927 i v4686), ∀ (k0_h2 : k0_cond2 i = 1#1), ∀ a, (k0_off935 v4686) a + S1x1024.size a ≤ S40960x1024.size a := fun i v4686 k0_hw927 k0_h2 => k0_hw927 k0_h2

def k0_off936 (v4691 : BitVec 32) : Fin 2 → Nat :=
  let c0_i32_5130 : BitVec 32 := 0#32
  ![v4691.toNat, 0]

def k0_chk928 (i : grid0.Coords) (v4691 : BitVec 32) : Prop :=
  (∀ (k0_h2 : k0_cond2 i = 1#1), ∀ a, (k0_off936 v4691) a + S1x1024.size a ≤ S40960x1024.size a)
theorem k0_off936_inb : ∀ (i : grid0.Coords) (v4691 : BitVec 32) (k0_hw928 : k0_chk928 i v4691), ∀ (k0_h2 : k0_cond2 i = 1#1), ∀ a, (k0_off936 v4691) a + S1x1024.size a ≤ S40960x1024.size a := fun i v4691 k0_hw928 k0_h2 => k0_hw928 k0_h2

def k0_off937 (v4696 : BitVec 32) : Fin 2 → Nat :=
  let c0_i32_5135 : BitVec 32 := 0#32
  ![v4696.toNat, 0]

def k0_chk929 (i : grid0.Coords) (v4696 : BitVec 32) : Prop :=
  (∀ (k0_h2 : k0_cond2 i = 1#1), ∀ a, (k0_off937 v4696) a + S1x1024.size a ≤ S40960x1024.size a)
theorem k0_off937_inb : ∀ (i : grid0.Coords) (v4696 : BitVec 32) (k0_hw929 : k0_chk929 i v4696), ∀ (k0_h2 : k0_cond2 i = 1#1), ∀ a, (k0_off937 v4696) a + S1x1024.size a ≤ S40960x1024.size a := fun i v4696 k0_hw929 k0_h2 => k0_hw929 k0_h2

def k0_off938 (v4701 : BitVec 32) : Fin 2 → Nat :=
  let c0_i32_5141 : BitVec 32 := 0#32
  ![v4701.toNat, 0]

def k0_chk930 (i : grid0.Coords) (v4701 : BitVec 32) : Prop :=
  (∀ (k0_h2 : k0_cond2 i = 1#1), ∀ a, (k0_off938 v4701) a + S1x1024.size a ≤ S40960x1024.size a)
theorem k0_off938_inb : ∀ (i : grid0.Coords) (v4701 : BitVec 32) (k0_hw930 : k0_chk930 i v4701), ∀ (k0_h2 : k0_cond2 i = 1#1), ∀ a, (k0_off938 v4701) a + S1x1024.size a ≤ S40960x1024.size a := fun i v4701 k0_hw930 k0_h2 => k0_hw930 k0_h2

def k0_off939 (v4706 : BitVec 32) : Fin 2 → Nat :=
  let c0_i32_5146 : BitVec 32 := 0#32
  ![v4706.toNat, 0]

def k0_chk931 (i : grid0.Coords) (v4706 : BitVec 32) : Prop :=
  (∀ (k0_h2 : k0_cond2 i = 1#1), ∀ a, (k0_off939 v4706) a + S1x1024.size a ≤ S40960x1024.size a)
theorem k0_off939_inb : ∀ (i : grid0.Coords) (v4706 : BitVec 32) (k0_hw931 : k0_chk931 i v4706), ∀ (k0_h2 : k0_cond2 i = 1#1), ∀ a, (k0_off939 v4706) a + S1x1024.size a ≤ S40960x1024.size a := fun i v4706 k0_hw931 k0_h2 => k0_hw931 k0_h2

def k0_off940 (v4711 : BitVec 32) : Fin 2 → Nat :=
  let c0_i32_5152 : BitVec 32 := 0#32
  ![v4711.toNat, 0]

def k0_chk932 (i : grid0.Coords) (v4711 : BitVec 32) : Prop :=
  (∀ (k0_h2 : k0_cond2 i = 1#1), ∀ a, (k0_off940 v4711) a + S1x1024.size a ≤ S40960x1024.size a)
theorem k0_off940_inb : ∀ (i : grid0.Coords) (v4711 : BitVec 32) (k0_hw932 : k0_chk932 i v4711), ∀ (k0_h2 : k0_cond2 i = 1#1), ∀ a, (k0_off940 v4711) a + S1x1024.size a ≤ S40960x1024.size a := fun i v4711 k0_hw932 k0_h2 => k0_hw932 k0_h2

def k0_off941 (v4716 : BitVec 32) : Fin 2 → Nat :=
  let c0_i32_5157 : BitVec 32 := 0#32
  ![v4716.toNat, 0]

def k0_chk933 (i : grid0.Coords) (v4716 : BitVec 32) : Prop :=
  (∀ (k0_h2 : k0_cond2 i = 1#1), ∀ a, (k0_off941 v4716) a + S1x1024.size a ≤ S40960x1024.size a)
theorem k0_off941_inb : ∀ (i : grid0.Coords) (v4716 : BitVec 32) (k0_hw933 : k0_chk933 i v4716), ∀ (k0_h2 : k0_cond2 i = 1#1), ∀ a, (k0_off941 v4716) a + S1x1024.size a ≤ S40960x1024.size a := fun i v4716 k0_hw933 k0_h2 => k0_hw933 k0_h2

def k0_off942 (v4721 : BitVec 32) : Fin 2 → Nat :=
  let c0_i32_5163 : BitVec 32 := 0#32
  ![v4721.toNat, 0]

def k0_chk934 (i : grid0.Coords) (v4721 : BitVec 32) : Prop :=
  (∀ (k0_h2 : k0_cond2 i = 1#1), ∀ a, (k0_off942 v4721) a + S1x1024.size a ≤ S40960x1024.size a)
theorem k0_off942_inb : ∀ (i : grid0.Coords) (v4721 : BitVec 32) (k0_hw934 : k0_chk934 i v4721), ∀ (k0_h2 : k0_cond2 i = 1#1), ∀ a, (k0_off942 v4721) a + S1x1024.size a ≤ S40960x1024.size a := fun i v4721 k0_hw934 k0_h2 => k0_hw934 k0_h2

def k0_off943 (v4726 : BitVec 32) : Fin 2 → Nat :=
  let c0_i32_5168 : BitVec 32 := 0#32
  ![v4726.toNat, 0]

def k0_chk935 (i : grid0.Coords) (v4726 : BitVec 32) : Prop :=
  (∀ (k0_h2 : k0_cond2 i = 1#1), ∀ a, (k0_off943 v4726) a + S1x1024.size a ≤ S40960x1024.size a)
theorem k0_off943_inb : ∀ (i : grid0.Coords) (v4726 : BitVec 32) (k0_hw935 : k0_chk935 i v4726), ∀ (k0_h2 : k0_cond2 i = 1#1), ∀ a, (k0_off943 v4726) a + S1x1024.size a ≤ S40960x1024.size a := fun i v4726 k0_hw935 k0_h2 => k0_hw935 k0_h2

def k0_off944 (v4731 : BitVec 32) : Fin 2 → Nat :=
  let c0_i32_5174 : BitVec 32 := 0#32
  ![v4731.toNat, 0]

def k0_chk936 (i : grid0.Coords) (v4731 : BitVec 32) : Prop :=
  (∀ (k0_h2 : k0_cond2 i = 1#1), ∀ a, (k0_off944 v4731) a + S1x1024.size a ≤ S40960x1024.size a)
theorem k0_off944_inb : ∀ (i : grid0.Coords) (v4731 : BitVec 32) (k0_hw936 : k0_chk936 i v4731), ∀ (k0_h2 : k0_cond2 i = 1#1), ∀ a, (k0_off944 v4731) a + S1x1024.size a ≤ S40960x1024.size a := fun i v4731 k0_hw936 k0_h2 => k0_hw936 k0_h2

def k0_off945 (v4736 : BitVec 32) : Fin 2 → Nat :=
  let c0_i32_5179 : BitVec 32 := 0#32
  ![v4736.toNat, 0]

def k0_chk937 (i : grid0.Coords) (v4736 : BitVec 32) : Prop :=
  (∀ (k0_h2 : k0_cond2 i = 1#1), ∀ a, (k0_off945 v4736) a + S1x1024.size a ≤ S40960x1024.size a)
theorem k0_off945_inb : ∀ (i : grid0.Coords) (v4736 : BitVec 32) (k0_hw937 : k0_chk937 i v4736), ∀ (k0_h2 : k0_cond2 i = 1#1), ∀ a, (k0_off945 v4736) a + S1x1024.size a ≤ S40960x1024.size a := fun i v4736 k0_hw937 k0_h2 => k0_hw937 k0_h2

def k0_off946 (v4741 : BitVec 32) : Fin 2 → Nat :=
  let c0_i32_5185 : BitVec 32 := 0#32
  ![v4741.toNat, 0]

def k0_chk938 (i : grid0.Coords) (v4741 : BitVec 32) : Prop :=
  (∀ (k0_h2 : k0_cond2 i = 1#1), ∀ a, (k0_off946 v4741) a + S1x1024.size a ≤ S40960x1024.size a)
theorem k0_off946_inb : ∀ (i : grid0.Coords) (v4741 : BitVec 32) (k0_hw938 : k0_chk938 i v4741), ∀ (k0_h2 : k0_cond2 i = 1#1), ∀ a, (k0_off946 v4741) a + S1x1024.size a ≤ S40960x1024.size a := fun i v4741 k0_hw938 k0_h2 => k0_hw938 k0_h2

def k0_off947 (v4746 : BitVec 32) : Fin 2 → Nat :=
  let c0_i32_5190 : BitVec 32 := 0#32
  ![v4746.toNat, 0]

def k0_chk939 (i : grid0.Coords) (v4746 : BitVec 32) : Prop :=
  (∀ (k0_h2 : k0_cond2 i = 1#1), ∀ a, (k0_off947 v4746) a + S1x1024.size a ≤ S40960x1024.size a)
theorem k0_off947_inb : ∀ (i : grid0.Coords) (v4746 : BitVec 32) (k0_hw939 : k0_chk939 i v4746), ∀ (k0_h2 : k0_cond2 i = 1#1), ∀ a, (k0_off947 v4746) a + S1x1024.size a ≤ S40960x1024.size a := fun i v4746 k0_hw939 k0_h2 => k0_hw939 k0_h2

def k0_off948 (v4751 : BitVec 32) : Fin 2 → Nat :=
  let c0_i32_5196 : BitVec 32 := 0#32
  ![v4751.toNat, 0]

def k0_chk940 (i : grid0.Coords) (v4751 : BitVec 32) : Prop :=
  (∀ (k0_h2 : k0_cond2 i = 1#1), ∀ a, (k0_off948 v4751) a + S1x1024.size a ≤ S40960x1024.size a)
theorem k0_off948_inb : ∀ (i : grid0.Coords) (v4751 : BitVec 32) (k0_hw940 : k0_chk940 i v4751), ∀ (k0_h2 : k0_cond2 i = 1#1), ∀ a, (k0_off948 v4751) a + S1x1024.size a ≤ S40960x1024.size a := fun i v4751 k0_hw940 k0_h2 => k0_hw940 k0_h2

def k0_off949 (v4756 : BitVec 32) : Fin 2 → Nat :=
  let c0_i32_5201 : BitVec 32 := 0#32
  ![v4756.toNat, 0]

def k0_chk941 (i : grid0.Coords) (v4756 : BitVec 32) : Prop :=
  (∀ (k0_h2 : k0_cond2 i = 1#1), ∀ a, (k0_off949 v4756) a + S1x1024.size a ≤ S40960x1024.size a)
theorem k0_off949_inb : ∀ (i : grid0.Coords) (v4756 : BitVec 32) (k0_hw941 : k0_chk941 i v4756), ∀ (k0_h2 : k0_cond2 i = 1#1), ∀ a, (k0_off949 v4756) a + S1x1024.size a ≤ S40960x1024.size a := fun i v4756 k0_hw941 k0_h2 => k0_hw941 k0_h2

def k0_off950 (v4761 : BitVec 32) : Fin 2 → Nat :=
  let c0_i32_5207 : BitVec 32 := 0#32
  ![v4761.toNat, 0]

def k0_chk942 (i : grid0.Coords) (v4761 : BitVec 32) : Prop :=
  (∀ (k0_h2 : k0_cond2 i = 1#1), ∀ a, (k0_off950 v4761) a + S1x1024.size a ≤ S40960x1024.size a)
theorem k0_off950_inb : ∀ (i : grid0.Coords) (v4761 : BitVec 32) (k0_hw942 : k0_chk942 i v4761), ∀ (k0_h2 : k0_cond2 i = 1#1), ∀ a, (k0_off950 v4761) a + S1x1024.size a ≤ S40960x1024.size a := fun i v4761 k0_hw942 k0_h2 => k0_hw942 k0_h2

def k0_off951 (v4766 : BitVec 32) : Fin 2 → Nat :=
  let c0_i32_5212 : BitVec 32 := 0#32
  ![v4766.toNat, 0]

def k0_chk943 (i : grid0.Coords) (v4766 : BitVec 32) : Prop :=
  (∀ (k0_h2 : k0_cond2 i = 1#1), ∀ a, (k0_off951 v4766) a + S1x1024.size a ≤ S40960x1024.size a)
theorem k0_off951_inb : ∀ (i : grid0.Coords) (v4766 : BitVec 32) (k0_hw943 : k0_chk943 i v4766), ∀ (k0_h2 : k0_cond2 i = 1#1), ∀ a, (k0_off951 v4766) a + S1x1024.size a ≤ S40960x1024.size a := fun i v4766 k0_hw943 k0_h2 => k0_hw943 k0_h2

def k0_off952 (v4771 : BitVec 32) : Fin 2 → Nat :=
  let c0_i32_5218 : BitVec 32 := 0#32
  ![v4771.toNat, 0]

def k0_chk944 (i : grid0.Coords) (v4771 : BitVec 32) : Prop :=
  (∀ (k0_h2 : k0_cond2 i = 1#1), ∀ a, (k0_off952 v4771) a + S1x1024.size a ≤ S40960x1024.size a)
theorem k0_off952_inb : ∀ (i : grid0.Coords) (v4771 : BitVec 32) (k0_hw944 : k0_chk944 i v4771), ∀ (k0_h2 : k0_cond2 i = 1#1), ∀ a, (k0_off952 v4771) a + S1x1024.size a ≤ S40960x1024.size a := fun i v4771 k0_hw944 k0_h2 => k0_hw944 k0_h2

def k0_off953 (v4776 : BitVec 32) : Fin 2 → Nat :=
  let c0_i32_5223 : BitVec 32 := 0#32
  ![v4776.toNat, 0]

def k0_chk945 (i : grid0.Coords) (v4776 : BitVec 32) : Prop :=
  (∀ (k0_h2 : k0_cond2 i = 1#1), ∀ a, (k0_off953 v4776) a + S1x1024.size a ≤ S40960x1024.size a)
theorem k0_off953_inb : ∀ (i : grid0.Coords) (v4776 : BitVec 32) (k0_hw945 : k0_chk945 i v4776), ∀ (k0_h2 : k0_cond2 i = 1#1), ∀ a, (k0_off953 v4776) a + S1x1024.size a ≤ S40960x1024.size a := fun i v4776 k0_hw945 k0_h2 => k0_hw945 k0_h2

def k0_off954 (v4781 : BitVec 32) : Fin 2 → Nat :=
  let c0_i32_5229 : BitVec 32 := 0#32
  ![v4781.toNat, 0]

def k0_chk946 (i : grid0.Coords) (v4781 : BitVec 32) : Prop :=
  (∀ (k0_h2 : k0_cond2 i = 1#1), ∀ a, (k0_off954 v4781) a + S1x1024.size a ≤ S40960x1024.size a)
theorem k0_off954_inb : ∀ (i : grid0.Coords) (v4781 : BitVec 32) (k0_hw946 : k0_chk946 i v4781), ∀ (k0_h2 : k0_cond2 i = 1#1), ∀ a, (k0_off954 v4781) a + S1x1024.size a ≤ S40960x1024.size a := fun i v4781 k0_hw946 k0_h2 => k0_hw946 k0_h2

def k0_off955 (v4786 : BitVec 32) : Fin 2 → Nat :=
  let c0_i32_5234 : BitVec 32 := 0#32
  ![v4786.toNat, 0]

def k0_chk947 (i : grid0.Coords) (v4786 : BitVec 32) : Prop :=
  (∀ (k0_h2 : k0_cond2 i = 1#1), ∀ a, (k0_off955 v4786) a + S1x1024.size a ≤ S40960x1024.size a)
theorem k0_off955_inb : ∀ (i : grid0.Coords) (v4786 : BitVec 32) (k0_hw947 : k0_chk947 i v4786), ∀ (k0_h2 : k0_cond2 i = 1#1), ∀ a, (k0_off955 v4786) a + S1x1024.size a ≤ S40960x1024.size a := fun i v4786 k0_hw947 k0_h2 => k0_hw947 k0_h2

def k0_off956 (v4791 : BitVec 32) : Fin 2 → Nat :=
  let c0_i32_5240 : BitVec 32 := 0#32
  ![v4791.toNat, 0]

def k0_chk948 (i : grid0.Coords) (v4791 : BitVec 32) : Prop :=
  (∀ (k0_h2 : k0_cond2 i = 1#1), ∀ a, (k0_off956 v4791) a + S1x1024.size a ≤ S40960x1024.size a)
theorem k0_off956_inb : ∀ (i : grid0.Coords) (v4791 : BitVec 32) (k0_hw948 : k0_chk948 i v4791), ∀ (k0_h2 : k0_cond2 i = 1#1), ∀ a, (k0_off956 v4791) a + S1x1024.size a ≤ S40960x1024.size a := fun i v4791 k0_hw948 k0_h2 => k0_hw948 k0_h2

def k0_off957 (v4796 : BitVec 32) : Fin 2 → Nat :=
  let c0_i32_5245 : BitVec 32 := 0#32
  ![v4796.toNat, 0]

def k0_chk949 (i : grid0.Coords) (v4796 : BitVec 32) : Prop :=
  (∀ (k0_h2 : k0_cond2 i = 1#1), ∀ a, (k0_off957 v4796) a + S1x1024.size a ≤ S40960x1024.size a)
theorem k0_off957_inb : ∀ (i : grid0.Coords) (v4796 : BitVec 32) (k0_hw949 : k0_chk949 i v4796), ∀ (k0_h2 : k0_cond2 i = 1#1), ∀ a, (k0_off957 v4796) a + S1x1024.size a ≤ S40960x1024.size a := fun i v4796 k0_hw949 k0_h2 => k0_hw949 k0_h2

def k0_off958 (v4801 : BitVec 32) : Fin 2 → Nat :=
  let c0_i32_5251 : BitVec 32 := 0#32
  ![v4801.toNat, 0]

def k0_chk950 (i : grid0.Coords) (v4801 : BitVec 32) : Prop :=
  (∀ (k0_h2 : k0_cond2 i = 1#1), ∀ a, (k0_off958 v4801) a + S1x1024.size a ≤ S40960x1024.size a)
theorem k0_off958_inb : ∀ (i : grid0.Coords) (v4801 : BitVec 32) (k0_hw950 : k0_chk950 i v4801), ∀ (k0_h2 : k0_cond2 i = 1#1), ∀ a, (k0_off958 v4801) a + S1x1024.size a ≤ S40960x1024.size a := fun i v4801 k0_hw950 k0_h2 => k0_hw950 k0_h2

def k0_off959 (v4806 : BitVec 32) : Fin 2 → Nat :=
  let c0_i32_5256 : BitVec 32 := 0#32
  ![v4806.toNat, 0]

def k0_chk951 (i : grid0.Coords) (v4806 : BitVec 32) : Prop :=
  (∀ (k0_h2 : k0_cond2 i = 1#1), ∀ a, (k0_off959 v4806) a + S1x1024.size a ≤ S40960x1024.size a)
theorem k0_off959_inb : ∀ (i : grid0.Coords) (v4806 : BitVec 32) (k0_hw951 : k0_chk951 i v4806), ∀ (k0_h2 : k0_cond2 i = 1#1), ∀ a, (k0_off959 v4806) a + S1x1024.size a ≤ S40960x1024.size a := fun i v4806 k0_hw951 k0_h2 => k0_hw951 k0_h2

def k0_off960 (v4811 : BitVec 32) : Fin 2 → Nat :=
  let c0_i32_5262 : BitVec 32 := 0#32
  ![v4811.toNat, 0]

def k0_chk952 (i : grid0.Coords) (v4811 : BitVec 32) : Prop :=
  (∀ (k0_h2 : k0_cond2 i = 1#1), ∀ a, (k0_off960 v4811) a + S1x1024.size a ≤ S40960x1024.size a)
theorem k0_off960_inb : ∀ (i : grid0.Coords) (v4811 : BitVec 32) (k0_hw952 : k0_chk952 i v4811), ∀ (k0_h2 : k0_cond2 i = 1#1), ∀ a, (k0_off960 v4811) a + S1x1024.size a ≤ S40960x1024.size a := fun i v4811 k0_hw952 k0_h2 => k0_hw952 k0_h2

def k0_off961 (v4816 : BitVec 32) : Fin 2 → Nat :=
  let c0_i32_5267 : BitVec 32 := 0#32
  ![v4816.toNat, 0]

def k0_chk953 (i : grid0.Coords) (v4816 : BitVec 32) : Prop :=
  (∀ (k0_h2 : k0_cond2 i = 1#1), ∀ a, (k0_off961 v4816) a + S1x1024.size a ≤ S40960x1024.size a)
theorem k0_off961_inb : ∀ (i : grid0.Coords) (v4816 : BitVec 32) (k0_hw953 : k0_chk953 i v4816), ∀ (k0_h2 : k0_cond2 i = 1#1), ∀ a, (k0_off961 v4816) a + S1x1024.size a ≤ S40960x1024.size a := fun i v4816 k0_hw953 k0_h2 => k0_hw953 k0_h2

def k0_off962 (v4821 : BitVec 32) : Fin 2 → Nat :=
  let c0_i32_5273 : BitVec 32 := 0#32
  ![v4821.toNat, 0]

def k0_chk954 (i : grid0.Coords) (v4821 : BitVec 32) : Prop :=
  (∀ (k0_h2 : k0_cond2 i = 1#1), ∀ a, (k0_off962 v4821) a + S1x1024.size a ≤ S40960x1024.size a)
theorem k0_off962_inb : ∀ (i : grid0.Coords) (v4821 : BitVec 32) (k0_hw954 : k0_chk954 i v4821), ∀ (k0_h2 : k0_cond2 i = 1#1), ∀ a, (k0_off962 v4821) a + S1x1024.size a ≤ S40960x1024.size a := fun i v4821 k0_hw954 k0_h2 => k0_hw954 k0_h2

def k0_off963 (v4826 : BitVec 32) : Fin 2 → Nat :=
  let c0_i32_5278 : BitVec 32 := 0#32
  ![v4826.toNat, 0]

def k0_chk955 (i : grid0.Coords) (v4826 : BitVec 32) : Prop :=
  (∀ (k0_h2 : k0_cond2 i = 1#1), ∀ a, (k0_off963 v4826) a + S1x1024.size a ≤ S40960x1024.size a)
theorem k0_off963_inb : ∀ (i : grid0.Coords) (v4826 : BitVec 32) (k0_hw955 : k0_chk955 i v4826), ∀ (k0_h2 : k0_cond2 i = 1#1), ∀ a, (k0_off963 v4826) a + S1x1024.size a ≤ S40960x1024.size a := fun i v4826 k0_hw955 k0_h2 => k0_hw955 k0_h2

def k0_off964 (v4831 : BitVec 32) : Fin 2 → Nat :=
  let c0_i32_5284 : BitVec 32 := 0#32
  ![v4831.toNat, 0]

def k0_chk956 (i : grid0.Coords) (v4831 : BitVec 32) : Prop :=
  (∀ (k0_h2 : k0_cond2 i = 1#1), ∀ a, (k0_off964 v4831) a + S1x1024.size a ≤ S40960x1024.size a)
theorem k0_off964_inb : ∀ (i : grid0.Coords) (v4831 : BitVec 32) (k0_hw956 : k0_chk956 i v4831), ∀ (k0_h2 : k0_cond2 i = 1#1), ∀ a, (k0_off964 v4831) a + S1x1024.size a ≤ S40960x1024.size a := fun i v4831 k0_hw956 k0_h2 => k0_hw956 k0_h2

def k0_off965 (v4836 : BitVec 32) : Fin 2 → Nat :=
  let c0_i32_5289 : BitVec 32 := 0#32
  ![v4836.toNat, 0]

def k0_chk957 (i : grid0.Coords) (v4836 : BitVec 32) : Prop :=
  (∀ (k0_h2 : k0_cond2 i = 1#1), ∀ a, (k0_off965 v4836) a + S1x1024.size a ≤ S40960x1024.size a)
theorem k0_off965_inb : ∀ (i : grid0.Coords) (v4836 : BitVec 32) (k0_hw957 : k0_chk957 i v4836), ∀ (k0_h2 : k0_cond2 i = 1#1), ∀ a, (k0_off965 v4836) a + S1x1024.size a ≤ S40960x1024.size a := fun i v4836 k0_hw957 k0_h2 => k0_hw957 k0_h2

def k0_off966 (v4841 : BitVec 32) : Fin 2 → Nat :=
  let c0_i32_5295 : BitVec 32 := 0#32
  ![v4841.toNat, 0]

def k0_chk958 (i : grid0.Coords) (v4841 : BitVec 32) : Prop :=
  (∀ (k0_h2 : k0_cond2 i = 1#1), ∀ a, (k0_off966 v4841) a + S1x1024.size a ≤ S40960x1024.size a)
theorem k0_off966_inb : ∀ (i : grid0.Coords) (v4841 : BitVec 32) (k0_hw958 : k0_chk958 i v4841), ∀ (k0_h2 : k0_cond2 i = 1#1), ∀ a, (k0_off966 v4841) a + S1x1024.size a ≤ S40960x1024.size a := fun i v4841 k0_hw958 k0_h2 => k0_hw958 k0_h2

def k0_off967 (v4846 : BitVec 32) : Fin 2 → Nat :=
  let c0_i32_5300 : BitVec 32 := 0#32
  ![v4846.toNat, 0]

def k0_chk959 (i : grid0.Coords) (v4846 : BitVec 32) : Prop :=
  (∀ (k0_h2 : k0_cond2 i = 1#1), ∀ a, (k0_off967 v4846) a + S1x1024.size a ≤ S40960x1024.size a)
theorem k0_off967_inb : ∀ (i : grid0.Coords) (v4846 : BitVec 32) (k0_hw959 : k0_chk959 i v4846), ∀ (k0_h2 : k0_cond2 i = 1#1), ∀ a, (k0_off967 v4846) a + S1x1024.size a ≤ S40960x1024.size a := fun i v4846 k0_hw959 k0_h2 => k0_hw959 k0_h2

def k0_off968 (v4851 : BitVec 32) : Fin 2 → Nat :=
  let c0_i32_5306 : BitVec 32 := 0#32
  ![v4851.toNat, 0]

def k0_chk960 (i : grid0.Coords) (v4851 : BitVec 32) : Prop :=
  (∀ (k0_h2 : k0_cond2 i = 1#1), ∀ a, (k0_off968 v4851) a + S1x1024.size a ≤ S40960x1024.size a)
theorem k0_off968_inb : ∀ (i : grid0.Coords) (v4851 : BitVec 32) (k0_hw960 : k0_chk960 i v4851), ∀ (k0_h2 : k0_cond2 i = 1#1), ∀ a, (k0_off968 v4851) a + S1x1024.size a ≤ S40960x1024.size a := fun i v4851 k0_hw960 k0_h2 => k0_hw960 k0_h2

def k0_off969 (v4856 : BitVec 32) : Fin 2 → Nat :=
  let c0_i32_5311 : BitVec 32 := 0#32
  ![v4856.toNat, 0]

def k0_chk961 (i : grid0.Coords) (v4856 : BitVec 32) : Prop :=
  (∀ (k0_h2 : k0_cond2 i = 1#1), ∀ a, (k0_off969 v4856) a + S1x1024.size a ≤ S40960x1024.size a)
theorem k0_off969_inb : ∀ (i : grid0.Coords) (v4856 : BitVec 32) (k0_hw961 : k0_chk961 i v4856), ∀ (k0_h2 : k0_cond2 i = 1#1), ∀ a, (k0_off969 v4856) a + S1x1024.size a ≤ S40960x1024.size a := fun i v4856 k0_hw961 k0_h2 => k0_hw961 k0_h2

def k0_off970 (v4861 : BitVec 32) : Fin 2 → Nat :=
  let c0_i32_5317 : BitVec 32 := 0#32
  ![v4861.toNat, 0]

def k0_chk962 (i : grid0.Coords) (v4861 : BitVec 32) : Prop :=
  (∀ (k0_h2 : k0_cond2 i = 1#1), ∀ a, (k0_off970 v4861) a + S1x1024.size a ≤ S40960x1024.size a)
theorem k0_off970_inb : ∀ (i : grid0.Coords) (v4861 : BitVec 32) (k0_hw962 : k0_chk962 i v4861), ∀ (k0_h2 : k0_cond2 i = 1#1), ∀ a, (k0_off970 v4861) a + S1x1024.size a ≤ S40960x1024.size a := fun i v4861 k0_hw962 k0_h2 => k0_hw962 k0_h2

def k0_off971 (v4866 : BitVec 32) : Fin 2 → Nat :=
  let c0_i32_5322 : BitVec 32 := 0#32
  ![v4866.toNat, 0]

def k0_chk963 (i : grid0.Coords) (v4866 : BitVec 32) : Prop :=
  (∀ (k0_h2 : k0_cond2 i = 1#1), ∀ a, (k0_off971 v4866) a + S1x1024.size a ≤ S40960x1024.size a)
theorem k0_off971_inb : ∀ (i : grid0.Coords) (v4866 : BitVec 32) (k0_hw963 : k0_chk963 i v4866), ∀ (k0_h2 : k0_cond2 i = 1#1), ∀ a, (k0_off971 v4866) a + S1x1024.size a ≤ S40960x1024.size a := fun i v4866 k0_hw963 k0_h2 => k0_hw963 k0_h2

def k0_off972 (v4871 : BitVec 32) : Fin 2 → Nat :=
  let c0_i32_5328 : BitVec 32 := 0#32
  ![v4871.toNat, 0]

def k0_chk964 (i : grid0.Coords) (v4871 : BitVec 32) : Prop :=
  (∀ (k0_h2 : k0_cond2 i = 1#1), ∀ a, (k0_off972 v4871) a + S1x1024.size a ≤ S40960x1024.size a)
theorem k0_off972_inb : ∀ (i : grid0.Coords) (v4871 : BitVec 32) (k0_hw964 : k0_chk964 i v4871), ∀ (k0_h2 : k0_cond2 i = 1#1), ∀ a, (k0_off972 v4871) a + S1x1024.size a ≤ S40960x1024.size a := fun i v4871 k0_hw964 k0_h2 => k0_hw964 k0_h2

def k0_off973 (v4876 : BitVec 32) : Fin 2 → Nat :=
  let c0_i32_5333 : BitVec 32 := 0#32
  ![v4876.toNat, 0]

def k0_chk965 (i : grid0.Coords) (v4876 : BitVec 32) : Prop :=
  (∀ (k0_h2 : k0_cond2 i = 1#1), ∀ a, (k0_off973 v4876) a + S1x1024.size a ≤ S40960x1024.size a)
theorem k0_off973_inb : ∀ (i : grid0.Coords) (v4876 : BitVec 32) (k0_hw965 : k0_chk965 i v4876), ∀ (k0_h2 : k0_cond2 i = 1#1), ∀ a, (k0_off973 v4876) a + S1x1024.size a ≤ S40960x1024.size a := fun i v4876 k0_hw965 k0_h2 => k0_hw965 k0_h2

def k0_off974 (v4881 : BitVec 32) : Fin 2 → Nat :=
  let c0_i32_5339 : BitVec 32 := 0#32
  ![v4881.toNat, 0]

def k0_chk966 (i : grid0.Coords) (v4881 : BitVec 32) : Prop :=
  (∀ (k0_h2 : k0_cond2 i = 1#1), ∀ a, (k0_off974 v4881) a + S1x1024.size a ≤ S40960x1024.size a)
theorem k0_off974_inb : ∀ (i : grid0.Coords) (v4881 : BitVec 32) (k0_hw966 : k0_chk966 i v4881), ∀ (k0_h2 : k0_cond2 i = 1#1), ∀ a, (k0_off974 v4881) a + S1x1024.size a ≤ S40960x1024.size a := fun i v4881 k0_hw966 k0_h2 => k0_hw966 k0_h2

def k0_off975 (v4886 : BitVec 32) : Fin 2 → Nat :=
  let c0_i32_5344 : BitVec 32 := 0#32
  ![v4886.toNat, 0]

def k0_chk967 (i : grid0.Coords) (v4886 : BitVec 32) : Prop :=
  (∀ (k0_h2 : k0_cond2 i = 1#1), ∀ a, (k0_off975 v4886) a + S1x1024.size a ≤ S40960x1024.size a)
theorem k0_off975_inb : ∀ (i : grid0.Coords) (v4886 : BitVec 32) (k0_hw967 : k0_chk967 i v4886), ∀ (k0_h2 : k0_cond2 i = 1#1), ∀ a, (k0_off975 v4886) a + S1x1024.size a ≤ S40960x1024.size a := fun i v4886 k0_hw967 k0_h2 => k0_hw967 k0_h2

def k0_off976 (v4891 : BitVec 32) : Fin 2 → Nat :=
  let c0_i32_5350 : BitVec 32 := 0#32
  ![v4891.toNat, 0]

def k0_chk968 (i : grid0.Coords) (v4891 : BitVec 32) : Prop :=
  (∀ (k0_h2 : k0_cond2 i = 1#1), ∀ a, (k0_off976 v4891) a + S1x1024.size a ≤ S40960x1024.size a)
theorem k0_off976_inb : ∀ (i : grid0.Coords) (v4891 : BitVec 32) (k0_hw968 : k0_chk968 i v4891), ∀ (k0_h2 : k0_cond2 i = 1#1), ∀ a, (k0_off976 v4891) a + S1x1024.size a ≤ S40960x1024.size a := fun i v4891 k0_hw968 k0_h2 => k0_hw968 k0_h2

def k0_off977 (v4896 : BitVec 32) : Fin 2 → Nat :=
  let c0_i32_5355 : BitVec 32 := 0#32
  ![v4896.toNat, 0]

def k0_chk969 (i : grid0.Coords) (v4896 : BitVec 32) : Prop :=
  (∀ (k0_h2 : k0_cond2 i = 1#1), ∀ a, (k0_off977 v4896) a + S1x1024.size a ≤ S40960x1024.size a)
theorem k0_off977_inb : ∀ (i : grid0.Coords) (v4896 : BitVec 32) (k0_hw969 : k0_chk969 i v4896), ∀ (k0_h2 : k0_cond2 i = 1#1), ∀ a, (k0_off977 v4896) a + S1x1024.size a ≤ S40960x1024.size a := fun i v4896 k0_hw969 k0_h2 => k0_hw969 k0_h2

def k0_off978 (v4901 : BitVec 32) : Fin 2 → Nat :=
  let c0_i32_5361 : BitVec 32 := 0#32
  ![v4901.toNat, 0]

def k0_chk970 (i : grid0.Coords) (v4901 : BitVec 32) : Prop :=
  (∀ (k0_h2 : k0_cond2 i = 1#1), ∀ a, (k0_off978 v4901) a + S1x1024.size a ≤ S40960x1024.size a)
theorem k0_off978_inb : ∀ (i : grid0.Coords) (v4901 : BitVec 32) (k0_hw970 : k0_chk970 i v4901), ∀ (k0_h2 : k0_cond2 i = 1#1), ∀ a, (k0_off978 v4901) a + S1x1024.size a ≤ S40960x1024.size a := fun i v4901 k0_hw970 k0_h2 => k0_hw970 k0_h2

def k0_off979 (v4906 : BitVec 32) : Fin 2 → Nat :=
  let c0_i32_5366 : BitVec 32 := 0#32
  ![v4906.toNat, 0]

def k0_chk971 (i : grid0.Coords) (v4906 : BitVec 32) : Prop :=
  (∀ (k0_h2 : k0_cond2 i = 1#1), ∀ a, (k0_off979 v4906) a + S1x1024.size a ≤ S40960x1024.size a)
theorem k0_off979_inb : ∀ (i : grid0.Coords) (v4906 : BitVec 32) (k0_hw971 : k0_chk971 i v4906), ∀ (k0_h2 : k0_cond2 i = 1#1), ∀ a, (k0_off979 v4906) a + S1x1024.size a ≤ S40960x1024.size a := fun i v4906 k0_hw971 k0_h2 => k0_hw971 k0_h2

def k0_off980 (v4911 : BitVec 32) : Fin 2 → Nat :=
  let c0_i32_5372 : BitVec 32 := 0#32
  ![v4911.toNat, 0]

def k0_chk972 (i : grid0.Coords) (v4911 : BitVec 32) : Prop :=
  (∀ (k0_h2 : k0_cond2 i = 1#1), ∀ a, (k0_off980 v4911) a + S1x1024.size a ≤ S40960x1024.size a)
theorem k0_off980_inb : ∀ (i : grid0.Coords) (v4911 : BitVec 32) (k0_hw972 : k0_chk972 i v4911), ∀ (k0_h2 : k0_cond2 i = 1#1), ∀ a, (k0_off980 v4911) a + S1x1024.size a ≤ S40960x1024.size a := fun i v4911 k0_hw972 k0_h2 => k0_hw972 k0_h2

def k0_off981 (v4916 : BitVec 32) : Fin 2 → Nat :=
  let c0_i32_5377 : BitVec 32 := 0#32
  ![v4916.toNat, 0]

def k0_chk973 (i : grid0.Coords) (v4916 : BitVec 32) : Prop :=
  (∀ (k0_h2 : k0_cond2 i = 1#1), ∀ a, (k0_off981 v4916) a + S1x1024.size a ≤ S40960x1024.size a)
theorem k0_off981_inb : ∀ (i : grid0.Coords) (v4916 : BitVec 32) (k0_hw973 : k0_chk973 i v4916), ∀ (k0_h2 : k0_cond2 i = 1#1), ∀ a, (k0_off981 v4916) a + S1x1024.size a ≤ S40960x1024.size a := fun i v4916 k0_hw973 k0_h2 => k0_hw973 k0_h2

def k0_off982 (v4921 : BitVec 32) : Fin 2 → Nat :=
  let c0_i32_5383 : BitVec 32 := 0#32
  ![v4921.toNat, 0]

def k0_chk974 (i : grid0.Coords) (v4921 : BitVec 32) : Prop :=
  (∀ (k0_h2 : k0_cond2 i = 1#1), ∀ a, (k0_off982 v4921) a + S1x1024.size a ≤ S40960x1024.size a)
theorem k0_off982_inb : ∀ (i : grid0.Coords) (v4921 : BitVec 32) (k0_hw974 : k0_chk974 i v4921), ∀ (k0_h2 : k0_cond2 i = 1#1), ∀ a, (k0_off982 v4921) a + S1x1024.size a ≤ S40960x1024.size a := fun i v4921 k0_hw974 k0_h2 => k0_hw974 k0_h2

def k0_off983 (v4926 : BitVec 32) : Fin 2 → Nat :=
  let c0_i32_5388 : BitVec 32 := 0#32
  ![v4926.toNat, 0]

def k0_chk975 (i : grid0.Coords) (v4926 : BitVec 32) : Prop :=
  (∀ (k0_h2 : k0_cond2 i = 1#1), ∀ a, (k0_off983 v4926) a + S1x1024.size a ≤ S40960x1024.size a)
theorem k0_off983_inb : ∀ (i : grid0.Coords) (v4926 : BitVec 32) (k0_hw975 : k0_chk975 i v4926), ∀ (k0_h2 : k0_cond2 i = 1#1), ∀ a, (k0_off983 v4926) a + S1x1024.size a ≤ S40960x1024.size a := fun i v4926 k0_hw975 k0_h2 => k0_hw975 k0_h2

def k0_off984 (v4931 : BitVec 32) : Fin 2 → Nat :=
  let c0_i32_5394 : BitVec 32 := 0#32
  ![v4931.toNat, 0]

def k0_chk976 (i : grid0.Coords) (v4931 : BitVec 32) : Prop :=
  (∀ (k0_h2 : k0_cond2 i = 1#1), ∀ a, (k0_off984 v4931) a + S1x1024.size a ≤ S40960x1024.size a)
theorem k0_off984_inb : ∀ (i : grid0.Coords) (v4931 : BitVec 32) (k0_hw976 : k0_chk976 i v4931), ∀ (k0_h2 : k0_cond2 i = 1#1), ∀ a, (k0_off984 v4931) a + S1x1024.size a ≤ S40960x1024.size a := fun i v4931 k0_hw976 k0_h2 => k0_hw976 k0_h2

def k0_off985 (v4936 : BitVec 32) : Fin 2 → Nat :=
  let c0_i32_5399 : BitVec 32 := 0#32
  ![v4936.toNat, 0]

def k0_chk977 (i : grid0.Coords) (v4936 : BitVec 32) : Prop :=
  (∀ (k0_h2 : k0_cond2 i = 1#1), ∀ a, (k0_off985 v4936) a + S1x1024.size a ≤ S40960x1024.size a)
theorem k0_off985_inb : ∀ (i : grid0.Coords) (v4936 : BitVec 32) (k0_hw977 : k0_chk977 i v4936), ∀ (k0_h2 : k0_cond2 i = 1#1), ∀ a, (k0_off985 v4936) a + S1x1024.size a ≤ S40960x1024.size a := fun i v4936 k0_hw977 k0_h2 => k0_hw977 k0_h2

def k0_off986 (v4941 : BitVec 32) : Fin 2 → Nat :=
  let c0_i32_5405 : BitVec 32 := 0#32
  ![v4941.toNat, 0]

def k0_chk978 (i : grid0.Coords) (v4941 : BitVec 32) : Prop :=
  (∀ (k0_h2 : k0_cond2 i = 1#1), ∀ a, (k0_off986 v4941) a + S1x1024.size a ≤ S40960x1024.size a)
theorem k0_off986_inb : ∀ (i : grid0.Coords) (v4941 : BitVec 32) (k0_hw978 : k0_chk978 i v4941), ∀ (k0_h2 : k0_cond2 i = 1#1), ∀ a, (k0_off986 v4941) a + S1x1024.size a ≤ S40960x1024.size a := fun i v4941 k0_hw978 k0_h2 => k0_hw978 k0_h2

def k0_off987 (v4946 : BitVec 32) : Fin 2 → Nat :=
  let c0_i32_5410 : BitVec 32 := 0#32
  ![v4946.toNat, 0]

def k0_chk979 (i : grid0.Coords) (v4946 : BitVec 32) : Prop :=
  (∀ (k0_h2 : k0_cond2 i = 1#1), ∀ a, (k0_off987 v4946) a + S1x1024.size a ≤ S40960x1024.size a)
theorem k0_off987_inb : ∀ (i : grid0.Coords) (v4946 : BitVec 32) (k0_hw979 : k0_chk979 i v4946), ∀ (k0_h2 : k0_cond2 i = 1#1), ∀ a, (k0_off987 v4946) a + S1x1024.size a ≤ S40960x1024.size a := fun i v4946 k0_hw979 k0_h2 => k0_hw979 k0_h2

def k0_off988 (v4951 : BitVec 32) : Fin 2 → Nat :=
  let c0_i32_5416 : BitVec 32 := 0#32
  ![v4951.toNat, 0]

def k0_chk980 (i : grid0.Coords) (v4951 : BitVec 32) : Prop :=
  (∀ (k0_h2 : k0_cond2 i = 1#1), ∀ a, (k0_off988 v4951) a + S1x1024.size a ≤ S40960x1024.size a)
theorem k0_off988_inb : ∀ (i : grid0.Coords) (v4951 : BitVec 32) (k0_hw980 : k0_chk980 i v4951), ∀ (k0_h2 : k0_cond2 i = 1#1), ∀ a, (k0_off988 v4951) a + S1x1024.size a ≤ S40960x1024.size a := fun i v4951 k0_hw980 k0_h2 => k0_hw980 k0_h2

def k0_off989 (v4956 : BitVec 32) : Fin 2 → Nat :=
  let c0_i32_5421 : BitVec 32 := 0#32
  ![v4956.toNat, 0]

def k0_chk981 (i : grid0.Coords) (v4956 : BitVec 32) : Prop :=
  (∀ (k0_h2 : k0_cond2 i = 1#1), ∀ a, (k0_off989 v4956) a + S1x1024.size a ≤ S40960x1024.size a)
theorem k0_off989_inb : ∀ (i : grid0.Coords) (v4956 : BitVec 32) (k0_hw981 : k0_chk981 i v4956), ∀ (k0_h2 : k0_cond2 i = 1#1), ∀ a, (k0_off989 v4956) a + S1x1024.size a ≤ S40960x1024.size a := fun i v4956 k0_hw981 k0_h2 => k0_hw981 k0_h2

def k0_off990 (v4961 : BitVec 32) : Fin 2 → Nat :=
  let c0_i32_5427 : BitVec 32 := 0#32
  ![v4961.toNat, 0]

def k0_chk982 (i : grid0.Coords) (v4961 : BitVec 32) : Prop :=
  (∀ (k0_h2 : k0_cond2 i = 1#1), ∀ a, (k0_off990 v4961) a + S1x1024.size a ≤ S40960x1024.size a)
theorem k0_off990_inb : ∀ (i : grid0.Coords) (v4961 : BitVec 32) (k0_hw982 : k0_chk982 i v4961), ∀ (k0_h2 : k0_cond2 i = 1#1), ∀ a, (k0_off990 v4961) a + S1x1024.size a ≤ S40960x1024.size a := fun i v4961 k0_hw982 k0_h2 => k0_hw982 k0_h2

def k0_off991 (v4966 : BitVec 32) : Fin 2 → Nat :=
  let c0_i32_5432 : BitVec 32 := 0#32
  ![v4966.toNat, 0]

def k0_chk983 (i : grid0.Coords) (v4966 : BitVec 32) : Prop :=
  (∀ (k0_h2 : k0_cond2 i = 1#1), ∀ a, (k0_off991 v4966) a + S1x1024.size a ≤ S40960x1024.size a)
theorem k0_off991_inb : ∀ (i : grid0.Coords) (v4966 : BitVec 32) (k0_hw983 : k0_chk983 i v4966), ∀ (k0_h2 : k0_cond2 i = 1#1), ∀ a, (k0_off991 v4966) a + S1x1024.size a ≤ S40960x1024.size a := fun i v4966 k0_hw983 k0_h2 => k0_hw983 k0_h2

def k0_off992 (v4971 : BitVec 32) : Fin 2 → Nat :=
  let c0_i32_5438 : BitVec 32 := 0#32
  ![v4971.toNat, 0]

def k0_chk984 (i : grid0.Coords) (v4971 : BitVec 32) : Prop :=
  (∀ (k0_h2 : k0_cond2 i = 1#1), ∀ a, (k0_off992 v4971) a + S1x1024.size a ≤ S40960x1024.size a)
theorem k0_off992_inb : ∀ (i : grid0.Coords) (v4971 : BitVec 32) (k0_hw984 : k0_chk984 i v4971), ∀ (k0_h2 : k0_cond2 i = 1#1), ∀ a, (k0_off992 v4971) a + S1x1024.size a ≤ S40960x1024.size a := fun i v4971 k0_hw984 k0_h2 => k0_hw984 k0_h2

def k0_off993 (v4976 : BitVec 32) : Fin 2 → Nat :=
  let c0_i32_5443 : BitVec 32 := 0#32
  ![v4976.toNat, 0]

def k0_chk985 (i : grid0.Coords) (v4976 : BitVec 32) : Prop :=
  (∀ (k0_h2 : k0_cond2 i = 1#1), ∀ a, (k0_off993 v4976) a + S1x1024.size a ≤ S40960x1024.size a)
theorem k0_off993_inb : ∀ (i : grid0.Coords) (v4976 : BitVec 32) (k0_hw985 : k0_chk985 i v4976), ∀ (k0_h2 : k0_cond2 i = 1#1), ∀ a, (k0_off993 v4976) a + S1x1024.size a ≤ S40960x1024.size a := fun i v4976 k0_hw985 k0_h2 => k0_hw985 k0_h2

def k0_off994 (v4981 : BitVec 32) : Fin 2 → Nat :=
  let c0_i32_5449 : BitVec 32 := 0#32
  ![v4981.toNat, 0]

def k0_chk986 (i : grid0.Coords) (v4981 : BitVec 32) : Prop :=
  (∀ (k0_h2 : k0_cond2 i = 1#1), ∀ a, (k0_off994 v4981) a + S1x1024.size a ≤ S40960x1024.size a)
theorem k0_off994_inb : ∀ (i : grid0.Coords) (v4981 : BitVec 32) (k0_hw986 : k0_chk986 i v4981), ∀ (k0_h2 : k0_cond2 i = 1#1), ∀ a, (k0_off994 v4981) a + S1x1024.size a ≤ S40960x1024.size a := fun i v4981 k0_hw986 k0_h2 => k0_hw986 k0_h2

def k0_off995 (v4986 : BitVec 32) : Fin 2 → Nat :=
  let c0_i32_5454 : BitVec 32 := 0#32
  ![v4986.toNat, 0]

def k0_chk987 (i : grid0.Coords) (v4986 : BitVec 32) : Prop :=
  (∀ (k0_h2 : k0_cond2 i = 1#1), ∀ a, (k0_off995 v4986) a + S1x1024.size a ≤ S40960x1024.size a)
theorem k0_off995_inb : ∀ (i : grid0.Coords) (v4986 : BitVec 32) (k0_hw987 : k0_chk987 i v4986), ∀ (k0_h2 : k0_cond2 i = 1#1), ∀ a, (k0_off995 v4986) a + S1x1024.size a ≤ S40960x1024.size a := fun i v4986 k0_hw987 k0_h2 => k0_hw987 k0_h2

def k0_off996 (v4991 : BitVec 32) : Fin 2 → Nat :=
  let c0_i32_5460 : BitVec 32 := 0#32
  ![v4991.toNat, 0]

def k0_chk988 (i : grid0.Coords) (v4991 : BitVec 32) : Prop :=
  (∀ (k0_h2 : k0_cond2 i = 1#1), ∀ a, (k0_off996 v4991) a + S1x1024.size a ≤ S40960x1024.size a)
theorem k0_off996_inb : ∀ (i : grid0.Coords) (v4991 : BitVec 32) (k0_hw988 : k0_chk988 i v4991), ∀ (k0_h2 : k0_cond2 i = 1#1), ∀ a, (k0_off996 v4991) a + S1x1024.size a ≤ S40960x1024.size a := fun i v4991 k0_hw988 k0_h2 => k0_hw988 k0_h2

def k0_off997 (v4996 : BitVec 32) : Fin 2 → Nat :=
  let c0_i32_5465 : BitVec 32 := 0#32
  ![v4996.toNat, 0]

def k0_chk989 (i : grid0.Coords) (v4996 : BitVec 32) : Prop :=
  (∀ (k0_h2 : k0_cond2 i = 1#1), ∀ a, (k0_off997 v4996) a + S1x1024.size a ≤ S40960x1024.size a)
theorem k0_off997_inb : ∀ (i : grid0.Coords) (v4996 : BitVec 32) (k0_hw989 : k0_chk989 i v4996), ∀ (k0_h2 : k0_cond2 i = 1#1), ∀ a, (k0_off997 v4996) a + S1x1024.size a ≤ S40960x1024.size a := fun i v4996 k0_hw989 k0_h2 => k0_hw989 k0_h2

def k0_off998 (v5001 : BitVec 32) : Fin 2 → Nat :=
  let c0_i32_5471 : BitVec 32 := 0#32
  ![v5001.toNat, 0]

def k0_chk990 (i : grid0.Coords) (v5001 : BitVec 32) : Prop :=
  (∀ (k0_h2 : k0_cond2 i = 1#1), ∀ a, (k0_off998 v5001) a + S1x1024.size a ≤ S40960x1024.size a)
theorem k0_off998_inb : ∀ (i : grid0.Coords) (v5001 : BitVec 32) (k0_hw990 : k0_chk990 i v5001), ∀ (k0_h2 : k0_cond2 i = 1#1), ∀ a, (k0_off998 v5001) a + S1x1024.size a ≤ S40960x1024.size a := fun i v5001 k0_hw990 k0_h2 => k0_hw990 k0_h2

def k0_off999 (v5006 : BitVec 32) : Fin 2 → Nat :=
  let c0_i32_5476 : BitVec 32 := 0#32
  ![v5006.toNat, 0]

def k0_chk991 (i : grid0.Coords) (v5006 : BitVec 32) : Prop :=
  (∀ (k0_h2 : k0_cond2 i = 1#1), ∀ a, (k0_off999 v5006) a + S1x1024.size a ≤ S40960x1024.size a)
theorem k0_off999_inb : ∀ (i : grid0.Coords) (v5006 : BitVec 32) (k0_hw991 : k0_chk991 i v5006), ∀ (k0_h2 : k0_cond2 i = 1#1), ∀ a, (k0_off999 v5006) a + S1x1024.size a ≤ S40960x1024.size a := fun i v5006 k0_hw991 k0_h2 => k0_hw991 k0_h2

def k0_off1000 (v5011 : BitVec 32) : Fin 2 → Nat :=
  let c0_i32_5482 : BitVec 32 := 0#32
  ![v5011.toNat, 0]

def k0_chk992 (i : grid0.Coords) (v5011 : BitVec 32) : Prop :=
  (∀ (k0_h2 : k0_cond2 i = 1#1), ∀ a, (k0_off1000 v5011) a + S1x1024.size a ≤ S40960x1024.size a)
theorem k0_off1000_inb : ∀ (i : grid0.Coords) (v5011 : BitVec 32) (k0_hw992 : k0_chk992 i v5011), ∀ (k0_h2 : k0_cond2 i = 1#1), ∀ a, (k0_off1000 v5011) a + S1x1024.size a ≤ S40960x1024.size a := fun i v5011 k0_hw992 k0_h2 => k0_hw992 k0_h2

def k0_off1001 (v5016 : BitVec 32) : Fin 2 → Nat :=
  let c0_i32_5487 : BitVec 32 := 0#32
  ![v5016.toNat, 0]

def k0_chk993 (i : grid0.Coords) (v5016 : BitVec 32) : Prop :=
  (∀ (k0_h2 : k0_cond2 i = 1#1), ∀ a, (k0_off1001 v5016) a + S1x1024.size a ≤ S40960x1024.size a)
theorem k0_off1001_inb : ∀ (i : grid0.Coords) (v5016 : BitVec 32) (k0_hw993 : k0_chk993 i v5016), ∀ (k0_h2 : k0_cond2 i = 1#1), ∀ a, (k0_off1001 v5016) a + S1x1024.size a ≤ S40960x1024.size a := fun i v5016 k0_hw993 k0_h2 => k0_hw993 k0_h2

def k0_off1002 (v5021 : BitVec 32) : Fin 2 → Nat :=
  let c0_i32_5493 : BitVec 32 := 0#32
  ![v5021.toNat, 0]

def k0_chk994 (i : grid0.Coords) (v5021 : BitVec 32) : Prop :=
  (∀ (k0_h2 : k0_cond2 i = 1#1), ∀ a, (k0_off1002 v5021) a + S1x1024.size a ≤ S40960x1024.size a)
theorem k0_off1002_inb : ∀ (i : grid0.Coords) (v5021 : BitVec 32) (k0_hw994 : k0_chk994 i v5021), ∀ (k0_h2 : k0_cond2 i = 1#1), ∀ a, (k0_off1002 v5021) a + S1x1024.size a ≤ S40960x1024.size a := fun i v5021 k0_hw994 k0_h2 => k0_hw994 k0_h2

def k0_off1003 (v5026 : BitVec 32) : Fin 2 → Nat :=
  let c0_i32_5498 : BitVec 32 := 0#32
  ![v5026.toNat, 0]

def k0_chk995 (i : grid0.Coords) (v5026 : BitVec 32) : Prop :=
  (∀ (k0_h2 : k0_cond2 i = 1#1), ∀ a, (k0_off1003 v5026) a + S1x1024.size a ≤ S40960x1024.size a)
theorem k0_off1003_inb : ∀ (i : grid0.Coords) (v5026 : BitVec 32) (k0_hw995 : k0_chk995 i v5026), ∀ (k0_h2 : k0_cond2 i = 1#1), ∀ a, (k0_off1003 v5026) a + S1x1024.size a ≤ S40960x1024.size a := fun i v5026 k0_hw995 k0_h2 => k0_hw995 k0_h2

def k0_off1004 (v5031 : BitVec 32) : Fin 2 → Nat :=
  let c0_i32_5504 : BitVec 32 := 0#32
  ![v5031.toNat, 0]

def k0_chk996 (i : grid0.Coords) (v5031 : BitVec 32) : Prop :=
  (∀ (k0_h2 : k0_cond2 i = 1#1), ∀ a, (k0_off1004 v5031) a + S1x1024.size a ≤ S40960x1024.size a)
theorem k0_off1004_inb : ∀ (i : grid0.Coords) (v5031 : BitVec 32) (k0_hw996 : k0_chk996 i v5031), ∀ (k0_h2 : k0_cond2 i = 1#1), ∀ a, (k0_off1004 v5031) a + S1x1024.size a ≤ S40960x1024.size a := fun i v5031 k0_hw996 k0_h2 => k0_hw996 k0_h2

def k0_off1005 (v5036 : BitVec 32) : Fin 2 → Nat :=
  let c0_i32_5509 : BitVec 32 := 0#32
  ![v5036.toNat, 0]

def k0_chk997 (i : grid0.Coords) (v5036 : BitVec 32) : Prop :=
  (∀ (k0_h2 : k0_cond2 i = 1#1), ∀ a, (k0_off1005 v5036) a + S1x1024.size a ≤ S40960x1024.size a)
theorem k0_off1005_inb : ∀ (i : grid0.Coords) (v5036 : BitVec 32) (k0_hw997 : k0_chk997 i v5036), ∀ (k0_h2 : k0_cond2 i = 1#1), ∀ a, (k0_off1005 v5036) a + S1x1024.size a ≤ S40960x1024.size a := fun i v5036 k0_hw997 k0_h2 => k0_hw997 k0_h2

def k0_off1006 (v5041 : BitVec 32) : Fin 2 → Nat :=
  let c0_i32_5515 : BitVec 32 := 0#32
  ![v5041.toNat, 0]

def k0_chk998 (i : grid0.Coords) (v5041 : BitVec 32) : Prop :=
  (∀ (k0_h2 : k0_cond2 i = 1#1), ∀ a, (k0_off1006 v5041) a + S1x1024.size a ≤ S40960x1024.size a)
theorem k0_off1006_inb : ∀ (i : grid0.Coords) (v5041 : BitVec 32) (k0_hw998 : k0_chk998 i v5041), ∀ (k0_h2 : k0_cond2 i = 1#1), ∀ a, (k0_off1006 v5041) a + S1x1024.size a ≤ S40960x1024.size a := fun i v5041 k0_hw998 k0_h2 => k0_hw998 k0_h2

def k0_off1007 (v5046 : BitVec 32) : Fin 2 → Nat :=
  let c0_i32_5520 : BitVec 32 := 0#32
  ![v5046.toNat, 0]

def k0_chk999 (i : grid0.Coords) (v5046 : BitVec 32) : Prop :=
  (∀ (k0_h2 : k0_cond2 i = 1#1), ∀ a, (k0_off1007 v5046) a + S1x1024.size a ≤ S40960x1024.size a)
theorem k0_off1007_inb : ∀ (i : grid0.Coords) (v5046 : BitVec 32) (k0_hw999 : k0_chk999 i v5046), ∀ (k0_h2 : k0_cond2 i = 1#1), ∀ a, (k0_off1007 v5046) a + S1x1024.size a ≤ S40960x1024.size a := fun i v5046 k0_hw999 k0_h2 => k0_hw999 k0_h2

def k0_off1008 (v5051 : BitVec 32) : Fin 2 → Nat :=
  let c0_i32_5526 : BitVec 32 := 0#32
  ![v5051.toNat, 0]

def k0_chk1000 (i : grid0.Coords) (v5051 : BitVec 32) : Prop :=
  (∀ (k0_h2 : k0_cond2 i = 1#1), ∀ a, (k0_off1008 v5051) a + S1x1024.size a ≤ S40960x1024.size a)
theorem k0_off1008_inb : ∀ (i : grid0.Coords) (v5051 : BitVec 32) (k0_hw1000 : k0_chk1000 i v5051), ∀ (k0_h2 : k0_cond2 i = 1#1), ∀ a, (k0_off1008 v5051) a + S1x1024.size a ≤ S40960x1024.size a := fun i v5051 k0_hw1000 k0_h2 => k0_hw1000 k0_h2

def k0_off1009 (v5056 : BitVec 32) : Fin 2 → Nat :=
  let c0_i32_5531 : BitVec 32 := 0#32
  ![v5056.toNat, 0]

def k0_chk1001 (i : grid0.Coords) (v5056 : BitVec 32) : Prop :=
  (∀ (k0_h2 : k0_cond2 i = 1#1), ∀ a, (k0_off1009 v5056) a + S1x1024.size a ≤ S40960x1024.size a)
theorem k0_off1009_inb : ∀ (i : grid0.Coords) (v5056 : BitVec 32) (k0_hw1001 : k0_chk1001 i v5056), ∀ (k0_h2 : k0_cond2 i = 1#1), ∀ a, (k0_off1009 v5056) a + S1x1024.size a ≤ S40960x1024.size a := fun i v5056 k0_hw1001 k0_h2 => k0_hw1001 k0_h2

def k0_off1010 (v5061 : BitVec 32) : Fin 2 → Nat :=
  let c0_i32_5537 : BitVec 32 := 0#32
  ![v5061.toNat, 0]

def k0_chk1002 (i : grid0.Coords) (v5061 : BitVec 32) : Prop :=
  (∀ (k0_h2 : k0_cond2 i = 1#1), ∀ a, (k0_off1010 v5061) a + S1x1024.size a ≤ S40960x1024.size a)
theorem k0_off1010_inb : ∀ (i : grid0.Coords) (v5061 : BitVec 32) (k0_hw1002 : k0_chk1002 i v5061), ∀ (k0_h2 : k0_cond2 i = 1#1), ∀ a, (k0_off1010 v5061) a + S1x1024.size a ≤ S40960x1024.size a := fun i v5061 k0_hw1002 k0_h2 => k0_hw1002 k0_h2

def k0_off1011 (v5066 : BitVec 32) : Fin 2 → Nat :=
  let c0_i32_5542 : BitVec 32 := 0#32
  ![v5066.toNat, 0]

def k0_chk1003 (i : grid0.Coords) (v5066 : BitVec 32) : Prop :=
  (∀ (k0_h2 : k0_cond2 i = 1#1), ∀ a, (k0_off1011 v5066) a + S1x1024.size a ≤ S40960x1024.size a)
theorem k0_off1011_inb : ∀ (i : grid0.Coords) (v5066 : BitVec 32) (k0_hw1003 : k0_chk1003 i v5066), ∀ (k0_h2 : k0_cond2 i = 1#1), ∀ a, (k0_off1011 v5066) a + S1x1024.size a ≤ S40960x1024.size a := fun i v5066 k0_hw1003 k0_h2 => k0_hw1003 k0_h2

def k0_off1012 (v5071 : BitVec 32) : Fin 2 → Nat :=
  let c0_i32_5548 : BitVec 32 := 0#32
  ![v5071.toNat, 0]

def k0_chk1004 (i : grid0.Coords) (v5071 : BitVec 32) : Prop :=
  (∀ (k0_h2 : k0_cond2 i = 1#1), ∀ a, (k0_off1012 v5071) a + S1x1024.size a ≤ S40960x1024.size a)
theorem k0_off1012_inb : ∀ (i : grid0.Coords) (v5071 : BitVec 32) (k0_hw1004 : k0_chk1004 i v5071), ∀ (k0_h2 : k0_cond2 i = 1#1), ∀ a, (k0_off1012 v5071) a + S1x1024.size a ≤ S40960x1024.size a := fun i v5071 k0_hw1004 k0_h2 => k0_hw1004 k0_h2

def k0_off1013 (v5076 : BitVec 32) : Fin 2 → Nat :=
  let c0_i32_5553 : BitVec 32 := 0#32
  ![v5076.toNat, 0]

def k0_chk1005 (i : grid0.Coords) (v5076 : BitVec 32) : Prop :=
  (∀ (k0_h2 : k0_cond2 i = 1#1), ∀ a, (k0_off1013 v5076) a + S1x1024.size a ≤ S40960x1024.size a)
theorem k0_off1013_inb : ∀ (i : grid0.Coords) (v5076 : BitVec 32) (k0_hw1005 : k0_chk1005 i v5076), ∀ (k0_h2 : k0_cond2 i = 1#1), ∀ a, (k0_off1013 v5076) a + S1x1024.size a ≤ S40960x1024.size a := fun i v5076 k0_hw1005 k0_h2 => k0_hw1005 k0_h2

def k0_off1014 (v5081 : BitVec 32) : Fin 2 → Nat :=
  let c0_i32_5559 : BitVec 32 := 0#32
  ![v5081.toNat, 0]

def k0_chk1006 (i : grid0.Coords) (v5081 : BitVec 32) : Prop :=
  (∀ (k0_h2 : k0_cond2 i = 1#1), ∀ a, (k0_off1014 v5081) a + S1x1024.size a ≤ S40960x1024.size a)
theorem k0_off1014_inb : ∀ (i : grid0.Coords) (v5081 : BitVec 32) (k0_hw1006 : k0_chk1006 i v5081), ∀ (k0_h2 : k0_cond2 i = 1#1), ∀ a, (k0_off1014 v5081) a + S1x1024.size a ≤ S40960x1024.size a := fun i v5081 k0_hw1006 k0_h2 => k0_hw1006 k0_h2

def k0_off1015 (v5086 : BitVec 32) : Fin 2 → Nat :=
  let c0_i32_5564 : BitVec 32 := 0#32
  ![v5086.toNat, 0]

def k0_chk1007 (i : grid0.Coords) (v5086 : BitVec 32) : Prop :=
  (∀ (k0_h2 : k0_cond2 i = 1#1), ∀ a, (k0_off1015 v5086) a + S1x1024.size a ≤ S40960x1024.size a)
theorem k0_off1015_inb : ∀ (i : grid0.Coords) (v5086 : BitVec 32) (k0_hw1007 : k0_chk1007 i v5086), ∀ (k0_h2 : k0_cond2 i = 1#1), ∀ a, (k0_off1015 v5086) a + S1x1024.size a ≤ S40960x1024.size a := fun i v5086 k0_hw1007 k0_h2 => k0_hw1007 k0_h2

def k0_off1016 (v5091 : BitVec 32) : Fin 2 → Nat :=
  let c0_i32_5570 : BitVec 32 := 0#32
  ![v5091.toNat, 0]

def k0_chk1008 (i : grid0.Coords) (v5091 : BitVec 32) : Prop :=
  (∀ (k0_h2 : k0_cond2 i = 1#1), ∀ a, (k0_off1016 v5091) a + S1x1024.size a ≤ S40960x1024.size a)
theorem k0_off1016_inb : ∀ (i : grid0.Coords) (v5091 : BitVec 32) (k0_hw1008 : k0_chk1008 i v5091), ∀ (k0_h2 : k0_cond2 i = 1#1), ∀ a, (k0_off1016 v5091) a + S1x1024.size a ≤ S40960x1024.size a := fun i v5091 k0_hw1008 k0_h2 => k0_hw1008 k0_h2

def k0_off1017 (v5096 : BitVec 32) : Fin 2 → Nat :=
  let c0_i32_5575 : BitVec 32 := 0#32
  ![v5096.toNat, 0]

def k0_chk1009 (i : grid0.Coords) (v5096 : BitVec 32) : Prop :=
  (∀ (k0_h2 : k0_cond2 i = 1#1), ∀ a, (k0_off1017 v5096) a + S1x1024.size a ≤ S40960x1024.size a)
theorem k0_off1017_inb : ∀ (i : grid0.Coords) (v5096 : BitVec 32) (k0_hw1009 : k0_chk1009 i v5096), ∀ (k0_h2 : k0_cond2 i = 1#1), ∀ a, (k0_off1017 v5096) a + S1x1024.size a ≤ S40960x1024.size a := fun i v5096 k0_hw1009 k0_h2 => k0_hw1009 k0_h2

def k0_off1018 (v5101 : BitVec 32) : Fin 2 → Nat :=
  let c0_i32_5581 : BitVec 32 := 0#32
  ![v5101.toNat, 0]

def k0_chk1010 (i : grid0.Coords) (v5101 : BitVec 32) : Prop :=
  (∀ (k0_h2 : k0_cond2 i = 1#1), ∀ a, (k0_off1018 v5101) a + S1x1024.size a ≤ S40960x1024.size a)
theorem k0_off1018_inb : ∀ (i : grid0.Coords) (v5101 : BitVec 32) (k0_hw1010 : k0_chk1010 i v5101), ∀ (k0_h2 : k0_cond2 i = 1#1), ∀ a, (k0_off1018 v5101) a + S1x1024.size a ≤ S40960x1024.size a := fun i v5101 k0_hw1010 k0_h2 => k0_hw1010 k0_h2

def k0_off1019 (v5106 : BitVec 32) : Fin 2 → Nat :=
  let c0_i32_5586 : BitVec 32 := 0#32
  ![v5106.toNat, 0]

def k0_chk1011 (i : grid0.Coords) (v5106 : BitVec 32) : Prop :=
  (∀ (k0_h2 : k0_cond2 i = 1#1), ∀ a, (k0_off1019 v5106) a + S1x1024.size a ≤ S40960x1024.size a)
theorem k0_off1019_inb : ∀ (i : grid0.Coords) (v5106 : BitVec 32) (k0_hw1011 : k0_chk1011 i v5106), ∀ (k0_h2 : k0_cond2 i = 1#1), ∀ a, (k0_off1019 v5106) a + S1x1024.size a ≤ S40960x1024.size a := fun i v5106 k0_hw1011 k0_h2 => k0_hw1011 k0_h2

def k0_off1020 (v5111 : BitVec 32) : Fin 2 → Nat :=
  let c0_i32_5592 : BitVec 32 := 0#32
  ![v5111.toNat, 0]

def k0_chk1012 (i : grid0.Coords) (v5111 : BitVec 32) : Prop :=
  (∀ (k0_h2 : k0_cond2 i = 1#1), ∀ a, (k0_off1020 v5111) a + S1x1024.size a ≤ S40960x1024.size a)
theorem k0_off1020_inb : ∀ (i : grid0.Coords) (v5111 : BitVec 32) (k0_hw1012 : k0_chk1012 i v5111), ∀ (k0_h2 : k0_cond2 i = 1#1), ∀ a, (k0_off1020 v5111) a + S1x1024.size a ≤ S40960x1024.size a := fun i v5111 k0_hw1012 k0_h2 => k0_hw1012 k0_h2

def k0_off1021 (v5116 : BitVec 32) : Fin 2 → Nat :=
  let c0_i32_5597 : BitVec 32 := 0#32
  ![v5116.toNat, 0]

def k0_chk1013 (i : grid0.Coords) (v5116 : BitVec 32) : Prop :=
  (∀ (k0_h2 : k0_cond2 i = 1#1), ∀ a, (k0_off1021 v5116) a + S1x1024.size a ≤ S40960x1024.size a)
theorem k0_off1021_inb : ∀ (i : grid0.Coords) (v5116 : BitVec 32) (k0_hw1013 : k0_chk1013 i v5116), ∀ (k0_h2 : k0_cond2 i = 1#1), ∀ a, (k0_off1021 v5116) a + S1x1024.size a ≤ S40960x1024.size a := fun i v5116 k0_hw1013 k0_h2 => k0_hw1013 k0_h2

def k0_off1022 (v5121 : BitVec 32) : Fin 2 → Nat :=
  let c0_i32_5603 : BitVec 32 := 0#32
  ![v5121.toNat, 0]

def k0_chk1014 (i : grid0.Coords) (v5121 : BitVec 32) : Prop :=
  (∀ (k0_h2 : k0_cond2 i = 1#1), ∀ a, (k0_off1022 v5121) a + S1x1024.size a ≤ S40960x1024.size a)
theorem k0_off1022_inb : ∀ (i : grid0.Coords) (v5121 : BitVec 32) (k0_hw1014 : k0_chk1014 i v5121), ∀ (k0_h2 : k0_cond2 i = 1#1), ∀ a, (k0_off1022 v5121) a + S1x1024.size a ≤ S40960x1024.size a := fun i v5121 k0_hw1014 k0_h2 => k0_hw1014 k0_h2

def k0_off1023 (v5126 : BitVec 32) : Fin 2 → Nat :=
  let c0_i32_5608 : BitVec 32 := 0#32
  ![v5126.toNat, 0]

def k0_chk1015 (i : grid0.Coords) (v5126 : BitVec 32) : Prop :=
  (∀ (k0_h2 : k0_cond2 i = 1#1), ∀ a, (k0_off1023 v5126) a + S1x1024.size a ≤ S40960x1024.size a)
theorem k0_off1023_inb : ∀ (i : grid0.Coords) (v5126 : BitVec 32) (k0_hw1015 : k0_chk1015 i v5126), ∀ (k0_h2 : k0_cond2 i = 1#1), ∀ a, (k0_off1023 v5126) a + S1x1024.size a ≤ S40960x1024.size a := fun i v5126 k0_hw1015 k0_h2 => k0_hw1015 k0_h2

def k0_off1024 (v5131 : BitVec 32) : Fin 2 → Nat :=
  let c0_i32_5614 : BitVec 32 := 0#32
  ![v5131.toNat, 0]

def k0_chk1016 (i : grid0.Coords) (v5131 : BitVec 32) : Prop :=
  (∀ (k0_h2 : k0_cond2 i = 1#1), ∀ a, (k0_off1024 v5131) a + S1x1024.size a ≤ S40960x1024.size a)
theorem k0_off1024_inb : ∀ (i : grid0.Coords) (v5131 : BitVec 32) (k0_hw1016 : k0_chk1016 i v5131), ∀ (k0_h2 : k0_cond2 i = 1#1), ∀ a, (k0_off1024 v5131) a + S1x1024.size a ≤ S40960x1024.size a := fun i v5131 k0_hw1016 k0_h2 => k0_hw1016 k0_h2

def k0_off1025 (v5136 : BitVec 32) : Fin 2 → Nat :=
  let c0_i32_5619 : BitVec 32 := 0#32
  ![v5136.toNat, 0]

def k0_chk1017 (i : grid0.Coords) (v5136 : BitVec 32) : Prop :=
  (∀ (k0_h2 : k0_cond2 i = 1#1), ∀ a, (k0_off1025 v5136) a + S1x1024.size a ≤ S40960x1024.size a)
theorem k0_off1025_inb : ∀ (i : grid0.Coords) (v5136 : BitVec 32) (k0_hw1017 : k0_chk1017 i v5136), ∀ (k0_h2 : k0_cond2 i = 1#1), ∀ a, (k0_off1025 v5136) a + S1x1024.size a ≤ S40960x1024.size a := fun i v5136 k0_hw1017 k0_h2 => k0_hw1017 k0_h2

def k0_off1026 (v5141 : BitVec 32) : Fin 2 → Nat :=
  let c0_i32_5625 : BitVec 32 := 0#32
  ![v5141.toNat, 0]

def k0_chk1018 (i : grid0.Coords) (v5141 : BitVec 32) : Prop :=
  (∀ (k0_h2 : k0_cond2 i = 1#1), ∀ a, (k0_off1026 v5141) a + S1x1024.size a ≤ S40960x1024.size a)
theorem k0_off1026_inb : ∀ (i : grid0.Coords) (v5141 : BitVec 32) (k0_hw1018 : k0_chk1018 i v5141), ∀ (k0_h2 : k0_cond2 i = 1#1), ∀ a, (k0_off1026 v5141) a + S1x1024.size a ≤ S40960x1024.size a := fun i v5141 k0_hw1018 k0_h2 => k0_hw1018 k0_h2

def k0_off1027 (v5146 : BitVec 32) : Fin 2 → Nat :=
  let c0_i32_5630 : BitVec 32 := 0#32
  ![v5146.toNat, 0]

def k0_chk1019 (i : grid0.Coords) (v5146 : BitVec 32) : Prop :=
  (∀ (k0_h2 : k0_cond2 i = 1#1), ∀ a, (k0_off1027 v5146) a + S1x1024.size a ≤ S40960x1024.size a)
theorem k0_off1027_inb : ∀ (i : grid0.Coords) (v5146 : BitVec 32) (k0_hw1019 : k0_chk1019 i v5146), ∀ (k0_h2 : k0_cond2 i = 1#1), ∀ a, (k0_off1027 v5146) a + S1x1024.size a ≤ S40960x1024.size a := fun i v5146 k0_hw1019 k0_h2 => k0_hw1019 k0_h2

def k0_off1028 (v5151 : BitVec 32) : Fin 2 → Nat :=
  let c0_i32_5636 : BitVec 32 := 0#32
  ![v5151.toNat, 0]

def k0_chk1020 (i : grid0.Coords) (v5151 : BitVec 32) : Prop :=
  (∀ (k0_h2 : k0_cond2 i = 1#1), ∀ a, (k0_off1028 v5151) a + S1x1024.size a ≤ S40960x1024.size a)
theorem k0_off1028_inb : ∀ (i : grid0.Coords) (v5151 : BitVec 32) (k0_hw1020 : k0_chk1020 i v5151), ∀ (k0_h2 : k0_cond2 i = 1#1), ∀ a, (k0_off1028 v5151) a + S1x1024.size a ≤ S40960x1024.size a := fun i v5151 k0_hw1020 k0_h2 => k0_hw1020 k0_h2

def k0_off1029 (v5156 : BitVec 32) : Fin 2 → Nat :=
  let c0_i32_5641 : BitVec 32 := 0#32
  ![v5156.toNat, 0]

def k0_chk1021 (i : grid0.Coords) (v5156 : BitVec 32) : Prop :=
  (∀ (k0_h2 : k0_cond2 i = 1#1), ∀ a, (k0_off1029 v5156) a + S1x1024.size a ≤ S40960x1024.size a)
theorem k0_off1029_inb : ∀ (i : grid0.Coords) (v5156 : BitVec 32) (k0_hw1021 : k0_chk1021 i v5156), ∀ (k0_h2 : k0_cond2 i = 1#1), ∀ a, (k0_off1029 v5156) a + S1x1024.size a ≤ S40960x1024.size a := fun i v5156 k0_hw1021 k0_h2 => k0_hw1021 k0_h2

def k0_off1030 (v5161 : BitVec 32) : Fin 2 → Nat :=
  let c0_i32_5647 : BitVec 32 := 0#32
  ![v5161.toNat, 0]

def k0_chk1022 (i : grid0.Coords) (v5161 : BitVec 32) : Prop :=
  (∀ (k0_h2 : k0_cond2 i = 1#1), ∀ a, (k0_off1030 v5161) a + S1x1024.size a ≤ S40960x1024.size a)
theorem k0_off1030_inb : ∀ (i : grid0.Coords) (v5161 : BitVec 32) (k0_hw1022 : k0_chk1022 i v5161), ∀ (k0_h2 : k0_cond2 i = 1#1), ∀ a, (k0_off1030 v5161) a + S1x1024.size a ≤ S40960x1024.size a := fun i v5161 k0_hw1022 k0_h2 => k0_hw1022 k0_h2

def k0_off1031 (v5166 : BitVec 32) : Fin 2 → Nat :=
  let c0_i32_5652 : BitVec 32 := 0#32
  ![v5166.toNat, 0]

def k0_chk1023 (i : grid0.Coords) (v5166 : BitVec 32) : Prop :=
  (∀ (k0_h2 : k0_cond2 i = 1#1), ∀ a, (k0_off1031 v5166) a + S1x1024.size a ≤ S40960x1024.size a)
theorem k0_off1031_inb : ∀ (i : grid0.Coords) (v5166 : BitVec 32) (k0_hw1023 : k0_chk1023 i v5166), ∀ (k0_h2 : k0_cond2 i = 1#1), ∀ a, (k0_off1031 v5166) a + S1x1024.size a ≤ S40960x1024.size a := fun i v5166 k0_hw1023 k0_h2 => k0_hw1023 k0_h2

def k0_off1032 (v5171 : BitVec 32) : Fin 2 → Nat :=
  let c0_i32_5658 : BitVec 32 := 0#32
  ![v5171.toNat, 0]

def k0_chk1024 (i : grid0.Coords) (v5171 : BitVec 32) : Prop :=
  (∀ (k0_h2 : k0_cond2 i = 1#1), ∀ a, (k0_off1032 v5171) a + S1x1024.size a ≤ S40960x1024.size a)
theorem k0_off1032_inb : ∀ (i : grid0.Coords) (v5171 : BitVec 32) (k0_hw1024 : k0_chk1024 i v5171), ∀ (k0_h2 : k0_cond2 i = 1#1), ∀ a, (k0_off1032 v5171) a + S1x1024.size a ≤ S40960x1024.size a := fun i v5171 k0_hw1024 k0_h2 => k0_hw1024 k0_h2

def k0_off1033 (v5176 : BitVec 32) : Fin 2 → Nat :=
  let c0_i32_5663 : BitVec 32 := 0#32
  ![v5176.toNat, 0]

def k0_chk1025 (i : grid0.Coords) (v5176 : BitVec 32) : Prop :=
  (∀ (k0_h2 : k0_cond2 i = 1#1), ∀ a, (k0_off1033 v5176) a + S1x1024.size a ≤ S40960x1024.size a)
theorem k0_off1033_inb : ∀ (i : grid0.Coords) (v5176 : BitVec 32) (k0_hw1025 : k0_chk1025 i v5176), ∀ (k0_h2 : k0_cond2 i = 1#1), ∀ a, (k0_off1033 v5176) a + S1x1024.size a ≤ S40960x1024.size a := fun i v5176 k0_hw1025 k0_h2 => k0_hw1025 k0_h2

def k0_off1034 (v5181 : BitVec 32) : Fin 2 → Nat :=
  let c0_i32_5669 : BitVec 32 := 0#32
  ![v5181.toNat, 0]

def k0_chk1026 (i : grid0.Coords) (v5181 : BitVec 32) : Prop :=
  (∀ (k0_h2 : k0_cond2 i = 1#1), ∀ a, (k0_off1034 v5181) a + S1x1024.size a ≤ S40960x1024.size a)
theorem k0_off1034_inb : ∀ (i : grid0.Coords) (v5181 : BitVec 32) (k0_hw1026 : k0_chk1026 i v5181), ∀ (k0_h2 : k0_cond2 i = 1#1), ∀ a, (k0_off1034 v5181) a + S1x1024.size a ≤ S40960x1024.size a := fun i v5181 k0_hw1026 k0_h2 => k0_hw1026 k0_h2

def k0_off1035 (v5186 : BitVec 32) : Fin 2 → Nat :=
  let c0_i32_5674 : BitVec 32 := 0#32
  ![v5186.toNat, 0]

def k0_chk1027 (i : grid0.Coords) (v5186 : BitVec 32) : Prop :=
  (∀ (k0_h2 : k0_cond2 i = 1#1), ∀ a, (k0_off1035 v5186) a + S1x1024.size a ≤ S40960x1024.size a)
theorem k0_off1035_inb : ∀ (i : grid0.Coords) (v5186 : BitVec 32) (k0_hw1027 : k0_chk1027 i v5186), ∀ (k0_h2 : k0_cond2 i = 1#1), ∀ a, (k0_off1035 v5186) a + S1x1024.size a ≤ S40960x1024.size a := fun i v5186 k0_hw1027 k0_h2 => k0_hw1027 k0_h2

def k0_off1036 (v5191 : BitVec 32) : Fin 2 → Nat :=
  let c0_i32_5680 : BitVec 32 := 0#32
  ![v5191.toNat, 0]

def k0_chk1028 (i : grid0.Coords) (v5191 : BitVec 32) : Prop :=
  (∀ (k0_h2 : k0_cond2 i = 1#1), ∀ a, (k0_off1036 v5191) a + S1x1024.size a ≤ S40960x1024.size a)
theorem k0_off1036_inb : ∀ (i : grid0.Coords) (v5191 : BitVec 32) (k0_hw1028 : k0_chk1028 i v5191), ∀ (k0_h2 : k0_cond2 i = 1#1), ∀ a, (k0_off1036 v5191) a + S1x1024.size a ≤ S40960x1024.size a := fun i v5191 k0_hw1028 k0_h2 => k0_hw1028 k0_h2

def k0_cond3 (i : grid0.Coords) : BitVec 1 :=
  let arg0 : BitVec 32 := BitVec.ofNat 32 (i 0).val
  let c31_i32_5701 : BitVec 32 := 31#32
  let v5239 : BitVec 1 := Scalar.cmpi .eq arg0 c31_i32_5701
  let v5240 : BitVec 32 := Scalar.extui v5239
  let c0_i32_5702 : BitVec 32 := 0#32
  let v5241 : BitVec 1 := Scalar.cmpi .ne v5240 c0_i32_5702
  v5241

@[reducible] def k0_t7_loop : Scf.Loop 32 :=
  let c0_i32_5703 : BitVec 32 := 0#32
  let c256_i32_5704 : BitVec 32 := 256#32
  let v5242 : BitVec 32 := Scalar.addi c0_i32_5703 c256_i32_5704
  let c1_i32_5705 : BitVec 32 := 1#32
  ⟨c0_i32_5703, v5242, c1_i32_5705⟩
@[reducible] def k0_t8_loop : Scf.Loop 32 :=
  let c0_i32_5706 : BitVec 32 := 0#32
  let c256_i32_5707 : BitVec 32 := 256#32
  let v5243 : BitVec 32 := Scalar.addi c0_i32_5706 c256_i32_5707
  let c1_i32_5708 : BitVec 32 := 1#32
  ⟨c0_i32_5706, v5243, c1_i32_5708⟩
@[reducible] def k0_t9_loop : Scf.Loop 32 :=
  let c0_i32_5709 : BitVec 32 := 0#32
  let c256_i32_5710 : BitVec 32 := 256#32
  let v5244 : BitVec 32 := Scalar.addi c0_i32_5709 c256_i32_5710
  let c1_i32_5711 : BitVec 32 := 1#32
  ⟨c0_i32_5709, v5244, c1_i32_5711⟩
@[reducible] def k0_t10_loop : Scf.Loop 32 :=
  let c0_i32_5712 : BitVec 32 := 0#32
  let c256_i32_5713 : BitVec 32 := 256#32
  let v5245 : BitVec 32 := Scalar.addi c0_i32_5712 c256_i32_5713
  let c1_i32_5714 : BitVec 32 := 1#32
  ⟨c0_i32_5712, v5245, c1_i32_5714⟩
def k0_cond4 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

@[reducible] def k0_t11_loop : Scf.Loop 32 :=
  let c0_i32_15 : BitVec 32 := 0#32
  let c256_i32 : BitVec 32 := 256#32
  let v29 : BitVec 32 := Scalar.addi c0_i32_15 c256_i32
  let c1_i32_16 : BitVec 32 := 1#32
  ⟨c0_i32_15, v29, c1_i32_16⟩
@[reducible] def k0_t12_loop : Scf.Loop 32 :=
  let c0_i32_17 : BitVec 32 := 0#32
  let c256_i32_18 : BitVec 32 := 256#32
  let v30 : BitVec 32 := Scalar.addi c0_i32_17 c256_i32_18
  let c1_i32_19 : BitVec 32 := 1#32
  ⟨c0_i32_17, v30, c1_i32_19⟩
def k0_off1037 (v31 : BitVec 32) : Fin 2 → Nat :=
  let c0_i32_25 : BitVec 32 := 0#32
  ![v31.toNat, 0]

def k0_chk1029 (i : grid0.Coords) (v31 : BitVec 32) : Prop :=
  (∀ (k0_h4 : k0_cond4 i = 1#1), ∀ a, (k0_off1037 v31) a + S1x1024.size a ≤ S40960x1024.size a)
theorem k0_off1037_inb : ∀ (i : grid0.Coords) (v31 : BitVec 32) (k0_hw1029 : k0_chk1029 i v31), ∀ (k0_h4 : k0_cond4 i = 1#1), ∀ a, (k0_off1037 v31) a + S1x1024.size a ≤ S40960x1024.size a := fun i v31 k0_hw1029 k0_h4 => k0_hw1029 k0_h4

def k0_off1038 (v36 : BitVec 32) : Fin 2 → Nat :=
  let c0_i32_31 : BitVec 32 := 0#32
  ![v36.toNat, 0]

def k0_chk1030 (i : grid0.Coords) (v36 : BitVec 32) : Prop :=
  (∀ (k0_h4 : k0_cond4 i = 1#1), ∀ a, (k0_off1038 v36) a + S1x1024.size a ≤ S40960x1024.size a)
theorem k0_off1038_inb : ∀ (i : grid0.Coords) (v36 : BitVec 32) (k0_hw1030 : k0_chk1030 i v36), ∀ (k0_h4 : k0_cond4 i = 1#1), ∀ a, (k0_off1038 v36) a + S1x1024.size a ≤ S40960x1024.size a := fun i v36 k0_hw1030 k0_h4 => k0_hw1030 k0_h4

def k0_off1039 (v41 : BitVec 32) : Fin 2 → Nat :=
  let c0_i32_37 : BitVec 32 := 0#32
  ![v41.toNat, 0]

def k0_chk1031 (i : grid0.Coords) (v41 : BitVec 32) : Prop :=
  (∀ (k0_h4 : k0_cond4 i = 1#1), ∀ a, (k0_off1039 v41) a + S1x1024.size a ≤ S40960x1024.size a)
theorem k0_off1039_inb : ∀ (i : grid0.Coords) (v41 : BitVec 32) (k0_hw1031 : k0_chk1031 i v41), ∀ (k0_h4 : k0_cond4 i = 1#1), ∀ a, (k0_off1039 v41) a + S1x1024.size a ≤ S40960x1024.size a := fun i v41 k0_hw1031 k0_h4 => k0_hw1031 k0_h4

def k0_off1040 (v46 : BitVec 32) : Fin 2 → Nat :=
  let c0_i32_43 : BitVec 32 := 0#32
  ![v46.toNat, 0]

def k0_chk1032 (i : grid0.Coords) (v46 : BitVec 32) : Prop :=
  (∀ (k0_h4 : k0_cond4 i = 1#1), ∀ a, (k0_off1040 v46) a + S1x1024.size a ≤ S40960x1024.size a)
theorem k0_off1040_inb : ∀ (i : grid0.Coords) (v46 : BitVec 32) (k0_hw1032 : k0_chk1032 i v46), ∀ (k0_h4 : k0_cond4 i = 1#1), ∀ a, (k0_off1040 v46) a + S1x1024.size a ≤ S40960x1024.size a := fun i v46 k0_hw1032 k0_h4 => k0_hw1032 k0_h4

def k0_off1041 (v51 : BitVec 32) : Fin 2 → Nat :=
  let c0_i32_49 : BitVec 32 := 0#32
  ![v51.toNat, 0]

def k0_chk1033 (i : grid0.Coords) (v51 : BitVec 32) : Prop :=
  (∀ (k0_h4 : k0_cond4 i = 1#1), ∀ a, (k0_off1041 v51) a + S1x1024.size a ≤ S40960x1024.size a)
theorem k0_off1041_inb : ∀ (i : grid0.Coords) (v51 : BitVec 32) (k0_hw1033 : k0_chk1033 i v51), ∀ (k0_h4 : k0_cond4 i = 1#1), ∀ a, (k0_off1041 v51) a + S1x1024.size a ≤ S40960x1024.size a := fun i v51 k0_hw1033 k0_h4 => k0_hw1033 k0_h4

def k0_off1042 (v56 : BitVec 32) : Fin 2 → Nat :=
  let c0_i32_55 : BitVec 32 := 0#32
  ![v56.toNat, 0]

def k0_chk1034 (i : grid0.Coords) (v56 : BitVec 32) : Prop :=
  (∀ (k0_h4 : k0_cond4 i = 1#1), ∀ a, (k0_off1042 v56) a + S1x1024.size a ≤ S40960x1024.size a)
theorem k0_off1042_inb : ∀ (i : grid0.Coords) (v56 : BitVec 32) (k0_hw1034 : k0_chk1034 i v56), ∀ (k0_h4 : k0_cond4 i = 1#1), ∀ a, (k0_off1042 v56) a + S1x1024.size a ≤ S40960x1024.size a := fun i v56 k0_hw1034 k0_h4 => k0_hw1034 k0_h4

def k0_off1043 (v61 : BitVec 32) : Fin 2 → Nat :=
  let c0_i32_60 : BitVec 32 := 0#32
  ![v61.toNat, 0]

def k0_chk1035 (i : grid0.Coords) (v61 : BitVec 32) : Prop :=
  (∀ (k0_h4 : k0_cond4 i = 1#1), ∀ a, (k0_off1043 v61) a + S1x1024.size a ≤ S40960x1024.size a)
theorem k0_off1043_inb : ∀ (i : grid0.Coords) (v61 : BitVec 32) (k0_hw1035 : k0_chk1035 i v61), ∀ (k0_h4 : k0_cond4 i = 1#1), ∀ a, (k0_off1043 v61) a + S1x1024.size a ≤ S40960x1024.size a := fun i v61 k0_hw1035 k0_h4 => k0_hw1035 k0_h4

def k0_off1044 (v66 : BitVec 32) : Fin 2 → Nat :=
  let c0_i32_66 : BitVec 32 := 0#32
  ![v66.toNat, 0]

def k0_chk1036 (i : grid0.Coords) (v66 : BitVec 32) : Prop :=
  (∀ (k0_h4 : k0_cond4 i = 1#1), ∀ a, (k0_off1044 v66) a + S1x1024.size a ≤ S40960x1024.size a)
theorem k0_off1044_inb : ∀ (i : grid0.Coords) (v66 : BitVec 32) (k0_hw1036 : k0_chk1036 i v66), ∀ (k0_h4 : k0_cond4 i = 1#1), ∀ a, (k0_off1044 v66) a + S1x1024.size a ≤ S40960x1024.size a := fun i v66 k0_hw1036 k0_h4 => k0_hw1036 k0_h4

def k0_off1045 (v71 : BitVec 32) : Fin 2 → Nat :=
  let c0_i32_71 : BitVec 32 := 0#32
  ![v71.toNat, 0]

def k0_chk1037 (i : grid0.Coords) (v71 : BitVec 32) : Prop :=
  (∀ (k0_h4 : k0_cond4 i = 1#1), ∀ a, (k0_off1045 v71) a + S1x1024.size a ≤ S40960x1024.size a)
theorem k0_off1045_inb : ∀ (i : grid0.Coords) (v71 : BitVec 32) (k0_hw1037 : k0_chk1037 i v71), ∀ (k0_h4 : k0_cond4 i = 1#1), ∀ a, (k0_off1045 v71) a + S1x1024.size a ≤ S40960x1024.size a := fun i v71 k0_hw1037 k0_h4 => k0_hw1037 k0_h4

def k0_off1046 (v76 : BitVec 32) : Fin 2 → Nat :=
  let c0_i32_77 : BitVec 32 := 0#32
  ![v76.toNat, 0]

def k0_chk1038 (i : grid0.Coords) (v76 : BitVec 32) : Prop :=
  (∀ (k0_h4 : k0_cond4 i = 1#1), ∀ a, (k0_off1046 v76) a + S1x1024.size a ≤ S40960x1024.size a)
theorem k0_off1046_inb : ∀ (i : grid0.Coords) (v76 : BitVec 32) (k0_hw1038 : k0_chk1038 i v76), ∀ (k0_h4 : k0_cond4 i = 1#1), ∀ a, (k0_off1046 v76) a + S1x1024.size a ≤ S40960x1024.size a := fun i v76 k0_hw1038 k0_h4 => k0_hw1038 k0_h4

def k0_off1047 (v81 : BitVec 32) : Fin 2 → Nat :=
  let c0_i32_82 : BitVec 32 := 0#32
  ![v81.toNat, 0]

def k0_chk1039 (i : grid0.Coords) (v81 : BitVec 32) : Prop :=
  (∀ (k0_h4 : k0_cond4 i = 1#1), ∀ a, (k0_off1047 v81) a + S1x1024.size a ≤ S40960x1024.size a)
theorem k0_off1047_inb : ∀ (i : grid0.Coords) (v81 : BitVec 32) (k0_hw1039 : k0_chk1039 i v81), ∀ (k0_h4 : k0_cond4 i = 1#1), ∀ a, (k0_off1047 v81) a + S1x1024.size a ≤ S40960x1024.size a := fun i v81 k0_hw1039 k0_h4 => k0_hw1039 k0_h4

def k0_off1048 (v86 : BitVec 32) : Fin 2 → Nat :=
  let c0_i32_88 : BitVec 32 := 0#32
  ![v86.toNat, 0]

def k0_chk1040 (i : grid0.Coords) (v86 : BitVec 32) : Prop :=
  (∀ (k0_h4 : k0_cond4 i = 1#1), ∀ a, (k0_off1048 v86) a + S1x1024.size a ≤ S40960x1024.size a)
theorem k0_off1048_inb : ∀ (i : grid0.Coords) (v86 : BitVec 32) (k0_hw1040 : k0_chk1040 i v86), ∀ (k0_h4 : k0_cond4 i = 1#1), ∀ a, (k0_off1048 v86) a + S1x1024.size a ≤ S40960x1024.size a := fun i v86 k0_hw1040 k0_h4 => k0_hw1040 k0_h4

def k0_off1049 (v91 : BitVec 32) : Fin 2 → Nat :=
  let c0_i32_93 : BitVec 32 := 0#32
  ![v91.toNat, 0]

def k0_chk1041 (i : grid0.Coords) (v91 : BitVec 32) : Prop :=
  (∀ (k0_h4 : k0_cond4 i = 1#1), ∀ a, (k0_off1049 v91) a + S1x1024.size a ≤ S40960x1024.size a)
theorem k0_off1049_inb : ∀ (i : grid0.Coords) (v91 : BitVec 32) (k0_hw1041 : k0_chk1041 i v91), ∀ (k0_h4 : k0_cond4 i = 1#1), ∀ a, (k0_off1049 v91) a + S1x1024.size a ≤ S40960x1024.size a := fun i v91 k0_hw1041 k0_h4 => k0_hw1041 k0_h4

def k0_off1050 (v96 : BitVec 32) : Fin 2 → Nat :=
  let c0_i32_99 : BitVec 32 := 0#32
  ![v96.toNat, 0]

def k0_chk1042 (i : grid0.Coords) (v96 : BitVec 32) : Prop :=
  (∀ (k0_h4 : k0_cond4 i = 1#1), ∀ a, (k0_off1050 v96) a + S1x1024.size a ≤ S40960x1024.size a)
theorem k0_off1050_inb : ∀ (i : grid0.Coords) (v96 : BitVec 32) (k0_hw1042 : k0_chk1042 i v96), ∀ (k0_h4 : k0_cond4 i = 1#1), ∀ a, (k0_off1050 v96) a + S1x1024.size a ≤ S40960x1024.size a := fun i v96 k0_hw1042 k0_h4 => k0_hw1042 k0_h4

def k0_off1051 (v101 : BitVec 32) : Fin 2 → Nat :=
  let c0_i32_104 : BitVec 32 := 0#32
  ![v101.toNat, 0]

def k0_chk1043 (i : grid0.Coords) (v101 : BitVec 32) : Prop :=
  (∀ (k0_h4 : k0_cond4 i = 1#1), ∀ a, (k0_off1051 v101) a + S1x1024.size a ≤ S40960x1024.size a)
theorem k0_off1051_inb : ∀ (i : grid0.Coords) (v101 : BitVec 32) (k0_hw1043 : k0_chk1043 i v101), ∀ (k0_h4 : k0_cond4 i = 1#1), ∀ a, (k0_off1051 v101) a + S1x1024.size a ≤ S40960x1024.size a := fun i v101 k0_hw1043 k0_h4 => k0_hw1043 k0_h4

def k0_off1052 (v106 : BitVec 32) : Fin 2 → Nat :=
  let c0_i32_110 : BitVec 32 := 0#32
  ![v106.toNat, 0]

def k0_chk1044 (i : grid0.Coords) (v106 : BitVec 32) : Prop :=
  (∀ (k0_h4 : k0_cond4 i = 1#1), ∀ a, (k0_off1052 v106) a + S1x1024.size a ≤ S40960x1024.size a)
theorem k0_off1052_inb : ∀ (i : grid0.Coords) (v106 : BitVec 32) (k0_hw1044 : k0_chk1044 i v106), ∀ (k0_h4 : k0_cond4 i = 1#1), ∀ a, (k0_off1052 v106) a + S1x1024.size a ≤ S40960x1024.size a := fun i v106 k0_hw1044 k0_h4 => k0_hw1044 k0_h4

def k0_off1053 (v111 : BitVec 32) : Fin 2 → Nat :=
  let c0_i32_115 : BitVec 32 := 0#32
  ![v111.toNat, 0]

def k0_chk1045 (i : grid0.Coords) (v111 : BitVec 32) : Prop :=
  (∀ (k0_h4 : k0_cond4 i = 1#1), ∀ a, (k0_off1053 v111) a + S1x1024.size a ≤ S40960x1024.size a)
theorem k0_off1053_inb : ∀ (i : grid0.Coords) (v111 : BitVec 32) (k0_hw1045 : k0_chk1045 i v111), ∀ (k0_h4 : k0_cond4 i = 1#1), ∀ a, (k0_off1053 v111) a + S1x1024.size a ≤ S40960x1024.size a := fun i v111 k0_hw1045 k0_h4 => k0_hw1045 k0_h4

def k0_off1054 (v116 : BitVec 32) : Fin 2 → Nat :=
  let c0_i32_121 : BitVec 32 := 0#32
  ![v116.toNat, 0]

def k0_chk1046 (i : grid0.Coords) (v116 : BitVec 32) : Prop :=
  (∀ (k0_h4 : k0_cond4 i = 1#1), ∀ a, (k0_off1054 v116) a + S1x1024.size a ≤ S40960x1024.size a)
theorem k0_off1054_inb : ∀ (i : grid0.Coords) (v116 : BitVec 32) (k0_hw1046 : k0_chk1046 i v116), ∀ (k0_h4 : k0_cond4 i = 1#1), ∀ a, (k0_off1054 v116) a + S1x1024.size a ≤ S40960x1024.size a := fun i v116 k0_hw1046 k0_h4 => k0_hw1046 k0_h4

def k0_off1055 (v121 : BitVec 32) : Fin 2 → Nat :=
  let c0_i32_126 : BitVec 32 := 0#32
  ![v121.toNat, 0]

def k0_chk1047 (i : grid0.Coords) (v121 : BitVec 32) : Prop :=
  (∀ (k0_h4 : k0_cond4 i = 1#1), ∀ a, (k0_off1055 v121) a + S1x1024.size a ≤ S40960x1024.size a)
theorem k0_off1055_inb : ∀ (i : grid0.Coords) (v121 : BitVec 32) (k0_hw1047 : k0_chk1047 i v121), ∀ (k0_h4 : k0_cond4 i = 1#1), ∀ a, (k0_off1055 v121) a + S1x1024.size a ≤ S40960x1024.size a := fun i v121 k0_hw1047 k0_h4 => k0_hw1047 k0_h4

def k0_off1056 (v126 : BitVec 32) : Fin 2 → Nat :=
  let c0_i32_132 : BitVec 32 := 0#32
  ![v126.toNat, 0]

def k0_chk1048 (i : grid0.Coords) (v126 : BitVec 32) : Prop :=
  (∀ (k0_h4 : k0_cond4 i = 1#1), ∀ a, (k0_off1056 v126) a + S1x1024.size a ≤ S40960x1024.size a)
theorem k0_off1056_inb : ∀ (i : grid0.Coords) (v126 : BitVec 32) (k0_hw1048 : k0_chk1048 i v126), ∀ (k0_h4 : k0_cond4 i = 1#1), ∀ a, (k0_off1056 v126) a + S1x1024.size a ≤ S40960x1024.size a := fun i v126 k0_hw1048 k0_h4 => k0_hw1048 k0_h4

def k0_off1057 (v131 : BitVec 32) : Fin 2 → Nat :=
  let c0_i32_137 : BitVec 32 := 0#32
  ![v131.toNat, 0]

def k0_chk1049 (i : grid0.Coords) (v131 : BitVec 32) : Prop :=
  (∀ (k0_h4 : k0_cond4 i = 1#1), ∀ a, (k0_off1057 v131) a + S1x1024.size a ≤ S40960x1024.size a)
theorem k0_off1057_inb : ∀ (i : grid0.Coords) (v131 : BitVec 32) (k0_hw1049 : k0_chk1049 i v131), ∀ (k0_h4 : k0_cond4 i = 1#1), ∀ a, (k0_off1057 v131) a + S1x1024.size a ≤ S40960x1024.size a := fun i v131 k0_hw1049 k0_h4 => k0_hw1049 k0_h4

def k0_off1058 (v136 : BitVec 32) : Fin 2 → Nat :=
  let c0_i32_143 : BitVec 32 := 0#32
  ![v136.toNat, 0]

def k0_chk1050 (i : grid0.Coords) (v136 : BitVec 32) : Prop :=
  (∀ (k0_h4 : k0_cond4 i = 1#1), ∀ a, (k0_off1058 v136) a + S1x1024.size a ≤ S40960x1024.size a)
theorem k0_off1058_inb : ∀ (i : grid0.Coords) (v136 : BitVec 32) (k0_hw1050 : k0_chk1050 i v136), ∀ (k0_h4 : k0_cond4 i = 1#1), ∀ a, (k0_off1058 v136) a + S1x1024.size a ≤ S40960x1024.size a := fun i v136 k0_hw1050 k0_h4 => k0_hw1050 k0_h4

def k0_off1059 (v141 : BitVec 32) : Fin 2 → Nat :=
  let c0_i32_148 : BitVec 32 := 0#32
  ![v141.toNat, 0]

def k0_chk1051 (i : grid0.Coords) (v141 : BitVec 32) : Prop :=
  (∀ (k0_h4 : k0_cond4 i = 1#1), ∀ a, (k0_off1059 v141) a + S1x1024.size a ≤ S40960x1024.size a)
theorem k0_off1059_inb : ∀ (i : grid0.Coords) (v141 : BitVec 32) (k0_hw1051 : k0_chk1051 i v141), ∀ (k0_h4 : k0_cond4 i = 1#1), ∀ a, (k0_off1059 v141) a + S1x1024.size a ≤ S40960x1024.size a := fun i v141 k0_hw1051 k0_h4 => k0_hw1051 k0_h4

def k0_off1060 (v146 : BitVec 32) : Fin 2 → Nat :=
  let c0_i32_154 : BitVec 32 := 0#32
  ![v146.toNat, 0]

def k0_chk1052 (i : grid0.Coords) (v146 : BitVec 32) : Prop :=
  (∀ (k0_h4 : k0_cond4 i = 1#1), ∀ a, (k0_off1060 v146) a + S1x1024.size a ≤ S40960x1024.size a)
theorem k0_off1060_inb : ∀ (i : grid0.Coords) (v146 : BitVec 32) (k0_hw1052 : k0_chk1052 i v146), ∀ (k0_h4 : k0_cond4 i = 1#1), ∀ a, (k0_off1060 v146) a + S1x1024.size a ≤ S40960x1024.size a := fun i v146 k0_hw1052 k0_h4 => k0_hw1052 k0_h4

def k0_off1061 (v151 : BitVec 32) : Fin 2 → Nat :=
  let c0_i32_159 : BitVec 32 := 0#32
  ![v151.toNat, 0]

def k0_chk1053 (i : grid0.Coords) (v151 : BitVec 32) : Prop :=
  (∀ (k0_h4 : k0_cond4 i = 1#1), ∀ a, (k0_off1061 v151) a + S1x1024.size a ≤ S40960x1024.size a)
theorem k0_off1061_inb : ∀ (i : grid0.Coords) (v151 : BitVec 32) (k0_hw1053 : k0_chk1053 i v151), ∀ (k0_h4 : k0_cond4 i = 1#1), ∀ a, (k0_off1061 v151) a + S1x1024.size a ≤ S40960x1024.size a := fun i v151 k0_hw1053 k0_h4 => k0_hw1053 k0_h4

def k0_off1062 (v156 : BitVec 32) : Fin 2 → Nat :=
  let c0_i32_165 : BitVec 32 := 0#32
  ![v156.toNat, 0]

def k0_chk1054 (i : grid0.Coords) (v156 : BitVec 32) : Prop :=
  (∀ (k0_h4 : k0_cond4 i = 1#1), ∀ a, (k0_off1062 v156) a + S1x1024.size a ≤ S40960x1024.size a)
theorem k0_off1062_inb : ∀ (i : grid0.Coords) (v156 : BitVec 32) (k0_hw1054 : k0_chk1054 i v156), ∀ (k0_h4 : k0_cond4 i = 1#1), ∀ a, (k0_off1062 v156) a + S1x1024.size a ≤ S40960x1024.size a := fun i v156 k0_hw1054 k0_h4 => k0_hw1054 k0_h4

def k0_off1063 (v161 : BitVec 32) : Fin 2 → Nat :=
  let c0_i32_170 : BitVec 32 := 0#32
  ![v161.toNat, 0]

def k0_chk1055 (i : grid0.Coords) (v161 : BitVec 32) : Prop :=
  (∀ (k0_h4 : k0_cond4 i = 1#1), ∀ a, (k0_off1063 v161) a + S1x1024.size a ≤ S40960x1024.size a)
theorem k0_off1063_inb : ∀ (i : grid0.Coords) (v161 : BitVec 32) (k0_hw1055 : k0_chk1055 i v161), ∀ (k0_h4 : k0_cond4 i = 1#1), ∀ a, (k0_off1063 v161) a + S1x1024.size a ≤ S40960x1024.size a := fun i v161 k0_hw1055 k0_h4 => k0_hw1055 k0_h4

def k0_off1064 (v166 : BitVec 32) : Fin 2 → Nat :=
  let c0_i32_176 : BitVec 32 := 0#32
  ![v166.toNat, 0]

def k0_chk1056 (i : grid0.Coords) (v166 : BitVec 32) : Prop :=
  (∀ (k0_h4 : k0_cond4 i = 1#1), ∀ a, (k0_off1064 v166) a + S1x1024.size a ≤ S40960x1024.size a)
theorem k0_off1064_inb : ∀ (i : grid0.Coords) (v166 : BitVec 32) (k0_hw1056 : k0_chk1056 i v166), ∀ (k0_h4 : k0_cond4 i = 1#1), ∀ a, (k0_off1064 v166) a + S1x1024.size a ≤ S40960x1024.size a := fun i v166 k0_hw1056 k0_h4 => k0_hw1056 k0_h4

def k0_off1065 (v171 : BitVec 32) : Fin 2 → Nat :=
  let c0_i32_181 : BitVec 32 := 0#32
  ![v171.toNat, 0]

def k0_chk1057 (i : grid0.Coords) (v171 : BitVec 32) : Prop :=
  (∀ (k0_h4 : k0_cond4 i = 1#1), ∀ a, (k0_off1065 v171) a + S1x1024.size a ≤ S40960x1024.size a)
theorem k0_off1065_inb : ∀ (i : grid0.Coords) (v171 : BitVec 32) (k0_hw1057 : k0_chk1057 i v171), ∀ (k0_h4 : k0_cond4 i = 1#1), ∀ a, (k0_off1065 v171) a + S1x1024.size a ≤ S40960x1024.size a := fun i v171 k0_hw1057 k0_h4 => k0_hw1057 k0_h4

def k0_off1066 (v176 : BitVec 32) : Fin 2 → Nat :=
  let c0_i32_187 : BitVec 32 := 0#32
  ![v176.toNat, 0]

def k0_chk1058 (i : grid0.Coords) (v176 : BitVec 32) : Prop :=
  (∀ (k0_h4 : k0_cond4 i = 1#1), ∀ a, (k0_off1066 v176) a + S1x1024.size a ≤ S40960x1024.size a)
theorem k0_off1066_inb : ∀ (i : grid0.Coords) (v176 : BitVec 32) (k0_hw1058 : k0_chk1058 i v176), ∀ (k0_h4 : k0_cond4 i = 1#1), ∀ a, (k0_off1066 v176) a + S1x1024.size a ≤ S40960x1024.size a := fun i v176 k0_hw1058 k0_h4 => k0_hw1058 k0_h4

def k0_off1067 (v181 : BitVec 32) : Fin 2 → Nat :=
  let c0_i32_192 : BitVec 32 := 0#32
  ![v181.toNat, 0]

def k0_chk1059 (i : grid0.Coords) (v181 : BitVec 32) : Prop :=
  (∀ (k0_h4 : k0_cond4 i = 1#1), ∀ a, (k0_off1067 v181) a + S1x1024.size a ≤ S40960x1024.size a)
theorem k0_off1067_inb : ∀ (i : grid0.Coords) (v181 : BitVec 32) (k0_hw1059 : k0_chk1059 i v181), ∀ (k0_h4 : k0_cond4 i = 1#1), ∀ a, (k0_off1067 v181) a + S1x1024.size a ≤ S40960x1024.size a := fun i v181 k0_hw1059 k0_h4 => k0_hw1059 k0_h4

def k0_off1068 (v186 : BitVec 32) : Fin 2 → Nat :=
  let c0_i32_198 : BitVec 32 := 0#32
  ![v186.toNat, 0]

def k0_chk1060 (i : grid0.Coords) (v186 : BitVec 32) : Prop :=
  (∀ (k0_h4 : k0_cond4 i = 1#1), ∀ a, (k0_off1068 v186) a + S1x1024.size a ≤ S40960x1024.size a)
theorem k0_off1068_inb : ∀ (i : grid0.Coords) (v186 : BitVec 32) (k0_hw1060 : k0_chk1060 i v186), ∀ (k0_h4 : k0_cond4 i = 1#1), ∀ a, (k0_off1068 v186) a + S1x1024.size a ≤ S40960x1024.size a := fun i v186 k0_hw1060 k0_h4 => k0_hw1060 k0_h4

def k0_off1069 (v191 : BitVec 32) : Fin 2 → Nat :=
  let c0_i32_203 : BitVec 32 := 0#32
  ![v191.toNat, 0]

def k0_chk1061 (i : grid0.Coords) (v191 : BitVec 32) : Prop :=
  (∀ (k0_h4 : k0_cond4 i = 1#1), ∀ a, (k0_off1069 v191) a + S1x1024.size a ≤ S40960x1024.size a)
theorem k0_off1069_inb : ∀ (i : grid0.Coords) (v191 : BitVec 32) (k0_hw1061 : k0_chk1061 i v191), ∀ (k0_h4 : k0_cond4 i = 1#1), ∀ a, (k0_off1069 v191) a + S1x1024.size a ≤ S40960x1024.size a := fun i v191 k0_hw1061 k0_h4 => k0_hw1061 k0_h4

def k0_off1070 (v196 : BitVec 32) : Fin 2 → Nat :=
  let c0_i32_209 : BitVec 32 := 0#32
  ![v196.toNat, 0]

def k0_chk1062 (i : grid0.Coords) (v196 : BitVec 32) : Prop :=
  (∀ (k0_h4 : k0_cond4 i = 1#1), ∀ a, (k0_off1070 v196) a + S1x1024.size a ≤ S40960x1024.size a)
theorem k0_off1070_inb : ∀ (i : grid0.Coords) (v196 : BitVec 32) (k0_hw1062 : k0_chk1062 i v196), ∀ (k0_h4 : k0_cond4 i = 1#1), ∀ a, (k0_off1070 v196) a + S1x1024.size a ≤ S40960x1024.size a := fun i v196 k0_hw1062 k0_h4 => k0_hw1062 k0_h4

def k0_off1071 (v201 : BitVec 32) : Fin 2 → Nat :=
  let c0_i32_214 : BitVec 32 := 0#32
  ![v201.toNat, 0]

def k0_chk1063 (i : grid0.Coords) (v201 : BitVec 32) : Prop :=
  (∀ (k0_h4 : k0_cond4 i = 1#1), ∀ a, (k0_off1071 v201) a + S1x1024.size a ≤ S40960x1024.size a)
theorem k0_off1071_inb : ∀ (i : grid0.Coords) (v201 : BitVec 32) (k0_hw1063 : k0_chk1063 i v201), ∀ (k0_h4 : k0_cond4 i = 1#1), ∀ a, (k0_off1071 v201) a + S1x1024.size a ≤ S40960x1024.size a := fun i v201 k0_hw1063 k0_h4 => k0_hw1063 k0_h4

def k0_off1072 (v206 : BitVec 32) : Fin 2 → Nat :=
  let c0_i32_220 : BitVec 32 := 0#32
  ![v206.toNat, 0]

def k0_chk1064 (i : grid0.Coords) (v206 : BitVec 32) : Prop :=
  (∀ (k0_h4 : k0_cond4 i = 1#1), ∀ a, (k0_off1072 v206) a + S1x1024.size a ≤ S40960x1024.size a)
theorem k0_off1072_inb : ∀ (i : grid0.Coords) (v206 : BitVec 32) (k0_hw1064 : k0_chk1064 i v206), ∀ (k0_h4 : k0_cond4 i = 1#1), ∀ a, (k0_off1072 v206) a + S1x1024.size a ≤ S40960x1024.size a := fun i v206 k0_hw1064 k0_h4 => k0_hw1064 k0_h4

def k0_off1073 (v211 : BitVec 32) : Fin 2 → Nat :=
  let c0_i32_225 : BitVec 32 := 0#32
  ![v211.toNat, 0]

def k0_chk1065 (i : grid0.Coords) (v211 : BitVec 32) : Prop :=
  (∀ (k0_h4 : k0_cond4 i = 1#1), ∀ a, (k0_off1073 v211) a + S1x1024.size a ≤ S40960x1024.size a)
theorem k0_off1073_inb : ∀ (i : grid0.Coords) (v211 : BitVec 32) (k0_hw1065 : k0_chk1065 i v211), ∀ (k0_h4 : k0_cond4 i = 1#1), ∀ a, (k0_off1073 v211) a + S1x1024.size a ≤ S40960x1024.size a := fun i v211 k0_hw1065 k0_h4 => k0_hw1065 k0_h4

def k0_off1074 (v216 : BitVec 32) : Fin 2 → Nat :=
  let c0_i32_231 : BitVec 32 := 0#32
  ![v216.toNat, 0]

def k0_chk1066 (i : grid0.Coords) (v216 : BitVec 32) : Prop :=
  (∀ (k0_h4 : k0_cond4 i = 1#1), ∀ a, (k0_off1074 v216) a + S1x1024.size a ≤ S40960x1024.size a)
theorem k0_off1074_inb : ∀ (i : grid0.Coords) (v216 : BitVec 32) (k0_hw1066 : k0_chk1066 i v216), ∀ (k0_h4 : k0_cond4 i = 1#1), ∀ a, (k0_off1074 v216) a + S1x1024.size a ≤ S40960x1024.size a := fun i v216 k0_hw1066 k0_h4 => k0_hw1066 k0_h4

def k0_off1075 (v221 : BitVec 32) : Fin 2 → Nat :=
  let c0_i32_236 : BitVec 32 := 0#32
  ![v221.toNat, 0]

def k0_chk1067 (i : grid0.Coords) (v221 : BitVec 32) : Prop :=
  (∀ (k0_h4 : k0_cond4 i = 1#1), ∀ a, (k0_off1075 v221) a + S1x1024.size a ≤ S40960x1024.size a)
theorem k0_off1075_inb : ∀ (i : grid0.Coords) (v221 : BitVec 32) (k0_hw1067 : k0_chk1067 i v221), ∀ (k0_h4 : k0_cond4 i = 1#1), ∀ a, (k0_off1075 v221) a + S1x1024.size a ≤ S40960x1024.size a := fun i v221 k0_hw1067 k0_h4 => k0_hw1067 k0_h4

def k0_off1076 (v226 : BitVec 32) : Fin 2 → Nat :=
  let c0_i32_242 : BitVec 32 := 0#32
  ![v226.toNat, 0]

def k0_chk1068 (i : grid0.Coords) (v226 : BitVec 32) : Prop :=
  (∀ (k0_h4 : k0_cond4 i = 1#1), ∀ a, (k0_off1076 v226) a + S1x1024.size a ≤ S40960x1024.size a)
theorem k0_off1076_inb : ∀ (i : grid0.Coords) (v226 : BitVec 32) (k0_hw1068 : k0_chk1068 i v226), ∀ (k0_h4 : k0_cond4 i = 1#1), ∀ a, (k0_off1076 v226) a + S1x1024.size a ≤ S40960x1024.size a := fun i v226 k0_hw1068 k0_h4 => k0_hw1068 k0_h4

def k0_off1077 (v231 : BitVec 32) : Fin 2 → Nat :=
  let c0_i32_247 : BitVec 32 := 0#32
  ![v231.toNat, 0]

def k0_chk1069 (i : grid0.Coords) (v231 : BitVec 32) : Prop :=
  (∀ (k0_h4 : k0_cond4 i = 1#1), ∀ a, (k0_off1077 v231) a + S1x1024.size a ≤ S40960x1024.size a)
theorem k0_off1077_inb : ∀ (i : grid0.Coords) (v231 : BitVec 32) (k0_hw1069 : k0_chk1069 i v231), ∀ (k0_h4 : k0_cond4 i = 1#1), ∀ a, (k0_off1077 v231) a + S1x1024.size a ≤ S40960x1024.size a := fun i v231 k0_hw1069 k0_h4 => k0_hw1069 k0_h4

def k0_off1078 (v236 : BitVec 32) : Fin 2 → Nat :=
  let c0_i32_253 : BitVec 32 := 0#32
  ![v236.toNat, 0]

def k0_chk1070 (i : grid0.Coords) (v236 : BitVec 32) : Prop :=
  (∀ (k0_h4 : k0_cond4 i = 1#1), ∀ a, (k0_off1078 v236) a + S1x1024.size a ≤ S40960x1024.size a)
theorem k0_off1078_inb : ∀ (i : grid0.Coords) (v236 : BitVec 32) (k0_hw1070 : k0_chk1070 i v236), ∀ (k0_h4 : k0_cond4 i = 1#1), ∀ a, (k0_off1078 v236) a + S1x1024.size a ≤ S40960x1024.size a := fun i v236 k0_hw1070 k0_h4 => k0_hw1070 k0_h4

def k0_off1079 (v241 : BitVec 32) : Fin 2 → Nat :=
  let c0_i32_258 : BitVec 32 := 0#32
  ![v241.toNat, 0]

def k0_chk1071 (i : grid0.Coords) (v241 : BitVec 32) : Prop :=
  (∀ (k0_h4 : k0_cond4 i = 1#1), ∀ a, (k0_off1079 v241) a + S1x1024.size a ≤ S40960x1024.size a)
theorem k0_off1079_inb : ∀ (i : grid0.Coords) (v241 : BitVec 32) (k0_hw1071 : k0_chk1071 i v241), ∀ (k0_h4 : k0_cond4 i = 1#1), ∀ a, (k0_off1079 v241) a + S1x1024.size a ≤ S40960x1024.size a := fun i v241 k0_hw1071 k0_h4 => k0_hw1071 k0_h4

def k0_off1080 (v246 : BitVec 32) : Fin 2 → Nat :=
  let c0_i32_264 : BitVec 32 := 0#32
  ![v246.toNat, 0]

def k0_chk1072 (i : grid0.Coords) (v246 : BitVec 32) : Prop :=
  (∀ (k0_h4 : k0_cond4 i = 1#1), ∀ a, (k0_off1080 v246) a + S1x1024.size a ≤ S40960x1024.size a)
theorem k0_off1080_inb : ∀ (i : grid0.Coords) (v246 : BitVec 32) (k0_hw1072 : k0_chk1072 i v246), ∀ (k0_h4 : k0_cond4 i = 1#1), ∀ a, (k0_off1080 v246) a + S1x1024.size a ≤ S40960x1024.size a := fun i v246 k0_hw1072 k0_h4 => k0_hw1072 k0_h4

def k0_off1081 (v251 : BitVec 32) : Fin 2 → Nat :=
  let c0_i32_269 : BitVec 32 := 0#32
  ![v251.toNat, 0]

def k0_chk1073 (i : grid0.Coords) (v251 : BitVec 32) : Prop :=
  (∀ (k0_h4 : k0_cond4 i = 1#1), ∀ a, (k0_off1081 v251) a + S1x1024.size a ≤ S40960x1024.size a)
theorem k0_off1081_inb : ∀ (i : grid0.Coords) (v251 : BitVec 32) (k0_hw1073 : k0_chk1073 i v251), ∀ (k0_h4 : k0_cond4 i = 1#1), ∀ a, (k0_off1081 v251) a + S1x1024.size a ≤ S40960x1024.size a := fun i v251 k0_hw1073 k0_h4 => k0_hw1073 k0_h4

def k0_off1082 (v256 : BitVec 32) : Fin 2 → Nat :=
  let c0_i32_275 : BitVec 32 := 0#32
  ![v256.toNat, 0]

def k0_chk1074 (i : grid0.Coords) (v256 : BitVec 32) : Prop :=
  (∀ (k0_h4 : k0_cond4 i = 1#1), ∀ a, (k0_off1082 v256) a + S1x1024.size a ≤ S40960x1024.size a)
theorem k0_off1082_inb : ∀ (i : grid0.Coords) (v256 : BitVec 32) (k0_hw1074 : k0_chk1074 i v256), ∀ (k0_h4 : k0_cond4 i = 1#1), ∀ a, (k0_off1082 v256) a + S1x1024.size a ≤ S40960x1024.size a := fun i v256 k0_hw1074 k0_h4 => k0_hw1074 k0_h4

def k0_off1083 (v261 : BitVec 32) : Fin 2 → Nat :=
  let c0_i32_280 : BitVec 32 := 0#32
  ![v261.toNat, 0]

def k0_chk1075 (i : grid0.Coords) (v261 : BitVec 32) : Prop :=
  (∀ (k0_h4 : k0_cond4 i = 1#1), ∀ a, (k0_off1083 v261) a + S1x1024.size a ≤ S40960x1024.size a)
theorem k0_off1083_inb : ∀ (i : grid0.Coords) (v261 : BitVec 32) (k0_hw1075 : k0_chk1075 i v261), ∀ (k0_h4 : k0_cond4 i = 1#1), ∀ a, (k0_off1083 v261) a + S1x1024.size a ≤ S40960x1024.size a := fun i v261 k0_hw1075 k0_h4 => k0_hw1075 k0_h4

def k0_off1084 (v266 : BitVec 32) : Fin 2 → Nat :=
  let c0_i32_286 : BitVec 32 := 0#32
  ![v266.toNat, 0]

def k0_chk1076 (i : grid0.Coords) (v266 : BitVec 32) : Prop :=
  (∀ (k0_h4 : k0_cond4 i = 1#1), ∀ a, (k0_off1084 v266) a + S1x1024.size a ≤ S40960x1024.size a)
theorem k0_off1084_inb : ∀ (i : grid0.Coords) (v266 : BitVec 32) (k0_hw1076 : k0_chk1076 i v266), ∀ (k0_h4 : k0_cond4 i = 1#1), ∀ a, (k0_off1084 v266) a + S1x1024.size a ≤ S40960x1024.size a := fun i v266 k0_hw1076 k0_h4 => k0_hw1076 k0_h4

def k0_off1085 (v271 : BitVec 32) : Fin 2 → Nat :=
  let c0_i32_291 : BitVec 32 := 0#32
  ![v271.toNat, 0]

def k0_chk1077 (i : grid0.Coords) (v271 : BitVec 32) : Prop :=
  (∀ (k0_h4 : k0_cond4 i = 1#1), ∀ a, (k0_off1085 v271) a + S1x1024.size a ≤ S40960x1024.size a)
theorem k0_off1085_inb : ∀ (i : grid0.Coords) (v271 : BitVec 32) (k0_hw1077 : k0_chk1077 i v271), ∀ (k0_h4 : k0_cond4 i = 1#1), ∀ a, (k0_off1085 v271) a + S1x1024.size a ≤ S40960x1024.size a := fun i v271 k0_hw1077 k0_h4 => k0_hw1077 k0_h4

def k0_off1086 (v276 : BitVec 32) : Fin 2 → Nat :=
  let c0_i32_297 : BitVec 32 := 0#32
  ![v276.toNat, 0]

def k0_chk1078 (i : grid0.Coords) (v276 : BitVec 32) : Prop :=
  (∀ (k0_h4 : k0_cond4 i = 1#1), ∀ a, (k0_off1086 v276) a + S1x1024.size a ≤ S40960x1024.size a)
theorem k0_off1086_inb : ∀ (i : grid0.Coords) (v276 : BitVec 32) (k0_hw1078 : k0_chk1078 i v276), ∀ (k0_h4 : k0_cond4 i = 1#1), ∀ a, (k0_off1086 v276) a + S1x1024.size a ≤ S40960x1024.size a := fun i v276 k0_hw1078 k0_h4 => k0_hw1078 k0_h4

def k0_off1087 (v281 : BitVec 32) : Fin 2 → Nat :=
  let c0_i32_302 : BitVec 32 := 0#32
  ![v281.toNat, 0]

def k0_chk1079 (i : grid0.Coords) (v281 : BitVec 32) : Prop :=
  (∀ (k0_h4 : k0_cond4 i = 1#1), ∀ a, (k0_off1087 v281) a + S1x1024.size a ≤ S40960x1024.size a)
theorem k0_off1087_inb : ∀ (i : grid0.Coords) (v281 : BitVec 32) (k0_hw1079 : k0_chk1079 i v281), ∀ (k0_h4 : k0_cond4 i = 1#1), ∀ a, (k0_off1087 v281) a + S1x1024.size a ≤ S40960x1024.size a := fun i v281 k0_hw1079 k0_h4 => k0_hw1079 k0_h4

def k0_off1088 (v286 : BitVec 32) : Fin 2 → Nat :=
  let c0_i32_308 : BitVec 32 := 0#32
  ![v286.toNat, 0]

def k0_chk1080 (i : grid0.Coords) (v286 : BitVec 32) : Prop :=
  (∀ (k0_h4 : k0_cond4 i = 1#1), ∀ a, (k0_off1088 v286) a + S1x1024.size a ≤ S40960x1024.size a)
theorem k0_off1088_inb : ∀ (i : grid0.Coords) (v286 : BitVec 32) (k0_hw1080 : k0_chk1080 i v286), ∀ (k0_h4 : k0_cond4 i = 1#1), ∀ a, (k0_off1088 v286) a + S1x1024.size a ≤ S40960x1024.size a := fun i v286 k0_hw1080 k0_h4 => k0_hw1080 k0_h4

def k0_off1089 (v291 : BitVec 32) : Fin 2 → Nat :=
  let c0_i32_313 : BitVec 32 := 0#32
  ![v291.toNat, 0]

def k0_chk1081 (i : grid0.Coords) (v291 : BitVec 32) : Prop :=
  (∀ (k0_h4 : k0_cond4 i = 1#1), ∀ a, (k0_off1089 v291) a + S1x1024.size a ≤ S40960x1024.size a)
theorem k0_off1089_inb : ∀ (i : grid0.Coords) (v291 : BitVec 32) (k0_hw1081 : k0_chk1081 i v291), ∀ (k0_h4 : k0_cond4 i = 1#1), ∀ a, (k0_off1089 v291) a + S1x1024.size a ≤ S40960x1024.size a := fun i v291 k0_hw1081 k0_h4 => k0_hw1081 k0_h4

def k0_off1090 (v296 : BitVec 32) : Fin 2 → Nat :=
  let c0_i32_319 : BitVec 32 := 0#32
  ![v296.toNat, 0]

def k0_chk1082 (i : grid0.Coords) (v296 : BitVec 32) : Prop :=
  (∀ (k0_h4 : k0_cond4 i = 1#1), ∀ a, (k0_off1090 v296) a + S1x1024.size a ≤ S40960x1024.size a)
theorem k0_off1090_inb : ∀ (i : grid0.Coords) (v296 : BitVec 32) (k0_hw1082 : k0_chk1082 i v296), ∀ (k0_h4 : k0_cond4 i = 1#1), ∀ a, (k0_off1090 v296) a + S1x1024.size a ≤ S40960x1024.size a := fun i v296 k0_hw1082 k0_h4 => k0_hw1082 k0_h4

def k0_off1091 (v301 : BitVec 32) : Fin 2 → Nat :=
  let c0_i32_324 : BitVec 32 := 0#32
  ![v301.toNat, 0]

def k0_chk1083 (i : grid0.Coords) (v301 : BitVec 32) : Prop :=
  (∀ (k0_h4 : k0_cond4 i = 1#1), ∀ a, (k0_off1091 v301) a + S1x1024.size a ≤ S40960x1024.size a)
theorem k0_off1091_inb : ∀ (i : grid0.Coords) (v301 : BitVec 32) (k0_hw1083 : k0_chk1083 i v301), ∀ (k0_h4 : k0_cond4 i = 1#1), ∀ a, (k0_off1091 v301) a + S1x1024.size a ≤ S40960x1024.size a := fun i v301 k0_hw1083 k0_h4 => k0_hw1083 k0_h4

def k0_off1092 (v306 : BitVec 32) : Fin 2 → Nat :=
  let c0_i32_330 : BitVec 32 := 0#32
  ![v306.toNat, 0]

def k0_chk1084 (i : grid0.Coords) (v306 : BitVec 32) : Prop :=
  (∀ (k0_h4 : k0_cond4 i = 1#1), ∀ a, (k0_off1092 v306) a + S1x1024.size a ≤ S40960x1024.size a)
theorem k0_off1092_inb : ∀ (i : grid0.Coords) (v306 : BitVec 32) (k0_hw1084 : k0_chk1084 i v306), ∀ (k0_h4 : k0_cond4 i = 1#1), ∀ a, (k0_off1092 v306) a + S1x1024.size a ≤ S40960x1024.size a := fun i v306 k0_hw1084 k0_h4 => k0_hw1084 k0_h4

def k0_off1093 (v311 : BitVec 32) : Fin 2 → Nat :=
  let c0_i32_335 : BitVec 32 := 0#32
  ![v311.toNat, 0]

def k0_chk1085 (i : grid0.Coords) (v311 : BitVec 32) : Prop :=
  (∀ (k0_h4 : k0_cond4 i = 1#1), ∀ a, (k0_off1093 v311) a + S1x1024.size a ≤ S40960x1024.size a)
theorem k0_off1093_inb : ∀ (i : grid0.Coords) (v311 : BitVec 32) (k0_hw1085 : k0_chk1085 i v311), ∀ (k0_h4 : k0_cond4 i = 1#1), ∀ a, (k0_off1093 v311) a + S1x1024.size a ≤ S40960x1024.size a := fun i v311 k0_hw1085 k0_h4 => k0_hw1085 k0_h4

def k0_off1094 (v316 : BitVec 32) : Fin 2 → Nat :=
  let c0_i32_341 : BitVec 32 := 0#32
  ![v316.toNat, 0]

def k0_chk1086 (i : grid0.Coords) (v316 : BitVec 32) : Prop :=
  (∀ (k0_h4 : k0_cond4 i = 1#1), ∀ a, (k0_off1094 v316) a + S1x1024.size a ≤ S40960x1024.size a)
theorem k0_off1094_inb : ∀ (i : grid0.Coords) (v316 : BitVec 32) (k0_hw1086 : k0_chk1086 i v316), ∀ (k0_h4 : k0_cond4 i = 1#1), ∀ a, (k0_off1094 v316) a + S1x1024.size a ≤ S40960x1024.size a := fun i v316 k0_hw1086 k0_h4 => k0_hw1086 k0_h4

def k0_off1095 (v321 : BitVec 32) : Fin 2 → Nat :=
  let c0_i32_346 : BitVec 32 := 0#32
  ![v321.toNat, 0]

def k0_chk1087 (i : grid0.Coords) (v321 : BitVec 32) : Prop :=
  (∀ (k0_h4 : k0_cond4 i = 1#1), ∀ a, (k0_off1095 v321) a + S1x1024.size a ≤ S40960x1024.size a)
theorem k0_off1095_inb : ∀ (i : grid0.Coords) (v321 : BitVec 32) (k0_hw1087 : k0_chk1087 i v321), ∀ (k0_h4 : k0_cond4 i = 1#1), ∀ a, (k0_off1095 v321) a + S1x1024.size a ≤ S40960x1024.size a := fun i v321 k0_hw1087 k0_h4 => k0_hw1087 k0_h4

def k0_off1096 (v326 : BitVec 32) : Fin 2 → Nat :=
  let c0_i32_352 : BitVec 32 := 0#32
  ![v326.toNat, 0]

def k0_chk1088 (i : grid0.Coords) (v326 : BitVec 32) : Prop :=
  (∀ (k0_h4 : k0_cond4 i = 1#1), ∀ a, (k0_off1096 v326) a + S1x1024.size a ≤ S40960x1024.size a)
theorem k0_off1096_inb : ∀ (i : grid0.Coords) (v326 : BitVec 32) (k0_hw1088 : k0_chk1088 i v326), ∀ (k0_h4 : k0_cond4 i = 1#1), ∀ a, (k0_off1096 v326) a + S1x1024.size a ≤ S40960x1024.size a := fun i v326 k0_hw1088 k0_h4 => k0_hw1088 k0_h4

def k0_off1097 (v331 : BitVec 32) : Fin 2 → Nat :=
  let c0_i32_357 : BitVec 32 := 0#32
  ![v331.toNat, 0]

def k0_chk1089 (i : grid0.Coords) (v331 : BitVec 32) : Prop :=
  (∀ (k0_h4 : k0_cond4 i = 1#1), ∀ a, (k0_off1097 v331) a + S1x1024.size a ≤ S40960x1024.size a)
theorem k0_off1097_inb : ∀ (i : grid0.Coords) (v331 : BitVec 32) (k0_hw1089 : k0_chk1089 i v331), ∀ (k0_h4 : k0_cond4 i = 1#1), ∀ a, (k0_off1097 v331) a + S1x1024.size a ≤ S40960x1024.size a := fun i v331 k0_hw1089 k0_h4 => k0_hw1089 k0_h4

def k0_off1098 (v336 : BitVec 32) : Fin 2 → Nat :=
  let c0_i32_363 : BitVec 32 := 0#32
  ![v336.toNat, 0]

def k0_chk1090 (i : grid0.Coords) (v336 : BitVec 32) : Prop :=
  (∀ (k0_h4 : k0_cond4 i = 1#1), ∀ a, (k0_off1098 v336) a + S1x1024.size a ≤ S40960x1024.size a)
theorem k0_off1098_inb : ∀ (i : grid0.Coords) (v336 : BitVec 32) (k0_hw1090 : k0_chk1090 i v336), ∀ (k0_h4 : k0_cond4 i = 1#1), ∀ a, (k0_off1098 v336) a + S1x1024.size a ≤ S40960x1024.size a := fun i v336 k0_hw1090 k0_h4 => k0_hw1090 k0_h4

def k0_off1099 (v341 : BitVec 32) : Fin 2 → Nat :=
  let c0_i32_368 : BitVec 32 := 0#32
  ![v341.toNat, 0]

def k0_chk1091 (i : grid0.Coords) (v341 : BitVec 32) : Prop :=
  (∀ (k0_h4 : k0_cond4 i = 1#1), ∀ a, (k0_off1099 v341) a + S1x1024.size a ≤ S40960x1024.size a)
theorem k0_off1099_inb : ∀ (i : grid0.Coords) (v341 : BitVec 32) (k0_hw1091 : k0_chk1091 i v341), ∀ (k0_h4 : k0_cond4 i = 1#1), ∀ a, (k0_off1099 v341) a + S1x1024.size a ≤ S40960x1024.size a := fun i v341 k0_hw1091 k0_h4 => k0_hw1091 k0_h4

def k0_off1100 (v346 : BitVec 32) : Fin 2 → Nat :=
  let c0_i32_374 : BitVec 32 := 0#32
  ![v346.toNat, 0]

def k0_chk1092 (i : grid0.Coords) (v346 : BitVec 32) : Prop :=
  (∀ (k0_h4 : k0_cond4 i = 1#1), ∀ a, (k0_off1100 v346) a + S1x1024.size a ≤ S40960x1024.size a)
theorem k0_off1100_inb : ∀ (i : grid0.Coords) (v346 : BitVec 32) (k0_hw1092 : k0_chk1092 i v346), ∀ (k0_h4 : k0_cond4 i = 1#1), ∀ a, (k0_off1100 v346) a + S1x1024.size a ≤ S40960x1024.size a := fun i v346 k0_hw1092 k0_h4 => k0_hw1092 k0_h4

def k0_off1101 (v351 : BitVec 32) : Fin 2 → Nat :=
  let c0_i32_379 : BitVec 32 := 0#32
  ![v351.toNat, 0]

def k0_chk1093 (i : grid0.Coords) (v351 : BitVec 32) : Prop :=
  (∀ (k0_h4 : k0_cond4 i = 1#1), ∀ a, (k0_off1101 v351) a + S1x1024.size a ≤ S40960x1024.size a)
theorem k0_off1101_inb : ∀ (i : grid0.Coords) (v351 : BitVec 32) (k0_hw1093 : k0_chk1093 i v351), ∀ (k0_h4 : k0_cond4 i = 1#1), ∀ a, (k0_off1101 v351) a + S1x1024.size a ≤ S40960x1024.size a := fun i v351 k0_hw1093 k0_h4 => k0_hw1093 k0_h4

def k0_off1102 (v356 : BitVec 32) : Fin 2 → Nat :=
  let c0_i32_385 : BitVec 32 := 0#32
  ![v356.toNat, 0]

def k0_chk1094 (i : grid0.Coords) (v356 : BitVec 32) : Prop :=
  (∀ (k0_h4 : k0_cond4 i = 1#1), ∀ a, (k0_off1102 v356) a + S1x1024.size a ≤ S40960x1024.size a)
theorem k0_off1102_inb : ∀ (i : grid0.Coords) (v356 : BitVec 32) (k0_hw1094 : k0_chk1094 i v356), ∀ (k0_h4 : k0_cond4 i = 1#1), ∀ a, (k0_off1102 v356) a + S1x1024.size a ≤ S40960x1024.size a := fun i v356 k0_hw1094 k0_h4 => k0_hw1094 k0_h4

def k0_off1103 (v361 : BitVec 32) : Fin 2 → Nat :=
  let c0_i32_390 : BitVec 32 := 0#32
  ![v361.toNat, 0]

def k0_chk1095 (i : grid0.Coords) (v361 : BitVec 32) : Prop :=
  (∀ (k0_h4 : k0_cond4 i = 1#1), ∀ a, (k0_off1103 v361) a + S1x1024.size a ≤ S40960x1024.size a)
theorem k0_off1103_inb : ∀ (i : grid0.Coords) (v361 : BitVec 32) (k0_hw1095 : k0_chk1095 i v361), ∀ (k0_h4 : k0_cond4 i = 1#1), ∀ a, (k0_off1103 v361) a + S1x1024.size a ≤ S40960x1024.size a := fun i v361 k0_hw1095 k0_h4 => k0_hw1095 k0_h4

def k0_off1104 (v366 : BitVec 32) : Fin 2 → Nat :=
  let c0_i32_396 : BitVec 32 := 0#32
  ![v366.toNat, 0]

def k0_chk1096 (i : grid0.Coords) (v366 : BitVec 32) : Prop :=
  (∀ (k0_h4 : k0_cond4 i = 1#1), ∀ a, (k0_off1104 v366) a + S1x1024.size a ≤ S40960x1024.size a)
theorem k0_off1104_inb : ∀ (i : grid0.Coords) (v366 : BitVec 32) (k0_hw1096 : k0_chk1096 i v366), ∀ (k0_h4 : k0_cond4 i = 1#1), ∀ a, (k0_off1104 v366) a + S1x1024.size a ≤ S40960x1024.size a := fun i v366 k0_hw1096 k0_h4 => k0_hw1096 k0_h4

def k0_off1105 (v371 : BitVec 32) : Fin 2 → Nat :=
  let c0_i32_401 : BitVec 32 := 0#32
  ![v371.toNat, 0]

def k0_chk1097 (i : grid0.Coords) (v371 : BitVec 32) : Prop :=
  (∀ (k0_h4 : k0_cond4 i = 1#1), ∀ a, (k0_off1105 v371) a + S1x1024.size a ≤ S40960x1024.size a)
theorem k0_off1105_inb : ∀ (i : grid0.Coords) (v371 : BitVec 32) (k0_hw1097 : k0_chk1097 i v371), ∀ (k0_h4 : k0_cond4 i = 1#1), ∀ a, (k0_off1105 v371) a + S1x1024.size a ≤ S40960x1024.size a := fun i v371 k0_hw1097 k0_h4 => k0_hw1097 k0_h4

def k0_off1106 (v376 : BitVec 32) : Fin 2 → Nat :=
  let c0_i32_407 : BitVec 32 := 0#32
  ![v376.toNat, 0]

def k0_chk1098 (i : grid0.Coords) (v376 : BitVec 32) : Prop :=
  (∀ (k0_h4 : k0_cond4 i = 1#1), ∀ a, (k0_off1106 v376) a + S1x1024.size a ≤ S40960x1024.size a)
theorem k0_off1106_inb : ∀ (i : grid0.Coords) (v376 : BitVec 32) (k0_hw1098 : k0_chk1098 i v376), ∀ (k0_h4 : k0_cond4 i = 1#1), ∀ a, (k0_off1106 v376) a + S1x1024.size a ≤ S40960x1024.size a := fun i v376 k0_hw1098 k0_h4 => k0_hw1098 k0_h4

def k0_off1107 (v381 : BitVec 32) : Fin 2 → Nat :=
  let c0_i32_412 : BitVec 32 := 0#32
  ![v381.toNat, 0]

def k0_chk1099 (i : grid0.Coords) (v381 : BitVec 32) : Prop :=
  (∀ (k0_h4 : k0_cond4 i = 1#1), ∀ a, (k0_off1107 v381) a + S1x1024.size a ≤ S40960x1024.size a)
theorem k0_off1107_inb : ∀ (i : grid0.Coords) (v381 : BitVec 32) (k0_hw1099 : k0_chk1099 i v381), ∀ (k0_h4 : k0_cond4 i = 1#1), ∀ a, (k0_off1107 v381) a + S1x1024.size a ≤ S40960x1024.size a := fun i v381 k0_hw1099 k0_h4 => k0_hw1099 k0_h4

def k0_off1108 (v386 : BitVec 32) : Fin 2 → Nat :=
  let c0_i32_418 : BitVec 32 := 0#32
  ![v386.toNat, 0]

def k0_chk1100 (i : grid0.Coords) (v386 : BitVec 32) : Prop :=
  (∀ (k0_h4 : k0_cond4 i = 1#1), ∀ a, (k0_off1108 v386) a + S1x1024.size a ≤ S40960x1024.size a)
theorem k0_off1108_inb : ∀ (i : grid0.Coords) (v386 : BitVec 32) (k0_hw1100 : k0_chk1100 i v386), ∀ (k0_h4 : k0_cond4 i = 1#1), ∀ a, (k0_off1108 v386) a + S1x1024.size a ≤ S40960x1024.size a := fun i v386 k0_hw1100 k0_h4 => k0_hw1100 k0_h4

def k0_off1109 (v391 : BitVec 32) : Fin 2 → Nat :=
  let c0_i32_423 : BitVec 32 := 0#32
  ![v391.toNat, 0]

def k0_chk1101 (i : grid0.Coords) (v391 : BitVec 32) : Prop :=
  (∀ (k0_h4 : k0_cond4 i = 1#1), ∀ a, (k0_off1109 v391) a + S1x1024.size a ≤ S40960x1024.size a)
theorem k0_off1109_inb : ∀ (i : grid0.Coords) (v391 : BitVec 32) (k0_hw1101 : k0_chk1101 i v391), ∀ (k0_h4 : k0_cond4 i = 1#1), ∀ a, (k0_off1109 v391) a + S1x1024.size a ≤ S40960x1024.size a := fun i v391 k0_hw1101 k0_h4 => k0_hw1101 k0_h4

def k0_off1110 (v396 : BitVec 32) : Fin 2 → Nat :=
  let c0_i32_429 : BitVec 32 := 0#32
  ![v396.toNat, 0]

def k0_chk1102 (i : grid0.Coords) (v396 : BitVec 32) : Prop :=
  (∀ (k0_h4 : k0_cond4 i = 1#1), ∀ a, (k0_off1110 v396) a + S1x1024.size a ≤ S40960x1024.size a)
theorem k0_off1110_inb : ∀ (i : grid0.Coords) (v396 : BitVec 32) (k0_hw1102 : k0_chk1102 i v396), ∀ (k0_h4 : k0_cond4 i = 1#1), ∀ a, (k0_off1110 v396) a + S1x1024.size a ≤ S40960x1024.size a := fun i v396 k0_hw1102 k0_h4 => k0_hw1102 k0_h4

def k0_off1111 (v401 : BitVec 32) : Fin 2 → Nat :=
  let c0_i32_434 : BitVec 32 := 0#32
  ![v401.toNat, 0]

def k0_chk1103 (i : grid0.Coords) (v401 : BitVec 32) : Prop :=
  (∀ (k0_h4 : k0_cond4 i = 1#1), ∀ a, (k0_off1111 v401) a + S1x1024.size a ≤ S40960x1024.size a)
theorem k0_off1111_inb : ∀ (i : grid0.Coords) (v401 : BitVec 32) (k0_hw1103 : k0_chk1103 i v401), ∀ (k0_h4 : k0_cond4 i = 1#1), ∀ a, (k0_off1111 v401) a + S1x1024.size a ≤ S40960x1024.size a := fun i v401 k0_hw1103 k0_h4 => k0_hw1103 k0_h4

def k0_off1112 (v406 : BitVec 32) : Fin 2 → Nat :=
  let c0_i32_440 : BitVec 32 := 0#32
  ![v406.toNat, 0]

def k0_chk1104 (i : grid0.Coords) (v406 : BitVec 32) : Prop :=
  (∀ (k0_h4 : k0_cond4 i = 1#1), ∀ a, (k0_off1112 v406) a + S1x1024.size a ≤ S40960x1024.size a)
theorem k0_off1112_inb : ∀ (i : grid0.Coords) (v406 : BitVec 32) (k0_hw1104 : k0_chk1104 i v406), ∀ (k0_h4 : k0_cond4 i = 1#1), ∀ a, (k0_off1112 v406) a + S1x1024.size a ≤ S40960x1024.size a := fun i v406 k0_hw1104 k0_h4 => k0_hw1104 k0_h4

def k0_off1113 (v411 : BitVec 32) : Fin 2 → Nat :=
  let c0_i32_445 : BitVec 32 := 0#32
  ![v411.toNat, 0]

def k0_chk1105 (i : grid0.Coords) (v411 : BitVec 32) : Prop :=
  (∀ (k0_h4 : k0_cond4 i = 1#1), ∀ a, (k0_off1113 v411) a + S1x1024.size a ≤ S40960x1024.size a)
theorem k0_off1113_inb : ∀ (i : grid0.Coords) (v411 : BitVec 32) (k0_hw1105 : k0_chk1105 i v411), ∀ (k0_h4 : k0_cond4 i = 1#1), ∀ a, (k0_off1113 v411) a + S1x1024.size a ≤ S40960x1024.size a := fun i v411 k0_hw1105 k0_h4 => k0_hw1105 k0_h4

def k0_off1114 (v416 : BitVec 32) : Fin 2 → Nat :=
  let c0_i32_451 : BitVec 32 := 0#32
  ![v416.toNat, 0]

def k0_chk1106 (i : grid0.Coords) (v416 : BitVec 32) : Prop :=
  (∀ (k0_h4 : k0_cond4 i = 1#1), ∀ a, (k0_off1114 v416) a + S1x1024.size a ≤ S40960x1024.size a)
theorem k0_off1114_inb : ∀ (i : grid0.Coords) (v416 : BitVec 32) (k0_hw1106 : k0_chk1106 i v416), ∀ (k0_h4 : k0_cond4 i = 1#1), ∀ a, (k0_off1114 v416) a + S1x1024.size a ≤ S40960x1024.size a := fun i v416 k0_hw1106 k0_h4 => k0_hw1106 k0_h4

def k0_off1115 (v421 : BitVec 32) : Fin 2 → Nat :=
  let c0_i32_456 : BitVec 32 := 0#32
  ![v421.toNat, 0]

def k0_chk1107 (i : grid0.Coords) (v421 : BitVec 32) : Prop :=
  (∀ (k0_h4 : k0_cond4 i = 1#1), ∀ a, (k0_off1115 v421) a + S1x1024.size a ≤ S40960x1024.size a)
theorem k0_off1115_inb : ∀ (i : grid0.Coords) (v421 : BitVec 32) (k0_hw1107 : k0_chk1107 i v421), ∀ (k0_h4 : k0_cond4 i = 1#1), ∀ a, (k0_off1115 v421) a + S1x1024.size a ≤ S40960x1024.size a := fun i v421 k0_hw1107 k0_h4 => k0_hw1107 k0_h4

def k0_off1116 (v426 : BitVec 32) : Fin 2 → Nat :=
  let c0_i32_462 : BitVec 32 := 0#32
  ![v426.toNat, 0]

def k0_chk1108 (i : grid0.Coords) (v426 : BitVec 32) : Prop :=
  (∀ (k0_h4 : k0_cond4 i = 1#1), ∀ a, (k0_off1116 v426) a + S1x1024.size a ≤ S40960x1024.size a)
theorem k0_off1116_inb : ∀ (i : grid0.Coords) (v426 : BitVec 32) (k0_hw1108 : k0_chk1108 i v426), ∀ (k0_h4 : k0_cond4 i = 1#1), ∀ a, (k0_off1116 v426) a + S1x1024.size a ≤ S40960x1024.size a := fun i v426 k0_hw1108 k0_h4 => k0_hw1108 k0_h4

def k0_off1117 (v431 : BitVec 32) : Fin 2 → Nat :=
  let c0_i32_467 : BitVec 32 := 0#32
  ![v431.toNat, 0]

def k0_chk1109 (i : grid0.Coords) (v431 : BitVec 32) : Prop :=
  (∀ (k0_h4 : k0_cond4 i = 1#1), ∀ a, (k0_off1117 v431) a + S1x1024.size a ≤ S40960x1024.size a)
theorem k0_off1117_inb : ∀ (i : grid0.Coords) (v431 : BitVec 32) (k0_hw1109 : k0_chk1109 i v431), ∀ (k0_h4 : k0_cond4 i = 1#1), ∀ a, (k0_off1117 v431) a + S1x1024.size a ≤ S40960x1024.size a := fun i v431 k0_hw1109 k0_h4 => k0_hw1109 k0_h4

def k0_off1118 (v436 : BitVec 32) : Fin 2 → Nat :=
  let c0_i32_473 : BitVec 32 := 0#32
  ![v436.toNat, 0]

def k0_chk1110 (i : grid0.Coords) (v436 : BitVec 32) : Prop :=
  (∀ (k0_h4 : k0_cond4 i = 1#1), ∀ a, (k0_off1118 v436) a + S1x1024.size a ≤ S40960x1024.size a)
theorem k0_off1118_inb : ∀ (i : grid0.Coords) (v436 : BitVec 32) (k0_hw1110 : k0_chk1110 i v436), ∀ (k0_h4 : k0_cond4 i = 1#1), ∀ a, (k0_off1118 v436) a + S1x1024.size a ≤ S40960x1024.size a := fun i v436 k0_hw1110 k0_h4 => k0_hw1110 k0_h4

def k0_off1119 (v441 : BitVec 32) : Fin 2 → Nat :=
  let c0_i32_478 : BitVec 32 := 0#32
  ![v441.toNat, 0]

def k0_chk1111 (i : grid0.Coords) (v441 : BitVec 32) : Prop :=
  (∀ (k0_h4 : k0_cond4 i = 1#1), ∀ a, (k0_off1119 v441) a + S1x1024.size a ≤ S40960x1024.size a)
theorem k0_off1119_inb : ∀ (i : grid0.Coords) (v441 : BitVec 32) (k0_hw1111 : k0_chk1111 i v441), ∀ (k0_h4 : k0_cond4 i = 1#1), ∀ a, (k0_off1119 v441) a + S1x1024.size a ≤ S40960x1024.size a := fun i v441 k0_hw1111 k0_h4 => k0_hw1111 k0_h4

def k0_off1120 (v446 : BitVec 32) : Fin 2 → Nat :=
  let c0_i32_484 : BitVec 32 := 0#32
  ![v446.toNat, 0]

def k0_chk1112 (i : grid0.Coords) (v446 : BitVec 32) : Prop :=
  (∀ (k0_h4 : k0_cond4 i = 1#1), ∀ a, (k0_off1120 v446) a + S1x1024.size a ≤ S40960x1024.size a)
theorem k0_off1120_inb : ∀ (i : grid0.Coords) (v446 : BitVec 32) (k0_hw1112 : k0_chk1112 i v446), ∀ (k0_h4 : k0_cond4 i = 1#1), ∀ a, (k0_off1120 v446) a + S1x1024.size a ≤ S40960x1024.size a := fun i v446 k0_hw1112 k0_h4 => k0_hw1112 k0_h4

def k0_off1121 (v451 : BitVec 32) : Fin 2 → Nat :=
  let c0_i32_489 : BitVec 32 := 0#32
  ![v451.toNat, 0]

def k0_chk1113 (i : grid0.Coords) (v451 : BitVec 32) : Prop :=
  (∀ (k0_h4 : k0_cond4 i = 1#1), ∀ a, (k0_off1121 v451) a + S1x1024.size a ≤ S40960x1024.size a)
theorem k0_off1121_inb : ∀ (i : grid0.Coords) (v451 : BitVec 32) (k0_hw1113 : k0_chk1113 i v451), ∀ (k0_h4 : k0_cond4 i = 1#1), ∀ a, (k0_off1121 v451) a + S1x1024.size a ≤ S40960x1024.size a := fun i v451 k0_hw1113 k0_h4 => k0_hw1113 k0_h4

def k0_off1122 (v456 : BitVec 32) : Fin 2 → Nat :=
  let c0_i32_495 : BitVec 32 := 0#32
  ![v456.toNat, 0]

def k0_chk1114 (i : grid0.Coords) (v456 : BitVec 32) : Prop :=
  (∀ (k0_h4 : k0_cond4 i = 1#1), ∀ a, (k0_off1122 v456) a + S1x1024.size a ≤ S40960x1024.size a)
theorem k0_off1122_inb : ∀ (i : grid0.Coords) (v456 : BitVec 32) (k0_hw1114 : k0_chk1114 i v456), ∀ (k0_h4 : k0_cond4 i = 1#1), ∀ a, (k0_off1122 v456) a + S1x1024.size a ≤ S40960x1024.size a := fun i v456 k0_hw1114 k0_h4 => k0_hw1114 k0_h4

def k0_off1123 (v461 : BitVec 32) : Fin 2 → Nat :=
  let c0_i32_500 : BitVec 32 := 0#32
  ![v461.toNat, 0]

def k0_chk1115 (i : grid0.Coords) (v461 : BitVec 32) : Prop :=
  (∀ (k0_h4 : k0_cond4 i = 1#1), ∀ a, (k0_off1123 v461) a + S1x1024.size a ≤ S40960x1024.size a)
theorem k0_off1123_inb : ∀ (i : grid0.Coords) (v461 : BitVec 32) (k0_hw1115 : k0_chk1115 i v461), ∀ (k0_h4 : k0_cond4 i = 1#1), ∀ a, (k0_off1123 v461) a + S1x1024.size a ≤ S40960x1024.size a := fun i v461 k0_hw1115 k0_h4 => k0_hw1115 k0_h4

def k0_off1124 (v466 : BitVec 32) : Fin 2 → Nat :=
  let c0_i32_506 : BitVec 32 := 0#32
  ![v466.toNat, 0]

def k0_chk1116 (i : grid0.Coords) (v466 : BitVec 32) : Prop :=
  (∀ (k0_h4 : k0_cond4 i = 1#1), ∀ a, (k0_off1124 v466) a + S1x1024.size a ≤ S40960x1024.size a)
theorem k0_off1124_inb : ∀ (i : grid0.Coords) (v466 : BitVec 32) (k0_hw1116 : k0_chk1116 i v466), ∀ (k0_h4 : k0_cond4 i = 1#1), ∀ a, (k0_off1124 v466) a + S1x1024.size a ≤ S40960x1024.size a := fun i v466 k0_hw1116 k0_h4 => k0_hw1116 k0_h4

def k0_off1125 (v471 : BitVec 32) : Fin 2 → Nat :=
  let c0_i32_511 : BitVec 32 := 0#32
  ![v471.toNat, 0]

def k0_chk1117 (i : grid0.Coords) (v471 : BitVec 32) : Prop :=
  (∀ (k0_h4 : k0_cond4 i = 1#1), ∀ a, (k0_off1125 v471) a + S1x1024.size a ≤ S40960x1024.size a)
theorem k0_off1125_inb : ∀ (i : grid0.Coords) (v471 : BitVec 32) (k0_hw1117 : k0_chk1117 i v471), ∀ (k0_h4 : k0_cond4 i = 1#1), ∀ a, (k0_off1125 v471) a + S1x1024.size a ≤ S40960x1024.size a := fun i v471 k0_hw1117 k0_h4 => k0_hw1117 k0_h4

def k0_off1126 (v476 : BitVec 32) : Fin 2 → Nat :=
  let c0_i32_517 : BitVec 32 := 0#32
  ![v476.toNat, 0]

def k0_chk1118 (i : grid0.Coords) (v476 : BitVec 32) : Prop :=
  (∀ (k0_h4 : k0_cond4 i = 1#1), ∀ a, (k0_off1126 v476) a + S1x1024.size a ≤ S40960x1024.size a)
theorem k0_off1126_inb : ∀ (i : grid0.Coords) (v476 : BitVec 32) (k0_hw1118 : k0_chk1118 i v476), ∀ (k0_h4 : k0_cond4 i = 1#1), ∀ a, (k0_off1126 v476) a + S1x1024.size a ≤ S40960x1024.size a := fun i v476 k0_hw1118 k0_h4 => k0_hw1118 k0_h4

def k0_off1127 (v481 : BitVec 32) : Fin 2 → Nat :=
  let c0_i32_522 : BitVec 32 := 0#32
  ![v481.toNat, 0]

def k0_chk1119 (i : grid0.Coords) (v481 : BitVec 32) : Prop :=
  (∀ (k0_h4 : k0_cond4 i = 1#1), ∀ a, (k0_off1127 v481) a + S1x1024.size a ≤ S40960x1024.size a)
theorem k0_off1127_inb : ∀ (i : grid0.Coords) (v481 : BitVec 32) (k0_hw1119 : k0_chk1119 i v481), ∀ (k0_h4 : k0_cond4 i = 1#1), ∀ a, (k0_off1127 v481) a + S1x1024.size a ≤ S40960x1024.size a := fun i v481 k0_hw1119 k0_h4 => k0_hw1119 k0_h4

def k0_off1128 (v486 : BitVec 32) : Fin 2 → Nat :=
  let c0_i32_528 : BitVec 32 := 0#32
  ![v486.toNat, 0]

def k0_chk1120 (i : grid0.Coords) (v486 : BitVec 32) : Prop :=
  (∀ (k0_h4 : k0_cond4 i = 1#1), ∀ a, (k0_off1128 v486) a + S1x1024.size a ≤ S40960x1024.size a)
theorem k0_off1128_inb : ∀ (i : grid0.Coords) (v486 : BitVec 32) (k0_hw1120 : k0_chk1120 i v486), ∀ (k0_h4 : k0_cond4 i = 1#1), ∀ a, (k0_off1128 v486) a + S1x1024.size a ≤ S40960x1024.size a := fun i v486 k0_hw1120 k0_h4 => k0_hw1120 k0_h4

def k0_off1129 (v491 : BitVec 32) : Fin 2 → Nat :=
  let c0_i32_533 : BitVec 32 := 0#32
  ![v491.toNat, 0]

def k0_chk1121 (i : grid0.Coords) (v491 : BitVec 32) : Prop :=
  (∀ (k0_h4 : k0_cond4 i = 1#1), ∀ a, (k0_off1129 v491) a + S1x1024.size a ≤ S40960x1024.size a)
theorem k0_off1129_inb : ∀ (i : grid0.Coords) (v491 : BitVec 32) (k0_hw1121 : k0_chk1121 i v491), ∀ (k0_h4 : k0_cond4 i = 1#1), ∀ a, (k0_off1129 v491) a + S1x1024.size a ≤ S40960x1024.size a := fun i v491 k0_hw1121 k0_h4 => k0_hw1121 k0_h4

def k0_off1130 (v496 : BitVec 32) : Fin 2 → Nat :=
  let c0_i32_539 : BitVec 32 := 0#32
  ![v496.toNat, 0]

def k0_chk1122 (i : grid0.Coords) (v496 : BitVec 32) : Prop :=
  (∀ (k0_h4 : k0_cond4 i = 1#1), ∀ a, (k0_off1130 v496) a + S1x1024.size a ≤ S40960x1024.size a)
theorem k0_off1130_inb : ∀ (i : grid0.Coords) (v496 : BitVec 32) (k0_hw1122 : k0_chk1122 i v496), ∀ (k0_h4 : k0_cond4 i = 1#1), ∀ a, (k0_off1130 v496) a + S1x1024.size a ≤ S40960x1024.size a := fun i v496 k0_hw1122 k0_h4 => k0_hw1122 k0_h4

def k0_off1131 (v501 : BitVec 32) : Fin 2 → Nat :=
  let c0_i32_544 : BitVec 32 := 0#32
  ![v501.toNat, 0]

def k0_chk1123 (i : grid0.Coords) (v501 : BitVec 32) : Prop :=
  (∀ (k0_h4 : k0_cond4 i = 1#1), ∀ a, (k0_off1131 v501) a + S1x1024.size a ≤ S40960x1024.size a)
theorem k0_off1131_inb : ∀ (i : grid0.Coords) (v501 : BitVec 32) (k0_hw1123 : k0_chk1123 i v501), ∀ (k0_h4 : k0_cond4 i = 1#1), ∀ a, (k0_off1131 v501) a + S1x1024.size a ≤ S40960x1024.size a := fun i v501 k0_hw1123 k0_h4 => k0_hw1123 k0_h4

def k0_off1132 (v506 : BitVec 32) : Fin 2 → Nat :=
  let c0_i32_550 : BitVec 32 := 0#32
  ![v506.toNat, 0]

def k0_chk1124 (i : grid0.Coords) (v506 : BitVec 32) : Prop :=
  (∀ (k0_h4 : k0_cond4 i = 1#1), ∀ a, (k0_off1132 v506) a + S1x1024.size a ≤ S40960x1024.size a)
theorem k0_off1132_inb : ∀ (i : grid0.Coords) (v506 : BitVec 32) (k0_hw1124 : k0_chk1124 i v506), ∀ (k0_h4 : k0_cond4 i = 1#1), ∀ a, (k0_off1132 v506) a + S1x1024.size a ≤ S40960x1024.size a := fun i v506 k0_hw1124 k0_h4 => k0_hw1124 k0_h4

def k0_off1133 (v511 : BitVec 32) : Fin 2 → Nat :=
  let c0_i32_555 : BitVec 32 := 0#32
  ![v511.toNat, 0]

def k0_chk1125 (i : grid0.Coords) (v511 : BitVec 32) : Prop :=
  (∀ (k0_h4 : k0_cond4 i = 1#1), ∀ a, (k0_off1133 v511) a + S1x1024.size a ≤ S40960x1024.size a)
theorem k0_off1133_inb : ∀ (i : grid0.Coords) (v511 : BitVec 32) (k0_hw1125 : k0_chk1125 i v511), ∀ (k0_h4 : k0_cond4 i = 1#1), ∀ a, (k0_off1133 v511) a + S1x1024.size a ≤ S40960x1024.size a := fun i v511 k0_hw1125 k0_h4 => k0_hw1125 k0_h4

def k0_off1134 (v516 : BitVec 32) : Fin 2 → Nat :=
  let c0_i32_561 : BitVec 32 := 0#32
  ![v516.toNat, 0]

def k0_chk1126 (i : grid0.Coords) (v516 : BitVec 32) : Prop :=
  (∀ (k0_h4 : k0_cond4 i = 1#1), ∀ a, (k0_off1134 v516) a + S1x1024.size a ≤ S40960x1024.size a)
theorem k0_off1134_inb : ∀ (i : grid0.Coords) (v516 : BitVec 32) (k0_hw1126 : k0_chk1126 i v516), ∀ (k0_h4 : k0_cond4 i = 1#1), ∀ a, (k0_off1134 v516) a + S1x1024.size a ≤ S40960x1024.size a := fun i v516 k0_hw1126 k0_h4 => k0_hw1126 k0_h4

def k0_off1135 (v521 : BitVec 32) : Fin 2 → Nat :=
  let c0_i32_566 : BitVec 32 := 0#32
  ![v521.toNat, 0]

def k0_chk1127 (i : grid0.Coords) (v521 : BitVec 32) : Prop :=
  (∀ (k0_h4 : k0_cond4 i = 1#1), ∀ a, (k0_off1135 v521) a + S1x1024.size a ≤ S40960x1024.size a)
theorem k0_off1135_inb : ∀ (i : grid0.Coords) (v521 : BitVec 32) (k0_hw1127 : k0_chk1127 i v521), ∀ (k0_h4 : k0_cond4 i = 1#1), ∀ a, (k0_off1135 v521) a + S1x1024.size a ≤ S40960x1024.size a := fun i v521 k0_hw1127 k0_h4 => k0_hw1127 k0_h4

def k0_off1136 (v526 : BitVec 32) : Fin 2 → Nat :=
  let c0_i32_572 : BitVec 32 := 0#32
  ![v526.toNat, 0]

def k0_chk1128 (i : grid0.Coords) (v526 : BitVec 32) : Prop :=
  (∀ (k0_h4 : k0_cond4 i = 1#1), ∀ a, (k0_off1136 v526) a + S1x1024.size a ≤ S40960x1024.size a)
theorem k0_off1136_inb : ∀ (i : grid0.Coords) (v526 : BitVec 32) (k0_hw1128 : k0_chk1128 i v526), ∀ (k0_h4 : k0_cond4 i = 1#1), ∀ a, (k0_off1136 v526) a + S1x1024.size a ≤ S40960x1024.size a := fun i v526 k0_hw1128 k0_h4 => k0_hw1128 k0_h4

def k0_off1137 (v531 : BitVec 32) : Fin 2 → Nat :=
  let c0_i32_577 : BitVec 32 := 0#32
  ![v531.toNat, 0]

def k0_chk1129 (i : grid0.Coords) (v531 : BitVec 32) : Prop :=
  (∀ (k0_h4 : k0_cond4 i = 1#1), ∀ a, (k0_off1137 v531) a + S1x1024.size a ≤ S40960x1024.size a)
theorem k0_off1137_inb : ∀ (i : grid0.Coords) (v531 : BitVec 32) (k0_hw1129 : k0_chk1129 i v531), ∀ (k0_h4 : k0_cond4 i = 1#1), ∀ a, (k0_off1137 v531) a + S1x1024.size a ≤ S40960x1024.size a := fun i v531 k0_hw1129 k0_h4 => k0_hw1129 k0_h4

def k0_off1138 (v536 : BitVec 32) : Fin 2 → Nat :=
  let c0_i32_583 : BitVec 32 := 0#32
  ![v536.toNat, 0]

def k0_chk1130 (i : grid0.Coords) (v536 : BitVec 32) : Prop :=
  (∀ (k0_h4 : k0_cond4 i = 1#1), ∀ a, (k0_off1138 v536) a + S1x1024.size a ≤ S40960x1024.size a)
theorem k0_off1138_inb : ∀ (i : grid0.Coords) (v536 : BitVec 32) (k0_hw1130 : k0_chk1130 i v536), ∀ (k0_h4 : k0_cond4 i = 1#1), ∀ a, (k0_off1138 v536) a + S1x1024.size a ≤ S40960x1024.size a := fun i v536 k0_hw1130 k0_h4 => k0_hw1130 k0_h4

def k0_off1139 (v541 : BitVec 32) : Fin 2 → Nat :=
  let c0_i32_588 : BitVec 32 := 0#32
  ![v541.toNat, 0]

def k0_chk1131 (i : grid0.Coords) (v541 : BitVec 32) : Prop :=
  (∀ (k0_h4 : k0_cond4 i = 1#1), ∀ a, (k0_off1139 v541) a + S1x1024.size a ≤ S40960x1024.size a)
theorem k0_off1139_inb : ∀ (i : grid0.Coords) (v541 : BitVec 32) (k0_hw1131 : k0_chk1131 i v541), ∀ (k0_h4 : k0_cond4 i = 1#1), ∀ a, (k0_off1139 v541) a + S1x1024.size a ≤ S40960x1024.size a := fun i v541 k0_hw1131 k0_h4 => k0_hw1131 k0_h4

def k0_off1140 (v546 : BitVec 32) : Fin 2 → Nat :=
  let c0_i32_594 : BitVec 32 := 0#32
  ![v546.toNat, 0]

def k0_chk1132 (i : grid0.Coords) (v546 : BitVec 32) : Prop :=
  (∀ (k0_h4 : k0_cond4 i = 1#1), ∀ a, (k0_off1140 v546) a + S1x1024.size a ≤ S40960x1024.size a)
theorem k0_off1140_inb : ∀ (i : grid0.Coords) (v546 : BitVec 32) (k0_hw1132 : k0_chk1132 i v546), ∀ (k0_h4 : k0_cond4 i = 1#1), ∀ a, (k0_off1140 v546) a + S1x1024.size a ≤ S40960x1024.size a := fun i v546 k0_hw1132 k0_h4 => k0_hw1132 k0_h4

def k0_off1141 (v551 : BitVec 32) : Fin 2 → Nat :=
  let c0_i32_599 : BitVec 32 := 0#32
  ![v551.toNat, 0]

def k0_chk1133 (i : grid0.Coords) (v551 : BitVec 32) : Prop :=
  (∀ (k0_h4 : k0_cond4 i = 1#1), ∀ a, (k0_off1141 v551) a + S1x1024.size a ≤ S40960x1024.size a)
theorem k0_off1141_inb : ∀ (i : grid0.Coords) (v551 : BitVec 32) (k0_hw1133 : k0_chk1133 i v551), ∀ (k0_h4 : k0_cond4 i = 1#1), ∀ a, (k0_off1141 v551) a + S1x1024.size a ≤ S40960x1024.size a := fun i v551 k0_hw1133 k0_h4 => k0_hw1133 k0_h4

def k0_off1142 (v556 : BitVec 32) : Fin 2 → Nat :=
  let c0_i32_605 : BitVec 32 := 0#32
  ![v556.toNat, 0]

def k0_chk1134 (i : grid0.Coords) (v556 : BitVec 32) : Prop :=
  (∀ (k0_h4 : k0_cond4 i = 1#1), ∀ a, (k0_off1142 v556) a + S1x1024.size a ≤ S40960x1024.size a)
theorem k0_off1142_inb : ∀ (i : grid0.Coords) (v556 : BitVec 32) (k0_hw1134 : k0_chk1134 i v556), ∀ (k0_h4 : k0_cond4 i = 1#1), ∀ a, (k0_off1142 v556) a + S1x1024.size a ≤ S40960x1024.size a := fun i v556 k0_hw1134 k0_h4 => k0_hw1134 k0_h4

def k0_off1143 (v561 : BitVec 32) : Fin 2 → Nat :=
  let c0_i32_610 : BitVec 32 := 0#32
  ![v561.toNat, 0]

def k0_chk1135 (i : grid0.Coords) (v561 : BitVec 32) : Prop :=
  (∀ (k0_h4 : k0_cond4 i = 1#1), ∀ a, (k0_off1143 v561) a + S1x1024.size a ≤ S40960x1024.size a)
theorem k0_off1143_inb : ∀ (i : grid0.Coords) (v561 : BitVec 32) (k0_hw1135 : k0_chk1135 i v561), ∀ (k0_h4 : k0_cond4 i = 1#1), ∀ a, (k0_off1143 v561) a + S1x1024.size a ≤ S40960x1024.size a := fun i v561 k0_hw1135 k0_h4 => k0_hw1135 k0_h4

def k0_off1144 (v566 : BitVec 32) : Fin 2 → Nat :=
  let c0_i32_616 : BitVec 32 := 0#32
  ![v566.toNat, 0]

def k0_chk1136 (i : grid0.Coords) (v566 : BitVec 32) : Prop :=
  (∀ (k0_h4 : k0_cond4 i = 1#1), ∀ a, (k0_off1144 v566) a + S1x1024.size a ≤ S40960x1024.size a)
theorem k0_off1144_inb : ∀ (i : grid0.Coords) (v566 : BitVec 32) (k0_hw1136 : k0_chk1136 i v566), ∀ (k0_h4 : k0_cond4 i = 1#1), ∀ a, (k0_off1144 v566) a + S1x1024.size a ≤ S40960x1024.size a := fun i v566 k0_hw1136 k0_h4 => k0_hw1136 k0_h4

def k0_off1145 (v571 : BitVec 32) : Fin 2 → Nat :=
  let c0_i32_621 : BitVec 32 := 0#32
  ![v571.toNat, 0]

def k0_chk1137 (i : grid0.Coords) (v571 : BitVec 32) : Prop :=
  (∀ (k0_h4 : k0_cond4 i = 1#1), ∀ a, (k0_off1145 v571) a + S1x1024.size a ≤ S40960x1024.size a)
theorem k0_off1145_inb : ∀ (i : grid0.Coords) (v571 : BitVec 32) (k0_hw1137 : k0_chk1137 i v571), ∀ (k0_h4 : k0_cond4 i = 1#1), ∀ a, (k0_off1145 v571) a + S1x1024.size a ≤ S40960x1024.size a := fun i v571 k0_hw1137 k0_h4 => k0_hw1137 k0_h4

def k0_off1146 (v576 : BitVec 32) : Fin 2 → Nat :=
  let c0_i32_627 : BitVec 32 := 0#32
  ![v576.toNat, 0]

def k0_chk1138 (i : grid0.Coords) (v576 : BitVec 32) : Prop :=
  (∀ (k0_h4 : k0_cond4 i = 1#1), ∀ a, (k0_off1146 v576) a + S1x1024.size a ≤ S40960x1024.size a)
theorem k0_off1146_inb : ∀ (i : grid0.Coords) (v576 : BitVec 32) (k0_hw1138 : k0_chk1138 i v576), ∀ (k0_h4 : k0_cond4 i = 1#1), ∀ a, (k0_off1146 v576) a + S1x1024.size a ≤ S40960x1024.size a := fun i v576 k0_hw1138 k0_h4 => k0_hw1138 k0_h4

def k0_off1147 (v581 : BitVec 32) : Fin 2 → Nat :=
  let c0_i32_632 : BitVec 32 := 0#32
  ![v581.toNat, 0]

def k0_chk1139 (i : grid0.Coords) (v581 : BitVec 32) : Prop :=
  (∀ (k0_h4 : k0_cond4 i = 1#1), ∀ a, (k0_off1147 v581) a + S1x1024.size a ≤ S40960x1024.size a)
theorem k0_off1147_inb : ∀ (i : grid0.Coords) (v581 : BitVec 32) (k0_hw1139 : k0_chk1139 i v581), ∀ (k0_h4 : k0_cond4 i = 1#1), ∀ a, (k0_off1147 v581) a + S1x1024.size a ≤ S40960x1024.size a := fun i v581 k0_hw1139 k0_h4 => k0_hw1139 k0_h4

def k0_off1148 (v586 : BitVec 32) : Fin 2 → Nat :=
  let c0_i32_638 : BitVec 32 := 0#32
  ![v586.toNat, 0]

def k0_chk1140 (i : grid0.Coords) (v586 : BitVec 32) : Prop :=
  (∀ (k0_h4 : k0_cond4 i = 1#1), ∀ a, (k0_off1148 v586) a + S1x1024.size a ≤ S40960x1024.size a)
theorem k0_off1148_inb : ∀ (i : grid0.Coords) (v586 : BitVec 32) (k0_hw1140 : k0_chk1140 i v586), ∀ (k0_h4 : k0_cond4 i = 1#1), ∀ a, (k0_off1148 v586) a + S1x1024.size a ≤ S40960x1024.size a := fun i v586 k0_hw1140 k0_h4 => k0_hw1140 k0_h4

def k0_off1149 (v591 : BitVec 32) : Fin 2 → Nat :=
  let c0_i32_643 : BitVec 32 := 0#32
  ![v591.toNat, 0]

def k0_chk1141 (i : grid0.Coords) (v591 : BitVec 32) : Prop :=
  (∀ (k0_h4 : k0_cond4 i = 1#1), ∀ a, (k0_off1149 v591) a + S1x1024.size a ≤ S40960x1024.size a)
theorem k0_off1149_inb : ∀ (i : grid0.Coords) (v591 : BitVec 32) (k0_hw1141 : k0_chk1141 i v591), ∀ (k0_h4 : k0_cond4 i = 1#1), ∀ a, (k0_off1149 v591) a + S1x1024.size a ≤ S40960x1024.size a := fun i v591 k0_hw1141 k0_h4 => k0_hw1141 k0_h4

def k0_off1150 (v596 : BitVec 32) : Fin 2 → Nat :=
  let c0_i32_649 : BitVec 32 := 0#32
  ![v596.toNat, 0]

def k0_chk1142 (i : grid0.Coords) (v596 : BitVec 32) : Prop :=
  (∀ (k0_h4 : k0_cond4 i = 1#1), ∀ a, (k0_off1150 v596) a + S1x1024.size a ≤ S40960x1024.size a)
theorem k0_off1150_inb : ∀ (i : grid0.Coords) (v596 : BitVec 32) (k0_hw1142 : k0_chk1142 i v596), ∀ (k0_h4 : k0_cond4 i = 1#1), ∀ a, (k0_off1150 v596) a + S1x1024.size a ≤ S40960x1024.size a := fun i v596 k0_hw1142 k0_h4 => k0_hw1142 k0_h4

def k0_off1151 (v601 : BitVec 32) : Fin 2 → Nat :=
  let c0_i32_654 : BitVec 32 := 0#32
  ![v601.toNat, 0]

def k0_chk1143 (i : grid0.Coords) (v601 : BitVec 32) : Prop :=
  (∀ (k0_h4 : k0_cond4 i = 1#1), ∀ a, (k0_off1151 v601) a + S1x1024.size a ≤ S40960x1024.size a)
theorem k0_off1151_inb : ∀ (i : grid0.Coords) (v601 : BitVec 32) (k0_hw1143 : k0_chk1143 i v601), ∀ (k0_h4 : k0_cond4 i = 1#1), ∀ a, (k0_off1151 v601) a + S1x1024.size a ≤ S40960x1024.size a := fun i v601 k0_hw1143 k0_h4 => k0_hw1143 k0_h4

def k0_off1152 (v606 : BitVec 32) : Fin 2 → Nat :=
  let c0_i32_660 : BitVec 32 := 0#32
  ![v606.toNat, 0]

def k0_chk1144 (i : grid0.Coords) (v606 : BitVec 32) : Prop :=
  (∀ (k0_h4 : k0_cond4 i = 1#1), ∀ a, (k0_off1152 v606) a + S1x1024.size a ≤ S40960x1024.size a)
theorem k0_off1152_inb : ∀ (i : grid0.Coords) (v606 : BitVec 32) (k0_hw1144 : k0_chk1144 i v606), ∀ (k0_h4 : k0_cond4 i = 1#1), ∀ a, (k0_off1152 v606) a + S1x1024.size a ≤ S40960x1024.size a := fun i v606 k0_hw1144 k0_h4 => k0_hw1144 k0_h4

def k0_off1153 (v611 : BitVec 32) : Fin 2 → Nat :=
  let c0_i32_665 : BitVec 32 := 0#32
  ![v611.toNat, 0]

def k0_chk1145 (i : grid0.Coords) (v611 : BitVec 32) : Prop :=
  (∀ (k0_h4 : k0_cond4 i = 1#1), ∀ a, (k0_off1153 v611) a + S1x1024.size a ≤ S40960x1024.size a)
theorem k0_off1153_inb : ∀ (i : grid0.Coords) (v611 : BitVec 32) (k0_hw1145 : k0_chk1145 i v611), ∀ (k0_h4 : k0_cond4 i = 1#1), ∀ a, (k0_off1153 v611) a + S1x1024.size a ≤ S40960x1024.size a := fun i v611 k0_hw1145 k0_h4 => k0_hw1145 k0_h4

def k0_off1154 (v616 : BitVec 32) : Fin 2 → Nat :=
  let c0_i32_671 : BitVec 32 := 0#32
  ![v616.toNat, 0]

def k0_chk1146 (i : grid0.Coords) (v616 : BitVec 32) : Prop :=
  (∀ (k0_h4 : k0_cond4 i = 1#1), ∀ a, (k0_off1154 v616) a + S1x1024.size a ≤ S40960x1024.size a)
theorem k0_off1154_inb : ∀ (i : grid0.Coords) (v616 : BitVec 32) (k0_hw1146 : k0_chk1146 i v616), ∀ (k0_h4 : k0_cond4 i = 1#1), ∀ a, (k0_off1154 v616) a + S1x1024.size a ≤ S40960x1024.size a := fun i v616 k0_hw1146 k0_h4 => k0_hw1146 k0_h4

def k0_off1155 (v621 : BitVec 32) : Fin 2 → Nat :=
  let c0_i32_676 : BitVec 32 := 0#32
  ![v621.toNat, 0]

def k0_chk1147 (i : grid0.Coords) (v621 : BitVec 32) : Prop :=
  (∀ (k0_h4 : k0_cond4 i = 1#1), ∀ a, (k0_off1155 v621) a + S1x1024.size a ≤ S40960x1024.size a)
theorem k0_off1155_inb : ∀ (i : grid0.Coords) (v621 : BitVec 32) (k0_hw1147 : k0_chk1147 i v621), ∀ (k0_h4 : k0_cond4 i = 1#1), ∀ a, (k0_off1155 v621) a + S1x1024.size a ≤ S40960x1024.size a := fun i v621 k0_hw1147 k0_h4 => k0_hw1147 k0_h4

def k0_off1156 (v626 : BitVec 32) : Fin 2 → Nat :=
  let c0_i32_682 : BitVec 32 := 0#32
  ![v626.toNat, 0]

def k0_chk1148 (i : grid0.Coords) (v626 : BitVec 32) : Prop :=
  (∀ (k0_h4 : k0_cond4 i = 1#1), ∀ a, (k0_off1156 v626) a + S1x1024.size a ≤ S40960x1024.size a)
theorem k0_off1156_inb : ∀ (i : grid0.Coords) (v626 : BitVec 32) (k0_hw1148 : k0_chk1148 i v626), ∀ (k0_h4 : k0_cond4 i = 1#1), ∀ a, (k0_off1156 v626) a + S1x1024.size a ≤ S40960x1024.size a := fun i v626 k0_hw1148 k0_h4 => k0_hw1148 k0_h4

def k0_off1157 (v631 : BitVec 32) : Fin 2 → Nat :=
  let c0_i32_687 : BitVec 32 := 0#32
  ![v631.toNat, 0]

def k0_chk1149 (i : grid0.Coords) (v631 : BitVec 32) : Prop :=
  (∀ (k0_h4 : k0_cond4 i = 1#1), ∀ a, (k0_off1157 v631) a + S1x1024.size a ≤ S40960x1024.size a)
theorem k0_off1157_inb : ∀ (i : grid0.Coords) (v631 : BitVec 32) (k0_hw1149 : k0_chk1149 i v631), ∀ (k0_h4 : k0_cond4 i = 1#1), ∀ a, (k0_off1157 v631) a + S1x1024.size a ≤ S40960x1024.size a := fun i v631 k0_hw1149 k0_h4 => k0_hw1149 k0_h4

def k0_off1158 (v636 : BitVec 32) : Fin 2 → Nat :=
  let c0_i32_693 : BitVec 32 := 0#32
  ![v636.toNat, 0]

def k0_chk1150 (i : grid0.Coords) (v636 : BitVec 32) : Prop :=
  (∀ (k0_h4 : k0_cond4 i = 1#1), ∀ a, (k0_off1158 v636) a + S1x1024.size a ≤ S40960x1024.size a)
theorem k0_off1158_inb : ∀ (i : grid0.Coords) (v636 : BitVec 32) (k0_hw1150 : k0_chk1150 i v636), ∀ (k0_h4 : k0_cond4 i = 1#1), ∀ a, (k0_off1158 v636) a + S1x1024.size a ≤ S40960x1024.size a := fun i v636 k0_hw1150 k0_h4 => k0_hw1150 k0_h4

def k0_off1159 (v641 : BitVec 32) : Fin 2 → Nat :=
  let c0_i32_698 : BitVec 32 := 0#32
  ![v641.toNat, 0]

def k0_chk1151 (i : grid0.Coords) (v641 : BitVec 32) : Prop :=
  (∀ (k0_h4 : k0_cond4 i = 1#1), ∀ a, (k0_off1159 v641) a + S1x1024.size a ≤ S40960x1024.size a)
theorem k0_off1159_inb : ∀ (i : grid0.Coords) (v641 : BitVec 32) (k0_hw1151 : k0_chk1151 i v641), ∀ (k0_h4 : k0_cond4 i = 1#1), ∀ a, (k0_off1159 v641) a + S1x1024.size a ≤ S40960x1024.size a := fun i v641 k0_hw1151 k0_h4 => k0_hw1151 k0_h4

def k0_off1160 (v646 : BitVec 32) : Fin 2 → Nat :=
  let c0_i32_704 : BitVec 32 := 0#32
  ![v646.toNat, 0]

def k0_chk1152 (i : grid0.Coords) (v646 : BitVec 32) : Prop :=
  (∀ (k0_h4 : k0_cond4 i = 1#1), ∀ a, (k0_off1160 v646) a + S1x1024.size a ≤ S40960x1024.size a)
theorem k0_off1160_inb : ∀ (i : grid0.Coords) (v646 : BitVec 32) (k0_hw1152 : k0_chk1152 i v646), ∀ (k0_h4 : k0_cond4 i = 1#1), ∀ a, (k0_off1160 v646) a + S1x1024.size a ≤ S40960x1024.size a := fun i v646 k0_hw1152 k0_h4 => k0_hw1152 k0_h4

def k0_off1161 (v651 : BitVec 32) : Fin 2 → Nat :=
  let c0_i32_709 : BitVec 32 := 0#32
  ![v651.toNat, 0]

def k0_chk1153 (i : grid0.Coords) (v651 : BitVec 32) : Prop :=
  (∀ (k0_h4 : k0_cond4 i = 1#1), ∀ a, (k0_off1161 v651) a + S1x1024.size a ≤ S40960x1024.size a)
theorem k0_off1161_inb : ∀ (i : grid0.Coords) (v651 : BitVec 32) (k0_hw1153 : k0_chk1153 i v651), ∀ (k0_h4 : k0_cond4 i = 1#1), ∀ a, (k0_off1161 v651) a + S1x1024.size a ≤ S40960x1024.size a := fun i v651 k0_hw1153 k0_h4 => k0_hw1153 k0_h4

def k0_off1162 (v656 : BitVec 32) : Fin 2 → Nat :=
  let c0_i32_715 : BitVec 32 := 0#32
  ![v656.toNat, 0]

def k0_chk1154 (i : grid0.Coords) (v656 : BitVec 32) : Prop :=
  (∀ (k0_h4 : k0_cond4 i = 1#1), ∀ a, (k0_off1162 v656) a + S1x1024.size a ≤ S40960x1024.size a)
theorem k0_off1162_inb : ∀ (i : grid0.Coords) (v656 : BitVec 32) (k0_hw1154 : k0_chk1154 i v656), ∀ (k0_h4 : k0_cond4 i = 1#1), ∀ a, (k0_off1162 v656) a + S1x1024.size a ≤ S40960x1024.size a := fun i v656 k0_hw1154 k0_h4 => k0_hw1154 k0_h4

def k0_off1163 (v661 : BitVec 32) : Fin 2 → Nat :=
  let c0_i32_720 : BitVec 32 := 0#32
  ![v661.toNat, 0]

def k0_chk1155 (i : grid0.Coords) (v661 : BitVec 32) : Prop :=
  (∀ (k0_h4 : k0_cond4 i = 1#1), ∀ a, (k0_off1163 v661) a + S1x1024.size a ≤ S40960x1024.size a)
theorem k0_off1163_inb : ∀ (i : grid0.Coords) (v661 : BitVec 32) (k0_hw1155 : k0_chk1155 i v661), ∀ (k0_h4 : k0_cond4 i = 1#1), ∀ a, (k0_off1163 v661) a + S1x1024.size a ≤ S40960x1024.size a := fun i v661 k0_hw1155 k0_h4 => k0_hw1155 k0_h4

def k0_off1164 (v666 : BitVec 32) : Fin 2 → Nat :=
  let c0_i32_726 : BitVec 32 := 0#32
  ![v666.toNat, 0]

def k0_chk1156 (i : grid0.Coords) (v666 : BitVec 32) : Prop :=
  (∀ (k0_h4 : k0_cond4 i = 1#1), ∀ a, (k0_off1164 v666) a + S1x1024.size a ≤ S40960x1024.size a)
theorem k0_off1164_inb : ∀ (i : grid0.Coords) (v666 : BitVec 32) (k0_hw1156 : k0_chk1156 i v666), ∀ (k0_h4 : k0_cond4 i = 1#1), ∀ a, (k0_off1164 v666) a + S1x1024.size a ≤ S40960x1024.size a := fun i v666 k0_hw1156 k0_h4 => k0_hw1156 k0_h4

def k0_off1165 (v671 : BitVec 32) : Fin 2 → Nat :=
  let c0_i32_731 : BitVec 32 := 0#32
  ![v671.toNat, 0]

def k0_chk1157 (i : grid0.Coords) (v671 : BitVec 32) : Prop :=
  (∀ (k0_h4 : k0_cond4 i = 1#1), ∀ a, (k0_off1165 v671) a + S1x1024.size a ≤ S40960x1024.size a)
theorem k0_off1165_inb : ∀ (i : grid0.Coords) (v671 : BitVec 32) (k0_hw1157 : k0_chk1157 i v671), ∀ (k0_h4 : k0_cond4 i = 1#1), ∀ a, (k0_off1165 v671) a + S1x1024.size a ≤ S40960x1024.size a := fun i v671 k0_hw1157 k0_h4 => k0_hw1157 k0_h4

def k0_off1166 (v676 : BitVec 32) : Fin 2 → Nat :=
  let c0_i32_737 : BitVec 32 := 0#32
  ![v676.toNat, 0]

def k0_chk1158 (i : grid0.Coords) (v676 : BitVec 32) : Prop :=
  (∀ (k0_h4 : k0_cond4 i = 1#1), ∀ a, (k0_off1166 v676) a + S1x1024.size a ≤ S40960x1024.size a)
theorem k0_off1166_inb : ∀ (i : grid0.Coords) (v676 : BitVec 32) (k0_hw1158 : k0_chk1158 i v676), ∀ (k0_h4 : k0_cond4 i = 1#1), ∀ a, (k0_off1166 v676) a + S1x1024.size a ≤ S40960x1024.size a := fun i v676 k0_hw1158 k0_h4 => k0_hw1158 k0_h4

def k0_off1167 (v681 : BitVec 32) : Fin 2 → Nat :=
  let c0_i32_742 : BitVec 32 := 0#32
  ![v681.toNat, 0]

def k0_chk1159 (i : grid0.Coords) (v681 : BitVec 32) : Prop :=
  (∀ (k0_h4 : k0_cond4 i = 1#1), ∀ a, (k0_off1167 v681) a + S1x1024.size a ≤ S40960x1024.size a)
theorem k0_off1167_inb : ∀ (i : grid0.Coords) (v681 : BitVec 32) (k0_hw1159 : k0_chk1159 i v681), ∀ (k0_h4 : k0_cond4 i = 1#1), ∀ a, (k0_off1167 v681) a + S1x1024.size a ≤ S40960x1024.size a := fun i v681 k0_hw1159 k0_h4 => k0_hw1159 k0_h4

def k0_off1168 (v686 : BitVec 32) : Fin 2 → Nat :=
  let c0_i32_748 : BitVec 32 := 0#32
  ![v686.toNat, 0]

def k0_chk1160 (i : grid0.Coords) (v686 : BitVec 32) : Prop :=
  (∀ (k0_h4 : k0_cond4 i = 1#1), ∀ a, (k0_off1168 v686) a + S1x1024.size a ≤ S40960x1024.size a)
theorem k0_off1168_inb : ∀ (i : grid0.Coords) (v686 : BitVec 32) (k0_hw1160 : k0_chk1160 i v686), ∀ (k0_h4 : k0_cond4 i = 1#1), ∀ a, (k0_off1168 v686) a + S1x1024.size a ≤ S40960x1024.size a := fun i v686 k0_hw1160 k0_h4 => k0_hw1160 k0_h4

def k0_off1169 (v691 : BitVec 32) : Fin 2 → Nat :=
  let c0_i32_753 : BitVec 32 := 0#32
  ![v691.toNat, 0]

def k0_chk1161 (i : grid0.Coords) (v691 : BitVec 32) : Prop :=
  (∀ (k0_h4 : k0_cond4 i = 1#1), ∀ a, (k0_off1169 v691) a + S1x1024.size a ≤ S40960x1024.size a)
theorem k0_off1169_inb : ∀ (i : grid0.Coords) (v691 : BitVec 32) (k0_hw1161 : k0_chk1161 i v691), ∀ (k0_h4 : k0_cond4 i = 1#1), ∀ a, (k0_off1169 v691) a + S1x1024.size a ≤ S40960x1024.size a := fun i v691 k0_hw1161 k0_h4 => k0_hw1161 k0_h4

def k0_off1170 (v696 : BitVec 32) : Fin 2 → Nat :=
  let c0_i32_759 : BitVec 32 := 0#32
  ![v696.toNat, 0]

def k0_chk1162 (i : grid0.Coords) (v696 : BitVec 32) : Prop :=
  (∀ (k0_h4 : k0_cond4 i = 1#1), ∀ a, (k0_off1170 v696) a + S1x1024.size a ≤ S40960x1024.size a)
theorem k0_off1170_inb : ∀ (i : grid0.Coords) (v696 : BitVec 32) (k0_hw1162 : k0_chk1162 i v696), ∀ (k0_h4 : k0_cond4 i = 1#1), ∀ a, (k0_off1170 v696) a + S1x1024.size a ≤ S40960x1024.size a := fun i v696 k0_hw1162 k0_h4 => k0_hw1162 k0_h4

def k0_off1171 (v701 : BitVec 32) : Fin 2 → Nat :=
  let c0_i32_764 : BitVec 32 := 0#32
  ![v701.toNat, 0]

def k0_chk1163 (i : grid0.Coords) (v701 : BitVec 32) : Prop :=
  (∀ (k0_h4 : k0_cond4 i = 1#1), ∀ a, (k0_off1171 v701) a + S1x1024.size a ≤ S40960x1024.size a)
theorem k0_off1171_inb : ∀ (i : grid0.Coords) (v701 : BitVec 32) (k0_hw1163 : k0_chk1163 i v701), ∀ (k0_h4 : k0_cond4 i = 1#1), ∀ a, (k0_off1171 v701) a + S1x1024.size a ≤ S40960x1024.size a := fun i v701 k0_hw1163 k0_h4 => k0_hw1163 k0_h4

def k0_off1172 (v706 : BitVec 32) : Fin 2 → Nat :=
  let c0_i32_770 : BitVec 32 := 0#32
  ![v706.toNat, 0]

def k0_chk1164 (i : grid0.Coords) (v706 : BitVec 32) : Prop :=
  (∀ (k0_h4 : k0_cond4 i = 1#1), ∀ a, (k0_off1172 v706) a + S1x1024.size a ≤ S40960x1024.size a)
theorem k0_off1172_inb : ∀ (i : grid0.Coords) (v706 : BitVec 32) (k0_hw1164 : k0_chk1164 i v706), ∀ (k0_h4 : k0_cond4 i = 1#1), ∀ a, (k0_off1172 v706) a + S1x1024.size a ≤ S40960x1024.size a := fun i v706 k0_hw1164 k0_h4 => k0_hw1164 k0_h4

def k0_off1173 (v711 : BitVec 32) : Fin 2 → Nat :=
  let c0_i32_775 : BitVec 32 := 0#32
  ![v711.toNat, 0]

def k0_chk1165 (i : grid0.Coords) (v711 : BitVec 32) : Prop :=
  (∀ (k0_h4 : k0_cond4 i = 1#1), ∀ a, (k0_off1173 v711) a + S1x1024.size a ≤ S40960x1024.size a)
theorem k0_off1173_inb : ∀ (i : grid0.Coords) (v711 : BitVec 32) (k0_hw1165 : k0_chk1165 i v711), ∀ (k0_h4 : k0_cond4 i = 1#1), ∀ a, (k0_off1173 v711) a + S1x1024.size a ≤ S40960x1024.size a := fun i v711 k0_hw1165 k0_h4 => k0_hw1165 k0_h4

def k0_off1174 (v716 : BitVec 32) : Fin 2 → Nat :=
  let c0_i32_781 : BitVec 32 := 0#32
  ![v716.toNat, 0]

def k0_chk1166 (i : grid0.Coords) (v716 : BitVec 32) : Prop :=
  (∀ (k0_h4 : k0_cond4 i = 1#1), ∀ a, (k0_off1174 v716) a + S1x1024.size a ≤ S40960x1024.size a)
theorem k0_off1174_inb : ∀ (i : grid0.Coords) (v716 : BitVec 32) (k0_hw1166 : k0_chk1166 i v716), ∀ (k0_h4 : k0_cond4 i = 1#1), ∀ a, (k0_off1174 v716) a + S1x1024.size a ≤ S40960x1024.size a := fun i v716 k0_hw1166 k0_h4 => k0_hw1166 k0_h4

def k0_off1175 (v721 : BitVec 32) : Fin 2 → Nat :=
  let c0_i32_786 : BitVec 32 := 0#32
  ![v721.toNat, 0]

def k0_chk1167 (i : grid0.Coords) (v721 : BitVec 32) : Prop :=
  (∀ (k0_h4 : k0_cond4 i = 1#1), ∀ a, (k0_off1175 v721) a + S1x1024.size a ≤ S40960x1024.size a)
theorem k0_off1175_inb : ∀ (i : grid0.Coords) (v721 : BitVec 32) (k0_hw1167 : k0_chk1167 i v721), ∀ (k0_h4 : k0_cond4 i = 1#1), ∀ a, (k0_off1175 v721) a + S1x1024.size a ≤ S40960x1024.size a := fun i v721 k0_hw1167 k0_h4 => k0_hw1167 k0_h4

def k0_off1176 (v726 : BitVec 32) : Fin 2 → Nat :=
  let c0_i32_792 : BitVec 32 := 0#32
  ![v726.toNat, 0]

def k0_chk1168 (i : grid0.Coords) (v726 : BitVec 32) : Prop :=
  (∀ (k0_h4 : k0_cond4 i = 1#1), ∀ a, (k0_off1176 v726) a + S1x1024.size a ≤ S40960x1024.size a)
theorem k0_off1176_inb : ∀ (i : grid0.Coords) (v726 : BitVec 32) (k0_hw1168 : k0_chk1168 i v726), ∀ (k0_h4 : k0_cond4 i = 1#1), ∀ a, (k0_off1176 v726) a + S1x1024.size a ≤ S40960x1024.size a := fun i v726 k0_hw1168 k0_h4 => k0_hw1168 k0_h4

def k0_off1177 (v731 : BitVec 32) : Fin 2 → Nat :=
  let c0_i32_797 : BitVec 32 := 0#32
  ![v731.toNat, 0]

def k0_chk1169 (i : grid0.Coords) (v731 : BitVec 32) : Prop :=
  (∀ (k0_h4 : k0_cond4 i = 1#1), ∀ a, (k0_off1177 v731) a + S1x1024.size a ≤ S40960x1024.size a)
theorem k0_off1177_inb : ∀ (i : grid0.Coords) (v731 : BitVec 32) (k0_hw1169 : k0_chk1169 i v731), ∀ (k0_h4 : k0_cond4 i = 1#1), ∀ a, (k0_off1177 v731) a + S1x1024.size a ≤ S40960x1024.size a := fun i v731 k0_hw1169 k0_h4 => k0_hw1169 k0_h4

def k0_off1178 (v736 : BitVec 32) : Fin 2 → Nat :=
  let c0_i32_803 : BitVec 32 := 0#32
  ![v736.toNat, 0]

def k0_chk1170 (i : grid0.Coords) (v736 : BitVec 32) : Prop :=
  (∀ (k0_h4 : k0_cond4 i = 1#1), ∀ a, (k0_off1178 v736) a + S1x1024.size a ≤ S40960x1024.size a)
theorem k0_off1178_inb : ∀ (i : grid0.Coords) (v736 : BitVec 32) (k0_hw1170 : k0_chk1170 i v736), ∀ (k0_h4 : k0_cond4 i = 1#1), ∀ a, (k0_off1178 v736) a + S1x1024.size a ≤ S40960x1024.size a := fun i v736 k0_hw1170 k0_h4 => k0_hw1170 k0_h4

def k0_off1179 (v741 : BitVec 32) : Fin 2 → Nat :=
  let c0_i32_808 : BitVec 32 := 0#32
  ![v741.toNat, 0]

def k0_chk1171 (i : grid0.Coords) (v741 : BitVec 32) : Prop :=
  (∀ (k0_h4 : k0_cond4 i = 1#1), ∀ a, (k0_off1179 v741) a + S1x1024.size a ≤ S40960x1024.size a)
theorem k0_off1179_inb : ∀ (i : grid0.Coords) (v741 : BitVec 32) (k0_hw1171 : k0_chk1171 i v741), ∀ (k0_h4 : k0_cond4 i = 1#1), ∀ a, (k0_off1179 v741) a + S1x1024.size a ≤ S40960x1024.size a := fun i v741 k0_hw1171 k0_h4 => k0_hw1171 k0_h4

def k0_off1180 (v746 : BitVec 32) : Fin 2 → Nat :=
  let c0_i32_814 : BitVec 32 := 0#32
  ![v746.toNat, 0]

def k0_chk1172 (i : grid0.Coords) (v746 : BitVec 32) : Prop :=
  (∀ (k0_h4 : k0_cond4 i = 1#1), ∀ a, (k0_off1180 v746) a + S1x1024.size a ≤ S40960x1024.size a)
theorem k0_off1180_inb : ∀ (i : grid0.Coords) (v746 : BitVec 32) (k0_hw1172 : k0_chk1172 i v746), ∀ (k0_h4 : k0_cond4 i = 1#1), ∀ a, (k0_off1180 v746) a + S1x1024.size a ≤ S40960x1024.size a := fun i v746 k0_hw1172 k0_h4 => k0_hw1172 k0_h4

def k0_off1181 (v751 : BitVec 32) : Fin 2 → Nat :=
  let c0_i32_819 : BitVec 32 := 0#32
  ![v751.toNat, 0]

def k0_chk1173 (i : grid0.Coords) (v751 : BitVec 32) : Prop :=
  (∀ (k0_h4 : k0_cond4 i = 1#1), ∀ a, (k0_off1181 v751) a + S1x1024.size a ≤ S40960x1024.size a)
theorem k0_off1181_inb : ∀ (i : grid0.Coords) (v751 : BitVec 32) (k0_hw1173 : k0_chk1173 i v751), ∀ (k0_h4 : k0_cond4 i = 1#1), ∀ a, (k0_off1181 v751) a + S1x1024.size a ≤ S40960x1024.size a := fun i v751 k0_hw1173 k0_h4 => k0_hw1173 k0_h4

def k0_off1182 (v756 : BitVec 32) : Fin 2 → Nat :=
  let c0_i32_825 : BitVec 32 := 0#32
  ![v756.toNat, 0]

def k0_chk1174 (i : grid0.Coords) (v756 : BitVec 32) : Prop :=
  (∀ (k0_h4 : k0_cond4 i = 1#1), ∀ a, (k0_off1182 v756) a + S1x1024.size a ≤ S40960x1024.size a)
theorem k0_off1182_inb : ∀ (i : grid0.Coords) (v756 : BitVec 32) (k0_hw1174 : k0_chk1174 i v756), ∀ (k0_h4 : k0_cond4 i = 1#1), ∀ a, (k0_off1182 v756) a + S1x1024.size a ≤ S40960x1024.size a := fun i v756 k0_hw1174 k0_h4 => k0_hw1174 k0_h4

def k0_off1183 (v761 : BitVec 32) : Fin 2 → Nat :=
  let c0_i32_830 : BitVec 32 := 0#32
  ![v761.toNat, 0]

def k0_chk1175 (i : grid0.Coords) (v761 : BitVec 32) : Prop :=
  (∀ (k0_h4 : k0_cond4 i = 1#1), ∀ a, (k0_off1183 v761) a + S1x1024.size a ≤ S40960x1024.size a)
theorem k0_off1183_inb : ∀ (i : grid0.Coords) (v761 : BitVec 32) (k0_hw1175 : k0_chk1175 i v761), ∀ (k0_h4 : k0_cond4 i = 1#1), ∀ a, (k0_off1183 v761) a + S1x1024.size a ≤ S40960x1024.size a := fun i v761 k0_hw1175 k0_h4 => k0_hw1175 k0_h4

def k0_off1184 (v766 : BitVec 32) : Fin 2 → Nat :=
  let c0_i32_836 : BitVec 32 := 0#32
  ![v766.toNat, 0]

def k0_chk1176 (i : grid0.Coords) (v766 : BitVec 32) : Prop :=
  (∀ (k0_h4 : k0_cond4 i = 1#1), ∀ a, (k0_off1184 v766) a + S1x1024.size a ≤ S40960x1024.size a)
theorem k0_off1184_inb : ∀ (i : grid0.Coords) (v766 : BitVec 32) (k0_hw1176 : k0_chk1176 i v766), ∀ (k0_h4 : k0_cond4 i = 1#1), ∀ a, (k0_off1184 v766) a + S1x1024.size a ≤ S40960x1024.size a := fun i v766 k0_hw1176 k0_h4 => k0_hw1176 k0_h4

def k0_off1185 (v771 : BitVec 32) : Fin 2 → Nat :=
  let c0_i32_841 : BitVec 32 := 0#32
  ![v771.toNat, 0]

def k0_chk1177 (i : grid0.Coords) (v771 : BitVec 32) : Prop :=
  (∀ (k0_h4 : k0_cond4 i = 1#1), ∀ a, (k0_off1185 v771) a + S1x1024.size a ≤ S40960x1024.size a)
theorem k0_off1185_inb : ∀ (i : grid0.Coords) (v771 : BitVec 32) (k0_hw1177 : k0_chk1177 i v771), ∀ (k0_h4 : k0_cond4 i = 1#1), ∀ a, (k0_off1185 v771) a + S1x1024.size a ≤ S40960x1024.size a := fun i v771 k0_hw1177 k0_h4 => k0_hw1177 k0_h4

def k0_off1186 (v776 : BitVec 32) : Fin 2 → Nat :=
  let c0_i32_847 : BitVec 32 := 0#32
  ![v776.toNat, 0]

def k0_chk1178 (i : grid0.Coords) (v776 : BitVec 32) : Prop :=
  (∀ (k0_h4 : k0_cond4 i = 1#1), ∀ a, (k0_off1186 v776) a + S1x1024.size a ≤ S40960x1024.size a)
theorem k0_off1186_inb : ∀ (i : grid0.Coords) (v776 : BitVec 32) (k0_hw1178 : k0_chk1178 i v776), ∀ (k0_h4 : k0_cond4 i = 1#1), ∀ a, (k0_off1186 v776) a + S1x1024.size a ≤ S40960x1024.size a := fun i v776 k0_hw1178 k0_h4 => k0_hw1178 k0_h4

def k0_off1187 (v781 : BitVec 32) : Fin 2 → Nat :=
  let c0_i32_852 : BitVec 32 := 0#32
  ![v781.toNat, 0]

def k0_chk1179 (i : grid0.Coords) (v781 : BitVec 32) : Prop :=
  (∀ (k0_h4 : k0_cond4 i = 1#1), ∀ a, (k0_off1187 v781) a + S1x1024.size a ≤ S40960x1024.size a)
theorem k0_off1187_inb : ∀ (i : grid0.Coords) (v781 : BitVec 32) (k0_hw1179 : k0_chk1179 i v781), ∀ (k0_h4 : k0_cond4 i = 1#1), ∀ a, (k0_off1187 v781) a + S1x1024.size a ≤ S40960x1024.size a := fun i v781 k0_hw1179 k0_h4 => k0_hw1179 k0_h4

def k0_off1188 (v786 : BitVec 32) : Fin 2 → Nat :=
  let c0_i32_858 : BitVec 32 := 0#32
  ![v786.toNat, 0]

def k0_chk1180 (i : grid0.Coords) (v786 : BitVec 32) : Prop :=
  (∀ (k0_h4 : k0_cond4 i = 1#1), ∀ a, (k0_off1188 v786) a + S1x1024.size a ≤ S40960x1024.size a)
theorem k0_off1188_inb : ∀ (i : grid0.Coords) (v786 : BitVec 32) (k0_hw1180 : k0_chk1180 i v786), ∀ (k0_h4 : k0_cond4 i = 1#1), ∀ a, (k0_off1188 v786) a + S1x1024.size a ≤ S40960x1024.size a := fun i v786 k0_hw1180 k0_h4 => k0_hw1180 k0_h4

def k0_off1189 (v791 : BitVec 32) : Fin 2 → Nat :=
  let c0_i32_863 : BitVec 32 := 0#32
  ![v791.toNat, 0]

def k0_chk1181 (i : grid0.Coords) (v791 : BitVec 32) : Prop :=
  (∀ (k0_h4 : k0_cond4 i = 1#1), ∀ a, (k0_off1189 v791) a + S1x1024.size a ≤ S40960x1024.size a)
theorem k0_off1189_inb : ∀ (i : grid0.Coords) (v791 : BitVec 32) (k0_hw1181 : k0_chk1181 i v791), ∀ (k0_h4 : k0_cond4 i = 1#1), ∀ a, (k0_off1189 v791) a + S1x1024.size a ≤ S40960x1024.size a := fun i v791 k0_hw1181 k0_h4 => k0_hw1181 k0_h4

def k0_off1190 (v796 : BitVec 32) : Fin 2 → Nat :=
  let c0_i32_869 : BitVec 32 := 0#32
  ![v796.toNat, 0]

def k0_chk1182 (i : grid0.Coords) (v796 : BitVec 32) : Prop :=
  (∀ (k0_h4 : k0_cond4 i = 1#1), ∀ a, (k0_off1190 v796) a + S1x1024.size a ≤ S40960x1024.size a)
theorem k0_off1190_inb : ∀ (i : grid0.Coords) (v796 : BitVec 32) (k0_hw1182 : k0_chk1182 i v796), ∀ (k0_h4 : k0_cond4 i = 1#1), ∀ a, (k0_off1190 v796) a + S1x1024.size a ≤ S40960x1024.size a := fun i v796 k0_hw1182 k0_h4 => k0_hw1182 k0_h4

def k0_off1191 (v801 : BitVec 32) : Fin 2 → Nat :=
  let c0_i32_874 : BitVec 32 := 0#32
  ![v801.toNat, 0]

def k0_chk1183 (i : grid0.Coords) (v801 : BitVec 32) : Prop :=
  (∀ (k0_h4 : k0_cond4 i = 1#1), ∀ a, (k0_off1191 v801) a + S1x1024.size a ≤ S40960x1024.size a)
theorem k0_off1191_inb : ∀ (i : grid0.Coords) (v801 : BitVec 32) (k0_hw1183 : k0_chk1183 i v801), ∀ (k0_h4 : k0_cond4 i = 1#1), ∀ a, (k0_off1191 v801) a + S1x1024.size a ≤ S40960x1024.size a := fun i v801 k0_hw1183 k0_h4 => k0_hw1183 k0_h4

def k0_off1192 (v806 : BitVec 32) : Fin 2 → Nat :=
  let c0_i32_880 : BitVec 32 := 0#32
  ![v806.toNat, 0]

def k0_chk1184 (i : grid0.Coords) (v806 : BitVec 32) : Prop :=
  (∀ (k0_h4 : k0_cond4 i = 1#1), ∀ a, (k0_off1192 v806) a + S1x1024.size a ≤ S40960x1024.size a)
theorem k0_off1192_inb : ∀ (i : grid0.Coords) (v806 : BitVec 32) (k0_hw1184 : k0_chk1184 i v806), ∀ (k0_h4 : k0_cond4 i = 1#1), ∀ a, (k0_off1192 v806) a + S1x1024.size a ≤ S40960x1024.size a := fun i v806 k0_hw1184 k0_h4 => k0_hw1184 k0_h4

def k0_off1193 (v811 : BitVec 32) : Fin 2 → Nat :=
  let c0_i32_885 : BitVec 32 := 0#32
  ![v811.toNat, 0]

def k0_chk1185 (i : grid0.Coords) (v811 : BitVec 32) : Prop :=
  (∀ (k0_h4 : k0_cond4 i = 1#1), ∀ a, (k0_off1193 v811) a + S1x1024.size a ≤ S40960x1024.size a)
theorem k0_off1193_inb : ∀ (i : grid0.Coords) (v811 : BitVec 32) (k0_hw1185 : k0_chk1185 i v811), ∀ (k0_h4 : k0_cond4 i = 1#1), ∀ a, (k0_off1193 v811) a + S1x1024.size a ≤ S40960x1024.size a := fun i v811 k0_hw1185 k0_h4 => k0_hw1185 k0_h4

def k0_off1194 (v816 : BitVec 32) : Fin 2 → Nat :=
  let c0_i32_891 : BitVec 32 := 0#32
  ![v816.toNat, 0]

def k0_chk1186 (i : grid0.Coords) (v816 : BitVec 32) : Prop :=
  (∀ (k0_h4 : k0_cond4 i = 1#1), ∀ a, (k0_off1194 v816) a + S1x1024.size a ≤ S40960x1024.size a)
theorem k0_off1194_inb : ∀ (i : grid0.Coords) (v816 : BitVec 32) (k0_hw1186 : k0_chk1186 i v816), ∀ (k0_h4 : k0_cond4 i = 1#1), ∀ a, (k0_off1194 v816) a + S1x1024.size a ≤ S40960x1024.size a := fun i v816 k0_hw1186 k0_h4 => k0_hw1186 k0_h4

def k0_off1195 (v821 : BitVec 32) : Fin 2 → Nat :=
  let c0_i32_896 : BitVec 32 := 0#32
  ![v821.toNat, 0]

def k0_chk1187 (i : grid0.Coords) (v821 : BitVec 32) : Prop :=
  (∀ (k0_h4 : k0_cond4 i = 1#1), ∀ a, (k0_off1195 v821) a + S1x1024.size a ≤ S40960x1024.size a)
theorem k0_off1195_inb : ∀ (i : grid0.Coords) (v821 : BitVec 32) (k0_hw1187 : k0_chk1187 i v821), ∀ (k0_h4 : k0_cond4 i = 1#1), ∀ a, (k0_off1195 v821) a + S1x1024.size a ≤ S40960x1024.size a := fun i v821 k0_hw1187 k0_h4 => k0_hw1187 k0_h4

def k0_off1196 (v826 : BitVec 32) : Fin 2 → Nat :=
  let c0_i32_902 : BitVec 32 := 0#32
  ![v826.toNat, 0]

def k0_chk1188 (i : grid0.Coords) (v826 : BitVec 32) : Prop :=
  (∀ (k0_h4 : k0_cond4 i = 1#1), ∀ a, (k0_off1196 v826) a + S1x1024.size a ≤ S40960x1024.size a)
theorem k0_off1196_inb : ∀ (i : grid0.Coords) (v826 : BitVec 32) (k0_hw1188 : k0_chk1188 i v826), ∀ (k0_h4 : k0_cond4 i = 1#1), ∀ a, (k0_off1196 v826) a + S1x1024.size a ≤ S40960x1024.size a := fun i v826 k0_hw1188 k0_h4 => k0_hw1188 k0_h4

def k0_off1197 (v831 : BitVec 32) : Fin 2 → Nat :=
  let c0_i32_907 : BitVec 32 := 0#32
  ![v831.toNat, 0]

def k0_chk1189 (i : grid0.Coords) (v831 : BitVec 32) : Prop :=
  (∀ (k0_h4 : k0_cond4 i = 1#1), ∀ a, (k0_off1197 v831) a + S1x1024.size a ≤ S40960x1024.size a)
theorem k0_off1197_inb : ∀ (i : grid0.Coords) (v831 : BitVec 32) (k0_hw1189 : k0_chk1189 i v831), ∀ (k0_h4 : k0_cond4 i = 1#1), ∀ a, (k0_off1197 v831) a + S1x1024.size a ≤ S40960x1024.size a := fun i v831 k0_hw1189 k0_h4 => k0_hw1189 k0_h4

def k0_off1198 (v836 : BitVec 32) : Fin 2 → Nat :=
  let c0_i32_913 : BitVec 32 := 0#32
  ![v836.toNat, 0]

def k0_chk1190 (i : grid0.Coords) (v836 : BitVec 32) : Prop :=
  (∀ (k0_h4 : k0_cond4 i = 1#1), ∀ a, (k0_off1198 v836) a + S1x1024.size a ≤ S40960x1024.size a)
theorem k0_off1198_inb : ∀ (i : grid0.Coords) (v836 : BitVec 32) (k0_hw1190 : k0_chk1190 i v836), ∀ (k0_h4 : k0_cond4 i = 1#1), ∀ a, (k0_off1198 v836) a + S1x1024.size a ≤ S40960x1024.size a := fun i v836 k0_hw1190 k0_h4 => k0_hw1190 k0_h4

def k0_off1199 (v841 : BitVec 32) : Fin 2 → Nat :=
  let c0_i32_918 : BitVec 32 := 0#32
  ![v841.toNat, 0]

def k0_chk1191 (i : grid0.Coords) (v841 : BitVec 32) : Prop :=
  (∀ (k0_h4 : k0_cond4 i = 1#1), ∀ a, (k0_off1199 v841) a + S1x1024.size a ≤ S40960x1024.size a)
theorem k0_off1199_inb : ∀ (i : grid0.Coords) (v841 : BitVec 32) (k0_hw1191 : k0_chk1191 i v841), ∀ (k0_h4 : k0_cond4 i = 1#1), ∀ a, (k0_off1199 v841) a + S1x1024.size a ≤ S40960x1024.size a := fun i v841 k0_hw1191 k0_h4 => k0_hw1191 k0_h4

def k0_off1200 (v846 : BitVec 32) : Fin 2 → Nat :=
  let c0_i32_924 : BitVec 32 := 0#32
  ![v846.toNat, 0]

def k0_chk1192 (i : grid0.Coords) (v846 : BitVec 32) : Prop :=
  (∀ (k0_h4 : k0_cond4 i = 1#1), ∀ a, (k0_off1200 v846) a + S1x1024.size a ≤ S40960x1024.size a)
theorem k0_off1200_inb : ∀ (i : grid0.Coords) (v846 : BitVec 32) (k0_hw1192 : k0_chk1192 i v846), ∀ (k0_h4 : k0_cond4 i = 1#1), ∀ a, (k0_off1200 v846) a + S1x1024.size a ≤ S40960x1024.size a := fun i v846 k0_hw1192 k0_h4 => k0_hw1192 k0_h4

def k0_off1201 (v851 : BitVec 32) : Fin 2 → Nat :=
  let c0_i32_929 : BitVec 32 := 0#32
  ![v851.toNat, 0]

def k0_chk1193 (i : grid0.Coords) (v851 : BitVec 32) : Prop :=
  (∀ (k0_h4 : k0_cond4 i = 1#1), ∀ a, (k0_off1201 v851) a + S1x1024.size a ≤ S40960x1024.size a)
theorem k0_off1201_inb : ∀ (i : grid0.Coords) (v851 : BitVec 32) (k0_hw1193 : k0_chk1193 i v851), ∀ (k0_h4 : k0_cond4 i = 1#1), ∀ a, (k0_off1201 v851) a + S1x1024.size a ≤ S40960x1024.size a := fun i v851 k0_hw1193 k0_h4 => k0_hw1193 k0_h4

def k0_off1202 (v856 : BitVec 32) : Fin 2 → Nat :=
  let c0_i32_935 : BitVec 32 := 0#32
  ![v856.toNat, 0]

def k0_chk1194 (i : grid0.Coords) (v856 : BitVec 32) : Prop :=
  (∀ (k0_h4 : k0_cond4 i = 1#1), ∀ a, (k0_off1202 v856) a + S1x1024.size a ≤ S40960x1024.size a)
theorem k0_off1202_inb : ∀ (i : grid0.Coords) (v856 : BitVec 32) (k0_hw1194 : k0_chk1194 i v856), ∀ (k0_h4 : k0_cond4 i = 1#1), ∀ a, (k0_off1202 v856) a + S1x1024.size a ≤ S40960x1024.size a := fun i v856 k0_hw1194 k0_h4 => k0_hw1194 k0_h4

def k0_off1203 (v861 : BitVec 32) : Fin 2 → Nat :=
  let c0_i32_940 : BitVec 32 := 0#32
  ![v861.toNat, 0]

def k0_chk1195 (i : grid0.Coords) (v861 : BitVec 32) : Prop :=
  (∀ (k0_h4 : k0_cond4 i = 1#1), ∀ a, (k0_off1203 v861) a + S1x1024.size a ≤ S40960x1024.size a)
theorem k0_off1203_inb : ∀ (i : grid0.Coords) (v861 : BitVec 32) (k0_hw1195 : k0_chk1195 i v861), ∀ (k0_h4 : k0_cond4 i = 1#1), ∀ a, (k0_off1203 v861) a + S1x1024.size a ≤ S40960x1024.size a := fun i v861 k0_hw1195 k0_h4 => k0_hw1195 k0_h4

def k0_off1204 (v866 : BitVec 32) : Fin 2 → Nat :=
  let c0_i32_946 : BitVec 32 := 0#32
  ![v866.toNat, 0]

def k0_chk1196 (i : grid0.Coords) (v866 : BitVec 32) : Prop :=
  (∀ (k0_h4 : k0_cond4 i = 1#1), ∀ a, (k0_off1204 v866) a + S1x1024.size a ≤ S40960x1024.size a)
theorem k0_off1204_inb : ∀ (i : grid0.Coords) (v866 : BitVec 32) (k0_hw1196 : k0_chk1196 i v866), ∀ (k0_h4 : k0_cond4 i = 1#1), ∀ a, (k0_off1204 v866) a + S1x1024.size a ≤ S40960x1024.size a := fun i v866 k0_hw1196 k0_h4 => k0_hw1196 k0_h4

def k0_off1205 (v871 : BitVec 32) : Fin 2 → Nat :=
  let c0_i32_951 : BitVec 32 := 0#32
  ![v871.toNat, 0]

def k0_chk1197 (i : grid0.Coords) (v871 : BitVec 32) : Prop :=
  (∀ (k0_h4 : k0_cond4 i = 1#1), ∀ a, (k0_off1205 v871) a + S1x1024.size a ≤ S40960x1024.size a)
theorem k0_off1205_inb : ∀ (i : grid0.Coords) (v871 : BitVec 32) (k0_hw1197 : k0_chk1197 i v871), ∀ (k0_h4 : k0_cond4 i = 1#1), ∀ a, (k0_off1205 v871) a + S1x1024.size a ≤ S40960x1024.size a := fun i v871 k0_hw1197 k0_h4 => k0_hw1197 k0_h4

def k0_off1206 (v876 : BitVec 32) : Fin 2 → Nat :=
  let c0_i32_957 : BitVec 32 := 0#32
  ![v876.toNat, 0]

def k0_chk1198 (i : grid0.Coords) (v876 : BitVec 32) : Prop :=
  (∀ (k0_h4 : k0_cond4 i = 1#1), ∀ a, (k0_off1206 v876) a + S1x1024.size a ≤ S40960x1024.size a)
theorem k0_off1206_inb : ∀ (i : grid0.Coords) (v876 : BitVec 32) (k0_hw1198 : k0_chk1198 i v876), ∀ (k0_h4 : k0_cond4 i = 1#1), ∀ a, (k0_off1206 v876) a + S1x1024.size a ≤ S40960x1024.size a := fun i v876 k0_hw1198 k0_h4 => k0_hw1198 k0_h4

def k0_off1207 (v881 : BitVec 32) : Fin 2 → Nat :=
  let c0_i32_962 : BitVec 32 := 0#32
  ![v881.toNat, 0]

def k0_chk1199 (i : grid0.Coords) (v881 : BitVec 32) : Prop :=
  (∀ (k0_h4 : k0_cond4 i = 1#1), ∀ a, (k0_off1207 v881) a + S1x1024.size a ≤ S40960x1024.size a)
theorem k0_off1207_inb : ∀ (i : grid0.Coords) (v881 : BitVec 32) (k0_hw1199 : k0_chk1199 i v881), ∀ (k0_h4 : k0_cond4 i = 1#1), ∀ a, (k0_off1207 v881) a + S1x1024.size a ≤ S40960x1024.size a := fun i v881 k0_hw1199 k0_h4 => k0_hw1199 k0_h4

def k0_off1208 (v886 : BitVec 32) : Fin 2 → Nat :=
  let c0_i32_968 : BitVec 32 := 0#32
  ![v886.toNat, 0]

def k0_chk1200 (i : grid0.Coords) (v886 : BitVec 32) : Prop :=
  (∀ (k0_h4 : k0_cond4 i = 1#1), ∀ a, (k0_off1208 v886) a + S1x1024.size a ≤ S40960x1024.size a)
theorem k0_off1208_inb : ∀ (i : grid0.Coords) (v886 : BitVec 32) (k0_hw1200 : k0_chk1200 i v886), ∀ (k0_h4 : k0_cond4 i = 1#1), ∀ a, (k0_off1208 v886) a + S1x1024.size a ≤ S40960x1024.size a := fun i v886 k0_hw1200 k0_h4 => k0_hw1200 k0_h4

def k0_off1209 (v891 : BitVec 32) : Fin 2 → Nat :=
  let c0_i32_973 : BitVec 32 := 0#32
  ![v891.toNat, 0]

def k0_chk1201 (i : grid0.Coords) (v891 : BitVec 32) : Prop :=
  (∀ (k0_h4 : k0_cond4 i = 1#1), ∀ a, (k0_off1209 v891) a + S1x1024.size a ≤ S40960x1024.size a)
theorem k0_off1209_inb : ∀ (i : grid0.Coords) (v891 : BitVec 32) (k0_hw1201 : k0_chk1201 i v891), ∀ (k0_h4 : k0_cond4 i = 1#1), ∀ a, (k0_off1209 v891) a + S1x1024.size a ≤ S40960x1024.size a := fun i v891 k0_hw1201 k0_h4 => k0_hw1201 k0_h4

def k0_off1210 (v896 : BitVec 32) : Fin 2 → Nat :=
  let c0_i32_979 : BitVec 32 := 0#32
  ![v896.toNat, 0]

def k0_chk1202 (i : grid0.Coords) (v896 : BitVec 32) : Prop :=
  (∀ (k0_h4 : k0_cond4 i = 1#1), ∀ a, (k0_off1210 v896) a + S1x1024.size a ≤ S40960x1024.size a)
theorem k0_off1210_inb : ∀ (i : grid0.Coords) (v896 : BitVec 32) (k0_hw1202 : k0_chk1202 i v896), ∀ (k0_h4 : k0_cond4 i = 1#1), ∀ a, (k0_off1210 v896) a + S1x1024.size a ≤ S40960x1024.size a := fun i v896 k0_hw1202 k0_h4 => k0_hw1202 k0_h4

def k0_off1211 (v901 : BitVec 32) : Fin 2 → Nat :=
  let c0_i32_984 : BitVec 32 := 0#32
  ![v901.toNat, 0]

def k0_chk1203 (i : grid0.Coords) (v901 : BitVec 32) : Prop :=
  (∀ (k0_h4 : k0_cond4 i = 1#1), ∀ a, (k0_off1211 v901) a + S1x1024.size a ≤ S40960x1024.size a)
theorem k0_off1211_inb : ∀ (i : grid0.Coords) (v901 : BitVec 32) (k0_hw1203 : k0_chk1203 i v901), ∀ (k0_h4 : k0_cond4 i = 1#1), ∀ a, (k0_off1211 v901) a + S1x1024.size a ≤ S40960x1024.size a := fun i v901 k0_hw1203 k0_h4 => k0_hw1203 k0_h4

def k0_off1212 (v906 : BitVec 32) : Fin 2 → Nat :=
  let c0_i32_990 : BitVec 32 := 0#32
  ![v906.toNat, 0]

def k0_chk1204 (i : grid0.Coords) (v906 : BitVec 32) : Prop :=
  (∀ (k0_h4 : k0_cond4 i = 1#1), ∀ a, (k0_off1212 v906) a + S1x1024.size a ≤ S40960x1024.size a)
theorem k0_off1212_inb : ∀ (i : grid0.Coords) (v906 : BitVec 32) (k0_hw1204 : k0_chk1204 i v906), ∀ (k0_h4 : k0_cond4 i = 1#1), ∀ a, (k0_off1212 v906) a + S1x1024.size a ≤ S40960x1024.size a := fun i v906 k0_hw1204 k0_h4 => k0_hw1204 k0_h4

def k0_off1213 (v911 : BitVec 32) : Fin 2 → Nat :=
  let c0_i32_995 : BitVec 32 := 0#32
  ![v911.toNat, 0]

def k0_chk1205 (i : grid0.Coords) (v911 : BitVec 32) : Prop :=
  (∀ (k0_h4 : k0_cond4 i = 1#1), ∀ a, (k0_off1213 v911) a + S1x1024.size a ≤ S40960x1024.size a)
theorem k0_off1213_inb : ∀ (i : grid0.Coords) (v911 : BitVec 32) (k0_hw1205 : k0_chk1205 i v911), ∀ (k0_h4 : k0_cond4 i = 1#1), ∀ a, (k0_off1213 v911) a + S1x1024.size a ≤ S40960x1024.size a := fun i v911 k0_hw1205 k0_h4 => k0_hw1205 k0_h4

def k0_off1214 (v916 : BitVec 32) : Fin 2 → Nat :=
  let c0_i32_1001 : BitVec 32 := 0#32
  ![v916.toNat, 0]

def k0_chk1206 (i : grid0.Coords) (v916 : BitVec 32) : Prop :=
  (∀ (k0_h4 : k0_cond4 i = 1#1), ∀ a, (k0_off1214 v916) a + S1x1024.size a ≤ S40960x1024.size a)
theorem k0_off1214_inb : ∀ (i : grid0.Coords) (v916 : BitVec 32) (k0_hw1206 : k0_chk1206 i v916), ∀ (k0_h4 : k0_cond4 i = 1#1), ∀ a, (k0_off1214 v916) a + S1x1024.size a ≤ S40960x1024.size a := fun i v916 k0_hw1206 k0_h4 => k0_hw1206 k0_h4

def k0_off1215 (v921 : BitVec 32) : Fin 2 → Nat :=
  let c0_i32_1006 : BitVec 32 := 0#32
  ![v921.toNat, 0]

def k0_chk1207 (i : grid0.Coords) (v921 : BitVec 32) : Prop :=
  (∀ (k0_h4 : k0_cond4 i = 1#1), ∀ a, (k0_off1215 v921) a + S1x1024.size a ≤ S40960x1024.size a)
theorem k0_off1215_inb : ∀ (i : grid0.Coords) (v921 : BitVec 32) (k0_hw1207 : k0_chk1207 i v921), ∀ (k0_h4 : k0_cond4 i = 1#1), ∀ a, (k0_off1215 v921) a + S1x1024.size a ≤ S40960x1024.size a := fun i v921 k0_hw1207 k0_h4 => k0_hw1207 k0_h4

def k0_off1216 (v926 : BitVec 32) : Fin 2 → Nat :=
  let c0_i32_1012 : BitVec 32 := 0#32
  ![v926.toNat, 0]

def k0_chk1208 (i : grid0.Coords) (v926 : BitVec 32) : Prop :=
  (∀ (k0_h4 : k0_cond4 i = 1#1), ∀ a, (k0_off1216 v926) a + S1x1024.size a ≤ S40960x1024.size a)
theorem k0_off1216_inb : ∀ (i : grid0.Coords) (v926 : BitVec 32) (k0_hw1208 : k0_chk1208 i v926), ∀ (k0_h4 : k0_cond4 i = 1#1), ∀ a, (k0_off1216 v926) a + S1x1024.size a ≤ S40960x1024.size a := fun i v926 k0_hw1208 k0_h4 => k0_hw1208 k0_h4

def k0_off1217 (v931 : BitVec 32) : Fin 2 → Nat :=
  let c0_i32_1017 : BitVec 32 := 0#32
  ![v931.toNat, 0]

def k0_chk1209 (i : grid0.Coords) (v931 : BitVec 32) : Prop :=
  (∀ (k0_h4 : k0_cond4 i = 1#1), ∀ a, (k0_off1217 v931) a + S1x1024.size a ≤ S40960x1024.size a)
theorem k0_off1217_inb : ∀ (i : grid0.Coords) (v931 : BitVec 32) (k0_hw1209 : k0_chk1209 i v931), ∀ (k0_h4 : k0_cond4 i = 1#1), ∀ a, (k0_off1217 v931) a + S1x1024.size a ≤ S40960x1024.size a := fun i v931 k0_hw1209 k0_h4 => k0_hw1209 k0_h4

def k0_off1218 (v936 : BitVec 32) : Fin 2 → Nat :=
  let c0_i32_1023 : BitVec 32 := 0#32
  ![v936.toNat, 0]

def k0_chk1210 (i : grid0.Coords) (v936 : BitVec 32) : Prop :=
  (∀ (k0_h4 : k0_cond4 i = 1#1), ∀ a, (k0_off1218 v936) a + S1x1024.size a ≤ S40960x1024.size a)
theorem k0_off1218_inb : ∀ (i : grid0.Coords) (v936 : BitVec 32) (k0_hw1210 : k0_chk1210 i v936), ∀ (k0_h4 : k0_cond4 i = 1#1), ∀ a, (k0_off1218 v936) a + S1x1024.size a ≤ S40960x1024.size a := fun i v936 k0_hw1210 k0_h4 => k0_hw1210 k0_h4

def k0_off1219 (v941 : BitVec 32) : Fin 2 → Nat :=
  let c0_i32_1028 : BitVec 32 := 0#32
  ![v941.toNat, 0]

def k0_chk1211 (i : grid0.Coords) (v941 : BitVec 32) : Prop :=
  (∀ (k0_h4 : k0_cond4 i = 1#1), ∀ a, (k0_off1219 v941) a + S1x1024.size a ≤ S40960x1024.size a)
theorem k0_off1219_inb : ∀ (i : grid0.Coords) (v941 : BitVec 32) (k0_hw1211 : k0_chk1211 i v941), ∀ (k0_h4 : k0_cond4 i = 1#1), ∀ a, (k0_off1219 v941) a + S1x1024.size a ≤ S40960x1024.size a := fun i v941 k0_hw1211 k0_h4 => k0_hw1211 k0_h4

def k0_off1220 (v946 : BitVec 32) : Fin 2 → Nat :=
  let c0_i32_1034 : BitVec 32 := 0#32
  ![v946.toNat, 0]

def k0_chk1212 (i : grid0.Coords) (v946 : BitVec 32) : Prop :=
  (∀ (k0_h4 : k0_cond4 i = 1#1), ∀ a, (k0_off1220 v946) a + S1x1024.size a ≤ S40960x1024.size a)
theorem k0_off1220_inb : ∀ (i : grid0.Coords) (v946 : BitVec 32) (k0_hw1212 : k0_chk1212 i v946), ∀ (k0_h4 : k0_cond4 i = 1#1), ∀ a, (k0_off1220 v946) a + S1x1024.size a ≤ S40960x1024.size a := fun i v946 k0_hw1212 k0_h4 => k0_hw1212 k0_h4

def k0_off1221 (v951 : BitVec 32) : Fin 2 → Nat :=
  let c0_i32_1039 : BitVec 32 := 0#32
  ![v951.toNat, 0]

def k0_chk1213 (i : grid0.Coords) (v951 : BitVec 32) : Prop :=
  (∀ (k0_h4 : k0_cond4 i = 1#1), ∀ a, (k0_off1221 v951) a + S1x1024.size a ≤ S40960x1024.size a)
theorem k0_off1221_inb : ∀ (i : grid0.Coords) (v951 : BitVec 32) (k0_hw1213 : k0_chk1213 i v951), ∀ (k0_h4 : k0_cond4 i = 1#1), ∀ a, (k0_off1221 v951) a + S1x1024.size a ≤ S40960x1024.size a := fun i v951 k0_hw1213 k0_h4 => k0_hw1213 k0_h4

def k0_off1222 (v956 : BitVec 32) : Fin 2 → Nat :=
  let c0_i32_1045 : BitVec 32 := 0#32
  ![v956.toNat, 0]

def k0_chk1214 (i : grid0.Coords) (v956 : BitVec 32) : Prop :=
  (∀ (k0_h4 : k0_cond4 i = 1#1), ∀ a, (k0_off1222 v956) a + S1x1024.size a ≤ S40960x1024.size a)
theorem k0_off1222_inb : ∀ (i : grid0.Coords) (v956 : BitVec 32) (k0_hw1214 : k0_chk1214 i v956), ∀ (k0_h4 : k0_cond4 i = 1#1), ∀ a, (k0_off1222 v956) a + S1x1024.size a ≤ S40960x1024.size a := fun i v956 k0_hw1214 k0_h4 => k0_hw1214 k0_h4

def k0_off1223 (v961 : BitVec 32) : Fin 2 → Nat :=
  let c0_i32_1050 : BitVec 32 := 0#32
  ![v961.toNat, 0]

def k0_chk1215 (i : grid0.Coords) (v961 : BitVec 32) : Prop :=
  (∀ (k0_h4 : k0_cond4 i = 1#1), ∀ a, (k0_off1223 v961) a + S1x1024.size a ≤ S40960x1024.size a)
theorem k0_off1223_inb : ∀ (i : grid0.Coords) (v961 : BitVec 32) (k0_hw1215 : k0_chk1215 i v961), ∀ (k0_h4 : k0_cond4 i = 1#1), ∀ a, (k0_off1223 v961) a + S1x1024.size a ≤ S40960x1024.size a := fun i v961 k0_hw1215 k0_h4 => k0_hw1215 k0_h4

def k0_off1224 (v966 : BitVec 32) : Fin 2 → Nat :=
  let c0_i32_1056 : BitVec 32 := 0#32
  ![v966.toNat, 0]

def k0_chk1216 (i : grid0.Coords) (v966 : BitVec 32) : Prop :=
  (∀ (k0_h4 : k0_cond4 i = 1#1), ∀ a, (k0_off1224 v966) a + S1x1024.size a ≤ S40960x1024.size a)
theorem k0_off1224_inb : ∀ (i : grid0.Coords) (v966 : BitVec 32) (k0_hw1216 : k0_chk1216 i v966), ∀ (k0_h4 : k0_cond4 i = 1#1), ∀ a, (k0_off1224 v966) a + S1x1024.size a ≤ S40960x1024.size a := fun i v966 k0_hw1216 k0_h4 => k0_hw1216 k0_h4

def k0_off1225 (v971 : BitVec 32) : Fin 2 → Nat :=
  let c0_i32_1061 : BitVec 32 := 0#32
  ![v971.toNat, 0]

def k0_chk1217 (i : grid0.Coords) (v971 : BitVec 32) : Prop :=
  (∀ (k0_h4 : k0_cond4 i = 1#1), ∀ a, (k0_off1225 v971) a + S1x1024.size a ≤ S40960x1024.size a)
theorem k0_off1225_inb : ∀ (i : grid0.Coords) (v971 : BitVec 32) (k0_hw1217 : k0_chk1217 i v971), ∀ (k0_h4 : k0_cond4 i = 1#1), ∀ a, (k0_off1225 v971) a + S1x1024.size a ≤ S40960x1024.size a := fun i v971 k0_hw1217 k0_h4 => k0_hw1217 k0_h4

def k0_off1226 (v976 : BitVec 32) : Fin 2 → Nat :=
  let c0_i32_1067 : BitVec 32 := 0#32
  ![v976.toNat, 0]

def k0_chk1218 (i : grid0.Coords) (v976 : BitVec 32) : Prop :=
  (∀ (k0_h4 : k0_cond4 i = 1#1), ∀ a, (k0_off1226 v976) a + S1x1024.size a ≤ S40960x1024.size a)
theorem k0_off1226_inb : ∀ (i : grid0.Coords) (v976 : BitVec 32) (k0_hw1218 : k0_chk1218 i v976), ∀ (k0_h4 : k0_cond4 i = 1#1), ∀ a, (k0_off1226 v976) a + S1x1024.size a ≤ S40960x1024.size a := fun i v976 k0_hw1218 k0_h4 => k0_hw1218 k0_h4

def k0_off1227 (v981 : BitVec 32) : Fin 2 → Nat :=
  let c0_i32_1072 : BitVec 32 := 0#32
  ![v981.toNat, 0]

def k0_chk1219 (i : grid0.Coords) (v981 : BitVec 32) : Prop :=
  (∀ (k0_h4 : k0_cond4 i = 1#1), ∀ a, (k0_off1227 v981) a + S1x1024.size a ≤ S40960x1024.size a)
theorem k0_off1227_inb : ∀ (i : grid0.Coords) (v981 : BitVec 32) (k0_hw1219 : k0_chk1219 i v981), ∀ (k0_h4 : k0_cond4 i = 1#1), ∀ a, (k0_off1227 v981) a + S1x1024.size a ≤ S40960x1024.size a := fun i v981 k0_hw1219 k0_h4 => k0_hw1219 k0_h4

def k0_off1228 (v986 : BitVec 32) : Fin 2 → Nat :=
  let c0_i32_1078 : BitVec 32 := 0#32
  ![v986.toNat, 0]

def k0_chk1220 (i : grid0.Coords) (v986 : BitVec 32) : Prop :=
  (∀ (k0_h4 : k0_cond4 i = 1#1), ∀ a, (k0_off1228 v986) a + S1x1024.size a ≤ S40960x1024.size a)
theorem k0_off1228_inb : ∀ (i : grid0.Coords) (v986 : BitVec 32) (k0_hw1220 : k0_chk1220 i v986), ∀ (k0_h4 : k0_cond4 i = 1#1), ∀ a, (k0_off1228 v986) a + S1x1024.size a ≤ S40960x1024.size a := fun i v986 k0_hw1220 k0_h4 => k0_hw1220 k0_h4

def k0_off1229 (v991 : BitVec 32) : Fin 2 → Nat :=
  let c0_i32_1083 : BitVec 32 := 0#32
  ![v991.toNat, 0]

def k0_chk1221 (i : grid0.Coords) (v991 : BitVec 32) : Prop :=
  (∀ (k0_h4 : k0_cond4 i = 1#1), ∀ a, (k0_off1229 v991) a + S1x1024.size a ≤ S40960x1024.size a)
theorem k0_off1229_inb : ∀ (i : grid0.Coords) (v991 : BitVec 32) (k0_hw1221 : k0_chk1221 i v991), ∀ (k0_h4 : k0_cond4 i = 1#1), ∀ a, (k0_off1229 v991) a + S1x1024.size a ≤ S40960x1024.size a := fun i v991 k0_hw1221 k0_h4 => k0_hw1221 k0_h4

def k0_off1230 (v996 : BitVec 32) : Fin 2 → Nat :=
  let c0_i32_1089 : BitVec 32 := 0#32
  ![v996.toNat, 0]

def k0_chk1222 (i : grid0.Coords) (v996 : BitVec 32) : Prop :=
  (∀ (k0_h4 : k0_cond4 i = 1#1), ∀ a, (k0_off1230 v996) a + S1x1024.size a ≤ S40960x1024.size a)
theorem k0_off1230_inb : ∀ (i : grid0.Coords) (v996 : BitVec 32) (k0_hw1222 : k0_chk1222 i v996), ∀ (k0_h4 : k0_cond4 i = 1#1), ∀ a, (k0_off1230 v996) a + S1x1024.size a ≤ S40960x1024.size a := fun i v996 k0_hw1222 k0_h4 => k0_hw1222 k0_h4

def k0_off1231 (v1001 : BitVec 32) : Fin 2 → Nat :=
  let c0_i32_1094 : BitVec 32 := 0#32
  ![v1001.toNat, 0]

def k0_chk1223 (i : grid0.Coords) (v1001 : BitVec 32) : Prop :=
  (∀ (k0_h4 : k0_cond4 i = 1#1), ∀ a, (k0_off1231 v1001) a + S1x1024.size a ≤ S40960x1024.size a)
theorem k0_off1231_inb : ∀ (i : grid0.Coords) (v1001 : BitVec 32) (k0_hw1223 : k0_chk1223 i v1001), ∀ (k0_h4 : k0_cond4 i = 1#1), ∀ a, (k0_off1231 v1001) a + S1x1024.size a ≤ S40960x1024.size a := fun i v1001 k0_hw1223 k0_h4 => k0_hw1223 k0_h4

def k0_off1232 (v1006 : BitVec 32) : Fin 2 → Nat :=
  let c0_i32_1100 : BitVec 32 := 0#32
  ![v1006.toNat, 0]

def k0_chk1224 (i : grid0.Coords) (v1006 : BitVec 32) : Prop :=
  (∀ (k0_h4 : k0_cond4 i = 1#1), ∀ a, (k0_off1232 v1006) a + S1x1024.size a ≤ S40960x1024.size a)
theorem k0_off1232_inb : ∀ (i : grid0.Coords) (v1006 : BitVec 32) (k0_hw1224 : k0_chk1224 i v1006), ∀ (k0_h4 : k0_cond4 i = 1#1), ∀ a, (k0_off1232 v1006) a + S1x1024.size a ≤ S40960x1024.size a := fun i v1006 k0_hw1224 k0_h4 => k0_hw1224 k0_h4

def k0_off1233 (v1011 : BitVec 32) : Fin 2 → Nat :=
  let c0_i32_1105 : BitVec 32 := 0#32
  ![v1011.toNat, 0]

def k0_chk1225 (i : grid0.Coords) (v1011 : BitVec 32) : Prop :=
  (∀ (k0_h4 : k0_cond4 i = 1#1), ∀ a, (k0_off1233 v1011) a + S1x1024.size a ≤ S40960x1024.size a)
theorem k0_off1233_inb : ∀ (i : grid0.Coords) (v1011 : BitVec 32) (k0_hw1225 : k0_chk1225 i v1011), ∀ (k0_h4 : k0_cond4 i = 1#1), ∀ a, (k0_off1233 v1011) a + S1x1024.size a ≤ S40960x1024.size a := fun i v1011 k0_hw1225 k0_h4 => k0_hw1225 k0_h4

def k0_off1234 (v1016 : BitVec 32) : Fin 2 → Nat :=
  let c0_i32_1111 : BitVec 32 := 0#32
  ![v1016.toNat, 0]

def k0_chk1226 (i : grid0.Coords) (v1016 : BitVec 32) : Prop :=
  (∀ (k0_h4 : k0_cond4 i = 1#1), ∀ a, (k0_off1234 v1016) a + S1x1024.size a ≤ S40960x1024.size a)
theorem k0_off1234_inb : ∀ (i : grid0.Coords) (v1016 : BitVec 32) (k0_hw1226 : k0_chk1226 i v1016), ∀ (k0_h4 : k0_cond4 i = 1#1), ∀ a, (k0_off1234 v1016) a + S1x1024.size a ≤ S40960x1024.size a := fun i v1016 k0_hw1226 k0_h4 => k0_hw1226 k0_h4

def k0_off1235 (v1021 : BitVec 32) : Fin 2 → Nat :=
  let c0_i32_1116 : BitVec 32 := 0#32
  ![v1021.toNat, 0]

def k0_chk1227 (i : grid0.Coords) (v1021 : BitVec 32) : Prop :=
  (∀ (k0_h4 : k0_cond4 i = 1#1), ∀ a, (k0_off1235 v1021) a + S1x1024.size a ≤ S40960x1024.size a)
theorem k0_off1235_inb : ∀ (i : grid0.Coords) (v1021 : BitVec 32) (k0_hw1227 : k0_chk1227 i v1021), ∀ (k0_h4 : k0_cond4 i = 1#1), ∀ a, (k0_off1235 v1021) a + S1x1024.size a ≤ S40960x1024.size a := fun i v1021 k0_hw1227 k0_h4 => k0_hw1227 k0_h4

def k0_off1236 (v1026 : BitVec 32) : Fin 2 → Nat :=
  let c0_i32_1122 : BitVec 32 := 0#32
  ![v1026.toNat, 0]

def k0_chk1228 (i : grid0.Coords) (v1026 : BitVec 32) : Prop :=
  (∀ (k0_h4 : k0_cond4 i = 1#1), ∀ a, (k0_off1236 v1026) a + S1x1024.size a ≤ S40960x1024.size a)
theorem k0_off1236_inb : ∀ (i : grid0.Coords) (v1026 : BitVec 32) (k0_hw1228 : k0_chk1228 i v1026), ∀ (k0_h4 : k0_cond4 i = 1#1), ∀ a, (k0_off1236 v1026) a + S1x1024.size a ≤ S40960x1024.size a := fun i v1026 k0_hw1228 k0_h4 => k0_hw1228 k0_h4

def k0_off1237 (v1031 : BitVec 32) : Fin 2 → Nat :=
  let c0_i32_1127 : BitVec 32 := 0#32
  ![v1031.toNat, 0]

def k0_chk1229 (i : grid0.Coords) (v1031 : BitVec 32) : Prop :=
  (∀ (k0_h4 : k0_cond4 i = 1#1), ∀ a, (k0_off1237 v1031) a + S1x1024.size a ≤ S40960x1024.size a)
theorem k0_off1237_inb : ∀ (i : grid0.Coords) (v1031 : BitVec 32) (k0_hw1229 : k0_chk1229 i v1031), ∀ (k0_h4 : k0_cond4 i = 1#1), ∀ a, (k0_off1237 v1031) a + S1x1024.size a ≤ S40960x1024.size a := fun i v1031 k0_hw1229 k0_h4 => k0_hw1229 k0_h4

def k0_off1238 (v1036 : BitVec 32) : Fin 2 → Nat :=
  let c0_i32_1133 : BitVec 32 := 0#32
  ![v1036.toNat, 0]

def k0_chk1230 (i : grid0.Coords) (v1036 : BitVec 32) : Prop :=
  (∀ (k0_h4 : k0_cond4 i = 1#1), ∀ a, (k0_off1238 v1036) a + S1x1024.size a ≤ S40960x1024.size a)
theorem k0_off1238_inb : ∀ (i : grid0.Coords) (v1036 : BitVec 32) (k0_hw1230 : k0_chk1230 i v1036), ∀ (k0_h4 : k0_cond4 i = 1#1), ∀ a, (k0_off1238 v1036) a + S1x1024.size a ≤ S40960x1024.size a := fun i v1036 k0_hw1230 k0_h4 => k0_hw1230 k0_h4

def k0_off1239 (v1041 : BitVec 32) : Fin 2 → Nat :=
  let c0_i32_1138 : BitVec 32 := 0#32
  ![v1041.toNat, 0]

def k0_chk1231 (i : grid0.Coords) (v1041 : BitVec 32) : Prop :=
  (∀ (k0_h4 : k0_cond4 i = 1#1), ∀ a, (k0_off1239 v1041) a + S1x1024.size a ≤ S40960x1024.size a)
theorem k0_off1239_inb : ∀ (i : grid0.Coords) (v1041 : BitVec 32) (k0_hw1231 : k0_chk1231 i v1041), ∀ (k0_h4 : k0_cond4 i = 1#1), ∀ a, (k0_off1239 v1041) a + S1x1024.size a ≤ S40960x1024.size a := fun i v1041 k0_hw1231 k0_h4 => k0_hw1231 k0_h4

def k0_off1240 (v1046 : BitVec 32) : Fin 2 → Nat :=
  let c0_i32_1144 : BitVec 32 := 0#32
  ![v1046.toNat, 0]

def k0_chk1232 (i : grid0.Coords) (v1046 : BitVec 32) : Prop :=
  (∀ (k0_h4 : k0_cond4 i = 1#1), ∀ a, (k0_off1240 v1046) a + S1x1024.size a ≤ S40960x1024.size a)
theorem k0_off1240_inb : ∀ (i : grid0.Coords) (v1046 : BitVec 32) (k0_hw1232 : k0_chk1232 i v1046), ∀ (k0_h4 : k0_cond4 i = 1#1), ∀ a, (k0_off1240 v1046) a + S1x1024.size a ≤ S40960x1024.size a := fun i v1046 k0_hw1232 k0_h4 => k0_hw1232 k0_h4

def k0_off1241 (v1051 : BitVec 32) : Fin 2 → Nat :=
  let c0_i32_1149 : BitVec 32 := 0#32
  ![v1051.toNat, 0]

def k0_chk1233 (i : grid0.Coords) (v1051 : BitVec 32) : Prop :=
  (∀ (k0_h4 : k0_cond4 i = 1#1), ∀ a, (k0_off1241 v1051) a + S1x1024.size a ≤ S40960x1024.size a)
theorem k0_off1241_inb : ∀ (i : grid0.Coords) (v1051 : BitVec 32) (k0_hw1233 : k0_chk1233 i v1051), ∀ (k0_h4 : k0_cond4 i = 1#1), ∀ a, (k0_off1241 v1051) a + S1x1024.size a ≤ S40960x1024.size a := fun i v1051 k0_hw1233 k0_h4 => k0_hw1233 k0_h4

def k0_off1242 (v1056 : BitVec 32) : Fin 2 → Nat :=
  let c0_i32_1155 : BitVec 32 := 0#32
  ![v1056.toNat, 0]

def k0_chk1234 (i : grid0.Coords) (v1056 : BitVec 32) : Prop :=
  (∀ (k0_h4 : k0_cond4 i = 1#1), ∀ a, (k0_off1242 v1056) a + S1x1024.size a ≤ S40960x1024.size a)
theorem k0_off1242_inb : ∀ (i : grid0.Coords) (v1056 : BitVec 32) (k0_hw1234 : k0_chk1234 i v1056), ∀ (k0_h4 : k0_cond4 i = 1#1), ∀ a, (k0_off1242 v1056) a + S1x1024.size a ≤ S40960x1024.size a := fun i v1056 k0_hw1234 k0_h4 => k0_hw1234 k0_h4

def k0_off1243 (v1061 : BitVec 32) : Fin 2 → Nat :=
  let c0_i32_1160 : BitVec 32 := 0#32
  ![v1061.toNat, 0]

def k0_chk1235 (i : grid0.Coords) (v1061 : BitVec 32) : Prop :=
  (∀ (k0_h4 : k0_cond4 i = 1#1), ∀ a, (k0_off1243 v1061) a + S1x1024.size a ≤ S40960x1024.size a)
theorem k0_off1243_inb : ∀ (i : grid0.Coords) (v1061 : BitVec 32) (k0_hw1235 : k0_chk1235 i v1061), ∀ (k0_h4 : k0_cond4 i = 1#1), ∀ a, (k0_off1243 v1061) a + S1x1024.size a ≤ S40960x1024.size a := fun i v1061 k0_hw1235 k0_h4 => k0_hw1235 k0_h4

def k0_off1244 (v1066 : BitVec 32) : Fin 2 → Nat :=
  let c0_i32_1166 : BitVec 32 := 0#32
  ![v1066.toNat, 0]

def k0_chk1236 (i : grid0.Coords) (v1066 : BitVec 32) : Prop :=
  (∀ (k0_h4 : k0_cond4 i = 1#1), ∀ a, (k0_off1244 v1066) a + S1x1024.size a ≤ S40960x1024.size a)
theorem k0_off1244_inb : ∀ (i : grid0.Coords) (v1066 : BitVec 32) (k0_hw1236 : k0_chk1236 i v1066), ∀ (k0_h4 : k0_cond4 i = 1#1), ∀ a, (k0_off1244 v1066) a + S1x1024.size a ≤ S40960x1024.size a := fun i v1066 k0_hw1236 k0_h4 => k0_hw1236 k0_h4

def k0_off1245 (v1071 : BitVec 32) : Fin 2 → Nat :=
  let c0_i32_1171 : BitVec 32 := 0#32
  ![v1071.toNat, 0]

def k0_chk1237 (i : grid0.Coords) (v1071 : BitVec 32) : Prop :=
  (∀ (k0_h4 : k0_cond4 i = 1#1), ∀ a, (k0_off1245 v1071) a + S1x1024.size a ≤ S40960x1024.size a)
theorem k0_off1245_inb : ∀ (i : grid0.Coords) (v1071 : BitVec 32) (k0_hw1237 : k0_chk1237 i v1071), ∀ (k0_h4 : k0_cond4 i = 1#1), ∀ a, (k0_off1245 v1071) a + S1x1024.size a ≤ S40960x1024.size a := fun i v1071 k0_hw1237 k0_h4 => k0_hw1237 k0_h4

def k0_off1246 (v1076 : BitVec 32) : Fin 2 → Nat :=
  let c0_i32_1177 : BitVec 32 := 0#32
  ![v1076.toNat, 0]

def k0_chk1238 (i : grid0.Coords) (v1076 : BitVec 32) : Prop :=
  (∀ (k0_h4 : k0_cond4 i = 1#1), ∀ a, (k0_off1246 v1076) a + S1x1024.size a ≤ S40960x1024.size a)
theorem k0_off1246_inb : ∀ (i : grid0.Coords) (v1076 : BitVec 32) (k0_hw1238 : k0_chk1238 i v1076), ∀ (k0_h4 : k0_cond4 i = 1#1), ∀ a, (k0_off1246 v1076) a + S1x1024.size a ≤ S40960x1024.size a := fun i v1076 k0_hw1238 k0_h4 => k0_hw1238 k0_h4

def k0_off1247 (v1081 : BitVec 32) : Fin 2 → Nat :=
  let c0_i32_1182 : BitVec 32 := 0#32
  ![v1081.toNat, 0]

def k0_chk1239 (i : grid0.Coords) (v1081 : BitVec 32) : Prop :=
  (∀ (k0_h4 : k0_cond4 i = 1#1), ∀ a, (k0_off1247 v1081) a + S1x1024.size a ≤ S40960x1024.size a)
theorem k0_off1247_inb : ∀ (i : grid0.Coords) (v1081 : BitVec 32) (k0_hw1239 : k0_chk1239 i v1081), ∀ (k0_h4 : k0_cond4 i = 1#1), ∀ a, (k0_off1247 v1081) a + S1x1024.size a ≤ S40960x1024.size a := fun i v1081 k0_hw1239 k0_h4 => k0_hw1239 k0_h4

def k0_off1248 (v1086 : BitVec 32) : Fin 2 → Nat :=
  let c0_i32_1188 : BitVec 32 := 0#32
  ![v1086.toNat, 0]

def k0_chk1240 (i : grid0.Coords) (v1086 : BitVec 32) : Prop :=
  (∀ (k0_h4 : k0_cond4 i = 1#1), ∀ a, (k0_off1248 v1086) a + S1x1024.size a ≤ S40960x1024.size a)
theorem k0_off1248_inb : ∀ (i : grid0.Coords) (v1086 : BitVec 32) (k0_hw1240 : k0_chk1240 i v1086), ∀ (k0_h4 : k0_cond4 i = 1#1), ∀ a, (k0_off1248 v1086) a + S1x1024.size a ≤ S40960x1024.size a := fun i v1086 k0_hw1240 k0_h4 => k0_hw1240 k0_h4

def k0_off1249 (v1091 : BitVec 32) : Fin 2 → Nat :=
  let c0_i32_1193 : BitVec 32 := 0#32
  ![v1091.toNat, 0]

def k0_chk1241 (i : grid0.Coords) (v1091 : BitVec 32) : Prop :=
  (∀ (k0_h4 : k0_cond4 i = 1#1), ∀ a, (k0_off1249 v1091) a + S1x1024.size a ≤ S40960x1024.size a)
theorem k0_off1249_inb : ∀ (i : grid0.Coords) (v1091 : BitVec 32) (k0_hw1241 : k0_chk1241 i v1091), ∀ (k0_h4 : k0_cond4 i = 1#1), ∀ a, (k0_off1249 v1091) a + S1x1024.size a ≤ S40960x1024.size a := fun i v1091 k0_hw1241 k0_h4 => k0_hw1241 k0_h4

def k0_off1250 (v1096 : BitVec 32) : Fin 2 → Nat :=
  let c0_i32_1199 : BitVec 32 := 0#32
  ![v1096.toNat, 0]

def k0_chk1242 (i : grid0.Coords) (v1096 : BitVec 32) : Prop :=
  (∀ (k0_h4 : k0_cond4 i = 1#1), ∀ a, (k0_off1250 v1096) a + S1x1024.size a ≤ S40960x1024.size a)
theorem k0_off1250_inb : ∀ (i : grid0.Coords) (v1096 : BitVec 32) (k0_hw1242 : k0_chk1242 i v1096), ∀ (k0_h4 : k0_cond4 i = 1#1), ∀ a, (k0_off1250 v1096) a + S1x1024.size a ≤ S40960x1024.size a := fun i v1096 k0_hw1242 k0_h4 => k0_hw1242 k0_h4

def k0_off1251 (v1101 : BitVec 32) : Fin 2 → Nat :=
  let c0_i32_1204 : BitVec 32 := 0#32
  ![v1101.toNat, 0]

def k0_chk1243 (i : grid0.Coords) (v1101 : BitVec 32) : Prop :=
  (∀ (k0_h4 : k0_cond4 i = 1#1), ∀ a, (k0_off1251 v1101) a + S1x1024.size a ≤ S40960x1024.size a)
theorem k0_off1251_inb : ∀ (i : grid0.Coords) (v1101 : BitVec 32) (k0_hw1243 : k0_chk1243 i v1101), ∀ (k0_h4 : k0_cond4 i = 1#1), ∀ a, (k0_off1251 v1101) a + S1x1024.size a ≤ S40960x1024.size a := fun i v1101 k0_hw1243 k0_h4 => k0_hw1243 k0_h4

def k0_off1252 (v1106 : BitVec 32) : Fin 2 → Nat :=
  let c0_i32_1210 : BitVec 32 := 0#32
  ![v1106.toNat, 0]

def k0_chk1244 (i : grid0.Coords) (v1106 : BitVec 32) : Prop :=
  (∀ (k0_h4 : k0_cond4 i = 1#1), ∀ a, (k0_off1252 v1106) a + S1x1024.size a ≤ S40960x1024.size a)
theorem k0_off1252_inb : ∀ (i : grid0.Coords) (v1106 : BitVec 32) (k0_hw1244 : k0_chk1244 i v1106), ∀ (k0_h4 : k0_cond4 i = 1#1), ∀ a, (k0_off1252 v1106) a + S1x1024.size a ≤ S40960x1024.size a := fun i v1106 k0_hw1244 k0_h4 => k0_hw1244 k0_h4

def k0_off1253 (v1111 : BitVec 32) : Fin 2 → Nat :=
  let c0_i32_1215 : BitVec 32 := 0#32
  ![v1111.toNat, 0]

def k0_chk1245 (i : grid0.Coords) (v1111 : BitVec 32) : Prop :=
  (∀ (k0_h4 : k0_cond4 i = 1#1), ∀ a, (k0_off1253 v1111) a + S1x1024.size a ≤ S40960x1024.size a)
theorem k0_off1253_inb : ∀ (i : grid0.Coords) (v1111 : BitVec 32) (k0_hw1245 : k0_chk1245 i v1111), ∀ (k0_h4 : k0_cond4 i = 1#1), ∀ a, (k0_off1253 v1111) a + S1x1024.size a ≤ S40960x1024.size a := fun i v1111 k0_hw1245 k0_h4 => k0_hw1245 k0_h4

def k0_off1254 (v1116 : BitVec 32) : Fin 2 → Nat :=
  let c0_i32_1221 : BitVec 32 := 0#32
  ![v1116.toNat, 0]

def k0_chk1246 (i : grid0.Coords) (v1116 : BitVec 32) : Prop :=
  (∀ (k0_h4 : k0_cond4 i = 1#1), ∀ a, (k0_off1254 v1116) a + S1x1024.size a ≤ S40960x1024.size a)
theorem k0_off1254_inb : ∀ (i : grid0.Coords) (v1116 : BitVec 32) (k0_hw1246 : k0_chk1246 i v1116), ∀ (k0_h4 : k0_cond4 i = 1#1), ∀ a, (k0_off1254 v1116) a + S1x1024.size a ≤ S40960x1024.size a := fun i v1116 k0_hw1246 k0_h4 => k0_hw1246 k0_h4

def k0_off1255 (v1121 : BitVec 32) : Fin 2 → Nat :=
  let c0_i32_1226 : BitVec 32 := 0#32
  ![v1121.toNat, 0]

def k0_chk1247 (i : grid0.Coords) (v1121 : BitVec 32) : Prop :=
  (∀ (k0_h4 : k0_cond4 i = 1#1), ∀ a, (k0_off1255 v1121) a + S1x1024.size a ≤ S40960x1024.size a)
theorem k0_off1255_inb : ∀ (i : grid0.Coords) (v1121 : BitVec 32) (k0_hw1247 : k0_chk1247 i v1121), ∀ (k0_h4 : k0_cond4 i = 1#1), ∀ a, (k0_off1255 v1121) a + S1x1024.size a ≤ S40960x1024.size a := fun i v1121 k0_hw1247 k0_h4 => k0_hw1247 k0_h4

def k0_off1256 (v1126 : BitVec 32) : Fin 2 → Nat :=
  let c0_i32_1232 : BitVec 32 := 0#32
  ![v1126.toNat, 0]

def k0_chk1248 (i : grid0.Coords) (v1126 : BitVec 32) : Prop :=
  (∀ (k0_h4 : k0_cond4 i = 1#1), ∀ a, (k0_off1256 v1126) a + S1x1024.size a ≤ S40960x1024.size a)
theorem k0_off1256_inb : ∀ (i : grid0.Coords) (v1126 : BitVec 32) (k0_hw1248 : k0_chk1248 i v1126), ∀ (k0_h4 : k0_cond4 i = 1#1), ∀ a, (k0_off1256 v1126) a + S1x1024.size a ≤ S40960x1024.size a := fun i v1126 k0_hw1248 k0_h4 => k0_hw1248 k0_h4

def k0_off1257 (v1131 : BitVec 32) : Fin 2 → Nat :=
  let c0_i32_1237 : BitVec 32 := 0#32
  ![v1131.toNat, 0]

def k0_chk1249 (i : grid0.Coords) (v1131 : BitVec 32) : Prop :=
  (∀ (k0_h4 : k0_cond4 i = 1#1), ∀ a, (k0_off1257 v1131) a + S1x1024.size a ≤ S40960x1024.size a)
theorem k0_off1257_inb : ∀ (i : grid0.Coords) (v1131 : BitVec 32) (k0_hw1249 : k0_chk1249 i v1131), ∀ (k0_h4 : k0_cond4 i = 1#1), ∀ a, (k0_off1257 v1131) a + S1x1024.size a ≤ S40960x1024.size a := fun i v1131 k0_hw1249 k0_h4 => k0_hw1249 k0_h4

def k0_off1258 (v1136 : BitVec 32) : Fin 2 → Nat :=
  let c0_i32_1243 : BitVec 32 := 0#32
  ![v1136.toNat, 0]

def k0_chk1250 (i : grid0.Coords) (v1136 : BitVec 32) : Prop :=
  (∀ (k0_h4 : k0_cond4 i = 1#1), ∀ a, (k0_off1258 v1136) a + S1x1024.size a ≤ S40960x1024.size a)
theorem k0_off1258_inb : ∀ (i : grid0.Coords) (v1136 : BitVec 32) (k0_hw1250 : k0_chk1250 i v1136), ∀ (k0_h4 : k0_cond4 i = 1#1), ∀ a, (k0_off1258 v1136) a + S1x1024.size a ≤ S40960x1024.size a := fun i v1136 k0_hw1250 k0_h4 => k0_hw1250 k0_h4

def k0_off1259 (v1141 : BitVec 32) : Fin 2 → Nat :=
  let c0_i32_1248 : BitVec 32 := 0#32
  ![v1141.toNat, 0]

def k0_chk1251 (i : grid0.Coords) (v1141 : BitVec 32) : Prop :=
  (∀ (k0_h4 : k0_cond4 i = 1#1), ∀ a, (k0_off1259 v1141) a + S1x1024.size a ≤ S40960x1024.size a)
theorem k0_off1259_inb : ∀ (i : grid0.Coords) (v1141 : BitVec 32) (k0_hw1251 : k0_chk1251 i v1141), ∀ (k0_h4 : k0_cond4 i = 1#1), ∀ a, (k0_off1259 v1141) a + S1x1024.size a ≤ S40960x1024.size a := fun i v1141 k0_hw1251 k0_h4 => k0_hw1251 k0_h4

def k0_off1260 (v1146 : BitVec 32) : Fin 2 → Nat :=
  let c0_i32_1254 : BitVec 32 := 0#32
  ![v1146.toNat, 0]

def k0_chk1252 (i : grid0.Coords) (v1146 : BitVec 32) : Prop :=
  (∀ (k0_h4 : k0_cond4 i = 1#1), ∀ a, (k0_off1260 v1146) a + S1x1024.size a ≤ S40960x1024.size a)
theorem k0_off1260_inb : ∀ (i : grid0.Coords) (v1146 : BitVec 32) (k0_hw1252 : k0_chk1252 i v1146), ∀ (k0_h4 : k0_cond4 i = 1#1), ∀ a, (k0_off1260 v1146) a + S1x1024.size a ≤ S40960x1024.size a := fun i v1146 k0_hw1252 k0_h4 => k0_hw1252 k0_h4

def k0_off1261 (v1151 : BitVec 32) : Fin 2 → Nat :=
  let c0_i32_1259 : BitVec 32 := 0#32
  ![v1151.toNat, 0]

def k0_chk1253 (i : grid0.Coords) (v1151 : BitVec 32) : Prop :=
  (∀ (k0_h4 : k0_cond4 i = 1#1), ∀ a, (k0_off1261 v1151) a + S1x1024.size a ≤ S40960x1024.size a)
theorem k0_off1261_inb : ∀ (i : grid0.Coords) (v1151 : BitVec 32) (k0_hw1253 : k0_chk1253 i v1151), ∀ (k0_h4 : k0_cond4 i = 1#1), ∀ a, (k0_off1261 v1151) a + S1x1024.size a ≤ S40960x1024.size a := fun i v1151 k0_hw1253 k0_h4 => k0_hw1253 k0_h4

def k0_off1262 (v1156 : BitVec 32) : Fin 2 → Nat :=
  let c0_i32_1265 : BitVec 32 := 0#32
  ![v1156.toNat, 0]

def k0_chk1254 (i : grid0.Coords) (v1156 : BitVec 32) : Prop :=
  (∀ (k0_h4 : k0_cond4 i = 1#1), ∀ a, (k0_off1262 v1156) a + S1x1024.size a ≤ S40960x1024.size a)
theorem k0_off1262_inb : ∀ (i : grid0.Coords) (v1156 : BitVec 32) (k0_hw1254 : k0_chk1254 i v1156), ∀ (k0_h4 : k0_cond4 i = 1#1), ∀ a, (k0_off1262 v1156) a + S1x1024.size a ≤ S40960x1024.size a := fun i v1156 k0_hw1254 k0_h4 => k0_hw1254 k0_h4

def k0_off1263 (v1161 : BitVec 32) : Fin 2 → Nat :=
  let c0_i32_1270 : BitVec 32 := 0#32
  ![v1161.toNat, 0]

def k0_chk1255 (i : grid0.Coords) (v1161 : BitVec 32) : Prop :=
  (∀ (k0_h4 : k0_cond4 i = 1#1), ∀ a, (k0_off1263 v1161) a + S1x1024.size a ≤ S40960x1024.size a)
theorem k0_off1263_inb : ∀ (i : grid0.Coords) (v1161 : BitVec 32) (k0_hw1255 : k0_chk1255 i v1161), ∀ (k0_h4 : k0_cond4 i = 1#1), ∀ a, (k0_off1263 v1161) a + S1x1024.size a ≤ S40960x1024.size a := fun i v1161 k0_hw1255 k0_h4 => k0_hw1255 k0_h4

def k0_off1264 (v1166 : BitVec 32) : Fin 2 → Nat :=
  let c0_i32_1276 : BitVec 32 := 0#32
  ![v1166.toNat, 0]

def k0_chk1256 (i : grid0.Coords) (v1166 : BitVec 32) : Prop :=
  (∀ (k0_h4 : k0_cond4 i = 1#1), ∀ a, (k0_off1264 v1166) a + S1x1024.size a ≤ S40960x1024.size a)
theorem k0_off1264_inb : ∀ (i : grid0.Coords) (v1166 : BitVec 32) (k0_hw1256 : k0_chk1256 i v1166), ∀ (k0_h4 : k0_cond4 i = 1#1), ∀ a, (k0_off1264 v1166) a + S1x1024.size a ≤ S40960x1024.size a := fun i v1166 k0_hw1256 k0_h4 => k0_hw1256 k0_h4

def k0_off1265 (v1171 : BitVec 32) : Fin 2 → Nat :=
  let c0_i32_1281 : BitVec 32 := 0#32
  ![v1171.toNat, 0]

def k0_chk1257 (i : grid0.Coords) (v1171 : BitVec 32) : Prop :=
  (∀ (k0_h4 : k0_cond4 i = 1#1), ∀ a, (k0_off1265 v1171) a + S1x1024.size a ≤ S40960x1024.size a)
theorem k0_off1265_inb : ∀ (i : grid0.Coords) (v1171 : BitVec 32) (k0_hw1257 : k0_chk1257 i v1171), ∀ (k0_h4 : k0_cond4 i = 1#1), ∀ a, (k0_off1265 v1171) a + S1x1024.size a ≤ S40960x1024.size a := fun i v1171 k0_hw1257 k0_h4 => k0_hw1257 k0_h4

def k0_off1266 (v1176 : BitVec 32) : Fin 2 → Nat :=
  let c0_i32_1287 : BitVec 32 := 0#32
  ![v1176.toNat, 0]

def k0_chk1258 (i : grid0.Coords) (v1176 : BitVec 32) : Prop :=
  (∀ (k0_h4 : k0_cond4 i = 1#1), ∀ a, (k0_off1266 v1176) a + S1x1024.size a ≤ S40960x1024.size a)
theorem k0_off1266_inb : ∀ (i : grid0.Coords) (v1176 : BitVec 32) (k0_hw1258 : k0_chk1258 i v1176), ∀ (k0_h4 : k0_cond4 i = 1#1), ∀ a, (k0_off1266 v1176) a + S1x1024.size a ≤ S40960x1024.size a := fun i v1176 k0_hw1258 k0_h4 => k0_hw1258 k0_h4

def k0_off1267 (v1181 : BitVec 32) : Fin 2 → Nat :=
  let c0_i32_1292 : BitVec 32 := 0#32
  ![v1181.toNat, 0]

def k0_chk1259 (i : grid0.Coords) (v1181 : BitVec 32) : Prop :=
  (∀ (k0_h4 : k0_cond4 i = 1#1), ∀ a, (k0_off1267 v1181) a + S1x1024.size a ≤ S40960x1024.size a)
theorem k0_off1267_inb : ∀ (i : grid0.Coords) (v1181 : BitVec 32) (k0_hw1259 : k0_chk1259 i v1181), ∀ (k0_h4 : k0_cond4 i = 1#1), ∀ a, (k0_off1267 v1181) a + S1x1024.size a ≤ S40960x1024.size a := fun i v1181 k0_hw1259 k0_h4 => k0_hw1259 k0_h4

def k0_off1268 (v1186 : BitVec 32) : Fin 2 → Nat :=
  let c0_i32_1298 : BitVec 32 := 0#32
  ![v1186.toNat, 0]

def k0_chk1260 (i : grid0.Coords) (v1186 : BitVec 32) : Prop :=
  (∀ (k0_h4 : k0_cond4 i = 1#1), ∀ a, (k0_off1268 v1186) a + S1x1024.size a ≤ S40960x1024.size a)
theorem k0_off1268_inb : ∀ (i : grid0.Coords) (v1186 : BitVec 32) (k0_hw1260 : k0_chk1260 i v1186), ∀ (k0_h4 : k0_cond4 i = 1#1), ∀ a, (k0_off1268 v1186) a + S1x1024.size a ≤ S40960x1024.size a := fun i v1186 k0_hw1260 k0_h4 => k0_hw1260 k0_h4

def k0_off1269 (v1191 : BitVec 32) : Fin 2 → Nat :=
  let c0_i32_1303 : BitVec 32 := 0#32
  ![v1191.toNat, 0]

def k0_chk1261 (i : grid0.Coords) (v1191 : BitVec 32) : Prop :=
  (∀ (k0_h4 : k0_cond4 i = 1#1), ∀ a, (k0_off1269 v1191) a + S1x1024.size a ≤ S40960x1024.size a)
theorem k0_off1269_inb : ∀ (i : grid0.Coords) (v1191 : BitVec 32) (k0_hw1261 : k0_chk1261 i v1191), ∀ (k0_h4 : k0_cond4 i = 1#1), ∀ a, (k0_off1269 v1191) a + S1x1024.size a ≤ S40960x1024.size a := fun i v1191 k0_hw1261 k0_h4 => k0_hw1261 k0_h4

def k0_off1270 (v1196 : BitVec 32) : Fin 2 → Nat :=
  let c0_i32_1309 : BitVec 32 := 0#32
  ![v1196.toNat, 0]

def k0_chk1262 (i : grid0.Coords) (v1196 : BitVec 32) : Prop :=
  (∀ (k0_h4 : k0_cond4 i = 1#1), ∀ a, (k0_off1270 v1196) a + S1x1024.size a ≤ S40960x1024.size a)
theorem k0_off1270_inb : ∀ (i : grid0.Coords) (v1196 : BitVec 32) (k0_hw1262 : k0_chk1262 i v1196), ∀ (k0_h4 : k0_cond4 i = 1#1), ∀ a, (k0_off1270 v1196) a + S1x1024.size a ≤ S40960x1024.size a := fun i v1196 k0_hw1262 k0_h4 => k0_hw1262 k0_h4

def k0_off1271 (v1201 : BitVec 32) : Fin 2 → Nat :=
  let c0_i32_1314 : BitVec 32 := 0#32
  ![v1201.toNat, 0]

def k0_chk1263 (i : grid0.Coords) (v1201 : BitVec 32) : Prop :=
  (∀ (k0_h4 : k0_cond4 i = 1#1), ∀ a, (k0_off1271 v1201) a + S1x1024.size a ≤ S40960x1024.size a)
theorem k0_off1271_inb : ∀ (i : grid0.Coords) (v1201 : BitVec 32) (k0_hw1263 : k0_chk1263 i v1201), ∀ (k0_h4 : k0_cond4 i = 1#1), ∀ a, (k0_off1271 v1201) a + S1x1024.size a ≤ S40960x1024.size a := fun i v1201 k0_hw1263 k0_h4 => k0_hw1263 k0_h4

def k0_off1272 (v1206 : BitVec 32) : Fin 2 → Nat :=
  let c0_i32_1320 : BitVec 32 := 0#32
  ![v1206.toNat, 0]

def k0_chk1264 (i : grid0.Coords) (v1206 : BitVec 32) : Prop :=
  (∀ (k0_h4 : k0_cond4 i = 1#1), ∀ a, (k0_off1272 v1206) a + S1x1024.size a ≤ S40960x1024.size a)
theorem k0_off1272_inb : ∀ (i : grid0.Coords) (v1206 : BitVec 32) (k0_hw1264 : k0_chk1264 i v1206), ∀ (k0_h4 : k0_cond4 i = 1#1), ∀ a, (k0_off1272 v1206) a + S1x1024.size a ≤ S40960x1024.size a := fun i v1206 k0_hw1264 k0_h4 => k0_hw1264 k0_h4

def k0_off1273 (v1211 : BitVec 32) : Fin 2 → Nat :=
  let c0_i32_1325 : BitVec 32 := 0#32
  ![v1211.toNat, 0]

def k0_chk1265 (i : grid0.Coords) (v1211 : BitVec 32) : Prop :=
  (∀ (k0_h4 : k0_cond4 i = 1#1), ∀ a, (k0_off1273 v1211) a + S1x1024.size a ≤ S40960x1024.size a)
theorem k0_off1273_inb : ∀ (i : grid0.Coords) (v1211 : BitVec 32) (k0_hw1265 : k0_chk1265 i v1211), ∀ (k0_h4 : k0_cond4 i = 1#1), ∀ a, (k0_off1273 v1211) a + S1x1024.size a ≤ S40960x1024.size a := fun i v1211 k0_hw1265 k0_h4 => k0_hw1265 k0_h4

def k0_off1274 (v1216 : BitVec 32) : Fin 2 → Nat :=
  let c0_i32_1331 : BitVec 32 := 0#32
  ![v1216.toNat, 0]

def k0_chk1266 (i : grid0.Coords) (v1216 : BitVec 32) : Prop :=
  (∀ (k0_h4 : k0_cond4 i = 1#1), ∀ a, (k0_off1274 v1216) a + S1x1024.size a ≤ S40960x1024.size a)
theorem k0_off1274_inb : ∀ (i : grid0.Coords) (v1216 : BitVec 32) (k0_hw1266 : k0_chk1266 i v1216), ∀ (k0_h4 : k0_cond4 i = 1#1), ∀ a, (k0_off1274 v1216) a + S1x1024.size a ≤ S40960x1024.size a := fun i v1216 k0_hw1266 k0_h4 => k0_hw1266 k0_h4

def k0_off1275 (v1221 : BitVec 32) : Fin 2 → Nat :=
  let c0_i32_1336 : BitVec 32 := 0#32
  ![v1221.toNat, 0]

def k0_chk1267 (i : grid0.Coords) (v1221 : BitVec 32) : Prop :=
  (∀ (k0_h4 : k0_cond4 i = 1#1), ∀ a, (k0_off1275 v1221) a + S1x1024.size a ≤ S40960x1024.size a)
theorem k0_off1275_inb : ∀ (i : grid0.Coords) (v1221 : BitVec 32) (k0_hw1267 : k0_chk1267 i v1221), ∀ (k0_h4 : k0_cond4 i = 1#1), ∀ a, (k0_off1275 v1221) a + S1x1024.size a ≤ S40960x1024.size a := fun i v1221 k0_hw1267 k0_h4 => k0_hw1267 k0_h4

def k0_off1276 (v1226 : BitVec 32) : Fin 2 → Nat :=
  let c0_i32_1342 : BitVec 32 := 0#32
  ![v1226.toNat, 0]

def k0_chk1268 (i : grid0.Coords) (v1226 : BitVec 32) : Prop :=
  (∀ (k0_h4 : k0_cond4 i = 1#1), ∀ a, (k0_off1276 v1226) a + S1x1024.size a ≤ S40960x1024.size a)
theorem k0_off1276_inb : ∀ (i : grid0.Coords) (v1226 : BitVec 32) (k0_hw1268 : k0_chk1268 i v1226), ∀ (k0_h4 : k0_cond4 i = 1#1), ∀ a, (k0_off1276 v1226) a + S1x1024.size a ≤ S40960x1024.size a := fun i v1226 k0_hw1268 k0_h4 => k0_hw1268 k0_h4

def k0_off1277 (v1231 : BitVec 32) : Fin 2 → Nat :=
  let c0_i32_1347 : BitVec 32 := 0#32
  ![v1231.toNat, 0]

def k0_chk1269 (i : grid0.Coords) (v1231 : BitVec 32) : Prop :=
  (∀ (k0_h4 : k0_cond4 i = 1#1), ∀ a, (k0_off1277 v1231) a + S1x1024.size a ≤ S40960x1024.size a)
theorem k0_off1277_inb : ∀ (i : grid0.Coords) (v1231 : BitVec 32) (k0_hw1269 : k0_chk1269 i v1231), ∀ (k0_h4 : k0_cond4 i = 1#1), ∀ a, (k0_off1277 v1231) a + S1x1024.size a ≤ S40960x1024.size a := fun i v1231 k0_hw1269 k0_h4 => k0_hw1269 k0_h4

def k0_off1278 (v1236 : BitVec 32) : Fin 2 → Nat :=
  let c0_i32_1353 : BitVec 32 := 0#32
  ![v1236.toNat, 0]

def k0_chk1270 (i : grid0.Coords) (v1236 : BitVec 32) : Prop :=
  (∀ (k0_h4 : k0_cond4 i = 1#1), ∀ a, (k0_off1278 v1236) a + S1x1024.size a ≤ S40960x1024.size a)
theorem k0_off1278_inb : ∀ (i : grid0.Coords) (v1236 : BitVec 32) (k0_hw1270 : k0_chk1270 i v1236), ∀ (k0_h4 : k0_cond4 i = 1#1), ∀ a, (k0_off1278 v1236) a + S1x1024.size a ≤ S40960x1024.size a := fun i v1236 k0_hw1270 k0_h4 => k0_hw1270 k0_h4

def k0_off1279 (v1241 : BitVec 32) : Fin 2 → Nat :=
  let c0_i32_1358 : BitVec 32 := 0#32
  ![v1241.toNat, 0]

def k0_chk1271 (i : grid0.Coords) (v1241 : BitVec 32) : Prop :=
  (∀ (k0_h4 : k0_cond4 i = 1#1), ∀ a, (k0_off1279 v1241) a + S1x1024.size a ≤ S40960x1024.size a)
theorem k0_off1279_inb : ∀ (i : grid0.Coords) (v1241 : BitVec 32) (k0_hw1271 : k0_chk1271 i v1241), ∀ (k0_h4 : k0_cond4 i = 1#1), ∀ a, (k0_off1279 v1241) a + S1x1024.size a ≤ S40960x1024.size a := fun i v1241 k0_hw1271 k0_h4 => k0_hw1271 k0_h4

def k0_off1280 (v1246 : BitVec 32) : Fin 2 → Nat :=
  let c0_i32_1364 : BitVec 32 := 0#32
  ![v1246.toNat, 0]

def k0_chk1272 (i : grid0.Coords) (v1246 : BitVec 32) : Prop :=
  (∀ (k0_h4 : k0_cond4 i = 1#1), ∀ a, (k0_off1280 v1246) a + S1x1024.size a ≤ S40960x1024.size a)
theorem k0_off1280_inb : ∀ (i : grid0.Coords) (v1246 : BitVec 32) (k0_hw1272 : k0_chk1272 i v1246), ∀ (k0_h4 : k0_cond4 i = 1#1), ∀ a, (k0_off1280 v1246) a + S1x1024.size a ≤ S40960x1024.size a := fun i v1246 k0_hw1272 k0_h4 => k0_hw1272 k0_h4

def k0_off1281 (v1251 : BitVec 32) : Fin 2 → Nat :=
  let c0_i32_1369 : BitVec 32 := 0#32
  ![v1251.toNat, 0]

def k0_chk1273 (i : grid0.Coords) (v1251 : BitVec 32) : Prop :=
  (∀ (k0_h4 : k0_cond4 i = 1#1), ∀ a, (k0_off1281 v1251) a + S1x1024.size a ≤ S40960x1024.size a)
theorem k0_off1281_inb : ∀ (i : grid0.Coords) (v1251 : BitVec 32) (k0_hw1273 : k0_chk1273 i v1251), ∀ (k0_h4 : k0_cond4 i = 1#1), ∀ a, (k0_off1281 v1251) a + S1x1024.size a ≤ S40960x1024.size a := fun i v1251 k0_hw1273 k0_h4 => k0_hw1273 k0_h4

def k0_off1282 (v1256 : BitVec 32) : Fin 2 → Nat :=
  let c0_i32_1375 : BitVec 32 := 0#32
  ![v1256.toNat, 0]

def k0_chk1274 (i : grid0.Coords) (v1256 : BitVec 32) : Prop :=
  (∀ (k0_h4 : k0_cond4 i = 1#1), ∀ a, (k0_off1282 v1256) a + S1x1024.size a ≤ S40960x1024.size a)
theorem k0_off1282_inb : ∀ (i : grid0.Coords) (v1256 : BitVec 32) (k0_hw1274 : k0_chk1274 i v1256), ∀ (k0_h4 : k0_cond4 i = 1#1), ∀ a, (k0_off1282 v1256) a + S1x1024.size a ≤ S40960x1024.size a := fun i v1256 k0_hw1274 k0_h4 => k0_hw1274 k0_h4

def k0_off1283 (v1261 : BitVec 32) : Fin 2 → Nat :=
  let c0_i32_1380 : BitVec 32 := 0#32
  ![v1261.toNat, 0]

def k0_chk1275 (i : grid0.Coords) (v1261 : BitVec 32) : Prop :=
  (∀ (k0_h4 : k0_cond4 i = 1#1), ∀ a, (k0_off1283 v1261) a + S1x1024.size a ≤ S40960x1024.size a)
theorem k0_off1283_inb : ∀ (i : grid0.Coords) (v1261 : BitVec 32) (k0_hw1275 : k0_chk1275 i v1261), ∀ (k0_h4 : k0_cond4 i = 1#1), ∀ a, (k0_off1283 v1261) a + S1x1024.size a ≤ S40960x1024.size a := fun i v1261 k0_hw1275 k0_h4 => k0_hw1275 k0_h4

def k0_off1284 (v1266 : BitVec 32) : Fin 2 → Nat :=
  let c0_i32_1386 : BitVec 32 := 0#32
  ![v1266.toNat, 0]

def k0_chk1276 (i : grid0.Coords) (v1266 : BitVec 32) : Prop :=
  (∀ (k0_h4 : k0_cond4 i = 1#1), ∀ a, (k0_off1284 v1266) a + S1x1024.size a ≤ S40960x1024.size a)
theorem k0_off1284_inb : ∀ (i : grid0.Coords) (v1266 : BitVec 32) (k0_hw1276 : k0_chk1276 i v1266), ∀ (k0_h4 : k0_cond4 i = 1#1), ∀ a, (k0_off1284 v1266) a + S1x1024.size a ≤ S40960x1024.size a := fun i v1266 k0_hw1276 k0_h4 => k0_hw1276 k0_h4

def k0_off1285 (v1271 : BitVec 32) : Fin 2 → Nat :=
  let c0_i32_1391 : BitVec 32 := 0#32
  ![v1271.toNat, 0]

def k0_chk1277 (i : grid0.Coords) (v1271 : BitVec 32) : Prop :=
  (∀ (k0_h4 : k0_cond4 i = 1#1), ∀ a, (k0_off1285 v1271) a + S1x1024.size a ≤ S40960x1024.size a)
theorem k0_off1285_inb : ∀ (i : grid0.Coords) (v1271 : BitVec 32) (k0_hw1277 : k0_chk1277 i v1271), ∀ (k0_h4 : k0_cond4 i = 1#1), ∀ a, (k0_off1285 v1271) a + S1x1024.size a ≤ S40960x1024.size a := fun i v1271 k0_hw1277 k0_h4 => k0_hw1277 k0_h4

def k0_off1286 (v1276 : BitVec 32) : Fin 2 → Nat :=
  let c0_i32_1397 : BitVec 32 := 0#32
  ![v1276.toNat, 0]

def k0_chk1278 (i : grid0.Coords) (v1276 : BitVec 32) : Prop :=
  (∀ (k0_h4 : k0_cond4 i = 1#1), ∀ a, (k0_off1286 v1276) a + S1x1024.size a ≤ S40960x1024.size a)
theorem k0_off1286_inb : ∀ (i : grid0.Coords) (v1276 : BitVec 32) (k0_hw1278 : k0_chk1278 i v1276), ∀ (k0_h4 : k0_cond4 i = 1#1), ∀ a, (k0_off1286 v1276) a + S1x1024.size a ≤ S40960x1024.size a := fun i v1276 k0_hw1278 k0_h4 => k0_hw1278 k0_h4

def k0_off1287 (v1281 : BitVec 32) : Fin 2 → Nat :=
  let c0_i32_1402 : BitVec 32 := 0#32
  ![v1281.toNat, 0]

def k0_chk1279 (i : grid0.Coords) (v1281 : BitVec 32) : Prop :=
  (∀ (k0_h4 : k0_cond4 i = 1#1), ∀ a, (k0_off1287 v1281) a + S1x1024.size a ≤ S40960x1024.size a)
theorem k0_off1287_inb : ∀ (i : grid0.Coords) (v1281 : BitVec 32) (k0_hw1279 : k0_chk1279 i v1281), ∀ (k0_h4 : k0_cond4 i = 1#1), ∀ a, (k0_off1287 v1281) a + S1x1024.size a ≤ S40960x1024.size a := fun i v1281 k0_hw1279 k0_h4 => k0_hw1279 k0_h4

def k0_off1288 (v1286 : BitVec 32) : Fin 2 → Nat :=
  let c0_i32_1408 : BitVec 32 := 0#32
  ![v1286.toNat, 0]

def k0_chk1280 (i : grid0.Coords) (v1286 : BitVec 32) : Prop :=
  (∀ (k0_h4 : k0_cond4 i = 1#1), ∀ a, (k0_off1288 v1286) a + S1x1024.size a ≤ S40960x1024.size a)
theorem k0_off1288_inb : ∀ (i : grid0.Coords) (v1286 : BitVec 32) (k0_hw1280 : k0_chk1280 i v1286), ∀ (k0_h4 : k0_cond4 i = 1#1), ∀ a, (k0_off1288 v1286) a + S1x1024.size a ≤ S40960x1024.size a := fun i v1286 k0_hw1280 k0_h4 => k0_hw1280 k0_h4

def k0_off1289 (v1291 : BitVec 32) : Fin 2 → Nat :=
  let c0_i32_1413 : BitVec 32 := 0#32
  ![v1291.toNat, 0]

def k0_chk1281 (i : grid0.Coords) (v1291 : BitVec 32) : Prop :=
  (∀ (k0_h4 : k0_cond4 i = 1#1), ∀ a, (k0_off1289 v1291) a + S1x1024.size a ≤ S40960x1024.size a)
theorem k0_off1289_inb : ∀ (i : grid0.Coords) (v1291 : BitVec 32) (k0_hw1281 : k0_chk1281 i v1291), ∀ (k0_h4 : k0_cond4 i = 1#1), ∀ a, (k0_off1289 v1291) a + S1x1024.size a ≤ S40960x1024.size a := fun i v1291 k0_hw1281 k0_h4 => k0_hw1281 k0_h4

def k0_off1290 (v1296 : BitVec 32) : Fin 2 → Nat :=
  let c0_i32_1419 : BitVec 32 := 0#32
  ![v1296.toNat, 0]

def k0_chk1282 (i : grid0.Coords) (v1296 : BitVec 32) : Prop :=
  (∀ (k0_h4 : k0_cond4 i = 1#1), ∀ a, (k0_off1290 v1296) a + S1x1024.size a ≤ S40960x1024.size a)
theorem k0_off1290_inb : ∀ (i : grid0.Coords) (v1296 : BitVec 32) (k0_hw1282 : k0_chk1282 i v1296), ∀ (k0_h4 : k0_cond4 i = 1#1), ∀ a, (k0_off1290 v1296) a + S1x1024.size a ≤ S40960x1024.size a := fun i v1296 k0_hw1282 k0_h4 => k0_hw1282 k0_h4

def k0_off1291 (v1301 : BitVec 32) : Fin 2 → Nat :=
  let c0_i32_1424 : BitVec 32 := 0#32
  ![v1301.toNat, 0]

def k0_chk1283 (i : grid0.Coords) (v1301 : BitVec 32) : Prop :=
  (∀ (k0_h4 : k0_cond4 i = 1#1), ∀ a, (k0_off1291 v1301) a + S1x1024.size a ≤ S40960x1024.size a)
theorem k0_off1291_inb : ∀ (i : grid0.Coords) (v1301 : BitVec 32) (k0_hw1283 : k0_chk1283 i v1301), ∀ (k0_h4 : k0_cond4 i = 1#1), ∀ a, (k0_off1291 v1301) a + S1x1024.size a ≤ S40960x1024.size a := fun i v1301 k0_hw1283 k0_h4 => k0_hw1283 k0_h4

def k0_off1292 (v1306 : BitVec 32) : Fin 2 → Nat :=
  let c0_i32_1430 : BitVec 32 := 0#32
  ![v1306.toNat, 0]

def k0_chk1284 (i : grid0.Coords) (v1306 : BitVec 32) : Prop :=
  (∀ (k0_h4 : k0_cond4 i = 1#1), ∀ a, (k0_off1292 v1306) a + S1x1024.size a ≤ S40960x1024.size a)
theorem k0_off1292_inb : ∀ (i : grid0.Coords) (v1306 : BitVec 32) (k0_hw1284 : k0_chk1284 i v1306), ∀ (k0_h4 : k0_cond4 i = 1#1), ∀ a, (k0_off1292 v1306) a + S1x1024.size a ≤ S40960x1024.size a := fun i v1306 k0_hw1284 k0_h4 => k0_hw1284 k0_h4

def k0_off1293 (v1311 : BitVec 32) : Fin 2 → Nat :=
  let c0_i32_1435 : BitVec 32 := 0#32
  ![v1311.toNat, 0]

def k0_chk1285 (i : grid0.Coords) (v1311 : BitVec 32) : Prop :=
  (∀ (k0_h4 : k0_cond4 i = 1#1), ∀ a, (k0_off1293 v1311) a + S1x1024.size a ≤ S40960x1024.size a)
theorem k0_off1293_inb : ∀ (i : grid0.Coords) (v1311 : BitVec 32) (k0_hw1285 : k0_chk1285 i v1311), ∀ (k0_h4 : k0_cond4 i = 1#1), ∀ a, (k0_off1293 v1311) a + S1x1024.size a ≤ S40960x1024.size a := fun i v1311 k0_hw1285 k0_h4 => k0_hw1285 k0_h4

def k0_off1294 (v1316 : BitVec 32) : Fin 2 → Nat :=
  let c0_i32_1441 : BitVec 32 := 0#32
  ![v1316.toNat, 0]

def k0_chk1286 (i : grid0.Coords) (v1316 : BitVec 32) : Prop :=
  (∀ (k0_h4 : k0_cond4 i = 1#1), ∀ a, (k0_off1294 v1316) a + S1x1024.size a ≤ S40960x1024.size a)
theorem k0_off1294_inb : ∀ (i : grid0.Coords) (v1316 : BitVec 32) (k0_hw1286 : k0_chk1286 i v1316), ∀ (k0_h4 : k0_cond4 i = 1#1), ∀ a, (k0_off1294 v1316) a + S1x1024.size a ≤ S40960x1024.size a := fun i v1316 k0_hw1286 k0_h4 => k0_hw1286 k0_h4

def k0_off1295 (v1321 : BitVec 32) : Fin 2 → Nat :=
  let c0_i32_1446 : BitVec 32 := 0#32
  ![v1321.toNat, 0]

def k0_chk1287 (i : grid0.Coords) (v1321 : BitVec 32) : Prop :=
  (∀ (k0_h4 : k0_cond4 i = 1#1), ∀ a, (k0_off1295 v1321) a + S1x1024.size a ≤ S40960x1024.size a)
theorem k0_off1295_inb : ∀ (i : grid0.Coords) (v1321 : BitVec 32) (k0_hw1287 : k0_chk1287 i v1321), ∀ (k0_h4 : k0_cond4 i = 1#1), ∀ a, (k0_off1295 v1321) a + S1x1024.size a ≤ S40960x1024.size a := fun i v1321 k0_hw1287 k0_h4 => k0_hw1287 k0_h4

def k0_off1296 (v1326 : BitVec 32) : Fin 2 → Nat :=
  let c0_i32_1452 : BitVec 32 := 0#32
  ![v1326.toNat, 0]

def k0_chk1288 (i : grid0.Coords) (v1326 : BitVec 32) : Prop :=
  (∀ (k0_h4 : k0_cond4 i = 1#1), ∀ a, (k0_off1296 v1326) a + S1x1024.size a ≤ S40960x1024.size a)
theorem k0_off1296_inb : ∀ (i : grid0.Coords) (v1326 : BitVec 32) (k0_hw1288 : k0_chk1288 i v1326), ∀ (k0_h4 : k0_cond4 i = 1#1), ∀ a, (k0_off1296 v1326) a + S1x1024.size a ≤ S40960x1024.size a := fun i v1326 k0_hw1288 k0_h4 => k0_hw1288 k0_h4

def k0_off1297 (v1331 : BitVec 32) : Fin 2 → Nat :=
  let c0_i32_1457 : BitVec 32 := 0#32
  ![v1331.toNat, 0]

def k0_chk1289 (i : grid0.Coords) (v1331 : BitVec 32) : Prop :=
  (∀ (k0_h4 : k0_cond4 i = 1#1), ∀ a, (k0_off1297 v1331) a + S1x1024.size a ≤ S40960x1024.size a)
theorem k0_off1297_inb : ∀ (i : grid0.Coords) (v1331 : BitVec 32) (k0_hw1289 : k0_chk1289 i v1331), ∀ (k0_h4 : k0_cond4 i = 1#1), ∀ a, (k0_off1297 v1331) a + S1x1024.size a ≤ S40960x1024.size a := fun i v1331 k0_hw1289 k0_h4 => k0_hw1289 k0_h4

def k0_off1298 (v1336 : BitVec 32) : Fin 2 → Nat :=
  let c0_i32_1463 : BitVec 32 := 0#32
  ![v1336.toNat, 0]

def k0_chk1290 (i : grid0.Coords) (v1336 : BitVec 32) : Prop :=
  (∀ (k0_h4 : k0_cond4 i = 1#1), ∀ a, (k0_off1298 v1336) a + S1x1024.size a ≤ S40960x1024.size a)
theorem k0_off1298_inb : ∀ (i : grid0.Coords) (v1336 : BitVec 32) (k0_hw1290 : k0_chk1290 i v1336), ∀ (k0_h4 : k0_cond4 i = 1#1), ∀ a, (k0_off1298 v1336) a + S1x1024.size a ≤ S40960x1024.size a := fun i v1336 k0_hw1290 k0_h4 => k0_hw1290 k0_h4

def k0_off1299 (v1341 : BitVec 32) : Fin 2 → Nat :=
  let c0_i32_1468 : BitVec 32 := 0#32
  ![v1341.toNat, 0]

def k0_chk1291 (i : grid0.Coords) (v1341 : BitVec 32) : Prop :=
  (∀ (k0_h4 : k0_cond4 i = 1#1), ∀ a, (k0_off1299 v1341) a + S1x1024.size a ≤ S40960x1024.size a)
theorem k0_off1299_inb : ∀ (i : grid0.Coords) (v1341 : BitVec 32) (k0_hw1291 : k0_chk1291 i v1341), ∀ (k0_h4 : k0_cond4 i = 1#1), ∀ a, (k0_off1299 v1341) a + S1x1024.size a ≤ S40960x1024.size a := fun i v1341 k0_hw1291 k0_h4 => k0_hw1291 k0_h4

def k0_off1300 (v1346 : BitVec 32) : Fin 2 → Nat :=
  let c0_i32_1474 : BitVec 32 := 0#32
  ![v1346.toNat, 0]

def k0_chk1292 (i : grid0.Coords) (v1346 : BitVec 32) : Prop :=
  (∀ (k0_h4 : k0_cond4 i = 1#1), ∀ a, (k0_off1300 v1346) a + S1x1024.size a ≤ S40960x1024.size a)
theorem k0_off1300_inb : ∀ (i : grid0.Coords) (v1346 : BitVec 32) (k0_hw1292 : k0_chk1292 i v1346), ∀ (k0_h4 : k0_cond4 i = 1#1), ∀ a, (k0_off1300 v1346) a + S1x1024.size a ≤ S40960x1024.size a := fun i v1346 k0_hw1292 k0_h4 => k0_hw1292 k0_h4

def k0_off1301 (v1351 : BitVec 32) : Fin 2 → Nat :=
  let c0_i32_1479 : BitVec 32 := 0#32
  ![v1351.toNat, 0]

def k0_chk1293 (i : grid0.Coords) (v1351 : BitVec 32) : Prop :=
  (∀ (k0_h4 : k0_cond4 i = 1#1), ∀ a, (k0_off1301 v1351) a + S1x1024.size a ≤ S40960x1024.size a)
theorem k0_off1301_inb : ∀ (i : grid0.Coords) (v1351 : BitVec 32) (k0_hw1293 : k0_chk1293 i v1351), ∀ (k0_h4 : k0_cond4 i = 1#1), ∀ a, (k0_off1301 v1351) a + S1x1024.size a ≤ S40960x1024.size a := fun i v1351 k0_hw1293 k0_h4 => k0_hw1293 k0_h4

def k0_off1302 (v1356 : BitVec 32) : Fin 2 → Nat :=
  let c0_i32_1485 : BitVec 32 := 0#32
  ![v1356.toNat, 0]

def k0_chk1294 (i : grid0.Coords) (v1356 : BitVec 32) : Prop :=
  (∀ (k0_h4 : k0_cond4 i = 1#1), ∀ a, (k0_off1302 v1356) a + S1x1024.size a ≤ S40960x1024.size a)
theorem k0_off1302_inb : ∀ (i : grid0.Coords) (v1356 : BitVec 32) (k0_hw1294 : k0_chk1294 i v1356), ∀ (k0_h4 : k0_cond4 i = 1#1), ∀ a, (k0_off1302 v1356) a + S1x1024.size a ≤ S40960x1024.size a := fun i v1356 k0_hw1294 k0_h4 => k0_hw1294 k0_h4

def k0_off1303 (v1361 : BitVec 32) : Fin 2 → Nat :=
  let c0_i32_1490 : BitVec 32 := 0#32
  ![v1361.toNat, 0]

def k0_chk1295 (i : grid0.Coords) (v1361 : BitVec 32) : Prop :=
  (∀ (k0_h4 : k0_cond4 i = 1#1), ∀ a, (k0_off1303 v1361) a + S1x1024.size a ≤ S40960x1024.size a)
theorem k0_off1303_inb : ∀ (i : grid0.Coords) (v1361 : BitVec 32) (k0_hw1295 : k0_chk1295 i v1361), ∀ (k0_h4 : k0_cond4 i = 1#1), ∀ a, (k0_off1303 v1361) a + S1x1024.size a ≤ S40960x1024.size a := fun i v1361 k0_hw1295 k0_h4 => k0_hw1295 k0_h4

def k0_off1304 (v1366 : BitVec 32) : Fin 2 → Nat :=
  let c0_i32_1496 : BitVec 32 := 0#32
  ![v1366.toNat, 0]

def k0_chk1296 (i : grid0.Coords) (v1366 : BitVec 32) : Prop :=
  (∀ (k0_h4 : k0_cond4 i = 1#1), ∀ a, (k0_off1304 v1366) a + S1x1024.size a ≤ S40960x1024.size a)
theorem k0_off1304_inb : ∀ (i : grid0.Coords) (v1366 : BitVec 32) (k0_hw1296 : k0_chk1296 i v1366), ∀ (k0_h4 : k0_cond4 i = 1#1), ∀ a, (k0_off1304 v1366) a + S1x1024.size a ≤ S40960x1024.size a := fun i v1366 k0_hw1296 k0_h4 => k0_hw1296 k0_h4

def k0_off1305 (v1371 : BitVec 32) : Fin 2 → Nat :=
  let c0_i32_1501 : BitVec 32 := 0#32
  ![v1371.toNat, 0]

def k0_chk1297 (i : grid0.Coords) (v1371 : BitVec 32) : Prop :=
  (∀ (k0_h4 : k0_cond4 i = 1#1), ∀ a, (k0_off1305 v1371) a + S1x1024.size a ≤ S40960x1024.size a)
theorem k0_off1305_inb : ∀ (i : grid0.Coords) (v1371 : BitVec 32) (k0_hw1297 : k0_chk1297 i v1371), ∀ (k0_h4 : k0_cond4 i = 1#1), ∀ a, (k0_off1305 v1371) a + S1x1024.size a ≤ S40960x1024.size a := fun i v1371 k0_hw1297 k0_h4 => k0_hw1297 k0_h4

def k0_off1306 (v1376 : BitVec 32) : Fin 2 → Nat :=
  let c0_i32_1507 : BitVec 32 := 0#32
  ![v1376.toNat, 0]

def k0_chk1298 (i : grid0.Coords) (v1376 : BitVec 32) : Prop :=
  (∀ (k0_h4 : k0_cond4 i = 1#1), ∀ a, (k0_off1306 v1376) a + S1x1024.size a ≤ S40960x1024.size a)
theorem k0_off1306_inb : ∀ (i : grid0.Coords) (v1376 : BitVec 32) (k0_hw1298 : k0_chk1298 i v1376), ∀ (k0_h4 : k0_cond4 i = 1#1), ∀ a, (k0_off1306 v1376) a + S1x1024.size a ≤ S40960x1024.size a := fun i v1376 k0_hw1298 k0_h4 => k0_hw1298 k0_h4

def k0_off1307 (v1381 : BitVec 32) : Fin 2 → Nat :=
  let c0_i32_1512 : BitVec 32 := 0#32
  ![v1381.toNat, 0]

def k0_chk1299 (i : grid0.Coords) (v1381 : BitVec 32) : Prop :=
  (∀ (k0_h4 : k0_cond4 i = 1#1), ∀ a, (k0_off1307 v1381) a + S1x1024.size a ≤ S40960x1024.size a)
theorem k0_off1307_inb : ∀ (i : grid0.Coords) (v1381 : BitVec 32) (k0_hw1299 : k0_chk1299 i v1381), ∀ (k0_h4 : k0_cond4 i = 1#1), ∀ a, (k0_off1307 v1381) a + S1x1024.size a ≤ S40960x1024.size a := fun i v1381 k0_hw1299 k0_h4 => k0_hw1299 k0_h4

def k0_off1308 (v1386 : BitVec 32) : Fin 2 → Nat :=
  let c0_i32_1518 : BitVec 32 := 0#32
  ![v1386.toNat, 0]

def k0_chk1300 (i : grid0.Coords) (v1386 : BitVec 32) : Prop :=
  (∀ (k0_h4 : k0_cond4 i = 1#1), ∀ a, (k0_off1308 v1386) a + S1x1024.size a ≤ S40960x1024.size a)
theorem k0_off1308_inb : ∀ (i : grid0.Coords) (v1386 : BitVec 32) (k0_hw1300 : k0_chk1300 i v1386), ∀ (k0_h4 : k0_cond4 i = 1#1), ∀ a, (k0_off1308 v1386) a + S1x1024.size a ≤ S40960x1024.size a := fun i v1386 k0_hw1300 k0_h4 => k0_hw1300 k0_h4

def k0_off1309 (v1391 : BitVec 32) : Fin 2 → Nat :=
  let c0_i32_1523 : BitVec 32 := 0#32
  ![v1391.toNat, 0]

def k0_chk1301 (i : grid0.Coords) (v1391 : BitVec 32) : Prop :=
  (∀ (k0_h4 : k0_cond4 i = 1#1), ∀ a, (k0_off1309 v1391) a + S1x1024.size a ≤ S40960x1024.size a)
theorem k0_off1309_inb : ∀ (i : grid0.Coords) (v1391 : BitVec 32) (k0_hw1301 : k0_chk1301 i v1391), ∀ (k0_h4 : k0_cond4 i = 1#1), ∀ a, (k0_off1309 v1391) a + S1x1024.size a ≤ S40960x1024.size a := fun i v1391 k0_hw1301 k0_h4 => k0_hw1301 k0_h4

def k0_off1310 (v1396 : BitVec 32) : Fin 2 → Nat :=
  let c0_i32_1529 : BitVec 32 := 0#32
  ![v1396.toNat, 0]

def k0_chk1302 (i : grid0.Coords) (v1396 : BitVec 32) : Prop :=
  (∀ (k0_h4 : k0_cond4 i = 1#1), ∀ a, (k0_off1310 v1396) a + S1x1024.size a ≤ S40960x1024.size a)
theorem k0_off1310_inb : ∀ (i : grid0.Coords) (v1396 : BitVec 32) (k0_hw1302 : k0_chk1302 i v1396), ∀ (k0_h4 : k0_cond4 i = 1#1), ∀ a, (k0_off1310 v1396) a + S1x1024.size a ≤ S40960x1024.size a := fun i v1396 k0_hw1302 k0_h4 => k0_hw1302 k0_h4

def k0_off1311 (v1401 : BitVec 32) : Fin 2 → Nat :=
  let c0_i32_1534 : BitVec 32 := 0#32
  ![v1401.toNat, 0]

def k0_chk1303 (i : grid0.Coords) (v1401 : BitVec 32) : Prop :=
  (∀ (k0_h4 : k0_cond4 i = 1#1), ∀ a, (k0_off1311 v1401) a + S1x1024.size a ≤ S40960x1024.size a)
theorem k0_off1311_inb : ∀ (i : grid0.Coords) (v1401 : BitVec 32) (k0_hw1303 : k0_chk1303 i v1401), ∀ (k0_h4 : k0_cond4 i = 1#1), ∀ a, (k0_off1311 v1401) a + S1x1024.size a ≤ S40960x1024.size a := fun i v1401 k0_hw1303 k0_h4 => k0_hw1303 k0_h4

def k0_off1312 (v1406 : BitVec 32) : Fin 2 → Nat :=
  let c0_i32_1540 : BitVec 32 := 0#32
  ![v1406.toNat, 0]

def k0_chk1304 (i : grid0.Coords) (v1406 : BitVec 32) : Prop :=
  (∀ (k0_h4 : k0_cond4 i = 1#1), ∀ a, (k0_off1312 v1406) a + S1x1024.size a ≤ S40960x1024.size a)
theorem k0_off1312_inb : ∀ (i : grid0.Coords) (v1406 : BitVec 32) (k0_hw1304 : k0_chk1304 i v1406), ∀ (k0_h4 : k0_cond4 i = 1#1), ∀ a, (k0_off1312 v1406) a + S1x1024.size a ≤ S40960x1024.size a := fun i v1406 k0_hw1304 k0_h4 => k0_hw1304 k0_h4

def k0_off1313 (v1411 : BitVec 32) : Fin 2 → Nat :=
  let c0_i32_1545 : BitVec 32 := 0#32
  ![v1411.toNat, 0]

def k0_chk1305 (i : grid0.Coords) (v1411 : BitVec 32) : Prop :=
  (∀ (k0_h4 : k0_cond4 i = 1#1), ∀ a, (k0_off1313 v1411) a + S1x1024.size a ≤ S40960x1024.size a)
theorem k0_off1313_inb : ∀ (i : grid0.Coords) (v1411 : BitVec 32) (k0_hw1305 : k0_chk1305 i v1411), ∀ (k0_h4 : k0_cond4 i = 1#1), ∀ a, (k0_off1313 v1411) a + S1x1024.size a ≤ S40960x1024.size a := fun i v1411 k0_hw1305 k0_h4 => k0_hw1305 k0_h4

def k0_off1314 (v1416 : BitVec 32) : Fin 2 → Nat :=
  let c0_i32_1551 : BitVec 32 := 0#32
  ![v1416.toNat, 0]

def k0_chk1306 (i : grid0.Coords) (v1416 : BitVec 32) : Prop :=
  (∀ (k0_h4 : k0_cond4 i = 1#1), ∀ a, (k0_off1314 v1416) a + S1x1024.size a ≤ S40960x1024.size a)
theorem k0_off1314_inb : ∀ (i : grid0.Coords) (v1416 : BitVec 32) (k0_hw1306 : k0_chk1306 i v1416), ∀ (k0_h4 : k0_cond4 i = 1#1), ∀ a, (k0_off1314 v1416) a + S1x1024.size a ≤ S40960x1024.size a := fun i v1416 k0_hw1306 k0_h4 => k0_hw1306 k0_h4

def k0_off1315 (v1421 : BitVec 32) : Fin 2 → Nat :=
  let c0_i32_1556 : BitVec 32 := 0#32
  ![v1421.toNat, 0]

def k0_chk1307 (i : grid0.Coords) (v1421 : BitVec 32) : Prop :=
  (∀ (k0_h4 : k0_cond4 i = 1#1), ∀ a, (k0_off1315 v1421) a + S1x1024.size a ≤ S40960x1024.size a)
theorem k0_off1315_inb : ∀ (i : grid0.Coords) (v1421 : BitVec 32) (k0_hw1307 : k0_chk1307 i v1421), ∀ (k0_h4 : k0_cond4 i = 1#1), ∀ a, (k0_off1315 v1421) a + S1x1024.size a ≤ S40960x1024.size a := fun i v1421 k0_hw1307 k0_h4 => k0_hw1307 k0_h4

def k0_off1316 (v1426 : BitVec 32) : Fin 2 → Nat :=
  let c0_i32_1562 : BitVec 32 := 0#32
  ![v1426.toNat, 0]

def k0_chk1308 (i : grid0.Coords) (v1426 : BitVec 32) : Prop :=
  (∀ (k0_h4 : k0_cond4 i = 1#1), ∀ a, (k0_off1316 v1426) a + S1x1024.size a ≤ S40960x1024.size a)
theorem k0_off1316_inb : ∀ (i : grid0.Coords) (v1426 : BitVec 32) (k0_hw1308 : k0_chk1308 i v1426), ∀ (k0_h4 : k0_cond4 i = 1#1), ∀ a, (k0_off1316 v1426) a + S1x1024.size a ≤ S40960x1024.size a := fun i v1426 k0_hw1308 k0_h4 => k0_hw1308 k0_h4

def k0_off1317 (v1431 : BitVec 32) : Fin 2 → Nat :=
  let c0_i32_1567 : BitVec 32 := 0#32
  ![v1431.toNat, 0]

def k0_chk1309 (i : grid0.Coords) (v1431 : BitVec 32) : Prop :=
  (∀ (k0_h4 : k0_cond4 i = 1#1), ∀ a, (k0_off1317 v1431) a + S1x1024.size a ≤ S40960x1024.size a)
theorem k0_off1317_inb : ∀ (i : grid0.Coords) (v1431 : BitVec 32) (k0_hw1309 : k0_chk1309 i v1431), ∀ (k0_h4 : k0_cond4 i = 1#1), ∀ a, (k0_off1317 v1431) a + S1x1024.size a ≤ S40960x1024.size a := fun i v1431 k0_hw1309 k0_h4 => k0_hw1309 k0_h4

def k0_off1318 (v1436 : BitVec 32) : Fin 2 → Nat :=
  let c0_i32_1573 : BitVec 32 := 0#32
  ![v1436.toNat, 0]

def k0_chk1310 (i : grid0.Coords) (v1436 : BitVec 32) : Prop :=
  (∀ (k0_h4 : k0_cond4 i = 1#1), ∀ a, (k0_off1318 v1436) a + S1x1024.size a ≤ S40960x1024.size a)
theorem k0_off1318_inb : ∀ (i : grid0.Coords) (v1436 : BitVec 32) (k0_hw1310 : k0_chk1310 i v1436), ∀ (k0_h4 : k0_cond4 i = 1#1), ∀ a, (k0_off1318 v1436) a + S1x1024.size a ≤ S40960x1024.size a := fun i v1436 k0_hw1310 k0_h4 => k0_hw1310 k0_h4

def k0_off1319 (v1441 : BitVec 32) : Fin 2 → Nat :=
  let c0_i32_1578 : BitVec 32 := 0#32
  ![v1441.toNat, 0]

def k0_chk1311 (i : grid0.Coords) (v1441 : BitVec 32) : Prop :=
  (∀ (k0_h4 : k0_cond4 i = 1#1), ∀ a, (k0_off1319 v1441) a + S1x1024.size a ≤ S40960x1024.size a)
theorem k0_off1319_inb : ∀ (i : grid0.Coords) (v1441 : BitVec 32) (k0_hw1311 : k0_chk1311 i v1441), ∀ (k0_h4 : k0_cond4 i = 1#1), ∀ a, (k0_off1319 v1441) a + S1x1024.size a ≤ S40960x1024.size a := fun i v1441 k0_hw1311 k0_h4 => k0_hw1311 k0_h4

def k0_off1320 (v1446 : BitVec 32) : Fin 2 → Nat :=
  let c0_i32_1584 : BitVec 32 := 0#32
  ![v1446.toNat, 0]

def k0_chk1312 (i : grid0.Coords) (v1446 : BitVec 32) : Prop :=
  (∀ (k0_h4 : k0_cond4 i = 1#1), ∀ a, (k0_off1320 v1446) a + S1x1024.size a ≤ S40960x1024.size a)
theorem k0_off1320_inb : ∀ (i : grid0.Coords) (v1446 : BitVec 32) (k0_hw1312 : k0_chk1312 i v1446), ∀ (k0_h4 : k0_cond4 i = 1#1), ∀ a, (k0_off1320 v1446) a + S1x1024.size a ≤ S40960x1024.size a := fun i v1446 k0_hw1312 k0_h4 => k0_hw1312 k0_h4

def k0_off1321 (v1451 : BitVec 32) : Fin 2 → Nat :=
  let c0_i32_1589 : BitVec 32 := 0#32
  ![v1451.toNat, 0]

def k0_chk1313 (i : grid0.Coords) (v1451 : BitVec 32) : Prop :=
  (∀ (k0_h4 : k0_cond4 i = 1#1), ∀ a, (k0_off1321 v1451) a + S1x1024.size a ≤ S40960x1024.size a)
theorem k0_off1321_inb : ∀ (i : grid0.Coords) (v1451 : BitVec 32) (k0_hw1313 : k0_chk1313 i v1451), ∀ (k0_h4 : k0_cond4 i = 1#1), ∀ a, (k0_off1321 v1451) a + S1x1024.size a ≤ S40960x1024.size a := fun i v1451 k0_hw1313 k0_h4 => k0_hw1313 k0_h4

def k0_off1322 (v1456 : BitVec 32) : Fin 2 → Nat :=
  let c0_i32_1595 : BitVec 32 := 0#32
  ![v1456.toNat, 0]

def k0_chk1314 (i : grid0.Coords) (v1456 : BitVec 32) : Prop :=
  (∀ (k0_h4 : k0_cond4 i = 1#1), ∀ a, (k0_off1322 v1456) a + S1x1024.size a ≤ S40960x1024.size a)
theorem k0_off1322_inb : ∀ (i : grid0.Coords) (v1456 : BitVec 32) (k0_hw1314 : k0_chk1314 i v1456), ∀ (k0_h4 : k0_cond4 i = 1#1), ∀ a, (k0_off1322 v1456) a + S1x1024.size a ≤ S40960x1024.size a := fun i v1456 k0_hw1314 k0_h4 => k0_hw1314 k0_h4

def k0_off1323 (v1461 : BitVec 32) : Fin 2 → Nat :=
  let c0_i32_1600 : BitVec 32 := 0#32
  ![v1461.toNat, 0]

def k0_chk1315 (i : grid0.Coords) (v1461 : BitVec 32) : Prop :=
  (∀ (k0_h4 : k0_cond4 i = 1#1), ∀ a, (k0_off1323 v1461) a + S1x1024.size a ≤ S40960x1024.size a)
theorem k0_off1323_inb : ∀ (i : grid0.Coords) (v1461 : BitVec 32) (k0_hw1315 : k0_chk1315 i v1461), ∀ (k0_h4 : k0_cond4 i = 1#1), ∀ a, (k0_off1323 v1461) a + S1x1024.size a ≤ S40960x1024.size a := fun i v1461 k0_hw1315 k0_h4 => k0_hw1315 k0_h4

def k0_off1324 (v1466 : BitVec 32) : Fin 2 → Nat :=
  let c0_i32_1606 : BitVec 32 := 0#32
  ![v1466.toNat, 0]

def k0_chk1316 (i : grid0.Coords) (v1466 : BitVec 32) : Prop :=
  (∀ (k0_h4 : k0_cond4 i = 1#1), ∀ a, (k0_off1324 v1466) a + S1x1024.size a ≤ S40960x1024.size a)
theorem k0_off1324_inb : ∀ (i : grid0.Coords) (v1466 : BitVec 32) (k0_hw1316 : k0_chk1316 i v1466), ∀ (k0_h4 : k0_cond4 i = 1#1), ∀ a, (k0_off1324 v1466) a + S1x1024.size a ≤ S40960x1024.size a := fun i v1466 k0_hw1316 k0_h4 => k0_hw1316 k0_h4

def k0_off1325 (v1471 : BitVec 32) : Fin 2 → Nat :=
  let c0_i32_1611 : BitVec 32 := 0#32
  ![v1471.toNat, 0]

def k0_chk1317 (i : grid0.Coords) (v1471 : BitVec 32) : Prop :=
  (∀ (k0_h4 : k0_cond4 i = 1#1), ∀ a, (k0_off1325 v1471) a + S1x1024.size a ≤ S40960x1024.size a)
theorem k0_off1325_inb : ∀ (i : grid0.Coords) (v1471 : BitVec 32) (k0_hw1317 : k0_chk1317 i v1471), ∀ (k0_h4 : k0_cond4 i = 1#1), ∀ a, (k0_off1325 v1471) a + S1x1024.size a ≤ S40960x1024.size a := fun i v1471 k0_hw1317 k0_h4 => k0_hw1317 k0_h4

def k0_off1326 (v1476 : BitVec 32) : Fin 2 → Nat :=
  let c0_i32_1617 : BitVec 32 := 0#32
  ![v1476.toNat, 0]

def k0_chk1318 (i : grid0.Coords) (v1476 : BitVec 32) : Prop :=
  (∀ (k0_h4 : k0_cond4 i = 1#1), ∀ a, (k0_off1326 v1476) a + S1x1024.size a ≤ S40960x1024.size a)
theorem k0_off1326_inb : ∀ (i : grid0.Coords) (v1476 : BitVec 32) (k0_hw1318 : k0_chk1318 i v1476), ∀ (k0_h4 : k0_cond4 i = 1#1), ∀ a, (k0_off1326 v1476) a + S1x1024.size a ≤ S40960x1024.size a := fun i v1476 k0_hw1318 k0_h4 => k0_hw1318 k0_h4

def k0_off1327 (v1481 : BitVec 32) : Fin 2 → Nat :=
  let c0_i32_1622 : BitVec 32 := 0#32
  ![v1481.toNat, 0]

def k0_chk1319 (i : grid0.Coords) (v1481 : BitVec 32) : Prop :=
  (∀ (k0_h4 : k0_cond4 i = 1#1), ∀ a, (k0_off1327 v1481) a + S1x1024.size a ≤ S40960x1024.size a)
theorem k0_off1327_inb : ∀ (i : grid0.Coords) (v1481 : BitVec 32) (k0_hw1319 : k0_chk1319 i v1481), ∀ (k0_h4 : k0_cond4 i = 1#1), ∀ a, (k0_off1327 v1481) a + S1x1024.size a ≤ S40960x1024.size a := fun i v1481 k0_hw1319 k0_h4 => k0_hw1319 k0_h4

def k0_off1328 (v1486 : BitVec 32) : Fin 2 → Nat :=
  let c0_i32_1628 : BitVec 32 := 0#32
  ![v1486.toNat, 0]

def k0_chk1320 (i : grid0.Coords) (v1486 : BitVec 32) : Prop :=
  (∀ (k0_h4 : k0_cond4 i = 1#1), ∀ a, (k0_off1328 v1486) a + S1x1024.size a ≤ S40960x1024.size a)
theorem k0_off1328_inb : ∀ (i : grid0.Coords) (v1486 : BitVec 32) (k0_hw1320 : k0_chk1320 i v1486), ∀ (k0_h4 : k0_cond4 i = 1#1), ∀ a, (k0_off1328 v1486) a + S1x1024.size a ≤ S40960x1024.size a := fun i v1486 k0_hw1320 k0_h4 => k0_hw1320 k0_h4

def k0_off1329 (v1491 : BitVec 32) : Fin 2 → Nat :=
  let c0_i32_1633 : BitVec 32 := 0#32
  ![v1491.toNat, 0]

def k0_chk1321 (i : grid0.Coords) (v1491 : BitVec 32) : Prop :=
  (∀ (k0_h4 : k0_cond4 i = 1#1), ∀ a, (k0_off1329 v1491) a + S1x1024.size a ≤ S40960x1024.size a)
theorem k0_off1329_inb : ∀ (i : grid0.Coords) (v1491 : BitVec 32) (k0_hw1321 : k0_chk1321 i v1491), ∀ (k0_h4 : k0_cond4 i = 1#1), ∀ a, (k0_off1329 v1491) a + S1x1024.size a ≤ S40960x1024.size a := fun i v1491 k0_hw1321 k0_h4 => k0_hw1321 k0_h4

def k0_off1330 (v1496 : BitVec 32) : Fin 2 → Nat :=
  let c0_i32_1639 : BitVec 32 := 0#32
  ![v1496.toNat, 0]

def k0_chk1322 (i : grid0.Coords) (v1496 : BitVec 32) : Prop :=
  (∀ (k0_h4 : k0_cond4 i = 1#1), ∀ a, (k0_off1330 v1496) a + S1x1024.size a ≤ S40960x1024.size a)
theorem k0_off1330_inb : ∀ (i : grid0.Coords) (v1496 : BitVec 32) (k0_hw1322 : k0_chk1322 i v1496), ∀ (k0_h4 : k0_cond4 i = 1#1), ∀ a, (k0_off1330 v1496) a + S1x1024.size a ≤ S40960x1024.size a := fun i v1496 k0_hw1322 k0_h4 => k0_hw1322 k0_h4

def k0_off1331 (v1501 : BitVec 32) : Fin 2 → Nat :=
  let c0_i32_1644 : BitVec 32 := 0#32
  ![v1501.toNat, 0]

def k0_chk1323 (i : grid0.Coords) (v1501 : BitVec 32) : Prop :=
  (∀ (k0_h4 : k0_cond4 i = 1#1), ∀ a, (k0_off1331 v1501) a + S1x1024.size a ≤ S40960x1024.size a)
theorem k0_off1331_inb : ∀ (i : grid0.Coords) (v1501 : BitVec 32) (k0_hw1323 : k0_chk1323 i v1501), ∀ (k0_h4 : k0_cond4 i = 1#1), ∀ a, (k0_off1331 v1501) a + S1x1024.size a ≤ S40960x1024.size a := fun i v1501 k0_hw1323 k0_h4 => k0_hw1323 k0_h4

def k0_off1332 (v1506 : BitVec 32) : Fin 2 → Nat :=
  let c0_i32_1650 : BitVec 32 := 0#32
  ![v1506.toNat, 0]

def k0_chk1324 (i : grid0.Coords) (v1506 : BitVec 32) : Prop :=
  (∀ (k0_h4 : k0_cond4 i = 1#1), ∀ a, (k0_off1332 v1506) a + S1x1024.size a ≤ S40960x1024.size a)
theorem k0_off1332_inb : ∀ (i : grid0.Coords) (v1506 : BitVec 32) (k0_hw1324 : k0_chk1324 i v1506), ∀ (k0_h4 : k0_cond4 i = 1#1), ∀ a, (k0_off1332 v1506) a + S1x1024.size a ≤ S40960x1024.size a := fun i v1506 k0_hw1324 k0_h4 => k0_hw1324 k0_h4

def k0_off1333 (v1511 : BitVec 32) : Fin 2 → Nat :=
  let c0_i32_1655 : BitVec 32 := 0#32
  ![v1511.toNat, 0]

def k0_chk1325 (i : grid0.Coords) (v1511 : BitVec 32) : Prop :=
  (∀ (k0_h4 : k0_cond4 i = 1#1), ∀ a, (k0_off1333 v1511) a + S1x1024.size a ≤ S40960x1024.size a)
theorem k0_off1333_inb : ∀ (i : grid0.Coords) (v1511 : BitVec 32) (k0_hw1325 : k0_chk1325 i v1511), ∀ (k0_h4 : k0_cond4 i = 1#1), ∀ a, (k0_off1333 v1511) a + S1x1024.size a ≤ S40960x1024.size a := fun i v1511 k0_hw1325 k0_h4 => k0_hw1325 k0_h4

def k0_off1334 (v1516 : BitVec 32) : Fin 2 → Nat :=
  let c0_i32_1661 : BitVec 32 := 0#32
  ![v1516.toNat, 0]

def k0_chk1326 (i : grid0.Coords) (v1516 : BitVec 32) : Prop :=
  (∀ (k0_h4 : k0_cond4 i = 1#1), ∀ a, (k0_off1334 v1516) a + S1x1024.size a ≤ S40960x1024.size a)
theorem k0_off1334_inb : ∀ (i : grid0.Coords) (v1516 : BitVec 32) (k0_hw1326 : k0_chk1326 i v1516), ∀ (k0_h4 : k0_cond4 i = 1#1), ∀ a, (k0_off1334 v1516) a + S1x1024.size a ≤ S40960x1024.size a := fun i v1516 k0_hw1326 k0_h4 => k0_hw1326 k0_h4

def k0_off1335 (v1521 : BitVec 32) : Fin 2 → Nat :=
  let c0_i32_1666 : BitVec 32 := 0#32
  ![v1521.toNat, 0]

def k0_chk1327 (i : grid0.Coords) (v1521 : BitVec 32) : Prop :=
  (∀ (k0_h4 : k0_cond4 i = 1#1), ∀ a, (k0_off1335 v1521) a + S1x1024.size a ≤ S40960x1024.size a)
theorem k0_off1335_inb : ∀ (i : grid0.Coords) (v1521 : BitVec 32) (k0_hw1327 : k0_chk1327 i v1521), ∀ (k0_h4 : k0_cond4 i = 1#1), ∀ a, (k0_off1335 v1521) a + S1x1024.size a ≤ S40960x1024.size a := fun i v1521 k0_hw1327 k0_h4 => k0_hw1327 k0_h4

def k0_off1336 (v1526 : BitVec 32) : Fin 2 → Nat :=
  let c0_i32_1672 : BitVec 32 := 0#32
  ![v1526.toNat, 0]

def k0_chk1328 (i : grid0.Coords) (v1526 : BitVec 32) : Prop :=
  (∀ (k0_h4 : k0_cond4 i = 1#1), ∀ a, (k0_off1336 v1526) a + S1x1024.size a ≤ S40960x1024.size a)
theorem k0_off1336_inb : ∀ (i : grid0.Coords) (v1526 : BitVec 32) (k0_hw1328 : k0_chk1328 i v1526), ∀ (k0_h4 : k0_cond4 i = 1#1), ∀ a, (k0_off1336 v1526) a + S1x1024.size a ≤ S40960x1024.size a := fun i v1526 k0_hw1328 k0_h4 => k0_hw1328 k0_h4

def k0_off1337 (v1531 : BitVec 32) : Fin 2 → Nat :=
  let c0_i32_1677 : BitVec 32 := 0#32
  ![v1531.toNat, 0]

def k0_chk1329 (i : grid0.Coords) (v1531 : BitVec 32) : Prop :=
  (∀ (k0_h4 : k0_cond4 i = 1#1), ∀ a, (k0_off1337 v1531) a + S1x1024.size a ≤ S40960x1024.size a)
theorem k0_off1337_inb : ∀ (i : grid0.Coords) (v1531 : BitVec 32) (k0_hw1329 : k0_chk1329 i v1531), ∀ (k0_h4 : k0_cond4 i = 1#1), ∀ a, (k0_off1337 v1531) a + S1x1024.size a ≤ S40960x1024.size a := fun i v1531 k0_hw1329 k0_h4 => k0_hw1329 k0_h4

def k0_off1338 (v1536 : BitVec 32) : Fin 2 → Nat :=
  let c0_i32_1683 : BitVec 32 := 0#32
  ![v1536.toNat, 0]

def k0_chk1330 (i : grid0.Coords) (v1536 : BitVec 32) : Prop :=
  (∀ (k0_h4 : k0_cond4 i = 1#1), ∀ a, (k0_off1338 v1536) a + S1x1024.size a ≤ S40960x1024.size a)
theorem k0_off1338_inb : ∀ (i : grid0.Coords) (v1536 : BitVec 32) (k0_hw1330 : k0_chk1330 i v1536), ∀ (k0_h4 : k0_cond4 i = 1#1), ∀ a, (k0_off1338 v1536) a + S1x1024.size a ≤ S40960x1024.size a := fun i v1536 k0_hw1330 k0_h4 => k0_hw1330 k0_h4

def k0_off1339 (v1541 : BitVec 32) : Fin 2 → Nat :=
  let c0_i32_1688 : BitVec 32 := 0#32
  ![v1541.toNat, 0]

def k0_chk1331 (i : grid0.Coords) (v1541 : BitVec 32) : Prop :=
  (∀ (k0_h4 : k0_cond4 i = 1#1), ∀ a, (k0_off1339 v1541) a + S1x1024.size a ≤ S40960x1024.size a)
theorem k0_off1339_inb : ∀ (i : grid0.Coords) (v1541 : BitVec 32) (k0_hw1331 : k0_chk1331 i v1541), ∀ (k0_h4 : k0_cond4 i = 1#1), ∀ a, (k0_off1339 v1541) a + S1x1024.size a ≤ S40960x1024.size a := fun i v1541 k0_hw1331 k0_h4 => k0_hw1331 k0_h4

def k0_off1340 (v1546 : BitVec 32) : Fin 2 → Nat :=
  let c0_i32_1694 : BitVec 32 := 0#32
  ![v1546.toNat, 0]

def k0_chk1332 (i : grid0.Coords) (v1546 : BitVec 32) : Prop :=
  (∀ (k0_h4 : k0_cond4 i = 1#1), ∀ a, (k0_off1340 v1546) a + S1x1024.size a ≤ S40960x1024.size a)
theorem k0_off1340_inb : ∀ (i : grid0.Coords) (v1546 : BitVec 32) (k0_hw1332 : k0_chk1332 i v1546), ∀ (k0_h4 : k0_cond4 i = 1#1), ∀ a, (k0_off1340 v1546) a + S1x1024.size a ≤ S40960x1024.size a := fun i v1546 k0_hw1332 k0_h4 => k0_hw1332 k0_h4

def k0_off1341 (v1551 : BitVec 32) : Fin 2 → Nat :=
  let c0_i32_1699 : BitVec 32 := 0#32
  ![v1551.toNat, 0]

def k0_chk1333 (i : grid0.Coords) (v1551 : BitVec 32) : Prop :=
  (∀ (k0_h4 : k0_cond4 i = 1#1), ∀ a, (k0_off1341 v1551) a + S1x1024.size a ≤ S40960x1024.size a)
theorem k0_off1341_inb : ∀ (i : grid0.Coords) (v1551 : BitVec 32) (k0_hw1333 : k0_chk1333 i v1551), ∀ (k0_h4 : k0_cond4 i = 1#1), ∀ a, (k0_off1341 v1551) a + S1x1024.size a ≤ S40960x1024.size a := fun i v1551 k0_hw1333 k0_h4 => k0_hw1333 k0_h4

def k0_off1342 (v1556 : BitVec 32) : Fin 2 → Nat :=
  let c0_i32_1705 : BitVec 32 := 0#32
  ![v1556.toNat, 0]

def k0_chk1334 (i : grid0.Coords) (v1556 : BitVec 32) : Prop :=
  (∀ (k0_h4 : k0_cond4 i = 1#1), ∀ a, (k0_off1342 v1556) a + S1x1024.size a ≤ S40960x1024.size a)
theorem k0_off1342_inb : ∀ (i : grid0.Coords) (v1556 : BitVec 32) (k0_hw1334 : k0_chk1334 i v1556), ∀ (k0_h4 : k0_cond4 i = 1#1), ∀ a, (k0_off1342 v1556) a + S1x1024.size a ≤ S40960x1024.size a := fun i v1556 k0_hw1334 k0_h4 => k0_hw1334 k0_h4

def k0_off1343 (v1561 : BitVec 32) : Fin 2 → Nat :=
  let c0_i32_1710 : BitVec 32 := 0#32
  ![v1561.toNat, 0]

def k0_chk1335 (i : grid0.Coords) (v1561 : BitVec 32) : Prop :=
  (∀ (k0_h4 : k0_cond4 i = 1#1), ∀ a, (k0_off1343 v1561) a + S1x1024.size a ≤ S40960x1024.size a)
theorem k0_off1343_inb : ∀ (i : grid0.Coords) (v1561 : BitVec 32) (k0_hw1335 : k0_chk1335 i v1561), ∀ (k0_h4 : k0_cond4 i = 1#1), ∀ a, (k0_off1343 v1561) a + S1x1024.size a ≤ S40960x1024.size a := fun i v1561 k0_hw1335 k0_h4 => k0_hw1335 k0_h4

def k0_off1344 (v1566 : BitVec 32) : Fin 2 → Nat :=
  let c0_i32_1716 : BitVec 32 := 0#32
  ![v1566.toNat, 0]

def k0_chk1336 (i : grid0.Coords) (v1566 : BitVec 32) : Prop :=
  (∀ (k0_h4 : k0_cond4 i = 1#1), ∀ a, (k0_off1344 v1566) a + S1x1024.size a ≤ S40960x1024.size a)
theorem k0_off1344_inb : ∀ (i : grid0.Coords) (v1566 : BitVec 32) (k0_hw1336 : k0_chk1336 i v1566), ∀ (k0_h4 : k0_cond4 i = 1#1), ∀ a, (k0_off1344 v1566) a + S1x1024.size a ≤ S40960x1024.size a := fun i v1566 k0_hw1336 k0_h4 => k0_hw1336 k0_h4

def k0_off1345 (v1571 : BitVec 32) : Fin 2 → Nat :=
  let c0_i32_1721 : BitVec 32 := 0#32
  ![v1571.toNat, 0]

def k0_chk1337 (i : grid0.Coords) (v1571 : BitVec 32) : Prop :=
  (∀ (k0_h4 : k0_cond4 i = 1#1), ∀ a, (k0_off1345 v1571) a + S1x1024.size a ≤ S40960x1024.size a)
theorem k0_off1345_inb : ∀ (i : grid0.Coords) (v1571 : BitVec 32) (k0_hw1337 : k0_chk1337 i v1571), ∀ (k0_h4 : k0_cond4 i = 1#1), ∀ a, (k0_off1345 v1571) a + S1x1024.size a ≤ S40960x1024.size a := fun i v1571 k0_hw1337 k0_h4 => k0_hw1337 k0_h4

def k0_off1346 (v1576 : BitVec 32) : Fin 2 → Nat :=
  let c0_i32_1727 : BitVec 32 := 0#32
  ![v1576.toNat, 0]

def k0_chk1338 (i : grid0.Coords) (v1576 : BitVec 32) : Prop :=
  (∀ (k0_h4 : k0_cond4 i = 1#1), ∀ a, (k0_off1346 v1576) a + S1x1024.size a ≤ S40960x1024.size a)
theorem k0_off1346_inb : ∀ (i : grid0.Coords) (v1576 : BitVec 32) (k0_hw1338 : k0_chk1338 i v1576), ∀ (k0_h4 : k0_cond4 i = 1#1), ∀ a, (k0_off1346 v1576) a + S1x1024.size a ≤ S40960x1024.size a := fun i v1576 k0_hw1338 k0_h4 => k0_hw1338 k0_h4

def k0_off1347 (v1581 : BitVec 32) : Fin 2 → Nat :=
  let c0_i32_1732 : BitVec 32 := 0#32
  ![v1581.toNat, 0]

def k0_chk1339 (i : grid0.Coords) (v1581 : BitVec 32) : Prop :=
  (∀ (k0_h4 : k0_cond4 i = 1#1), ∀ a, (k0_off1347 v1581) a + S1x1024.size a ≤ S40960x1024.size a)
theorem k0_off1347_inb : ∀ (i : grid0.Coords) (v1581 : BitVec 32) (k0_hw1339 : k0_chk1339 i v1581), ∀ (k0_h4 : k0_cond4 i = 1#1), ∀ a, (k0_off1347 v1581) a + S1x1024.size a ≤ S40960x1024.size a := fun i v1581 k0_hw1339 k0_h4 => k0_hw1339 k0_h4

def k0_off1348 (v1586 : BitVec 32) : Fin 2 → Nat :=
  let c0_i32_1738 : BitVec 32 := 0#32
  ![v1586.toNat, 0]

def k0_chk1340 (i : grid0.Coords) (v1586 : BitVec 32) : Prop :=
  (∀ (k0_h4 : k0_cond4 i = 1#1), ∀ a, (k0_off1348 v1586) a + S1x1024.size a ≤ S40960x1024.size a)
theorem k0_off1348_inb : ∀ (i : grid0.Coords) (v1586 : BitVec 32) (k0_hw1340 : k0_chk1340 i v1586), ∀ (k0_h4 : k0_cond4 i = 1#1), ∀ a, (k0_off1348 v1586) a + S1x1024.size a ≤ S40960x1024.size a := fun i v1586 k0_hw1340 k0_h4 => k0_hw1340 k0_h4

def k0_off1349 (v1591 : BitVec 32) : Fin 2 → Nat :=
  let c0_i32_1743 : BitVec 32 := 0#32
  ![v1591.toNat, 0]

def k0_chk1341 (i : grid0.Coords) (v1591 : BitVec 32) : Prop :=
  (∀ (k0_h4 : k0_cond4 i = 1#1), ∀ a, (k0_off1349 v1591) a + S1x1024.size a ≤ S40960x1024.size a)
theorem k0_off1349_inb : ∀ (i : grid0.Coords) (v1591 : BitVec 32) (k0_hw1341 : k0_chk1341 i v1591), ∀ (k0_h4 : k0_cond4 i = 1#1), ∀ a, (k0_off1349 v1591) a + S1x1024.size a ≤ S40960x1024.size a := fun i v1591 k0_hw1341 k0_h4 => k0_hw1341 k0_h4

def k0_off1350 (v1596 : BitVec 32) : Fin 2 → Nat :=
  let c0_i32_1749 : BitVec 32 := 0#32
  ![v1596.toNat, 0]

def k0_chk1342 (i : grid0.Coords) (v1596 : BitVec 32) : Prop :=
  (∀ (k0_h4 : k0_cond4 i = 1#1), ∀ a, (k0_off1350 v1596) a + S1x1024.size a ≤ S40960x1024.size a)
theorem k0_off1350_inb : ∀ (i : grid0.Coords) (v1596 : BitVec 32) (k0_hw1342 : k0_chk1342 i v1596), ∀ (k0_h4 : k0_cond4 i = 1#1), ∀ a, (k0_off1350 v1596) a + S1x1024.size a ≤ S40960x1024.size a := fun i v1596 k0_hw1342 k0_h4 => k0_hw1342 k0_h4

def k0_off1351 (v1601 : BitVec 32) : Fin 2 → Nat :=
  let c0_i32_1754 : BitVec 32 := 0#32
  ![v1601.toNat, 0]

def k0_chk1343 (i : grid0.Coords) (v1601 : BitVec 32) : Prop :=
  (∀ (k0_h4 : k0_cond4 i = 1#1), ∀ a, (k0_off1351 v1601) a + S1x1024.size a ≤ S40960x1024.size a)
theorem k0_off1351_inb : ∀ (i : grid0.Coords) (v1601 : BitVec 32) (k0_hw1343 : k0_chk1343 i v1601), ∀ (k0_h4 : k0_cond4 i = 1#1), ∀ a, (k0_off1351 v1601) a + S1x1024.size a ≤ S40960x1024.size a := fun i v1601 k0_hw1343 k0_h4 => k0_hw1343 k0_h4

def k0_off1352 (v1606 : BitVec 32) : Fin 2 → Nat :=
  let c0_i32_1760 : BitVec 32 := 0#32
  ![v1606.toNat, 0]

def k0_chk1344 (i : grid0.Coords) (v1606 : BitVec 32) : Prop :=
  (∀ (k0_h4 : k0_cond4 i = 1#1), ∀ a, (k0_off1352 v1606) a + S1x1024.size a ≤ S40960x1024.size a)
theorem k0_off1352_inb : ∀ (i : grid0.Coords) (v1606 : BitVec 32) (k0_hw1344 : k0_chk1344 i v1606), ∀ (k0_h4 : k0_cond4 i = 1#1), ∀ a, (k0_off1352 v1606) a + S1x1024.size a ≤ S40960x1024.size a := fun i v1606 k0_hw1344 k0_h4 => k0_hw1344 k0_h4

def k0_off1353 (v1611 : BitVec 32) : Fin 2 → Nat :=
  let c0_i32_1765 : BitVec 32 := 0#32
  ![v1611.toNat, 0]

def k0_chk1345 (i : grid0.Coords) (v1611 : BitVec 32) : Prop :=
  (∀ (k0_h4 : k0_cond4 i = 1#1), ∀ a, (k0_off1353 v1611) a + S1x1024.size a ≤ S40960x1024.size a)
theorem k0_off1353_inb : ∀ (i : grid0.Coords) (v1611 : BitVec 32) (k0_hw1345 : k0_chk1345 i v1611), ∀ (k0_h4 : k0_cond4 i = 1#1), ∀ a, (k0_off1353 v1611) a + S1x1024.size a ≤ S40960x1024.size a := fun i v1611 k0_hw1345 k0_h4 => k0_hw1345 k0_h4

def k0_off1354 (v1616 : BitVec 32) : Fin 2 → Nat :=
  let c0_i32_1771 : BitVec 32 := 0#32
  ![v1616.toNat, 0]

def k0_chk1346 (i : grid0.Coords) (v1616 : BitVec 32) : Prop :=
  (∀ (k0_h4 : k0_cond4 i = 1#1), ∀ a, (k0_off1354 v1616) a + S1x1024.size a ≤ S40960x1024.size a)
theorem k0_off1354_inb : ∀ (i : grid0.Coords) (v1616 : BitVec 32) (k0_hw1346 : k0_chk1346 i v1616), ∀ (k0_h4 : k0_cond4 i = 1#1), ∀ a, (k0_off1354 v1616) a + S1x1024.size a ≤ S40960x1024.size a := fun i v1616 k0_hw1346 k0_h4 => k0_hw1346 k0_h4

def k0_off1355 (v1621 : BitVec 32) : Fin 2 → Nat :=
  let c0_i32_1776 : BitVec 32 := 0#32
  ![v1621.toNat, 0]

def k0_chk1347 (i : grid0.Coords) (v1621 : BitVec 32) : Prop :=
  (∀ (k0_h4 : k0_cond4 i = 1#1), ∀ a, (k0_off1355 v1621) a + S1x1024.size a ≤ S40960x1024.size a)
theorem k0_off1355_inb : ∀ (i : grid0.Coords) (v1621 : BitVec 32) (k0_hw1347 : k0_chk1347 i v1621), ∀ (k0_h4 : k0_cond4 i = 1#1), ∀ a, (k0_off1355 v1621) a + S1x1024.size a ≤ S40960x1024.size a := fun i v1621 k0_hw1347 k0_h4 => k0_hw1347 k0_h4

def k0_off1356 (v1626 : BitVec 32) : Fin 2 → Nat :=
  let c0_i32_1782 : BitVec 32 := 0#32
  ![v1626.toNat, 0]

def k0_chk1348 (i : grid0.Coords) (v1626 : BitVec 32) : Prop :=
  (∀ (k0_h4 : k0_cond4 i = 1#1), ∀ a, (k0_off1356 v1626) a + S1x1024.size a ≤ S40960x1024.size a)
theorem k0_off1356_inb : ∀ (i : grid0.Coords) (v1626 : BitVec 32) (k0_hw1348 : k0_chk1348 i v1626), ∀ (k0_h4 : k0_cond4 i = 1#1), ∀ a, (k0_off1356 v1626) a + S1x1024.size a ≤ S40960x1024.size a := fun i v1626 k0_hw1348 k0_h4 => k0_hw1348 k0_h4

def k0_off1357 (v1631 : BitVec 32) : Fin 2 → Nat :=
  let c0_i32_1787 : BitVec 32 := 0#32
  ![v1631.toNat, 0]

def k0_chk1349 (i : grid0.Coords) (v1631 : BitVec 32) : Prop :=
  (∀ (k0_h4 : k0_cond4 i = 1#1), ∀ a, (k0_off1357 v1631) a + S1x1024.size a ≤ S40960x1024.size a)
theorem k0_off1357_inb : ∀ (i : grid0.Coords) (v1631 : BitVec 32) (k0_hw1349 : k0_chk1349 i v1631), ∀ (k0_h4 : k0_cond4 i = 1#1), ∀ a, (k0_off1357 v1631) a + S1x1024.size a ≤ S40960x1024.size a := fun i v1631 k0_hw1349 k0_h4 => k0_hw1349 k0_h4

def k0_off1358 (v1636 : BitVec 32) : Fin 2 → Nat :=
  let c0_i32_1793 : BitVec 32 := 0#32
  ![v1636.toNat, 0]

def k0_chk1350 (i : grid0.Coords) (v1636 : BitVec 32) : Prop :=
  (∀ (k0_h4 : k0_cond4 i = 1#1), ∀ a, (k0_off1358 v1636) a + S1x1024.size a ≤ S40960x1024.size a)
theorem k0_off1358_inb : ∀ (i : grid0.Coords) (v1636 : BitVec 32) (k0_hw1350 : k0_chk1350 i v1636), ∀ (k0_h4 : k0_cond4 i = 1#1), ∀ a, (k0_off1358 v1636) a + S1x1024.size a ≤ S40960x1024.size a := fun i v1636 k0_hw1350 k0_h4 => k0_hw1350 k0_h4

def k0_off1359 (v1641 : BitVec 32) : Fin 2 → Nat :=
  let c0_i32_1798 : BitVec 32 := 0#32
  ![v1641.toNat, 0]

def k0_chk1351 (i : grid0.Coords) (v1641 : BitVec 32) : Prop :=
  (∀ (k0_h4 : k0_cond4 i = 1#1), ∀ a, (k0_off1359 v1641) a + S1x1024.size a ≤ S40960x1024.size a)
theorem k0_off1359_inb : ∀ (i : grid0.Coords) (v1641 : BitVec 32) (k0_hw1351 : k0_chk1351 i v1641), ∀ (k0_h4 : k0_cond4 i = 1#1), ∀ a, (k0_off1359 v1641) a + S1x1024.size a ≤ S40960x1024.size a := fun i v1641 k0_hw1351 k0_h4 => k0_hw1351 k0_h4

def k0_off1360 (v1646 : BitVec 32) : Fin 2 → Nat :=
  let c0_i32_1804 : BitVec 32 := 0#32
  ![v1646.toNat, 0]

def k0_chk1352 (i : grid0.Coords) (v1646 : BitVec 32) : Prop :=
  (∀ (k0_h4 : k0_cond4 i = 1#1), ∀ a, (k0_off1360 v1646) a + S1x1024.size a ≤ S40960x1024.size a)
theorem k0_off1360_inb : ∀ (i : grid0.Coords) (v1646 : BitVec 32) (k0_hw1352 : k0_chk1352 i v1646), ∀ (k0_h4 : k0_cond4 i = 1#1), ∀ a, (k0_off1360 v1646) a + S1x1024.size a ≤ S40960x1024.size a := fun i v1646 k0_hw1352 k0_h4 => k0_hw1352 k0_h4

def k0_off1361 (v1651 : BitVec 32) : Fin 2 → Nat :=
  let c0_i32_1809 : BitVec 32 := 0#32
  ![v1651.toNat, 0]

def k0_chk1353 (i : grid0.Coords) (v1651 : BitVec 32) : Prop :=
  (∀ (k0_h4 : k0_cond4 i = 1#1), ∀ a, (k0_off1361 v1651) a + S1x1024.size a ≤ S40960x1024.size a)
theorem k0_off1361_inb : ∀ (i : grid0.Coords) (v1651 : BitVec 32) (k0_hw1353 : k0_chk1353 i v1651), ∀ (k0_h4 : k0_cond4 i = 1#1), ∀ a, (k0_off1361 v1651) a + S1x1024.size a ≤ S40960x1024.size a := fun i v1651 k0_hw1353 k0_h4 => k0_hw1353 k0_h4

def k0_off1362 (v1656 : BitVec 32) : Fin 2 → Nat :=
  let c0_i32_1815 : BitVec 32 := 0#32
  ![v1656.toNat, 0]

def k0_chk1354 (i : grid0.Coords) (v1656 : BitVec 32) : Prop :=
  (∀ (k0_h4 : k0_cond4 i = 1#1), ∀ a, (k0_off1362 v1656) a + S1x1024.size a ≤ S40960x1024.size a)
theorem k0_off1362_inb : ∀ (i : grid0.Coords) (v1656 : BitVec 32) (k0_hw1354 : k0_chk1354 i v1656), ∀ (k0_h4 : k0_cond4 i = 1#1), ∀ a, (k0_off1362 v1656) a + S1x1024.size a ≤ S40960x1024.size a := fun i v1656 k0_hw1354 k0_h4 => k0_hw1354 k0_h4

def k0_off1363 (v1661 : BitVec 32) : Fin 2 → Nat :=
  let c0_i32_1820 : BitVec 32 := 0#32
  ![v1661.toNat, 0]

def k0_chk1355 (i : grid0.Coords) (v1661 : BitVec 32) : Prop :=
  (∀ (k0_h4 : k0_cond4 i = 1#1), ∀ a, (k0_off1363 v1661) a + S1x1024.size a ≤ S40960x1024.size a)
theorem k0_off1363_inb : ∀ (i : grid0.Coords) (v1661 : BitVec 32) (k0_hw1355 : k0_chk1355 i v1661), ∀ (k0_h4 : k0_cond4 i = 1#1), ∀ a, (k0_off1363 v1661) a + S1x1024.size a ≤ S40960x1024.size a := fun i v1661 k0_hw1355 k0_h4 => k0_hw1355 k0_h4

def k0_off1364 (v1666 : BitVec 32) : Fin 2 → Nat :=
  let c0_i32_1826 : BitVec 32 := 0#32
  ![v1666.toNat, 0]

def k0_chk1356 (i : grid0.Coords) (v1666 : BitVec 32) : Prop :=
  (∀ (k0_h4 : k0_cond4 i = 1#1), ∀ a, (k0_off1364 v1666) a + S1x1024.size a ≤ S40960x1024.size a)
theorem k0_off1364_inb : ∀ (i : grid0.Coords) (v1666 : BitVec 32) (k0_hw1356 : k0_chk1356 i v1666), ∀ (k0_h4 : k0_cond4 i = 1#1), ∀ a, (k0_off1364 v1666) a + S1x1024.size a ≤ S40960x1024.size a := fun i v1666 k0_hw1356 k0_h4 => k0_hw1356 k0_h4

def k0_off1365 (v1671 : BitVec 32) : Fin 2 → Nat :=
  let c0_i32_1831 : BitVec 32 := 0#32
  ![v1671.toNat, 0]

def k0_chk1357 (i : grid0.Coords) (v1671 : BitVec 32) : Prop :=
  (∀ (k0_h4 : k0_cond4 i = 1#1), ∀ a, (k0_off1365 v1671) a + S1x1024.size a ≤ S40960x1024.size a)
theorem k0_off1365_inb : ∀ (i : grid0.Coords) (v1671 : BitVec 32) (k0_hw1357 : k0_chk1357 i v1671), ∀ (k0_h4 : k0_cond4 i = 1#1), ∀ a, (k0_off1365 v1671) a + S1x1024.size a ≤ S40960x1024.size a := fun i v1671 k0_hw1357 k0_h4 => k0_hw1357 k0_h4

def k0_off1366 (v1676 : BitVec 32) : Fin 2 → Nat :=
  let c0_i32_1837 : BitVec 32 := 0#32
  ![v1676.toNat, 0]

def k0_chk1358 (i : grid0.Coords) (v1676 : BitVec 32) : Prop :=
  (∀ (k0_h4 : k0_cond4 i = 1#1), ∀ a, (k0_off1366 v1676) a + S1x1024.size a ≤ S40960x1024.size a)
theorem k0_off1366_inb : ∀ (i : grid0.Coords) (v1676 : BitVec 32) (k0_hw1358 : k0_chk1358 i v1676), ∀ (k0_h4 : k0_cond4 i = 1#1), ∀ a, (k0_off1366 v1676) a + S1x1024.size a ≤ S40960x1024.size a := fun i v1676 k0_hw1358 k0_h4 => k0_hw1358 k0_h4

def k0_off1367 (v1681 : BitVec 32) : Fin 2 → Nat :=
  let c0_i32_1842 : BitVec 32 := 0#32
  ![v1681.toNat, 0]

def k0_chk1359 (i : grid0.Coords) (v1681 : BitVec 32) : Prop :=
  (∀ (k0_h4 : k0_cond4 i = 1#1), ∀ a, (k0_off1367 v1681) a + S1x1024.size a ≤ S40960x1024.size a)
theorem k0_off1367_inb : ∀ (i : grid0.Coords) (v1681 : BitVec 32) (k0_hw1359 : k0_chk1359 i v1681), ∀ (k0_h4 : k0_cond4 i = 1#1), ∀ a, (k0_off1367 v1681) a + S1x1024.size a ≤ S40960x1024.size a := fun i v1681 k0_hw1359 k0_h4 => k0_hw1359 k0_h4

def k0_off1368 (v1686 : BitVec 32) : Fin 2 → Nat :=
  let c0_i32_1848 : BitVec 32 := 0#32
  ![v1686.toNat, 0]

def k0_chk1360 (i : grid0.Coords) (v1686 : BitVec 32) : Prop :=
  (∀ (k0_h4 : k0_cond4 i = 1#1), ∀ a, (k0_off1368 v1686) a + S1x1024.size a ≤ S40960x1024.size a)
theorem k0_off1368_inb : ∀ (i : grid0.Coords) (v1686 : BitVec 32) (k0_hw1360 : k0_chk1360 i v1686), ∀ (k0_h4 : k0_cond4 i = 1#1), ∀ a, (k0_off1368 v1686) a + S1x1024.size a ≤ S40960x1024.size a := fun i v1686 k0_hw1360 k0_h4 => k0_hw1360 k0_h4

def k0_off1369 (v1691 : BitVec 32) : Fin 2 → Nat :=
  let c0_i32_1853 : BitVec 32 := 0#32
  ![v1691.toNat, 0]

def k0_chk1361 (i : grid0.Coords) (v1691 : BitVec 32) : Prop :=
  (∀ (k0_h4 : k0_cond4 i = 1#1), ∀ a, (k0_off1369 v1691) a + S1x1024.size a ≤ S40960x1024.size a)
theorem k0_off1369_inb : ∀ (i : grid0.Coords) (v1691 : BitVec 32) (k0_hw1361 : k0_chk1361 i v1691), ∀ (k0_h4 : k0_cond4 i = 1#1), ∀ a, (k0_off1369 v1691) a + S1x1024.size a ≤ S40960x1024.size a := fun i v1691 k0_hw1361 k0_h4 => k0_hw1361 k0_h4

def k0_off1370 (v1696 : BitVec 32) : Fin 2 → Nat :=
  let c0_i32_1859 : BitVec 32 := 0#32
  ![v1696.toNat, 0]

def k0_chk1362 (i : grid0.Coords) (v1696 : BitVec 32) : Prop :=
  (∀ (k0_h4 : k0_cond4 i = 1#1), ∀ a, (k0_off1370 v1696) a + S1x1024.size a ≤ S40960x1024.size a)
theorem k0_off1370_inb : ∀ (i : grid0.Coords) (v1696 : BitVec 32) (k0_hw1362 : k0_chk1362 i v1696), ∀ (k0_h4 : k0_cond4 i = 1#1), ∀ a, (k0_off1370 v1696) a + S1x1024.size a ≤ S40960x1024.size a := fun i v1696 k0_hw1362 k0_h4 => k0_hw1362 k0_h4

def k0_off1371 (v1701 : BitVec 32) : Fin 2 → Nat :=
  let c0_i32_1864 : BitVec 32 := 0#32
  ![v1701.toNat, 0]

def k0_chk1363 (i : grid0.Coords) (v1701 : BitVec 32) : Prop :=
  (∀ (k0_h4 : k0_cond4 i = 1#1), ∀ a, (k0_off1371 v1701) a + S1x1024.size a ≤ S40960x1024.size a)
theorem k0_off1371_inb : ∀ (i : grid0.Coords) (v1701 : BitVec 32) (k0_hw1363 : k0_chk1363 i v1701), ∀ (k0_h4 : k0_cond4 i = 1#1), ∀ a, (k0_off1371 v1701) a + S1x1024.size a ≤ S40960x1024.size a := fun i v1701 k0_hw1363 k0_h4 => k0_hw1363 k0_h4

def k0_off1372 (v1706 : BitVec 32) : Fin 2 → Nat :=
  let c0_i32_1870 : BitVec 32 := 0#32
  ![v1706.toNat, 0]

def k0_chk1364 (i : grid0.Coords) (v1706 : BitVec 32) : Prop :=
  (∀ (k0_h4 : k0_cond4 i = 1#1), ∀ a, (k0_off1372 v1706) a + S1x1024.size a ≤ S40960x1024.size a)
theorem k0_off1372_inb : ∀ (i : grid0.Coords) (v1706 : BitVec 32) (k0_hw1364 : k0_chk1364 i v1706), ∀ (k0_h4 : k0_cond4 i = 1#1), ∀ a, (k0_off1372 v1706) a + S1x1024.size a ≤ S40960x1024.size a := fun i v1706 k0_hw1364 k0_h4 => k0_hw1364 k0_h4

def k0_off1373 (v1711 : BitVec 32) : Fin 2 → Nat :=
  let c0_i32_1875 : BitVec 32 := 0#32
  ![v1711.toNat, 0]

def k0_chk1365 (i : grid0.Coords) (v1711 : BitVec 32) : Prop :=
  (∀ (k0_h4 : k0_cond4 i = 1#1), ∀ a, (k0_off1373 v1711) a + S1x1024.size a ≤ S40960x1024.size a)
theorem k0_off1373_inb : ∀ (i : grid0.Coords) (v1711 : BitVec 32) (k0_hw1365 : k0_chk1365 i v1711), ∀ (k0_h4 : k0_cond4 i = 1#1), ∀ a, (k0_off1373 v1711) a + S1x1024.size a ≤ S40960x1024.size a := fun i v1711 k0_hw1365 k0_h4 => k0_hw1365 k0_h4

def k0_off1374 (v1716 : BitVec 32) : Fin 2 → Nat :=
  let c0_i32_1881 : BitVec 32 := 0#32
  ![v1716.toNat, 0]

def k0_chk1366 (i : grid0.Coords) (v1716 : BitVec 32) : Prop :=
  (∀ (k0_h4 : k0_cond4 i = 1#1), ∀ a, (k0_off1374 v1716) a + S1x1024.size a ≤ S40960x1024.size a)
theorem k0_off1374_inb : ∀ (i : grid0.Coords) (v1716 : BitVec 32) (k0_hw1366 : k0_chk1366 i v1716), ∀ (k0_h4 : k0_cond4 i = 1#1), ∀ a, (k0_off1374 v1716) a + S1x1024.size a ≤ S40960x1024.size a := fun i v1716 k0_hw1366 k0_h4 => k0_hw1366 k0_h4

def k0_off1375 (v1721 : BitVec 32) : Fin 2 → Nat :=
  let c0_i32_1886 : BitVec 32 := 0#32
  ![v1721.toNat, 0]

def k0_chk1367 (i : grid0.Coords) (v1721 : BitVec 32) : Prop :=
  (∀ (k0_h4 : k0_cond4 i = 1#1), ∀ a, (k0_off1375 v1721) a + S1x1024.size a ≤ S40960x1024.size a)
theorem k0_off1375_inb : ∀ (i : grid0.Coords) (v1721 : BitVec 32) (k0_hw1367 : k0_chk1367 i v1721), ∀ (k0_h4 : k0_cond4 i = 1#1), ∀ a, (k0_off1375 v1721) a + S1x1024.size a ≤ S40960x1024.size a := fun i v1721 k0_hw1367 k0_h4 => k0_hw1367 k0_h4

def k0_off1376 (v1726 : BitVec 32) : Fin 2 → Nat :=
  let c0_i32_1892 : BitVec 32 := 0#32
  ![v1726.toNat, 0]

def k0_chk1368 (i : grid0.Coords) (v1726 : BitVec 32) : Prop :=
  (∀ (k0_h4 : k0_cond4 i = 1#1), ∀ a, (k0_off1376 v1726) a + S1x1024.size a ≤ S40960x1024.size a)
theorem k0_off1376_inb : ∀ (i : grid0.Coords) (v1726 : BitVec 32) (k0_hw1368 : k0_chk1368 i v1726), ∀ (k0_h4 : k0_cond4 i = 1#1), ∀ a, (k0_off1376 v1726) a + S1x1024.size a ≤ S40960x1024.size a := fun i v1726 k0_hw1368 k0_h4 => k0_hw1368 k0_h4

def k0_off1377 (v1731 : BitVec 32) : Fin 2 → Nat :=
  let c0_i32_1897 : BitVec 32 := 0#32
  ![v1731.toNat, 0]

def k0_chk1369 (i : grid0.Coords) (v1731 : BitVec 32) : Prop :=
  (∀ (k0_h4 : k0_cond4 i = 1#1), ∀ a, (k0_off1377 v1731) a + S1x1024.size a ≤ S40960x1024.size a)
theorem k0_off1377_inb : ∀ (i : grid0.Coords) (v1731 : BitVec 32) (k0_hw1369 : k0_chk1369 i v1731), ∀ (k0_h4 : k0_cond4 i = 1#1), ∀ a, (k0_off1377 v1731) a + S1x1024.size a ≤ S40960x1024.size a := fun i v1731 k0_hw1369 k0_h4 => k0_hw1369 k0_h4

def k0_off1378 (v1736 : BitVec 32) : Fin 2 → Nat :=
  let c0_i32_1903 : BitVec 32 := 0#32
  ![v1736.toNat, 0]

def k0_chk1370 (i : grid0.Coords) (v1736 : BitVec 32) : Prop :=
  (∀ (k0_h4 : k0_cond4 i = 1#1), ∀ a, (k0_off1378 v1736) a + S1x1024.size a ≤ S40960x1024.size a)
theorem k0_off1378_inb : ∀ (i : grid0.Coords) (v1736 : BitVec 32) (k0_hw1370 : k0_chk1370 i v1736), ∀ (k0_h4 : k0_cond4 i = 1#1), ∀ a, (k0_off1378 v1736) a + S1x1024.size a ≤ S40960x1024.size a := fun i v1736 k0_hw1370 k0_h4 => k0_hw1370 k0_h4

def k0_off1379 (v1741 : BitVec 32) : Fin 2 → Nat :=
  let c0_i32_1908 : BitVec 32 := 0#32
  ![v1741.toNat, 0]

def k0_chk1371 (i : grid0.Coords) (v1741 : BitVec 32) : Prop :=
  (∀ (k0_h4 : k0_cond4 i = 1#1), ∀ a, (k0_off1379 v1741) a + S1x1024.size a ≤ S40960x1024.size a)
theorem k0_off1379_inb : ∀ (i : grid0.Coords) (v1741 : BitVec 32) (k0_hw1371 : k0_chk1371 i v1741), ∀ (k0_h4 : k0_cond4 i = 1#1), ∀ a, (k0_off1379 v1741) a + S1x1024.size a ≤ S40960x1024.size a := fun i v1741 k0_hw1371 k0_h4 => k0_hw1371 k0_h4

def k0_off1380 (v1746 : BitVec 32) : Fin 2 → Nat :=
  let c0_i32_1914 : BitVec 32 := 0#32
  ![v1746.toNat, 0]

def k0_chk1372 (i : grid0.Coords) (v1746 : BitVec 32) : Prop :=
  (∀ (k0_h4 : k0_cond4 i = 1#1), ∀ a, (k0_off1380 v1746) a + S1x1024.size a ≤ S40960x1024.size a)
theorem k0_off1380_inb : ∀ (i : grid0.Coords) (v1746 : BitVec 32) (k0_hw1372 : k0_chk1372 i v1746), ∀ (k0_h4 : k0_cond4 i = 1#1), ∀ a, (k0_off1380 v1746) a + S1x1024.size a ≤ S40960x1024.size a := fun i v1746 k0_hw1372 k0_h4 => k0_hw1372 k0_h4

def k0_off1381 (v1751 : BitVec 32) : Fin 2 → Nat :=
  let c0_i32_1919 : BitVec 32 := 0#32
  ![v1751.toNat, 0]

def k0_chk1373 (i : grid0.Coords) (v1751 : BitVec 32) : Prop :=
  (∀ (k0_h4 : k0_cond4 i = 1#1), ∀ a, (k0_off1381 v1751) a + S1x1024.size a ≤ S40960x1024.size a)
theorem k0_off1381_inb : ∀ (i : grid0.Coords) (v1751 : BitVec 32) (k0_hw1373 : k0_chk1373 i v1751), ∀ (k0_h4 : k0_cond4 i = 1#1), ∀ a, (k0_off1381 v1751) a + S1x1024.size a ≤ S40960x1024.size a := fun i v1751 k0_hw1373 k0_h4 => k0_hw1373 k0_h4

def k0_off1382 (v1756 : BitVec 32) : Fin 2 → Nat :=
  let c0_i32_1925 : BitVec 32 := 0#32
  ![v1756.toNat, 0]

def k0_chk1374 (i : grid0.Coords) (v1756 : BitVec 32) : Prop :=
  (∀ (k0_h4 : k0_cond4 i = 1#1), ∀ a, (k0_off1382 v1756) a + S1x1024.size a ≤ S40960x1024.size a)
theorem k0_off1382_inb : ∀ (i : grid0.Coords) (v1756 : BitVec 32) (k0_hw1374 : k0_chk1374 i v1756), ∀ (k0_h4 : k0_cond4 i = 1#1), ∀ a, (k0_off1382 v1756) a + S1x1024.size a ≤ S40960x1024.size a := fun i v1756 k0_hw1374 k0_h4 => k0_hw1374 k0_h4

def k0_off1383 (v1761 : BitVec 32) : Fin 2 → Nat :=
  let c0_i32_1930 : BitVec 32 := 0#32
  ![v1761.toNat, 0]

def k0_chk1375 (i : grid0.Coords) (v1761 : BitVec 32) : Prop :=
  (∀ (k0_h4 : k0_cond4 i = 1#1), ∀ a, (k0_off1383 v1761) a + S1x1024.size a ≤ S40960x1024.size a)
theorem k0_off1383_inb : ∀ (i : grid0.Coords) (v1761 : BitVec 32) (k0_hw1375 : k0_chk1375 i v1761), ∀ (k0_h4 : k0_cond4 i = 1#1), ∀ a, (k0_off1383 v1761) a + S1x1024.size a ≤ S40960x1024.size a := fun i v1761 k0_hw1375 k0_h4 => k0_hw1375 k0_h4

def k0_off1384 (v1766 : BitVec 32) : Fin 2 → Nat :=
  let c0_i32_1936 : BitVec 32 := 0#32
  ![v1766.toNat, 0]

def k0_chk1376 (i : grid0.Coords) (v1766 : BitVec 32) : Prop :=
  (∀ (k0_h4 : k0_cond4 i = 1#1), ∀ a, (k0_off1384 v1766) a + S1x1024.size a ≤ S40960x1024.size a)
theorem k0_off1384_inb : ∀ (i : grid0.Coords) (v1766 : BitVec 32) (k0_hw1376 : k0_chk1376 i v1766), ∀ (k0_h4 : k0_cond4 i = 1#1), ∀ a, (k0_off1384 v1766) a + S1x1024.size a ≤ S40960x1024.size a := fun i v1766 k0_hw1376 k0_h4 => k0_hw1376 k0_h4

def k0_off1385 (v1771 : BitVec 32) : Fin 2 → Nat :=
  let c0_i32_1941 : BitVec 32 := 0#32
  ![v1771.toNat, 0]

def k0_chk1377 (i : grid0.Coords) (v1771 : BitVec 32) : Prop :=
  (∀ (k0_h4 : k0_cond4 i = 1#1), ∀ a, (k0_off1385 v1771) a + S1x1024.size a ≤ S40960x1024.size a)
theorem k0_off1385_inb : ∀ (i : grid0.Coords) (v1771 : BitVec 32) (k0_hw1377 : k0_chk1377 i v1771), ∀ (k0_h4 : k0_cond4 i = 1#1), ∀ a, (k0_off1385 v1771) a + S1x1024.size a ≤ S40960x1024.size a := fun i v1771 k0_hw1377 k0_h4 => k0_hw1377 k0_h4

def k0_off1386 (v1776 : BitVec 32) : Fin 2 → Nat :=
  let c0_i32_1947 : BitVec 32 := 0#32
  ![v1776.toNat, 0]

def k0_chk1378 (i : grid0.Coords) (v1776 : BitVec 32) : Prop :=
  (∀ (k0_h4 : k0_cond4 i = 1#1), ∀ a, (k0_off1386 v1776) a + S1x1024.size a ≤ S40960x1024.size a)
theorem k0_off1386_inb : ∀ (i : grid0.Coords) (v1776 : BitVec 32) (k0_hw1378 : k0_chk1378 i v1776), ∀ (k0_h4 : k0_cond4 i = 1#1), ∀ a, (k0_off1386 v1776) a + S1x1024.size a ≤ S40960x1024.size a := fun i v1776 k0_hw1378 k0_h4 => k0_hw1378 k0_h4

def k0_off1387 (v1781 : BitVec 32) : Fin 2 → Nat :=
  let c0_i32_1952 : BitVec 32 := 0#32
  ![v1781.toNat, 0]

def k0_chk1379 (i : grid0.Coords) (v1781 : BitVec 32) : Prop :=
  (∀ (k0_h4 : k0_cond4 i = 1#1), ∀ a, (k0_off1387 v1781) a + S1x1024.size a ≤ S40960x1024.size a)
theorem k0_off1387_inb : ∀ (i : grid0.Coords) (v1781 : BitVec 32) (k0_hw1379 : k0_chk1379 i v1781), ∀ (k0_h4 : k0_cond4 i = 1#1), ∀ a, (k0_off1387 v1781) a + S1x1024.size a ≤ S40960x1024.size a := fun i v1781 k0_hw1379 k0_h4 => k0_hw1379 k0_h4

def k0_off1388 (v1786 : BitVec 32) : Fin 2 → Nat :=
  let c0_i32_1958 : BitVec 32 := 0#32
  ![v1786.toNat, 0]

def k0_chk1380 (i : grid0.Coords) (v1786 : BitVec 32) : Prop :=
  (∀ (k0_h4 : k0_cond4 i = 1#1), ∀ a, (k0_off1388 v1786) a + S1x1024.size a ≤ S40960x1024.size a)
theorem k0_off1388_inb : ∀ (i : grid0.Coords) (v1786 : BitVec 32) (k0_hw1380 : k0_chk1380 i v1786), ∀ (k0_h4 : k0_cond4 i = 1#1), ∀ a, (k0_off1388 v1786) a + S1x1024.size a ≤ S40960x1024.size a := fun i v1786 k0_hw1380 k0_h4 => k0_hw1380 k0_h4

def k0_off1389 (v1791 : BitVec 32) : Fin 2 → Nat :=
  let c0_i32_1963 : BitVec 32 := 0#32
  ![v1791.toNat, 0]

def k0_chk1381 (i : grid0.Coords) (v1791 : BitVec 32) : Prop :=
  (∀ (k0_h4 : k0_cond4 i = 1#1), ∀ a, (k0_off1389 v1791) a + S1x1024.size a ≤ S40960x1024.size a)
theorem k0_off1389_inb : ∀ (i : grid0.Coords) (v1791 : BitVec 32) (k0_hw1381 : k0_chk1381 i v1791), ∀ (k0_h4 : k0_cond4 i = 1#1), ∀ a, (k0_off1389 v1791) a + S1x1024.size a ≤ S40960x1024.size a := fun i v1791 k0_hw1381 k0_h4 => k0_hw1381 k0_h4

def k0_off1390 (v1796 : BitVec 32) : Fin 2 → Nat :=
  let c0_i32_1969 : BitVec 32 := 0#32
  ![v1796.toNat, 0]

def k0_chk1382 (i : grid0.Coords) (v1796 : BitVec 32) : Prop :=
  (∀ (k0_h4 : k0_cond4 i = 1#1), ∀ a, (k0_off1390 v1796) a + S1x1024.size a ≤ S40960x1024.size a)
theorem k0_off1390_inb : ∀ (i : grid0.Coords) (v1796 : BitVec 32) (k0_hw1382 : k0_chk1382 i v1796), ∀ (k0_h4 : k0_cond4 i = 1#1), ∀ a, (k0_off1390 v1796) a + S1x1024.size a ≤ S40960x1024.size a := fun i v1796 k0_hw1382 k0_h4 => k0_hw1382 k0_h4

def k0_off1391 (v1801 : BitVec 32) : Fin 2 → Nat :=
  let c0_i32_1974 : BitVec 32 := 0#32
  ![v1801.toNat, 0]

def k0_chk1383 (i : grid0.Coords) (v1801 : BitVec 32) : Prop :=
  (∀ (k0_h4 : k0_cond4 i = 1#1), ∀ a, (k0_off1391 v1801) a + S1x1024.size a ≤ S40960x1024.size a)
theorem k0_off1391_inb : ∀ (i : grid0.Coords) (v1801 : BitVec 32) (k0_hw1383 : k0_chk1383 i v1801), ∀ (k0_h4 : k0_cond4 i = 1#1), ∀ a, (k0_off1391 v1801) a + S1x1024.size a ≤ S40960x1024.size a := fun i v1801 k0_hw1383 k0_h4 => k0_hw1383 k0_h4

def k0_off1392 (v1806 : BitVec 32) : Fin 2 → Nat :=
  let c0_i32_1980 : BitVec 32 := 0#32
  ![v1806.toNat, 0]

def k0_chk1384 (i : grid0.Coords) (v1806 : BitVec 32) : Prop :=
  (∀ (k0_h4 : k0_cond4 i = 1#1), ∀ a, (k0_off1392 v1806) a + S1x1024.size a ≤ S40960x1024.size a)
theorem k0_off1392_inb : ∀ (i : grid0.Coords) (v1806 : BitVec 32) (k0_hw1384 : k0_chk1384 i v1806), ∀ (k0_h4 : k0_cond4 i = 1#1), ∀ a, (k0_off1392 v1806) a + S1x1024.size a ≤ S40960x1024.size a := fun i v1806 k0_hw1384 k0_h4 => k0_hw1384 k0_h4

def k0_off1393 (v1811 : BitVec 32) : Fin 2 → Nat :=
  let c0_i32_1985 : BitVec 32 := 0#32
  ![v1811.toNat, 0]

def k0_chk1385 (i : grid0.Coords) (v1811 : BitVec 32) : Prop :=
  (∀ (k0_h4 : k0_cond4 i = 1#1), ∀ a, (k0_off1393 v1811) a + S1x1024.size a ≤ S40960x1024.size a)
theorem k0_off1393_inb : ∀ (i : grid0.Coords) (v1811 : BitVec 32) (k0_hw1385 : k0_chk1385 i v1811), ∀ (k0_h4 : k0_cond4 i = 1#1), ∀ a, (k0_off1393 v1811) a + S1x1024.size a ≤ S40960x1024.size a := fun i v1811 k0_hw1385 k0_h4 => k0_hw1385 k0_h4

def k0_off1394 (v1816 : BitVec 32) : Fin 2 → Nat :=
  let c0_i32_1991 : BitVec 32 := 0#32
  ![v1816.toNat, 0]

def k0_chk1386 (i : grid0.Coords) (v1816 : BitVec 32) : Prop :=
  (∀ (k0_h4 : k0_cond4 i = 1#1), ∀ a, (k0_off1394 v1816) a + S1x1024.size a ≤ S40960x1024.size a)
theorem k0_off1394_inb : ∀ (i : grid0.Coords) (v1816 : BitVec 32) (k0_hw1386 : k0_chk1386 i v1816), ∀ (k0_h4 : k0_cond4 i = 1#1), ∀ a, (k0_off1394 v1816) a + S1x1024.size a ≤ S40960x1024.size a := fun i v1816 k0_hw1386 k0_h4 => k0_hw1386 k0_h4

def k0_off1395 (v1821 : BitVec 32) : Fin 2 → Nat :=
  let c0_i32_1996 : BitVec 32 := 0#32
  ![v1821.toNat, 0]

def k0_chk1387 (i : grid0.Coords) (v1821 : BitVec 32) : Prop :=
  (∀ (k0_h4 : k0_cond4 i = 1#1), ∀ a, (k0_off1395 v1821) a + S1x1024.size a ≤ S40960x1024.size a)
theorem k0_off1395_inb : ∀ (i : grid0.Coords) (v1821 : BitVec 32) (k0_hw1387 : k0_chk1387 i v1821), ∀ (k0_h4 : k0_cond4 i = 1#1), ∀ a, (k0_off1395 v1821) a + S1x1024.size a ≤ S40960x1024.size a := fun i v1821 k0_hw1387 k0_h4 => k0_hw1387 k0_h4

def k0_off1396 (v1826 : BitVec 32) : Fin 2 → Nat :=
  let c0_i32_2002 : BitVec 32 := 0#32
  ![v1826.toNat, 0]

def k0_chk1388 (i : grid0.Coords) (v1826 : BitVec 32) : Prop :=
  (∀ (k0_h4 : k0_cond4 i = 1#1), ∀ a, (k0_off1396 v1826) a + S1x1024.size a ≤ S40960x1024.size a)
theorem k0_off1396_inb : ∀ (i : grid0.Coords) (v1826 : BitVec 32) (k0_hw1388 : k0_chk1388 i v1826), ∀ (k0_h4 : k0_cond4 i = 1#1), ∀ a, (k0_off1396 v1826) a + S1x1024.size a ≤ S40960x1024.size a := fun i v1826 k0_hw1388 k0_h4 => k0_hw1388 k0_h4

def k0_off1397 (v1831 : BitVec 32) : Fin 2 → Nat :=
  let c0_i32_2007 : BitVec 32 := 0#32
  ![v1831.toNat, 0]

def k0_chk1389 (i : grid0.Coords) (v1831 : BitVec 32) : Prop :=
  (∀ (k0_h4 : k0_cond4 i = 1#1), ∀ a, (k0_off1397 v1831) a + S1x1024.size a ≤ S40960x1024.size a)
theorem k0_off1397_inb : ∀ (i : grid0.Coords) (v1831 : BitVec 32) (k0_hw1389 : k0_chk1389 i v1831), ∀ (k0_h4 : k0_cond4 i = 1#1), ∀ a, (k0_off1397 v1831) a + S1x1024.size a ≤ S40960x1024.size a := fun i v1831 k0_hw1389 k0_h4 => k0_hw1389 k0_h4

def k0_off1398 (v1836 : BitVec 32) : Fin 2 → Nat :=
  let c0_i32_2013 : BitVec 32 := 0#32
  ![v1836.toNat, 0]

def k0_chk1390 (i : grid0.Coords) (v1836 : BitVec 32) : Prop :=
  (∀ (k0_h4 : k0_cond4 i = 1#1), ∀ a, (k0_off1398 v1836) a + S1x1024.size a ≤ S40960x1024.size a)
theorem k0_off1398_inb : ∀ (i : grid0.Coords) (v1836 : BitVec 32) (k0_hw1390 : k0_chk1390 i v1836), ∀ (k0_h4 : k0_cond4 i = 1#1), ∀ a, (k0_off1398 v1836) a + S1x1024.size a ≤ S40960x1024.size a := fun i v1836 k0_hw1390 k0_h4 => k0_hw1390 k0_h4

def k0_off1399 (v1841 : BitVec 32) : Fin 2 → Nat :=
  let c0_i32_2018 : BitVec 32 := 0#32
  ![v1841.toNat, 0]

def k0_chk1391 (i : grid0.Coords) (v1841 : BitVec 32) : Prop :=
  (∀ (k0_h4 : k0_cond4 i = 1#1), ∀ a, (k0_off1399 v1841) a + S1x1024.size a ≤ S40960x1024.size a)
theorem k0_off1399_inb : ∀ (i : grid0.Coords) (v1841 : BitVec 32) (k0_hw1391 : k0_chk1391 i v1841), ∀ (k0_h4 : k0_cond4 i = 1#1), ∀ a, (k0_off1399 v1841) a + S1x1024.size a ≤ S40960x1024.size a := fun i v1841 k0_hw1391 k0_h4 => k0_hw1391 k0_h4

def k0_off1400 (v1846 : BitVec 32) : Fin 2 → Nat :=
  let c0_i32_2024 : BitVec 32 := 0#32
  ![v1846.toNat, 0]

def k0_chk1392 (i : grid0.Coords) (v1846 : BitVec 32) : Prop :=
  (∀ (k0_h4 : k0_cond4 i = 1#1), ∀ a, (k0_off1400 v1846) a + S1x1024.size a ≤ S40960x1024.size a)
theorem k0_off1400_inb : ∀ (i : grid0.Coords) (v1846 : BitVec 32) (k0_hw1392 : k0_chk1392 i v1846), ∀ (k0_h4 : k0_cond4 i = 1#1), ∀ a, (k0_off1400 v1846) a + S1x1024.size a ≤ S40960x1024.size a := fun i v1846 k0_hw1392 k0_h4 => k0_hw1392 k0_h4

def k0_off1401 (v1851 : BitVec 32) : Fin 2 → Nat :=
  let c0_i32_2029 : BitVec 32 := 0#32
  ![v1851.toNat, 0]

def k0_chk1393 (i : grid0.Coords) (v1851 : BitVec 32) : Prop :=
  (∀ (k0_h4 : k0_cond4 i = 1#1), ∀ a, (k0_off1401 v1851) a + S1x1024.size a ≤ S40960x1024.size a)
theorem k0_off1401_inb : ∀ (i : grid0.Coords) (v1851 : BitVec 32) (k0_hw1393 : k0_chk1393 i v1851), ∀ (k0_h4 : k0_cond4 i = 1#1), ∀ a, (k0_off1401 v1851) a + S1x1024.size a ≤ S40960x1024.size a := fun i v1851 k0_hw1393 k0_h4 => k0_hw1393 k0_h4

def k0_off1402 (v1856 : BitVec 32) : Fin 2 → Nat :=
  let c0_i32_2035 : BitVec 32 := 0#32
  ![v1856.toNat, 0]

def k0_chk1394 (i : grid0.Coords) (v1856 : BitVec 32) : Prop :=
  (∀ (k0_h4 : k0_cond4 i = 1#1), ∀ a, (k0_off1402 v1856) a + S1x1024.size a ≤ S40960x1024.size a)
theorem k0_off1402_inb : ∀ (i : grid0.Coords) (v1856 : BitVec 32) (k0_hw1394 : k0_chk1394 i v1856), ∀ (k0_h4 : k0_cond4 i = 1#1), ∀ a, (k0_off1402 v1856) a + S1x1024.size a ≤ S40960x1024.size a := fun i v1856 k0_hw1394 k0_h4 => k0_hw1394 k0_h4

def k0_off1403 (v1861 : BitVec 32) : Fin 2 → Nat :=
  let c0_i32_2040 : BitVec 32 := 0#32
  ![v1861.toNat, 0]

def k0_chk1395 (i : grid0.Coords) (v1861 : BitVec 32) : Prop :=
  (∀ (k0_h4 : k0_cond4 i = 1#1), ∀ a, (k0_off1403 v1861) a + S1x1024.size a ≤ S40960x1024.size a)
theorem k0_off1403_inb : ∀ (i : grid0.Coords) (v1861 : BitVec 32) (k0_hw1395 : k0_chk1395 i v1861), ∀ (k0_h4 : k0_cond4 i = 1#1), ∀ a, (k0_off1403 v1861) a + S1x1024.size a ≤ S40960x1024.size a := fun i v1861 k0_hw1395 k0_h4 => k0_hw1395 k0_h4

def k0_off1404 (v1866 : BitVec 32) : Fin 2 → Nat :=
  let c0_i32_2046 : BitVec 32 := 0#32
  ![v1866.toNat, 0]

def k0_chk1396 (i : grid0.Coords) (v1866 : BitVec 32) : Prop :=
  (∀ (k0_h4 : k0_cond4 i = 1#1), ∀ a, (k0_off1404 v1866) a + S1x1024.size a ≤ S40960x1024.size a)
theorem k0_off1404_inb : ∀ (i : grid0.Coords) (v1866 : BitVec 32) (k0_hw1396 : k0_chk1396 i v1866), ∀ (k0_h4 : k0_cond4 i = 1#1), ∀ a, (k0_off1404 v1866) a + S1x1024.size a ≤ S40960x1024.size a := fun i v1866 k0_hw1396 k0_h4 => k0_hw1396 k0_h4

def k0_off1405 (v1871 : BitVec 32) : Fin 2 → Nat :=
  let c0_i32_2051 : BitVec 32 := 0#32
  ![v1871.toNat, 0]

def k0_chk1397 (i : grid0.Coords) (v1871 : BitVec 32) : Prop :=
  (∀ (k0_h4 : k0_cond4 i = 1#1), ∀ a, (k0_off1405 v1871) a + S1x1024.size a ≤ S40960x1024.size a)
theorem k0_off1405_inb : ∀ (i : grid0.Coords) (v1871 : BitVec 32) (k0_hw1397 : k0_chk1397 i v1871), ∀ (k0_h4 : k0_cond4 i = 1#1), ∀ a, (k0_off1405 v1871) a + S1x1024.size a ≤ S40960x1024.size a := fun i v1871 k0_hw1397 k0_h4 => k0_hw1397 k0_h4

def k0_off1406 (v1876 : BitVec 32) : Fin 2 → Nat :=
  let c0_i32_2057 : BitVec 32 := 0#32
  ![v1876.toNat, 0]

def k0_chk1398 (i : grid0.Coords) (v1876 : BitVec 32) : Prop :=
  (∀ (k0_h4 : k0_cond4 i = 1#1), ∀ a, (k0_off1406 v1876) a + S1x1024.size a ≤ S40960x1024.size a)
theorem k0_off1406_inb : ∀ (i : grid0.Coords) (v1876 : BitVec 32) (k0_hw1398 : k0_chk1398 i v1876), ∀ (k0_h4 : k0_cond4 i = 1#1), ∀ a, (k0_off1406 v1876) a + S1x1024.size a ≤ S40960x1024.size a := fun i v1876 k0_hw1398 k0_h4 => k0_hw1398 k0_h4

def k0_off1407 (v1881 : BitVec 32) : Fin 2 → Nat :=
  let c0_i32_2062 : BitVec 32 := 0#32
  ![v1881.toNat, 0]

def k0_chk1399 (i : grid0.Coords) (v1881 : BitVec 32) : Prop :=
  (∀ (k0_h4 : k0_cond4 i = 1#1), ∀ a, (k0_off1407 v1881) a + S1x1024.size a ≤ S40960x1024.size a)
theorem k0_off1407_inb : ∀ (i : grid0.Coords) (v1881 : BitVec 32) (k0_hw1399 : k0_chk1399 i v1881), ∀ (k0_h4 : k0_cond4 i = 1#1), ∀ a, (k0_off1407 v1881) a + S1x1024.size a ≤ S40960x1024.size a := fun i v1881 k0_hw1399 k0_h4 => k0_hw1399 k0_h4

def k0_off1408 (v1886 : BitVec 32) : Fin 2 → Nat :=
  let c0_i32_2068 : BitVec 32 := 0#32
  ![v1886.toNat, 0]

def k0_chk1400 (i : grid0.Coords) (v1886 : BitVec 32) : Prop :=
  (∀ (k0_h4 : k0_cond4 i = 1#1), ∀ a, (k0_off1408 v1886) a + S1x1024.size a ≤ S40960x1024.size a)
theorem k0_off1408_inb : ∀ (i : grid0.Coords) (v1886 : BitVec 32) (k0_hw1400 : k0_chk1400 i v1886), ∀ (k0_h4 : k0_cond4 i = 1#1), ∀ a, (k0_off1408 v1886) a + S1x1024.size a ≤ S40960x1024.size a := fun i v1886 k0_hw1400 k0_h4 => k0_hw1400 k0_h4

def k0_off1409 (v1891 : BitVec 32) : Fin 2 → Nat :=
  let c0_i32_2073 : BitVec 32 := 0#32
  ![v1891.toNat, 0]

def k0_chk1401 (i : grid0.Coords) (v1891 : BitVec 32) : Prop :=
  (∀ (k0_h4 : k0_cond4 i = 1#1), ∀ a, (k0_off1409 v1891) a + S1x1024.size a ≤ S40960x1024.size a)
theorem k0_off1409_inb : ∀ (i : grid0.Coords) (v1891 : BitVec 32) (k0_hw1401 : k0_chk1401 i v1891), ∀ (k0_h4 : k0_cond4 i = 1#1), ∀ a, (k0_off1409 v1891) a + S1x1024.size a ≤ S40960x1024.size a := fun i v1891 k0_hw1401 k0_h4 => k0_hw1401 k0_h4

def k0_off1410 (v1896 : BitVec 32) : Fin 2 → Nat :=
  let c0_i32_2079 : BitVec 32 := 0#32
  ![v1896.toNat, 0]

def k0_chk1402 (i : grid0.Coords) (v1896 : BitVec 32) : Prop :=
  (∀ (k0_h4 : k0_cond4 i = 1#1), ∀ a, (k0_off1410 v1896) a + S1x1024.size a ≤ S40960x1024.size a)
theorem k0_off1410_inb : ∀ (i : grid0.Coords) (v1896 : BitVec 32) (k0_hw1402 : k0_chk1402 i v1896), ∀ (k0_h4 : k0_cond4 i = 1#1), ∀ a, (k0_off1410 v1896) a + S1x1024.size a ≤ S40960x1024.size a := fun i v1896 k0_hw1402 k0_h4 => k0_hw1402 k0_h4

def k0_off1411 (v1901 : BitVec 32) : Fin 2 → Nat :=
  let c0_i32_2084 : BitVec 32 := 0#32
  ![v1901.toNat, 0]

def k0_chk1403 (i : grid0.Coords) (v1901 : BitVec 32) : Prop :=
  (∀ (k0_h4 : k0_cond4 i = 1#1), ∀ a, (k0_off1411 v1901) a + S1x1024.size a ≤ S40960x1024.size a)
theorem k0_off1411_inb : ∀ (i : grid0.Coords) (v1901 : BitVec 32) (k0_hw1403 : k0_chk1403 i v1901), ∀ (k0_h4 : k0_cond4 i = 1#1), ∀ a, (k0_off1411 v1901) a + S1x1024.size a ≤ S40960x1024.size a := fun i v1901 k0_hw1403 k0_h4 => k0_hw1403 k0_h4

def k0_off1412 (v1906 : BitVec 32) : Fin 2 → Nat :=
  let c0_i32_2090 : BitVec 32 := 0#32
  ![v1906.toNat, 0]

def k0_chk1404 (i : grid0.Coords) (v1906 : BitVec 32) : Prop :=
  (∀ (k0_h4 : k0_cond4 i = 1#1), ∀ a, (k0_off1412 v1906) a + S1x1024.size a ≤ S40960x1024.size a)
theorem k0_off1412_inb : ∀ (i : grid0.Coords) (v1906 : BitVec 32) (k0_hw1404 : k0_chk1404 i v1906), ∀ (k0_h4 : k0_cond4 i = 1#1), ∀ a, (k0_off1412 v1906) a + S1x1024.size a ≤ S40960x1024.size a := fun i v1906 k0_hw1404 k0_h4 => k0_hw1404 k0_h4

def k0_off1413 (v1911 : BitVec 32) : Fin 2 → Nat :=
  let c0_i32_2095 : BitVec 32 := 0#32
  ![v1911.toNat, 0]

def k0_chk1405 (i : grid0.Coords) (v1911 : BitVec 32) : Prop :=
  (∀ (k0_h4 : k0_cond4 i = 1#1), ∀ a, (k0_off1413 v1911) a + S1x1024.size a ≤ S40960x1024.size a)
theorem k0_off1413_inb : ∀ (i : grid0.Coords) (v1911 : BitVec 32) (k0_hw1405 : k0_chk1405 i v1911), ∀ (k0_h4 : k0_cond4 i = 1#1), ∀ a, (k0_off1413 v1911) a + S1x1024.size a ≤ S40960x1024.size a := fun i v1911 k0_hw1405 k0_h4 => k0_hw1405 k0_h4

def k0_off1414 (v1916 : BitVec 32) : Fin 2 → Nat :=
  let c0_i32_2101 : BitVec 32 := 0#32
  ![v1916.toNat, 0]

def k0_chk1406 (i : grid0.Coords) (v1916 : BitVec 32) : Prop :=
  (∀ (k0_h4 : k0_cond4 i = 1#1), ∀ a, (k0_off1414 v1916) a + S1x1024.size a ≤ S40960x1024.size a)
theorem k0_off1414_inb : ∀ (i : grid0.Coords) (v1916 : BitVec 32) (k0_hw1406 : k0_chk1406 i v1916), ∀ (k0_h4 : k0_cond4 i = 1#1), ∀ a, (k0_off1414 v1916) a + S1x1024.size a ≤ S40960x1024.size a := fun i v1916 k0_hw1406 k0_h4 => k0_hw1406 k0_h4

def k0_off1415 (v1921 : BitVec 32) : Fin 2 → Nat :=
  let c0_i32_2106 : BitVec 32 := 0#32
  ![v1921.toNat, 0]

def k0_chk1407 (i : grid0.Coords) (v1921 : BitVec 32) : Prop :=
  (∀ (k0_h4 : k0_cond4 i = 1#1), ∀ a, (k0_off1415 v1921) a + S1x1024.size a ≤ S40960x1024.size a)
theorem k0_off1415_inb : ∀ (i : grid0.Coords) (v1921 : BitVec 32) (k0_hw1407 : k0_chk1407 i v1921), ∀ (k0_h4 : k0_cond4 i = 1#1), ∀ a, (k0_off1415 v1921) a + S1x1024.size a ≤ S40960x1024.size a := fun i v1921 k0_hw1407 k0_h4 => k0_hw1407 k0_h4

def k0_off1416 (v1926 : BitVec 32) : Fin 2 → Nat :=
  let c0_i32_2112 : BitVec 32 := 0#32
  ![v1926.toNat, 0]

def k0_chk1408 (i : grid0.Coords) (v1926 : BitVec 32) : Prop :=
  (∀ (k0_h4 : k0_cond4 i = 1#1), ∀ a, (k0_off1416 v1926) a + S1x1024.size a ≤ S40960x1024.size a)
theorem k0_off1416_inb : ∀ (i : grid0.Coords) (v1926 : BitVec 32) (k0_hw1408 : k0_chk1408 i v1926), ∀ (k0_h4 : k0_cond4 i = 1#1), ∀ a, (k0_off1416 v1926) a + S1x1024.size a ≤ S40960x1024.size a := fun i v1926 k0_hw1408 k0_h4 => k0_hw1408 k0_h4

def k0_off1417 (v1931 : BitVec 32) : Fin 2 → Nat :=
  let c0_i32_2117 : BitVec 32 := 0#32
  ![v1931.toNat, 0]

def k0_chk1409 (i : grid0.Coords) (v1931 : BitVec 32) : Prop :=
  (∀ (k0_h4 : k0_cond4 i = 1#1), ∀ a, (k0_off1417 v1931) a + S1x1024.size a ≤ S40960x1024.size a)
theorem k0_off1417_inb : ∀ (i : grid0.Coords) (v1931 : BitVec 32) (k0_hw1409 : k0_chk1409 i v1931), ∀ (k0_h4 : k0_cond4 i = 1#1), ∀ a, (k0_off1417 v1931) a + S1x1024.size a ≤ S40960x1024.size a := fun i v1931 k0_hw1409 k0_h4 => k0_hw1409 k0_h4

def k0_off1418 (v1936 : BitVec 32) : Fin 2 → Nat :=
  let c0_i32_2123 : BitVec 32 := 0#32
  ![v1936.toNat, 0]

def k0_chk1410 (i : grid0.Coords) (v1936 : BitVec 32) : Prop :=
  (∀ (k0_h4 : k0_cond4 i = 1#1), ∀ a, (k0_off1418 v1936) a + S1x1024.size a ≤ S40960x1024.size a)
theorem k0_off1418_inb : ∀ (i : grid0.Coords) (v1936 : BitVec 32) (k0_hw1410 : k0_chk1410 i v1936), ∀ (k0_h4 : k0_cond4 i = 1#1), ∀ a, (k0_off1418 v1936) a + S1x1024.size a ≤ S40960x1024.size a := fun i v1936 k0_hw1410 k0_h4 => k0_hw1410 k0_h4

def k0_off1419 (v1941 : BitVec 32) : Fin 2 → Nat :=
  let c0_i32_2128 : BitVec 32 := 0#32
  ![v1941.toNat, 0]

def k0_chk1411 (i : grid0.Coords) (v1941 : BitVec 32) : Prop :=
  (∀ (k0_h4 : k0_cond4 i = 1#1), ∀ a, (k0_off1419 v1941) a + S1x1024.size a ≤ S40960x1024.size a)
theorem k0_off1419_inb : ∀ (i : grid0.Coords) (v1941 : BitVec 32) (k0_hw1411 : k0_chk1411 i v1941), ∀ (k0_h4 : k0_cond4 i = 1#1), ∀ a, (k0_off1419 v1941) a + S1x1024.size a ≤ S40960x1024.size a := fun i v1941 k0_hw1411 k0_h4 => k0_hw1411 k0_h4

def k0_off1420 (v1946 : BitVec 32) : Fin 2 → Nat :=
  let c0_i32_2134 : BitVec 32 := 0#32
  ![v1946.toNat, 0]

def k0_chk1412 (i : grid0.Coords) (v1946 : BitVec 32) : Prop :=
  (∀ (k0_h4 : k0_cond4 i = 1#1), ∀ a, (k0_off1420 v1946) a + S1x1024.size a ≤ S40960x1024.size a)
theorem k0_off1420_inb : ∀ (i : grid0.Coords) (v1946 : BitVec 32) (k0_hw1412 : k0_chk1412 i v1946), ∀ (k0_h4 : k0_cond4 i = 1#1), ∀ a, (k0_off1420 v1946) a + S1x1024.size a ≤ S40960x1024.size a := fun i v1946 k0_hw1412 k0_h4 => k0_hw1412 k0_h4

def k0_off1421 (v1951 : BitVec 32) : Fin 2 → Nat :=
  let c0_i32_2139 : BitVec 32 := 0#32
  ![v1951.toNat, 0]

def k0_chk1413 (i : grid0.Coords) (v1951 : BitVec 32) : Prop :=
  (∀ (k0_h4 : k0_cond4 i = 1#1), ∀ a, (k0_off1421 v1951) a + S1x1024.size a ≤ S40960x1024.size a)
theorem k0_off1421_inb : ∀ (i : grid0.Coords) (v1951 : BitVec 32) (k0_hw1413 : k0_chk1413 i v1951), ∀ (k0_h4 : k0_cond4 i = 1#1), ∀ a, (k0_off1421 v1951) a + S1x1024.size a ≤ S40960x1024.size a := fun i v1951 k0_hw1413 k0_h4 => k0_hw1413 k0_h4

def k0_off1422 (v1956 : BitVec 32) : Fin 2 → Nat :=
  let c0_i32_2145 : BitVec 32 := 0#32
  ![v1956.toNat, 0]

def k0_chk1414 (i : grid0.Coords) (v1956 : BitVec 32) : Prop :=
  (∀ (k0_h4 : k0_cond4 i = 1#1), ∀ a, (k0_off1422 v1956) a + S1x1024.size a ≤ S40960x1024.size a)
theorem k0_off1422_inb : ∀ (i : grid0.Coords) (v1956 : BitVec 32) (k0_hw1414 : k0_chk1414 i v1956), ∀ (k0_h4 : k0_cond4 i = 1#1), ∀ a, (k0_off1422 v1956) a + S1x1024.size a ≤ S40960x1024.size a := fun i v1956 k0_hw1414 k0_h4 => k0_hw1414 k0_h4

def k0_off1423 (v1961 : BitVec 32) : Fin 2 → Nat :=
  let c0_i32_2150 : BitVec 32 := 0#32
  ![v1961.toNat, 0]

def k0_chk1415 (i : grid0.Coords) (v1961 : BitVec 32) : Prop :=
  (∀ (k0_h4 : k0_cond4 i = 1#1), ∀ a, (k0_off1423 v1961) a + S1x1024.size a ≤ S40960x1024.size a)
theorem k0_off1423_inb : ∀ (i : grid0.Coords) (v1961 : BitVec 32) (k0_hw1415 : k0_chk1415 i v1961), ∀ (k0_h4 : k0_cond4 i = 1#1), ∀ a, (k0_off1423 v1961) a + S1x1024.size a ≤ S40960x1024.size a := fun i v1961 k0_hw1415 k0_h4 => k0_hw1415 k0_h4

def k0_off1424 (v1966 : BitVec 32) : Fin 2 → Nat :=
  let c0_i32_2156 : BitVec 32 := 0#32
  ![v1966.toNat, 0]

def k0_chk1416 (i : grid0.Coords) (v1966 : BitVec 32) : Prop :=
  (∀ (k0_h4 : k0_cond4 i = 1#1), ∀ a, (k0_off1424 v1966) a + S1x1024.size a ≤ S40960x1024.size a)
theorem k0_off1424_inb : ∀ (i : grid0.Coords) (v1966 : BitVec 32) (k0_hw1416 : k0_chk1416 i v1966), ∀ (k0_h4 : k0_cond4 i = 1#1), ∀ a, (k0_off1424 v1966) a + S1x1024.size a ≤ S40960x1024.size a := fun i v1966 k0_hw1416 k0_h4 => k0_hw1416 k0_h4

def k0_off1425 (v1971 : BitVec 32) : Fin 2 → Nat :=
  let c0_i32_2161 : BitVec 32 := 0#32
  ![v1971.toNat, 0]

def k0_chk1417 (i : grid0.Coords) (v1971 : BitVec 32) : Prop :=
  (∀ (k0_h4 : k0_cond4 i = 1#1), ∀ a, (k0_off1425 v1971) a + S1x1024.size a ≤ S40960x1024.size a)
theorem k0_off1425_inb : ∀ (i : grid0.Coords) (v1971 : BitVec 32) (k0_hw1417 : k0_chk1417 i v1971), ∀ (k0_h4 : k0_cond4 i = 1#1), ∀ a, (k0_off1425 v1971) a + S1x1024.size a ≤ S40960x1024.size a := fun i v1971 k0_hw1417 k0_h4 => k0_hw1417 k0_h4

def k0_off1426 (v1976 : BitVec 32) : Fin 2 → Nat :=
  let c0_i32_2167 : BitVec 32 := 0#32
  ![v1976.toNat, 0]

def k0_chk1418 (i : grid0.Coords) (v1976 : BitVec 32) : Prop :=
  (∀ (k0_h4 : k0_cond4 i = 1#1), ∀ a, (k0_off1426 v1976) a + S1x1024.size a ≤ S40960x1024.size a)
theorem k0_off1426_inb : ∀ (i : grid0.Coords) (v1976 : BitVec 32) (k0_hw1418 : k0_chk1418 i v1976), ∀ (k0_h4 : k0_cond4 i = 1#1), ∀ a, (k0_off1426 v1976) a + S1x1024.size a ≤ S40960x1024.size a := fun i v1976 k0_hw1418 k0_h4 => k0_hw1418 k0_h4

def k0_off1427 (v1981 : BitVec 32) : Fin 2 → Nat :=
  let c0_i32_2172 : BitVec 32 := 0#32
  ![v1981.toNat, 0]

def k0_chk1419 (i : grid0.Coords) (v1981 : BitVec 32) : Prop :=
  (∀ (k0_h4 : k0_cond4 i = 1#1), ∀ a, (k0_off1427 v1981) a + S1x1024.size a ≤ S40960x1024.size a)
theorem k0_off1427_inb : ∀ (i : grid0.Coords) (v1981 : BitVec 32) (k0_hw1419 : k0_chk1419 i v1981), ∀ (k0_h4 : k0_cond4 i = 1#1), ∀ a, (k0_off1427 v1981) a + S1x1024.size a ≤ S40960x1024.size a := fun i v1981 k0_hw1419 k0_h4 => k0_hw1419 k0_h4

def k0_off1428 (v1986 : BitVec 32) : Fin 2 → Nat :=
  let c0_i32_2178 : BitVec 32 := 0#32
  ![v1986.toNat, 0]

def k0_chk1420 (i : grid0.Coords) (v1986 : BitVec 32) : Prop :=
  (∀ (k0_h4 : k0_cond4 i = 1#1), ∀ a, (k0_off1428 v1986) a + S1x1024.size a ≤ S40960x1024.size a)
theorem k0_off1428_inb : ∀ (i : grid0.Coords) (v1986 : BitVec 32) (k0_hw1420 : k0_chk1420 i v1986), ∀ (k0_h4 : k0_cond4 i = 1#1), ∀ a, (k0_off1428 v1986) a + S1x1024.size a ≤ S40960x1024.size a := fun i v1986 k0_hw1420 k0_h4 => k0_hw1420 k0_h4

def k0_off1429 (v1991 : BitVec 32) : Fin 2 → Nat :=
  let c0_i32_2183 : BitVec 32 := 0#32
  ![v1991.toNat, 0]

def k0_chk1421 (i : grid0.Coords) (v1991 : BitVec 32) : Prop :=
  (∀ (k0_h4 : k0_cond4 i = 1#1), ∀ a, (k0_off1429 v1991) a + S1x1024.size a ≤ S40960x1024.size a)
theorem k0_off1429_inb : ∀ (i : grid0.Coords) (v1991 : BitVec 32) (k0_hw1421 : k0_chk1421 i v1991), ∀ (k0_h4 : k0_cond4 i = 1#1), ∀ a, (k0_off1429 v1991) a + S1x1024.size a ≤ S40960x1024.size a := fun i v1991 k0_hw1421 k0_h4 => k0_hw1421 k0_h4

def k0_off1430 (v1996 : BitVec 32) : Fin 2 → Nat :=
  let c0_i32_2189 : BitVec 32 := 0#32
  ![v1996.toNat, 0]

def k0_chk1422 (i : grid0.Coords) (v1996 : BitVec 32) : Prop :=
  (∀ (k0_h4 : k0_cond4 i = 1#1), ∀ a, (k0_off1430 v1996) a + S1x1024.size a ≤ S40960x1024.size a)
theorem k0_off1430_inb : ∀ (i : grid0.Coords) (v1996 : BitVec 32) (k0_hw1422 : k0_chk1422 i v1996), ∀ (k0_h4 : k0_cond4 i = 1#1), ∀ a, (k0_off1430 v1996) a + S1x1024.size a ≤ S40960x1024.size a := fun i v1996 k0_hw1422 k0_h4 => k0_hw1422 k0_h4

def k0_off1431 (v2001 : BitVec 32) : Fin 2 → Nat :=
  let c0_i32_2194 : BitVec 32 := 0#32
  ![v2001.toNat, 0]

def k0_chk1423 (i : grid0.Coords) (v2001 : BitVec 32) : Prop :=
  (∀ (k0_h4 : k0_cond4 i = 1#1), ∀ a, (k0_off1431 v2001) a + S1x1024.size a ≤ S40960x1024.size a)
theorem k0_off1431_inb : ∀ (i : grid0.Coords) (v2001 : BitVec 32) (k0_hw1423 : k0_chk1423 i v2001), ∀ (k0_h4 : k0_cond4 i = 1#1), ∀ a, (k0_off1431 v2001) a + S1x1024.size a ≤ S40960x1024.size a := fun i v2001 k0_hw1423 k0_h4 => k0_hw1423 k0_h4

def k0_off1432 (v2006 : BitVec 32) : Fin 2 → Nat :=
  let c0_i32_2200 : BitVec 32 := 0#32
  ![v2006.toNat, 0]

def k0_chk1424 (i : grid0.Coords) (v2006 : BitVec 32) : Prop :=
  (∀ (k0_h4 : k0_cond4 i = 1#1), ∀ a, (k0_off1432 v2006) a + S1x1024.size a ≤ S40960x1024.size a)
theorem k0_off1432_inb : ∀ (i : grid0.Coords) (v2006 : BitVec 32) (k0_hw1424 : k0_chk1424 i v2006), ∀ (k0_h4 : k0_cond4 i = 1#1), ∀ a, (k0_off1432 v2006) a + S1x1024.size a ≤ S40960x1024.size a := fun i v2006 k0_hw1424 k0_h4 => k0_hw1424 k0_h4

def k0_off1433 (v2011 : BitVec 32) : Fin 2 → Nat :=
  let c0_i32_2205 : BitVec 32 := 0#32
  ![v2011.toNat, 0]

def k0_chk1425 (i : grid0.Coords) (v2011 : BitVec 32) : Prop :=
  (∀ (k0_h4 : k0_cond4 i = 1#1), ∀ a, (k0_off1433 v2011) a + S1x1024.size a ≤ S40960x1024.size a)
theorem k0_off1433_inb : ∀ (i : grid0.Coords) (v2011 : BitVec 32) (k0_hw1425 : k0_chk1425 i v2011), ∀ (k0_h4 : k0_cond4 i = 1#1), ∀ a, (k0_off1433 v2011) a + S1x1024.size a ≤ S40960x1024.size a := fun i v2011 k0_hw1425 k0_h4 => k0_hw1425 k0_h4

def k0_off1434 (v2016 : BitVec 32) : Fin 2 → Nat :=
  let c0_i32_2211 : BitVec 32 := 0#32
  ![v2016.toNat, 0]

def k0_chk1426 (i : grid0.Coords) (v2016 : BitVec 32) : Prop :=
  (∀ (k0_h4 : k0_cond4 i = 1#1), ∀ a, (k0_off1434 v2016) a + S1x1024.size a ≤ S40960x1024.size a)
theorem k0_off1434_inb : ∀ (i : grid0.Coords) (v2016 : BitVec 32) (k0_hw1426 : k0_chk1426 i v2016), ∀ (k0_h4 : k0_cond4 i = 1#1), ∀ a, (k0_off1434 v2016) a + S1x1024.size a ≤ S40960x1024.size a := fun i v2016 k0_hw1426 k0_h4 => k0_hw1426 k0_h4

def k0_off1435 (v2021 : BitVec 32) : Fin 2 → Nat :=
  let c0_i32_2216 : BitVec 32 := 0#32
  ![v2021.toNat, 0]

def k0_chk1427 (i : grid0.Coords) (v2021 : BitVec 32) : Prop :=
  (∀ (k0_h4 : k0_cond4 i = 1#1), ∀ a, (k0_off1435 v2021) a + S1x1024.size a ≤ S40960x1024.size a)
theorem k0_off1435_inb : ∀ (i : grid0.Coords) (v2021 : BitVec 32) (k0_hw1427 : k0_chk1427 i v2021), ∀ (k0_h4 : k0_cond4 i = 1#1), ∀ a, (k0_off1435 v2021) a + S1x1024.size a ≤ S40960x1024.size a := fun i v2021 k0_hw1427 k0_h4 => k0_hw1427 k0_h4

def k0_off1436 (v2026 : BitVec 32) : Fin 2 → Nat :=
  let c0_i32_2222 : BitVec 32 := 0#32
  ![v2026.toNat, 0]

def k0_chk1428 (i : grid0.Coords) (v2026 : BitVec 32) : Prop :=
  (∀ (k0_h4 : k0_cond4 i = 1#1), ∀ a, (k0_off1436 v2026) a + S1x1024.size a ≤ S40960x1024.size a)
theorem k0_off1436_inb : ∀ (i : grid0.Coords) (v2026 : BitVec 32) (k0_hw1428 : k0_chk1428 i v2026), ∀ (k0_h4 : k0_cond4 i = 1#1), ∀ a, (k0_off1436 v2026) a + S1x1024.size a ≤ S40960x1024.size a := fun i v2026 k0_hw1428 k0_h4 => k0_hw1428 k0_h4

def k0_off1437 (v2031 : BitVec 32) : Fin 2 → Nat :=
  let c0_i32_2227 : BitVec 32 := 0#32
  ![v2031.toNat, 0]

def k0_chk1429 (i : grid0.Coords) (v2031 : BitVec 32) : Prop :=
  (∀ (k0_h4 : k0_cond4 i = 1#1), ∀ a, (k0_off1437 v2031) a + S1x1024.size a ≤ S40960x1024.size a)
theorem k0_off1437_inb : ∀ (i : grid0.Coords) (v2031 : BitVec 32) (k0_hw1429 : k0_chk1429 i v2031), ∀ (k0_h4 : k0_cond4 i = 1#1), ∀ a, (k0_off1437 v2031) a + S1x1024.size a ≤ S40960x1024.size a := fun i v2031 k0_hw1429 k0_h4 => k0_hw1429 k0_h4

def k0_off1438 (v2036 : BitVec 32) : Fin 2 → Nat :=
  let c0_i32_2233 : BitVec 32 := 0#32
  ![v2036.toNat, 0]

def k0_chk1430 (i : grid0.Coords) (v2036 : BitVec 32) : Prop :=
  (∀ (k0_h4 : k0_cond4 i = 1#1), ∀ a, (k0_off1438 v2036) a + S1x1024.size a ≤ S40960x1024.size a)
theorem k0_off1438_inb : ∀ (i : grid0.Coords) (v2036 : BitVec 32) (k0_hw1430 : k0_chk1430 i v2036), ∀ (k0_h4 : k0_cond4 i = 1#1), ∀ a, (k0_off1438 v2036) a + S1x1024.size a ≤ S40960x1024.size a := fun i v2036 k0_hw1430 k0_h4 => k0_hw1430 k0_h4

def k0_off1439 (v2041 : BitVec 32) : Fin 2 → Nat :=
  let c0_i32_2238 : BitVec 32 := 0#32
  ![v2041.toNat, 0]

def k0_chk1431 (i : grid0.Coords) (v2041 : BitVec 32) : Prop :=
  (∀ (k0_h4 : k0_cond4 i = 1#1), ∀ a, (k0_off1439 v2041) a + S1x1024.size a ≤ S40960x1024.size a)
theorem k0_off1439_inb : ∀ (i : grid0.Coords) (v2041 : BitVec 32) (k0_hw1431 : k0_chk1431 i v2041), ∀ (k0_h4 : k0_cond4 i = 1#1), ∀ a, (k0_off1439 v2041) a + S1x1024.size a ≤ S40960x1024.size a := fun i v2041 k0_hw1431 k0_h4 => k0_hw1431 k0_h4

def k0_off1440 (v2046 : BitVec 32) : Fin 2 → Nat :=
  let c0_i32_2244 : BitVec 32 := 0#32
  ![v2046.toNat, 0]

def k0_chk1432 (i : grid0.Coords) (v2046 : BitVec 32) : Prop :=
  (∀ (k0_h4 : k0_cond4 i = 1#1), ∀ a, (k0_off1440 v2046) a + S1x1024.size a ≤ S40960x1024.size a)
theorem k0_off1440_inb : ∀ (i : grid0.Coords) (v2046 : BitVec 32) (k0_hw1432 : k0_chk1432 i v2046), ∀ (k0_h4 : k0_cond4 i = 1#1), ∀ a, (k0_off1440 v2046) a + S1x1024.size a ≤ S40960x1024.size a := fun i v2046 k0_hw1432 k0_h4 => k0_hw1432 k0_h4

def k0_off1441 (v2051 : BitVec 32) : Fin 2 → Nat :=
  let c0_i32_2249 : BitVec 32 := 0#32
  ![v2051.toNat, 0]

def k0_chk1433 (i : grid0.Coords) (v2051 : BitVec 32) : Prop :=
  (∀ (k0_h4 : k0_cond4 i = 1#1), ∀ a, (k0_off1441 v2051) a + S1x1024.size a ≤ S40960x1024.size a)
theorem k0_off1441_inb : ∀ (i : grid0.Coords) (v2051 : BitVec 32) (k0_hw1433 : k0_chk1433 i v2051), ∀ (k0_h4 : k0_cond4 i = 1#1), ∀ a, (k0_off1441 v2051) a + S1x1024.size a ≤ S40960x1024.size a := fun i v2051 k0_hw1433 k0_h4 => k0_hw1433 k0_h4

def k0_off1442 (v2056 : BitVec 32) : Fin 2 → Nat :=
  let c0_i32_2255 : BitVec 32 := 0#32
  ![v2056.toNat, 0]

def k0_chk1434 (i : grid0.Coords) (v2056 : BitVec 32) : Prop :=
  (∀ (k0_h4 : k0_cond4 i = 1#1), ∀ a, (k0_off1442 v2056) a + S1x1024.size a ≤ S40960x1024.size a)
theorem k0_off1442_inb : ∀ (i : grid0.Coords) (v2056 : BitVec 32) (k0_hw1434 : k0_chk1434 i v2056), ∀ (k0_h4 : k0_cond4 i = 1#1), ∀ a, (k0_off1442 v2056) a + S1x1024.size a ≤ S40960x1024.size a := fun i v2056 k0_hw1434 k0_h4 => k0_hw1434 k0_h4

def k0_off1443 (v2061 : BitVec 32) : Fin 2 → Nat :=
  let c0_i32_2260 : BitVec 32 := 0#32
  ![v2061.toNat, 0]

def k0_chk1435 (i : grid0.Coords) (v2061 : BitVec 32) : Prop :=
  (∀ (k0_h4 : k0_cond4 i = 1#1), ∀ a, (k0_off1443 v2061) a + S1x1024.size a ≤ S40960x1024.size a)
theorem k0_off1443_inb : ∀ (i : grid0.Coords) (v2061 : BitVec 32) (k0_hw1435 : k0_chk1435 i v2061), ∀ (k0_h4 : k0_cond4 i = 1#1), ∀ a, (k0_off1443 v2061) a + S1x1024.size a ≤ S40960x1024.size a := fun i v2061 k0_hw1435 k0_h4 => k0_hw1435 k0_h4

def k0_off1444 (v2066 : BitVec 32) : Fin 2 → Nat :=
  let c0_i32_2266 : BitVec 32 := 0#32
  ![v2066.toNat, 0]

def k0_chk1436 (i : grid0.Coords) (v2066 : BitVec 32) : Prop :=
  (∀ (k0_h4 : k0_cond4 i = 1#1), ∀ a, (k0_off1444 v2066) a + S1x1024.size a ≤ S40960x1024.size a)
theorem k0_off1444_inb : ∀ (i : grid0.Coords) (v2066 : BitVec 32) (k0_hw1436 : k0_chk1436 i v2066), ∀ (k0_h4 : k0_cond4 i = 1#1), ∀ a, (k0_off1444 v2066) a + S1x1024.size a ≤ S40960x1024.size a := fun i v2066 k0_hw1436 k0_h4 => k0_hw1436 k0_h4

def k0_off1445 (v2071 : BitVec 32) : Fin 2 → Nat :=
  let c0_i32_2271 : BitVec 32 := 0#32
  ![v2071.toNat, 0]

def k0_chk1437 (i : grid0.Coords) (v2071 : BitVec 32) : Prop :=
  (∀ (k0_h4 : k0_cond4 i = 1#1), ∀ a, (k0_off1445 v2071) a + S1x1024.size a ≤ S40960x1024.size a)
theorem k0_off1445_inb : ∀ (i : grid0.Coords) (v2071 : BitVec 32) (k0_hw1437 : k0_chk1437 i v2071), ∀ (k0_h4 : k0_cond4 i = 1#1), ∀ a, (k0_off1445 v2071) a + S1x1024.size a ≤ S40960x1024.size a := fun i v2071 k0_hw1437 k0_h4 => k0_hw1437 k0_h4

def k0_off1446 (v2076 : BitVec 32) : Fin 2 → Nat :=
  let c0_i32_2277 : BitVec 32 := 0#32
  ![v2076.toNat, 0]

def k0_chk1438 (i : grid0.Coords) (v2076 : BitVec 32) : Prop :=
  (∀ (k0_h4 : k0_cond4 i = 1#1), ∀ a, (k0_off1446 v2076) a + S1x1024.size a ≤ S40960x1024.size a)
theorem k0_off1446_inb : ∀ (i : grid0.Coords) (v2076 : BitVec 32) (k0_hw1438 : k0_chk1438 i v2076), ∀ (k0_h4 : k0_cond4 i = 1#1), ∀ a, (k0_off1446 v2076) a + S1x1024.size a ≤ S40960x1024.size a := fun i v2076 k0_hw1438 k0_h4 => k0_hw1438 k0_h4

def k0_off1447 (v2081 : BitVec 32) : Fin 2 → Nat :=
  let c0_i32_2282 : BitVec 32 := 0#32
  ![v2081.toNat, 0]

def k0_chk1439 (i : grid0.Coords) (v2081 : BitVec 32) : Prop :=
  (∀ (k0_h4 : k0_cond4 i = 1#1), ∀ a, (k0_off1447 v2081) a + S1x1024.size a ≤ S40960x1024.size a)
theorem k0_off1447_inb : ∀ (i : grid0.Coords) (v2081 : BitVec 32) (k0_hw1439 : k0_chk1439 i v2081), ∀ (k0_h4 : k0_cond4 i = 1#1), ∀ a, (k0_off1447 v2081) a + S1x1024.size a ≤ S40960x1024.size a := fun i v2081 k0_hw1439 k0_h4 => k0_hw1439 k0_h4

def k0_off1448 (v2086 : BitVec 32) : Fin 2 → Nat :=
  let c0_i32_2288 : BitVec 32 := 0#32
  ![v2086.toNat, 0]

def k0_chk1440 (i : grid0.Coords) (v2086 : BitVec 32) : Prop :=
  (∀ (k0_h4 : k0_cond4 i = 1#1), ∀ a, (k0_off1448 v2086) a + S1x1024.size a ≤ S40960x1024.size a)
theorem k0_off1448_inb : ∀ (i : grid0.Coords) (v2086 : BitVec 32) (k0_hw1440 : k0_chk1440 i v2086), ∀ (k0_h4 : k0_cond4 i = 1#1), ∀ a, (k0_off1448 v2086) a + S1x1024.size a ≤ S40960x1024.size a := fun i v2086 k0_hw1440 k0_h4 => k0_hw1440 k0_h4

def k0_off1449 (v2091 : BitVec 32) : Fin 2 → Nat :=
  let c0_i32_2293 : BitVec 32 := 0#32
  ![v2091.toNat, 0]

def k0_chk1441 (i : grid0.Coords) (v2091 : BitVec 32) : Prop :=
  (∀ (k0_h4 : k0_cond4 i = 1#1), ∀ a, (k0_off1449 v2091) a + S1x1024.size a ≤ S40960x1024.size a)
theorem k0_off1449_inb : ∀ (i : grid0.Coords) (v2091 : BitVec 32) (k0_hw1441 : k0_chk1441 i v2091), ∀ (k0_h4 : k0_cond4 i = 1#1), ∀ a, (k0_off1449 v2091) a + S1x1024.size a ≤ S40960x1024.size a := fun i v2091 k0_hw1441 k0_h4 => k0_hw1441 k0_h4

def k0_off1450 (v2096 : BitVec 32) : Fin 2 → Nat :=
  let c0_i32_2299 : BitVec 32 := 0#32
  ![v2096.toNat, 0]

def k0_chk1442 (i : grid0.Coords) (v2096 : BitVec 32) : Prop :=
  (∀ (k0_h4 : k0_cond4 i = 1#1), ∀ a, (k0_off1450 v2096) a + S1x1024.size a ≤ S40960x1024.size a)
theorem k0_off1450_inb : ∀ (i : grid0.Coords) (v2096 : BitVec 32) (k0_hw1442 : k0_chk1442 i v2096), ∀ (k0_h4 : k0_cond4 i = 1#1), ∀ a, (k0_off1450 v2096) a + S1x1024.size a ≤ S40960x1024.size a := fun i v2096 k0_hw1442 k0_h4 => k0_hw1442 k0_h4

def k0_off1451 (v2101 : BitVec 32) : Fin 2 → Nat :=
  let c0_i32_2304 : BitVec 32 := 0#32
  ![v2101.toNat, 0]

def k0_chk1443 (i : grid0.Coords) (v2101 : BitVec 32) : Prop :=
  (∀ (k0_h4 : k0_cond4 i = 1#1), ∀ a, (k0_off1451 v2101) a + S1x1024.size a ≤ S40960x1024.size a)
theorem k0_off1451_inb : ∀ (i : grid0.Coords) (v2101 : BitVec 32) (k0_hw1443 : k0_chk1443 i v2101), ∀ (k0_h4 : k0_cond4 i = 1#1), ∀ a, (k0_off1451 v2101) a + S1x1024.size a ≤ S40960x1024.size a := fun i v2101 k0_hw1443 k0_h4 => k0_hw1443 k0_h4

def k0_off1452 (v2106 : BitVec 32) : Fin 2 → Nat :=
  let c0_i32_2310 : BitVec 32 := 0#32
  ![v2106.toNat, 0]

def k0_chk1444 (i : grid0.Coords) (v2106 : BitVec 32) : Prop :=
  (∀ (k0_h4 : k0_cond4 i = 1#1), ∀ a, (k0_off1452 v2106) a + S1x1024.size a ≤ S40960x1024.size a)
theorem k0_off1452_inb : ∀ (i : grid0.Coords) (v2106 : BitVec 32) (k0_hw1444 : k0_chk1444 i v2106), ∀ (k0_h4 : k0_cond4 i = 1#1), ∀ a, (k0_off1452 v2106) a + S1x1024.size a ≤ S40960x1024.size a := fun i v2106 k0_hw1444 k0_h4 => k0_hw1444 k0_h4

def k0_off1453 (v2111 : BitVec 32) : Fin 2 → Nat :=
  let c0_i32_2315 : BitVec 32 := 0#32
  ![v2111.toNat, 0]

def k0_chk1445 (i : grid0.Coords) (v2111 : BitVec 32) : Prop :=
  (∀ (k0_h4 : k0_cond4 i = 1#1), ∀ a, (k0_off1453 v2111) a + S1x1024.size a ≤ S40960x1024.size a)
theorem k0_off1453_inb : ∀ (i : grid0.Coords) (v2111 : BitVec 32) (k0_hw1445 : k0_chk1445 i v2111), ∀ (k0_h4 : k0_cond4 i = 1#1), ∀ a, (k0_off1453 v2111) a + S1x1024.size a ≤ S40960x1024.size a := fun i v2111 k0_hw1445 k0_h4 => k0_hw1445 k0_h4

def k0_off1454 (v2116 : BitVec 32) : Fin 2 → Nat :=
  let c0_i32_2321 : BitVec 32 := 0#32
  ![v2116.toNat, 0]

def k0_chk1446 (i : grid0.Coords) (v2116 : BitVec 32) : Prop :=
  (∀ (k0_h4 : k0_cond4 i = 1#1), ∀ a, (k0_off1454 v2116) a + S1x1024.size a ≤ S40960x1024.size a)
theorem k0_off1454_inb : ∀ (i : grid0.Coords) (v2116 : BitVec 32) (k0_hw1446 : k0_chk1446 i v2116), ∀ (k0_h4 : k0_cond4 i = 1#1), ∀ a, (k0_off1454 v2116) a + S1x1024.size a ≤ S40960x1024.size a := fun i v2116 k0_hw1446 k0_h4 => k0_hw1446 k0_h4

def k0_off1455 (v2121 : BitVec 32) : Fin 2 → Nat :=
  let c0_i32_2326 : BitVec 32 := 0#32
  ![v2121.toNat, 0]

def k0_chk1447 (i : grid0.Coords) (v2121 : BitVec 32) : Prop :=
  (∀ (k0_h4 : k0_cond4 i = 1#1), ∀ a, (k0_off1455 v2121) a + S1x1024.size a ≤ S40960x1024.size a)
theorem k0_off1455_inb : ∀ (i : grid0.Coords) (v2121 : BitVec 32) (k0_hw1447 : k0_chk1447 i v2121), ∀ (k0_h4 : k0_cond4 i = 1#1), ∀ a, (k0_off1455 v2121) a + S1x1024.size a ≤ S40960x1024.size a := fun i v2121 k0_hw1447 k0_h4 => k0_hw1447 k0_h4

def k0_off1456 (v2126 : BitVec 32) : Fin 2 → Nat :=
  let c0_i32_2332 : BitVec 32 := 0#32
  ![v2126.toNat, 0]

def k0_chk1448 (i : grid0.Coords) (v2126 : BitVec 32) : Prop :=
  (∀ (k0_h4 : k0_cond4 i = 1#1), ∀ a, (k0_off1456 v2126) a + S1x1024.size a ≤ S40960x1024.size a)
theorem k0_off1456_inb : ∀ (i : grid0.Coords) (v2126 : BitVec 32) (k0_hw1448 : k0_chk1448 i v2126), ∀ (k0_h4 : k0_cond4 i = 1#1), ∀ a, (k0_off1456 v2126) a + S1x1024.size a ≤ S40960x1024.size a := fun i v2126 k0_hw1448 k0_h4 => k0_hw1448 k0_h4

def k0_off1457 (v2131 : BitVec 32) : Fin 2 → Nat :=
  let c0_i32_2337 : BitVec 32 := 0#32
  ![v2131.toNat, 0]

def k0_chk1449 (i : grid0.Coords) (v2131 : BitVec 32) : Prop :=
  (∀ (k0_h4 : k0_cond4 i = 1#1), ∀ a, (k0_off1457 v2131) a + S1x1024.size a ≤ S40960x1024.size a)
theorem k0_off1457_inb : ∀ (i : grid0.Coords) (v2131 : BitVec 32) (k0_hw1449 : k0_chk1449 i v2131), ∀ (k0_h4 : k0_cond4 i = 1#1), ∀ a, (k0_off1457 v2131) a + S1x1024.size a ≤ S40960x1024.size a := fun i v2131 k0_hw1449 k0_h4 => k0_hw1449 k0_h4

def k0_off1458 (v2136 : BitVec 32) : Fin 2 → Nat :=
  let c0_i32_2343 : BitVec 32 := 0#32
  ![v2136.toNat, 0]

def k0_chk1450 (i : grid0.Coords) (v2136 : BitVec 32) : Prop :=
  (∀ (k0_h4 : k0_cond4 i = 1#1), ∀ a, (k0_off1458 v2136) a + S1x1024.size a ≤ S40960x1024.size a)
theorem k0_off1458_inb : ∀ (i : grid0.Coords) (v2136 : BitVec 32) (k0_hw1450 : k0_chk1450 i v2136), ∀ (k0_h4 : k0_cond4 i = 1#1), ∀ a, (k0_off1458 v2136) a + S1x1024.size a ≤ S40960x1024.size a := fun i v2136 k0_hw1450 k0_h4 => k0_hw1450 k0_h4

def k0_off1459 (v2141 : BitVec 32) : Fin 2 → Nat :=
  let c0_i32_2348 : BitVec 32 := 0#32
  ![v2141.toNat, 0]

def k0_chk1451 (i : grid0.Coords) (v2141 : BitVec 32) : Prop :=
  (∀ (k0_h4 : k0_cond4 i = 1#1), ∀ a, (k0_off1459 v2141) a + S1x1024.size a ≤ S40960x1024.size a)
theorem k0_off1459_inb : ∀ (i : grid0.Coords) (v2141 : BitVec 32) (k0_hw1451 : k0_chk1451 i v2141), ∀ (k0_h4 : k0_cond4 i = 1#1), ∀ a, (k0_off1459 v2141) a + S1x1024.size a ≤ S40960x1024.size a := fun i v2141 k0_hw1451 k0_h4 => k0_hw1451 k0_h4

def k0_off1460 (v2146 : BitVec 32) : Fin 2 → Nat :=
  let c0_i32_2354 : BitVec 32 := 0#32
  ![v2146.toNat, 0]

def k0_chk1452 (i : grid0.Coords) (v2146 : BitVec 32) : Prop :=
  (∀ (k0_h4 : k0_cond4 i = 1#1), ∀ a, (k0_off1460 v2146) a + S1x1024.size a ≤ S40960x1024.size a)
theorem k0_off1460_inb : ∀ (i : grid0.Coords) (v2146 : BitVec 32) (k0_hw1452 : k0_chk1452 i v2146), ∀ (k0_h4 : k0_cond4 i = 1#1), ∀ a, (k0_off1460 v2146) a + S1x1024.size a ≤ S40960x1024.size a := fun i v2146 k0_hw1452 k0_h4 => k0_hw1452 k0_h4

def k0_off1461 (v2151 : BitVec 32) : Fin 2 → Nat :=
  let c0_i32_2359 : BitVec 32 := 0#32
  ![v2151.toNat, 0]

def k0_chk1453 (i : grid0.Coords) (v2151 : BitVec 32) : Prop :=
  (∀ (k0_h4 : k0_cond4 i = 1#1), ∀ a, (k0_off1461 v2151) a + S1x1024.size a ≤ S40960x1024.size a)
theorem k0_off1461_inb : ∀ (i : grid0.Coords) (v2151 : BitVec 32) (k0_hw1453 : k0_chk1453 i v2151), ∀ (k0_h4 : k0_cond4 i = 1#1), ∀ a, (k0_off1461 v2151) a + S1x1024.size a ≤ S40960x1024.size a := fun i v2151 k0_hw1453 k0_h4 => k0_hw1453 k0_h4

def k0_off1462 (v2156 : BitVec 32) : Fin 2 → Nat :=
  let c0_i32_2365 : BitVec 32 := 0#32
  ![v2156.toNat, 0]

def k0_chk1454 (i : grid0.Coords) (v2156 : BitVec 32) : Prop :=
  (∀ (k0_h4 : k0_cond4 i = 1#1), ∀ a, (k0_off1462 v2156) a + S1x1024.size a ≤ S40960x1024.size a)
theorem k0_off1462_inb : ∀ (i : grid0.Coords) (v2156 : BitVec 32) (k0_hw1454 : k0_chk1454 i v2156), ∀ (k0_h4 : k0_cond4 i = 1#1), ∀ a, (k0_off1462 v2156) a + S1x1024.size a ≤ S40960x1024.size a := fun i v2156 k0_hw1454 k0_h4 => k0_hw1454 k0_h4

def k0_off1463 (v2161 : BitVec 32) : Fin 2 → Nat :=
  let c0_i32_2370 : BitVec 32 := 0#32
  ![v2161.toNat, 0]

def k0_chk1455 (i : grid0.Coords) (v2161 : BitVec 32) : Prop :=
  (∀ (k0_h4 : k0_cond4 i = 1#1), ∀ a, (k0_off1463 v2161) a + S1x1024.size a ≤ S40960x1024.size a)
theorem k0_off1463_inb : ∀ (i : grid0.Coords) (v2161 : BitVec 32) (k0_hw1455 : k0_chk1455 i v2161), ∀ (k0_h4 : k0_cond4 i = 1#1), ∀ a, (k0_off1463 v2161) a + S1x1024.size a ≤ S40960x1024.size a := fun i v2161 k0_hw1455 k0_h4 => k0_hw1455 k0_h4

def k0_off1464 (v2166 : BitVec 32) : Fin 2 → Nat :=
  let c0_i32_2376 : BitVec 32 := 0#32
  ![v2166.toNat, 0]

def k0_chk1456 (i : grid0.Coords) (v2166 : BitVec 32) : Prop :=
  (∀ (k0_h4 : k0_cond4 i = 1#1), ∀ a, (k0_off1464 v2166) a + S1x1024.size a ≤ S40960x1024.size a)
theorem k0_off1464_inb : ∀ (i : grid0.Coords) (v2166 : BitVec 32) (k0_hw1456 : k0_chk1456 i v2166), ∀ (k0_h4 : k0_cond4 i = 1#1), ∀ a, (k0_off1464 v2166) a + S1x1024.size a ≤ S40960x1024.size a := fun i v2166 k0_hw1456 k0_h4 => k0_hw1456 k0_h4

def k0_off1465 (v2171 : BitVec 32) : Fin 2 → Nat :=
  let c0_i32_2381 : BitVec 32 := 0#32
  ![v2171.toNat, 0]

def k0_chk1457 (i : grid0.Coords) (v2171 : BitVec 32) : Prop :=
  (∀ (k0_h4 : k0_cond4 i = 1#1), ∀ a, (k0_off1465 v2171) a + S1x1024.size a ≤ S40960x1024.size a)
theorem k0_off1465_inb : ∀ (i : grid0.Coords) (v2171 : BitVec 32) (k0_hw1457 : k0_chk1457 i v2171), ∀ (k0_h4 : k0_cond4 i = 1#1), ∀ a, (k0_off1465 v2171) a + S1x1024.size a ≤ S40960x1024.size a := fun i v2171 k0_hw1457 k0_h4 => k0_hw1457 k0_h4

def k0_off1466 (v2176 : BitVec 32) : Fin 2 → Nat :=
  let c0_i32_2387 : BitVec 32 := 0#32
  ![v2176.toNat, 0]

def k0_chk1458 (i : grid0.Coords) (v2176 : BitVec 32) : Prop :=
  (∀ (k0_h4 : k0_cond4 i = 1#1), ∀ a, (k0_off1466 v2176) a + S1x1024.size a ≤ S40960x1024.size a)
theorem k0_off1466_inb : ∀ (i : grid0.Coords) (v2176 : BitVec 32) (k0_hw1458 : k0_chk1458 i v2176), ∀ (k0_h4 : k0_cond4 i = 1#1), ∀ a, (k0_off1466 v2176) a + S1x1024.size a ≤ S40960x1024.size a := fun i v2176 k0_hw1458 k0_h4 => k0_hw1458 k0_h4

def k0_off1467 (v2181 : BitVec 32) : Fin 2 → Nat :=
  let c0_i32_2392 : BitVec 32 := 0#32
  ![v2181.toNat, 0]

def k0_chk1459 (i : grid0.Coords) (v2181 : BitVec 32) : Prop :=
  (∀ (k0_h4 : k0_cond4 i = 1#1), ∀ a, (k0_off1467 v2181) a + S1x1024.size a ≤ S40960x1024.size a)
theorem k0_off1467_inb : ∀ (i : grid0.Coords) (v2181 : BitVec 32) (k0_hw1459 : k0_chk1459 i v2181), ∀ (k0_h4 : k0_cond4 i = 1#1), ∀ a, (k0_off1467 v2181) a + S1x1024.size a ≤ S40960x1024.size a := fun i v2181 k0_hw1459 k0_h4 => k0_hw1459 k0_h4

def k0_off1468 (v2186 : BitVec 32) : Fin 2 → Nat :=
  let c0_i32_2398 : BitVec 32 := 0#32
  ![v2186.toNat, 0]

def k0_chk1460 (i : grid0.Coords) (v2186 : BitVec 32) : Prop :=
  (∀ (k0_h4 : k0_cond4 i = 1#1), ∀ a, (k0_off1468 v2186) a + S1x1024.size a ≤ S40960x1024.size a)
theorem k0_off1468_inb : ∀ (i : grid0.Coords) (v2186 : BitVec 32) (k0_hw1460 : k0_chk1460 i v2186), ∀ (k0_h4 : k0_cond4 i = 1#1), ∀ a, (k0_off1468 v2186) a + S1x1024.size a ≤ S40960x1024.size a := fun i v2186 k0_hw1460 k0_h4 => k0_hw1460 k0_h4

def k0_off1469 (v2191 : BitVec 32) : Fin 2 → Nat :=
  let c0_i32_2403 : BitVec 32 := 0#32
  ![v2191.toNat, 0]

def k0_chk1461 (i : grid0.Coords) (v2191 : BitVec 32) : Prop :=
  (∀ (k0_h4 : k0_cond4 i = 1#1), ∀ a, (k0_off1469 v2191) a + S1x1024.size a ≤ S40960x1024.size a)
theorem k0_off1469_inb : ∀ (i : grid0.Coords) (v2191 : BitVec 32) (k0_hw1461 : k0_chk1461 i v2191), ∀ (k0_h4 : k0_cond4 i = 1#1), ∀ a, (k0_off1469 v2191) a + S1x1024.size a ≤ S40960x1024.size a := fun i v2191 k0_hw1461 k0_h4 => k0_hw1461 k0_h4

def k0_off1470 (v2196 : BitVec 32) : Fin 2 → Nat :=
  let c0_i32_2409 : BitVec 32 := 0#32
  ![v2196.toNat, 0]

def k0_chk1462 (i : grid0.Coords) (v2196 : BitVec 32) : Prop :=
  (∀ (k0_h4 : k0_cond4 i = 1#1), ∀ a, (k0_off1470 v2196) a + S1x1024.size a ≤ S40960x1024.size a)
theorem k0_off1470_inb : ∀ (i : grid0.Coords) (v2196 : BitVec 32) (k0_hw1462 : k0_chk1462 i v2196), ∀ (k0_h4 : k0_cond4 i = 1#1), ∀ a, (k0_off1470 v2196) a + S1x1024.size a ≤ S40960x1024.size a := fun i v2196 k0_hw1462 k0_h4 => k0_hw1462 k0_h4

def k0_off1471 (v2201 : BitVec 32) : Fin 2 → Nat :=
  let c0_i32_2414 : BitVec 32 := 0#32
  ![v2201.toNat, 0]

def k0_chk1463 (i : grid0.Coords) (v2201 : BitVec 32) : Prop :=
  (∀ (k0_h4 : k0_cond4 i = 1#1), ∀ a, (k0_off1471 v2201) a + S1x1024.size a ≤ S40960x1024.size a)
theorem k0_off1471_inb : ∀ (i : grid0.Coords) (v2201 : BitVec 32) (k0_hw1463 : k0_chk1463 i v2201), ∀ (k0_h4 : k0_cond4 i = 1#1), ∀ a, (k0_off1471 v2201) a + S1x1024.size a ≤ S40960x1024.size a := fun i v2201 k0_hw1463 k0_h4 => k0_hw1463 k0_h4

def k0_off1472 (v2206 : BitVec 32) : Fin 2 → Nat :=
  let c0_i32_2420 : BitVec 32 := 0#32
  ![v2206.toNat, 0]

def k0_chk1464 (i : grid0.Coords) (v2206 : BitVec 32) : Prop :=
  (∀ (k0_h4 : k0_cond4 i = 1#1), ∀ a, (k0_off1472 v2206) a + S1x1024.size a ≤ S40960x1024.size a)
theorem k0_off1472_inb : ∀ (i : grid0.Coords) (v2206 : BitVec 32) (k0_hw1464 : k0_chk1464 i v2206), ∀ (k0_h4 : k0_cond4 i = 1#1), ∀ a, (k0_off1472 v2206) a + S1x1024.size a ≤ S40960x1024.size a := fun i v2206 k0_hw1464 k0_h4 => k0_hw1464 k0_h4

def k0_off1473 (v2211 : BitVec 32) : Fin 2 → Nat :=
  let c0_i32_2425 : BitVec 32 := 0#32
  ![v2211.toNat, 0]

def k0_chk1465 (i : grid0.Coords) (v2211 : BitVec 32) : Prop :=
  (∀ (k0_h4 : k0_cond4 i = 1#1), ∀ a, (k0_off1473 v2211) a + S1x1024.size a ≤ S40960x1024.size a)
theorem k0_off1473_inb : ∀ (i : grid0.Coords) (v2211 : BitVec 32) (k0_hw1465 : k0_chk1465 i v2211), ∀ (k0_h4 : k0_cond4 i = 1#1), ∀ a, (k0_off1473 v2211) a + S1x1024.size a ≤ S40960x1024.size a := fun i v2211 k0_hw1465 k0_h4 => k0_hw1465 k0_h4

def k0_off1474 (v2216 : BitVec 32) : Fin 2 → Nat :=
  let c0_i32_2431 : BitVec 32 := 0#32
  ![v2216.toNat, 0]

def k0_chk1466 (i : grid0.Coords) (v2216 : BitVec 32) : Prop :=
  (∀ (k0_h4 : k0_cond4 i = 1#1), ∀ a, (k0_off1474 v2216) a + S1x1024.size a ≤ S40960x1024.size a)
theorem k0_off1474_inb : ∀ (i : grid0.Coords) (v2216 : BitVec 32) (k0_hw1466 : k0_chk1466 i v2216), ∀ (k0_h4 : k0_cond4 i = 1#1), ∀ a, (k0_off1474 v2216) a + S1x1024.size a ≤ S40960x1024.size a := fun i v2216 k0_hw1466 k0_h4 => k0_hw1466 k0_h4

def k0_off1475 (v2221 : BitVec 32) : Fin 2 → Nat :=
  let c0_i32_2436 : BitVec 32 := 0#32
  ![v2221.toNat, 0]

def k0_chk1467 (i : grid0.Coords) (v2221 : BitVec 32) : Prop :=
  (∀ (k0_h4 : k0_cond4 i = 1#1), ∀ a, (k0_off1475 v2221) a + S1x1024.size a ≤ S40960x1024.size a)
theorem k0_off1475_inb : ∀ (i : grid0.Coords) (v2221 : BitVec 32) (k0_hw1467 : k0_chk1467 i v2221), ∀ (k0_h4 : k0_cond4 i = 1#1), ∀ a, (k0_off1475 v2221) a + S1x1024.size a ≤ S40960x1024.size a := fun i v2221 k0_hw1467 k0_h4 => k0_hw1467 k0_h4

def k0_off1476 (v2226 : BitVec 32) : Fin 2 → Nat :=
  let c0_i32_2442 : BitVec 32 := 0#32
  ![v2226.toNat, 0]

def k0_chk1468 (i : grid0.Coords) (v2226 : BitVec 32) : Prop :=
  (∀ (k0_h4 : k0_cond4 i = 1#1), ∀ a, (k0_off1476 v2226) a + S1x1024.size a ≤ S40960x1024.size a)
theorem k0_off1476_inb : ∀ (i : grid0.Coords) (v2226 : BitVec 32) (k0_hw1468 : k0_chk1468 i v2226), ∀ (k0_h4 : k0_cond4 i = 1#1), ∀ a, (k0_off1476 v2226) a + S1x1024.size a ≤ S40960x1024.size a := fun i v2226 k0_hw1468 k0_h4 => k0_hw1468 k0_h4

def k0_off1477 (v2231 : BitVec 32) : Fin 2 → Nat :=
  let c0_i32_2447 : BitVec 32 := 0#32
  ![v2231.toNat, 0]

def k0_chk1469 (i : grid0.Coords) (v2231 : BitVec 32) : Prop :=
  (∀ (k0_h4 : k0_cond4 i = 1#1), ∀ a, (k0_off1477 v2231) a + S1x1024.size a ≤ S40960x1024.size a)
theorem k0_off1477_inb : ∀ (i : grid0.Coords) (v2231 : BitVec 32) (k0_hw1469 : k0_chk1469 i v2231), ∀ (k0_h4 : k0_cond4 i = 1#1), ∀ a, (k0_off1477 v2231) a + S1x1024.size a ≤ S40960x1024.size a := fun i v2231 k0_hw1469 k0_h4 => k0_hw1469 k0_h4

def k0_off1478 (v2236 : BitVec 32) : Fin 2 → Nat :=
  let c0_i32_2453 : BitVec 32 := 0#32
  ![v2236.toNat, 0]

def k0_chk1470 (i : grid0.Coords) (v2236 : BitVec 32) : Prop :=
  (∀ (k0_h4 : k0_cond4 i = 1#1), ∀ a, (k0_off1478 v2236) a + S1x1024.size a ≤ S40960x1024.size a)
theorem k0_off1478_inb : ∀ (i : grid0.Coords) (v2236 : BitVec 32) (k0_hw1470 : k0_chk1470 i v2236), ∀ (k0_h4 : k0_cond4 i = 1#1), ∀ a, (k0_off1478 v2236) a + S1x1024.size a ≤ S40960x1024.size a := fun i v2236 k0_hw1470 k0_h4 => k0_hw1470 k0_h4

def k0_off1479 (v2241 : BitVec 32) : Fin 2 → Nat :=
  let c0_i32_2458 : BitVec 32 := 0#32
  ![v2241.toNat, 0]

def k0_chk1471 (i : grid0.Coords) (v2241 : BitVec 32) : Prop :=
  (∀ (k0_h4 : k0_cond4 i = 1#1), ∀ a, (k0_off1479 v2241) a + S1x1024.size a ≤ S40960x1024.size a)
theorem k0_off1479_inb : ∀ (i : grid0.Coords) (v2241 : BitVec 32) (k0_hw1471 : k0_chk1471 i v2241), ∀ (k0_h4 : k0_cond4 i = 1#1), ∀ a, (k0_off1479 v2241) a + S1x1024.size a ≤ S40960x1024.size a := fun i v2241 k0_hw1471 k0_h4 => k0_hw1471 k0_h4

def k0_off1480 (v2246 : BitVec 32) : Fin 2 → Nat :=
  let c0_i32_2464 : BitVec 32 := 0#32
  ![v2246.toNat, 0]

def k0_chk1472 (i : grid0.Coords) (v2246 : BitVec 32) : Prop :=
  (∀ (k0_h4 : k0_cond4 i = 1#1), ∀ a, (k0_off1480 v2246) a + S1x1024.size a ≤ S40960x1024.size a)
theorem k0_off1480_inb : ∀ (i : grid0.Coords) (v2246 : BitVec 32) (k0_hw1472 : k0_chk1472 i v2246), ∀ (k0_h4 : k0_cond4 i = 1#1), ∀ a, (k0_off1480 v2246) a + S1x1024.size a ≤ S40960x1024.size a := fun i v2246 k0_hw1472 k0_h4 => k0_hw1472 k0_h4

def k0_off1481 (v2251 : BitVec 32) : Fin 2 → Nat :=
  let c0_i32_2469 : BitVec 32 := 0#32
  ![v2251.toNat, 0]

def k0_chk1473 (i : grid0.Coords) (v2251 : BitVec 32) : Prop :=
  (∀ (k0_h4 : k0_cond4 i = 1#1), ∀ a, (k0_off1481 v2251) a + S1x1024.size a ≤ S40960x1024.size a)
theorem k0_off1481_inb : ∀ (i : grid0.Coords) (v2251 : BitVec 32) (k0_hw1473 : k0_chk1473 i v2251), ∀ (k0_h4 : k0_cond4 i = 1#1), ∀ a, (k0_off1481 v2251) a + S1x1024.size a ≤ S40960x1024.size a := fun i v2251 k0_hw1473 k0_h4 => k0_hw1473 k0_h4

def k0_off1482 (v2256 : BitVec 32) : Fin 2 → Nat :=
  let c0_i32_2475 : BitVec 32 := 0#32
  ![v2256.toNat, 0]

def k0_chk1474 (i : grid0.Coords) (v2256 : BitVec 32) : Prop :=
  (∀ (k0_h4 : k0_cond4 i = 1#1), ∀ a, (k0_off1482 v2256) a + S1x1024.size a ≤ S40960x1024.size a)
theorem k0_off1482_inb : ∀ (i : grid0.Coords) (v2256 : BitVec 32) (k0_hw1474 : k0_chk1474 i v2256), ∀ (k0_h4 : k0_cond4 i = 1#1), ∀ a, (k0_off1482 v2256) a + S1x1024.size a ≤ S40960x1024.size a := fun i v2256 k0_hw1474 k0_h4 => k0_hw1474 k0_h4

def k0_off1483 (v2261 : BitVec 32) : Fin 2 → Nat :=
  let c0_i32_2480 : BitVec 32 := 0#32
  ![v2261.toNat, 0]

def k0_chk1475 (i : grid0.Coords) (v2261 : BitVec 32) : Prop :=
  (∀ (k0_h4 : k0_cond4 i = 1#1), ∀ a, (k0_off1483 v2261) a + S1x1024.size a ≤ S40960x1024.size a)
theorem k0_off1483_inb : ∀ (i : grid0.Coords) (v2261 : BitVec 32) (k0_hw1475 : k0_chk1475 i v2261), ∀ (k0_h4 : k0_cond4 i = 1#1), ∀ a, (k0_off1483 v2261) a + S1x1024.size a ≤ S40960x1024.size a := fun i v2261 k0_hw1475 k0_h4 => k0_hw1475 k0_h4

def k0_off1484 (v2266 : BitVec 32) : Fin 2 → Nat :=
  let c0_i32_2486 : BitVec 32 := 0#32
  ![v2266.toNat, 0]

def k0_chk1476 (i : grid0.Coords) (v2266 : BitVec 32) : Prop :=
  (∀ (k0_h4 : k0_cond4 i = 1#1), ∀ a, (k0_off1484 v2266) a + S1x1024.size a ≤ S40960x1024.size a)
theorem k0_off1484_inb : ∀ (i : grid0.Coords) (v2266 : BitVec 32) (k0_hw1476 : k0_chk1476 i v2266), ∀ (k0_h4 : k0_cond4 i = 1#1), ∀ a, (k0_off1484 v2266) a + S1x1024.size a ≤ S40960x1024.size a := fun i v2266 k0_hw1476 k0_h4 => k0_hw1476 k0_h4

def k0_off1485 (v2271 : BitVec 32) : Fin 2 → Nat :=
  let c0_i32_2491 : BitVec 32 := 0#32
  ![v2271.toNat, 0]

def k0_chk1477 (i : grid0.Coords) (v2271 : BitVec 32) : Prop :=
  (∀ (k0_h4 : k0_cond4 i = 1#1), ∀ a, (k0_off1485 v2271) a + S1x1024.size a ≤ S40960x1024.size a)
theorem k0_off1485_inb : ∀ (i : grid0.Coords) (v2271 : BitVec 32) (k0_hw1477 : k0_chk1477 i v2271), ∀ (k0_h4 : k0_cond4 i = 1#1), ∀ a, (k0_off1485 v2271) a + S1x1024.size a ≤ S40960x1024.size a := fun i v2271 k0_hw1477 k0_h4 => k0_hw1477 k0_h4

def k0_off1486 (v2276 : BitVec 32) : Fin 2 → Nat :=
  let c0_i32_2497 : BitVec 32 := 0#32
  ![v2276.toNat, 0]

def k0_chk1478 (i : grid0.Coords) (v2276 : BitVec 32) : Prop :=
  (∀ (k0_h4 : k0_cond4 i = 1#1), ∀ a, (k0_off1486 v2276) a + S1x1024.size a ≤ S40960x1024.size a)
theorem k0_off1486_inb : ∀ (i : grid0.Coords) (v2276 : BitVec 32) (k0_hw1478 : k0_chk1478 i v2276), ∀ (k0_h4 : k0_cond4 i = 1#1), ∀ a, (k0_off1486 v2276) a + S1x1024.size a ≤ S40960x1024.size a := fun i v2276 k0_hw1478 k0_h4 => k0_hw1478 k0_h4

def k0_off1487 (v2281 : BitVec 32) : Fin 2 → Nat :=
  let c0_i32_2502 : BitVec 32 := 0#32
  ![v2281.toNat, 0]

def k0_chk1479 (i : grid0.Coords) (v2281 : BitVec 32) : Prop :=
  (∀ (k0_h4 : k0_cond4 i = 1#1), ∀ a, (k0_off1487 v2281) a + S1x1024.size a ≤ S40960x1024.size a)
theorem k0_off1487_inb : ∀ (i : grid0.Coords) (v2281 : BitVec 32) (k0_hw1479 : k0_chk1479 i v2281), ∀ (k0_h4 : k0_cond4 i = 1#1), ∀ a, (k0_off1487 v2281) a + S1x1024.size a ≤ S40960x1024.size a := fun i v2281 k0_hw1479 k0_h4 => k0_hw1479 k0_h4

def k0_off1488 (v2286 : BitVec 32) : Fin 2 → Nat :=
  let c0_i32_2508 : BitVec 32 := 0#32
  ![v2286.toNat, 0]

def k0_chk1480 (i : grid0.Coords) (v2286 : BitVec 32) : Prop :=
  (∀ (k0_h4 : k0_cond4 i = 1#1), ∀ a, (k0_off1488 v2286) a + S1x1024.size a ≤ S40960x1024.size a)
theorem k0_off1488_inb : ∀ (i : grid0.Coords) (v2286 : BitVec 32) (k0_hw1480 : k0_chk1480 i v2286), ∀ (k0_h4 : k0_cond4 i = 1#1), ∀ a, (k0_off1488 v2286) a + S1x1024.size a ≤ S40960x1024.size a := fun i v2286 k0_hw1480 k0_h4 => k0_hw1480 k0_h4

def k0_off1489 (v2291 : BitVec 32) : Fin 2 → Nat :=
  let c0_i32_2513 : BitVec 32 := 0#32
  ![v2291.toNat, 0]

def k0_chk1481 (i : grid0.Coords) (v2291 : BitVec 32) : Prop :=
  (∀ (k0_h4 : k0_cond4 i = 1#1), ∀ a, (k0_off1489 v2291) a + S1x1024.size a ≤ S40960x1024.size a)
theorem k0_off1489_inb : ∀ (i : grid0.Coords) (v2291 : BitVec 32) (k0_hw1481 : k0_chk1481 i v2291), ∀ (k0_h4 : k0_cond4 i = 1#1), ∀ a, (k0_off1489 v2291) a + S1x1024.size a ≤ S40960x1024.size a := fun i v2291 k0_hw1481 k0_h4 => k0_hw1481 k0_h4

variable {F : FTy → Type} [FloatOps F]

def k0_off1490 (v2296 : BitVec 32) : Fin 2 → Nat :=
  let c0_i32_2519 : BitVec 32 := 0#32
  ![v2296.toNat, 0]

def k0_chk1482 (i : grid0.Coords) (v2296 : BitVec 32) : Prop :=
  (∀ (k0_h4 : k0_cond4 i = 1#1), ∀ a, (k0_off1490 v2296) a + S1x1024.size a ≤ S40960x1024.size a)
theorem k0_off1490_inb : ∀ (i : grid0.Coords) (v2296 : BitVec 32) (k0_hw1482 : k0_chk1482 i v2296), ∀ (k0_h4 : k0_cond4 i = 1#1), ∀ a, (k0_off1490 v2296) a + S1x1024.size a ≤ S40960x1024.size a := fun i v2296 k0_hw1482 k0_h4 => k0_hw1482 k0_h4

def k0_off1491 (v2301 : BitVec 32) : Fin 2 → Nat :=
  let c0_i32_2524 : BitVec 32 := 0#32
  ![v2301.toNat, 0]

def k0_chk1483 (i : grid0.Coords) (v2301 : BitVec 32) : Prop :=
  (∀ (k0_h4 : k0_cond4 i = 1#1), ∀ a, (k0_off1491 v2301) a + S1x1024.size a ≤ S40960x1024.size a)
theorem k0_off1491_inb : ∀ (i : grid0.Coords) (v2301 : BitVec 32) (k0_hw1483 : k0_chk1483 i v2301), ∀ (k0_h4 : k0_cond4 i = 1#1), ∀ a, (k0_off1491 v2301) a + S1x1024.size a ≤ S40960x1024.size a := fun i v2301 k0_hw1483 k0_h4 => k0_hw1483 k0_h4

def k0_off1492 (v2306 : BitVec 32) : Fin 2 → Nat :=
  let c0_i32_2530 : BitVec 32 := 0#32
  ![v2306.toNat, 0]

def k0_chk1484 (i : grid0.Coords) (v2306 : BitVec 32) : Prop :=
  (∀ (k0_h4 : k0_cond4 i = 1#1), ∀ a, (k0_off1492 v2306) a + S1x1024.size a ≤ S40960x1024.size a)
theorem k0_off1492_inb : ∀ (i : grid0.Coords) (v2306 : BitVec 32) (k0_hw1484 : k0_chk1484 i v2306), ∀ (k0_h4 : k0_cond4 i = 1#1), ∀ a, (k0_off1492 v2306) a + S1x1024.size a ≤ S40960x1024.size a := fun i v2306 k0_hw1484 k0_h4 => k0_hw1484 k0_h4

def k0_off1493 (v2311 : BitVec 32) : Fin 2 → Nat :=
  let c0_i32_2535 : BitVec 32 := 0#32
  ![v2311.toNat, 0]

def k0_chk1485 (i : grid0.Coords) (v2311 : BitVec 32) : Prop :=
  (∀ (k0_h4 : k0_cond4 i = 1#1), ∀ a, (k0_off1493 v2311) a + S1x1024.size a ≤ S40960x1024.size a)
theorem k0_off1493_inb : ∀ (i : grid0.Coords) (v2311 : BitVec 32) (k0_hw1485 : k0_chk1485 i v2311), ∀ (k0_h4 : k0_cond4 i = 1#1), ∀ a, (k0_off1493 v2311) a + S1x1024.size a ≤ S40960x1024.size a := fun i v2311 k0_hw1485 k0_h4 => k0_hw1485 k0_h4

def k0_off1494 (v2316 : BitVec 32) : Fin 2 → Nat :=
  let c0_i32_2541 : BitVec 32 := 0#32
  ![v2316.toNat, 0]

def k0_chk1486 (i : grid0.Coords) (v2316 : BitVec 32) : Prop :=
  (∀ (k0_h4 : k0_cond4 i = 1#1), ∀ a, (k0_off1494 v2316) a + S1x1024.size a ≤ S40960x1024.size a)
theorem k0_off1494_inb : ∀ (i : grid0.Coords) (v2316 : BitVec 32) (k0_hw1486 : k0_chk1486 i v2316), ∀ (k0_h4 : k0_cond4 i = 1#1), ∀ a, (k0_off1494 v2316) a + S1x1024.size a ≤ S40960x1024.size a := fun i v2316 k0_hw1486 k0_h4 => k0_hw1486 k0_h4

def k0_off1495 (v2321 : BitVec 32) : Fin 2 → Nat :=
  let c0_i32_2546 : BitVec 32 := 0#32
  ![v2321.toNat, 0]

def k0_chk1487 (i : grid0.Coords) (v2321 : BitVec 32) : Prop :=
  (∀ (k0_h4 : k0_cond4 i = 1#1), ∀ a, (k0_off1495 v2321) a + S1x1024.size a ≤ S40960x1024.size a)
theorem k0_off1495_inb : ∀ (i : grid0.Coords) (v2321 : BitVec 32) (k0_hw1487 : k0_chk1487 i v2321), ∀ (k0_h4 : k0_cond4 i = 1#1), ∀ a, (k0_off1495 v2321) a + S1x1024.size a ≤ S40960x1024.size a := fun i v2321 k0_hw1487 k0_h4 => k0_hw1487 k0_h4

def k0_off1496 (v2326 : BitVec 32) : Fin 2 → Nat :=
  let c0_i32_2552 : BitVec 32 := 0#32
  ![v2326.toNat, 0]

def k0_chk1488 (i : grid0.Coords) (v2326 : BitVec 32) : Prop :=
  (∀ (k0_h4 : k0_cond4 i = 1#1), ∀ a, (k0_off1496 v2326) a + S1x1024.size a ≤ S40960x1024.size a)
theorem k0_off1496_inb : ∀ (i : grid0.Coords) (v2326 : BitVec 32) (k0_hw1488 : k0_chk1488 i v2326), ∀ (k0_h4 : k0_cond4 i = 1#1), ∀ a, (k0_off1496 v2326) a + S1x1024.size a ≤ S40960x1024.size a := fun i v2326 k0_hw1488 k0_h4 => k0_hw1488 k0_h4

def k0_off1497 (v2331 : BitVec 32) : Fin 2 → Nat :=
  let c0_i32_2557 : BitVec 32 := 0#32
  ![v2331.toNat, 0]

def k0_chk1489 (i : grid0.Coords) (v2331 : BitVec 32) : Prop :=
  (∀ (k0_h4 : k0_cond4 i = 1#1), ∀ a, (k0_off1497 v2331) a + S1x1024.size a ≤ S40960x1024.size a)
theorem k0_off1497_inb : ∀ (i : grid0.Coords) (v2331 : BitVec 32) (k0_hw1489 : k0_chk1489 i v2331), ∀ (k0_h4 : k0_cond4 i = 1#1), ∀ a, (k0_off1497 v2331) a + S1x1024.size a ≤ S40960x1024.size a := fun i v2331 k0_hw1489 k0_h4 => k0_hw1489 k0_h4

def k0_off1498 (v2336 : BitVec 32) : Fin 2 → Nat :=
  let c0_i32_2563 : BitVec 32 := 0#32
  ![v2336.toNat, 0]

def k0_chk1490 (i : grid0.Coords) (v2336 : BitVec 32) : Prop :=
  (∀ (k0_h4 : k0_cond4 i = 1#1), ∀ a, (k0_off1498 v2336) a + S1x1024.size a ≤ S40960x1024.size a)
theorem k0_off1498_inb : ∀ (i : grid0.Coords) (v2336 : BitVec 32) (k0_hw1490 : k0_chk1490 i v2336), ∀ (k0_h4 : k0_cond4 i = 1#1), ∀ a, (k0_off1498 v2336) a + S1x1024.size a ≤ S40960x1024.size a := fun i v2336 k0_hw1490 k0_h4 => k0_hw1490 k0_h4

def k0_off1499 (v2341 : BitVec 32) : Fin 2 → Nat :=
  let c0_i32_2568 : BitVec 32 := 0#32
  ![v2341.toNat, 0]

def k0_chk1491 (i : grid0.Coords) (v2341 : BitVec 32) : Prop :=
  (∀ (k0_h4 : k0_cond4 i = 1#1), ∀ a, (k0_off1499 v2341) a + S1x1024.size a ≤ S40960x1024.size a)
theorem k0_off1499_inb : ∀ (i : grid0.Coords) (v2341 : BitVec 32) (k0_hw1491 : k0_chk1491 i v2341), ∀ (k0_h4 : k0_cond4 i = 1#1), ∀ a, (k0_off1499 v2341) a + S1x1024.size a ≤ S40960x1024.size a := fun i v2341 k0_hw1491 k0_h4 => k0_hw1491 k0_h4

def k0_off1500 (v2346 : BitVec 32) : Fin 2 → Nat :=
  let c0_i32_2574 : BitVec 32 := 0#32
  ![v2346.toNat, 0]

def k0_chk1492 (i : grid0.Coords) (v2346 : BitVec 32) : Prop :=
  (∀ (k0_h4 : k0_cond4 i = 1#1), ∀ a, (k0_off1500 v2346) a + S1x1024.size a ≤ S40960x1024.size a)
theorem k0_off1500_inb : ∀ (i : grid0.Coords) (v2346 : BitVec 32) (k0_hw1492 : k0_chk1492 i v2346), ∀ (k0_h4 : k0_cond4 i = 1#1), ∀ a, (k0_off1500 v2346) a + S1x1024.size a ≤ S40960x1024.size a := fun i v2346 k0_hw1492 k0_h4 => k0_hw1492 k0_h4

def k0_off1501 (v2351 : BitVec 32) : Fin 2 → Nat :=
  let c0_i32_2579 : BitVec 32 := 0#32
  ![v2351.toNat, 0]

def k0_chk1493 (i : grid0.Coords) (v2351 : BitVec 32) : Prop :=
  (∀ (k0_h4 : k0_cond4 i = 1#1), ∀ a, (k0_off1501 v2351) a + S1x1024.size a ≤ S40960x1024.size a)
theorem k0_off1501_inb : ∀ (i : grid0.Coords) (v2351 : BitVec 32) (k0_hw1493 : k0_chk1493 i v2351), ∀ (k0_h4 : k0_cond4 i = 1#1), ∀ a, (k0_off1501 v2351) a + S1x1024.size a ≤ S40960x1024.size a := fun i v2351 k0_hw1493 k0_h4 => k0_hw1493 k0_h4

def k0_off1502 (v2356 : BitVec 32) : Fin 2 → Nat :=
  let c0_i32_2585 : BitVec 32 := 0#32
  ![v2356.toNat, 0]

def k0_chk1494 (i : grid0.Coords) (v2356 : BitVec 32) : Prop :=
  (∀ (k0_h4 : k0_cond4 i = 1#1), ∀ a, (k0_off1502 v2356) a + S1x1024.size a ≤ S40960x1024.size a)
theorem k0_off1502_inb : ∀ (i : grid0.Coords) (v2356 : BitVec 32) (k0_hw1494 : k0_chk1494 i v2356), ∀ (k0_h4 : k0_cond4 i = 1#1), ∀ a, (k0_off1502 v2356) a + S1x1024.size a ≤ S40960x1024.size a := fun i v2356 k0_hw1494 k0_h4 => k0_hw1494 k0_h4

def k0_off1503 (v2361 : BitVec 32) : Fin 2 → Nat :=
  let c0_i32_2590 : BitVec 32 := 0#32
  ![v2361.toNat, 0]

def k0_chk1495 (i : grid0.Coords) (v2361 : BitVec 32) : Prop :=
  (∀ (k0_h4 : k0_cond4 i = 1#1), ∀ a, (k0_off1503 v2361) a + S1x1024.size a ≤ S40960x1024.size a)
theorem k0_off1503_inb : ∀ (i : grid0.Coords) (v2361 : BitVec 32) (k0_hw1495 : k0_chk1495 i v2361), ∀ (k0_h4 : k0_cond4 i = 1#1), ∀ a, (k0_off1503 v2361) a + S1x1024.size a ≤ S40960x1024.size a := fun i v2361 k0_hw1495 k0_h4 => k0_hw1495 k0_h4

def k0_off1504 (v2366 : BitVec 32) : Fin 2 → Nat :=
  let c0_i32_2596 : BitVec 32 := 0#32
  ![v2366.toNat, 0]

def k0_chk1496 (i : grid0.Coords) (v2366 : BitVec 32) : Prop :=
  (∀ (k0_h4 : k0_cond4 i = 1#1), ∀ a, (k0_off1504 v2366) a + S1x1024.size a ≤ S40960x1024.size a)
theorem k0_off1504_inb : ∀ (i : grid0.Coords) (v2366 : BitVec 32) (k0_hw1496 : k0_chk1496 i v2366), ∀ (k0_h4 : k0_cond4 i = 1#1), ∀ a, (k0_off1504 v2366) a + S1x1024.size a ≤ S40960x1024.size a := fun i v2366 k0_hw1496 k0_h4 => k0_hw1496 k0_h4

def k0_off1505 (v2371 : BitVec 32) : Fin 2 → Nat :=
  let c0_i32_2601 : BitVec 32 := 0#32
  ![v2371.toNat, 0]

def k0_chk1497 (i : grid0.Coords) (v2371 : BitVec 32) : Prop :=
  (∀ (k0_h4 : k0_cond4 i = 1#1), ∀ a, (k0_off1505 v2371) a + S1x1024.size a ≤ S40960x1024.size a)
theorem k0_off1505_inb : ∀ (i : grid0.Coords) (v2371 : BitVec 32) (k0_hw1497 : k0_chk1497 i v2371), ∀ (k0_h4 : k0_cond4 i = 1#1), ∀ a, (k0_off1505 v2371) a + S1x1024.size a ≤ S40960x1024.size a := fun i v2371 k0_hw1497 k0_h4 => k0_hw1497 k0_h4

def k0_off1506 (v2376 : BitVec 32) : Fin 2 → Nat :=
  let c0_i32_2607 : BitVec 32 := 0#32
  ![v2376.toNat, 0]

def k0_chk1498 (i : grid0.Coords) (v2376 : BitVec 32) : Prop :=
  (∀ (k0_h4 : k0_cond4 i = 1#1), ∀ a, (k0_off1506 v2376) a + S1x1024.size a ≤ S40960x1024.size a)
theorem k0_off1506_inb : ∀ (i : grid0.Coords) (v2376 : BitVec 32) (k0_hw1498 : k0_chk1498 i v2376), ∀ (k0_h4 : k0_cond4 i = 1#1), ∀ a, (k0_off1506 v2376) a + S1x1024.size a ≤ S40960x1024.size a := fun i v2376 k0_hw1498 k0_h4 => k0_hw1498 k0_h4

def k0_off1507 (v2381 : BitVec 32) : Fin 2 → Nat :=
  let c0_i32_2612 : BitVec 32 := 0#32
  ![v2381.toNat, 0]

def k0_chk1499 (i : grid0.Coords) (v2381 : BitVec 32) : Prop :=
  (∀ (k0_h4 : k0_cond4 i = 1#1), ∀ a, (k0_off1507 v2381) a + S1x1024.size a ≤ S40960x1024.size a)
theorem k0_off1507_inb : ∀ (i : grid0.Coords) (v2381 : BitVec 32) (k0_hw1499 : k0_chk1499 i v2381), ∀ (k0_h4 : k0_cond4 i = 1#1), ∀ a, (k0_off1507 v2381) a + S1x1024.size a ≤ S40960x1024.size a := fun i v2381 k0_hw1499 k0_h4 => k0_hw1499 k0_h4

def k0_off1508 (v2386 : BitVec 32) : Fin 2 → Nat :=
  let c0_i32_2618 : BitVec 32 := 0#32
  ![v2386.toNat, 0]

def k0_chk1500 (i : grid0.Coords) (v2386 : BitVec 32) : Prop :=
  (∀ (k0_h4 : k0_cond4 i = 1#1), ∀ a, (k0_off1508 v2386) a + S1x1024.size a ≤ S40960x1024.size a)
theorem k0_off1508_inb : ∀ (i : grid0.Coords) (v2386 : BitVec 32) (k0_hw1500 : k0_chk1500 i v2386), ∀ (k0_h4 : k0_cond4 i = 1#1), ∀ a, (k0_off1508 v2386) a + S1x1024.size a ≤ S40960x1024.size a := fun i v2386 k0_hw1500 k0_h4 => k0_hw1500 k0_h4

def k0_off1509 (v2391 : BitVec 32) : Fin 2 → Nat :=
  let c0_i32_2623 : BitVec 32 := 0#32
  ![v2391.toNat, 0]

def k0_chk1501 (i : grid0.Coords) (v2391 : BitVec 32) : Prop :=
  (∀ (k0_h4 : k0_cond4 i = 1#1), ∀ a, (k0_off1509 v2391) a + S1x1024.size a ≤ S40960x1024.size a)
theorem k0_off1509_inb : ∀ (i : grid0.Coords) (v2391 : BitVec 32) (k0_hw1501 : k0_chk1501 i v2391), ∀ (k0_h4 : k0_cond4 i = 1#1), ∀ a, (k0_off1509 v2391) a + S1x1024.size a ≤ S40960x1024.size a := fun i v2391 k0_hw1501 k0_h4 => k0_hw1501 k0_h4

def k0_off1510 (v2396 : BitVec 32) : Fin 2 → Nat :=
  let c0_i32_2629 : BitVec 32 := 0#32
  ![v2396.toNat, 0]

def k0_chk1502 (i : grid0.Coords) (v2396 : BitVec 32) : Prop :=
  (∀ (k0_h4 : k0_cond4 i = 1#1), ∀ a, (k0_off1510 v2396) a + S1x1024.size a ≤ S40960x1024.size a)
theorem k0_off1510_inb : ∀ (i : grid0.Coords) (v2396 : BitVec 32) (k0_hw1502 : k0_chk1502 i v2396), ∀ (k0_h4 : k0_cond4 i = 1#1), ∀ a, (k0_off1510 v2396) a + S1x1024.size a ≤ S40960x1024.size a := fun i v2396 k0_hw1502 k0_h4 => k0_hw1502 k0_h4

def k0_off1511 (v2401 : BitVec 32) : Fin 2 → Nat :=
  let c0_i32_2634 : BitVec 32 := 0#32
  ![v2401.toNat, 0]

def k0_chk1503 (i : grid0.Coords) (v2401 : BitVec 32) : Prop :=
  (∀ (k0_h4 : k0_cond4 i = 1#1), ∀ a, (k0_off1511 v2401) a + S1x1024.size a ≤ S40960x1024.size a)
theorem k0_off1511_inb : ∀ (i : grid0.Coords) (v2401 : BitVec 32) (k0_hw1503 : k0_chk1503 i v2401), ∀ (k0_h4 : k0_cond4 i = 1#1), ∀ a, (k0_off1511 v2401) a + S1x1024.size a ≤ S40960x1024.size a := fun i v2401 k0_hw1503 k0_h4 => k0_hw1503 k0_h4

def k0_off1512 (v2406 : BitVec 32) : Fin 2 → Nat :=
  let c0_i32_2640 : BitVec 32 := 0#32
  ![v2406.toNat, 0]

def k0_chk1504 (i : grid0.Coords) (v2406 : BitVec 32) : Prop :=
  (∀ (k0_h4 : k0_cond4 i = 1#1), ∀ a, (k0_off1512 v2406) a + S1x1024.size a ≤ S40960x1024.size a)
theorem k0_off1512_inb : ∀ (i : grid0.Coords) (v2406 : BitVec 32) (k0_hw1504 : k0_chk1504 i v2406), ∀ (k0_h4 : k0_cond4 i = 1#1), ∀ a, (k0_off1512 v2406) a + S1x1024.size a ≤ S40960x1024.size a := fun i v2406 k0_hw1504 k0_h4 => k0_hw1504 k0_h4

def k0_off1513 (v2411 : BitVec 32) : Fin 2 → Nat :=
  let c0_i32_2645 : BitVec 32 := 0#32
  ![v2411.toNat, 0]

def k0_chk1505 (i : grid0.Coords) (v2411 : BitVec 32) : Prop :=
  (∀ (k0_h4 : k0_cond4 i = 1#1), ∀ a, (k0_off1513 v2411) a + S1x1024.size a ≤ S40960x1024.size a)
theorem k0_off1513_inb : ∀ (i : grid0.Coords) (v2411 : BitVec 32) (k0_hw1505 : k0_chk1505 i v2411), ∀ (k0_h4 : k0_cond4 i = 1#1), ∀ a, (k0_off1513 v2411) a + S1x1024.size a ≤ S40960x1024.size a := fun i v2411 k0_hw1505 k0_h4 => k0_hw1505 k0_h4

def k0_off1514 (v2416 : BitVec 32) : Fin 2 → Nat :=
  let c0_i32_2651 : BitVec 32 := 0#32
  ![v2416.toNat, 0]

def k0_chk1506 (i : grid0.Coords) (v2416 : BitVec 32) : Prop :=
  (∀ (k0_h4 : k0_cond4 i = 1#1), ∀ a, (k0_off1514 v2416) a + S1x1024.size a ≤ S40960x1024.size a)
theorem k0_off1514_inb : ∀ (i : grid0.Coords) (v2416 : BitVec 32) (k0_hw1506 : k0_chk1506 i v2416), ∀ (k0_h4 : k0_cond4 i = 1#1), ∀ a, (k0_off1514 v2416) a + S1x1024.size a ≤ S40960x1024.size a := fun i v2416 k0_hw1506 k0_h4 => k0_hw1506 k0_h4

def k0_off1515 (v2421 : BitVec 32) : Fin 2 → Nat :=
  let c0_i32_2656 : BitVec 32 := 0#32
  ![v2421.toNat, 0]

def k0_chk1507 (i : grid0.Coords) (v2421 : BitVec 32) : Prop :=
  (∀ (k0_h4 : k0_cond4 i = 1#1), ∀ a, (k0_off1515 v2421) a + S1x1024.size a ≤ S40960x1024.size a)
theorem k0_off1515_inb : ∀ (i : grid0.Coords) (v2421 : BitVec 32) (k0_hw1507 : k0_chk1507 i v2421), ∀ (k0_h4 : k0_cond4 i = 1#1), ∀ a, (k0_off1515 v2421) a + S1x1024.size a ≤ S40960x1024.size a := fun i v2421 k0_hw1507 k0_h4 => k0_hw1507 k0_h4

def k0_off1516 (v2426 : BitVec 32) : Fin 2 → Nat :=
  let c0_i32_2662 : BitVec 32 := 0#32
  ![v2426.toNat, 0]

def k0_chk1508 (i : grid0.Coords) (v2426 : BitVec 32) : Prop :=
  (∀ (k0_h4 : k0_cond4 i = 1#1), ∀ a, (k0_off1516 v2426) a + S1x1024.size a ≤ S40960x1024.size a)
theorem k0_off1516_inb : ∀ (i : grid0.Coords) (v2426 : BitVec 32) (k0_hw1508 : k0_chk1508 i v2426), ∀ (k0_h4 : k0_cond4 i = 1#1), ∀ a, (k0_off1516 v2426) a + S1x1024.size a ≤ S40960x1024.size a := fun i v2426 k0_hw1508 k0_h4 => k0_hw1508 k0_h4

def k0_off1517 (v2431 : BitVec 32) : Fin 2 → Nat :=
  let c0_i32_2667 : BitVec 32 := 0#32
  ![v2431.toNat, 0]

def k0_chk1509 (i : grid0.Coords) (v2431 : BitVec 32) : Prop :=
  (∀ (k0_h4 : k0_cond4 i = 1#1), ∀ a, (k0_off1517 v2431) a + S1x1024.size a ≤ S40960x1024.size a)
theorem k0_off1517_inb : ∀ (i : grid0.Coords) (v2431 : BitVec 32) (k0_hw1509 : k0_chk1509 i v2431), ∀ (k0_h4 : k0_cond4 i = 1#1), ∀ a, (k0_off1517 v2431) a + S1x1024.size a ≤ S40960x1024.size a := fun i v2431 k0_hw1509 k0_h4 => k0_hw1509 k0_h4

def k0_off1518 (v2436 : BitVec 32) : Fin 2 → Nat :=
  let c0_i32_2673 : BitVec 32 := 0#32
  ![v2436.toNat, 0]

def k0_chk1510 (i : grid0.Coords) (v2436 : BitVec 32) : Prop :=
  (∀ (k0_h4 : k0_cond4 i = 1#1), ∀ a, (k0_off1518 v2436) a + S1x1024.size a ≤ S40960x1024.size a)
theorem k0_off1518_inb : ∀ (i : grid0.Coords) (v2436 : BitVec 32) (k0_hw1510 : k0_chk1510 i v2436), ∀ (k0_h4 : k0_cond4 i = 1#1), ∀ a, (k0_off1518 v2436) a + S1x1024.size a ≤ S40960x1024.size a := fun i v2436 k0_hw1510 k0_h4 => k0_hw1510 k0_h4

def k0_off1519 (v2441 : BitVec 32) : Fin 2 → Nat :=
  let c0_i32_2678 : BitVec 32 := 0#32
  ![v2441.toNat, 0]

def k0_chk1511 (i : grid0.Coords) (v2441 : BitVec 32) : Prop :=
  (∀ (k0_h4 : k0_cond4 i = 1#1), ∀ a, (k0_off1519 v2441) a + S1x1024.size a ≤ S40960x1024.size a)
theorem k0_off1519_inb : ∀ (i : grid0.Coords) (v2441 : BitVec 32) (k0_hw1511 : k0_chk1511 i v2441), ∀ (k0_h4 : k0_cond4 i = 1#1), ∀ a, (k0_off1519 v2441) a + S1x1024.size a ≤ S40960x1024.size a := fun i v2441 k0_hw1511 k0_h4 => k0_hw1511 k0_h4

def k0_off1520 (v2446 : BitVec 32) : Fin 2 → Nat :=
  let c0_i32_2684 : BitVec 32 := 0#32
  ![v2446.toNat, 0]

def k0_chk1512 (i : grid0.Coords) (v2446 : BitVec 32) : Prop :=
  (∀ (k0_h4 : k0_cond4 i = 1#1), ∀ a, (k0_off1520 v2446) a + S1x1024.size a ≤ S40960x1024.size a)
theorem k0_off1520_inb : ∀ (i : grid0.Coords) (v2446 : BitVec 32) (k0_hw1512 : k0_chk1512 i v2446), ∀ (k0_h4 : k0_cond4 i = 1#1), ∀ a, (k0_off1520 v2446) a + S1x1024.size a ≤ S40960x1024.size a := fun i v2446 k0_hw1512 k0_h4 => k0_hw1512 k0_h4

def k0_off1521 (v2451 : BitVec 32) : Fin 2 → Nat :=
  let c0_i32_2689 : BitVec 32 := 0#32
  ![v2451.toNat, 0]

def k0_chk1513 (i : grid0.Coords) (v2451 : BitVec 32) : Prop :=
  (∀ (k0_h4 : k0_cond4 i = 1#1), ∀ a, (k0_off1521 v2451) a + S1x1024.size a ≤ S40960x1024.size a)
theorem k0_off1521_inb : ∀ (i : grid0.Coords) (v2451 : BitVec 32) (k0_hw1513 : k0_chk1513 i v2451), ∀ (k0_h4 : k0_cond4 i = 1#1), ∀ a, (k0_off1521 v2451) a + S1x1024.size a ≤ S40960x1024.size a := fun i v2451 k0_hw1513 k0_h4 => k0_hw1513 k0_h4

def k0_off1522 (v2456 : BitVec 32) : Fin 2 → Nat :=
  let c0_i32_2695 : BitVec 32 := 0#32
  ![v2456.toNat, 0]

def k0_chk1514 (i : grid0.Coords) (v2456 : BitVec 32) : Prop :=
  (∀ (k0_h4 : k0_cond4 i = 1#1), ∀ a, (k0_off1522 v2456) a + S1x1024.size a ≤ S40960x1024.size a)
theorem k0_off1522_inb : ∀ (i : grid0.Coords) (v2456 : BitVec 32) (k0_hw1514 : k0_chk1514 i v2456), ∀ (k0_h4 : k0_cond4 i = 1#1), ∀ a, (k0_off1522 v2456) a + S1x1024.size a ≤ S40960x1024.size a := fun i v2456 k0_hw1514 k0_h4 => k0_hw1514 k0_h4

def k0_off1523 (v2461 : BitVec 32) : Fin 2 → Nat :=
  let c0_i32_2700 : BitVec 32 := 0#32
  ![v2461.toNat, 0]

def k0_chk1515 (i : grid0.Coords) (v2461 : BitVec 32) : Prop :=
  (∀ (k0_h4 : k0_cond4 i = 1#1), ∀ a, (k0_off1523 v2461) a + S1x1024.size a ≤ S40960x1024.size a)
theorem k0_off1523_inb : ∀ (i : grid0.Coords) (v2461 : BitVec 32) (k0_hw1515 : k0_chk1515 i v2461), ∀ (k0_h4 : k0_cond4 i = 1#1), ∀ a, (k0_off1523 v2461) a + S1x1024.size a ≤ S40960x1024.size a := fun i v2461 k0_hw1515 k0_h4 => k0_hw1515 k0_h4

def k0_off1524 (v2466 : BitVec 32) : Fin 2 → Nat :=
  let c0_i32_2706 : BitVec 32 := 0#32
  ![v2466.toNat, 0]

def k0_chk1516 (i : grid0.Coords) (v2466 : BitVec 32) : Prop :=
  (∀ (k0_h4 : k0_cond4 i = 1#1), ∀ a, (k0_off1524 v2466) a + S1x1024.size a ≤ S40960x1024.size a)
theorem k0_off1524_inb : ∀ (i : grid0.Coords) (v2466 : BitVec 32) (k0_hw1516 : k0_chk1516 i v2466), ∀ (k0_h4 : k0_cond4 i = 1#1), ∀ a, (k0_off1524 v2466) a + S1x1024.size a ≤ S40960x1024.size a := fun i v2466 k0_hw1516 k0_h4 => k0_hw1516 k0_h4

def k0_off1525 (v2471 : BitVec 32) : Fin 2 → Nat :=
  let c0_i32_2711 : BitVec 32 := 0#32
  ![v2471.toNat, 0]

def k0_chk1517 (i : grid0.Coords) (v2471 : BitVec 32) : Prop :=
  (∀ (k0_h4 : k0_cond4 i = 1#1), ∀ a, (k0_off1525 v2471) a + S1x1024.size a ≤ S40960x1024.size a)
theorem k0_off1525_inb : ∀ (i : grid0.Coords) (v2471 : BitVec 32) (k0_hw1517 : k0_chk1517 i v2471), ∀ (k0_h4 : k0_cond4 i = 1#1), ∀ a, (k0_off1525 v2471) a + S1x1024.size a ≤ S40960x1024.size a := fun i v2471 k0_hw1517 k0_h4 => k0_hw1517 k0_h4

def k0_off1526 (v2476 : BitVec 32) : Fin 2 → Nat :=
  let c0_i32_2717 : BitVec 32 := 0#32
  ![v2476.toNat, 0]

def k0_chk1518 (i : grid0.Coords) (v2476 : BitVec 32) : Prop :=
  (∀ (k0_h4 : k0_cond4 i = 1#1), ∀ a, (k0_off1526 v2476) a + S1x1024.size a ≤ S40960x1024.size a)
theorem k0_off1526_inb : ∀ (i : grid0.Coords) (v2476 : BitVec 32) (k0_hw1518 : k0_chk1518 i v2476), ∀ (k0_h4 : k0_cond4 i = 1#1), ∀ a, (k0_off1526 v2476) a + S1x1024.size a ≤ S40960x1024.size a := fun i v2476 k0_hw1518 k0_h4 => k0_hw1518 k0_h4

def k0_off1527 (v2481 : BitVec 32) : Fin 2 → Nat :=
  let c0_i32_2722 : BitVec 32 := 0#32
  ![v2481.toNat, 0]

def k0_chk1519 (i : grid0.Coords) (v2481 : BitVec 32) : Prop :=
  (∀ (k0_h4 : k0_cond4 i = 1#1), ∀ a, (k0_off1527 v2481) a + S1x1024.size a ≤ S40960x1024.size a)
theorem k0_off1527_inb : ∀ (i : grid0.Coords) (v2481 : BitVec 32) (k0_hw1519 : k0_chk1519 i v2481), ∀ (k0_h4 : k0_cond4 i = 1#1), ∀ a, (k0_off1527 v2481) a + S1x1024.size a ≤ S40960x1024.size a := fun i v2481 k0_hw1519 k0_h4 => k0_hw1519 k0_h4

def k0_off1528 (v2486 : BitVec 32) : Fin 2 → Nat :=
  let c0_i32_2728 : BitVec 32 := 0#32
  ![v2486.toNat, 0]

def k0_chk1520 (i : grid0.Coords) (v2486 : BitVec 32) : Prop :=
  (∀ (k0_h4 : k0_cond4 i = 1#1), ∀ a, (k0_off1528 v2486) a + S1x1024.size a ≤ S40960x1024.size a)
theorem k0_off1528_inb : ∀ (i : grid0.Coords) (v2486 : BitVec 32) (k0_hw1520 : k0_chk1520 i v2486), ∀ (k0_h4 : k0_cond4 i = 1#1), ∀ a, (k0_off1528 v2486) a + S1x1024.size a ≤ S40960x1024.size a := fun i v2486 k0_hw1520 k0_h4 => k0_hw1520 k0_h4

def k0_off1529 (v2491 : BitVec 32) : Fin 2 → Nat :=
  let c0_i32_2733 : BitVec 32 := 0#32
  ![v2491.toNat, 0]

def k0_chk1521 (i : grid0.Coords) (v2491 : BitVec 32) : Prop :=
  (∀ (k0_h4 : k0_cond4 i = 1#1), ∀ a, (k0_off1529 v2491) a + S1x1024.size a ≤ S40960x1024.size a)
theorem k0_off1529_inb : ∀ (i : grid0.Coords) (v2491 : BitVec 32) (k0_hw1521 : k0_chk1521 i v2491), ∀ (k0_h4 : k0_cond4 i = 1#1), ∀ a, (k0_off1529 v2491) a + S1x1024.size a ≤ S40960x1024.size a := fun i v2491 k0_hw1521 k0_h4 => k0_hw1521 k0_h4

def k0_off1530 (v2496 : BitVec 32) : Fin 2 → Nat :=
  let c0_i32_2739 : BitVec 32 := 0#32
  ![v2496.toNat, 0]

def k0_chk1522 (i : grid0.Coords) (v2496 : BitVec 32) : Prop :=
  (∀ (k0_h4 : k0_cond4 i = 1#1), ∀ a, (k0_off1530 v2496) a + S1x1024.size a ≤ S40960x1024.size a)
theorem k0_off1530_inb : ∀ (i : grid0.Coords) (v2496 : BitVec 32) (k0_hw1522 : k0_chk1522 i v2496), ∀ (k0_h4 : k0_cond4 i = 1#1), ∀ a, (k0_off1530 v2496) a + S1x1024.size a ≤ S40960x1024.size a := fun i v2496 k0_hw1522 k0_h4 => k0_hw1522 k0_h4

def k0_off1531 (v2501 : BitVec 32) : Fin 2 → Nat :=
  let c0_i32_2744 : BitVec 32 := 0#32
  ![v2501.toNat, 0]

def k0_chk1523 (i : grid0.Coords) (v2501 : BitVec 32) : Prop :=
  (∀ (k0_h4 : k0_cond4 i = 1#1), ∀ a, (k0_off1531 v2501) a + S1x1024.size a ≤ S40960x1024.size a)
theorem k0_off1531_inb : ∀ (i : grid0.Coords) (v2501 : BitVec 32) (k0_hw1523 : k0_chk1523 i v2501), ∀ (k0_h4 : k0_cond4 i = 1#1), ∀ a, (k0_off1531 v2501) a + S1x1024.size a ≤ S40960x1024.size a := fun i v2501 k0_hw1523 k0_h4 => k0_hw1523 k0_h4

def k0_off1532 (v2506 : BitVec 32) : Fin 2 → Nat :=
  let c0_i32_2750 : BitVec 32 := 0#32
  ![v2506.toNat, 0]

def k0_chk1524 (i : grid0.Coords) (v2506 : BitVec 32) : Prop :=
  (∀ (k0_h4 : k0_cond4 i = 1#1), ∀ a, (k0_off1532 v2506) a + S1x1024.size a ≤ S40960x1024.size a)
theorem k0_off1532_inb : ∀ (i : grid0.Coords) (v2506 : BitVec 32) (k0_hw1524 : k0_chk1524 i v2506), ∀ (k0_h4 : k0_cond4 i = 1#1), ∀ a, (k0_off1532 v2506) a + S1x1024.size a ≤ S40960x1024.size a := fun i v2506 k0_hw1524 k0_h4 => k0_hw1524 k0_h4

def k0_off1533 (v2511 : BitVec 32) : Fin 2 → Nat :=
  let c0_i32_2755 : BitVec 32 := 0#32
  ![v2511.toNat, 0]

def k0_chk1525 (i : grid0.Coords) (v2511 : BitVec 32) : Prop :=
  (∀ (k0_h4 : k0_cond4 i = 1#1), ∀ a, (k0_off1533 v2511) a + S1x1024.size a ≤ S40960x1024.size a)
theorem k0_off1533_inb : ∀ (i : grid0.Coords) (v2511 : BitVec 32) (k0_hw1525 : k0_chk1525 i v2511), ∀ (k0_h4 : k0_cond4 i = 1#1), ∀ a, (k0_off1533 v2511) a + S1x1024.size a ≤ S40960x1024.size a := fun i v2511 k0_hw1525 k0_h4 => k0_hw1525 k0_h4

def k0_off1534 (v2516 : BitVec 32) : Fin 2 → Nat :=
  let c0_i32_2761 : BitVec 32 := 0#32
  ![v2516.toNat, 0]

def k0_chk1526 (i : grid0.Coords) (v2516 : BitVec 32) : Prop :=
  (∀ (k0_h4 : k0_cond4 i = 1#1), ∀ a, (k0_off1534 v2516) a + S1x1024.size a ≤ S40960x1024.size a)
theorem k0_off1534_inb : ∀ (i : grid0.Coords) (v2516 : BitVec 32) (k0_hw1526 : k0_chk1526 i v2516), ∀ (k0_h4 : k0_cond4 i = 1#1), ∀ a, (k0_off1534 v2516) a + S1x1024.size a ≤ S40960x1024.size a := fun i v2516 k0_hw1526 k0_h4 => k0_hw1526 k0_h4

def k0_off1535 (v2521 : BitVec 32) : Fin 2 → Nat :=
  let c0_i32_2766 : BitVec 32 := 0#32
  ![v2521.toNat, 0]

def k0_chk1527 (i : grid0.Coords) (v2521 : BitVec 32) : Prop :=
  (∀ (k0_h4 : k0_cond4 i = 1#1), ∀ a, (k0_off1535 v2521) a + S1x1024.size a ≤ S40960x1024.size a)
theorem k0_off1535_inb : ∀ (i : grid0.Coords) (v2521 : BitVec 32) (k0_hw1527 : k0_chk1527 i v2521), ∀ (k0_h4 : k0_cond4 i = 1#1), ∀ a, (k0_off1535 v2521) a + S1x1024.size a ≤ S40960x1024.size a := fun i v2521 k0_hw1527 k0_h4 => k0_hw1527 k0_h4

def k0_off1536 (v2526 : BitVec 32) : Fin 2 → Nat :=
  let c0_i32_2772 : BitVec 32 := 0#32
  ![v2526.toNat, 0]

def k0_chk1528 (i : grid0.Coords) (v2526 : BitVec 32) : Prop :=
  (∀ (k0_h4 : k0_cond4 i = 1#1), ∀ a, (k0_off1536 v2526) a + S1x1024.size a ≤ S40960x1024.size a)
theorem k0_off1536_inb : ∀ (i : grid0.Coords) (v2526 : BitVec 32) (k0_hw1528 : k0_chk1528 i v2526), ∀ (k0_h4 : k0_cond4 i = 1#1), ∀ a, (k0_off1536 v2526) a + S1x1024.size a ≤ S40960x1024.size a := fun i v2526 k0_hw1528 k0_h4 => k0_hw1528 k0_h4

def k0_off1537 (v2531 : BitVec 32) : Fin 2 → Nat :=
  let c0_i32_2777 : BitVec 32 := 0#32
  ![v2531.toNat, 0]

def k0_chk1529 (i : grid0.Coords) (v2531 : BitVec 32) : Prop :=
  (∀ (k0_h4 : k0_cond4 i = 1#1), ∀ a, (k0_off1537 v2531) a + S1x1024.size a ≤ S40960x1024.size a)
theorem k0_off1537_inb : ∀ (i : grid0.Coords) (v2531 : BitVec 32) (k0_hw1529 : k0_chk1529 i v2531), ∀ (k0_h4 : k0_cond4 i = 1#1), ∀ a, (k0_off1537 v2531) a + S1x1024.size a ≤ S40960x1024.size a := fun i v2531 k0_hw1529 k0_h4 => k0_hw1529 k0_h4

def k0_off1538 (v2536 : BitVec 32) : Fin 2 → Nat :=
  let c0_i32_2783 : BitVec 32 := 0#32
  ![v2536.toNat, 0]

def k0_chk1530 (i : grid0.Coords) (v2536 : BitVec 32) : Prop :=
  (∀ (k0_h4 : k0_cond4 i = 1#1), ∀ a, (k0_off1538 v2536) a + S1x1024.size a ≤ S40960x1024.size a)
theorem k0_off1538_inb : ∀ (i : grid0.Coords) (v2536 : BitVec 32) (k0_hw1530 : k0_chk1530 i v2536), ∀ (k0_h4 : k0_cond4 i = 1#1), ∀ a, (k0_off1538 v2536) a + S1x1024.size a ≤ S40960x1024.size a := fun i v2536 k0_hw1530 k0_h4 => k0_hw1530 k0_h4

def k0_off1539 (v2541 : BitVec 32) : Fin 2 → Nat :=
  let c0_i32_2788 : BitVec 32 := 0#32
  ![v2541.toNat, 0]

def k0_chk1531 (i : grid0.Coords) (v2541 : BitVec 32) : Prop :=
  (∀ (k0_h4 : k0_cond4 i = 1#1), ∀ a, (k0_off1539 v2541) a + S1x1024.size a ≤ S40960x1024.size a)
theorem k0_off1539_inb : ∀ (i : grid0.Coords) (v2541 : BitVec 32) (k0_hw1531 : k0_chk1531 i v2541), ∀ (k0_h4 : k0_cond4 i = 1#1), ∀ a, (k0_off1539 v2541) a + S1x1024.size a ≤ S40960x1024.size a := fun i v2541 k0_hw1531 k0_h4 => k0_hw1531 k0_h4

def k0_off1540 (v2546 : BitVec 32) : Fin 2 → Nat :=
  let c0_i32_2794 : BitVec 32 := 0#32
  ![v2546.toNat, 0]

def k0_chk1532 (i : grid0.Coords) (v2546 : BitVec 32) : Prop :=
  (∀ (k0_h4 : k0_cond4 i = 1#1), ∀ a, (k0_off1540 v2546) a + S1x1024.size a ≤ S40960x1024.size a)
theorem k0_off1540_inb : ∀ (i : grid0.Coords) (v2546 : BitVec 32) (k0_hw1532 : k0_chk1532 i v2546), ∀ (k0_h4 : k0_cond4 i = 1#1), ∀ a, (k0_off1540 v2546) a + S1x1024.size a ≤ S40960x1024.size a := fun i v2546 k0_hw1532 k0_h4 => k0_hw1532 k0_h4

def k0_off1541 (v2551 : BitVec 32) : Fin 2 → Nat :=
  let c0_i32_2799 : BitVec 32 := 0#32
  ![v2551.toNat, 0]

def k0_chk1533 (i : grid0.Coords) (v2551 : BitVec 32) : Prop :=
  (∀ (k0_h4 : k0_cond4 i = 1#1), ∀ a, (k0_off1541 v2551) a + S1x1024.size a ≤ S40960x1024.size a)
theorem k0_off1541_inb : ∀ (i : grid0.Coords) (v2551 : BitVec 32) (k0_hw1533 : k0_chk1533 i v2551), ∀ (k0_h4 : k0_cond4 i = 1#1), ∀ a, (k0_off1541 v2551) a + S1x1024.size a ≤ S40960x1024.size a := fun i v2551 k0_hw1533 k0_h4 => k0_hw1533 k0_h4

def k0_off1542 (v2556 : BitVec 32) : Fin 2 → Nat :=
  let c0_i32_2805 : BitVec 32 := 0#32
  ![v2556.toNat, 0]

def k0_chk1534 (i : grid0.Coords) (v2556 : BitVec 32) : Prop :=
  (∀ (k0_h4 : k0_cond4 i = 1#1), ∀ a, (k0_off1542 v2556) a + S1x1024.size a ≤ S40960x1024.size a)
theorem k0_off1542_inb : ∀ (i : grid0.Coords) (v2556 : BitVec 32) (k0_hw1534 : k0_chk1534 i v2556), ∀ (k0_h4 : k0_cond4 i = 1#1), ∀ a, (k0_off1542 v2556) a + S1x1024.size a ≤ S40960x1024.size a := fun i v2556 k0_hw1534 k0_h4 => k0_hw1534 k0_h4

def k0_off1543 (v2561 : BitVec 32) : Fin 2 → Nat :=
  let c0_i32_2810 : BitVec 32 := 0#32
  ![v2561.toNat, 0]

def k0_chk1535 (i : grid0.Coords) (v2561 : BitVec 32) : Prop :=
  (∀ (k0_h4 : k0_cond4 i = 1#1), ∀ a, (k0_off1543 v2561) a + S1x1024.size a ≤ S40960x1024.size a)
theorem k0_off1543_inb : ∀ (i : grid0.Coords) (v2561 : BitVec 32) (k0_hw1535 : k0_chk1535 i v2561), ∀ (k0_h4 : k0_cond4 i = 1#1), ∀ a, (k0_off1543 v2561) a + S1x1024.size a ≤ S40960x1024.size a := fun i v2561 k0_hw1535 k0_h4 => k0_hw1535 k0_h4

def k0_off1544 (v2566 : BitVec 32) : Fin 2 → Nat :=
  let c0_i32_2816 : BitVec 32 := 0#32
  ![v2566.toNat, 0]

def k0_chk1536 (i : grid0.Coords) (v2566 : BitVec 32) : Prop :=
  (∀ (k0_h4 : k0_cond4 i = 1#1), ∀ a, (k0_off1544 v2566) a + S1x1024.size a ≤ S40960x1024.size a)
theorem k0_off1544_inb : ∀ (i : grid0.Coords) (v2566 : BitVec 32) (k0_hw1536 : k0_chk1536 i v2566), ∀ (k0_h4 : k0_cond4 i = 1#1), ∀ a, (k0_off1544 v2566) a + S1x1024.size a ≤ S40960x1024.size a := fun i v2566 k0_hw1536 k0_h4 => k0_hw1536 k0_h4

def k0_off1545 (v2571 : BitVec 32) : Fin 2 → Nat :=
  let c0_i32_2821 : BitVec 32 := 0#32
  ![v2571.toNat, 0]

def k0_chk1537 (i : grid0.Coords) (v2571 : BitVec 32) : Prop :=
  (∀ (k0_h4 : k0_cond4 i = 1#1), ∀ a, (k0_off1545 v2571) a + S1x1024.size a ≤ S40960x1024.size a)
theorem k0_off1545_inb : ∀ (i : grid0.Coords) (v2571 : BitVec 32) (k0_hw1537 : k0_chk1537 i v2571), ∀ (k0_h4 : k0_cond4 i = 1#1), ∀ a, (k0_off1545 v2571) a + S1x1024.size a ≤ S40960x1024.size a := fun i v2571 k0_hw1537 k0_h4 => k0_hw1537 k0_h4

def k0_off1546 (v2576 : BitVec 32) : Fin 2 → Nat :=
  let c0_i32_2827 : BitVec 32 := 0#32
  ![v2576.toNat, 0]

def k0_chk1538 (i : grid0.Coords) (v2576 : BitVec 32) : Prop :=
  (∀ (k0_h4 : k0_cond4 i = 1#1), ∀ a, (k0_off1546 v2576) a + S1x1024.size a ≤ S40960x1024.size a)
theorem k0_off1546_inb : ∀ (i : grid0.Coords) (v2576 : BitVec 32) (k0_hw1538 : k0_chk1538 i v2576), ∀ (k0_h4 : k0_cond4 i = 1#1), ∀ a, (k0_off1546 v2576) a + S1x1024.size a ≤ S40960x1024.size a := fun i v2576 k0_hw1538 k0_h4 => k0_hw1538 k0_h4

def k0_off1547 (v2581 : BitVec 32) : Fin 2 → Nat :=
  let c0_i32_2832 : BitVec 32 := 0#32
  ![v2581.toNat, 0]

def k0_chk1539 (i : grid0.Coords) (v2581 : BitVec 32) : Prop :=
  (∀ (k0_h4 : k0_cond4 i = 1#1), ∀ a, (k0_off1547 v2581) a + S1x1024.size a ≤ S40960x1024.size a)
theorem k0_off1547_inb : ∀ (i : grid0.Coords) (v2581 : BitVec 32) (k0_hw1539 : k0_chk1539 i v2581), ∀ (k0_h4 : k0_cond4 i = 1#1), ∀ a, (k0_off1547 v2581) a + S1x1024.size a ≤ S40960x1024.size a := fun i v2581 k0_hw1539 k0_h4 => k0_hw1539 k0_h4

def k0_off1548 (v2586 : BitVec 32) : Fin 2 → Nat :=
  let c0_i32_2838 : BitVec 32 := 0#32
  ![v2586.toNat, 0]

def k0_chk1540 (i : grid0.Coords) (v2586 : BitVec 32) : Prop :=
  (∀ (k0_h4 : k0_cond4 i = 1#1), ∀ a, (k0_off1548 v2586) a + S1x1024.size a ≤ S40960x1024.size a)
theorem k0_off1548_inb : ∀ (i : grid0.Coords) (v2586 : BitVec 32) (k0_hw1540 : k0_chk1540 i v2586), ∀ (k0_h4 : k0_cond4 i = 1#1), ∀ a, (k0_off1548 v2586) a + S1x1024.size a ≤ S40960x1024.size a := fun i v2586 k0_hw1540 k0_h4 => k0_hw1540 k0_h4

@[reducible] def k0_t13_loop : Scf.Loop 32 :=
  let c0_i32_2858 : BitVec 32 := 0#32
  let c256_i32_2859 : BitVec 32 := 256#32
  let v2634 : BitVec 32 := Scalar.addi c0_i32_2858 c256_i32_2859
  let c1_i32_2860 : BitVec 32 := 1#32
  ⟨c0_i32_2858, v2634, c1_i32_2860⟩
@[reducible] def k0_t14_loop : Scf.Loop 32 :=
  let c0_i32_2861 : BitVec 32 := 0#32
  let c256_i32_2862 : BitVec 32 := 256#32
  let v2635 : BitVec 32 := Scalar.addi c0_i32_2861 c256_i32_2862
  let c1_i32_2863 : BitVec 32 := 1#32
  ⟨c0_i32_2861, v2635, c1_i32_2863⟩
def k0_off1549 (v2636 : BitVec 32) : Fin 2 → Nat :=
  let c0_i32_2869 : BitVec 32 := 0#32
  ![v2636.toNat, 0]

def k0_chk1541 (i : grid0.Coords) (v2636 : BitVec 32) : Prop :=
  (∀ (k0_h4 : k0_cond4 i = 1#1), ∀ a, (k0_off1549 v2636) a + S1x1024.size a ≤ S40960x1024.size a)
theorem k0_off1549_inb : ∀ (i : grid0.Coords) (v2636 : BitVec 32) (k0_hw1541 : k0_chk1541 i v2636), ∀ (k0_h4 : k0_cond4 i = 1#1), ∀ a, (k0_off1549 v2636) a + S1x1024.size a ≤ S40960x1024.size a := fun i v2636 k0_hw1541 k0_h4 => k0_hw1541 k0_h4

def k0_off1550 (v2641 : BitVec 32) : Fin 2 → Nat :=
  let c0_i32_2875 : BitVec 32 := 0#32
  ![v2641.toNat, 0]

def k0_chk1542 (i : grid0.Coords) (v2641 : BitVec 32) : Prop :=
  (∀ (k0_h4 : k0_cond4 i = 1#1), ∀ a, (k0_off1550 v2641) a + S1x1024.size a ≤ S40960x1024.size a)
theorem k0_off1550_inb : ∀ (i : grid0.Coords) (v2641 : BitVec 32) (k0_hw1542 : k0_chk1542 i v2641), ∀ (k0_h4 : k0_cond4 i = 1#1), ∀ a, (k0_off1550 v2641) a + S1x1024.size a ≤ S40960x1024.size a := fun i v2641 k0_hw1542 k0_h4 => k0_hw1542 k0_h4

def k0_off1551 (v2646 : BitVec 32) : Fin 2 → Nat :=
  let c0_i32_2880 : BitVec 32 := 0#32
  ![v2646.toNat, 0]

def k0_chk1543 (i : grid0.Coords) (v2646 : BitVec 32) : Prop :=
  (∀ (k0_h4 : k0_cond4 i = 1#1), ∀ a, (k0_off1551 v2646) a + S1x1024.size a ≤ S40960x1024.size a)
theorem k0_off1551_inb : ∀ (i : grid0.Coords) (v2646 : BitVec 32) (k0_hw1543 : k0_chk1543 i v2646), ∀ (k0_h4 : k0_cond4 i = 1#1), ∀ a, (k0_off1551 v2646) a + S1x1024.size a ≤ S40960x1024.size a := fun i v2646 k0_hw1543 k0_h4 => k0_hw1543 k0_h4

def k0_off1552 (v2651 : BitVec 32) : Fin 2 → Nat :=
  let c0_i32_2886 : BitVec 32 := 0#32
  ![v2651.toNat, 0]

def k0_chk1544 (i : grid0.Coords) (v2651 : BitVec 32) : Prop :=
  (∀ (k0_h4 : k0_cond4 i = 1#1), ∀ a, (k0_off1552 v2651) a + S1x1024.size a ≤ S40960x1024.size a)
theorem k0_off1552_inb : ∀ (i : grid0.Coords) (v2651 : BitVec 32) (k0_hw1544 : k0_chk1544 i v2651), ∀ (k0_h4 : k0_cond4 i = 1#1), ∀ a, (k0_off1552 v2651) a + S1x1024.size a ≤ S40960x1024.size a := fun i v2651 k0_hw1544 k0_h4 => k0_hw1544 k0_h4

def k0_off1553 (v2656 : BitVec 32) : Fin 2 → Nat :=
  let c0_i32_2891 : BitVec 32 := 0#32
  ![v2656.toNat, 0]

def k0_chk1545 (i : grid0.Coords) (v2656 : BitVec 32) : Prop :=
  (∀ (k0_h4 : k0_cond4 i = 1#1), ∀ a, (k0_off1553 v2656) a + S1x1024.size a ≤ S40960x1024.size a)
theorem k0_off1553_inb : ∀ (i : grid0.Coords) (v2656 : BitVec 32) (k0_hw1545 : k0_chk1545 i v2656), ∀ (k0_h4 : k0_cond4 i = 1#1), ∀ a, (k0_off1553 v2656) a + S1x1024.size a ≤ S40960x1024.size a := fun i v2656 k0_hw1545 k0_h4 => k0_hw1545 k0_h4

def k0_off1554 (v2661 : BitVec 32) : Fin 2 → Nat :=
  let c0_i32_2897 : BitVec 32 := 0#32
  ![v2661.toNat, 0]

def k0_chk1546 (i : grid0.Coords) (v2661 : BitVec 32) : Prop :=
  (∀ (k0_h4 : k0_cond4 i = 1#1), ∀ a, (k0_off1554 v2661) a + S1x1024.size a ≤ S40960x1024.size a)
theorem k0_off1554_inb : ∀ (i : grid0.Coords) (v2661 : BitVec 32) (k0_hw1546 : k0_chk1546 i v2661), ∀ (k0_h4 : k0_cond4 i = 1#1), ∀ a, (k0_off1554 v2661) a + S1x1024.size a ≤ S40960x1024.size a := fun i v2661 k0_hw1546 k0_h4 => k0_hw1546 k0_h4

def k0_off1555 (v2666 : BitVec 32) : Fin 2 → Nat :=
  let c0_i32_2902 : BitVec 32 := 0#32
  ![v2666.toNat, 0]

def k0_chk1547 (i : grid0.Coords) (v2666 : BitVec 32) : Prop :=
  (∀ (k0_h4 : k0_cond4 i = 1#1), ∀ a, (k0_off1555 v2666) a + S1x1024.size a ≤ S40960x1024.size a)
theorem k0_off1555_inb : ∀ (i : grid0.Coords) (v2666 : BitVec 32) (k0_hw1547 : k0_chk1547 i v2666), ∀ (k0_h4 : k0_cond4 i = 1#1), ∀ a, (k0_off1555 v2666) a + S1x1024.size a ≤ S40960x1024.size a := fun i v2666 k0_hw1547 k0_h4 => k0_hw1547 k0_h4

def k0_off1556 (v2671 : BitVec 32) : Fin 2 → Nat :=
  let c0_i32_2908 : BitVec 32 := 0#32
  ![v2671.toNat, 0]

def k0_chk1548 (i : grid0.Coords) (v2671 : BitVec 32) : Prop :=
  (∀ (k0_h4 : k0_cond4 i = 1#1), ∀ a, (k0_off1556 v2671) a + S1x1024.size a ≤ S40960x1024.size a)
theorem k0_off1556_inb : ∀ (i : grid0.Coords) (v2671 : BitVec 32) (k0_hw1548 : k0_chk1548 i v2671), ∀ (k0_h4 : k0_cond4 i = 1#1), ∀ a, (k0_off1556 v2671) a + S1x1024.size a ≤ S40960x1024.size a := fun i v2671 k0_hw1548 k0_h4 => k0_hw1548 k0_h4

def k0_off1557 (v2676 : BitVec 32) : Fin 2 → Nat :=
  let c0_i32_2913 : BitVec 32 := 0#32
  ![v2676.toNat, 0]

def k0_chk1549 (i : grid0.Coords) (v2676 : BitVec 32) : Prop :=
  (∀ (k0_h4 : k0_cond4 i = 1#1), ∀ a, (k0_off1557 v2676) a + S1x1024.size a ≤ S40960x1024.size a)
theorem k0_off1557_inb : ∀ (i : grid0.Coords) (v2676 : BitVec 32) (k0_hw1549 : k0_chk1549 i v2676), ∀ (k0_h4 : k0_cond4 i = 1#1), ∀ a, (k0_off1557 v2676) a + S1x1024.size a ≤ S40960x1024.size a := fun i v2676 k0_hw1549 k0_h4 => k0_hw1549 k0_h4

def k0_off1558 (v2681 : BitVec 32) : Fin 2 → Nat :=
  let c0_i32_2919 : BitVec 32 := 0#32
  ![v2681.toNat, 0]

def k0_chk1550 (i : grid0.Coords) (v2681 : BitVec 32) : Prop :=
  (∀ (k0_h4 : k0_cond4 i = 1#1), ∀ a, (k0_off1558 v2681) a + S1x1024.size a ≤ S40960x1024.size a)
theorem k0_off1558_inb : ∀ (i : grid0.Coords) (v2681 : BitVec 32) (k0_hw1550 : k0_chk1550 i v2681), ∀ (k0_h4 : k0_cond4 i = 1#1), ∀ a, (k0_off1558 v2681) a + S1x1024.size a ≤ S40960x1024.size a := fun i v2681 k0_hw1550 k0_h4 => k0_hw1550 k0_h4

def k0_off1559 (v2686 : BitVec 32) : Fin 2 → Nat :=
  let c0_i32_2924 : BitVec 32 := 0#32
  ![v2686.toNat, 0]

def k0_chk1551 (i : grid0.Coords) (v2686 : BitVec 32) : Prop :=
  (∀ (k0_h4 : k0_cond4 i = 1#1), ∀ a, (k0_off1559 v2686) a + S1x1024.size a ≤ S40960x1024.size a)
theorem k0_off1559_inb : ∀ (i : grid0.Coords) (v2686 : BitVec 32) (k0_hw1551 : k0_chk1551 i v2686), ∀ (k0_h4 : k0_cond4 i = 1#1), ∀ a, (k0_off1559 v2686) a + S1x1024.size a ≤ S40960x1024.size a := fun i v2686 k0_hw1551 k0_h4 => k0_hw1551 k0_h4

def k0_off1560 (v2691 : BitVec 32) : Fin 2 → Nat :=
  let c0_i32_2930 : BitVec 32 := 0#32
  ![v2691.toNat, 0]

def k0_chk1552 (i : grid0.Coords) (v2691 : BitVec 32) : Prop :=
  (∀ (k0_h4 : k0_cond4 i = 1#1), ∀ a, (k0_off1560 v2691) a + S1x1024.size a ≤ S40960x1024.size a)
theorem k0_off1560_inb : ∀ (i : grid0.Coords) (v2691 : BitVec 32) (k0_hw1552 : k0_chk1552 i v2691), ∀ (k0_h4 : k0_cond4 i = 1#1), ∀ a, (k0_off1560 v2691) a + S1x1024.size a ≤ S40960x1024.size a := fun i v2691 k0_hw1552 k0_h4 => k0_hw1552 k0_h4

def k0_off1561 (v2696 : BitVec 32) : Fin 2 → Nat :=
  let c0_i32_2935 : BitVec 32 := 0#32
  ![v2696.toNat, 0]

def k0_chk1553 (i : grid0.Coords) (v2696 : BitVec 32) : Prop :=
  (∀ (k0_h4 : k0_cond4 i = 1#1), ∀ a, (k0_off1561 v2696) a + S1x1024.size a ≤ S40960x1024.size a)
theorem k0_off1561_inb : ∀ (i : grid0.Coords) (v2696 : BitVec 32) (k0_hw1553 : k0_chk1553 i v2696), ∀ (k0_h4 : k0_cond4 i = 1#1), ∀ a, (k0_off1561 v2696) a + S1x1024.size a ≤ S40960x1024.size a := fun i v2696 k0_hw1553 k0_h4 => k0_hw1553 k0_h4

def k0_off1562 (v2701 : BitVec 32) : Fin 2 → Nat :=
  let c0_i32_2941 : BitVec 32 := 0#32
  ![v2701.toNat, 0]

def k0_chk1554 (i : grid0.Coords) (v2701 : BitVec 32) : Prop :=
  (∀ (k0_h4 : k0_cond4 i = 1#1), ∀ a, (k0_off1562 v2701) a + S1x1024.size a ≤ S40960x1024.size a)
theorem k0_off1562_inb : ∀ (i : grid0.Coords) (v2701 : BitVec 32) (k0_hw1554 : k0_chk1554 i v2701), ∀ (k0_h4 : k0_cond4 i = 1#1), ∀ a, (k0_off1562 v2701) a + S1x1024.size a ≤ S40960x1024.size a := fun i v2701 k0_hw1554 k0_h4 => k0_hw1554 k0_h4

def k0_off1563 (v2706 : BitVec 32) : Fin 2 → Nat :=
  let c0_i32_2946 : BitVec 32 := 0#32
  ![v2706.toNat, 0]

def k0_chk1555 (i : grid0.Coords) (v2706 : BitVec 32) : Prop :=
  (∀ (k0_h4 : k0_cond4 i = 1#1), ∀ a, (k0_off1563 v2706) a + S1x1024.size a ≤ S40960x1024.size a)
theorem k0_off1563_inb : ∀ (i : grid0.Coords) (v2706 : BitVec 32) (k0_hw1555 : k0_chk1555 i v2706), ∀ (k0_h4 : k0_cond4 i = 1#1), ∀ a, (k0_off1563 v2706) a + S1x1024.size a ≤ S40960x1024.size a := fun i v2706 k0_hw1555 k0_h4 => k0_hw1555 k0_h4

def k0_off1564 (v2711 : BitVec 32) : Fin 2 → Nat :=
  let c0_i32_2952 : BitVec 32 := 0#32
  ![v2711.toNat, 0]

def k0_chk1556 (i : grid0.Coords) (v2711 : BitVec 32) : Prop :=
  (∀ (k0_h4 : k0_cond4 i = 1#1), ∀ a, (k0_off1564 v2711) a + S1x1024.size a ≤ S40960x1024.size a)
theorem k0_off1564_inb : ∀ (i : grid0.Coords) (v2711 : BitVec 32) (k0_hw1556 : k0_chk1556 i v2711), ∀ (k0_h4 : k0_cond4 i = 1#1), ∀ a, (k0_off1564 v2711) a + S1x1024.size a ≤ S40960x1024.size a := fun i v2711 k0_hw1556 k0_h4 => k0_hw1556 k0_h4

def k0_off1565 (v2716 : BitVec 32) : Fin 2 → Nat :=
  let c0_i32_2957 : BitVec 32 := 0#32
  ![v2716.toNat, 0]

def k0_chk1557 (i : grid0.Coords) (v2716 : BitVec 32) : Prop :=
  (∀ (k0_h4 : k0_cond4 i = 1#1), ∀ a, (k0_off1565 v2716) a + S1x1024.size a ≤ S40960x1024.size a)
theorem k0_off1565_inb : ∀ (i : grid0.Coords) (v2716 : BitVec 32) (k0_hw1557 : k0_chk1557 i v2716), ∀ (k0_h4 : k0_cond4 i = 1#1), ∀ a, (k0_off1565 v2716) a + S1x1024.size a ≤ S40960x1024.size a := fun i v2716 k0_hw1557 k0_h4 => k0_hw1557 k0_h4

def k0_off1566 (v2721 : BitVec 32) : Fin 2 → Nat :=
  let c0_i32_2963 : BitVec 32 := 0#32
  ![v2721.toNat, 0]

def k0_chk1558 (i : grid0.Coords) (v2721 : BitVec 32) : Prop :=
  (∀ (k0_h4 : k0_cond4 i = 1#1), ∀ a, (k0_off1566 v2721) a + S1x1024.size a ≤ S40960x1024.size a)
theorem k0_off1566_inb : ∀ (i : grid0.Coords) (v2721 : BitVec 32) (k0_hw1558 : k0_chk1558 i v2721), ∀ (k0_h4 : k0_cond4 i = 1#1), ∀ a, (k0_off1566 v2721) a + S1x1024.size a ≤ S40960x1024.size a := fun i v2721 k0_hw1558 k0_h4 => k0_hw1558 k0_h4

def k0_off1567 (v2726 : BitVec 32) : Fin 2 → Nat :=
  let c0_i32_2968 : BitVec 32 := 0#32
  ![v2726.toNat, 0]

def k0_chk1559 (i : grid0.Coords) (v2726 : BitVec 32) : Prop :=
  (∀ (k0_h4 : k0_cond4 i = 1#1), ∀ a, (k0_off1567 v2726) a + S1x1024.size a ≤ S40960x1024.size a)
theorem k0_off1567_inb : ∀ (i : grid0.Coords) (v2726 : BitVec 32) (k0_hw1559 : k0_chk1559 i v2726), ∀ (k0_h4 : k0_cond4 i = 1#1), ∀ a, (k0_off1567 v2726) a + S1x1024.size a ≤ S40960x1024.size a := fun i v2726 k0_hw1559 k0_h4 => k0_hw1559 k0_h4

def k0_off1568 (v2731 : BitVec 32) : Fin 2 → Nat :=
  let c0_i32_2974 : BitVec 32 := 0#32
  ![v2731.toNat, 0]

def k0_chk1560 (i : grid0.Coords) (v2731 : BitVec 32) : Prop :=
  (∀ (k0_h4 : k0_cond4 i = 1#1), ∀ a, (k0_off1568 v2731) a + S1x1024.size a ≤ S40960x1024.size a)
theorem k0_off1568_inb : ∀ (i : grid0.Coords) (v2731 : BitVec 32) (k0_hw1560 : k0_chk1560 i v2731), ∀ (k0_h4 : k0_cond4 i = 1#1), ∀ a, (k0_off1568 v2731) a + S1x1024.size a ≤ S40960x1024.size a := fun i v2731 k0_hw1560 k0_h4 => k0_hw1560 k0_h4

def k0_off1569 (v2736 : BitVec 32) : Fin 2 → Nat :=
  let c0_i32_2979 : BitVec 32 := 0#32
  ![v2736.toNat, 0]

def k0_chk1561 (i : grid0.Coords) (v2736 : BitVec 32) : Prop :=
  (∀ (k0_h4 : k0_cond4 i = 1#1), ∀ a, (k0_off1569 v2736) a + S1x1024.size a ≤ S40960x1024.size a)
theorem k0_off1569_inb : ∀ (i : grid0.Coords) (v2736 : BitVec 32) (k0_hw1561 : k0_chk1561 i v2736), ∀ (k0_h4 : k0_cond4 i = 1#1), ∀ a, (k0_off1569 v2736) a + S1x1024.size a ≤ S40960x1024.size a := fun i v2736 k0_hw1561 k0_h4 => k0_hw1561 k0_h4

def k0_off1570 (v2741 : BitVec 32) : Fin 2 → Nat :=
  let c0_i32_2985 : BitVec 32 := 0#32
  ![v2741.toNat, 0]

def k0_chk1562 (i : grid0.Coords) (v2741 : BitVec 32) : Prop :=
  (∀ (k0_h4 : k0_cond4 i = 1#1), ∀ a, (k0_off1570 v2741) a + S1x1024.size a ≤ S40960x1024.size a)
theorem k0_off1570_inb : ∀ (i : grid0.Coords) (v2741 : BitVec 32) (k0_hw1562 : k0_chk1562 i v2741), ∀ (k0_h4 : k0_cond4 i = 1#1), ∀ a, (k0_off1570 v2741) a + S1x1024.size a ≤ S40960x1024.size a := fun i v2741 k0_hw1562 k0_h4 => k0_hw1562 k0_h4

def k0_off1571 (v2746 : BitVec 32) : Fin 2 → Nat :=
  let c0_i32_2990 : BitVec 32 := 0#32
  ![v2746.toNat, 0]

def k0_chk1563 (i : grid0.Coords) (v2746 : BitVec 32) : Prop :=
  (∀ (k0_h4 : k0_cond4 i = 1#1), ∀ a, (k0_off1571 v2746) a + S1x1024.size a ≤ S40960x1024.size a)
theorem k0_off1571_inb : ∀ (i : grid0.Coords) (v2746 : BitVec 32) (k0_hw1563 : k0_chk1563 i v2746), ∀ (k0_h4 : k0_cond4 i = 1#1), ∀ a, (k0_off1571 v2746) a + S1x1024.size a ≤ S40960x1024.size a := fun i v2746 k0_hw1563 k0_h4 => k0_hw1563 k0_h4

def k0_off1572 (v2751 : BitVec 32) : Fin 2 → Nat :=
  let c0_i32_2996 : BitVec 32 := 0#32
  ![v2751.toNat, 0]

def k0_chk1564 (i : grid0.Coords) (v2751 : BitVec 32) : Prop :=
  (∀ (k0_h4 : k0_cond4 i = 1#1), ∀ a, (k0_off1572 v2751) a + S1x1024.size a ≤ S40960x1024.size a)
theorem k0_off1572_inb : ∀ (i : grid0.Coords) (v2751 : BitVec 32) (k0_hw1564 : k0_chk1564 i v2751), ∀ (k0_h4 : k0_cond4 i = 1#1), ∀ a, (k0_off1572 v2751) a + S1x1024.size a ≤ S40960x1024.size a := fun i v2751 k0_hw1564 k0_h4 => k0_hw1564 k0_h4

def k0_off1573 (v2756 : BitVec 32) : Fin 2 → Nat :=
  let c0_i32_3001 : BitVec 32 := 0#32
  ![v2756.toNat, 0]

def k0_chk1565 (i : grid0.Coords) (v2756 : BitVec 32) : Prop :=
  (∀ (k0_h4 : k0_cond4 i = 1#1), ∀ a, (k0_off1573 v2756) a + S1x1024.size a ≤ S40960x1024.size a)
theorem k0_off1573_inb : ∀ (i : grid0.Coords) (v2756 : BitVec 32) (k0_hw1565 : k0_chk1565 i v2756), ∀ (k0_h4 : k0_cond4 i = 1#1), ∀ a, (k0_off1573 v2756) a + S1x1024.size a ≤ S40960x1024.size a := fun i v2756 k0_hw1565 k0_h4 => k0_hw1565 k0_h4

def k0_off1574 (v2761 : BitVec 32) : Fin 2 → Nat :=
  let c0_i32_3007 : BitVec 32 := 0#32
  ![v2761.toNat, 0]

def k0_chk1566 (i : grid0.Coords) (v2761 : BitVec 32) : Prop :=
  (∀ (k0_h4 : k0_cond4 i = 1#1), ∀ a, (k0_off1574 v2761) a + S1x1024.size a ≤ S40960x1024.size a)
theorem k0_off1574_inb : ∀ (i : grid0.Coords) (v2761 : BitVec 32) (k0_hw1566 : k0_chk1566 i v2761), ∀ (k0_h4 : k0_cond4 i = 1#1), ∀ a, (k0_off1574 v2761) a + S1x1024.size a ≤ S40960x1024.size a := fun i v2761 k0_hw1566 k0_h4 => k0_hw1566 k0_h4

def k0_off1575 (v2766 : BitVec 32) : Fin 2 → Nat :=
  let c0_i32_3012 : BitVec 32 := 0#32
  ![v2766.toNat, 0]

def k0_chk1567 (i : grid0.Coords) (v2766 : BitVec 32) : Prop :=
  (∀ (k0_h4 : k0_cond4 i = 1#1), ∀ a, (k0_off1575 v2766) a + S1x1024.size a ≤ S40960x1024.size a)
theorem k0_off1575_inb : ∀ (i : grid0.Coords) (v2766 : BitVec 32) (k0_hw1567 : k0_chk1567 i v2766), ∀ (k0_h4 : k0_cond4 i = 1#1), ∀ a, (k0_off1575 v2766) a + S1x1024.size a ≤ S40960x1024.size a := fun i v2766 k0_hw1567 k0_h4 => k0_hw1567 k0_h4

def k0_off1576 (v2771 : BitVec 32) : Fin 2 → Nat :=
  let c0_i32_3018 : BitVec 32 := 0#32
  ![v2771.toNat, 0]

def k0_chk1568 (i : grid0.Coords) (v2771 : BitVec 32) : Prop :=
  (∀ (k0_h4 : k0_cond4 i = 1#1), ∀ a, (k0_off1576 v2771) a + S1x1024.size a ≤ S40960x1024.size a)
theorem k0_off1576_inb : ∀ (i : grid0.Coords) (v2771 : BitVec 32) (k0_hw1568 : k0_chk1568 i v2771), ∀ (k0_h4 : k0_cond4 i = 1#1), ∀ a, (k0_off1576 v2771) a + S1x1024.size a ≤ S40960x1024.size a := fun i v2771 k0_hw1568 k0_h4 => k0_hw1568 k0_h4

def k0_off1577 (v2776 : BitVec 32) : Fin 2 → Nat :=
  let c0_i32_3023 : BitVec 32 := 0#32
  ![v2776.toNat, 0]

def k0_chk1569 (i : grid0.Coords) (v2776 : BitVec 32) : Prop :=
  (∀ (k0_h4 : k0_cond4 i = 1#1), ∀ a, (k0_off1577 v2776) a + S1x1024.size a ≤ S40960x1024.size a)
theorem k0_off1577_inb : ∀ (i : grid0.Coords) (v2776 : BitVec 32) (k0_hw1569 : k0_chk1569 i v2776), ∀ (k0_h4 : k0_cond4 i = 1#1), ∀ a, (k0_off1577 v2776) a + S1x1024.size a ≤ S40960x1024.size a := fun i v2776 k0_hw1569 k0_h4 => k0_hw1569 k0_h4

def k0_off1578 (v2781 : BitVec 32) : Fin 2 → Nat :=
  let c0_i32_3029 : BitVec 32 := 0#32
  ![v2781.toNat, 0]

def k0_chk1570 (i : grid0.Coords) (v2781 : BitVec 32) : Prop :=
  (∀ (k0_h4 : k0_cond4 i = 1#1), ∀ a, (k0_off1578 v2781) a + S1x1024.size a ≤ S40960x1024.size a)
theorem k0_off1578_inb : ∀ (i : grid0.Coords) (v2781 : BitVec 32) (k0_hw1570 : k0_chk1570 i v2781), ∀ (k0_h4 : k0_cond4 i = 1#1), ∀ a, (k0_off1578 v2781) a + S1x1024.size a ≤ S40960x1024.size a := fun i v2781 k0_hw1570 k0_h4 => k0_hw1570 k0_h4

def k0_off1579 (v2786 : BitVec 32) : Fin 2 → Nat :=
  let c0_i32_3034 : BitVec 32 := 0#32
  ![v2786.toNat, 0]

def k0_chk1571 (i : grid0.Coords) (v2786 : BitVec 32) : Prop :=
  (∀ (k0_h4 : k0_cond4 i = 1#1), ∀ a, (k0_off1579 v2786) a + S1x1024.size a ≤ S40960x1024.size a)
theorem k0_off1579_inb : ∀ (i : grid0.Coords) (v2786 : BitVec 32) (k0_hw1571 : k0_chk1571 i v2786), ∀ (k0_h4 : k0_cond4 i = 1#1), ∀ a, (k0_off1579 v2786) a + S1x1024.size a ≤ S40960x1024.size a := fun i v2786 k0_hw1571 k0_h4 => k0_hw1571 k0_h4

def k0_off1580 (v2791 : BitVec 32) : Fin 2 → Nat :=
  let c0_i32_3040 : BitVec 32 := 0#32
  ![v2791.toNat, 0]

def k0_chk1572 (i : grid0.Coords) (v2791 : BitVec 32) : Prop :=
  (∀ (k0_h4 : k0_cond4 i = 1#1), ∀ a, (k0_off1580 v2791) a + S1x1024.size a ≤ S40960x1024.size a)
theorem k0_off1580_inb : ∀ (i : grid0.Coords) (v2791 : BitVec 32) (k0_hw1572 : k0_chk1572 i v2791), ∀ (k0_h4 : k0_cond4 i = 1#1), ∀ a, (k0_off1580 v2791) a + S1x1024.size a ≤ S40960x1024.size a := fun i v2791 k0_hw1572 k0_h4 => k0_hw1572 k0_h4

def k0_off1581 (v2796 : BitVec 32) : Fin 2 → Nat :=
  let c0_i32_3045 : BitVec 32 := 0#32
  ![v2796.toNat, 0]

def k0_chk1573 (i : grid0.Coords) (v2796 : BitVec 32) : Prop :=
  (∀ (k0_h4 : k0_cond4 i = 1#1), ∀ a, (k0_off1581 v2796) a + S1x1024.size a ≤ S40960x1024.size a)
theorem k0_off1581_inb : ∀ (i : grid0.Coords) (v2796 : BitVec 32) (k0_hw1573 : k0_chk1573 i v2796), ∀ (k0_h4 : k0_cond4 i = 1#1), ∀ a, (k0_off1581 v2796) a + S1x1024.size a ≤ S40960x1024.size a := fun i v2796 k0_hw1573 k0_h4 => k0_hw1573 k0_h4

def k0_off1582 (v2801 : BitVec 32) : Fin 2 → Nat :=
  let c0_i32_3051 : BitVec 32 := 0#32
  ![v2801.toNat, 0]

def k0_chk1574 (i : grid0.Coords) (v2801 : BitVec 32) : Prop :=
  (∀ (k0_h4 : k0_cond4 i = 1#1), ∀ a, (k0_off1582 v2801) a + S1x1024.size a ≤ S40960x1024.size a)
theorem k0_off1582_inb : ∀ (i : grid0.Coords) (v2801 : BitVec 32) (k0_hw1574 : k0_chk1574 i v2801), ∀ (k0_h4 : k0_cond4 i = 1#1), ∀ a, (k0_off1582 v2801) a + S1x1024.size a ≤ S40960x1024.size a := fun i v2801 k0_hw1574 k0_h4 => k0_hw1574 k0_h4

def k0_off1583 (v2806 : BitVec 32) : Fin 2 → Nat :=
  let c0_i32_3056 : BitVec 32 := 0#32
  ![v2806.toNat, 0]

def k0_chk1575 (i : grid0.Coords) (v2806 : BitVec 32) : Prop :=
  (∀ (k0_h4 : k0_cond4 i = 1#1), ∀ a, (k0_off1583 v2806) a + S1x1024.size a ≤ S40960x1024.size a)
theorem k0_off1583_inb : ∀ (i : grid0.Coords) (v2806 : BitVec 32) (k0_hw1575 : k0_chk1575 i v2806), ∀ (k0_h4 : k0_cond4 i = 1#1), ∀ a, (k0_off1583 v2806) a + S1x1024.size a ≤ S40960x1024.size a := fun i v2806 k0_hw1575 k0_h4 => k0_hw1575 k0_h4

def k0_off1584 (v2811 : BitVec 32) : Fin 2 → Nat :=
  let c0_i32_3062 : BitVec 32 := 0#32
  ![v2811.toNat, 0]

def k0_chk1576 (i : grid0.Coords) (v2811 : BitVec 32) : Prop :=
  (∀ (k0_h4 : k0_cond4 i = 1#1), ∀ a, (k0_off1584 v2811) a + S1x1024.size a ≤ S40960x1024.size a)
theorem k0_off1584_inb : ∀ (i : grid0.Coords) (v2811 : BitVec 32) (k0_hw1576 : k0_chk1576 i v2811), ∀ (k0_h4 : k0_cond4 i = 1#1), ∀ a, (k0_off1584 v2811) a + S1x1024.size a ≤ S40960x1024.size a := fun i v2811 k0_hw1576 k0_h4 => k0_hw1576 k0_h4

def k0_off1585 (v2816 : BitVec 32) : Fin 2 → Nat :=
  let c0_i32_3067 : BitVec 32 := 0#32
  ![v2816.toNat, 0]

def k0_chk1577 (i : grid0.Coords) (v2816 : BitVec 32) : Prop :=
  (∀ (k0_h4 : k0_cond4 i = 1#1), ∀ a, (k0_off1585 v2816) a + S1x1024.size a ≤ S40960x1024.size a)
theorem k0_off1585_inb : ∀ (i : grid0.Coords) (v2816 : BitVec 32) (k0_hw1577 : k0_chk1577 i v2816), ∀ (k0_h4 : k0_cond4 i = 1#1), ∀ a, (k0_off1585 v2816) a + S1x1024.size a ≤ S40960x1024.size a := fun i v2816 k0_hw1577 k0_h4 => k0_hw1577 k0_h4

def k0_off1586 (v2821 : BitVec 32) : Fin 2 → Nat :=
  let c0_i32_3073 : BitVec 32 := 0#32
  ![v2821.toNat, 0]

def k0_chk1578 (i : grid0.Coords) (v2821 : BitVec 32) : Prop :=
  (∀ (k0_h4 : k0_cond4 i = 1#1), ∀ a, (k0_off1586 v2821) a + S1x1024.size a ≤ S40960x1024.size a)
theorem k0_off1586_inb : ∀ (i : grid0.Coords) (v2821 : BitVec 32) (k0_hw1578 : k0_chk1578 i v2821), ∀ (k0_h4 : k0_cond4 i = 1#1), ∀ a, (k0_off1586 v2821) a + S1x1024.size a ≤ S40960x1024.size a := fun i v2821 k0_hw1578 k0_h4 => k0_hw1578 k0_h4

def k0_off1587 (v2826 : BitVec 32) : Fin 2 → Nat :=
  let c0_i32_3078 : BitVec 32 := 0#32
  ![v2826.toNat, 0]

def k0_chk1579 (i : grid0.Coords) (v2826 : BitVec 32) : Prop :=
  (∀ (k0_h4 : k0_cond4 i = 1#1), ∀ a, (k0_off1587 v2826) a + S1x1024.size a ≤ S40960x1024.size a)
theorem k0_off1587_inb : ∀ (i : grid0.Coords) (v2826 : BitVec 32) (k0_hw1579 : k0_chk1579 i v2826), ∀ (k0_h4 : k0_cond4 i = 1#1), ∀ a, (k0_off1587 v2826) a + S1x1024.size a ≤ S40960x1024.size a := fun i v2826 k0_hw1579 k0_h4 => k0_hw1579 k0_h4

def k0_off1588 (v2831 : BitVec 32) : Fin 2 → Nat :=
  let c0_i32_3084 : BitVec 32 := 0#32
  ![v2831.toNat, 0]

def k0_chk1580 (i : grid0.Coords) (v2831 : BitVec 32) : Prop :=
  (∀ (k0_h4 : k0_cond4 i = 1#1), ∀ a, (k0_off1588 v2831) a + S1x1024.size a ≤ S40960x1024.size a)
theorem k0_off1588_inb : ∀ (i : grid0.Coords) (v2831 : BitVec 32) (k0_hw1580 : k0_chk1580 i v2831), ∀ (k0_h4 : k0_cond4 i = 1#1), ∀ a, (k0_off1588 v2831) a + S1x1024.size a ≤ S40960x1024.size a := fun i v2831 k0_hw1580 k0_h4 => k0_hw1580 k0_h4

def k0_off1589 (v2836 : BitVec 32) : Fin 2 → Nat :=
  let c0_i32_3089 : BitVec 32 := 0#32
  ![v2836.toNat, 0]

def k0_chk1581 (i : grid0.Coords) (v2836 : BitVec 32) : Prop :=
  (∀ (k0_h4 : k0_cond4 i = 1#1), ∀ a, (k0_off1589 v2836) a + S1x1024.size a ≤ S40960x1024.size a)
theorem k0_off1589_inb : ∀ (i : grid0.Coords) (v2836 : BitVec 32) (k0_hw1581 : k0_chk1581 i v2836), ∀ (k0_h4 : k0_cond4 i = 1#1), ∀ a, (k0_off1589 v2836) a + S1x1024.size a ≤ S40960x1024.size a := fun i v2836 k0_hw1581 k0_h4 => k0_hw1581 k0_h4

def k0_off1590 (v2841 : BitVec 32) : Fin 2 → Nat :=
  let c0_i32_3095 : BitVec 32 := 0#32
  ![v2841.toNat, 0]

def k0_chk1582 (i : grid0.Coords) (v2841 : BitVec 32) : Prop :=
  (∀ (k0_h4 : k0_cond4 i = 1#1), ∀ a, (k0_off1590 v2841) a + S1x1024.size a ≤ S40960x1024.size a)
theorem k0_off1590_inb : ∀ (i : grid0.Coords) (v2841 : BitVec 32) (k0_hw1582 : k0_chk1582 i v2841), ∀ (k0_h4 : k0_cond4 i = 1#1), ∀ a, (k0_off1590 v2841) a + S1x1024.size a ≤ S40960x1024.size a := fun i v2841 k0_hw1582 k0_h4 => k0_hw1582 k0_h4

def k0_off1591 (v2846 : BitVec 32) : Fin 2 → Nat :=
  let c0_i32_3100 : BitVec 32 := 0#32
  ![v2846.toNat, 0]

def k0_chk1583 (i : grid0.Coords) (v2846 : BitVec 32) : Prop :=
  (∀ (k0_h4 : k0_cond4 i = 1#1), ∀ a, (k0_off1591 v2846) a + S1x1024.size a ≤ S40960x1024.size a)
theorem k0_off1591_inb : ∀ (i : grid0.Coords) (v2846 : BitVec 32) (k0_hw1583 : k0_chk1583 i v2846), ∀ (k0_h4 : k0_cond4 i = 1#1), ∀ a, (k0_off1591 v2846) a + S1x1024.size a ≤ S40960x1024.size a := fun i v2846 k0_hw1583 k0_h4 => k0_hw1583 k0_h4

def k0_off1592 (v2851 : BitVec 32) : Fin 2 → Nat :=
  let c0_i32_3106 : BitVec 32 := 0#32
  ![v2851.toNat, 0]

def k0_chk1584 (i : grid0.Coords) (v2851 : BitVec 32) : Prop :=
  (∀ (k0_h4 : k0_cond4 i = 1#1), ∀ a, (k0_off1592 v2851) a + S1x1024.size a ≤ S40960x1024.size a)
theorem k0_off1592_inb : ∀ (i : grid0.Coords) (v2851 : BitVec 32) (k0_hw1584 : k0_chk1584 i v2851), ∀ (k0_h4 : k0_cond4 i = 1#1), ∀ a, (k0_off1592 v2851) a + S1x1024.size a ≤ S40960x1024.size a := fun i v2851 k0_hw1584 k0_h4 => k0_hw1584 k0_h4

def k0_off1593 (v2856 : BitVec 32) : Fin 2 → Nat :=
  let c0_i32_3111 : BitVec 32 := 0#32
  ![v2856.toNat, 0]

def k0_chk1585 (i : grid0.Coords) (v2856 : BitVec 32) : Prop :=
  (∀ (k0_h4 : k0_cond4 i = 1#1), ∀ a, (k0_off1593 v2856) a + S1x1024.size a ≤ S40960x1024.size a)
theorem k0_off1593_inb : ∀ (i : grid0.Coords) (v2856 : BitVec 32) (k0_hw1585 : k0_chk1585 i v2856), ∀ (k0_h4 : k0_cond4 i = 1#1), ∀ a, (k0_off1593 v2856) a + S1x1024.size a ≤ S40960x1024.size a := fun i v2856 k0_hw1585 k0_h4 => k0_hw1585 k0_h4

def k0_off1594 (v2861 : BitVec 32) : Fin 2 → Nat :=
  let c0_i32_3117 : BitVec 32 := 0#32
  ![v2861.toNat, 0]

def k0_chk1586 (i : grid0.Coords) (v2861 : BitVec 32) : Prop :=
  (∀ (k0_h4 : k0_cond4 i = 1#1), ∀ a, (k0_off1594 v2861) a + S1x1024.size a ≤ S40960x1024.size a)
theorem k0_off1594_inb : ∀ (i : grid0.Coords) (v2861 : BitVec 32) (k0_hw1586 : k0_chk1586 i v2861), ∀ (k0_h4 : k0_cond4 i = 1#1), ∀ a, (k0_off1594 v2861) a + S1x1024.size a ≤ S40960x1024.size a := fun i v2861 k0_hw1586 k0_h4 => k0_hw1586 k0_h4

def k0_off1595 (v2866 : BitVec 32) : Fin 2 → Nat :=
  let c0_i32_3122 : BitVec 32 := 0#32
  ![v2866.toNat, 0]

def k0_chk1587 (i : grid0.Coords) (v2866 : BitVec 32) : Prop :=
  (∀ (k0_h4 : k0_cond4 i = 1#1), ∀ a, (k0_off1595 v2866) a + S1x1024.size a ≤ S40960x1024.size a)
theorem k0_off1595_inb : ∀ (i : grid0.Coords) (v2866 : BitVec 32) (k0_hw1587 : k0_chk1587 i v2866), ∀ (k0_h4 : k0_cond4 i = 1#1), ∀ a, (k0_off1595 v2866) a + S1x1024.size a ≤ S40960x1024.size a := fun i v2866 k0_hw1587 k0_h4 => k0_hw1587 k0_h4

def k0_off1596 (v2871 : BitVec 32) : Fin 2 → Nat :=
  let c0_i32_3128 : BitVec 32 := 0#32
  ![v2871.toNat, 0]

def k0_chk1588 (i : grid0.Coords) (v2871 : BitVec 32) : Prop :=
  (∀ (k0_h4 : k0_cond4 i = 1#1), ∀ a, (k0_off1596 v2871) a + S1x1024.size a ≤ S40960x1024.size a)
theorem k0_off1596_inb : ∀ (i : grid0.Coords) (v2871 : BitVec 32) (k0_hw1588 : k0_chk1588 i v2871), ∀ (k0_h4 : k0_cond4 i = 1#1), ∀ a, (k0_off1596 v2871) a + S1x1024.size a ≤ S40960x1024.size a := fun i v2871 k0_hw1588 k0_h4 => k0_hw1588 k0_h4

def k0_off1597 (v2876 : BitVec 32) : Fin 2 → Nat :=
  let c0_i32_3133 : BitVec 32 := 0#32
  ![v2876.toNat, 0]

def k0_chk1589 (i : grid0.Coords) (v2876 : BitVec 32) : Prop :=
  (∀ (k0_h4 : k0_cond4 i = 1#1), ∀ a, (k0_off1597 v2876) a + S1x1024.size a ≤ S40960x1024.size a)
theorem k0_off1597_inb : ∀ (i : grid0.Coords) (v2876 : BitVec 32) (k0_hw1589 : k0_chk1589 i v2876), ∀ (k0_h4 : k0_cond4 i = 1#1), ∀ a, (k0_off1597 v2876) a + S1x1024.size a ≤ S40960x1024.size a := fun i v2876 k0_hw1589 k0_h4 => k0_hw1589 k0_h4

def k0_off1598 (v2881 : BitVec 32) : Fin 2 → Nat :=
  let c0_i32_3139 : BitVec 32 := 0#32
  ![v2881.toNat, 0]

def k0_chk1590 (i : grid0.Coords) (v2881 : BitVec 32) : Prop :=
  (∀ (k0_h4 : k0_cond4 i = 1#1), ∀ a, (k0_off1598 v2881) a + S1x1024.size a ≤ S40960x1024.size a)
theorem k0_off1598_inb : ∀ (i : grid0.Coords) (v2881 : BitVec 32) (k0_hw1590 : k0_chk1590 i v2881), ∀ (k0_h4 : k0_cond4 i = 1#1), ∀ a, (k0_off1598 v2881) a + S1x1024.size a ≤ S40960x1024.size a := fun i v2881 k0_hw1590 k0_h4 => k0_hw1590 k0_h4

def k0_off1599 (v2886 : BitVec 32) : Fin 2 → Nat :=
  let c0_i32_3144 : BitVec 32 := 0#32
  ![v2886.toNat, 0]

def k0_chk1591 (i : grid0.Coords) (v2886 : BitVec 32) : Prop :=
  (∀ (k0_h4 : k0_cond4 i = 1#1), ∀ a, (k0_off1599 v2886) a + S1x1024.size a ≤ S40960x1024.size a)
theorem k0_off1599_inb : ∀ (i : grid0.Coords) (v2886 : BitVec 32) (k0_hw1591 : k0_chk1591 i v2886), ∀ (k0_h4 : k0_cond4 i = 1#1), ∀ a, (k0_off1599 v2886) a + S1x1024.size a ≤ S40960x1024.size a := fun i v2886 k0_hw1591 k0_h4 => k0_hw1591 k0_h4

def k0_off1600 (v2891 : BitVec 32) : Fin 2 → Nat :=
  let c0_i32_3150 : BitVec 32 := 0#32
  ![v2891.toNat, 0]

def k0_chk1592 (i : grid0.Coords) (v2891 : BitVec 32) : Prop :=
  (∀ (k0_h4 : k0_cond4 i = 1#1), ∀ a, (k0_off1600 v2891) a + S1x1024.size a ≤ S40960x1024.size a)
theorem k0_off1600_inb : ∀ (i : grid0.Coords) (v2891 : BitVec 32) (k0_hw1592 : k0_chk1592 i v2891), ∀ (k0_h4 : k0_cond4 i = 1#1), ∀ a, (k0_off1600 v2891) a + S1x1024.size a ≤ S40960x1024.size a := fun i v2891 k0_hw1592 k0_h4 => k0_hw1592 k0_h4

def k0_off1601 (v2896 : BitVec 32) : Fin 2 → Nat :=
  let c0_i32_3155 : BitVec 32 := 0#32
  ![v2896.toNat, 0]

def k0_chk1593 (i : grid0.Coords) (v2896 : BitVec 32) : Prop :=
  (∀ (k0_h4 : k0_cond4 i = 1#1), ∀ a, (k0_off1601 v2896) a + S1x1024.size a ≤ S40960x1024.size a)
theorem k0_off1601_inb : ∀ (i : grid0.Coords) (v2896 : BitVec 32) (k0_hw1593 : k0_chk1593 i v2896), ∀ (k0_h4 : k0_cond4 i = 1#1), ∀ a, (k0_off1601 v2896) a + S1x1024.size a ≤ S40960x1024.size a := fun i v2896 k0_hw1593 k0_h4 => k0_hw1593 k0_h4

def k0_off1602 (v2901 : BitVec 32) : Fin 2 → Nat :=
  let c0_i32_3161 : BitVec 32 := 0#32
  ![v2901.toNat, 0]

def k0_chk1594 (i : grid0.Coords) (v2901 : BitVec 32) : Prop :=
  (∀ (k0_h4 : k0_cond4 i = 1#1), ∀ a, (k0_off1602 v2901) a + S1x1024.size a ≤ S40960x1024.size a)
theorem k0_off1602_inb : ∀ (i : grid0.Coords) (v2901 : BitVec 32) (k0_hw1594 : k0_chk1594 i v2901), ∀ (k0_h4 : k0_cond4 i = 1#1), ∀ a, (k0_off1602 v2901) a + S1x1024.size a ≤ S40960x1024.size a := fun i v2901 k0_hw1594 k0_h4 => k0_hw1594 k0_h4

def k0_off1603 (v2906 : BitVec 32) : Fin 2 → Nat :=
  let c0_i32_3166 : BitVec 32 := 0#32
  ![v2906.toNat, 0]

def k0_chk1595 (i : grid0.Coords) (v2906 : BitVec 32) : Prop :=
  (∀ (k0_h4 : k0_cond4 i = 1#1), ∀ a, (k0_off1603 v2906) a + S1x1024.size a ≤ S40960x1024.size a)
theorem k0_off1603_inb : ∀ (i : grid0.Coords) (v2906 : BitVec 32) (k0_hw1595 : k0_chk1595 i v2906), ∀ (k0_h4 : k0_cond4 i = 1#1), ∀ a, (k0_off1603 v2906) a + S1x1024.size a ≤ S40960x1024.size a := fun i v2906 k0_hw1595 k0_h4 => k0_hw1595 k0_h4

def k0_off1604 (v2911 : BitVec 32) : Fin 2 → Nat :=
  let c0_i32_3172 : BitVec 32 := 0#32
  ![v2911.toNat, 0]

def k0_chk1596 (i : grid0.Coords) (v2911 : BitVec 32) : Prop :=
  (∀ (k0_h4 : k0_cond4 i = 1#1), ∀ a, (k0_off1604 v2911) a + S1x1024.size a ≤ S40960x1024.size a)
theorem k0_off1604_inb : ∀ (i : grid0.Coords) (v2911 : BitVec 32) (k0_hw1596 : k0_chk1596 i v2911), ∀ (k0_h4 : k0_cond4 i = 1#1), ∀ a, (k0_off1604 v2911) a + S1x1024.size a ≤ S40960x1024.size a := fun i v2911 k0_hw1596 k0_h4 => k0_hw1596 k0_h4

def k0_off1605 (v2916 : BitVec 32) : Fin 2 → Nat :=
  let c0_i32_3177 : BitVec 32 := 0#32
  ![v2916.toNat, 0]

def k0_chk1597 (i : grid0.Coords) (v2916 : BitVec 32) : Prop :=
  (∀ (k0_h4 : k0_cond4 i = 1#1), ∀ a, (k0_off1605 v2916) a + S1x1024.size a ≤ S40960x1024.size a)
theorem k0_off1605_inb : ∀ (i : grid0.Coords) (v2916 : BitVec 32) (k0_hw1597 : k0_chk1597 i v2916), ∀ (k0_h4 : k0_cond4 i = 1#1), ∀ a, (k0_off1605 v2916) a + S1x1024.size a ≤ S40960x1024.size a := fun i v2916 k0_hw1597 k0_h4 => k0_hw1597 k0_h4

def k0_off1606 (v2921 : BitVec 32) : Fin 2 → Nat :=
  let c0_i32_3183 : BitVec 32 := 0#32
  ![v2921.toNat, 0]

def k0_chk1598 (i : grid0.Coords) (v2921 : BitVec 32) : Prop :=
  (∀ (k0_h4 : k0_cond4 i = 1#1), ∀ a, (k0_off1606 v2921) a + S1x1024.size a ≤ S40960x1024.size a)
theorem k0_off1606_inb : ∀ (i : grid0.Coords) (v2921 : BitVec 32) (k0_hw1598 : k0_chk1598 i v2921), ∀ (k0_h4 : k0_cond4 i = 1#1), ∀ a, (k0_off1606 v2921) a + S1x1024.size a ≤ S40960x1024.size a := fun i v2921 k0_hw1598 k0_h4 => k0_hw1598 k0_h4

def k0_off1607 (v2926 : BitVec 32) : Fin 2 → Nat :=
  let c0_i32_3188 : BitVec 32 := 0#32
  ![v2926.toNat, 0]

def k0_chk1599 (i : grid0.Coords) (v2926 : BitVec 32) : Prop :=
  (∀ (k0_h4 : k0_cond4 i = 1#1), ∀ a, (k0_off1607 v2926) a + S1x1024.size a ≤ S40960x1024.size a)
theorem k0_off1607_inb : ∀ (i : grid0.Coords) (v2926 : BitVec 32) (k0_hw1599 : k0_chk1599 i v2926), ∀ (k0_h4 : k0_cond4 i = 1#1), ∀ a, (k0_off1607 v2926) a + S1x1024.size a ≤ S40960x1024.size a := fun i v2926 k0_hw1599 k0_h4 => k0_hw1599 k0_h4

def k0_off1608 (v2931 : BitVec 32) : Fin 2 → Nat :=
  let c0_i32_3194 : BitVec 32 := 0#32
  ![v2931.toNat, 0]

def k0_chk1600 (i : grid0.Coords) (v2931 : BitVec 32) : Prop :=
  (∀ (k0_h4 : k0_cond4 i = 1#1), ∀ a, (k0_off1608 v2931) a + S1x1024.size a ≤ S40960x1024.size a)
theorem k0_off1608_inb : ∀ (i : grid0.Coords) (v2931 : BitVec 32) (k0_hw1600 : k0_chk1600 i v2931), ∀ (k0_h4 : k0_cond4 i = 1#1), ∀ a, (k0_off1608 v2931) a + S1x1024.size a ≤ S40960x1024.size a := fun i v2931 k0_hw1600 k0_h4 => k0_hw1600 k0_h4

def k0_off1609 (v2936 : BitVec 32) : Fin 2 → Nat :=
  let c0_i32_3199 : BitVec 32 := 0#32
  ![v2936.toNat, 0]

def k0_chk1601 (i : grid0.Coords) (v2936 : BitVec 32) : Prop :=
  (∀ (k0_h4 : k0_cond4 i = 1#1), ∀ a, (k0_off1609 v2936) a + S1x1024.size a ≤ S40960x1024.size a)
theorem k0_off1609_inb : ∀ (i : grid0.Coords) (v2936 : BitVec 32) (k0_hw1601 : k0_chk1601 i v2936), ∀ (k0_h4 : k0_cond4 i = 1#1), ∀ a, (k0_off1609 v2936) a + S1x1024.size a ≤ S40960x1024.size a := fun i v2936 k0_hw1601 k0_h4 => k0_hw1601 k0_h4

def k0_off1610 (v2941 : BitVec 32) : Fin 2 → Nat :=
  let c0_i32_3205 : BitVec 32 := 0#32
  ![v2941.toNat, 0]

def k0_chk1602 (i : grid0.Coords) (v2941 : BitVec 32) : Prop :=
  (∀ (k0_h4 : k0_cond4 i = 1#1), ∀ a, (k0_off1610 v2941) a + S1x1024.size a ≤ S40960x1024.size a)
theorem k0_off1610_inb : ∀ (i : grid0.Coords) (v2941 : BitVec 32) (k0_hw1602 : k0_chk1602 i v2941), ∀ (k0_h4 : k0_cond4 i = 1#1), ∀ a, (k0_off1610 v2941) a + S1x1024.size a ≤ S40960x1024.size a := fun i v2941 k0_hw1602 k0_h4 => k0_hw1602 k0_h4

def k0_off1611 (v2946 : BitVec 32) : Fin 2 → Nat :=
  let c0_i32_3210 : BitVec 32 := 0#32
  ![v2946.toNat, 0]

def k0_chk1603 (i : grid0.Coords) (v2946 : BitVec 32) : Prop :=
  (∀ (k0_h4 : k0_cond4 i = 1#1), ∀ a, (k0_off1611 v2946) a + S1x1024.size a ≤ S40960x1024.size a)
theorem k0_off1611_inb : ∀ (i : grid0.Coords) (v2946 : BitVec 32) (k0_hw1603 : k0_chk1603 i v2946), ∀ (k0_h4 : k0_cond4 i = 1#1), ∀ a, (k0_off1611 v2946) a + S1x1024.size a ≤ S40960x1024.size a := fun i v2946 k0_hw1603 k0_h4 => k0_hw1603 k0_h4

def k0_off1612 (v2951 : BitVec 32) : Fin 2 → Nat :=
  let c0_i32_3216 : BitVec 32 := 0#32
  ![v2951.toNat, 0]

def k0_chk1604 (i : grid0.Coords) (v2951 : BitVec 32) : Prop :=
  (∀ (k0_h4 : k0_cond4 i = 1#1), ∀ a, (k0_off1612 v2951) a + S1x1024.size a ≤ S40960x1024.size a)
theorem k0_off1612_inb : ∀ (i : grid0.Coords) (v2951 : BitVec 32) (k0_hw1604 : k0_chk1604 i v2951), ∀ (k0_h4 : k0_cond4 i = 1#1), ∀ a, (k0_off1612 v2951) a + S1x1024.size a ≤ S40960x1024.size a := fun i v2951 k0_hw1604 k0_h4 => k0_hw1604 k0_h4

def k0_off1613 (v2956 : BitVec 32) : Fin 2 → Nat :=
  let c0_i32_3221 : BitVec 32 := 0#32
  ![v2956.toNat, 0]

def k0_chk1605 (i : grid0.Coords) (v2956 : BitVec 32) : Prop :=
  (∀ (k0_h4 : k0_cond4 i = 1#1), ∀ a, (k0_off1613 v2956) a + S1x1024.size a ≤ S40960x1024.size a)
theorem k0_off1613_inb : ∀ (i : grid0.Coords) (v2956 : BitVec 32) (k0_hw1605 : k0_chk1605 i v2956), ∀ (k0_h4 : k0_cond4 i = 1#1), ∀ a, (k0_off1613 v2956) a + S1x1024.size a ≤ S40960x1024.size a := fun i v2956 k0_hw1605 k0_h4 => k0_hw1605 k0_h4

def k0_off1614 (v2961 : BitVec 32) : Fin 2 → Nat :=
  let c0_i32_3227 : BitVec 32 := 0#32
  ![v2961.toNat, 0]

def k0_chk1606 (i : grid0.Coords) (v2961 : BitVec 32) : Prop :=
  (∀ (k0_h4 : k0_cond4 i = 1#1), ∀ a, (k0_off1614 v2961) a + S1x1024.size a ≤ S40960x1024.size a)
theorem k0_off1614_inb : ∀ (i : grid0.Coords) (v2961 : BitVec 32) (k0_hw1606 : k0_chk1606 i v2961), ∀ (k0_h4 : k0_cond4 i = 1#1), ∀ a, (k0_off1614 v2961) a + S1x1024.size a ≤ S40960x1024.size a := fun i v2961 k0_hw1606 k0_h4 => k0_hw1606 k0_h4

def k0_off1615 (v2966 : BitVec 32) : Fin 2 → Nat :=
  let c0_i32_3232 : BitVec 32 := 0#32
  ![v2966.toNat, 0]

def k0_chk1607 (i : grid0.Coords) (v2966 : BitVec 32) : Prop :=
  (∀ (k0_h4 : k0_cond4 i = 1#1), ∀ a, (k0_off1615 v2966) a + S1x1024.size a ≤ S40960x1024.size a)
theorem k0_off1615_inb : ∀ (i : grid0.Coords) (v2966 : BitVec 32) (k0_hw1607 : k0_chk1607 i v2966), ∀ (k0_h4 : k0_cond4 i = 1#1), ∀ a, (k0_off1615 v2966) a + S1x1024.size a ≤ S40960x1024.size a := fun i v2966 k0_hw1607 k0_h4 => k0_hw1607 k0_h4

def k0_off1616 (v2971 : BitVec 32) : Fin 2 → Nat :=
  let c0_i32_3238 : BitVec 32 := 0#32
  ![v2971.toNat, 0]

def k0_chk1608 (i : grid0.Coords) (v2971 : BitVec 32) : Prop :=
  (∀ (k0_h4 : k0_cond4 i = 1#1), ∀ a, (k0_off1616 v2971) a + S1x1024.size a ≤ S40960x1024.size a)
theorem k0_off1616_inb : ∀ (i : grid0.Coords) (v2971 : BitVec 32) (k0_hw1608 : k0_chk1608 i v2971), ∀ (k0_h4 : k0_cond4 i = 1#1), ∀ a, (k0_off1616 v2971) a + S1x1024.size a ≤ S40960x1024.size a := fun i v2971 k0_hw1608 k0_h4 => k0_hw1608 k0_h4

def k0_off1617 (v2976 : BitVec 32) : Fin 2 → Nat :=
  let c0_i32_3243 : BitVec 32 := 0#32
  ![v2976.toNat, 0]

def k0_chk1609 (i : grid0.Coords) (v2976 : BitVec 32) : Prop :=
  (∀ (k0_h4 : k0_cond4 i = 1#1), ∀ a, (k0_off1617 v2976) a + S1x1024.size a ≤ S40960x1024.size a)
theorem k0_off1617_inb : ∀ (i : grid0.Coords) (v2976 : BitVec 32) (k0_hw1609 : k0_chk1609 i v2976), ∀ (k0_h4 : k0_cond4 i = 1#1), ∀ a, (k0_off1617 v2976) a + S1x1024.size a ≤ S40960x1024.size a := fun i v2976 k0_hw1609 k0_h4 => k0_hw1609 k0_h4

def k0_off1618 (v2981 : BitVec 32) : Fin 2 → Nat :=
  let c0_i32_3249 : BitVec 32 := 0#32
  ![v2981.toNat, 0]

def k0_chk1610 (i : grid0.Coords) (v2981 : BitVec 32) : Prop :=
  (∀ (k0_h4 : k0_cond4 i = 1#1), ∀ a, (k0_off1618 v2981) a + S1x1024.size a ≤ S40960x1024.size a)
theorem k0_off1618_inb : ∀ (i : grid0.Coords) (v2981 : BitVec 32) (k0_hw1610 : k0_chk1610 i v2981), ∀ (k0_h4 : k0_cond4 i = 1#1), ∀ a, (k0_off1618 v2981) a + S1x1024.size a ≤ S40960x1024.size a := fun i v2981 k0_hw1610 k0_h4 => k0_hw1610 k0_h4

def k0_off1619 (v2986 : BitVec 32) : Fin 2 → Nat :=
  let c0_i32_3254 : BitVec 32 := 0#32
  ![v2986.toNat, 0]

def k0_chk1611 (i : grid0.Coords) (v2986 : BitVec 32) : Prop :=
  (∀ (k0_h4 : k0_cond4 i = 1#1), ∀ a, (k0_off1619 v2986) a + S1x1024.size a ≤ S40960x1024.size a)
theorem k0_off1619_inb : ∀ (i : grid0.Coords) (v2986 : BitVec 32) (k0_hw1611 : k0_chk1611 i v2986), ∀ (k0_h4 : k0_cond4 i = 1#1), ∀ a, (k0_off1619 v2986) a + S1x1024.size a ≤ S40960x1024.size a := fun i v2986 k0_hw1611 k0_h4 => k0_hw1611 k0_h4

def k0_off1620 (v2991 : BitVec 32) : Fin 2 → Nat :=
  let c0_i32_3260 : BitVec 32 := 0#32
  ![v2991.toNat, 0]

def k0_chk1612 (i : grid0.Coords) (v2991 : BitVec 32) : Prop :=
  (∀ (k0_h4 : k0_cond4 i = 1#1), ∀ a, (k0_off1620 v2991) a + S1x1024.size a ≤ S40960x1024.size a)
theorem k0_off1620_inb : ∀ (i : grid0.Coords) (v2991 : BitVec 32) (k0_hw1612 : k0_chk1612 i v2991), ∀ (k0_h4 : k0_cond4 i = 1#1), ∀ a, (k0_off1620 v2991) a + S1x1024.size a ≤ S40960x1024.size a := fun i v2991 k0_hw1612 k0_h4 => k0_hw1612 k0_h4

def k0_off1621 (v2996 : BitVec 32) : Fin 2 → Nat :=
  let c0_i32_3265 : BitVec 32 := 0#32
  ![v2996.toNat, 0]

def k0_chk1613 (i : grid0.Coords) (v2996 : BitVec 32) : Prop :=
  (∀ (k0_h4 : k0_cond4 i = 1#1), ∀ a, (k0_off1621 v2996) a + S1x1024.size a ≤ S40960x1024.size a)
theorem k0_off1621_inb : ∀ (i : grid0.Coords) (v2996 : BitVec 32) (k0_hw1613 : k0_chk1613 i v2996), ∀ (k0_h4 : k0_cond4 i = 1#1), ∀ a, (k0_off1621 v2996) a + S1x1024.size a ≤ S40960x1024.size a := fun i v2996 k0_hw1613 k0_h4 => k0_hw1613 k0_h4

def k0_off1622 (v3001 : BitVec 32) : Fin 2 → Nat :=
  let c0_i32_3271 : BitVec 32 := 0#32
  ![v3001.toNat, 0]

def k0_chk1614 (i : grid0.Coords) (v3001 : BitVec 32) : Prop :=
  (∀ (k0_h4 : k0_cond4 i = 1#1), ∀ a, (k0_off1622 v3001) a + S1x1024.size a ≤ S40960x1024.size a)
theorem k0_off1622_inb : ∀ (i : grid0.Coords) (v3001 : BitVec 32) (k0_hw1614 : k0_chk1614 i v3001), ∀ (k0_h4 : k0_cond4 i = 1#1), ∀ a, (k0_off1622 v3001) a + S1x1024.size a ≤ S40960x1024.size a := fun i v3001 k0_hw1614 k0_h4 => k0_hw1614 k0_h4

def k0_off1623 (v3006 : BitVec 32) : Fin 2 → Nat :=
  let c0_i32_3276 : BitVec 32 := 0#32
  ![v3006.toNat, 0]

def k0_chk1615 (i : grid0.Coords) (v3006 : BitVec 32) : Prop :=
  (∀ (k0_h4 : k0_cond4 i = 1#1), ∀ a, (k0_off1623 v3006) a + S1x1024.size a ≤ S40960x1024.size a)
theorem k0_off1623_inb : ∀ (i : grid0.Coords) (v3006 : BitVec 32) (k0_hw1615 : k0_chk1615 i v3006), ∀ (k0_h4 : k0_cond4 i = 1#1), ∀ a, (k0_off1623 v3006) a + S1x1024.size a ≤ S40960x1024.size a := fun i v3006 k0_hw1615 k0_h4 => k0_hw1615 k0_h4

def k0_off1624 (v3011 : BitVec 32) : Fin 2 → Nat :=
  let c0_i32_3282 : BitVec 32 := 0#32
  ![v3011.toNat, 0]

def k0_chk1616 (i : grid0.Coords) (v3011 : BitVec 32) : Prop :=
  (∀ (k0_h4 : k0_cond4 i = 1#1), ∀ a, (k0_off1624 v3011) a + S1x1024.size a ≤ S40960x1024.size a)
theorem k0_off1624_inb : ∀ (i : grid0.Coords) (v3011 : BitVec 32) (k0_hw1616 : k0_chk1616 i v3011), ∀ (k0_h4 : k0_cond4 i = 1#1), ∀ a, (k0_off1624 v3011) a + S1x1024.size a ≤ S40960x1024.size a := fun i v3011 k0_hw1616 k0_h4 => k0_hw1616 k0_h4

def k0_off1625 (v3016 : BitVec 32) : Fin 2 → Nat :=
  let c0_i32_3287 : BitVec 32 := 0#32
  ![v3016.toNat, 0]

def k0_chk1617 (i : grid0.Coords) (v3016 : BitVec 32) : Prop :=
  (∀ (k0_h4 : k0_cond4 i = 1#1), ∀ a, (k0_off1625 v3016) a + S1x1024.size a ≤ S40960x1024.size a)
theorem k0_off1625_inb : ∀ (i : grid0.Coords) (v3016 : BitVec 32) (k0_hw1617 : k0_chk1617 i v3016), ∀ (k0_h4 : k0_cond4 i = 1#1), ∀ a, (k0_off1625 v3016) a + S1x1024.size a ≤ S40960x1024.size a := fun i v3016 k0_hw1617 k0_h4 => k0_hw1617 k0_h4

def k0_off1626 (v3021 : BitVec 32) : Fin 2 → Nat :=
  let c0_i32_3293 : BitVec 32 := 0#32
  ![v3021.toNat, 0]

def k0_chk1618 (i : grid0.Coords) (v3021 : BitVec 32) : Prop :=
  (∀ (k0_h4 : k0_cond4 i = 1#1), ∀ a, (k0_off1626 v3021) a + S1x1024.size a ≤ S40960x1024.size a)
theorem k0_off1626_inb : ∀ (i : grid0.Coords) (v3021 : BitVec 32) (k0_hw1618 : k0_chk1618 i v3021), ∀ (k0_h4 : k0_cond4 i = 1#1), ∀ a, (k0_off1626 v3021) a + S1x1024.size a ≤ S40960x1024.size a := fun i v3021 k0_hw1618 k0_h4 => k0_hw1618 k0_h4

def k0_off1627 (v3026 : BitVec 32) : Fin 2 → Nat :=
  let c0_i32_3298 : BitVec 32 := 0#32
  ![v3026.toNat, 0]

def k0_chk1619 (i : grid0.Coords) (v3026 : BitVec 32) : Prop :=
  (∀ (k0_h4 : k0_cond4 i = 1#1), ∀ a, (k0_off1627 v3026) a + S1x1024.size a ≤ S40960x1024.size a)
theorem k0_off1627_inb : ∀ (i : grid0.Coords) (v3026 : BitVec 32) (k0_hw1619 : k0_chk1619 i v3026), ∀ (k0_h4 : k0_cond4 i = 1#1), ∀ a, (k0_off1627 v3026) a + S1x1024.size a ≤ S40960x1024.size a := fun i v3026 k0_hw1619 k0_h4 => k0_hw1619 k0_h4

def k0_off1628 (v3031 : BitVec 32) : Fin 2 → Nat :=
  let c0_i32_3304 : BitVec 32 := 0#32
  ![v3031.toNat, 0]

def k0_chk1620 (i : grid0.Coords) (v3031 : BitVec 32) : Prop :=
  (∀ (k0_h4 : k0_cond4 i = 1#1), ∀ a, (k0_off1628 v3031) a + S1x1024.size a ≤ S40960x1024.size a)
theorem k0_off1628_inb : ∀ (i : grid0.Coords) (v3031 : BitVec 32) (k0_hw1620 : k0_chk1620 i v3031), ∀ (k0_h4 : k0_cond4 i = 1#1), ∀ a, (k0_off1628 v3031) a + S1x1024.size a ≤ S40960x1024.size a := fun i v3031 k0_hw1620 k0_h4 => k0_hw1620 k0_h4

def k0_off1629 (v3036 : BitVec 32) : Fin 2 → Nat :=
  let c0_i32_3309 : BitVec 32 := 0#32
  ![v3036.toNat, 0]

def k0_chk1621 (i : grid0.Coords) (v3036 : BitVec 32) : Prop :=
  (∀ (k0_h4 : k0_cond4 i = 1#1), ∀ a, (k0_off1629 v3036) a + S1x1024.size a ≤ S40960x1024.size a)
theorem k0_off1629_inb : ∀ (i : grid0.Coords) (v3036 : BitVec 32) (k0_hw1621 : k0_chk1621 i v3036), ∀ (k0_h4 : k0_cond4 i = 1#1), ∀ a, (k0_off1629 v3036) a + S1x1024.size a ≤ S40960x1024.size a := fun i v3036 k0_hw1621 k0_h4 => k0_hw1621 k0_h4

def k0_off1630 (v3041 : BitVec 32) : Fin 2 → Nat :=
  let c0_i32_3315 : BitVec 32 := 0#32
  ![v3041.toNat, 0]

def k0_chk1622 (i : grid0.Coords) (v3041 : BitVec 32) : Prop :=
  (∀ (k0_h4 : k0_cond4 i = 1#1), ∀ a, (k0_off1630 v3041) a + S1x1024.size a ≤ S40960x1024.size a)
theorem k0_off1630_inb : ∀ (i : grid0.Coords) (v3041 : BitVec 32) (k0_hw1622 : k0_chk1622 i v3041), ∀ (k0_h4 : k0_cond4 i = 1#1), ∀ a, (k0_off1630 v3041) a + S1x1024.size a ≤ S40960x1024.size a := fun i v3041 k0_hw1622 k0_h4 => k0_hw1622 k0_h4

def k0_off1631 (v3046 : BitVec 32) : Fin 2 → Nat :=
  let c0_i32_3320 : BitVec 32 := 0#32
  ![v3046.toNat, 0]

def k0_chk1623 (i : grid0.Coords) (v3046 : BitVec 32) : Prop :=
  (∀ (k0_h4 : k0_cond4 i = 1#1), ∀ a, (k0_off1631 v3046) a + S1x1024.size a ≤ S40960x1024.size a)
theorem k0_off1631_inb : ∀ (i : grid0.Coords) (v3046 : BitVec 32) (k0_hw1623 : k0_chk1623 i v3046), ∀ (k0_h4 : k0_cond4 i = 1#1), ∀ a, (k0_off1631 v3046) a + S1x1024.size a ≤ S40960x1024.size a := fun i v3046 k0_hw1623 k0_h4 => k0_hw1623 k0_h4

def k0_off1632 (v3051 : BitVec 32) : Fin 2 → Nat :=
  let c0_i32_3326 : BitVec 32 := 0#32
  ![v3051.toNat, 0]

def k0_chk1624 (i : grid0.Coords) (v3051 : BitVec 32) : Prop :=
  (∀ (k0_h4 : k0_cond4 i = 1#1), ∀ a, (k0_off1632 v3051) a + S1x1024.size a ≤ S40960x1024.size a)
theorem k0_off1632_inb : ∀ (i : grid0.Coords) (v3051 : BitVec 32) (k0_hw1624 : k0_chk1624 i v3051), ∀ (k0_h4 : k0_cond4 i = 1#1), ∀ a, (k0_off1632 v3051) a + S1x1024.size a ≤ S40960x1024.size a := fun i v3051 k0_hw1624 k0_h4 => k0_hw1624 k0_h4

def k0_off1633 (v3056 : BitVec 32) : Fin 2 → Nat :=
  let c0_i32_3331 : BitVec 32 := 0#32
  ![v3056.toNat, 0]

def k0_chk1625 (i : grid0.Coords) (v3056 : BitVec 32) : Prop :=
  (∀ (k0_h4 : k0_cond4 i = 1#1), ∀ a, (k0_off1633 v3056) a + S1x1024.size a ≤ S40960x1024.size a)
theorem k0_off1633_inb : ∀ (i : grid0.Coords) (v3056 : BitVec 32) (k0_hw1625 : k0_chk1625 i v3056), ∀ (k0_h4 : k0_cond4 i = 1#1), ∀ a, (k0_off1633 v3056) a + S1x1024.size a ≤ S40960x1024.size a := fun i v3056 k0_hw1625 k0_h4 => k0_hw1625 k0_h4

def k0_off1634 (v3061 : BitVec 32) : Fin 2 → Nat :=
  let c0_i32_3337 : BitVec 32 := 0#32
  ![v3061.toNat, 0]

def k0_chk1626 (i : grid0.Coords) (v3061 : BitVec 32) : Prop :=
  (∀ (k0_h4 : k0_cond4 i = 1#1), ∀ a, (k0_off1634 v3061) a + S1x1024.size a ≤ S40960x1024.size a)
theorem k0_off1634_inb : ∀ (i : grid0.Coords) (v3061 : BitVec 32) (k0_hw1626 : k0_chk1626 i v3061), ∀ (k0_h4 : k0_cond4 i = 1#1), ∀ a, (k0_off1634 v3061) a + S1x1024.size a ≤ S40960x1024.size a := fun i v3061 k0_hw1626 k0_h4 => k0_hw1626 k0_h4

def k0_off1635 (v3066 : BitVec 32) : Fin 2 → Nat :=
  let c0_i32_3342 : BitVec 32 := 0#32
  ![v3066.toNat, 0]

def k0_chk1627 (i : grid0.Coords) (v3066 : BitVec 32) : Prop :=
  (∀ (k0_h4 : k0_cond4 i = 1#1), ∀ a, (k0_off1635 v3066) a + S1x1024.size a ≤ S40960x1024.size a)
theorem k0_off1635_inb : ∀ (i : grid0.Coords) (v3066 : BitVec 32) (k0_hw1627 : k0_chk1627 i v3066), ∀ (k0_h4 : k0_cond4 i = 1#1), ∀ a, (k0_off1635 v3066) a + S1x1024.size a ≤ S40960x1024.size a := fun i v3066 k0_hw1627 k0_h4 => k0_hw1627 k0_h4

def k0_off1636 (v3071 : BitVec 32) : Fin 2 → Nat :=
  let c0_i32_3348 : BitVec 32 := 0#32
  ![v3071.toNat, 0]

def k0_chk1628 (i : grid0.Coords) (v3071 : BitVec 32) : Prop :=
  (∀ (k0_h4 : k0_cond4 i = 1#1), ∀ a, (k0_off1636 v3071) a + S1x1024.size a ≤ S40960x1024.size a)
theorem k0_off1636_inb : ∀ (i : grid0.Coords) (v3071 : BitVec 32) (k0_hw1628 : k0_chk1628 i v3071), ∀ (k0_h4 : k0_cond4 i = 1#1), ∀ a, (k0_off1636 v3071) a + S1x1024.size a ≤ S40960x1024.size a := fun i v3071 k0_hw1628 k0_h4 => k0_hw1628 k0_h4

def k0_off1637 (v3076 : BitVec 32) : Fin 2 → Nat :=
  let c0_i32_3353 : BitVec 32 := 0#32
  ![v3076.toNat, 0]

def k0_chk1629 (i : grid0.Coords) (v3076 : BitVec 32) : Prop :=
  (∀ (k0_h4 : k0_cond4 i = 1#1), ∀ a, (k0_off1637 v3076) a + S1x1024.size a ≤ S40960x1024.size a)
theorem k0_off1637_inb : ∀ (i : grid0.Coords) (v3076 : BitVec 32) (k0_hw1629 : k0_chk1629 i v3076), ∀ (k0_h4 : k0_cond4 i = 1#1), ∀ a, (k0_off1637 v3076) a + S1x1024.size a ≤ S40960x1024.size a := fun i v3076 k0_hw1629 k0_h4 => k0_hw1629 k0_h4

def k0_off1638 (v3081 : BitVec 32) : Fin 2 → Nat :=
  let c0_i32_3359 : BitVec 32 := 0#32
  ![v3081.toNat, 0]

def k0_chk1630 (i : grid0.Coords) (v3081 : BitVec 32) : Prop :=
  (∀ (k0_h4 : k0_cond4 i = 1#1), ∀ a, (k0_off1638 v3081) a + S1x1024.size a ≤ S40960x1024.size a)
theorem k0_off1638_inb : ∀ (i : grid0.Coords) (v3081 : BitVec 32) (k0_hw1630 : k0_chk1630 i v3081), ∀ (k0_h4 : k0_cond4 i = 1#1), ∀ a, (k0_off1638 v3081) a + S1x1024.size a ≤ S40960x1024.size a := fun i v3081 k0_hw1630 k0_h4 => k0_hw1630 k0_h4

def k0_off1639 (v3086 : BitVec 32) : Fin 2 → Nat :=
  let c0_i32_3364 : BitVec 32 := 0#32
  ![v3086.toNat, 0]

def k0_chk1631 (i : grid0.Coords) (v3086 : BitVec 32) : Prop :=
  (∀ (k0_h4 : k0_cond4 i = 1#1), ∀ a, (k0_off1639 v3086) a + S1x1024.size a ≤ S40960x1024.size a)
theorem k0_off1639_inb : ∀ (i : grid0.Coords) (v3086 : BitVec 32) (k0_hw1631 : k0_chk1631 i v3086), ∀ (k0_h4 : k0_cond4 i = 1#1), ∀ a, (k0_off1639 v3086) a + S1x1024.size a ≤ S40960x1024.size a := fun i v3086 k0_hw1631 k0_h4 => k0_hw1631 k0_h4

def k0_off1640 (v3091 : BitVec 32) : Fin 2 → Nat :=
  let c0_i32_3370 : BitVec 32 := 0#32
  ![v3091.toNat, 0]

def k0_chk1632 (i : grid0.Coords) (v3091 : BitVec 32) : Prop :=
  (∀ (k0_h4 : k0_cond4 i = 1#1), ∀ a, (k0_off1640 v3091) a + S1x1024.size a ≤ S40960x1024.size a)
theorem k0_off1640_inb : ∀ (i : grid0.Coords) (v3091 : BitVec 32) (k0_hw1632 : k0_chk1632 i v3091), ∀ (k0_h4 : k0_cond4 i = 1#1), ∀ a, (k0_off1640 v3091) a + S1x1024.size a ≤ S40960x1024.size a := fun i v3091 k0_hw1632 k0_h4 => k0_hw1632 k0_h4

def k0_off1641 (v3096 : BitVec 32) : Fin 2 → Nat :=
  let c0_i32_3375 : BitVec 32 := 0#32
  ![v3096.toNat, 0]

def k0_chk1633 (i : grid0.Coords) (v3096 : BitVec 32) : Prop :=
  (∀ (k0_h4 : k0_cond4 i = 1#1), ∀ a, (k0_off1641 v3096) a + S1x1024.size a ≤ S40960x1024.size a)
theorem k0_off1641_inb : ∀ (i : grid0.Coords) (v3096 : BitVec 32) (k0_hw1633 : k0_chk1633 i v3096), ∀ (k0_h4 : k0_cond4 i = 1#1), ∀ a, (k0_off1641 v3096) a + S1x1024.size a ≤ S40960x1024.size a := fun i v3096 k0_hw1633 k0_h4 => k0_hw1633 k0_h4

def k0_off1642 (v3101 : BitVec 32) : Fin 2 → Nat :=
  let c0_i32_3381 : BitVec 32 := 0#32
  ![v3101.toNat, 0]

def k0_chk1634 (i : grid0.Coords) (v3101 : BitVec 32) : Prop :=
  (∀ (k0_h4 : k0_cond4 i = 1#1), ∀ a, (k0_off1642 v3101) a + S1x1024.size a ≤ S40960x1024.size a)
theorem k0_off1642_inb : ∀ (i : grid0.Coords) (v3101 : BitVec 32) (k0_hw1634 : k0_chk1634 i v3101), ∀ (k0_h4 : k0_cond4 i = 1#1), ∀ a, (k0_off1642 v3101) a + S1x1024.size a ≤ S40960x1024.size a := fun i v3101 k0_hw1634 k0_h4 => k0_hw1634 k0_h4

def k0_off1643 (v3106 : BitVec 32) : Fin 2 → Nat :=
  let c0_i32_3386 : BitVec 32 := 0#32
  ![v3106.toNat, 0]

def k0_chk1635 (i : grid0.Coords) (v3106 : BitVec 32) : Prop :=
  (∀ (k0_h4 : k0_cond4 i = 1#1), ∀ a, (k0_off1643 v3106) a + S1x1024.size a ≤ S40960x1024.size a)
theorem k0_off1643_inb : ∀ (i : grid0.Coords) (v3106 : BitVec 32) (k0_hw1635 : k0_chk1635 i v3106), ∀ (k0_h4 : k0_cond4 i = 1#1), ∀ a, (k0_off1643 v3106) a + S1x1024.size a ≤ S40960x1024.size a := fun i v3106 k0_hw1635 k0_h4 => k0_hw1635 k0_h4

def k0_off1644 (v3111 : BitVec 32) : Fin 2 → Nat :=
  let c0_i32_3392 : BitVec 32 := 0#32
  ![v3111.toNat, 0]

def k0_chk1636 (i : grid0.Coords) (v3111 : BitVec 32) : Prop :=
  (∀ (k0_h4 : k0_cond4 i = 1#1), ∀ a, (k0_off1644 v3111) a + S1x1024.size a ≤ S40960x1024.size a)
theorem k0_off1644_inb : ∀ (i : grid0.Coords) (v3111 : BitVec 32) (k0_hw1636 : k0_chk1636 i v3111), ∀ (k0_h4 : k0_cond4 i = 1#1), ∀ a, (k0_off1644 v3111) a + S1x1024.size a ≤ S40960x1024.size a := fun i v3111 k0_hw1636 k0_h4 => k0_hw1636 k0_h4

def k0_off1645 (v3116 : BitVec 32) : Fin 2 → Nat :=
  let c0_i32_3397 : BitVec 32 := 0#32
  ![v3116.toNat, 0]

def k0_chk1637 (i : grid0.Coords) (v3116 : BitVec 32) : Prop :=
  (∀ (k0_h4 : k0_cond4 i = 1#1), ∀ a, (k0_off1645 v3116) a + S1x1024.size a ≤ S40960x1024.size a)
theorem k0_off1645_inb : ∀ (i : grid0.Coords) (v3116 : BitVec 32) (k0_hw1637 : k0_chk1637 i v3116), ∀ (k0_h4 : k0_cond4 i = 1#1), ∀ a, (k0_off1645 v3116) a + S1x1024.size a ≤ S40960x1024.size a := fun i v3116 k0_hw1637 k0_h4 => k0_hw1637 k0_h4

def k0_off1646 (v3121 : BitVec 32) : Fin 2 → Nat :=
  let c0_i32_3403 : BitVec 32 := 0#32
  ![v3121.toNat, 0]

def k0_chk1638 (i : grid0.Coords) (v3121 : BitVec 32) : Prop :=
  (∀ (k0_h4 : k0_cond4 i = 1#1), ∀ a, (k0_off1646 v3121) a + S1x1024.size a ≤ S40960x1024.size a)
theorem k0_off1646_inb : ∀ (i : grid0.Coords) (v3121 : BitVec 32) (k0_hw1638 : k0_chk1638 i v3121), ∀ (k0_h4 : k0_cond4 i = 1#1), ∀ a, (k0_off1646 v3121) a + S1x1024.size a ≤ S40960x1024.size a := fun i v3121 k0_hw1638 k0_h4 => k0_hw1638 k0_h4

def k0_off1647 (v3126 : BitVec 32) : Fin 2 → Nat :=
  let c0_i32_3408 : BitVec 32 := 0#32
  ![v3126.toNat, 0]

def k0_chk1639 (i : grid0.Coords) (v3126 : BitVec 32) : Prop :=
  (∀ (k0_h4 : k0_cond4 i = 1#1), ∀ a, (k0_off1647 v3126) a + S1x1024.size a ≤ S40960x1024.size a)
theorem k0_off1647_inb : ∀ (i : grid0.Coords) (v3126 : BitVec 32) (k0_hw1639 : k0_chk1639 i v3126), ∀ (k0_h4 : k0_cond4 i = 1#1), ∀ a, (k0_off1647 v3126) a + S1x1024.size a ≤ S40960x1024.size a := fun i v3126 k0_hw1639 k0_h4 => k0_hw1639 k0_h4

def k0_off1648 (v3131 : BitVec 32) : Fin 2 → Nat :=
  let c0_i32_3414 : BitVec 32 := 0#32
  ![v3131.toNat, 0]

def k0_chk1640 (i : grid0.Coords) (v3131 : BitVec 32) : Prop :=
  (∀ (k0_h4 : k0_cond4 i = 1#1), ∀ a, (k0_off1648 v3131) a + S1x1024.size a ≤ S40960x1024.size a)
theorem k0_off1648_inb : ∀ (i : grid0.Coords) (v3131 : BitVec 32) (k0_hw1640 : k0_chk1640 i v3131), ∀ (k0_h4 : k0_cond4 i = 1#1), ∀ a, (k0_off1648 v3131) a + S1x1024.size a ≤ S40960x1024.size a := fun i v3131 k0_hw1640 k0_h4 => k0_hw1640 k0_h4

def k0_off1649 (v3136 : BitVec 32) : Fin 2 → Nat :=
  let c0_i32_3419 : BitVec 32 := 0#32
  ![v3136.toNat, 0]

def k0_chk1641 (i : grid0.Coords) (v3136 : BitVec 32) : Prop :=
  (∀ (k0_h4 : k0_cond4 i = 1#1), ∀ a, (k0_off1649 v3136) a + S1x1024.size a ≤ S40960x1024.size a)
theorem k0_off1649_inb : ∀ (i : grid0.Coords) (v3136 : BitVec 32) (k0_hw1641 : k0_chk1641 i v3136), ∀ (k0_h4 : k0_cond4 i = 1#1), ∀ a, (k0_off1649 v3136) a + S1x1024.size a ≤ S40960x1024.size a := fun i v3136 k0_hw1641 k0_h4 => k0_hw1641 k0_h4

def k0_off1650 (v3141 : BitVec 32) : Fin 2 → Nat :=
  let c0_i32_3425 : BitVec 32 := 0#32
  ![v3141.toNat, 0]

def k0_chk1642 (i : grid0.Coords) (v3141 : BitVec 32) : Prop :=
  (∀ (k0_h4 : k0_cond4 i = 1#1), ∀ a, (k0_off1650 v3141) a + S1x1024.size a ≤ S40960x1024.size a)
theorem k0_off1650_inb : ∀ (i : grid0.Coords) (v3141 : BitVec 32) (k0_hw1642 : k0_chk1642 i v3141), ∀ (k0_h4 : k0_cond4 i = 1#1), ∀ a, (k0_off1650 v3141) a + S1x1024.size a ≤ S40960x1024.size a := fun i v3141 k0_hw1642 k0_h4 => k0_hw1642 k0_h4

def k0_off1651 (v3146 : BitVec 32) : Fin 2 → Nat :=
  let c0_i32_3430 : BitVec 32 := 0#32
  ![v3146.toNat, 0]

def k0_chk1643 (i : grid0.Coords) (v3146 : BitVec 32) : Prop :=
  (∀ (k0_h4 : k0_cond4 i = 1#1), ∀ a, (k0_off1651 v3146) a + S1x1024.size a ≤ S40960x1024.size a)
theorem k0_off1651_inb : ∀ (i : grid0.Coords) (v3146 : BitVec 32) (k0_hw1643 : k0_chk1643 i v3146), ∀ (k0_h4 : k0_cond4 i = 1#1), ∀ a, (k0_off1651 v3146) a + S1x1024.size a ≤ S40960x1024.size a := fun i v3146 k0_hw1643 k0_h4 => k0_hw1643 k0_h4

def k0_off1652 (v3151 : BitVec 32) : Fin 2 → Nat :=
  let c0_i32_3436 : BitVec 32 := 0#32
  ![v3151.toNat, 0]

def k0_chk1644 (i : grid0.Coords) (v3151 : BitVec 32) : Prop :=
  (∀ (k0_h4 : k0_cond4 i = 1#1), ∀ a, (k0_off1652 v3151) a + S1x1024.size a ≤ S40960x1024.size a)
theorem k0_off1652_inb : ∀ (i : grid0.Coords) (v3151 : BitVec 32) (k0_hw1644 : k0_chk1644 i v3151), ∀ (k0_h4 : k0_cond4 i = 1#1), ∀ a, (k0_off1652 v3151) a + S1x1024.size a ≤ S40960x1024.size a := fun i v3151 k0_hw1644 k0_h4 => k0_hw1644 k0_h4

def k0_off1653 (v3156 : BitVec 32) : Fin 2 → Nat :=
  let c0_i32_3441 : BitVec 32 := 0#32
  ![v3156.toNat, 0]

def k0_chk1645 (i : grid0.Coords) (v3156 : BitVec 32) : Prop :=
  (∀ (k0_h4 : k0_cond4 i = 1#1), ∀ a, (k0_off1653 v3156) a + S1x1024.size a ≤ S40960x1024.size a)
theorem k0_off1653_inb : ∀ (i : grid0.Coords) (v3156 : BitVec 32) (k0_hw1645 : k0_chk1645 i v3156), ∀ (k0_h4 : k0_cond4 i = 1#1), ∀ a, (k0_off1653 v3156) a + S1x1024.size a ≤ S40960x1024.size a := fun i v3156 k0_hw1645 k0_h4 => k0_hw1645 k0_h4

def k0_off1654 (v3161 : BitVec 32) : Fin 2 → Nat :=
  let c0_i32_3447 : BitVec 32 := 0#32
  ![v3161.toNat, 0]

def k0_chk1646 (i : grid0.Coords) (v3161 : BitVec 32) : Prop :=
  (∀ (k0_h4 : k0_cond4 i = 1#1), ∀ a, (k0_off1654 v3161) a + S1x1024.size a ≤ S40960x1024.size a)
theorem k0_off1654_inb : ∀ (i : grid0.Coords) (v3161 : BitVec 32) (k0_hw1646 : k0_chk1646 i v3161), ∀ (k0_h4 : k0_cond4 i = 1#1), ∀ a, (k0_off1654 v3161) a + S1x1024.size a ≤ S40960x1024.size a := fun i v3161 k0_hw1646 k0_h4 => k0_hw1646 k0_h4

def k0_off1655 (v3166 : BitVec 32) : Fin 2 → Nat :=
  let c0_i32_3452 : BitVec 32 := 0#32
  ![v3166.toNat, 0]

def k0_chk1647 (i : grid0.Coords) (v3166 : BitVec 32) : Prop :=
  (∀ (k0_h4 : k0_cond4 i = 1#1), ∀ a, (k0_off1655 v3166) a + S1x1024.size a ≤ S40960x1024.size a)
theorem k0_off1655_inb : ∀ (i : grid0.Coords) (v3166 : BitVec 32) (k0_hw1647 : k0_chk1647 i v3166), ∀ (k0_h4 : k0_cond4 i = 1#1), ∀ a, (k0_off1655 v3166) a + S1x1024.size a ≤ S40960x1024.size a := fun i v3166 k0_hw1647 k0_h4 => k0_hw1647 k0_h4

def k0_off1656 (v3171 : BitVec 32) : Fin 2 → Nat :=
  let c0_i32_3458 : BitVec 32 := 0#32
  ![v3171.toNat, 0]

def k0_chk1648 (i : grid0.Coords) (v3171 : BitVec 32) : Prop :=
  (∀ (k0_h4 : k0_cond4 i = 1#1), ∀ a, (k0_off1656 v3171) a + S1x1024.size a ≤ S40960x1024.size a)
theorem k0_off1656_inb : ∀ (i : grid0.Coords) (v3171 : BitVec 32) (k0_hw1648 : k0_chk1648 i v3171), ∀ (k0_h4 : k0_cond4 i = 1#1), ∀ a, (k0_off1656 v3171) a + S1x1024.size a ≤ S40960x1024.size a := fun i v3171 k0_hw1648 k0_h4 => k0_hw1648 k0_h4

def k0_off1657 (v3176 : BitVec 32) : Fin 2 → Nat :=
  let c0_i32_3463 : BitVec 32 := 0#32
  ![v3176.toNat, 0]

def k0_chk1649 (i : grid0.Coords) (v3176 : BitVec 32) : Prop :=
  (∀ (k0_h4 : k0_cond4 i = 1#1), ∀ a, (k0_off1657 v3176) a + S1x1024.size a ≤ S40960x1024.size a)
theorem k0_off1657_inb : ∀ (i : grid0.Coords) (v3176 : BitVec 32) (k0_hw1649 : k0_chk1649 i v3176), ∀ (k0_h4 : k0_cond4 i = 1#1), ∀ a, (k0_off1657 v3176) a + S1x1024.size a ≤ S40960x1024.size a := fun i v3176 k0_hw1649 k0_h4 => k0_hw1649 k0_h4

def k0_off1658 (v3181 : BitVec 32) : Fin 2 → Nat :=
  let c0_i32_3469 : BitVec 32 := 0#32
  ![v3181.toNat, 0]

def k0_chk1650 (i : grid0.Coords) (v3181 : BitVec 32) : Prop :=
  (∀ (k0_h4 : k0_cond4 i = 1#1), ∀ a, (k0_off1658 v3181) a + S1x1024.size a ≤ S40960x1024.size a)
theorem k0_off1658_inb : ∀ (i : grid0.Coords) (v3181 : BitVec 32) (k0_hw1650 : k0_chk1650 i v3181), ∀ (k0_h4 : k0_cond4 i = 1#1), ∀ a, (k0_off1658 v3181) a + S1x1024.size a ≤ S40960x1024.size a := fun i v3181 k0_hw1650 k0_h4 => k0_hw1650 k0_h4

def k0_off1659 (v3186 : BitVec 32) : Fin 2 → Nat :=
  let c0_i32_3474 : BitVec 32 := 0#32
  ![v3186.toNat, 0]

def k0_chk1651 (i : grid0.Coords) (v3186 : BitVec 32) : Prop :=
  (∀ (k0_h4 : k0_cond4 i = 1#1), ∀ a, (k0_off1659 v3186) a + S1x1024.size a ≤ S40960x1024.size a)
theorem k0_off1659_inb : ∀ (i : grid0.Coords) (v3186 : BitVec 32) (k0_hw1651 : k0_chk1651 i v3186), ∀ (k0_h4 : k0_cond4 i = 1#1), ∀ a, (k0_off1659 v3186) a + S1x1024.size a ≤ S40960x1024.size a := fun i v3186 k0_hw1651 k0_h4 => k0_hw1651 k0_h4

def k0_off1660 (v3191 : BitVec 32) : Fin 2 → Nat :=
  let c0_i32_3480 : BitVec 32 := 0#32
  ![v3191.toNat, 0]

def k0_chk1652 (i : grid0.Coords) (v3191 : BitVec 32) : Prop :=
  (∀ (k0_h4 : k0_cond4 i = 1#1), ∀ a, (k0_off1660 v3191) a + S1x1024.size a ≤ S40960x1024.size a)
theorem k0_off1660_inb : ∀ (i : grid0.Coords) (v3191 : BitVec 32) (k0_hw1652 : k0_chk1652 i v3191), ∀ (k0_h4 : k0_cond4 i = 1#1), ∀ a, (k0_off1660 v3191) a + S1x1024.size a ≤ S40960x1024.size a := fun i v3191 k0_hw1652 k0_h4 => k0_hw1652 k0_h4

def k0_off1661 (v3196 : BitVec 32) : Fin 2 → Nat :=
  let c0_i32_3485 : BitVec 32 := 0#32
  ![v3196.toNat, 0]

def k0_chk1653 (i : grid0.Coords) (v3196 : BitVec 32) : Prop :=
  (∀ (k0_h4 : k0_cond4 i = 1#1), ∀ a, (k0_off1661 v3196) a + S1x1024.size a ≤ S40960x1024.size a)
theorem k0_off1661_inb : ∀ (i : grid0.Coords) (v3196 : BitVec 32) (k0_hw1653 : k0_chk1653 i v3196), ∀ (k0_h4 : k0_cond4 i = 1#1), ∀ a, (k0_off1661 v3196) a + S1x1024.size a ≤ S40960x1024.size a := fun i v3196 k0_hw1653 k0_h4 => k0_hw1653 k0_h4

def k0_off1662 (v3201 : BitVec 32) : Fin 2 → Nat :=
  let c0_i32_3491 : BitVec 32 := 0#32
  ![v3201.toNat, 0]

def k0_chk1654 (i : grid0.Coords) (v3201 : BitVec 32) : Prop :=
  (∀ (k0_h4 : k0_cond4 i = 1#1), ∀ a, (k0_off1662 v3201) a + S1x1024.size a ≤ S40960x1024.size a)
theorem k0_off1662_inb : ∀ (i : grid0.Coords) (v3201 : BitVec 32) (k0_hw1654 : k0_chk1654 i v3201), ∀ (k0_h4 : k0_cond4 i = 1#1), ∀ a, (k0_off1662 v3201) a + S1x1024.size a ≤ S40960x1024.size a := fun i v3201 k0_hw1654 k0_h4 => k0_hw1654 k0_h4

def k0_off1663 (v3206 : BitVec 32) : Fin 2 → Nat :=
  let c0_i32_3496 : BitVec 32 := 0#32
  ![v3206.toNat, 0]

def k0_chk1655 (i : grid0.Coords) (v3206 : BitVec 32) : Prop :=
  (∀ (k0_h4 : k0_cond4 i = 1#1), ∀ a, (k0_off1663 v3206) a + S1x1024.size a ≤ S40960x1024.size a)
theorem k0_off1663_inb : ∀ (i : grid0.Coords) (v3206 : BitVec 32) (k0_hw1655 : k0_chk1655 i v3206), ∀ (k0_h4 : k0_cond4 i = 1#1), ∀ a, (k0_off1663 v3206) a + S1x1024.size a ≤ S40960x1024.size a := fun i v3206 k0_hw1655 k0_h4 => k0_hw1655 k0_h4

def k0_off1664 (v3211 : BitVec 32) : Fin 2 → Nat :=
  let c0_i32_3502 : BitVec 32 := 0#32
  ![v3211.toNat, 0]

def k0_chk1656 (i : grid0.Coords) (v3211 : BitVec 32) : Prop :=
  (∀ (k0_h4 : k0_cond4 i = 1#1), ∀ a, (k0_off1664 v3211) a + S1x1024.size a ≤ S40960x1024.size a)
theorem k0_off1664_inb : ∀ (i : grid0.Coords) (v3211 : BitVec 32) (k0_hw1656 : k0_chk1656 i v3211), ∀ (k0_h4 : k0_cond4 i = 1#1), ∀ a, (k0_off1664 v3211) a + S1x1024.size a ≤ S40960x1024.size a := fun i v3211 k0_hw1656 k0_h4 => k0_hw1656 k0_h4

def k0_off1665 (v3216 : BitVec 32) : Fin 2 → Nat :=
  let c0_i32_3507 : BitVec 32 := 0#32
  ![v3216.toNat, 0]

def k0_chk1657 (i : grid0.Coords) (v3216 : BitVec 32) : Prop :=
  (∀ (k0_h4 : k0_cond4 i = 1#1), ∀ a, (k0_off1665 v3216) a + S1x1024.size a ≤ S40960x1024.size a)
theorem k0_off1665_inb : ∀ (i : grid0.Coords) (v3216 : BitVec 32) (k0_hw1657 : k0_chk1657 i v3216), ∀ (k0_h4 : k0_cond4 i = 1#1), ∀ a, (k0_off1665 v3216) a + S1x1024.size a ≤ S40960x1024.size a := fun i v3216 k0_hw1657 k0_h4 => k0_hw1657 k0_h4

def k0_off1666 (v3221 : BitVec 32) : Fin 2 → Nat :=
  let c0_i32_3513 : BitVec 32 := 0#32
  ![v3221.toNat, 0]

def k0_chk1658 (i : grid0.Coords) (v3221 : BitVec 32) : Prop :=
  (∀ (k0_h4 : k0_cond4 i = 1#1), ∀ a, (k0_off1666 v3221) a + S1x1024.size a ≤ S40960x1024.size a)
theorem k0_off1666_inb : ∀ (i : grid0.Coords) (v3221 : BitVec 32) (k0_hw1658 : k0_chk1658 i v3221), ∀ (k0_h4 : k0_cond4 i = 1#1), ∀ a, (k0_off1666 v3221) a + S1x1024.size a ≤ S40960x1024.size a := fun i v3221 k0_hw1658 k0_h4 => k0_hw1658 k0_h4

def k0_off1667 (v3226 : BitVec 32) : Fin 2 → Nat :=
  let c0_i32_3518 : BitVec 32 := 0#32
  ![v3226.toNat, 0]

def k0_chk1659 (i : grid0.Coords) (v3226 : BitVec 32) : Prop :=
  (∀ (k0_h4 : k0_cond4 i = 1#1), ∀ a, (k0_off1667 v3226) a + S1x1024.size a ≤ S40960x1024.size a)
theorem k0_off1667_inb : ∀ (i : grid0.Coords) (v3226 : BitVec 32) (k0_hw1659 : k0_chk1659 i v3226), ∀ (k0_h4 : k0_cond4 i = 1#1), ∀ a, (k0_off1667 v3226) a + S1x1024.size a ≤ S40960x1024.size a := fun i v3226 k0_hw1659 k0_h4 => k0_hw1659 k0_h4

def k0_off1668 (v3231 : BitVec 32) : Fin 2 → Nat :=
  let c0_i32_3524 : BitVec 32 := 0#32
  ![v3231.toNat, 0]

def k0_chk1660 (i : grid0.Coords) (v3231 : BitVec 32) : Prop :=
  (∀ (k0_h4 : k0_cond4 i = 1#1), ∀ a, (k0_off1668 v3231) a + S1x1024.size a ≤ S40960x1024.size a)
theorem k0_off1668_inb : ∀ (i : grid0.Coords) (v3231 : BitVec 32) (k0_hw1660 : k0_chk1660 i v3231), ∀ (k0_h4 : k0_cond4 i = 1#1), ∀ a, (k0_off1668 v3231) a + S1x1024.size a ≤ S40960x1024.size a := fun i v3231 k0_hw1660 k0_h4 => k0_hw1660 k0_h4

def k0_off1669 (v3236 : BitVec 32) : Fin 2 → Nat :=
  let c0_i32_3529 : BitVec 32 := 0#32
  ![v3236.toNat, 0]

def k0_chk1661 (i : grid0.Coords) (v3236 : BitVec 32) : Prop :=
  (∀ (k0_h4 : k0_cond4 i = 1#1), ∀ a, (k0_off1669 v3236) a + S1x1024.size a ≤ S40960x1024.size a)
theorem k0_off1669_inb : ∀ (i : grid0.Coords) (v3236 : BitVec 32) (k0_hw1661 : k0_chk1661 i v3236), ∀ (k0_h4 : k0_cond4 i = 1#1), ∀ a, (k0_off1669 v3236) a + S1x1024.size a ≤ S40960x1024.size a := fun i v3236 k0_hw1661 k0_h4 => k0_hw1661 k0_h4

def k0_off1670 (v3241 : BitVec 32) : Fin 2 → Nat :=
  let c0_i32_3535 : BitVec 32 := 0#32
  ![v3241.toNat, 0]

def k0_chk1662 (i : grid0.Coords) (v3241 : BitVec 32) : Prop :=
  (∀ (k0_h4 : k0_cond4 i = 1#1), ∀ a, (k0_off1670 v3241) a + S1x1024.size a ≤ S40960x1024.size a)
theorem k0_off1670_inb : ∀ (i : grid0.Coords) (v3241 : BitVec 32) (k0_hw1662 : k0_chk1662 i v3241), ∀ (k0_h4 : k0_cond4 i = 1#1), ∀ a, (k0_off1670 v3241) a + S1x1024.size a ≤ S40960x1024.size a := fun i v3241 k0_hw1662 k0_h4 => k0_hw1662 k0_h4

def k0_off1671 (v3246 : BitVec 32) : Fin 2 → Nat :=
  let c0_i32_3540 : BitVec 32 := 0#32
  ![v3246.toNat, 0]

def k0_chk1663 (i : grid0.Coords) (v3246 : BitVec 32) : Prop :=
  (∀ (k0_h4 : k0_cond4 i = 1#1), ∀ a, (k0_off1671 v3246) a + S1x1024.size a ≤ S40960x1024.size a)
theorem k0_off1671_inb : ∀ (i : grid0.Coords) (v3246 : BitVec 32) (k0_hw1663 : k0_chk1663 i v3246), ∀ (k0_h4 : k0_cond4 i = 1#1), ∀ a, (k0_off1671 v3246) a + S1x1024.size a ≤ S40960x1024.size a := fun i v3246 k0_hw1663 k0_h4 => k0_hw1663 k0_h4

def k0_off1672 (v3251 : BitVec 32) : Fin 2 → Nat :=
  let c0_i32_3546 : BitVec 32 := 0#32
  ![v3251.toNat, 0]

def k0_chk1664 (i : grid0.Coords) (v3251 : BitVec 32) : Prop :=
  (∀ (k0_h4 : k0_cond4 i = 1#1), ∀ a, (k0_off1672 v3251) a + S1x1024.size a ≤ S40960x1024.size a)
theorem k0_off1672_inb : ∀ (i : grid0.Coords) (v3251 : BitVec 32) (k0_hw1664 : k0_chk1664 i v3251), ∀ (k0_h4 : k0_cond4 i = 1#1), ∀ a, (k0_off1672 v3251) a + S1x1024.size a ≤ S40960x1024.size a := fun i v3251 k0_hw1664 k0_h4 => k0_hw1664 k0_h4

def k0_off1673 (v3256 : BitVec 32) : Fin 2 → Nat :=
  let c0_i32_3551 : BitVec 32 := 0#32
  ![v3256.toNat, 0]

def k0_chk1665 (i : grid0.Coords) (v3256 : BitVec 32) : Prop :=
  (∀ (k0_h4 : k0_cond4 i = 1#1), ∀ a, (k0_off1673 v3256) a + S1x1024.size a ≤ S40960x1024.size a)
theorem k0_off1673_inb : ∀ (i : grid0.Coords) (v3256 : BitVec 32) (k0_hw1665 : k0_chk1665 i v3256), ∀ (k0_h4 : k0_cond4 i = 1#1), ∀ a, (k0_off1673 v3256) a + S1x1024.size a ≤ S40960x1024.size a := fun i v3256 k0_hw1665 k0_h4 => k0_hw1665 k0_h4

def k0_off1674 (v3261 : BitVec 32) : Fin 2 → Nat :=
  let c0_i32_3557 : BitVec 32 := 0#32
  ![v3261.toNat, 0]

def k0_chk1666 (i : grid0.Coords) (v3261 : BitVec 32) : Prop :=
  (∀ (k0_h4 : k0_cond4 i = 1#1), ∀ a, (k0_off1674 v3261) a + S1x1024.size a ≤ S40960x1024.size a)
theorem k0_off1674_inb : ∀ (i : grid0.Coords) (v3261 : BitVec 32) (k0_hw1666 : k0_chk1666 i v3261), ∀ (k0_h4 : k0_cond4 i = 1#1), ∀ a, (k0_off1674 v3261) a + S1x1024.size a ≤ S40960x1024.size a := fun i v3261 k0_hw1666 k0_h4 => k0_hw1666 k0_h4

def k0_off1675 (v3266 : BitVec 32) : Fin 2 → Nat :=
  let c0_i32_3562 : BitVec 32 := 0#32
  ![v3266.toNat, 0]

def k0_chk1667 (i : grid0.Coords) (v3266 : BitVec 32) : Prop :=
  (∀ (k0_h4 : k0_cond4 i = 1#1), ∀ a, (k0_off1675 v3266) a + S1x1024.size a ≤ S40960x1024.size a)
theorem k0_off1675_inb : ∀ (i : grid0.Coords) (v3266 : BitVec 32) (k0_hw1667 : k0_chk1667 i v3266), ∀ (k0_h4 : k0_cond4 i = 1#1), ∀ a, (k0_off1675 v3266) a + S1x1024.size a ≤ S40960x1024.size a := fun i v3266 k0_hw1667 k0_h4 => k0_hw1667 k0_h4

def k0_off1676 (v3271 : BitVec 32) : Fin 2 → Nat :=
  let c0_i32_3568 : BitVec 32 := 0#32
  ![v3271.toNat, 0]

def k0_chk1668 (i : grid0.Coords) (v3271 : BitVec 32) : Prop :=
  (∀ (k0_h4 : k0_cond4 i = 1#1), ∀ a, (k0_off1676 v3271) a + S1x1024.size a ≤ S40960x1024.size a)
theorem k0_off1676_inb : ∀ (i : grid0.Coords) (v3271 : BitVec 32) (k0_hw1668 : k0_chk1668 i v3271), ∀ (k0_h4 : k0_cond4 i = 1#1), ∀ a, (k0_off1676 v3271) a + S1x1024.size a ≤ S40960x1024.size a := fun i v3271 k0_hw1668 k0_h4 => k0_hw1668 k0_h4

def k0_off1677 (v3276 : BitVec 32) : Fin 2 → Nat :=
  let c0_i32_3573 : BitVec 32 := 0#32
  ![v3276.toNat, 0]

def k0_chk1669 (i : grid0.Coords) (v3276 : BitVec 32) : Prop :=
  (∀ (k0_h4 : k0_cond4 i = 1#1), ∀ a, (k0_off1677 v3276) a + S1x1024.size a ≤ S40960x1024.size a)
theorem k0_off1677_inb : ∀ (i : grid0.Coords) (v3276 : BitVec 32) (k0_hw1669 : k0_chk1669 i v3276), ∀ (k0_h4 : k0_cond4 i = 1#1), ∀ a, (k0_off1677 v3276) a + S1x1024.size a ≤ S40960x1024.size a := fun i v3276 k0_hw1669 k0_h4 => k0_hw1669 k0_h4

def k0_off1678 (v3281 : BitVec 32) : Fin 2 → Nat :=
  let c0_i32_3579 : BitVec 32 := 0#32
  ![v3281.toNat, 0]

def k0_chk1670 (i : grid0.Coords) (v3281 : BitVec 32) : Prop :=
  (∀ (k0_h4 : k0_cond4 i = 1#1), ∀ a, (k0_off1678 v3281) a + S1x1024.size a ≤ S40960x1024.size a)
theorem k0_off1678_inb : ∀ (i : grid0.Coords) (v3281 : BitVec 32) (k0_hw1670 : k0_chk1670 i v3281), ∀ (k0_h4 : k0_cond4 i = 1#1), ∀ a, (k0_off1678 v3281) a + S1x1024.size a ≤ S40960x1024.size a := fun i v3281 k0_hw1670 k0_h4 => k0_hw1670 k0_h4

def k0_off1679 (v3286 : BitVec 32) : Fin 2 → Nat :=
  let c0_i32_3584 : BitVec 32 := 0#32
  ![v3286.toNat, 0]

def k0_chk1671 (i : grid0.Coords) (v3286 : BitVec 32) : Prop :=
  (∀ (k0_h4 : k0_cond4 i = 1#1), ∀ a, (k0_off1679 v3286) a + S1x1024.size a ≤ S40960x1024.size a)
theorem k0_off1679_inb : ∀ (i : grid0.Coords) (v3286 : BitVec 32) (k0_hw1671 : k0_chk1671 i v3286), ∀ (k0_h4 : k0_cond4 i = 1#1), ∀ a, (k0_off1679 v3286) a + S1x1024.size a ≤ S40960x1024.size a := fun i v3286 k0_hw1671 k0_h4 => k0_hw1671 k0_h4

def k0_off1680 (v3291 : BitVec 32) : Fin 2 → Nat :=
  let c0_i32_3590 : BitVec 32 := 0#32
  ![v3291.toNat, 0]

def k0_chk1672 (i : grid0.Coords) (v3291 : BitVec 32) : Prop :=
  (∀ (k0_h4 : k0_cond4 i = 1#1), ∀ a, (k0_off1680 v3291) a + S1x1024.size a ≤ S40960x1024.size a)
theorem k0_off1680_inb : ∀ (i : grid0.Coords) (v3291 : BitVec 32) (k0_hw1672 : k0_chk1672 i v3291), ∀ (k0_h4 : k0_cond4 i = 1#1), ∀ a, (k0_off1680 v3291) a + S1x1024.size a ≤ S40960x1024.size a := fun i v3291 k0_hw1672 k0_h4 => k0_hw1672 k0_h4

def k0_off1681 (v3296 : BitVec 32) : Fin 2 → Nat :=
  let c0_i32_3595 : BitVec 32 := 0#32
  ![v3296.toNat, 0]

def k0_chk1673 (i : grid0.Coords) (v3296 : BitVec 32) : Prop :=
  (∀ (k0_h4 : k0_cond4 i = 1#1), ∀ a, (k0_off1681 v3296) a + S1x1024.size a ≤ S40960x1024.size a)
theorem k0_off1681_inb : ∀ (i : grid0.Coords) (v3296 : BitVec 32) (k0_hw1673 : k0_chk1673 i v3296), ∀ (k0_h4 : k0_cond4 i = 1#1), ∀ a, (k0_off1681 v3296) a + S1x1024.size a ≤ S40960x1024.size a := fun i v3296 k0_hw1673 k0_h4 => k0_hw1673 k0_h4

def k0_off1682 (v3301 : BitVec 32) : Fin 2 → Nat :=
  let c0_i32_3601 : BitVec 32 := 0#32
  ![v3301.toNat, 0]

def k0_chk1674 (i : grid0.Coords) (v3301 : BitVec 32) : Prop :=
  (∀ (k0_h4 : k0_cond4 i = 1#1), ∀ a, (k0_off1682 v3301) a + S1x1024.size a ≤ S40960x1024.size a)
theorem k0_off1682_inb : ∀ (i : grid0.Coords) (v3301 : BitVec 32) (k0_hw1674 : k0_chk1674 i v3301), ∀ (k0_h4 : k0_cond4 i = 1#1), ∀ a, (k0_off1682 v3301) a + S1x1024.size a ≤ S40960x1024.size a := fun i v3301 k0_hw1674 k0_h4 => k0_hw1674 k0_h4

def k0_off1683 (v3306 : BitVec 32) : Fin 2 → Nat :=
  let c0_i32_3606 : BitVec 32 := 0#32
  ![v3306.toNat, 0]

def k0_chk1675 (i : grid0.Coords) (v3306 : BitVec 32) : Prop :=
  (∀ (k0_h4 : k0_cond4 i = 1#1), ∀ a, (k0_off1683 v3306) a + S1x1024.size a ≤ S40960x1024.size a)
theorem k0_off1683_inb : ∀ (i : grid0.Coords) (v3306 : BitVec 32) (k0_hw1675 : k0_chk1675 i v3306), ∀ (k0_h4 : k0_cond4 i = 1#1), ∀ a, (k0_off1683 v3306) a + S1x1024.size a ≤ S40960x1024.size a := fun i v3306 k0_hw1675 k0_h4 => k0_hw1675 k0_h4

def k0_off1684 (v3311 : BitVec 32) : Fin 2 → Nat :=
  let c0_i32_3612 : BitVec 32 := 0#32
  ![v3311.toNat, 0]

def k0_chk1676 (i : grid0.Coords) (v3311 : BitVec 32) : Prop :=
  (∀ (k0_h4 : k0_cond4 i = 1#1), ∀ a, (k0_off1684 v3311) a + S1x1024.size a ≤ S40960x1024.size a)
theorem k0_off1684_inb : ∀ (i : grid0.Coords) (v3311 : BitVec 32) (k0_hw1676 : k0_chk1676 i v3311), ∀ (k0_h4 : k0_cond4 i = 1#1), ∀ a, (k0_off1684 v3311) a + S1x1024.size a ≤ S40960x1024.size a := fun i v3311 k0_hw1676 k0_h4 => k0_hw1676 k0_h4

def k0_off1685 (v3316 : BitVec 32) : Fin 2 → Nat :=
  let c0_i32_3617 : BitVec 32 := 0#32
  ![v3316.toNat, 0]

def k0_chk1677 (i : grid0.Coords) (v3316 : BitVec 32) : Prop :=
  (∀ (k0_h4 : k0_cond4 i = 1#1), ∀ a, (k0_off1685 v3316) a + S1x1024.size a ≤ S40960x1024.size a)
theorem k0_off1685_inb : ∀ (i : grid0.Coords) (v3316 : BitVec 32) (k0_hw1677 : k0_chk1677 i v3316), ∀ (k0_h4 : k0_cond4 i = 1#1), ∀ a, (k0_off1685 v3316) a + S1x1024.size a ≤ S40960x1024.size a := fun i v3316 k0_hw1677 k0_h4 => k0_hw1677 k0_h4

def k0_off1686 (v3321 : BitVec 32) : Fin 2 → Nat :=
  let c0_i32_3623 : BitVec 32 := 0#32
  ![v3321.toNat, 0]

def k0_chk1678 (i : grid0.Coords) (v3321 : BitVec 32) : Prop :=
  (∀ (k0_h4 : k0_cond4 i = 1#1), ∀ a, (k0_off1686 v3321) a + S1x1024.size a ≤ S40960x1024.size a)
theorem k0_off1686_inb : ∀ (i : grid0.Coords) (v3321 : BitVec 32) (k0_hw1678 : k0_chk1678 i v3321), ∀ (k0_h4 : k0_cond4 i = 1#1), ∀ a, (k0_off1686 v3321) a + S1x1024.size a ≤ S40960x1024.size a := fun i v3321 k0_hw1678 k0_h4 => k0_hw1678 k0_h4

def k0_off1687 (v3326 : BitVec 32) : Fin 2 → Nat :=
  let c0_i32_3628 : BitVec 32 := 0#32
  ![v3326.toNat, 0]

def k0_chk1679 (i : grid0.Coords) (v3326 : BitVec 32) : Prop :=
  (∀ (k0_h4 : k0_cond4 i = 1#1), ∀ a, (k0_off1687 v3326) a + S1x1024.size a ≤ S40960x1024.size a)
theorem k0_off1687_inb : ∀ (i : grid0.Coords) (v3326 : BitVec 32) (k0_hw1679 : k0_chk1679 i v3326), ∀ (k0_h4 : k0_cond4 i = 1#1), ∀ a, (k0_off1687 v3326) a + S1x1024.size a ≤ S40960x1024.size a := fun i v3326 k0_hw1679 k0_h4 => k0_hw1679 k0_h4

def k0_off1688 (v3331 : BitVec 32) : Fin 2 → Nat :=
  let c0_i32_3634 : BitVec 32 := 0#32
  ![v3331.toNat, 0]

def k0_chk1680 (i : grid0.Coords) (v3331 : BitVec 32) : Prop :=
  (∀ (k0_h4 : k0_cond4 i = 1#1), ∀ a, (k0_off1688 v3331) a + S1x1024.size a ≤ S40960x1024.size a)
theorem k0_off1688_inb : ∀ (i : grid0.Coords) (v3331 : BitVec 32) (k0_hw1680 : k0_chk1680 i v3331), ∀ (k0_h4 : k0_cond4 i = 1#1), ∀ a, (k0_off1688 v3331) a + S1x1024.size a ≤ S40960x1024.size a := fun i v3331 k0_hw1680 k0_h4 => k0_hw1680 k0_h4

def k0_off1689 (v3336 : BitVec 32) : Fin 2 → Nat :=
  let c0_i32_3639 : BitVec 32 := 0#32
  ![v3336.toNat, 0]

def k0_chk1681 (i : grid0.Coords) (v3336 : BitVec 32) : Prop :=
  (∀ (k0_h4 : k0_cond4 i = 1#1), ∀ a, (k0_off1689 v3336) a + S1x1024.size a ≤ S40960x1024.size a)
theorem k0_off1689_inb : ∀ (i : grid0.Coords) (v3336 : BitVec 32) (k0_hw1681 : k0_chk1681 i v3336), ∀ (k0_h4 : k0_cond4 i = 1#1), ∀ a, (k0_off1689 v3336) a + S1x1024.size a ≤ S40960x1024.size a := fun i v3336 k0_hw1681 k0_h4 => k0_hw1681 k0_h4

def k0_off1690 (v3341 : BitVec 32) : Fin 2 → Nat :=
  let c0_i32_3645 : BitVec 32 := 0#32
  ![v3341.toNat, 0]

def k0_chk1682 (i : grid0.Coords) (v3341 : BitVec 32) : Prop :=
  (∀ (k0_h4 : k0_cond4 i = 1#1), ∀ a, (k0_off1690 v3341) a + S1x1024.size a ≤ S40960x1024.size a)
theorem k0_off1690_inb : ∀ (i : grid0.Coords) (v3341 : BitVec 32) (k0_hw1682 : k0_chk1682 i v3341), ∀ (k0_h4 : k0_cond4 i = 1#1), ∀ a, (k0_off1690 v3341) a + S1x1024.size a ≤ S40960x1024.size a := fun i v3341 k0_hw1682 k0_h4 => k0_hw1682 k0_h4

def k0_off1691 (v3346 : BitVec 32) : Fin 2 → Nat :=
  let c0_i32_3650 : BitVec 32 := 0#32
  ![v3346.toNat, 0]

def k0_chk1683 (i : grid0.Coords) (v3346 : BitVec 32) : Prop :=
  (∀ (k0_h4 : k0_cond4 i = 1#1), ∀ a, (k0_off1691 v3346) a + S1x1024.size a ≤ S40960x1024.size a)
theorem k0_off1691_inb : ∀ (i : grid0.Coords) (v3346 : BitVec 32) (k0_hw1683 : k0_chk1683 i v3346), ∀ (k0_h4 : k0_cond4 i = 1#1), ∀ a, (k0_off1691 v3346) a + S1x1024.size a ≤ S40960x1024.size a := fun i v3346 k0_hw1683 k0_h4 => k0_hw1683 k0_h4

def k0_off1692 (v3351 : BitVec 32) : Fin 2 → Nat :=
  let c0_i32_3656 : BitVec 32 := 0#32
  ![v3351.toNat, 0]

def k0_chk1684 (i : grid0.Coords) (v3351 : BitVec 32) : Prop :=
  (∀ (k0_h4 : k0_cond4 i = 1#1), ∀ a, (k0_off1692 v3351) a + S1x1024.size a ≤ S40960x1024.size a)
theorem k0_off1692_inb : ∀ (i : grid0.Coords) (v3351 : BitVec 32) (k0_hw1684 : k0_chk1684 i v3351), ∀ (k0_h4 : k0_cond4 i = 1#1), ∀ a, (k0_off1692 v3351) a + S1x1024.size a ≤ S40960x1024.size a := fun i v3351 k0_hw1684 k0_h4 => k0_hw1684 k0_h4

def k0_off1693 (v3356 : BitVec 32) : Fin 2 → Nat :=
  let c0_i32_3661 : BitVec 32 := 0#32
  ![v3356.toNat, 0]

def k0_chk1685 (i : grid0.Coords) (v3356 : BitVec 32) : Prop :=
  (∀ (k0_h4 : k0_cond4 i = 1#1), ∀ a, (k0_off1693 v3356) a + S1x1024.size a ≤ S40960x1024.size a)
theorem k0_off1693_inb : ∀ (i : grid0.Coords) (v3356 : BitVec 32) (k0_hw1685 : k0_chk1685 i v3356), ∀ (k0_h4 : k0_cond4 i = 1#1), ∀ a, (k0_off1693 v3356) a + S1x1024.size a ≤ S40960x1024.size a := fun i v3356 k0_hw1685 k0_h4 => k0_hw1685 k0_h4

def k0_off1694 (v3361 : BitVec 32) : Fin 2 → Nat :=
  let c0_i32_3667 : BitVec 32 := 0#32
  ![v3361.toNat, 0]

def k0_chk1686 (i : grid0.Coords) (v3361 : BitVec 32) : Prop :=
  (∀ (k0_h4 : k0_cond4 i = 1#1), ∀ a, (k0_off1694 v3361) a + S1x1024.size a ≤ S40960x1024.size a)
theorem k0_off1694_inb : ∀ (i : grid0.Coords) (v3361 : BitVec 32) (k0_hw1686 : k0_chk1686 i v3361), ∀ (k0_h4 : k0_cond4 i = 1#1), ∀ a, (k0_off1694 v3361) a + S1x1024.size a ≤ S40960x1024.size a := fun i v3361 k0_hw1686 k0_h4 => k0_hw1686 k0_h4

def k0_off1695 (v3366 : BitVec 32) : Fin 2 → Nat :=
  let c0_i32_3672 : BitVec 32 := 0#32
  ![v3366.toNat, 0]

def k0_chk1687 (i : grid0.Coords) (v3366 : BitVec 32) : Prop :=
  (∀ (k0_h4 : k0_cond4 i = 1#1), ∀ a, (k0_off1695 v3366) a + S1x1024.size a ≤ S40960x1024.size a)
theorem k0_off1695_inb : ∀ (i : grid0.Coords) (v3366 : BitVec 32) (k0_hw1687 : k0_chk1687 i v3366), ∀ (k0_h4 : k0_cond4 i = 1#1), ∀ a, (k0_off1695 v3366) a + S1x1024.size a ≤ S40960x1024.size a := fun i v3366 k0_hw1687 k0_h4 => k0_hw1687 k0_h4

def k0_off1696 (v3371 : BitVec 32) : Fin 2 → Nat :=
  let c0_i32_3678 : BitVec 32 := 0#32
  ![v3371.toNat, 0]

def k0_chk1688 (i : grid0.Coords) (v3371 : BitVec 32) : Prop :=
  (∀ (k0_h4 : k0_cond4 i = 1#1), ∀ a, (k0_off1696 v3371) a + S1x1024.size a ≤ S40960x1024.size a)
theorem k0_off1696_inb : ∀ (i : grid0.Coords) (v3371 : BitVec 32) (k0_hw1688 : k0_chk1688 i v3371), ∀ (k0_h4 : k0_cond4 i = 1#1), ∀ a, (k0_off1696 v3371) a + S1x1024.size a ≤ S40960x1024.size a := fun i v3371 k0_hw1688 k0_h4 => k0_hw1688 k0_h4

def k0_off1697 (v3376 : BitVec 32) : Fin 2 → Nat :=
  let c0_i32_3683 : BitVec 32 := 0#32
  ![v3376.toNat, 0]

def k0_chk1689 (i : grid0.Coords) (v3376 : BitVec 32) : Prop :=
  (∀ (k0_h4 : k0_cond4 i = 1#1), ∀ a, (k0_off1697 v3376) a + S1x1024.size a ≤ S40960x1024.size a)
theorem k0_off1697_inb : ∀ (i : grid0.Coords) (v3376 : BitVec 32) (k0_hw1689 : k0_chk1689 i v3376), ∀ (k0_h4 : k0_cond4 i = 1#1), ∀ a, (k0_off1697 v3376) a + S1x1024.size a ≤ S40960x1024.size a := fun i v3376 k0_hw1689 k0_h4 => k0_hw1689 k0_h4

def k0_off1698 (v3381 : BitVec 32) : Fin 2 → Nat :=
  let c0_i32_3689 : BitVec 32 := 0#32
  ![v3381.toNat, 0]

def k0_chk1690 (i : grid0.Coords) (v3381 : BitVec 32) : Prop :=
  (∀ (k0_h4 : k0_cond4 i = 1#1), ∀ a, (k0_off1698 v3381) a + S1x1024.size a ≤ S40960x1024.size a)
theorem k0_off1698_inb : ∀ (i : grid0.Coords) (v3381 : BitVec 32) (k0_hw1690 : k0_chk1690 i v3381), ∀ (k0_h4 : k0_cond4 i = 1#1), ∀ a, (k0_off1698 v3381) a + S1x1024.size a ≤ S40960x1024.size a := fun i v3381 k0_hw1690 k0_h4 => k0_hw1690 k0_h4

def k0_off1699 (v3386 : BitVec 32) : Fin 2 → Nat :=
  let c0_i32_3694 : BitVec 32 := 0#32
  ![v3386.toNat, 0]

def k0_chk1691 (i : grid0.Coords) (v3386 : BitVec 32) : Prop :=
  (∀ (k0_h4 : k0_cond4 i = 1#1), ∀ a, (k0_off1699 v3386) a + S1x1024.size a ≤ S40960x1024.size a)
theorem k0_off1699_inb : ∀ (i : grid0.Coords) (v3386 : BitVec 32) (k0_hw1691 : k0_chk1691 i v3386), ∀ (k0_h4 : k0_cond4 i = 1#1), ∀ a, (k0_off1699 v3386) a + S1x1024.size a ≤ S40960x1024.size a := fun i v3386 k0_hw1691 k0_h4 => k0_hw1691 k0_h4

def k0_off1700 (v3391 : BitVec 32) : Fin 2 → Nat :=
  let c0_i32_3700 : BitVec 32 := 0#32
  ![v3391.toNat, 0]

def k0_chk1692 (i : grid0.Coords) (v3391 : BitVec 32) : Prop :=
  (∀ (k0_h4 : k0_cond4 i = 1#1), ∀ a, (k0_off1700 v3391) a + S1x1024.size a ≤ S40960x1024.size a)
theorem k0_off1700_inb : ∀ (i : grid0.Coords) (v3391 : BitVec 32) (k0_hw1692 : k0_chk1692 i v3391), ∀ (k0_h4 : k0_cond4 i = 1#1), ∀ a, (k0_off1700 v3391) a + S1x1024.size a ≤ S40960x1024.size a := fun i v3391 k0_hw1692 k0_h4 => k0_hw1692 k0_h4

def k0_off1701 (v3396 : BitVec 32) : Fin 2 → Nat :=
  let c0_i32_3705 : BitVec 32 := 0#32
  ![v3396.toNat, 0]

def k0_chk1693 (i : grid0.Coords) (v3396 : BitVec 32) : Prop :=
  (∀ (k0_h4 : k0_cond4 i = 1#1), ∀ a, (k0_off1701 v3396) a + S1x1024.size a ≤ S40960x1024.size a)
theorem k0_off1701_inb : ∀ (i : grid0.Coords) (v3396 : BitVec 32) (k0_hw1693 : k0_chk1693 i v3396), ∀ (k0_h4 : k0_cond4 i = 1#1), ∀ a, (k0_off1701 v3396) a + S1x1024.size a ≤ S40960x1024.size a := fun i v3396 k0_hw1693 k0_h4 => k0_hw1693 k0_h4

def k0_off1702 (v3401 : BitVec 32) : Fin 2 → Nat :=
  let c0_i32_3711 : BitVec 32 := 0#32
  ![v3401.toNat, 0]

def k0_chk1694 (i : grid0.Coords) (v3401 : BitVec 32) : Prop :=
  (∀ (k0_h4 : k0_cond4 i = 1#1), ∀ a, (k0_off1702 v3401) a + S1x1024.size a ≤ S40960x1024.size a)
theorem k0_off1702_inb : ∀ (i : grid0.Coords) (v3401 : BitVec 32) (k0_hw1694 : k0_chk1694 i v3401), ∀ (k0_h4 : k0_cond4 i = 1#1), ∀ a, (k0_off1702 v3401) a + S1x1024.size a ≤ S40960x1024.size a := fun i v3401 k0_hw1694 k0_h4 => k0_hw1694 k0_h4

def k0_off1703 (v3406 : BitVec 32) : Fin 2 → Nat :=
  let c0_i32_3716 : BitVec 32 := 0#32
  ![v3406.toNat, 0]

def k0_chk1695 (i : grid0.Coords) (v3406 : BitVec 32) : Prop :=
  (∀ (k0_h4 : k0_cond4 i = 1#1), ∀ a, (k0_off1703 v3406) a + S1x1024.size a ≤ S40960x1024.size a)
theorem k0_off1703_inb : ∀ (i : grid0.Coords) (v3406 : BitVec 32) (k0_hw1695 : k0_chk1695 i v3406), ∀ (k0_h4 : k0_cond4 i = 1#1), ∀ a, (k0_off1703 v3406) a + S1x1024.size a ≤ S40960x1024.size a := fun i v3406 k0_hw1695 k0_h4 => k0_hw1695 k0_h4

def k0_off1704 (v3411 : BitVec 32) : Fin 2 → Nat :=
  let c0_i32_3722 : BitVec 32 := 0#32
  ![v3411.toNat, 0]

def k0_chk1696 (i : grid0.Coords) (v3411 : BitVec 32) : Prop :=
  (∀ (k0_h4 : k0_cond4 i = 1#1), ∀ a, (k0_off1704 v3411) a + S1x1024.size a ≤ S40960x1024.size a)
theorem k0_off1704_inb : ∀ (i : grid0.Coords) (v3411 : BitVec 32) (k0_hw1696 : k0_chk1696 i v3411), ∀ (k0_h4 : k0_cond4 i = 1#1), ∀ a, (k0_off1704 v3411) a + S1x1024.size a ≤ S40960x1024.size a := fun i v3411 k0_hw1696 k0_h4 => k0_hw1696 k0_h4

def k0_off1705 (v3416 : BitVec 32) : Fin 2 → Nat :=
  let c0_i32_3727 : BitVec 32 := 0#32
  ![v3416.toNat, 0]

def k0_chk1697 (i : grid0.Coords) (v3416 : BitVec 32) : Prop :=
  (∀ (k0_h4 : k0_cond4 i = 1#1), ∀ a, (k0_off1705 v3416) a + S1x1024.size a ≤ S40960x1024.size a)
theorem k0_off1705_inb : ∀ (i : grid0.Coords) (v3416 : BitVec 32) (k0_hw1697 : k0_chk1697 i v3416), ∀ (k0_h4 : k0_cond4 i = 1#1), ∀ a, (k0_off1705 v3416) a + S1x1024.size a ≤ S40960x1024.size a := fun i v3416 k0_hw1697 k0_h4 => k0_hw1697 k0_h4

def k0_off1706 (v3421 : BitVec 32) : Fin 2 → Nat :=
  let c0_i32_3733 : BitVec 32 := 0#32
  ![v3421.toNat, 0]

def k0_chk1698 (i : grid0.Coords) (v3421 : BitVec 32) : Prop :=
  (∀ (k0_h4 : k0_cond4 i = 1#1), ∀ a, (k0_off1706 v3421) a + S1x1024.size a ≤ S40960x1024.size a)
theorem k0_off1706_inb : ∀ (i : grid0.Coords) (v3421 : BitVec 32) (k0_hw1698 : k0_chk1698 i v3421), ∀ (k0_h4 : k0_cond4 i = 1#1), ∀ a, (k0_off1706 v3421) a + S1x1024.size a ≤ S40960x1024.size a := fun i v3421 k0_hw1698 k0_h4 => k0_hw1698 k0_h4

def k0_off1707 (v3426 : BitVec 32) : Fin 2 → Nat :=
  let c0_i32_3738 : BitVec 32 := 0#32
  ![v3426.toNat, 0]

def k0_chk1699 (i : grid0.Coords) (v3426 : BitVec 32) : Prop :=
  (∀ (k0_h4 : k0_cond4 i = 1#1), ∀ a, (k0_off1707 v3426) a + S1x1024.size a ≤ S40960x1024.size a)
theorem k0_off1707_inb : ∀ (i : grid0.Coords) (v3426 : BitVec 32) (k0_hw1699 : k0_chk1699 i v3426), ∀ (k0_h4 : k0_cond4 i = 1#1), ∀ a, (k0_off1707 v3426) a + S1x1024.size a ≤ S40960x1024.size a := fun i v3426 k0_hw1699 k0_h4 => k0_hw1699 k0_h4

def k0_off1708 (v3431 : BitVec 32) : Fin 2 → Nat :=
  let c0_i32_3744 : BitVec 32 := 0#32
  ![v3431.toNat, 0]

def k0_chk1700 (i : grid0.Coords) (v3431 : BitVec 32) : Prop :=
  (∀ (k0_h4 : k0_cond4 i = 1#1), ∀ a, (k0_off1708 v3431) a + S1x1024.size a ≤ S40960x1024.size a)
theorem k0_off1708_inb : ∀ (i : grid0.Coords) (v3431 : BitVec 32) (k0_hw1700 : k0_chk1700 i v3431), ∀ (k0_h4 : k0_cond4 i = 1#1), ∀ a, (k0_off1708 v3431) a + S1x1024.size a ≤ S40960x1024.size a := fun i v3431 k0_hw1700 k0_h4 => k0_hw1700 k0_h4

def k0_off1709 (v3436 : BitVec 32) : Fin 2 → Nat :=
  let c0_i32_3749 : BitVec 32 := 0#32
  ![v3436.toNat, 0]

def k0_chk1701 (i : grid0.Coords) (v3436 : BitVec 32) : Prop :=
  (∀ (k0_h4 : k0_cond4 i = 1#1), ∀ a, (k0_off1709 v3436) a + S1x1024.size a ≤ S40960x1024.size a)
theorem k0_off1709_inb : ∀ (i : grid0.Coords) (v3436 : BitVec 32) (k0_hw1701 : k0_chk1701 i v3436), ∀ (k0_h4 : k0_cond4 i = 1#1), ∀ a, (k0_off1709 v3436) a + S1x1024.size a ≤ S40960x1024.size a := fun i v3436 k0_hw1701 k0_h4 => k0_hw1701 k0_h4

def k0_off1710 (v3441 : BitVec 32) : Fin 2 → Nat :=
  let c0_i32_3755 : BitVec 32 := 0#32
  ![v3441.toNat, 0]

def k0_chk1702 (i : grid0.Coords) (v3441 : BitVec 32) : Prop :=
  (∀ (k0_h4 : k0_cond4 i = 1#1), ∀ a, (k0_off1710 v3441) a + S1x1024.size a ≤ S40960x1024.size a)
theorem k0_off1710_inb : ∀ (i : grid0.Coords) (v3441 : BitVec 32) (k0_hw1702 : k0_chk1702 i v3441), ∀ (k0_h4 : k0_cond4 i = 1#1), ∀ a, (k0_off1710 v3441) a + S1x1024.size a ≤ S40960x1024.size a := fun i v3441 k0_hw1702 k0_h4 => k0_hw1702 k0_h4

def k0_off1711 (v3446 : BitVec 32) : Fin 2 → Nat :=
  let c0_i32_3760 : BitVec 32 := 0#32
  ![v3446.toNat, 0]

def k0_chk1703 (i : grid0.Coords) (v3446 : BitVec 32) : Prop :=
  (∀ (k0_h4 : k0_cond4 i = 1#1), ∀ a, (k0_off1711 v3446) a + S1x1024.size a ≤ S40960x1024.size a)
theorem k0_off1711_inb : ∀ (i : grid0.Coords) (v3446 : BitVec 32) (k0_hw1703 : k0_chk1703 i v3446), ∀ (k0_h4 : k0_cond4 i = 1#1), ∀ a, (k0_off1711 v3446) a + S1x1024.size a ≤ S40960x1024.size a := fun i v3446 k0_hw1703 k0_h4 => k0_hw1703 k0_h4

def k0_off1712 (v3451 : BitVec 32) : Fin 2 → Nat :=
  let c0_i32_3766 : BitVec 32 := 0#32
  ![v3451.toNat, 0]

def k0_chk1704 (i : grid0.Coords) (v3451 : BitVec 32) : Prop :=
  (∀ (k0_h4 : k0_cond4 i = 1#1), ∀ a, (k0_off1712 v3451) a + S1x1024.size a ≤ S40960x1024.size a)
theorem k0_off1712_inb : ∀ (i : grid0.Coords) (v3451 : BitVec 32) (k0_hw1704 : k0_chk1704 i v3451), ∀ (k0_h4 : k0_cond4 i = 1#1), ∀ a, (k0_off1712 v3451) a + S1x1024.size a ≤ S40960x1024.size a := fun i v3451 k0_hw1704 k0_h4 => k0_hw1704 k0_h4

def k0_off1713 (v3456 : BitVec 32) : Fin 2 → Nat :=
  let c0_i32_3771 : BitVec 32 := 0#32
  ![v3456.toNat, 0]

def k0_chk1705 (i : grid0.Coords) (v3456 : BitVec 32) : Prop :=
  (∀ (k0_h4 : k0_cond4 i = 1#1), ∀ a, (k0_off1713 v3456) a + S1x1024.size a ≤ S40960x1024.size a)
theorem k0_off1713_inb : ∀ (i : grid0.Coords) (v3456 : BitVec 32) (k0_hw1705 : k0_chk1705 i v3456), ∀ (k0_h4 : k0_cond4 i = 1#1), ∀ a, (k0_off1713 v3456) a + S1x1024.size a ≤ S40960x1024.size a := fun i v3456 k0_hw1705 k0_h4 => k0_hw1705 k0_h4

def k0_off1714 (v3461 : BitVec 32) : Fin 2 → Nat :=
  let c0_i32_3777 : BitVec 32 := 0#32
  ![v3461.toNat, 0]

def k0_chk1706 (i : grid0.Coords) (v3461 : BitVec 32) : Prop :=
  (∀ (k0_h4 : k0_cond4 i = 1#1), ∀ a, (k0_off1714 v3461) a + S1x1024.size a ≤ S40960x1024.size a)
theorem k0_off1714_inb : ∀ (i : grid0.Coords) (v3461 : BitVec 32) (k0_hw1706 : k0_chk1706 i v3461), ∀ (k0_h4 : k0_cond4 i = 1#1), ∀ a, (k0_off1714 v3461) a + S1x1024.size a ≤ S40960x1024.size a := fun i v3461 k0_hw1706 k0_h4 => k0_hw1706 k0_h4

def k0_off1715 (v3466 : BitVec 32) : Fin 2 → Nat :=
  let c0_i32_3782 : BitVec 32 := 0#32
  ![v3466.toNat, 0]

def k0_chk1707 (i : grid0.Coords) (v3466 : BitVec 32) : Prop :=
  (∀ (k0_h4 : k0_cond4 i = 1#1), ∀ a, (k0_off1715 v3466) a + S1x1024.size a ≤ S40960x1024.size a)
theorem k0_off1715_inb : ∀ (i : grid0.Coords) (v3466 : BitVec 32) (k0_hw1707 : k0_chk1707 i v3466), ∀ (k0_h4 : k0_cond4 i = 1#1), ∀ a, (k0_off1715 v3466) a + S1x1024.size a ≤ S40960x1024.size a := fun i v3466 k0_hw1707 k0_h4 => k0_hw1707 k0_h4

def k0_off1716 (v3471 : BitVec 32) : Fin 2 → Nat :=
  let c0_i32_3788 : BitVec 32 := 0#32
  ![v3471.toNat, 0]

def k0_chk1708 (i : grid0.Coords) (v3471 : BitVec 32) : Prop :=
  (∀ (k0_h4 : k0_cond4 i = 1#1), ∀ a, (k0_off1716 v3471) a + S1x1024.size a ≤ S40960x1024.size a)
theorem k0_off1716_inb : ∀ (i : grid0.Coords) (v3471 : BitVec 32) (k0_hw1708 : k0_chk1708 i v3471), ∀ (k0_h4 : k0_cond4 i = 1#1), ∀ a, (k0_off1716 v3471) a + S1x1024.size a ≤ S40960x1024.size a := fun i v3471 k0_hw1708 k0_h4 => k0_hw1708 k0_h4

def k0_off1717 (v3476 : BitVec 32) : Fin 2 → Nat :=
  let c0_i32_3793 : BitVec 32 := 0#32
  ![v3476.toNat, 0]

def k0_chk1709 (i : grid0.Coords) (v3476 : BitVec 32) : Prop :=
  (∀ (k0_h4 : k0_cond4 i = 1#1), ∀ a, (k0_off1717 v3476) a + S1x1024.size a ≤ S40960x1024.size a)
theorem k0_off1717_inb : ∀ (i : grid0.Coords) (v3476 : BitVec 32) (k0_hw1709 : k0_chk1709 i v3476), ∀ (k0_h4 : k0_cond4 i = 1#1), ∀ a, (k0_off1717 v3476) a + S1x1024.size a ≤ S40960x1024.size a := fun i v3476 k0_hw1709 k0_h4 => k0_hw1709 k0_h4

def k0_off1718 (v3481 : BitVec 32) : Fin 2 → Nat :=
  let c0_i32_3799 : BitVec 32 := 0#32
  ![v3481.toNat, 0]

def k0_chk1710 (i : grid0.Coords) (v3481 : BitVec 32) : Prop :=
  (∀ (k0_h4 : k0_cond4 i = 1#1), ∀ a, (k0_off1718 v3481) a + S1x1024.size a ≤ S40960x1024.size a)
theorem k0_off1718_inb : ∀ (i : grid0.Coords) (v3481 : BitVec 32) (k0_hw1710 : k0_chk1710 i v3481), ∀ (k0_h4 : k0_cond4 i = 1#1), ∀ a, (k0_off1718 v3481) a + S1x1024.size a ≤ S40960x1024.size a := fun i v3481 k0_hw1710 k0_h4 => k0_hw1710 k0_h4

def k0_off1719 (v3486 : BitVec 32) : Fin 2 → Nat :=
  let c0_i32_3804 : BitVec 32 := 0#32
  ![v3486.toNat, 0]

def k0_chk1711 (i : grid0.Coords) (v3486 : BitVec 32) : Prop :=
  (∀ (k0_h4 : k0_cond4 i = 1#1), ∀ a, (k0_off1719 v3486) a + S1x1024.size a ≤ S40960x1024.size a)
theorem k0_off1719_inb : ∀ (i : grid0.Coords) (v3486 : BitVec 32) (k0_hw1711 : k0_chk1711 i v3486), ∀ (k0_h4 : k0_cond4 i = 1#1), ∀ a, (k0_off1719 v3486) a + S1x1024.size a ≤ S40960x1024.size a := fun i v3486 k0_hw1711 k0_h4 => k0_hw1711 k0_h4

def k0_off1720 (v3491 : BitVec 32) : Fin 2 → Nat :=
  let c0_i32_3810 : BitVec 32 := 0#32
  ![v3491.toNat, 0]

def k0_chk1712 (i : grid0.Coords) (v3491 : BitVec 32) : Prop :=
  (∀ (k0_h4 : k0_cond4 i = 1#1), ∀ a, (k0_off1720 v3491) a + S1x1024.size a ≤ S40960x1024.size a)
theorem k0_off1720_inb : ∀ (i : grid0.Coords) (v3491 : BitVec 32) (k0_hw1712 : k0_chk1712 i v3491), ∀ (k0_h4 : k0_cond4 i = 1#1), ∀ a, (k0_off1720 v3491) a + S1x1024.size a ≤ S40960x1024.size a := fun i v3491 k0_hw1712 k0_h4 => k0_hw1712 k0_h4

def k0_off1721 (v3496 : BitVec 32) : Fin 2 → Nat :=
  let c0_i32_3815 : BitVec 32 := 0#32
  ![v3496.toNat, 0]

def k0_chk1713 (i : grid0.Coords) (v3496 : BitVec 32) : Prop :=
  (∀ (k0_h4 : k0_cond4 i = 1#1), ∀ a, (k0_off1721 v3496) a + S1x1024.size a ≤ S40960x1024.size a)
theorem k0_off1721_inb : ∀ (i : grid0.Coords) (v3496 : BitVec 32) (k0_hw1713 : k0_chk1713 i v3496), ∀ (k0_h4 : k0_cond4 i = 1#1), ∀ a, (k0_off1721 v3496) a + S1x1024.size a ≤ S40960x1024.size a := fun i v3496 k0_hw1713 k0_h4 => k0_hw1713 k0_h4

def k0_off1722 (v3501 : BitVec 32) : Fin 2 → Nat :=
  let c0_i32_3821 : BitVec 32 := 0#32
  ![v3501.toNat, 0]

def k0_chk1714 (i : grid0.Coords) (v3501 : BitVec 32) : Prop :=
  (∀ (k0_h4 : k0_cond4 i = 1#1), ∀ a, (k0_off1722 v3501) a + S1x1024.size a ≤ S40960x1024.size a)
theorem k0_off1722_inb : ∀ (i : grid0.Coords) (v3501 : BitVec 32) (k0_hw1714 : k0_chk1714 i v3501), ∀ (k0_h4 : k0_cond4 i = 1#1), ∀ a, (k0_off1722 v3501) a + S1x1024.size a ≤ S40960x1024.size a := fun i v3501 k0_hw1714 k0_h4 => k0_hw1714 k0_h4

def k0_off1723 (v3506 : BitVec 32) : Fin 2 → Nat :=
  let c0_i32_3826 : BitVec 32 := 0#32
  ![v3506.toNat, 0]

def k0_chk1715 (i : grid0.Coords) (v3506 : BitVec 32) : Prop :=
  (∀ (k0_h4 : k0_cond4 i = 1#1), ∀ a, (k0_off1723 v3506) a + S1x1024.size a ≤ S40960x1024.size a)
theorem k0_off1723_inb : ∀ (i : grid0.Coords) (v3506 : BitVec 32) (k0_hw1715 : k0_chk1715 i v3506), ∀ (k0_h4 : k0_cond4 i = 1#1), ∀ a, (k0_off1723 v3506) a + S1x1024.size a ≤ S40960x1024.size a := fun i v3506 k0_hw1715 k0_h4 => k0_hw1715 k0_h4

def k0_off1724 (v3511 : BitVec 32) : Fin 2 → Nat :=
  let c0_i32_3832 : BitVec 32 := 0#32
  ![v3511.toNat, 0]

def k0_chk1716 (i : grid0.Coords) (v3511 : BitVec 32) : Prop :=
  (∀ (k0_h4 : k0_cond4 i = 1#1), ∀ a, (k0_off1724 v3511) a + S1x1024.size a ≤ S40960x1024.size a)
theorem k0_off1724_inb : ∀ (i : grid0.Coords) (v3511 : BitVec 32) (k0_hw1716 : k0_chk1716 i v3511), ∀ (k0_h4 : k0_cond4 i = 1#1), ∀ a, (k0_off1724 v3511) a + S1x1024.size a ≤ S40960x1024.size a := fun i v3511 k0_hw1716 k0_h4 => k0_hw1716 k0_h4

def k0_off1725 (v3516 : BitVec 32) : Fin 2 → Nat :=
  let c0_i32_3837 : BitVec 32 := 0#32
  ![v3516.toNat, 0]

def k0_chk1717 (i : grid0.Coords) (v3516 : BitVec 32) : Prop :=
  (∀ (k0_h4 : k0_cond4 i = 1#1), ∀ a, (k0_off1725 v3516) a + S1x1024.size a ≤ S40960x1024.size a)
theorem k0_off1725_inb : ∀ (i : grid0.Coords) (v3516 : BitVec 32) (k0_hw1717 : k0_chk1717 i v3516), ∀ (k0_h4 : k0_cond4 i = 1#1), ∀ a, (k0_off1725 v3516) a + S1x1024.size a ≤ S40960x1024.size a := fun i v3516 k0_hw1717 k0_h4 => k0_hw1717 k0_h4

def k0_off1726 (v3521 : BitVec 32) : Fin 2 → Nat :=
  let c0_i32_3843 : BitVec 32 := 0#32
  ![v3521.toNat, 0]

def k0_chk1718 (i : grid0.Coords) (v3521 : BitVec 32) : Prop :=
  (∀ (k0_h4 : k0_cond4 i = 1#1), ∀ a, (k0_off1726 v3521) a + S1x1024.size a ≤ S40960x1024.size a)
theorem k0_off1726_inb : ∀ (i : grid0.Coords) (v3521 : BitVec 32) (k0_hw1718 : k0_chk1718 i v3521), ∀ (k0_h4 : k0_cond4 i = 1#1), ∀ a, (k0_off1726 v3521) a + S1x1024.size a ≤ S40960x1024.size a := fun i v3521 k0_hw1718 k0_h4 => k0_hw1718 k0_h4

def k0_off1727 (v3526 : BitVec 32) : Fin 2 → Nat :=
  let c0_i32_3848 : BitVec 32 := 0#32
  ![v3526.toNat, 0]

def k0_chk1719 (i : grid0.Coords) (v3526 : BitVec 32) : Prop :=
  (∀ (k0_h4 : k0_cond4 i = 1#1), ∀ a, (k0_off1727 v3526) a + S1x1024.size a ≤ S40960x1024.size a)
theorem k0_off1727_inb : ∀ (i : grid0.Coords) (v3526 : BitVec 32) (k0_hw1719 : k0_chk1719 i v3526), ∀ (k0_h4 : k0_cond4 i = 1#1), ∀ a, (k0_off1727 v3526) a + S1x1024.size a ≤ S40960x1024.size a := fun i v3526 k0_hw1719 k0_h4 => k0_hw1719 k0_h4

def k0_off1728 (v3531 : BitVec 32) : Fin 2 → Nat :=
  let c0_i32_3854 : BitVec 32 := 0#32
  ![v3531.toNat, 0]

def k0_chk1720 (i : grid0.Coords) (v3531 : BitVec 32) : Prop :=
  (∀ (k0_h4 : k0_cond4 i = 1#1), ∀ a, (k0_off1728 v3531) a + S1x1024.size a ≤ S40960x1024.size a)
theorem k0_off1728_inb : ∀ (i : grid0.Coords) (v3531 : BitVec 32) (k0_hw1720 : k0_chk1720 i v3531), ∀ (k0_h4 : k0_cond4 i = 1#1), ∀ a, (k0_off1728 v3531) a + S1x1024.size a ≤ S40960x1024.size a := fun i v3531 k0_hw1720 k0_h4 => k0_hw1720 k0_h4

def k0_off1729 (v3536 : BitVec 32) : Fin 2 → Nat :=
  let c0_i32_3859 : BitVec 32 := 0#32
  ![v3536.toNat, 0]

def k0_chk1721 (i : grid0.Coords) (v3536 : BitVec 32) : Prop :=
  (∀ (k0_h4 : k0_cond4 i = 1#1), ∀ a, (k0_off1729 v3536) a + S1x1024.size a ≤ S40960x1024.size a)
theorem k0_off1729_inb : ∀ (i : grid0.Coords) (v3536 : BitVec 32) (k0_hw1721 : k0_chk1721 i v3536), ∀ (k0_h4 : k0_cond4 i = 1#1), ∀ a, (k0_off1729 v3536) a + S1x1024.size a ≤ S40960x1024.size a := fun i v3536 k0_hw1721 k0_h4 => k0_hw1721 k0_h4

def k0_off1730 (v3541 : BitVec 32) : Fin 2 → Nat :=
  let c0_i32_3865 : BitVec 32 := 0#32
  ![v3541.toNat, 0]

def k0_chk1722 (i : grid0.Coords) (v3541 : BitVec 32) : Prop :=
  (∀ (k0_h4 : k0_cond4 i = 1#1), ∀ a, (k0_off1730 v3541) a + S1x1024.size a ≤ S40960x1024.size a)
theorem k0_off1730_inb : ∀ (i : grid0.Coords) (v3541 : BitVec 32) (k0_hw1722 : k0_chk1722 i v3541), ∀ (k0_h4 : k0_cond4 i = 1#1), ∀ a, (k0_off1730 v3541) a + S1x1024.size a ≤ S40960x1024.size a := fun i v3541 k0_hw1722 k0_h4 => k0_hw1722 k0_h4

def k0_off1731 (v3546 : BitVec 32) : Fin 2 → Nat :=
  let c0_i32_3870 : BitVec 32 := 0#32
  ![v3546.toNat, 0]

def k0_chk1723 (i : grid0.Coords) (v3546 : BitVec 32) : Prop :=
  (∀ (k0_h4 : k0_cond4 i = 1#1), ∀ a, (k0_off1731 v3546) a + S1x1024.size a ≤ S40960x1024.size a)
theorem k0_off1731_inb : ∀ (i : grid0.Coords) (v3546 : BitVec 32) (k0_hw1723 : k0_chk1723 i v3546), ∀ (k0_h4 : k0_cond4 i = 1#1), ∀ a, (k0_off1731 v3546) a + S1x1024.size a ≤ S40960x1024.size a := fun i v3546 k0_hw1723 k0_h4 => k0_hw1723 k0_h4

def k0_off1732 (v3551 : BitVec 32) : Fin 2 → Nat :=
  let c0_i32_3876 : BitVec 32 := 0#32
  ![v3551.toNat, 0]

def k0_chk1724 (i : grid0.Coords) (v3551 : BitVec 32) : Prop :=
  (∀ (k0_h4 : k0_cond4 i = 1#1), ∀ a, (k0_off1732 v3551) a + S1x1024.size a ≤ S40960x1024.size a)
theorem k0_off1732_inb : ∀ (i : grid0.Coords) (v3551 : BitVec 32) (k0_hw1724 : k0_chk1724 i v3551), ∀ (k0_h4 : k0_cond4 i = 1#1), ∀ a, (k0_off1732 v3551) a + S1x1024.size a ≤ S40960x1024.size a := fun i v3551 k0_hw1724 k0_h4 => k0_hw1724 k0_h4

def k0_off1733 (v3556 : BitVec 32) : Fin 2 → Nat :=
  let c0_i32_3881 : BitVec 32 := 0#32
  ![v3556.toNat, 0]

def k0_chk1725 (i : grid0.Coords) (v3556 : BitVec 32) : Prop :=
  (∀ (k0_h4 : k0_cond4 i = 1#1), ∀ a, (k0_off1733 v3556) a + S1x1024.size a ≤ S40960x1024.size a)
theorem k0_off1733_inb : ∀ (i : grid0.Coords) (v3556 : BitVec 32) (k0_hw1725 : k0_chk1725 i v3556), ∀ (k0_h4 : k0_cond4 i = 1#1), ∀ a, (k0_off1733 v3556) a + S1x1024.size a ≤ S40960x1024.size a := fun i v3556 k0_hw1725 k0_h4 => k0_hw1725 k0_h4

def k0_off1734 (v3561 : BitVec 32) : Fin 2 → Nat :=
  let c0_i32_3887 : BitVec 32 := 0#32
  ![v3561.toNat, 0]

def k0_chk1726 (i : grid0.Coords) (v3561 : BitVec 32) : Prop :=
  (∀ (k0_h4 : k0_cond4 i = 1#1), ∀ a, (k0_off1734 v3561) a + S1x1024.size a ≤ S40960x1024.size a)
theorem k0_off1734_inb : ∀ (i : grid0.Coords) (v3561 : BitVec 32) (k0_hw1726 : k0_chk1726 i v3561), ∀ (k0_h4 : k0_cond4 i = 1#1), ∀ a, (k0_off1734 v3561) a + S1x1024.size a ≤ S40960x1024.size a := fun i v3561 k0_hw1726 k0_h4 => k0_hw1726 k0_h4

def k0_off1735 (v3566 : BitVec 32) : Fin 2 → Nat :=
  let c0_i32_3892 : BitVec 32 := 0#32
  ![v3566.toNat, 0]

def k0_chk1727 (i : grid0.Coords) (v3566 : BitVec 32) : Prop :=
  (∀ (k0_h4 : k0_cond4 i = 1#1), ∀ a, (k0_off1735 v3566) a + S1x1024.size a ≤ S40960x1024.size a)
theorem k0_off1735_inb : ∀ (i : grid0.Coords) (v3566 : BitVec 32) (k0_hw1727 : k0_chk1727 i v3566), ∀ (k0_h4 : k0_cond4 i = 1#1), ∀ a, (k0_off1735 v3566) a + S1x1024.size a ≤ S40960x1024.size a := fun i v3566 k0_hw1727 k0_h4 => k0_hw1727 k0_h4

def k0_off1736 (v3571 : BitVec 32) : Fin 2 → Nat :=
  let c0_i32_3898 : BitVec 32 := 0#32
  ![v3571.toNat, 0]

def k0_chk1728 (i : grid0.Coords) (v3571 : BitVec 32) : Prop :=
  (∀ (k0_h4 : k0_cond4 i = 1#1), ∀ a, (k0_off1736 v3571) a + S1x1024.size a ≤ S40960x1024.size a)
theorem k0_off1736_inb : ∀ (i : grid0.Coords) (v3571 : BitVec 32) (k0_hw1728 : k0_chk1728 i v3571), ∀ (k0_h4 : k0_cond4 i = 1#1), ∀ a, (k0_off1736 v3571) a + S1x1024.size a ≤ S40960x1024.size a := fun i v3571 k0_hw1728 k0_h4 => k0_hw1728 k0_h4

def k0_off1737 (v3576 : BitVec 32) : Fin 2 → Nat :=
  let c0_i32_3903 : BitVec 32 := 0#32
  ![v3576.toNat, 0]

def k0_chk1729 (i : grid0.Coords) (v3576 : BitVec 32) : Prop :=
  (∀ (k0_h4 : k0_cond4 i = 1#1), ∀ a, (k0_off1737 v3576) a + S1x1024.size a ≤ S40960x1024.size a)
theorem k0_off1737_inb : ∀ (i : grid0.Coords) (v3576 : BitVec 32) (k0_hw1729 : k0_chk1729 i v3576), ∀ (k0_h4 : k0_cond4 i = 1#1), ∀ a, (k0_off1737 v3576) a + S1x1024.size a ≤ S40960x1024.size a := fun i v3576 k0_hw1729 k0_h4 => k0_hw1729 k0_h4

def k0_off1738 (v3581 : BitVec 32) : Fin 2 → Nat :=
  let c0_i32_3909 : BitVec 32 := 0#32
  ![v3581.toNat, 0]

def k0_chk1730 (i : grid0.Coords) (v3581 : BitVec 32) : Prop :=
  (∀ (k0_h4 : k0_cond4 i = 1#1), ∀ a, (k0_off1738 v3581) a + S1x1024.size a ≤ S40960x1024.size a)
theorem k0_off1738_inb : ∀ (i : grid0.Coords) (v3581 : BitVec 32) (k0_hw1730 : k0_chk1730 i v3581), ∀ (k0_h4 : k0_cond4 i = 1#1), ∀ a, (k0_off1738 v3581) a + S1x1024.size a ≤ S40960x1024.size a := fun i v3581 k0_hw1730 k0_h4 => k0_hw1730 k0_h4

def k0_off1739 (v3586 : BitVec 32) : Fin 2 → Nat :=
  let c0_i32_3914 : BitVec 32 := 0#32
  ![v3586.toNat, 0]

def k0_chk1731 (i : grid0.Coords) (v3586 : BitVec 32) : Prop :=
  (∀ (k0_h4 : k0_cond4 i = 1#1), ∀ a, (k0_off1739 v3586) a + S1x1024.size a ≤ S40960x1024.size a)
theorem k0_off1739_inb : ∀ (i : grid0.Coords) (v3586 : BitVec 32) (k0_hw1731 : k0_chk1731 i v3586), ∀ (k0_h4 : k0_cond4 i = 1#1), ∀ a, (k0_off1739 v3586) a + S1x1024.size a ≤ S40960x1024.size a := fun i v3586 k0_hw1731 k0_h4 => k0_hw1731 k0_h4

def k0_off1740 (v3591 : BitVec 32) : Fin 2 → Nat :=
  let c0_i32_3920 : BitVec 32 := 0#32
  ![v3591.toNat, 0]

def k0_chk1732 (i : grid0.Coords) (v3591 : BitVec 32) : Prop :=
  (∀ (k0_h4 : k0_cond4 i = 1#1), ∀ a, (k0_off1740 v3591) a + S1x1024.size a ≤ S40960x1024.size a)
theorem k0_off1740_inb : ∀ (i : grid0.Coords) (v3591 : BitVec 32) (k0_hw1732 : k0_chk1732 i v3591), ∀ (k0_h4 : k0_cond4 i = 1#1), ∀ a, (k0_off1740 v3591) a + S1x1024.size a ≤ S40960x1024.size a := fun i v3591 k0_hw1732 k0_h4 => k0_hw1732 k0_h4

def k0_off1741 (v3596 : BitVec 32) : Fin 2 → Nat :=
  let c0_i32_3925 : BitVec 32 := 0#32
  ![v3596.toNat, 0]

def k0_chk1733 (i : grid0.Coords) (v3596 : BitVec 32) : Prop :=
  (∀ (k0_h4 : k0_cond4 i = 1#1), ∀ a, (k0_off1741 v3596) a + S1x1024.size a ≤ S40960x1024.size a)
theorem k0_off1741_inb : ∀ (i : grid0.Coords) (v3596 : BitVec 32) (k0_hw1733 : k0_chk1733 i v3596), ∀ (k0_h4 : k0_cond4 i = 1#1), ∀ a, (k0_off1741 v3596) a + S1x1024.size a ≤ S40960x1024.size a := fun i v3596 k0_hw1733 k0_h4 => k0_hw1733 k0_h4

def k0_off1742 (v3601 : BitVec 32) : Fin 2 → Nat :=
  let c0_i32_3931 : BitVec 32 := 0#32
  ![v3601.toNat, 0]

def k0_chk1734 (i : grid0.Coords) (v3601 : BitVec 32) : Prop :=
  (∀ (k0_h4 : k0_cond4 i = 1#1), ∀ a, (k0_off1742 v3601) a + S1x1024.size a ≤ S40960x1024.size a)
theorem k0_off1742_inb : ∀ (i : grid0.Coords) (v3601 : BitVec 32) (k0_hw1734 : k0_chk1734 i v3601), ∀ (k0_h4 : k0_cond4 i = 1#1), ∀ a, (k0_off1742 v3601) a + S1x1024.size a ≤ S40960x1024.size a := fun i v3601 k0_hw1734 k0_h4 => k0_hw1734 k0_h4

def k0_off1743 (v3606 : BitVec 32) : Fin 2 → Nat :=
  let c0_i32_3936 : BitVec 32 := 0#32
  ![v3606.toNat, 0]

def k0_chk1735 (i : grid0.Coords) (v3606 : BitVec 32) : Prop :=
  (∀ (k0_h4 : k0_cond4 i = 1#1), ∀ a, (k0_off1743 v3606) a + S1x1024.size a ≤ S40960x1024.size a)
theorem k0_off1743_inb : ∀ (i : grid0.Coords) (v3606 : BitVec 32) (k0_hw1735 : k0_chk1735 i v3606), ∀ (k0_h4 : k0_cond4 i = 1#1), ∀ a, (k0_off1743 v3606) a + S1x1024.size a ≤ S40960x1024.size a := fun i v3606 k0_hw1735 k0_h4 => k0_hw1735 k0_h4

def k0_off1744 (v3611 : BitVec 32) : Fin 2 → Nat :=
  let c0_i32_3942 : BitVec 32 := 0#32
  ![v3611.toNat, 0]

def k0_chk1736 (i : grid0.Coords) (v3611 : BitVec 32) : Prop :=
  (∀ (k0_h4 : k0_cond4 i = 1#1), ∀ a, (k0_off1744 v3611) a + S1x1024.size a ≤ S40960x1024.size a)
theorem k0_off1744_inb : ∀ (i : grid0.Coords) (v3611 : BitVec 32) (k0_hw1736 : k0_chk1736 i v3611), ∀ (k0_h4 : k0_cond4 i = 1#1), ∀ a, (k0_off1744 v3611) a + S1x1024.size a ≤ S40960x1024.size a := fun i v3611 k0_hw1736 k0_h4 => k0_hw1736 k0_h4

def k0_off1745 (v3616 : BitVec 32) : Fin 2 → Nat :=
  let c0_i32_3947 : BitVec 32 := 0#32
  ![v3616.toNat, 0]

def k0_chk1737 (i : grid0.Coords) (v3616 : BitVec 32) : Prop :=
  (∀ (k0_h4 : k0_cond4 i = 1#1), ∀ a, (k0_off1745 v3616) a + S1x1024.size a ≤ S40960x1024.size a)
theorem k0_off1745_inb : ∀ (i : grid0.Coords) (v3616 : BitVec 32) (k0_hw1737 : k0_chk1737 i v3616), ∀ (k0_h4 : k0_cond4 i = 1#1), ∀ a, (k0_off1745 v3616) a + S1x1024.size a ≤ S40960x1024.size a := fun i v3616 k0_hw1737 k0_h4 => k0_hw1737 k0_h4

def k0_off1746 (v3621 : BitVec 32) : Fin 2 → Nat :=
  let c0_i32_3953 : BitVec 32 := 0#32
  ![v3621.toNat, 0]

def k0_chk1738 (i : grid0.Coords) (v3621 : BitVec 32) : Prop :=
  (∀ (k0_h4 : k0_cond4 i = 1#1), ∀ a, (k0_off1746 v3621) a + S1x1024.size a ≤ S40960x1024.size a)
theorem k0_off1746_inb : ∀ (i : grid0.Coords) (v3621 : BitVec 32) (k0_hw1738 : k0_chk1738 i v3621), ∀ (k0_h4 : k0_cond4 i = 1#1), ∀ a, (k0_off1746 v3621) a + S1x1024.size a ≤ S40960x1024.size a := fun i v3621 k0_hw1738 k0_h4 => k0_hw1738 k0_h4

def k0_off1747 (v3626 : BitVec 32) : Fin 2 → Nat :=
  let c0_i32_3958 : BitVec 32 := 0#32
  ![v3626.toNat, 0]

def k0_chk1739 (i : grid0.Coords) (v3626 : BitVec 32) : Prop :=
  (∀ (k0_h4 : k0_cond4 i = 1#1), ∀ a, (k0_off1747 v3626) a + S1x1024.size a ≤ S40960x1024.size a)
theorem k0_off1747_inb : ∀ (i : grid0.Coords) (v3626 : BitVec 32) (k0_hw1739 : k0_chk1739 i v3626), ∀ (k0_h4 : k0_cond4 i = 1#1), ∀ a, (k0_off1747 v3626) a + S1x1024.size a ≤ S40960x1024.size a := fun i v3626 k0_hw1739 k0_h4 => k0_hw1739 k0_h4

def k0_off1748 (v3631 : BitVec 32) : Fin 2 → Nat :=
  let c0_i32_3964 : BitVec 32 := 0#32
  ![v3631.toNat, 0]

def k0_chk1740 (i : grid0.Coords) (v3631 : BitVec 32) : Prop :=
  (∀ (k0_h4 : k0_cond4 i = 1#1), ∀ a, (k0_off1748 v3631) a + S1x1024.size a ≤ S40960x1024.size a)
theorem k0_off1748_inb : ∀ (i : grid0.Coords) (v3631 : BitVec 32) (k0_hw1740 : k0_chk1740 i v3631), ∀ (k0_h4 : k0_cond4 i = 1#1), ∀ a, (k0_off1748 v3631) a + S1x1024.size a ≤ S40960x1024.size a := fun i v3631 k0_hw1740 k0_h4 => k0_hw1740 k0_h4

def k0_off1749 (v3636 : BitVec 32) : Fin 2 → Nat :=
  let c0_i32_3969 : BitVec 32 := 0#32
  ![v3636.toNat, 0]

def k0_chk1741 (i : grid0.Coords) (v3636 : BitVec 32) : Prop :=
  (∀ (k0_h4 : k0_cond4 i = 1#1), ∀ a, (k0_off1749 v3636) a + S1x1024.size a ≤ S40960x1024.size a)
theorem k0_off1749_inb : ∀ (i : grid0.Coords) (v3636 : BitVec 32) (k0_hw1741 : k0_chk1741 i v3636), ∀ (k0_h4 : k0_cond4 i = 1#1), ∀ a, (k0_off1749 v3636) a + S1x1024.size a ≤ S40960x1024.size a := fun i v3636 k0_hw1741 k0_h4 => k0_hw1741 k0_h4

def k0_off1750 (v3641 : BitVec 32) : Fin 2 → Nat :=
  let c0_i32_3975 : BitVec 32 := 0#32
  ![v3641.toNat, 0]

def k0_chk1742 (i : grid0.Coords) (v3641 : BitVec 32) : Prop :=
  (∀ (k0_h4 : k0_cond4 i = 1#1), ∀ a, (k0_off1750 v3641) a + S1x1024.size a ≤ S40960x1024.size a)
theorem k0_off1750_inb : ∀ (i : grid0.Coords) (v3641 : BitVec 32) (k0_hw1742 : k0_chk1742 i v3641), ∀ (k0_h4 : k0_cond4 i = 1#1), ∀ a, (k0_off1750 v3641) a + S1x1024.size a ≤ S40960x1024.size a := fun i v3641 k0_hw1742 k0_h4 => k0_hw1742 k0_h4

def k0_off1751 (v3646 : BitVec 32) : Fin 2 → Nat :=
  let c0_i32_3980 : BitVec 32 := 0#32
  ![v3646.toNat, 0]

def k0_chk1743 (i : grid0.Coords) (v3646 : BitVec 32) : Prop :=
  (∀ (k0_h4 : k0_cond4 i = 1#1), ∀ a, (k0_off1751 v3646) a + S1x1024.size a ≤ S40960x1024.size a)
theorem k0_off1751_inb : ∀ (i : grid0.Coords) (v3646 : BitVec 32) (k0_hw1743 : k0_chk1743 i v3646), ∀ (k0_h4 : k0_cond4 i = 1#1), ∀ a, (k0_off1751 v3646) a + S1x1024.size a ≤ S40960x1024.size a := fun i v3646 k0_hw1743 k0_h4 => k0_hw1743 k0_h4

def k0_off1752 (v3651 : BitVec 32) : Fin 2 → Nat :=
  let c0_i32_3986 : BitVec 32 := 0#32
  ![v3651.toNat, 0]

def k0_chk1744 (i : grid0.Coords) (v3651 : BitVec 32) : Prop :=
  (∀ (k0_h4 : k0_cond4 i = 1#1), ∀ a, (k0_off1752 v3651) a + S1x1024.size a ≤ S40960x1024.size a)
theorem k0_off1752_inb : ∀ (i : grid0.Coords) (v3651 : BitVec 32) (k0_hw1744 : k0_chk1744 i v3651), ∀ (k0_h4 : k0_cond4 i = 1#1), ∀ a, (k0_off1752 v3651) a + S1x1024.size a ≤ S40960x1024.size a := fun i v3651 k0_hw1744 k0_h4 => k0_hw1744 k0_h4

def k0_off1753 (v3656 : BitVec 32) : Fin 2 → Nat :=
  let c0_i32_3991 : BitVec 32 := 0#32
  ![v3656.toNat, 0]

def k0_chk1745 (i : grid0.Coords) (v3656 : BitVec 32) : Prop :=
  (∀ (k0_h4 : k0_cond4 i = 1#1), ∀ a, (k0_off1753 v3656) a + S1x1024.size a ≤ S40960x1024.size a)
theorem k0_off1753_inb : ∀ (i : grid0.Coords) (v3656 : BitVec 32) (k0_hw1745 : k0_chk1745 i v3656), ∀ (k0_h4 : k0_cond4 i = 1#1), ∀ a, (k0_off1753 v3656) a + S1x1024.size a ≤ S40960x1024.size a := fun i v3656 k0_hw1745 k0_h4 => k0_hw1745 k0_h4

def k0_off1754 (v3661 : BitVec 32) : Fin 2 → Nat :=
  let c0_i32_3997 : BitVec 32 := 0#32
  ![v3661.toNat, 0]

def k0_chk1746 (i : grid0.Coords) (v3661 : BitVec 32) : Prop :=
  (∀ (k0_h4 : k0_cond4 i = 1#1), ∀ a, (k0_off1754 v3661) a + S1x1024.size a ≤ S40960x1024.size a)
theorem k0_off1754_inb : ∀ (i : grid0.Coords) (v3661 : BitVec 32) (k0_hw1746 : k0_chk1746 i v3661), ∀ (k0_h4 : k0_cond4 i = 1#1), ∀ a, (k0_off1754 v3661) a + S1x1024.size a ≤ S40960x1024.size a := fun i v3661 k0_hw1746 k0_h4 => k0_hw1746 k0_h4

def k0_off1755 (v3666 : BitVec 32) : Fin 2 → Nat :=
  let c0_i32_4002 : BitVec 32 := 0#32
  ![v3666.toNat, 0]

def k0_chk1747 (i : grid0.Coords) (v3666 : BitVec 32) : Prop :=
  (∀ (k0_h4 : k0_cond4 i = 1#1), ∀ a, (k0_off1755 v3666) a + S1x1024.size a ≤ S40960x1024.size a)
theorem k0_off1755_inb : ∀ (i : grid0.Coords) (v3666 : BitVec 32) (k0_hw1747 : k0_chk1747 i v3666), ∀ (k0_h4 : k0_cond4 i = 1#1), ∀ a, (k0_off1755 v3666) a + S1x1024.size a ≤ S40960x1024.size a := fun i v3666 k0_hw1747 k0_h4 => k0_hw1747 k0_h4

def k0_off1756 (v3671 : BitVec 32) : Fin 2 → Nat :=
  let c0_i32_4008 : BitVec 32 := 0#32
  ![v3671.toNat, 0]

def k0_chk1748 (i : grid0.Coords) (v3671 : BitVec 32) : Prop :=
  (∀ (k0_h4 : k0_cond4 i = 1#1), ∀ a, (k0_off1756 v3671) a + S1x1024.size a ≤ S40960x1024.size a)
theorem k0_off1756_inb : ∀ (i : grid0.Coords) (v3671 : BitVec 32) (k0_hw1748 : k0_chk1748 i v3671), ∀ (k0_h4 : k0_cond4 i = 1#1), ∀ a, (k0_off1756 v3671) a + S1x1024.size a ≤ S40960x1024.size a := fun i v3671 k0_hw1748 k0_h4 => k0_hw1748 k0_h4

def k0_off1757 (v3676 : BitVec 32) : Fin 2 → Nat :=
  let c0_i32_4013 : BitVec 32 := 0#32
  ![v3676.toNat, 0]

def k0_chk1749 (i : grid0.Coords) (v3676 : BitVec 32) : Prop :=
  (∀ (k0_h4 : k0_cond4 i = 1#1), ∀ a, (k0_off1757 v3676) a + S1x1024.size a ≤ S40960x1024.size a)
theorem k0_off1757_inb : ∀ (i : grid0.Coords) (v3676 : BitVec 32) (k0_hw1749 : k0_chk1749 i v3676), ∀ (k0_h4 : k0_cond4 i = 1#1), ∀ a, (k0_off1757 v3676) a + S1x1024.size a ≤ S40960x1024.size a := fun i v3676 k0_hw1749 k0_h4 => k0_hw1749 k0_h4

def k0_off1758 (v3681 : BitVec 32) : Fin 2 → Nat :=
  let c0_i32_4019 : BitVec 32 := 0#32
  ![v3681.toNat, 0]

def k0_chk1750 (i : grid0.Coords) (v3681 : BitVec 32) : Prop :=
  (∀ (k0_h4 : k0_cond4 i = 1#1), ∀ a, (k0_off1758 v3681) a + S1x1024.size a ≤ S40960x1024.size a)
theorem k0_off1758_inb : ∀ (i : grid0.Coords) (v3681 : BitVec 32) (k0_hw1750 : k0_chk1750 i v3681), ∀ (k0_h4 : k0_cond4 i = 1#1), ∀ a, (k0_off1758 v3681) a + S1x1024.size a ≤ S40960x1024.size a := fun i v3681 k0_hw1750 k0_h4 => k0_hw1750 k0_h4

def k0_off1759 (v3686 : BitVec 32) : Fin 2 → Nat :=
  let c0_i32_4024 : BitVec 32 := 0#32
  ![v3686.toNat, 0]

def k0_chk1751 (i : grid0.Coords) (v3686 : BitVec 32) : Prop :=
  (∀ (k0_h4 : k0_cond4 i = 1#1), ∀ a, (k0_off1759 v3686) a + S1x1024.size a ≤ S40960x1024.size a)
theorem k0_off1759_inb : ∀ (i : grid0.Coords) (v3686 : BitVec 32) (k0_hw1751 : k0_chk1751 i v3686), ∀ (k0_h4 : k0_cond4 i = 1#1), ∀ a, (k0_off1759 v3686) a + S1x1024.size a ≤ S40960x1024.size a := fun i v3686 k0_hw1751 k0_h4 => k0_hw1751 k0_h4

def k0_off1760 (v3691 : BitVec 32) : Fin 2 → Nat :=
  let c0_i32_4030 : BitVec 32 := 0#32
  ![v3691.toNat, 0]

def k0_chk1752 (i : grid0.Coords) (v3691 : BitVec 32) : Prop :=
  (∀ (k0_h4 : k0_cond4 i = 1#1), ∀ a, (k0_off1760 v3691) a + S1x1024.size a ≤ S40960x1024.size a)
theorem k0_off1760_inb : ∀ (i : grid0.Coords) (v3691 : BitVec 32) (k0_hw1752 : k0_chk1752 i v3691), ∀ (k0_h4 : k0_cond4 i = 1#1), ∀ a, (k0_off1760 v3691) a + S1x1024.size a ≤ S40960x1024.size a := fun i v3691 k0_hw1752 k0_h4 => k0_hw1752 k0_h4

def k0_off1761 (v3696 : BitVec 32) : Fin 2 → Nat :=
  let c0_i32_4035 : BitVec 32 := 0#32
  ![v3696.toNat, 0]

def k0_chk1753 (i : grid0.Coords) (v3696 : BitVec 32) : Prop :=
  (∀ (k0_h4 : k0_cond4 i = 1#1), ∀ a, (k0_off1761 v3696) a + S1x1024.size a ≤ S40960x1024.size a)
theorem k0_off1761_inb : ∀ (i : grid0.Coords) (v3696 : BitVec 32) (k0_hw1753 : k0_chk1753 i v3696), ∀ (k0_h4 : k0_cond4 i = 1#1), ∀ a, (k0_off1761 v3696) a + S1x1024.size a ≤ S40960x1024.size a := fun i v3696 k0_hw1753 k0_h4 => k0_hw1753 k0_h4

def k0_off1762 (v3701 : BitVec 32) : Fin 2 → Nat :=
  let c0_i32_4041 : BitVec 32 := 0#32
  ![v3701.toNat, 0]

def k0_chk1754 (i : grid0.Coords) (v3701 : BitVec 32) : Prop :=
  (∀ (k0_h4 : k0_cond4 i = 1#1), ∀ a, (k0_off1762 v3701) a + S1x1024.size a ≤ S40960x1024.size a)
theorem k0_off1762_inb : ∀ (i : grid0.Coords) (v3701 : BitVec 32) (k0_hw1754 : k0_chk1754 i v3701), ∀ (k0_h4 : k0_cond4 i = 1#1), ∀ a, (k0_off1762 v3701) a + S1x1024.size a ≤ S40960x1024.size a := fun i v3701 k0_hw1754 k0_h4 => k0_hw1754 k0_h4

def k0_off1763 (v3706 : BitVec 32) : Fin 2 → Nat :=
  let c0_i32_4046 : BitVec 32 := 0#32
  ![v3706.toNat, 0]

def k0_chk1755 (i : grid0.Coords) (v3706 : BitVec 32) : Prop :=
  (∀ (k0_h4 : k0_cond4 i = 1#1), ∀ a, (k0_off1763 v3706) a + S1x1024.size a ≤ S40960x1024.size a)
theorem k0_off1763_inb : ∀ (i : grid0.Coords) (v3706 : BitVec 32) (k0_hw1755 : k0_chk1755 i v3706), ∀ (k0_h4 : k0_cond4 i = 1#1), ∀ a, (k0_off1763 v3706) a + S1x1024.size a ≤ S40960x1024.size a := fun i v3706 k0_hw1755 k0_h4 => k0_hw1755 k0_h4

def k0_off1764 (v3711 : BitVec 32) : Fin 2 → Nat :=
  let c0_i32_4052 : BitVec 32 := 0#32
  ![v3711.toNat, 0]

def k0_chk1756 (i : grid0.Coords) (v3711 : BitVec 32) : Prop :=
  (∀ (k0_h4 : k0_cond4 i = 1#1), ∀ a, (k0_off1764 v3711) a + S1x1024.size a ≤ S40960x1024.size a)
theorem k0_off1764_inb : ∀ (i : grid0.Coords) (v3711 : BitVec 32) (k0_hw1756 : k0_chk1756 i v3711), ∀ (k0_h4 : k0_cond4 i = 1#1), ∀ a, (k0_off1764 v3711) a + S1x1024.size a ≤ S40960x1024.size a := fun i v3711 k0_hw1756 k0_h4 => k0_hw1756 k0_h4

def k0_off1765 (v3716 : BitVec 32) : Fin 2 → Nat :=
  let c0_i32_4057 : BitVec 32 := 0#32
  ![v3716.toNat, 0]

def k0_chk1757 (i : grid0.Coords) (v3716 : BitVec 32) : Prop :=
  (∀ (k0_h4 : k0_cond4 i = 1#1), ∀ a, (k0_off1765 v3716) a + S1x1024.size a ≤ S40960x1024.size a)
theorem k0_off1765_inb : ∀ (i : grid0.Coords) (v3716 : BitVec 32) (k0_hw1757 : k0_chk1757 i v3716), ∀ (k0_h4 : k0_cond4 i = 1#1), ∀ a, (k0_off1765 v3716) a + S1x1024.size a ≤ S40960x1024.size a := fun i v3716 k0_hw1757 k0_h4 => k0_hw1757 k0_h4

def k0_off1766 (v3721 : BitVec 32) : Fin 2 → Nat :=
  let c0_i32_4063 : BitVec 32 := 0#32
  ![v3721.toNat, 0]

def k0_chk1758 (i : grid0.Coords) (v3721 : BitVec 32) : Prop :=
  (∀ (k0_h4 : k0_cond4 i = 1#1), ∀ a, (k0_off1766 v3721) a + S1x1024.size a ≤ S40960x1024.size a)
theorem k0_off1766_inb : ∀ (i : grid0.Coords) (v3721 : BitVec 32) (k0_hw1758 : k0_chk1758 i v3721), ∀ (k0_h4 : k0_cond4 i = 1#1), ∀ a, (k0_off1766 v3721) a + S1x1024.size a ≤ S40960x1024.size a := fun i v3721 k0_hw1758 k0_h4 => k0_hw1758 k0_h4

def k0_off1767 (v3726 : BitVec 32) : Fin 2 → Nat :=
  let c0_i32_4068 : BitVec 32 := 0#32
  ![v3726.toNat, 0]

def k0_chk1759 (i : grid0.Coords) (v3726 : BitVec 32) : Prop :=
  (∀ (k0_h4 : k0_cond4 i = 1#1), ∀ a, (k0_off1767 v3726) a + S1x1024.size a ≤ S40960x1024.size a)
theorem k0_off1767_inb : ∀ (i : grid0.Coords) (v3726 : BitVec 32) (k0_hw1759 : k0_chk1759 i v3726), ∀ (k0_h4 : k0_cond4 i = 1#1), ∀ a, (k0_off1767 v3726) a + S1x1024.size a ≤ S40960x1024.size a := fun i v3726 k0_hw1759 k0_h4 => k0_hw1759 k0_h4

def k0_off1768 (v3731 : BitVec 32) : Fin 2 → Nat :=
  let c0_i32_4074 : BitVec 32 := 0#32
  ![v3731.toNat, 0]

def k0_chk1760 (i : grid0.Coords) (v3731 : BitVec 32) : Prop :=
  (∀ (k0_h4 : k0_cond4 i = 1#1), ∀ a, (k0_off1768 v3731) a + S1x1024.size a ≤ S40960x1024.size a)
theorem k0_off1768_inb : ∀ (i : grid0.Coords) (v3731 : BitVec 32) (k0_hw1760 : k0_chk1760 i v3731), ∀ (k0_h4 : k0_cond4 i = 1#1), ∀ a, (k0_off1768 v3731) a + S1x1024.size a ≤ S40960x1024.size a := fun i v3731 k0_hw1760 k0_h4 => k0_hw1760 k0_h4

def k0_off1769 (v3736 : BitVec 32) : Fin 2 → Nat :=
  let c0_i32_4079 : BitVec 32 := 0#32
  ![v3736.toNat, 0]

def k0_chk1761 (i : grid0.Coords) (v3736 : BitVec 32) : Prop :=
  (∀ (k0_h4 : k0_cond4 i = 1#1), ∀ a, (k0_off1769 v3736) a + S1x1024.size a ≤ S40960x1024.size a)
theorem k0_off1769_inb : ∀ (i : grid0.Coords) (v3736 : BitVec 32) (k0_hw1761 : k0_chk1761 i v3736), ∀ (k0_h4 : k0_cond4 i = 1#1), ∀ a, (k0_off1769 v3736) a + S1x1024.size a ≤ S40960x1024.size a := fun i v3736 k0_hw1761 k0_h4 => k0_hw1761 k0_h4

def k0_off1770 (v3741 : BitVec 32) : Fin 2 → Nat :=
  let c0_i32_4085 : BitVec 32 := 0#32
  ![v3741.toNat, 0]

def k0_chk1762 (i : grid0.Coords) (v3741 : BitVec 32) : Prop :=
  (∀ (k0_h4 : k0_cond4 i = 1#1), ∀ a, (k0_off1770 v3741) a + S1x1024.size a ≤ S40960x1024.size a)
theorem k0_off1770_inb : ∀ (i : grid0.Coords) (v3741 : BitVec 32) (k0_hw1762 : k0_chk1762 i v3741), ∀ (k0_h4 : k0_cond4 i = 1#1), ∀ a, (k0_off1770 v3741) a + S1x1024.size a ≤ S40960x1024.size a := fun i v3741 k0_hw1762 k0_h4 => k0_hw1762 k0_h4

def k0_off1771 (v3746 : BitVec 32) : Fin 2 → Nat :=
  let c0_i32_4090 : BitVec 32 := 0#32
  ![v3746.toNat, 0]

def k0_chk1763 (i : grid0.Coords) (v3746 : BitVec 32) : Prop :=
  (∀ (k0_h4 : k0_cond4 i = 1#1), ∀ a, (k0_off1771 v3746) a + S1x1024.size a ≤ S40960x1024.size a)
theorem k0_off1771_inb : ∀ (i : grid0.Coords) (v3746 : BitVec 32) (k0_hw1763 : k0_chk1763 i v3746), ∀ (k0_h4 : k0_cond4 i = 1#1), ∀ a, (k0_off1771 v3746) a + S1x1024.size a ≤ S40960x1024.size a := fun i v3746 k0_hw1763 k0_h4 => k0_hw1763 k0_h4

def k0_off1772 (v3751 : BitVec 32) : Fin 2 → Nat :=
  let c0_i32_4096 : BitVec 32 := 0#32
  ![v3751.toNat, 0]

def k0_chk1764 (i : grid0.Coords) (v3751 : BitVec 32) : Prop :=
  (∀ (k0_h4 : k0_cond4 i = 1#1), ∀ a, (k0_off1772 v3751) a + S1x1024.size a ≤ S40960x1024.size a)
theorem k0_off1772_inb : ∀ (i : grid0.Coords) (v3751 : BitVec 32) (k0_hw1764 : k0_chk1764 i v3751), ∀ (k0_h4 : k0_cond4 i = 1#1), ∀ a, (k0_off1772 v3751) a + S1x1024.size a ≤ S40960x1024.size a := fun i v3751 k0_hw1764 k0_h4 => k0_hw1764 k0_h4

def k0_off1773 (v3756 : BitVec 32) : Fin 2 → Nat :=
  let c0_i32_4101 : BitVec 32 := 0#32
  ![v3756.toNat, 0]

def k0_chk1765 (i : grid0.Coords) (v3756 : BitVec 32) : Prop :=
  (∀ (k0_h4 : k0_cond4 i = 1#1), ∀ a, (k0_off1773 v3756) a + S1x1024.size a ≤ S40960x1024.size a)
theorem k0_off1773_inb : ∀ (i : grid0.Coords) (v3756 : BitVec 32) (k0_hw1765 : k0_chk1765 i v3756), ∀ (k0_h4 : k0_cond4 i = 1#1), ∀ a, (k0_off1773 v3756) a + S1x1024.size a ≤ S40960x1024.size a := fun i v3756 k0_hw1765 k0_h4 => k0_hw1765 k0_h4

def k0_off1774 (v3761 : BitVec 32) : Fin 2 → Nat :=
  let c0_i32_4107 : BitVec 32 := 0#32
  ![v3761.toNat, 0]

def k0_chk1766 (i : grid0.Coords) (v3761 : BitVec 32) : Prop :=
  (∀ (k0_h4 : k0_cond4 i = 1#1), ∀ a, (k0_off1774 v3761) a + S1x1024.size a ≤ S40960x1024.size a)
theorem k0_off1774_inb : ∀ (i : grid0.Coords) (v3761 : BitVec 32) (k0_hw1766 : k0_chk1766 i v3761), ∀ (k0_h4 : k0_cond4 i = 1#1), ∀ a, (k0_off1774 v3761) a + S1x1024.size a ≤ S40960x1024.size a := fun i v3761 k0_hw1766 k0_h4 => k0_hw1766 k0_h4

def k0_off1775 (v3766 : BitVec 32) : Fin 2 → Nat :=
  let c0_i32_4112 : BitVec 32 := 0#32
  ![v3766.toNat, 0]

def k0_chk1767 (i : grid0.Coords) (v3766 : BitVec 32) : Prop :=
  (∀ (k0_h4 : k0_cond4 i = 1#1), ∀ a, (k0_off1775 v3766) a + S1x1024.size a ≤ S40960x1024.size a)
theorem k0_off1775_inb : ∀ (i : grid0.Coords) (v3766 : BitVec 32) (k0_hw1767 : k0_chk1767 i v3766), ∀ (k0_h4 : k0_cond4 i = 1#1), ∀ a, (k0_off1775 v3766) a + S1x1024.size a ≤ S40960x1024.size a := fun i v3766 k0_hw1767 k0_h4 => k0_hw1767 k0_h4

def k0_off1776 (v3771 : BitVec 32) : Fin 2 → Nat :=
  let c0_i32_4118 : BitVec 32 := 0#32
  ![v3771.toNat, 0]

def k0_chk1768 (i : grid0.Coords) (v3771 : BitVec 32) : Prop :=
  (∀ (k0_h4 : k0_cond4 i = 1#1), ∀ a, (k0_off1776 v3771) a + S1x1024.size a ≤ S40960x1024.size a)
theorem k0_off1776_inb : ∀ (i : grid0.Coords) (v3771 : BitVec 32) (k0_hw1768 : k0_chk1768 i v3771), ∀ (k0_h4 : k0_cond4 i = 1#1), ∀ a, (k0_off1776 v3771) a + S1x1024.size a ≤ S40960x1024.size a := fun i v3771 k0_hw1768 k0_h4 => k0_hw1768 k0_h4

def k0_off1777 (v3776 : BitVec 32) : Fin 2 → Nat :=
  let c0_i32_4123 : BitVec 32 := 0#32
  ![v3776.toNat, 0]

def k0_chk1769 (i : grid0.Coords) (v3776 : BitVec 32) : Prop :=
  (∀ (k0_h4 : k0_cond4 i = 1#1), ∀ a, (k0_off1777 v3776) a + S1x1024.size a ≤ S40960x1024.size a)
theorem k0_off1777_inb : ∀ (i : grid0.Coords) (v3776 : BitVec 32) (k0_hw1769 : k0_chk1769 i v3776), ∀ (k0_h4 : k0_cond4 i = 1#1), ∀ a, (k0_off1777 v3776) a + S1x1024.size a ≤ S40960x1024.size a := fun i v3776 k0_hw1769 k0_h4 => k0_hw1769 k0_h4

def k0_off1778 (v3781 : BitVec 32) : Fin 2 → Nat :=
  let c0_i32_4129 : BitVec 32 := 0#32
  ![v3781.toNat, 0]

def k0_chk1770 (i : grid0.Coords) (v3781 : BitVec 32) : Prop :=
  (∀ (k0_h4 : k0_cond4 i = 1#1), ∀ a, (k0_off1778 v3781) a + S1x1024.size a ≤ S40960x1024.size a)
theorem k0_off1778_inb : ∀ (i : grid0.Coords) (v3781 : BitVec 32) (k0_hw1770 : k0_chk1770 i v3781), ∀ (k0_h4 : k0_cond4 i = 1#1), ∀ a, (k0_off1778 v3781) a + S1x1024.size a ≤ S40960x1024.size a := fun i v3781 k0_hw1770 k0_h4 => k0_hw1770 k0_h4

def k0_off1779 (v3786 : BitVec 32) : Fin 2 → Nat :=
  let c0_i32_4134 : BitVec 32 := 0#32
  ![v3786.toNat, 0]

def k0_chk1771 (i : grid0.Coords) (v3786 : BitVec 32) : Prop :=
  (∀ (k0_h4 : k0_cond4 i = 1#1), ∀ a, (k0_off1779 v3786) a + S1x1024.size a ≤ S40960x1024.size a)
theorem k0_off1779_inb : ∀ (i : grid0.Coords) (v3786 : BitVec 32) (k0_hw1771 : k0_chk1771 i v3786), ∀ (k0_h4 : k0_cond4 i = 1#1), ∀ a, (k0_off1779 v3786) a + S1x1024.size a ≤ S40960x1024.size a := fun i v3786 k0_hw1771 k0_h4 => k0_hw1771 k0_h4

def k0_off1780 (v3791 : BitVec 32) : Fin 2 → Nat :=
  let c0_i32_4140 : BitVec 32 := 0#32
  ![v3791.toNat, 0]

def k0_chk1772 (i : grid0.Coords) (v3791 : BitVec 32) : Prop :=
  (∀ (k0_h4 : k0_cond4 i = 1#1), ∀ a, (k0_off1780 v3791) a + S1x1024.size a ≤ S40960x1024.size a)
theorem k0_off1780_inb : ∀ (i : grid0.Coords) (v3791 : BitVec 32) (k0_hw1772 : k0_chk1772 i v3791), ∀ (k0_h4 : k0_cond4 i = 1#1), ∀ a, (k0_off1780 v3791) a + S1x1024.size a ≤ S40960x1024.size a := fun i v3791 k0_hw1772 k0_h4 => k0_hw1772 k0_h4

def k0_off1781 (v3796 : BitVec 32) : Fin 2 → Nat :=
  let c0_i32_4145 : BitVec 32 := 0#32
  ![v3796.toNat, 0]

def k0_chk1773 (i : grid0.Coords) (v3796 : BitVec 32) : Prop :=
  (∀ (k0_h4 : k0_cond4 i = 1#1), ∀ a, (k0_off1781 v3796) a + S1x1024.size a ≤ S40960x1024.size a)
theorem k0_off1781_inb : ∀ (i : grid0.Coords) (v3796 : BitVec 32) (k0_hw1773 : k0_chk1773 i v3796), ∀ (k0_h4 : k0_cond4 i = 1#1), ∀ a, (k0_off1781 v3796) a + S1x1024.size a ≤ S40960x1024.size a := fun i v3796 k0_hw1773 k0_h4 => k0_hw1773 k0_h4

def k0_off1782 (v3801 : BitVec 32) : Fin 2 → Nat :=
  let c0_i32_4151 : BitVec 32 := 0#32
  ![v3801.toNat, 0]

def k0_chk1774 (i : grid0.Coords) (v3801 : BitVec 32) : Prop :=
  (∀ (k0_h4 : k0_cond4 i = 1#1), ∀ a, (k0_off1782 v3801) a + S1x1024.size a ≤ S40960x1024.size a)
theorem k0_off1782_inb : ∀ (i : grid0.Coords) (v3801 : BitVec 32) (k0_hw1774 : k0_chk1774 i v3801), ∀ (k0_h4 : k0_cond4 i = 1#1), ∀ a, (k0_off1782 v3801) a + S1x1024.size a ≤ S40960x1024.size a := fun i v3801 k0_hw1774 k0_h4 => k0_hw1774 k0_h4

def k0_off1783 (v3806 : BitVec 32) : Fin 2 → Nat :=
  let c0_i32_4156 : BitVec 32 := 0#32
  ![v3806.toNat, 0]

def k0_chk1775 (i : grid0.Coords) (v3806 : BitVec 32) : Prop :=
  (∀ (k0_h4 : k0_cond4 i = 1#1), ∀ a, (k0_off1783 v3806) a + S1x1024.size a ≤ S40960x1024.size a)
theorem k0_off1783_inb : ∀ (i : grid0.Coords) (v3806 : BitVec 32) (k0_hw1775 : k0_chk1775 i v3806), ∀ (k0_h4 : k0_cond4 i = 1#1), ∀ a, (k0_off1783 v3806) a + S1x1024.size a ≤ S40960x1024.size a := fun i v3806 k0_hw1775 k0_h4 => k0_hw1775 k0_h4

def k0_off1784 (v3811 : BitVec 32) : Fin 2 → Nat :=
  let c0_i32_4162 : BitVec 32 := 0#32
  ![v3811.toNat, 0]

def k0_chk1776 (i : grid0.Coords) (v3811 : BitVec 32) : Prop :=
  (∀ (k0_h4 : k0_cond4 i = 1#1), ∀ a, (k0_off1784 v3811) a + S1x1024.size a ≤ S40960x1024.size a)
theorem k0_off1784_inb : ∀ (i : grid0.Coords) (v3811 : BitVec 32) (k0_hw1776 : k0_chk1776 i v3811), ∀ (k0_h4 : k0_cond4 i = 1#1), ∀ a, (k0_off1784 v3811) a + S1x1024.size a ≤ S40960x1024.size a := fun i v3811 k0_hw1776 k0_h4 => k0_hw1776 k0_h4

def k0_off1785 (v3816 : BitVec 32) : Fin 2 → Nat :=
  let c0_i32_4167 : BitVec 32 := 0#32
  ![v3816.toNat, 0]

def k0_chk1777 (i : grid0.Coords) (v3816 : BitVec 32) : Prop :=
  (∀ (k0_h4 : k0_cond4 i = 1#1), ∀ a, (k0_off1785 v3816) a + S1x1024.size a ≤ S40960x1024.size a)
theorem k0_off1785_inb : ∀ (i : grid0.Coords) (v3816 : BitVec 32) (k0_hw1777 : k0_chk1777 i v3816), ∀ (k0_h4 : k0_cond4 i = 1#1), ∀ a, (k0_off1785 v3816) a + S1x1024.size a ≤ S40960x1024.size a := fun i v3816 k0_hw1777 k0_h4 => k0_hw1777 k0_h4

def k0_off1786 (v3821 : BitVec 32) : Fin 2 → Nat :=
  let c0_i32_4173 : BitVec 32 := 0#32
  ![v3821.toNat, 0]

def k0_chk1778 (i : grid0.Coords) (v3821 : BitVec 32) : Prop :=
  (∀ (k0_h4 : k0_cond4 i = 1#1), ∀ a, (k0_off1786 v3821) a + S1x1024.size a ≤ S40960x1024.size a)
theorem k0_off1786_inb : ∀ (i : grid0.Coords) (v3821 : BitVec 32) (k0_hw1778 : k0_chk1778 i v3821), ∀ (k0_h4 : k0_cond4 i = 1#1), ∀ a, (k0_off1786 v3821) a + S1x1024.size a ≤ S40960x1024.size a := fun i v3821 k0_hw1778 k0_h4 => k0_hw1778 k0_h4

def k0_off1787 (v3826 : BitVec 32) : Fin 2 → Nat :=
  let c0_i32_4178 : BitVec 32 := 0#32
  ![v3826.toNat, 0]

def k0_chk1779 (i : grid0.Coords) (v3826 : BitVec 32) : Prop :=
  (∀ (k0_h4 : k0_cond4 i = 1#1), ∀ a, (k0_off1787 v3826) a + S1x1024.size a ≤ S40960x1024.size a)
theorem k0_off1787_inb : ∀ (i : grid0.Coords) (v3826 : BitVec 32) (k0_hw1779 : k0_chk1779 i v3826), ∀ (k0_h4 : k0_cond4 i = 1#1), ∀ a, (k0_off1787 v3826) a + S1x1024.size a ≤ S40960x1024.size a := fun i v3826 k0_hw1779 k0_h4 => k0_hw1779 k0_h4

def k0_off1788 (v3831 : BitVec 32) : Fin 2 → Nat :=
  let c0_i32_4184 : BitVec 32 := 0#32
  ![v3831.toNat, 0]

def k0_chk1780 (i : grid0.Coords) (v3831 : BitVec 32) : Prop :=
  (∀ (k0_h4 : k0_cond4 i = 1#1), ∀ a, (k0_off1788 v3831) a + S1x1024.size a ≤ S40960x1024.size a)
theorem k0_off1788_inb : ∀ (i : grid0.Coords) (v3831 : BitVec 32) (k0_hw1780 : k0_chk1780 i v3831), ∀ (k0_h4 : k0_cond4 i = 1#1), ∀ a, (k0_off1788 v3831) a + S1x1024.size a ≤ S40960x1024.size a := fun i v3831 k0_hw1780 k0_h4 => k0_hw1780 k0_h4

def k0_off1789 (v3836 : BitVec 32) : Fin 2 → Nat :=
  let c0_i32_4189 : BitVec 32 := 0#32
  ![v3836.toNat, 0]

def k0_chk1781 (i : grid0.Coords) (v3836 : BitVec 32) : Prop :=
  (∀ (k0_h4 : k0_cond4 i = 1#1), ∀ a, (k0_off1789 v3836) a + S1x1024.size a ≤ S40960x1024.size a)
theorem k0_off1789_inb : ∀ (i : grid0.Coords) (v3836 : BitVec 32) (k0_hw1781 : k0_chk1781 i v3836), ∀ (k0_h4 : k0_cond4 i = 1#1), ∀ a, (k0_off1789 v3836) a + S1x1024.size a ≤ S40960x1024.size a := fun i v3836 k0_hw1781 k0_h4 => k0_hw1781 k0_h4

def k0_off1790 (v3841 : BitVec 32) : Fin 2 → Nat :=
  let c0_i32_4195 : BitVec 32 := 0#32
  ![v3841.toNat, 0]

def k0_chk1782 (i : grid0.Coords) (v3841 : BitVec 32) : Prop :=
  (∀ (k0_h4 : k0_cond4 i = 1#1), ∀ a, (k0_off1790 v3841) a + S1x1024.size a ≤ S40960x1024.size a)
theorem k0_off1790_inb : ∀ (i : grid0.Coords) (v3841 : BitVec 32) (k0_hw1782 : k0_chk1782 i v3841), ∀ (k0_h4 : k0_cond4 i = 1#1), ∀ a, (k0_off1790 v3841) a + S1x1024.size a ≤ S40960x1024.size a := fun i v3841 k0_hw1782 k0_h4 => k0_hw1782 k0_h4

def k0_off1791 (v3846 : BitVec 32) : Fin 2 → Nat :=
  let c0_i32_4200 : BitVec 32 := 0#32
  ![v3846.toNat, 0]

def k0_chk1783 (i : grid0.Coords) (v3846 : BitVec 32) : Prop :=
  (∀ (k0_h4 : k0_cond4 i = 1#1), ∀ a, (k0_off1791 v3846) a + S1x1024.size a ≤ S40960x1024.size a)
theorem k0_off1791_inb : ∀ (i : grid0.Coords) (v3846 : BitVec 32) (k0_hw1783 : k0_chk1783 i v3846), ∀ (k0_h4 : k0_cond4 i = 1#1), ∀ a, (k0_off1791 v3846) a + S1x1024.size a ≤ S40960x1024.size a := fun i v3846 k0_hw1783 k0_h4 => k0_hw1783 k0_h4

def k0_off1792 (v3851 : BitVec 32) : Fin 2 → Nat :=
  let c0_i32_4206 : BitVec 32 := 0#32
  ![v3851.toNat, 0]

def k0_chk1784 (i : grid0.Coords) (v3851 : BitVec 32) : Prop :=
  (∀ (k0_h4 : k0_cond4 i = 1#1), ∀ a, (k0_off1792 v3851) a + S1x1024.size a ≤ S40960x1024.size a)
theorem k0_off1792_inb : ∀ (i : grid0.Coords) (v3851 : BitVec 32) (k0_hw1784 : k0_chk1784 i v3851), ∀ (k0_h4 : k0_cond4 i = 1#1), ∀ a, (k0_off1792 v3851) a + S1x1024.size a ≤ S40960x1024.size a := fun i v3851 k0_hw1784 k0_h4 => k0_hw1784 k0_h4

def k0_off1793 (v3856 : BitVec 32) : Fin 2 → Nat :=
  let c0_i32_4211 : BitVec 32 := 0#32
  ![v3856.toNat, 0]

def k0_chk1785 (i : grid0.Coords) (v3856 : BitVec 32) : Prop :=
  (∀ (k0_h4 : k0_cond4 i = 1#1), ∀ a, (k0_off1793 v3856) a + S1x1024.size a ≤ S40960x1024.size a)
theorem k0_off1793_inb : ∀ (i : grid0.Coords) (v3856 : BitVec 32) (k0_hw1785 : k0_chk1785 i v3856), ∀ (k0_h4 : k0_cond4 i = 1#1), ∀ a, (k0_off1793 v3856) a + S1x1024.size a ≤ S40960x1024.size a := fun i v3856 k0_hw1785 k0_h4 => k0_hw1785 k0_h4

def k0_off1794 (v3861 : BitVec 32) : Fin 2 → Nat :=
  let c0_i32_4217 : BitVec 32 := 0#32
  ![v3861.toNat, 0]

def k0_chk1786 (i : grid0.Coords) (v3861 : BitVec 32) : Prop :=
  (∀ (k0_h4 : k0_cond4 i = 1#1), ∀ a, (k0_off1794 v3861) a + S1x1024.size a ≤ S40960x1024.size a)
theorem k0_off1794_inb : ∀ (i : grid0.Coords) (v3861 : BitVec 32) (k0_hw1786 : k0_chk1786 i v3861), ∀ (k0_h4 : k0_cond4 i = 1#1), ∀ a, (k0_off1794 v3861) a + S1x1024.size a ≤ S40960x1024.size a := fun i v3861 k0_hw1786 k0_h4 => k0_hw1786 k0_h4

def k0_off1795 (v3866 : BitVec 32) : Fin 2 → Nat :=
  let c0_i32_4222 : BitVec 32 := 0#32
  ![v3866.toNat, 0]

def k0_chk1787 (i : grid0.Coords) (v3866 : BitVec 32) : Prop :=
  (∀ (k0_h4 : k0_cond4 i = 1#1), ∀ a, (k0_off1795 v3866) a + S1x1024.size a ≤ S40960x1024.size a)
theorem k0_off1795_inb : ∀ (i : grid0.Coords) (v3866 : BitVec 32) (k0_hw1787 : k0_chk1787 i v3866), ∀ (k0_h4 : k0_cond4 i = 1#1), ∀ a, (k0_off1795 v3866) a + S1x1024.size a ≤ S40960x1024.size a := fun i v3866 k0_hw1787 k0_h4 => k0_hw1787 k0_h4

def k0_off1796 (v3871 : BitVec 32) : Fin 2 → Nat :=
  let c0_i32_4228 : BitVec 32 := 0#32
  ![v3871.toNat, 0]

def k0_chk1788 (i : grid0.Coords) (v3871 : BitVec 32) : Prop :=
  (∀ (k0_h4 : k0_cond4 i = 1#1), ∀ a, (k0_off1796 v3871) a + S1x1024.size a ≤ S40960x1024.size a)
theorem k0_off1796_inb : ∀ (i : grid0.Coords) (v3871 : BitVec 32) (k0_hw1788 : k0_chk1788 i v3871), ∀ (k0_h4 : k0_cond4 i = 1#1), ∀ a, (k0_off1796 v3871) a + S1x1024.size a ≤ S40960x1024.size a := fun i v3871 k0_hw1788 k0_h4 => k0_hw1788 k0_h4

def k0_off1797 (v3876 : BitVec 32) : Fin 2 → Nat :=
  let c0_i32_4233 : BitVec 32 := 0#32
  ![v3876.toNat, 0]

def k0_chk1789 (i : grid0.Coords) (v3876 : BitVec 32) : Prop :=
  (∀ (k0_h4 : k0_cond4 i = 1#1), ∀ a, (k0_off1797 v3876) a + S1x1024.size a ≤ S40960x1024.size a)
theorem k0_off1797_inb : ∀ (i : grid0.Coords) (v3876 : BitVec 32) (k0_hw1789 : k0_chk1789 i v3876), ∀ (k0_h4 : k0_cond4 i = 1#1), ∀ a, (k0_off1797 v3876) a + S1x1024.size a ≤ S40960x1024.size a := fun i v3876 k0_hw1789 k0_h4 => k0_hw1789 k0_h4

def k0_off1798 (v3881 : BitVec 32) : Fin 2 → Nat :=
  let c0_i32_4239 : BitVec 32 := 0#32
  ![v3881.toNat, 0]

def k0_chk1790 (i : grid0.Coords) (v3881 : BitVec 32) : Prop :=
  (∀ (k0_h4 : k0_cond4 i = 1#1), ∀ a, (k0_off1798 v3881) a + S1x1024.size a ≤ S40960x1024.size a)
theorem k0_off1798_inb : ∀ (i : grid0.Coords) (v3881 : BitVec 32) (k0_hw1790 : k0_chk1790 i v3881), ∀ (k0_h4 : k0_cond4 i = 1#1), ∀ a, (k0_off1798 v3881) a + S1x1024.size a ≤ S40960x1024.size a := fun i v3881 k0_hw1790 k0_h4 => k0_hw1790 k0_h4

def k0_off1799 (v3886 : BitVec 32) : Fin 2 → Nat :=
  let c0_i32_4244 : BitVec 32 := 0#32
  ![v3886.toNat, 0]

def k0_chk1791 (i : grid0.Coords) (v3886 : BitVec 32) : Prop :=
  (∀ (k0_h4 : k0_cond4 i = 1#1), ∀ a, (k0_off1799 v3886) a + S1x1024.size a ≤ S40960x1024.size a)
theorem k0_off1799_inb : ∀ (i : grid0.Coords) (v3886 : BitVec 32) (k0_hw1791 : k0_chk1791 i v3886), ∀ (k0_h4 : k0_cond4 i = 1#1), ∀ a, (k0_off1799 v3886) a + S1x1024.size a ≤ S40960x1024.size a := fun i v3886 k0_hw1791 k0_h4 => k0_hw1791 k0_h4

def k0_off1800 (v3891 : BitVec 32) : Fin 2 → Nat :=
  let c0_i32_4250 : BitVec 32 := 0#32
  ![v3891.toNat, 0]

def k0_chk1792 (i : grid0.Coords) (v3891 : BitVec 32) : Prop :=
  (∀ (k0_h4 : k0_cond4 i = 1#1), ∀ a, (k0_off1800 v3891) a + S1x1024.size a ≤ S40960x1024.size a)
theorem k0_off1800_inb : ∀ (i : grid0.Coords) (v3891 : BitVec 32) (k0_hw1792 : k0_chk1792 i v3891), ∀ (k0_h4 : k0_cond4 i = 1#1), ∀ a, (k0_off1800 v3891) a + S1x1024.size a ≤ S40960x1024.size a := fun i v3891 k0_hw1792 k0_h4 => k0_hw1792 k0_h4

def k0_off1801 (v3896 : BitVec 32) : Fin 2 → Nat :=
  let c0_i32_4255 : BitVec 32 := 0#32
  ![v3896.toNat, 0]

def k0_chk1793 (i : grid0.Coords) (v3896 : BitVec 32) : Prop :=
  (∀ (k0_h4 : k0_cond4 i = 1#1), ∀ a, (k0_off1801 v3896) a + S1x1024.size a ≤ S40960x1024.size a)
theorem k0_off1801_inb : ∀ (i : grid0.Coords) (v3896 : BitVec 32) (k0_hw1793 : k0_chk1793 i v3896), ∀ (k0_h4 : k0_cond4 i = 1#1), ∀ a, (k0_off1801 v3896) a + S1x1024.size a ≤ S40960x1024.size a := fun i v3896 k0_hw1793 k0_h4 => k0_hw1793 k0_h4

def k0_off1802 (v3901 : BitVec 32) : Fin 2 → Nat :=
  let c0_i32_4261 : BitVec 32 := 0#32
  ![v3901.toNat, 0]

def k0_chk1794 (i : grid0.Coords) (v3901 : BitVec 32) : Prop :=
  (∀ (k0_h4 : k0_cond4 i = 1#1), ∀ a, (k0_off1802 v3901) a + S1x1024.size a ≤ S40960x1024.size a)
theorem k0_off1802_inb : ∀ (i : grid0.Coords) (v3901 : BitVec 32) (k0_hw1794 : k0_chk1794 i v3901), ∀ (k0_h4 : k0_cond4 i = 1#1), ∀ a, (k0_off1802 v3901) a + S1x1024.size a ≤ S40960x1024.size a := fun i v3901 k0_hw1794 k0_h4 => k0_hw1794 k0_h4

def k0_off1803 (v3906 : BitVec 32) : Fin 2 → Nat :=
  let c0_i32_4266 : BitVec 32 := 0#32
  ![v3906.toNat, 0]

def k0_chk1795 (i : grid0.Coords) (v3906 : BitVec 32) : Prop :=
  (∀ (k0_h4 : k0_cond4 i = 1#1), ∀ a, (k0_off1803 v3906) a + S1x1024.size a ≤ S40960x1024.size a)
theorem k0_off1803_inb : ∀ (i : grid0.Coords) (v3906 : BitVec 32) (k0_hw1795 : k0_chk1795 i v3906), ∀ (k0_h4 : k0_cond4 i = 1#1), ∀ a, (k0_off1803 v3906) a + S1x1024.size a ≤ S40960x1024.size a := fun i v3906 k0_hw1795 k0_h4 => k0_hw1795 k0_h4

def k0_off1804 (v3911 : BitVec 32) : Fin 2 → Nat :=
  let c0_i32_4272 : BitVec 32 := 0#32
  ![v3911.toNat, 0]

def k0_chk1796 (i : grid0.Coords) (v3911 : BitVec 32) : Prop :=
  (∀ (k0_h4 : k0_cond4 i = 1#1), ∀ a, (k0_off1804 v3911) a + S1x1024.size a ≤ S40960x1024.size a)
theorem k0_off1804_inb : ∀ (i : grid0.Coords) (v3911 : BitVec 32) (k0_hw1796 : k0_chk1796 i v3911), ∀ (k0_h4 : k0_cond4 i = 1#1), ∀ a, (k0_off1804 v3911) a + S1x1024.size a ≤ S40960x1024.size a := fun i v3911 k0_hw1796 k0_h4 => k0_hw1796 k0_h4

def k0_off1805 (v3916 : BitVec 32) : Fin 2 → Nat :=
  let c0_i32_4277 : BitVec 32 := 0#32
  ![v3916.toNat, 0]

def k0_chk1797 (i : grid0.Coords) (v3916 : BitVec 32) : Prop :=
  (∀ (k0_h4 : k0_cond4 i = 1#1), ∀ a, (k0_off1805 v3916) a + S1x1024.size a ≤ S40960x1024.size a)
theorem k0_off1805_inb : ∀ (i : grid0.Coords) (v3916 : BitVec 32) (k0_hw1797 : k0_chk1797 i v3916), ∀ (k0_h4 : k0_cond4 i = 1#1), ∀ a, (k0_off1805 v3916) a + S1x1024.size a ≤ S40960x1024.size a := fun i v3916 k0_hw1797 k0_h4 => k0_hw1797 k0_h4

def k0_off1806 (v3921 : BitVec 32) : Fin 2 → Nat :=
  let c0_i32_4283 : BitVec 32 := 0#32
  ![v3921.toNat, 0]

def k0_chk1798 (i : grid0.Coords) (v3921 : BitVec 32) : Prop :=
  (∀ (k0_h4 : k0_cond4 i = 1#1), ∀ a, (k0_off1806 v3921) a + S1x1024.size a ≤ S40960x1024.size a)
theorem k0_off1806_inb : ∀ (i : grid0.Coords) (v3921 : BitVec 32) (k0_hw1798 : k0_chk1798 i v3921), ∀ (k0_h4 : k0_cond4 i = 1#1), ∀ a, (k0_off1806 v3921) a + S1x1024.size a ≤ S40960x1024.size a := fun i v3921 k0_hw1798 k0_h4 => k0_hw1798 k0_h4

def k0_off1807 (v3926 : BitVec 32) : Fin 2 → Nat :=
  let c0_i32_4288 : BitVec 32 := 0#32
  ![v3926.toNat, 0]

def k0_chk1799 (i : grid0.Coords) (v3926 : BitVec 32) : Prop :=
  (∀ (k0_h4 : k0_cond4 i = 1#1), ∀ a, (k0_off1807 v3926) a + S1x1024.size a ≤ S40960x1024.size a)
theorem k0_off1807_inb : ∀ (i : grid0.Coords) (v3926 : BitVec 32) (k0_hw1799 : k0_chk1799 i v3926), ∀ (k0_h4 : k0_cond4 i = 1#1), ∀ a, (k0_off1807 v3926) a + S1x1024.size a ≤ S40960x1024.size a := fun i v3926 k0_hw1799 k0_h4 => k0_hw1799 k0_h4

def k0_off1808 (v3931 : BitVec 32) : Fin 2 → Nat :=
  let c0_i32_4294 : BitVec 32 := 0#32
  ![v3931.toNat, 0]

def k0_chk1800 (i : grid0.Coords) (v3931 : BitVec 32) : Prop :=
  (∀ (k0_h4 : k0_cond4 i = 1#1), ∀ a, (k0_off1808 v3931) a + S1x1024.size a ≤ S40960x1024.size a)
theorem k0_off1808_inb : ∀ (i : grid0.Coords) (v3931 : BitVec 32) (k0_hw1800 : k0_chk1800 i v3931), ∀ (k0_h4 : k0_cond4 i = 1#1), ∀ a, (k0_off1808 v3931) a + S1x1024.size a ≤ S40960x1024.size a := fun i v3931 k0_hw1800 k0_h4 => k0_hw1800 k0_h4

def k0_off1809 (v3936 : BitVec 32) : Fin 2 → Nat :=
  let c0_i32_4299 : BitVec 32 := 0#32
  ![v3936.toNat, 0]

def k0_chk1801 (i : grid0.Coords) (v3936 : BitVec 32) : Prop :=
  (∀ (k0_h4 : k0_cond4 i = 1#1), ∀ a, (k0_off1809 v3936) a + S1x1024.size a ≤ S40960x1024.size a)
theorem k0_off1809_inb : ∀ (i : grid0.Coords) (v3936 : BitVec 32) (k0_hw1801 : k0_chk1801 i v3936), ∀ (k0_h4 : k0_cond4 i = 1#1), ∀ a, (k0_off1809 v3936) a + S1x1024.size a ≤ S40960x1024.size a := fun i v3936 k0_hw1801 k0_h4 => k0_hw1801 k0_h4

def k0_off1810 (v3941 : BitVec 32) : Fin 2 → Nat :=
  let c0_i32_4305 : BitVec 32 := 0#32
  ![v3941.toNat, 0]

def k0_chk1802 (i : grid0.Coords) (v3941 : BitVec 32) : Prop :=
  (∀ (k0_h4 : k0_cond4 i = 1#1), ∀ a, (k0_off1810 v3941) a + S1x1024.size a ≤ S40960x1024.size a)
theorem k0_off1810_inb : ∀ (i : grid0.Coords) (v3941 : BitVec 32) (k0_hw1802 : k0_chk1802 i v3941), ∀ (k0_h4 : k0_cond4 i = 1#1), ∀ a, (k0_off1810 v3941) a + S1x1024.size a ≤ S40960x1024.size a := fun i v3941 k0_hw1802 k0_h4 => k0_hw1802 k0_h4

def k0_off1811 (v3946 : BitVec 32) : Fin 2 → Nat :=
  let c0_i32_4310 : BitVec 32 := 0#32
  ![v3946.toNat, 0]

def k0_chk1803 (i : grid0.Coords) (v3946 : BitVec 32) : Prop :=
  (∀ (k0_h4 : k0_cond4 i = 1#1), ∀ a, (k0_off1811 v3946) a + S1x1024.size a ≤ S40960x1024.size a)
theorem k0_off1811_inb : ∀ (i : grid0.Coords) (v3946 : BitVec 32) (k0_hw1803 : k0_chk1803 i v3946), ∀ (k0_h4 : k0_cond4 i = 1#1), ∀ a, (k0_off1811 v3946) a + S1x1024.size a ≤ S40960x1024.size a := fun i v3946 k0_hw1803 k0_h4 => k0_hw1803 k0_h4

def k0_off1812 (v3951 : BitVec 32) : Fin 2 → Nat :=
  let c0_i32_4316 : BitVec 32 := 0#32
  ![v3951.toNat, 0]

def k0_chk1804 (i : grid0.Coords) (v3951 : BitVec 32) : Prop :=
  (∀ (k0_h4 : k0_cond4 i = 1#1), ∀ a, (k0_off1812 v3951) a + S1x1024.size a ≤ S40960x1024.size a)
theorem k0_off1812_inb : ∀ (i : grid0.Coords) (v3951 : BitVec 32) (k0_hw1804 : k0_chk1804 i v3951), ∀ (k0_h4 : k0_cond4 i = 1#1), ∀ a, (k0_off1812 v3951) a + S1x1024.size a ≤ S40960x1024.size a := fun i v3951 k0_hw1804 k0_h4 => k0_hw1804 k0_h4

def k0_off1813 (v3956 : BitVec 32) : Fin 2 → Nat :=
  let c0_i32_4321 : BitVec 32 := 0#32
  ![v3956.toNat, 0]

def k0_chk1805 (i : grid0.Coords) (v3956 : BitVec 32) : Prop :=
  (∀ (k0_h4 : k0_cond4 i = 1#1), ∀ a, (k0_off1813 v3956) a + S1x1024.size a ≤ S40960x1024.size a)
theorem k0_off1813_inb : ∀ (i : grid0.Coords) (v3956 : BitVec 32) (k0_hw1805 : k0_chk1805 i v3956), ∀ (k0_h4 : k0_cond4 i = 1#1), ∀ a, (k0_off1813 v3956) a + S1x1024.size a ≤ S40960x1024.size a := fun i v3956 k0_hw1805 k0_h4 => k0_hw1805 k0_h4

def k0_off1814 (v3961 : BitVec 32) : Fin 2 → Nat :=
  let c0_i32_4327 : BitVec 32 := 0#32
  ![v3961.toNat, 0]

def k0_chk1806 (i : grid0.Coords) (v3961 : BitVec 32) : Prop :=
  (∀ (k0_h4 : k0_cond4 i = 1#1), ∀ a, (k0_off1814 v3961) a + S1x1024.size a ≤ S40960x1024.size a)
theorem k0_off1814_inb : ∀ (i : grid0.Coords) (v3961 : BitVec 32) (k0_hw1806 : k0_chk1806 i v3961), ∀ (k0_h4 : k0_cond4 i = 1#1), ∀ a, (k0_off1814 v3961) a + S1x1024.size a ≤ S40960x1024.size a := fun i v3961 k0_hw1806 k0_h4 => k0_hw1806 k0_h4

def k0_off1815 (v3966 : BitVec 32) : Fin 2 → Nat :=
  let c0_i32_4332 : BitVec 32 := 0#32
  ![v3966.toNat, 0]

def k0_chk1807 (i : grid0.Coords) (v3966 : BitVec 32) : Prop :=
  (∀ (k0_h4 : k0_cond4 i = 1#1), ∀ a, (k0_off1815 v3966) a + S1x1024.size a ≤ S40960x1024.size a)
theorem k0_off1815_inb : ∀ (i : grid0.Coords) (v3966 : BitVec 32) (k0_hw1807 : k0_chk1807 i v3966), ∀ (k0_h4 : k0_cond4 i = 1#1), ∀ a, (k0_off1815 v3966) a + S1x1024.size a ≤ S40960x1024.size a := fun i v3966 k0_hw1807 k0_h4 => k0_hw1807 k0_h4

def k0_off1816 (v3971 : BitVec 32) : Fin 2 → Nat :=
  let c0_i32_4338 : BitVec 32 := 0#32
  ![v3971.toNat, 0]

def k0_chk1808 (i : grid0.Coords) (v3971 : BitVec 32) : Prop :=
  (∀ (k0_h4 : k0_cond4 i = 1#1), ∀ a, (k0_off1816 v3971) a + S1x1024.size a ≤ S40960x1024.size a)
theorem k0_off1816_inb : ∀ (i : grid0.Coords) (v3971 : BitVec 32) (k0_hw1808 : k0_chk1808 i v3971), ∀ (k0_h4 : k0_cond4 i = 1#1), ∀ a, (k0_off1816 v3971) a + S1x1024.size a ≤ S40960x1024.size a := fun i v3971 k0_hw1808 k0_h4 => k0_hw1808 k0_h4

def k0_off1817 (v3976 : BitVec 32) : Fin 2 → Nat :=
  let c0_i32_4343 : BitVec 32 := 0#32
  ![v3976.toNat, 0]

def k0_chk1809 (i : grid0.Coords) (v3976 : BitVec 32) : Prop :=
  (∀ (k0_h4 : k0_cond4 i = 1#1), ∀ a, (k0_off1817 v3976) a + S1x1024.size a ≤ S40960x1024.size a)
theorem k0_off1817_inb : ∀ (i : grid0.Coords) (v3976 : BitVec 32) (k0_hw1809 : k0_chk1809 i v3976), ∀ (k0_h4 : k0_cond4 i = 1#1), ∀ a, (k0_off1817 v3976) a + S1x1024.size a ≤ S40960x1024.size a := fun i v3976 k0_hw1809 k0_h4 => k0_hw1809 k0_h4

def k0_off1818 (v3981 : BitVec 32) : Fin 2 → Nat :=
  let c0_i32_4349 : BitVec 32 := 0#32
  ![v3981.toNat, 0]

def k0_chk1810 (i : grid0.Coords) (v3981 : BitVec 32) : Prop :=
  (∀ (k0_h4 : k0_cond4 i = 1#1), ∀ a, (k0_off1818 v3981) a + S1x1024.size a ≤ S40960x1024.size a)
theorem k0_off1818_inb : ∀ (i : grid0.Coords) (v3981 : BitVec 32) (k0_hw1810 : k0_chk1810 i v3981), ∀ (k0_h4 : k0_cond4 i = 1#1), ∀ a, (k0_off1818 v3981) a + S1x1024.size a ≤ S40960x1024.size a := fun i v3981 k0_hw1810 k0_h4 => k0_hw1810 k0_h4

def k0_off1819 (v3986 : BitVec 32) : Fin 2 → Nat :=
  let c0_i32_4354 : BitVec 32 := 0#32
  ![v3986.toNat, 0]

def k0_chk1811 (i : grid0.Coords) (v3986 : BitVec 32) : Prop :=
  (∀ (k0_h4 : k0_cond4 i = 1#1), ∀ a, (k0_off1819 v3986) a + S1x1024.size a ≤ S40960x1024.size a)
theorem k0_off1819_inb : ∀ (i : grid0.Coords) (v3986 : BitVec 32) (k0_hw1811 : k0_chk1811 i v3986), ∀ (k0_h4 : k0_cond4 i = 1#1), ∀ a, (k0_off1819 v3986) a + S1x1024.size a ≤ S40960x1024.size a := fun i v3986 k0_hw1811 k0_h4 => k0_hw1811 k0_h4

def k0_off1820 (v3991 : BitVec 32) : Fin 2 → Nat :=
  let c0_i32_4360 : BitVec 32 := 0#32
  ![v3991.toNat, 0]

def k0_chk1812 (i : grid0.Coords) (v3991 : BitVec 32) : Prop :=
  (∀ (k0_h4 : k0_cond4 i = 1#1), ∀ a, (k0_off1820 v3991) a + S1x1024.size a ≤ S40960x1024.size a)
theorem k0_off1820_inb : ∀ (i : grid0.Coords) (v3991 : BitVec 32) (k0_hw1812 : k0_chk1812 i v3991), ∀ (k0_h4 : k0_cond4 i = 1#1), ∀ a, (k0_off1820 v3991) a + S1x1024.size a ≤ S40960x1024.size a := fun i v3991 k0_hw1812 k0_h4 => k0_hw1812 k0_h4

def k0_off1821 (v3996 : BitVec 32) : Fin 2 → Nat :=
  let c0_i32_4365 : BitVec 32 := 0#32
  ![v3996.toNat, 0]

def k0_chk1813 (i : grid0.Coords) (v3996 : BitVec 32) : Prop :=
  (∀ (k0_h4 : k0_cond4 i = 1#1), ∀ a, (k0_off1821 v3996) a + S1x1024.size a ≤ S40960x1024.size a)
theorem k0_off1821_inb : ∀ (i : grid0.Coords) (v3996 : BitVec 32) (k0_hw1813 : k0_chk1813 i v3996), ∀ (k0_h4 : k0_cond4 i = 1#1), ∀ a, (k0_off1821 v3996) a + S1x1024.size a ≤ S40960x1024.size a := fun i v3996 k0_hw1813 k0_h4 => k0_hw1813 k0_h4

def k0_off1822 (v4001 : BitVec 32) : Fin 2 → Nat :=
  let c0_i32_4371 : BitVec 32 := 0#32
  ![v4001.toNat, 0]

def k0_chk1814 (i : grid0.Coords) (v4001 : BitVec 32) : Prop :=
  (∀ (k0_h4 : k0_cond4 i = 1#1), ∀ a, (k0_off1822 v4001) a + S1x1024.size a ≤ S40960x1024.size a)
theorem k0_off1822_inb : ∀ (i : grid0.Coords) (v4001 : BitVec 32) (k0_hw1814 : k0_chk1814 i v4001), ∀ (k0_h4 : k0_cond4 i = 1#1), ∀ a, (k0_off1822 v4001) a + S1x1024.size a ≤ S40960x1024.size a := fun i v4001 k0_hw1814 k0_h4 => k0_hw1814 k0_h4

def k0_off1823 (v4006 : BitVec 32) : Fin 2 → Nat :=
  let c0_i32_4376 : BitVec 32 := 0#32
  ![v4006.toNat, 0]

def k0_chk1815 (i : grid0.Coords) (v4006 : BitVec 32) : Prop :=
  (∀ (k0_h4 : k0_cond4 i = 1#1), ∀ a, (k0_off1823 v4006) a + S1x1024.size a ≤ S40960x1024.size a)
theorem k0_off1823_inb : ∀ (i : grid0.Coords) (v4006 : BitVec 32) (k0_hw1815 : k0_chk1815 i v4006), ∀ (k0_h4 : k0_cond4 i = 1#1), ∀ a, (k0_off1823 v4006) a + S1x1024.size a ≤ S40960x1024.size a := fun i v4006 k0_hw1815 k0_h4 => k0_hw1815 k0_h4

def k0_off1824 (v4011 : BitVec 32) : Fin 2 → Nat :=
  let c0_i32_4382 : BitVec 32 := 0#32
  ![v4011.toNat, 0]

def k0_chk1816 (i : grid0.Coords) (v4011 : BitVec 32) : Prop :=
  (∀ (k0_h4 : k0_cond4 i = 1#1), ∀ a, (k0_off1824 v4011) a + S1x1024.size a ≤ S40960x1024.size a)
theorem k0_off1824_inb : ∀ (i : grid0.Coords) (v4011 : BitVec 32) (k0_hw1816 : k0_chk1816 i v4011), ∀ (k0_h4 : k0_cond4 i = 1#1), ∀ a, (k0_off1824 v4011) a + S1x1024.size a ≤ S40960x1024.size a := fun i v4011 k0_hw1816 k0_h4 => k0_hw1816 k0_h4

def k0_off1825 (v4016 : BitVec 32) : Fin 2 → Nat :=
  let c0_i32_4387 : BitVec 32 := 0#32
  ![v4016.toNat, 0]

def k0_chk1817 (i : grid0.Coords) (v4016 : BitVec 32) : Prop :=
  (∀ (k0_h4 : k0_cond4 i = 1#1), ∀ a, (k0_off1825 v4016) a + S1x1024.size a ≤ S40960x1024.size a)
theorem k0_off1825_inb : ∀ (i : grid0.Coords) (v4016 : BitVec 32) (k0_hw1817 : k0_chk1817 i v4016), ∀ (k0_h4 : k0_cond4 i = 1#1), ∀ a, (k0_off1825 v4016) a + S1x1024.size a ≤ S40960x1024.size a := fun i v4016 k0_hw1817 k0_h4 => k0_hw1817 k0_h4

def k0_off1826 (v4021 : BitVec 32) : Fin 2 → Nat :=
  let c0_i32_4393 : BitVec 32 := 0#32
  ![v4021.toNat, 0]

def k0_chk1818 (i : grid0.Coords) (v4021 : BitVec 32) : Prop :=
  (∀ (k0_h4 : k0_cond4 i = 1#1), ∀ a, (k0_off1826 v4021) a + S1x1024.size a ≤ S40960x1024.size a)
theorem k0_off1826_inb : ∀ (i : grid0.Coords) (v4021 : BitVec 32) (k0_hw1818 : k0_chk1818 i v4021), ∀ (k0_h4 : k0_cond4 i = 1#1), ∀ a, (k0_off1826 v4021) a + S1x1024.size a ≤ S40960x1024.size a := fun i v4021 k0_hw1818 k0_h4 => k0_hw1818 k0_h4

def k0_off1827 (v4026 : BitVec 32) : Fin 2 → Nat :=
  let c0_i32_4398 : BitVec 32 := 0#32
  ![v4026.toNat, 0]

def k0_chk1819 (i : grid0.Coords) (v4026 : BitVec 32) : Prop :=
  (∀ (k0_h4 : k0_cond4 i = 1#1), ∀ a, (k0_off1827 v4026) a + S1x1024.size a ≤ S40960x1024.size a)
theorem k0_off1827_inb : ∀ (i : grid0.Coords) (v4026 : BitVec 32) (k0_hw1819 : k0_chk1819 i v4026), ∀ (k0_h4 : k0_cond4 i = 1#1), ∀ a, (k0_off1827 v4026) a + S1x1024.size a ≤ S40960x1024.size a := fun i v4026 k0_hw1819 k0_h4 => k0_hw1819 k0_h4

def k0_off1828 (v4031 : BitVec 32) : Fin 2 → Nat :=
  let c0_i32_4404 : BitVec 32 := 0#32
  ![v4031.toNat, 0]

def k0_chk1820 (i : grid0.Coords) (v4031 : BitVec 32) : Prop :=
  (∀ (k0_h4 : k0_cond4 i = 1#1), ∀ a, (k0_off1828 v4031) a + S1x1024.size a ≤ S40960x1024.size a)
theorem k0_off1828_inb : ∀ (i : grid0.Coords) (v4031 : BitVec 32) (k0_hw1820 : k0_chk1820 i v4031), ∀ (k0_h4 : k0_cond4 i = 1#1), ∀ a, (k0_off1828 v4031) a + S1x1024.size a ≤ S40960x1024.size a := fun i v4031 k0_hw1820 k0_h4 => k0_hw1820 k0_h4

def k0_off1829 (v4036 : BitVec 32) : Fin 2 → Nat :=
  let c0_i32_4409 : BitVec 32 := 0#32
  ![v4036.toNat, 0]

def k0_chk1821 (i : grid0.Coords) (v4036 : BitVec 32) : Prop :=
  (∀ (k0_h4 : k0_cond4 i = 1#1), ∀ a, (k0_off1829 v4036) a + S1x1024.size a ≤ S40960x1024.size a)
theorem k0_off1829_inb : ∀ (i : grid0.Coords) (v4036 : BitVec 32) (k0_hw1821 : k0_chk1821 i v4036), ∀ (k0_h4 : k0_cond4 i = 1#1), ∀ a, (k0_off1829 v4036) a + S1x1024.size a ≤ S40960x1024.size a := fun i v4036 k0_hw1821 k0_h4 => k0_hw1821 k0_h4

def k0_off1830 (v4041 : BitVec 32) : Fin 2 → Nat :=
  let c0_i32_4415 : BitVec 32 := 0#32
  ![v4041.toNat, 0]

def k0_chk1822 (i : grid0.Coords) (v4041 : BitVec 32) : Prop :=
  (∀ (k0_h4 : k0_cond4 i = 1#1), ∀ a, (k0_off1830 v4041) a + S1x1024.size a ≤ S40960x1024.size a)
theorem k0_off1830_inb : ∀ (i : grid0.Coords) (v4041 : BitVec 32) (k0_hw1822 : k0_chk1822 i v4041), ∀ (k0_h4 : k0_cond4 i = 1#1), ∀ a, (k0_off1830 v4041) a + S1x1024.size a ≤ S40960x1024.size a := fun i v4041 k0_hw1822 k0_h4 => k0_hw1822 k0_h4

def k0_off1831 (v4046 : BitVec 32) : Fin 2 → Nat :=
  let c0_i32_4420 : BitVec 32 := 0#32
  ![v4046.toNat, 0]

def k0_chk1823 (i : grid0.Coords) (v4046 : BitVec 32) : Prop :=
  (∀ (k0_h4 : k0_cond4 i = 1#1), ∀ a, (k0_off1831 v4046) a + S1x1024.size a ≤ S40960x1024.size a)
theorem k0_off1831_inb : ∀ (i : grid0.Coords) (v4046 : BitVec 32) (k0_hw1823 : k0_chk1823 i v4046), ∀ (k0_h4 : k0_cond4 i = 1#1), ∀ a, (k0_off1831 v4046) a + S1x1024.size a ≤ S40960x1024.size a := fun i v4046 k0_hw1823 k0_h4 => k0_hw1823 k0_h4

def k0_off1832 (v4051 : BitVec 32) : Fin 2 → Nat :=
  let c0_i32_4426 : BitVec 32 := 0#32
  ![v4051.toNat, 0]

def k0_chk1824 (i : grid0.Coords) (v4051 : BitVec 32) : Prop :=
  (∀ (k0_h4 : k0_cond4 i = 1#1), ∀ a, (k0_off1832 v4051) a + S1x1024.size a ≤ S40960x1024.size a)
theorem k0_off1832_inb : ∀ (i : grid0.Coords) (v4051 : BitVec 32) (k0_hw1824 : k0_chk1824 i v4051), ∀ (k0_h4 : k0_cond4 i = 1#1), ∀ a, (k0_off1832 v4051) a + S1x1024.size a ≤ S40960x1024.size a := fun i v4051 k0_hw1824 k0_h4 => k0_hw1824 k0_h4

def k0_off1833 (v4056 : BitVec 32) : Fin 2 → Nat :=
  let c0_i32_4431 : BitVec 32 := 0#32
  ![v4056.toNat, 0]

def k0_chk1825 (i : grid0.Coords) (v4056 : BitVec 32) : Prop :=
  (∀ (k0_h4 : k0_cond4 i = 1#1), ∀ a, (k0_off1833 v4056) a + S1x1024.size a ≤ S40960x1024.size a)
theorem k0_off1833_inb : ∀ (i : grid0.Coords) (v4056 : BitVec 32) (k0_hw1825 : k0_chk1825 i v4056), ∀ (k0_h4 : k0_cond4 i = 1#1), ∀ a, (k0_off1833 v4056) a + S1x1024.size a ≤ S40960x1024.size a := fun i v4056 k0_hw1825 k0_h4 => k0_hw1825 k0_h4

def k0_off1834 (v4061 : BitVec 32) : Fin 2 → Nat :=
  let c0_i32_4437 : BitVec 32 := 0#32
  ![v4061.toNat, 0]

def k0_chk1826 (i : grid0.Coords) (v4061 : BitVec 32) : Prop :=
  (∀ (k0_h4 : k0_cond4 i = 1#1), ∀ a, (k0_off1834 v4061) a + S1x1024.size a ≤ S40960x1024.size a)
theorem k0_off1834_inb : ∀ (i : grid0.Coords) (v4061 : BitVec 32) (k0_hw1826 : k0_chk1826 i v4061), ∀ (k0_h4 : k0_cond4 i = 1#1), ∀ a, (k0_off1834 v4061) a + S1x1024.size a ≤ S40960x1024.size a := fun i v4061 k0_hw1826 k0_h4 => k0_hw1826 k0_h4

def k0_off1835 (v4066 : BitVec 32) : Fin 2 → Nat :=
  let c0_i32_4442 : BitVec 32 := 0#32
  ![v4066.toNat, 0]

def k0_chk1827 (i : grid0.Coords) (v4066 : BitVec 32) : Prop :=
  (∀ (k0_h4 : k0_cond4 i = 1#1), ∀ a, (k0_off1835 v4066) a + S1x1024.size a ≤ S40960x1024.size a)
theorem k0_off1835_inb : ∀ (i : grid0.Coords) (v4066 : BitVec 32) (k0_hw1827 : k0_chk1827 i v4066), ∀ (k0_h4 : k0_cond4 i = 1#1), ∀ a, (k0_off1835 v4066) a + S1x1024.size a ≤ S40960x1024.size a := fun i v4066 k0_hw1827 k0_h4 => k0_hw1827 k0_h4

def k0_off1836 (v4071 : BitVec 32) : Fin 2 → Nat :=
  let c0_i32_4448 : BitVec 32 := 0#32
  ![v4071.toNat, 0]

def k0_chk1828 (i : grid0.Coords) (v4071 : BitVec 32) : Prop :=
  (∀ (k0_h4 : k0_cond4 i = 1#1), ∀ a, (k0_off1836 v4071) a + S1x1024.size a ≤ S40960x1024.size a)
theorem k0_off1836_inb : ∀ (i : grid0.Coords) (v4071 : BitVec 32) (k0_hw1828 : k0_chk1828 i v4071), ∀ (k0_h4 : k0_cond4 i = 1#1), ∀ a, (k0_off1836 v4071) a + S1x1024.size a ≤ S40960x1024.size a := fun i v4071 k0_hw1828 k0_h4 => k0_hw1828 k0_h4

def k0_off1837 (v4076 : BitVec 32) : Fin 2 → Nat :=
  let c0_i32_4453 : BitVec 32 := 0#32
  ![v4076.toNat, 0]

def k0_chk1829 (i : grid0.Coords) (v4076 : BitVec 32) : Prop :=
  (∀ (k0_h4 : k0_cond4 i = 1#1), ∀ a, (k0_off1837 v4076) a + S1x1024.size a ≤ S40960x1024.size a)
theorem k0_off1837_inb : ∀ (i : grid0.Coords) (v4076 : BitVec 32) (k0_hw1829 : k0_chk1829 i v4076), ∀ (k0_h4 : k0_cond4 i = 1#1), ∀ a, (k0_off1837 v4076) a + S1x1024.size a ≤ S40960x1024.size a := fun i v4076 k0_hw1829 k0_h4 => k0_hw1829 k0_h4

def k0_off1838 (v4081 : BitVec 32) : Fin 2 → Nat :=
  let c0_i32_4459 : BitVec 32 := 0#32
  ![v4081.toNat, 0]

def k0_chk1830 (i : grid0.Coords) (v4081 : BitVec 32) : Prop :=
  (∀ (k0_h4 : k0_cond4 i = 1#1), ∀ a, (k0_off1838 v4081) a + S1x1024.size a ≤ S40960x1024.size a)
theorem k0_off1838_inb : ∀ (i : grid0.Coords) (v4081 : BitVec 32) (k0_hw1830 : k0_chk1830 i v4081), ∀ (k0_h4 : k0_cond4 i = 1#1), ∀ a, (k0_off1838 v4081) a + S1x1024.size a ≤ S40960x1024.size a := fun i v4081 k0_hw1830 k0_h4 => k0_hw1830 k0_h4

def k0_off1839 (v4086 : BitVec 32) : Fin 2 → Nat :=
  let c0_i32_4464 : BitVec 32 := 0#32
  ![v4086.toNat, 0]

def k0_chk1831 (i : grid0.Coords) (v4086 : BitVec 32) : Prop :=
  (∀ (k0_h4 : k0_cond4 i = 1#1), ∀ a, (k0_off1839 v4086) a + S1x1024.size a ≤ S40960x1024.size a)
theorem k0_off1839_inb : ∀ (i : grid0.Coords) (v4086 : BitVec 32) (k0_hw1831 : k0_chk1831 i v4086), ∀ (k0_h4 : k0_cond4 i = 1#1), ∀ a, (k0_off1839 v4086) a + S1x1024.size a ≤ S40960x1024.size a := fun i v4086 k0_hw1831 k0_h4 => k0_hw1831 k0_h4

def k0_off1840 (v4091 : BitVec 32) : Fin 2 → Nat :=
  let c0_i32_4470 : BitVec 32 := 0#32
  ![v4091.toNat, 0]

def k0_chk1832 (i : grid0.Coords) (v4091 : BitVec 32) : Prop :=
  (∀ (k0_h4 : k0_cond4 i = 1#1), ∀ a, (k0_off1840 v4091) a + S1x1024.size a ≤ S40960x1024.size a)
theorem k0_off1840_inb : ∀ (i : grid0.Coords) (v4091 : BitVec 32) (k0_hw1832 : k0_chk1832 i v4091), ∀ (k0_h4 : k0_cond4 i = 1#1), ∀ a, (k0_off1840 v4091) a + S1x1024.size a ≤ S40960x1024.size a := fun i v4091 k0_hw1832 k0_h4 => k0_hw1832 k0_h4

def k0_off1841 (v4096 : BitVec 32) : Fin 2 → Nat :=
  let c0_i32_4475 : BitVec 32 := 0#32
  ![v4096.toNat, 0]

def k0_chk1833 (i : grid0.Coords) (v4096 : BitVec 32) : Prop :=
  (∀ (k0_h4 : k0_cond4 i = 1#1), ∀ a, (k0_off1841 v4096) a + S1x1024.size a ≤ S40960x1024.size a)
theorem k0_off1841_inb : ∀ (i : grid0.Coords) (v4096 : BitVec 32) (k0_hw1833 : k0_chk1833 i v4096), ∀ (k0_h4 : k0_cond4 i = 1#1), ∀ a, (k0_off1841 v4096) a + S1x1024.size a ≤ S40960x1024.size a := fun i v4096 k0_hw1833 k0_h4 => k0_hw1833 k0_h4

def k0_off1842 (v4101 : BitVec 32) : Fin 2 → Nat :=
  let c0_i32_4481 : BitVec 32 := 0#32
  ![v4101.toNat, 0]

def k0_chk1834 (i : grid0.Coords) (v4101 : BitVec 32) : Prop :=
  (∀ (k0_h4 : k0_cond4 i = 1#1), ∀ a, (k0_off1842 v4101) a + S1x1024.size a ≤ S40960x1024.size a)
theorem k0_off1842_inb : ∀ (i : grid0.Coords) (v4101 : BitVec 32) (k0_hw1834 : k0_chk1834 i v4101), ∀ (k0_h4 : k0_cond4 i = 1#1), ∀ a, (k0_off1842 v4101) a + S1x1024.size a ≤ S40960x1024.size a := fun i v4101 k0_hw1834 k0_h4 => k0_hw1834 k0_h4

def k0_off1843 (v4106 : BitVec 32) : Fin 2 → Nat :=
  let c0_i32_4486 : BitVec 32 := 0#32
  ![v4106.toNat, 0]

def k0_chk1835 (i : grid0.Coords) (v4106 : BitVec 32) : Prop :=
  (∀ (k0_h4 : k0_cond4 i = 1#1), ∀ a, (k0_off1843 v4106) a + S1x1024.size a ≤ S40960x1024.size a)
theorem k0_off1843_inb : ∀ (i : grid0.Coords) (v4106 : BitVec 32) (k0_hw1835 : k0_chk1835 i v4106), ∀ (k0_h4 : k0_cond4 i = 1#1), ∀ a, (k0_off1843 v4106) a + S1x1024.size a ≤ S40960x1024.size a := fun i v4106 k0_hw1835 k0_h4 => k0_hw1835 k0_h4

def k0_off1844 (v4111 : BitVec 32) : Fin 2 → Nat :=
  let c0_i32_4492 : BitVec 32 := 0#32
  ![v4111.toNat, 0]

def k0_chk1836 (i : grid0.Coords) (v4111 : BitVec 32) : Prop :=
  (∀ (k0_h4 : k0_cond4 i = 1#1), ∀ a, (k0_off1844 v4111) a + S1x1024.size a ≤ S40960x1024.size a)
theorem k0_off1844_inb : ∀ (i : grid0.Coords) (v4111 : BitVec 32) (k0_hw1836 : k0_chk1836 i v4111), ∀ (k0_h4 : k0_cond4 i = 1#1), ∀ a, (k0_off1844 v4111) a + S1x1024.size a ≤ S40960x1024.size a := fun i v4111 k0_hw1836 k0_h4 => k0_hw1836 k0_h4

def k0_off1845 (v4116 : BitVec 32) : Fin 2 → Nat :=
  let c0_i32_4497 : BitVec 32 := 0#32
  ![v4116.toNat, 0]

def k0_chk1837 (i : grid0.Coords) (v4116 : BitVec 32) : Prop :=
  (∀ (k0_h4 : k0_cond4 i = 1#1), ∀ a, (k0_off1845 v4116) a + S1x1024.size a ≤ S40960x1024.size a)
theorem k0_off1845_inb : ∀ (i : grid0.Coords) (v4116 : BitVec 32) (k0_hw1837 : k0_chk1837 i v4116), ∀ (k0_h4 : k0_cond4 i = 1#1), ∀ a, (k0_off1845 v4116) a + S1x1024.size a ≤ S40960x1024.size a := fun i v4116 k0_hw1837 k0_h4 => k0_hw1837 k0_h4

def k0_off1846 (v4121 : BitVec 32) : Fin 2 → Nat :=
  let c0_i32_4503 : BitVec 32 := 0#32
  ![v4121.toNat, 0]

def k0_chk1838 (i : grid0.Coords) (v4121 : BitVec 32) : Prop :=
  (∀ (k0_h4 : k0_cond4 i = 1#1), ∀ a, (k0_off1846 v4121) a + S1x1024.size a ≤ S40960x1024.size a)
theorem k0_off1846_inb : ∀ (i : grid0.Coords) (v4121 : BitVec 32) (k0_hw1838 : k0_chk1838 i v4121), ∀ (k0_h4 : k0_cond4 i = 1#1), ∀ a, (k0_off1846 v4121) a + S1x1024.size a ≤ S40960x1024.size a := fun i v4121 k0_hw1838 k0_h4 => k0_hw1838 k0_h4

def k0_off1847 (v4126 : BitVec 32) : Fin 2 → Nat :=
  let c0_i32_4508 : BitVec 32 := 0#32
  ![v4126.toNat, 0]

def k0_chk1839 (i : grid0.Coords) (v4126 : BitVec 32) : Prop :=
  (∀ (k0_h4 : k0_cond4 i = 1#1), ∀ a, (k0_off1847 v4126) a + S1x1024.size a ≤ S40960x1024.size a)
theorem k0_off1847_inb : ∀ (i : grid0.Coords) (v4126 : BitVec 32) (k0_hw1839 : k0_chk1839 i v4126), ∀ (k0_h4 : k0_cond4 i = 1#1), ∀ a, (k0_off1847 v4126) a + S1x1024.size a ≤ S40960x1024.size a := fun i v4126 k0_hw1839 k0_h4 => k0_hw1839 k0_h4

def k0_off1848 (v4131 : BitVec 32) : Fin 2 → Nat :=
  let c0_i32_4514 : BitVec 32 := 0#32
  ![v4131.toNat, 0]

def k0_chk1840 (i : grid0.Coords) (v4131 : BitVec 32) : Prop :=
  (∀ (k0_h4 : k0_cond4 i = 1#1), ∀ a, (k0_off1848 v4131) a + S1x1024.size a ≤ S40960x1024.size a)
theorem k0_off1848_inb : ∀ (i : grid0.Coords) (v4131 : BitVec 32) (k0_hw1840 : k0_chk1840 i v4131), ∀ (k0_h4 : k0_cond4 i = 1#1), ∀ a, (k0_off1848 v4131) a + S1x1024.size a ≤ S40960x1024.size a := fun i v4131 k0_hw1840 k0_h4 => k0_hw1840 k0_h4

def k0_off1849 (v4136 : BitVec 32) : Fin 2 → Nat :=
  let c0_i32_4519 : BitVec 32 := 0#32
  ![v4136.toNat, 0]

def k0_chk1841 (i : grid0.Coords) (v4136 : BitVec 32) : Prop :=
  (∀ (k0_h4 : k0_cond4 i = 1#1), ∀ a, (k0_off1849 v4136) a + S1x1024.size a ≤ S40960x1024.size a)
theorem k0_off1849_inb : ∀ (i : grid0.Coords) (v4136 : BitVec 32) (k0_hw1841 : k0_chk1841 i v4136), ∀ (k0_h4 : k0_cond4 i = 1#1), ∀ a, (k0_off1849 v4136) a + S1x1024.size a ≤ S40960x1024.size a := fun i v4136 k0_hw1841 k0_h4 => k0_hw1841 k0_h4

def k0_off1850 (v4141 : BitVec 32) : Fin 2 → Nat :=
  let c0_i32_4525 : BitVec 32 := 0#32
  ![v4141.toNat, 0]

def k0_chk1842 (i : grid0.Coords) (v4141 : BitVec 32) : Prop :=
  (∀ (k0_h4 : k0_cond4 i = 1#1), ∀ a, (k0_off1850 v4141) a + S1x1024.size a ≤ S40960x1024.size a)
theorem k0_off1850_inb : ∀ (i : grid0.Coords) (v4141 : BitVec 32) (k0_hw1842 : k0_chk1842 i v4141), ∀ (k0_h4 : k0_cond4 i = 1#1), ∀ a, (k0_off1850 v4141) a + S1x1024.size a ≤ S40960x1024.size a := fun i v4141 k0_hw1842 k0_h4 => k0_hw1842 k0_h4

def k0_off1851 (v4146 : BitVec 32) : Fin 2 → Nat :=
  let c0_i32_4530 : BitVec 32 := 0#32
  ![v4146.toNat, 0]

def k0_chk1843 (i : grid0.Coords) (v4146 : BitVec 32) : Prop :=
  (∀ (k0_h4 : k0_cond4 i = 1#1), ∀ a, (k0_off1851 v4146) a + S1x1024.size a ≤ S40960x1024.size a)
theorem k0_off1851_inb : ∀ (i : grid0.Coords) (v4146 : BitVec 32) (k0_hw1843 : k0_chk1843 i v4146), ∀ (k0_h4 : k0_cond4 i = 1#1), ∀ a, (k0_off1851 v4146) a + S1x1024.size a ≤ S40960x1024.size a := fun i v4146 k0_hw1843 k0_h4 => k0_hw1843 k0_h4

def k0_off1852 (v4151 : BitVec 32) : Fin 2 → Nat :=
  let c0_i32_4536 : BitVec 32 := 0#32
  ![v4151.toNat, 0]

def k0_chk1844 (i : grid0.Coords) (v4151 : BitVec 32) : Prop :=
  (∀ (k0_h4 : k0_cond4 i = 1#1), ∀ a, (k0_off1852 v4151) a + S1x1024.size a ≤ S40960x1024.size a)
theorem k0_off1852_inb : ∀ (i : grid0.Coords) (v4151 : BitVec 32) (k0_hw1844 : k0_chk1844 i v4151), ∀ (k0_h4 : k0_cond4 i = 1#1), ∀ a, (k0_off1852 v4151) a + S1x1024.size a ≤ S40960x1024.size a := fun i v4151 k0_hw1844 k0_h4 => k0_hw1844 k0_h4

def k0_off1853 (v4156 : BitVec 32) : Fin 2 → Nat :=
  let c0_i32_4541 : BitVec 32 := 0#32
  ![v4156.toNat, 0]

def k0_chk1845 (i : grid0.Coords) (v4156 : BitVec 32) : Prop :=
  (∀ (k0_h4 : k0_cond4 i = 1#1), ∀ a, (k0_off1853 v4156) a + S1x1024.size a ≤ S40960x1024.size a)
theorem k0_off1853_inb : ∀ (i : grid0.Coords) (v4156 : BitVec 32) (k0_hw1845 : k0_chk1845 i v4156), ∀ (k0_h4 : k0_cond4 i = 1#1), ∀ a, (k0_off1853 v4156) a + S1x1024.size a ≤ S40960x1024.size a := fun i v4156 k0_hw1845 k0_h4 => k0_hw1845 k0_h4

def k0_off1854 (v4161 : BitVec 32) : Fin 2 → Nat :=
  let c0_i32_4547 : BitVec 32 := 0#32
  ![v4161.toNat, 0]

def k0_chk1846 (i : grid0.Coords) (v4161 : BitVec 32) : Prop :=
  (∀ (k0_h4 : k0_cond4 i = 1#1), ∀ a, (k0_off1854 v4161) a + S1x1024.size a ≤ S40960x1024.size a)
theorem k0_off1854_inb : ∀ (i : grid0.Coords) (v4161 : BitVec 32) (k0_hw1846 : k0_chk1846 i v4161), ∀ (k0_h4 : k0_cond4 i = 1#1), ∀ a, (k0_off1854 v4161) a + S1x1024.size a ≤ S40960x1024.size a := fun i v4161 k0_hw1846 k0_h4 => k0_hw1846 k0_h4

def k0_off1855 (v4166 : BitVec 32) : Fin 2 → Nat :=
  let c0_i32_4552 : BitVec 32 := 0#32
  ![v4166.toNat, 0]

def k0_chk1847 (i : grid0.Coords) (v4166 : BitVec 32) : Prop :=
  (∀ (k0_h4 : k0_cond4 i = 1#1), ∀ a, (k0_off1855 v4166) a + S1x1024.size a ≤ S40960x1024.size a)
theorem k0_off1855_inb : ∀ (i : grid0.Coords) (v4166 : BitVec 32) (k0_hw1847 : k0_chk1847 i v4166), ∀ (k0_h4 : k0_cond4 i = 1#1), ∀ a, (k0_off1855 v4166) a + S1x1024.size a ≤ S40960x1024.size a := fun i v4166 k0_hw1847 k0_h4 => k0_hw1847 k0_h4

def k0_off1856 (v4171 : BitVec 32) : Fin 2 → Nat :=
  let c0_i32_4558 : BitVec 32 := 0#32
  ![v4171.toNat, 0]

def k0_chk1848 (i : grid0.Coords) (v4171 : BitVec 32) : Prop :=
  (∀ (k0_h4 : k0_cond4 i = 1#1), ∀ a, (k0_off1856 v4171) a + S1x1024.size a ≤ S40960x1024.size a)
theorem k0_off1856_inb : ∀ (i : grid0.Coords) (v4171 : BitVec 32) (k0_hw1848 : k0_chk1848 i v4171), ∀ (k0_h4 : k0_cond4 i = 1#1), ∀ a, (k0_off1856 v4171) a + S1x1024.size a ≤ S40960x1024.size a := fun i v4171 k0_hw1848 k0_h4 => k0_hw1848 k0_h4

def k0_off1857 (v4176 : BitVec 32) : Fin 2 → Nat :=
  let c0_i32_4563 : BitVec 32 := 0#32
  ![v4176.toNat, 0]

def k0_chk1849 (i : grid0.Coords) (v4176 : BitVec 32) : Prop :=
  (∀ (k0_h4 : k0_cond4 i = 1#1), ∀ a, (k0_off1857 v4176) a + S1x1024.size a ≤ S40960x1024.size a)
theorem k0_off1857_inb : ∀ (i : grid0.Coords) (v4176 : BitVec 32) (k0_hw1849 : k0_chk1849 i v4176), ∀ (k0_h4 : k0_cond4 i = 1#1), ∀ a, (k0_off1857 v4176) a + S1x1024.size a ≤ S40960x1024.size a := fun i v4176 k0_hw1849 k0_h4 => k0_hw1849 k0_h4

def k0_off1858 (v4181 : BitVec 32) : Fin 2 → Nat :=
  let c0_i32_4569 : BitVec 32 := 0#32
  ![v4181.toNat, 0]

def k0_chk1850 (i : grid0.Coords) (v4181 : BitVec 32) : Prop :=
  (∀ (k0_h4 : k0_cond4 i = 1#1), ∀ a, (k0_off1858 v4181) a + S1x1024.size a ≤ S40960x1024.size a)
theorem k0_off1858_inb : ∀ (i : grid0.Coords) (v4181 : BitVec 32) (k0_hw1850 : k0_chk1850 i v4181), ∀ (k0_h4 : k0_cond4 i = 1#1), ∀ a, (k0_off1858 v4181) a + S1x1024.size a ≤ S40960x1024.size a := fun i v4181 k0_hw1850 k0_h4 => k0_hw1850 k0_h4

def k0_off1859 (v4186 : BitVec 32) : Fin 2 → Nat :=
  let c0_i32_4574 : BitVec 32 := 0#32
  ![v4186.toNat, 0]

def k0_chk1851 (i : grid0.Coords) (v4186 : BitVec 32) : Prop :=
  (∀ (k0_h4 : k0_cond4 i = 1#1), ∀ a, (k0_off1859 v4186) a + S1x1024.size a ≤ S40960x1024.size a)
theorem k0_off1859_inb : ∀ (i : grid0.Coords) (v4186 : BitVec 32) (k0_hw1851 : k0_chk1851 i v4186), ∀ (k0_h4 : k0_cond4 i = 1#1), ∀ a, (k0_off1859 v4186) a + S1x1024.size a ≤ S40960x1024.size a := fun i v4186 k0_hw1851 k0_h4 => k0_hw1851 k0_h4

def k0_off1860 (v4191 : BitVec 32) : Fin 2 → Nat :=
  let c0_i32_4580 : BitVec 32 := 0#32
  ![v4191.toNat, 0]

def k0_chk1852 (i : grid0.Coords) (v4191 : BitVec 32) : Prop :=
  (∀ (k0_h4 : k0_cond4 i = 1#1), ∀ a, (k0_off1860 v4191) a + S1x1024.size a ≤ S40960x1024.size a)
theorem k0_off1860_inb : ∀ (i : grid0.Coords) (v4191 : BitVec 32) (k0_hw1852 : k0_chk1852 i v4191), ∀ (k0_h4 : k0_cond4 i = 1#1), ∀ a, (k0_off1860 v4191) a + S1x1024.size a ≤ S40960x1024.size a := fun i v4191 k0_hw1852 k0_h4 => k0_hw1852 k0_h4

def k0_off1861 (v4196 : BitVec 32) : Fin 2 → Nat :=
  let c0_i32_4585 : BitVec 32 := 0#32
  ![v4196.toNat, 0]

def k0_chk1853 (i : grid0.Coords) (v4196 : BitVec 32) : Prop :=
  (∀ (k0_h4 : k0_cond4 i = 1#1), ∀ a, (k0_off1861 v4196) a + S1x1024.size a ≤ S40960x1024.size a)
theorem k0_off1861_inb : ∀ (i : grid0.Coords) (v4196 : BitVec 32) (k0_hw1853 : k0_chk1853 i v4196), ∀ (k0_h4 : k0_cond4 i = 1#1), ∀ a, (k0_off1861 v4196) a + S1x1024.size a ≤ S40960x1024.size a := fun i v4196 k0_hw1853 k0_h4 => k0_hw1853 k0_h4

def k0_off1862 (v4201 : BitVec 32) : Fin 2 → Nat :=
  let c0_i32_4591 : BitVec 32 := 0#32
  ![v4201.toNat, 0]

def k0_chk1854 (i : grid0.Coords) (v4201 : BitVec 32) : Prop :=
  (∀ (k0_h4 : k0_cond4 i = 1#1), ∀ a, (k0_off1862 v4201) a + S1x1024.size a ≤ S40960x1024.size a)
theorem k0_off1862_inb : ∀ (i : grid0.Coords) (v4201 : BitVec 32) (k0_hw1854 : k0_chk1854 i v4201), ∀ (k0_h4 : k0_cond4 i = 1#1), ∀ a, (k0_off1862 v4201) a + S1x1024.size a ≤ S40960x1024.size a := fun i v4201 k0_hw1854 k0_h4 => k0_hw1854 k0_h4

def k0_off1863 (v4206 : BitVec 32) : Fin 2 → Nat :=
  let c0_i32_4596 : BitVec 32 := 0#32
  ![v4206.toNat, 0]

def k0_chk1855 (i : grid0.Coords) (v4206 : BitVec 32) : Prop :=
  (∀ (k0_h4 : k0_cond4 i = 1#1), ∀ a, (k0_off1863 v4206) a + S1x1024.size a ≤ S40960x1024.size a)
theorem k0_off1863_inb : ∀ (i : grid0.Coords) (v4206 : BitVec 32) (k0_hw1855 : k0_chk1855 i v4206), ∀ (k0_h4 : k0_cond4 i = 1#1), ∀ a, (k0_off1863 v4206) a + S1x1024.size a ≤ S40960x1024.size a := fun i v4206 k0_hw1855 k0_h4 => k0_hw1855 k0_h4

def k0_off1864 (v4211 : BitVec 32) : Fin 2 → Nat :=
  let c0_i32_4602 : BitVec 32 := 0#32
  ![v4211.toNat, 0]

def k0_chk1856 (i : grid0.Coords) (v4211 : BitVec 32) : Prop :=
  (∀ (k0_h4 : k0_cond4 i = 1#1), ∀ a, (k0_off1864 v4211) a + S1x1024.size a ≤ S40960x1024.size a)
theorem k0_off1864_inb : ∀ (i : grid0.Coords) (v4211 : BitVec 32) (k0_hw1856 : k0_chk1856 i v4211), ∀ (k0_h4 : k0_cond4 i = 1#1), ∀ a, (k0_off1864 v4211) a + S1x1024.size a ≤ S40960x1024.size a := fun i v4211 k0_hw1856 k0_h4 => k0_hw1856 k0_h4

def k0_off1865 (v4216 : BitVec 32) : Fin 2 → Nat :=
  let c0_i32_4607 : BitVec 32 := 0#32
  ![v4216.toNat, 0]

def k0_chk1857 (i : grid0.Coords) (v4216 : BitVec 32) : Prop :=
  (∀ (k0_h4 : k0_cond4 i = 1#1), ∀ a, (k0_off1865 v4216) a + S1x1024.size a ≤ S40960x1024.size a)
theorem k0_off1865_inb : ∀ (i : grid0.Coords) (v4216 : BitVec 32) (k0_hw1857 : k0_chk1857 i v4216), ∀ (k0_h4 : k0_cond4 i = 1#1), ∀ a, (k0_off1865 v4216) a + S1x1024.size a ≤ S40960x1024.size a := fun i v4216 k0_hw1857 k0_h4 => k0_hw1857 k0_h4

def k0_off1866 (v4221 : BitVec 32) : Fin 2 → Nat :=
  let c0_i32_4613 : BitVec 32 := 0#32
  ![v4221.toNat, 0]

def k0_chk1858 (i : grid0.Coords) (v4221 : BitVec 32) : Prop :=
  (∀ (k0_h4 : k0_cond4 i = 1#1), ∀ a, (k0_off1866 v4221) a + S1x1024.size a ≤ S40960x1024.size a)
theorem k0_off1866_inb : ∀ (i : grid0.Coords) (v4221 : BitVec 32) (k0_hw1858 : k0_chk1858 i v4221), ∀ (k0_h4 : k0_cond4 i = 1#1), ∀ a, (k0_off1866 v4221) a + S1x1024.size a ≤ S40960x1024.size a := fun i v4221 k0_hw1858 k0_h4 => k0_hw1858 k0_h4

def k0_off1867 (v4226 : BitVec 32) : Fin 2 → Nat :=
  let c0_i32_4618 : BitVec 32 := 0#32
  ![v4226.toNat, 0]

def k0_chk1859 (i : grid0.Coords) (v4226 : BitVec 32) : Prop :=
  (∀ (k0_h4 : k0_cond4 i = 1#1), ∀ a, (k0_off1867 v4226) a + S1x1024.size a ≤ S40960x1024.size a)
theorem k0_off1867_inb : ∀ (i : grid0.Coords) (v4226 : BitVec 32) (k0_hw1859 : k0_chk1859 i v4226), ∀ (k0_h4 : k0_cond4 i = 1#1), ∀ a, (k0_off1867 v4226) a + S1x1024.size a ≤ S40960x1024.size a := fun i v4226 k0_hw1859 k0_h4 => k0_hw1859 k0_h4

def k0_off1868 (v4231 : BitVec 32) : Fin 2 → Nat :=
  let c0_i32_4624 : BitVec 32 := 0#32
  ![v4231.toNat, 0]

def k0_chk1860 (i : grid0.Coords) (v4231 : BitVec 32) : Prop :=
  (∀ (k0_h4 : k0_cond4 i = 1#1), ∀ a, (k0_off1868 v4231) a + S1x1024.size a ≤ S40960x1024.size a)
theorem k0_off1868_inb : ∀ (i : grid0.Coords) (v4231 : BitVec 32) (k0_hw1860 : k0_chk1860 i v4231), ∀ (k0_h4 : k0_cond4 i = 1#1), ∀ a, (k0_off1868 v4231) a + S1x1024.size a ≤ S40960x1024.size a := fun i v4231 k0_hw1860 k0_h4 => k0_hw1860 k0_h4

def k0_off1869 (v4236 : BitVec 32) : Fin 2 → Nat :=
  let c0_i32_4629 : BitVec 32 := 0#32
  ![v4236.toNat, 0]

def k0_chk1861 (i : grid0.Coords) (v4236 : BitVec 32) : Prop :=
  (∀ (k0_h4 : k0_cond4 i = 1#1), ∀ a, (k0_off1869 v4236) a + S1x1024.size a ≤ S40960x1024.size a)
theorem k0_off1869_inb : ∀ (i : grid0.Coords) (v4236 : BitVec 32) (k0_hw1861 : k0_chk1861 i v4236), ∀ (k0_h4 : k0_cond4 i = 1#1), ∀ a, (k0_off1869 v4236) a + S1x1024.size a ≤ S40960x1024.size a := fun i v4236 k0_hw1861 k0_h4 => k0_hw1861 k0_h4

def k0_off1870 (v4241 : BitVec 32) : Fin 2 → Nat :=
  let c0_i32_4635 : BitVec 32 := 0#32
  ![v4241.toNat, 0]

def k0_chk1862 (i : grid0.Coords) (v4241 : BitVec 32) : Prop :=
  (∀ (k0_h4 : k0_cond4 i = 1#1), ∀ a, (k0_off1870 v4241) a + S1x1024.size a ≤ S40960x1024.size a)
theorem k0_off1870_inb : ∀ (i : grid0.Coords) (v4241 : BitVec 32) (k0_hw1862 : k0_chk1862 i v4241), ∀ (k0_h4 : k0_cond4 i = 1#1), ∀ a, (k0_off1870 v4241) a + S1x1024.size a ≤ S40960x1024.size a := fun i v4241 k0_hw1862 k0_h4 => k0_hw1862 k0_h4

def k0_off1871 (v4246 : BitVec 32) : Fin 2 → Nat :=
  let c0_i32_4640 : BitVec 32 := 0#32
  ![v4246.toNat, 0]

def k0_chk1863 (i : grid0.Coords) (v4246 : BitVec 32) : Prop :=
  (∀ (k0_h4 : k0_cond4 i = 1#1), ∀ a, (k0_off1871 v4246) a + S1x1024.size a ≤ S40960x1024.size a)
theorem k0_off1871_inb : ∀ (i : grid0.Coords) (v4246 : BitVec 32) (k0_hw1863 : k0_chk1863 i v4246), ∀ (k0_h4 : k0_cond4 i = 1#1), ∀ a, (k0_off1871 v4246) a + S1x1024.size a ≤ S40960x1024.size a := fun i v4246 k0_hw1863 k0_h4 => k0_hw1863 k0_h4

def k0_off1872 (v4251 : BitVec 32) : Fin 2 → Nat :=
  let c0_i32_4646 : BitVec 32 := 0#32
  ![v4251.toNat, 0]

def k0_chk1864 (i : grid0.Coords) (v4251 : BitVec 32) : Prop :=
  (∀ (k0_h4 : k0_cond4 i = 1#1), ∀ a, (k0_off1872 v4251) a + S1x1024.size a ≤ S40960x1024.size a)
theorem k0_off1872_inb : ∀ (i : grid0.Coords) (v4251 : BitVec 32) (k0_hw1864 : k0_chk1864 i v4251), ∀ (k0_h4 : k0_cond4 i = 1#1), ∀ a, (k0_off1872 v4251) a + S1x1024.size a ≤ S40960x1024.size a := fun i v4251 k0_hw1864 k0_h4 => k0_hw1864 k0_h4

def k0_off1873 (v4256 : BitVec 32) : Fin 2 → Nat :=
  let c0_i32_4651 : BitVec 32 := 0#32
  ![v4256.toNat, 0]

def k0_chk1865 (i : grid0.Coords) (v4256 : BitVec 32) : Prop :=
  (∀ (k0_h4 : k0_cond4 i = 1#1), ∀ a, (k0_off1873 v4256) a + S1x1024.size a ≤ S40960x1024.size a)
theorem k0_off1873_inb : ∀ (i : grid0.Coords) (v4256 : BitVec 32) (k0_hw1865 : k0_chk1865 i v4256), ∀ (k0_h4 : k0_cond4 i = 1#1), ∀ a, (k0_off1873 v4256) a + S1x1024.size a ≤ S40960x1024.size a := fun i v4256 k0_hw1865 k0_h4 => k0_hw1865 k0_h4

def k0_off1874 (v4261 : BitVec 32) : Fin 2 → Nat :=
  let c0_i32_4657 : BitVec 32 := 0#32
  ![v4261.toNat, 0]

def k0_chk1866 (i : grid0.Coords) (v4261 : BitVec 32) : Prop :=
  (∀ (k0_h4 : k0_cond4 i = 1#1), ∀ a, (k0_off1874 v4261) a + S1x1024.size a ≤ S40960x1024.size a)
theorem k0_off1874_inb : ∀ (i : grid0.Coords) (v4261 : BitVec 32) (k0_hw1866 : k0_chk1866 i v4261), ∀ (k0_h4 : k0_cond4 i = 1#1), ∀ a, (k0_off1874 v4261) a + S1x1024.size a ≤ S40960x1024.size a := fun i v4261 k0_hw1866 k0_h4 => k0_hw1866 k0_h4

def k0_off1875 (v4266 : BitVec 32) : Fin 2 → Nat :=
  let c0_i32_4662 : BitVec 32 := 0#32
  ![v4266.toNat, 0]

def k0_chk1867 (i : grid0.Coords) (v4266 : BitVec 32) : Prop :=
  (∀ (k0_h4 : k0_cond4 i = 1#1), ∀ a, (k0_off1875 v4266) a + S1x1024.size a ≤ S40960x1024.size a)
theorem k0_off1875_inb : ∀ (i : grid0.Coords) (v4266 : BitVec 32) (k0_hw1867 : k0_chk1867 i v4266), ∀ (k0_h4 : k0_cond4 i = 1#1), ∀ a, (k0_off1875 v4266) a + S1x1024.size a ≤ S40960x1024.size a := fun i v4266 k0_hw1867 k0_h4 => k0_hw1867 k0_h4

def k0_off1876 (v4271 : BitVec 32) : Fin 2 → Nat :=
  let c0_i32_4668 : BitVec 32 := 0#32
  ![v4271.toNat, 0]

def k0_chk1868 (i : grid0.Coords) (v4271 : BitVec 32) : Prop :=
  (∀ (k0_h4 : k0_cond4 i = 1#1), ∀ a, (k0_off1876 v4271) a + S1x1024.size a ≤ S40960x1024.size a)
theorem k0_off1876_inb : ∀ (i : grid0.Coords) (v4271 : BitVec 32) (k0_hw1868 : k0_chk1868 i v4271), ∀ (k0_h4 : k0_cond4 i = 1#1), ∀ a, (k0_off1876 v4271) a + S1x1024.size a ≤ S40960x1024.size a := fun i v4271 k0_hw1868 k0_h4 => k0_hw1868 k0_h4

def k0_off1877 (v4276 : BitVec 32) : Fin 2 → Nat :=
  let c0_i32_4673 : BitVec 32 := 0#32
  ![v4276.toNat, 0]

def k0_chk1869 (i : grid0.Coords) (v4276 : BitVec 32) : Prop :=
  (∀ (k0_h4 : k0_cond4 i = 1#1), ∀ a, (k0_off1877 v4276) a + S1x1024.size a ≤ S40960x1024.size a)
theorem k0_off1877_inb : ∀ (i : grid0.Coords) (v4276 : BitVec 32) (k0_hw1869 : k0_chk1869 i v4276), ∀ (k0_h4 : k0_cond4 i = 1#1), ∀ a, (k0_off1877 v4276) a + S1x1024.size a ≤ S40960x1024.size a := fun i v4276 k0_hw1869 k0_h4 => k0_hw1869 k0_h4

def k0_off1878 (v4281 : BitVec 32) : Fin 2 → Nat :=
  let c0_i32_4679 : BitVec 32 := 0#32
  ![v4281.toNat, 0]

def k0_chk1870 (i : grid0.Coords) (v4281 : BitVec 32) : Prop :=
  (∀ (k0_h4 : k0_cond4 i = 1#1), ∀ a, (k0_off1878 v4281) a + S1x1024.size a ≤ S40960x1024.size a)
theorem k0_off1878_inb : ∀ (i : grid0.Coords) (v4281 : BitVec 32) (k0_hw1870 : k0_chk1870 i v4281), ∀ (k0_h4 : k0_cond4 i = 1#1), ∀ a, (k0_off1878 v4281) a + S1x1024.size a ≤ S40960x1024.size a := fun i v4281 k0_hw1870 k0_h4 => k0_hw1870 k0_h4

def k0_off1879 (v4286 : BitVec 32) : Fin 2 → Nat :=
  let c0_i32_4684 : BitVec 32 := 0#32
  ![v4286.toNat, 0]

def k0_chk1871 (i : grid0.Coords) (v4286 : BitVec 32) : Prop :=
  (∀ (k0_h4 : k0_cond4 i = 1#1), ∀ a, (k0_off1879 v4286) a + S1x1024.size a ≤ S40960x1024.size a)
theorem k0_off1879_inb : ∀ (i : grid0.Coords) (v4286 : BitVec 32) (k0_hw1871 : k0_chk1871 i v4286), ∀ (k0_h4 : k0_cond4 i = 1#1), ∀ a, (k0_off1879 v4286) a + S1x1024.size a ≤ S40960x1024.size a := fun i v4286 k0_hw1871 k0_h4 => k0_hw1871 k0_h4

def k0_off1880 (v4291 : BitVec 32) : Fin 2 → Nat :=
  let c0_i32_4690 : BitVec 32 := 0#32
  ![v4291.toNat, 0]

def k0_chk1872 (i : grid0.Coords) (v4291 : BitVec 32) : Prop :=
  (∀ (k0_h4 : k0_cond4 i = 1#1), ∀ a, (k0_off1880 v4291) a + S1x1024.size a ≤ S40960x1024.size a)
theorem k0_off1880_inb : ∀ (i : grid0.Coords) (v4291 : BitVec 32) (k0_hw1872 : k0_chk1872 i v4291), ∀ (k0_h4 : k0_cond4 i = 1#1), ∀ a, (k0_off1880 v4291) a + S1x1024.size a ≤ S40960x1024.size a := fun i v4291 k0_hw1872 k0_h4 => k0_hw1872 k0_h4

def k0_off1881 (v4296 : BitVec 32) : Fin 2 → Nat :=
  let c0_i32_4695 : BitVec 32 := 0#32
  ![v4296.toNat, 0]

def k0_chk1873 (i : grid0.Coords) (v4296 : BitVec 32) : Prop :=
  (∀ (k0_h4 : k0_cond4 i = 1#1), ∀ a, (k0_off1881 v4296) a + S1x1024.size a ≤ S40960x1024.size a)
theorem k0_off1881_inb : ∀ (i : grid0.Coords) (v4296 : BitVec 32) (k0_hw1873 : k0_chk1873 i v4296), ∀ (k0_h4 : k0_cond4 i = 1#1), ∀ a, (k0_off1881 v4296) a + S1x1024.size a ≤ S40960x1024.size a := fun i v4296 k0_hw1873 k0_h4 => k0_hw1873 k0_h4

def k0_off1882 (v4301 : BitVec 32) : Fin 2 → Nat :=
  let c0_i32_4701 : BitVec 32 := 0#32
  ![v4301.toNat, 0]

def k0_chk1874 (i : grid0.Coords) (v4301 : BitVec 32) : Prop :=
  (∀ (k0_h4 : k0_cond4 i = 1#1), ∀ a, (k0_off1882 v4301) a + S1x1024.size a ≤ S40960x1024.size a)
theorem k0_off1882_inb : ∀ (i : grid0.Coords) (v4301 : BitVec 32) (k0_hw1874 : k0_chk1874 i v4301), ∀ (k0_h4 : k0_cond4 i = 1#1), ∀ a, (k0_off1882 v4301) a + S1x1024.size a ≤ S40960x1024.size a := fun i v4301 k0_hw1874 k0_h4 => k0_hw1874 k0_h4

def k0_off1883 (v4306 : BitVec 32) : Fin 2 → Nat :=
  let c0_i32_4706 : BitVec 32 := 0#32
  ![v4306.toNat, 0]

def k0_chk1875 (i : grid0.Coords) (v4306 : BitVec 32) : Prop :=
  (∀ (k0_h4 : k0_cond4 i = 1#1), ∀ a, (k0_off1883 v4306) a + S1x1024.size a ≤ S40960x1024.size a)
theorem k0_off1883_inb : ∀ (i : grid0.Coords) (v4306 : BitVec 32) (k0_hw1875 : k0_chk1875 i v4306), ∀ (k0_h4 : k0_cond4 i = 1#1), ∀ a, (k0_off1883 v4306) a + S1x1024.size a ≤ S40960x1024.size a := fun i v4306 k0_hw1875 k0_h4 => k0_hw1875 k0_h4

def k0_off1884 (v4311 : BitVec 32) : Fin 2 → Nat :=
  let c0_i32_4712 : BitVec 32 := 0#32
  ![v4311.toNat, 0]

def k0_chk1876 (i : grid0.Coords) (v4311 : BitVec 32) : Prop :=
  (∀ (k0_h4 : k0_cond4 i = 1#1), ∀ a, (k0_off1884 v4311) a + S1x1024.size a ≤ S40960x1024.size a)
theorem k0_off1884_inb : ∀ (i : grid0.Coords) (v4311 : BitVec 32) (k0_hw1876 : k0_chk1876 i v4311), ∀ (k0_h4 : k0_cond4 i = 1#1), ∀ a, (k0_off1884 v4311) a + S1x1024.size a ≤ S40960x1024.size a := fun i v4311 k0_hw1876 k0_h4 => k0_hw1876 k0_h4

def k0_off1885 (v4316 : BitVec 32) : Fin 2 → Nat :=
  let c0_i32_4717 : BitVec 32 := 0#32
  ![v4316.toNat, 0]

def k0_chk1877 (i : grid0.Coords) (v4316 : BitVec 32) : Prop :=
  (∀ (k0_h4 : k0_cond4 i = 1#1), ∀ a, (k0_off1885 v4316) a + S1x1024.size a ≤ S40960x1024.size a)
theorem k0_off1885_inb : ∀ (i : grid0.Coords) (v4316 : BitVec 32) (k0_hw1877 : k0_chk1877 i v4316), ∀ (k0_h4 : k0_cond4 i = 1#1), ∀ a, (k0_off1885 v4316) a + S1x1024.size a ≤ S40960x1024.size a := fun i v4316 k0_hw1877 k0_h4 => k0_hw1877 k0_h4

def k0_off1886 (v4321 : BitVec 32) : Fin 2 → Nat :=
  let c0_i32_4723 : BitVec 32 := 0#32
  ![v4321.toNat, 0]

def k0_chk1878 (i : grid0.Coords) (v4321 : BitVec 32) : Prop :=
  (∀ (k0_h4 : k0_cond4 i = 1#1), ∀ a, (k0_off1886 v4321) a + S1x1024.size a ≤ S40960x1024.size a)
theorem k0_off1886_inb : ∀ (i : grid0.Coords) (v4321 : BitVec 32) (k0_hw1878 : k0_chk1878 i v4321), ∀ (k0_h4 : k0_cond4 i = 1#1), ∀ a, (k0_off1886 v4321) a + S1x1024.size a ≤ S40960x1024.size a := fun i v4321 k0_hw1878 k0_h4 => k0_hw1878 k0_h4

def k0_off1887 (v4326 : BitVec 32) : Fin 2 → Nat :=
  let c0_i32_4728 : BitVec 32 := 0#32
  ![v4326.toNat, 0]

def k0_chk1879 (i : grid0.Coords) (v4326 : BitVec 32) : Prop :=
  (∀ (k0_h4 : k0_cond4 i = 1#1), ∀ a, (k0_off1887 v4326) a + S1x1024.size a ≤ S40960x1024.size a)
theorem k0_off1887_inb : ∀ (i : grid0.Coords) (v4326 : BitVec 32) (k0_hw1879 : k0_chk1879 i v4326), ∀ (k0_h4 : k0_cond4 i = 1#1), ∀ a, (k0_off1887 v4326) a + S1x1024.size a ≤ S40960x1024.size a := fun i v4326 k0_hw1879 k0_h4 => k0_hw1879 k0_h4

def k0_off1888 (v4331 : BitVec 32) : Fin 2 → Nat :=
  let c0_i32_4734 : BitVec 32 := 0#32
  ![v4331.toNat, 0]

def k0_chk1880 (i : grid0.Coords) (v4331 : BitVec 32) : Prop :=
  (∀ (k0_h4 : k0_cond4 i = 1#1), ∀ a, (k0_off1888 v4331) a + S1x1024.size a ≤ S40960x1024.size a)
theorem k0_off1888_inb : ∀ (i : grid0.Coords) (v4331 : BitVec 32) (k0_hw1880 : k0_chk1880 i v4331), ∀ (k0_h4 : k0_cond4 i = 1#1), ∀ a, (k0_off1888 v4331) a + S1x1024.size a ≤ S40960x1024.size a := fun i v4331 k0_hw1880 k0_h4 => k0_hw1880 k0_h4

def k0_off1889 (v4336 : BitVec 32) : Fin 2 → Nat :=
  let c0_i32_4739 : BitVec 32 := 0#32
  ![v4336.toNat, 0]

def k0_chk1881 (i : grid0.Coords) (v4336 : BitVec 32) : Prop :=
  (∀ (k0_h4 : k0_cond4 i = 1#1), ∀ a, (k0_off1889 v4336) a + S1x1024.size a ≤ S40960x1024.size a)
theorem k0_off1889_inb : ∀ (i : grid0.Coords) (v4336 : BitVec 32) (k0_hw1881 : k0_chk1881 i v4336), ∀ (k0_h4 : k0_cond4 i = 1#1), ∀ a, (k0_off1889 v4336) a + S1x1024.size a ≤ S40960x1024.size a := fun i v4336 k0_hw1881 k0_h4 => k0_hw1881 k0_h4

def k0_off1890 (v4341 : BitVec 32) : Fin 2 → Nat :=
  let c0_i32_4745 : BitVec 32 := 0#32
  ![v4341.toNat, 0]

def k0_chk1882 (i : grid0.Coords) (v4341 : BitVec 32) : Prop :=
  (∀ (k0_h4 : k0_cond4 i = 1#1), ∀ a, (k0_off1890 v4341) a + S1x1024.size a ≤ S40960x1024.size a)
theorem k0_off1890_inb : ∀ (i : grid0.Coords) (v4341 : BitVec 32) (k0_hw1882 : k0_chk1882 i v4341), ∀ (k0_h4 : k0_cond4 i = 1#1), ∀ a, (k0_off1890 v4341) a + S1x1024.size a ≤ S40960x1024.size a := fun i v4341 k0_hw1882 k0_h4 => k0_hw1882 k0_h4

def k0_off1891 (v4346 : BitVec 32) : Fin 2 → Nat :=
  let c0_i32_4750 : BitVec 32 := 0#32
  ![v4346.toNat, 0]

def k0_chk1883 (i : grid0.Coords) (v4346 : BitVec 32) : Prop :=
  (∀ (k0_h4 : k0_cond4 i = 1#1), ∀ a, (k0_off1891 v4346) a + S1x1024.size a ≤ S40960x1024.size a)
theorem k0_off1891_inb : ∀ (i : grid0.Coords) (v4346 : BitVec 32) (k0_hw1883 : k0_chk1883 i v4346), ∀ (k0_h4 : k0_cond4 i = 1#1), ∀ a, (k0_off1891 v4346) a + S1x1024.size a ≤ S40960x1024.size a := fun i v4346 k0_hw1883 k0_h4 => k0_hw1883 k0_h4

def k0_off1892 (v4351 : BitVec 32) : Fin 2 → Nat :=
  let c0_i32_4756 : BitVec 32 := 0#32
  ![v4351.toNat, 0]

def k0_chk1884 (i : grid0.Coords) (v4351 : BitVec 32) : Prop :=
  (∀ (k0_h4 : k0_cond4 i = 1#1), ∀ a, (k0_off1892 v4351) a + S1x1024.size a ≤ S40960x1024.size a)
theorem k0_off1892_inb : ∀ (i : grid0.Coords) (v4351 : BitVec 32) (k0_hw1884 : k0_chk1884 i v4351), ∀ (k0_h4 : k0_cond4 i = 1#1), ∀ a, (k0_off1892 v4351) a + S1x1024.size a ≤ S40960x1024.size a := fun i v4351 k0_hw1884 k0_h4 => k0_hw1884 k0_h4

def k0_off1893 (v4356 : BitVec 32) : Fin 2 → Nat :=
  let c0_i32_4761 : BitVec 32 := 0#32
  ![v4356.toNat, 0]

def k0_chk1885 (i : grid0.Coords) (v4356 : BitVec 32) : Prop :=
  (∀ (k0_h4 : k0_cond4 i = 1#1), ∀ a, (k0_off1893 v4356) a + S1x1024.size a ≤ S40960x1024.size a)
theorem k0_off1893_inb : ∀ (i : grid0.Coords) (v4356 : BitVec 32) (k0_hw1885 : k0_chk1885 i v4356), ∀ (k0_h4 : k0_cond4 i = 1#1), ∀ a, (k0_off1893 v4356) a + S1x1024.size a ≤ S40960x1024.size a := fun i v4356 k0_hw1885 k0_h4 => k0_hw1885 k0_h4

def k0_off1894 (v4361 : BitVec 32) : Fin 2 → Nat :=
  let c0_i32_4767 : BitVec 32 := 0#32
  ![v4361.toNat, 0]

def k0_chk1886 (i : grid0.Coords) (v4361 : BitVec 32) : Prop :=
  (∀ (k0_h4 : k0_cond4 i = 1#1), ∀ a, (k0_off1894 v4361) a + S1x1024.size a ≤ S40960x1024.size a)
theorem k0_off1894_inb : ∀ (i : grid0.Coords) (v4361 : BitVec 32) (k0_hw1886 : k0_chk1886 i v4361), ∀ (k0_h4 : k0_cond4 i = 1#1), ∀ a, (k0_off1894 v4361) a + S1x1024.size a ≤ S40960x1024.size a := fun i v4361 k0_hw1886 k0_h4 => k0_hw1886 k0_h4

def k0_off1895 (v4366 : BitVec 32) : Fin 2 → Nat :=
  let c0_i32_4772 : BitVec 32 := 0#32
  ![v4366.toNat, 0]

def k0_chk1887 (i : grid0.Coords) (v4366 : BitVec 32) : Prop :=
  (∀ (k0_h4 : k0_cond4 i = 1#1), ∀ a, (k0_off1895 v4366) a + S1x1024.size a ≤ S40960x1024.size a)
theorem k0_off1895_inb : ∀ (i : grid0.Coords) (v4366 : BitVec 32) (k0_hw1887 : k0_chk1887 i v4366), ∀ (k0_h4 : k0_cond4 i = 1#1), ∀ a, (k0_off1895 v4366) a + S1x1024.size a ≤ S40960x1024.size a := fun i v4366 k0_hw1887 k0_h4 => k0_hw1887 k0_h4

def k0_off1896 (v4371 : BitVec 32) : Fin 2 → Nat :=
  let c0_i32_4778 : BitVec 32 := 0#32
  ![v4371.toNat, 0]

def k0_chk1888 (i : grid0.Coords) (v4371 : BitVec 32) : Prop :=
  (∀ (k0_h4 : k0_cond4 i = 1#1), ∀ a, (k0_off1896 v4371) a + S1x1024.size a ≤ S40960x1024.size a)
theorem k0_off1896_inb : ∀ (i : grid0.Coords) (v4371 : BitVec 32) (k0_hw1888 : k0_chk1888 i v4371), ∀ (k0_h4 : k0_cond4 i = 1#1), ∀ a, (k0_off1896 v4371) a + S1x1024.size a ≤ S40960x1024.size a := fun i v4371 k0_hw1888 k0_h4 => k0_hw1888 k0_h4

def k0_off1897 (v4376 : BitVec 32) : Fin 2 → Nat :=
  let c0_i32_4783 : BitVec 32 := 0#32
  ![v4376.toNat, 0]

def k0_chk1889 (i : grid0.Coords) (v4376 : BitVec 32) : Prop :=
  (∀ (k0_h4 : k0_cond4 i = 1#1), ∀ a, (k0_off1897 v4376) a + S1x1024.size a ≤ S40960x1024.size a)
theorem k0_off1897_inb : ∀ (i : grid0.Coords) (v4376 : BitVec 32) (k0_hw1889 : k0_chk1889 i v4376), ∀ (k0_h4 : k0_cond4 i = 1#1), ∀ a, (k0_off1897 v4376) a + S1x1024.size a ≤ S40960x1024.size a := fun i v4376 k0_hw1889 k0_h4 => k0_hw1889 k0_h4

def k0_off1898 (v4381 : BitVec 32) : Fin 2 → Nat :=
  let c0_i32_4789 : BitVec 32 := 0#32
  ![v4381.toNat, 0]

def k0_chk1890 (i : grid0.Coords) (v4381 : BitVec 32) : Prop :=
  (∀ (k0_h4 : k0_cond4 i = 1#1), ∀ a, (k0_off1898 v4381) a + S1x1024.size a ≤ S40960x1024.size a)
theorem k0_off1898_inb : ∀ (i : grid0.Coords) (v4381 : BitVec 32) (k0_hw1890 : k0_chk1890 i v4381), ∀ (k0_h4 : k0_cond4 i = 1#1), ∀ a, (k0_off1898 v4381) a + S1x1024.size a ≤ S40960x1024.size a := fun i v4381 k0_hw1890 k0_h4 => k0_hw1890 k0_h4

def k0_off1899 (v4386 : BitVec 32) : Fin 2 → Nat :=
  let c0_i32_4794 : BitVec 32 := 0#32
  ![v4386.toNat, 0]

def k0_chk1891 (i : grid0.Coords) (v4386 : BitVec 32) : Prop :=
  (∀ (k0_h4 : k0_cond4 i = 1#1), ∀ a, (k0_off1899 v4386) a + S1x1024.size a ≤ S40960x1024.size a)
theorem k0_off1899_inb : ∀ (i : grid0.Coords) (v4386 : BitVec 32) (k0_hw1891 : k0_chk1891 i v4386), ∀ (k0_h4 : k0_cond4 i = 1#1), ∀ a, (k0_off1899 v4386) a + S1x1024.size a ≤ S40960x1024.size a := fun i v4386 k0_hw1891 k0_h4 => k0_hw1891 k0_h4

def k0_off1900 (v4391 : BitVec 32) : Fin 2 → Nat :=
  let c0_i32_4800 : BitVec 32 := 0#32
  ![v4391.toNat, 0]

def k0_chk1892 (i : grid0.Coords) (v4391 : BitVec 32) : Prop :=
  (∀ (k0_h4 : k0_cond4 i = 1#1), ∀ a, (k0_off1900 v4391) a + S1x1024.size a ≤ S40960x1024.size a)
theorem k0_off1900_inb : ∀ (i : grid0.Coords) (v4391 : BitVec 32) (k0_hw1892 : k0_chk1892 i v4391), ∀ (k0_h4 : k0_cond4 i = 1#1), ∀ a, (k0_off1900 v4391) a + S1x1024.size a ≤ S40960x1024.size a := fun i v4391 k0_hw1892 k0_h4 => k0_hw1892 k0_h4

def k0_off1901 (v4396 : BitVec 32) : Fin 2 → Nat :=
  let c0_i32_4805 : BitVec 32 := 0#32
  ![v4396.toNat, 0]

def k0_chk1893 (i : grid0.Coords) (v4396 : BitVec 32) : Prop :=
  (∀ (k0_h4 : k0_cond4 i = 1#1), ∀ a, (k0_off1901 v4396) a + S1x1024.size a ≤ S40960x1024.size a)
theorem k0_off1901_inb : ∀ (i : grid0.Coords) (v4396 : BitVec 32) (k0_hw1893 : k0_chk1893 i v4396), ∀ (k0_h4 : k0_cond4 i = 1#1), ∀ a, (k0_off1901 v4396) a + S1x1024.size a ≤ S40960x1024.size a := fun i v4396 k0_hw1893 k0_h4 => k0_hw1893 k0_h4

def k0_off1902 (v4401 : BitVec 32) : Fin 2 → Nat :=
  let c0_i32_4811 : BitVec 32 := 0#32
  ![v4401.toNat, 0]

def k0_chk1894 (i : grid0.Coords) (v4401 : BitVec 32) : Prop :=
  (∀ (k0_h4 : k0_cond4 i = 1#1), ∀ a, (k0_off1902 v4401) a + S1x1024.size a ≤ S40960x1024.size a)
theorem k0_off1902_inb : ∀ (i : grid0.Coords) (v4401 : BitVec 32) (k0_hw1894 : k0_chk1894 i v4401), ∀ (k0_h4 : k0_cond4 i = 1#1), ∀ a, (k0_off1902 v4401) a + S1x1024.size a ≤ S40960x1024.size a := fun i v4401 k0_hw1894 k0_h4 => k0_hw1894 k0_h4

def k0_off1903 (v4406 : BitVec 32) : Fin 2 → Nat :=
  let c0_i32_4816 : BitVec 32 := 0#32
  ![v4406.toNat, 0]

def k0_chk1895 (i : grid0.Coords) (v4406 : BitVec 32) : Prop :=
  (∀ (k0_h4 : k0_cond4 i = 1#1), ∀ a, (k0_off1903 v4406) a + S1x1024.size a ≤ S40960x1024.size a)
theorem k0_off1903_inb : ∀ (i : grid0.Coords) (v4406 : BitVec 32) (k0_hw1895 : k0_chk1895 i v4406), ∀ (k0_h4 : k0_cond4 i = 1#1), ∀ a, (k0_off1903 v4406) a + S1x1024.size a ≤ S40960x1024.size a := fun i v4406 k0_hw1895 k0_h4 => k0_hw1895 k0_h4

def k0_off1904 (v4411 : BitVec 32) : Fin 2 → Nat :=
  let c0_i32_4822 : BitVec 32 := 0#32
  ![v4411.toNat, 0]

def k0_chk1896 (i : grid0.Coords) (v4411 : BitVec 32) : Prop :=
  (∀ (k0_h4 : k0_cond4 i = 1#1), ∀ a, (k0_off1904 v4411) a + S1x1024.size a ≤ S40960x1024.size a)
theorem k0_off1904_inb : ∀ (i : grid0.Coords) (v4411 : BitVec 32) (k0_hw1896 : k0_chk1896 i v4411), ∀ (k0_h4 : k0_cond4 i = 1#1), ∀ a, (k0_off1904 v4411) a + S1x1024.size a ≤ S40960x1024.size a := fun i v4411 k0_hw1896 k0_h4 => k0_hw1896 k0_h4

def k0_off1905 (v4416 : BitVec 32) : Fin 2 → Nat :=
  let c0_i32_4827 : BitVec 32 := 0#32
  ![v4416.toNat, 0]

def k0_chk1897 (i : grid0.Coords) (v4416 : BitVec 32) : Prop :=
  (∀ (k0_h4 : k0_cond4 i = 1#1), ∀ a, (k0_off1905 v4416) a + S1x1024.size a ≤ S40960x1024.size a)
theorem k0_off1905_inb : ∀ (i : grid0.Coords) (v4416 : BitVec 32) (k0_hw1897 : k0_chk1897 i v4416), ∀ (k0_h4 : k0_cond4 i = 1#1), ∀ a, (k0_off1905 v4416) a + S1x1024.size a ≤ S40960x1024.size a := fun i v4416 k0_hw1897 k0_h4 => k0_hw1897 k0_h4

def k0_off1906 (v4421 : BitVec 32) : Fin 2 → Nat :=
  let c0_i32_4833 : BitVec 32 := 0#32
  ![v4421.toNat, 0]

def k0_chk1898 (i : grid0.Coords) (v4421 : BitVec 32) : Prop :=
  (∀ (k0_h4 : k0_cond4 i = 1#1), ∀ a, (k0_off1906 v4421) a + S1x1024.size a ≤ S40960x1024.size a)
theorem k0_off1906_inb : ∀ (i : grid0.Coords) (v4421 : BitVec 32) (k0_hw1898 : k0_chk1898 i v4421), ∀ (k0_h4 : k0_cond4 i = 1#1), ∀ a, (k0_off1906 v4421) a + S1x1024.size a ≤ S40960x1024.size a := fun i v4421 k0_hw1898 k0_h4 => k0_hw1898 k0_h4

def k0_off1907 (v4426 : BitVec 32) : Fin 2 → Nat :=
  let c0_i32_4838 : BitVec 32 := 0#32
  ![v4426.toNat, 0]

def k0_chk1899 (i : grid0.Coords) (v4426 : BitVec 32) : Prop :=
  (∀ (k0_h4 : k0_cond4 i = 1#1), ∀ a, (k0_off1907 v4426) a + S1x1024.size a ≤ S40960x1024.size a)
theorem k0_off1907_inb : ∀ (i : grid0.Coords) (v4426 : BitVec 32) (k0_hw1899 : k0_chk1899 i v4426), ∀ (k0_h4 : k0_cond4 i = 1#1), ∀ a, (k0_off1907 v4426) a + S1x1024.size a ≤ S40960x1024.size a := fun i v4426 k0_hw1899 k0_h4 => k0_hw1899 k0_h4

def k0_off1908 (v4431 : BitVec 32) : Fin 2 → Nat :=
  let c0_i32_4844 : BitVec 32 := 0#32
  ![v4431.toNat, 0]

def k0_chk1900 (i : grid0.Coords) (v4431 : BitVec 32) : Prop :=
  (∀ (k0_h4 : k0_cond4 i = 1#1), ∀ a, (k0_off1908 v4431) a + S1x1024.size a ≤ S40960x1024.size a)
theorem k0_off1908_inb : ∀ (i : grid0.Coords) (v4431 : BitVec 32) (k0_hw1900 : k0_chk1900 i v4431), ∀ (k0_h4 : k0_cond4 i = 1#1), ∀ a, (k0_off1908 v4431) a + S1x1024.size a ≤ S40960x1024.size a := fun i v4431 k0_hw1900 k0_h4 => k0_hw1900 k0_h4

def k0_off1909 (v4436 : BitVec 32) : Fin 2 → Nat :=
  let c0_i32_4849 : BitVec 32 := 0#32
  ![v4436.toNat, 0]

def k0_chk1901 (i : grid0.Coords) (v4436 : BitVec 32) : Prop :=
  (∀ (k0_h4 : k0_cond4 i = 1#1), ∀ a, (k0_off1909 v4436) a + S1x1024.size a ≤ S40960x1024.size a)
theorem k0_off1909_inb : ∀ (i : grid0.Coords) (v4436 : BitVec 32) (k0_hw1901 : k0_chk1901 i v4436), ∀ (k0_h4 : k0_cond4 i = 1#1), ∀ a, (k0_off1909 v4436) a + S1x1024.size a ≤ S40960x1024.size a := fun i v4436 k0_hw1901 k0_h4 => k0_hw1901 k0_h4

def k0_off1910 (v4441 : BitVec 32) : Fin 2 → Nat :=
  let c0_i32_4855 : BitVec 32 := 0#32
  ![v4441.toNat, 0]

def k0_chk1902 (i : grid0.Coords) (v4441 : BitVec 32) : Prop :=
  (∀ (k0_h4 : k0_cond4 i = 1#1), ∀ a, (k0_off1910 v4441) a + S1x1024.size a ≤ S40960x1024.size a)
theorem k0_off1910_inb : ∀ (i : grid0.Coords) (v4441 : BitVec 32) (k0_hw1902 : k0_chk1902 i v4441), ∀ (k0_h4 : k0_cond4 i = 1#1), ∀ a, (k0_off1910 v4441) a + S1x1024.size a ≤ S40960x1024.size a := fun i v4441 k0_hw1902 k0_h4 => k0_hw1902 k0_h4

def k0_off1911 (v4446 : BitVec 32) : Fin 2 → Nat :=
  let c0_i32_4860 : BitVec 32 := 0#32
  ![v4446.toNat, 0]

def k0_chk1903 (i : grid0.Coords) (v4446 : BitVec 32) : Prop :=
  (∀ (k0_h4 : k0_cond4 i = 1#1), ∀ a, (k0_off1911 v4446) a + S1x1024.size a ≤ S40960x1024.size a)
theorem k0_off1911_inb : ∀ (i : grid0.Coords) (v4446 : BitVec 32) (k0_hw1903 : k0_chk1903 i v4446), ∀ (k0_h4 : k0_cond4 i = 1#1), ∀ a, (k0_off1911 v4446) a + S1x1024.size a ≤ S40960x1024.size a := fun i v4446 k0_hw1903 k0_h4 => k0_hw1903 k0_h4

def k0_off1912 (v4451 : BitVec 32) : Fin 2 → Nat :=
  let c0_i32_4866 : BitVec 32 := 0#32
  ![v4451.toNat, 0]

def k0_chk1904 (i : grid0.Coords) (v4451 : BitVec 32) : Prop :=
  (∀ (k0_h4 : k0_cond4 i = 1#1), ∀ a, (k0_off1912 v4451) a + S1x1024.size a ≤ S40960x1024.size a)
theorem k0_off1912_inb : ∀ (i : grid0.Coords) (v4451 : BitVec 32) (k0_hw1904 : k0_chk1904 i v4451), ∀ (k0_h4 : k0_cond4 i = 1#1), ∀ a, (k0_off1912 v4451) a + S1x1024.size a ≤ S40960x1024.size a := fun i v4451 k0_hw1904 k0_h4 => k0_hw1904 k0_h4

def k0_off1913 (v4456 : BitVec 32) : Fin 2 → Nat :=
  let c0_i32_4871 : BitVec 32 := 0#32
  ![v4456.toNat, 0]

def k0_chk1905 (i : grid0.Coords) (v4456 : BitVec 32) : Prop :=
  (∀ (k0_h4 : k0_cond4 i = 1#1), ∀ a, (k0_off1913 v4456) a + S1x1024.size a ≤ S40960x1024.size a)
theorem k0_off1913_inb : ∀ (i : grid0.Coords) (v4456 : BitVec 32) (k0_hw1905 : k0_chk1905 i v4456), ∀ (k0_h4 : k0_cond4 i = 1#1), ∀ a, (k0_off1913 v4456) a + S1x1024.size a ≤ S40960x1024.size a := fun i v4456 k0_hw1905 k0_h4 => k0_hw1905 k0_h4

def k0_off1914 (v4461 : BitVec 32) : Fin 2 → Nat :=
  let c0_i32_4877 : BitVec 32 := 0#32
  ![v4461.toNat, 0]

def k0_chk1906 (i : grid0.Coords) (v4461 : BitVec 32) : Prop :=
  (∀ (k0_h4 : k0_cond4 i = 1#1), ∀ a, (k0_off1914 v4461) a + S1x1024.size a ≤ S40960x1024.size a)
theorem k0_off1914_inb : ∀ (i : grid0.Coords) (v4461 : BitVec 32) (k0_hw1906 : k0_chk1906 i v4461), ∀ (k0_h4 : k0_cond4 i = 1#1), ∀ a, (k0_off1914 v4461) a + S1x1024.size a ≤ S40960x1024.size a := fun i v4461 k0_hw1906 k0_h4 => k0_hw1906 k0_h4

def k0_off1915 (v4466 : BitVec 32) : Fin 2 → Nat :=
  let c0_i32_4882 : BitVec 32 := 0#32
  ![v4466.toNat, 0]

def k0_chk1907 (i : grid0.Coords) (v4466 : BitVec 32) : Prop :=
  (∀ (k0_h4 : k0_cond4 i = 1#1), ∀ a, (k0_off1915 v4466) a + S1x1024.size a ≤ S40960x1024.size a)
theorem k0_off1915_inb : ∀ (i : grid0.Coords) (v4466 : BitVec 32) (k0_hw1907 : k0_chk1907 i v4466), ∀ (k0_h4 : k0_cond4 i = 1#1), ∀ a, (k0_off1915 v4466) a + S1x1024.size a ≤ S40960x1024.size a := fun i v4466 k0_hw1907 k0_h4 => k0_hw1907 k0_h4

def k0_off1916 (v4471 : BitVec 32) : Fin 2 → Nat :=
  let c0_i32_4888 : BitVec 32 := 0#32
  ![v4471.toNat, 0]

def k0_chk1908 (i : grid0.Coords) (v4471 : BitVec 32) : Prop :=
  (∀ (k0_h4 : k0_cond4 i = 1#1), ∀ a, (k0_off1916 v4471) a + S1x1024.size a ≤ S40960x1024.size a)
theorem k0_off1916_inb : ∀ (i : grid0.Coords) (v4471 : BitVec 32) (k0_hw1908 : k0_chk1908 i v4471), ∀ (k0_h4 : k0_cond4 i = 1#1), ∀ a, (k0_off1916 v4471) a + S1x1024.size a ≤ S40960x1024.size a := fun i v4471 k0_hw1908 k0_h4 => k0_hw1908 k0_h4

def k0_off1917 (v4476 : BitVec 32) : Fin 2 → Nat :=
  let c0_i32_4893 : BitVec 32 := 0#32
  ![v4476.toNat, 0]

def k0_chk1909 (i : grid0.Coords) (v4476 : BitVec 32) : Prop :=
  (∀ (k0_h4 : k0_cond4 i = 1#1), ∀ a, (k0_off1917 v4476) a + S1x1024.size a ≤ S40960x1024.size a)
theorem k0_off1917_inb : ∀ (i : grid0.Coords) (v4476 : BitVec 32) (k0_hw1909 : k0_chk1909 i v4476), ∀ (k0_h4 : k0_cond4 i = 1#1), ∀ a, (k0_off1917 v4476) a + S1x1024.size a ≤ S40960x1024.size a := fun i v4476 k0_hw1909 k0_h4 => k0_hw1909 k0_h4

def k0_off1918 (v4481 : BitVec 32) : Fin 2 → Nat :=
  let c0_i32_4899 : BitVec 32 := 0#32
  ![v4481.toNat, 0]

def k0_chk1910 (i : grid0.Coords) (v4481 : BitVec 32) : Prop :=
  (∀ (k0_h4 : k0_cond4 i = 1#1), ∀ a, (k0_off1918 v4481) a + S1x1024.size a ≤ S40960x1024.size a)
theorem k0_off1918_inb : ∀ (i : grid0.Coords) (v4481 : BitVec 32) (k0_hw1910 : k0_chk1910 i v4481), ∀ (k0_h4 : k0_cond4 i = 1#1), ∀ a, (k0_off1918 v4481) a + S1x1024.size a ≤ S40960x1024.size a := fun i v4481 k0_hw1910 k0_h4 => k0_hw1910 k0_h4

def k0_off1919 (v4486 : BitVec 32) : Fin 2 → Nat :=
  let c0_i32_4904 : BitVec 32 := 0#32
  ![v4486.toNat, 0]

def k0_chk1911 (i : grid0.Coords) (v4486 : BitVec 32) : Prop :=
  (∀ (k0_h4 : k0_cond4 i = 1#1), ∀ a, (k0_off1919 v4486) a + S1x1024.size a ≤ S40960x1024.size a)
theorem k0_off1919_inb : ∀ (i : grid0.Coords) (v4486 : BitVec 32) (k0_hw1911 : k0_chk1911 i v4486), ∀ (k0_h4 : k0_cond4 i = 1#1), ∀ a, (k0_off1919 v4486) a + S1x1024.size a ≤ S40960x1024.size a := fun i v4486 k0_hw1911 k0_h4 => k0_hw1911 k0_h4

def k0_off1920 (v4491 : BitVec 32) : Fin 2 → Nat :=
  let c0_i32_4910 : BitVec 32 := 0#32
  ![v4491.toNat, 0]

def k0_chk1912 (i : grid0.Coords) (v4491 : BitVec 32) : Prop :=
  (∀ (k0_h4 : k0_cond4 i = 1#1), ∀ a, (k0_off1920 v4491) a + S1x1024.size a ≤ S40960x1024.size a)
theorem k0_off1920_inb : ∀ (i : grid0.Coords) (v4491 : BitVec 32) (k0_hw1912 : k0_chk1912 i v4491), ∀ (k0_h4 : k0_cond4 i = 1#1), ∀ a, (k0_off1920 v4491) a + S1x1024.size a ≤ S40960x1024.size a := fun i v4491 k0_hw1912 k0_h4 => k0_hw1912 k0_h4

def k0_off1921 (v4496 : BitVec 32) : Fin 2 → Nat :=
  let c0_i32_4915 : BitVec 32 := 0#32
  ![v4496.toNat, 0]

def k0_chk1913 (i : grid0.Coords) (v4496 : BitVec 32) : Prop :=
  (∀ (k0_h4 : k0_cond4 i = 1#1), ∀ a, (k0_off1921 v4496) a + S1x1024.size a ≤ S40960x1024.size a)
theorem k0_off1921_inb : ∀ (i : grid0.Coords) (v4496 : BitVec 32) (k0_hw1913 : k0_chk1913 i v4496), ∀ (k0_h4 : k0_cond4 i = 1#1), ∀ a, (k0_off1921 v4496) a + S1x1024.size a ≤ S40960x1024.size a := fun i v4496 k0_hw1913 k0_h4 => k0_hw1913 k0_h4

def k0_off1922 (v4501 : BitVec 32) : Fin 2 → Nat :=
  let c0_i32_4921 : BitVec 32 := 0#32
  ![v4501.toNat, 0]

def k0_chk1914 (i : grid0.Coords) (v4501 : BitVec 32) : Prop :=
  (∀ (k0_h4 : k0_cond4 i = 1#1), ∀ a, (k0_off1922 v4501) a + S1x1024.size a ≤ S40960x1024.size a)
theorem k0_off1922_inb : ∀ (i : grid0.Coords) (v4501 : BitVec 32) (k0_hw1914 : k0_chk1914 i v4501), ∀ (k0_h4 : k0_cond4 i = 1#1), ∀ a, (k0_off1922 v4501) a + S1x1024.size a ≤ S40960x1024.size a := fun i v4501 k0_hw1914 k0_h4 => k0_hw1914 k0_h4

def k0_off1923 (v4506 : BitVec 32) : Fin 2 → Nat :=
  let c0_i32_4926 : BitVec 32 := 0#32
  ![v4506.toNat, 0]

def k0_chk1915 (i : grid0.Coords) (v4506 : BitVec 32) : Prop :=
  (∀ (k0_h4 : k0_cond4 i = 1#1), ∀ a, (k0_off1923 v4506) a + S1x1024.size a ≤ S40960x1024.size a)
theorem k0_off1923_inb : ∀ (i : grid0.Coords) (v4506 : BitVec 32) (k0_hw1915 : k0_chk1915 i v4506), ∀ (k0_h4 : k0_cond4 i = 1#1), ∀ a, (k0_off1923 v4506) a + S1x1024.size a ≤ S40960x1024.size a := fun i v4506 k0_hw1915 k0_h4 => k0_hw1915 k0_h4

def k0_off1924 (v4511 : BitVec 32) : Fin 2 → Nat :=
  let c0_i32_4932 : BitVec 32 := 0#32
  ![v4511.toNat, 0]

def k0_chk1916 (i : grid0.Coords) (v4511 : BitVec 32) : Prop :=
  (∀ (k0_h4 : k0_cond4 i = 1#1), ∀ a, (k0_off1924 v4511) a + S1x1024.size a ≤ S40960x1024.size a)
theorem k0_off1924_inb : ∀ (i : grid0.Coords) (v4511 : BitVec 32) (k0_hw1916 : k0_chk1916 i v4511), ∀ (k0_h4 : k0_cond4 i = 1#1), ∀ a, (k0_off1924 v4511) a + S1x1024.size a ≤ S40960x1024.size a := fun i v4511 k0_hw1916 k0_h4 => k0_hw1916 k0_h4

def k0_off1925 (v4516 : BitVec 32) : Fin 2 → Nat :=
  let c0_i32_4937 : BitVec 32 := 0#32
  ![v4516.toNat, 0]

def k0_chk1917 (i : grid0.Coords) (v4516 : BitVec 32) : Prop :=
  (∀ (k0_h4 : k0_cond4 i = 1#1), ∀ a, (k0_off1925 v4516) a + S1x1024.size a ≤ S40960x1024.size a)
theorem k0_off1925_inb : ∀ (i : grid0.Coords) (v4516 : BitVec 32) (k0_hw1917 : k0_chk1917 i v4516), ∀ (k0_h4 : k0_cond4 i = 1#1), ∀ a, (k0_off1925 v4516) a + S1x1024.size a ≤ S40960x1024.size a := fun i v4516 k0_hw1917 k0_h4 => k0_hw1917 k0_h4

def k0_off1926 (v4521 : BitVec 32) : Fin 2 → Nat :=
  let c0_i32_4943 : BitVec 32 := 0#32
  ![v4521.toNat, 0]

def k0_chk1918 (i : grid0.Coords) (v4521 : BitVec 32) : Prop :=
  (∀ (k0_h4 : k0_cond4 i = 1#1), ∀ a, (k0_off1926 v4521) a + S1x1024.size a ≤ S40960x1024.size a)
theorem k0_off1926_inb : ∀ (i : grid0.Coords) (v4521 : BitVec 32) (k0_hw1918 : k0_chk1918 i v4521), ∀ (k0_h4 : k0_cond4 i = 1#1), ∀ a, (k0_off1926 v4521) a + S1x1024.size a ≤ S40960x1024.size a := fun i v4521 k0_hw1918 k0_h4 => k0_hw1918 k0_h4

def k0_off1927 (v4526 : BitVec 32) : Fin 2 → Nat :=
  let c0_i32_4948 : BitVec 32 := 0#32
  ![v4526.toNat, 0]

def k0_chk1919 (i : grid0.Coords) (v4526 : BitVec 32) : Prop :=
  (∀ (k0_h4 : k0_cond4 i = 1#1), ∀ a, (k0_off1927 v4526) a + S1x1024.size a ≤ S40960x1024.size a)
theorem k0_off1927_inb : ∀ (i : grid0.Coords) (v4526 : BitVec 32) (k0_hw1919 : k0_chk1919 i v4526), ∀ (k0_h4 : k0_cond4 i = 1#1), ∀ a, (k0_off1927 v4526) a + S1x1024.size a ≤ S40960x1024.size a := fun i v4526 k0_hw1919 k0_h4 => k0_hw1919 k0_h4

def k0_off1928 (v4531 : BitVec 32) : Fin 2 → Nat :=
  let c0_i32_4954 : BitVec 32 := 0#32
  ![v4531.toNat, 0]

def k0_chk1920 (i : grid0.Coords) (v4531 : BitVec 32) : Prop :=
  (∀ (k0_h4 : k0_cond4 i = 1#1), ∀ a, (k0_off1928 v4531) a + S1x1024.size a ≤ S40960x1024.size a)
theorem k0_off1928_inb : ∀ (i : grid0.Coords) (v4531 : BitVec 32) (k0_hw1920 : k0_chk1920 i v4531), ∀ (k0_h4 : k0_cond4 i = 1#1), ∀ a, (k0_off1928 v4531) a + S1x1024.size a ≤ S40960x1024.size a := fun i v4531 k0_hw1920 k0_h4 => k0_hw1920 k0_h4

def k0_off1929 (v4536 : BitVec 32) : Fin 2 → Nat :=
  let c0_i32_4959 : BitVec 32 := 0#32
  ![v4536.toNat, 0]

def k0_chk1921 (i : grid0.Coords) (v4536 : BitVec 32) : Prop :=
  (∀ (k0_h4 : k0_cond4 i = 1#1), ∀ a, (k0_off1929 v4536) a + S1x1024.size a ≤ S40960x1024.size a)
theorem k0_off1929_inb : ∀ (i : grid0.Coords) (v4536 : BitVec 32) (k0_hw1921 : k0_chk1921 i v4536), ∀ (k0_h4 : k0_cond4 i = 1#1), ∀ a, (k0_off1929 v4536) a + S1x1024.size a ≤ S40960x1024.size a := fun i v4536 k0_hw1921 k0_h4 => k0_hw1921 k0_h4

def k0_off1930 (v4541 : BitVec 32) : Fin 2 → Nat :=
  let c0_i32_4965 : BitVec 32 := 0#32
  ![v4541.toNat, 0]

def k0_chk1922 (i : grid0.Coords) (v4541 : BitVec 32) : Prop :=
  (∀ (k0_h4 : k0_cond4 i = 1#1), ∀ a, (k0_off1930 v4541) a + S1x1024.size a ≤ S40960x1024.size a)
theorem k0_off1930_inb : ∀ (i : grid0.Coords) (v4541 : BitVec 32) (k0_hw1922 : k0_chk1922 i v4541), ∀ (k0_h4 : k0_cond4 i = 1#1), ∀ a, (k0_off1930 v4541) a + S1x1024.size a ≤ S40960x1024.size a := fun i v4541 k0_hw1922 k0_h4 => k0_hw1922 k0_h4

def k0_off1931 (v4546 : BitVec 32) : Fin 2 → Nat :=
  let c0_i32_4970 : BitVec 32 := 0#32
  ![v4546.toNat, 0]

def k0_chk1923 (i : grid0.Coords) (v4546 : BitVec 32) : Prop :=
  (∀ (k0_h4 : k0_cond4 i = 1#1), ∀ a, (k0_off1931 v4546) a + S1x1024.size a ≤ S40960x1024.size a)
theorem k0_off1931_inb : ∀ (i : grid0.Coords) (v4546 : BitVec 32) (k0_hw1923 : k0_chk1923 i v4546), ∀ (k0_h4 : k0_cond4 i = 1#1), ∀ a, (k0_off1931 v4546) a + S1x1024.size a ≤ S40960x1024.size a := fun i v4546 k0_hw1923 k0_h4 => k0_hw1923 k0_h4

def k0_off1932 (v4551 : BitVec 32) : Fin 2 → Nat :=
  let c0_i32_4976 : BitVec 32 := 0#32
  ![v4551.toNat, 0]

def k0_chk1924 (i : grid0.Coords) (v4551 : BitVec 32) : Prop :=
  (∀ (k0_h4 : k0_cond4 i = 1#1), ∀ a, (k0_off1932 v4551) a + S1x1024.size a ≤ S40960x1024.size a)
theorem k0_off1932_inb : ∀ (i : grid0.Coords) (v4551 : BitVec 32) (k0_hw1924 : k0_chk1924 i v4551), ∀ (k0_h4 : k0_cond4 i = 1#1), ∀ a, (k0_off1932 v4551) a + S1x1024.size a ≤ S40960x1024.size a := fun i v4551 k0_hw1924 k0_h4 => k0_hw1924 k0_h4

def k0_off1933 (v4556 : BitVec 32) : Fin 2 → Nat :=
  let c0_i32_4981 : BitVec 32 := 0#32
  ![v4556.toNat, 0]

def k0_chk1925 (i : grid0.Coords) (v4556 : BitVec 32) : Prop :=
  (∀ (k0_h4 : k0_cond4 i = 1#1), ∀ a, (k0_off1933 v4556) a + S1x1024.size a ≤ S40960x1024.size a)
theorem k0_off1933_inb : ∀ (i : grid0.Coords) (v4556 : BitVec 32) (k0_hw1925 : k0_chk1925 i v4556), ∀ (k0_h4 : k0_cond4 i = 1#1), ∀ a, (k0_off1933 v4556) a + S1x1024.size a ≤ S40960x1024.size a := fun i v4556 k0_hw1925 k0_h4 => k0_hw1925 k0_h4

def k0_off1934 (v4561 : BitVec 32) : Fin 2 → Nat :=
  let c0_i32_4987 : BitVec 32 := 0#32
  ![v4561.toNat, 0]

def k0_chk1926 (i : grid0.Coords) (v4561 : BitVec 32) : Prop :=
  (∀ (k0_h4 : k0_cond4 i = 1#1), ∀ a, (k0_off1934 v4561) a + S1x1024.size a ≤ S40960x1024.size a)
theorem k0_off1934_inb : ∀ (i : grid0.Coords) (v4561 : BitVec 32) (k0_hw1926 : k0_chk1926 i v4561), ∀ (k0_h4 : k0_cond4 i = 1#1), ∀ a, (k0_off1934 v4561) a + S1x1024.size a ≤ S40960x1024.size a := fun i v4561 k0_hw1926 k0_h4 => k0_hw1926 k0_h4

def k0_off1935 (v4566 : BitVec 32) : Fin 2 → Nat :=
  let c0_i32_4992 : BitVec 32 := 0#32
  ![v4566.toNat, 0]

def k0_chk1927 (i : grid0.Coords) (v4566 : BitVec 32) : Prop :=
  (∀ (k0_h4 : k0_cond4 i = 1#1), ∀ a, (k0_off1935 v4566) a + S1x1024.size a ≤ S40960x1024.size a)
theorem k0_off1935_inb : ∀ (i : grid0.Coords) (v4566 : BitVec 32) (k0_hw1927 : k0_chk1927 i v4566), ∀ (k0_h4 : k0_cond4 i = 1#1), ∀ a, (k0_off1935 v4566) a + S1x1024.size a ≤ S40960x1024.size a := fun i v4566 k0_hw1927 k0_h4 => k0_hw1927 k0_h4

def k0_off1936 (v4571 : BitVec 32) : Fin 2 → Nat :=
  let c0_i32_4998 : BitVec 32 := 0#32
  ![v4571.toNat, 0]

def k0_chk1928 (i : grid0.Coords) (v4571 : BitVec 32) : Prop :=
  (∀ (k0_h4 : k0_cond4 i = 1#1), ∀ a, (k0_off1936 v4571) a + S1x1024.size a ≤ S40960x1024.size a)
theorem k0_off1936_inb : ∀ (i : grid0.Coords) (v4571 : BitVec 32) (k0_hw1928 : k0_chk1928 i v4571), ∀ (k0_h4 : k0_cond4 i = 1#1), ∀ a, (k0_off1936 v4571) a + S1x1024.size a ≤ S40960x1024.size a := fun i v4571 k0_hw1928 k0_h4 => k0_hw1928 k0_h4

def k0_off1937 (v4576 : BitVec 32) : Fin 2 → Nat :=
  let c0_i32_5003 : BitVec 32 := 0#32
  ![v4576.toNat, 0]

def k0_chk1929 (i : grid0.Coords) (v4576 : BitVec 32) : Prop :=
  (∀ (k0_h4 : k0_cond4 i = 1#1), ∀ a, (k0_off1937 v4576) a + S1x1024.size a ≤ S40960x1024.size a)
theorem k0_off1937_inb : ∀ (i : grid0.Coords) (v4576 : BitVec 32) (k0_hw1929 : k0_chk1929 i v4576), ∀ (k0_h4 : k0_cond4 i = 1#1), ∀ a, (k0_off1937 v4576) a + S1x1024.size a ≤ S40960x1024.size a := fun i v4576 k0_hw1929 k0_h4 => k0_hw1929 k0_h4

def k0_off1938 (v4581 : BitVec 32) : Fin 2 → Nat :=
  let c0_i32_5009 : BitVec 32 := 0#32
  ![v4581.toNat, 0]

def k0_chk1930 (i : grid0.Coords) (v4581 : BitVec 32) : Prop :=
  (∀ (k0_h4 : k0_cond4 i = 1#1), ∀ a, (k0_off1938 v4581) a + S1x1024.size a ≤ S40960x1024.size a)
theorem k0_off1938_inb : ∀ (i : grid0.Coords) (v4581 : BitVec 32) (k0_hw1930 : k0_chk1930 i v4581), ∀ (k0_h4 : k0_cond4 i = 1#1), ∀ a, (k0_off1938 v4581) a + S1x1024.size a ≤ S40960x1024.size a := fun i v4581 k0_hw1930 k0_h4 => k0_hw1930 k0_h4

def k0_off1939 (v4586 : BitVec 32) : Fin 2 → Nat :=
  let c0_i32_5014 : BitVec 32 := 0#32
  ![v4586.toNat, 0]

def k0_chk1931 (i : grid0.Coords) (v4586 : BitVec 32) : Prop :=
  (∀ (k0_h4 : k0_cond4 i = 1#1), ∀ a, (k0_off1939 v4586) a + S1x1024.size a ≤ S40960x1024.size a)
theorem k0_off1939_inb : ∀ (i : grid0.Coords) (v4586 : BitVec 32) (k0_hw1931 : k0_chk1931 i v4586), ∀ (k0_h4 : k0_cond4 i = 1#1), ∀ a, (k0_off1939 v4586) a + S1x1024.size a ≤ S40960x1024.size a := fun i v4586 k0_hw1931 k0_h4 => k0_hw1931 k0_h4

def k0_off1940 (v4591 : BitVec 32) : Fin 2 → Nat :=
  let c0_i32_5020 : BitVec 32 := 0#32
  ![v4591.toNat, 0]

def k0_chk1932 (i : grid0.Coords) (v4591 : BitVec 32) : Prop :=
  (∀ (k0_h4 : k0_cond4 i = 1#1), ∀ a, (k0_off1940 v4591) a + S1x1024.size a ≤ S40960x1024.size a)
theorem k0_off1940_inb : ∀ (i : grid0.Coords) (v4591 : BitVec 32) (k0_hw1932 : k0_chk1932 i v4591), ∀ (k0_h4 : k0_cond4 i = 1#1), ∀ a, (k0_off1940 v4591) a + S1x1024.size a ≤ S40960x1024.size a := fun i v4591 k0_hw1932 k0_h4 => k0_hw1932 k0_h4

def k0_off1941 (v4596 : BitVec 32) : Fin 2 → Nat :=
  let c0_i32_5025 : BitVec 32 := 0#32
  ![v4596.toNat, 0]

def k0_chk1933 (i : grid0.Coords) (v4596 : BitVec 32) : Prop :=
  (∀ (k0_h4 : k0_cond4 i = 1#1), ∀ a, (k0_off1941 v4596) a + S1x1024.size a ≤ S40960x1024.size a)
theorem k0_off1941_inb : ∀ (i : grid0.Coords) (v4596 : BitVec 32) (k0_hw1933 : k0_chk1933 i v4596), ∀ (k0_h4 : k0_cond4 i = 1#1), ∀ a, (k0_off1941 v4596) a + S1x1024.size a ≤ S40960x1024.size a := fun i v4596 k0_hw1933 k0_h4 => k0_hw1933 k0_h4

def k0_off1942 (v4601 : BitVec 32) : Fin 2 → Nat :=
  let c0_i32_5031 : BitVec 32 := 0#32
  ![v4601.toNat, 0]

def k0_chk1934 (i : grid0.Coords) (v4601 : BitVec 32) : Prop :=
  (∀ (k0_h4 : k0_cond4 i = 1#1), ∀ a, (k0_off1942 v4601) a + S1x1024.size a ≤ S40960x1024.size a)
theorem k0_off1942_inb : ∀ (i : grid0.Coords) (v4601 : BitVec 32) (k0_hw1934 : k0_chk1934 i v4601), ∀ (k0_h4 : k0_cond4 i = 1#1), ∀ a, (k0_off1942 v4601) a + S1x1024.size a ≤ S40960x1024.size a := fun i v4601 k0_hw1934 k0_h4 => k0_hw1934 k0_h4

def k0_off1943 (v4606 : BitVec 32) : Fin 2 → Nat :=
  let c0_i32_5036 : BitVec 32 := 0#32
  ![v4606.toNat, 0]

def k0_chk1935 (i : grid0.Coords) (v4606 : BitVec 32) : Prop :=
  (∀ (k0_h4 : k0_cond4 i = 1#1), ∀ a, (k0_off1943 v4606) a + S1x1024.size a ≤ S40960x1024.size a)
theorem k0_off1943_inb : ∀ (i : grid0.Coords) (v4606 : BitVec 32) (k0_hw1935 : k0_chk1935 i v4606), ∀ (k0_h4 : k0_cond4 i = 1#1), ∀ a, (k0_off1943 v4606) a + S1x1024.size a ≤ S40960x1024.size a := fun i v4606 k0_hw1935 k0_h4 => k0_hw1935 k0_h4

def k0_off1944 (v4611 : BitVec 32) : Fin 2 → Nat :=
  let c0_i32_5042 : BitVec 32 := 0#32
  ![v4611.toNat, 0]

def k0_chk1936 (i : grid0.Coords) (v4611 : BitVec 32) : Prop :=
  (∀ (k0_h4 : k0_cond4 i = 1#1), ∀ a, (k0_off1944 v4611) a + S1x1024.size a ≤ S40960x1024.size a)
theorem k0_off1944_inb : ∀ (i : grid0.Coords) (v4611 : BitVec 32) (k0_hw1936 : k0_chk1936 i v4611), ∀ (k0_h4 : k0_cond4 i = 1#1), ∀ a, (k0_off1944 v4611) a + S1x1024.size a ≤ S40960x1024.size a := fun i v4611 k0_hw1936 k0_h4 => k0_hw1936 k0_h4

def k0_off1945 (v4616 : BitVec 32) : Fin 2 → Nat :=
  let c0_i32_5047 : BitVec 32 := 0#32
  ![v4616.toNat, 0]

def k0_chk1937 (i : grid0.Coords) (v4616 : BitVec 32) : Prop :=
  (∀ (k0_h4 : k0_cond4 i = 1#1), ∀ a, (k0_off1945 v4616) a + S1x1024.size a ≤ S40960x1024.size a)
theorem k0_off1945_inb : ∀ (i : grid0.Coords) (v4616 : BitVec 32) (k0_hw1937 : k0_chk1937 i v4616), ∀ (k0_h4 : k0_cond4 i = 1#1), ∀ a, (k0_off1945 v4616) a + S1x1024.size a ≤ S40960x1024.size a := fun i v4616 k0_hw1937 k0_h4 => k0_hw1937 k0_h4

def k0_off1946 (v4621 : BitVec 32) : Fin 2 → Nat :=
  let c0_i32_5053 : BitVec 32 := 0#32
  ![v4621.toNat, 0]

def k0_chk1938 (i : grid0.Coords) (v4621 : BitVec 32) : Prop :=
  (∀ (k0_h4 : k0_cond4 i = 1#1), ∀ a, (k0_off1946 v4621) a + S1x1024.size a ≤ S40960x1024.size a)
theorem k0_off1946_inb : ∀ (i : grid0.Coords) (v4621 : BitVec 32) (k0_hw1938 : k0_chk1938 i v4621), ∀ (k0_h4 : k0_cond4 i = 1#1), ∀ a, (k0_off1946 v4621) a + S1x1024.size a ≤ S40960x1024.size a := fun i v4621 k0_hw1938 k0_h4 => k0_hw1938 k0_h4

def k0_off1947 (v4626 : BitVec 32) : Fin 2 → Nat :=
  let c0_i32_5058 : BitVec 32 := 0#32
  ![v4626.toNat, 0]

def k0_chk1939 (i : grid0.Coords) (v4626 : BitVec 32) : Prop :=
  (∀ (k0_h4 : k0_cond4 i = 1#1), ∀ a, (k0_off1947 v4626) a + S1x1024.size a ≤ S40960x1024.size a)
theorem k0_off1947_inb : ∀ (i : grid0.Coords) (v4626 : BitVec 32) (k0_hw1939 : k0_chk1939 i v4626), ∀ (k0_h4 : k0_cond4 i = 1#1), ∀ a, (k0_off1947 v4626) a + S1x1024.size a ≤ S40960x1024.size a := fun i v4626 k0_hw1939 k0_h4 => k0_hw1939 k0_h4

def k0_off1948 (v4631 : BitVec 32) : Fin 2 → Nat :=
  let c0_i32_5064 : BitVec 32 := 0#32
  ![v4631.toNat, 0]

def k0_chk1940 (i : grid0.Coords) (v4631 : BitVec 32) : Prop :=
  (∀ (k0_h4 : k0_cond4 i = 1#1), ∀ a, (k0_off1948 v4631) a + S1x1024.size a ≤ S40960x1024.size a)
theorem k0_off1948_inb : ∀ (i : grid0.Coords) (v4631 : BitVec 32) (k0_hw1940 : k0_chk1940 i v4631), ∀ (k0_h4 : k0_cond4 i = 1#1), ∀ a, (k0_off1948 v4631) a + S1x1024.size a ≤ S40960x1024.size a := fun i v4631 k0_hw1940 k0_h4 => k0_hw1940 k0_h4

def k0_off1949 (v4636 : BitVec 32) : Fin 2 → Nat :=
  let c0_i32_5069 : BitVec 32 := 0#32
  ![v4636.toNat, 0]

def k0_chk1941 (i : grid0.Coords) (v4636 : BitVec 32) : Prop :=
  (∀ (k0_h4 : k0_cond4 i = 1#1), ∀ a, (k0_off1949 v4636) a + S1x1024.size a ≤ S40960x1024.size a)
theorem k0_off1949_inb : ∀ (i : grid0.Coords) (v4636 : BitVec 32) (k0_hw1941 : k0_chk1941 i v4636), ∀ (k0_h4 : k0_cond4 i = 1#1), ∀ a, (k0_off1949 v4636) a + S1x1024.size a ≤ S40960x1024.size a := fun i v4636 k0_hw1941 k0_h4 => k0_hw1941 k0_h4

def k0_off1950 (v4641 : BitVec 32) : Fin 2 → Nat :=
  let c0_i32_5075 : BitVec 32 := 0#32
  ![v4641.toNat, 0]

def k0_chk1942 (i : grid0.Coords) (v4641 : BitVec 32) : Prop :=
  (∀ (k0_h4 : k0_cond4 i = 1#1), ∀ a, (k0_off1950 v4641) a + S1x1024.size a ≤ S40960x1024.size a)
theorem k0_off1950_inb : ∀ (i : grid0.Coords) (v4641 : BitVec 32) (k0_hw1942 : k0_chk1942 i v4641), ∀ (k0_h4 : k0_cond4 i = 1#1), ∀ a, (k0_off1950 v4641) a + S1x1024.size a ≤ S40960x1024.size a := fun i v4641 k0_hw1942 k0_h4 => k0_hw1942 k0_h4

def k0_off1951 (v4646 : BitVec 32) : Fin 2 → Nat :=
  let c0_i32_5080 : BitVec 32 := 0#32
  ![v4646.toNat, 0]

def k0_chk1943 (i : grid0.Coords) (v4646 : BitVec 32) : Prop :=
  (∀ (k0_h4 : k0_cond4 i = 1#1), ∀ a, (k0_off1951 v4646) a + S1x1024.size a ≤ S40960x1024.size a)
theorem k0_off1951_inb : ∀ (i : grid0.Coords) (v4646 : BitVec 32) (k0_hw1943 : k0_chk1943 i v4646), ∀ (k0_h4 : k0_cond4 i = 1#1), ∀ a, (k0_off1951 v4646) a + S1x1024.size a ≤ S40960x1024.size a := fun i v4646 k0_hw1943 k0_h4 => k0_hw1943 k0_h4

def k0_off1952 (v4651 : BitVec 32) : Fin 2 → Nat :=
  let c0_i32_5086 : BitVec 32 := 0#32
  ![v4651.toNat, 0]

def k0_chk1944 (i : grid0.Coords) (v4651 : BitVec 32) : Prop :=
  (∀ (k0_h4 : k0_cond4 i = 1#1), ∀ a, (k0_off1952 v4651) a + S1x1024.size a ≤ S40960x1024.size a)
theorem k0_off1952_inb : ∀ (i : grid0.Coords) (v4651 : BitVec 32) (k0_hw1944 : k0_chk1944 i v4651), ∀ (k0_h4 : k0_cond4 i = 1#1), ∀ a, (k0_off1952 v4651) a + S1x1024.size a ≤ S40960x1024.size a := fun i v4651 k0_hw1944 k0_h4 => k0_hw1944 k0_h4

def k0_off1953 (v4656 : BitVec 32) : Fin 2 → Nat :=
  let c0_i32_5091 : BitVec 32 := 0#32
  ![v4656.toNat, 0]

def k0_chk1945 (i : grid0.Coords) (v4656 : BitVec 32) : Prop :=
  (∀ (k0_h4 : k0_cond4 i = 1#1), ∀ a, (k0_off1953 v4656) a + S1x1024.size a ≤ S40960x1024.size a)
theorem k0_off1953_inb : ∀ (i : grid0.Coords) (v4656 : BitVec 32) (k0_hw1945 : k0_chk1945 i v4656), ∀ (k0_h4 : k0_cond4 i = 1#1), ∀ a, (k0_off1953 v4656) a + S1x1024.size a ≤ S40960x1024.size a := fun i v4656 k0_hw1945 k0_h4 => k0_hw1945 k0_h4

def k0_off1954 (v4661 : BitVec 32) : Fin 2 → Nat :=
  let c0_i32_5097 : BitVec 32 := 0#32
  ![v4661.toNat, 0]

def k0_chk1946 (i : grid0.Coords) (v4661 : BitVec 32) : Prop :=
  (∀ (k0_h4 : k0_cond4 i = 1#1), ∀ a, (k0_off1954 v4661) a + S1x1024.size a ≤ S40960x1024.size a)
theorem k0_off1954_inb : ∀ (i : grid0.Coords) (v4661 : BitVec 32) (k0_hw1946 : k0_chk1946 i v4661), ∀ (k0_h4 : k0_cond4 i = 1#1), ∀ a, (k0_off1954 v4661) a + S1x1024.size a ≤ S40960x1024.size a := fun i v4661 k0_hw1946 k0_h4 => k0_hw1946 k0_h4

def k0_off1955 (v4666 : BitVec 32) : Fin 2 → Nat :=
  let c0_i32_5102 : BitVec 32 := 0#32
  ![v4666.toNat, 0]

def k0_chk1947 (i : grid0.Coords) (v4666 : BitVec 32) : Prop :=
  (∀ (k0_h4 : k0_cond4 i = 1#1), ∀ a, (k0_off1955 v4666) a + S1x1024.size a ≤ S40960x1024.size a)
theorem k0_off1955_inb : ∀ (i : grid0.Coords) (v4666 : BitVec 32) (k0_hw1947 : k0_chk1947 i v4666), ∀ (k0_h4 : k0_cond4 i = 1#1), ∀ a, (k0_off1955 v4666) a + S1x1024.size a ≤ S40960x1024.size a := fun i v4666 k0_hw1947 k0_h4 => k0_hw1947 k0_h4

def k0_off1956 (v4671 : BitVec 32) : Fin 2 → Nat :=
  let c0_i32_5108 : BitVec 32 := 0#32
  ![v4671.toNat, 0]

def k0_chk1948 (i : grid0.Coords) (v4671 : BitVec 32) : Prop :=
  (∀ (k0_h4 : k0_cond4 i = 1#1), ∀ a, (k0_off1956 v4671) a + S1x1024.size a ≤ S40960x1024.size a)
theorem k0_off1956_inb : ∀ (i : grid0.Coords) (v4671 : BitVec 32) (k0_hw1948 : k0_chk1948 i v4671), ∀ (k0_h4 : k0_cond4 i = 1#1), ∀ a, (k0_off1956 v4671) a + S1x1024.size a ≤ S40960x1024.size a := fun i v4671 k0_hw1948 k0_h4 => k0_hw1948 k0_h4

def k0_off1957 (v4676 : BitVec 32) : Fin 2 → Nat :=
  let c0_i32_5113 : BitVec 32 := 0#32
  ![v4676.toNat, 0]

def k0_chk1949 (i : grid0.Coords) (v4676 : BitVec 32) : Prop :=
  (∀ (k0_h4 : k0_cond4 i = 1#1), ∀ a, (k0_off1957 v4676) a + S1x1024.size a ≤ S40960x1024.size a)
theorem k0_off1957_inb : ∀ (i : grid0.Coords) (v4676 : BitVec 32) (k0_hw1949 : k0_chk1949 i v4676), ∀ (k0_h4 : k0_cond4 i = 1#1), ∀ a, (k0_off1957 v4676) a + S1x1024.size a ≤ S40960x1024.size a := fun i v4676 k0_hw1949 k0_h4 => k0_hw1949 k0_h4

def k0_off1958 (v4681 : BitVec 32) : Fin 2 → Nat :=
  let c0_i32_5119 : BitVec 32 := 0#32
  ![v4681.toNat, 0]

def k0_chk1950 (i : grid0.Coords) (v4681 : BitVec 32) : Prop :=
  (∀ (k0_h4 : k0_cond4 i = 1#1), ∀ a, (k0_off1958 v4681) a + S1x1024.size a ≤ S40960x1024.size a)
theorem k0_off1958_inb : ∀ (i : grid0.Coords) (v4681 : BitVec 32) (k0_hw1950 : k0_chk1950 i v4681), ∀ (k0_h4 : k0_cond4 i = 1#1), ∀ a, (k0_off1958 v4681) a + S1x1024.size a ≤ S40960x1024.size a := fun i v4681 k0_hw1950 k0_h4 => k0_hw1950 k0_h4

def k0_off1959 (v4686 : BitVec 32) : Fin 2 → Nat :=
  let c0_i32_5124 : BitVec 32 := 0#32
  ![v4686.toNat, 0]

def k0_chk1951 (i : grid0.Coords) (v4686 : BitVec 32) : Prop :=
  (∀ (k0_h4 : k0_cond4 i = 1#1), ∀ a, (k0_off1959 v4686) a + S1x1024.size a ≤ S40960x1024.size a)
theorem k0_off1959_inb : ∀ (i : grid0.Coords) (v4686 : BitVec 32) (k0_hw1951 : k0_chk1951 i v4686), ∀ (k0_h4 : k0_cond4 i = 1#1), ∀ a, (k0_off1959 v4686) a + S1x1024.size a ≤ S40960x1024.size a := fun i v4686 k0_hw1951 k0_h4 => k0_hw1951 k0_h4

def k0_off1960 (v4691 : BitVec 32) : Fin 2 → Nat :=
  let c0_i32_5130 : BitVec 32 := 0#32
  ![v4691.toNat, 0]

def k0_chk1952 (i : grid0.Coords) (v4691 : BitVec 32) : Prop :=
  (∀ (k0_h4 : k0_cond4 i = 1#1), ∀ a, (k0_off1960 v4691) a + S1x1024.size a ≤ S40960x1024.size a)
theorem k0_off1960_inb : ∀ (i : grid0.Coords) (v4691 : BitVec 32) (k0_hw1952 : k0_chk1952 i v4691), ∀ (k0_h4 : k0_cond4 i = 1#1), ∀ a, (k0_off1960 v4691) a + S1x1024.size a ≤ S40960x1024.size a := fun i v4691 k0_hw1952 k0_h4 => k0_hw1952 k0_h4

def k0_off1961 (v4696 : BitVec 32) : Fin 2 → Nat :=
  let c0_i32_5135 : BitVec 32 := 0#32
  ![v4696.toNat, 0]

def k0_chk1953 (i : grid0.Coords) (v4696 : BitVec 32) : Prop :=
  (∀ (k0_h4 : k0_cond4 i = 1#1), ∀ a, (k0_off1961 v4696) a + S1x1024.size a ≤ S40960x1024.size a)
theorem k0_off1961_inb : ∀ (i : grid0.Coords) (v4696 : BitVec 32) (k0_hw1953 : k0_chk1953 i v4696), ∀ (k0_h4 : k0_cond4 i = 1#1), ∀ a, (k0_off1961 v4696) a + S1x1024.size a ≤ S40960x1024.size a := fun i v4696 k0_hw1953 k0_h4 => k0_hw1953 k0_h4

def k0_off1962 (v4701 : BitVec 32) : Fin 2 → Nat :=
  let c0_i32_5141 : BitVec 32 := 0#32
  ![v4701.toNat, 0]

def k0_chk1954 (i : grid0.Coords) (v4701 : BitVec 32) : Prop :=
  (∀ (k0_h4 : k0_cond4 i = 1#1), ∀ a, (k0_off1962 v4701) a + S1x1024.size a ≤ S40960x1024.size a)
theorem k0_off1962_inb : ∀ (i : grid0.Coords) (v4701 : BitVec 32) (k0_hw1954 : k0_chk1954 i v4701), ∀ (k0_h4 : k0_cond4 i = 1#1), ∀ a, (k0_off1962 v4701) a + S1x1024.size a ≤ S40960x1024.size a := fun i v4701 k0_hw1954 k0_h4 => k0_hw1954 k0_h4

def k0_off1963 (v4706 : BitVec 32) : Fin 2 → Nat :=
  let c0_i32_5146 : BitVec 32 := 0#32
  ![v4706.toNat, 0]

def k0_chk1955 (i : grid0.Coords) (v4706 : BitVec 32) : Prop :=
  (∀ (k0_h4 : k0_cond4 i = 1#1), ∀ a, (k0_off1963 v4706) a + S1x1024.size a ≤ S40960x1024.size a)
theorem k0_off1963_inb : ∀ (i : grid0.Coords) (v4706 : BitVec 32) (k0_hw1955 : k0_chk1955 i v4706), ∀ (k0_h4 : k0_cond4 i = 1#1), ∀ a, (k0_off1963 v4706) a + S1x1024.size a ≤ S40960x1024.size a := fun i v4706 k0_hw1955 k0_h4 => k0_hw1955 k0_h4

def k0_off1964 (v4711 : BitVec 32) : Fin 2 → Nat :=
  let c0_i32_5152 : BitVec 32 := 0#32
  ![v4711.toNat, 0]

def k0_chk1956 (i : grid0.Coords) (v4711 : BitVec 32) : Prop :=
  (∀ (k0_h4 : k0_cond4 i = 1#1), ∀ a, (k0_off1964 v4711) a + S1x1024.size a ≤ S40960x1024.size a)
theorem k0_off1964_inb : ∀ (i : grid0.Coords) (v4711 : BitVec 32) (k0_hw1956 : k0_chk1956 i v4711), ∀ (k0_h4 : k0_cond4 i = 1#1), ∀ a, (k0_off1964 v4711) a + S1x1024.size a ≤ S40960x1024.size a := fun i v4711 k0_hw1956 k0_h4 => k0_hw1956 k0_h4

def k0_off1965 (v4716 : BitVec 32) : Fin 2 → Nat :=
  let c0_i32_5157 : BitVec 32 := 0#32
  ![v4716.toNat, 0]

def k0_chk1957 (i : grid0.Coords) (v4716 : BitVec 32) : Prop :=
  (∀ (k0_h4 : k0_cond4 i = 1#1), ∀ a, (k0_off1965 v4716) a + S1x1024.size a ≤ S40960x1024.size a)
theorem k0_off1965_inb : ∀ (i : grid0.Coords) (v4716 : BitVec 32) (k0_hw1957 : k0_chk1957 i v4716), ∀ (k0_h4 : k0_cond4 i = 1#1), ∀ a, (k0_off1965 v4716) a + S1x1024.size a ≤ S40960x1024.size a := fun i v4716 k0_hw1957 k0_h4 => k0_hw1957 k0_h4

def k0_off1966 (v4721 : BitVec 32) : Fin 2 → Nat :=
  let c0_i32_5163 : BitVec 32 := 0#32
  ![v4721.toNat, 0]

def k0_chk1958 (i : grid0.Coords) (v4721 : BitVec 32) : Prop :=
  (∀ (k0_h4 : k0_cond4 i = 1#1), ∀ a, (k0_off1966 v4721) a + S1x1024.size a ≤ S40960x1024.size a)
theorem k0_off1966_inb : ∀ (i : grid0.Coords) (v4721 : BitVec 32) (k0_hw1958 : k0_chk1958 i v4721), ∀ (k0_h4 : k0_cond4 i = 1#1), ∀ a, (k0_off1966 v4721) a + S1x1024.size a ≤ S40960x1024.size a := fun i v4721 k0_hw1958 k0_h4 => k0_hw1958 k0_h4

def k0_off1967 (v4726 : BitVec 32) : Fin 2 → Nat :=
  let c0_i32_5168 : BitVec 32 := 0#32
  ![v4726.toNat, 0]

def k0_chk1959 (i : grid0.Coords) (v4726 : BitVec 32) : Prop :=
  (∀ (k0_h4 : k0_cond4 i = 1#1), ∀ a, (k0_off1967 v4726) a + S1x1024.size a ≤ S40960x1024.size a)
theorem k0_off1967_inb : ∀ (i : grid0.Coords) (v4726 : BitVec 32) (k0_hw1959 : k0_chk1959 i v4726), ∀ (k0_h4 : k0_cond4 i = 1#1), ∀ a, (k0_off1967 v4726) a + S1x1024.size a ≤ S40960x1024.size a := fun i v4726 k0_hw1959 k0_h4 => k0_hw1959 k0_h4

def k0_off1968 (v4731 : BitVec 32) : Fin 2 → Nat :=
  let c0_i32_5174 : BitVec 32 := 0#32
  ![v4731.toNat, 0]

def k0_chk1960 (i : grid0.Coords) (v4731 : BitVec 32) : Prop :=
  (∀ (k0_h4 : k0_cond4 i = 1#1), ∀ a, (k0_off1968 v4731) a + S1x1024.size a ≤ S40960x1024.size a)
theorem k0_off1968_inb : ∀ (i : grid0.Coords) (v4731 : BitVec 32) (k0_hw1960 : k0_chk1960 i v4731), ∀ (k0_h4 : k0_cond4 i = 1#1), ∀ a, (k0_off1968 v4731) a + S1x1024.size a ≤ S40960x1024.size a := fun i v4731 k0_hw1960 k0_h4 => k0_hw1960 k0_h4

def k0_off1969 (v4736 : BitVec 32) : Fin 2 → Nat :=
  let c0_i32_5179 : BitVec 32 := 0#32
  ![v4736.toNat, 0]

def k0_chk1961 (i : grid0.Coords) (v4736 : BitVec 32) : Prop :=
  (∀ (k0_h4 : k0_cond4 i = 1#1), ∀ a, (k0_off1969 v4736) a + S1x1024.size a ≤ S40960x1024.size a)
theorem k0_off1969_inb : ∀ (i : grid0.Coords) (v4736 : BitVec 32) (k0_hw1961 : k0_chk1961 i v4736), ∀ (k0_h4 : k0_cond4 i = 1#1), ∀ a, (k0_off1969 v4736) a + S1x1024.size a ≤ S40960x1024.size a := fun i v4736 k0_hw1961 k0_h4 => k0_hw1961 k0_h4

def k0_off1970 (v4741 : BitVec 32) : Fin 2 → Nat :=
  let c0_i32_5185 : BitVec 32 := 0#32
  ![v4741.toNat, 0]

def k0_chk1962 (i : grid0.Coords) (v4741 : BitVec 32) : Prop :=
  (∀ (k0_h4 : k0_cond4 i = 1#1), ∀ a, (k0_off1970 v4741) a + S1x1024.size a ≤ S40960x1024.size a)
theorem k0_off1970_inb : ∀ (i : grid0.Coords) (v4741 : BitVec 32) (k0_hw1962 : k0_chk1962 i v4741), ∀ (k0_h4 : k0_cond4 i = 1#1), ∀ a, (k0_off1970 v4741) a + S1x1024.size a ≤ S40960x1024.size a := fun i v4741 k0_hw1962 k0_h4 => k0_hw1962 k0_h4

def k0_off1971 (v4746 : BitVec 32) : Fin 2 → Nat :=
  let c0_i32_5190 : BitVec 32 := 0#32
  ![v4746.toNat, 0]

def k0_chk1963 (i : grid0.Coords) (v4746 : BitVec 32) : Prop :=
  (∀ (k0_h4 : k0_cond4 i = 1#1), ∀ a, (k0_off1971 v4746) a + S1x1024.size a ≤ S40960x1024.size a)
theorem k0_off1971_inb : ∀ (i : grid0.Coords) (v4746 : BitVec 32) (k0_hw1963 : k0_chk1963 i v4746), ∀ (k0_h4 : k0_cond4 i = 1#1), ∀ a, (k0_off1971 v4746) a + S1x1024.size a ≤ S40960x1024.size a := fun i v4746 k0_hw1963 k0_h4 => k0_hw1963 k0_h4

def k0_off1972 (v4751 : BitVec 32) : Fin 2 → Nat :=
  let c0_i32_5196 : BitVec 32 := 0#32
  ![v4751.toNat, 0]

def k0_chk1964 (i : grid0.Coords) (v4751 : BitVec 32) : Prop :=
  (∀ (k0_h4 : k0_cond4 i = 1#1), ∀ a, (k0_off1972 v4751) a + S1x1024.size a ≤ S40960x1024.size a)
theorem k0_off1972_inb : ∀ (i : grid0.Coords) (v4751 : BitVec 32) (k0_hw1964 : k0_chk1964 i v4751), ∀ (k0_h4 : k0_cond4 i = 1#1), ∀ a, (k0_off1972 v4751) a + S1x1024.size a ≤ S40960x1024.size a := fun i v4751 k0_hw1964 k0_h4 => k0_hw1964 k0_h4

def k0_off1973 (v4756 : BitVec 32) : Fin 2 → Nat :=
  let c0_i32_5201 : BitVec 32 := 0#32
  ![v4756.toNat, 0]

def k0_chk1965 (i : grid0.Coords) (v4756 : BitVec 32) : Prop :=
  (∀ (k0_h4 : k0_cond4 i = 1#1), ∀ a, (k0_off1973 v4756) a + S1x1024.size a ≤ S40960x1024.size a)
theorem k0_off1973_inb : ∀ (i : grid0.Coords) (v4756 : BitVec 32) (k0_hw1965 : k0_chk1965 i v4756), ∀ (k0_h4 : k0_cond4 i = 1#1), ∀ a, (k0_off1973 v4756) a + S1x1024.size a ≤ S40960x1024.size a := fun i v4756 k0_hw1965 k0_h4 => k0_hw1965 k0_h4

def k0_off1974 (v4761 : BitVec 32) : Fin 2 → Nat :=
  let c0_i32_5207 : BitVec 32 := 0#32
  ![v4761.toNat, 0]

def k0_chk1966 (i : grid0.Coords) (v4761 : BitVec 32) : Prop :=
  (∀ (k0_h4 : k0_cond4 i = 1#1), ∀ a, (k0_off1974 v4761) a + S1x1024.size a ≤ S40960x1024.size a)
theorem k0_off1974_inb : ∀ (i : grid0.Coords) (v4761 : BitVec 32) (k0_hw1966 : k0_chk1966 i v4761), ∀ (k0_h4 : k0_cond4 i = 1#1), ∀ a, (k0_off1974 v4761) a + S1x1024.size a ≤ S40960x1024.size a := fun i v4761 k0_hw1966 k0_h4 => k0_hw1966 k0_h4

def k0_off1975 (v4766 : BitVec 32) : Fin 2 → Nat :=
  let c0_i32_5212 : BitVec 32 := 0#32
  ![v4766.toNat, 0]

def k0_chk1967 (i : grid0.Coords) (v4766 : BitVec 32) : Prop :=
  (∀ (k0_h4 : k0_cond4 i = 1#1), ∀ a, (k0_off1975 v4766) a + S1x1024.size a ≤ S40960x1024.size a)
theorem k0_off1975_inb : ∀ (i : grid0.Coords) (v4766 : BitVec 32) (k0_hw1967 : k0_chk1967 i v4766), ∀ (k0_h4 : k0_cond4 i = 1#1), ∀ a, (k0_off1975 v4766) a + S1x1024.size a ≤ S40960x1024.size a := fun i v4766 k0_hw1967 k0_h4 => k0_hw1967 k0_h4

def k0_off1976 (v4771 : BitVec 32) : Fin 2 → Nat :=
  let c0_i32_5218 : BitVec 32 := 0#32
  ![v4771.toNat, 0]

def k0_chk1968 (i : grid0.Coords) (v4771 : BitVec 32) : Prop :=
  (∀ (k0_h4 : k0_cond4 i = 1#1), ∀ a, (k0_off1976 v4771) a + S1x1024.size a ≤ S40960x1024.size a)
theorem k0_off1976_inb : ∀ (i : grid0.Coords) (v4771 : BitVec 32) (k0_hw1968 : k0_chk1968 i v4771), ∀ (k0_h4 : k0_cond4 i = 1#1), ∀ a, (k0_off1976 v4771) a + S1x1024.size a ≤ S40960x1024.size a := fun i v4771 k0_hw1968 k0_h4 => k0_hw1968 k0_h4

def k0_off1977 (v4776 : BitVec 32) : Fin 2 → Nat :=
  let c0_i32_5223 : BitVec 32 := 0#32
  ![v4776.toNat, 0]

def k0_chk1969 (i : grid0.Coords) (v4776 : BitVec 32) : Prop :=
  (∀ (k0_h4 : k0_cond4 i = 1#1), ∀ a, (k0_off1977 v4776) a + S1x1024.size a ≤ S40960x1024.size a)
theorem k0_off1977_inb : ∀ (i : grid0.Coords) (v4776 : BitVec 32) (k0_hw1969 : k0_chk1969 i v4776), ∀ (k0_h4 : k0_cond4 i = 1#1), ∀ a, (k0_off1977 v4776) a + S1x1024.size a ≤ S40960x1024.size a := fun i v4776 k0_hw1969 k0_h4 => k0_hw1969 k0_h4

def k0_off1978 (v4781 : BitVec 32) : Fin 2 → Nat :=
  let c0_i32_5229 : BitVec 32 := 0#32
  ![v4781.toNat, 0]

def k0_chk1970 (i : grid0.Coords) (v4781 : BitVec 32) : Prop :=
  (∀ (k0_h4 : k0_cond4 i = 1#1), ∀ a, (k0_off1978 v4781) a + S1x1024.size a ≤ S40960x1024.size a)
theorem k0_off1978_inb : ∀ (i : grid0.Coords) (v4781 : BitVec 32) (k0_hw1970 : k0_chk1970 i v4781), ∀ (k0_h4 : k0_cond4 i = 1#1), ∀ a, (k0_off1978 v4781) a + S1x1024.size a ≤ S40960x1024.size a := fun i v4781 k0_hw1970 k0_h4 => k0_hw1970 k0_h4

def k0_off1979 (v4786 : BitVec 32) : Fin 2 → Nat :=
  let c0_i32_5234 : BitVec 32 := 0#32
  ![v4786.toNat, 0]

def k0_chk1971 (i : grid0.Coords) (v4786 : BitVec 32) : Prop :=
  (∀ (k0_h4 : k0_cond4 i = 1#1), ∀ a, (k0_off1979 v4786) a + S1x1024.size a ≤ S40960x1024.size a)
theorem k0_off1979_inb : ∀ (i : grid0.Coords) (v4786 : BitVec 32) (k0_hw1971 : k0_chk1971 i v4786), ∀ (k0_h4 : k0_cond4 i = 1#1), ∀ a, (k0_off1979 v4786) a + S1x1024.size a ≤ S40960x1024.size a := fun i v4786 k0_hw1971 k0_h4 => k0_hw1971 k0_h4

def k0_off1980 (v4791 : BitVec 32) : Fin 2 → Nat :=
  let c0_i32_5240 : BitVec 32 := 0#32
  ![v4791.toNat, 0]

def k0_chk1972 (i : grid0.Coords) (v4791 : BitVec 32) : Prop :=
  (∀ (k0_h4 : k0_cond4 i = 1#1), ∀ a, (k0_off1980 v4791) a + S1x1024.size a ≤ S40960x1024.size a)
theorem k0_off1980_inb : ∀ (i : grid0.Coords) (v4791 : BitVec 32) (k0_hw1972 : k0_chk1972 i v4791), ∀ (k0_h4 : k0_cond4 i = 1#1), ∀ a, (k0_off1980 v4791) a + S1x1024.size a ≤ S40960x1024.size a := fun i v4791 k0_hw1972 k0_h4 => k0_hw1972 k0_h4

def k0_off1981 (v4796 : BitVec 32) : Fin 2 → Nat :=
  let c0_i32_5245 : BitVec 32 := 0#32
  ![v4796.toNat, 0]

def k0_chk1973 (i : grid0.Coords) (v4796 : BitVec 32) : Prop :=
  (∀ (k0_h4 : k0_cond4 i = 1#1), ∀ a, (k0_off1981 v4796) a + S1x1024.size a ≤ S40960x1024.size a)
theorem k0_off1981_inb : ∀ (i : grid0.Coords) (v4796 : BitVec 32) (k0_hw1973 : k0_chk1973 i v4796), ∀ (k0_h4 : k0_cond4 i = 1#1), ∀ a, (k0_off1981 v4796) a + S1x1024.size a ≤ S40960x1024.size a := fun i v4796 k0_hw1973 k0_h4 => k0_hw1973 k0_h4

def k0_off1982 (v4801 : BitVec 32) : Fin 2 → Nat :=
  let c0_i32_5251 : BitVec 32 := 0#32
  ![v4801.toNat, 0]

def k0_chk1974 (i : grid0.Coords) (v4801 : BitVec 32) : Prop :=
  (∀ (k0_h4 : k0_cond4 i = 1#1), ∀ a, (k0_off1982 v4801) a + S1x1024.size a ≤ S40960x1024.size a)
theorem k0_off1982_inb : ∀ (i : grid0.Coords) (v4801 : BitVec 32) (k0_hw1974 : k0_chk1974 i v4801), ∀ (k0_h4 : k0_cond4 i = 1#1), ∀ a, (k0_off1982 v4801) a + S1x1024.size a ≤ S40960x1024.size a := fun i v4801 k0_hw1974 k0_h4 => k0_hw1974 k0_h4

def k0_off1983 (v4806 : BitVec 32) : Fin 2 → Nat :=
  let c0_i32_5256 : BitVec 32 := 0#32
  ![v4806.toNat, 0]

def k0_chk1975 (i : grid0.Coords) (v4806 : BitVec 32) : Prop :=
  (∀ (k0_h4 : k0_cond4 i = 1#1), ∀ a, (k0_off1983 v4806) a + S1x1024.size a ≤ S40960x1024.size a)
theorem k0_off1983_inb : ∀ (i : grid0.Coords) (v4806 : BitVec 32) (k0_hw1975 : k0_chk1975 i v4806), ∀ (k0_h4 : k0_cond4 i = 1#1), ∀ a, (k0_off1983 v4806) a + S1x1024.size a ≤ S40960x1024.size a := fun i v4806 k0_hw1975 k0_h4 => k0_hw1975 k0_h4

def k0_off1984 (v4811 : BitVec 32) : Fin 2 → Nat :=
  let c0_i32_5262 : BitVec 32 := 0#32
  ![v4811.toNat, 0]

def k0_chk1976 (i : grid0.Coords) (v4811 : BitVec 32) : Prop :=
  (∀ (k0_h4 : k0_cond4 i = 1#1), ∀ a, (k0_off1984 v4811) a + S1x1024.size a ≤ S40960x1024.size a)
theorem k0_off1984_inb : ∀ (i : grid0.Coords) (v4811 : BitVec 32) (k0_hw1976 : k0_chk1976 i v4811), ∀ (k0_h4 : k0_cond4 i = 1#1), ∀ a, (k0_off1984 v4811) a + S1x1024.size a ≤ S40960x1024.size a := fun i v4811 k0_hw1976 k0_h4 => k0_hw1976 k0_h4

def k0_off1985 (v4816 : BitVec 32) : Fin 2 → Nat :=
  let c0_i32_5267 : BitVec 32 := 0#32
  ![v4816.toNat, 0]

def k0_chk1977 (i : grid0.Coords) (v4816 : BitVec 32) : Prop :=
  (∀ (k0_h4 : k0_cond4 i = 1#1), ∀ a, (k0_off1985 v4816) a + S1x1024.size a ≤ S40960x1024.size a)
theorem k0_off1985_inb : ∀ (i : grid0.Coords) (v4816 : BitVec 32) (k0_hw1977 : k0_chk1977 i v4816), ∀ (k0_h4 : k0_cond4 i = 1#1), ∀ a, (k0_off1985 v4816) a + S1x1024.size a ≤ S40960x1024.size a := fun i v4816 k0_hw1977 k0_h4 => k0_hw1977 k0_h4

def k0_off1986 (v4821 : BitVec 32) : Fin 2 → Nat :=
  let c0_i32_5273 : BitVec 32 := 0#32
  ![v4821.toNat, 0]

def k0_chk1978 (i : grid0.Coords) (v4821 : BitVec 32) : Prop :=
  (∀ (k0_h4 : k0_cond4 i = 1#1), ∀ a, (k0_off1986 v4821) a + S1x1024.size a ≤ S40960x1024.size a)
theorem k0_off1986_inb : ∀ (i : grid0.Coords) (v4821 : BitVec 32) (k0_hw1978 : k0_chk1978 i v4821), ∀ (k0_h4 : k0_cond4 i = 1#1), ∀ a, (k0_off1986 v4821) a + S1x1024.size a ≤ S40960x1024.size a := fun i v4821 k0_hw1978 k0_h4 => k0_hw1978 k0_h4

def k0_off1987 (v4826 : BitVec 32) : Fin 2 → Nat :=
  let c0_i32_5278 : BitVec 32 := 0#32
  ![v4826.toNat, 0]

def k0_chk1979 (i : grid0.Coords) (v4826 : BitVec 32) : Prop :=
  (∀ (k0_h4 : k0_cond4 i = 1#1), ∀ a, (k0_off1987 v4826) a + S1x1024.size a ≤ S40960x1024.size a)
theorem k0_off1987_inb : ∀ (i : grid0.Coords) (v4826 : BitVec 32) (k0_hw1979 : k0_chk1979 i v4826), ∀ (k0_h4 : k0_cond4 i = 1#1), ∀ a, (k0_off1987 v4826) a + S1x1024.size a ≤ S40960x1024.size a := fun i v4826 k0_hw1979 k0_h4 => k0_hw1979 k0_h4

def k0_off1988 (v4831 : BitVec 32) : Fin 2 → Nat :=
  let c0_i32_5284 : BitVec 32 := 0#32
  ![v4831.toNat, 0]

def k0_chk1980 (i : grid0.Coords) (v4831 : BitVec 32) : Prop :=
  (∀ (k0_h4 : k0_cond4 i = 1#1), ∀ a, (k0_off1988 v4831) a + S1x1024.size a ≤ S40960x1024.size a)
theorem k0_off1988_inb : ∀ (i : grid0.Coords) (v4831 : BitVec 32) (k0_hw1980 : k0_chk1980 i v4831), ∀ (k0_h4 : k0_cond4 i = 1#1), ∀ a, (k0_off1988 v4831) a + S1x1024.size a ≤ S40960x1024.size a := fun i v4831 k0_hw1980 k0_h4 => k0_hw1980 k0_h4

def k0_off1989 (v4836 : BitVec 32) : Fin 2 → Nat :=
  let c0_i32_5289 : BitVec 32 := 0#32
  ![v4836.toNat, 0]

def k0_chk1981 (i : grid0.Coords) (v4836 : BitVec 32) : Prop :=
  (∀ (k0_h4 : k0_cond4 i = 1#1), ∀ a, (k0_off1989 v4836) a + S1x1024.size a ≤ S40960x1024.size a)
theorem k0_off1989_inb : ∀ (i : grid0.Coords) (v4836 : BitVec 32) (k0_hw1981 : k0_chk1981 i v4836), ∀ (k0_h4 : k0_cond4 i = 1#1), ∀ a, (k0_off1989 v4836) a + S1x1024.size a ≤ S40960x1024.size a := fun i v4836 k0_hw1981 k0_h4 => k0_hw1981 k0_h4

def k0_off1990 (v4841 : BitVec 32) : Fin 2 → Nat :=
  let c0_i32_5295 : BitVec 32 := 0#32
  ![v4841.toNat, 0]

def k0_chk1982 (i : grid0.Coords) (v4841 : BitVec 32) : Prop :=
  (∀ (k0_h4 : k0_cond4 i = 1#1), ∀ a, (k0_off1990 v4841) a + S1x1024.size a ≤ S40960x1024.size a)
theorem k0_off1990_inb : ∀ (i : grid0.Coords) (v4841 : BitVec 32) (k0_hw1982 : k0_chk1982 i v4841), ∀ (k0_h4 : k0_cond4 i = 1#1), ∀ a, (k0_off1990 v4841) a + S1x1024.size a ≤ S40960x1024.size a := fun i v4841 k0_hw1982 k0_h4 => k0_hw1982 k0_h4

def k0_off1991 (v4846 : BitVec 32) : Fin 2 → Nat :=
  let c0_i32_5300 : BitVec 32 := 0#32
  ![v4846.toNat, 0]

def k0_chk1983 (i : grid0.Coords) (v4846 : BitVec 32) : Prop :=
  (∀ (k0_h4 : k0_cond4 i = 1#1), ∀ a, (k0_off1991 v4846) a + S1x1024.size a ≤ S40960x1024.size a)
theorem k0_off1991_inb : ∀ (i : grid0.Coords) (v4846 : BitVec 32) (k0_hw1983 : k0_chk1983 i v4846), ∀ (k0_h4 : k0_cond4 i = 1#1), ∀ a, (k0_off1991 v4846) a + S1x1024.size a ≤ S40960x1024.size a := fun i v4846 k0_hw1983 k0_h4 => k0_hw1983 k0_h4

def k0_off1992 (v4851 : BitVec 32) : Fin 2 → Nat :=
  let c0_i32_5306 : BitVec 32 := 0#32
  ![v4851.toNat, 0]

def k0_chk1984 (i : grid0.Coords) (v4851 : BitVec 32) : Prop :=
  (∀ (k0_h4 : k0_cond4 i = 1#1), ∀ a, (k0_off1992 v4851) a + S1x1024.size a ≤ S40960x1024.size a)
theorem k0_off1992_inb : ∀ (i : grid0.Coords) (v4851 : BitVec 32) (k0_hw1984 : k0_chk1984 i v4851), ∀ (k0_h4 : k0_cond4 i = 1#1), ∀ a, (k0_off1992 v4851) a + S1x1024.size a ≤ S40960x1024.size a := fun i v4851 k0_hw1984 k0_h4 => k0_hw1984 k0_h4

def k0_off1993 (v4856 : BitVec 32) : Fin 2 → Nat :=
  let c0_i32_5311 : BitVec 32 := 0#32
  ![v4856.toNat, 0]

def k0_chk1985 (i : grid0.Coords) (v4856 : BitVec 32) : Prop :=
  (∀ (k0_h4 : k0_cond4 i = 1#1), ∀ a, (k0_off1993 v4856) a + S1x1024.size a ≤ S40960x1024.size a)
theorem k0_off1993_inb : ∀ (i : grid0.Coords) (v4856 : BitVec 32) (k0_hw1985 : k0_chk1985 i v4856), ∀ (k0_h4 : k0_cond4 i = 1#1), ∀ a, (k0_off1993 v4856) a + S1x1024.size a ≤ S40960x1024.size a := fun i v4856 k0_hw1985 k0_h4 => k0_hw1985 k0_h4

def k0_off1994 (v4861 : BitVec 32) : Fin 2 → Nat :=
  let c0_i32_5317 : BitVec 32 := 0#32
  ![v4861.toNat, 0]

def k0_chk1986 (i : grid0.Coords) (v4861 : BitVec 32) : Prop :=
  (∀ (k0_h4 : k0_cond4 i = 1#1), ∀ a, (k0_off1994 v4861) a + S1x1024.size a ≤ S40960x1024.size a)
theorem k0_off1994_inb : ∀ (i : grid0.Coords) (v4861 : BitVec 32) (k0_hw1986 : k0_chk1986 i v4861), ∀ (k0_h4 : k0_cond4 i = 1#1), ∀ a, (k0_off1994 v4861) a + S1x1024.size a ≤ S40960x1024.size a := fun i v4861 k0_hw1986 k0_h4 => k0_hw1986 k0_h4

def k0_off1995 (v4866 : BitVec 32) : Fin 2 → Nat :=
  let c0_i32_5322 : BitVec 32 := 0#32
  ![v4866.toNat, 0]

def k0_chk1987 (i : grid0.Coords) (v4866 : BitVec 32) : Prop :=
  (∀ (k0_h4 : k0_cond4 i = 1#1), ∀ a, (k0_off1995 v4866) a + S1x1024.size a ≤ S40960x1024.size a)
theorem k0_off1995_inb : ∀ (i : grid0.Coords) (v4866 : BitVec 32) (k0_hw1987 : k0_chk1987 i v4866), ∀ (k0_h4 : k0_cond4 i = 1#1), ∀ a, (k0_off1995 v4866) a + S1x1024.size a ≤ S40960x1024.size a := fun i v4866 k0_hw1987 k0_h4 => k0_hw1987 k0_h4

def k0_off1996 (v4871 : BitVec 32) : Fin 2 → Nat :=
  let c0_i32_5328 : BitVec 32 := 0#32
  ![v4871.toNat, 0]

def k0_chk1988 (i : grid0.Coords) (v4871 : BitVec 32) : Prop :=
  (∀ (k0_h4 : k0_cond4 i = 1#1), ∀ a, (k0_off1996 v4871) a + S1x1024.size a ≤ S40960x1024.size a)
theorem k0_off1996_inb : ∀ (i : grid0.Coords) (v4871 : BitVec 32) (k0_hw1988 : k0_chk1988 i v4871), ∀ (k0_h4 : k0_cond4 i = 1#1), ∀ a, (k0_off1996 v4871) a + S1x1024.size a ≤ S40960x1024.size a := fun i v4871 k0_hw1988 k0_h4 => k0_hw1988 k0_h4

def k0_off1997 (v4876 : BitVec 32) : Fin 2 → Nat :=
  let c0_i32_5333 : BitVec 32 := 0#32
  ![v4876.toNat, 0]

def k0_chk1989 (i : grid0.Coords) (v4876 : BitVec 32) : Prop :=
  (∀ (k0_h4 : k0_cond4 i = 1#1), ∀ a, (k0_off1997 v4876) a + S1x1024.size a ≤ S40960x1024.size a)
theorem k0_off1997_inb : ∀ (i : grid0.Coords) (v4876 : BitVec 32) (k0_hw1989 : k0_chk1989 i v4876), ∀ (k0_h4 : k0_cond4 i = 1#1), ∀ a, (k0_off1997 v4876) a + S1x1024.size a ≤ S40960x1024.size a := fun i v4876 k0_hw1989 k0_h4 => k0_hw1989 k0_h4

def k0_off1998 (v4881 : BitVec 32) : Fin 2 → Nat :=
  let c0_i32_5339 : BitVec 32 := 0#32
  ![v4881.toNat, 0]

def k0_chk1990 (i : grid0.Coords) (v4881 : BitVec 32) : Prop :=
  (∀ (k0_h4 : k0_cond4 i = 1#1), ∀ a, (k0_off1998 v4881) a + S1x1024.size a ≤ S40960x1024.size a)
theorem k0_off1998_inb : ∀ (i : grid0.Coords) (v4881 : BitVec 32) (k0_hw1990 : k0_chk1990 i v4881), ∀ (k0_h4 : k0_cond4 i = 1#1), ∀ a, (k0_off1998 v4881) a + S1x1024.size a ≤ S40960x1024.size a := fun i v4881 k0_hw1990 k0_h4 => k0_hw1990 k0_h4

def k0_off1999 (v4886 : BitVec 32) : Fin 2 → Nat :=
  let c0_i32_5344 : BitVec 32 := 0#32
  ![v4886.toNat, 0]

def k0_chk1991 (i : grid0.Coords) (v4886 : BitVec 32) : Prop :=
  (∀ (k0_h4 : k0_cond4 i = 1#1), ∀ a, (k0_off1999 v4886) a + S1x1024.size a ≤ S40960x1024.size a)
theorem k0_off1999_inb : ∀ (i : grid0.Coords) (v4886 : BitVec 32) (k0_hw1991 : k0_chk1991 i v4886), ∀ (k0_h4 : k0_cond4 i = 1#1), ∀ a, (k0_off1999 v4886) a + S1x1024.size a ≤ S40960x1024.size a := fun i v4886 k0_hw1991 k0_h4 => k0_hw1991 k0_h4

def k0_off2000 (v4891 : BitVec 32) : Fin 2 → Nat :=
  let c0_i32_5350 : BitVec 32 := 0#32
  ![v4891.toNat, 0]

def k0_chk1992 (i : grid0.Coords) (v4891 : BitVec 32) : Prop :=
  (∀ (k0_h4 : k0_cond4 i = 1#1), ∀ a, (k0_off2000 v4891) a + S1x1024.size a ≤ S40960x1024.size a)
theorem k0_off2000_inb : ∀ (i : grid0.Coords) (v4891 : BitVec 32) (k0_hw1992 : k0_chk1992 i v4891), ∀ (k0_h4 : k0_cond4 i = 1#1), ∀ a, (k0_off2000 v4891) a + S1x1024.size a ≤ S40960x1024.size a := fun i v4891 k0_hw1992 k0_h4 => k0_hw1992 k0_h4

def k0_off2001 (v4896 : BitVec 32) : Fin 2 → Nat :=
  let c0_i32_5355 : BitVec 32 := 0#32
  ![v4896.toNat, 0]

def k0_chk1993 (i : grid0.Coords) (v4896 : BitVec 32) : Prop :=
  (∀ (k0_h4 : k0_cond4 i = 1#1), ∀ a, (k0_off2001 v4896) a + S1x1024.size a ≤ S40960x1024.size a)
theorem k0_off2001_inb : ∀ (i : grid0.Coords) (v4896 : BitVec 32) (k0_hw1993 : k0_chk1993 i v4896), ∀ (k0_h4 : k0_cond4 i = 1#1), ∀ a, (k0_off2001 v4896) a + S1x1024.size a ≤ S40960x1024.size a := fun i v4896 k0_hw1993 k0_h4 => k0_hw1993 k0_h4

def k0_off2002 (v4901 : BitVec 32) : Fin 2 → Nat :=
  let c0_i32_5361 : BitVec 32 := 0#32
  ![v4901.toNat, 0]

def k0_chk1994 (i : grid0.Coords) (v4901 : BitVec 32) : Prop :=
  (∀ (k0_h4 : k0_cond4 i = 1#1), ∀ a, (k0_off2002 v4901) a + S1x1024.size a ≤ S40960x1024.size a)
theorem k0_off2002_inb : ∀ (i : grid0.Coords) (v4901 : BitVec 32) (k0_hw1994 : k0_chk1994 i v4901), ∀ (k0_h4 : k0_cond4 i = 1#1), ∀ a, (k0_off2002 v4901) a + S1x1024.size a ≤ S40960x1024.size a := fun i v4901 k0_hw1994 k0_h4 => k0_hw1994 k0_h4

def k0_off2003 (v4906 : BitVec 32) : Fin 2 → Nat :=
  let c0_i32_5366 : BitVec 32 := 0#32
  ![v4906.toNat, 0]

def k0_chk1995 (i : grid0.Coords) (v4906 : BitVec 32) : Prop :=
  (∀ (k0_h4 : k0_cond4 i = 1#1), ∀ a, (k0_off2003 v4906) a + S1x1024.size a ≤ S40960x1024.size a)
theorem k0_off2003_inb : ∀ (i : grid0.Coords) (v4906 : BitVec 32) (k0_hw1995 : k0_chk1995 i v4906), ∀ (k0_h4 : k0_cond4 i = 1#1), ∀ a, (k0_off2003 v4906) a + S1x1024.size a ≤ S40960x1024.size a := fun i v4906 k0_hw1995 k0_h4 => k0_hw1995 k0_h4

def k0_off2004 (v4911 : BitVec 32) : Fin 2 → Nat :=
  let c0_i32_5372 : BitVec 32 := 0#32
  ![v4911.toNat, 0]

def k0_chk1996 (i : grid0.Coords) (v4911 : BitVec 32) : Prop :=
  (∀ (k0_h4 : k0_cond4 i = 1#1), ∀ a, (k0_off2004 v4911) a + S1x1024.size a ≤ S40960x1024.size a)
theorem k0_off2004_inb : ∀ (i : grid0.Coords) (v4911 : BitVec 32) (k0_hw1996 : k0_chk1996 i v4911), ∀ (k0_h4 : k0_cond4 i = 1#1), ∀ a, (k0_off2004 v4911) a + S1x1024.size a ≤ S40960x1024.size a := fun i v4911 k0_hw1996 k0_h4 => k0_hw1996 k0_h4

def k0_off2005 (v4916 : BitVec 32) : Fin 2 → Nat :=
  let c0_i32_5377 : BitVec 32 := 0#32
  ![v4916.toNat, 0]

def k0_chk1997 (i : grid0.Coords) (v4916 : BitVec 32) : Prop :=
  (∀ (k0_h4 : k0_cond4 i = 1#1), ∀ a, (k0_off2005 v4916) a + S1x1024.size a ≤ S40960x1024.size a)
theorem k0_off2005_inb : ∀ (i : grid0.Coords) (v4916 : BitVec 32) (k0_hw1997 : k0_chk1997 i v4916), ∀ (k0_h4 : k0_cond4 i = 1#1), ∀ a, (k0_off2005 v4916) a + S1x1024.size a ≤ S40960x1024.size a := fun i v4916 k0_hw1997 k0_h4 => k0_hw1997 k0_h4

def k0_off2006 (v4921 : BitVec 32) : Fin 2 → Nat :=
  let c0_i32_5383 : BitVec 32 := 0#32
  ![v4921.toNat, 0]

def k0_chk1998 (i : grid0.Coords) (v4921 : BitVec 32) : Prop :=
  (∀ (k0_h4 : k0_cond4 i = 1#1), ∀ a, (k0_off2006 v4921) a + S1x1024.size a ≤ S40960x1024.size a)
theorem k0_off2006_inb : ∀ (i : grid0.Coords) (v4921 : BitVec 32) (k0_hw1998 : k0_chk1998 i v4921), ∀ (k0_h4 : k0_cond4 i = 1#1), ∀ a, (k0_off2006 v4921) a + S1x1024.size a ≤ S40960x1024.size a := fun i v4921 k0_hw1998 k0_h4 => k0_hw1998 k0_h4

def k0_off2007 (v4926 : BitVec 32) : Fin 2 → Nat :=
  let c0_i32_5388 : BitVec 32 := 0#32
  ![v4926.toNat, 0]

def k0_chk1999 (i : grid0.Coords) (v4926 : BitVec 32) : Prop :=
  (∀ (k0_h4 : k0_cond4 i = 1#1), ∀ a, (k0_off2007 v4926) a + S1x1024.size a ≤ S40960x1024.size a)
theorem k0_off2007_inb : ∀ (i : grid0.Coords) (v4926 : BitVec 32) (k0_hw1999 : k0_chk1999 i v4926), ∀ (k0_h4 : k0_cond4 i = 1#1), ∀ a, (k0_off2007 v4926) a + S1x1024.size a ≤ S40960x1024.size a := fun i v4926 k0_hw1999 k0_h4 => k0_hw1999 k0_h4

def k0_off2008 (v4931 : BitVec 32) : Fin 2 → Nat :=
  let c0_i32_5394 : BitVec 32 := 0#32
  ![v4931.toNat, 0]

def k0_chk2000 (i : grid0.Coords) (v4931 : BitVec 32) : Prop :=
  (∀ (k0_h4 : k0_cond4 i = 1#1), ∀ a, (k0_off2008 v4931) a + S1x1024.size a ≤ S40960x1024.size a)
theorem k0_off2008_inb : ∀ (i : grid0.Coords) (v4931 : BitVec 32) (k0_hw2000 : k0_chk2000 i v4931), ∀ (k0_h4 : k0_cond4 i = 1#1), ∀ a, (k0_off2008 v4931) a + S1x1024.size a ≤ S40960x1024.size a := fun i v4931 k0_hw2000 k0_h4 => k0_hw2000 k0_h4

def k0_off2009 (v4936 : BitVec 32) : Fin 2 → Nat :=
  let c0_i32_5399 : BitVec 32 := 0#32
  ![v4936.toNat, 0]

def k0_chk2001 (i : grid0.Coords) (v4936 : BitVec 32) : Prop :=
  (∀ (k0_h4 : k0_cond4 i = 1#1), ∀ a, (k0_off2009 v4936) a + S1x1024.size a ≤ S40960x1024.size a)
theorem k0_off2009_inb : ∀ (i : grid0.Coords) (v4936 : BitVec 32) (k0_hw2001 : k0_chk2001 i v4936), ∀ (k0_h4 : k0_cond4 i = 1#1), ∀ a, (k0_off2009 v4936) a + S1x1024.size a ≤ S40960x1024.size a := fun i v4936 k0_hw2001 k0_h4 => k0_hw2001 k0_h4

def k0_off2010 (v4941 : BitVec 32) : Fin 2 → Nat :=
  let c0_i32_5405 : BitVec 32 := 0#32
  ![v4941.toNat, 0]

def k0_chk2002 (i : grid0.Coords) (v4941 : BitVec 32) : Prop :=
  (∀ (k0_h4 : k0_cond4 i = 1#1), ∀ a, (k0_off2010 v4941) a + S1x1024.size a ≤ S40960x1024.size a)
theorem k0_off2010_inb : ∀ (i : grid0.Coords) (v4941 : BitVec 32) (k0_hw2002 : k0_chk2002 i v4941), ∀ (k0_h4 : k0_cond4 i = 1#1), ∀ a, (k0_off2010 v4941) a + S1x1024.size a ≤ S40960x1024.size a := fun i v4941 k0_hw2002 k0_h4 => k0_hw2002 k0_h4

def k0_off2011 (v4946 : BitVec 32) : Fin 2 → Nat :=
  let c0_i32_5410 : BitVec 32 := 0#32
  ![v4946.toNat, 0]

def k0_chk2003 (i : grid0.Coords) (v4946 : BitVec 32) : Prop :=
  (∀ (k0_h4 : k0_cond4 i = 1#1), ∀ a, (k0_off2011 v4946) a + S1x1024.size a ≤ S40960x1024.size a)
theorem k0_off2011_inb : ∀ (i : grid0.Coords) (v4946 : BitVec 32) (k0_hw2003 : k0_chk2003 i v4946), ∀ (k0_h4 : k0_cond4 i = 1#1), ∀ a, (k0_off2011 v4946) a + S1x1024.size a ≤ S40960x1024.size a := fun i v4946 k0_hw2003 k0_h4 => k0_hw2003 k0_h4

def k0_off2012 (v4951 : BitVec 32) : Fin 2 → Nat :=
  let c0_i32_5416 : BitVec 32 := 0#32
  ![v4951.toNat, 0]

def k0_chk2004 (i : grid0.Coords) (v4951 : BitVec 32) : Prop :=
  (∀ (k0_h4 : k0_cond4 i = 1#1), ∀ a, (k0_off2012 v4951) a + S1x1024.size a ≤ S40960x1024.size a)
theorem k0_off2012_inb : ∀ (i : grid0.Coords) (v4951 : BitVec 32) (k0_hw2004 : k0_chk2004 i v4951), ∀ (k0_h4 : k0_cond4 i = 1#1), ∀ a, (k0_off2012 v4951) a + S1x1024.size a ≤ S40960x1024.size a := fun i v4951 k0_hw2004 k0_h4 => k0_hw2004 k0_h4

def k0_off2013 (v4956 : BitVec 32) : Fin 2 → Nat :=
  let c0_i32_5421 : BitVec 32 := 0#32
  ![v4956.toNat, 0]

def k0_chk2005 (i : grid0.Coords) (v4956 : BitVec 32) : Prop :=
  (∀ (k0_h4 : k0_cond4 i = 1#1), ∀ a, (k0_off2013 v4956) a + S1x1024.size a ≤ S40960x1024.size a)
theorem k0_off2013_inb : ∀ (i : grid0.Coords) (v4956 : BitVec 32) (k0_hw2005 : k0_chk2005 i v4956), ∀ (k0_h4 : k0_cond4 i = 1#1), ∀ a, (k0_off2013 v4956) a + S1x1024.size a ≤ S40960x1024.size a := fun i v4956 k0_hw2005 k0_h4 => k0_hw2005 k0_h4

def k0_off2014 (v4961 : BitVec 32) : Fin 2 → Nat :=
  let c0_i32_5427 : BitVec 32 := 0#32
  ![v4961.toNat, 0]

def k0_chk2006 (i : grid0.Coords) (v4961 : BitVec 32) : Prop :=
  (∀ (k0_h4 : k0_cond4 i = 1#1), ∀ a, (k0_off2014 v4961) a + S1x1024.size a ≤ S40960x1024.size a)
theorem k0_off2014_inb : ∀ (i : grid0.Coords) (v4961 : BitVec 32) (k0_hw2006 : k0_chk2006 i v4961), ∀ (k0_h4 : k0_cond4 i = 1#1), ∀ a, (k0_off2014 v4961) a + S1x1024.size a ≤ S40960x1024.size a := fun i v4961 k0_hw2006 k0_h4 => k0_hw2006 k0_h4

def k0_off2015 (v4966 : BitVec 32) : Fin 2 → Nat :=
  let c0_i32_5432 : BitVec 32 := 0#32
  ![v4966.toNat, 0]

def k0_chk2007 (i : grid0.Coords) (v4966 : BitVec 32) : Prop :=
  (∀ (k0_h4 : k0_cond4 i = 1#1), ∀ a, (k0_off2015 v4966) a + S1x1024.size a ≤ S40960x1024.size a)
theorem k0_off2015_inb : ∀ (i : grid0.Coords) (v4966 : BitVec 32) (k0_hw2007 : k0_chk2007 i v4966), ∀ (k0_h4 : k0_cond4 i = 1#1), ∀ a, (k0_off2015 v4966) a + S1x1024.size a ≤ S40960x1024.size a := fun i v4966 k0_hw2007 k0_h4 => k0_hw2007 k0_h4

def k0_off2016 (v4971 : BitVec 32) : Fin 2 → Nat :=
  let c0_i32_5438 : BitVec 32 := 0#32
  ![v4971.toNat, 0]

def k0_chk2008 (i : grid0.Coords) (v4971 : BitVec 32) : Prop :=
  (∀ (k0_h4 : k0_cond4 i = 1#1), ∀ a, (k0_off2016 v4971) a + S1x1024.size a ≤ S40960x1024.size a)
theorem k0_off2016_inb : ∀ (i : grid0.Coords) (v4971 : BitVec 32) (k0_hw2008 : k0_chk2008 i v4971), ∀ (k0_h4 : k0_cond4 i = 1#1), ∀ a, (k0_off2016 v4971) a + S1x1024.size a ≤ S40960x1024.size a := fun i v4971 k0_hw2008 k0_h4 => k0_hw2008 k0_h4

def k0_off2017 (v4976 : BitVec 32) : Fin 2 → Nat :=
  let c0_i32_5443 : BitVec 32 := 0#32
  ![v4976.toNat, 0]

def k0_chk2009 (i : grid0.Coords) (v4976 : BitVec 32) : Prop :=
  (∀ (k0_h4 : k0_cond4 i = 1#1), ∀ a, (k0_off2017 v4976) a + S1x1024.size a ≤ S40960x1024.size a)
theorem k0_off2017_inb : ∀ (i : grid0.Coords) (v4976 : BitVec 32) (k0_hw2009 : k0_chk2009 i v4976), ∀ (k0_h4 : k0_cond4 i = 1#1), ∀ a, (k0_off2017 v4976) a + S1x1024.size a ≤ S40960x1024.size a := fun i v4976 k0_hw2009 k0_h4 => k0_hw2009 k0_h4

def k0_off2018 (v4981 : BitVec 32) : Fin 2 → Nat :=
  let c0_i32_5449 : BitVec 32 := 0#32
  ![v4981.toNat, 0]

def k0_chk2010 (i : grid0.Coords) (v4981 : BitVec 32) : Prop :=
  (∀ (k0_h4 : k0_cond4 i = 1#1), ∀ a, (k0_off2018 v4981) a + S1x1024.size a ≤ S40960x1024.size a)
theorem k0_off2018_inb : ∀ (i : grid0.Coords) (v4981 : BitVec 32) (k0_hw2010 : k0_chk2010 i v4981), ∀ (k0_h4 : k0_cond4 i = 1#1), ∀ a, (k0_off2018 v4981) a + S1x1024.size a ≤ S40960x1024.size a := fun i v4981 k0_hw2010 k0_h4 => k0_hw2010 k0_h4

def k0_off2019 (v4986 : BitVec 32) : Fin 2 → Nat :=
  let c0_i32_5454 : BitVec 32 := 0#32
  ![v4986.toNat, 0]

def k0_chk2011 (i : grid0.Coords) (v4986 : BitVec 32) : Prop :=
  (∀ (k0_h4 : k0_cond4 i = 1#1), ∀ a, (k0_off2019 v4986) a + S1x1024.size a ≤ S40960x1024.size a)
theorem k0_off2019_inb : ∀ (i : grid0.Coords) (v4986 : BitVec 32) (k0_hw2011 : k0_chk2011 i v4986), ∀ (k0_h4 : k0_cond4 i = 1#1), ∀ a, (k0_off2019 v4986) a + S1x1024.size a ≤ S40960x1024.size a := fun i v4986 k0_hw2011 k0_h4 => k0_hw2011 k0_h4

def k0_off2020 (v4991 : BitVec 32) : Fin 2 → Nat :=
  let c0_i32_5460 : BitVec 32 := 0#32
  ![v4991.toNat, 0]

def k0_chk2012 (i : grid0.Coords) (v4991 : BitVec 32) : Prop :=
  (∀ (k0_h4 : k0_cond4 i = 1#1), ∀ a, (k0_off2020 v4991) a + S1x1024.size a ≤ S40960x1024.size a)
theorem k0_off2020_inb : ∀ (i : grid0.Coords) (v4991 : BitVec 32) (k0_hw2012 : k0_chk2012 i v4991), ∀ (k0_h4 : k0_cond4 i = 1#1), ∀ a, (k0_off2020 v4991) a + S1x1024.size a ≤ S40960x1024.size a := fun i v4991 k0_hw2012 k0_h4 => k0_hw2012 k0_h4

def k0_off2021 (v4996 : BitVec 32) : Fin 2 → Nat :=
  let c0_i32_5465 : BitVec 32 := 0#32
  ![v4996.toNat, 0]

def k0_chk2013 (i : grid0.Coords) (v4996 : BitVec 32) : Prop :=
  (∀ (k0_h4 : k0_cond4 i = 1#1), ∀ a, (k0_off2021 v4996) a + S1x1024.size a ≤ S40960x1024.size a)
theorem k0_off2021_inb : ∀ (i : grid0.Coords) (v4996 : BitVec 32) (k0_hw2013 : k0_chk2013 i v4996), ∀ (k0_h4 : k0_cond4 i = 1#1), ∀ a, (k0_off2021 v4996) a + S1x1024.size a ≤ S40960x1024.size a := fun i v4996 k0_hw2013 k0_h4 => k0_hw2013 k0_h4

def k0_off2022 (v5001 : BitVec 32) : Fin 2 → Nat :=
  let c0_i32_5471 : BitVec 32 := 0#32
  ![v5001.toNat, 0]

def k0_chk2014 (i : grid0.Coords) (v5001 : BitVec 32) : Prop :=
  (∀ (k0_h4 : k0_cond4 i = 1#1), ∀ a, (k0_off2022 v5001) a + S1x1024.size a ≤ S40960x1024.size a)
theorem k0_off2022_inb : ∀ (i : grid0.Coords) (v5001 : BitVec 32) (k0_hw2014 : k0_chk2014 i v5001), ∀ (k0_h4 : k0_cond4 i = 1#1), ∀ a, (k0_off2022 v5001) a + S1x1024.size a ≤ S40960x1024.size a := fun i v5001 k0_hw2014 k0_h4 => k0_hw2014 k0_h4

def k0_off2023 (v5006 : BitVec 32) : Fin 2 → Nat :=
  let c0_i32_5476 : BitVec 32 := 0#32
  ![v5006.toNat, 0]

def k0_chk2015 (i : grid0.Coords) (v5006 : BitVec 32) : Prop :=
  (∀ (k0_h4 : k0_cond4 i = 1#1), ∀ a, (k0_off2023 v5006) a + S1x1024.size a ≤ S40960x1024.size a)
theorem k0_off2023_inb : ∀ (i : grid0.Coords) (v5006 : BitVec 32) (k0_hw2015 : k0_chk2015 i v5006), ∀ (k0_h4 : k0_cond4 i = 1#1), ∀ a, (k0_off2023 v5006) a + S1x1024.size a ≤ S40960x1024.size a := fun i v5006 k0_hw2015 k0_h4 => k0_hw2015 k0_h4

def k0_off2024 (v5011 : BitVec 32) : Fin 2 → Nat :=
  let c0_i32_5482 : BitVec 32 := 0#32
  ![v5011.toNat, 0]

def k0_chk2016 (i : grid0.Coords) (v5011 : BitVec 32) : Prop :=
  (∀ (k0_h4 : k0_cond4 i = 1#1), ∀ a, (k0_off2024 v5011) a + S1x1024.size a ≤ S40960x1024.size a)
theorem k0_off2024_inb : ∀ (i : grid0.Coords) (v5011 : BitVec 32) (k0_hw2016 : k0_chk2016 i v5011), ∀ (k0_h4 : k0_cond4 i = 1#1), ∀ a, (k0_off2024 v5011) a + S1x1024.size a ≤ S40960x1024.size a := fun i v5011 k0_hw2016 k0_h4 => k0_hw2016 k0_h4

def k0_off2025 (v5016 : BitVec 32) : Fin 2 → Nat :=
  let c0_i32_5487 : BitVec 32 := 0#32
  ![v5016.toNat, 0]

def k0_chk2017 (i : grid0.Coords) (v5016 : BitVec 32) : Prop :=
  (∀ (k0_h4 : k0_cond4 i = 1#1), ∀ a, (k0_off2025 v5016) a + S1x1024.size a ≤ S40960x1024.size a)
theorem k0_off2025_inb : ∀ (i : grid0.Coords) (v5016 : BitVec 32) (k0_hw2017 : k0_chk2017 i v5016), ∀ (k0_h4 : k0_cond4 i = 1#1), ∀ a, (k0_off2025 v5016) a + S1x1024.size a ≤ S40960x1024.size a := fun i v5016 k0_hw2017 k0_h4 => k0_hw2017 k0_h4

def k0_off2026 (v5021 : BitVec 32) : Fin 2 → Nat :=
  let c0_i32_5493 : BitVec 32 := 0#32
  ![v5021.toNat, 0]

def k0_chk2018 (i : grid0.Coords) (v5021 : BitVec 32) : Prop :=
  (∀ (k0_h4 : k0_cond4 i = 1#1), ∀ a, (k0_off2026 v5021) a + S1x1024.size a ≤ S40960x1024.size a)
theorem k0_off2026_inb : ∀ (i : grid0.Coords) (v5021 : BitVec 32) (k0_hw2018 : k0_chk2018 i v5021), ∀ (k0_h4 : k0_cond4 i = 1#1), ∀ a, (k0_off2026 v5021) a + S1x1024.size a ≤ S40960x1024.size a := fun i v5021 k0_hw2018 k0_h4 => k0_hw2018 k0_h4

def k0_off2027 (v5026 : BitVec 32) : Fin 2 → Nat :=
  let c0_i32_5498 : BitVec 32 := 0#32
  ![v5026.toNat, 0]

def k0_chk2019 (i : grid0.Coords) (v5026 : BitVec 32) : Prop :=
  (∀ (k0_h4 : k0_cond4 i = 1#1), ∀ a, (k0_off2027 v5026) a + S1x1024.size a ≤ S40960x1024.size a)
theorem k0_off2027_inb : ∀ (i : grid0.Coords) (v5026 : BitVec 32) (k0_hw2019 : k0_chk2019 i v5026), ∀ (k0_h4 : k0_cond4 i = 1#1), ∀ a, (k0_off2027 v5026) a + S1x1024.size a ≤ S40960x1024.size a := fun i v5026 k0_hw2019 k0_h4 => k0_hw2019 k0_h4

def k0_off2028 (v5031 : BitVec 32) : Fin 2 → Nat :=
  let c0_i32_5504 : BitVec 32 := 0#32
  ![v5031.toNat, 0]

def k0_chk2020 (i : grid0.Coords) (v5031 : BitVec 32) : Prop :=
  (∀ (k0_h4 : k0_cond4 i = 1#1), ∀ a, (k0_off2028 v5031) a + S1x1024.size a ≤ S40960x1024.size a)
theorem k0_off2028_inb : ∀ (i : grid0.Coords) (v5031 : BitVec 32) (k0_hw2020 : k0_chk2020 i v5031), ∀ (k0_h4 : k0_cond4 i = 1#1), ∀ a, (k0_off2028 v5031) a + S1x1024.size a ≤ S40960x1024.size a := fun i v5031 k0_hw2020 k0_h4 => k0_hw2020 k0_h4

def k0_off2029 (v5036 : BitVec 32) : Fin 2 → Nat :=
  let c0_i32_5509 : BitVec 32 := 0#32
  ![v5036.toNat, 0]

def k0_chk2021 (i : grid0.Coords) (v5036 : BitVec 32) : Prop :=
  (∀ (k0_h4 : k0_cond4 i = 1#1), ∀ a, (k0_off2029 v5036) a + S1x1024.size a ≤ S40960x1024.size a)
theorem k0_off2029_inb : ∀ (i : grid0.Coords) (v5036 : BitVec 32) (k0_hw2021 : k0_chk2021 i v5036), ∀ (k0_h4 : k0_cond4 i = 1#1), ∀ a, (k0_off2029 v5036) a + S1x1024.size a ≤ S40960x1024.size a := fun i v5036 k0_hw2021 k0_h4 => k0_hw2021 k0_h4

def k0_off2030 (v5041 : BitVec 32) : Fin 2 → Nat :=
  let c0_i32_5515 : BitVec 32 := 0#32
  ![v5041.toNat, 0]

def k0_chk2022 (i : grid0.Coords) (v5041 : BitVec 32) : Prop :=
  (∀ (k0_h4 : k0_cond4 i = 1#1), ∀ a, (k0_off2030 v5041) a + S1x1024.size a ≤ S40960x1024.size a)
theorem k0_off2030_inb : ∀ (i : grid0.Coords) (v5041 : BitVec 32) (k0_hw2022 : k0_chk2022 i v5041), ∀ (k0_h4 : k0_cond4 i = 1#1), ∀ a, (k0_off2030 v5041) a + S1x1024.size a ≤ S40960x1024.size a := fun i v5041 k0_hw2022 k0_h4 => k0_hw2022 k0_h4

def k0_off2031 (v5046 : BitVec 32) : Fin 2 → Nat :=
  let c0_i32_5520 : BitVec 32 := 0#32
  ![v5046.toNat, 0]

def k0_chk2023 (i : grid0.Coords) (v5046 : BitVec 32) : Prop :=
  (∀ (k0_h4 : k0_cond4 i = 1#1), ∀ a, (k0_off2031 v5046) a + S1x1024.size a ≤ S40960x1024.size a)
theorem k0_off2031_inb : ∀ (i : grid0.Coords) (v5046 : BitVec 32) (k0_hw2023 : k0_chk2023 i v5046), ∀ (k0_h4 : k0_cond4 i = 1#1), ∀ a, (k0_off2031 v5046) a + S1x1024.size a ≤ S40960x1024.size a := fun i v5046 k0_hw2023 k0_h4 => k0_hw2023 k0_h4

def k0_off2032 (v5051 : BitVec 32) : Fin 2 → Nat :=
  let c0_i32_5526 : BitVec 32 := 0#32
  ![v5051.toNat, 0]

def k0_chk2024 (i : grid0.Coords) (v5051 : BitVec 32) : Prop :=
  (∀ (k0_h4 : k0_cond4 i = 1#1), ∀ a, (k0_off2032 v5051) a + S1x1024.size a ≤ S40960x1024.size a)
theorem k0_off2032_inb : ∀ (i : grid0.Coords) (v5051 : BitVec 32) (k0_hw2024 : k0_chk2024 i v5051), ∀ (k0_h4 : k0_cond4 i = 1#1), ∀ a, (k0_off2032 v5051) a + S1x1024.size a ≤ S40960x1024.size a := fun i v5051 k0_hw2024 k0_h4 => k0_hw2024 k0_h4

def k0_off2033 (v5056 : BitVec 32) : Fin 2 → Nat :=
  let c0_i32_5531 : BitVec 32 := 0#32
  ![v5056.toNat, 0]

def k0_chk2025 (i : grid0.Coords) (v5056 : BitVec 32) : Prop :=
  (∀ (k0_h4 : k0_cond4 i = 1#1), ∀ a, (k0_off2033 v5056) a + S1x1024.size a ≤ S40960x1024.size a)
theorem k0_off2033_inb : ∀ (i : grid0.Coords) (v5056 : BitVec 32) (k0_hw2025 : k0_chk2025 i v5056), ∀ (k0_h4 : k0_cond4 i = 1#1), ∀ a, (k0_off2033 v5056) a + S1x1024.size a ≤ S40960x1024.size a := fun i v5056 k0_hw2025 k0_h4 => k0_hw2025 k0_h4

def k0_off2034 (v5061 : BitVec 32) : Fin 2 → Nat :=
  let c0_i32_5537 : BitVec 32 := 0#32
  ![v5061.toNat, 0]

def k0_chk2026 (i : grid0.Coords) (v5061 : BitVec 32) : Prop :=
  (∀ (k0_h4 : k0_cond4 i = 1#1), ∀ a, (k0_off2034 v5061) a + S1x1024.size a ≤ S40960x1024.size a)
theorem k0_off2034_inb : ∀ (i : grid0.Coords) (v5061 : BitVec 32) (k0_hw2026 : k0_chk2026 i v5061), ∀ (k0_h4 : k0_cond4 i = 1#1), ∀ a, (k0_off2034 v5061) a + S1x1024.size a ≤ S40960x1024.size a := fun i v5061 k0_hw2026 k0_h4 => k0_hw2026 k0_h4

def k0_off2035 (v5066 : BitVec 32) : Fin 2 → Nat :=
  let c0_i32_5542 : BitVec 32 := 0#32
  ![v5066.toNat, 0]

def k0_chk2027 (i : grid0.Coords) (v5066 : BitVec 32) : Prop :=
  (∀ (k0_h4 : k0_cond4 i = 1#1), ∀ a, (k0_off2035 v5066) a + S1x1024.size a ≤ S40960x1024.size a)
theorem k0_off2035_inb : ∀ (i : grid0.Coords) (v5066 : BitVec 32) (k0_hw2027 : k0_chk2027 i v5066), ∀ (k0_h4 : k0_cond4 i = 1#1), ∀ a, (k0_off2035 v5066) a + S1x1024.size a ≤ S40960x1024.size a := fun i v5066 k0_hw2027 k0_h4 => k0_hw2027 k0_h4

def k0_off2036 (v5071 : BitVec 32) : Fin 2 → Nat :=
  let c0_i32_5548 : BitVec 32 := 0#32
  ![v5071.toNat, 0]

def k0_chk2028 (i : grid0.Coords) (v5071 : BitVec 32) : Prop :=
  (∀ (k0_h4 : k0_cond4 i = 1#1), ∀ a, (k0_off2036 v5071) a + S1x1024.size a ≤ S40960x1024.size a)
theorem k0_off2036_inb : ∀ (i : grid0.Coords) (v5071 : BitVec 32) (k0_hw2028 : k0_chk2028 i v5071), ∀ (k0_h4 : k0_cond4 i = 1#1), ∀ a, (k0_off2036 v5071) a + S1x1024.size a ≤ S40960x1024.size a := fun i v5071 k0_hw2028 k0_h4 => k0_hw2028 k0_h4

def k0_off2037 (v5076 : BitVec 32) : Fin 2 → Nat :=
  let c0_i32_5553 : BitVec 32 := 0#32
  ![v5076.toNat, 0]

def k0_chk2029 (i : grid0.Coords) (v5076 : BitVec 32) : Prop :=
  (∀ (k0_h4 : k0_cond4 i = 1#1), ∀ a, (k0_off2037 v5076) a + S1x1024.size a ≤ S40960x1024.size a)
theorem k0_off2037_inb : ∀ (i : grid0.Coords) (v5076 : BitVec 32) (k0_hw2029 : k0_chk2029 i v5076), ∀ (k0_h4 : k0_cond4 i = 1#1), ∀ a, (k0_off2037 v5076) a + S1x1024.size a ≤ S40960x1024.size a := fun i v5076 k0_hw2029 k0_h4 => k0_hw2029 k0_h4

def k0_off2038 (v5081 : BitVec 32) : Fin 2 → Nat :=
  let c0_i32_5559 : BitVec 32 := 0#32
  ![v5081.toNat, 0]

def k0_chk2030 (i : grid0.Coords) (v5081 : BitVec 32) : Prop :=
  (∀ (k0_h4 : k0_cond4 i = 1#1), ∀ a, (k0_off2038 v5081) a + S1x1024.size a ≤ S40960x1024.size a)
theorem k0_off2038_inb : ∀ (i : grid0.Coords) (v5081 : BitVec 32) (k0_hw2030 : k0_chk2030 i v5081), ∀ (k0_h4 : k0_cond4 i = 1#1), ∀ a, (k0_off2038 v5081) a + S1x1024.size a ≤ S40960x1024.size a := fun i v5081 k0_hw2030 k0_h4 => k0_hw2030 k0_h4

def k0_off2039 (v5086 : BitVec 32) : Fin 2 → Nat :=
  let c0_i32_5564 : BitVec 32 := 0#32
  ![v5086.toNat, 0]

def k0_chk2031 (i : grid0.Coords) (v5086 : BitVec 32) : Prop :=
  (∀ (k0_h4 : k0_cond4 i = 1#1), ∀ a, (k0_off2039 v5086) a + S1x1024.size a ≤ S40960x1024.size a)
theorem k0_off2039_inb : ∀ (i : grid0.Coords) (v5086 : BitVec 32) (k0_hw2031 : k0_chk2031 i v5086), ∀ (k0_h4 : k0_cond4 i = 1#1), ∀ a, (k0_off2039 v5086) a + S1x1024.size a ≤ S40960x1024.size a := fun i v5086 k0_hw2031 k0_h4 => k0_hw2031 k0_h4

def k0_off2040 (v5091 : BitVec 32) : Fin 2 → Nat :=
  let c0_i32_5570 : BitVec 32 := 0#32
  ![v5091.toNat, 0]

def k0_chk2032 (i : grid0.Coords) (v5091 : BitVec 32) : Prop :=
  (∀ (k0_h4 : k0_cond4 i = 1#1), ∀ a, (k0_off2040 v5091) a + S1x1024.size a ≤ S40960x1024.size a)
theorem k0_off2040_inb : ∀ (i : grid0.Coords) (v5091 : BitVec 32) (k0_hw2032 : k0_chk2032 i v5091), ∀ (k0_h4 : k0_cond4 i = 1#1), ∀ a, (k0_off2040 v5091) a + S1x1024.size a ≤ S40960x1024.size a := fun i v5091 k0_hw2032 k0_h4 => k0_hw2032 k0_h4

def k0_off2041 (v5096 : BitVec 32) : Fin 2 → Nat :=
  let c0_i32_5575 : BitVec 32 := 0#32
  ![v5096.toNat, 0]

def k0_chk2033 (i : grid0.Coords) (v5096 : BitVec 32) : Prop :=
  (∀ (k0_h4 : k0_cond4 i = 1#1), ∀ a, (k0_off2041 v5096) a + S1x1024.size a ≤ S40960x1024.size a)
theorem k0_off2041_inb : ∀ (i : grid0.Coords) (v5096 : BitVec 32) (k0_hw2033 : k0_chk2033 i v5096), ∀ (k0_h4 : k0_cond4 i = 1#1), ∀ a, (k0_off2041 v5096) a + S1x1024.size a ≤ S40960x1024.size a := fun i v5096 k0_hw2033 k0_h4 => k0_hw2033 k0_h4

def k0_off2042 (v5101 : BitVec 32) : Fin 2 → Nat :=
  let c0_i32_5581 : BitVec 32 := 0#32
  ![v5101.toNat, 0]

def k0_chk2034 (i : grid0.Coords) (v5101 : BitVec 32) : Prop :=
  (∀ (k0_h4 : k0_cond4 i = 1#1), ∀ a, (k0_off2042 v5101) a + S1x1024.size a ≤ S40960x1024.size a)
theorem k0_off2042_inb : ∀ (i : grid0.Coords) (v5101 : BitVec 32) (k0_hw2034 : k0_chk2034 i v5101), ∀ (k0_h4 : k0_cond4 i = 1#1), ∀ a, (k0_off2042 v5101) a + S1x1024.size a ≤ S40960x1024.size a := fun i v5101 k0_hw2034 k0_h4 => k0_hw2034 k0_h4

def k0_off2043 (v5106 : BitVec 32) : Fin 2 → Nat :=
  let c0_i32_5586 : BitVec 32 := 0#32
  ![v5106.toNat, 0]

def k0_chk2035 (i : grid0.Coords) (v5106 : BitVec 32) : Prop :=
  (∀ (k0_h4 : k0_cond4 i = 1#1), ∀ a, (k0_off2043 v5106) a + S1x1024.size a ≤ S40960x1024.size a)
theorem k0_off2043_inb : ∀ (i : grid0.Coords) (v5106 : BitVec 32) (k0_hw2035 : k0_chk2035 i v5106), ∀ (k0_h4 : k0_cond4 i = 1#1), ∀ a, (k0_off2043 v5106) a + S1x1024.size a ≤ S40960x1024.size a := fun i v5106 k0_hw2035 k0_h4 => k0_hw2035 k0_h4

def k0_off2044 (v5111 : BitVec 32) : Fin 2 → Nat :=
  let c0_i32_5592 : BitVec 32 := 0#32
  ![v5111.toNat, 0]

def k0_chk2036 (i : grid0.Coords) (v5111 : BitVec 32) : Prop :=
  (∀ (k0_h4 : k0_cond4 i = 1#1), ∀ a, (k0_off2044 v5111) a + S1x1024.size a ≤ S40960x1024.size a)
theorem k0_off2044_inb : ∀ (i : grid0.Coords) (v5111 : BitVec 32) (k0_hw2036 : k0_chk2036 i v5111), ∀ (k0_h4 : k0_cond4 i = 1#1), ∀ a, (k0_off2044 v5111) a + S1x1024.size a ≤ S40960x1024.size a := fun i v5111 k0_hw2036 k0_h4 => k0_hw2036 k0_h4

def k0_off2045 (v5116 : BitVec 32) : Fin 2 → Nat :=
  let c0_i32_5597 : BitVec 32 := 0#32
  ![v5116.toNat, 0]

def k0_chk2037 (i : grid0.Coords) (v5116 : BitVec 32) : Prop :=
  (∀ (k0_h4 : k0_cond4 i = 1#1), ∀ a, (k0_off2045 v5116) a + S1x1024.size a ≤ S40960x1024.size a)
theorem k0_off2045_inb : ∀ (i : grid0.Coords) (v5116 : BitVec 32) (k0_hw2037 : k0_chk2037 i v5116), ∀ (k0_h4 : k0_cond4 i = 1#1), ∀ a, (k0_off2045 v5116) a + S1x1024.size a ≤ S40960x1024.size a := fun i v5116 k0_hw2037 k0_h4 => k0_hw2037 k0_h4

def k0_off2046 (v5121 : BitVec 32) : Fin 2 → Nat :=
  let c0_i32_5603 : BitVec 32 := 0#32
  ![v5121.toNat, 0]

def k0_chk2038 (i : grid0.Coords) (v5121 : BitVec 32) : Prop :=
  (∀ (k0_h4 : k0_cond4 i = 1#1), ∀ a, (k0_off2046 v5121) a + S1x1024.size a ≤ S40960x1024.size a)
theorem k0_off2046_inb : ∀ (i : grid0.Coords) (v5121 : BitVec 32) (k0_hw2038 : k0_chk2038 i v5121), ∀ (k0_h4 : k0_cond4 i = 1#1), ∀ a, (k0_off2046 v5121) a + S1x1024.size a ≤ S40960x1024.size a := fun i v5121 k0_hw2038 k0_h4 => k0_hw2038 k0_h4

def k0_off2047 (v5126 : BitVec 32) : Fin 2 → Nat :=
  let c0_i32_5608 : BitVec 32 := 0#32
  ![v5126.toNat, 0]

def k0_chk2039 (i : grid0.Coords) (v5126 : BitVec 32) : Prop :=
  (∀ (k0_h4 : k0_cond4 i = 1#1), ∀ a, (k0_off2047 v5126) a + S1x1024.size a ≤ S40960x1024.size a)
theorem k0_off2047_inb : ∀ (i : grid0.Coords) (v5126 : BitVec 32) (k0_hw2039 : k0_chk2039 i v5126), ∀ (k0_h4 : k0_cond4 i = 1#1), ∀ a, (k0_off2047 v5126) a + S1x1024.size a ≤ S40960x1024.size a := fun i v5126 k0_hw2039 k0_h4 => k0_hw2039 k0_h4

def k0_off2048 (v5131 : BitVec 32) : Fin 2 → Nat :=
  let c0_i32_5614 : BitVec 32 := 0#32
  ![v5131.toNat, 0]

def k0_chk2040 (i : grid0.Coords) (v5131 : BitVec 32) : Prop :=
  (∀ (k0_h4 : k0_cond4 i = 1#1), ∀ a, (k0_off2048 v5131) a + S1x1024.size a ≤ S40960x1024.size a)
theorem k0_off2048_inb : ∀ (i : grid0.Coords) (v5131 : BitVec 32) (k0_hw2040 : k0_chk2040 i v5131), ∀ (k0_h4 : k0_cond4 i = 1#1), ∀ a, (k0_off2048 v5131) a + S1x1024.size a ≤ S40960x1024.size a := fun i v5131 k0_hw2040 k0_h4 => k0_hw2040 k0_h4

def k0_off2049 (v5136 : BitVec 32) : Fin 2 → Nat :=
  let c0_i32_5619 : BitVec 32 := 0#32
  ![v5136.toNat, 0]

def k0_chk2041 (i : grid0.Coords) (v5136 : BitVec 32) : Prop :=
  (∀ (k0_h4 : k0_cond4 i = 1#1), ∀ a, (k0_off2049 v5136) a + S1x1024.size a ≤ S40960x1024.size a)
theorem k0_off2049_inb : ∀ (i : grid0.Coords) (v5136 : BitVec 32) (k0_hw2041 : k0_chk2041 i v5136), ∀ (k0_h4 : k0_cond4 i = 1#1), ∀ a, (k0_off2049 v5136) a + S1x1024.size a ≤ S40960x1024.size a := fun i v5136 k0_hw2041 k0_h4 => k0_hw2041 k0_h4

def k0_off2050 (v5141 : BitVec 32) : Fin 2 → Nat :=
  let c0_i32_5625 : BitVec 32 := 0#32
  ![v5141.toNat, 0]

def k0_chk2042 (i : grid0.Coords) (v5141 : BitVec 32) : Prop :=
  (∀ (k0_h4 : k0_cond4 i = 1#1), ∀ a, (k0_off2050 v5141) a + S1x1024.size a ≤ S40960x1024.size a)
theorem k0_off2050_inb : ∀ (i : grid0.Coords) (v5141 : BitVec 32) (k0_hw2042 : k0_chk2042 i v5141), ∀ (k0_h4 : k0_cond4 i = 1#1), ∀ a, (k0_off2050 v5141) a + S1x1024.size a ≤ S40960x1024.size a := fun i v5141 k0_hw2042 k0_h4 => k0_hw2042 k0_h4

def k0_off2051 (v5146 : BitVec 32) : Fin 2 → Nat :=
  let c0_i32_5630 : BitVec 32 := 0#32
  ![v5146.toNat, 0]

def k0_chk2043 (i : grid0.Coords) (v5146 : BitVec 32) : Prop :=
  (∀ (k0_h4 : k0_cond4 i = 1#1), ∀ a, (k0_off2051 v5146) a + S1x1024.size a ≤ S40960x1024.size a)
theorem k0_off2051_inb : ∀ (i : grid0.Coords) (v5146 : BitVec 32) (k0_hw2043 : k0_chk2043 i v5146), ∀ (k0_h4 : k0_cond4 i = 1#1), ∀ a, (k0_off2051 v5146) a + S1x1024.size a ≤ S40960x1024.size a := fun i v5146 k0_hw2043 k0_h4 => k0_hw2043 k0_h4

def k0_off2052 (v5151 : BitVec 32) : Fin 2 → Nat :=
  let c0_i32_5636 : BitVec 32 := 0#32
  ![v5151.toNat, 0]

def k0_chk2044 (i : grid0.Coords) (v5151 : BitVec 32) : Prop :=
  (∀ (k0_h4 : k0_cond4 i = 1#1), ∀ a, (k0_off2052 v5151) a + S1x1024.size a ≤ S40960x1024.size a)
theorem k0_off2052_inb : ∀ (i : grid0.Coords) (v5151 : BitVec 32) (k0_hw2044 : k0_chk2044 i v5151), ∀ (k0_h4 : k0_cond4 i = 1#1), ∀ a, (k0_off2052 v5151) a + S1x1024.size a ≤ S40960x1024.size a := fun i v5151 k0_hw2044 k0_h4 => k0_hw2044 k0_h4

def k0_off2053 (v5156 : BitVec 32) : Fin 2 → Nat :=
  let c0_i32_5641 : BitVec 32 := 0#32
  ![v5156.toNat, 0]

def k0_chk2045 (i : grid0.Coords) (v5156 : BitVec 32) : Prop :=
  (∀ (k0_h4 : k0_cond4 i = 1#1), ∀ a, (k0_off2053 v5156) a + S1x1024.size a ≤ S40960x1024.size a)
theorem k0_off2053_inb : ∀ (i : grid0.Coords) (v5156 : BitVec 32) (k0_hw2045 : k0_chk2045 i v5156), ∀ (k0_h4 : k0_cond4 i = 1#1), ∀ a, (k0_off2053 v5156) a + S1x1024.size a ≤ S40960x1024.size a := fun i v5156 k0_hw2045 k0_h4 => k0_hw2045 k0_h4

def k0_off2054 (v5161 : BitVec 32) : Fin 2 → Nat :=
  let c0_i32_5647 : BitVec 32 := 0#32
  ![v5161.toNat, 0]

def k0_chk2046 (i : grid0.Coords) (v5161 : BitVec 32) : Prop :=
  (∀ (k0_h4 : k0_cond4 i = 1#1), ∀ a, (k0_off2054 v5161) a + S1x1024.size a ≤ S40960x1024.size a)
theorem k0_off2054_inb : ∀ (i : grid0.Coords) (v5161 : BitVec 32) (k0_hw2046 : k0_chk2046 i v5161), ∀ (k0_h4 : k0_cond4 i = 1#1), ∀ a, (k0_off2054 v5161) a + S1x1024.size a ≤ S40960x1024.size a := fun i v5161 k0_hw2046 k0_h4 => k0_hw2046 k0_h4

def k0_off2055 (v5166 : BitVec 32) : Fin 2 → Nat :=
  let c0_i32_5652 : BitVec 32 := 0#32
  ![v5166.toNat, 0]

def k0_chk2047 (i : grid0.Coords) (v5166 : BitVec 32) : Prop :=
  (∀ (k0_h4 : k0_cond4 i = 1#1), ∀ a, (k0_off2055 v5166) a + S1x1024.size a ≤ S40960x1024.size a)
theorem k0_off2055_inb : ∀ (i : grid0.Coords) (v5166 : BitVec 32) (k0_hw2047 : k0_chk2047 i v5166), ∀ (k0_h4 : k0_cond4 i = 1#1), ∀ a, (k0_off2055 v5166) a + S1x1024.size a ≤ S40960x1024.size a := fun i v5166 k0_hw2047 k0_h4 => k0_hw2047 k0_h4

def k0_off2056 (v5171 : BitVec 32) : Fin 2 → Nat :=
  let c0_i32_5658 : BitVec 32 := 0#32
  ![v5171.toNat, 0]

def k0_chk2048 (i : grid0.Coords) (v5171 : BitVec 32) : Prop :=
  (∀ (k0_h4 : k0_cond4 i = 1#1), ∀ a, (k0_off2056 v5171) a + S1x1024.size a ≤ S40960x1024.size a)
theorem k0_off2056_inb : ∀ (i : grid0.Coords) (v5171 : BitVec 32) (k0_hw2048 : k0_chk2048 i v5171), ∀ (k0_h4 : k0_cond4 i = 1#1), ∀ a, (k0_off2056 v5171) a + S1x1024.size a ≤ S40960x1024.size a := fun i v5171 k0_hw2048 k0_h4 => k0_hw2048 k0_h4

def k0_off2057 (v5176 : BitVec 32) : Fin 2 → Nat :=
  let c0_i32_5663 : BitVec 32 := 0#32
  ![v5176.toNat, 0]

def k0_chk2049 (i : grid0.Coords) (v5176 : BitVec 32) : Prop :=
  (∀ (k0_h4 : k0_cond4 i = 1#1), ∀ a, (k0_off2057 v5176) a + S1x1024.size a ≤ S40960x1024.size a)
theorem k0_off2057_inb : ∀ (i : grid0.Coords) (v5176 : BitVec 32) (k0_hw2049 : k0_chk2049 i v5176), ∀ (k0_h4 : k0_cond4 i = 1#1), ∀ a, (k0_off2057 v5176) a + S1x1024.size a ≤ S40960x1024.size a := fun i v5176 k0_hw2049 k0_h4 => k0_hw2049 k0_h4

def k0_off2058 (v5181 : BitVec 32) : Fin 2 → Nat :=
  let c0_i32_5669 : BitVec 32 := 0#32
  ![v5181.toNat, 0]

def k0_chk2050 (i : grid0.Coords) (v5181 : BitVec 32) : Prop :=
  (∀ (k0_h4 : k0_cond4 i = 1#1), ∀ a, (k0_off2058 v5181) a + S1x1024.size a ≤ S40960x1024.size a)
theorem k0_off2058_inb : ∀ (i : grid0.Coords) (v5181 : BitVec 32) (k0_hw2050 : k0_chk2050 i v5181), ∀ (k0_h4 : k0_cond4 i = 1#1), ∀ a, (k0_off2058 v5181) a + S1x1024.size a ≤ S40960x1024.size a := fun i v5181 k0_hw2050 k0_h4 => k0_hw2050 k0_h4

def k0_off2059 (v5186 : BitVec 32) : Fin 2 → Nat :=
  let c0_i32_5674 : BitVec 32 := 0#32
  ![v5186.toNat, 0]

def k0_chk2051 (i : grid0.Coords) (v5186 : BitVec 32) : Prop :=
  (∀ (k0_h4 : k0_cond4 i = 1#1), ∀ a, (k0_off2059 v5186) a + S1x1024.size a ≤ S40960x1024.size a)
theorem k0_off2059_inb : ∀ (i : grid0.Coords) (v5186 : BitVec 32) (k0_hw2051 : k0_chk2051 i v5186), ∀ (k0_h4 : k0_cond4 i = 1#1), ∀ a, (k0_off2059 v5186) a + S1x1024.size a ≤ S40960x1024.size a := fun i v5186 k0_hw2051 k0_h4 => k0_hw2051 k0_h4

def k0_off2060 (v5191 : BitVec 32) : Fin 2 → Nat :=
  let c0_i32_5680 : BitVec 32 := 0#32
  ![v5191.toNat, 0]

def k0_chk2052 (i : grid0.Coords) (v5191 : BitVec 32) : Prop :=
  (∀ (k0_h4 : k0_cond4 i = 1#1), ∀ a, (k0_off2060 v5191) a + S1x1024.size a ≤ S40960x1024.size a)
theorem k0_off2060_inb : ∀ (i : grid0.Coords) (v5191 : BitVec 32) (k0_hw2052 : k0_chk2052 i v5191), ∀ (k0_h4 : k0_cond4 i = 1#1), ∀ a, (k0_off2060 v5191) a + S1x1024.size a ≤ S40960x1024.size a := fun i v5191 k0_hw2052 k0_h4 => k0_hw2052 k0_h4

def k0_cond5 (i : grid0.Coords) : BitVec 1 :=
  let arg0 : BitVec 32 := BitVec.ofNat 32 (i 0).val
  let c31_i32_5701 : BitVec 32 := 31#32
  let v5239 : BitVec 1 := Scalar.cmpi .eq arg0 c31_i32_5701
  let v5240 : BitVec 32 := Scalar.extui v5239
  let c0_i32_5702 : BitVec 32 := 0#32
  let v5241 : BitVec 1 := Scalar.cmpi .ne v5240 c0_i32_5702
  v5241

@[reducible] def k0_t15_loop : Scf.Loop 32 :=
  let c0_i32_5703 : BitVec 32 := 0#32
  let c256_i32_5704 : BitVec 32 := 256#32
  let v5242 : BitVec 32 := Scalar.addi c0_i32_5703 c256_i32_5704
  let c1_i32_5705 : BitVec 32 := 1#32
  ⟨c0_i32_5703, v5242, c1_i32_5705⟩
@[reducible] def k0_t16_loop : Scf.Loop 32 :=
  let c0_i32_5706 : BitVec 32 := 0#32
  let c256_i32_5707 : BitVec 32 := 256#32
  let v5243 : BitVec 32 := Scalar.addi c0_i32_5706 c256_i32_5707
  let c1_i32_5708 : BitVec 32 := 1#32
  ⟨c0_i32_5706, v5243, c1_i32_5708⟩
@[reducible] def k0_t17_loop : Scf.Loop 32 :=
  let c0_i32_5709 : BitVec 32 := 0#32
  let c256_i32_5710 : BitVec 32 := 256#32
  let v5244 : BitVec 32 := Scalar.addi c0_i32_5709 c256_i32_5710
  let c1_i32_5711 : BitVec 32 := 1#32
  ⟨c0_i32_5709, v5244, c1_i32_5711⟩
@[reducible] def k0_t18_loop : Scf.Loop 32 :=
  let c0_i32_5712 : BitVec 32 := 0#32
  let c256_i32_5713 : BitVec 32 := 256#32
  let v5245 : BitVec 32 := Scalar.addi c0_i32_5712 c256_i32_5713
  let c1_i32_5714 : BitVec 32 := 1#32
  ⟨c0_i32_5712, v5245, c1_i32_5714⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32x1x1024 : Shape := ⟨3, ![32, 1, 1024]⟩
abbrev S16384x128 : Shape := ⟨2, ![16384, 128]⟩
abbrev S16384x2048 : Shape := ⟨2, ![16384, 2048]⟩
abbrev S1x2048 : Shape := ⟨2, ![1, 2048]⟩
abbrev S40960x1024 : Shape := ⟨2, ![40960, 1024]⟩
abbrev S_ : Shape := ⟨0, ![]⟩
abbrev S40960x2048 : Shape := ⟨2, ![40960, 2048]⟩
abbrev S32x1x512 : Shape := ⟨3, ![32, 1, 512]⟩
abbrev S32x512 : Shape := ⟨2, ![32, 512]⟩
abbrev S16384 : Shape := ⟨1, ![16384]⟩
abbrev S16384x1 : Shape := ⟨2, ![16384, 1]⟩

abbrev nBuf : Space → Nat
  | .hbm => 75
  | .vmem => 0
  | .smem => 0
  | _ => 0

abbrev bufTy : (tb : Table) → Fin (tcTables nBuf tb) → BufTy
  | .hbm, ⟨0, _⟩ => ⟨S32x1x1024, .i32⟩
  | .hbm, ⟨1, _⟩ => ⟨S16384x128, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S40960x1024, .i32⟩
  | .hbm, ⟨6, _⟩ => ⟨S_, .i32⟩
  | .hbm, ⟨7, _⟩ => ⟨S40960x1024, .i32⟩
  | .hbm, ⟨8, _⟩ => ⟨S40960x1024, .i32⟩
  | .hbm, ⟨9, _⟩ => ⟨S40960x1024, .f32⟩
  | .hbm, ⟨10, _⟩ => ⟨S_, .i32⟩
  | .hbm, ⟨11, _⟩ => ⟨S40960x1024, .i32⟩
  | .hbm, ⟨12, _⟩ => ⟨S40960x1024, .i32⟩
  | .hbm, ⟨13, _⟩ => ⟨S40960x1024, .f32⟩
  | .hbm, ⟨14, _⟩ => ⟨S40960x2048, .f32⟩
  | .hbm, ⟨15, _⟩ => ⟨S32x1x512, .i32⟩
  | .hbm, ⟨16, _⟩ => ⟨S32x512, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384x2048, .f32⟩
  | .hbm, ⟨27, _⟩ => ⟨S32x1x512, .i32⟩
  | .hbm, ⟨28, _⟩ => ⟨S32x512, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x1, .f32⟩
  | .hbm, ⟨43, _⟩ => ⟨S16384x2048, .f32⟩
  | .hbm, ⟨44, _⟩ => ⟨S16384x2048, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | _, _ => ⟨S32x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Proof.IRange.lean ====
/-
  What the precondition says of the three integer arguments, element by element.
-/
module

public import proofs.«01_k».proof.Defs
public import proofs.«01_k».proof.Proof.Gen.Pre_ranges
public import Idealize.ShloMosaic.Lib.ReduceAll
public import Idealize.ShloMosaic.Lib.StableHlo.Predicate

@[expose] public section

namespace Cert.Ranges

open Idealize.ShloMosaic

theorem nonneg_toNat (a : BitVec 32) (h : 0 ≤ a.toInt) (n : ℕ) (hn : a.toInt ≤ n) : a.toNat ≤ n := by
  rw [BitVec.toInt_eq_toNat_cond] at h hn
  split at h <;> omega

instance : Subsingleton Cert.Pre_ranges.S_.Idx := ⟨fun a b => funext fun x => x.elim0⟩

/-- The block table's words lie below 16, the count of used blocks is at most 80, the row indices lie below 16384. -/
theorem decode {F : FTy → Type} [FloatOps F] [Cert.Pre_ranges.Facts] (a0 : IVec Cert.Pre_ranges.S80 32) (a1 : IVec Cert.Pre_ranges.S1 32) (a2 : IVec Cert.Pre_ranges.S80x1x512 32)
    (a3 : IVec Cert.Pre_ranges.S16384x1024 32) (a4 a5 : FVec F Cert.Pre_ranges.S16x2048x1024 .f32) (a6 : FVec F Cert.Pre_ranges.S16x1024x2048 .f32)
    (h : Cert.Pre_ranges.fn (F := F) a0 a1 a2 a3 a4 a5 a6 = fun _ => 1#1) :
    (∀ i, (a0 i).toNat < 16) ∧ (∀ i, (a1 i).toNat ≤ 80) ∧ (∀ i, (a2 i).toNat < 16384) := by
  have e := congrFun h (fun x => x.elim0)
  simp only [Cert.Pre_ranges.fn, Cert.Pre_ranges.fn_part1] at e
  obtain ⟨e1, e2⟩ := IntOp.andi_eq_one.1 e
  obtain ⟨e0, e1⟩ := IntOp.andi_eq_one.1 e1
  refine ⟨fun i => ?_, fun i => ?_, fun i => ?_⟩
  · obtain ⟨l, u⟩ := IntOp.andi_eq_one.1 (Host.reduce_andi_all _ _ _ _ _ e0 i)
    have l' : 0 ≤ (a0 i).toInt := IntOp.cmpi_sge.1 l
    have u' : (a0 i).toInt < 16 := IntOp.cmpi_slt.1 u
    have := nonneg_toNat _ l' 15 (by omega)
    omega
  · obtain ⟨l, u⟩ := IntOp.andi_eq_one.1 (Host.reduce_andi_all _ _ _ _ _ e1 i)
    have l' : 0 ≤ (a1 i).toInt := IntOp.cmpi_sge.1 l
    have u' : (a1 i).toInt ≤ 80 := IntOp.cmpi_sle.1 u
    exact nonneg_toNat _ l' 80 (by omega)
  · obtain ⟨l, u⟩ := IntOp.andi_eq_one.1 (Host.reduce_andi_all _ _ _ _ _ e2 i)
    have l' : 0 ≤ (a2 i).toInt := IntOp.cmpi_sge.1 l
    have u' : (a2 i).toInt < 16384 := IntOp.cmpi_slt.1 u
    have := nonneg_toNat _ l' 16383 (by omega)
    omega

end Cert.Ranges
-- ==== Proof.IRows.lean ====
/-
  The gather's vocabulary. The kernel's scratch is two slots of 520 rows of 1024 words; slot `s` receives, by 512
  one-row copies on one semaphore cell, the rows of the packed activations that a table of 512 row numbers names.
  Here: the elements of one scratch row and of one source row, the buffer a slot's gather leaves (`gath`), what one
  copy delivers (`Deliv`) and what its issue keeps (`Keep`), and the offsets the body computes from the grid point's
  parity, in closed form.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout
public import Idealize.ShloMosaic.Lib.ValueIdxCoords

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix2 ix3 reshapeEquiv_ix2_1ab)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's, with the transfers' counters. -/
local notation "𝕄" => MT nD τ sig Unit (Elt F) ℕ (Pipeline.UD sig nD τ) ℕ

/-! ## Offsets in closed form -/

/-- The slot a grid point reads, and the slot it fills for the next point. -/
def sl (i : grid0.Coords) : Fin 2 := ⟨(i 0).val % 2, Nat.mod_lt _ (by decide)⟩
def nx (i : grid0.Coords) : Fin 2 := ⟨((i 0).val + 1) % 2, Nat.mod_lt _ (by decide)⟩

theorem off5_eq : ∀ i : grid0.Coords, k0_off5 i = ![(sl i).val] := by decide +kernel
theorem off6_eq : ∀ i : grid0.Coords, k0_off6 i = ![(sl i).val, 0, 0] := by decide +kernel
theorem off7_eq : ∀ i : grid0.Coords, k0_off7 i = ![(sl i).val, 0, 0] := by decide +kernel
theorem off9_eq : ∀ i : grid0.Coords, k0_off9 i = ![(nx i).val] := by decide +kernel
theorem off10_eq : ∀ i : grid0.Coords, k0_off10 i = ![(nx i).val, 0, 0] := by decide +kernel
theorem off13_eq : ∀ i : grid0.Coords, k0_off13 i = ![(nx i).val, 512, 0] := by decide +kernel
theorem off15_eq : ∀ i : grid0.Coords, k0_off15 i = ![(nx i).val] := by decide +kernel
theorem off16_eq : ∀ i : grid0.Coords, k0_off16 i = ![(nx i).val, 0, 0] := by decide +kernel
theorem off19_eq : ∀ i : grid0.Coords, k0_off19 i = ![(nx i).val, 512, 128] := by decide +kernel
theorem off20_eq : ∀ i : grid0.Coords, k0_off20 i = ![(nx i).val] := by decide +kernel
theorem off21_eq : ∀ i : grid0.Coords, k0_off21 i = ![(nx i).val, 0, 0] := by decide +kernel
theorem off22_eq : ∀ i : grid0.Coords, k0_off22 i = ![(sl i).val] := by decide +kernel
theorem off23_eq : ∀ i : grid0.Coords, k0_off23 i = ![(sl i).val, 0, 0] := by decide +kernel

/-! ## The semaphore cells -/

/-- Slot `s`'s semaphore cell. -/
def cell (s : Fin 2) : DmaSem sig := ![10, 11] s

theorem s1_pos (a : Fin 1) : 0 < S1.size a := by fin_cases a; decide
theorem s2_lt (s : Fin 2) (a : Fin 1) : s.val < S2.size a := by fin_cases a; exact s.isLt

theorem cell_ix : ∀ s : Fin 2, cc0_scratch1.ix (fun a => ⟨s.val, s2_lt s a⟩ : S2.Idx) = cell s := by decide

theorem cell_of (off : Fin 1 → ℕ) (h : ∀ a, off a + S1.size a ≤ S2.size a) (s : Fin 2) (e : off = ![s.val]) :
    ((cc0_scratch1.slice (Rect.unit (s := S2) off S1.size h)).squeeze S_ squeezes_S1_S_).sem = cell s := by
  subst e
  rw [← cell_ix s]
  show cc0_scratch1.ix ((Rect.unit (s := S2) ![s.val] S1.size h).emb (Shape.reshapeEquiv squeezes_S1_S_.numel_eq (fun i : Fin 0 => i.elim0))) = _
  congr 1
  funext a; apply Fin.ext
  have h0 := (Shape.reshapeEquiv squeezes_S1_S_.numel_eq (fun i : Fin 0 => i.elim0) a).isLt
  show (![s.val] : Fin 1 → ℕ) a + 1 * (Shape.reshapeEquiv squeezes_S1_S_.numel_eq (fun i : Fin 0 => i.elim0) a).val = s.val
  fin_cases a
  have h1 : (Shape.reshapeEquiv squeezes_S1_S_.numel_eq (fun i : Fin 0 => i.elim0) (0 : Fin 1)).val < 1 := h0
  show s.val + 1 * (Shape.reshapeEquiv squeezes_S1_S_.numel_eq (fun i : Fin 0 => i.elim0) (0 : Fin 1)).val = s.val
  omega

/-! ## Rows -/

abbrev scM : Memref sig .tc .vmem S2x520x1024 .i32 := Memref.whole cc0_scratch0
abbrev hpM : Memref sig .tc .hbm S16384x1024 .i32 := Memref.whole main_arg3

/-- A row of the scratch, as the body slices it. -/
abbrev row (o : Fin 3 → ℕ) (h : ∀ a, o a + S1x520x1024.size a ≤ S2x520x1024.size a) (o' : Fin 2 → ℕ)
    (h' : ∀ a, o' a + S1x1024.size a ≤ S520x1024.size a) : Memref sig .tc .vmem S1x1024 .i32 :=
  ((scM.slice (Rect.unit (s := S2x520x1024) o S1x520x1024.size h) (fun _ => rfl)).squeeze S520x1024 squeezes_S1x520x1024_S520x1024).slice
    (Rect.unit (s := S520x1024) o' S1x1024.size h') (fun _ => rfl)

/-- A row of the activations. -/
abbrev srow (o : Fin 2 → ℕ) (h : ∀ a, o a + S1x1024.size a ≤ S16384x1024.size a) : Memref sig .tc .hbm S1x1024 .i32 :=
  hpM.slice (Rect.unit (s := S16384x1024) o S1x1024.size h) (fun _ => rfl)

/-- The elements of scratch row `(s, j)`, of slot `s`'s 512 gathered rows, and of source row `r`. -/
def rset (s : Fin 2) (j : Fin 512) : Finset S2x520x1024.Idx := Finset.univ.filter fun y => (y 0).val = s.val ∧ (y 1).val = j.val
def sset (s : Fin 2) : Finset S2x520x1024.Idx := Finset.univ.filter fun y => (y 0).val = s.val ∧ (y 1).val < 512
def hset (r : ℕ) : Finset S16384x1024.Idx := Finset.univ.filter fun y => (y 0).val = r

theorem row_emb (s j : ℕ) (h : ∀ a, (![s, 0, 0] : Fin 3 → ℕ) a + S1x520x1024.size a ≤ S2x520x1024.size a)
    (h' : ∀ a, (![j, 0] : Fin 2 → ℕ) a + S1x1024.size a ≤ S520x1024.size a) (x : S1x1024.Idx) :
    (((row ![s, 0, 0] h ![j, 0] h').view.emb x : S2x520x1024.Idx) 0).val = s
    ∧ (((row ![s, 0, 0] h ![j, 0] h').view.emb x : S2x520x1024.Idx) 1).val = j
    ∧ (((row ![s, 0, 0] h ![j, 0] h').view.emb x : S2x520x1024.Idx) 2).val = (x 1).val := by
  have h0 : (x 0).val < 1 := (x 0).isLt
  have h1 : (x 1).val < 1024 := (x 1).isLt
  have hj : j + 1 ≤ 520 := h' 0
  have e : (Rect.unit (s := S520x1024) ![j, 0] S1x1024.size h').emb x
      = ix2 (n0 := 520) (n1 := 1024) ⟨j, by omega⟩ ⟨(x 1).val, h1⟩ := by
    funext a; fin_cases a
    · apply Fin.ext; show j + 1 * (x 0).val = j; omega
    · apply Fin.ext; show 0 + 1 * (x 1).val = (x 1).val; omega
  have e2 := reshapeEquiv_ix2_1ab (a := 520) (b := 1024) squeezes_S1x520x1024_S520x1024.numel_eq ⟨j, by omega⟩ ⟨(x 1).val, h1⟩
  have e3 : ((row ![s, 0, 0] h ![j, 0] h').view.emb x : S2x520x1024.Idx)
      = (Rect.unit (s := S2x520x1024) ![s, 0, 0] S1x520x1024.size h).emb (ix3 (n0 := 1) (n1 := 520) (n2 := 1024) ⟨0, Nat.one_pos⟩ ⟨j, by omega⟩ ⟨(x 1).val, h1⟩) := by
    show (Rect.unit (s := S2x520x1024) ![s, 0, 0] S1x520x1024.size h).emb (Shape.reshapeEquiv _ ((Rect.unit (s := S520x1024) ![j, 0] S1x1024.size h').emb x)) = _
    rw [e]; exact congrArg _ e2
  rw [e3]
  refine ⟨?_, ?_, ?_⟩
  · show s + 1 * 0 = s; omega
  · show 0 + 1 * j = j; omega
  · show 0 + 1 * (x 1).val = (x 1).val; omega

theorem row_set (s : Fin 2) (j : Fin 512) (h : ∀ a, (![s.val, 0, 0] : Fin 3 → ℕ) a + S1x520x1024.size a ≤ S2x520x1024.size a)
    (h' : ∀ a, (![j.val, 0] : Fin 2 → ℕ) a + S1x1024.size a ≤ S520x1024.size a) :
    (row ![s.val, 0, 0] h ![j.val, 0] h').view.set = rset s j := by
  ext y
  simp only [View.set, rset, Finset.mem_map, Finset.mem_filter, Finset.mem_univ, true_and]
  constructor
  · rintro ⟨x, rfl⟩
    have := row_emb s.val j.val h h' x
    exact ⟨this.1, this.2.1⟩
  · rintro ⟨y0, y1⟩
    refine ⟨ix2 (n0 := 1) (n1 := 1024) ⟨0, Nat.one_pos⟩ (y 2), ?_⟩
    have := row_emb s.val j.val h h' (ix2 (n0 := 1) (n1 := 1024) ⟨0, Nat.one_pos⟩ (y 2))
    funext a; fin_cases a
    · exact Fin.ext (this.1.trans y0.symm)
    · exact Fin.ext (this.2.1.trans y1.symm)
    · exact Fin.ext this.2.2

theorem srow_emb (r : ℕ) (h : ∀ a, (![r, 0] : Fin 2 → ℕ) a + S1x1024.size a ≤ S16384x1024.size a) (x : S1x1024.Idx) :
    (((srow ![r, 0] h).view.emb x : S16384x1024.Idx) 0).val = r ∧ (((srow ![r, 0] h).view.emb x : S16384x1024.Idx) 1).val = (x 1).val := by
  have h0 : (x 0).val < 1 := (x 0).isLt
  constructor
  · show r + 1 * (x 0).val = r; omega
  · show 0 + 1 * (x 1).val = (x 1).val; omega

theorem srow_set (r : ℕ) (h : ∀ a, (![r, 0] : Fin 2 → ℕ) a + S1x1024.size a ≤ S16384x1024.size a) :
    (srow ![r, 0] h).view.set = hset r := by
  ext y
  simp only [View.set, hset, Finset.mem_map, Finset.mem_filter, Finset.mem_univ, true_and]
  constructor
  · rintro ⟨x, rfl⟩; exact (srow_emb r h x).1
  · intro y0
    refine ⟨ix2 (n0 := 1) (n1 := 1024) ⟨0, Nat.one_pos⟩ (y 1), ?_⟩
    have := srow_emb r h (ix2 (n0 := 1) (n1 := 1024) ⟨0, Nat.one_pos⟩ (y 1))
    funext a; fin_cases a
    · exact Fin.ext (this.1.trans y0.symm)
    · exact Fin.ext this.2

theorem rset_disjoint (s : Fin 2) : ∀ j j' : Fin 512, j ≠ j' → Disjoint (rset s j) (rset s j') := fun j j' hne => by
  rw [Finset.disjoint_left]; intro y hy hy'
  simp only [rset, Finset.mem_filter, Finset.mem_univ, true_and] at hy hy'
  exact hne (Fin.ext (by omega))
theorem rset_cover (s : Fin 2) : Finset.univ.biUnion (rset s) = sset s := by
  ext y
  simp only [rset, sset, Finset.mem_biUnion, Finset.mem_filter, Finset.mem_univ, true_and]
  constructor
  · rintro ⟨j, h0, h1⟩; exact ⟨h0, h1 ▸ j.isLt⟩
  · rintro ⟨h0, h1⟩; exact ⟨⟨_, h1⟩, h0, rfl⟩

/-! ## What a gather leaves, delivers, keeps -/

abbrev ScBuf : Type := S2x520x1024.Idx → BitVec 32
abbrev HpBuf : Type := S16384x1024.Idx → BitVec 32

/-- Row `j` of either slot holds row `ix j` of the activations. -/
def gath (ix : Fin 512 → ℕ) (hp : HpBuf) : ScBuf :=
  fun y => hp (ix2 (n0 := 16384) (n1 := 1024) ⟨ix ⟨(y 1).val % 512, Nat.mod_lt _ (by decide)⟩ % 16384, Nat.mod_lt _ (by decide)⟩ (y 2))

abbrev scL (c : Dev nD) : Loc nD τ sig := scM.view.loc (c : Thread nD τ)
abbrev hpL (c : Dev nD) : Loc nD τ sig := hpM.view.loc (c : Thread nD τ)
/-- The scratch's elements `S`, at the full share. -/
abbrev scPt (c : Dev nD) (S : Finset S2x520x1024.Idx) (f : ScBuf) : sProp 𝕄 := (scL c) ↦[S]{fullShare} (f : Buf (Elt F) (scL c))
/-- The activations' elements `S` at share `q`. -/
abbrev hpPt (c : Dev nD) (S : Finset S16384x1024.Idx) (q : PosShare TreeShare) (hp : HpBuf) : sProp 𝕄 :=
  (hpL c) ↦[S]{q} (hp : Buf (Elt F) (hpL c))

/-- One copy's delivery: the scratch row at the gathered words, the source row's read share back. -/
def Deliv (c : Dev nD) (s : Fin 2) (ix : Fin 512 → ℕ) (hp : HpBuf) (j : Fin 512) : sProp 𝕄 :=
  iprop(scPt c (rset s j) (gath ix hp) ∗ hpPt c (hset (ix j)) (Transfers.shareTokN fullShare j.val) hp)
/-- What the core holds for a copy not yet issued; -/
def Todo (c : Dev nD) (s : Fin 2) (f : ScBuf) (hp : HpBuf) (j : Fin 512) : sProp 𝕄 :=
  iprop(scPt c (rset s j) f ∗ hpPt c Finset.univ (Transfers.shareTokN fullShare j.val) hp)
/-- and what it keeps of the read share once issued. -/
def Keep (c : Dev nD) (ix : Fin 512 → ℕ) (hp : HpBuf) (j : Fin 512) : sProp 𝕄 :=
  hpPt c (Finset.univ \ hset (ix j)) (Transfers.shareTokN fullShare j.val) hp

instance deliv_storable (c : Dev nD) (s : Fin 2) (ix : Fin 512 → ℕ) (hp : HpBuf) (j : Fin 512) :
    BI.Storable (upEmb : UEmb _ 𝕄) (Deliv (F := F) c s ix hp j) := by
  unfold Deliv; infer_instance

/-- One row's credit. -/
abbrev NN : ℕ := 128

/-- The batch of slot `s`'s 512 copies, `k` issued, `u` units waited for. -/
abbrev bat (c : Dev nD) (s : Fin 2) (ix : Fin 512 → ℕ) (hp : HpBuf) (k u : ℕ) : sProp 𝕄 :=
  Transfers.Batch (countersEmb (U := Pipeline.UD sig nD τ)) (c : Thread nD τ) (.dma (cell s)) () NN (Deliv (F := F) c s ix hp) k u

/-- The copy's write is the gathered row. -/
theorem write_row (ix : Fin 512 → ℕ) (hp : HpBuf) (f : ScBuf) (s : Fin 2) (j : Fin 512) (hr : ix j < 16384)
    (h : ∀ a, (![s.val, 0, 0] : Fin 3 → ℕ) a + S1x520x1024.size a ≤ S2x520x1024.size a)
    (h' : ∀ a, (![j.val, 0] : Fin 2 → ℕ) a + S1x1024.size a ≤ S520x1024.size a)
    (h4 : ∀ a, (![ix j, 0] : Fin 2 → ℕ) a + S1x1024.size a ≤ S16384x1024.size a) :
    ∀ y ∈ rset s j, (row ![s.val, 0, 0] h ![j.val, 0] h').view.write (Elt F) f
      (ReadAs.same.apply ((srow ![ix j, 0] h4).view.read (Elt F) hp)) Finset.univ y = gath ix hp y := by
  intro y hy
  rw [← row_set s j h h'] at hy
  obtain ⟨x, -, rfl⟩ := Finset.mem_map.mp hy
  rw [View.write_emb_of_mem _ _ (Finset.mem_univ x)]
  have e := row_emb s.val j.val h h' x
  have e' := srow_emb (ix j) h4 x
  show hp ((srow ![ix j, 0] h4).view.emb x) = _
  unfold gath
  congr 1
  funext a; fin_cases a
  · apply Fin.ext
    refine e'.1.trans ?_
    show ix j = ix ⟨_ % 512, _⟩ % 16384
    rw [Nat.mod_eq_of_lt]
    · congr 1; apply Fin.ext; show j.val = _ % 512; rw [e.2.1, Nat.mod_eq_of_lt j.isLt]
    · convert hr using 3; rw [e.2.1, Nat.mod_eq_of_lt j.isLt]
  · apply Fin.ext
    exact e'.2.trans e.2.2.symm

end Cert.KernelIdeal.Hand
end
-- ==== Proof.IGather.lean ====
/-
  One row copy and one row wait of the gather, at a symbolic row; then the six counted loops of the body by their
  invariants: the three that issue copies (the first point's 512, and two halves of 256 for the next point) and the
  three that wait for all 512.
-/
module

public import proofs.«01_k».proof.Proof.IRows

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-- The body's weakest precondition on core `c`. -/
abbrev bwp (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- One copy: row `j`'s read share and scratch row go in flight. -/
theorem issue_one (c : Dev nD) (s : Fin 2) (ix : Fin 512 → ℕ) (hp : HpBuf) (f : ScBuf) (j : Fin 512)
    (hr : ix j < 16384)
    (o : Fin 3 → ℕ) (h : ∀ a, o a + S1x520x1024.size a ≤ S2x520x1024.size a) (eo : o = ![s.val, 0, 0])
    (o' : Fin 2 → ℕ) (h' : ∀ a, o' a + S1x1024.size a ≤ S520x1024.size a) (eo' : o' = ![j.val, 0])
    (o4 : Fin 2 → ℕ) (h4 : ∀ a, o4 a + S1x1024.size a ≤ S16384x1024.size a) (e4 : o4 = ![ix j, 0])
    (sem : DmaSem sig) (es : sem = cell s)
    {hsrc : (srow o4 h4).view.WordExact} {hdst : (row o h o' h').view.WordExact}
    {hsem : DmaTarget.Typed (nD := nD) .hbm (SemLoc.dma sem) (.here (p := Proc.tc) (row o h o' h'))}
    {α : Type} {k : PUnit → Prog (TpuEff nD τ sig (Elt F) Λ₀ .tc) α} {Q : α → sProp 𝕄} :
    iprop(Todo (F := F) c s f hp j ∗ bat c s ix hp j.val 0)
      ⊢ iprop((iprop(bat c s ix hp (j.val + 1) 0 ∗ Keep (F := F) c ix hp j) -∗ bwp c (k ⟨⟩) Q)
          -∗ bwp c (.op (.enqueueDma (srow o4 h4) (.here (row o h o' h')) (.dma sem) hsrc hdst hsem) k) Q) := by
  subst eo eo' e4 es
  unfold Todo Keep
  iintro ⟨⟨HS, HH⟩, HB⟩ Hk
  have hsub : hset (ix j) ⊆ Finset.univ := Finset.subset_univ _
  ihave HH' := (pointsTo_split_subset hsub).1 $$ HH
  icases HH' with ⟨HH, HK⟩
  iapply (Transfers.wp_dmaBatch (countersEmb (U := Pipeline.UD sig nD τ)) Variants.none (c : Thread nD τ) none
    (src := srow ![ix j, 0] h4) (via := ReadAs.same) (dst := row ![s.val, 0, 0] h ![j.val, 0] h') (q := Transfers.shareTokN fullShare j.val)
    (fs := hp) (Sd := rset s j) (fd := f) (D := Deliv c s ix hp) (j := j.val) (u := 0) () NN (by rfl)
    (row_set s j h h').le j.isLt (Nat.zero_le _) ?hD) $$ [HS HH HB]
  case hD =>
    unfold Deliv
    iintro ⟨H1, H2⟩
    isplitl [H1]
    · iapply (Entails.of_eq (pointsTo_congr (write_row ix hp f s j hr h h' h4))) $$ H1
    · rw [srow_set]; iexact H2
  · isplitl [HH]; · rw [srow_set]; iexact HH
    isplitl [HS]; · iexact HS
    iexact HB
  iintro HB
  iapply Hk
  isplitl [HB]; · iexact HB
  iexact HK

/-- One wait. -/
theorem wait_one (c : Dev nD) (s : Fin 2) (ix : Fin 512 → ℕ) (hp : HpBuf) (k : ℕ) (hk : k < 512)
    (o : Fin 3 → ℕ) (h : ∀ a, o a + S1x520x1024.size a ≤ S2x520x1024.size a)
    (o' : Fin 2 → ℕ) (h' : ∀ a, o' a + S1x1024.size a ≤ S520x1024.size a)
    (o4 : Fin 2 → ℕ) (h4 : ∀ a, o4 a + S1x1024.size a ≤ S16384x1024.size a)
    (sem : DmaSem sig) (es : sem = cell s)
    {hsrc : (srow o4 h4).view.WordExact} {hdst : (row o h o' h').view.WordExact}
    {α : Type} {kk : PUnit → Prog (TpuEff nD τ sig (Elt F) Λ₀ .tc) α} {Q : α → sProp 𝕄} :
    iprop(bat (F := F) c s ix hp 512 (k * NN) ∗ (∃ W, owes (c : Thread nD τ) 0 W))
      ⊢ iprop((iprop(bat c s ix hp 512 ((k + 1) * NN) ∗ (∃ W, owes (c : Thread nD τ) 0 W)) -∗ bwp c (kk ⟨⟩) Q)
          -∗ bwp c (.op (.waitDma2 sem (srow o4 h4) (row o h o' h') hsrc hdst) kk) Q) := by
  subst es
  rw [show (k + 1) * NN = k * NN + 1 * NN by simp only [NN]; omega]
  iintro ⟨HB, ⟨%W, HO⟩⟩ Hk
  iapply (Transfers.wp_waitBatchMul (countersEmb (U := Pipeline.UD sig nD τ)) Variants.none (c : Thread nD τ) none
    (D := Deliv c s ix hp) (j := 512) (u := k * NN) (N := NN) () 1 (by rfl) (by simp only [NN]; omega)) $$ [HB HO]
  · isplitl [HB]; · iexact HB
    iexact HO
  iintro ⟨HB, HO⟩
  iapply Hk
  isplitl [HB]; · iexact HB
  iexists _; iexact HO

/-! ## The six loops -/

section Loops

variable (c : Dev nD) (i : grid0.Coords)
  (arg1 : Memref sig .tc .smem S80 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (arg6 : Memref sig .tc .vmem S1x2048x2048 .bf16) (harg6 : arg6.IsWhole)
  (arg7 : Memref sig .tc .vmem S1x1024x2048 .bf16) (harg7 : arg7.IsWhole)
  (arg8 : Memref sig .tc .vmem S1024x1024 .bf16) (harg8 : arg8.IsWhole)

/-- A table of row numbers staged in scalar memory: its words. -/
abbrev tab (c : Dev nD) (a : Memref sig .tc .smem S1x1x512 .i32) (q : PosShare TreeShare) (d : S1x1x512.Idx → BitVec 32) : sProp 𝕄 :=
  owns (c : Thread nD τ) a q (d : S1x1x512.Idx → Elt F .i32)

/-- Before copy `k`: `k` in flight, the rest in hand. -/
def issuing (c : Dev nD) (s : Fin 2) (ix : Fin 512 → ℕ) (hp : HpBuf) (f : ScBuf) (k : ℕ) : sProp 𝕄 :=
  iprop(bat (F := F) c s ix hp k 0 ∗ bigSep (Ring.rangeSet 512 k 512) (Todo (F := F) c s f hp) ∗ bigSep (Ring.rangeSet 512 0 k) (Keep (F := F) c ix hp))

/-- Reading one row number. -/
theorem load_word (a : Memref sig .tc .smem S1x1x512 .i32) (q : PosShare TreeShare) (d : S1x1x512.Idx → BitVec 32) (j : Fin 512)
    (o : Fin 3 → ℕ) (h : ∀ x, o x + S1x1x1.size x ≤ S1x1x512.size x) (eo : o = ![0, 0, j.val])
    (hn : (Rect.unit (s := S1x1x512) o S1x1x1.size h).shape.numel = 1) (hp : EltTy.i32.packing = 1)
    {α : Type} {kk : BitVec 32 → Prog (TpuEff nD τ sig (Elt F) Λ₀ .tc) α} {Q : α → sProp 𝕄} :
    tab (F := F) c a q d ⊢ iprop((tab (F := F) c a q d -∗ bwp c (kk (d (ix3 (n0 := 1) (n1 := 1) (n2 := 512) 0 0 j))) Q)
      -∗ bwp c (smemLoad a (Rect.unit (s := S1x1x512) o S1x1x1.size h) hn hp >>= kk) Q) := by
  subst eo
  unfold tab owns
  iintro ⟨%f, %hf, H⟩ Hk
  unfold bwp
  sl_exec
  have e : load_word.sl.r c a j h hn f = d (ix3 (n0 := 1) (n1 := 1) (n2 := 512) 0 0 j) := by
    unfold load_word.sl.r
    rw [← hf]
    show View.read (Elt F) a.view f ((Rect.unit (s := S1x1x512) ![0, 0, j.val] S1x1x1.size h).emb (Shape.Idx.first _)) = _
    congr 1
    funext x
    have hl := (Shape.Idx.first (s := (Rect.unit (s := S1x1x512) ![0, 0, j.val] S1x1x1.size h).shape) (hn.symm ▸ Nat.one_pos) x).isLt
    apply Fin.ext
    show ![0, 0, j.val] x + 1 * (Shape.Idx.first (s := (Rect.unit (s := S1x1x512) ![0, 0, j.val] S1x1x1.size h).shape) (hn.symm ▸ Nat.one_pos) x).val = _
    have h1 : (Rect.unit (s := S1x1x512) ![0, 0, j.val] S1x1x1.size h).shape.size x = 1 := by fin_cases x <;> rfl
    have hl := hl.trans_eq h1
    fin_cases x
    · show 0 + 1 * _ = 0; omega
    · show 0 + 1 * _ = 0; omega
    · show j.val + 1 * _ = j.val; omega
  rw [e]
  iapply Hk
  iexists f
  isplitr [H]; · ipureintro; exact hf
  iexact H

/-- A trip's end, after its one effect. -/
theorem ret_step {Q : Unit → sProp 𝕄} : Q () ⊢ bwp (F := F) c ((Prog.ret PUnit.unit).bind fun _ => pure PUnit.unit) Q := by
  show Q () ⊢ bwp c (Prog.ret PUnit.unit) Q
  unfold bwp
  iintro H
  sl_step
  iexact H

/-- A side condition that holds. -/
theorem assume_step (P : Prop) (hd : Decidable P) (hP : P) {α : Type} {kk : PLift P → Prog (TpuEff nD τ sig (Elt F) Λ₀ .tc) α} {Q : α → sProp 𝕄} :
    bwp c (kk ⟨hP⟩) Q ⊢ bwp (F := F) c (Prog.lift (TpuEff.assume P hd) >>= kk) Q := by
  unfold bwp
  iintro Hk
  simp only [Prog.lift, Prog.bind_op, Prog.bind_ret]
  iapply (wp_assume _ _ _ _ hP)
  iexact Hk

/-- The first point's 512 copies into slot 0. One trip. -/
theorem t1_step (h1 : k0_cond1 i = 1#1) (q : PosShare TreeShare) (d : S1x1x512.Idx → BitVec 32) (ix : Fin 512 → ℕ)
    (hix : ∀ j : Fin 512, (d (ix3 (n0 := 1) (n1 := 1) (n2 := 512) 0 0 j)).toNat = ix j) (hr : ∀ j, ix j < 16384) (hp : HpBuf) (f : ScBuf)
    (k : Fin k0_t1_loop.trips) (acc : Unit) :
    iprop(tab (F := F) c arg3 q d ∗ issuing c 0 ix hp f (k.val))
      ⊢ bwp c (k0_t1_body (F := F) i arg1 harg1 arg2 harg2 arg3 harg3 arg4 harg4 hpM (Memref.isWhole_whole _) arg6 harg6 arg7 harg7 arg8 harg8 scM (Memref.isWhole_whole _) cc0_scratch1 h1 k acc)
          (fun _ => iprop(tab (F := F) c arg3 q d ∗ issuing c 0 ix hp f (k.val + 1))) := by
  have hk : k.val < 512 := by
    have := k.isLt; have h : k0_t1_loop.trips = 512 := by decide
    omega
  let j : Fin 512 := ⟨k.val, hk⟩
  have hc : k0_chk1 i (d (ix3 (n0 := 1) (n1 := 1) (n2 := 512) 0 0 j)) := by
    intro _ a; rw [show k0_off4 (d (ix3 (n0 := 1) (n1 := 1) (n2 := 512) 0 0 j)) = ![ix j, 0] from by
      show ![_, 0] = _; rw [hix]]
    have := hr j
    fin_cases a
    · show ix j + 1 ≤ 16384; omega
    · show 0 + 1024 ≤ 1024; omega
  unfold k0_t1_body issuing
  rw [Ring.bigSep_rangeSet_head (Φ := Todo (F := F) c 0 f hp) (lo := k.val) (by omega) (by omega),
    show k.val + 1 = k.val + 1 by omega,
    Ring.bigSep_rangeSet_last (Φ := Keep (F := F) c ix hp) (hi := k.val + 1) (by omega) (by omega)]
  iintro ⟨HT, HB, ⟨HX, HXs⟩, HK⟩
  iapply (load_word c arg3 q d j _ _ (k0_off2_eq k) _ _) $$ HT
  iintro HT
  iapply (assume_step c _ _ hc)
  iapply (issue_one c 0 ix hp f j (hr j) _ _ (rfl) _ _ (k0_off3_eq k) _ _ (by show ![_, 0] = _; rw [hix])
    _ (cell_of _ _ _ (rfl))) $$ [HX HB]
  · isplitl [HX]; · iexact HX
    iexact HB
  iintro ⟨HB, HX⟩
  iapply (ret_step c)
  isplitl [HT]; · iexact HT
  isplitl [HB]; · iexact HB
  isplitl [HXs]; · iexact HXs
  isplitl [HX]; · iexact HX
  iexact HK

/-- The next point's copies 0…255, into the other slot. One trip. -/
theorem t3_step (v9 v10 : BitVec 32) (h2 : k0_cond2 i v10 = 1#1) (q : PosShare TreeShare) (d : S1x1x512.Idx → BitVec 32) (ix : Fin 512 → ℕ)
    (hix : ∀ j : Fin 512, (d (ix3 (n0 := 1) (n1 := 1) (n2 := 512) 0 0 j)).toNat = ix j) (hr : ∀ j, ix j < 16384) (hp : HpBuf) (f : ScBuf)
    (k : Fin k0_t3_loop.trips) (acc : Unit) :
    iprop(tab (F := F) c arg4 q d ∗ issuing c (nx i) ix hp f (k.val))
      ⊢ bwp c (k0_t3_body (F := F) i arg1 harg1 arg2 harg2 arg3 harg3 arg4 harg4 hpM (Memref.isWhole_whole _) arg6 harg6 arg7 harg7 arg8 harg8 scM (Memref.isWhole_whole _) cc0_scratch1 v9 v10 h2 k acc)
          (fun _ => iprop(tab (F := F) c arg4 q d ∗ issuing c (nx i) ix hp f (k.val + 1))) := by
  have hk : k.val < 512 := by
    have := k.isLt; have h : k0_t3_loop.trips = 256 := by decide
    omega
  let j : Fin 512 := ⟨k.val, hk⟩
  have hc : k0_chk2 i v10 (d (ix3 (n0 := 1) (n1 := 1) (n2 := 512) 0 0 j)) := by
    intro _ a; rw [show k0_off12 (d (ix3 (n0 := 1) (n1 := 1) (n2 := 512) 0 0 j)) = ![ix j, 0] from by
      show ![_, 0] = _; rw [hix]]
    have := hr j
    fin_cases a
    · show ix j + 1 ≤ 16384; omega
    · show 0 + 1024 ≤ 1024; omega
  unfold k0_t3_body issuing
  rw [Ring.bigSep_rangeSet_head (Φ := Todo (F := F) c (nx i) f hp) (lo := k.val) (by omega) (by omega),
    show k.val + 1 = k.val + 1 by omega,
    Ring.bigSep_rangeSet_last (Φ := Keep (F := F) c ix hp) (hi := k.val + 1) (by omega) (by omega)]
  iintro ⟨HT, HB, ⟨HX, HXs⟩, HK⟩
  iapply (load_word c arg4 q d j _ _ (k0_off8_eq k) _ _) $$ HT
  iintro HT
  iapply (assume_step c _ _ hc)
  iapply (issue_one c (nx i) ix hp f j (hr j) _ _ (off10_eq i) _ _ (k0_off11_eq k) _ _ (by show ![_, 0] = _; rw [hix])
    _ (cell_of _ _ _ (off9_eq i))) $$ [HX HB]
  · isplitl [HX]; · iexact HX
    iexact HB
  iintro ⟨HB, HX⟩
  iapply (ret_step c)
  isplitl [HT]; · iexact HT
  isplitl [HB]; · iexact HB
  isplitl [HXs]; · iexact HXs
  isplitl [HX]; · iexact HX
  iexact HK

/-- The next point's copies 256…511. One trip. -/
theorem t4_step (v10 : BitVec 32) (h2 : k0_cond2 i v10 = 1#1) (q : PosShare TreeShare) (d : S1x1x512.Idx → BitVec 32) (ix : Fin 512 → ℕ)
    (hix : ∀ j : Fin 512, (d (ix3 (n0 := 1) (n1 := 1) (n2 := 512) 0 0 j)).toNat = ix j) (hr : ∀ j, ix j < 16384) (hp : HpBuf) (f : ScBuf)
    (k : Fin k0_t4_loop.trips) (acc : Unit) :
    iprop(tab (F := F) c arg4 q d ∗ issuing c (nx i) ix hp f (k.val + 256))
      ⊢ bwp c (k0_t4_body (F := F) i arg1 harg1 arg2 harg2 arg3 harg3 arg4 harg4 hpM (Memref.isWhole_whole _) arg6 harg6 arg7 harg7 arg8 harg8 scM (Memref.isWhole_whole _) cc0_scratch1 v10 h2 k acc)
          (fun _ => iprop(tab (F := F) c arg4 q d ∗ issuing c (nx i) ix hp f (k.val + 1 + 256))) := by
  have hk : k.val + 256 < 512 := by
    have := k.isLt; have h : k0_t4_loop.trips = 256 := by decide
    omega
  let j : Fin 512 := ⟨k.val + 256, hk⟩
  have hc : k0_chk3 i v10 (d (ix3 (n0 := 1) (n1 := 1) (n2 := 512) 0 0 j)) := by
    intro _ a; rw [show k0_off18 (d (ix3 (n0 := 1) (n1 := 1) (n2 := 512) 0 0 j)) = ![ix j, 0] from by
      show ![_, 0] = _; rw [hix]]
    have := hr j
    fin_cases a
    · show ix j + 1 ≤ 16384; omega
    · show 0 + 1024 ≤ 1024; omega
  unfold k0_t4_body issuing
  rw [Ring.bigSep_rangeSet_head (Φ := Todo (F := F) c (nx i) f hp) (lo := k.val + 256) (by omega) (by omega),
    show k.val + 1 + 256 = k.val + 256 + 1 by omega,
    Ring.bigSep_rangeSet_last (Φ := Keep (F := F) c ix hp) (hi := k.val + 256 + 1) (by omega) (by omega)]
  iintro ⟨HT, HB, ⟨HX, HXs⟩, HK⟩
  iapply (load_word c arg4 q d j _ _ (k0_off14_eq k) _ _) $$ HT
  iintro HT
  iapply (assume_step c _ _ hc)
  iapply (issue_one c (nx i) ix hp f j (hr j) _ _ (off16_eq i) _ _ (k0_off17_eq k) _ _ (by show ![_, 0] = _; rw [hix])
    _ (cell_of _ _ _ (off15_eq i))) $$ [HX HB]
  · isplitl [HX]; · iexact HX
    iexact HB
  iintro ⟨HB, HX⟩
  iapply (ret_step c)
  isplitl [HT]; · iexact HT
  isplitl [HB]; · iexact HB
  isplitl [HXs]; · iexact HXs
  isplitl [HX]; · iexact HX
  iexact HK

/-- Before wait `k`: all copies issued, `k` rows' units waited for. -/
def draining (c : Dev nD) (s : Fin 2) (ix : Fin 512 → ℕ) (hp : HpBuf) (k : ℕ) : sProp 𝕄 :=
  iprop(bat (F := F) c s ix hp 512 (k * NN) ∗ (∃ W, owes (c : Thread nD τ) 0 W))

/-- Waiting for this point's slot. One trip. -/
theorem t2_step (v9 v10 : BitVec 32) (h2 : k0_cond2 i v10 = 1#1) (ix : Fin 512 → ℕ) (hp : HpBuf) (k : Fin k0_t2_loop.trips) (acc : Unit) :
    draining (F := F) c (sl i) ix hp k.val
      ⊢ bwp c (k0_t2_body (F := F) i arg1 harg1 arg2 harg2 arg3 harg3 arg4 harg4 hpM (Memref.isWhole_whole _) arg6 harg6 arg7 harg7 arg8 harg8 scM (Memref.isWhole_whole _) cc0_scratch1 v9 v10 h2 k acc) (fun _ => draining c (sl i) ix hp (k.val + 1)) := by
  have hk : k.val < 512 := by
    have := k.isLt; have h : k0_t2_loop.trips = 512 := by decide
    omega
  unfold k0_t2_body draining
  iintro H
  iapply (wait_one c (sl i) ix hp k.val hk _ _ _ _ _ _ _ (cell_of _ _ _ (off5_eq i))) $$ H
  iintro H
  iapply (ret_step c)
  iexact H

/-- After the last point: the other slot's copies are waited for. One trip. -/
theorem t5_step (h3 : k0_cond3 i = 1#1) (ix : Fin 512 → ℕ) (hp : HpBuf) (k : Fin k0_t5_loop.trips) (acc : Unit) :
    draining (F := F) c (nx i) ix hp k.val
      ⊢ bwp c (k0_t5_body (F := F) i arg1 harg1 arg2 harg2 arg3 harg3 arg4 harg4 hpM (Memref.isWhole_whole _) arg6 harg6 arg7 harg7 arg8 harg8 scM (Memref.isWhole_whole _) cc0_scratch1 h3 k acc) (fun _ => draining c (nx i) ix hp (k.val + 1)) := by
  have hk : k.val < 512 := by
    have := k.isLt; have h : k0_t5_loop.trips = 512 := by decide
    omega
  unfold k0_t5_body draining
  iintro H
  iapply (wait_one c (nx i) ix hp k.val hk _ _ _ _ _ _ _ (cell_of _ _ _ (off20_eq i))) $$ H
  iintro H
  iapply (ret_step c)
  iexact H

/-- The first point past the used blocks: its slot's copies are waited for. One trip. -/
theorem t6_step  (ix : Fin 512 → ℕ) (hp : HpBuf) (k : Fin k0_t6_loop.trips) (acc : Unit) :
    draining (F := F) c (sl i) ix hp k.val
      ⊢ bwp c (k0_t6_body (F := F) i arg1 harg1 arg2 harg2 arg3 harg3 arg4 harg4 hpM (Memref.isWhole_whole _) arg6 harg6 arg7 harg7 arg8 harg8 scM (Memref.isWhole_whole _) cc0_scratch1 k acc) (fun _ => draining c (sl i) ix hp (k.val + 1)) := by
  have hk : k.val < 512 := by
    have := k.isLt; have h : k0_t6_loop.trips = 512 := by decide
    omega
  unfold k0_t6_body draining
  iintro H
  iapply (wait_one c (sl i) ix hp k.val hk _ _ _ _ _ _ _ (cell_of _ _ _ (off22_eq i))) $$ H
  iintro H
  iapply (ret_step c)
  iexact H

end Loops

end Cert.KernelIdeal.Hand
end
-- ==== Proof.ISlot.lean ====
/-
  A slot's gather from start to end, as resources: with nothing in flight the core holds the scratch, the activations
  and both semaphore cells at zero (`home`); with slot `s`'s 512 copies in flight it holds the batch, the parts of the
  read shares the copies do not use, the scratch but for that slot's rows, and the other cell (`flight`).
-/
module

public import proofs.«01_k».proof.Proof.IGather

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The cell of slot `s` at zero. -/
abbrev zero (c : Dev nD) (s : Fin 2) : sProp 𝕄 := semVal ((c : Thread nD τ), SemLoc.dma (cell s)) 0
/-- The other slot. -/
def ot (s : Fin 2) : Fin 2 := 1 - s

/-- Nothing in flight, the scratch at `f`. -/
def home (c : Dev nD) (hp : HpBuf) (f : ScBuf) : sProp 𝕄 :=
  iprop(scPt (F := F) c Finset.univ f ∗ zero c 0 ∗ zero c 1 ∗ hpPt (F := F) c Finset.univ fullShare hp)
/-- What the core keeps while slot `s` is gathered, the rest of the scratch at `f`. -/
def aside (c : Dev nD) (s : Fin 2) (hp : HpBuf) (f : ScBuf) : sProp 𝕄 :=
  iprop(scPt (F := F) c (Finset.univ \ sset s) f ∗ zero c (ot s) ∗ hpPt (F := F) c Finset.univ (Transfers.shareDrop fullShare 512) hp)
/-- Slot `s`'s copies all in flight. -/
def flight (c : Dev nD) (s : Fin 2) (ix : Fin 512 → ℕ) (hp : HpBuf) (f : ScBuf) : sProp 𝕄 :=
  iprop(bat (F := F) c s ix hp 512 0 ∗ bigSep Finset.univ (Keep (F := F) c ix hp) ∗ aside c s hp f)

theorem home_split (c : Dev nD) (s : Fin 2) (hp : HpBuf) (f : ScBuf) :
    home (F := F) c hp f ⊢ iprop(scPt (F := F) c Finset.univ f ∗ zero c s ∗ zero c (ot s) ∗ hpPt (F := F) c Finset.univ fullShare hp) := by
  unfold home
  fin_cases s
  · exact .rfl
  · iintro ⟨H, H0, H1, H2⟩
    isplitl [H]; · iexact H
    isplitl [H1]; · iexact H1
    isplitl [H0]; · iexact H0
    iexact H2

theorem home_join (c : Dev nD) (s : Fin 2) (hp : HpBuf) (f : ScBuf) :
    iprop(scPt (F := F) c Finset.univ f ∗ zero c s ∗ zero c (ot s) ∗ hpPt (F := F) c Finset.univ fullShare hp) ⊢ home (F := F) c hp f := by
  unfold home
  fin_cases s
  · exact .rfl
  · iintro ⟨H, H0, H1, H2⟩
    isplitl [H]; · iexact H
    isplitl [H1]; · iexact H1
    isplitl [H0]; · iexact H0
    iexact H2

theorem todo_split (c : Dev nD) (s : Fin 2) (hp : HpBuf) (f : ScBuf) :
    bigSep Finset.univ (Todo (F := F) c s f hp)
      = iprop(bigSep Finset.univ (fun j => scPt (F := F) c (rset s j) f)
        ∗ bigSep Finset.univ (fun j : Fin 512 => hpPt (F := F) c Finset.univ (Transfers.shareTokN fullShare j.val) hp)) := bigSep_sep _ _ _

/-- Before the first copy: the batch is opened, the scratch cut into the slot's rows and the rest, the activations' share
    into one token per copy and the remainder. -/
theorem begin_issue (c : Dev nD) (s : Fin 2) (ix : Fin 512 → ℕ) (hp : HpBuf) (f : ScBuf) :
    home (F := F) c hp f ⊢ |={Set.univ}=> iprop(issuing (F := F) c s ix hp f 0 ∗ aside (F := F) c s hp f) := by
  refine (home_split c s hp f).trans ?_
  unfold issuing aside
  iintro ⟨HS, Hz, Ho, HH⟩
  imod (Transfers.batch_alloc' (Lvl := ℕ) (countersEmb (U := Pipeline.UD sig nD τ)) (c : Thread nD τ) () NN (Deliv (F := F) c s ix hp)
    (sm := SemLoc.dma (cell s)) (E := Set.univ)) $$ Hz with HB
  ihave HS' := (pointsTo_split_subset (Finset.subset_univ (sset s))).1 $$ HS
  icases HS' with ⟨HS, HR⟩
  ihave HT := (Transfers.pointsTo_toks_split fullShare 512) $$ HH
  icases HT with ⟨HD, HT⟩
  imodintro
  isplitl [HB HS HT]
  · isplitl [HB]; · iexact HB
    isplitl [HS HT]
    · rw [Ring.rangeSet_univ]
      rw [todo_split]
      isplitl [HS]
      · iapply (Entails.of_eq (Ring.pointsTo_sub_blocks (rset s) (rset_disjoint s) (sset s) (rset_cover s) f)) $$ HS
      · iexact HT
    · rw [Ring.bigSep_rangeSet_empty (le_refl 0)]; iempintro
  · isplitl [HR]; · iexact HR
    isplitl [Ho]; · iexact Ho
    iexact HD

/-- After the last copy. -/
theorem end_issue (c : Dev nD) (s : Fin 2) (ix : Fin 512 → ℕ) (hp : HpBuf) (f g : ScBuf) :
    iprop(issuing (F := F) c s ix hp f 512 ∗ aside (F := F) c s hp g) ⊢ flight (F := F) c s ix hp g := by
  unfold issuing flight
  rw [Ring.rangeSet_univ]
  iintro ⟨⟨HB, -, HK⟩, HA⟩
  isplitl [HB]; · iexact HB
  isplitl [HK]; · iexact HK
  iexact HA

/-- Before the first wait. -/
theorem begin_drain (c : Dev nD) (s : Fin 2) (ix : Fin 512 → ℕ) (hp : HpBuf) (f : ScBuf) :
    iprop(flight (F := F) c s ix hp f ∗ (∃ W, owes (c : Thread nD τ) 0 W))
      ⊢ iprop(draining (F := F) c s ix hp 0 ∗ bigSep Finset.univ (Keep (F := F) c ix hp) ∗ aside (F := F) c s hp f) := by
  unfold flight draining
  rw [Nat.zero_mul]
  iintro ⟨⟨HB, HK, HA⟩, HO⟩
  isplitl [HB HO]
  · isplitl [HB]; · iexact HB
    iexact HO
  isplitl [HK]; · iexact HK
  iexact HA

/-- The slot's rows and the rest are the scratch. -/
theorem join_slot (c : Dev nD) (s : Fin 2) (g f : ScBuf) :
    iprop(scPt (F := F) c (Finset.univ \ sset s) f ∗ scPt (F := F) c (sset s) g) ⊢ scPt (F := F) c Finset.univ ((sset s).piecewise g f) := by
  have e : (Finset.univ \ sset s) ∪ sset s = Finset.univ := Finset.sdiff_union_of_subset (Finset.subset_univ _)
  have hd : Disjoint (Finset.univ \ sset s) (sset s) := Finset.sdiff_disjoint
  have h := pointsTo_join (Val := Elt F) (Ix := Unit) (Name := ℕ) (U := Pipeline.UD sig nD τ) (Lvl := ℕ) (ℓ := scL c) (I := Finset.univ \ sset s) (J := sset s) (q := fullShare)
    (f := (f : Buf (Elt F) (scL c))) (g := (g : Buf (Elt F) (scL c))) hd
  refine h.trans (Entails.of_eq ?_)
  show ((scL c) ↦[(Finset.univ \ sset s) ∪ sset s]{fullShare} ((sset s).piecewise g f : Buf (Elt F) (scL c))) = _
  rw [e]

/-- After the last wait: everything is home, and slot `s`'s rows are the gathered ones. -/
theorem end_drain (c : Dev nD) (s : Fin 2) (ix : Fin 512 → ℕ) (hp : HpBuf) (f : ScBuf) :
    iprop(draining (F := F) c s ix hp 512 ∗ bigSep Finset.univ (Keep (F := F) c ix hp) ∗ aside (F := F) c s hp f)
      ⊢ |={Set.univ}=> iprop((∃ g, ⌜∀ y ∈ sset s, g y = gath ix hp y⌝ ∗ home (F := F) c hp g) ∗ (∃ W, owes (c : Thread nD τ) 0 W)) := by
  unfold draining aside
  rw [show 512 * NN = NN * 512 from rfl]
  iintro ⟨⟨HB, HO⟩, HK, HR, Ho, HD⟩
  imod (Transfers.batch_collect' (countersEmb (U := Pipeline.UD sig nD τ)) (c : Thread nD τ) (by decide : 0 < NN)) $$ HB with ⟨HX, Hz⟩
  imodintro
  isplitr [HO]
  rotate_left
  · iexact HO
  have e1 : bigSep Finset.univ (Deliv (F := F) c s ix hp)
      = iprop(bigSep Finset.univ (fun j => scPt (F := F) c (rset s j) (gath ix hp))
        ∗ bigSep Finset.univ (fun j : Fin 512 => hpPt (F := F) c (hset (ix j)) (Transfers.shareTokN fullShare j.val) hp)) := bigSep_sep _ _ _
  have e2 : iprop(bigSep Finset.univ (fun j : Fin 512 => hpPt (F := F) c (hset (ix j)) (Transfers.shareTokN fullShare j.val) hp)
        ∗ bigSep Finset.univ (Keep (F := F) c ix hp))
      ⊢ bigSep Finset.univ (fun j : Fin 512 => hpPt (F := F) c Finset.univ (Transfers.shareTokN fullShare j.val) hp) := by
    refine (Entails.of_eq (bigSep_sep _ _ _).symm).trans (bigSep_mono fun j _ => ?_)
    unfold Keep
    exact (pointsTo_split_subset (Finset.subset_univ (hset (ix j)))).2
  ihave HX' := (Entails.of_eq e1) $$ HX
  icases HX' with ⟨HS, HT⟩
  ihave HT' := e2 $$ [HT HK]
  · isplitl [HT]; · iexact HT
    iexact HK
  ihave HH := (Transfers.pointsTo_toks_join fullShare 512) $$ [HD HT']
  · isplitl [HD]; · iexact HD
    iexact HT'
  ihave HS' := (Entails.of_eq (Ring.pointsTo_sub_blocks (rset s) (rset_disjoint s) (sset s) (rset_cover s) (gath ix hp)).symm) $$ HS
  ihave HW := (join_slot c s (gath ix hp) f) $$ [HR HS']
  · isplitl [HR]; · iexact HR
    iexact HS'
  iexists ((sset s).piecewise (gath ix hp) f)
  isplitr
  · ipureintro
    intro y hy
    exact Finset.piecewise_eq_of_mem _ _ _ hy
  iapply (home_join c s hp)
  isplitl [HW]
  · iexact HW
  isplitl [Hz]; · iexact Hz
  isplitl [Ho]; · iexact Ho
  iexact HH

end Cert.KernelIdeal.Hand
end
-- ==== Proof.IMem.lean ====
/-
  Loads and stores of the body: a whole staged block read or overwritten, a block of the scratch read within the part
  of it that is held, and the one-word table of the number of used blocks.
-/
module

public import proofs.«01_k».proof.Proof.ISlot

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The one word of the table of used blocks. -/
abbrev nvt (c : Dev nD) (a : Memref sig .tc .smem S1 .i32) (q : PosShare TreeShare) (d : S1.Idx → BitVec 32) : sProp 𝕄 :=
  owns (c : Thread nD τ) a q (d : S1.Idx → Elt F .i32)

theorem load_nv (c : Dev nD) (a : Memref sig .tc .smem S1 .i32) (q : PosShare TreeShare) (d : S1.Idx → BitVec 32)
    (h : ∀ x, (![0] : Fin 1 → ℕ) x + S1.size x ≤ S1.size x)
    (hn : (Rect.unit (s := S1) ![0] S1.size h).shape.numel = 1) (hp : EltTy.i32.packing = 1)
    {α : Type} {kk : BitVec 32 → Prog (TpuEff nD τ sig (Elt F) Λ₀ .tc) α} {Q : α → sProp 𝕄} :
    nvt (F := F) c a q d ⊢ iprop((nvt (F := F) c a q d -∗ bwp c (kk (d (ix1 0))) Q)
      -∗ bwp c (smemLoad a (Rect.unit (s := S1) ![0] S1.size h) hn hp >>= kk) Q) := by
  unfold nvt owns
  iintro ⟨%f, %hf, H⟩ Hk
  unfold bwp
  sl_exec
  have e : load_nv.sl.r c a h hn f = d (ix1 0) := by
    unfold load_nv.sl.r
    rw [← hf]
    show View.read (Elt F) a.view f ((Rect.unit (s := S1) ![0] S1.size h).emb (Shape.Idx.first _)) = _
    congr 1
    funext x
    have hl := (Shape.Idx.first (s := (Rect.unit (s := S1) ![0] S1.size h).shape) (hn.symm ▸ Nat.one_pos) x).isLt
    apply Fin.ext
    show (![0] : Fin 1 → ℕ) x + 1 * (Shape.Idx.first (s := (Rect.unit (s := S1) ![0] S1.size h).shape) (hn.symm ▸ Nat.one_pos) x).val = _
    have h1 : (Rect.unit (s := S1) ![0] S1.size h).shape.size x = 1 := by fin_cases x; rfl
    have hl := hl.trans_eq h1
    fin_cases x
    show 0 + 1 * _ = 0; omega
  rw [e]
  iapply Hk
  iexists f
  isplitr [H]; · ipureintro; exact hf
  iexact H

/-- A staged block read whole. -/
theorem load_full (c : Dev nD) {s : Shape} {e : EltTy} (m : Memref sig .tc .vmem s e) (q : PosShare TreeShare) (X : s.Idx → Elt F e)
    (o : Fin s.rank → ℕ) (ho : ∀ a, o a = 0) (h : ∀ a, o a + s.size a ≤ s.size a)
    {hl : m.view.LoadsAt (Rect.unit (s := s) o s.size h).toLoadRect}
    {α : Type} {kk : (s.Idx → Elt F e) → Prog (TpuEff nD τ sig (Elt F) Λ₀ .tc) α} {Q : α → sProp 𝕄} :
    owns (c : Thread nD τ) m q X ⊢ iprop((owns (c : Thread nD τ) m q X -∗ bwp c (kk X) Q)
      -∗ bwp c (Prog.lift (.load m (Rect.unit (s := s) o s.size h).toLoadRect hl) >>= kk) Q) := by
  unfold owns
  iintro ⟨%f, %hf, H⟩ Hk
  have e : m.view.readAt (Elt F) (Rect.unit (s := s) o s.size h).toLoadRect f = X := by
    rw [← hf]; funext x
    show m.view.read (Elt F) f ((Rect.unit (s := s) o s.size h).emb x) = _
    congr 1; funext a; apply Fin.ext
    show o a + 1 * (x a).val = (x a).val
    rw [ho a]; omega
  iapply (wp_load (defs := defs₀ (F := F)) Variants.none (c : Thread nD τ) none Set.univ (m := m) (hl := hl)
    (k := kk) (S := m.view.set) (q := q) (f := f) (View.setOn_subset_set _ _)) $$ H
  iintro H
  rw [e]
  iapply Hk
  iexists f
  isplitr [H]; · ipureintro; exact hf
  iexact H

/-- A staged block overwritten. -/
theorem store_full (c : Dev nD) {s : Shape} {e : EltTy} (m : Memref sig .tc .vmem s e) (X w : s.Idx → Elt F e)
    (o : Fin s.rank → ℕ) (ho : ∀ a, o a = 0) (h : ∀ a, o a + s.size a ≤ s.size a)
    {hx : (m.access (Rect.unit (s := s) o s.size h)).Stores Finset.univ}
    {hm : (Finset.univ : Finset (Rect.unit (s := s) o s.size h).shape.Idx) = Finset.univ ∨ ∀ a, (Rect.unit (s := s) o s.size h).stride a = 1}
    {α : Type} {kk : PUnit → Prog (TpuEff nD τ sig (Elt F) Λ₀ .tc) α} {Q : α → sProp 𝕄} :
    owns (c : Thread nD τ) m fullShare X ⊢ iprop((owns (c : Thread nD τ) m fullShare w -∗ bwp c (kk ⟨⟩) Q)
      -∗ bwp c (Prog.lift (.store m (Rect.unit (s := s) o s.size h) w Finset.univ hx hm) >>= kk) Q) := by
  unfold owns
  iintro ⟨%f, %hf, H⟩ Hk
  have e : m.view.read (Elt F) ((m.access (Rect.unit (s := s) o s.size h)).write (Elt F) f w Finset.univ) = w := by
    have e1 := View.read_write_univ (v := m.access (Rect.unit (s := s) o s.size h)) (Val := Elt F) f w
    funext x
    refine Eq.trans ?_ (congrFun e1 x)
    show m.view.read (Elt F) _ x = m.view.read (Elt F) _ ((Rect.unit (s := s) o s.size h).emb x)
    congr 1; funext a; apply Fin.ext
    show (x a).val = o a + 1 * (x a).val
    rw [ho a]; omega
  iapply (wp_store Variants.none (c : Thread nD τ) none Set.univ (m := m) (hx := hx) (hm := hm)
    (k := kk) (S := m.view.set) (f := f) ((View.setOn_subset_set _ _).trans (View.set_slice_subset _ _))) $$ H
  iintro H
  iapply Hk
  iexists _
  isplitr [H]; · ipureintro; exact e
  iexact H

/-- A block of the scratch read within what is held of it. -/
theorem load_part (c : Dev nD) (S : Finset S2x520x1024.Idx) (f : ScBuf) (r : LoadRect S2x520x1024)
    (hS : ∀ y ∈ r.set, y ∈ S) {hl : scM.view.LoadsAt r}
    {α : Type} {kk : (r.shape.Idx → Elt F .i32) → Prog (TpuEff nD τ sig (Elt F) Λ₀ .tc) α} {Q : α → sProp 𝕄} :
    scPt (F := F) c S f ⊢ iprop((scPt (F := F) c S f -∗ bwp c (kk (scM.view.readAt (Elt F) r f)) Q)
      -∗ bwp c (Prog.lift (.load scM r hl) >>= kk) Q) := by
  iintro H Hk
  iapply (wp_load (defs := defs₀ (F := F)) Variants.none (c : Thread nD τ) none Set.univ (Q := Q) (m := scM) (hl := hl)
    (k := kk) (S := S) (q := fullShare) (f := f) (by
      intro y hy
      obtain ⟨x, hx, rfl⟩ := Finset.mem_map.mp hy
      exact hS _ hx)) $$ H
  iintro H
  iapply Hk
  iexact H

/-- The scratch overwritten in a block: some contents again. -/
theorem store_part (c : Dev nD) (f : ScBuf) (r : Rect S2x520x1024) (w : r.shape.Idx → BitVec 32)
    {hx : (scM.access r).Stores Finset.univ} {hm : (Finset.univ : Finset r.shape.Idx) = Finset.univ ∨ ∀ a, r.stride a = 1}
    {α : Type} {kk : PUnit → Prog (TpuEff nD τ sig (Elt F) Λ₀ .tc) α} {Q : α → sProp 𝕄} :
    scPt (F := F) c Finset.univ f ⊢ iprop((∀ g, scPt (F := F) c Finset.univ g -∗ bwp c (kk ⟨⟩) Q)
      -∗ bwp c (Prog.lift (.store scM r (w : r.shape.Idx → Elt F .i32) Finset.univ hx hm) >>= kk) Q) := by
  iintro H Hk
  iapply (wp_store Variants.none (c : Thread nD τ) none Set.univ (m := scM) (hx := hx) (hm := hm)
    (k := kk) (S := Finset.univ) (f := f) (Finset.subset_univ _)) $$ H
  iintro H
  iapply Hk
  iexact H

end Cert.KernelIdeal.Hand
end
-- ==== Proof.IBody.lean ====
/-
  The kernel's body as three phases in turn, each a program taking what follows it: the first point's copies (`phA`),
  a used block's computation (`phB`), an unused block's zeros (`phC`). What each does, and the body's triple.
-/
module

public import proofs.«01_k».proof.Proof.IMem

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The spare rows do not matter: their words are shifted out -/

theorem spare_zero (v : IVec S8x128 32) :
    shrui (shrui v (broadcast S8x128 16#32)) (broadcast S8x128 16#32) = fun _ => 0#32 := by
  funext x
  show (v x >>> (16#32 : BitVec 32).toNat) >>> (16#32 : BitVec 32).toNat = 0#32
  rw [show (16#32 : BitVec 32).toNat = 16 from rfl, ← BitVec.shiftRight_add]
  exact BitVec.ushiftRight_eq_zero (by decide)

theorem pay4_spare (v22 : Vec F S1x512x1024 .i32) (v29 : Vec F S1x2048x2048 .bf16) (v35 : Vec F S1x8x128 .i32) :
    k0_pay4 v22 v29 v35 = k0_pay4 v22 v29 (fun _ => (0#32 : BitVec 32)) := by
  unfold k0_pay4
  dsimp only
  rw [spare_zero, spare_zero]

theorem pay2_spare (v56 : FVec F S512x1024 .bf16) (v57 : Vec F S1x1024x2048 .bf16) (v63 : Vec F S1x8x128 .i32) :
    k0_pay2 v56 v57 v63 = k0_pay2 v56 v57 (fun _ => (0#32 : BitVec 32)) := by
  unfold k0_pay2
  dsimp only
  rw [spare_zero, spare_zero]

/-- A counted loop at the head of a program, by an invariant of the trips made. -/
theorem loop_step (c : Dev nD) (L : Scf.Loop 32) (hok : L.OK) (n : ℕ) (hn : L.trips = n) (I : ℕ → sProp 𝕄)
    (body : Fin L.trips → PUnit → Prog (TpuEff nD τ sig (Elt F) Λ₀ .tc) PUnit)
    (hbody : ∀ (k : Fin L.trips) (acc : PUnit), I k.val ⊢ bwp c (body k acc) (fun _ => I (k.val + 1)))
    {α : Type} {kk : PUnit → Prog (TpuEff nD τ sig (Elt F) Λ₀ .tc) α} {Q : α → sProp 𝕄} :
    I 0 ⊢ iprop((I n -∗ bwp c (kk ⟨⟩) Q) -∗ bwp c (Scf.Loop.for L hok ⟨⟩ body >>= kk) Q) := by
  subst hn
  iintro H Hk
  unfold bwp
  iapply (Scf.wp_for_bind frame (wpE (defs₀ (F := F)) Variants.none (c : Thread nD τ) none) Set.univ L.lb L.ub L.st hok ⟨⟩ body
    (I := fun k _ => I k) hbody) $$ H
  iintro %acc H
  iapply Hk
  iexact H

theorem pure_step (c : Dev nD) {α : Type} (x : α) {Q : α → sProp 𝕄} : Q x ⊢ bwp (F := F) c (pure x) Q := by
  show Q x ⊢ bwp c (Prog.ret x) Q
  unfold bwp
  iintro H
  sl_step
  iexact H

/-- The rows a table names, as the block the body reads. -/
def rows (ix : Fin 512 → ℕ) (hp : HpBuf) : S1x512x1024.Idx → BitVec 32 :=
  fun x => gath ix hp (ix3 (n0 := 2) (n1 := 520) (n2 := 1024) 0 ⟨(x 1).val, Nat.lt_trans (x 1).isLt (by decide : 512 < 520)⟩ (x 2))

/-- A used block's output. -/
def outUsed (ix : Fin 512 → ℕ) (hp : HpBuf) (w13 : S1x2048x2048.Idx → Elt F .bf16) (w2 : S1x1024x2048.Idx → Elt F .bf16) :
    S1024x1024.Idx → Elt F .bf16 :=
  k0_pay2 (k0_pay4 (F := F) (rows ix hp : S1x512x1024.Idx → Elt F .i32) w13 (fun _ => (0#32 : BitVec 32))) w2 (fun _ => (0#32 : BitVec 32))

theorem gath_ix3 (ix : Fin 512 → ℕ) (hp : HpBuf) (s : Fin 2) (j : Fin 520) (k : Fin 1024) (s' : Fin 2) :
    gath ix hp (ix3 (n0 := 2) (n1 := 520) (n2 := 1024) s j k) = gath ix hp (ix3 (n0 := 2) (n1 := 520) (n2 := 1024) s' j k) := rfl

theorem read_rows (i : grid0.Coords) (ix : Fin 512 → ℕ) (hp : HpBuf) (g : ScBuf) (hg : ∀ y ∈ sset (sl i), g y = gath ix hp y)
    (o : Fin 3 → ℕ) (eo : o = ![(sl i).val, 0, 0]) (h : ∀ a, o a + S1x512x1024.size a ≤ S2x520x1024.size a) :
    scM.view.readAt (Elt F) (Rect.unit (s := S2x520x1024) o S1x512x1024.size h).toLoadRect g = (rows ix hp : S1x512x1024.Idx → Elt F .i32) := by
  subst eo
  funext x
  have h0 : (x 0).val < 1 := (x 0).isLt
  have h1 : (x 1).val < 512 := (x 1).isLt
  have e : (Rect.unit (s := S2x520x1024) ![(sl i).val, 0, 0] S1x512x1024.size h).emb x
      = ix3 (n0 := 2) (n1 := 520) (n2 := 1024) (sl i) ⟨(x 1).val, by omega⟩ (x 2) := by
    funext a; apply Fin.ext; fin_cases a
    · show (sl i).val + 1 * (x 0).val = (sl i).val; omega
    · show 0 + 1 * (x 1).val = (x 1).val; omega
    · show 0 + 1 * (x 2).val = (x 2).val; omega
  show g ((Rect.unit (s := S2x520x1024) ![(sl i).val, 0, 0] S1x512x1024.size h).emb x) = _
  rw [e, hg _ (by unfold sset; rw [Finset.mem_filter]; exact ⟨Finset.mem_univ _, rfl, h1⟩)]
  rfl

/-- The spare rows are outside every slot's gathered rows. -/
theorem spare_out (s : Fin 2) (o : Fin 3 → ℕ) (k : ℕ) (s' : ℕ) (eo : o = ![s', 512, k])
    (h : ∀ a, o a + S1x8x128.size a ≤ S2x520x1024.size a) :
    ∀ y ∈ (Rect.unit (s := S2x520x1024) o S1x8x128.size h).toLoadRect.set, y ∈ Finset.univ \ sset s := by
  subst eo
  intro y hy
  rw [Finset.mem_sdiff]
  refine ⟨Finset.mem_univ _, fun hs => ?_⟩
  rw [sset, Finset.mem_filter] at hs
  obtain ⟨j, -, hj⟩ := (LoadRect.mem_set _).mp hy 1
  have e : (y 1).val = 512 + 1 * j := hj
  have := hs.2.2
  omega

section Phases

variable (i : grid0.Coords)
  (arg1 : Memref sig .tc .smem S80 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (arg6 : Memref sig .tc .vmem S1x2048x2048 .bf16) (harg6 : arg6.IsWhole)
  (arg7 : Memref sig .tc .vmem S1x1024x2048 .bf16) (harg7 : arg7.IsWhole)
  (arg8 : Memref sig .tc .vmem S1024x1024 .bf16) (harg8 : arg8.IsWhole)

/-- The first point: the spare rows zeroed, block 0's copies started. -/
def phA (kk : PUnit → Prog (TpuEff nD τ sig (Elt F) Λ₀ .tc) PUnit) : Prog (TpuEff nD τ sig (Elt F) Λ₀ .tc) PUnit :=
  if k0_h1 : k0_cond1 i = 1#1 then do
    let _ : Vec F S2x8x1024 .i32 ← Prog.lift (.load scM (Rect.unit (s := S2x520x1024) ![0, 512, 0] S2x8x1024.size inb_S2x520x1024_S2x8x1024_0_512_0).toLoadRect (View.loadsAt_vmem h_S2x8x1024))
    Prog.lift (.store scM (Rect.unit (s := S2x520x1024) ![0, 512, 0] S2x8x1024.size inb_S2x520x1024_S2x8x1024_0_512_0) k0_pay1 Finset.univ (View.stores_vmem_bits_univ h_S2x8x1024 rfl) (.inl rfl))
    Scf.Loop.for k0_t1_loop (k0_t1_ok i k0_h1) ⟨⟩ (k0_t1_body i arg1 harg1 arg2 harg2 arg3 harg3 arg4 harg4 hpM (Memref.isWhole_whole _) arg6 harg6 arg7 harg7 arg8 harg8 scM (Memref.isWhole_whole _) cc0_scratch1 k0_h1)
    kk ⟨⟩
  else kk ⟨⟩

/-- A used block. -/
def phB (v9 v10 : BitVec 32) (kk : PUnit → Prog (TpuEff nD τ sig (Elt F) Λ₀ .tc) PUnit) : Prog (TpuEff nD τ sig (Elt F) Λ₀ .tc) PUnit :=
  if k0_h2 : k0_cond2 i v10 = 1#1 then do
    let v56 : FVec F S512x1024 .bf16 ← k0_part1 i arg1 harg1 arg2 harg2 arg3 harg3 arg4 harg4 hpM (Memref.isWhole_whole _) arg6 harg6 arg7 harg7 arg8 harg8 scM (Memref.isWhole_whole _) cc0_scratch1 v9 v10 k0_h2
    let v57 : Vec F S1x1024x2048 .bf16 ← Prog.lift (.load arg7 (Rect.unit (s := S1x1024x2048) ![0, 0, 0] S1x1024x2048.size inb_S1x1024x2048_S1x1024x2048_0_0_0).toLoadRect (View.loadsAt_vmem h_S1x1024x2048))
    Scf.Loop.for k0_t4_loop k0_t4_ok ⟨⟩ (k0_t4_body i arg1 harg1 arg2 harg2 arg3 harg3 arg4 harg4 hpM (Memref.isWhole_whole _) arg6 harg6 arg7 harg7 arg8 harg8 scM (Memref.isWhole_whole _) cc0_scratch1 v10 k0_h2)
    let v63 : Vec F S1x8x128 .i32 ← Prog.lift (.load scM (Rect.unit (s := S2x520x1024) (k0_off19 i) S1x8x128.size (k0_off19_inb i)).toLoadRect (View.loadsAt_vmem h_S1x8x128))
    let _ : Vec F S1024x1024 .bf16 ← Prog.lift (.load arg8 (Rect.unit (s := S1024x1024) ![0, 0] S1024x1024.size inb_S1024x1024_S1024x1024_0_0).toLoadRect (View.loadsAt_vmem h_S1024x1024))
    Prog.lift (.store arg8 (Rect.unit (s := S1024x1024) ![0, 0] S1024x1024.size inb_S1024x1024_S1024x1024_0_0) (k0_pay2 v56 v57 v63) Finset.univ (View.stores_vmem h_S1024x1024 (harg8.storeExact_slice rfl _ packedbf16_S1024x1024_S1024x1024_0_0) (fun _ => rfl)) (.inl rfl))
    if k0_h3 : k0_cond3 i = 1#1 then do
      Scf.Loop.for k0_t5_loop (k0_t5_ok i k0_h3) ⟨⟩ (k0_t5_body i arg1 harg1 arg2 harg2 arg3 harg3 arg4 harg4 hpM (Memref.isWhole_whole _) arg6 harg6 arg7 harg7 arg8 harg8 scM (Memref.isWhole_whole _) cc0_scratch1 k0_h3)
      kk ⟨⟩
    else kk ⟨⟩
  else kk ⟨⟩

/-- An unused block. -/
def phC (v10 : BitVec 32) : Prog (TpuEff nD τ sig (Elt F) Λ₀ .tc) PUnit :=
  if k0_h4 : k0_cond4 i v10 = 1#1 then do
    let v20 : Elt F .i32 ← smemLoad arg2 (Rect.unit (s := S1) ![0] S1.size inb_S1_S1_0) numel1_S1 rfl
    if Scalar.cmpi .ne (Scalar.extui (Scalar.cmpi .eq (BitVec.ofNat 32 (i 0).val) v20)) 0#32 = 1#1 then do
      Scf.Loop.for k0_t6_loop k0_t6_ok ⟨⟩ (k0_t6_body i arg1 harg1 arg2 harg2 arg3 harg3 arg4 harg4 hpM (Memref.isWhole_whole _) arg6 harg6 arg7 harg7 arg8 harg8 scM (Memref.isWhole_whole _) cc0_scratch1)
      let _ : Vec F S1024x1024 .bf16 ← Prog.lift (.load arg8 (Rect.unit (s := S1024x1024) ![0, 0] S1024x1024.size inb_S1024x1024_S1024x1024_0_0).toLoadRect (View.loadsAt_vmem h_S1024x1024))
      Prog.lift (.store arg8 (Rect.unit (s := S1024x1024) ![0, 0] S1024x1024.size inb_S1024x1024_S1024x1024_0_0) (k0_pay3 (F := F)) Finset.univ (View.stores_vmem h_S1024x1024 (harg8.storeExact_slice rfl _ packedbf16_S1024x1024_S1024x1024_0_0) (fun _ => rfl)) (.inl rfl))
      pure ⟨⟩
    else do
      let _ : Vec F S1024x1024 .bf16 ← Prog.lift (.load arg8 (Rect.unit (s := S1024x1024) ![0, 0] S1024x1024.size inb_S1024x1024_S1024x1024_0_0).toLoadRect (View.loadsAt_vmem h_S1024x1024))
      Prog.lift (.store arg8 (Rect.unit (s := S1024x1024) ![0, 0] S1024x1024.size inb_S1024x1024_S1024x1024_0_0) (k0_pay3 (F := F)) Finset.univ (View.stores_vmem h_S1024x1024 (harg8.storeExact_slice rfl _ packedbf16_S1024x1024_S1024x1024_0_0) (fun _ => rfl)) (.inl rfl))
      pure ⟨⟩
  else pure ⟨⟩

/-- The parity of the point, as the body computes it; no statement below reads it. -/
def par (i : grid0.Coords) : BitVec 32 :=
  let arg0 : BitVec 32 := BitVec.ofNat 32 (i 0).val
  let v1 : BitVec 32 := Scalar.select (Scalar.cmpi .eq 2#32 0#32) 1#32 2#32
  let v2 : BitVec 32 := Scalar.remsi arg0 v1
  Scalar.select (Scalar.andi (Scalar.xori (Scalar.cmpi .slt v2 0#32) (Scalar.cmpi .slt v1 0#32)) (Scalar.cmpi .ne v2 0#32)) (Scalar.addi v2 v1) v2

/-- The body is the three phases in turn. -/
theorem body_phases :
    cc0_moe_experts (F := F) i arg1 harg1 arg2 harg2 arg3 harg3 arg4 harg4 hpM (Memref.isWhole_whole _) arg6 harg6 arg7 harg7 arg8 harg8 scM (Memref.isWhole_whole _) cc0_scratch1
      = smemLoad arg2 (Rect.unit (s := S1) ![0] S1.size inb_S1_S1_0) numel1_S1 rfl >>= fun v10 =>
          phA (F := F) i arg1 harg1 arg2 harg2 arg3 harg3 arg4 harg4 arg6 harg6 arg7 harg7 arg8 harg8 fun _ =>
            phB (F := F) i arg1 harg1 arg2 harg2 arg3 harg3 arg4 harg4 arg6 harg6 arg7 harg7 arg8 harg8 (par i) v10 fun _ =>
              phC (F := F) i arg1 harg1 arg2 harg2 arg3 harg3 arg4 harg4 arg6 harg6 arg7 harg7 arg8 harg8 v10 := by
  rw [cc0_moe_experts_eq_skeleton]
  rfl

/-! ## What each phase does -/

variable (c : Dev nD)

/-- The first point starts block 0's copies. -/
theorem phA_first (h1 : k0_cond1 i = 1#1) (q : PosShare TreeShare) (d : S1x1x512.Idx → BitVec 32) (ix : Fin 512 → ℕ)
    (hix : ∀ j : Fin 512, (d (ix3 (n0 := 1) (n1 := 1) (n2 := 512) 0 0 j)).toNat = ix j) (hr : ∀ j, ix j < 16384) (hp : HpBuf) (f : ScBuf)
    {kk : PUnit → Prog (TpuEff nD τ sig (Elt F) Λ₀ .tc) PUnit} {Q : PUnit → sProp 𝕄} :
    iprop(tab (F := F) c arg3 q d ∗ home c hp f)
      ⊢ iprop((∀ g, iprop(tab (F := F) c arg3 q d ∗ flight c 0 ix hp g) -∗ bwp c (kk ⟨⟩) Q)
        -∗ bwp c (phA (F := F) i arg1 harg1 arg2 harg2 arg3 harg3 arg4 harg4 arg6 harg6 arg7 harg7 arg8 harg8 kk) Q) := by
  unfold phA
  rw [dif_pos h1]
  unfold home
  iintro ⟨HT, HS, H0, H1, HH⟩ Hk
  iapply (load_part c Finset.univ f _ (fun _ _ => Finset.mem_univ _)) $$ HS
  iintro HS
  iapply (store_part c f) $$ HS
  iintro %g HS
  imod (begin_issue c 0 ix hp g) $$ [HS H0 H1 HH] with ⟨HI, HA⟩
  · unfold home
    isplitl [HS]; · iexact HS
    isplitl [H0]; · iexact H0
    isplitl [H1]; · iexact H1
    iexact HH
  iapply (loop_step c _ _ 512 (by decide) (fun k => iprop(tab (F := F) c arg3 q d ∗ issuing c 0 ix hp g k)) _
    (fun k acc => t1_step c i arg1 harg1 arg2 harg2 arg3 harg3 arg4 harg4 arg6 harg6 arg7 harg7 arg8 harg8 h1 q d ix hix hr hp g k acc)) $$ [HT HI]
  · isplitl [HT]; · iexact HT
    iexact HI
  iintro ⟨HT, HI⟩
  ihave HF := (end_issue c 0 ix hp g g) $$ [HI HA]
  · isplitl [HI]; · iexact HI
    iexact HA
  iapply Hk
  isplitl [HT]; · iexact HT
  iexact HF

/-- A used block up to the second half of the next point's copies: this slot's rows waited for and read, the block's
    hidden activations computed, 256 of the next point's copies started. -/
theorem part1_spec (v9 v10 : BitVec 32) (h2 : k0_cond2 i v10 = 1#1) (ix ix' : Fin 512 → ℕ) (hp : HpBuf) (f : ScBuf)
    (q : PosShare TreeShare) (d : S1x1x512.Idx → BitVec 32)
    (hix : ∀ j : Fin 512, (d (ix3 (n0 := 1) (n1 := 1) (n2 := 512) 0 0 j)).toNat = ix' j) (hr : ∀ j, ix' j < 16384)
    (q6 : PosShare TreeShare) (w13 : S1x2048x2048.Idx → Elt F .bf16) {Q : FVec F S512x1024 .bf16 → sProp 𝕄} :
    iprop(flight (F := F) c (sl i) ix hp f ∗ (∃ W, owes (c : Thread nD τ) 0 W) ∗ tab (F := F) c arg4 q d ∗ owns (c : Thread nD τ) arg6 q6 w13)
      ⊢ iprop((∀ g, iprop(issuing (F := F) c (nx i) ix' hp g 256 ∗ aside (F := F) c (nx i) hp g ∗ (∃ W, owes (c : Thread nD τ) 0 W)
              ∗ tab (F := F) c arg4 q d ∗ owns (c : Thread nD τ) arg6 q6 w13)
            -∗ Q (k0_pay4 (F := F) (rows ix hp : S1x512x1024.Idx → Elt F .i32) w13 (fun _ => (0#32 : BitVec 32))))
        -∗ bwp c (k0_part1 (F := F) i arg1 harg1 arg2 harg2 arg3 harg3 arg4 harg4 hpM (Memref.isWhole_whole _) arg6 harg6 arg7 harg7 arg8 harg8 scM (Memref.isWhole_whole _) cc0_scratch1 v9 v10 h2) Q) := by
  rw [k0_part1_eq_skeleton]
  unfold k0_part1_skel
  iintro ⟨HF, HO, HT, H6⟩ Hk
  ihave HD := (begin_drain c (sl i) ix hp f) $$ [HF HO]
  · isplitl [HF]; · iexact HF
    iexact HO
  icases HD with ⟨HD, HK, HA⟩
  iapply (loop_step c _ _ 512 (by decide) (fun k => draining (F := F) c (sl i) ix hp k) _
    (fun k acc => t2_step c i arg1 harg1 arg2 harg2 arg3 harg3 arg4 harg4 arg6 harg6 arg7 harg7 arg8 harg8 v9 v10 h2 ix hp k acc)) $$ HD
  iintro HD
  imod (end_drain c (sl i) ix hp f) $$ [HD HK HA] with ⟨⟨%g, %hg, HH⟩, HO⟩
  · isplitl [HD]; · iexact HD
    isplitl [HK]; · iexact HK
    iexact HA
  ihave HH' := (home_split c (nx i) hp g) $$ HH
  icases HH' with ⟨HS, H0, H1, HP⟩
  iapply (load_part c Finset.univ g _ (fun _ _ => Finset.mem_univ _)) $$ HS
  iintro HS
  rw [read_rows i ix hp g hg _ (off7_eq i) _]
  iapply (load_full c arg6 q6 w13 _ (by decide) _) $$ H6
  iintro H6
  ihave HH := (home_join c (nx i) hp g) $$ [HS H0 H1 HP]
  · isplitl [HS]; · iexact HS
    isplitl [H0]; · iexact H0
    isplitl [H1]; · iexact H1
    iexact HP
  imod (begin_issue c (nx i) ix' hp g) $$ HH with ⟨HI, HA⟩
  iapply (loop_step c _ _ 256 (by decide) (fun k => iprop(tab (F := F) c arg4 q d ∗ issuing c (nx i) ix' hp g k)) _
    (fun k acc => t3_step c i arg1 harg1 arg2 harg2 arg3 harg3 arg4 harg4 arg6 harg6 arg7 harg7 arg8 harg8 v9 v10 h2 q d ix' hix hr hp g k acc)) $$ [HT HI]
  · isplitl [HT]; · iexact HT
    iexact HI
  iintro ⟨HT, HI⟩
  unfold aside
  icases HA with ⟨HS, H1, HP⟩
  iapply (load_part c (Finset.univ \ sset (nx i)) g _ (spare_out (nx i) _ 0 _ (off13_eq i) _)) $$ HS
  iintro HS
  rw [pay4_spare (rows ix hp : S1x512x1024.Idx → Elt F .i32) w13
    (scM.view.readAt (Elt F) (Rect.unit (s := S2x520x1024) (k0_off13 i) S1x8x128.size (k0_off13_inb i)).toLoadRect g)]
  iapply (pure_step c)
  iapply Hk $$ %g
  isplitl [HI]; · iexact HI
  isplitl [HS H1 HP]
  · isplitl [HS]; · iexact HS
    isplitl [H1]; · iexact H1
    iexact HP
  isplitl [HO]; · iexact HO
  isplitl [HT]; · iexact HT
  iexact H6

/-- What the scratch is left as by a used block: all its copies waited for at the last point, else the next block's in
    flight. -/
def leftover (ix' : Fin 512 → ℕ) (hp : HpBuf) : sProp 𝕄 :=
  if k0_cond3 i = 1#1 then iprop(∃ g, home (F := F) c hp g) else iprop(∃ g, flight (F := F) c (nx i) ix' hp g)

theorem phB_used (v9 v10 : BitVec 32) (h2 : k0_cond2 i v10 = 1#1) (ix ix' : Fin 512 → ℕ) (hp : HpBuf) (f : ScBuf)
    (q : PosShare TreeShare) (d : S1x1x512.Idx → BitVec 32)
    (hix : ∀ j : Fin 512, (d (ix3 (n0 := 1) (n1 := 1) (n2 := 512) 0 0 j)).toNat = ix' j) (hr : ∀ j, ix' j < 16384)
    (q6 q7 : PosShare TreeShare) (w13 : S1x2048x2048.Idx → Elt F .bf16) (w2 : S1x1024x2048.Idx → Elt F .bf16)
    (X : S1024x1024.Idx → Elt F .bf16)
    {kk : PUnit → Prog (TpuEff nD τ sig (Elt F) Λ₀ .tc) PUnit} {Q : PUnit → sProp 𝕄} :
    iprop(flight (F := F) c (sl i) ix hp f ∗ (∃ W, owes (c : Thread nD τ) 0 W) ∗ tab (F := F) c arg4 q d
        ∗ owns (c : Thread nD τ) arg6 q6 w13 ∗ owns (c : Thread nD τ) arg7 q7 w2 ∗ owns (c : Thread nD τ) arg8 fullShare X)
      ⊢ iprop((iprop(leftover (F := F) i c ix' hp ∗ (∃ W, owes (c : Thread nD τ) 0 W) ∗ tab (F := F) c arg4 q d
            ∗ owns (c : Thread nD τ) arg6 q6 w13 ∗ owns (c : Thread nD τ) arg7 q7 w2
            ∗ owns (c : Thread nD τ) arg8 fullShare (outUsed (F := F) ix hp w13 w2)) -∗ bwp c (kk ⟨⟩) Q)
        -∗ bwp c (phB (F := F) i arg1 harg1 arg2 harg2 arg3 harg3 arg4 harg4 arg6 harg6 arg7 harg7 arg8 harg8 v9 v10 kk) Q) := by
  unfold phB leftover
  rw [dif_pos h2]
  iintro ⟨HF, HO, HT, H6, H7, H8⟩ Hk
  unfold bwp
  rw [wp_bind]
  iapply (part1_spec i arg1 harg1 arg2 harg2 arg3 harg3 arg4 harg4 arg6 harg6 arg7 harg7 arg8 harg8 c v9 v10 h2 ix ix' hp f q d hix hr q6 w13) $$ [HF HO HT H6]
  · isplitl [HF]; · iexact HF
    isplitl [HO]; · iexact HO
    isplitl [HT]; · iexact HT
    iexact H6
  iintro %g ⟨HI, HA, HO, HT, H6⟩
  iapply (load_full c arg7 q7 w2 _ (by decide) _) $$ H7
  iintro H7
  iapply (loop_step c _ _ 256 (by decide) (fun k => iprop(tab (F := F) c arg4 q d ∗ issuing c (nx i) ix' hp g (k + 256))) _
    (fun k acc => t4_step c i arg1 harg1 arg2 harg2 arg3 harg3 arg4 harg4 arg6 harg6 arg7 harg7 arg8 harg8 v10 h2 q d ix' hix hr hp g k acc)) $$ [HT HI]
  · isplitl [HT]; · iexact HT
    iexact HI
  iintro ⟨HT, HI⟩
  unfold aside
  icases HA with ⟨HS, H1, HP⟩
  iapply (load_part c (Finset.univ \ sset (nx i)) g _ (spare_out (nx i) _ 128 _ (off19_eq i) _)) $$ HS
  iintro HS
  rw [pay2_spare]
  ihave HF := (end_issue c (nx i) ix' hp g g) $$ [HI HS H1 HP]
  · isplitl [HI]; · iexact HI
    unfold aside
    isplitl [HS]; · iexact HS
    isplitl [H1]; · iexact H1
    iexact HP
  iapply (load_full c arg8 fullShare X _ (by decide) _) $$ H8
  iintro H8
  iapply (store_full c arg8 X _ _ (by decide) _) $$ H8
  iintro H8
  by_cases h3 : k0_cond3 i = 1#1
  · rw [dif_pos h3, if_pos h3]
    ihave HD := (begin_drain c (nx i) ix' hp g) $$ [HF HO]
    · isplitl [HF]; · iexact HF
      iexact HO
    icases HD with ⟨HD, HK, HA⟩
    iapply (loop_step c _ _ 512 (by decide) (fun k => draining (F := F) c (nx i) ix' hp k) _
      (fun k acc => t5_step c i arg1 harg1 arg2 harg2 arg3 harg3 arg4 harg4 arg6 harg6 arg7 harg7 arg8 harg8 h3 ix' hp k acc)) $$ HD
    iintro HD
    imod (end_drain c (nx i) ix' hp g) $$ [HD HK HA] with ⟨⟨%g', %hg, HH⟩, HO⟩
    · isplitl [HD]; · iexact HD
      isplitl [HK]; · iexact HK
      iexact HA
    iapply Hk
    isplitl [HH]; · iexists g'; iexact HH
    isplitl [HO]; · iexact HO
    isplitl [HT]; · iexact HT
    isplitl [H6]; · iexact H6
    isplitl [H7]; · iexact H7
    iexact H8
  · rw [dif_neg h3, if_neg h3]
    iapply Hk
    isplitl [HF]; · iexists g; iexact HF
    isplitl [HO]; · iexact HO
    isplitl [HT]; · iexact HT
    isplitl [H6]; · iexact H6
    isplitl [H7]; · iexact H7
    iexact H8

/-- The point at which an unused block waits for the copies its predecessor started. -/
theorem eqw (v : BitVec 32) :
    (Scalar.cmpi .ne (Scalar.extui (Scalar.cmpi .eq (BitVec.ofNat 32 (i 0).val) v)) 0#32 = 1#1) ↔ BitVec.ofNat 32 (i 0).val = v := by
  by_cases h : BitVec.ofNat 32 (i 0).val = v
  · rw [h]
    simp [Scalar.cmpi, Scalar.extui, IntOp.cmpi]
  · have hb : (BitVec.ofNat 32 (i 0).val == v) = false := beq_eq_false_iff_ne.mpr h
    simp [Scalar.cmpi, Scalar.extui, IntOp.cmpi, h, hb]

/-- An unused block: zeros; the copies of the point just past the used blocks are waited for. -/
theorem phC_unused (v10 : BitVec 32) (h4 : k0_cond4 i v10 = 1#1) (ix : Fin 512 → ℕ) (hp : HpBuf)
    (q2 : PosShare TreeShare) (d2 : S1.Idx → BitVec 32) (X : S1024x1024.Idx → Elt F .bf16) {Q : PUnit → sProp 𝕄} :
    iprop((if BitVec.ofNat 32 (i 0).val = d2 (ix1 0) then iprop(∃ f, flight (F := F) c (sl i) ix hp f) else iprop(∃ f, home (F := F) c hp f))
        ∗ (∃ W, owes (c : Thread nD τ) 0 W) ∗ nvt (F := F) c arg2 q2 d2 ∗ owns (c : Thread nD τ) arg8 fullShare X)
      ⊢ iprop((iprop((∃ f, home (F := F) c hp f) ∗ (∃ W, owes (c : Thread nD τ) 0 W) ∗ nvt (F := F) c arg2 q2 d2
            ∗ owns (c : Thread nD τ) arg8 fullShare (k0_pay3 (F := F) : S1024x1024.Idx → Elt F .bf16)) -∗ Q ⟨⟩)
        -∗ bwp c (phC (F := F) i arg1 harg1 arg2 harg2 arg3 harg3 arg4 harg4 arg6 harg6 arg7 harg7 arg8 harg8 v10) Q) := by
  unfold phC
  rw [dif_pos h4]
  by_cases hv : BitVec.ofNat 32 (i 0).val = d2 (ix1 0)
  · rw [if_pos hv]
    iintro ⟨⟨%f, HF⟩, HO, H2, H8⟩ Hk
    iapply (load_nv c arg2 q2 d2 _ _ _) $$ H2
    iintro H2
    rw [if_pos ((eqw i _).mpr hv)]
    ihave HD := (begin_drain c (sl i) ix hp f) $$ [HF HO]
    · isplitl [HF]; · iexact HF
      iexact HO
    icases HD with ⟨HD, HK, HA⟩
    iapply (loop_step c _ _ 512 (by decide) (fun k => draining (F := F) c (sl i) ix hp k) _
      (fun k acc => t6_step c i arg1 harg1 arg2 harg2 arg3 harg3 arg4 harg4 arg6 harg6 arg7 harg7 arg8 harg8 ix hp k acc)) $$ HD
    iintro HD
    imod (end_drain c (sl i) ix hp f) $$ [HD HK HA] with ⟨⟨%g', %hg, HH⟩, HO⟩
    · isplitl [HD]; · iexact HD
      isplitl [HK]; · iexact HK
      iexact HA
    iapply (load_full c arg8 fullShare X _ (by decide) _) $$ H8
    iintro H8
    iapply (store_full c arg8 X _ _ (by decide) _) $$ H8
    iintro H8
    iapply (pure_step c)
    iapply Hk
    isplitl [HH]; · iexists g'; iexact HH
    isplitl [HO]; · iexact HO
    isplitl [H2]; · iexact H2
    iexact H8
  · rw [if_neg hv]
    iintro ⟨HC, HO, H2, H8⟩ Hk
    iapply (load_nv c arg2 q2 d2 _ _ _) $$ H2
    iintro H2
    rw [if_neg (fun h => hv ((eqw i _).mp h))]
    iapply (load_full c arg8 fullShare X _ (by decide) _) $$ H8
    iintro H8
    iapply (store_full c arg8 X _ _ (by decide) _) $$ H8
    iintro H8
    iapply (pure_step c)
    iapply Hk
    isplitl [HC]; · iexact HC
    isplitl [HO]; · iexact HO
    isplitl [H2]; · iexact H2
    iexact H8

end Phases

end Cert.KernelIdeal.Hand
end
-- ==== Proof.IPoint.lean ====
/-
  The body at one grid point, whole: what is in flight before it and after it, and what it leaves of the output block.
-/
module

public import proofs.«01_k».proof.Proof.IBody

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's conditions -/

theorem cond1_iff : ∀ i : grid0.Coords, k0_cond1 i = 1#1 ↔ (i 0).val = 0 := by decide +kernel
theorem cond3_iff : ∀ i : grid0.Coords, k0_cond3 i = 1#1 ↔ (i 0).val = 79 := by decide +kernel
theorem cond2_all : ∀ (i : grid0.Coords) (v : Fin 81), k0_cond2 i (BitVec.ofNat 32 v.val) = 1#1 ↔ (i 0).val < v.val := by decide +kernel
theorem cond4_all : ∀ (i : grid0.Coords) (v : Fin 81), k0_cond4 i (BitVec.ofNat 32 v.val) = 1#1 ↔ ¬ (i 0).val < v.val := by decide +kernel
theorem lt80 (i : grid0.Coords) : (i 0).val < 80 := (i 0).isLt

theorem cond2_iff (i : grid0.Coords) (v : BitVec 32) (hv : v.toNat ≤ 80) : k0_cond2 i v = 1#1 ↔ (i 0).val < v.toNat := by
  have h := cond2_all i ⟨v.toNat, by omega⟩
  rwa [BitVec.ofNat_toNat, BitVec.setWidth_eq] at h
theorem cond4_iff (i : grid0.Coords) (v : BitVec 32) (hv : v.toNat ≤ 80) : k0_cond4 i v = 1#1 ↔ ¬ (i 0).val < v.toNat := by
  have h := cond4_all i ⟨v.toNat, by omega⟩
  rwa [BitVec.ofNat_toNat, BitVec.setWidth_eq] at h
theorem point_eq (i : grid0.Coords) (v : BitVec 32) : BitVec.ofNat 32 (i 0).val = v ↔ (i 0).val = v.toNat := by
  have hi := lt80 i
  constructor
  · rintro rfl
    rw [BitVec.toNat_ofNat]; omega
  · intro h
    rw [h, BitVec.ofNat_toNat, BitVec.setWidth_eq]

/-- The slot of point `n`. -/
def slotAt (n : ℕ) : Fin 2 := ⟨n % 2, Nat.mod_lt _ (by decide)⟩

/-- Before point `n` of a run with `u` used blocks, the rows of block `n` numbered by `ixs n`: the copies of block `n` are in
    flight if the previous point started them, else nothing is. -/
def between (c : Dev nD) (hp : HpBuf) (u : ℕ) (ixs : ℕ → Fin 512 → ℕ) (n : ℕ) : sProp 𝕄 :=
  if 1 ≤ n ∧ n ≤ u ∧ n < 80 then iprop(∃ f, flight (F := F) c (slotAt n) (ixs n) hp f) else iprop(∃ f, home (F := F) c hp f)

/-- The output block of point `n`. -/
def outAt (hp : HpBuf) (u : ℕ) (ixs : ℕ → Fin 512 → ℕ) (n : ℕ) (w13 : S1x2048x2048.Idx → Elt F .bf16)
    (w2 : S1x1024x2048.Idx → Elt F .bf16) : S1024x1024.Idx → Elt F .bf16 :=
  if n < u then outUsed (ixs n) hp w13 w2 else k0_pay3 (F := F)

section Point

variable (i : grid0.Coords)
  (arg1 : Memref sig .tc .smem S80 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (arg6 : Memref sig .tc .vmem S1x2048x2048 .bf16) (harg6 : arg6.IsWhole)
  (arg7 : Memref sig .tc .vmem S1x1024x2048 .bf16) (harg7 : arg7.IsWhole)
  (arg8 : Memref sig .tc .vmem S1024x1024 .bf16) (harg8 : arg8.IsWhole)
  (c : Dev nD)

/-- Once the first point's copies are started: block `n`'s are in flight at every point up to the count of used blocks. -/
def begun (hp : HpBuf) (u : ℕ) (ixs : ℕ → Fin 512 → ℕ) : sProp 𝕄 :=
  if (i 0).val ≤ u then iprop(∃ f, flight (F := F) c (sl i) (ixs (i 0).val) hp f) else iprop(∃ f, home (F := F) c hp f)

theorem phA_spec (hp : HpBuf) (u : ℕ) (ixs : ℕ → Fin 512 → ℕ) (q : PosShare TreeShare) (d : S1x1x512.Idx → BitVec 32)
    (hix : ∀ j : Fin 512, (d (ix3 (n0 := 1) (n1 := 1) (n2 := 512) 0 0 j)).toNat = ixs (i 0).val j) (hr : ∀ n j, ixs n j < 16384)
    {kk : PUnit → Prog (TpuEff nD τ sig (Elt F) Λ₀ .tc) PUnit} {Q : PUnit → sProp 𝕄} :
    iprop(tab (F := F) c arg3 q d ∗ between (F := F) c hp u ixs (i 0).val)
      ⊢ iprop((iprop(tab (F := F) c arg3 q d ∗ begun (F := F) i c hp u ixs) -∗ bwp c (kk ⟨⟩) Q)
        -∗ bwp c (phA (F := F) i arg1 harg1 arg2 harg2 arg3 harg3 arg4 harg4 arg6 harg6 arg7 harg7 arg8 harg8 kk) Q) := by
  have hi := lt80 i
  unfold between begun
  by_cases h0 : (i 0).val = 0
  · rw [if_neg (by omega), if_pos (by omega)]
    have hs : sl i = 0 := by unfold sl; ext; show (i 0).val % 2 = 0; omega
    rw [hs]
    iintro ⟨HT, ⟨%f, HH⟩⟩ Hk
    iapply (phA_first i arg1 harg1 arg2 harg2 arg3 harg3 arg4 harg4 arg6 harg6 arg7 harg7 arg8 harg8 c ((cond1_iff i).mpr h0) q d (ixs (i 0).val) hix (hr _) hp f) $$ [HT HH]
    · isplitl [HT]; · iexact HT
      iexact HH
    iintro %g ⟨HT, HF⟩
    iapply Hk
    isplitl [HT]; · iexact HT
    iexists g; iexact HF
  · have e : phA (F := F) i arg1 harg1 arg2 harg2 arg3 harg3 arg4 harg4 arg6 harg6 arg7 harg7 arg8 harg8 kk = kk ⟨⟩ := by
      unfold phA
      exact dif_neg fun h => h0 ((cond1_iff i).mp h)
    rw [e]
    have hs : slotAt (i 0).val = sl i := rfl
    by_cases hu : (i 0).val ≤ u
    · rw [if_pos ⟨by omega, hu, hi⟩, if_pos hu, hs]
      iintro H Hk
      iapply Hk $$ H
    · rw [if_neg (fun h => hu h.2.1), if_neg hu]
      iintro H Hk
      iapply Hk $$ H

/-- The body at point `i`. -/
theorem body_spec (hp : HpBuf) (ixs : ℕ → Fin 512 → ℕ) (hr : ∀ n j, ixs n j < 16384) (q2 : PosShare TreeShare) (d2 : S1.Idx → BitVec 32)
    (hv : (d2 (ix1 0)).toNat ≤ 80) (q3 q4 : PosShare TreeShare) (d3 d4 : S1x1x512.Idx → BitVec 32)
    (h3 : ∀ j : Fin 512, (d3 (ix3 (n0 := 1) (n1 := 1) (n2 := 512) 0 0 j)).toNat = ixs (i 0).val j)
    (h4 : ∀ j : Fin 512, (d4 (ix3 (n0 := 1) (n1 := 1) (n2 := 512) 0 0 j)).toNat = ixs ((i 0).val + 1) j)
    (q6 q7 : PosShare TreeShare) (w13 : S1x2048x2048.Idx → Elt F .bf16) (w2 : S1x1024x2048.Idx → Elt F .bf16)
    (X : S1024x1024.Idx → Elt F .bf16) {Q : PUnit → sProp 𝕄} :
    iprop(between (F := F) c hp (d2 (ix1 0)).toNat ixs (i 0).val ∗ (∃ W, owes (c : Thread nD τ) 0 W) ∗ nvt (F := F) c arg2 q2 d2
        ∗ tab (F := F) c arg3 q3 d3 ∗ tab (F := F) c arg4 q4 d4 ∗ owns (c : Thread nD τ) arg6 q6 w13 ∗ owns (c : Thread nD τ) arg7 q7 w2
        ∗ owns (c : Thread nD τ) arg8 fullShare X)
      ⊢ iprop((iprop(between (F := F) c hp (d2 (ix1 0)).toNat ixs ((i 0).val + 1) ∗ (∃ W, owes (c : Thread nD τ) 0 W) ∗ nvt (F := F) c arg2 q2 d2
            ∗ tab (F := F) c arg3 q3 d3 ∗ tab (F := F) c arg4 q4 d4 ∗ owns (c : Thread nD τ) arg6 q6 w13 ∗ owns (c : Thread nD τ) arg7 q7 w2
            ∗ owns (c : Thread nD τ) arg8 fullShare (outAt (F := F) hp (d2 (ix1 0)).toNat ixs (i 0).val w13 w2)) -∗ Q ⟨⟩)
        -∗ bwp c (cc0_moe_experts (F := F) i arg1 harg1 arg2 harg2 arg3 harg3 arg4 harg4 hpM (Memref.isWhole_whole _) arg6 harg6 arg7 harg7 arg8 harg8 scM (Memref.isWhole_whole _) cc0_scratch1) Q) := by
  have hi := lt80 i
  rw [body_phases]
  have pa := fun (kk : PUnit.{1} → Prog (TpuEff nD τ sig (Elt F) Λ₀ .tc) PUnit) => phA_spec (F := F) i arg1 harg1 arg2 harg2 arg3 harg3 arg4 harg4 arg6 harg6 arg7 harg7 arg8 harg8 c hp (d2 (ix1 0)).toNat ixs q3 d3 h3 hr (kk := kk) (Q := Q)
  by_cases hu : (i 0).val < (d2 (ix1 0)).toNat
  · have eo : outAt (F := F) hp (d2 (ix1 0)).toNat ixs (i 0).val w13 w2 = outUsed (ixs (i 0).val) hp w13 w2 := if_pos hu
    have eb : begun (F := F) i c hp (d2 (ix1 0)).toNat ixs = iprop(∃ f, flight (F := F) c (sl i) (ixs (i 0).val) hp f) := if_pos (by omega)
    have ec : phC (F := F) i arg1 harg1 arg2 harg2 arg3 harg3 arg4 harg4 arg6 harg6 arg7 harg7 arg8 harg8 (d2 (ix1 0)) = pure ⟨⟩ := by
      unfold phC
      exact dif_neg fun h => (cond4_iff i _ hv).mp h hu
    have el : leftover (F := F) i c (ixs ((i 0).val + 1)) hp = between (F := F) c hp (d2 (ix1 0)).toNat ixs ((i 0).val + 1) := by
      unfold leftover between
      by_cases h79 : (i 0).val = 79
      · rw [if_pos ((cond3_iff i).mpr h79), if_neg (by omega)]
      · rw [if_neg (fun h => h79 ((cond3_iff i).mp h)), if_pos ⟨by omega, by omega, by omega⟩]
        rfl
    have pb := fun (kk : PUnit.{1} → Prog (TpuEff nD τ sig (Elt F) Λ₀ .tc) PUnit) => phB_used (kk := kk) (Q := Q) (F := F) i arg1 harg1 arg2 harg2 arg3 harg3 arg4 harg4 arg6 harg6 arg7 harg7 arg8 harg8 c (par i) (d2 (ix1 0)) ((cond2_iff i _ hv).mpr hu)
      (ixs (i 0).val) (ixs ((i 0).val + 1)) hp
    simp only [eb] at pa
    simp only [el] at pb
    have pc : Q ⟨⟩ ⊢ bwp c (phC (F := F) i arg1 harg1 arg2 harg2 arg3 harg3 arg4 harg4 arg6 harg6 arg7 harg7 arg8 harg8 (d2 (ix1 0))) Q := by
      rw [ec]; exact pure_step c _
    rw [eo]
    iintro ⟨HB, HO, H2, H3, H4, H6, H7, H8⟩ Hk
    iapply (load_nv c arg2 q2 d2 _ _ _) $$ H2
    iintro H2
    iapply (pa _) $$ [H3 HB]
    · isplitl [H3]; · iexact H3
      iexact HB
    iintro ⟨H3, HB⟩
    icases HB with ⟨%f, HF⟩
    iapply (pb _ f q4 d4 h4 (hr _) q6 q7 w13 w2 X) $$ [HF HO H4 H6 H7 H8]
    · isplitl [HF]; · iexact HF
      isplitl [HO]; · iexact HO
      isplitl [H4]; · iexact H4
      isplitl [H6]; · iexact H6
      isplitl [H7]; · iexact H7
      iexact H8
    iintro ⟨HL, HO, H4, H6, H7, H8⟩
    iapply pc
    iapply Hk
    isplitl [HL]; · iexact HL
    isplitl [HO]; · iexact HO
    isplitl [H2]; · iexact H2
    isplitl [H3]; · iexact H3
    isplitl [H4]; · iexact H4
    isplitl [H6]; · iexact H6
    isplitl [H7]; · iexact H7
    iexact H8
  · have eo : outAt (F := F) hp (d2 (ix1 0)).toNat ixs (i 0).val w13 w2 = k0_pay3 (F := F) := if_neg hu
    have eb : begun (F := F) i c hp (d2 (ix1 0)).toNat ixs
        = (if BitVec.ofNat 32 (i 0).val = d2 (ix1 0) then iprop(∃ f, flight (F := F) c (sl i) (ixs (i 0).val) hp f) else iprop(∃ f, home (F := F) c hp f)) := by
      unfold begun
      by_cases he : (i 0).val = (d2 (ix1 0)).toNat
      · rw [if_pos (by omega), if_pos ((point_eq i _).mpr he)]
      · rw [if_neg (by omega), if_neg (fun h => he ((point_eq i _).mp h))]
    have en : between (F := F) c hp (d2 (ix1 0)).toNat ixs ((i 0).val + 1) = iprop(∃ f, home (F := F) c hp f) := if_neg (by omega)
    have pb : ∀ kk : PUnit.{1} → Prog (TpuEff nD τ sig (Elt F) Λ₀ .tc) PUnit, bwp c (kk ⟨⟩) Q ⊢ bwp c (phB (F := F) i arg1 harg1 arg2 harg2 arg3 harg3 arg4 harg4 arg6 harg6 arg7 harg7 arg8 harg8 (par i) (d2 (ix1 0)) kk) Q := by
      intro kk
      unfold phB
      rw [dif_neg fun h => hu ((cond2_iff i _ hv).mp h)]
    simp only [eb] at pa
    rw [eo, en]
    iintro ⟨HB, HO, H2, H3, H4, H6, H7, H8⟩ Hk
    iapply (load_nv c arg2 q2 d2 _ _ _) $$ H2
    iintro H2
    iapply (pa _) $$ [H3 HB]
    · isplitl [H3]; · iexact H3
      iexact HB
    iintro ⟨H3, HB⟩
    iapply (pb _)
    iapply (phC_unused i arg1 harg1 arg2 harg2 arg3 harg3 arg4 harg4 arg6 harg6 arg7 harg7 arg8 harg8 c (d2 (ix1 0)) ((cond4_iff i _ hv).mpr hu)
      (ixs (i 0).val) hp q2 d2 X) $$ [HB HO H2 H8]
    · isplitl [HB]; · iexact HB
      isplitl [HO]; · iexact HO
      isplitl [H2]; · iexact H2
      iexact H8
    iintro ⟨HL, HO, H2, H8⟩
    iapply Hk
    isplitl [HL]; · iexact HL
    isplitl [HO]; · iexact HO
    isplitl [H2]; · iexact H2
    isplitl [H3]; · iexact H3
    isplitl [H4]; · iexact H4
    isplitl [H6]; · iexact H6
    isplitl [H7]; · iexact H7
    iexact H8

end Point

end Cert.KernelIdeal.Hand
-- ==== Proof.IFrame.lean ====
/-
  The launch: the arrays as the region finds them, the tables it admits, the data of the pipeline's run, and the run.
-/
module

public import proofs.«01_k».proof.Proof.IPoint
public import proofs.«01_k».proof.Proof.Gen.KernelIdeal.Launch
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers when the region is entered. -/
abbrev V (c : Dev nD) (b : Ref sig .tc) : Buf (Elt F) ((c : Thread nD τ).loc b) :=
  StableHlo.after (hostOps0 (F := F)) (fun b => m (c, b)) b

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub ⟨rfl, rfl, rfl⟩ (fun c => main_chain c)

/-- A buffer the host lines do not write is found as it was. -/
theorem V_keep (c : Dev nD) (b : Ref sig .tc) (h0 : b ≠ main_v0) (h1 : b ≠ main_v1) (h2 : b ≠ main_v2) :
    V m c b = m ((c : Thread nD τ).loc b) :=
  StableHlo.after_of_writes_sub (W := [main_v0, main_v1, main_v2]) hostOps0 _ (StableHlo.forall_writes_sub_of_map rfl)
    (by simp only [List.mem_cons, List.mem_nil_iff, or_false, not_or]; exact ⟨h0, h1, h2⟩)

/-- The tables' contents. -/
def tables : pre0.Contents (Elt F) := fun k => V m 0 (pre0.ref k)

/-- What the arguments' integers must satisfy. -/
structure InRange : Prop where
  te : ∀ (c : Dev nD) i, ((V m c main_arg0 : S80.Idx → BitVec 32) i).toNat < 16
  nv : ∀ (c : Dev nD) i, ((V m c main_arg1 : S1.Idx → BitVec 32) i).toNat ≤ 80
  src : ∀ (c : Dev nD) i, ((V m c main_arg2 : S80x1x512.Idx → BitVec 32) i).toNat < 16384

theorem at_eq (pf : pre0.Contents (Elt F)) (i : grid0.Coords) :
    pf.at 0 (Rect.unit (s := S80) ![(Scalar.indexCast (BitVec.ofNat 32 (i 0).val)).toNat] S1.size (k0_off1_inb i)) numel1_S1
      = (pf 0 : S80.Idx → BitVec 32) (ix1 (n := 80) ⟨(i 0).val, lt80 i⟩) := by
  have hi := lt80 i
  show pf 0 _ = pf 0 _
  congr 1
  funext x
  apply Fin.ext
  have hl := (Shape.Idx.first (s := (Rect.unit (s := S80) ![(Scalar.indexCast (BitVec.ofNat 32 (i 0).val)).toNat] S1.size (k0_off1_inb i)).shape) (numel1_S1.symm ▸ Nat.one_pos) x).isLt
  have h1 : (Rect.unit (s := S80) ![(Scalar.indexCast (BitVec.ofNat 32 (i 0).val)).toNat] S1.size (k0_off1_inb i)).shape.size x = 1 := by fin_cases x; rfl
  have hl := hl.trans_eq h1
  fin_cases x
  show (BitVec.ofNat 32 (i 0).val).toNat + 1 * _ = (i 0).val
  rw [BitVec.toNat_ofNat]
  omega

/-- The block of the gate and up weights at a point: the one the first table names there. -/
theorem t3_eq (pf : pre0.Contents (Elt F)) (i : grid0.Coords) :
    cc0_transform_3 k0_off1_inb numel1_S1 pf i = ![((pf 0 : S80.Idx → BitVec 32) (ix1 (n := 80) ⟨(i 0).val, lt80 i⟩)).toNat, 0, 0] := by
  rw [← at_eq pf i]; rfl

/-- The block of the down weights, likewise. -/
theorem t4_eq (pf : pre0.Contents (Elt F)) (i : grid0.Coords) :
    cc0_transform_4 k0_off1_inb numel1_S1 pf i = ![((pf 0 : S80.Idx → BitVec 32) (ix1 (n := 80) ⟨(i 0).val, lt80 i⟩)).toNat, 0, 0] := by
  rw [← at_eq pf i]; rfl

theorem ok_tables (h : InRange m) : ok0 (tables m) := by
  unfold ok0
  refine ⟨fun i => ⟨?_, .inr (Affine.block_words_dvd (of_decide_eq_true rfl) (by decide))⟩, fun i => ⟨?_, .inr (Affine.block_words_dvd (of_decide_eq_true rfl) (by decide))⟩⟩
  · intro a
    have ht : ((tables m 0 : S80.Idx → BitVec 32) (ix1 (n := 80) ⟨(i 0).val, lt80 i⟩)).toNat < 16 := h.te 0 _
    rw [t3_eq]
    fin_cases a
    · exact (by omega : (((tables m 0 : S80.Idx → BitVec 32) (ix1 (n := 80) ⟨(i 0).val, lt80 i⟩)).toNat + 1) * 1 ≤ 16)
    · show (0 + 1) * 2048 ≤ 2048; omega
    · show (0 + 1) * 2048 ≤ 2048; omega
  · intro a
    have ht : ((tables m 0 : S80.Idx → BitVec 32) (ix1 (n := 80) ⟨(i 0).val, lt80 i⟩)).toNat < 16 := h.te 0 _
    rw [t4_eq]
    fin_cases a
    · exact (by omega : (((tables m 0 : S80.Idx → BitVec 32) (ix1 (n := 80) ⟨(i 0).val, lt80 i⟩)).toNat + 1) * 1 ≤ 16)
    · show (0 + 1) * 1024 ≤ 1024; omega
    · show (0 + 1) * 2048 ≤ 2048; omega

def adm (h : InRange m) : (p : Fin 1) → (pcfgs (F := F) p).Adm := fun _ => ⟨tables m, ok_tables m h⟩

/-- The used blocks. -/
def used (c : Dev nD) : ℕ := ((V m c main_arg1 : S1.Idx → BitVec 32) (ix1 0)).toNat
/-- The row numbers of block `n` (past the last block: the last block's). -/
def nums (c : Dev nD) (n : ℕ) (j : Fin 512) : ℕ :=
  ((V m c main_arg2 : S80x1x512.Idx → BitVec 32) (ix3 (n0 := 80) (n1 := 1) (n2 := 512) ⟨min n 79, by omega⟩ 0 j)).toNat

variable (h : InRange m)

def blk13 (c : Dev nD) (t : Fin (cfg0 (adm m h 0)).N) : S1x2048x2048.Idx → Elt F .bf16 :=
  ((win0 (adm m h 0) 2).blk t).view.read (Elt F) (V m c main_v1)
def blk2 (c : Dev nD) (t : Fin (cfg0 (adm m h 0)).N) : S1x1024x2048.Idx → Elt F .bf16 :=
  ((win0 (adm m h 0) 3).blk t).view.read (Elt F) (V m c main_v2)

/-- The invariant before point `n`. -/
def Phi (c : Dev nD) (n : ℕ) : sProp 𝕄 :=
  iprop(between (F := F) c (V m c main_arg3) (used m c) (nums m c) n ∗ (∃ r, prngReg c r) ∗ Pipeline.ΦT pre0 (tables m) c)

/-- The data of the pipeline's run. -/
def dats (_ : Fin 1) (c : Dev nD) : Dat τ (Elt F) Unit ℕ (Pipeline.UD sig nD τ) ℕ (cfg0 (adm m h 0)) c where
  A w := V m c (Pipeline.arrRef spec0 w)
  after w t := match w with
    | ⟨0, _⟩ => ((win0 (adm m h 0) 0).blk t).view.read (Elt F) (V m c main_arg2)
    | ⟨1, _⟩ => ((win0 (adm m h 0) 1).blk t).view.read (Elt F) (V m c main_arg2)
    | ⟨2, _⟩ => blk13 m h c t
    | ⟨3, _⟩ => blk2 m h c t
    | ⟨4, _⟩ => outAt (F := F) (V m c main_arg3) (used m c) (nums m c) t.val (blk13 m h c t) (blk2 m h c t)
    | ⟨_ + 5, h⟩ => absurd h (Nat.not_lt.2 (Nat.le_add_left _ _))
  Φ t := Phi m c t.val
  q w := Pipeline.shareOf spec0 w
  owed _ := 0

theorem A_eq (c : Dev nD) (w : Fin 5) : (dats m h 0 c).A w = V m c (Pipeline.arrRef spec0 w) := by
  dsimp only [dats]

theorem after_0 (c : Dev nD) (t : Fin (cfg0 (adm m h 0)).N) :
    (dats m h 0 c).after 0 t = ((win0 (adm m h 0) 0).blk t).view.read (Elt F) (V m c main_arg2) := rfl
theorem after_1 (c : Dev nD) (t : Fin (cfg0 (adm m h 0)).N) :
    (dats m h 0 c).after 1 t = ((win0 (adm m h 0) 1).blk t).view.read (Elt F) (V m c main_arg2) := rfl
theorem after_2 (c : Dev nD) (t : Fin (cfg0 (adm m h 0)).N) : (dats m h 0 c).after 2 t = blk13 m h c t := rfl
theorem after_3 (c : Dev nD) (t : Fin (cfg0 (adm m h 0)).N) : (dats m h 0 c).after 3 t = blk2 m h c t := rfl
theorem after_4 (c : Dev nD) (t : Fin (cfg0 (adm m h 0)).N) :
    (dats m h 0 c).after 4 t = outAt (F := F) (V m c main_arg3) (used m c) (nums m c) t.val (blk13 m h c t) (blk2 m h c t) := rfl

theorem before_0 (c : Dev nD) (t : Fin (cfg0 (adm m h 0)).N) (d) :
    (dats m h 0 c).before 0 t d = ((win0 (adm m h 0) 0).blk t).view.read (Elt F) (V m c main_arg2) :=
  (dats m h 0 c).before_in_eq_fetched 0 rfl (fun _ => rfl) (fun _ _ _ => rfl) (fun _ => rfl) t d
theorem before_1 (c : Dev nD) (t : Fin (cfg0 (adm m h 0)).N) (d) :
    (dats m h 0 c).before 1 t d = ((win0 (adm m h 0) 1).blk t).view.read (Elt F) (V m c main_arg2) :=
  (dats m h 0 c).before_in_eq_fetched 1 rfl (fun _ => rfl) (fun _ _ _ => rfl) (fun _ => rfl) t d
theorem before_2 (c : Dev nD) (t : Fin (cfg0 (adm m h 0)).N) (d) : (dats m h 0 c).before 2 t d = blk13 m h c t :=
  (dats m h 0 c).before_in_eq_fetched 2 rfl (fun _ => rfl) (fun _ _ _ => rfl) (fun _ => rfl) t d
theorem before_3 (c : Dev nD) (t : Fin (cfg0 (adm m h 0)).N) (d) : (dats m h 0 c).before 3 t d = blk2 m h c t :=
  (dats m h 0 c).before_in_eq_fetched 3 rfl (fun _ => rfl) (fun _ _ _ => rfl) (fun _ => rfl) t d

end Cert.KernelIdeal.Hand

end
-- ==== Proof.IBodyOb.lean ====
/-
  The body's obligation at each grid point: what the windows' staging buffers hold, and that the body's run carries the invariant on.
-/
module

public import proofs.«01_k».proof.Proof.IFrame
import Idealize.ShloMosaic.Lib.Pipeline.Kit

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (h : InRange m)

/-- The one grid coordinate of a point is its number. -/
theorem coord_val (t : Fin grid0.N) : ((grid0.coords t) 0).val = t.val := by
  revert t; decide +kernel

theorem t0_eq : ∀ t : Fin grid0.N, cc0_transform_0 (grid0.coords t) = ![t.val, 0, 0] := by decide +kernel
theorem t1_eq : ∀ t : Fin grid0.N, cc0_transform_1 (grid0.coords t) = ![min (t.val + 1) 79, 0, 0] := by decide +kernel
theorem t5_eq : ∀ t : Fin grid0.N, cc0_transform_5 (grid0.coords t) = ![t.val, 0] := by decide +kernel

/-- The words the first number window holds at point `t`: the row numbers of block `t`. -/
theorem win0_word (c : Dev nD) (t : Fin (cfg0 (adm m h 0)).N) (j : Fin 512) :
    (((win0 (adm m h 0) 0).blk t).view.read (Elt F) (V m c main_arg2) (ix3 (n0 := 1) (n1 := 1) (n2 := 512) 0 0 j) : BitVec 32).toNat = nums m c t.val j := by
  have ht : t.val < 80 := t.isLt.trans_eq N_0
  show ((V m c main_arg2 : S80x1x512.Idx → BitVec 32) _).toNat = ((V m c main_arg2 : S80x1x512.Idx → BitVec 32) _).toNat
  congr 2
  funext a
  apply Fin.ext
  refine (Pipeline.Window.rect_emb_val (win0 (adm m h 0) 0) t (ix3 (n0 := 1) (n1 := 1) (n2 := 512) 0 0 j) a).trans ?_
  show cc0_transform_0 (grid0.coords t) a * S1x1x512.size a + _ = _
  rw [t0_eq t]
  fin_cases a
  · show t.val * 1 + 0 = min t.val 79; omega
  · rfl
  · show 0 * 512 + j.val = j.val; omega

/-- The second window's: those of the next block. -/
theorem win1_word (c : Dev nD) (t : Fin (cfg0 (adm m h 0)).N) (j : Fin 512) :
    (((win0 (adm m h 0) 1).blk t).view.read (Elt F) (V m c main_arg2) (ix3 (n0 := 1) (n1 := 1) (n2 := 512) 0 0 j) : BitVec 32).toNat = nums m c (t.val + 1) j := by
  have ht : t.val < 80 := t.isLt.trans_eq N_0
  show ((V m c main_arg2 : S80x1x512.Idx → BitVec 32) _).toNat = ((V m c main_arg2 : S80x1x512.Idx → BitVec 32) _).toNat
  congr 2
  funext a
  apply Fin.ext
  refine (Pipeline.Window.rect_emb_val (win0 (adm m h 0) 1) t (ix3 (n0 := 1) (n1 := 1) (n2 := 512) 0 0 j) a).trans ?_
  show cc0_transform_1 (grid0.coords t) a * S1x1x512.size a + _ = _
  rw [t1_eq t]
  fin_cases a
  · show min (t.val + 1) 79 * 1 + 0 = min (t.val + 1) 79; omega
  · rfl
  · show 0 * 512 + j.val = j.val; omega

include h in
theorem nums_lt (c : Dev nD) (n : ℕ) (j : Fin 512) : nums m c n j < 16384 := h.src c _

/-- The output window is stored to at every point. -/
theorem idle_4 (pf : pre0.Contents (Elt F)) (hv : ((pf 1 : S1.Idx → BitVec 32) (ix1 0)).toNat ≤ 80) (t : Fin grid0.N) :
    idle0 pf 4 (grid0.coords t) = false := by
  have e : (pf.atD 1 ![0] : BitVec 32) = (pf 1 : S1.Idx → BitVec 32) (ix1 0) := by
    unfold Pipeline.Prefetch.Contents.atD
    rw [dif_pos (by decide)]
    congr 1
    funext a; fin_cases a; rfl
  show (!(k0_cond2 (grid0.coords t) (pf.atD 1 ![0]) == 1#1) && !(k0_cond4 (grid0.coords t) (pf.atD 1 ![0]) == 1#1)) = false
  rw [e]
  by_cases hlt : ((grid0.coords t) 0).val < ((pf 1 : S1.Idx → BitVec 32) (ix1 0)).toNat
  · rw [(cond2_iff _ _ hv).mpr hlt]; rfl
  · rw [(cond4_iff _ _ hv).mpr hlt, Bool.and_comm]; rfl

abbrev ms (t : Fin (cfg0 (adm m h 0)).N) (w : Fin 5) := ((cfg0 (adm m h 0)).win w).stage ((cfg0 (adm m h 0)).slots t w)

/-- The call at point `t`. -/
abbrev bodyAt (t : Fin (cfg0 (adm m h 0)).N) : Prog (TpuEff nD τ sig (Elt F) Λ₀ .tc) PUnit :=
  cc0_moe_experts (grid0.coords t) (Memref.whole main_arg0) (Memref.isWhole_whole _) (Memref.whole main_arg1) (Memref.isWhole_whole _)
    (spec0_0.stage ((cfg0 (adm m h 0)).slots t 0)) (hstage0_0 (((cfg0 (adm m h 0)).slots t 0).cast nbuf0_0))
    (spec0_1.stage ((cfg0 (adm m h 0)).slots t 1)) (hstage0_1 (((cfg0 (adm m h 0)).slots t 1).cast nbuf0_1))
    hpM (Memref.isWhole_whole _)
    (spec0_2.stage ((cfg0 (adm m h 0)).slots t 2)) (hstage0_2 (((cfg0 (adm m h 0)).slots t 2).cast nbuf0_2))
    (spec0_3.stage ((cfg0 (adm m h 0)).slots t 3)) (hstage0_3 (((cfg0 (adm m h 0)).slots t 3).cast nbuf0_3))
    (spec0_4.stage ((cfg0 (adm m h 0)).slots t 4)) (hstage0_4 (((cfg0 (adm m h 0)).slots t 4).cast nbuf0_4))
    scM (Memref.isWhole_whole _) cc0_scratch1

theorem defs₀_row (t : Fin (cfg0 (adm m h 0)).N) :
    defs₀ (F := F) .tc (cfg0 (adm m h 0)).body ((cfg0 (adm m h 0)).bodyArgs t ((cfg0 (adm m h 0)).slots t)) = bodyAt m h t := by
  unfold defs₀; rw [Defs.onTc_tc]

/-- The used blocks, as the body reads them. -/
theorem used_eq (c : Dev nD) : ((tables m 1 : S1.Idx → BitVec 32) (ix1 0)).toNat = used m c := by
  have e : c = 0 := Subsingleton.elim _ _
  subst e; rfl

include h in
theorem used_le (c : Dev nD) : used m c ≤ 80 := h.nv c _

theorem tables_split (c : Dev nD) :
    (Pipeline.ΦT pre0 (tables m) c : sProp 𝕄)
      = iprop((((c : Thread nD τ).loc main_arg0) ↦{fullShare.right} (tables m 0)) ∗ (((c : Thread nD τ).loc main_arg1) ↦{fullShare.right} (tables m 1))) := by
  unfold Pipeline.ΦT Pipeline.prefHeld
  rw [BI.bigSep_univ_eq_bigSepL [(0 : Fin 2), (1 : Fin 2)] (by decide) (by decide)]
  rfl

def bodyPre (c : Dev nD) (t : Fin (cfg0 (adm m h 0)).N) : sProp 𝕄 :=
  iprop((dats m h 0 c).Φ t.castSucc ∗ (dats m h 0 c).owesAt () t.castSucc
    ∗ (∃ d, owns (c : Thread nD τ) (ms m h t 0) fullShare ((dats m h 0 c).before 0 t d))
    ∗ (∃ d, owns (c : Thread nD τ) (ms m h t 1) fullShare ((dats m h 0 c).before 1 t d))
    ∗ (∃ d, owns (c : Thread nD τ) (ms m h t 2) fullShare ((dats m h 0 c).before 2 t d))
    ∗ (∃ d, owns (c : Thread nD τ) (ms m h t 3) fullShare ((dats m h 0 c).before 3 t d))
    ∗ (∃ d, owns (c : Thread nD τ) (ms m h t 4) fullShare ((dats m h 0 c).before 4 t d)))
def bodyPost (c : Dev nD) (t : Fin (cfg0 (adm m h 0)).N) : sProp 𝕄 :=
  iprop((dats m h 0 c).Φ t.succ ∗ (dats m h 0 c).owesAt () t.succ
    ∗ owns (c : Thread nD τ) (ms m h t 0) fullShare ((dats m h 0 c).after 0 t)
    ∗ owns (c : Thread nD τ) (ms m h t 1) fullShare ((dats m h 0 c).after 1 t)
    ∗ owns (c : Thread nD τ) (ms m h t 2) fullShare ((dats m h 0 c).after 2 t)
    ∗ owns (c : Thread nD τ) (ms m h t 3) fullShare ((dats m h 0 c).after 3 t)
    ∗ owns (c : Thread nD τ) (ms m h t 4) fullShare ((dats m h 0 c).after 4 t))

theorem point (c : Dev nD) (t : Fin (cfg0 (adm m h 0)).N) (X : S1024x1024.Idx → Elt F .bf16) {Q : PUnit → sProp 𝕄} :
    iprop(between (F := F) c (V m c main_arg3) (used m c) (nums m c) t.val ∗ (∃ W, owes (c : Thread nD τ) 0 W)
        ∗ nvt (F := F) c (Memref.whole main_arg1) fullShare.right (tables m 1)
        ∗ tab (F := F) c (ms m h t 0) fullShare (((win0 (adm m h 0) 0).blk t).view.read (Elt F) (V m c main_arg2))
        ∗ tab (F := F) c (ms m h t 1) fullShare (((win0 (adm m h 0) 1).blk t).view.read (Elt F) (V m c main_arg2))
        ∗ owns (c : Thread nD τ) (ms m h t 2) fullShare (blk13 m h c t) ∗ owns (c : Thread nD τ) (ms m h t 3) fullShare (blk2 m h c t)
        ∗ owns (c : Thread nD τ) (ms m h t 4) fullShare X)
      ⊢ iprop((iprop(between (F := F) c (V m c main_arg3) (used m c) (nums m c) (t.val + 1) ∗ (∃ W, owes (c : Thread nD τ) 0 W)
        ∗ nvt (F := F) c (Memref.whole main_arg1) fullShare.right (tables m 1)
        ∗ tab (F := F) c (ms m h t 0) fullShare (((win0 (adm m h 0) 0).blk t).view.read (Elt F) (V m c main_arg2))
        ∗ tab (F := F) c (ms m h t 1) fullShare (((win0 (adm m h 0) 1).blk t).view.read (Elt F) (V m c main_arg2))
        ∗ owns (c : Thread nD τ) (ms m h t 2) fullShare (blk13 m h c t) ∗ owns (c : Thread nD τ) (ms m h t 3) fullShare (blk2 m h c t)
        ∗ owns (c : Thread nD τ) (ms m h t 4) fullShare (outAt (F := F) (V m c main_arg3) (used m c) (nums m c) t.val (blk13 m h c t) (blk2 m h c t))) -∗ Q ⟨⟩)
        -∗ bwp c (bodyAt m h t) Q) := by
  have e := body_spec (F := F) (grid0.coords t) (Memref.whole main_arg0) (Memref.isWhole_whole _) (Memref.whole main_arg1) (Memref.isWhole_whole _)
    (spec0_0.stage ((cfg0 (adm m h 0)).slots t 0)) (hstage0_0 (((cfg0 (adm m h 0)).slots t 0).cast nbuf0_0))
    (spec0_1.stage ((cfg0 (adm m h 0)).slots t 1)) (hstage0_1 (((cfg0 (adm m h 0)).slots t 1).cast nbuf0_1))
    (spec0_2.stage ((cfg0 (adm m h 0)).slots t 2)) (hstage0_2 (((cfg0 (adm m h 0)).slots t 2).cast nbuf0_2))
    (spec0_3.stage ((cfg0 (adm m h 0)).slots t 3)) (hstage0_3 (((cfg0 (adm m h 0)).slots t 3).cast nbuf0_3))
    (spec0_4.stage ((cfg0 (adm m h 0)).slots t 4)) (hstage0_4 (((cfg0 (adm m h 0)).slots t 4).cast nbuf0_4))
    c (V m c main_arg3) (nums m c) (fun n j => nums_lt m h c n j) fullShare.right (tables m 1) ((used_eq m c).trans_le (used_le m h c))
    fullShare fullShare (((win0 (adm m h 0) 0).blk t).view.read (Elt F) (V m c main_arg2)) (((win0 (adm m h 0) 1).blk t).view.read (Elt F) (V m c main_arg2))
    (fun j => (win0_word m h c t j).trans (by rw [coord_val]))
    (fun j => (win1_word m h c t j).trans (by rw [coord_val]))
    fullShare fullShare (blk13 m h c t) (blk2 m h c t) X (Q := Q)
  rw [used_eq m c, coord_val t] at e
  exact e

theorem sound_body (c : Dev nD) (t : Fin (cfg0 (adm m h 0)).N) :
    bodyPre m h c t ⊢ wp frame (wpE (defs₀ (F := F)) Variants.none c none) Set.univ (bodyAt m h t) (fun _ => bodyPost m h c t) := by
  unfold bodyPre bodyPost
  rw [show (dats m h 0 c).Φ t.castSucc = Phi m c t.val from rfl, show (dats m h 0 c).Φ t.succ = Phi m c (t.val + 1) from rfl]
  unfold Dat.owesAt Pipeline.owesWithin Phi
  rw [show (dats m h 0 c).owed t.castSucc = 0 from rfl, show (dats m h 0 c).owed t.succ = 0 from rfl, tables_split]
  simp only [before_0, before_1, before_2, before_3, after_0, after_1, after_2, after_3, after_4]
  have en : (nvt (F := F) c (Memref.whole main_arg1) fullShare.right (tables m 1) : sProp 𝕄) = (((c : Thread nD τ).loc main_arg1) ↦{fullShare.right} (tables m 1)) := owns_whole _ _ _ _
  rw [← en]
  iintro ⟨⟨HB, Hg, Ht0, Ht1⟩, ⟨%W, -, HW⟩, ⟨%d0, H0⟩, ⟨%d1, H1⟩, ⟨%d2, H2⟩, ⟨%d3, H3⟩, ⟨%d4, H4⟩⟩
  iapply (point m h c t _) $$ [HB HW Ht1 H0 H1 H2 H3 H4]
  · isplitl [HB]; · iexact HB
    isplitl [HW]; · iexists W; iexact HW
    isplitl [Ht1]; · iexact Ht1
    isplitl [H0]; · iexact H0
    isplitl [H1]; · iexact H1
    isplitl [H2]; · iexact H2
    isplitl [H3]; · iexact H3
    iexact H4
  iintro ⟨HB, ⟨%W', HW⟩, Ht1, H0, H1, H2, H3, H4⟩
  isplitl [HB Hg Ht0 Ht1]
  · isplitl [HB]; · iexact HB
    isplitl [Hg]; · iexact Hg
    isplitl [Ht0]; · iexact Ht0
    iexact Ht1
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem live {b f : Bool} (hb : b = false) (x y z : sProp 𝕄) :
    z ⊢ (match (generalizing := false) b with
      | true => (match (generalizing := false) f with
        | false => x
        | true => y)
      | false => z) := by subst hb; exact .rfl

theorem idle_at (a : (pcfg0 (F := F)).Adm) : (cfg0 a).idle = idle0 a.1 := rfl

theorem body_obligation (c : Dev nD) : BodyObligation (dats m h 0 c) (defs₀ (F := F)) Variants.none () Set.univ := fun t => by
  rw [bigSep_W0, bigSep_W0, defs₀_row]
  have e := idle_4 (tables m) ((used_eq m c).trans_le (used_le m h c)) t
  have e' : (cfg0 (adm m h 0)).idle 4 ((cfg0 (adm m h 0)).grid.coords t) = idle0 (tables m) 4 (grid0.coords t) :=
    congrFun (congrFun (idle_at (adm m h 0)) 4) _
  refine triple_restated (sound_body m h c t) rfl .rfl fun _ => ?_
  refine sep_mono .rfl (sep_mono .rfl (sep_mono .rfl (sep_mono .rfl (sep_mono .rfl (sep_mono .rfl ?_)))))
  exact live (F := F) (e'.trans e) _ _ _

end Cert.KernelIdeal.Hand

end
-- ==== Proof.IRun.lean ====
/-
  The run: from the precondition on the arguments' integers, the program ends with its arguments as they were, every
  semaphore at zero, and its output at what the pipeline's data say.
-/
module

public import proofs.«01_k».proof.Proof.IBodyOb
public import proofs.«01_k».proof.Proof.IRange

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (h : InRange m)

/-- The two cells the body's copies use. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(zero c 0 ∗ zero c 1) := by
  rw [Pipeline.ownSems0_eq_of_list c osem0 [0, 1] (by decide) (by decide)]; rfl

/-- The array the body copies rows of. -/
def H0 : Finset (Ref sig .tc) := {main_arg3}
theorem H0_sub : H0 ⊆ Pipeline.restRefsP sig pre0 spec0 := by decide
theorem hbmPts0_eq (c : Dev nD) :
    (bigSep H0 (fun b => ((c : Thread nD τ).loc b) ↦{fullShare} V m c b) : sProp 𝕄) = hpPt (F := F) c Finset.univ fullShare (V m c main_arg3) := by
  rw [BI.bigSep_eq_bigSepL_of_eq [main_arg3] (by decide) (by decide)]; rfl

theorem PhiD_eq (c : Dev nD) :
    (Pipeline.ΦD osem0 spec0 H0 (V m) c : sProp 𝕄)
      = iprop((∃ f, scPt (F := F) c Finset.univ f) ∗ (∃ r, prngReg c r) ∗ iprop(zero c 0 ∗ zero c 1) ∗ hpPt (F := F) c Finset.univ fullShare (V m c main_arg3)) := by
  rw [Pipeline.ΦD_eq, scopedRest0_eq, ownSems00_eq, hbmPts0_eq]
  rfl

theorem hin (c : Dev nD) : iprop(Pipeline.ΦD osem0 spec0 H0 (V m) c ∗ Pipeline.ΦT pre0 (tables m) c) ⊢ Phi (F := F) m c 0 := by
  rw [PhiD_eq]
  unfold Phi between
  rw [if_neg (by omega)]
  unfold home
  iintro ⟨⟨⟨%f, HS⟩, Hg, ⟨Hz0, Hz1⟩, Hh⟩, Ht⟩
  isplitl [HS Hz0 Hz1 Hh]
  · iexists f
    isplitl [HS]; · iexact HS
    isplitl [Hz0]; · iexact Hz0
    isplitl [Hz1]; · iexact Hz1
    iexact Hh
  isplitl [Hg]; · iexact Hg
  iexact Ht

theorem hout (c : Dev nD) : Phi (F := F) m c 80 ⊢ Pipeline.ΦD osem0 spec0 H0 (V m) c := by
  rw [PhiD_eq]
  unfold Phi between
  rw [if_neg (by omega)]
  unfold home
  iintro ⟨⟨%f, HS, Hz0, Hz1, Hh⟩, Hg, Ht⟩
  isplitl [HS]; · iexists f; iexact HS
  isplitl [Hg]; · iexact Hg
  isplitl [Hz0 Hz1]
  · isplitl [Hz0]; · iexact Hz0
    iexact Hz1
  iexact Hh

set_option backward.isDefEq.respectTransparency.types false in
/-- The run, at the pipeline's data. -/
theorem run_main : θ_run defs (onTc (τ := τ) (main (F := F))) (s₀ m ρ)
    (fun r => Pipeline.FramePost (Pipeline.pin (pcfgs (F := F)) (adm m h)) (dats m h) 0 (V m) r ∧ r.2.sem = fun _ => 0) :=
  Pipeline.θ_run_frameP_dma_shared (Q' := _) (pcfgs (F := F)) (adm m h) (dats m h) (0 : Fin 1) launch₀0 osem0 defs₀ Variants.none ownSemFacts0 H0 H0_sub m ρ main
    (hbody := fun c => (body_obligation m h c).loose) (hq := fun _ _ _ => rfl)
    (howed := fun _ _ => rfl) (V := V m) (hmain := hmain m Variants.none) (hA := A_eq m h)
    (hpf := fun c k => by
      have e : c = 0 := Subsingleton.elim _ _
      subst e; rfl)
    (hin := hin m) (hout := hout m)

/-- The integers' ranges, of the arguments as launched. -/
theorem inRange_of (hp : ∀ c : Dev nD, (∀ i, ((m ((c : Thread nD τ).loc main_arg0) : S80.Idx → BitVec 32) i).toNat < 16)
      ∧ (∀ i, ((m ((c : Thread nD τ).loc main_arg1) : S1.Idx → BitVec 32) i).toNat ≤ 80)
      ∧ (∀ i, ((m ((c : Thread nD τ).loc main_arg2) : S80x1x512.Idx → BitVec 32) i).toNat < 16384)) : InRange m where
  te c i := by rw [V_keep m c main_arg0 (by decide) (by decide) (by decide)]; exact (hp c).1 i
  nv c i := by rw [V_keep m c main_arg1 (by decide) (by decide) (by decide)]; exact (hp c).2.1 i
  src c i := by rw [V_keep m c main_arg2 (by decide) (by decide) (by decide)]; exact (hp c).2.2 i

theorem rest_main_arg0 : main_arg0 ∈ Pipeline.restRefs sig spec0 := Pipeline.mem_restRefs_of main_arg0 (by decide) (by decide)
theorem rest_main_arg1 : main_arg1 ∈ Pipeline.restRefs sig spec0 := Pipeline.mem_restRefs_of main_arg1 (by decide) (by decide)
theorem rest_main_arg3 : main_arg3 ∈ Pipeline.restRefs sig spec0 := Pipeline.mem_restRefs_of main_arg3 (by decide) (by decide)
theorem rest_main_arg4 : main_arg4 ∈ Pipeline.restRefs sig spec0 := Pipeline.mem_restRefs_of main_arg4 (by decide) (by decide)
theorem rest_main_arg5 : main_arg5 ∈ Pipeline.restRefs sig spec0 := Pipeline.mem_restRefs_of main_arg5 (by decide) (by decide)
theorem rest_main_arg6 : main_arg6 ∈ Pipeline.restRefs sig spec0 := Pipeline.mem_restRefs_of main_arg6 (by decide) (by decide)

/-- What the run leaves: the output at the pipeline's final contents, and the arguments as they were. -/
theorem run_full : θ_run defs (onTc (τ := τ) (main (F := F))) ⟨m, fun _ => 0, ρ⟩ (fun r => (∀ c : Dev nD,
      r.2.mem ((c : Thread nD τ).loc main_v3) = (dats m h 0 c).arrAt 4 (cfg0 (adm m h 0)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r hr => ⟨fun c => ⟨(hr.1 c).1 4,
    ((hr.1 c).2 main_arg0 (rest_main_arg0)).trans (V_keep m c main_arg0 (by decide) (by decide) (by decide)),
    ((hr.1 c).2 main_arg1 (rest_main_arg1)).trans (V_keep m c main_arg1 (by decide) (by decide) (by decide)),
    (((hr.1 c).1 0).trans ((dats m h 0 c).arrAt_in 0 rfl _)).trans (V_keep m c main_arg2 (by decide) (by decide) (by decide)),
    ((hr.1 c).2 main_arg3 (rest_main_arg3)).trans (V_keep m c main_arg3 (by decide) (by decide) (by decide)),
    ((hr.1 c).2 main_arg4 (rest_main_arg4)).trans (V_keep m c main_arg4 (by decide) (by decide) (by decide)),
    ((hr.1 c).2 main_arg5 (rest_main_arg5)).trans (V_keep m c main_arg5 (by decide) (by decide) (by decide)),
    ((hr.1 c).2 main_arg6 (rest_main_arg6)).trans (V_keep m c main_arg6 (by decide) (by decide) (by decide))⟩, hr.2⟩)
    (run_main m ρ h)

/-- The frame: the arguments as they were, every semaphore at zero. -/
theorem frame (hp : ∀ c : Dev nD, Cert.Pre_ranges.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r hr => ⟨fun c => (hr.1 c).2, hr.2⟩)
    (run_full m ρ (inRange_of m fun c => Cert.Ranges.decode _ _ _ _ _ _ _ (hp c)))

end Cert.KernelIdeal.Hand

end
-- ==== Proof.VSpec.lean ====
/-
  What both programs compute, element by element, over the extended reals: a row of activations unpacked from its
  words, the gated hidden row, and the block's output; and the arithmetic of the two 16-bit halves of a word.
-/
module

public import Idealize.ShloMosaic.PureOps.Ideal.Laws
public import Idealize.ShloMosaic.Lib.ValueIdxCore

@[expose] public section

noncomputable section

namespace Cert.Spec

open Idealize.ShloMosaic
open Idealize.ShloMosaic.ValueIdx (ix1 ix2 ix3)
open scoped BigOperators

/-! ## The halves of a word -/

/-- A 16-bit pattern denotes, as bf16, what it denotes as f32 when sixteen zero bits follow it. -/
theorem ofBits_bf16 (h : BitVec 16) (w : BitVec 32) (hs : w.extractLsb' 31 1 = h.extractLsb' 15 1)
    (he : w.extractLsb' 23 8 = h.extractLsb' 7 8) (hf : (w.extractLsb' 0 23).toNat = (h.extractLsb' 0 7).toNat * 2 ^ 16) :
    Ideal.ofBits .bf16 h = Ideal.ofBits .f32 w := by
  show Ideal.ieee 8 7 h = Ideal.ieee 8 23 w
  have p16 : (2 : ℝ) ^ (16 : ℤ) = 65536 := by norm_num
  unfold Ideal.ieee
  simp only [Nat.reduceAdd, hs, he, hf]
  by_cases h1 : (h.extractLsb' 7 8).toNat = 2 ^ 8 - 1
  · rw [if_pos h1, if_pos h1]
    have e : ((h.extractLsb' 0 7).toNat * 2 ^ 16 = 0) ↔ ((h.extractLsb' 0 7).toNat = 0) := by
      constructor <;> intro h <;> omega
    simp only [e]
  · rw [if_neg h1, if_neg h1]
    by_cases h2 : (h.extractLsb' 7 8).toNat = 0
    · rw [if_pos h2, if_pos h2]
      refine congrArg _ ?_
      have e : ((1 - (2 ^ (8 - 1) - 1) - (7 : ℕ) : ℤ)) = (1 - (2 ^ (8 - 1) - 1) - (23 : ℕ) : ℤ) + 16 := by norm_num
      rw [e, zpow_add₀ (by norm_num), p16]
      push_cast
      ring
    · rw [if_neg h2, if_neg h2]
      refine congrArg _ ?_
      have e : (((h.extractLsb' 7 8).toNat : ℤ) - (2 ^ (8 - 1) - 1) - (7 : ℕ))
          = (((h.extractLsb' 7 8).toNat : ℤ) - (2 ^ (8 - 1) - 1) - (23 : ℕ)) + 16 := by push_cast; ring
      rw [e, zpow_add₀ (by norm_num), p16]
      push_cast
      ring

/-- The low half. -/
theorem ofBits_lo (w : BitVec 32) : Ideal.ofBits .bf16 (w.extractLsb' (0 * 16) 16) = Ideal.ofBits .f32 (w <<< 16) := by
  refine ofBits_bf16 _ _ ?_ ?_ ?_
  · apply BitVec.eq_of_getLsbD_eq; intro i hi; interval_cases i; simp
  · apply BitVec.eq_of_getLsbD_eq; intro i hi; interval_cases i <;> simp
  · simp only [BitVec.extractLsb'_toNat, BitVec.toNat_shiftLeft, Nat.shiftLeft_eq, Nat.shiftRight_zero, Nat.zero_mul]
    omega

/-- The high half. -/
theorem ofBits_hi (w : BitVec 32) : Ideal.ofBits .bf16 (w.extractLsb' (1 * 16) 16) = Ideal.ofBits .f32 (w &&& 4294901760#32) := by
  have e : w &&& 4294901760#32 = (w >>> 16) <<< 16 := by
    apply BitVec.eq_of_getLsbD_eq; intro i hi
    interval_cases i <;> simp
  rw [e]
  refine ofBits_bf16 _ _ ?_ ?_ ?_
  · apply BitVec.eq_of_getLsbD_eq; intro i hi; interval_cases i; simp
  · apply BitVec.eq_of_getLsbD_eq; intro i hi; interval_cases i <;> simp
  · simp only [BitVec.extractLsb'_toNat, BitVec.toNat_shiftLeft, BitVec.toNat_ushiftRight, Nat.shiftLeft_eq, Nat.shiftRight_zero,
      Nat.shiftRight_eq_div_pow]
    omega

/-! ## The layer -/

/-- Channel `d` of row `r`: the low half of word `d`, or the high half of word `d - 1024`. -/
def act {n : ℕ} (hp : (⟨2, ![n, 1024]⟩ : Shape).Idx → BitVec 32) (r : Fin n) (d : Fin 2048) : EReal :=
  if h : d.val < 1024 then Ideal.ofBits .f32 (hp (ix2 r ⟨d.val, h⟩) <<< 16)
  else Ideal.ofBits .f32 (hp (ix2 r ⟨d.val - 1024, by omega⟩) &&& 4294901760#32)

/-- A row through a matrix. -/
def through {n k : ℕ} (x : Fin n → EReal) (w : Fin n → Fin k → EReal) (f : Fin k) : EReal := ∑ d, x d * w d f

/-- The gated hidden unit. -/
def gated (g u : EReal) : EReal := g * Ideal.div 1 (1 + Ideal.exp (-g)) * u

/-- A row through an expert. -/
def expert (x : Fin 2048 → EReal) (e1 e3 : Fin 2048 → Fin 1024 → EReal) (e2 : Fin 1024 → Fin 2048 → EReal) (d : Fin 2048) : EReal :=
  through (fun f => gated (through x e1 f) (through x e3 f)) e2 d

/-- Of equal rows and matrices the same. -/
theorem expert_congr {x x' : Fin 2048 → EReal} {e1 e1' e3 e3' : Fin 2048 → Fin 1024 → EReal} {e2 e2' : Fin 1024 → Fin 2048 → EReal} (d : Fin 2048)
    (hx : x = x') (h1 : ∀ d f, e1 d f = e1' d f) (h3 : ∀ d f, e3 d f = e3' d f) (h2 : ∀ f d, e2 f d = e2' f d) :
    expert x e1 e3 e2 d = expert x' e1' e3' e2' d := by
  obtain rfl := hx
  obtain rfl : e1 = e1' := funext fun d => funext fun f => h1 d f
  obtain rfl : e3 = e3' := funext fun d => funext fun f => h3 d f
  obtain rfl : e2 = e2' := funext fun f => funext fun d => h2 f d
  rfl

/-- Block `t`'s row `s`, channel `d`: its row of the activations through the block's expert, or zero past the used blocks. -/
def out (te : (⟨1, ![80]⟩ : Shape).Idx → BitVec 32) (nv : (⟨1, ![1]⟩ : Shape).Idx → BitVec 32) (src : (⟨3, ![80, 1, 512]⟩ : Shape).Idx → BitVec 32)
    (hp : (⟨2, ![16384, 1024]⟩ : Shape).Idx → BitVec 32) (w1 w3 : (⟨3, ![16, 2048, 1024]⟩ : Shape).Idx → EReal)
    (w2 : (⟨3, ![16, 1024, 2048]⟩ : Shape).Idx → EReal) (t : Fin 80) (s : Fin 512) (d : Fin 2048) : EReal :=
  if t.val < (nv (ix1 0)).toNat then
    expert (act hp ⟨(src (ix3 t 0 s)).toNat % 16384, Nat.mod_lt _ (by decide)⟩)
      (fun d f => w1 (ix3 ⟨(te (ix1 t)).toNat % 16, Nat.mod_lt _ (by decide)⟩ d f))
      (fun d f => w3 (ix3 ⟨(te (ix1 t)).toNat % 16, Nat.mod_lt _ (by decide)⟩ d f))
      (fun f d => w2 (ix3 ⟨(te (ix1 t)).toNat % 16, Nat.mod_lt _ (by decide)⟩ f d)) d
  else 0

/-- The output array: block `t`'s row `s` is two rows of 1024, channels below 1024 first. -/
def total (te : (⟨1, ![80]⟩ : Shape).Idx → BitVec 32) (nv : (⟨1, ![1]⟩ : Shape).Idx → BitVec 32) (src : (⟨3, ![80, 1, 512]⟩ : Shape).Idx → BitVec 32)
    (hp : (⟨2, ![16384, 1024]⟩ : Shape).Idx → BitVec 32) (w1 w3 : (⟨3, ![16, 2048, 1024]⟩ : Shape).Idx → EReal)
    (w2 : (⟨3, ![16, 1024, 2048]⟩ : Shape).Idx → EReal) : (⟨2, ![81920, 1024]⟩ : Shape).Idx → EReal := fun i =>
  have h0 : (i 0).val < 81920 := (i 0).isLt
  have h1 : (i 1).val < 1024 := (i 1).isLt
  out te nv src hp w1 w3 w2 ⟨(i 0).val / 1024, by omega⟩ ⟨(i 0).val % 1024 / 2, by omega⟩ ⟨(i 0).val % 2 * 1024 + (i 1).val, by omega⟩

end Cert.Spec

end
-- ==== Proof.VGather.lean ====
/-
  Two gathers along an operand's first axis read at an index: rows of a matrix by a two-axis array of row numbers, and
  matrices of a stack by a one-axis array of numbers. Each number is read signed and clamped into range; for a number in
  range that is the number itself.
-/
module

public import Idealize.ShloMosaic.Lib.ValueIdxCore
public import Idealize.ShloMosaic.Lib.Pipeline.Value
public import Idealize.ShloMosaic.Lib.ReduceAll
public import Idealize.ShloMosaic.Lib.StableHlo.Predicate

@[expose] public section

noncomputable section

namespace Cert.Spec

open Idealize.ShloMosaic
open Idealize.ShloMosaic.ValueIdx (ix1 ix2 ix3)

variable {α : Type}

/-- Rows of a matrix. -/
theorem gather_rows {N C R S w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (k : Fin C) :
    Host.gather (⟨[2], [0], [], [], [0], 2, ![1, C], wf⟩ : GatherDims _ _ _) x idx (ix3 r s k)
      = x (ix2 ⟨min (idx (ix3 r s 0)).toInt.toNat (N - 1), by omega⟩ k) := by
  unfold Host.gather
  congr 1
  funext a
  refine Fin.ext ?_
  show GatherDims.start _ (ix3 r s k) idx a + GatherDims.batchCoord _ (ix3 r s k) a + GatherDims.offCoord _ (ix3 r s k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (List.mem_singleton.mpr rfl)]
    congr 4
    funext b; refine Fin.ext ?_
    match b with
    | ⟨0, _⟩ => rfl
    | ⟨1, _⟩ => rfl
    | ⟨2, _⟩ => rfl
  · unfold GatherDims.start GatherDims.offCoord
    rw [dif_neg (fun h => absurd (List.mem_singleton.mp h) (by decide : ¬ (1 : Fin 2) = 0)),
      dif_pos ((GatherDims.mem_sKept _ _).mpr ⟨fun h => absurd (List.mem_singleton.mp h) (by decide : ¬ (1 : Fin 2) = 0), List.not_mem_nil⟩), Nat.zero_add]
    rfl

/-- Matrices of a stack. -/
theorem gather_mats {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (p : Fin A) (q : Fin B) :
    Host.gather (⟨[1, 2], [0], [], [], [0], 1, ![1, A, B], wf⟩ : GatherDims _ _ _) x idx (ix3 r p q)
      = x (ix3 ⟨min (idx (ix2 r 0)).toInt.toNat (N - 1), by omega⟩ p q) := by
  unfold Host.gather
  congr 1
  funext a
  refine Fin.ext ?_
  show GatherDims.start _ (ix3 r p q) idx a + GatherDims.batchCoord _ (ix3 r p q) a + GatherDims.offCoord _ (ix3 r p q) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (List.mem_singleton.mpr rfl)]
    congr 4
    funext b; refine Fin.ext ?_
    match b with
    | ⟨0, _⟩ => rfl
    | ⟨1, _⟩ => rfl
  · unfold GatherDims.start GatherDims.offCoord
    rw [dif_neg (fun h => absurd (List.mem_singleton.mp h) (by decide : ¬ (1 : Fin 3) = 0)),
      dif_pos ((GatherDims.mem_sKept _ _).mpr ⟨fun h => absurd (List.mem_singleton.mp h) (by decide : ¬ (1 : Fin 3) = 0), List.not_mem_nil⟩), Nat.zero_add]
    rfl
  · unfold GatherDims.start GatherDims.offCoord
    rw [dif_neg (fun h => absurd (List.mem_singleton.mp h) (by decide : ¬ (2 : Fin 3) = 0)),
      dif_pos ((GatherDims.mem_sKept _ _).mpr ⟨fun h => absurd (List.mem_singleton.mp h) (by decide : ¬ (2 : Fin 3) = 0), List.not_mem_nil⟩), Nat.zero_add]
    rfl

/-- A nonnegative index is not wrapped, and one in range is not clamped. -/
theorem wrap (a n : BitVec 32) (N : ℕ) (h : a.toNat < N) (hN : N ≤ 2 ^ 31) :
    min (Scalar.select (IntOp.cmpi .slt a 0#32) (IntOp.addi a n) a).toInt.toNat (N - 1) = a.toNat % N := by
  have hi : a.toInt = a.toNat := by rw [BitVec.toInt_eq_toNat_cond, if_pos (by omega)]
  have h0 : IntOp.cmpi .slt a 0#32 = 0#1 := by
    refine ValueIdx.eq_zero_of_ne_one fun e => ?_
    have e : a.toInt < (0#32).toInt := IntOp.cmpi_slt.1 e
    have : (0#32).toInt = 0 := by decide
    omega
  rw [h0, ValueIdx.select_zero, hi, Nat.mod_eq_of_lt h, Int.toNat_natCast]
  omega

/-- A concatenation of pieces that are all `z` is `z`. -/
theorem concatenate_const {t : Shape} (a : Fin t.rank) (xs : List ((s : Shape) × (s.Idx → α)))
    (h : Shape.Concatenates (xs.map (·.1)) t a) (z : α) (hz : ∀ p ∈ xs, ∀ i, p.2 i = z) (j : t.Idx) :
    concatenate t a xs h j = z := by
  unfold concatenate
  exact hz _ (List.getElem_mem _) _

end Cert.Spec

end
-- ==== Proof.IVal.lean ====
/-
  A used block's output, element by element over the extended reals: the block's rows through its expert.
-/
module

public import proofs.«01_k».proof.Proof.VSpec
public import proofs.«01_k».proof.Proof.VGather
public import proofs.«01_k».proof.Proof.IBody
public import Idealize.ShloMosaic.Lib.MatmulPlain
public import Idealize.ShloMosaic.Lib.IdealHost

@[expose] public section

noncomputable section

namespace Cert.KernelIdeal.Hand

open Cert.KernelIdeal Cert.KernelIdeal.Gen
open Idealize.ShloMosaic Idealize.ShloMosaic.TcCoe
open Idealize.ShloMosaic.ValueIdx (ix1 ix2 ix3)

/-! ## The tiles of zeros -/

/-- The tile the body makes of eight spare rows. -/
def tile (z : IVec S1x8x128 32) : FVec Ideal S8x128 .f32 :=
  bitcastToFloat .f32 (shrui (shrui (shapeCast S8x128 z shapeCasts_S1x8x128_S8x128) (broadcast S8x128 16#32)) (broadcast S8x128 16#32))
/-- The tile, tiled. -/
def column (z : IVec S1x8x128 32) : FVec Ideal S512x128 .f32 :=
  concatenate S512x128 0 (List.replicate 64 ⟨S8x128, tile z⟩) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S512x128_d0
def tiles (z : IVec S1x8x128 32) : FVec Ideal S512x2048 .f32 :=
  concatenate S512x2048 1 (List.replicate 16 ⟨S512x128, column z⟩) concatenates_S512x128_S512x128_S512x128_S512x128_S512x128_S512x128_S512x128_S512x128_S512x128_S512x128_S512x128_S512x128_S512x128_S512x128_S512x128_S512x128_S512x2048_d1

/-- Of zero words they are zero. -/
theorem tile_zero (j : S8x128.Idx) : tile (fun _ => 0#32) j = 0 := by
  show Ideal.ofBits .f32 (IntOp.shrui .vector (IntOp.shrui .vector (shapeCast S8x128 (fun _ => 0#32) shapeCasts_S1x8x128_S8x128 j) 16#32) 16#32) = 0
  rw [shapeCast_apply (fun _ => (0#32 : BitVec 32)) _ j (ix3 (n0 := 1) (n1 := 8) (n2 := 128) 0 (j 0) (j 1)) (by
    rw [Shape.rowMajor_val_three, Shape.rowMajor_val_two]
    show (0 * 8 + (j 0).val) * 128 + (j 1).val = (j 0).val * 128 + (j 1).val
    omega)]
  have e : IntOp.shrui .vector (IntOp.shrui .vector 0#32 16#32) 16#32 = 0#32 := by decide
  rw [e, Ideal.ofBits_zero_f32]
theorem column_zero (j : S512x128.Idx) : column (fun _ => 0#32) j = 0 := by
  unfold column
  exact Spec.concatenate_const _ _ _ 0 (fun p hp k => by
    obtain rfl := List.eq_of_mem_replicate hp
    exact tile_zero k) j
theorem tiles_zero (j : S512x2048.Idx) : tiles (fun _ => 0#32) j = 0 := by
  unfold tiles
  exact Spec.concatenate_const _ _ _ 0 (fun p hp k => by
    obtain rfl := List.eq_of_mem_replicate hp
    exact column_zero k) j

/-! ## The hidden rows -/

/-- The rows, unpacked. -/
def unpacked (v : IVec S1x512x1024 32) : FVec Ideal S512x2048 .bf16 :=
  concatenate S512x2048 1 [⟨S512x1024, (truncf .bf16 (unpackElementwise (F := Ideal) 0 (shapeCast S512x1024 v shapeCasts_S1x512x1024_S512x1024)) bitsLt_bf16_f32 : FVec Ideal S512x1024 .bf16)⟩, ⟨S512x1024, (truncf .bf16 (unpackElementwise (F := Ideal) 1 (shapeCast S512x1024 v shapeCasts_S1x512x1024_S512x1024)) bitsLt_bf16_f32 : FVec Ideal S512x1024 .bf16)⟩] concatenates_S512x1024_S512x1024_S512x2048_d1

theorem drop_row (v : IVec S1x512x1024 32) (s : Fin 512) (k : Fin 1024) :
    shapeCast S512x1024 v shapeCasts_S1x512x1024_S512x1024 (ix2 (n0 := 512) (n1 := 1024) s k) = v (ix3 (n0 := 1) (n1 := 512) (n2 := 1024) 0 s k) :=
  shapeCast_apply _ _ _ _ (by
    rw [Shape.rowMajor_val_three, Shape.rowMajor_val_two]
    show (0 * 512 + s.val) * 1024 + k.val = s.val * 1024 + k.val
    omega)

theorem unpacked_apply (v : IVec S1x512x1024 32) (hp : IVec S16384x1024 32) (s : Fin 512) (r : Fin 16384)
    (hv : ∀ k : Fin 1024, v (ix3 (n0 := 1) (n1 := 512) (n2 := 1024) 0 s k) = hp (ix2 (n0 := 16384) (n1 := 1024) r k)) (d : Fin 2048) :
    unpacked v (ix2 (n0 := 512) (n1 := 2048) s d) = Spec.act hp r d := by
  unfold unpacked Spec.act
  by_cases h : d.val < 1024
  · rw [dif_pos h, concatenate_pair_apply_left (t := S512x2048) (s₁ := S512x1024) (s₂ := S512x1024) 1 _ _ _ (ix2 (n0 := 512) (n1 := 2048) s d) rfl
      (ix2 (n0 := 512) (n1 := 1024) s ⟨d.val, h⟩) (fun b => by match b with | ⟨0, _⟩ => rfl | ⟨1, _⟩ => rfl)]
    show Ideal.ofBits .bf16 ((shapeCast S512x1024 v shapeCasts_S1x512x1024_S512x1024 (ix2 (n0 := 512) (n1 := 1024) s ⟨d.val, h⟩)).extractLsb' (0 * 16) 16) = _
    rw [drop_row, hv, Spec.ofBits_lo]
  · rw [dif_neg h, concatenate_pair_apply_right (t := S512x2048) (s₁ := S512x1024) (s₂ := S512x1024) 1 _ _ _ (ix2 (n0 := 512) (n1 := 2048) s d) rfl rfl
      (ix2 (n0 := 512) (n1 := 1024) s ⟨d.val - 1024, by omega⟩) (fun b => by match b with | ⟨0, _⟩ => exact fun _ => rfl | ⟨1, _⟩ => exact fun hb => absurd rfl hb)
      (by show d.val - 1024 + 1024 = d.val; omega)]
    show Ideal.ofBits .bf16 ((shapeCast S512x1024 v shapeCasts_S1x512x1024_S512x1024 (ix2 (n0 := 512) (n1 := 1024) s ⟨d.val - 1024, _⟩)).extractLsb' (1 * 16) 16) = _
    rw [drop_row, hv, Spec.ofBits_hi]

/-- The gate and up products, side by side. -/
def products (v : IVec S1x512x1024 32) (w : FVec Ideal S1x2048x2048 .bf16) (z : IVec S1x8x128 32) : FVec Ideal S512x2048 .f32 :=
  addf (matmul dot_S512x2048_S2048x2048_S512x2048_1_0_0_1_n_n none (unpacked v) (shapeCast S2048x2048 w shapeCasts_S1x2048x2048_S2048x2048)
    (constant S512x2048 .f32 0x00000000#32)) (tiles z)

theorem products_apply (v : IVec S1x512x1024 32) (w : FVec Ideal S1x2048x2048 .bf16) (hp : IVec S16384x1024 32) (s : Fin 512) (r : Fin 16384)
    (hv : ∀ k : Fin 1024, v (ix3 (n0 := 1) (n1 := 512) (n2 := 1024) 0 s k) = hp (ix2 (n0 := 16384) (n1 := 1024) r k)) (f : Fin 2048) :
    products v w (fun _ => 0#32) (ix2 (n0 := 512) (n1 := 2048) s f)
      = Spec.through (Spec.act hp r) (fun d f => w (ix3 (n0 := 1) (n1 := 2048) (n2 := 2048) 0 d f)) f := by
  show FloatOps.matmul (DotDims.plain 512 2048 2048) none (unpacked v) (shapeCast S2048x2048 w shapeCasts_S1x2048x2048_S2048x2048)
    (constant (F := Ideal) S512x2048 .f32 0x00000000#32) (ix2 (n0 := 512) (n1 := 2048) s f) + tiles (fun _ => 0#32) (ix2 (n0 := 512) (n1 := 2048) s f) = _
  rw [tiles_zero, add_zero]
  refine (Ideal.matmul_plain_apply none (unpacked v) (shapeCast S2048x2048 w shapeCasts_S1x2048x2048_S2048x2048) _ s f).trans ?_
  show Ideal.ofBits .f32 0x00000000#32 + _ = _
  rw [Ideal.ofBits_zero_f32, zero_add]
  show _ = ∑ d, _
  refine Finset.sum_congr rfl fun d _ => ?_
  rw [unpacked_apply v hp s r hv]
  congr 1
  exact shapeCast_apply _ _ _ _ (by
    rw [Shape.rowMajor_val_three, Shape.rowMajor_val_two]
    show (0 * 2048 + d.val) * 2048 + f.val = d.val * 2048 + f.val
    omega)

/-- The gate half and the up half. -/
def gateHalf (a : FVec Ideal S512x2048 .f32) : FVec Ideal S512x1024 .f32 := extractStridedSlice S512x1024 ![0, 0] a slices_S512x2048_o0_0_S512x1024
def upHalf (a : FVec Ideal S512x2048 .f32) : FVec Ideal S512x1024 .f32 := extractStridedSlice S512x1024 ![0, 1024] a slices_S512x2048_o0_1024_S512x1024

theorem gateHalf_apply (a : FVec Ideal S512x2048 .f32) (s : Fin 512) (f : Fin 1024) :
    gateHalf a (ix2 (n0 := 512) (n1 := 1024) s f) = a (ix2 (n0 := 512) (n1 := 2048) s ⟨f.val, by omega⟩) :=
  extractStridedSlice_apply _ _ _ _ _ (fun b => by
    match b with
    | ⟨0, _⟩ => show s.val = 0 + s.val; omega
    | ⟨1, _⟩ => show f.val = 0 + f.val; omega)
theorem upHalf_apply (a : FVec Ideal S512x2048 .f32) (s : Fin 512) (f : Fin 1024) :
    upHalf a (ix2 (n0 := 512) (n1 := 1024) s f) = a (ix2 (n0 := 512) (n1 := 2048) s ⟨f.val + 1024, by omega⟩) :=
  extractStridedSlice_apply _ _ _ _ _ (fun b => by
    match b with
    | ⟨0, _⟩ => show s.val = 0 + s.val; omega
    | ⟨1, _⟩ => show f.val + 1024 = 1024 + f.val; omega)

/-- The hidden rows of the products. -/
def hidden (g u : FVec Ideal S512x1024 .f32) : FVec Ideal S512x1024 .bf16 :=
  truncf .bf16 (mulf (mulf g (divf (broadcast S512x1024 (Scalar.ofBits (F := Ideal) .f32 0x3F800000#32)) (addf (broadcast S512x1024 (Scalar.ofBits (F := Ideal) .f32 0x3F800000#32)) (exp (subf (broadcast S512x1024 (Scalar.ofBits (F := Ideal) .f32 0x00000000#32)) g))))) u) bitsLt_bf16_f32

theorem hidden_apply (g u : FVec Ideal S512x1024 .f32) (i : S512x1024.Idx) : hidden g u i = Spec.gated (g i) (u i) := by
  show (g i * Ideal.div (Ideal.ofBits .f32 0x3F800000#32) (Ideal.ofBits .f32 0x3F800000#32 + Ideal.exp (Ideal.ofBits .f32 0x00000000#32 - g i))) * u i = _
  rw [Ideal.ofBits_one_f32, Ideal.ofBits_zero_f32, zero_sub]
  rfl

theorem pay4_eq (v : IVec S1x512x1024 32) (w : FVec Ideal S1x2048x2048 .bf16) (z : IVec S1x8x128 32) :
    k0_pay4 (F := Ideal) v w z = hidden (gateHalf (products v w z)) (upHalf (products v w z)) := rfl

/-! ## The output -/

def outProduct (x : FVec Ideal S512x1024 .bf16) (w : FVec Ideal S1x1024x2048 .bf16) (z : IVec S1x8x128 32) : FVec Ideal S512x2048 .f32 :=
  addf (matmul dot_S512x1024_S1024x2048_S512x2048_1_0_0_1_n_n none x (shapeCast S1024x2048 w shapeCasts_S1x1024x2048_S1024x2048)
    (constant S512x2048 .f32 0x00000000#32)) (tiles z)

theorem outProduct_apply (x : FVec Ideal S512x1024 .bf16) (w : FVec Ideal S1x1024x2048 .bf16) (s : Fin 512) (d : Fin 2048) :
    outProduct x w (fun _ => 0#32) (ix2 (n0 := 512) (n1 := 2048) s d)
      = Spec.through (fun f => x (ix2 (n0 := 512) (n1 := 1024) s f)) (fun f d => w (ix3 (n0 := 1) (n1 := 1024) (n2 := 2048) 0 f d)) d := by
  show FloatOps.matmul (DotDims.plain 512 1024 2048) none x (shapeCast S1024x2048 w shapeCasts_S1x1024x2048_S1024x2048)
    (constant (F := Ideal) S512x2048 .f32 0x00000000#32) (ix2 (n0 := 512) (n1 := 2048) s d) + tiles (fun _ => 0#32) (ix2 (n0 := 512) (n1 := 2048) s d) = _
  rw [tiles_zero, add_zero]
  refine (Ideal.matmul_plain_apply none x (shapeCast S1024x2048 w shapeCasts_S1x1024x2048_S1024x2048) _ s d).trans ?_
  show Ideal.ofBits .f32 0x00000000#32 + _ = _
  rw [Ideal.ofBits_zero_f32, zero_add]
  show _ = ∑ f, _
  refine Finset.sum_congr rfl fun f _ => ?_
  congr 1
  exact shapeCast_apply _ _ _ _ (by
    rw [Shape.rowMajor_val_three, Shape.rowMajor_val_two]
    show (0 * 1024 + f.val) * 2048 + d.val = f.val * 2048 + d.val
    omega)

theorem pay2_eq (x : FVec Ideal S512x1024 .bf16) (w : FVec Ideal S1x1024x2048 .bf16) (z : IVec S1x8x128 32) :
    k0_pay2 (F := Ideal) x w z
      = interleaveRows S1024x1024 (truncf .bf16 (gateHalf (outProduct x w z)) bitsLt_bf16_f32 : FVec Ideal S512x1024 .bf16) (truncf .bf16 (upHalf (outProduct x w z)) bitsLt_bf16_f32 : FVec Ideal S512x1024 .bf16) bitcasts_S1024x1024_w16_S512x1024_w32 := rfl

/-- Rows `2s` and `2s + 1` of the block are the two halves of the product's row `s`. -/
theorem pay2_apply (x : FVec Ideal S512x1024 .bf16) (w : FVec Ideal S1x1024x2048 .bf16) (p : Fin 1024) (k : Fin 1024) :
    k0_pay2 (F := Ideal) x w (fun _ => 0#32) (ix2 (n0 := 1024) (n1 := 1024) p k)
      = Spec.through (fun f => x (ix2 (n0 := 512) (n1 := 1024) ⟨p.val / 2, by omega⟩ f)) (fun f d => w (ix3 (n0 := 1) (n1 := 1024) (n2 := 2048) 0 f d))
          ⟨p.val % 2 * 1024 + k.val, by omega⟩ := by
  rw [pay2_eq]
  have ej : ∀ (A : S512x1024.Idx → EReal) (B : S512x1024.Idx → EReal),
      interleaveRows S1024x1024 A B bitcasts_S1024x1024_w16_S512x1024_w32 (ix2 (n0 := 1024) (n1 := 1024) p k)
        = if p.val % 2 = 0 then A (ix2 (n0 := 512) (n1 := 1024) ⟨p.val / 2, by omega⟩ k) else B (ix2 (n0 := 512) (n1 := 1024) ⟨p.val / 2, by omega⟩ k) := by
    intro A B
    unfold interleaveRows
    have e : ∀ b : Fin 2, (⟨0, by omega⟩ : Fin 2) = b ∨ ⟨1, by omega⟩ = b := by decide
    show (if p.val % 2 = 0 then A _ else B _) = _
    congr 2 <;> (funext b; apply Fin.ext; match b with | ⟨0, _⟩ => rfl | ⟨1, _⟩ => rfl)
  refine (ej _ _).trans ?_
  by_cases h : p.val % 2 = 0
  · rw [if_pos h]
    refine (gateHalf_apply _ _ _).trans ((outProduct_apply _ _ _ _).trans ?_)
    congr 1
    apply Fin.ext
    show k.val = p.val % 2 * 1024 + k.val
    omega
  · rw [if_neg h]
    refine (upHalf_apply _ _ _).trans ((outProduct_apply _ _ _ _).trans ?_)
    congr 1
    apply Fin.ext
    show k.val + 1024 = p.val % 2 * 1024 + k.val
    omega

theorem rows_apply (ix : Fin 512 → ℕ) (hp : HpBuf) (s : Fin 512) (k : Fin 1024) :
    rows ix hp (ix3 (n0 := 1) (n1 := 512) (n2 := 1024) 0 s k) = hp (ix2 (n0 := 16384) (n1 := 1024) ⟨ix s % 16384, Nat.mod_lt _ (by decide)⟩ k) := by
  unfold rows gath
  congr 2
  apply Fin.ext
  show ix ⟨s.val % 512, _⟩ % 16384 = ix s % 16384
  congr 2
  apply Fin.ext
  exact Nat.mod_eq_of_lt s.isLt

/-- A used block's output. -/
theorem outUsed_apply (ix : Fin 512 → ℕ) (hp : HpBuf) (w13 : FVec Ideal S1x2048x2048 .bf16) (w2 : FVec Ideal S1x1024x2048 .bf16)
    (p : Fin 1024) (k : Fin 1024) :
    outUsed (F := Ideal) ix hp w13 w2 (ix2 (n0 := 1024) (n1 := 1024) p k)
      = Spec.expert (Spec.act hp ⟨ix ⟨p.val / 2, by omega⟩ % 16384, Nat.mod_lt _ (by decide)⟩)
          (fun d f => w13 (ix3 (n0 := 1) (n1 := 2048) (n2 := 2048) 0 d ⟨f.val, by omega⟩))
          (fun d f => w13 (ix3 (n0 := 1) (n1 := 2048) (n2 := 2048) 0 d ⟨f.val + 1024, by omega⟩))
          (fun f d => w2 (ix3 (n0 := 1) (n1 := 1024) (n2 := 2048) 0 f d)) ⟨p.val % 2 * 1024 + k.val, by omega⟩ := by
  unfold outUsed
  refine (pay2_apply _ _ p k).trans ?_
  unfold Spec.expert
  congr 1
  funext f
  rw [pay4_eq, hidden_apply, gateHalf_apply, upHalf_apply,
    products_apply _ _ hp _ _ (fun k => rows_apply ix hp ⟨p.val / 2, by omega⟩ k),
    products_apply _ _ hp _ _ (fun k => rows_apply ix hp ⟨p.val / 2, by omega⟩ k)]
  rfl

end Cert.KernelIdeal.Hand

end
-- ==== Proof.IOut.lean ====
/-
  The output array after the run, element by element over the extended reals: the layer of VSpec.
-/
module

public import proofs.«01_k».proof.Proof.IVal
public import proofs.«01_k».proof.Proof.IBodyOb
public import Idealize.ShloMosaic.Lib.Pipeline.Value

@[expose] public section

noncomputable section

namespace Cert.KernelIdeal.Hand

open Cert.KernelIdeal Cert.KernelIdeal.Gen
open Idealize.ShloMosaic Idealize.ShloMosaic.TcCoe
open Idealize.ShloMosaic.ValueIdx (ix1 ix2 ix3)
open Idealize.ShloMosaic.Pipeline (Dat Cfg Window)

variable (m : (ℓ : Loc nD τ sig) → Buf (Elt Ideal) ℓ) (h : InRange m)

/-! ## The weights as the region finds them -/

theorem V_v1 (c : Dev nD) : (V m c main_v1 : FVec Ideal S16x2048x2048 .bf16)
    = truncf .bf16 (concatenate S16x2048x2048 2 [⟨S16x2048x1024, (m ((c : Thread nD τ).loc main_arg4) : FVec Ideal S16x2048x1024 .f32)⟩, ⟨S16x2048x1024, (m ((c : Thread nD τ).loc main_arg5) : FVec Ideal S16x2048x1024 .f32)⟩] concatenates_S16x2048x1024_S16x2048x1024_S16x2048x2048_d2 : FVec Ideal S16x2048x2048 .f32) bitsLt_bf16_f32 := by
  unfold V hostOps0
  after_results_simp <;> rfl

theorem V_v2 (c : Dev nD) : (V m c main_v2 : FVec Ideal S16x1024x2048 .bf16)
    = (truncf .bf16 (m ((c : Thread nD τ).loc main_arg6) : FVec Ideal S16x1024x2048 .f32) bitsLt_bf16_f32 : FVec Ideal S16x1024x2048 .bf16) := by
  unfold V hostOps0
  after_results_simp <;> rfl

/-- A gate weight. -/
theorem v1_gate (c : Dev nD) (e : Fin 16) (d : Fin 2048) (f : Fin 1024) :
    (V m c main_v1 : FVec Ideal S16x2048x2048 .bf16) (ix3 (n0 := 16) (n1 := 2048) (n2 := 2048) e d ⟨f.val, by omega⟩)
      = (m ((c : Thread nD τ).loc main_arg4) : FVec Ideal S16x2048x1024 .f32) (ix3 (n0 := 16) (n1 := 2048) (n2 := 1024) e d f) := by
  rw [V_v1]
  exact concatenate_pair_apply_left (t := S16x2048x2048) (s₁ := S16x2048x1024) (s₂ := S16x2048x1024) 2 (m ((c : Thread nD τ).loc main_arg4)) (m ((c : Thread nD τ).loc main_arg5))
    concatenates_S16x2048x1024_S16x2048x1024_S16x2048x2048_d2 _ rfl
    (ix3 (n0 := 16) (n1 := 2048) (n2 := 1024) e d f) (fun b => by match b with | ⟨0, _⟩ => rfl | ⟨1, _⟩ => rfl | ⟨2, _⟩ => rfl)

theorem pair_up (A B : FVec Ideal S16x2048x1024 .f32) (e : Fin 16) (d : Fin 2048) (f : Fin 1024) (k : Fin 2048) (hk : k.val = f.val + 1024) :
    concatenate S16x2048x2048 2 [⟨S16x2048x1024, A⟩, ⟨S16x2048x1024, B⟩] concatenates_S16x2048x1024_S16x2048x1024_S16x2048x2048_d2
        (ix3 (n0 := 16) (n1 := 2048) (n2 := 2048) e d k)
      = B (ix3 (n0 := 16) (n1 := 2048) (n2 := 1024) e d f) := by
  refine concatenate_pair_apply_right (t := S16x2048x2048) (s₁ := S16x2048x1024) (s₂ := S16x2048x1024) 2 A B
    concatenates_S16x2048x1024_S16x2048x1024_S16x2048x2048_d2 (ix3 (n0 := 16) (n1 := 2048) (n2 := 2048) e d k) rfl rfl
    (ix3 (n0 := 16) (n1 := 2048) (n2 := 1024) e d f) (fun b hb => ?_) hk.symm
  match b with
  | ⟨0, _⟩ => rfl
  | ⟨1, _⟩ => rfl
  | ⟨2, _⟩ => exact absurd rfl hb

/-- An up weight. -/
theorem v1_up (c : Dev nD) (e : Fin 16) (d : Fin 2048) (f : Fin 1024) :
    (V m c main_v1 : FVec Ideal S16x2048x2048 .bf16) (ix3 (n0 := 16) (n1 := 2048) (n2 := 2048) e d ⟨f.val + 1024, by omega⟩)
      = (m ((c : Thread nD τ).loc main_arg5) : FVec Ideal S16x2048x1024 .f32) (ix3 (n0 := 16) (n1 := 2048) (n2 := 1024) e d f) := by
  rw [V_v1]
  exact pair_up _ _ e d f _ rfl

/-! ## The weight blocks of a point -/

/-- The expert of block `n`. -/
def expertOf (c : Dev nD) (n : Fin 80) : Fin 16 :=
  ⟨((V m c main_arg0 : S80.Idx → BitVec 32) (ix1 (n := 80) n)).toNat % 16, Nat.mod_lt _ (by decide)⟩

theorem coords_val : ∀ t : Fin grid0.N, (grid0.coords t 0).val = t.val := by decide +kernel

include h in
theorem table_val (t : Fin 80) : ((tables m 0 : S80.Idx → BitVec 32) (ix1 (n := 80) t)).toNat = (expertOf m 0 t).val :=
  (Nat.mod_eq_of_lt (h.te 0 (ix1 (n := 80) t))).symm

theorem blk13_apply (t : Fin (cfg0 (adm m h 0)).N) (ht : t.val < 80) (d f : Fin 2048) :
    blk13 m h 0 t (ix3 (n0 := 1) (n1 := 2048) (n2 := 2048) 0 d f)
      = (V m 0 main_v1 : FVec Ideal S16x2048x2048 .bf16) (ix3 (n0 := 16) (n1 := 2048) (n2 := 2048) (expertOf m 0 ⟨t.val, ht⟩) d f) := by
  show (V m 0 main_v1 : FVec Ideal S16x2048x2048 .bf16) _ = _
  congr 1
  funext a
  apply Fin.ext
  refine (Pipeline.Window.rect_emb_val (win0 (adm m h 0) 2) t (ix3 (n0 := 1) (n1 := 2048) (n2 := 2048) 0 d f) a).trans ?_
  show cc0_transform_3 k0_off1_inb numel1_S1 (tables m) (grid0.coords t) a * S1x2048x2048.size a + _ = _
  rw [t3_eq]
  have et : (⟨(grid0.coords t 0).val, lt80 (grid0.coords t)⟩ : Fin 80) = ⟨t.val, ht⟩ := Fin.ext (coords_val t)
  rw [et]
  fin_cases a
  · show ((tables m 0 : S80.Idx → BitVec 32) (ix1 (n := 80) ⟨t.val, ht⟩)).toNat * 1 + 0 = (expertOf m 0 ⟨t.val, ht⟩).val
    rw [table_val m h]; omega
  · show 0 * 2048 + d.val = d.val; omega
  · show 0 * 2048 + f.val = f.val; omega

theorem blk2_apply (t : Fin (cfg0 (adm m h 0)).N) (ht : t.val < 80) (f : Fin 1024) (d : Fin 2048) :
    blk2 m h 0 t (ix3 (n0 := 1) (n1 := 1024) (n2 := 2048) 0 f d)
      = (m ((0 : Dev nD), main_arg6) : FVec Ideal S16x1024x2048 .f32) (ix3 (n0 := 16) (n1 := 1024) (n2 := 2048) (expertOf m 0 ⟨t.val, ht⟩) f d) := by
  show (V m 0 main_v2 : FVec Ideal S16x1024x2048 .bf16) _ = _
  rw [V_v2]
  show (m ((0 : Dev nD), main_arg6) : FVec Ideal S16x1024x2048 .f32) _ = _
  congr 1
  funext a
  apply Fin.ext
  refine (Pipeline.Window.rect_emb_val (win0 (adm m h 0) 3) t (ix3 (n0 := 1) (n1 := 1024) (n2 := 2048) 0 f d) a).trans ?_
  show cc0_transform_4 k0_off1_inb numel1_S1 (tables m) (grid0.coords t) a * S1x1024x2048.size a + _ = _
  rw [t4_eq]
  have et : (⟨(grid0.coords t 0).val, lt80 (grid0.coords t)⟩ : Fin 80) = ⟨t.val, ht⟩ := Fin.ext (coords_val t)
  rw [et]
  fin_cases a
  · show ((tables m 0 : S80.Idx → BitVec 32) (ix1 (n := 80) ⟨t.val, ht⟩)).toNat * 1 + 0 = (expertOf m 0 ⟨t.val, ht⟩).val
    rw [table_val m h]; omega
  · show 0 * 1024 + f.val = f.val; omega
  · show 0 * 2048 + d.val = d.val; omega

/-! ## The output -/

/-- The layer, of the arguments. -/
def target : S81920x1024.Idx → EReal :=
  Spec.total (m ((0 : Dev nD), main_arg0)) (m ((0 : Dev nD), main_arg1)) (m ((0 : Dev nD), main_arg2)) (m ((0 : Dev nD), main_arg3))
    (m ((0 : Dev nD), main_arg4)) (m ((0 : Dev nD), main_arg5)) (m ((0 : Dev nD), main_arg6))

/-- What point `t` leaves of its block is block `t` of the layer. -/
theorem out_apply (t : Fin (cfg0 (adm m h 0)).N) (ht : t.val < 80) (p k : Fin 1024) :
    outAt (F := Ideal) (V m 0 main_arg3) (used m 0) (nums m 0) t.val (blk13 m h 0 t) (blk2 m h 0 t) (ix2 (n0 := 1024) (n1 := 1024) p k)
      = target m (ix2 (n0 := 81920) (n1 := 1024) ⟨t.val * 1024 + p.val, by omega⟩ k) := by
  have k0 := V_keep m 0 main_arg0 (by decide) (by decide) (by decide)
  have k1 := V_keep m 0 main_arg1 (by decide) (by decide) (by decide)
  have k2 := V_keep m 0 main_arg2 (by decide) (by decide) (by decide)
  have k3 := V_keep m 0 main_arg3 (by decide) (by decide) (by decide)
  have e0 : (⟨(t.val * 1024 + p.val) / 1024, by omega⟩ : Fin 80) = ⟨t.val, ht⟩ := Fin.ext (by show (t.val * 1024 + p.val) / 1024 = t.val; omega)
  have e1 : (⟨(t.val * 1024 + p.val) % 1024 / 2, by omega⟩ : Fin 512) = ⟨p.val / 2, by omega⟩ := Fin.ext (by show (t.val * 1024 + p.val) % 1024 / 2 = p.val / 2; omega)
  have e2 : (⟨(t.val * 1024 + p.val) % 2 * 1024 + k.val, by omega⟩ : Fin 2048) = ⟨p.val % 2 * 1024 + k.val, by omega⟩ :=
    Fin.ext (by show (t.val * 1024 + p.val) % 2 * 1024 + k.val = p.val % 2 * 1024 + k.val; omega)
  show _ = Spec.out _ _ _ _ _ _ _ ⟨(t.val * 1024 + p.val) / 1024, _⟩ ⟨(t.val * 1024 + p.val) % 1024 / 2, _⟩ ⟨(t.val * 1024 + p.val) % 2 * 1024 + k.val, _⟩
  rw [e0, e1, e2]
  unfold outAt Spec.out
  have eu : used m 0 = ((m ((0 : Dev nD), main_arg1) : S1.Idx → BitVec 32) (ix1 (n := 1) 0)).toNat := congrArg (fun v : S1.Idx → BitVec 32 => (v (ix1 (n := 1) 0)).toNat) k1
  rw [eu]
  by_cases hu : t.val < ((m ((0 : Dev nD), main_arg1) : S1.Idx → BitVec 32) (ix1 (n := 1) 0)).toNat
  · rw [if_pos hu, if_pos hu]
    refine (outUsed_apply (nums m 0 t.val) (V m 0 main_arg3) (blk13 m h 0 t) (blk2 m h 0 t) p k).trans ?_
    have en : nums m 0 t.val ⟨p.val / 2, by omega⟩ = ((m ((0 : Dev nD), main_arg2) : S80x1x512.Idx → BitVec 32) (ix3 (n0 := 80) (n1 := 1) (n2 := 512) ⟨t.val, ht⟩ 0 ⟨p.val / 2, by omega⟩)).toNat := by
      have em : (⟨min t.val 79, by omega⟩ : Fin 80) = ⟨t.val, ht⟩ := Fin.ext (by show min t.val 79 = t.val; omega)
      unfold nums
      rw [em]
      exact congrArg (fun v : S80x1x512.Idx → BitVec 32 => (v (ix3 (n0 := 80) (n1 := 1) (n2 := 512) ⟨t.val, ht⟩ 0 ⟨p.val / 2, by omega⟩)).toNat) k2
    have ee : expertOf m 0 ⟨t.val, ht⟩ = ⟨((m ((0 : Dev nD), main_arg0) : S80.Idx → BitVec 32) (ix1 (n := 80) ⟨t.val, ht⟩)).toNat % 16, Nat.mod_lt _ (by decide)⟩ :=
      Fin.ext (congrArg (fun v : S80.Idx → BitVec 32 => (v (ix1 (n := 80) ⟨t.val, ht⟩)).toNat % 16) k0)
    have er : (⟨nums m 0 t.val ⟨p.val / 2, by omega⟩ % 16384, Nat.mod_lt _ (by decide)⟩ : Fin 16384)
        = ⟨((m ((0 : Dev nD), main_arg2) : S80x1x512.Idx → BitVec 32) (ix3 (n0 := 80) (n1 := 1) (n2 := 512) ⟨t.val, ht⟩ 0 ⟨p.val / 2, by omega⟩)).toNat % 16384, Nat.mod_lt _ (by decide)⟩ :=
      Fin.ext (congrArg (· % 16384) en)
    refine Spec.expert_congr _ ?_ (fun d f => ?_) (fun d f => ?_) (fun f d => ?_)
    · rw [er]
      exact congrArg (fun v : S16384x1024.Idx → BitVec 32 => Spec.act v _) k3
    · rw [blk13_apply m h t ht, ee]
      exact v1_gate m 0 _ d f
    · rw [blk13_apply m h t ht, ee]
      exact v1_up m 0 _ d f
    · rw [blk2_apply m h t ht, ee]
  · rw [if_neg hu, if_neg hu]
    exact Ideal.ofBits_zero_bf16

theorem flush_4 (t : Fin (cfg0 (adm m h 0)).N) : ((cfg0 (adm m h 0)).win 4).flush t = true := by
  refine (Window.flush_out _ rfl t).mpr ?_
  by_cases hl : t.val + 1 = grid0.N
  · exact Or.inl hl
  · refine Or.inr ⟨by have := t.isLt; show t.val + 1 < grid0.N; have : t.val < grid0.N := t.isLt; omega, fun e => ?_⟩
    have e : cc0_transform_5 (grid0.coords ⟨t.val + 1, _⟩) = cc0_transform_5 (grid0.coords t) := e
    rw [t5_eq, t5_eq] at e
    have := congrFun e 0
    exact absurd this (by show ¬ t.val + 1 = t.val; omega)

/-- Every element lies in a point's block. -/
theorem cover_4 (i : S81920x1024.Idx) : ∃ t : Fin (cfg0 (adm m h 0)).N,
    ((cfg0 (adm m h 0)).win 4).flush t = true ∧ i ∈ (((cfg0 (adm m h 0)).win 4).blk t).view.set := by
  have h0 : (i 0).val < 81920 := (i 0).isLt
  have h1 : (i 1).val < 1024 := (i 1).isLt
  refine ⟨⟨(i 0).val / 1024, by rw [show (cfg0 (adm m h 0)).N = 80 from N_0]; omega⟩, flush_4 m h _, ?_⟩
  refine Finset.mem_map.mpr ⟨ix2 (n0 := 1024) (n1 := 1024) ⟨(i 0).val % 1024, by omega⟩ ⟨(i 1).val, h1⟩, Finset.mem_univ _, ?_⟩
  funext a
  apply Fin.ext
  refine (Pipeline.Window.rect_emb_val (win0 (adm m h 0) 4) _ (ix2 (n0 := 1024) (n1 := 1024) ⟨(i 0).val % 1024, by omega⟩ ⟨(i 1).val, h1⟩) a).trans ?_
  show cc0_transform_5 (grid0.coords _) a * S1024x1024.size a + _ = _
  rw [t5_eq]
  fin_cases a
  · show (i 0).val / 1024 * 1024 + (i 0).val % 1024 = (i 0).val; omega
  · show 0 * 1024 + (i 1).val = (i 1).val; omega

/-- The output array after the run. -/
theorem arr_eq : ((dats m h 0 0).arrAt 4 (cfg0 (adm m h 0)).N : S81920x1024.Idx → EReal) = target m := by
  refine Dat.arrAt_eq_of_cover (dat := dats m h 0 0) 4 (target m) (fun t _ => ?_) (fun i => ?_)
  · have ht : t.val < 80 := t.isLt.trans_eq N_0
    refine (after_4 m h 0 t).trans ?_
    funext y
    obtain ⟨p, k, rfl⟩ : ∃ p k : Fin 1024, y = ix2 (n0 := 1024) (n1 := 1024) p k := ⟨y 0, y 1, ValueIdx.eq_ix2 y⟩
    refine (out_apply m h t ht p k).trans ?_
    show target m _ = target m _
    congr 1
    funext a
    apply Fin.ext
    refine Eq.symm ((Pipeline.Window.rect_emb_val (win0 (adm m h 0) 4) t (ix2 (n0 := 1024) (n1 := 1024) p k) a).trans ?_)
    show cc0_transform_5 (grid0.coords t) a * S1024x1024.size a + _ = _
    rw [t5_eq t]
    fin_cases a
    · rfl
    · show 0 * 1024 + k.val = k.val; omega
  · exact cover_4 m h i

end Cert.KernelIdeal.Hand

end
-- ==== Proof.RVal.lean ====
/-
  The reference's result, element by element: the layer of VSpec.
-/
module

public import proofs.«01_k».proof.Proof.VSpec
public import proofs.«01_k».proof.Proof.VGather
public import proofs.«01_k».proof.Proof.Gen.ReferenceIdeal
public import proofs.«01_k».proof.Proof.Gen.ReferenceIdeal.Run
public import Idealize.ShloMosaic.Lib.StackMember
public import Idealize.ShloMosaic.Lib.IdealHost

@[expose] public section

noncomputable section

namespace Cert.ReferenceIdeal.Hand

open Cert.ReferenceIdeal Cert.ReferenceIdeal.Gen Cert.ReferenceIdeal.Value
open Idealize.ShloMosaic Idealize.ShloMosaic.TcCoe
open Idealize.ShloMosaic.ValueIdx (ix1 ix2 ix3)

/-- The activations, unpacked. -/
def acts (hp : IVec S16384x1024 32) : FVec Ideal S16384x2048 .f32 :=
  concatenate S16384x2048 1 [⟨S16384x1024, (bitcastToFloat (F := Ideal) .f32 (Host.shli hp (broadcastInDim S16384x1024 ![] bcast_S_S16384x1024 (constantI S_ 32 16#32))))⟩, ⟨S16384x1024, (bitcastToFloat (F := Ideal) .f32 (andi hp (broadcastInDim S16384x1024 ![] bcast_S_S16384x1024 (constantI S_ 32 4294901760#32))))⟩] concatenates_S16384x1024_S16384x1024_S16384x2048_d1

theorem acts_apply (hp : IVec S16384x1024 32) (r : Fin 16384) (d : Fin 2048) :
    acts hp (ix2 (n0 := 16384) (n1 := 2048) r d) = Spec.act hp r d := by
  unfold acts Spec.act
  by_cases h : d.val < 1024
  · rw [dif_pos h, concatenate_pair_apply_left (t := S16384x2048) (s₁ := S16384x1024) (s₂ := S16384x1024) 1 _ _ _ (ix2 (n0 := 16384) (n1 := 2048) r d) rfl (ix2 (n0 := 16384) (n1 := 1024) r ⟨d.val, h⟩)
      (fun b => by match b with | ⟨0, _⟩ => rfl | ⟨1, _⟩ => rfl)]
    show Ideal.ofBits .f32 (IntOp.shli .host (hp _) 16#32) = _
    rw [ValueIdx.shli_host]
    rfl
  · rw [dif_neg h, concatenate_pair_apply_right (t := S16384x2048) (s₁ := S16384x1024) (s₂ := S16384x1024) 1 _ _ _ (ix2 (n0 := 16384) (n1 := 2048) r d) rfl rfl (ix2 (n0 := 16384) (n1 := 1024) r ⟨d.val - 1024, by omega⟩)
      (fun b => by match b with | ⟨0, _⟩ => exact fun _ => rfl | ⟨1, _⟩ => exact fun hb => absurd rfl hb)
      (by show d.val - 1024 + 1024 = d.val; omega)]
    rfl

/-- The row numbers, a negative one wrapped. -/
def rowIdx (src : IVec S80x1x512 32) : IVec S80x512x1 32 :=
  broadcastInDim S80x512x1 ![0, 1] bcast_S80x512_S80x512x1_0_1 (select (cmpi .slt (shapeCast _ src shapeCasts_S80x1x512_S80x512) (broadcastInDim S80x512 ![] bcast_S_S80x512 (constantI S_ 32 0#32))) (addi (shapeCast _ src shapeCasts_S80x1x512_S80x512) (broadcastInDim S80x512 ![] bcast_S_S80x512 (constantI S_ 32 16384#32))) (shapeCast _ src shapeCasts_S80x1x512_S80x512))

theorem rowIdx_apply (src : IVec S80x1x512 32) (t : Fin 80) (s : Fin 512) :
    rowIdx src (ix3 (n0 := 80) (n1 := 512) (n2 := 1) t s 0)
      = Scalar.select (IntOp.cmpi .slt (src (ix3 (n0 := 80) (n1 := 1) (n2 := 512) t 0 s)) 0#32)
          (IntOp.addi (src (ix3 (n0 := 80) (n1 := 1) (n2 := 512) t 0 s)) 16384#32) (src (ix3 (n0 := 80) (n1 := 1) (n2 := 512) t 0 s)) := by
  have e : (shapeCast S80x512 src shapeCasts_S80x1x512_S80x512) (ix2 (n0 := 80) (n1 := 512) t s) = src (ix3 (n0 := 80) (n1 := 1) (n2 := 512) t 0 s) :=
    shapeCast_apply _ _ _ _ (by
      rw [Shape.rowMajor_val_three, Shape.rowMajor_val_two]
      show (t.val * 1 + 0) * 512 + s.val = t.val * 512 + s.val
      omega)
  unfold rowIdx
  rw [broadcastInDim_apply _ _ _ _ (ix2 (n0 := 80) (n1 := 512) t s) (fun a => by match a with | ⟨0, _⟩ => rfl | ⟨1, _⟩ => rfl)]
  show Scalar.select (IntOp.cmpi .slt (shapeCast S80x512 src shapeCasts_S80x1x512_S80x512 (ix2 (n0 := 80) (n1 := 512) t s)) 0#32)
    (IntOp.addi (shapeCast S80x512 src shapeCasts_S80x1x512_S80x512 (ix2 (n0 := 80) (n1 := 512) t s)) 16384#32)
    (shapeCast S80x512 src shapeCasts_S80x1x512_S80x512 (ix2 (n0 := 80) (n1 := 512) t s)) = _
  rw [e]

/-- The blocks' experts, likewise. -/
def expIdx (te : IVec S80 32) : IVec S80x1 32 :=
  broadcastInDim S80x1 ![0] bcast_S80_S80x1_0 (select (cmpi .slt te (broadcastInDim S80 ![] bcast_S_S80 (constantI S_ 32 0#32))) (addi te (broadcastInDim S80 ![] bcast_S_S80 (constantI S_ 32 16#32))) te)

theorem expIdx_apply (te : IVec S80 32) (t : Fin 80) :
    expIdx te (ix2 (n0 := 80) (n1 := 1) t 0)
      = Scalar.select (IntOp.cmpi .slt (te (ix1 (n := 80) t)) 0#32) (IntOp.addi (te (ix1 (n := 80) t)) 16#32) (te (ix1 (n := 80) t)) := by
  unfold expIdx
  rw [broadcastInDim_apply _ _ _ _ (ix1 (n := 80) t) (fun a => by match a with | ⟨0, _⟩ => rfl)]
  rfl

/-- The gathered rows. -/
def x (src : IVec S80x1x512 32) (hp : IVec S16384x1024 32) : FVec Ideal S80x512x2048 .f32 :=
  Host.gather gather_S16384x2048_S80x512x1_S80x512x2048_2_0_n_n_0_2_12048 (acts hp) (rowIdx src)

theorem x_apply (src : IVec S80x1x512 32) (hp : IVec S16384x1024 32) (hs : ∀ i, (src i).toNat < 16384) (t : Fin 80) (s : Fin 512) (d : Fin 2048) :
    x src hp (ix3 (n0 := 80) (n1 := 512) (n2 := 2048) t s d)
      = Spec.act hp ⟨(src (ix3 (n0 := 80) (n1 := 1) (n2 := 512) t 0 s)).toNat % 16384, Nat.mod_lt _ (by decide)⟩ d := by
  refine (Spec.gather_rows (by decide) _ (acts hp) (rowIdx src) t s d).trans ?_
  rw [acts_apply]
  congr 1
  apply Fin.ext
  show min (rowIdx src (ix3 (n0 := 80) (n1 := 512) (n2 := 1) t s 0)).toInt.toNat (16384 - 1) = _
  rw [rowIdx_apply]
  exact Spec.wrap _ _ 16384 (hs _) (by decide)

/-- The gathered gate and up matrices. -/
def e13 (te : IVec S80 32) (w : FVec Ideal S16x2048x1024 .f32) : FVec Ideal S80x2048x1024 .f32 :=
  Host.gather gather_S16x2048x1024_S80x1_S80x2048x1024_12_0_n_n_0_1_120481024 w (expIdx te)

theorem e13_apply (te : IVec S80 32) (w : FVec Ideal S16x2048x1024 .f32) (ht : ∀ i, (te i).toNat < 16) (t : Fin 80) (d : Fin 2048) (f : Fin 1024) :
    e13 te w (ix3 (n0 := 80) (n1 := 2048) (n2 := 1024) t d f)
      = w (ix3 (n0 := 16) (n1 := 2048) (n2 := 1024) ⟨(te (ix1 (n := 80) t)).toNat % 16, Nat.mod_lt _ (by decide)⟩ d f) := by
  refine (Spec.gather_mats (by decide) _ w (expIdx te) t d f).trans ?_
  congr 2
  apply Fin.ext
  show min (expIdx te (ix2 (n0 := 80) (n1 := 1) t 0)).toInt.toNat (16 - 1) = _
  rw [expIdx_apply]
  exact Spec.wrap _ _ 16 (ht _) (by decide)

/-- The gathered down matrices. -/
def e2 (te : IVec S80 32) (w : FVec Ideal S16x1024x2048 .f32) : FVec Ideal S80x1024x2048 .f32 :=
  Host.gather gather_S16x1024x2048_S80x1_S80x1024x2048_12_0_n_n_0_1_110242048 w (expIdx te)

theorem e2_apply (te : IVec S80 32) (w : FVec Ideal S16x1024x2048 .f32) (ht : ∀ i, (te i).toNat < 16) (t : Fin 80) (f : Fin 1024) (d : Fin 2048) :
    e2 te w (ix3 (n0 := 80) (n1 := 1024) (n2 := 2048) t f d)
      = w (ix3 (n0 := 16) (n1 := 1024) (n2 := 2048) ⟨(te (ix1 (n := 80) t)).toNat % 16, Nat.mod_lt _ (by decide)⟩ f d) := by
  refine (Spec.gather_mats (by decide) _ w (expIdx te) t f d).trans ?_
  congr 2
  apply Fin.ext
  show min (expIdx te (ix2 (n0 := 80) (n1 := 1) t 0)).toInt.toNat (16 - 1) = _
  rw [expIdx_apply]
  exact Spec.wrap _ _ 16 (ht _) (by decide)

/-- The gate (or up) product. -/
def prod (te : IVec S80 32) (src : IVec S80x1x512 32) (hp : IVec S16384x1024 32) (w : FVec Ideal S16x2048x1024 .f32) : FVec Ideal S80x512x1024 .f32 :=
  Host.dotGeneral dot_S80x512x2048_S80x2048x1024_S80x512x1024_2_1_1_2_0_0 none (x src hp) (e13 te w)

theorem prod_apply (te : IVec S80 32) (src : IVec S80x1x512 32) (hp : IVec S16384x1024 32) (w : FVec Ideal S16x2048x1024 .f32)
    (ht : ∀ i, (te i).toNat < 16) (hs : ∀ i, (src i).toNat < 16384) (t : Fin 80) (s : Fin 512) (f : Fin 1024) :
    prod te src hp w (ix3 (n0 := 80) (n1 := 512) (n2 := 1024) t s f)
      = Spec.through (Spec.act hp ⟨(src (ix3 (n0 := 80) (n1 := 1) (n2 := 512) t 0 s)).toNat % 16384, Nat.mod_lt _ (by decide)⟩)
          (fun d f => w (ix3 (n0 := 16) (n1 := 2048) (n2 := 1024) ⟨(te (ix1 (n := 80) t)).toNat % 16, Nat.mod_lt _ (by decide)⟩ d f)) f := by
  refine (StackMember.dotGeneral_stack_apply _ none (x src hp) (e13 te w) t s f).trans ?_
  unfold Spec.through
  refine Finset.sum_congr rfl fun d _ => ?_
  rw [x_apply _ _ hs, e13_apply _ _ ht]

/-- The hidden rows. -/
def hidden (g u : FVec Ideal S80x512x1024 .f32) : FVec Ideal S80x512x1024 .f32 :=
  mulf (mulf g (Host.divf (broadcastInDim S80x512x1024 ![] bcast_S_S80x512x1024 (constant S_ .f32 0x3F800000#32)) (addf (broadcastInDim S80x512x1024 ![] bcast_S_S80x512x1024 (constant S_ .f32 0x3F800000#32)) (Host.exp (Host.negf g))))) u

theorem hidden_apply (g u : FVec Ideal S80x512x1024 .f32) (i : S80x512x1024.Idx) : hidden g u i = Spec.gated (g i) (u i) := by
  show (g i * Ideal.div (Ideal.ofBits .f32 0x3F800000#32) (Ideal.ofBits .f32 0x3F800000#32 + Ideal.exp (-(g i)))) * u i = _
  rw [Ideal.ofBits_one_f32]
  rfl

/-- The down product. -/
def down (te : IVec S80 32) (src : IVec S80x1x512 32) (hp : IVec S16384x1024 32) (w1 w3 : FVec Ideal S16x2048x1024 .f32) (w2 : FVec Ideal S16x1024x2048 .f32) :
    FVec Ideal S80x512x2048 .f32 :=
  Host.dotGeneral dot_S80x512x1024_S80x1024x2048_S80x512x2048_2_1_1_2_0_0 none (hidden (prod te src hp w1) (prod te src hp w3)) (e2 te w2)

theorem down_apply (te : IVec S80 32) (src : IVec S80x1x512 32) (hp : IVec S16384x1024 32) (w1 w3 : FVec Ideal S16x2048x1024 .f32) (w2 : FVec Ideal S16x1024x2048 .f32)
    (ht : ∀ i, (te i).toNat < 16) (hs : ∀ i, (src i).toNat < 16384) (t : Fin 80) (s : Fin 512) (d : Fin 2048) :
    down te src hp w1 w3 w2 (ix3 (n0 := 80) (n1 := 512) (n2 := 2048) t s d)
      = Spec.expert (Spec.act hp ⟨(src (ix3 (n0 := 80) (n1 := 1) (n2 := 512) t 0 s)).toNat % 16384, Nat.mod_lt _ (by decide)⟩)
          (fun d f => w1 (ix3 (n0 := 16) (n1 := 2048) (n2 := 1024) ⟨(te (ix1 (n := 80) t)).toNat % 16, Nat.mod_lt _ (by decide)⟩ d f))
          (fun d f => w3 (ix3 (n0 := 16) (n1 := 2048) (n2 := 1024) ⟨(te (ix1 (n := 80) t)).toNat % 16, Nat.mod_lt _ (by decide)⟩ d f))
          (fun f d => w2 (ix3 (n0 := 16) (n1 := 1024) (n2 := 2048) ⟨(te (ix1 (n := 80) t)).toNat % 16, Nat.mod_lt _ (by decide)⟩ f d)) d := by
  refine (StackMember.dotGeneral_stack_apply _ none (hidden (prod te src hp w1) (prod te src hp w3)) (e2 te w2) t s d).trans ?_
  unfold Spec.expert
  show _ = ∑ f, _
  refine Finset.sum_congr rfl fun f _ => ?_
  rw [hidden_apply, prod_apply te src hp w1 ht hs, prod_apply te src hp w3 ht hs, e2_apply _ _ ht]

/-- Which blocks are used. -/
def used (nv : IVec S1 32) : IVec S80x512x2048 1 :=
  broadcastInDim S80x512x2048 ![0, 1, 2] bcast_S80x1x1_S80x512x2048_0_1_2 (cmpi .slt (broadcastInDim S80x1x1 ![0] bcast_S80_S80x1x1_0 (iotaInDim S80 32 0)) (broadcastInDim S80x1x1 ![] bcast_S_S80x1x1 (shapeCast _ nv shapeCasts_S1_S_)))

theorem used_apply (nv : IVec S1 32) (t : Fin 80) (s : Fin 512) (d : Fin 2048) :
    used nv (ix3 (n0 := 80) (n1 := 512) (n2 := 2048) t s d) = IntOp.cmpi .slt (BitVec.ofNat 32 t.val) (nv (ix1 (n := 1) 0)) := by
  unfold used
  rw [broadcastInDim_apply _ _ _ _ (ix3 (n0 := 80) (n1 := 1) (n2 := 1) t 0 0) (fun a => by match a with | ⟨0, _⟩ => rfl | ⟨1, _⟩ => rfl | ⟨2, _⟩ => rfl)]
  show IntOp.cmpi .slt (broadcastInDim S80x1x1 ![0] bcast_S80_S80x1x1_0 (iotaInDim S80 32 0) (ix3 (n0 := 80) (n1 := 1) (n2 := 1) t 0 0))
    (broadcastInDim S80x1x1 ![] bcast_S_S80x1x1 (shapeCast _ nv shapeCasts_S1_S_) (ix3 (n0 := 80) (n1 := 1) (n2 := 1) t 0 0)) = _
  rw [broadcastInDim_apply _ _ _ _ (ix1 (n := 80) t) (fun a => by match a with | ⟨0, _⟩ => rfl),
    broadcastInDim_apply _ _ _ _ (fun a => a.elim0) (fun a => a.elim0),
    shapeCast_apply _ _ _ (ix1 (n := 1) 0) (by
      have h1 := (S1.rowMajor (ix1 (n := 1) 0)).isLt
      have h2 := (S_.rowMajor (fun a => a.elim0)).isLt
      have e1 : (⟨1, ![1]⟩ : Shape).numel = 1 := by decide
      have e2 : S_.numel = 1 := by decide
      omega)]
  rfl

theorem slt_small (t : ℕ) (ht : t < 80) (v : BitVec 32) (hv : v.toNat ≤ 80) : IntOp.cmpi .slt (BitVec.ofNat 32 t) v = 1#1 ↔ t < v.toNat := by
  refine IntOp.cmpi_slt.trans ?_
  have a : (BitVec.ofNat 32 t).toInt = t := by
    rw [BitVec.toInt_eq_toNat_cond, BitVec.toNat_ofNat, Nat.mod_eq_of_lt (by omega), if_pos (by omega)]
  have b : v.toInt = v.toNat := by rw [BitVec.toInt_eq_toNat_cond, if_pos (by omega)]
  rw [a, b]
  omega

/-- The result. -/
theorem res_eq (m : (ℓ : Loc nD τ sig) → Buf (Elt Ideal) ℓ) (c : Dev nD)
    (ht : ∀ i, ((m ((c.tc : Thread nD τ).loc main_arg0) : IVec S80 32) i).toNat < 16)
    (hn : ∀ i, ((m ((c.tc : Thread nD τ).loc main_arg1) : IVec S1 32) i).toNat ≤ 80)
    (hs : ∀ i, ((m ((c.tc : Thread nD τ).loc main_arg2) : IVec S80x1x512 32) i).toNat < 16384) :
    (res_main_v56 m c : FVec Ideal S81920x1024 .bf16)
      = Spec.total (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  show shapeCast S81920x1024 (truncf .bf16 (select (used (m ((c.tc : Thread nD τ).loc main_arg1)))
    (down (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)))
    (broadcastInDim S80x512x2048 ![] bcast_S_S80x512x2048 (constant (F := Ideal) S_ .f32 0x00000000#32))) bitsLt_bf16_f32) shapeCasts_S80x512x2048_S81920x1024 = _
  funext i
  have h0 : (i 0).val < 81920 := (i 0).isLt
  have h1 : (i 1).val < 1024 := (i 1).isLt
  rw [shapeCast_apply _ _ i (ix3 (n0 := 80) (n1 := 512) (n2 := 2048) ⟨(i 0).val / 1024, by omega⟩ ⟨(i 0).val % 1024 / 2, by omega⟩ ⟨(i 0).val % 2 * 1024 + (i 1).val, by omega⟩)
    (by
      rw [Shape.rowMajor_val_three, Shape.rowMajor_val_two]
      show ((i 0).val / 1024 * 512 + (i 0).val % 1024 / 2) * 2048 + ((i 0).val % 2 * 1024 + (i 1).val) = (i 0).val * 1024 + (i 1).val
      omega)]
  show Scalar.select (used (m ((c.tc : Thread nD τ).loc main_arg1)) _)
    (down (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) _)
    (Ideal.ofBits .f32 0x00000000#32) = _
  rw [used_apply, down_apply _ _ _ _ _ _ ht hs, Ideal.ofBits_zero_f32]
  unfold Spec.total Spec.out
  by_cases hu : (i 0).val / 1024 < ((m ((c.tc : Thread nD τ).loc main_arg1) : IVec S1 32) (ix1 (n := 1) 0)).toNat
  · rw [(slt_small _ (by omega) _ (hn _)).mpr hu, ValueIdx.select_one]
    exact (if_pos hu).symm
  · rw [ValueIdx.eq_zero_of_ne_one (fun e => hu ((slt_small _ (by omega) _ (hn _)).mp e)), ValueIdx.select_zero]
    exact (if_neg hu).symm

end Cert.ReferenceIdeal.Hand

end
-- ==== Proof.CRows.lean ====
/-
  The combine kernel's gather. A block's 512 tokens have two rows each of the experts' output, copied one by one into two
  row buffers; half `hf` (256 tokens) is one batch of 512 copies on one semaphore cell, copy `2 t + k` being token `t`'s
  row in buffer `k`. Here: the elements of a buffer's row and of its half, what the copies leave (`gath`), one copy's
  issue, one wait, and reading one row number.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout
public import Idealize.ShloMosaic.Lib.ValueIdxCoords

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The body's weakest precondition on core `c`. -/
abbrev bwp (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A row buffer, and the experts' output. -/
abbrev BM : Type := Memref sig .tc .vmem S512x1024 .i32
abbrev YM : Type := Memref sig .tc .hbm S40960x1024 .i32

/-- One row of either. -/
abbrev brow (b : BM) (o : Fin 2 → ℕ) (h : ∀ a, o a + S1x1024.size a ≤ S512x1024.size a) : Memref sig .tc .vmem S1x1024 .i32 :=
  b.slice (Rect.unit (s := S512x1024) o S1x1024.size h) (fun _ => rfl)
abbrev srow (y : YM) (o : Fin 2 → ℕ) (h : ∀ a, o a + S1x1024.size a ≤ S40960x1024.size a) : Memref sig .tc .hbm S1x1024 .i32 :=
  y.slice (Rect.unit (s := S40960x1024) o S1x1024.size h) (fun _ => rfl)

/-- The elements of row `r` of a buffer, of its half `hf`, and of row `r` of the source. -/
def rset (b : BM) (r : ℕ) : Finset b.view.ty.Idx := (Finset.univ.filter fun y : S512x1024.Idx => (y 0).val = r).map b.view.emb
def hset (b : BM) (hf : Fin 2) : Finset b.view.ty.Idx := (Finset.univ.filter fun y : S512x1024.Idx => (y 0).val / 256 = hf.val).map b.view.emb

theorem unit_emb (r : ℕ) (h : ∀ a, (![r, 0] : Fin 2 → ℕ) a + S1x1024.size a ≤ S512x1024.size a) (x : S1x1024.Idx) :
    (((Rect.unit (s := S512x1024) ![r, 0] S1x1024.size h).emb x : S512x1024.Idx) 0).val = r
    ∧ ((Rect.unit (s := S512x1024) ![r, 0] S1x1024.size h).emb x : S512x1024.Idx) 1 = x 1 := by
  have h0 : (x 0).val < 1 := (x 0).isLt
  constructor
  · show r + 1 * (x 0).val = r; omega
  · apply Fin.ext; show 0 + 1 * (x 1).val = (x 1).val; omega

theorem unit_emb_row (r : ℕ) (h : ∀ a, (![r, 0] : Fin 2 → ℕ) a + S1x1024.size a ≤ S512x1024.size a) (y : S512x1024.Idx) (hy : (y 0).val = r) :
    (Rect.unit (s := S512x1024) ![r, 0] S1x1024.size h).emb (ix2 (n0 := 1) (n1 := 1024) 0 (y 1)) = y := by
  have e := unit_emb r h (ix2 (n0 := 1) (n1 := 1024) 0 (y 1))
  funext a; fin_cases a
  · exact Fin.ext (e.1.trans hy.symm)
  · exact e.2

theorem brow_set (b : BM) (r : ℕ) (h : ∀ a, (![r, 0] : Fin 2 → ℕ) a + S1x1024.size a ≤ S512x1024.size a) :
    (brow b ![r, 0] h).view.set ⊆ rset b r := by
  intro z hz
  obtain ⟨x, -, rfl⟩ := Finset.mem_map.mp hz
  exact Finset.mem_map.mpr ⟨_, Finset.mem_filter.mpr ⟨Finset.mem_univ _, (unit_emb r h x).1⟩, rfl⟩

theorem rset_disjoint (b : BM) (r r' : ℕ) (hne : r ≠ r') : Disjoint (rset b r) (rset b r') := by
  rw [Finset.disjoint_left]; intro z hz hz'
  obtain ⟨x, hx, rfl⟩ := Finset.mem_map.mp hz
  obtain ⟨x', hx', e⟩ := Finset.mem_map.mp hz'
  rw [b.view.emb.injective e] at hx'
  exact hne ((Finset.mem_filter.mp hx).2.symm.trans (Finset.mem_filter.mp hx').2)

theorem rset_cover (b : BM) (hf : Fin 2) : Finset.univ.biUnion (fun t : Fin 256 => rset b (256 * hf.val + t.val)) = hset b hf := by
  ext z
  simp only [Finset.mem_biUnion, Finset.mem_univ, true_and]
  constructor
  · rintro ⟨t, hz⟩
    obtain ⟨x, hx, rfl⟩ := Finset.mem_map.mp hz
    have := (Finset.mem_filter.mp hx).2
    have := t.isLt
    exact Finset.mem_map.mpr ⟨x, Finset.mem_filter.mpr ⟨Finset.mem_univ _, by omega⟩, rfl⟩
  · intro hz
    obtain ⟨x, hx, rfl⟩ := Finset.mem_map.mp hz
    have := (Finset.mem_filter.mp hx).2
    exact ⟨⟨(x 0).val % 256, Nat.mod_lt _ (by decide)⟩, Finset.mem_map.mpr ⟨x, Finset.mem_filter.mpr ⟨Finset.mem_univ _, by
      show (x 0).val = 256 * hf.val + (x 0).val % 256; omega⟩, rfl⟩⟩

/-! ## What a gather leaves, delivers, keeps -/

/-- Row `r` holds row `ix r` of the experts' output. -/
def gath (Y : S40960x1024.Idx → BitVec 32) (ix : Fin 512 → ℕ) : S512x1024.Idx → BitVec 32 :=
  fun y => Y (ix2 (n0 := 40960) (n1 := 1024) ⟨ix (y 0) % 40960, Nat.mod_lt _ (by decide)⟩ (y 1))

/-- A buffer's elements `S`, at the full share. -/
abbrev bPt (c : Dev nD) (b : BM) (S : Finset b.view.ty.Idx) (f : Buf (Elt F) (b.view.loc (c : Thread nD τ))) : sProp 𝕄 :=
  (b.view.loc (c : Thread nD τ)) ↦[S]{fullShare} f
/-- The experts' output's elements `S`, at share `q`. -/
abbrev yPt (c : Dev nD) (y : YM) (S : Finset y.view.ty.Idx) (q : PosShare TreeShare) (fy : Buf (Elt F) (y.view.loc (c : Thread nD τ))) : sProp 𝕄 :=
  (y.view.loc (c : Thread nD τ)) ↦[S]{q} fy

/-- Copy `j`'s buffer, and its row in half `hf`. -/
def kOf (j : Fin 512) : Fin 2 := ⟨j.val % 2, Nat.mod_lt _ (by decide)⟩
def rOf (hf : Fin 2) (j : Fin 512) : Fin 512 := ⟨256 * hf.val + j.val / 2, by have := hf.isLt; have := j.isLt; omega⟩

/-- The copy's write is the gathered row. -/
theorem write_row (c : Dev nD) (b : BM) (y : YM) (fy : Buf (Elt F) (y.view.loc (c : Thread nD τ))) (f f' : Buf (Elt F) (b.view.loc (c : Thread nD τ)))
    (ix : Fin 512 → ℕ) (r : Fin 512) (hr : ix r < 40960)
    (h : ∀ a, (![r.val, 0] : Fin 2 → ℕ) a + S1x1024.size a ≤ S512x1024.size a)
    (h4 : ∀ a, (![ix r, 0] : Fin 2 → ℕ) a + S1x1024.size a ≤ S40960x1024.size a) :
    ∀ z ∈ rset b r.val, (brow b ![r.val, 0] h).view.write (Elt F) f
      (ReadAs.same.apply ((srow y ![ix r, 0] h4).view.read (Elt F) fy)) Finset.univ z
        = b.view.write (Elt F) f' (gath (y.view.read (Elt F) fy) ix : S512x1024.Idx → Elt F .i32) Finset.univ z := by
  intro z hz
  obtain ⟨x, hx, rfl⟩ := Finset.mem_map.mp hz
  have hx0 := (Finset.mem_filter.mp hx).2
  rw [View.write_emb_of_mem (v := b.view) _ _ (Finset.mem_univ x)]
  have e := unit_emb_row r.val h x hx0
  have e1 : b.view.emb x = (brow b ![r.val, 0] h).view.emb (ix2 (n0 := 1) (n1 := 1024) 0 (x 1)) := by
    show b.view.emb x = b.view.emb ((Rect.unit (s := S512x1024) ![r.val, 0] S1x1024.size h).emb (ix2 (n0 := 1) (n1 := 1024) 0 (x 1)))
    rw [e]
  rw [e1, View.write_emb_of_mem _ _ (Finset.mem_univ _)]
  congr 1
  show y.view.read (Elt F) fy ((Rect.unit (s := S40960x1024) ![ix r, 0] S1x1024.size h4).emb (ix2 (n0 := 1) (n1 := 1024) 0 (x 1))) = y.view.read (Elt F) fy _
  congr 1
  have hxr : (x 0 : Fin 512) = r := Fin.ext hx0
  funext a; apply Fin.ext; fin_cases a
  · show ix r + 1 * 0 = ix (x 0) % 40960
    rw [hxr, Nat.mod_eq_of_lt hr]; omega
  · show 0 + 1 * (x 1).val = (x 1).val; omega

section Copies

variable (c : Dev nD) (B : Fin 2 → BM) (ym : YM) (sm : DmaSem sig) (hf : Fin 2) (q : PosShare TreeShare) (ix : Fin 2 → Fin 512 → ℕ)
  (fy : Buf (Elt F) (ym.view.loc (c : Thread nD τ))) (f0 : ∀ k, Buf (Elt F) ((B k).view.loc (c : Thread nD τ)))

/-- The elements of row `r` of the source. -/
def yset (y : YM) (r : ℕ) : Finset y.view.ty.Idx := (Finset.univ.filter fun z : S40960x1024.Idx => (z 0).val = r).map y.view.emb

theorem srow_set (y : YM) (r : ℕ) (h : ∀ a, (![r, 0] : Fin 2 → ℕ) a + S1x1024.size a ≤ S40960x1024.size a) : (srow y ![r, 0] h).view.set = yset y r := by
  ext z
  constructor
  · intro hz
    obtain ⟨x, -, rfl⟩ := Finset.mem_map.mp hz
    have h0 : (x 0).val < 1 := (x 0).isLt
    exact Finset.mem_map.mpr ⟨_, Finset.mem_filter.mpr ⟨Finset.mem_univ _, (by show r + 1 * (x 0).val = r; omega)⟩, rfl⟩
  · intro hz
    obtain ⟨x, hx, rfl⟩ := Finset.mem_map.mp hz
    have hx0 := (Finset.mem_filter.mp hx).2
    refine Finset.mem_map.mpr ⟨ix2 (n0 := 1) (n1 := 1024) 0 (x 1), Finset.mem_univ _, ?_⟩
    show y.view.emb ((Rect.unit (s := S40960x1024) ![r, 0] S1x1024.size h).emb (ix2 (n0 := 1) (n1 := 1024) 0 (x 1))) = y.view.emb x
    congr 1
    funext a; apply Fin.ext; fin_cases a
    · show r + 1 * 0 = (x 0).val; omega
    · show 0 + 1 * (x 1).val = (x 1).val; omega

/-- What buffer `k` holds once gathered. -/
def got (k : Fin 2) : Buf (Elt F) ((B k).view.loc (c : Thread nD τ)) :=
  (B k).view.write (Elt F) (f0 k) (gath (ym.view.read (Elt F) fy) (ix k) : S512x1024.Idx → Elt F .i32) Finset.univ

/-- One copy's delivery: the buffer's row at the gathered words, the source row's read share back. -/
def Deliv (j : Fin 512) : sProp 𝕄 :=
  iprop(bPt c (B (kOf j)) (rset (B (kOf j)) (rOf hf j).val) (got c B ym ix fy f0 (kOf j))
    ∗ yPt c ym (yset ym (ix (kOf j) (rOf hf j))) (Transfers.shareTokN q j.val) fy)
/-- What the core holds for a copy not yet issued; -/
def Todo (j : Fin 512) : sProp 𝕄 :=
  iprop(bPt c (B (kOf j)) (rset (B (kOf j)) (rOf hf j).val) (f0 (kOf j)) ∗ yPt c ym ym.view.set (Transfers.shareTokN q j.val) fy)
/-- and what it keeps of the read share once issued. -/
def Keep (j : Fin 512) : sProp 𝕄 :=
  yPt c ym (ym.view.set \ yset ym (ix (kOf j) (rOf hf j))) (Transfers.shareTokN q j.val) fy

instance deliv_storable (j : Fin 512) : BI.Storable (upEmb : UEmb _ 𝕄) (Deliv (F := F) c B ym hf q ix fy f0 j) := by
  unfold Deliv; infer_instance

/-- One row's credit. -/
abbrev NN : ℕ := 128

/-- The batch of a half's 512 copies, `k` issued, `u` units waited for. -/
abbrev bat (k u : ℕ) : sProp 𝕄 :=
  Transfers.Batch (countersEmb (U := Pipeline.UD sig nD τ)) (c : Thread nD τ) (.dma sm) () NN (Deliv (F := F) c B ym hf q ix fy f0) k u

theorem yset_sub (y : YM) (r : ℕ) : yset y r ⊆ y.view.set := by
  intro z hz
  obtain ⟨x, -, rfl⟩ := Finset.mem_map.mp hz
  exact Finset.mem_map.mpr ⟨x, Finset.mem_univ _, rfl⟩

/-- One copy: its read share and its row go in flight. -/
theorem issue_one (j : Fin 512) (hr : ix (kOf j) (rOf hf j) < 40960) (b : BM) (eb : b = B (kOf j))
    (o : Fin 2 → ℕ) (h : ∀ a, o a + S1x1024.size a ≤ S512x1024.size a) (eo : o = ![(rOf hf j).val, 0])
    (o4 : Fin 2 → ℕ) (h4 : ∀ a, o4 a + S1x1024.size a ≤ S40960x1024.size a) (e4 : o4 = ![ix (kOf j) (rOf hf j), 0])
    (sem : DmaSem sig) (es : sem = sm)
    {hsrc : (srow ym o4 h4).view.WordExact} {hdst : (brow b o h).view.WordExact}
    {hsem : DmaTarget.Typed (nD := nD) .hbm (SemLoc.dma sem) (.here (p := Proc.tc) (brow b o h))}
    {α : Type} {kk : PUnit → Prog (TpuEff nD τ sig (Elt F) Λ₀ .tc) α} {Q : α → sProp 𝕄} :
    iprop(Todo (F := F) c B ym hf q fy f0 j ∗ bat c B ym sm hf q ix fy f0 j.val 0)
      ⊢ iprop((iprop(bat c B ym sm hf q ix fy f0 (j.val + 1) 0 ∗ Keep (F := F) c ym hf q ix fy j) -∗ bwp c (kk ⟨⟩) Q)
          -∗ bwp c (.op (.enqueueDma (srow ym o4 h4) (.here (brow b o h)) (.dma sem) hsrc hdst hsem) kk) Q) := by
  subst eb eo e4 es
  unfold Todo Keep
  iintro ⟨⟨HS, HH⟩, HB⟩ Hk
  ihave HH' := (pointsTo_split_subset (yset_sub ym (ix (kOf j) (rOf hf j)))).1 $$ HH
  icases HH' with ⟨HH, HK⟩
  iapply (Transfers.wp_dmaBatch (countersEmb (U := Pipeline.UD sig nD τ)) Variants.none (c : Thread nD τ) none
    (src := srow ym ![ix (kOf j) (rOf hf j), 0] h4) (via := ReadAs.same) (dst := brow (B (kOf j)) ![(rOf hf j).val, 0] h) (q := Transfers.shareTokN q j.val)
    (fs := fy) (Sd := rset (B (kOf j)) (rOf hf j).val) (fd := f0 (kOf j)) (D := Deliv c B ym hf q ix fy f0) (j := j.val) (u := 0) () NN (by rfl)
    (brow_set (B (kOf j)) (rOf hf j).val h) j.isLt (Nat.zero_le _) ?hD) $$ [HS HH HB]
  case hD =>
    unfold Deliv
    iintro ⟨H1, H2⟩
    isplitl [H1]
    · iapply (Entails.of_eq (pointsTo_congr (write_row c (B (kOf j)) ym fy (f0 (kOf j)) (f0 (kOf j)) (ix (kOf j)) (rOf hf j) hr h h4))) $$ H1
    · rw [srow_set]; iexact H2
  · isplitl [HH]; · rw [srow_set]; iexact HH
    isplitl [HS]; · iexact HS
    iexact HB
  iintro HB
  iapply Hk
  isplitl [HB]; · iexact HB
  iexact HK

/-- Before a wait: all copies issued, `k` rows' units waited for. -/
def draining (k : ℕ) : sProp 𝕄 :=
  iprop(bat (F := F) c B ym sm hf q ix fy f0 512 (k * NN) ∗ (∃ W, owes (c : Thread nD τ) 0 W))

/-- One wait. -/
theorem wait_one (k : ℕ) (hk : k < 512) (b : BM) (y : YM)
    (o : Fin 2 → ℕ) (h : ∀ a, o a + S1x1024.size a ≤ S512x1024.size a)
    (o4 : Fin 2 → ℕ) (h4 : ∀ a, o4 a + S1x1024.size a ≤ S40960x1024.size a)
    (sem : DmaSem sig) (es : sem = sm)
    {hsrc : (srow y o4 h4).view.WordExact} {hdst : (brow b o h).view.WordExact}
    {α : Type} {kk : PUnit → Prog (TpuEff nD τ sig (Elt F) Λ₀ .tc) α} {Q : α → sProp 𝕄} :
    draining (F := F) c B ym sm hf q ix fy f0 k
      ⊢ iprop((draining c B ym sm hf q ix fy f0 (k + 1) -∗ bwp c (kk ⟨⟩) Q)
          -∗ bwp c (.op (.waitDma2 sem (srow y o4 h4) (brow b o h) hsrc hdst) kk) Q) := by
  subst es
  unfold draining
  rw [show (k + 1) * NN = k * NN + 1 * NN by simp only [NN]; omega]
  iintro ⟨HB, ⟨%W, HO⟩⟩ Hk
  iapply (Transfers.wp_waitBatchMul (countersEmb (U := Pipeline.UD sig nD τ)) Variants.none (c : Thread nD τ) none
    (D := Deliv c B ym hf q ix fy f0) (j := 512) (u := k * NN) (N := NN) () 1 (by rfl) (by simp only [NN]; omega)) $$ [HB HO]
  · isplitl [HB]; · iexact HB
    iexact HO
  iintro ⟨HB, HO⟩
  iapply Hk
  isplitl [HB]; · iexact HB
  iexists _; iexact HO

/-- A table of row numbers staged in scalar memory: its words. -/
abbrev tab (a : Memref sig .tc .smem S1x1x1024 .i32) (qa : PosShare TreeShare) (d : S1x1x1024.Idx → BitVec 32) : sProp 𝕄 :=
  owns (c : Thread nD τ) a qa (d : S1x1x1024.Idx → Elt F .i32)

/-- Before copy `k`: `k` in flight, the rest in hand. -/
def issuing (k : ℕ) : sProp 𝕄 :=
  iprop(bat (F := F) c B ym sm hf q ix fy f0 k 0 ∗ bigSep (Ring.rangeSet 512 k 512) (Todo (F := F) c B ym hf q fy f0)
    ∗ bigSep (Ring.rangeSet 512 0 k) (Keep (F := F) c ym hf q ix fy))

/-- Reading one row number. -/
theorem load_word (a : Memref sig .tc .smem S1x1x1024 .i32) (qa : PosShare TreeShare) (d : S1x1x1024.Idx → BitVec 32) (j : Fin 1024)
    (o : Fin 3 → ℕ) (h : ∀ x, o x + S1x1x1.size x ≤ S1x1x1024.size x) (eo : o = ![0, 0, j.val])
    (hn : (Rect.unit (s := S1x1x1024) o S1x1x1.size h).shape.numel = 1) (hp : EltTy.i32.packing = 1)
    {α : Type} {kk : BitVec 32 → Prog (TpuEff nD τ sig (Elt F) Λ₀ .tc) α} {Q : α → sProp 𝕄} :
    tab (F := F) c a qa d ⊢ iprop((tab (F := F) c a qa d -∗ bwp c (kk (d (ix3 (n0 := 1) (n1 := 1) (n2 := 1024) 0 0 j))) Q)
      -∗ bwp c (smemLoad a (Rect.unit (s := S1x1x1024) o S1x1x1.size h) hn hp >>= kk) Q) := by
  subst eo
  unfold tab owns
  iintro ⟨%f, %hf, H⟩ Hk
  unfold bwp
  sl_exec
  have e : load_word.sl.r c a j h hn f = d (ix3 (n0 := 1) (n1 := 1) (n2 := 1024) 0 0 j) := by
    unfold load_word.sl.r
    rw [← hf]
    show View.read (Elt F) a.view f ((Rect.unit (s := S1x1x1024) ![0, 0, j.val] S1x1x1.size h).emb (Shape.Idx.first _)) = _
    congr 1
    funext x
    have hl := (Shape.Idx.first (s := (Rect.unit (s := S1x1x1024) ![0, 0, j.val] S1x1x1.size h).shape) (hn.symm ▸ Nat.one_pos) x).isLt
    apply Fin.ext
    show ![0, 0, j.val] x + 1 * (Shape.Idx.first (s := (Rect.unit (s := S1x1x1024) ![0, 0, j.val] S1x1x1.size h).shape) (hn.symm ▸ Nat.one_pos) x).val = _
    have h1 : (Rect.unit (s := S1x1x1024) ![0, 0, j.val] S1x1x1.size h).shape.size x = 1 := by fin_cases x <;> rfl
    have hl := hl.trans_eq h1
    fin_cases x
    · show 0 + 1 * _ = 0; omega
    · show 0 + 1 * _ = 0; omega
    · show j.val + 1 * _ = j.val; omega
  rw [e]
  iapply Hk
  iexists f
  isplitr [H]; · ipureintro; exact hf
  iexact H

/-- A trip's end, after its last effect. -/
theorem ret_step {Q : Unit → sProp 𝕄} : Q () ⊢ bwp (F := F) c ((Prog.ret PUnit.unit).bind fun _ => pure PUnit.unit) Q := by
  show Q () ⊢ bwp c (Prog.ret PUnit.unit) Q
  unfold bwp
  iintro H
  sl_step
  iexact H

/-- A side condition that holds. -/
theorem assume_step (P : Prop) (hd : Decidable P) (hP : P) {α : Type} {kk : PLift P → Prog (TpuEff nD τ sig (Elt F) Λ₀ .tc) α} {Q : α → sProp 𝕄} :
    bwp c (kk ⟨hP⟩) Q ⊢ bwp (F := F) c (Prog.lift (TpuEff.assume P hd) >>= kk) Q := by
  unfold bwp
  iintro Hk
  simp only [Prog.lift, Prog.bind_op, Prog.bind_ret]
  iapply (wp_assume _ _ _ _ hP)
  iexact Hk

/-- Where copy `j`'s row number stands in the table. -/
def wOf (hf : Fin 2) (j : Fin 512) : Fin 1024 := ⟨512 * (kOf j).val + (rOf hf j).val, by have := (kOf j).isLt; have := (rOf hf j).isLt; omega⟩

/-- One copy of a trip: its row number read, checked, and the copy started. -/
theorem issue_read (a : Memref sig .tc .smem S1x1x1024 .i32) (qa : PosShare TreeShare) (d : S1x1x1024.Idx → BitVec 32)
    (hix : ∀ j : Fin 512, (d (ix3 (n0 := 1) (n1 := 1) (n2 := 1024) 0 0 (wOf hf j))).toNat = ix (kOf j) (rOf hf j))
    (hr : ∀ k r, ix k r < 40960) (n : ℕ) (hn : n < 512) (b : BM) (eb : b = B (kOf ⟨n, hn⟩))
    (oa : Fin 3 → ℕ) (ha : ∀ x, oa x + S1x1x1.size x ≤ S1x1x1024.size x) (ea : oa = ![0, 0, (wOf hf ⟨n, hn⟩).val])
    (hn1 : (Rect.unit (s := S1x1x1024) oa S1x1x1.size ha).shape.numel = 1) (hp : EltTy.i32.packing = 1)
    (P : BitVec 32 → Prop) (hd : ∀ v, Decidable (P v)) (hP : ∀ v : BitVec 32, v.toNat < 40960 → P v)
    (o : Fin 2 → ℕ) (h : ∀ a, o a + S1x1024.size a ≤ S512x1024.size a) (eo : o = ![(rOf hf ⟨n, hn⟩).val, 0])
    (o4 : BitVec 32 → Fin 2 → ℕ) (h4 : ∀ v, P v → ∀ a, o4 v a + S1x1024.size a ≤ S40960x1024.size a) (e4 : ∀ v, o4 v = ![v.toNat, 0])
    (sem : DmaSem sig) (es : sem = sm)
    {hsrc : ∀ v hv, (srow ym (o4 v) (h4 v hv)).view.WordExact} {hdst : (brow b o h).view.WordExact}
    {hsem : DmaTarget.Typed (nD := nD) .hbm (SemLoc.dma sem) (.here (p := Proc.tc) (brow b o h))}
    {α : Type} {kk : Prog (TpuEff nD τ sig (Elt F) Λ₀ .tc) α} {Q : α → sProp 𝕄} :
    iprop(tab (F := F) c a qa d ∗ issuing (F := F) c B ym sm hf q ix fy f0 n)
      ⊢ iprop((iprop(tab (F := F) c a qa d ∗ issuing (F := F) c B ym sm hf q ix fy f0 (n + 1)) -∗ bwp c kk Q)
        -∗ bwp c (smemLoad a (Rect.unit (s := S1x1x1024) oa S1x1x1.size ha) hn1 hp >>= fun v =>
            Prog.lift (TpuEff.assume (P v) (hd v)) >>= fun hw =>
              Prog.lift (.enqueueDma (srow ym (o4 v) (h4 v hw.down)) (.here (brow b o h)) (.dma sem) (hsrc v hw.down) hdst hsem) >>= fun _ => kk) Q) := by
  unfold issuing
  rw [Ring.bigSep_rangeSet_head (Φ := Todo (F := F) c B ym hf q fy f0) (lo := n) (by omega) (by omega),
    Ring.bigSep_rangeSet_last (Φ := Keep (F := F) c ym hf q ix fy) (hi := n + 1) (by omega) (by omega)]
  iintro ⟨HT, HB, ⟨HX, HXs⟩, HK⟩ Hk
  iapply (load_word c a qa d (wOf hf ⟨n, hn⟩) _ _ ea _ _) $$ HT
  iintro HT
  iapply (assume_step c _ _ (hP _ (by rw [hix]; exact hr _ _)))
  iapply (issue_one c B ym sm hf q ix fy f0 ⟨n, hn⟩ (hr _ _) b eb _ _ eo _ _ (by rw [e4, hix]) _ es) $$ [HX HB]
  · isplitl [HX]; · iexact HX
    iexact HB
  iintro ⟨HB, HX⟩
  iapply Hk
  isplitl [HT]; · iexact HT
  isplitl [HB]; · iexact HB
  isplitl [HXs]; · iexact HXs
  isplitl [HX]; · iexact HX
  iexact HK

end Copies

end Cert.Kernel2Ideal.Hand
end
-- ==== Proof.CSlot.lean ====
/-
  A half's gather from start to end, as resources: with nothing in flight the core holds both buffers' half and the
  semaphore cell at zero (`idle`), and the half's share of the experts' output; with the 512 copies in flight it holds the
  batch and what the copies do not use of that share (`flight`); once waited for, the gathered rows (`full`).
-/
module

public import proofs.«01_k».proof.Proof.CRows

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A cell at zero. -/
abbrev zero (c : Dev nD) (sm : DmaSem sig) : sProp 𝕄 := semVal ((c : Thread nD τ), SemLoc.dma sm) 0

/-- The half `hf` of a buffer, its words `G`. -/
def half (c : Dev nD) (b : BM) (hf : Fin 2) (G : S512x1024.Idx → BitVec 32) : sProp 𝕄 :=
  iprop(∃ f, ⌜∀ y : S512x1024.Idx, (y 0).val / 256 = hf.val → b.view.read (Elt F) f y = (G y : Elt F .i32)⌝ ∗ bPt (F := F) c b (hset b hf) f)

section Slots

variable (c : Dev nD) (B : Fin 2 → BM) (ym : YM) (sm : DmaSem sig) (hf : Fin 2) (q : PosShare TreeShare) (ix : Fin 2 → Fin 512 → ℕ)
  (fy : Buf (Elt F) (ym.view.loc (c : Thread nD τ))) (f0 : ∀ k, Buf (Elt F) ((B k).view.loc (c : Thread nD τ)))

/-- Nothing in flight. -/
def idle : sProp 𝕄 :=
  iprop((∃ f, bPt (F := F) c (B 0) (hset (B 0) hf) f) ∗ (∃ f, bPt (F := F) c (B 1) (hset (B 1) hf) f) ∗ zero c sm)
/-- The half's copies all in flight. -/
def flight : sProp 𝕄 :=
  iprop(∃ f0, bat (F := F) c B ym sm hf q ix fy f0 512 0 ∗ bigSep Finset.univ (Keep (F := F) c ym hf q ix fy)
    ∗ yPt (F := F) c ym ym.view.set (Transfers.shareDrop q 512) fy)
/-- All arrived. -/
def full : sProp 𝕄 :=
  iprop(half (F := F) c (B 0) hf (gath (ym.view.read (Elt F) fy) (ix 0)) ∗ half (F := F) c (B 1) hf (gath (ym.view.read (Elt F) fy) (ix 1)) ∗ zero c sm)

theorem full_idle : full (F := F) c B ym sm hf ix fy ⊢ idle (F := F) c B sm hf := by
  unfold full idle half
  iintro ⟨⟨%f, -, H0⟩, ⟨%g, -, H1⟩, Hz⟩
  isplitl [H0]; · iexists f; iexact H0
  isplitl [H1]; · iexists g; iexact H1
  iexact Hz

/-- The copies into buffer `k` cover its half. -/
theorem copies_cover (k : Fin 2) :
    (Finset.univ.filter fun j : Fin 512 => kOf j = k).biUnion (fun j => rset (B k) (rOf hf j).val) = hset (B k) hf := by
  rw [← rset_cover (B k) hf]
  ext z
  simp only [Finset.mem_biUnion, Finset.mem_filter, Finset.mem_univ, true_and]
  constructor
  · rintro ⟨j, -, hz⟩
    exact ⟨⟨j.val / 2, by have := j.isLt; omega⟩, hz⟩
  · rintro ⟨t, hz⟩
    have hk := k.isLt
    refine ⟨⟨2 * t.val + k.val, by have := t.isLt; omega⟩, Fin.ext (by show (2 * t.val + k.val) % 2 = k.val; omega), ?_⟩
    have e : (rOf hf ⟨2 * t.val + k.val, by have := t.isLt; omega⟩).val = 256 * hf.val + t.val := by
      show 256 * hf.val + (2 * t.val + k.val) / 2 = _; omega
    rw [e]; exact hz

theorem half_blocks (k : Fin 2) :
    bPt (F := F) c (B k) (hset (B k) hf) (f0 k)
      = bigSep (Finset.univ.filter fun j : Fin 512 => kOf j = k) (fun j => bPt (F := F) c (B (kOf j)) (rset (B (kOf j)) (rOf hf j).val) (f0 (kOf j))) := by
  rw [← copies_cover B hf k]
  unfold bPt
  rw [pointsTo_biUnion]
  · refine bigSep_congr fun j hj => ?_
    obtain rfl := (Finset.mem_filter.mp hj).2
    rfl
  · intro j hj j' hj' hne
    refine rset_disjoint _ _ _ fun h => hne (Fin.ext ?_)
    have h1 : 256 * hf.val + j.val / 2 = 256 * hf.val + j'.val / 2 := h
    have h2 : j.val % 2 = j'.val % 2 := congrArg Fin.val ((Finset.mem_filter.mp hj).2.trans (Finset.mem_filter.mp hj').2.symm)
    omega

theorem halves_blocks :
    iprop(bPt (F := F) c (B 0) (hset (B 0) hf) (f0 0) ∗ bPt (F := F) c (B 1) (hset (B 1) hf) (f0 1))
      = bigSep Finset.univ (fun j : Fin 512 => bPt (F := F) c (B (kOf j)) (rset (B (kOf j)) (rOf hf j).val) (f0 (kOf j))) := by
  rw [half_blocks c B hf f0 0, half_blocks c B hf f0 1, bigSep_filter_split Finset.univ (fun j : Fin 512 => kOf j = 0)]
  have e : (Finset.univ.filter fun j : Fin 512 => ¬ kOf j = 0) = Finset.univ.filter fun j : Fin 512 => kOf j = 1 := by
    refine Finset.filter_congr fun j _ => ?_
    have := (kOf j).isLt
    constructor
    · intro h; apply Fin.ext; have h' : (kOf j).val ≠ 0 := fun h' => h (Fin.ext h'); show (kOf j).val = 1; omega
    · intro h h'; rw [h] at h'; exact absurd h' (by decide)
  rw [e]
  rfl

theorem todo_split :
    bigSep Finset.univ (Todo (F := F) c B ym hf q fy f0)
      = iprop(bigSep Finset.univ (fun j : Fin 512 => bPt (F := F) c (B (kOf j)) (rset (B (kOf j)) (rOf hf j).val) (f0 (kOf j)))
        ∗ bigSep Finset.univ (fun j : Fin 512 => yPt (F := F) c ym ym.view.set (Transfers.shareTokN q j.val) fy)) := bigSep_sep _ _ _

/-- Before the first copy. -/
theorem begin_issue :
    iprop(idle (F := F) c B sm hf ∗ yPt c ym ym.view.set q fy)
      ⊢ |={Set.univ}=> iprop(∃ f0, issuing (F := F) c B ym sm hf q ix fy f0 0 ∗ yPt (F := F) c ym ym.view.set (Transfers.shareDrop q 512) fy) := by
  unfold idle issuing
  iintro ⟨⟨⟨%f, H0⟩, ⟨%g, H1⟩, Hz⟩, HY⟩
  let f0 : ∀ k : Fin 2, Buf (Elt F) ((B k).view.loc (c : Thread nD τ)) := Fin.cons f (Fin.cons g (fun k => k.elim0))
  imod (Transfers.batch_alloc' (Lvl := ℕ) (countersEmb (U := Pipeline.UD sig nD τ)) (c : Thread nD τ) () NN (Deliv (F := F) c B ym hf q ix fy f0)
    (sm := SemLoc.dma sm) (E := Set.univ)) $$ Hz with HB
  ihave HT := (Transfers.pointsTo_toks_split q 512) $$ HY
  icases HT with ⟨HD, HT⟩
  ihave HS := (Entails.of_eq (halves_blocks c B hf f0)) $$ [H0 H1]
  · isplitl [H0]; · iexact H0
    iexact H1
  imodintro
  iexists f0
  isplitl [HB HS HT]
  · isplitl [HB]; · iexact HB
    isplitl [HS HT]
    · rw [Ring.rangeSet_univ]
      rw [todo_split]
      isplitl [HS]; · iexact HS
      iexact HT
    · rw [Ring.bigSep_rangeSet_empty (le_refl 0)]; iempintro
  · iexact HD

/-- After the last copy. -/
theorem end_issue :
    iprop(issuing (F := F) c B ym sm hf q ix fy f0 512 ∗ yPt (F := F) c ym ym.view.set (Transfers.shareDrop q 512) fy)
      ⊢ flight (F := F) c B ym sm hf q ix fy := by
  unfold issuing flight
  rw [Ring.rangeSet_univ]
  iintro ⟨⟨HB, -, HK⟩, HA⟩
  iexists f0
  isplitl [HB]; · iexact HB
  isplitl [HK]; · iexact HK
  iexact HA

/-- Before the first wait. -/
theorem begin_drain :
    iprop(flight (F := F) c B ym sm hf q ix fy ∗ (∃ W, owes (c : Thread nD τ) 0 W))
      ⊢ iprop(∃ f0, draining (F := F) c B ym sm hf q ix fy f0 0 ∗ bigSep Finset.univ (Keep (F := F) c ym hf q ix fy)
          ∗ yPt (F := F) c ym ym.view.set (Transfers.shareDrop q 512) fy) := by
  unfold flight draining
  rw [Nat.zero_mul]
  iintro ⟨⟨%f0, HB, HK, HA⟩, HO⟩
  iexists f0
  isplitl [HB HO]
  · isplitl [HB]; · iexact HB
    iexact HO
  isplitl [HK]; · iexact HK
  iexact HA

theorem got_half (k : Fin 2) :
    bPt (F := F) c (B k) (hset (B k) hf) (got c B ym ix fy f0 k) ⊢ half (F := F) c (B k) hf (gath (ym.view.read (Elt F) fy) (ix k)) := by
  unfold half
  iintro H
  iexists (got c B ym ix fy f0 k)
  isplitr
  · ipureintro
    intro y hy
    unfold got
    rw [View.read_write_univ]
  · iexact H

/-- After the last wait: the half holds the gathered rows, and the share is back. -/
theorem end_drain :
    iprop(draining (F := F) c B ym sm hf q ix fy f0 512 ∗ bigSep Finset.univ (Keep (F := F) c ym hf q ix fy)
          ∗ yPt (F := F) c ym ym.view.set (Transfers.shareDrop q 512) fy)
      ⊢ |={Set.univ}=> iprop(full (F := F) c B ym sm hf ix fy ∗ yPt c ym ym.view.set q fy ∗ (∃ W, owes (c : Thread nD τ) 0 W)) := by
  unfold draining
  rw [show 512 * NN = NN * 512 from rfl]
  iintro ⟨⟨HB, HO⟩, HK, HD⟩
  imod (Transfers.batch_collect' (countersEmb (U := Pipeline.UD sig nD τ)) (c : Thread nD τ) (by decide : 0 < NN)) $$ HB with ⟨HX, Hz⟩
  imodintro
  have e1 : bigSep Finset.univ (Deliv (F := F) c B ym hf q ix fy f0)
      = iprop(bigSep Finset.univ (fun j : Fin 512 => bPt (F := F) c (B (kOf j)) (rset (B (kOf j)) (rOf hf j).val) (got c B ym ix fy f0 (kOf j)))
        ∗ bigSep Finset.univ (fun j : Fin 512 => yPt (F := F) c ym (yset ym (ix (kOf j) (rOf hf j))) (Transfers.shareTokN q j.val) fy)) := bigSep_sep _ _ _
  have e2 : iprop(bigSep Finset.univ (fun j : Fin 512 => yPt (F := F) c ym (yset ym (ix (kOf j) (rOf hf j))) (Transfers.shareTokN q j.val) fy)
        ∗ bigSep Finset.univ (Keep (F := F) c ym hf q ix fy))
      ⊢ bigSep Finset.univ (fun j : Fin 512 => yPt (F := F) c ym ym.view.set (Transfers.shareTokN q j.val) fy) := by
    refine (Entails.of_eq (bigSep_sep _ _ _).symm).trans (bigSep_mono fun j _ => ?_)
    unfold Keep
    exact (pointsTo_split_subset (yset_sub ym (ix (kOf j) (rOf hf j)))).2
  ihave HX' := (Entails.of_eq e1) $$ HX
  icases HX' with ⟨HS, HT⟩
  ihave HT' := e2 $$ [HT HK]
  · isplitl [HT]; · iexact HT
    iexact HK
  ihave HH := (Transfers.pointsTo_toks_join q 512) $$ [HD HT']
  · isplitl [HD]; · iexact HD
    iexact HT'
  ihave HS' := (Entails.of_eq (halves_blocks c B hf (got c B ym ix fy f0)).symm) $$ HS
  icases HS' with ⟨H0, H1⟩
  isplitl [H0 H1 Hz]
  · unfold full
    isplitl [H0]; · iapply (got_half c B ym hf ix fy f0 0) $$ H0
    isplitl [H1]; · iapply (got_half c B ym hf ix fy f0 1) $$ H1
    iexact Hz
  isplitl [HH]; · iexact HH
  iexact HO

end Slots

end Cert.Kernel2Ideal.Hand
end
-- ==== Proof.CLoops.lean ====
/-
  The kernel's loops. A loop of 256 trips that each start two copies (`Issues`), and a loop of 256 one-row waits
  (`Waits`): what each kind does, that the first point's loops and the written-out starts are of the first kind and the waiting loops of the second, and a half's step,
  which waits for one slot's half and starts the other slot's.
-/
module

public import proofs.«01_k».proof.Proof.CSlot

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A counted loop, by an invariant of the trips made. -/
theorem loop_wp (c : Dev nD) (L : Scf.Loop 32) (hok : L.OK) (n : ℕ) (hn : L.trips = n) (I : ℕ → sProp 𝕄)
    (body : Fin L.trips → PUnit → Prog (TpuEff nD τ sig (Elt F) Λ₀ .tc) PUnit)
    (hbody : ∀ (k : Fin L.trips) (acc : PUnit), I k.val ⊢ bwp c (body k acc) (fun _ => I (k.val + 1))) {Q : PUnit → sProp 𝕄} :
    I 0 ⊢ iprop((I n -∗ Q ⟨⟩) -∗ bwp c (Scf.Loop.for L hok ⟨⟩ body) Q) := by
  subst hn
  iintro H Hk
  unfold bwp
  iapply (Scf.wp_for frame (wpE (defs₀ (F := F)) Variants.none (c : Thread nD τ) none) Set.univ L.lb L.ub L.st hok ⟨⟩ body
    (I := fun k _ => I k) hbody)
  isplitl [H]; · iexact H
  iintro %acc H
  iapply Hk
  iexact H

theorem pure_step (c : Dev nD) {α : Type} (x : α) {Q : α → sProp 𝕄} : Q x ⊢ bwp (F := F) c (pure x) Q := by
  show Q x ⊢ bwp c (Prog.ret x) Q
  unfold bwp
  iintro H
  sl_step
  iexact H

/-- The semaphore cell `n` of the four. -/
abbrev semAt (s : DmaSems sig S4) (n : ℕ) (h : ∀ a, (![n] : Fin 1 → ℕ) a + S1.size a ≤ S4.size a) : DmaSem sig :=
  ((s.slice (Rect.unit (s := S4) ![n] S1.size h)).squeeze S_ squeezes_S1_S_).sem

section Kinds

variable (c : Dev nD) (B : Fin 2 → BM) (ym : YM) (sm : DmaSem sig) (hf : Fin 2) (ix : Fin 2 → Fin 512 → ℕ)

/-- `l` starts half `hf`'s copies, the row numbers read from `a`, whose words are `d`. -/
def Issues (a : Memref sig .tc .smem S1x1x1024 .i32) (d : S1x1x1024.Idx → BitVec 32) (l : Prog (TpuEff nD τ sig (Elt F) Λ₀ .tc) PUnit) : Prop :=
  ∀ (q qa : PosShare TreeShare) (fy : Buf (Elt F) (ym.view.loc (c : Thread nD τ))) (f0 : ∀ k, Buf (Elt F) ((B k).view.loc (c : Thread nD τ)))
    (Q : PUnit → sProp 𝕄),
    iprop(tab (F := F) c a qa d ∗ issuing (F := F) c B ym sm hf q ix fy f0 0)
      ⊢ iprop((iprop(tab (F := F) c a qa d ∗ issuing (F := F) c B ym sm hf q ix fy f0 512) -∗ Q ⟨⟩) -∗ bwp c l Q)

/-- `l` waits for 256 rows on `sm`. -/
def Waits (l : Prog (TpuEff nD τ sig (Elt F) Λ₀ .tc) PUnit) : Prop :=
  ∀ (B : Fin 2 → BM) (ym : YM) (hf : Fin 2) (ix : Fin 2 → Fin 512 → ℕ) (q : PosShare TreeShare) (fy : Buf (Elt F) (ym.view.loc (c : Thread nD τ)))
    (f0 : ∀ k, Buf (Elt F) ((B k).view.loc (c : Thread nD τ))) (u : ℕ) (hu : u + 256 ≤ 512) (Q : PUnit → sProp 𝕄),
    draining (F := F) c B ym sm hf q ix fy f0 u
      ⊢ iprop((draining (F := F) c B ym sm hf q ix fy f0 (u + 256) -∗ Q ⟨⟩) -∗ bwp c l Q)

/-- A loop of one-row waits. -/
def waitLoop (hok : k0_t3_loop.OK) (b : BM) (y : YM) : Prog (TpuEff nD τ sig (Elt F) Λ₀ .tc) PUnit :=
  Scf.Loop.for k0_t3_loop hok ⟨⟩ fun _ _ => do
    Prog.lift (.waitDma2 sm (srow y ![0, 0] inb_S40960x1024_S1x1024_0_0) (brow b ![0, 0] inb_S512x1024_S1x1024_0_0) (View.wordExact_bits rfl) (View.wordExact_bits rfl))
    pure ⟨⟩

theorem waits (hok : k0_t3_loop.OK) (b : BM) (y : YM) : Waits (F := F) c sm (waitLoop (F := F) sm hok b y) := by
  intro B ym hf ix q fy f0 u hu Q
  unfold waitLoop
  refine loop_wp c _ hok 256 (by decide) (fun k => draining (F := F) c B ym sm hf q ix fy f0 (u + k)) _ ?_
  intro k acc
  have hk : k.val < 256 := k.isLt.trans_eq (by decide)
  iintro H
  iapply (wait_one c B ym sm hf q ix fy f0 (u + k.val) (by omega) b y _ _ _ _ _ rfl) $$ H
  iintro H
  iapply (ret_step c)
  iexact H

variable {c B ym sm hf ix}

/-- A half of the other slot is waited for, and this half's copies of the next block are started. -/
theorem half_step {B' : Fin 2 → BM} {sm' : DmaSem sig} {ix' : Fin 2 → Fin 512 → ℕ} {a : Memref sig .tc .smem S1x1x1024 .i32} {d : S1x1x1024.Idx → BitVec 32}
    {l1 l2 l3 : Prog (TpuEff nD τ sig (Elt F) Λ₀ .tc) PUnit}
    (h1 : Waits (F := F) c sm l1) (h2 : Waits (F := F) c sm l2) (h3 : Issues (F := F) c B' ym sm' hf ix' a d l3)
    (q qa : PosShare TreeShare) (fy : Buf (Elt F) (ym.view.loc (c : Thread nD τ)))
    {α : Type} {kk : Prog (TpuEff nD τ sig (Elt F) Λ₀ .tc) α} {Q : α → sProp 𝕄} :
    iprop(flight (F := F) c B ym sm hf q ix fy ∗ idle (F := F) c B' sm' hf ∗ tab (F := F) c a qa d ∗ (∃ W, owes (c : Thread nD τ) 0 W))
      ⊢ iprop((iprop(full (F := F) c B ym sm hf ix fy ∗ flight (F := F) c B' ym sm' hf q ix' fy ∗ tab (F := F) c a qa d ∗ (∃ W, owes (c : Thread nD τ) 0 W)) -∗ bwp c kk Q)
        -∗ bwp c (l1 >>= fun _ => l2 >>= fun _ => l3 >>= fun _ => kk) Q) := by
  iintro ⟨HF, HI, HT, HO⟩ Hk
  ihave HD := (begin_drain c B ym sm hf q ix fy) $$ [HF HO]
  · isplitl [HF]; · iexact HF
    iexact HO
  icases HD with ⟨%f0, HD, HK, HY⟩
  unfold bwp
  rw [wp_bind]
  iapply (h1 B ym hf ix q fy f0 0 (by omega) _) $$ HD
  iintro HD
  rw [wp_bind]
  iapply (h2 B ym hf ix q fy f0 256 (by omega) _) $$ HD
  iintro HD
  imod (end_drain c B ym sm hf q ix fy f0) $$ [HD HK HY] with ⟨HH, HY, HO⟩
  · isplitl [HD]; · iexact HD
    isplitl [HK]; · iexact HK
    iexact HY
  imod (begin_issue c B' ym sm' hf q ix' fy) $$ [HI HY] with ⟨%f1, HI, HY⟩
  · isplitl [HI]; · iexact HI
    iexact HY
  rw [wp_bind]
  iapply (h3 q qa fy f1 _) $$ [HT HI]
  · isplitl [HT]; · iexact HT
    iexact HI
  iintro ⟨HT, HI⟩
  ihave HF := (end_issue c B' ym sm' hf q ix' fy f1) $$ [HI HY]
  · isplitl [HI]; · iexact HI
    iexact HY
  iapply Hk
  isplitl [HH]; · iexact HH
  isplitl [HF]; · iexact HF
  isplitl [HT]; · iexact HT
  iexact HO

/-- A half is waited for. -/
theorem half_drain {l1 l2 : Prog (TpuEff nD τ sig (Elt F) Λ₀ .tc) PUnit} (h1 : Waits (F := F) c sm l1) (h2 : Waits (F := F) c sm l2)
    (q : PosShare TreeShare) (fy : Buf (Elt F) (ym.view.loc (c : Thread nD τ)))
    {α : Type} {kk : Prog (TpuEff nD τ sig (Elt F) Λ₀ .tc) α} {Q : α → sProp 𝕄} :
    iprop(flight (F := F) c B ym sm hf q ix fy ∗ (∃ W, owes (c : Thread nD τ) 0 W))
      ⊢ iprop((iprop(idle (F := F) c B sm hf ∗ yPt (F := F) c ym ym.view.set q fy ∗ (∃ W, owes (c : Thread nD τ) 0 W)) -∗ bwp c kk Q)
        -∗ bwp c (l1 >>= fun _ => l2 >>= fun _ => kk) Q) := by
  iintro HF Hk
  ihave HD := (begin_drain c B ym sm hf q ix fy) $$ HF
  icases HD with ⟨%f0, HD, HK, HY⟩
  unfold bwp
  rw [wp_bind]
  iapply (h1 B ym hf ix q fy f0 0 (by omega) _) $$ HD
  iintro HD
  rw [wp_bind]
  iapply (h2 B ym hf ix q fy f0 256 (by omega) _) $$ HD
  iintro HD
  imod (end_drain c B ym sm hf q ix fy f0) $$ [HD HK HY] with ⟨HH, HY, HO⟩
  · isplitl [HD]; · iexact HD
    isplitl [HK]; · iexact HK
    iexact HY
  iapply Hk
  isplitl [HH]; · iapply (full_idle c B ym sm hf ix fy) $$ HH
  isplitl [HY]; · iexact HY
  iexact HO

/-- A half's copies are started. -/
theorem half_start {a : Memref sig .tc .smem S1x1x1024 .i32} {d : S1x1x1024.Idx → BitVec 32}
    {l : Prog (TpuEff nD τ sig (Elt F) Λ₀ .tc) PUnit} (h : Issues (F := F) c B ym sm hf ix a d l)
    (q qa : PosShare TreeShare) (fy : Buf (Elt F) (ym.view.loc (c : Thread nD τ)))
    {α : Type} {kk : Prog (TpuEff nD τ sig (Elt F) Λ₀ .tc) α} {Q : α → sProp 𝕄} :
    iprop(idle (F := F) c B sm hf ∗ yPt (F := F) c ym ym.view.set q fy ∗ tab (F := F) c a qa d)
      ⊢ iprop((iprop(flight (F := F) c B ym sm hf q ix fy ∗ tab (F := F) c a qa d) -∗ bwp c kk Q) -∗ bwp c (l >>= fun _ => kk) Q) := by
  iintro ⟨HI, HY, HT⟩ Hk
  imod (begin_issue c B ym sm hf q ix fy) $$ [HI HY] with ⟨%f1, HI, HY⟩
  · isplitl [HI]; · iexact HI
    iexact HY
  unfold bwp
  rw [wp_bind]
  iapply (h q qa fy f1 _) $$ [HT HI]
  · isplitl [HT]; · iexact HT
    iexact HI
  iintro ⟨HT, HI⟩
  ihave HF := (end_issue c B ym sm hf q ix fy f1) $$ [HI HY]
  · isplitl [HI]; · iexact HI
    iexact HY
  iapply Hk
  isplitl [HF]; · iexact HF
  iexact HT

end Kinds

section Loops

variable (c : Dev nD) (i : grid0.Coords)
  (arg1 : Memref sig .tc .smem S1x1x1024 .i32) (harg1 : arg1.IsWhole) (arg2 : Memref sig .tc .smem S1x1x1024 .i32) (harg2 : arg2.IsWhole)
  (arg3 : Memref sig .tc .vmem S512x128 .f32) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .hbm S40960x1024 .i32) (harg7 : arg7.IsWhole) (arg8 : Memref sig .tc .vmem S512x2048 .f32) (harg8 : arg8.IsWhole)
  (arg9 : Memref sig .tc .vmem S512x1024 .i32) (harg9 : arg9.IsWhole) (arg10 : Memref sig .tc .vmem S512x1024 .i32) (harg10 : arg10.IsWhole)
  (arg11 : Memref sig .tc .vmem S512x1024 .i32) (harg11 : arg11.IsWhole) (arg12 : Memref sig .tc .vmem S512x1024 .i32) (harg12 : arg12.IsWhole)
  (arg13 : DmaSems sig S4)

/-- The two buffers of a slot. -/
abbrev bufs (b0 b1 : BM) : Fin 2 → BM := ![b0, b1]

theorem wOf_val (hf : Fin 2) (n : ℕ) (hn : n < 512) : (wOf hf ⟨n, hn⟩).val = 512 * (n % 2) + (256 * hf.val + n / 2) := rfl
theorem rOf_val (hf : Fin 2) (n : ℕ) (hn : n < 512) : (rOf hf ⟨n, hn⟩).val = 256 * hf.val + n / 2 := rfl
theorem kOf_even (t : ℕ) (h : 2 * t < 512) : kOf ⟨2 * t, h⟩ = 0 := Fin.ext (by show 2 * t % 2 = 0; omega)
theorem kOf_odd (t : ℕ) (h : 2 * t + 1 < 512) : kOf ⟨2 * t + 1, h⟩ = 1 := Fin.ext (by show (2 * t + 1) % 2 = 1; omega)

/-- A word below the row count names a row. -/
theorem in_rows (v : BitVec 32) (hv : v.toNat < 40960) : ∀ a, (![v.toNat, 0] : Fin 2 → ℕ) a + S1x1024.size a ≤ S40960x1024.size a := by
  intro a; fin_cases a
  · show v.toNat + 1 ≤ 40960; omega
  · show 0 + 1024 ≤ 1024; omega

theorem t1_issues (k0_h1 : k0_cond1 i = 1#1) (ix : Fin 2 → Fin 512 → ℕ) (d : S1x1x1024.Idx → BitVec 32)
    (hix : ∀ j : Fin 512, (d (ix3 (n0 := 1) (n1 := 1) (n2 := 1024) 0 0 (wOf 0 j))).toNat = ix (kOf j) (rOf 0 j)) (hr : ∀ k r, ix k r < 40960) :
    Issues (F := F) c (bufs arg9 arg10) arg7 (semAt arg13 0 inb_S4_S1_0) 0 ix arg1 d
      (Scf.Loop.for k0_t1_loop (k0_t1_ok i k0_h1) ⟨⟩ (k0_t1_body (F := F) i arg1 harg1 arg2 harg2 arg3 harg3 arg4 harg4 arg5 harg5 arg6 harg6 arg7 harg7 arg8 harg8 arg9 harg9 arg10 harg10 arg11 harg11 arg12 harg12 arg13 k0_h1 )) := by
  intro q qa fy f0 Q
  refine loop_wp c _ _ 256 (by decide) (fun k => iprop(tab (F := F) c arg1 qa d ∗ issuing (F := F) c (bufs arg9 arg10) arg7 (semAt arg13 0 inb_S4_S1_0) 0 q ix fy f0 (2 * k))) _ ?_
  intro k acc
  have hk : k.val < 256 := k.isLt.trans_eq (by decide)
  unfold k0_t1_body
  iintro H
  iapply (issue_read c (bufs arg9 arg10) arg7 (semAt arg13 0 inb_S4_S1_0) 0 q ix fy f0 arg1 qa d hix hr (2 * k.val) (by omega) arg9 (by rw [kOf_even]; rfl)
    (k0_off1 k) (k0_off1_inb i k k0_h1) ((k0_off1_eq k).trans (by rw [wOf_val]; congr 3; simp only [Fin.val_zero, Fin.val_one]; omega)) numel1_S1x1x1 rfl
    (k0_chk1 i) (k0_chk1.dec i) (fun v hv => fun _ => in_rows v hv)
    (k0_off2 k) (k0_off2_inb i k k0_h1) ((k0_off2_eq k).trans (by rw [rOf_val]; congr 1; simp only [Fin.val_zero, Fin.val_one]; omega))
    k0_off3 (fun v hv => k0_off3_inb i v hv k0_h1) (fun _ => rfl) _ rfl) $$ H
  iintro H
  iapply (issue_read c (bufs arg9 arg10) arg7 (semAt arg13 0 inb_S4_S1_0) 0 q ix fy f0 arg1 qa d hix hr (2 * k.val + 1) (by omega) arg10 (by rw [kOf_odd]; rfl)
    (k0_off4 k) (k0_off4_inb i k k0_h1) ((k0_off4_eq k).trans (by rw [wOf_val]; congr 3; simp only [Fin.val_zero, Fin.val_one]; omega)) numel1_S1x1x1 rfl
    (k0_chk2 i) (k0_chk2.dec i) (fun v hv => fun _ => in_rows v hv)
    (k0_off5 k) (k0_off5_inb i k k0_h1) ((k0_off5_eq k).trans (by rw [rOf_val]; congr 1; simp only [Fin.val_zero, Fin.val_one]; omega))
    k0_off6 (fun v hv => k0_off6_inb i v hv k0_h1) (fun _ => rfl) _ rfl) $$ H
  iintro H
  iapply (pure_step c)
  iexact H

theorem t2_issues (k0_h1 : k0_cond1 i = 1#1) (ix : Fin 2 → Fin 512 → ℕ) (d : S1x1x1024.Idx → BitVec 32)
    (hix : ∀ j : Fin 512, (d (ix3 (n0 := 1) (n1 := 1) (n2 := 1024) 0 0 (wOf 1 j))).toNat = ix (kOf j) (rOf 1 j)) (hr : ∀ k r, ix k r < 40960) :
    Issues (F := F) c (bufs arg9 arg10) arg7 (semAt arg13 1 inb_S4_S1_1) 1 ix arg1 d
      (Scf.Loop.for k0_t2_loop (k0_t2_ok i k0_h1) ⟨⟩ (k0_t2_body (F := F) i arg1 harg1 arg2 harg2 arg3 harg3 arg4 harg4 arg5 harg5 arg6 harg6 arg7 harg7 arg8 harg8 arg9 harg9 arg10 harg10 arg11 harg11 arg12 harg12 arg13 k0_h1 )) := by
  intro q qa fy f0 Q
  refine loop_wp c _ _ 256 (by decide) (fun k => iprop(tab (F := F) c arg1 qa d ∗ issuing (F := F) c (bufs arg9 arg10) arg7 (semAt arg13 1 inb_S4_S1_1) 1 q ix fy f0 (2 * k))) _ ?_
  intro k acc
  have hk : k.val < 256 := k.isLt.trans_eq (by decide)
  unfold k0_t2_body
  iintro H
  iapply (issue_read c (bufs arg9 arg10) arg7 (semAt arg13 1 inb_S4_S1_1) 1 q ix fy f0 arg1 qa d hix hr (2 * k.val) (by omega) arg9 (by rw [kOf_even]; rfl)
    (k0_off7 k) (k0_off7_inb i k k0_h1) ((k0_off7_eq k).trans (by rw [wOf_val]; congr 3; simp only [Fin.val_zero, Fin.val_one]; omega)) numel1_S1x1x1 rfl
    (k0_chk3 i) (k0_chk3.dec i) (fun v hv => fun _ => in_rows v hv)
    (k0_off8 k) (k0_off8_inb i k k0_h1) ((k0_off8_eq k).trans (by rw [rOf_val]; congr 1; simp only [Fin.val_zero, Fin.val_one]; omega))
    k0_off9 (fun v hv => k0_off9_inb i v hv k0_h1) (fun _ => rfl) _ rfl) $$ H
  iintro H
  iapply (issue_read c (bufs arg9 arg10) arg7 (semAt arg13 1 inb_S4_S1_1) 1 q ix fy f0 arg1 qa d hix hr (2 * k.val + 1) (by omega) arg10 (by rw [kOf_odd]; rfl)
    (k0_off10 k) (k0_off10_inb i k k0_h1) ((k0_off10_eq k).trans (by rw [wOf_val]; congr 3; simp only [Fin.val_zero, Fin.val_one]; omega)) numel1_S1x1x1 rfl
    (k0_chk4 i) (k0_chk4.dec i) (fun v hv => fun _ => in_rows v hv)
    (k0_off11 k) (k0_off11_inb i k k0_h1) ((k0_off11_eq k).trans (by rw [rOf_val]; congr 1; simp only [Fin.val_zero, Fin.val_one]; omega))
    k0_off12 (fun v hv => k0_off12_inb i v hv k0_h1) (fun _ => rfl) _ rfl) $$ H
  iintro H
  iapply (pure_step c)
  iexact H

end Loops

section Starts

variable (a : Memref sig .tc .smem S1x1x1024 .i32) (ym : YM) (b0 b1 : BM) (sem : DmaSem sig) (o : ℕ) (P : BitVec 32 → Prop) (hd : ∀ v, Decidable (P v))
  (h4 : ∀ v, P v → ∀ x, (![v.toNat, 0] : Fin 2 → ℕ) x + S1x1024.size x ≤ S40960x1024.size x)

theorem in_tab (n : ℕ) : ∀ x, (![0, 0, n % 1024] : Fin 3 → ℕ) x + S1x1x1.size x ≤ S1x1x1024.size x := by
  have h : n % 1024 < 1024 := Nat.mod_lt _ (by decide)
  intro x; fin_cases x
  · show 0 + 1 ≤ 1; omega
  · show 0 + 1 ≤ 1; omega
  · show n % 1024 + 1 ≤ 1024; omega
theorem in_row (n : ℕ) : ∀ x, (![n % 512, 0] : Fin 2 → ℕ) x + S1x1024.size x ≤ S512x1024.size x := by
  have h : n % 512 < 512 := Nat.mod_lt _ (by decide)
  intro x; fin_cases x
  · show n % 512 + 1 ≤ 512; omega
  · show 0 + 1024 ≤ 1024; omega

/-- One copy started: its row number is word `w` of the table, its row of the buffer `r`. -/
def one (b : BM) (w r : ℕ) (kk : Prog (TpuEff nD τ sig (Elt F) Λ₀ .tc) PUnit) : Prog (TpuEff nD τ sig (Elt F) Λ₀ .tc) PUnit :=
  smemLoad a (Rect.unit (s := S1x1x1024) ![0, 0, w % 1024] S1x1x1.size (in_tab w)) numel1_S1x1x1 rfl >>= fun v =>
    Prog.lift (TpuEff.assume (P v) (hd v)) >>= fun hw =>
      Prog.lift (.enqueueDma (srow ym ![BitVec.toNat v, 0] (h4 v hw.down)) (.here (brow b ![r % 512, 0] (in_row r))) (.dma sem) (View.wordExact_bits rfl) (View.wordExact_bits rfl) ⟨Or.inl rfl, trivial⟩) >>= fun _ => kk
/-- Token `t`'s two copies. -/
def two (t : ℕ) (kk : Prog (TpuEff nD τ sig (Elt F) Λ₀ .tc) PUnit) : Prog (TpuEff nD τ sig (Elt F) Λ₀ .tc) PUnit :=
  one a ym sem P hd h4 b0 (o + t) (o + t) (one a ym sem P hd h4 b1 (512 + (o + t)) (o + t) kk)
/-- Four tokens'. -/
def four (t : ℕ) (kk : Prog (TpuEff nD τ sig (Elt F) Λ₀ .tc) PUnit) : Prog (TpuEff nD τ sig (Elt F) Λ₀ .tc) PUnit :=
  two a ym b0 b1 sem o P hd h4 t (two a ym b0 b1 sem o P hd h4 (t + 1) (two a ym b0 b1 sem o P hd h4 (t + 2) (two a ym b0 b1 sem o P hd h4 (t + 3) kk)))
/-- `4 m` tokens' from token `t` on. -/
def starts : ℕ → ℕ → Prog (TpuEff nD τ sig (Elt F) Λ₀ .tc) PUnit → Prog (TpuEff nD τ sig (Elt F) Λ₀ .tc) PUnit
  | 0, _, kk => kk
  | m + 1, t, kk => four a ym b0 b1 sem o P hd h4 t (starts m (t + 4) kk)

theorem starts_bind (kk : Prog (TpuEff nD τ sig (Elt F) Λ₀ .tc) PUnit) (m t : ℕ) :
    (starts a ym b0 b1 sem o P hd h4 m t (pure ⟨⟩) >>= fun _ => kk) = starts a ym b0 b1 sem o P hd h4 m t kk := by
  induction m generalizing t with
  | zero => rfl
  | succ m ih =>
    show four a ym b0 b1 sem o P hd h4 t (starts a ym b0 b1 sem o P hd h4 m (t + 4) (pure ⟨⟩) >>= fun _ => kk) = four a ym b0 b1 sem o P hd h4 t (starts a ym b0 b1 sem o P hd h4 m (t + 4) kk)
    rw [ih]

variable {a ym b0 b1 sem o P hd h4} in
/-- A program that goes on to start copies, cut off the front of it. -/
theorem chunk {L k rest : Prog (TpuEff nD τ sig (Elt F) Λ₀ .tc) PUnit} {m t : ℕ}
    (h1 : L = four a ym b0 b1 sem o P hd h4 t k) (h2 : k = starts a ym b0 b1 sem o P hd h4 m (t + 4) rest) :
    L = starts a ym b0 b1 sem o P hd h4 (m + 1) t rest := by
  rw [h1, h2]; rfl

variable (c : Dev nD) (hf : Fin 2) (ho : o = 256 * hf.val) (q qa : PosShare TreeShare) (ix : Fin 2 → Fin 512 → ℕ) (d : S1x1x1024.Idx → BitVec 32)
  (hix : ∀ j : Fin 512, (d (ix3 (n0 := 1) (n1 := 1) (n2 := 1024) 0 0 (wOf hf j))).toNat = ix (kOf j) (rOf hf j)) (hr : ∀ k r, ix k r < 40960)
  (hP : ∀ v : BitVec 32, v.toNat < 40960 → P v)

include ho hix hr hP

omit ho in
theorem one_issue (fy : Buf (Elt F) (ym.view.loc (c : Thread nD τ))) (f0 : ∀ k, Buf (Elt F) ((bufs b0 b1 k).view.loc (c : Thread nD τ)))
    (n : ℕ) (hn : n < 512) (b : BM) (eb : b = bufs b0 b1 (kOf ⟨n, hn⟩)) (w r : ℕ) (ew : w % 1024 = (wOf hf ⟨n, hn⟩).val) (er : r % 512 = (rOf hf ⟨n, hn⟩).val)
    {kk : Prog (TpuEff nD τ sig (Elt F) Λ₀ .tc) PUnit} {Q : PUnit → sProp 𝕄} :
    iprop(tab (F := F) c a qa d ∗ issuing (F := F) c (bufs b0 b1) ym sem hf q ix fy f0 n)
      ⊢ iprop((iprop(tab (F := F) c a qa d ∗ issuing (F := F) c (bufs b0 b1) ym sem hf q ix fy f0 (n + 1)) -∗ bwp c kk Q)
        -∗ bwp c (one a ym sem P hd h4 b w r kk) Q) :=
  issue_read c (bufs b0 b1) ym sem hf q ix fy f0 a qa d hix hr n hn b eb _ (in_tab w) (by rw [ew]) numel1_S1x1x1 rfl P hd hP _ (in_row r) (by rw [er])
    (fun v => ![v.toNat, 0]) h4 (fun _ => rfl) sem rfl (hsrc := fun _ _ => View.wordExact_bits rfl) (hdst := View.wordExact_bits rfl) (hsem := ⟨Or.inl rfl, trivial⟩)

theorem two_issue (fy : Buf (Elt F) (ym.view.loc (c : Thread nD τ))) (f0 : ∀ k, Buf (Elt F) ((bufs b0 b1 k).view.loc (c : Thread nD τ)))
    (t : ℕ) (ht : t < 256) {kk : Prog (TpuEff nD τ sig (Elt F) Λ₀ .tc) PUnit} {Q : PUnit → sProp 𝕄} :
    iprop(tab (F := F) c a qa d ∗ issuing (F := F) c (bufs b0 b1) ym sem hf q ix fy f0 (2 * t))
      ⊢ iprop((iprop(tab (F := F) c a qa d ∗ issuing (F := F) c (bufs b0 b1) ym sem hf q ix fy f0 (2 * t + 1 + 1)) -∗ bwp c kk Q)
        -∗ bwp c (two a ym b0 b1 sem o P hd h4 t kk) Q) := by
  have hh := hf.isLt
  have n0 : 2 * t < 512 := by omega
  have n1 : 2 * t + 1 < 512 := by omega
  have k0 : kOf ⟨2 * t, n0⟩ = 0 := Fin.ext (show 2 * t % 2 = 0 by omega)
  have k1 : kOf ⟨2 * t + 1, n1⟩ = 1 := Fin.ext (show (2 * t + 1) % 2 = 1 by omega)
  have w0 : (o + t) % 1024 = (wOf hf ⟨2 * t, n0⟩).val := by rw [wOf_val]; omega
  have w1 : (512 + (o + t)) % 1024 = (wOf hf ⟨2 * t + 1, n1⟩).val := by rw [wOf_val]; omega
  have r0 : (o + t) % 512 = (rOf hf ⟨2 * t, n0⟩).val := by rw [rOf_val]; omega
  have r1 : (o + t) % 512 = (rOf hf ⟨2 * t + 1, n1⟩).val := by rw [rOf_val]; omega
  unfold two
  iintro H Hk
  iapply (one_issue a ym b0 b1 sem P hd h4 c hf q qa ix d hix hr hP fy f0 (2 * t) n0 b0 (by rw [k0]; rfl) (o + t) (o + t) w0 r0) $$ H
  iintro H
  iapply (one_issue a ym b0 b1 sem P hd h4 c hf q qa ix d hix hr hP fy f0 (2 * t + 1) n1 b1 (by rw [k1]; rfl) (512 + (o + t)) (o + t) w1 r1) $$ H
  iintro H
  iapply Hk $$ H

theorem starts_spec (fy : Buf (Elt F) (ym.view.loc (c : Thread nD τ))) (f0 : ∀ k, Buf (Elt F) ((bufs b0 b1 k).view.loc (c : Thread nD τ)))
    {kk : Prog (TpuEff nD τ sig (Elt F) Λ₀ .tc) PUnit} {Q : PUnit → sProp 𝕄} (m t : ℕ) (ht : t + 4 * m = 256) :
    iprop(tab (F := F) c a qa d ∗ issuing (F := F) c (bufs b0 b1) ym sem hf q ix fy f0 (2 * t))
      ⊢ iprop((iprop(tab (F := F) c a qa d ∗ issuing (F := F) c (bufs b0 b1) ym sem hf q ix fy f0 512) -∗ bwp c kk Q)
        -∗ bwp c (starts a ym b0 b1 sem o P hd h4 m t kk) Q) := by
  induction m generalizing t with
  | zero =>
    rw [show 2 * t = 512 by omega]
    iintro H Hk
    unfold starts
    iapply Hk $$ H
  | succ m ih =>
    iintro H Hk
    unfold starts four
    iapply (two_issue a ym b0 b1 sem o P hd h4 c hf ho q qa ix d hix hr hP fy f0 t (by omega)) $$ H
    rw [show 2 * t + 1 + 1 = 2 * (t + 1) by omega]
    iintro H
    iapply (two_issue a ym b0 b1 sem o P hd h4 c hf ho q qa ix d hix hr hP fy f0 (t + 1) (by omega)) $$ H
    rw [show 2 * (t + 1) + 1 + 1 = 2 * (t + 2) by omega]
    iintro H
    iapply (two_issue a ym b0 b1 sem o P hd h4 c hf ho q qa ix d hix hr hP fy f0 (t + 2) (by omega)) $$ H
    rw [show 2 * (t + 2) + 1 + 1 = 2 * (t + 3) by omega]
    iintro H
    iapply (two_issue a ym b0 b1 sem o P hd h4 c hf ho q qa ix d hix hr hP fy f0 (t + 3) (by omega)) $$ H
    rw [show 2 * (t + 3) + 1 + 1 = 2 * (t + 4) by omega]
    iintro H
    iapply (ih (t + 4) (by omega)) $$ H
    iexact Hk

/-- The 512 copies of a half, written out. -/
theorem starts_issues : Issues (F := F) c (bufs b0 b1) ym sem hf ix a d (starts (F := F) a ym b0 b1 sem o P hd h4 64 0 (pure ⟨⟩)) := by
  intro q qa fy f0 Q
  iintro H Hk
  iapply (starts_spec a ym b0 b1 sem o P hd h4 c hf ho q qa ix d hix hr hP fy f0 64 0 rfl) $$ H
  iintro H
  iapply (pure_step c)
  iapply Hk $$ H

end Starts

end Cert.Kernel2Ideal.Hand
end
-- ==== Proof.CBody.lean ====
/-
  Reads and writes of the body (a block's half of the rows), the value of a block's output from the gathered rows, and
  what a point does once its block's copies are in flight (`phase_spec`): it waits for them half by half, starts the next
  block's into the other slot, and stores the normalized combination.
-/
module

public import proofs.«01_k».proof.Proof.CLoops

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Reads and writes -/

/-- A staged block's rectangle read. -/
theorem load_at (c : Dev nD) {s : Shape} {e : EltTy} (m : Memref sig .tc .vmem s e) (q : PosShare TreeShare) (X : s.Idx → Elt F e) (r : Rect s)
    {hl : m.view.LoadsAt r.toLoadRect}
    {α : Type} {kk : (r.shape.Idx → Elt F e) → Prog (TpuEff nD τ sig (Elt F) Λ₀ .tc) α} {Q : α → sProp 𝕄} :
    owns (c : Thread nD τ) m q X ⊢ iprop((owns (c : Thread nD τ) m q X -∗ bwp c (kk (fun x => X (r.emb x))) Q)
      -∗ bwp c (Prog.lift (.load m r.toLoadRect hl) >>= kk) Q) := by
  unfold owns
  iintro ⟨%f, %hf, H⟩ Hk
  have e : m.view.readAt (Elt F) r.toLoadRect f = fun x => X (r.emb x) := by
    rw [← hf]; rfl
  iapply (wp_load (defs := defs₀ (F := F)) Variants.none (c : Thread nD τ) none Set.univ (m := m) (hl := hl)
    (k := kk) (S := m.view.set) (q := q) (f := f) (View.setOn_subset_set _ _)) $$ H
  iintro H
  rw [e]
  iapply Hk
  iexists f
  isplitr [H]; · ipureintro; exact hf
  iexact H

/-- A staged row of parameters read whole. -/
theorem load_row (c : Dev nD) (m : Memref sig .tc .vmem S1x2048 .f32) (q : PosShare TreeShare) (X : S1x2048.Idx → Elt F .f32)
    {hl : m.view.LoadsAt (Rect.unit (s := S1x2048) ![0, 0] S1x2048.size inb_S1x2048_S1x2048_0_0).toLoadRect}
    {α : Type} {kk : (S1x2048.Idx → Elt F .f32) → Prog (TpuEff nD τ sig (Elt F) Λ₀ .tc) α} {Q : α → sProp 𝕄} :
    owns (c : Thread nD τ) m q X ⊢ iprop((owns (c : Thread nD τ) m q X -∗ bwp c (kk X) Q)
      -∗ bwp c (Prog.lift (.load m (Rect.unit (s := S1x2048) ![0, 0] S1x2048.size inb_S1x2048_S1x2048_0_0).toLoadRect hl) >>= kk) Q) := by
  have e : (fun x => X ((Rect.unit (s := S1x2048) ![0, 0] S1x2048.size inb_S1x2048_S1x2048_0_0).emb x)) = X := by
    funext x; congr 1; funext a; apply Fin.ext; fin_cases a
    · show 0 + 1 * (x 0).val = (x 0).val; omega
    · show 0 + 1 * (x 1).val = (x 1).val; omega
  have h := load_at (F := F) c m q X (Rect.unit (s := S1x2048) ![0, 0] S1x2048.size inb_S1x2048_S1x2048_0_0) (hl := hl) (kk := kk) (Q := Q)
  rw [e] at h
  exact h

/-- Where half `hf` starts. -/
def off (hf : Fin 2) : Fin 2 → ℕ := ![256 * hf.val, 0]

theorem in128 (hf : Fin 2) : ∀ a, off hf a + S256x128.size a ≤ S512x128.size a := by revert hf; decide
theorem in1024 (hf : Fin 2) : ∀ a, off hf a + S256x1024.size a ≤ S512x1024.size a := by revert hf; decide
theorem in2048 (hf : Fin 2) : ∀ a, off hf a + S256x2048.size a ≤ S512x2048.size a := by revert hf; decide

/-- Half `hf` of a block of routing weights, of gathered rows, of hidden rows. -/
abbrev cutR {α : Type} (hf : Fin 2) (X : S512x128.Idx → α) : S256x128.Idx → α :=
  fun x => X ((Rect.unit (s := S512x128) (off hf) S256x128.size (in128 hf)).emb x)
abbrev cutG {α : Type} (hf : Fin 2) (X : S512x1024.Idx → α) : S256x1024.Idx → α :=
  fun x => X ((Rect.unit (s := S512x1024) (off hf) S256x1024.size (in1024 hf)).emb x)
abbrev cutH {α : Type} (hf : Fin 2) (X : S512x2048.Idx → α) : S256x2048.Idx → α :=
  fun x => X ((Rect.unit (s := S512x2048) (off hf) S256x2048.size (in2048 hf)).emb x)

/-- A gathered half read. -/
theorem load_half (c : Dev nD) (b : BM) (hf : Fin 2) (G : S512x1024.Idx → BitVec 32)
    {hl : b.view.LoadsAt (Rect.unit (s := S512x1024) (off hf) S256x1024.size (in1024 hf)).toLoadRect}
    {α : Type} {kk : (S256x1024.Idx → Elt F .i32) → Prog (TpuEff nD τ sig (Elt F) Λ₀ .tc) α} {Q : α → sProp 𝕄} :
    half (F := F) c b hf G ⊢ iprop((half (F := F) c b hf G -∗ bwp c (kk (cutG hf G)) Q)
      -∗ bwp c (Prog.lift (.load b (Rect.unit (s := S512x1024) (off hf) S256x1024.size (in1024 hf)).toLoadRect hl) >>= kk) Q) := by
  unfold half
  iintro ⟨%f, %hG, H⟩ Hk
  have hrow : ∀ x : S256x1024.Idx, (((Rect.unit (s := S512x1024) (off hf) S256x1024.size (in1024 hf)).emb x : S512x1024.Idx) 0).val / 256 = hf.val := by
    intro x
    have h0 : (x 0).val < 256 := (x 0).isLt
    show (256 * hf.val + 1 * (x 0).val) / 256 = hf.val; omega
  have e : b.view.readAt (Elt F) (Rect.unit (s := S512x1024) (off hf) S256x1024.size (in1024 hf)).toLoadRect f = (cutG hf G : S256x1024.Idx → Elt F .i32) := by
    funext x
    exact hG _ (hrow x)
  iapply (wp_load (defs := defs₀ (F := F)) Variants.none (c : Thread nD τ) none Set.univ (Q := Q) (m := b) (hl := hl)
    (k := kk) (S := hset b hf) (q := fullShare) (f := f) (by
      intro y hy
      obtain ⟨x, hx, rfl⟩ := Finset.mem_map.mp hy
      obtain ⟨j, hj, ej⟩ := (LoadRect.mem_set _).mp hx 0
      have ej' : (x 0).val = 256 * hf.val + 1 * j := ej
      have hj' : j < 256 := hj
      exact Finset.mem_map.mpr ⟨_, Finset.mem_filter.mpr ⟨Finset.mem_univ _, by omega⟩, rfl⟩)) $$ H
  iintro H
  rw [e]
  iapply Hk
  iexists f
  isplitr [H]; · ipureintro; exact hG
  iexact H

/-- A block with half `hf` replaced. -/
def put {α : Type} (hf : Fin 2) (w : S256x2048.Idx → α) (X : S512x2048.Idx → α) : S512x2048.Idx → α :=
  fun y => if (y 0).val / 256 = hf.val then w (ix2 (n0 := 256) (n1 := 2048) ⟨(y 0).val % 256, Nat.mod_lt _ (by decide)⟩ (y 1)) else X y

/-- A half overwritten. -/
theorem store_half (c : Dev nD) (m : Memref sig .tc .vmem S512x2048 .f32) (hf : Fin 2) (X : S512x2048.Idx → Elt F .f32) (w : S256x2048.Idx → Elt F .f32)
    {hx : (m.access (Rect.unit (s := S512x2048) (off hf) S256x2048.size (in2048 hf))).Stores Finset.univ}
    {hm : (Finset.univ : Finset (Rect.unit (s := S512x2048) (off hf) S256x2048.size (in2048 hf)).shape.Idx) = Finset.univ ∨ ∀ a, (Rect.unit (s := S512x2048) (off hf) S256x2048.size (in2048 hf)).stride a = 1}
    {α : Type} {kk : PUnit → Prog (TpuEff nD τ sig (Elt F) Λ₀ .tc) α} {Q : α → sProp 𝕄} :
    owns (c : Thread nD τ) m fullShare X ⊢ iprop((owns (c : Thread nD τ) m fullShare (put hf w X) -∗ bwp c (kk ⟨⟩) Q)
      -∗ bwp c (Prog.lift (.store m (Rect.unit (s := S512x2048) (off hf) S256x2048.size (in2048 hf)) w Finset.univ hx hm) >>= kk) Q) := by
  unfold owns
  iintro ⟨%f, %hf', H⟩ Hk
  have e : m.view.read (Elt F) ((m.access (Rect.unit (s := S512x2048) (off hf) S256x2048.size (in2048 hf))).write (Elt F) f w Finset.univ) = put hf w X := by
    funext y
    have hy0 : (y 0).val < 512 := (y 0).isLt
    unfold put
    by_cases h : (y 0).val / 256 = hf.val
    · rw [if_pos h]
      have ey : (Rect.unit (s := S512x2048) (off hf) S256x2048.size (in2048 hf)).emb (ix2 (n0 := 256) (n1 := 2048) ⟨(y 0).val % 256, Nat.mod_lt _ (by decide)⟩ (y 1)) = y := by
        funext a; apply Fin.ext; fin_cases a
        · show 256 * hf.val + 1 * ((y 0).val % 256) = (y 0).val; omega
        · show 0 + 1 * (y 1).val = (y 1).val; omega
      have e1 := congrFun (View.read_write_univ (v := m.access (Rect.unit (s := S512x2048) (off hf) S256x2048.size (in2048 hf))) (Val := Elt F) f w)
        (ix2 (n0 := 256) (n1 := 2048) ⟨(y 0).val % 256, Nat.mod_lt _ (by decide)⟩ (y 1))
      refine Eq.trans ?_ e1
      show m.view.read (Elt F) _ y = m.view.read (Elt F) _ ((Rect.unit (s := S512x2048) (off hf) S256x2048.size (in2048 hf)).emb _)
      rw [ey]
    · rw [if_neg h, ← hf']
      have hn : m.view.emb y ∉ (m.access (Rect.unit (s := S512x2048) (off hf) S256x2048.size (in2048 hf))).setOn Finset.univ := by
        intro hm'
        obtain ⟨z, -, hz⟩ := Finset.mem_map.mp hm'
        have hz' : (Rect.unit (s := S512x2048) (off hf) S256x2048.size (in2048 hf)).emb z = y := m.view.emb.injective hz
        have h0 : (z 0).val < 256 := (z 0).isLt
        apply h
        rw [← hz']
        show (256 * hf.val + 1 * (z 0).val) / 256 = hf.val; omega
      rw [View.read_apply, View.read_apply, View.write_of_not_mem _ _ _ hn]
  iapply (wp_store Variants.none (c : Thread nD τ) none Set.univ (m := m) (hx := hx) (hm := hm)
    (k := kk) (S := m.view.set) (f := f) ((View.setOn_subset_set _ _).trans (View.set_slice_subset _ _))) $$ H
  iintro H
  iapply Hk
  iexists _
  isplitr [H]; · ipureintro; exact e
  iexact H

/-! ## The block's output -/

/-- A half of the output: the normalized combination of the hidden rows and the two gathered rows. -/
def outHalf (hf : Fin 2) (R : S512x128.Idx → Elt F .f32) (G0 G1 : S512x1024.Idx → BitVec 32) (H : S512x2048.Idx → Elt F .f32) (g b : S1x2048.Idx → Elt F .f32) :
    S256x2048.Idx → Elt F .f32 :=
  k0_pay4 (k0_pay3 (F := F) (cutR hf R) (cutG hf G0 : S256x1024.Idx → Elt F .i32) (cutG hf G1 : S256x1024.Idx → Elt F .i32)) (cutH hf H) g b

/-- The output of a block. -/
def outBlk (R : S512x128.Idx → Elt F .f32) (G0 G1 : S512x1024.Idx → BitVec 32) (H : S512x2048.Idx → Elt F .f32) (g b : S1x2048.Idx → Elt F .f32) :
    S512x2048.Idx → Elt F .f32 :=
  fun y => outHalf ⟨(y 0).val / 256, by have h : (y 0).val < 512 := (y 0).isLt; omega⟩ R G0 G1 H g b (ix2 (n0 := 256) (n1 := 2048) ⟨(y 0).val % 256, Nat.mod_lt _ (by decide)⟩ (y 1))

theorem put_put (R : S512x128.Idx → Elt F .f32) (G0 G1 : S512x1024.Idx → BitVec 32) (H X : S512x2048.Idx → Elt F .f32) (g b : S1x2048.Idx → Elt F .f32) :
    put 1 (outHalf 1 R G0 G1 H g b) (put 0 (outHalf 0 R G0 G1 H g b) X) = outBlk R G0 G1 H g b := by
  funext y
  have hy0 : (y 0).val < 512 := (y 0).isLt
  unfold put outBlk
  by_cases h : (y 0).val / 256 = 1
  · rw [if_pos (show (y 0).val / 256 = (1 : Fin 2).val from h)]
    have e : (1 : Fin 2) = ⟨(y 0).val / 256, by omega⟩ := Fin.ext h.symm
    rw [← e]
  · have h0 : (y 0).val / 256 = 0 := by omega
    rw [if_neg (show ¬ (y 0).val / 256 = (1 : Fin 2).val from h), if_pos (show (y 0).val / 256 = (0 : Fin 2).val from h0)]
    have e : (0 : Fin 2) = ⟨(y 0).val / 256, by omega⟩ := Fin.ext h0.symm
    rw [← e]

/-! ## A point once its copies are in flight -/

section Phase

variable (a3 : Memref sig .tc .vmem S512x128 .f32) (a4 : Memref sig .tc .vmem S512x2048 .f32) (a5 a6 : Memref sig .tc .vmem S1x2048 .f32)
  (a8 : Memref sig .tc .vmem S512x2048 .f32) (bx bz : BM) (l1 l2 l3 l4 l5 l6 : Prog (TpuEff nD τ sig (Elt F) Λ₀ .tc) PUnit)

/-- A half's combination, stored in place of the output's rows. -/
def tailA (kk : Prog (TpuEff nD τ sig (Elt F) Λ₀ .tc) PUnit) : Prog (TpuEff nD τ sig (Elt F) Λ₀ .tc) PUnit := do
  let vr : Vec F S256x128 .f32 ← Prog.lift (.load a3 (Rect.unit (s := S512x128) (off 0) S256x128.size (in128 0)).toLoadRect (View.loadsAt_vmem h_S256x128))
  let v0 : Vec F S256x1024 .i32 ← Prog.lift (.load bx (Rect.unit (s := S512x1024) (off 0) S256x1024.size (in1024 0)).toLoadRect (View.loadsAt_vmem h_S256x1024))
  let v1 : Vec F S256x1024 .i32 ← Prog.lift (.load bz (Rect.unit (s := S512x1024) (off 0) S256x1024.size (in1024 0)).toLoadRect (View.loadsAt_vmem h_S256x1024))
  let vh : Vec F S256x2048 .f32 ← Prog.lift (.load a4 (Rect.unit (s := S512x2048) (off 0) S256x2048.size (in2048 0)).toLoadRect (View.loadsAt_vmem h_S256x2048))
  let vg : Vec F S1x2048 .f32 ← Prog.lift (.load a5 (Rect.unit (s := S1x2048) ![0, 0] S1x2048.size inb_S1x2048_S1x2048_0_0).toLoadRect (View.loadsAt_vmem h_S1x2048))
  let vb : Vec F S1x2048 .f32 ← Prog.lift (.load a6 (Rect.unit (s := S1x2048) ![0, 0] S1x2048.size inb_S1x2048_S1x2048_0_0).toLoadRect (View.loadsAt_vmem h_S1x2048))
  let _ : Vec F S256x2048 .f32 ← Prog.lift (.load a8 (Rect.unit (s := S512x2048) (off 0) S256x2048.size (in2048 0)).toLoadRect (View.loadsAt_vmem h_S256x2048))
  Prog.lift (.store a8 (Rect.unit (s := S512x2048) (off 0) S256x2048.size (in2048 0)) (k0_pay4 (k0_pay3 vr v0 v1) vh vg vb) Finset.univ (View.stores_vmem_bits_univ h_S256x2048 rfl) (.inl rfl))
  kk
def tailB (kk : Prog (TpuEff nD τ sig (Elt F) Λ₀ .tc) PUnit) : Prog (TpuEff nD τ sig (Elt F) Λ₀ .tc) PUnit := do
  let vr : Vec F S256x128 .f32 ← Prog.lift (.load a3 (Rect.unit (s := S512x128) (off 1) S256x128.size (in128 1)).toLoadRect (View.loadsAt_vmem h_S256x128))
  let v0 : Vec F S256x1024 .i32 ← Prog.lift (.load bx (Rect.unit (s := S512x1024) (off 1) S256x1024.size (in1024 1)).toLoadRect (View.loadsAt_vmem h_S256x1024))
  let v1 : Vec F S256x1024 .i32 ← Prog.lift (.load bz (Rect.unit (s := S512x1024) (off 1) S256x1024.size (in1024 1)).toLoadRect (View.loadsAt_vmem h_S256x1024))
  let vh : Vec F S256x2048 .f32 ← Prog.lift (.load a4 (Rect.unit (s := S512x2048) (off 1) S256x2048.size (in2048 1)).toLoadRect (View.loadsAt_vmem h_S256x2048))
  let vg : Vec F S1x2048 .f32 ← Prog.lift (.load a5 (Rect.unit (s := S1x2048) ![0, 0] S1x2048.size inb_S1x2048_S1x2048_0_0).toLoadRect (View.loadsAt_vmem h_S1x2048))
  let vb : Vec F S1x2048 .f32 ← Prog.lift (.load a6 (Rect.unit (s := S1x2048) ![0, 0] S1x2048.size inb_S1x2048_S1x2048_0_0).toLoadRect (View.loadsAt_vmem h_S1x2048))
  let _ : Vec F S256x2048 .f32 ← Prog.lift (.load a8 (Rect.unit (s := S512x2048) (off 1) S256x2048.size (in2048 1)).toLoadRect (View.loadsAt_vmem h_S256x2048))
  Prog.lift (.store a8 (Rect.unit (s := S512x2048) (off 1) S256x2048.size (in2048 1)) (k0_pay4 (k0_pay3 vr v0 v1) vh vg vb) Finset.univ (View.stores_vmem_bits_univ h_S256x2048 rfl) (.inl rfl))
  kk
/-- The first half: its rows waited for, the next block's started, its rows stored; then the second half. -/
def phase (kk : Prog (TpuEff nD τ sig (Elt F) Λ₀ .tc) PUnit) : Prog (TpuEff nD τ sig (Elt F) Λ₀ .tc) PUnit :=
  l1 >>= fun _ => l2 >>= fun _ => l3 >>= fun _ => tailA a3 a4 a5 a6 a8 bx bz (l4 >>= fun _ => l5 >>= fun _ => l6 >>= fun _ => tailB a3 a4 a5 a6 a8 bx bz kk)

variable (c : Dev nD) (ym : YM) (fy : Buf (Elt F) (ym.view.loc (c : Thread nD τ)))

/-- The slot `B` in flight at rows `ix`, the slot `B'` idle. -/
def flying (B B' : Fin 2 → BM) (s0 s1 t0 t1 : DmaSem sig) (q0 q1 : PosShare TreeShare) (ix : Fin 2 → Fin 512 → ℕ) : sProp 𝕄 :=
  iprop(flight (F := F) c B ym s0 0 q0 ix fy ∗ flight (F := F) c B ym s1 1 q1 ix fy ∗ idle (F := F) c B' t0 0 ∗ idle (F := F) c B' t1 1)
/-- Nothing in flight. -/
def homing (B B' : Fin 2 → BM) (s0 s1 t0 t1 : DmaSem sig) (q0 q1 : PosShare TreeShare) : sProp 𝕄 :=
  iprop((idle (F := F) c B s0 0 ∗ idle (F := F) c B s1 1 ∗ idle (F := F) c B' t0 0 ∗ idle (F := F) c B' t1 1)
    ∗ yPt (F := F) c ym ym.view.set q0 fy ∗ yPt (F := F) c ym ym.view.set q1 fy)

theorem homing_swap (B B' : Fin 2 → BM) (s0 s1 t0 t1 : DmaSem sig) (q0 q1 : PosShare TreeShare) :
    homing (F := F) c ym fy B B' s0 s1 t0 t1 q0 q1 ⊢ homing (F := F) c ym fy B' B t0 t1 s0 s1 q0 q1 := by
  unfold homing
  iintro ⟨⟨H0, H1, H2, H3⟩, HY⟩
  isplitr [HY]
  · isplitl [H2]; · iexact H2
    isplitl [H3]; · iexact H3
    isplitl [H0]; · iexact H0
    iexact H1
  · iexact HY

/-- The blocks a point reads. -/
def reads (q3 q4 q5 q6 : PosShare TreeShare) (R : S512x128.Idx → Elt F .f32) (H : S512x2048.Idx → Elt F .f32) (g b : S1x2048.Idx → Elt F .f32) : sProp 𝕄 :=
  iprop(owns (c : Thread nD τ) a3 q3 R ∗ owns (c : Thread nD τ) a4 q4 H ∗ owns (c : Thread nD τ) a5 q5 g ∗ owns (c : Thread nD τ) a6 q6 b)

theorem full_bufs (sm : DmaSem sig) (hf : Fin 2) (ix : Fin 2 → Fin 512 → ℕ) :
    full (F := F) c (bufs bx bz) ym sm hf ix fy
      = iprop(half (F := F) c bx hf (gath (ym.view.read (Elt F) fy) (ix 0)) ∗ half (F := F) c bz hf (gath (ym.view.read (Elt F) fy) (ix 1)) ∗ zero c sm) := rfl

theorem phase_spec {B' : Fin 2 → BM} {s0 s1 t0 t1 : DmaSem sig} {ix ix' : Fin 2 → Fin 512 → ℕ}
    {a : Memref sig .tc .smem S1x1x1024 .i32} {d : S1x1x1024.Idx → BitVec 32}
    (h1 : Waits (F := F) c s0 l1) (h2 : Waits (F := F) c s0 l2) (h3 : Issues (F := F) c B' ym t0 0 ix' a d l3)
    (h4 : Waits (F := F) c s1 l4) (h5 : Waits (F := F) c s1 l5) (h6 : Issues (F := F) c B' ym t1 1 ix' a d l6)
    (q0 q1 qa q3 q4 q5 q6 : PosShare TreeShare) (R : S512x128.Idx → Elt F .f32) (H X : S512x2048.Idx → Elt F .f32) (g b : S1x2048.Idx → Elt F .f32)
    {kk : Prog (TpuEff nD τ sig (Elt F) Λ₀ .tc) PUnit} {Q : PUnit → sProp 𝕄} :
    iprop(flying (F := F) c ym fy (bufs bx bz) B' s0 s1 t0 t1 q0 q1 ix ∗ tab (F := F) c a qa d ∗ (∃ W, owes (c : Thread nD τ) 0 W)
        ∗ reads (F := F) a3 a4 a5 a6 c q3 q4 q5 q6 R H g b ∗ owns (c : Thread nD τ) a8 fullShare X)
      ⊢ iprop((iprop(flying (F := F) c ym fy B' (bufs bx bz) t0 t1 s0 s1 q0 q1 ix' ∗ tab (F := F) c a qa d ∗ (∃ W, owes (c : Thread nD τ) 0 W)
            ∗ reads (F := F) a3 a4 a5 a6 c q3 q4 q5 q6 R H g b
            ∗ owns (c : Thread nD τ) a8 fullShare (outBlk R (gath (ym.view.read (Elt F) fy) (ix 0)) (gath (ym.view.read (Elt F) fy) (ix 1)) H g b)) -∗ bwp c kk Q)
        -∗ bwp c (phase a3 a4 a5 a6 a8 bx bz l1 l2 l3 l4 l5 l6 kk) Q) := by
  unfold flying reads
  iintro ⟨⟨HF0, HF1, HI0, HI1⟩, HT, HO, ⟨H3, H4, H5, H6⟩, H8⟩ Hk
  unfold phase
  iapply (half_step h1 h2 h3 q0 qa fy) $$ [HF0 HI0 HT HO]
  · isplitl [HF0]; · iexact HF0
    isplitl [HI0]; · iexact HI0
    isplitl [HT]; · iexact HT
    iexact HO
  iintro ⟨HG0, HF0, HT, HO⟩
  unfold tailA
  ihave HG0 := (Entails.of_eq (full_bufs bx bz c ym fy s0 0 ix)) $$ HG0
  icases HG0 with ⟨HX0, HZ0, Hs0⟩
  iapply (load_at c a3 q3 R _) $$ H3
  iintro H3
  iapply (load_half c bx 0 _) $$ HX0
  iintro HX0
  iapply (load_half c bz 0 _) $$ HZ0
  iintro HZ0
  iapply (load_at c a4 q4 H _) $$ H4
  iintro H4
  iapply (load_row c a5 q5 g) $$ H5
  iintro H5
  iapply (load_row c a6 q6 b) $$ H6
  iintro H6
  iapply (load_at c a8 fullShare X _) $$ H8
  iintro H8
  iapply (store_half c a8 0 X _) $$ H8
  iintro H8
  iapply (half_step h4 h5 h6 q1 qa fy) $$ [HF1 HI1 HT HO]
  · isplitl [HF1]; · iexact HF1
    isplitl [HI1]; · iexact HI1
    isplitl [HT]; · iexact HT
    iexact HO
  iintro ⟨HG1, HF1, HT, HO⟩
  unfold tailB
  ihave HG1 := (Entails.of_eq (full_bufs bx bz c ym fy s1 1 ix)) $$ HG1
  icases HG1 with ⟨HX1, HZ1, Hs1⟩
  iapply (load_at c a3 q3 R _) $$ H3
  iintro H3
  iapply (load_half c bx 1 _) $$ HX1
  iintro HX1
  iapply (load_half c bz 1 _) $$ HZ1
  iintro HZ1
  iapply (load_at c a4 q4 H _) $$ H4
  iintro H4
  iapply (load_row c a5 q5 g) $$ H5
  iintro H5
  iapply (load_row c a6 q6 b) $$ H6
  iintro H6
  iapply (load_at c a8 fullShare _ _) $$ H8
  iintro H8
  iapply (store_half c a8 1 _ _) $$ H8
  iintro H8
  iapply Hk
  isplitl [HF0 HF1 HX0 HZ0 Hs0 HX1 HZ1 Hs1]
  · isplitl [HF0]; · iexact HF0
    isplitl [HF1]; · iexact HF1
    isplitl [HX0 HZ0 Hs0]
    · iapply (full_idle c (bufs bx bz) ym s0 0 ix fy)
      rw [full_bufs]
      isplitl [HX0]; · iexact HX0
      isplitl [HZ0]; · iexact HZ0
      iexact Hs0
    · iapply (full_idle c (bufs bx bz) ym s1 1 ix fy)
      rw [full_bufs]
      isplitl [HX1]; · iexact HX1
      isplitl [HZ1]; · iexact HZ1
      iexact Hs1
  isplitl [HT]; · iexact HT
  isplitl [HO]; · iexact HO
  isplitl [H3 H4 H5 H6]
  · isplitl [H3]; · iexact H3
    isplitl [H4]; · iexact H4
    isplitl [H5]; · iexact H5
    iexact H6
  rw [← put_put R _ _ H X g b]
  iexact H8

/-- Both halves of the slot in flight waited for. -/
theorem drain_spec {B B' : Fin 2 → BM} {s0 s1 t0 t1 : DmaSem sig} {ix : Fin 2 → Fin 512 → ℕ}
    (h1 : Waits (F := F) c s0 l1) (h2 : Waits (F := F) c s0 l2) (h3 : Waits (F := F) c s1 l3) (h4 : Waits (F := F) c s1 l4)
    (q0 q1 : PosShare TreeShare) {kk : Prog (TpuEff nD τ sig (Elt F) Λ₀ .tc) PUnit} {Q : PUnit → sProp 𝕄} :
    iprop(flying (F := F) c ym fy B B' s0 s1 t0 t1 q0 q1 ix ∗ (∃ W, owes (c : Thread nD τ) 0 W))
      ⊢ iprop((iprop(homing (F := F) c ym fy B B' s0 s1 t0 t1 q0 q1 ∗ (∃ W, owes (c : Thread nD τ) 0 W)) -∗ bwp c kk Q)
        -∗ bwp c (l1 >>= fun _ => l2 >>= fun _ => l3 >>= fun _ => l4 >>= fun _ => kk) Q) := by
  unfold flying homing
  iintro ⟨⟨HF0, HF1, HI0, HI1⟩, HO⟩ Hk
  iapply (half_drain h1 h2 q0 fy) $$ [HF0 HO]
  · isplitl [HF0]; · iexact HF0
    iexact HO
  iintro ⟨HJ0, HY0, HO⟩
  iapply (half_drain h3 h4 q1 fy) $$ [HF1 HO]
  · isplitl [HF1]; · iexact HF1
    iexact HO
  iintro ⟨HJ1, HY1, HO⟩
  iapply Hk
  isplitr [HO]
  · isplitl [HJ0 HJ1 HI0 HI1]
    · isplitl [HJ0]; · iexact HJ0
      isplitl [HJ1]; · iexact HJ1
      isplitl [HI0]; · iexact HI0
      iexact HI1
    isplitl [HY0]; · iexact HY0
    iexact HY1
  iexact HO

/-- Both halves of a slot started. -/
theorem start_spec {B B' : Fin 2 → BM} {s0 s1 t0 t1 : DmaSem sig} {ix : Fin 2 → Fin 512 → ℕ}
    {a : Memref sig .tc .smem S1x1x1024 .i32} {d : S1x1x1024.Idx → BitVec 32}
    (h1 : Issues (F := F) c B ym s0 0 ix a d l1) (h2 : Issues (F := F) c B ym s1 1 ix a d l2)
    (q0 q1 qa : PosShare TreeShare) {kk : Prog (TpuEff nD τ sig (Elt F) Λ₀ .tc) PUnit} {Q : PUnit → sProp 𝕄} :
    iprop(homing (F := F) c ym fy B B' s0 s1 t0 t1 q0 q1 ∗ tab (F := F) c a qa d)
      ⊢ iprop((iprop(flying (F := F) c ym fy B B' s0 s1 t0 t1 q0 q1 ix ∗ tab (F := F) c a qa d) -∗ bwp c kk Q)
        -∗ bwp c (l1 >>= fun _ => l2 >>= fun _ => kk) Q) := by
  unfold flying homing
  iintro ⟨⟨⟨HI0, HI1, HJ0, HJ1⟩, HY0, HY1⟩, HT⟩ Hk
  iapply (half_start h1 q0 qa fy) $$ [HI0 HY0 HT]
  · isplitl [HI0]; · iexact HI0
    isplitl [HY0]; · iexact HY0
    iexact HT
  iintro ⟨HF0, HT⟩
  iapply (half_start h2 q1 qa fy) $$ [HI1 HY1 HT]
  · isplitl [HI1]; · iexact HI1
    isplitl [HY1]; · iexact HY1
    iexact HT
  iintro ⟨HF1, HT⟩
  iapply Hk
  isplitr [HT]
  · isplitl [HF0]; · iexact HF0
    isplitl [HF1]; · iexact HF1
    isplitl [HJ0]; · iexact HJ0
    iexact HJ1
  iexact HT

end Phase

end Cert.Kernel2Ideal.Hand
end
-- ==== Proof.CStart.lean ====
/-
  The body's two phases: the printed statements, whose copies are started one by one, are waits, starts and a half's store, twice over.
-/
module

public import proofs.«01_k».proof.Proof.CBody

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The 256 tokens' starts from token `o` on, at a point of even number, -/
def evenStarts (i : grid0.Coords) (arg2 : Memref sig .tc .smem S1x1x1024 .i32) (ym : YM) (b0 b1 : BM) (sem : DmaSem sig) (o : ℕ) (h : k0_cond2 i = 1#1) : Prog (TpuEff nD τ sig (Elt F) Λ₀ .tc) PUnit :=
  starts arg2 ym b0 b1 sem o (k0_chk5 i) (k0_chk5.dec i) (fun v hv => k0_off13_inb i v hv h) 64 0 (pure ⟨⟩)
/-- and of odd. -/
def oddStarts (i : grid0.Coords) (arg2 : Memref sig .tc .smem S1x1x1024 .i32) (ym : YM) (b0 b1 : BM) (sem : DmaSem sig) (o : ℕ) (h : k0_cond4 i = 1#1) : Prog (TpuEff nD τ sig (Elt F) Λ₀ .tc) PUnit :=
  starts arg2 ym b0 b1 sem o (k0_chk1029 i) (k0_chk1029.dec i) (fun v hv => k0_off1037_inb i v hv h) 64 0 (pure ⟨⟩)

theorem even_issues (c : Dev nD) (i : grid0.Coords) (arg2 : Memref sig .tc .smem S1x1x1024 .i32) (ym : YM) (b0 b1 : BM) (sem : DmaSem sig) (hf : Fin 2) (h : k0_cond2 i = 1#1)
    (ix : Fin 2 → Fin 512 → ℕ) (d : S1x1x1024.Idx → BitVec 32)
    (hix : ∀ j : Fin 512, (d (ix3 (n0 := 1) (n1 := 1) (n2 := 1024) 0 0 (wOf hf j))).toNat = ix (kOf j) (rOf hf j)) (hr : ∀ k r, ix k r < 40960) :
    Issues (F := F) c (bufs b0 b1) ym sem hf ix arg2 d (evenStarts (F := F) i arg2 ym b0 b1 sem (256 * hf.val) h) :=
  starts_issues arg2 ym b0 b1 sem _ _ _ _ c hf rfl ix d hix hr (fun v hv _ => in_rows v hv)
theorem odd_issues (c : Dev nD) (i : grid0.Coords) (arg2 : Memref sig .tc .smem S1x1x1024 .i32) (ym : YM) (b0 b1 : BM) (sem : DmaSem sig) (hf : Fin 2) (h : k0_cond4 i = 1#1)
    (ix : Fin 2 → Fin 512 → ℕ) (d : S1x1x1024.Idx → BitVec 32)
    (hix : ∀ j : Fin 512, (d (ix3 (n0 := 1) (n1 := 1) (n2 := 1024) 0 0 (wOf hf j))).toNat = ix (kOf j) (rOf hf j)) (hr : ∀ k r, ix k r < 40960) :
    Issues (F := F) c (bufs b0 b1) ym sem hf ix arg2 d (oddStarts (F := F) i arg2 ym b0 b1 sem (256 * hf.val) h) :=
  starts_issues arg2 ym b0 b1 sem _ _ _ _ c hf rfl ix d hix hr (fun v hv _ => in_rows v hv)

/-! ## Programs equal step by step -/

/-- Programs that begin with the same operation. -/
theorem step {X Y : Type} {e : TpuEff nD τ sig (Elt F) Λ₀ .tc X} {L R : Prog (TpuEff nD τ sig (Elt F) Λ₀ .tc) Y} {f g : X → Prog (TpuEff nD τ sig (Elt F) Λ₀ .tc) Y}
    (hL : L = Prog.op e f) (hR : R = Prog.op e g) (h : ∀ x, f x = g x) : L = R := by
  rw [hL, hR, funext h]
/-- A program that begins with `p`, two levels down. -/
theorem lp {X Y Z W : Type} {L : Prog (TpuEff nD τ sig (Elt F) Λ₀ .tc) W} {p : Prog (TpuEff nD τ sig (Elt F) Λ₀ .tc) X}
    {a : X → Prog (TpuEff nD τ sig (Elt F) Λ₀ .tc) Y} {b : Y → Prog (TpuEff nD τ sig (Elt F) Λ₀ .tc) Z} {c : Z → Prog (TpuEff nD τ sig (Elt F) Λ₀ .tc) W} {g : X → Prog (TpuEff nD τ sig (Elt F) Λ₀ .tc) W}
    (hL : L = ((p.bind a).bind b).bind c) (h : ∀ x, ((a x).bind b).bind c = g x) : L = p >>= g :=
  hL.trans ((congrArg (fun z => Prog.bind z c) (Prog.bind_assoc p a b)).trans ((Prog.bind_assoc p _ c).trans (congrArg (Prog.bind p) (funext h))))
theorem startL {a : Memref sig .tc .smem S1x1x1024 .i32} {ym : YM} {b0 b1 : BM} {sem : DmaSem sig} {o : ℕ} {P : BitVec 32 → Prop} {hd : ∀ v, Decidable (P v)}
    {h4 : ∀ v, P v → ∀ x, (![v.toNat, 0] : Fin 2 → ℕ) x + S1x1024.size x ≤ S40960x1024.size x} {L rest : Prog (TpuEff nD τ sig (Elt F) Λ₀ .tc) PUnit} {m t : ℕ}
    (h : L = starts a ym b0 b1 sem o P hd h4 m t rest) : L = (starts a ym b0 b1 sem o P hd h4 m t (pure ⟨⟩) >>= fun _ => rest) := by
  rw [starts_bind]; exact h

section Point

variable (i : grid0.Coords)
  (arg1 : Memref sig .tc .smem S1x1x1024 .i32) (harg1 : arg1.IsWhole) (arg2 : Memref sig .tc .smem S1x1x1024 .i32) (harg2 : arg2.IsWhole)
  (arg3 : Memref sig .tc .vmem S512x128 .f32) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .hbm S40960x1024 .i32) (harg7 : arg7.IsWhole) (arg8 : Memref sig .tc .vmem S512x2048 .f32) (harg8 : arg8.IsWhole)
  (arg9 : Memref sig .tc .vmem S512x1024 .i32) (harg9 : arg9.IsWhole) (arg10 : Memref sig .tc .vmem S512x1024 .i32) (harg10 : arg10.IsWhole)
  (arg11 : Memref sig .tc .vmem S512x1024 .i32) (harg11 : arg11.IsWhole) (arg12 : Memref sig .tc .vmem S512x1024 .i32) (harg12 : arg12.IsWhole)
  (arg13 : DmaSems sig S4)

set_option maxRecDepth 1000000 in
set_option maxHeartbeats 0 in
/-- A point of even number is a phase, -/
theorem even_eq (h : k0_cond2 i = 1#1) (kk : Prog (TpuEff nD τ sig (Elt F) Λ₀ .tc) PUnit) : (k0_part242 (F := F) i arg1 harg1 arg2 harg2 arg3 harg3 arg4 harg4 arg5 harg5 arg6 harg6 arg7 harg7 arg8 harg8 arg9 harg9 arg10 harg10 arg11 harg11 arg12 harg12 arg13 h >>= fun x => match x with
      | ⟨v1311, hw⟩ => k0_part243 (F := F) i arg1 harg1 arg2 harg2 arg3 harg3 arg4 harg4 arg5 harg5 arg6 harg6 arg7 harg7 arg8 harg8 arg9 harg9 arg10 harg10 arg11 harg11 arg12 harg12 arg13 h v1311 hw >>= fun v2606 => k0_part244 (F := F) i arg1 harg1 arg2 harg2 arg3 harg3 arg4 harg4 arg5 harg5 arg6 harg6 arg7 harg7 arg8 harg8 arg9 harg9 arg10 harg10 arg11 harg11 arg12 harg12 arg13 h v2606 >>= fun x => match x with
        | ⟨v3901, hw⟩ => k0_part245 (F := F) i arg1 harg1 arg2 harg2 arg3 harg3 arg4 harg4 arg5 harg5 arg6 harg6 arg7 harg7 arg8 harg8 arg9 harg9 arg10 harg10 arg11 harg11 arg12 harg12 arg13 h v3901 hw >>= fun x => match x with
          | ⟨v5186, hw⟩ => k0_part241 (F := F) i arg1 harg1 arg2 harg2 arg3 harg3 arg4 harg4 arg5 harg5 arg6 harg6 arg7 harg7 arg8 harg8 arg9 harg9 arg10 harg10 arg11 harg11 arg12 harg12 arg13 h v5186 hw >>= fun x => match x with
            | ⟨v5215, v5216, v5217, v5219, v5220⟩ => do
              let v5238 : Vec F S256x2048 .f32 ← Prog.lift (.load arg8 (Rect.unit (s := S512x2048) ![256, 0] S256x2048.size inb_S512x2048_S256x2048_256_0).toLoadRect (View.loadsAt_vmem h_S256x2048))
              Prog.lift (.store arg8 (Rect.unit (s := S512x2048) ![256, 0] S256x2048.size inb_S512x2048_S256x2048_256_0) (k0_pay1 v5215 v5216 v5217 v5219 v5220) Finset.univ (View.stores_vmem_bits_univ h_S256x2048 rfl) (.inl rfl))
              kk)
    = phase arg3 arg4 arg5 arg6 arg8 arg9 arg10 (waitLoop (semAt arg13 0 inb_S4_S1_0) (k0_t3_ok i h) arg9 arg7) (waitLoop (semAt arg13 0 inb_S4_S1_0) (k0_t4_ok i h) arg10 arg7) (evenStarts (F := F) i arg2 arg7 arg11 arg12 (semAt arg13 2 inb_S4_S1_2) 0 h) (waitLoop (semAt arg13 1 inb_S4_S1_1) (k0_t5_ok i h) arg9 arg7) (waitLoop (semAt arg13 1 inb_S4_S1_1) (k0_t6_ok i h) arg10 arg7) (evenStarts (F := F) i arg2 arg7 arg11 arg12 (semAt arg13 3 inb_S4_S1_3) 256 h) kk := by
  unfold phase
  refine lp (F := F) rfl fun _ => lp (F := F) rfl fun _ => ?_
  unfold evenStarts
  refine startL (F := F) ?_
  iterate 64 refine chunk (F := F) rfl ?_
  unfold tailA
  iterate 8 refine step (F := F) rfl rfl fun _ => ?_
  refine lp (F := F) rfl fun _ => lp (F := F) rfl fun _ => lp (F := F) rfl fun _ => ?_
  refine startL (F := F) ?_
  iterate 64 refine chunk (F := F) rfl ?_
  unfold tailB
  iterate 8 refine step (F := F) rfl rfl fun _ => ?_
  rfl

set_option maxRecDepth 1000000 in
set_option maxHeartbeats 0 in
/-- and a point of odd. -/
theorem odd_eq (h : k0_cond4 i = 1#1) (kk : Prog (TpuEff nD τ sig (Elt F) Λ₀ .tc) PUnit) : (k0_part487 (F := F) i arg1 harg1 arg2 harg2 arg3 harg3 arg4 harg4 arg5 harg5 arg6 harg6 arg7 harg7 arg8 harg8 arg9 harg9 arg10 harg10 arg11 harg11 arg12 harg12 arg13 h >>= fun x => match x with
      | ⟨v1311, hw⟩ => k0_part488 (F := F) i arg1 harg1 arg2 harg2 arg3 harg3 arg4 harg4 arg5 harg5 arg6 harg6 arg7 harg7 arg8 harg8 arg9 harg9 arg10 harg10 arg11 harg11 arg12 harg12 arg13 h v1311 hw >>= fun v2606 => k0_part489 (F := F) i arg1 harg1 arg2 harg2 arg3 harg3 arg4 harg4 arg5 harg5 arg6 harg6 arg7 harg7 arg8 harg8 arg9 harg9 arg10 harg10 arg11 harg11 arg12 harg12 arg13 h v2606 >>= fun x => match x with
        | ⟨v3901, hw⟩ => k0_part490 (F := F) i arg1 harg1 arg2 harg2 arg3 harg3 arg4 harg4 arg5 harg5 arg6 harg6 arg7 harg7 arg8 harg8 arg9 harg9 arg10 harg10 arg11 harg11 arg12 harg12 arg13 h v3901 hw >>= fun x => match x with
          | ⟨v5186, hw⟩ => k0_part486 (F := F) i arg1 harg1 arg2 harg2 arg3 harg3 arg4 harg4 arg5 harg5 arg6 harg6 arg7 harg7 arg8 harg8 arg9 harg9 arg10 harg10 arg11 harg11 arg12 harg12 arg13 h v5186 hw >>= fun x => match x with
            | ⟨v5215, v5216, v5217, v5219, v5220⟩ => do
              let v5238 : Vec F S256x2048 .f32 ← Prog.lift (.load arg8 (Rect.unit (s := S512x2048) ![256, 0] S256x2048.size inb_S512x2048_S256x2048_256_0).toLoadRect (View.loadsAt_vmem h_S256x2048))
              Prog.lift (.store arg8 (Rect.unit (s := S512x2048) ![256, 0] S256x2048.size inb_S512x2048_S256x2048_256_0) (k0_pay2 v5215 v5216 v5217 v5219 v5220) Finset.univ (View.stores_vmem_bits_univ h_S256x2048 rfl) (.inl rfl))
              kk)
    = phase arg3 arg4 arg5 arg6 arg8 arg11 arg12 (waitLoop (semAt arg13 2 inb_S4_S1_2) (k0_t11_ok i h) arg11 arg7) (waitLoop (semAt arg13 2 inb_S4_S1_2) (k0_t12_ok i h) arg12 arg7) (oddStarts (F := F) i arg2 arg7 arg9 arg10 (semAt arg13 0 inb_S4_S1_0) 0 h) (waitLoop (semAt arg13 3 inb_S4_S1_3) (k0_t13_ok i h) arg11 arg7) (waitLoop (semAt arg13 3 inb_S4_S1_3) (k0_t14_ok i h) arg12 arg7) (oddStarts (F := F) i arg2 arg7 arg9 arg10 (semAt arg13 1 inb_S4_S1_1) 256 h) kk := by
  unfold phase
  refine lp (F := F) rfl fun _ => lp (F := F) rfl fun _ => ?_
  unfold oddStarts
  refine startL (F := F) ?_
  iterate 64 refine chunk (F := F) rfl ?_
  unfold tailA
  iterate 8 refine step (F := F) rfl rfl fun _ => ?_
  refine lp (F := F) rfl fun _ => lp (F := F) rfl fun _ => lp (F := F) rfl fun _ => ?_
  refine startL (F := F) ?_
  iterate 64 refine chunk (F := F) rfl ?_
  unfold tailB
  iterate 8 refine step (F := F) rfl rfl fun _ => ?_
  rfl

end Point

end Cert.Kernel2Ideal.Hand
end
-- ==== Proof.CPoint.lean ====
/-
  The body at one grid point, whole: what is in flight before it and after it, and what it leaves of the output block.
-/
module

public import proofs.«01_k».proof.Proof.CStart

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's conditions -/

theorem cond1_iff : ∀ i : grid0.Coords, k0_cond1 i = 1#1 ↔ (i 0).val = 0 := by decide +kernel
theorem cond2_iff : ∀ i : grid0.Coords, k0_cond2 i = 1#1 ↔ (i 0).val % 2 = 0 := by decide +kernel
theorem cond4_iff : ∀ i : grid0.Coords, k0_cond4 i = 1#1 ↔ (i 0).val % 2 = 1 := by decide +kernel
theorem cond3_iff : ∀ i : grid0.Coords, k0_cond3 i = 1#1 ↔ (i 0).val = 31 := by decide +kernel
theorem cond5_iff : ∀ i : grid0.Coords, k0_cond5 i = 1#1 ↔ (i 0).val = 31 := by decide +kernel
theorem lt32 (i : grid0.Coords) : (i 0).val < 32 := (i 0).isLt

section Point

variable (c : Dev nD) (i : grid0.Coords)
  (arg1 : Memref sig .tc .smem S1x1x1024 .i32) (harg1 : arg1.IsWhole) (arg2 : Memref sig .tc .smem S1x1x1024 .i32) (harg2 : arg2.IsWhole)
  (arg3 : Memref sig .tc .vmem S512x128 .f32) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .hbm S40960x1024 .i32) (harg7 : arg7.IsWhole) (arg8 : Memref sig .tc .vmem S512x2048 .f32) (harg8 : arg8.IsWhole)
  (arg9 : Memref sig .tc .vmem S512x1024 .i32) (harg9 : arg9.IsWhole) (arg10 : Memref sig .tc .vmem S512x1024 .i32) (harg10 : arg10.IsWhole)
  (arg11 : Memref sig .tc .vmem S512x1024 .i32) (harg11 : arg11.IsWhole) (arg12 : Memref sig .tc .vmem S512x1024 .i32) (harg12 : arg12.IsWhole)
  (arg13 : DmaSems sig S4)

/-- The first point: block 0's copies started. -/
def ph1 (kk : Prog (TpuEff nD τ sig (Elt F) Λ₀ .tc) PUnit) : Prog (TpuEff nD τ sig (Elt F) Λ₀ .tc) PUnit :=
  if k0_h1 : k0_cond1 i = 1#1 then
    (Scf.Loop.for k0_t1_loop (k0_t1_ok i k0_h1) ⟨⟩ (k0_t1_body (F := F) i arg1 harg1 arg2 harg2 arg3 harg3 arg4 harg4 arg5 harg5 arg6 harg6 arg7 harg7 arg8 harg8 arg9 harg9 arg10 harg10 arg11 harg11 arg12 harg12 arg13 k0_h1 )) >>= fun _ => (Scf.Loop.for k0_t2_loop (k0_t2_ok i k0_h1) ⟨⟩ (k0_t2_body (F := F) i arg1 harg1 arg2 harg2 arg3 harg3 arg4 harg4 arg5 harg5 arg6 harg6 arg7 harg7 arg8 harg8 arg9 harg9 arg10 harg10 arg11 harg11 arg12 harg12 arg13 k0_h1 )) >>= fun _ => kk
  else kk

/-- A point of even number: the first slot's rows used, the second's started. -/
def ph2 (kk : Prog (TpuEff nD τ sig (Elt F) Λ₀ .tc) PUnit) : Prog (TpuEff nD τ sig (Elt F) Λ₀ .tc) PUnit :=
  if k0_h2 : k0_cond2 i = 1#1 then
    phase arg3 arg4 arg5 arg6 arg8 arg9 arg10 (waitLoop (semAt arg13 0 inb_S4_S1_0) (k0_t3_ok i k0_h2) arg9 arg7) (waitLoop (semAt arg13 0 inb_S4_S1_0) (k0_t4_ok i k0_h2) arg10 arg7) (evenStarts (F := F) i arg2 arg7 arg11 arg12 (semAt arg13 2 inb_S4_S1_2) 0 k0_h2) (waitLoop (semAt arg13 1 inb_S4_S1_1) (k0_t5_ok i k0_h2) arg9 arg7) (waitLoop (semAt arg13 1 inb_S4_S1_1) (k0_t6_ok i k0_h2) arg10 arg7) (evenStarts (F := F) i arg2 arg7 arg11 arg12 (semAt arg13 3 inb_S4_S1_3) 256 k0_h2) (if k0_h3 : k0_cond3 i = 1#1 then
          (Scf.Loop.for k0_t7_loop (k0_t7_ok i k0_h2 k0_h3) ⟨⟩ (k0_t7_body (F := F) i arg1 harg1 arg2 harg2 arg3 harg3 arg4 harg4 arg5 harg5 arg6 harg6 arg7 harg7 arg8 harg8 arg9 harg9 arg10 harg10 arg11 harg11 arg12 harg12 arg13 k0_h2 k0_h3)) >>= fun _ => (Scf.Loop.for k0_t8_loop (k0_t8_ok i k0_h2 k0_h3) ⟨⟩ (k0_t8_body (F := F) i arg1 harg1 arg2 harg2 arg3 harg3 arg4 harg4 arg5 harg5 arg6 harg6 arg7 harg7 arg8 harg8 arg9 harg9 arg10 harg10 arg11 harg11 arg12 harg12 arg13 k0_h2 k0_h3)) >>= fun _ => (Scf.Loop.for k0_t9_loop (k0_t9_ok i k0_h2 k0_h3) ⟨⟩ (k0_t9_body (F := F) i arg1 harg1 arg2 harg2 arg3 harg3 arg4 harg4 arg5 harg5 arg6 harg6 arg7 harg7 arg8 harg8 arg9 harg9 arg10 harg10 arg11 harg11 arg12 harg12 arg13 k0_h2 k0_h3)) >>= fun _ => (Scf.Loop.for k0_t10_loop (k0_t10_ok i k0_h2 k0_h3) ⟨⟩ (k0_t10_body (F := F) i arg1 harg1 arg2 harg2 arg3 harg3 arg4 harg4 arg5 harg5 arg6 harg6 arg7 harg7 arg8 harg8 arg9 harg9 arg10 harg10 arg11 harg11 arg12 harg12 arg13 k0_h2 k0_h3)) >>= fun _ => kk
        else kk)
  else kk

/-- A point of odd number: the second slot's rows used, the first's started, and at the last point waited for. -/
def ph3 : Prog (TpuEff nD τ sig (Elt F) Λ₀ .tc) PUnit :=
  if k0_h4 : k0_cond4 i = 1#1 then
    phase arg3 arg4 arg5 arg6 arg8 arg11 arg12 (waitLoop (semAt arg13 2 inb_S4_S1_2) (k0_t11_ok i k0_h4) arg11 arg7) (waitLoop (semAt arg13 2 inb_S4_S1_2) (k0_t12_ok i k0_h4) arg12 arg7) (oddStarts (F := F) i arg2 arg7 arg9 arg10 (semAt arg13 0 inb_S4_S1_0) 0 k0_h4) (waitLoop (semAt arg13 3 inb_S4_S1_3) (k0_t13_ok i k0_h4) arg11 arg7) (waitLoop (semAt arg13 3 inb_S4_S1_3) (k0_t14_ok i k0_h4) arg12 arg7) (oddStarts (F := F) i arg2 arg7 arg9 arg10 (semAt arg13 1 inb_S4_S1_1) 256 k0_h4) (if k0_h5 : k0_cond5 i = 1#1 then
          (waitLoop (semAt arg13 0 inb_S4_S1_0) (k0_t15_ok i k0_h4 k0_h5) arg9 arg7) >>= fun _ => (waitLoop (semAt arg13 0 inb_S4_S1_0) (k0_t16_ok i k0_h4 k0_h5) arg10 arg7) >>= fun _ => (waitLoop (semAt arg13 1 inb_S4_S1_1) (k0_t17_ok i k0_h4 k0_h5) arg9 arg7) >>= fun _ => (waitLoop (semAt arg13 1 inb_S4_S1_1) (k0_t18_ok i k0_h4 k0_h5) arg10 arg7) >>= fun _ => pure ⟨⟩
        else pure ⟨⟩)
  else pure ⟨⟩

set_option maxRecDepth 65536 in
/-- The body is the three phases in turn. -/
theorem body_phases : cc0_moe_combine_ln (F := F) i arg1 harg1 arg2 harg2 arg3 harg3 arg4 harg4 arg5 harg5 arg6 harg6 arg7 harg7 arg8 harg8 arg9 harg9 arg10 harg10 arg11 harg11 arg12 harg12 arg13
    = ph1 (F := F) i arg1 harg1 arg2 harg2 arg3 harg3 arg4 harg4 arg5 harg5 arg6 harg6 arg7 harg7 arg8 harg8 arg9 harg9 arg10 harg10 arg11 harg11 arg12 harg12 arg13 (ph2 (F := F) i arg1 harg1 arg2 harg2 arg3 harg3 arg4 harg4 arg5 harg5 arg6 harg6 arg7 harg7 arg8 harg8 arg9 harg9 arg10 harg10 arg11 harg11 arg12 harg12 arg13 (ph3 (F := F) i arg2 arg3 arg4 arg5 arg6 arg7 arg8 arg9 arg10 arg11 arg12 arg13)) := by
  rw [cc0_moe_combine_ln_eq_skeleton]
  unfold ph2 ph3
  simp only [← even_eq (F := F) i arg1 harg1 arg2 harg2 arg3 harg3 arg4 harg4 arg5 harg5 arg6 harg6 arg7 harg7 arg8 harg8 arg9 harg9 arg10 harg10 arg11 harg11 arg12 harg12 arg13, ← odd_eq (F := F) i arg1 harg1 arg2 harg2 arg3 harg3 arg4 harg4 arg5 harg5 arg6 harg6 arg7 harg7 arg8 harg8 arg9 harg9 arg10 harg10 arg11 harg11 arg12 harg12 arg13]
  rfl

variable (fy : Buf (Elt F) (arg7.view.loc (c : Thread nD τ))) (q0 q1 : PosShare TreeShare) (ixs : ℕ → Fin 2 → Fin 512 → ℕ)

/-- Block `n`'s copies in flight into its slot. -/
def begun (n : ℕ) : sProp 𝕄 :=
  if n % 2 = 0 then flying (F := F) c arg7 fy (bufs arg9 arg10) (bufs arg11 arg12) (semAt arg13 0 inb_S4_S1_0) (semAt arg13 1 inb_S4_S1_1) (semAt arg13 2 inb_S4_S1_2) (semAt arg13 3 inb_S4_S1_3) q0 q1 (ixs n)
  else flying (F := F) c arg7 fy (bufs arg11 arg12) (bufs arg9 arg10) (semAt arg13 2 inb_S4_S1_2) (semAt arg13 3 inb_S4_S1_3) (semAt arg13 0 inb_S4_S1_0) (semAt arg13 1 inb_S4_S1_1) q0 q1 (ixs n)

/-- Nothing in flight, in the buffers of the call. -/
def home : sProp 𝕄 :=
  homing (F := F) c arg7 fy (bufs arg9 arg10) (bufs arg11 arg12) (semAt arg13 0 inb_S4_S1_0) (semAt arg13 1 inb_S4_S1_1) (semAt arg13 2 inb_S4_S1_2) (semAt arg13 3 inb_S4_S1_3) q0 q1

/-- Before point `n`: block `n`'s copies are in flight, but before the first point and after the last nothing is. -/
def between (n : ℕ) : sProp 𝕄 :=
  if n = 0 ∨ n = 32 then home (F := F) c arg7 arg9 arg10 arg11 arg12 arg13 fy q0 q1 else begun (F := F) c arg7 arg9 arg10 arg11 arg12 arg13 fy q0 q1 ixs n

theorem ph1_spec (hr : ∀ n k r, ixs n k r < 40960) (qa : PosShare TreeShare) (d : S1x1x1024.Idx → BitVec 32)
    (hix : ∀ hf (j : Fin 512), (d (ix3 (n0 := 1) (n1 := 1) (n2 := 1024) 0 0 (wOf hf j))).toNat = ixs (i 0).val (kOf j) (rOf hf j))
    {kk : Prog (TpuEff nD τ sig (Elt F) Λ₀ .tc) PUnit} {Q : PUnit → sProp 𝕄} :
    iprop(between (F := F) c arg7 arg9 arg10 arg11 arg12 arg13 fy q0 q1 ixs (i 0).val ∗ tab (F := F) c arg1 qa d)
      ⊢ iprop((iprop(begun (F := F) c arg7 arg9 arg10 arg11 arg12 arg13 fy q0 q1 ixs (i 0).val ∗ tab (F := F) c arg1 qa d) -∗ bwp c kk Q)
        -∗ bwp c (ph1 (F := F) i arg1 harg1 arg2 harg2 arg3 harg3 arg4 harg4 arg5 harg5 arg6 harg6 arg7 harg7 arg8 harg8 arg9 harg9 arg10 harg10 arg11 harg11 arg12 harg12 arg13 kk) Q) := by
  have hi := lt32 i
  unfold between
  by_cases h0 : (i 0).val = 0
  · have hc := (cond1_iff i).mpr h0
    have e1 : ph1 (F := F) i arg1 harg1 arg2 harg2 arg3 harg3 arg4 harg4 arg5 harg5 arg6 harg6 arg7 harg7 arg8 harg8 arg9 harg9 arg10 harg10 arg11 harg11 arg12 harg12 arg13 kk = ((Scf.Loop.for k0_t1_loop (k0_t1_ok i hc) ⟨⟩ (k0_t1_body (F := F) i arg1 harg1 arg2 harg2 arg3 harg3 arg4 harg4 arg5 harg5 arg6 harg6 arg7 harg7 arg8 harg8 arg9 harg9 arg10 harg10 arg11 harg11 arg12 harg12 arg13 hc )) >>= fun _ => (Scf.Loop.for k0_t2_loop (k0_t2_ok i hc) ⟨⟩ (k0_t2_body (F := F) i arg1 harg1 arg2 harg2 arg3 harg3 arg4 harg4 arg5 harg5 arg6 harg6 arg7 harg7 arg8 harg8 arg9 harg9 arg10 harg10 arg11 harg11 arg12 harg12 arg13 hc )) >>= fun _ => kk) := by
      unfold ph1; exact dif_pos hc
    have e2 : begun (F := F) c arg7 arg9 arg10 arg11 arg12 arg13 fy q0 q1 ixs (i 0).val = flying (F := F) c arg7 fy (bufs arg9 arg10) (bufs arg11 arg12) (semAt arg13 0 inb_S4_S1_0) (semAt arg13 1 inb_S4_S1_1) (semAt arg13 2 inb_S4_S1_2) (semAt arg13 3 inb_S4_S1_3) q0 q1 (ixs (i 0).val) := if_pos (by omega)
    rw [if_pos (Or.inl h0), e1, e2]
    unfold home
    exact start_spec (F := F) (c := c) (ym := arg7) (fy := fy) (h1 := t1_issues (F := F) c i arg1 harg1 arg2 harg2 arg3 harg3 arg4 harg4 arg5 harg5 arg6 harg6 arg7 harg7 arg8 harg8 arg9 harg9 arg10 harg10 arg11 harg11 arg12 harg12 arg13 hc (ixs (i 0).val) d (hix 0) (hr _))
      (h2 := t2_issues (F := F) c i arg1 harg1 arg2 harg2 arg3 harg3 arg4 harg4 arg5 harg5 arg6 harg6 arg7 harg7 arg8 harg8 arg9 harg9 arg10 harg10 arg11 harg11 arg12 harg12 arg13 hc (ixs (i 0).val) d (hix 1) (hr _)) (q0 := q0) (q1 := q1) (qa := qa)
  · have e1 : ph1 (F := F) i arg1 harg1 arg2 harg2 arg3 harg3 arg4 harg4 arg5 harg5 arg6 harg6 arg7 harg7 arg8 harg8 arg9 harg9 arg10 harg10 arg11 harg11 arg12 harg12 arg13 kk = kk := by
      unfold ph1; exact dif_neg fun h => h0 ((cond1_iff i).mp h)
    rw [if_neg (by omega), e1]
    iintro H Hk
    iapply Hk $$ H

/-- The output block of a point. -/
abbrev outOf (n : ℕ) (R : S512x128.Idx → Elt F .f32) (H : S512x2048.Idx → Elt F .f32) (g b : S1x2048.Idx → Elt F .f32) : S512x2048.Idx → Elt F .f32 :=
  outBlk R (gath (arg7.view.read (Elt F) fy) (ixs n 0)) (gath (arg7.view.read (Elt F) fy) (ixs n 1)) H g b

/-- A point of even number. -/
theorem even_spec (he : (i 0).val % 2 = 0) (hr : ∀ n k r, ixs n k r < 40960) (qa : PosShare TreeShare) (d : S1x1x1024.Idx → BitVec 32)
    (hix : ∀ hf (j : Fin 512), (d (ix3 (n0 := 1) (n1 := 1) (n2 := 1024) 0 0 (wOf hf j))).toNat = ixs ((i 0).val + 1) (kOf j) (rOf hf j))
    (q3 q4 q5 q6 : PosShare TreeShare) (R : S512x128.Idx → Elt F .f32) (H X : S512x2048.Idx → Elt F .f32) (g b : S1x2048.Idx → Elt F .f32)
    {kk : Prog (TpuEff nD τ sig (Elt F) Λ₀ .tc) PUnit} {Q : PUnit → sProp 𝕄} :
    iprop(begun (F := F) c arg7 arg9 arg10 arg11 arg12 arg13 fy q0 q1 ixs (i 0).val ∗ tab (F := F) c arg2 qa d ∗ (∃ W, owes (c : Thread nD τ) 0 W)
        ∗ reads (F := F) arg3 arg4 arg5 arg6 c q3 q4 q5 q6 R H g b ∗ owns (c : Thread nD τ) arg8 fullShare X)
      ⊢ iprop((iprop(between (F := F) c arg7 arg9 arg10 arg11 arg12 arg13 fy q0 q1 ixs ((i 0).val + 1) ∗ tab (F := F) c arg2 qa d ∗ (∃ W, owes (c : Thread nD τ) 0 W)
        ∗ reads (F := F) arg3 arg4 arg5 arg6 c q3 q4 q5 q6 R H g b ∗ owns (c : Thread nD τ) arg8 fullShare (outOf (F := F) c arg7 fy ixs (i 0).val R H g b)) -∗ bwp c kk Q)
        -∗ bwp c (ph2 (F := F) i arg1 harg1 arg2 harg2 arg3 harg3 arg4 harg4 arg5 harg5 arg6 harg6 arg7 harg7 arg8 harg8 arg9 harg9 arg10 harg10 arg11 harg11 arg12 harg12 arg13 kk) Q) := by
  have hi := lt32 i
  have hc := (cond2_iff i).mpr he
  have e2 : begun (F := F) c arg7 arg9 arg10 arg11 arg12 arg13 fy q0 q1 ixs (i 0).val = flying (F := F) c arg7 fy (bufs arg9 arg10) (bufs arg11 arg12) (semAt arg13 0 inb_S4_S1_0) (semAt arg13 1 inb_S4_S1_1) (semAt arg13 2 inb_S4_S1_2) (semAt arg13 3 inb_S4_S1_3) q0 q1 (ixs (i 0).val) := if_pos he
  have e3 : between (F := F) c arg7 arg9 arg10 arg11 arg12 arg13 fy q0 q1 ixs ((i 0).val + 1) = flying (F := F) c arg7 fy (bufs arg11 arg12) (bufs arg9 arg10) (semAt arg13 2 inb_S4_S1_2) (semAt arg13 3 inb_S4_S1_3) (semAt arg13 0 inb_S4_S1_0) (semAt arg13 1 inb_S4_S1_1) q0 q1 (ixs ((i 0).val + 1)) := by
    unfold between begun
    rw [if_neg (by omega), if_neg (by omega)]
  rw [e2, e3]
  unfold ph2
  rw [dif_pos hc]
  simp only [dif_neg (show ¬ k0_cond3 i = 1#1 from fun h => by have := (cond3_iff i).mp h; omega)]
  exact (phase_spec (F := F) arg3 arg4 arg5 arg6 arg8 arg9 arg10 (waitLoop (semAt arg13 0 inb_S4_S1_0) (k0_t3_ok i hc) arg9 arg7) (waitLoop (semAt arg13 0 inb_S4_S1_0) (k0_t4_ok i hc) arg10 arg7) (evenStarts (F := F) i arg2 arg7 arg11 arg12 (semAt arg13 2 inb_S4_S1_2) 0 hc) (waitLoop (semAt arg13 1 inb_S4_S1_1) (k0_t5_ok i hc) arg9 arg7) (waitLoop (semAt arg13 1 inb_S4_S1_1) (k0_t6_ok i hc) arg10 arg7) (evenStarts (F := F) i arg2 arg7 arg11 arg12 (semAt arg13 3 inb_S4_S1_3) 256 hc)  c arg7 fy
      (waits (F := F) c _ _ _ _) (waits (F := F) c _ _ _ _) (even_issues (F := F) c i arg2 arg7 arg11 arg12 (semAt arg13 2 inb_S4_S1_2) 0 hc (ixs ((i 0).val + 1)) d (hix 0) (hr _))
      (waits (F := F) c _ _ _ _) (waits (F := F) c _ _ _ _) (even_issues (F := F) c i arg2 arg7 arg11 arg12 (semAt arg13 3 inb_S4_S1_3) 1 hc (ixs ((i 0).val + 1)) d (hix 1) (hr _))
      q0 q1 qa q3 q4 q5 q6 R H X g b)

/-- A point of odd number. -/
theorem odd_spec (ho : (i 0).val % 2 = 1) (hr : ∀ n k r, ixs n k r < 40960) (qa : PosShare TreeShare) (d : S1x1x1024.Idx → BitVec 32)
    (hix : ∀ hf (j : Fin 512), (d (ix3 (n0 := 1) (n1 := 1) (n2 := 1024) 0 0 (wOf hf j))).toNat = ixs ((i 0).val + 1) (kOf j) (rOf hf j))
    (q3 q4 q5 q6 : PosShare TreeShare) (R : S512x128.Idx → Elt F .f32) (H X : S512x2048.Idx → Elt F .f32) (g b : S1x2048.Idx → Elt F .f32)
    {Q : PUnit → sProp 𝕄} :
    iprop(begun (F := F) c arg7 arg9 arg10 arg11 arg12 arg13 fy q0 q1 ixs (i 0).val ∗ tab (F := F) c arg2 qa d ∗ (∃ W, owes (c : Thread nD τ) 0 W)
        ∗ reads (F := F) arg3 arg4 arg5 arg6 c q3 q4 q5 q6 R H g b ∗ owns (c : Thread nD τ) arg8 fullShare X)
      ⊢ iprop((iprop(between (F := F) c arg7 arg9 arg10 arg11 arg12 arg13 fy q0 q1 ixs ((i 0).val + 1) ∗ tab (F := F) c arg2 qa d ∗ (∃ W, owes (c : Thread nD τ) 0 W)
        ∗ reads (F := F) arg3 arg4 arg5 arg6 c q3 q4 q5 q6 R H g b ∗ owns (c : Thread nD τ) arg8 fullShare (outOf (F := F) c arg7 fy ixs (i 0).val R H g b)) -∗ Q ⟨⟩)
        -∗ bwp c (ph3 (F := F) i arg2 arg3 arg4 arg5 arg6 arg7 arg8 arg9 arg10 arg11 arg12 arg13) Q) := by
  have hi := lt32 i
  have hc := (cond4_iff i).mpr ho
  have e2 : begun (F := F) c arg7 arg9 arg10 arg11 arg12 arg13 fy q0 q1 ixs (i 0).val = flying (F := F) c arg7 fy (bufs arg11 arg12) (bufs arg9 arg10) (semAt arg13 2 inb_S4_S1_2) (semAt arg13 3 inb_S4_S1_3) (semAt arg13 0 inb_S4_S1_0) (semAt arg13 1 inb_S4_S1_1) q0 q1 (ixs (i 0).val) := if_neg (by omega)
  rw [e2]
  unfold ph3
  rw [dif_pos hc]
  by_cases h31 : (i 0).val = 31
  · have hc5 := (cond5_iff i).mpr h31
    have e3 : between (F := F) c arg7 arg9 arg10 arg11 arg12 arg13 fy q0 q1 ixs ((i 0).val + 1) = home (F := F) c arg7 arg9 arg10 arg11 arg12 arg13 fy q0 q1 := if_pos (Or.inr (by omega))
    rw [e3]
    simp only [dif_pos hc5]
    iintro H Hk
    iapply (phase_spec (F := F) arg3 arg4 arg5 arg6 arg8 arg11 arg12 (waitLoop (semAt arg13 2 inb_S4_S1_2) (k0_t11_ok i hc) arg11 arg7) (waitLoop (semAt arg13 2 inb_S4_S1_2) (k0_t12_ok i hc) arg12 arg7) (oddStarts (F := F) i arg2 arg7 arg9 arg10 (semAt arg13 0 inb_S4_S1_0) 0 hc) (waitLoop (semAt arg13 3 inb_S4_S1_3) (k0_t13_ok i hc) arg11 arg7) (waitLoop (semAt arg13 3 inb_S4_S1_3) (k0_t14_ok i hc) arg12 arg7) (oddStarts (F := F) i arg2 arg7 arg9 arg10 (semAt arg13 1 inb_S4_S1_1) 256 hc)  c arg7 fy
      (waits (F := F) c _ _ _ _) (waits (F := F) c _ _ _ _) (odd_issues (F := F) c i arg2 arg7 arg9 arg10 (semAt arg13 0 inb_S4_S1_0) 0 hc (ixs ((i 0).val + 1)) d (hix 0) (hr _))
      (waits (F := F) c _ _ _ _) (waits (F := F) c _ _ _ _) (odd_issues (F := F) c i arg2 arg7 arg9 arg10 (semAt arg13 1 inb_S4_S1_1) 1 hc (ixs ((i 0).val + 1)) d (hix 1) (hr _))
      q0 q1 qa q3 q4 q5 q6 R H X g b) $$ H
    iintro ⟨HF, HT, HO, HR⟩
    iapply (drain_spec (F := F) (c := c) (ym := arg7) (fy := fy) (h1 := waits (F := F) c _ _ _ _) (h2 := waits (F := F) c _ _ _ _) (h3 := waits (F := F) c _ _ _ _) (h4 := waits (F := F) c _ _ _ _) (q0 := q0) (q1 := q1)) $$ [HF HO]
    · isplitl [HF]; · iexact HF
      iexact HO
    iintro ⟨HF, HO⟩
    iapply (pure_step c)
    iapply Hk
    isplitl [HF]; · unfold home; iexact HF
    isplitl [HT]; · iexact HT
    isplitl [HO]; · iexact HO
    iexact HR
  · have e3 : between (F := F) c arg7 arg9 arg10 arg11 arg12 arg13 fy q0 q1 ixs ((i 0).val + 1) = flying (F := F) c arg7 fy (bufs arg9 arg10) (bufs arg11 arg12) (semAt arg13 0 inb_S4_S1_0) (semAt arg13 1 inb_S4_S1_1) (semAt arg13 2 inb_S4_S1_2) (semAt arg13 3 inb_S4_S1_3) q0 q1 (ixs ((i 0).val + 1)) := by
      unfold between begun
      rw [if_neg (by omega), if_pos (by omega)]
    rw [e3]
    simp only [dif_neg (show ¬ k0_cond5 i = 1#1 from fun h => h31 ((cond5_iff i).mp h))]
    iintro H Hk
    iapply (phase_spec (F := F) arg3 arg4 arg5 arg6 arg8 arg11 arg12 (waitLoop (semAt arg13 2 inb_S4_S1_2) (k0_t11_ok i hc) arg11 arg7) (waitLoop (semAt arg13 2 inb_S4_S1_2) (k0_t12_ok i hc) arg12 arg7) (oddStarts (F := F) i arg2 arg7 arg9 arg10 (semAt arg13 0 inb_S4_S1_0) 0 hc) (waitLoop (semAt arg13 3 inb_S4_S1_3) (k0_t13_ok i hc) arg11 arg7) (waitLoop (semAt arg13 3 inb_S4_S1_3) (k0_t14_ok i hc) arg12 arg7) (oddStarts (F := F) i arg2 arg7 arg9 arg10 (semAt arg13 1 inb_S4_S1_1) 256 hc)  c arg7 fy
      (waits (F := F) c _ _ _ _) (waits (F := F) c _ _ _ _) (odd_issues (F := F) c i arg2 arg7 arg9 arg10 (semAt arg13 0 inb_S4_S1_0) 0 hc (ixs ((i 0).val + 1)) d (hix 0) (hr _))
      (waits (F := F) c _ _ _ _) (waits (F := F) c _ _ _ _) (odd_issues (F := F) c i arg2 arg7 arg9 arg10 (semAt arg13 1 inb_S4_S1_1) 1 hc (ixs ((i 0).val + 1)) d (hix 1) (hr _))
      q0 q1 qa q3 q4 q5 q6 R H X g b) $$ H
    iintro H
    iapply (pure_step c)
    iapply Hk $$ H

/-- The body at point `i`. -/
theorem body_spec (hr : ∀ n k r, ixs n k r < 40960) (qa : PosShare TreeShare) (d : S1x1x1024.Idx → BitVec 32)
    (hix : ∀ hf (j : Fin 512), (d (ix3 (n0 := 1) (n1 := 1) (n2 := 1024) 0 0 (wOf hf j))).toNat = ixs ((i 0).val + 1) (kOf j) (rOf hf j))
    (q3 q4 q5 q6 : PosShare TreeShare) (R : S512x128.Idx → Elt F .f32) (H X : S512x2048.Idx → Elt F .f32) (g b : S1x2048.Idx → Elt F .f32)
    (qc : PosShare TreeShare) (d1 : S1x1x1024.Idx → BitVec 32)
    (hix1 : ∀ hf (j : Fin 512), (d1 (ix3 (n0 := 1) (n1 := 1) (n2 := 1024) 0 0 (wOf hf j))).toNat = ixs (i 0).val (kOf j) (rOf hf j))
    {Q : PUnit → sProp 𝕄} :
    iprop(tab (F := F) c arg1 qc d1 ∗ iprop(between (F := F) c arg7 arg9 arg10 arg11 arg12 arg13 fy q0 q1 ixs (i 0).val ∗ tab (F := F) c arg2 qa d ∗ (∃ W, owes (c : Thread nD τ) 0 W)
        ∗ reads (F := F) arg3 arg4 arg5 arg6 c q3 q4 q5 q6 R H g b ∗ owns (c : Thread nD τ) arg8 fullShare X))
      ⊢ iprop((iprop(tab (F := F) c arg1 qc d1 ∗ iprop(between (F := F) c arg7 arg9 arg10 arg11 arg12 arg13 fy q0 q1 ixs ((i 0).val + 1) ∗ tab (F := F) c arg2 qa d ∗ (∃ W, owes (c : Thread nD τ) 0 W)
        ∗ reads (F := F) arg3 arg4 arg5 arg6 c q3 q4 q5 q6 R H g b ∗ owns (c : Thread nD τ) arg8 fullShare (outOf (F := F) c arg7 fy ixs (i 0).val R H g b))) -∗ Q ⟨⟩)
        -∗ bwp c (cc0_moe_combine_ln (F := F) i arg1 harg1 arg2 harg2 arg3 harg3 arg4 harg4 arg5 harg5 arg6 harg6 arg7 harg7 arg8 harg8 arg9 harg9 arg10 harg10 arg11 harg11 arg12 harg12 arg13) Q) := by
  have hi := lt32 i
  rw [body_phases]
  by_cases he : (i 0).val % 2 = 0
  · have e3 : ph3 (F := F) i arg2 arg3 arg4 arg5 arg6 arg7 arg8 arg9 arg10 arg11 arg12 arg13 = pure ⟨⟩ := by
      unfold ph3; exact dif_neg fun h => by have := (cond4_iff i).mp h; omega
    rw [e3]
    iintro ⟨H1, HB, HR⟩ Hk
    iapply (ph1_spec (F := F) c i arg1 harg1 arg2 harg2 arg3 harg3 arg4 harg4 arg5 harg5 arg6 harg6 arg7 harg7 arg8 harg8 arg9 harg9 arg10 harg10 arg11 harg11 arg12 harg12 arg13 fy q0 q1 ixs hr qc d1 hix1) $$ [HB H1]
    · isplitl [HB]; · iexact HB
      iexact H1
    iintro ⟨HB, H1⟩
    iapply (even_spec (F := F) c i arg1 harg1 arg2 harg2 arg3 harg3 arg4 harg4 arg5 harg5 arg6 harg6 arg7 harg7 arg8 harg8 arg9 harg9 arg10 harg10 arg11 harg11 arg12 harg12 arg13 fy q0 q1 ixs he hr qa d hix q3 q4 q5 q6 R H X g b) $$ [HB HR]
    · isplitl [HB]; · iexact HB
      iexact HR
    iintro H
    iapply (pure_step c)
    iapply Hk
    isplitl [H1]; · iexact H1
    iexact H
  · have e2 : ph2 (F := F) i arg1 harg1 arg2 harg2 arg3 harg3 arg4 harg4 arg5 harg5 arg6 harg6 arg7 harg7 arg8 harg8 arg9 harg9 arg10 harg10 arg11 harg11 arg12 harg12 arg13 (ph3 (F := F) i arg2 arg3 arg4 arg5 arg6 arg7 arg8 arg9 arg10 arg11 arg12 arg13) = ph3 (F := F) i arg2 arg3 arg4 arg5 arg6 arg7 arg8 arg9 arg10 arg11 arg12 arg13 := by
      unfold ph2; exact dif_neg fun h => he ((cond2_iff i).mp h)
    rw [e2]
    iintro ⟨H1, HB, HR⟩ Hk
    iapply (ph1_spec (F := F) c i arg1 harg1 arg2 harg2 arg3 harg3 arg4 harg4 arg5 harg5 arg6 harg6 arg7 harg7 arg8 harg8 arg9 harg9 arg10 harg10 arg11 harg11 arg12 harg12 arg13 fy q0 q1 ixs hr qc d1 hix1) $$ [HB H1]
    · isplitl [HB]; · iexact HB
      iexact H1
    iintro ⟨HB, H1⟩
    iapply (odd_spec (F := F) c i arg2 arg3 arg4 arg5 arg6 arg7 arg8 arg9 arg10 arg11 arg12 arg13 fy q0 q1 ixs (by omega) hr qa d hix q3 q4 q5 q6 R H X g b) $$ [HB HR]
    · isplitl [HB]; · iexact HB
      iexact HR
    iintro H
    iapply Hk
    isplitl [H1]; · iexact H1
    iexact H

end Point

end Cert.Kernel2Ideal.Hand
end
-- ==== Proof.CFrame.lean ====
/-
  The launch: the data of the pipeline's run, and the body's obligation at each grid point.
-/
module

public import proofs.«01_k».proof.Proof.CPoint
public import proofs.«01_k».proof.Proof.Gen.Kernel2Ideal.Frame
public import Idealize.ShloMosaic.Lib.Pipeline.Frame
import Idealize.ShloMosaic.Lib.Pipeline.Kit

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- What the row numbers must satisfy. -/
def InRange : Prop := ∀ (c : Dev nD) i, ((V m c main_arg0 : S32x1x1024.Idx → BitVec 32) i).toNat < 40960

/-- The row numbers of block `n` (past the last block: the last block's): of its row `r`, copy `k` of the two. -/
def nums (c : Dev nD) (n : ℕ) (k : Fin 2) (r : Fin 512) : ℕ :=
  ((V m c main_arg0 : S32x1x1024.Idx → BitVec 32) (ix3 (n0 := 32) (n1 := 1) (n2 := 1024) ⟨min n 31, by omega⟩ 0 ⟨512 * k.val + r.val, by omega⟩)).toNat

/-- The output block of point `n`. -/
def outAt (c : Dev nD) (t : Fin cfg0.N) : S512x2048.Idx → Elt F .f32 :=
  outOf (F := F) c (Memref.whole main_arg5) (V m c main_arg5) (nums m c) t.val (((cfg0.win 2).blk t).view.read (Elt F) (V m c main_arg1)) (((cfg0.win 3).blk t).view.read (Elt F) (V m c main_arg2)) (((cfg0.win 4).blk t).view.read (Elt F) (V m c main_arg3)) (((cfg0.win 5).blk t).view.read (Elt F) (V m c main_arg4))

/-- What is in flight before point `n`. -/
abbrev inFlight (c : Dev nD) (n : ℕ) : sProp 𝕄 :=
  between (F := F) c (Memref.whole main_arg5) (Memref.whole cc0_scratch0) (Memref.whole cc0_scratch1) (Memref.whole cc0_scratch2) (Memref.whole cc0_scratch3)
    cc0_scratch4 (V m c main_arg5) fullShare.left fullShare.right (nums m c) n

/-- The invariant before point `n`. -/
def Phi (c : Dev nD) (n : ℕ) : sProp 𝕄 := iprop(inFlight (F := F) m c n ∗ (∃ r, prngReg c r))

/-- The data of the pipeline's run. -/
def dats (_ : Fin 1) (c : Dev nD) : Dat τ (Elt F) Unit ℕ (Pipeline.UD sig nD τ) ℕ cfg0 c where
  A w := V m c (Pipeline.arrRef spec0 w)
  after w t := match w with
    | ⟨0, _⟩ => (((cfg0.win 0).blk t).view.read (Elt F) (V m c main_arg0))
    | ⟨1, _⟩ => (((cfg0.win 1).blk t).view.read (Elt F) (V m c main_arg0))
    | ⟨2, _⟩ => (((cfg0.win 2).blk t).view.read (Elt F) (V m c main_arg1))
    | ⟨3, _⟩ => (((cfg0.win 3).blk t).view.read (Elt F) (V m c main_arg2))
    | ⟨4, _⟩ => (((cfg0.win 4).blk t).view.read (Elt F) (V m c main_arg3))
    | ⟨5, _⟩ => (((cfg0.win 5).blk t).view.read (Elt F) (V m c main_arg4))
    | ⟨6, _⟩ => outAt (F := F) m c t
    | ⟨_ + 7, h⟩ => absurd h (Nat.not_lt.2 (Nat.le_add_left _ _))
  Φ t := Phi m c t.val
  q w := Pipeline.shareOf spec0 w
  owed _ := 0

theorem A_eq (c : Dev nD) (w : Fin 7) : (dats m 0 c).A w = V m c (Pipeline.arrRef spec0 w) := by
  dsimp only [dats]

theorem after_0 (c : Dev nD) (t : Fin cfg0.N) : (dats m 0 c).after 0 t = (((cfg0.win 0).blk t).view.read (Elt F) (V m c main_arg0)) := rfl
theorem before_0 (c : Dev nD) (t : Fin cfg0.N) (d) : (dats m 0 c).before 0 t d = (((cfg0.win 0).blk t).view.read (Elt F) (V m c main_arg0)) :=
  (dats m 0 c).before_in_eq_fetched 0 rfl (fun _ => rfl) (fun _ _ _ => rfl) (fun _ => rfl) t d
theorem after_1 (c : Dev nD) (t : Fin cfg0.N) : (dats m 0 c).after 1 t = (((cfg0.win 1).blk t).view.read (Elt F) (V m c main_arg0)) := rfl
theorem before_1 (c : Dev nD) (t : Fin cfg0.N) (d) : (dats m 0 c).before 1 t d = (((cfg0.win 1).blk t).view.read (Elt F) (V m c main_arg0)) :=
  (dats m 0 c).before_in_eq_fetched 1 rfl (fun _ => rfl) (fun _ _ _ => rfl) (fun _ => rfl) t d
theorem after_2 (c : Dev nD) (t : Fin cfg0.N) : (dats m 0 c).after 2 t = (((cfg0.win 2).blk t).view.read (Elt F) (V m c main_arg1)) := rfl
theorem before_2 (c : Dev nD) (t : Fin cfg0.N) (d) : (dats m 0 c).before 2 t d = (((cfg0.win 2).blk t).view.read (Elt F) (V m c main_arg1)) :=
  (dats m 0 c).before_in_eq_fetched 2 rfl (fun _ => rfl) (fun _ _ _ => rfl) (fun _ => rfl) t d
theorem after_3 (c : Dev nD) (t : Fin cfg0.N) : (dats m 0 c).after 3 t = (((cfg0.win 3).blk t).view.read (Elt F) (V m c main_arg2)) := rfl
theorem before_3 (c : Dev nD) (t : Fin cfg0.N) (d) : (dats m 0 c).before 3 t d = (((cfg0.win 3).blk t).view.read (Elt F) (V m c main_arg2)) :=
  (dats m 0 c).before_in_eq_fetched 3 rfl (fun _ => rfl) (fun _ _ _ => rfl) (fun _ => rfl) t d
theorem after_4 (c : Dev nD) (t : Fin cfg0.N) : (dats m 0 c).after 4 t = (((cfg0.win 4).blk t).view.read (Elt F) (V m c main_arg3)) := rfl
theorem before_4 (c : Dev nD) (t : Fin cfg0.N) (d) : (dats m 0 c).before 4 t d = (((cfg0.win 4).blk t).view.read (Elt F) (V m c main_arg3)) :=
  (dats m 0 c).before_in_eq_fetched 4 rfl (fun _ => rfl) (fun _ _ _ => rfl) (fun _ => rfl) t d
theorem after_5 (c : Dev nD) (t : Fin cfg0.N) : (dats m 0 c).after 5 t = (((cfg0.win 5).blk t).view.read (Elt F) (V m c main_arg4)) := rfl
theorem before_5 (c : Dev nD) (t : Fin cfg0.N) (d) : (dats m 0 c).before 5 t d = (((cfg0.win 5).blk t).view.read (Elt F) (V m c main_arg4)) :=
  (dats m 0 c).before_in_eq_fetched 5 rfl (fun _ => rfl) (fun _ _ _ => rfl) (fun _ => rfl) t d
theorem after_6 (c : Dev nD) (t : Fin cfg0.N) : (dats m 0 c).after 6 t = outAt (F := F) m c t := rfl

/-- The one grid coordinate of a point is its number. -/
theorem coord_val (t : Fin grid0.N) : ((grid0.coords t) 0).val = t.val := by
  revert t; decide +kernel

theorem t0_eq : ∀ t : Fin grid0.N, cc0_transform_0 (grid0.coords t) = ![t.val, 0, 0] := by decide +kernel
theorem t1_eq : ∀ t : Fin grid0.N, cc0_transform_1 (grid0.coords t) = ![min (t.val + 1) 31, 0, 0] := by decide +kernel

/-- The words the first number window holds at point `t`: the row numbers of block `t`. -/
theorem win0_word (c : Dev nD) (t : Fin cfg0.N) (hf : Fin 2) (j : Fin 512) :
    (((((cfg0.win 0).blk t).view.read (Elt F) (V m c main_arg0)) : S1x1x1024.Idx → BitVec 32) (ix3 (n0 := 1) (n1 := 1) (n2 := 1024) 0 0 (wOf hf j))).toNat = nums m c (t.val) (kOf j) (rOf hf j) := by
  have ht : t.val < 32 := t.isLt.trans_eq N_0
  show ((V m c main_arg0 : S32x1x1024.Idx → BitVec 32) _).toNat = ((V m c main_arg0 : S32x1x1024.Idx → BitVec 32) _).toNat
  congr 2
  funext a
  apply Fin.ext
  refine (Pipeline.Window.rect_emb_val (cfg0.win 0) t (ix3 (n0 := 1) (n1 := 1) (n2 := 1024) 0 0 (wOf hf j)) a).trans ?_
  show cc0_transform_0 (grid0.coords t) a * S1x1x1024.size a + _ = _
  rw [t0_eq t]
  fin_cases a
  · show t.val * 1 + 0 = min (t.val) 31; omega
  · rfl
  · show 0 * 1024 + (512 * (kOf j).val + (rOf hf j).val) = 512 * (kOf j).val + (rOf hf j).val; omega

/-- The words the second number window holds at point `t`: those of the next block. -/
theorem win1_word (c : Dev nD) (t : Fin cfg0.N) (hf : Fin 2) (j : Fin 512) :
    (((((cfg0.win 1).blk t).view.read (Elt F) (V m c main_arg0)) : S1x1x1024.Idx → BitVec 32) (ix3 (n0 := 1) (n1 := 1) (n2 := 1024) 0 0 (wOf hf j))).toNat = nums m c (t.val + 1) (kOf j) (rOf hf j) := by
  have ht : t.val < 32 := t.isLt.trans_eq N_0
  show ((V m c main_arg0 : S32x1x1024.Idx → BitVec 32) _).toNat = ((V m c main_arg0 : S32x1x1024.Idx → BitVec 32) _).toNat
  congr 2
  funext a
  apply Fin.ext
  refine (Pipeline.Window.rect_emb_val (cfg0.win 1) t (ix3 (n0 := 1) (n1 := 1) (n2 := 1024) 0 0 (wOf hf j)) a).trans ?_
  show cc0_transform_1 (grid0.coords t) a * S1x1x1024.size a + _ = _
  rw [t1_eq t]
  fin_cases a
  · show min (t.val + 1) 31 * 1 + 0 = min (t.val + 1) 31; omega
  · rfl
  · show 0 * 1024 + (512 * (kOf j).val + (rOf hf j).val) = 512 * (kOf j).val + (rOf hf j).val; omega

theorem nums_lt (h : InRange m) (c : Dev nD) (n : ℕ) (k : Fin 2) (r : Fin 512) : nums m c n k r < 40960 := h c _

/-- The output window is stored to at every point. -/
theorem idle_6 (t : Fin cfg0.N) : cfg0.idle 6 (cfg0.grid.coords t) = false := by
  show (!(k0_cond2 (grid0.coords t) == 1#1) && !(k0_cond4 (grid0.coords t) == 1#1)) = false
  by_cases he : ((grid0.coords t) 0).val % 2 = 0
  · rw [(cond2_iff _).mpr he]; rfl
  · rw [(cond4_iff _).mpr (by omega), Bool.and_comm]; rfl

abbrev ms (t : Fin cfg0.N) (w : Fin 7) := (cfg0.win w).stage (cfg0.slots t w)

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (ms t 0) fullShare ((dats m 0 c).before 0 t d))
    ∗ (∃ d, owns (c : Thread nD τ) (ms t 1) fullShare ((dats m 0 c).before 1 t d))
    ∗ (∃ d, owns (c : Thread nD τ) (ms t 2) fullShare ((dats m 0 c).before 2 t d))
    ∗ (∃ d, owns (c : Thread nD τ) (ms t 3) fullShare ((dats m 0 c).before 3 t d))
    ∗ (∃ d, owns (c : Thread nD τ) (ms t 4) fullShare ((dats m 0 c).before 4 t d))
    ∗ (∃ d, owns (c : Thread nD τ) (ms t 5) fullShare ((dats m 0 c).before 5 t d))
    ∗ (∃ d, owns (c : Thread nD τ) (ms t 6) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms t 0) fullShare ((dats m 0 c).after 0 t)
    ∗ owns (c : Thread nD τ) (ms t 1) fullShare ((dats m 0 c).after 1 t)
    ∗ owns (c : Thread nD τ) (ms t 2) fullShare ((dats m 0 c).after 2 t)
    ∗ owns (c : Thread nD τ) (ms t 3) fullShare ((dats m 0 c).after 3 t)
    ∗ owns (c : Thread nD τ) (ms t 4) fullShare ((dats m 0 c).after 4 t)
    ∗ owns (c : Thread nD τ) (ms t 5) fullShare ((dats m 0 c).after 5 t)
    ∗ owns (c : Thread nD τ) (ms t 6) fullShare ((dats m 0 c).after 6 t))

theorem point (h : InRange m) (c : Dev nD) (t : Fin cfg0.N) (X : S512x2048.Idx → Elt F .f32) {Q : PUnit → sProp 𝕄} :
    iprop(tab (F := F) c (ms t 0) fullShare (((cfg0.win 0).blk t).view.read (Elt F) (V m c main_arg0)) ∗ inFlight (F := F) m c (t.val) ∗ tab (F := F) c (ms t 1) fullShare (((cfg0.win 1).blk t).view.read (Elt F) (V m c main_arg0)) ∗ (∃ W, owes (c : Thread nD τ) 0 W)
        ∗ (owns (c : Thread nD τ) (ms t 2) fullShare (((cfg0.win 2).blk t).view.read (Elt F) (V m c main_arg1)) ∗ owns (c : Thread nD τ) (ms t 3) fullShare (((cfg0.win 3).blk t).view.read (Elt F) (V m c main_arg2)) ∗ owns (c : Thread nD τ) (ms t 4) fullShare (((cfg0.win 4).blk t).view.read (Elt F) (V m c main_arg3)) ∗ owns (c : Thread nD τ) (ms t 5) fullShare (((cfg0.win 5).blk t).view.read (Elt F) (V m c main_arg4)))
        ∗ owns (c : Thread nD τ) (ms t 6) fullShare X)
      ⊢ iprop((iprop(tab (F := F) c (ms t 0) fullShare (((cfg0.win 0).blk t).view.read (Elt F) (V m c main_arg0)) ∗ inFlight (F := F) m c (t.val + 1) ∗ tab (F := F) c (ms t 1) fullShare (((cfg0.win 1).blk t).view.read (Elt F) (V m c main_arg0)) ∗ (∃ W, owes (c : Thread nD τ) 0 W)
        ∗ (owns (c : Thread nD τ) (ms t 2) fullShare (((cfg0.win 2).blk t).view.read (Elt F) (V m c main_arg1)) ∗ owns (c : Thread nD τ) (ms t 3) fullShare (((cfg0.win 3).blk t).view.read (Elt F) (V m c main_arg2)) ∗ owns (c : Thread nD τ) (ms t 4) fullShare (((cfg0.win 4).blk t).view.read (Elt F) (V m c main_arg3)) ∗ owns (c : Thread nD τ) (ms t 5) fullShare (((cfg0.win 5).blk t).view.read (Elt F) (V m c main_arg4)))
        ∗ owns (c : Thread nD τ) (ms t 6) fullShare (outAt (F := F) m c t)) -∗ Q ⟨⟩)
        -∗ bwp c (bodyAt0 (F := F) t) Q) := by
  have e := body_spec (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole main_arg5) (Memref.isWhole_whole _) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    (V m c main_arg5) fullShare.left fullShare.right (nums m c) (fun n k r => nums_lt m h c n k r)
    fullShare (((cfg0.win 1).blk t).view.read (Elt F) (V m c main_arg0)) (fun hf j => (win1_word m c t hf j).trans (by rw [coord_val])) fullShare fullShare fullShare fullShare
    (((cfg0.win 2).blk t).view.read (Elt F) (V m c main_arg1)) (((cfg0.win 3).blk t).view.read (Elt F) (V m c main_arg2)) X (((cfg0.win 4).blk t).view.read (Elt F) (V m c main_arg3)) (((cfg0.win 5).blk t).view.read (Elt F) (V m c main_arg4))
    fullShare (((cfg0.win 0).blk t).view.read (Elt F) (V m c main_arg0)) (fun hf j => (win0_word m c t hf j).trans (by rw [coord_val])) (Q := Q)
  rw [coord_val t] at e
  exact e

theorem sound_body (h : InRange m) (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Phi m c t.val from rfl, show (dats m 0 c).Φ t.succ = Phi m c (t.val + 1) from rfl]
  unfold Dat.owesAt Pipeline.owesWithin Phi
  rw [show (dats m 0 c).owed t.castSucc = 0 from rfl, show (dats m 0 c).owed t.succ = 0 from rfl]
  simp only [before_0, before_1, before_2, before_3, before_4, before_5, after_0, after_1, after_2, after_3, after_4, after_5, after_6]
  iintro ⟨⟨HB, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (point m h c t _) $$ [HB HW H0 H1 H2 H3 H4 H5 H6]
  · isplitl [H0]; · iexact H0
    isplitl [HB]; · iexact HB
    isplitl [H1]; · iexact H1
    isplitl [HW]; · iexists W; iexact HW
    isplitl [H2 H3 H4 H5]
    · isplitl [H2]; · iexact H2
      isplitl [H3]; · iexact H3
      isplitl [H4]; · iexact H4
      iexact H5
    iexact H6
  iintro ⟨H0, HB, H1, ⟨%W', HW⟩, ⟨H2, H3, H4, H5⟩, H6⟩
  isplitl [HB Hg]
  · isplitl [HB]; · iexact HB
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem live {b f : Bool} (hb : b = false) (x y z : sProp 𝕄) :
    z ⊢ (match (generalizing := false) b with
      | true => (match (generalizing := false) f with
        | false => x
        | true => y)
      | false => z) := by subst hb; exact .rfl

theorem body_obligation (h : InRange m) (c : Dev nD) : BodyObligation (dats m 0 c) (defs₀ (F := F)) Variants.none () Set.univ := fun t => by
  rw [bigSep_W0, bigSep_W0, defs₀_row]
  refine triple_restated (sound_body m h c t) rfl .rfl fun _ => ?_
  refine sep_mono .rfl (sep_mono .rfl (sep_mono .rfl (sep_mono .rfl (sep_mono .rfl (sep_mono .rfl (sep_mono .rfl (sep_mono .rfl ?_)))))))
  exact live (F := F) (idle_6 t) _ _ _

end Cert.Kernel2Ideal.Hand
end
-- ==== Proof.CRange.lean ====
/-
  What the precondition of the combining call says of the row numbers, element by element.
-/
module

public import proofs.«01_k».proof.Defs
public import proofs.«01_k».proof.Proof.IRange
public import proofs.«01_k».proof.Proof.Gen.Pre_ranges2

@[expose] public section

namespace Cert.Ranges2

open Idealize.ShloMosaic

instance : Subsingleton Cert.Pre_ranges2.S_.Idx := ⟨fun a b => funext fun x => x.elim0⟩

/-- The row numbers lie below 40960. -/
theorem decode {F : FTy → Type} [FloatOps F] [Cert.Pre_ranges2.Facts] (a0 : IVec Cert.Pre_ranges2.S32x1x1024 32) (a1 : FVec F Cert.Pre_ranges2.S16384x128 .f32)
    (a2 : FVec F Cert.Pre_ranges2.S16384x2048 .f32) (a3 a4 : FVec F Cert.Pre_ranges2.S1x2048 .f32) (a5 : IVec Cert.Pre_ranges2.S40960x1024 32)
    (h : Cert.Pre_ranges2.fn (F := F) a0 a1 a2 a3 a4 a5 = fun _ => 1#1) (i) : (a0 i).toNat < 40960 := by
  have e := congrFun h (fun x => x.elim0)
  simp only [Cert.Pre_ranges2.fn] at e
  obtain ⟨l, u⟩ := IntOp.andi_eq_one.1 (Host.reduce_andi_all _ _ _ _ _ e i)
  have l' : 0 ≤ (a0 i).toInt := IntOp.cmpi_sge.1 l
  have u' : (a0 i).toInt < 40960 := IntOp.cmpi_slt.1 u
  have := Cert.Ranges.nonneg_toNat _ l' 40959 (by omega)
  omega

end Cert.Ranges2
-- ==== Proof.CRun.lean ====
/-
  The run: from the precondition on the row numbers, the program ends with its arguments as they were, every semaphore
  at zero, and its output at what the pipeline's data say.
-/
module

public import proofs.«01_k».proof.Proof.CFrame
public import proofs.«01_k».proof.Proof.CRange

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers in halves -/

theorem hset_disj (b : BM) : Disjoint (hset b 0) (hset b 1) := by
  refine (Finset.disjoint_map _).mpr (Finset.disjoint_left.mpr fun y h0 h1 => ?_)
  have e0 : (y 0).val / 256 = 0 := (Finset.mem_filter.mp h0).2
  have e1 : (y 0).val / 256 = 1 := (Finset.mem_filter.mp h1).2
  omega
theorem hset_union (b : BM) : hset b 0 ∪ hset b 1 = b.view.set := by
  ext z
  rw [Finset.mem_union]
  constructor
  · rintro (h | h)
    · obtain ⟨y, -, rfl⟩ := Finset.mem_map.mp h
      exact Finset.mem_map.mpr ⟨y, Finset.mem_univ _, rfl⟩
    · obtain ⟨y, -, rfl⟩ := Finset.mem_map.mp h
      exact Finset.mem_map.mpr ⟨y, Finset.mem_univ _, rfl⟩
  · intro h
    obtain ⟨y, -, rfl⟩ := Finset.mem_map.mp h
    have hy : (y 0).val < 512 := (y 0).isLt
    by_cases h0 : (y 0).val / 256 = 0
    · exact Or.inl (Finset.mem_map.mpr ⟨y, Finset.mem_filter.mpr ⟨Finset.mem_univ _, h0⟩, rfl⟩)
    · exact Or.inr (Finset.mem_map.mpr ⟨y, Finset.mem_filter.mpr ⟨Finset.mem_univ _, by show (y 0).val / 256 = 1; omega⟩, rfl⟩)

/-- A buffer is its two halves. -/
theorem halves (c : Dev nD) (b : BM) :
    iprop(∃ f, bPt (F := F) c b b.view.set f) ⊢ iprop((∃ f, bPt (F := F) c b (hset b 0) f) ∗ (∃ f, bPt (F := F) c b (hset b 1) f)) := by
  rw [← hset_union b]
  iintro ⟨%f, H⟩
  ihave H := (pointsTo_union (hset_disj b)).1 $$ H
  icases H with ⟨H0, H1⟩
  isplitl [H0]
  · iexists f; iexact H0
  · iexists f; iexact H1
theorem halves_join (c : Dev nD) (b : BM) :
    iprop((∃ f, bPt (F := F) c b (hset b 0) f) ∗ (∃ f, bPt (F := F) c b (hset b 1) f)) ⊢ iprop(∃ f, bPt (F := F) c b b.view.set f) := by
  rw [← hset_union b]
  iintro ⟨⟨%f, H0⟩, ⟨%g, H1⟩⟩
  iexists ((hset b 1).piecewise g f)
  iapply (pointsTo_join (hset_disj b))
  isplitl [H0]; · iexact H0
  iexact H1

/-! ## What the launch hands over -/

/-- The four cells the body's copies use. -/
abbrev osem0 : Fin 4 → SemLoc sig := fun j => (![SemLoc.dma 12, SemLoc.dma 13, SemLoc.dma 14, SemLoc.dma 15] : Fin 4 → SemLoc sig) j
theorem ownSemFacts0 : Pipeline.OwnSemFacts spec0 osem0 := by decide

abbrev cellZ (c : Dev nD) (n : ℕ) (h : ∀ a, (![n] : Fin 1 → ℕ) a + S1.size a ≤ S4.size a) : sProp 𝕄 := zero (F := F) c (semAt cc0_scratch4 n h)

theorem ownSems00_eq (c : Dev nD) :
    (Pipeline.ownSems0 (Ix := Unit) (Name := ℕ) (U := Pipeline.UD sig nD τ) (Lvl := ℕ) (Val := Elt F) (τ := τ) osem0 c : sProp 𝕄)
      = iprop(cellZ (F := F) c 0 inb_S4_S1_0 ∗ cellZ (F := F) c 1 inb_S4_S1_1 ∗ cellZ (F := F) c 2 inb_S4_S1_2 ∗ cellZ (F := F) c 3 inb_S4_S1_3) := by
  rw [Pipeline.ownSems0_eq_of_list c osem0 [0, 1, 2, 3] (by decide) (by decide)]; rfl

/-- The array the body copies rows of. -/
def H0 : Finset (Ref sig .tc) := {main_arg5}
theorem H0_sub : H0 ⊆ Pipeline.restRefs sig spec0 := by decide

/-- The experts' output whole, at share `q`. -/
abbrev ysPt (c : Dev nD) (q : PosShare TreeShare) : sProp 𝕄 :=
  yPt (F := F) c (Memref.whole main_arg5) (Memref.whole main_arg5).view.set q (V m c main_arg5)

theorem hbmPts0_eq (c : Dev nD) :
    (bigSep H0 (fun b => ((c : Thread nD τ).loc b) ↦{fullShare} V m c b) : sProp 𝕄) = ysPt (F := F) m c fullShare := by
  rw [BI.bigSep_eq_bigSepL_of_eq [main_arg5] (by decide) (by decide)]
  show _ = (((c : Thread nD τ).loc main_arg5) ↦[(View.whole main_arg5).set]{fullShare} V m c main_arg5)
  rw [View.set_whole]; rfl

/-- A scratch buffer at some contents. -/
abbrev scr (c : Dev nD) (b : BM) : sProp 𝕄 := iprop(∃ f, bPt (F := F) c b b.view.set f)

theorem PhiD_eq (c : Dev nD) :
    (Pipeline.ΦD osem0 spec0 H0 (V m) c : sProp 𝕄)
      = iprop((scr (F := F) c (Memref.whole cc0_scratch0) ∗ scr (F := F) c (Memref.whole cc0_scratch1) ∗ scr (F := F) c (Memref.whole cc0_scratch2) ∗ scr (F := F) c (Memref.whole cc0_scratch3))
        ∗ (∃ r, prngReg c r)
        ∗ iprop(cellZ (F := F) c 0 inb_S4_S1_0 ∗ cellZ (F := F) c 1 inb_S4_S1_1 ∗ cellZ (F := F) c 2 inb_S4_S1_2 ∗ cellZ (F := F) c 3 inb_S4_S1_3) ∗ ysPt (F := F) m c fullShare) := by
  rw [Pipeline.ΦD_eq, scopedRest0_eq, ownSems00_eq, hbmPts0_eq]
  show _ = iprop(((∃ f, ((c : Thread nD τ).loc cc0_scratch0) ↦[(View.whole cc0_scratch0).set]{fullShare} f) ∗ (∃ f, ((c : Thread nD τ).loc cc0_scratch1) ↦[(View.whole cc0_scratch1).set]{fullShare} f)
    ∗ (∃ f, ((c : Thread nD τ).loc cc0_scratch2) ↦[(View.whole cc0_scratch2).set]{fullShare} f) ∗ (∃ f, ((c : Thread nD τ).loc cc0_scratch3) ↦[(View.whole cc0_scratch3).set]{fullShare} f)) ∗ _)
  rw [View.set_whole, View.set_whole, View.set_whole, View.set_whole]

theorem hin (c : Dev nD) : Pipeline.ΦD osem0 spec0 H0 (V m) c ⊢ Phi (F := F) m c 0 := by
  rw [PhiD_eq]
  unfold Phi inFlight between
  rw [if_pos (Or.inl rfl)]
  unfold home homing idle
  iintro ⟨⟨HS0, HS1, HS2, HS3⟩, Hg, ⟨Hz0, Hz1, Hz2, Hz3⟩, Hh⟩
  ihave HS0 := (halves (F := F) c _) $$ HS0
  icases HS0 with ⟨HA0, HB0⟩
  ihave HS1 := (halves (F := F) c _) $$ HS1
  icases HS1 with ⟨HA1, HB1⟩
  ihave HS2 := (halves (F := F) c _) $$ HS2
  icases HS2 with ⟨HA2, HB2⟩
  ihave HS3 := (halves (F := F) c _) $$ HS3
  icases HS3 with ⟨HA3, HB3⟩
  ihave Hh := (pointsTo_share (PosShare.mem_left_op_right fullShare)).1 $$ Hh
  icases Hh with ⟨HL, HR⟩
  isplitr [Hg]
  · isplitr [HL HR]
    · isplitl [HA0 HA1 Hz0]
      · isplitl [HA0]; · iexact HA0
        isplitl [HA1]; · iexact HA1
        iexact Hz0
      isplitl [HB0 HB1 Hz1]
      · isplitl [HB0]; · iexact HB0
        isplitl [HB1]; · iexact HB1
        iexact Hz1
      isplitl [HA2 HA3 Hz2]
      · isplitl [HA2]; · iexact HA2
        isplitl [HA3]; · iexact HA3
        iexact Hz2
      isplitl [HB2]; · iexact HB2
      isplitl [HB3]; · iexact HB3
      iexact Hz3
    isplitl [HL]; · iexact HL
    iexact HR
  iexact Hg

theorem hout (c : Dev nD) : Phi (F := F) m c 32 ⊢ Pipeline.ΦD osem0 spec0 H0 (V m) c := by
  rw [PhiD_eq]
  unfold Phi inFlight between
  rw [if_pos (Or.inr rfl)]
  unfold home homing idle
  iintro ⟨⟨⟨⟨HA0, HA1, Hz0⟩, ⟨HB0, HB1, Hz1⟩, ⟨HA2, HA3, Hz2⟩, ⟨HB2, HB3, Hz3⟩⟩, HL, HR⟩, Hg⟩
  isplitl [HA0 HA1 HA2 HA3 HB0 HB1 HB2 HB3]
  · isplitl [HA0 HB0]
    · iapply (halves_join (F := F) c (Memref.whole cc0_scratch0))
      isplitl [HA0]; · iexact HA0
      iexact HB0
    isplitl [HA1 HB1]
    · iapply (halves_join (F := F) c (Memref.whole cc0_scratch1))
      isplitl [HA1]; · iexact HA1
      iexact HB1
    isplitl [HA2 HB2]
    · iapply (halves_join (F := F) c (Memref.whole cc0_scratch2))
      isplitl [HA2]; · iexact HA2
      iexact HB2
    iapply (halves_join (F := F) c (Memref.whole cc0_scratch3))
    isplitl [HA3]; · iexact HA3
    iexact HB3
  isplitl [Hg]; · iexact Hg
  isplitl [Hz0 Hz1 Hz2 Hz3]
  · isplitl [Hz0]; · iexact Hz0
    isplitl [Hz1]; · iexact Hz1
    isplitl [Hz2]; · iexact Hz2
    iexact Hz3
  iapply (pointsTo_share (PosShare.mem_left_op_right fullShare)).2
  isplitl [HL]; · iexact HL
  iexact HR

set_option backward.isDefEq.respectTransparency.types false in
/-- The run, at the pipeline's data. -/
theorem run_main (h : InRange m) : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m h c).loose) (hq := fun _ _ _ => rfl)
    (howed := fun _ _ => rfl) (V := V m) (hmain := hmainD m Variants.none) (hA := A_eq m)
    (hin := hin m) (hout := hout m)

theorem rest_main_arg5 : main_arg5 ∈ Pipeline.restRefs sig spec0 := Pipeline.mem_restRefs_of main_arg5 (by decide) (by decide)

/-- What the run leaves: the output at the pipeline's final contents, and the arguments as they were. -/
theorem run_full (h : InRange m) : θ_run defs (onTc (τ := τ) (main (F := F))) ⟨m, fun _ => 0, ρ⟩ (fun r => (∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r hr => ⟨fun c => ⟨(hr.1 c).1 6,
    ((hr.1 c).1 0).trans ((dats m 0 c).arrAt_in 0 rfl _),
    ((hr.1 c).1 2).trans ((dats m 0 c).arrAt_in 2 rfl _),
    ((hr.1 c).1 3).trans ((dats m 0 c).arrAt_in 3 rfl _),
    ((hr.1 c).1 4).trans ((dats m 0 c).arrAt_in 4 rfl _),
    ((hr.1 c).1 5).trans ((dats m 0 c).arrAt_in 5 rfl _),
    (hr.1 c).2 main_arg5 rest_main_arg5⟩, hr.2⟩)
    (run_main m ρ h)

/-- The precondition as launched. -/
abbrev Pre : Prop := ∀ c : Dev nD, Cert.Pre_ranges2.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1

theorem inRange_of (hp : Pre m) : InRange m := fun c i => Cert.Ranges2.decode _ _ _ _ _ _ (hp c) i

/-- The frame: the arguments as they were, every semaphore at zero. -/
theorem frame (hp : Pre m) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r hr => ⟨fun c => (hr.1 c).2, hr.2⟩)
    (run_full m ρ (inRange_of m hp))

end Cert.Kernel2Ideal.Hand
end
-- ==== Proof.CSpec.lean ====
/-
  What the combining call and its reference compute, element by element, over the extended reals: a token's hidden row
  with its two weighted rows of the experts' output added, normalized; and a gather of a matrix's rows by a list of row
  numbers, two halves side by side, and a sum along the rows, read at an index.
-/
module

public import proofs.«01_k».proof.Proof.VSpec
public import proofs.«01_k».proof.Proof.VGather
public import Idealize.ShloMosaic.Lib.IdealHost

@[expose] public section

noncomputable section

namespace Cert.Spec

open Idealize.ShloMosaic
open Idealize.ShloMosaic.ValueIdx (ix1 ix2 ix3)
open scoped BigOperators

/-- Equal words, equal channels. -/
theorem act_congr {n n' : ℕ} (x : (⟨2, ![n, 1024]⟩ : Shape).Idx → BitVec 32) (y : (⟨2, ![n', 1024]⟩ : Shape).Idx → BitVec 32) (r : Fin n) (r' : Fin n')
    (h : ∀ k : Fin 1024, x (ix2 r k) = y (ix2 r' k)) : act x r = act y r' := by
  funext d
  unfold act
  split
  · rw [h]
  · rw [h]

/-- A row's mean. -/
def mean (z : Fin 2048 → EReal) : EReal := Ideal.div (∑ k, z k) (Ideal.ofBits .f32 0x45000000#32)

/-- A row less its mean. -/
def centred (z : Fin 2048 → EReal) (d : Fin 2048) : EReal := z d - mean z

/-- A row normalized, scaled and shifted. -/
def normed (z g b : Fin 2048 → EReal) (d : Fin 2048) : EReal :=
  centred z d * Ideal.rsqrt (mean (fun k => centred z k * centred z k) + Ideal.ofBits .f32 0x3727C5AC#32) * g d + b d

/-- A hidden row, scaled, and the two weighted rows. -/
def mix (w0 w1 : EReal) (h y0 y1 : Fin 2048 → EReal) (d : Fin 2048) : EReal :=
  Ideal.ofBits .f32 0x3F9837F0#32 * h d + (w0 * y0 d + w1 * y1 d)

/-- The row of the experts' output that token `p` takes as its `k`-th. -/
def place (pos : (⟨3, ![32, 1, 1024]⟩ : Shape).Idx → BitVec 32) (k : Fin 2) (p : Fin 16384) : Fin 40960 :=
  ⟨(pos (ix3 ⟨p.val / 512, by omega⟩ 0 ⟨512 * k.val + p.val % 512, by omega⟩)).toNat % 40960, Nat.mod_lt _ (by decide)⟩

/-- Token `p`'s channel `d`. -/
def token (pos : (⟨3, ![32, 1, 1024]⟩ : Shape).Idx → BitVec 32) (w : (⟨2, ![16384, 128]⟩ : Shape).Idx → EReal) (h : (⟨2, ![16384, 2048]⟩ : Shape).Idx → EReal)
    (g b : (⟨2, ![1, 2048]⟩ : Shape).Idx → EReal) (ys : (⟨2, ![40960, 1024]⟩ : Shape).Idx → BitVec 32) (p : Fin 16384) (d : Fin 2048) : EReal :=
  normed (mix (w (ix2 p 0)) (w (ix2 p 1)) (fun k => h (ix2 p k)) (act ys (place pos 0 p)) (act ys (place pos 1 p)))
    (fun k => g (ix2 0 k)) (fun k => b (ix2 0 k)) d

/-- The result. -/
def combined (pos : (⟨3, ![32, 1, 1024]⟩ : Shape).Idx → BitVec 32) (w : (⟨2, ![16384, 128]⟩ : Shape).Idx → EReal) (h : (⟨2, ![16384, 2048]⟩ : Shape).Idx → EReal)
    (g b : (⟨2, ![1, 2048]⟩ : Shape).Idx → EReal) (ys : (⟨2, ![40960, 1024]⟩ : Shape).Idx → BitVec 32) : (⟨2, ![16384, 2048]⟩ : Shape).Idx → EReal :=
  fun i => token pos w h g b ys (i 0) (i 1)

/-! ## Operations read at an index -/

variable {α : Type}

/-- Two halves side by side. -/
theorem halves_apply {n : ℕ} (A B : (⟨2, ![n, 1024]⟩ : Shape).Idx → α)
    (h : Shape.Concatenates [⟨2, ![n, 1024]⟩, ⟨2, ![n, 1024]⟩] ⟨2, ![n, 2048]⟩ 1) (r : Fin n) (d : Fin 2048) :
    concatenate ⟨2, ![n, 2048]⟩ 1 [⟨⟨2, ![n, 1024]⟩, A⟩, ⟨⟨2, ![n, 1024]⟩, B⟩] h (ix2 r d)
      = if hd : d.val < 1024 then A (ix2 r ⟨d.val, hd⟩) else B (ix2 r ⟨d.val - 1024, by omega⟩) := by
  by_cases hd : d.val < 1024
  · rw [dif_pos hd]
    exact concatenate_pair_apply_left (t := ⟨2, ![n, 2048]⟩) (s₁ := ⟨2, ![n, 1024]⟩) (s₂ := ⟨2, ![n, 1024]⟩) 1 A B h (ix2 r d) rfl
      (ix2 r ⟨d.val, hd⟩) (fun b => by match b with | ⟨0, _⟩ => rfl | ⟨1, _⟩ => rfl)
  · rw [dif_neg hd]
    exact concatenate_pair_apply_right (t := ⟨2, ![n, 2048]⟩) (s₁ := ⟨2, ![n, 1024]⟩) (s₂ := ⟨2, ![n, 1024]⟩) 1 A B h (ix2 r d) rfl rfl
      (ix2 r ⟨d.val - 1024, by omega⟩) (fun b => by match b with | ⟨0, _⟩ => exact fun _ => rfl | ⟨1, _⟩ => exact fun hb => absurd rfl hb)
      (by show d.val - 1024 + 1024 = d.val; omega)

/-- Rows of a matrix by a list of row numbers. -/
theorem gather_list {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (⟨[1], [0], [], [], [0], 1, ![1, C], wf⟩ : GatherDims _ _ _) x idx (ix2 r k)
      = x (ix2 ⟨min (idx (ix2 r 0)).toInt.toNat (N - 1), by omega⟩ k) := by
  unfold Host.gather
  congr 1
  funext a
  refine Fin.ext ?_
  show GatherDims.start _ (ix2 r k) idx a + GatherDims.batchCoord _ (ix2 r k) a + GatherDims.offCoord _ (ix2 r k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (List.mem_singleton.mpr rfl)]
    congr 4
    funext b; refine Fin.ext ?_
    match b with
    | ⟨0, _⟩ => rfl
    | ⟨1, _⟩ => rfl
  · unfold GatherDims.start GatherDims.offCoord
    rw [dif_neg (fun h => absurd (List.mem_singleton.mp h) (by decide : ¬ (1 : Fin 2) = 0)),
      dif_pos ((GatherDims.mem_sKept _ _).mpr ⟨fun h => absurd (List.mem_singleton.mp h) (by decide : ¬ (1 : Fin 2) = 0), List.not_mem_nil⟩), Nat.zero_add]
    rfl

/-- The index that a row's number and a place on the summed axis make. -/
theorem lift_row {n c : ℕ} (h : (⟨2, ![n, c]⟩ : Shape).Reduces [1] ⟨1, ![n]⟩) (r : Fin n) (k : Fin c) :
    h.lift (ix1 r) k = ix2 r k := by
  funext a
  match a with
  | ⟨0, _⟩ => rfl
  | ⟨1, _⟩ => rfl

end Cert.Spec

end
-- ==== Proof.CVal.lean ====
/-
  A block's output, element by element over the extended reals: the token of CSpec.
-/
module

public import proofs.«01_k».proof.Proof.CSpec
public import proofs.«01_k».proof.Proof.CBody

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

/-- The gathered rows, unpacked. -/
def unpacked (v : IVec S256x1024 32) : FVec Ideal S256x2048 .f32 :=
  concatenate S256x2048 1 [⟨S256x1024, (unpackElementwise (F := Ideal) 0 v : FVec Ideal S256x1024 .f32)⟩, ⟨S256x1024, (unpackElementwise (F := Ideal) 1 v : FVec Ideal S256x1024 .f32)⟩] concatenates_S256x1024_S256x1024_S256x2048_d1

theorem unpacked_apply (v : IVec S256x1024 32) (s : Fin 256) (d : Fin 2048) :
    unpacked v (ix2 (n0 := 256) (n1 := 2048) s d) = Spec.act v s d := by
  refine (Spec.halves_apply (n := 256) _ _ _ s d).trans ?_
  unfold Spec.act
  split
  · exact Spec.ofBits_lo _
  · exact Spec.ofBits_hi _

/-- A column spread over the channels. -/
theorem spread_apply {α : Type} (v : S256x1.Idx → α) (s : Fin 256) (d : Fin 2048) :
    broadcastTo S256x2048 v broadcasts_S256x1_S256x2048 (ix2 (n0 := 256) (n1 := 2048) s d) = v (ix2 (n0 := 256) (n1 := 1) s 0) :=
  broadcastTo_apply _ _ _ _ (fun a => by match a with | ⟨0, _⟩ => rfl | ⟨1, _⟩ => rfl)
/-- A row spread over the tokens. -/
theorem over_apply {α : Type} (v : S1x2048.Idx → α) (s : Fin 256) (d : Fin 2048) :
    broadcastTo S256x2048 v broadcasts_S1x2048_S256x2048 (ix2 (n0 := 256) (n1 := 2048) s d) = v (ix2 (n0 := 1) (n1 := 2048) 0 d) :=
  broadcastTo_apply _ _ _ _ (fun a => by match a with | ⟨0, _⟩ => rfl | ⟨1, _⟩ => rfl)

/-- The hidden rows and the two weighted rows. -/
def mixed (R : FVec Ideal S256x128 .f32) (G0 G1 : IVec S256x1024 32) (H : FVec Ideal S256x2048 .f32) : FVec Ideal S256x2048 .f32 :=
  addf (mulf (broadcast S256x2048 (Scalar.ofBits (F := Ideal) .f32 0x3F9837F0#32)) H)
    (addf (mulf (broadcastTo S256x2048 (extractStridedSlice S256x1 ![0, 0] R slices_S256x128_o0_0_S256x1) broadcasts_S256x1_S256x2048) (unpacked G0))
      (mulf (broadcastTo S256x2048 (extractStridedSlice S256x1 ![0, 1] R slices_S256x128_o0_1_S256x1) broadcasts_S256x1_S256x2048) (unpacked G1)))

theorem mixed_apply (R : FVec Ideal S256x128 .f32) (G0 G1 : IVec S256x1024 32) (H : FVec Ideal S256x2048 .f32) (s : Fin 256) (d : Fin 2048) :
    mixed R G0 G1 H (ix2 (n0 := 256) (n1 := 2048) s d)
      = Spec.mix (R (ix2 (n0 := 256) (n1 := 128) s 0)) (R (ix2 (n0 := 256) (n1 := 128) s 1)) (fun k => H (ix2 (n0 := 256) (n1 := 2048) s k)) (Spec.act G0 s) (Spec.act G1 s) d := by
  show Ideal.ofBits .f32 0x3F9837F0#32 * H _
    + (broadcastTo S256x2048 (extractStridedSlice S256x1 ![0, 0] R slices_S256x128_o0_0_S256x1) broadcasts_S256x1_S256x2048 _ * unpacked G0 _
      + broadcastTo S256x2048 (extractStridedSlice S256x1 ![0, 1] R slices_S256x128_o0_1_S256x1) broadcasts_S256x1_S256x2048 _ * unpacked G1 _) = _
  rw [spread_apply, spread_apply, unpacked_apply, unpacked_apply,
    extractStridedSlice_apply ![0, 0] R slices_S256x128_o0_0_S256x1 (ix2 (n0 := 256) (n1 := 1) s 0) (ix2 (n0 := 256) (n1 := 128) s 0) (fun b => by
      match b with
      | ⟨0, _⟩ => show s.val = 0 + s.val; omega
      | ⟨1, _⟩ => rfl),
    extractStridedSlice_apply ![0, 1] R slices_S256x128_o0_1_S256x1 (ix2 (n0 := 256) (n1 := 1) s 0) (ix2 (n0 := 256) (n1 := 128) s 1) (fun b => by
      match b with
      | ⟨0, _⟩ => show s.val = 0 + s.val; omega
      | ⟨1, _⟩ => rfl)]
  rfl

/-- The rows' means. -/
def means (v : FVec Ideal S256x2048 .f32) : FVec Ideal S256x1 .f32 :=
  divf (shapeCast S256x1 (multiReduction .add [1] S256 v 0x00000000#32 reduces_S256x2048_S256 (.inl rfl) rfl) shapeCasts_S256_S256x1)
    (broadcast S256x1 (Scalar.ofBits (F := Ideal) .f32 0x45000000#32))

theorem means_apply (v : FVec Ideal S256x2048 .f32) (s : Fin 256) :
    means v (ix2 (n0 := 256) (n1 := 1) s 0) = Spec.mean (fun k => v (ix2 (n0 := 256) (n1 := 2048) s k)) := by
  show Ideal.div (shapeCast S256x1 (multiReduction (F := Ideal) .add [1] S256 v 0x00000000#32 reduces_S256x2048_S256 (.inl rfl) rfl) shapeCasts_S256_S256x1 (ix2 (n0 := 256) (n1 := 1) s 0))
    (Ideal.ofBits .f32 0x45000000#32) = Ideal.div _ _
  congr 1
  refine (shapeCast_apply _ _ _ (ix1 (n := 256) s) (by
    rw [Shape.rowMajor_val_two, Shape.rowMajor_val_one]
    show s.val = s.val * 1 + 0
    omega)).trans ?_
  refine (Ideal.multiReduction_add_single v _ reduces_S256x2048_S256 _ _ (ix1 (n := 256) s)).trans ?_
  exact Finset.sum_congr rfl fun k _ => congrArg v (Spec.lift_row _ s k)

/-- The rows less their means. -/
def cent (R : FVec Ideal S256x128 .f32) (G0 G1 : IVec S256x1024 32) (H : FVec Ideal S256x2048 .f32) : FVec Ideal S256x2048 .f32 :=
  subf (mixed R G0 G1 H) (broadcastTo S256x2048 (means (mixed R G0 G1 H)) broadcasts_S256x1_S256x2048)

theorem cent_apply (R : FVec Ideal S256x128 .f32) (G0 G1 : IVec S256x1024 32) (H : FVec Ideal S256x2048 .f32) (s : Fin 256) (d : Fin 2048) :
    cent R G0 G1 H (ix2 (n0 := 256) (n1 := 2048) s d)
      = Spec.centred (Spec.mix (R (ix2 (n0 := 256) (n1 := 128) s 0)) (R (ix2 (n0 := 256) (n1 := 128) s 1)) (fun k => H (ix2 (n0 := 256) (n1 := 2048) s k)) (Spec.act G0 s) (Spec.act G1 s)) d := by
  unfold cent
  show mixed R G0 G1 H _ - broadcastTo S256x2048 (means (mixed R G0 G1 H)) broadcasts_S256x1_S256x2048 _ = _
  rw [spread_apply, means_apply, mixed_apply]
  unfold Spec.centred
  congr 2
  funext k
  exact mixed_apply R G0 G1 H s k

/-- The rows `x` over the root of the mean of `q`, scaled and shifted. -/
def scaled (g b : FVec Ideal S1x2048 .f32) (x q : FVec Ideal S256x2048 .f32) : FVec Ideal S256x2048 .f32 :=
  addf (mulf (mulf x (broadcastTo S256x2048 (rsqrt (addf (means q) (broadcast S256x1 (Scalar.ofBits (F := Ideal) .f32 0x3727C5AC#32)))) broadcasts_S256x1_S256x2048))
      (broadcastTo S256x2048 g broadcasts_S1x2048_S256x2048)) (broadcastTo S256x2048 b broadcasts_S1x2048_S256x2048)

theorem scaled_apply (g b : FVec Ideal S1x2048 .f32) (x q : FVec Ideal S256x2048 .f32) (s : Fin 256) (d : Fin 2048) :
    scaled g b x q (ix2 (n0 := 256) (n1 := 2048) s d)
      = x (ix2 (n0 := 256) (n1 := 2048) s d) * Ideal.rsqrt (Spec.mean (fun k => q (ix2 (n0 := 256) (n1 := 2048) s k)) + Ideal.ofBits .f32 0x3727C5AC#32)
          * g (ix2 (n0 := 1) (n1 := 2048) 0 d) + b (ix2 (n0 := 1) (n1 := 2048) 0 d) := by
  unfold scaled
  show x _ * broadcastTo S256x2048 (rsqrt (addf (means q) (broadcast S256x1 (Scalar.ofBits (F := Ideal) .f32 0x3727C5AC#32)))) broadcasts_S256x1_S256x2048 _
      * broadcastTo S256x2048 g broadcasts_S1x2048_S256x2048 _ + broadcastTo S256x2048 b broadcasts_S1x2048_S256x2048 _ = _
  rw [spread_apply, over_apply, over_apply]
  show _ * Ideal.rsqrt (means q _ + Ideal.ofBits .f32 0x3727C5AC#32) * _ + _ = _
  rw [means_apply]

/-- A half's output. -/
theorem half_value (g b : FVec Ideal S1x2048 .f32) (R : FVec Ideal S256x128 .f32) (G0 G1 : IVec S256x1024 32) (H : FVec Ideal S256x2048 .f32) (s : Fin 256) (d : Fin 2048) :
    k0_pay4 (F := Ideal) (k0_pay3 (F := Ideal) R G0 G1) H g b (ix2 (n0 := 256) (n1 := 2048) s d)
      = Spec.normed (Spec.mix (R (ix2 (n0 := 256) (n1 := 128) s 0)) (R (ix2 (n0 := 256) (n1 := 128) s 1)) (fun k => H (ix2 (n0 := 256) (n1 := 2048) s k)) (Spec.act G0 s) (Spec.act G1 s))
          (fun k => g (ix2 (n0 := 1) (n1 := 2048) 0 k)) (fun k => b (ix2 (n0 := 1) (n1 := 2048) 0 k)) d := by
  have e : (fun k => mulf (cent R G0 G1 H) (cent R G0 G1 H) (ix2 (n0 := 256) (n1 := 2048) s k))
      = fun k => Spec.centred (Spec.mix (R (ix2 (n0 := 256) (n1 := 128) s 0)) (R (ix2 (n0 := 256) (n1 := 128) s 1)) (fun k => H (ix2 (n0 := 256) (n1 := 2048) s k)) (Spec.act G0 s) (Spec.act G1 s)) k
        * Spec.centred (Spec.mix (R (ix2 (n0 := 256) (n1 := 128) s 0)) (R (ix2 (n0 := 256) (n1 := 128) s 1)) (fun k => H (ix2 (n0 := 256) (n1 := 2048) s k)) (Spec.act G0 s) (Spec.act G1 s)) k := by
    funext k
    show cent R G0 G1 H _ * cent R G0 G1 H _ = _
    rw [cent_apply]
  show scaled g b (cent R G0 G1 H) (mulf (cent R G0 G1 H) (cent R G0 G1 H)) _ = _
  rw [scaled_apply, e, cent_apply]
  rfl

/-- A half's place in the block. -/
theorem half_place {c : ℕ} (hf : Fin 2) (h : ∀ a, off hf a + (![256, c] : Fin 2 → ℕ) a ≤ (⟨2, ![512, c]⟩ : Shape).size a) (s : Fin 256) (k : Fin c) (p : Fin 512)
    (hp : p.val = 256 * hf.val + s.val) :
    (Rect.unit (s := ⟨2, ![512, c]⟩) (off hf) ![256, c] h).emb (ix2 (n0 := 256) (n1 := c) s k) = ix2 (n0 := 512) (n1 := c) p k := by
  funext a
  apply Fin.ext
  match a with
  | ⟨0, _⟩ => show 256 * hf.val + 1 * s.val = p.val; omega
  | ⟨1, _⟩ => show 0 + 1 * k.val = k.val; omega

/-- The block's output. -/
theorem outBlk_apply (R : FVec Ideal S512x128 .f32) (G0 G1 : IVec S512x1024 32) (H : FVec Ideal S512x2048 .f32) (g b : FVec Ideal S1x2048 .f32) (p : Fin 512) (d : Fin 2048) :
    outBlk (F := Ideal) R G0 G1 H g b (ix2 (n0 := 512) (n1 := 2048) p d)
      = Spec.normed (Spec.mix (R (ix2 (n0 := 512) (n1 := 128) p 0)) (R (ix2 (n0 := 512) (n1 := 128) p 1)) (fun k => H (ix2 (n0 := 512) (n1 := 2048) p k)) (Spec.act G0 p) (Spec.act G1 p))
          (fun k => g (ix2 (n0 := 1) (n1 := 2048) 0 k)) (fun k => b (ix2 (n0 := 1) (n1 := 2048) 0 k)) d := by
  have hp : p.val = 256 * (p.val / 256) + p.val % 256 := by omega
  refine (half_value g b _ _ _ _ ⟨p.val % 256, Nat.mod_lt _ (by decide)⟩ d).trans ?_
  have eR : ∀ k : Fin 128, cutR ⟨p.val / 256, by omega⟩ R (ix2 (n0 := 256) (n1 := 128) ⟨p.val % 256, Nat.mod_lt _ (by decide)⟩ k) = R (ix2 (n0 := 512) (n1 := 128) p k) :=
    fun k => congrArg R (half_place _ _ _ k p hp)
  have eH : ∀ k : Fin 2048, cutH ⟨p.val / 256, by omega⟩ H (ix2 (n0 := 256) (n1 := 2048) ⟨p.val % 256, Nat.mod_lt _ (by decide)⟩ k) = H (ix2 (n0 := 512) (n1 := 2048) p k) :=
    fun k => congrArg H (half_place _ _ _ k p hp)
  have eG : ∀ G : IVec S512x1024 32, Spec.act (n := 256) (cutG ⟨p.val / 256, by omega⟩ G) ⟨p.val % 256, Nat.mod_lt _ (by decide)⟩ = Spec.act G p :=
    fun G => Spec.act_congr _ _ _ _ (fun k => congrArg G (half_place _ _ _ k p hp))
  rw [eR, eR, eG, eG]
  congr 2
  exact funext eH

end Cert.Kernel2Ideal.Hand
end
-- ==== Proof.COut.lean ====
/-
  The output array after the run, over the extended reals: the combined rows of CSpec.
-/
module

public import proofs.«01_k».proof.Proof.CVal
public import proofs.«01_k».proof.Proof.CFrame
public import Idealize.ShloMosaic.Lib.Pipeline.Value

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable (m : (ℓ : Loc nD τ sig) → Buf (Elt Ideal) ℓ)

theorem t2_eq : ∀ t : Fin grid0.N, cc0_transform_2 (grid0.coords t) = ![t.val, 0] := by decide +kernel
theorem t3_eq : ∀ t : Fin grid0.N, cc0_transform_3 (grid0.coords t) = ![t.val, 0] := by decide +kernel
theorem t4_eq : ∀ t : Fin grid0.N, cc0_transform_4 (grid0.coords t) = ![0, 0] := by decide +kernel
theorem t5_eq : ∀ t : Fin grid0.N, cc0_transform_5 (grid0.coords t) = ![0, 0] := by decide +kernel
theorem t7_eq : ∀ t : Fin grid0.N, cc0_transform_7 (grid0.coords t) = ![t.val, 0] := by decide +kernel

/-- The token that is a block's row `p`. -/
def rowOf (t : Fin cfg0.N) (p : Fin 512) : Fin 16384 :=
  ⟨t.val * 512 + p.val, by have ht : t.val < 32 := t.isLt.trans_eq N_0; omega⟩

theorem blk2_apply (c : Dev nD) (t : Fin cfg0.N) (p : Fin 512) (k : Fin 128) :
    (((cfg0.win 2).blk t).view.read (Elt Ideal) (V m c main_arg1) : S512x128.Idx → EReal) (ix2 (n0 := 512) (n1 := 128) p k)
      = (V m c main_arg1 : S16384x128.Idx → EReal) (ix2 (n0 := 16384) (n1 := 128) (rowOf t p) k) := by
  show (V m c main_arg1 : S16384x128.Idx → EReal) _ = _
  congr 1
  funext a
  apply Fin.ext
  refine (Pipeline.Window.rect_emb_val (cfg0.win 2) t (ix2 (n0 := 512) (n1 := 128) p k) a).trans ?_
  show cc0_transform_2 (grid0.coords t) a * S512x128.size a + _ = _
  rw [t2_eq t]
  fin_cases a
  · rfl
  · show 0 * 128 + k.val = k.val; omega
theorem blk3_apply (c : Dev nD) (t : Fin cfg0.N) (p : Fin 512) (k : Fin 2048) :
    (((cfg0.win 3).blk t).view.read (Elt Ideal) (V m c main_arg2) : S512x2048.Idx → EReal) (ix2 (n0 := 512) (n1 := 2048) p k)
      = (V m c main_arg2 : S16384x2048.Idx → EReal) (ix2 (n0 := 16384) (n1 := 2048) (rowOf t p) k) := by
  show (V m c main_arg2 : S16384x2048.Idx → EReal) _ = _
  congr 1
  funext a
  apply Fin.ext
  refine (Pipeline.Window.rect_emb_val (cfg0.win 3) t (ix2 (n0 := 512) (n1 := 2048) p k) a).trans ?_
  show cc0_transform_3 (grid0.coords t) a * S512x2048.size a + _ = _
  rw [t3_eq t]
  fin_cases a
  · rfl
  · show 0 * 2048 + k.val = k.val; omega
theorem blk4_apply (c : Dev nD) (t : Fin cfg0.N) (k : Fin 2048) :
    (((cfg0.win 4).blk t).view.read (Elt Ideal) (V m c main_arg3) : S1x2048.Idx → EReal) (ix2 (n0 := 1) (n1 := 2048) 0 k)
      = (V m c main_arg3 : S1x2048.Idx → EReal) (ix2 (n0 := 1) (n1 := 2048) 0 k) := by
  show (V m c main_arg3 : S1x2048.Idx → EReal) _ = _
  congr 1
  funext a
  apply Fin.ext
  refine (Pipeline.Window.rect_emb_val (cfg0.win 4) t (ix2 (n0 := 1) (n1 := 2048) 0 k) a).trans ?_
  show cc0_transform_4 (grid0.coords t) a * S1x2048.size a + _ = _
  rw [t4_eq t]
  fin_cases a
  · rfl
  · show 0 * 2048 + k.val = k.val; omega
theorem blk5_apply (c : Dev nD) (t : Fin cfg0.N) (k : Fin 2048) :
    (((cfg0.win 5).blk t).view.read (Elt Ideal) (V m c main_arg4) : S1x2048.Idx → EReal) (ix2 (n0 := 1) (n1 := 2048) 0 k)
      = (V m c main_arg4 : S1x2048.Idx → EReal) (ix2 (n0 := 1) (n1 := 2048) 0 k) := by
  show (V m c main_arg4 : S1x2048.Idx → EReal) _ = _
  congr 1
  funext a
  apply Fin.ext
  refine (Pipeline.Window.rect_emb_val (cfg0.win 5) t (ix2 (n0 := 1) (n1 := 2048) 0 k) a).trans ?_
  show cc0_transform_5 (grid0.coords t) a * S1x2048.size a + _ = _
  rw [t5_eq t]
  fin_cases a
  · rfl
  · show 0 * 2048 + k.val = k.val; omega

/-- What the output array is to hold. -/
def target (c : Dev nD) : S16384x2048.Idx → EReal :=
  Spec.combined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The rows gathered for a block. -/
theorem gath_act (c : Dev nD) (t : Fin cfg0.N) (k : Fin 2) (p : Fin 512) :
    Spec.act (n := 512) (gath ((Memref.whole main_arg5).view.read (Elt Ideal) (V m c main_arg5)) (nums m c t.val k)) p
      = Spec.act (n := 40960) (m ((c : Thread nD τ).loc main_arg5)) (Spec.place (m ((c : Thread nD τ).loc main_arg0)) k (rowOf t p)) := by
  have ht : t.val < 32 := t.isLt.trans_eq N_0
  refine Spec.act_congr _ _ _ _ fun d => ?_
  unfold gath
  show (m ((c : Thread nD τ).loc main_arg5) : S40960x1024.Idx → BitVec 32) (ix2 (n0 := 40960) (n1 := 1024) ⟨nums m c t.val k p % 40960, Nat.mod_lt _ (by decide)⟩ d) = _
  congr 2
  apply Fin.ext
  show nums m c t.val k p % 40960 = _
  unfold nums Spec.place
  show ((m ((c : Thread nD τ).loc main_arg0) : S32x1x1024.Idx → BitVec 32) _).toNat % 40960 = ((m ((c : Thread nD τ).loc main_arg0) : S32x1x1024.Idx → BitVec 32) _).toNat % 40960
  congr 3
  funext a
  apply Fin.ext
  fin_cases a
  · show min t.val 31 = (t.val * 512 + p.val) / 512; omega
  · rfl
  · show 512 * k.val + p.val = 512 * k.val + (t.val * 512 + p.val) % 512; omega

theorem outAt_apply (c : Dev nD) (t : Fin cfg0.N) (p : Fin 512) (d : Fin 2048) :
    outAt (F := Ideal) m c t (ix2 (n0 := 512) (n1 := 2048) p d) = target m c (ix2 (n0 := 16384) (n1 := 2048) (rowOf t p) d) := by
  unfold outAt
  refine (outBlk_apply _ _ _ _ _ _ p d).trans ?_
  rw [blk2_apply, blk2_apply, gath_act, gath_act]
  show _ = Spec.token _ _ _ _ _ _ (rowOf t p) d
  unfold Spec.token
  congr 1
  · congr 1
    exact funext fun k => blk3_apply m c t p k
  · exact funext fun k => blk4_apply m c t k
  · exact funext fun k => blk5_apply m c t k

theorem flush_6 (t : Fin cfg0.N) : (cfg0.win 6).flush t = true := by
  refine (Window.flush_out _ rfl t).mpr ?_
  by_cases hl : t.val + 1 = grid0.N
  · exact Or.inl hl
  · refine Or.inr ⟨by have : t.val < grid0.N := t.isLt; show t.val + 1 < grid0.N; omega, fun e => ?_⟩
    have e : cc0_transform_7 (grid0.coords ⟨t.val + 1, _⟩) = cc0_transform_7 (grid0.coords t) := e
    rw [t7_eq, t7_eq] at e
    exact absurd (congrFun e 0) (by show ¬ t.val + 1 = t.val; omega)

/-- Where a block's element lies in the array. -/
theorem place_6 (t : Fin cfg0.N) (p : Fin 512) (d : Fin 2048) :
    ((cfg0.win 6).blk t).view.emb (ix2 (n0 := 512) (n1 := 2048) p d) = ix2 (n0 := 16384) (n1 := 2048) (rowOf t p) d := by
  funext a
  apply Fin.ext
  refine (Pipeline.Window.rect_emb_val (cfg0.win 6) t (ix2 (n0 := 512) (n1 := 2048) p d) a).trans ?_
  show cc0_transform_7 (grid0.coords t) a * S512x2048.size a + _ = _
  rw [t7_eq t]
  fin_cases a
  · rfl
  · show 0 * 2048 + d.val = d.val; omega

/-- Every element lies in a point's block. -/
theorem cover_6 (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  refine ⟨⟨(i 0).val / 512, by rw [show cfg0.N = 32 from N_0]; omega⟩, flush_6 _, ?_⟩
  refine Finset.mem_map.mpr ⟨ix2 (n0 := 512) (n1 := 2048) ⟨(i 0).val % 512, by omega⟩ ⟨(i 1).val, h1⟩, Finset.mem_univ _, ?_⟩
  refine (place_6 _ _ _).trans ?_
  funext a
  apply Fin.ext
  fin_cases a
  · show (i 0).val / 512 * 512 + (i 0).val % 512 = (i 0).val; omega
  · rfl

/-- The output array after the run. -/
theorem arr_eq (c : Dev nD) : ((dats (F := Ideal) m 0 c).arrAt 6 cfg0.N : S16384x2048.Idx → EReal) = target m c := by
  refine Dat.arrAt_eq_of_cover (dat := dats (F := Ideal) m 0 c) 6 (target m c) (fun t _ => ?_) (fun i => cover_6 i)
  refine (after_6 m c t).trans ?_
  funext y
  obtain ⟨p, d, rfl⟩ : ∃ (p : Fin 512) (d : Fin 2048), y = ix2 (n0 := 512) (n1 := 2048) p d := ⟨y 0, y 1, ValueIdx.eq_ix2 y⟩
  refine (outAt_apply m c t p d).trans ?_
  exact congrArg (target m c) (place_6 t p d).symm

end Cert.Kernel2Ideal.Hand
end
-- ==== Proof.CRef.lean ====
/-
  The result of the combining call's reference, element by element: the combined rows of CSpec.
-/
module

public import proofs.«01_k».proof.Proof.CSpec
public import proofs.«01_k».proof.Proof.Gen.Reference2Ideal
public import proofs.«01_k».proof.Proof.Gen.Reference2Ideal.Run

@[expose] public section

noncomputable section

namespace Cert.Reference2Ideal.Hand

open Cert.Reference2Ideal Cert.Reference2Ideal.Gen Cert.Reference2Ideal.Value
open Idealize.ShloMosaic Idealize.ShloMosaic.TcCoe
open Idealize.ShloMosaic.ValueIdx (ix1 ix2 ix3)

/-- The experts' output, unpacked. -/
def rows (ys : IVec S40960x1024 32) : FVec Ideal S40960x2048 .f32 :=
  concatenate S40960x2048 1 [⟨S40960x1024, (bitcastToFloat (F := Ideal) .f32 (Host.shli ys (broadcastInDim S40960x1024 ![] bcast_S_S40960x1024 (constantI S_ 32 16#32))))⟩, ⟨S40960x1024, (bitcastToFloat (F := Ideal) .f32 (andi ys (broadcastInDim S40960x1024 ![] bcast_S_S40960x1024 (constantI S_ 32 4294901760#32))))⟩] concatenates_S40960x1024_S40960x1024_S40960x2048_d1

theorem rows_apply (ys : IVec S40960x1024 32) (r : Fin 40960) (d : Fin 2048) :
    rows ys (ix2 (n0 := 40960) (n1 := 2048) r d) = Spec.act ys r d := by
  refine (Spec.halves_apply (n := 40960) _ _ _ r d).trans ?_
  unfold Spec.act
  split
  · show Ideal.ofBits .f32 (IntOp.shli .host (ys _) 16#32) = _
    rw [ValueIdx.shli_host]
    rfl
  · rfl

/-- The row numbers of the tokens' first rows, and of their second. -/
def first (pos : IVec S32x1x1024 32) : IVec S16384 32 :=
  shapeCast _ (shapeCast _ (extractStridedSlice S32x1x512 ![0, 0, 0] pos slices_S32x1x1024_S32x1x512_0_0_0) shapeCasts_S32x1x512_S32x512) shapeCasts_S32x512_S16384
def second (pos : IVec S32x1x1024 32) : IVec S16384 32 :=
  shapeCast _ (shapeCast _ (extractStridedSlice S32x1x512 ![0, 0, 512] pos slices_S32x1x1024_S32x1x512_0_0_512) shapeCasts_S32x1x512_S32x512) shapeCasts_S32x512_S16384

/-- A list of blocks of row numbers, flattened. -/
theorem flat_apply (v : IVec S32x1x512 32) (p : Fin 16384) :
    shapeCast S16384 (shapeCast S32x512 v shapeCasts_S32x1x512_S32x512) shapeCasts_S32x512_S16384 (ix1 (n := 16384) p)
      = v (ix3 (n0 := 32) (n1 := 1) (n2 := 512) ⟨p.val / 512, by omega⟩ 0 ⟨p.val % 512, by omega⟩) := by
  refine (shapeCast_apply _ _ _ (ix2 (n0 := 32) (n1 := 512) ⟨p.val / 512, by omega⟩ ⟨p.val % 512, by omega⟩) (by
    rw [Shape.rowMajor_val_two, Shape.rowMajor_val_one]
    show p.val / 512 * 512 + p.val % 512 = p.val
    omega)).trans ?_
  exact shapeCast_apply _ _ _ _ (by
    rw [Shape.rowMajor_val_three, Shape.rowMajor_val_two]
    show (p.val / 512 * 1 + 0) * 512 + p.val % 512 = p.val / 512 * 512 + p.val % 512
    omega)

theorem first_apply (pos : IVec S32x1x1024 32) (p : Fin 16384) :
    first pos (ix1 (n := 16384) p) = pos (ix3 (n0 := 32) (n1 := 1) (n2 := 1024) ⟨p.val / 512, by omega⟩ 0 ⟨512 * (0 : Fin 2).val + p.val % 512, by show 512 * 0 + _ < _; omega⟩) := by
  refine (flat_apply _ p).trans (extractStridedSlice_apply _ _ _ _ _ (fun b => ?_))
  match b with
  | ⟨0, _⟩ => show p.val / 512 = 0 + p.val / 512; omega
  | ⟨1, _⟩ => rfl
  | ⟨2, _⟩ => show 512 * 0 + p.val % 512 = 0 + p.val % 512; omega
theorem second_apply (pos : IVec S32x1x1024 32) (p : Fin 16384) :
    second pos (ix1 (n := 16384) p) = pos (ix3 (n0 := 32) (n1 := 1) (n2 := 1024) ⟨p.val / 512, by omega⟩ 0 ⟨512 * (1 : Fin 2).val + p.val % 512, by show 512 * 1 + _ < _; omega⟩) := by
  refine (flat_apply _ p).trans (extractStridedSlice_apply _ _ _ _ _ (fun b => ?_))
  match b with
  | ⟨0, _⟩ => show p.val / 512 = 0 + p.val / 512; omega
  | ⟨1, _⟩ => rfl
  | ⟨2, _⟩ => show 512 * 1 + p.val % 512 = 512 + p.val % 512; omega

/-- The row numbers as a column, a negative one wrapped. -/
def wrapped (v : IVec S16384 32) : IVec S16384x1 32 :=
  broadcastInDim S16384x1 ![0] bcast_S16384_S16384x1_0 (select (cmpi .slt v (broadcastInDim S16384 ![] bcast_S_S16384 (constantI S_ 32 0#32)))
    (addi v (broadcastInDim S16384 ![] bcast_S_S16384 (constantI S_ 32 40960#32))) v)

theorem wrapped_apply (v : IVec S16384 32) (p : Fin 16384) :
    wrapped v (ix2 (n0 := 16384) (n1 := 1) p 0)
      = Scalar.select (IntOp.cmpi .slt (v (ix1 (n := 16384) p)) 0#32) (IntOp.addi (v (ix1 (n := 16384) p)) 40960#32) (v (ix1 (n := 16384) p)) := by
  unfold wrapped
  rw [broadcastInDim_apply _ _ _ _ (ix1 (n := 16384) p) (fun a => by match a with | ⟨0, _⟩ => rfl)]
  rfl

/-- The rows so numbered. -/
def picked (ys : IVec S40960x1024 32) (v : IVec S16384 32) : FVec Ideal S16384x2048 .f32 :=
  Host.gather gather_S40960x2048_S16384x1_S16384x2048_1_0_n_n_0_1_12048 (rows ys) (wrapped v)

theorem picked_apply (ys : IVec S40960x1024 32) (v : IVec S16384 32) (p : Fin 16384) (d : Fin 2048) (hv : (v (ix1 (n := 16384) p)).toNat < 40960) :
    picked ys v (ix2 (n0 := 16384) (n1 := 2048) p d) = Spec.act ys ⟨(v (ix1 (n := 16384) p)).toNat % 40960, Nat.mod_lt _ (by decide)⟩ d := by
  refine (Spec.gather_list (by decide) _ (rows ys) (wrapped v) p d).trans ?_
  rw [rows_apply]
  congr 1
  apply Fin.ext
  show min (wrapped v (ix2 (n0 := 16384) (n1 := 1) p 0)).toInt.toNat (40960 - 1) = _
  rw [wrapped_apply]
  exact Spec.wrap _ _ 40960 hv (by decide)

/-- A column spread over the channels. -/
theorem spread_apply {α : Type} (v : S16384x1.Idx → α) (p : Fin 16384) (d : Fin 2048) :
    broadcastInDim S16384x2048 ![0, 1] bcast_S16384x1_S16384x2048_0_1 v (ix2 (n0 := 16384) (n1 := 2048) p d) = v (ix2 (n0 := 16384) (n1 := 1) p 0) :=
  broadcastInDim_apply _ _ _ _ _ (fun a => by match a with | ⟨0, _⟩ => rfl | ⟨1, _⟩ => rfl)
/-- A row spread over the tokens. -/
theorem over_apply {α : Type} (v : S1x2048.Idx → α) (p : Fin 16384) (d : Fin 2048) :
    broadcastInDim S16384x2048 ![0, 1] bcast_S1x2048_S16384x2048_0_1 v (ix2 (n0 := 16384) (n1 := 2048) p d) = v (ix2 (n0 := 1) (n1 := 2048) 0 d) :=
  broadcastInDim_apply _ _ _ _ _ (fun a => by match a with | ⟨0, _⟩ => rfl | ⟨1, _⟩ => rfl)

/-- The hidden rows and the two weighted rows. -/
def mixed (pos : IVec S32x1x1024 32) (w : FVec Ideal S16384x128 .f32) (h : FVec Ideal S16384x2048 .f32) (ys : IVec S40960x1024 32) : FVec Ideal S16384x2048 .f32 :=
  addf (mulf (broadcastInDim S16384x2048 ![] bcast_S_S16384x2048 (constant S_ .f32 0x3F9837F0#32)) h)
    (addf (mulf (broadcastInDim S16384x2048 ![0, 1] bcast_S16384x1_S16384x2048_0_1 (extractStridedSlice S16384x1 ![0, 0] w slices_S16384x128_S16384x1_0_0)) (picked ys (first pos)))
      (mulf (broadcastInDim S16384x2048 ![0, 1] bcast_S16384x1_S16384x2048_0_1 (extractStridedSlice S16384x1 ![0, 1] w slices_S16384x128_S16384x1_0_1)) (picked ys (second pos))))

theorem mixed_apply (pos : IVec S32x1x1024 32) (w : FVec Ideal S16384x128 .f32) (h : FVec Ideal S16384x2048 .f32) (ys : IVec S40960x1024 32)
    (hp : ∀ i, (pos i).toNat < 40960) (p : Fin 16384) (d : Fin 2048) :
    mixed pos w h ys (ix2 (n0 := 16384) (n1 := 2048) p d)
      = Spec.mix (w (ix2 (n0 := 16384) (n1 := 128) p 0)) (w (ix2 (n0 := 16384) (n1 := 128) p 1)) (fun k => h (ix2 (n0 := 16384) (n1 := 2048) p k))
          (Spec.act ys (Spec.place pos 0 p)) (Spec.act ys (Spec.place pos 1 p)) d := by
  show Ideal.ofBits .f32 0x3F9837F0#32 * h _
    + (broadcastInDim S16384x2048 ![0, 1] bcast_S16384x1_S16384x2048_0_1 (extractStridedSlice S16384x1 ![0, 0] w slices_S16384x128_S16384x1_0_0) _ * picked ys (first pos) _
      + broadcastInDim S16384x2048 ![0, 1] bcast_S16384x1_S16384x2048_0_1 (extractStridedSlice S16384x1 ![0, 1] w slices_S16384x128_S16384x1_0_1) _ * picked ys (second pos) _) = _
  rw [spread_apply, spread_apply, picked_apply ys (first pos) p d (by rw [first_apply]; exact hp _), picked_apply ys (second pos) p d (by rw [second_apply]; exact hp _),
    extractStridedSlice_apply ![0, 0] w slices_S16384x128_S16384x1_0_0 (ix2 (n0 := 16384) (n1 := 1) p 0) (ix2 (n0 := 16384) (n1 := 128) p 0) (fun b => by
      match b with
      | ⟨0, _⟩ => show p.val = 0 + p.val; omega
      | ⟨1, _⟩ => rfl),
    extractStridedSlice_apply ![0, 1] w slices_S16384x128_S16384x1_0_1 (ix2 (n0 := 16384) (n1 := 1) p 0) (ix2 (n0 := 16384) (n1 := 128) p 1) (fun b => by
      match b with
      | ⟨0, _⟩ => show p.val = 0 + p.val; omega
      | ⟨1, _⟩ => rfl)]
  unfold Spec.mix Spec.place
  simp only [first_apply, second_apply]

/-- The rows' means. -/
def means (v : FVec Ideal S16384x2048 .f32) : FVec Ideal S16384x1 .f32 :=
  Host.divf (broadcastInDim S16384x1 ![0] bcast_S16384_S16384x1_0 (Host.reduceAdd v (constant S_ .f32 0x00000000#32) reducesTo_S16384x2048_S16384_d1 h_S_))
    (broadcastInDim S16384x1 ![] bcast_S_S16384x1 (constant S_ .f32 0x45000000#32))

theorem reduces : S16384x2048.Reduces [1] S16384 := by decide

theorem means_apply (v : FVec Ideal S16384x2048 .f32) (p : Fin 16384) :
    means v (ix2 (n0 := 16384) (n1 := 1) p 0) = Spec.mean (fun k => v (ix2 (n0 := 16384) (n1 := 2048) p k)) := by
  show Ideal.div (broadcastInDim S16384x1 ![0] bcast_S16384_S16384x1_0 (Host.reduceAdd v (constant (F := Ideal) S_ .f32 0x00000000#32) reducesTo_S16384x2048_S16384_d1 h_S_) (ix2 (n0 := 16384) (n1 := 1) p 0))
    (Ideal.ofBits .f32 0x45000000#32) = Ideal.div _ _
  refine congrArg (fun x => Ideal.div x (Ideal.ofBits .f32 0x45000000#32)) ?_
  rw [broadcastInDim_apply _ _ _ _ (ix1 (n := 16384) p) (fun a => by match a with | ⟨0, _⟩ => rfl)]
  refine (ValueIdx.hostReduceAdd_apply _ _ _ _ _).trans ((Ideal.hostReduceAdd_single _ reduces v _ _).trans ?_)
  show Ideal.ofBits .f32 0x00000000#32 + _ = _
  rw [Ideal.ofBits_zero_f32, zero_add]
  exact Finset.sum_congr rfl fun k _ => congrArg v (Spec.lift_row _ p k)

/-- The rows less their means. -/
def centred (z : FVec Ideal S16384x2048 .f32) : FVec Ideal S16384x2048 .f32 :=
  subf z (broadcastInDim S16384x2048 ![0, 1] bcast_S16384x1_S16384x2048_0_1 (means z))

theorem centred_apply (z : FVec Ideal S16384x2048 .f32) (p : Fin 16384) (d : Fin 2048) :
    centred z (ix2 (n0 := 16384) (n1 := 2048) p d) = Spec.centred (fun k => z (ix2 (n0 := 16384) (n1 := 2048) p k)) d := by
  show z _ - broadcastInDim S16384x2048 ![0, 1] bcast_S16384x1_S16384x2048_0_1 (means z) _ = _
  rw [spread_apply, means_apply]
  rfl

/-- The rows normalized, scaled and shifted. -/
def normed (z : FVec Ideal S16384x2048 .f32) (g b : FVec Ideal S1x2048 .f32) : FVec Ideal S16384x2048 .f32 :=
  addf (mulf (mulf (centred z) (broadcastInDim S16384x2048 ![0, 1] bcast_S16384x1_S16384x2048_0_1
      (Host.rsqrt (addf (means (mulf (centred z) (centred z))) (broadcastInDim S16384x1 ![] bcast_S_S16384x1 (constant S_ .f32 0x3727C5AC#32))))))
    (broadcastInDim S16384x2048 ![0, 1] bcast_S1x2048_S16384x2048_0_1 g)) (broadcastInDim S16384x2048 ![0, 1] bcast_S1x2048_S16384x2048_0_1 b)

theorem normed_apply (z : FVec Ideal S16384x2048 .f32) (g b : FVec Ideal S1x2048 .f32) (p : Fin 16384) (d : Fin 2048) :
    normed z g b (ix2 (n0 := 16384) (n1 := 2048) p d)
      = Spec.normed (fun k => z (ix2 (n0 := 16384) (n1 := 2048) p k)) (fun k => g (ix2 (n0 := 1) (n1 := 2048) 0 k)) (fun k => b (ix2 (n0 := 1) (n1 := 2048) 0 k)) d := by
  show centred z _ * broadcastInDim S16384x2048 ![0, 1] bcast_S16384x1_S16384x2048_0_1
      (Host.rsqrt (addf (means (mulf (centred z) (centred z))) (broadcastInDim S16384x1 ![] bcast_S_S16384x1 (constant (F := Ideal) S_ .f32 0x3727C5AC#32)))) _
      * broadcastInDim S16384x2048 ![0, 1] bcast_S1x2048_S16384x2048_0_1 g _ + broadcastInDim S16384x2048 ![0, 1] bcast_S1x2048_S16384x2048_0_1 b _ = _
  rw [spread_apply, over_apply, over_apply]
  show _ * Ideal.rsqrt (means (mulf (centred z) (centred z)) _ + Ideal.ofBits .f32 0x3727C5AC#32) * _ + _ = _
  rw [means_apply, centred_apply]
  have e : (fun k => mulf (centred z) (centred z) (ix2 (n0 := 16384) (n1 := 2048) p k))
      = fun k => Spec.centred (fun k => z (ix2 (n0 := 16384) (n1 := 2048) p k)) k * Spec.centred (fun k => z (ix2 (n0 := 16384) (n1 := 2048) p k)) k := by
    funext k
    show centred z _ * centred z _ = _
    rw [centred_apply]
  rw [e]
  rfl

/-- The result. -/
theorem res_eq (m : (ℓ : Loc nD τ sig) → Buf (Elt Ideal) ℓ) (c : Dev nD)
    (hp : ∀ i, ((m ((c.tc : Thread nD τ).loc main_arg0) : IVec S32x1x1024 32) i).toNat < 40960) :
    (res_main_v56 m c : FVec Ideal S16384x2048 .f32) = Spec.combined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show normed (mixed (m ((c.tc : Thread nD τ).loc main_arg0)) (m ((c.tc : Thread nD τ).loc main_arg1)) (m ((c.tc : Thread nD τ).loc main_arg2)) (m ((c.tc : Thread nD τ).loc main_arg5)))
    (m ((c.tc : Thread nD τ).loc main_arg3)) (m ((c.tc : Thread nD τ).loc main_arg4)) = _
  funext i
  obtain ⟨p, d, rfl⟩ : ∃ (p : Fin 16384) (d : Fin 2048), i = ix2 (n0 := 16384) (n1 := 2048) p d := ⟨i 0, i 1, ValueIdx.eq_ix2 i⟩
  rw [normed_apply]
  show _ = Spec.token _ _ _ _ _ _ p d
  unfold Spec.token
  congr 1
  funext k
  exact mixed_apply _ _ _ _ hp p k

end Cert.Reference2Ideal.Hand

end
-- ==== Proof.lean ====
/-
  The certificate's claim: of the experts' call and of the combining call, the three frames, the idealization's ledger, and
  that kernel and reference leave equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ranges
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_ranges2
public import proofs.«01_k».proof.Proof.KRun
public import proofs.«01_k».proof.Proof.IRun
public import proofs.«01_k».proof.Proof.IOut
public import proofs.«01_k».proof.Proof.RVal
public import proofs.«01_k».proof.Proof.CRun
public import proofs.«01_k».proof.Proof.DRun
public import proofs.«01_k».proof.Proof.COut
public import proofs.«01_k».proof.Proof.CRef
public import Idealize.ShloMosaic.Lib.Bf16Pair
public import Idealize.ShloMosaic.Lib.Quiescent

@[expose] public section

noncomputable section

namespace Cert.Proof

open Idealize.ShloMosaic Idealize.ShloMosaic.TcCoe Idealize.SL.Sem

/-- The reference's frame: its run, and that a program without semaphores has no counter to leave raised. -/
theorem reference_frame : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Both programs leave the layer of the arguments: the kernel's output array and the reference's result are the same one. -/
theorem equal : Cert.algebraic_KernelIdeal_ReferenceIdeal := fun m g m' g' hp hargs => by
  have hd := fun c : Dev Cert.KernelIdeal.nD => Cert.Ranges.decode _ _ _ _ _ _ _ (hp c)
  have hr := Cert.KernelIdeal.Hand.inRange_of m hd
  refine ⟨fun _ => Cert.KernelIdeal.Hand.target m, ?_, ?_⟩
  · refine (θ_run Cert.KernelIdeal.defs _ _).mono (fun r h c => ⟨?_, (h.1 c).2⟩) (Cert.KernelIdeal.Hand.run_full (F := Ideal) m g hr)
    obtain rfl : c = 0 := Subsingleton.elim _ _
    exact (h.1 0).1.trans (Cert.KernelIdeal.Hand.arr_eq m hr)
  · refine (θ_run Cert.ReferenceIdeal.defs _ _).mono (fun r h c => ⟨(h c).1.trans ?_, (h c).2⟩) (Cert.ReferenceIdeal.Value.run (F := Ideal) m' g')
    obtain rfl : c = 0 := Subsingleton.elim _ _
    obtain ⟨h0, h1, h2, h3, h4, h5, h6⟩ := hargs 0
    obtain ⟨ht, hn, hs⟩ := hd 0
    refine (Cert.ReferenceIdeal.Hand.res_eq m' 0 (by rw [h0]; exact ht) (by rw [h1]; exact hn) (by rw [h2]; exact hs)).trans ?_
    rw [h0, h1, h2, h3, h4, h5, h6]
    rfl

/-! ## The combining call -/

theorem reference2_frame : Cert.quiescent_Reference2Ideal := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

/-- Both programs leave the combined rows of the arguments. -/
theorem equal2 : Cert.algebraic_Kernel2Ideal_Reference2Ideal := fun m g m' g' hp hargs => by
  have hr := Cert.Kernel2Ideal.Hand.inRange_of (F := Ideal) m hp
  refine ⟨fun c => Cert.Kernel2Ideal.Hand.target m c, ?_, ?_⟩
  · exact (θ_run Cert.Kernel2Ideal.defs _ _).mono (fun r h c => ⟨(h.1 c).1.trans (Cert.Kernel2Ideal.Hand.arr_eq m c), (h.1 c).2⟩)
      (Cert.Kernel2Ideal.Hand.run_full (F := Ideal) m g hr)
  · refine (θ_run Cert.Reference2Ideal.defs _ _).mono (fun r h c => ⟨(h c).1.trans ?_, (h c).2⟩) (Cert.Reference2Ideal.Value.run (F := Ideal) m' g')
    obtain ⟨h0, h1, h2, h3, h4, h5⟩ := hargs c
    refine (Cert.Reference2Ideal.Hand.res_eq m' c (by rw [h0]; exact hr c)).trans ?_
    rw [h0, h1, h2, h3, h4, h5]
    rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Pre_ranges.Gen.facts, Cert.Pre_ranges2.Gen.facts,
    fun m g hp => Cert.Kernel.Hand.frame m g hp,
    fun m g hp => Cert.KernelIdeal.Hand.frame m g hp,
    reference_frame,
    fun m g hp => Cert.Kernel2.Hand.frame m g hp,
    fun m g hp => Cert.Kernel2Ideal.Hand.frame m g hp,
    reference2_frame,
    ⟨IdealRules.bf16_pair.packStatement _, IdealRules.bf16_pair.statement _ _⟩,
    equal,
    trivial,
    equal2⟩

end Cert.Proof

end

end
